-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_WeightsIdeal (m : (ℓ : Loc Cert.WeightsIdeal.nD Cert.WeightsIdeal.τ Cert.WeightsIdeal.sig) → Buf (Elt Ideal) ℓ) : Prop :=
  True

def Pre_Weights (m : (ℓ : Loc Cert.Weights.nD Cert.Weights.τ Cert.Weights.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_SmallIdeal (m : (ℓ : Loc Cert.SmallIdeal.nD Cert.SmallIdeal.τ Cert.SmallIdeal.sig) → Buf (Elt Ideal) ℓ) : Prop :=
  True

def Pre_Small (m : (ℓ : Loc Cert.Small.nD Cert.Small.τ Cert.Small.sig) → Buf (Elt Bits) ℓ) : Prop :=
  True

def Pre_GatherMod (m : (ℓ : Loc Cert.GatherMod.nD Cert.GatherMod.τ Cert.GatherMod.sig) → Buf (Elt Bits) ℓ) : Prop :=
  True

def Pre_GatherModIdeal (m : (ℓ : Loc Cert.GatherModIdeal.nD Cert.GatherModIdeal.τ Cert.GatherModIdeal.sig) → Buf (Elt Ideal) ℓ) : Prop :=
  True

def Pre_ModIdeal (m : (ℓ : Loc Cert.ModIdeal.nD Cert.ModIdeal.τ Cert.ModIdeal.sig) → Buf (Elt Ideal) ℓ) : Prop :=
  True

def Pre_Mod (m : (ℓ : Loc Cert.Mod.nD Cert.Mod.τ Cert.Mod.sig) → Buf (Elt Bits) ℓ) : Prop :=
  True

def Pre_GatherC (m : (ℓ : Loc Cert.GatherC.nD Cert.GatherC.τ Cert.GatherC.sig) → Buf (Elt Bits) ℓ) : Prop :=
  True

def Pre_GatherCIdeal (m : (ℓ : Loc Cert.GatherCIdeal.nD Cert.GatherCIdeal.τ Cert.GatherCIdeal.sig) → Buf (Elt Ideal) ℓ) : Prop :=
  True

def Pre_CIdeal (m : (ℓ : Loc Cert.CIdeal.nD Cert.CIdeal.τ Cert.CIdeal.sig) → Buf (Elt Ideal) ℓ) : Prop :=
  True

def Pre_C (m : (ℓ : Loc Cert.C.nD Cert.C.τ Cert.C.sig) → Buf (Elt Bits) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_TotalIdeal (m : (ℓ : Loc Cert.TotalIdeal.nD Cert.TotalIdeal.τ Cert.TotalIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_StepInIdeal (m : (ℓ : Loc Cert.StepInIdeal.nD Cert.StepInIdeal.τ Cert.StepInIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_StepGluIdeal (m : (ℓ : Loc Cert.StepGluIdeal.nD Cert.StepGluIdeal.τ Cert.StepGluIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_StepBranchIdeal (m : (ℓ : Loc Cert.StepBranchIdeal.nD Cert.StepBranchIdeal.τ Cert.StepBranchIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_StepOutIdeal (m : (ℓ : Loc Cert.StepOutIdeal.nD Cert.StepOutIdeal.τ Cert.StepOutIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_StepAdaIdeal (m : (ℓ : Loc Cert.StepAdaIdeal.nD Cert.StepAdaIdeal.τ Cert.StepAdaIdeal.sig) → Buf (Elt Ideal) ℓ) : Prop :=
  True

def Pre_AdamPack (m : (ℓ : Loc Cert.AdamPack.nD Cert.AdamPack.τ Cert.AdamPack.sig) → Buf (Elt Bits) ℓ) : Prop :=
  True

def Pre_AdamPackIdeal (m : (ℓ : Loc Cert.AdamPackIdeal.nD Cert.AdamPackIdeal.τ Cert.AdamPackIdeal.sig) → Buf (Elt Ideal) ℓ) : Prop :=
  True

def Pre_StepPackIdeal (m : (ℓ : Loc Cert.StepPackIdeal.nD Cert.StepPackIdeal.τ Cert.StepPackIdeal.sig) → Buf (Elt Ideal) ℓ) : Prop :=
  True

def Pre_MmAdaFwd (m : (ℓ : Loc Cert.MmAdaFwd.nD Cert.MmAdaFwd.τ Cert.MmAdaFwd.sig) → Buf (Elt Bits) ℓ) : Prop :=
  True

def Pre_MmAdaFwdIdeal (m : (ℓ : Loc Cert.MmAdaFwdIdeal.nD Cert.MmAdaFwdIdeal.τ Cert.MmAdaFwdIdeal.sig) → Buf (Elt Ideal) ℓ) : Prop :=
  True

def Pre_TimesAdaFwdIdeal (m : (ℓ : Loc Cert.TimesAdaFwdIdeal.nD Cert.TimesAdaFwdIdeal.τ Cert.TimesAdaFwdIdeal.sig) → Buf (Elt Ideal) ℓ) : Prop :=
  True

def Pre_MmProjA (m : (ℓ : Loc Cert.MmProjA.nD Cert.MmProjA.τ Cert.MmProjA.sig) → Buf (Elt Bits) ℓ) : Prop :=
  True

def Pre_MmProjAIdeal (m : (ℓ : Loc Cert.MmProjAIdeal.nD Cert.MmProjAIdeal.τ Cert.MmProjAIdeal.sig) → Buf (Elt Ideal) ℓ) : Prop :=
  True

def Pre_TimesProjAIdeal (m : (ℓ : Loc Cert.TimesProjAIdeal.nD Cert.TimesProjAIdeal.τ Cert.TimesProjAIdeal.sig) → Buf (Elt Ideal) ℓ) : Prop :=
  True

def Pre_MmProjS (m : (ℓ : Loc Cert.MmProjS.nD Cert.MmProjS.τ Cert.MmProjS.sig) → Buf (Elt Bits) ℓ) : Prop :=
  True

def Pre_MmProjSIdeal (m : (ℓ : Loc Cert.MmProjSIdeal.nD Cert.MmProjSIdeal.τ Cert.MmProjSIdeal.sig) → Buf (Elt Ideal) ℓ) : Prop :=
  True

def Pre_TimesProjSIdeal (m : (ℓ : Loc Cert.TimesProjSIdeal.nD Cert.TimesProjSIdeal.τ Cert.TimesProjSIdeal.sig) → Buf (Elt Ideal) ℓ) : Prop :=
  True

def Pre_MmProjG (m : (ℓ : Loc Cert.MmProjG.nD Cert.MmProjG.τ Cert.MmProjG.sig) → Buf (Elt Bits) ℓ) : Prop :=
  True

def Pre_MmProjGIdeal (m : (ℓ : Loc Cert.MmProjGIdeal.nD Cert.MmProjGIdeal.τ Cert.MmProjGIdeal.sig) → Buf (Elt Ideal) ℓ) : Prop :=
  True

def Pre_TimesProjGIdeal (m : (ℓ : Loc Cert.TimesProjGIdeal.nD Cert.TimesProjGIdeal.τ Cert.TimesProjGIdeal.sig) → Buf (Elt Ideal) ℓ) : Prop :=
  True

def Pre_MmDy (m : (ℓ : Loc Cert.MmDy.nD Cert.MmDy.τ Cert.MmDy.sig) → Buf (Elt Bits) ℓ) : Prop :=
  True

def Pre_MmDyIdeal (m : (ℓ : Loc Cert.MmDyIdeal.nD Cert.MmDyIdeal.τ Cert.MmDyIdeal.sig) → Buf (Elt Ideal) ℓ) : Prop :=
  True

def Pre_TimesDyIdeal (m : (ℓ : Loc Cert.TimesDyIdeal.nD Cert.TimesDyIdeal.τ Cert.TimesDyIdeal.sig) → Buf (Elt Ideal) ℓ) : Prop :=
  True

def Pre_MmDwAda (m : (ℓ : Loc Cert.MmDwAda.nD Cert.MmDwAda.τ Cert.MmDwAda.sig) → Buf (Elt Bits) ℓ) : Prop :=
  True

def Pre_MmDwAdaIdeal (m : (ℓ : Loc Cert.MmDwAdaIdeal.nD Cert.MmDwAdaIdeal.τ Cert.MmDwAdaIdeal.sig) → Buf (Elt Ideal) ℓ) : Prop :=
  True

def Pre_TimesDwAdaIdeal (m : (ℓ : Loc Cert.TimesDwAdaIdeal.nD Cert.TimesDwAdaIdeal.τ Cert.TimesDwAdaIdeal.sig) → Buf (Elt Ideal) ℓ) : Prop :=
  True

def Pre_MmDwOut (m : (ℓ : Loc Cert.MmDwOut.nD Cert.MmDwOut.τ Cert.MmDwOut.sig) → Buf (Elt Bits) ℓ) : Prop :=
  True

def Pre_MmDwOutIdeal (m : (ℓ : Loc Cert.MmDwOutIdeal.nD Cert.MmDwOutIdeal.τ Cert.MmDwOutIdeal.sig) → Buf (Elt Ideal) ℓ) : Prop :=
  True

def Pre_TimesDwOutIdeal (m : (ℓ : Loc Cert.TimesDwOutIdeal.nD Cert.TimesDwOutIdeal.τ Cert.TimesDwOutIdeal.sig) → Buf (Elt Ideal) ℓ) : Prop :=
  True

def Pre_MmDwBranch (m : (ℓ : Loc Cert.MmDwBranch.nD Cert.MmDwBranch.τ Cert.MmDwBranch.sig) → Buf (Elt Bits) ℓ) : Prop :=
  True

def Pre_MmDwBranchIdeal (m : (ℓ : Loc Cert.MmDwBranchIdeal.nD Cert.MmDwBranchIdeal.τ Cert.MmDwBranchIdeal.sig) → Buf (Elt Ideal) ℓ) : Prop :=
  True

def Pre_TimesDwBranchIdeal (m : (ℓ : Loc Cert.TimesDwBranchIdeal.nD Cert.TimesDwBranchIdeal.τ Cert.TimesDwBranchIdeal.sig) → Buf (Elt Ideal) ℓ) : Prop :=
  True

def Pre_MmDwA (m : (ℓ : Loc Cert.MmDwA.nD Cert.MmDwA.τ Cert.MmDwA.sig) → Buf (Elt Bits) ℓ) : Prop :=
  True

def Pre_MmDwAIdeal (m : (ℓ : Loc Cert.MmDwAIdeal.nD Cert.MmDwAIdeal.τ Cert.MmDwAIdeal.sig) → Buf (Elt Ideal) ℓ) : Prop :=
  True

def Pre_TimesDwAIdeal (m : (ℓ : Loc Cert.TimesDwAIdeal.nD Cert.TimesDwAIdeal.τ Cert.TimesDwAIdeal.sig) → Buf (Elt Ideal) ℓ) : Prop :=
  True

def Pre_MmDwG (m : (ℓ : Loc Cert.MmDwG.nD Cert.MmDwG.τ Cert.MmDwG.sig) → Buf (Elt Bits) ℓ) : Prop :=
  True

def Pre_MmDwGIdeal (m : (ℓ : Loc Cert.MmDwGIdeal.nD Cert.MmDwGIdeal.τ Cert.MmDwGIdeal.sig) → Buf (Elt Ideal) ℓ) : Prop :=
  True

def Pre_TimesDwGIdeal (m : (ℓ : Loc Cert.TimesDwGIdeal.nD Cert.TimesDwGIdeal.τ Cert.TimesDwGIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormIdeal (m : (ℓ : Loc Cert.NormIdeal.nD Cert.NormIdeal.τ Cert.NormIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormGradIdeal (m : (ℓ : Loc Cert.NormGradIdeal.nD Cert.NormGradIdeal.τ Cert.NormGradIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_LossIdeal (m : (ℓ : Loc Cert.LossIdeal.nD Cert.LossIdeal.τ Cert.LossIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_InputGradIdeal (m : (ℓ : Loc Cert.InputGradIdeal.nD Cert.InputGradIdeal.τ Cert.InputGradIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeIdeal (m : (ℓ : Loc Cert.MergeIdeal.nD Cert.MergeIdeal.τ Cert.MergeIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_ResidualIdeal (m : (ℓ : Loc Cert.ResidualIdeal.nD Cert.ResidualIdeal.τ Cert.ResidualIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeGradIdeal (m : (ℓ : Loc Cert.MergeGradIdeal.nD Cert.MergeGradIdeal.τ Cert.MergeGradIdeal.sig) → Buf (Elt Ideal) ℓ) : Prop :=
  True

def Pre_DiscGrad (m : (ℓ : Loc Cert.DiscGrad.nD Cert.DiscGrad.τ Cert.DiscGrad.sig) → Buf (Elt Bits) ℓ) : Prop :=
  True

def Pre_DiscGradIdeal (m : (ℓ : Loc Cert.DiscGradIdeal.nD Cert.DiscGradIdeal.τ Cert.DiscGradIdeal.sig) → Buf (Elt Ideal) ℓ) : Prop :=
  True

def Pre_DiscGradIdeal_tame [hPre_tame : Cert.Pre_tame.Facts] (m : (ℓ : Loc Cert.DiscGradIdeal.nD Cert.DiscGradIdeal.τ Cert.DiscGradIdeal.sig) → Buf (Elt Ideal) ℓ) : Prop :=
  ∀ c : Dev Cert.DiscGradIdeal.nD,
    (Cert.Pre_tame.fn (F := Ideal) (m ((c.tc : Thread Cert.DiscGradIdeal.nD Cert.DiscGradIdeal.τ).loc Cert.DiscGradIdeal.main_arg0)) (m ((c.tc : Thread Cert.DiscGradIdeal.nD Cert.DiscGradIdeal.τ).loc Cert.DiscGradIdeal.main_arg1)) (m ((c.tc : Thread Cert.DiscGradIdeal.nD Cert.DiscGradIdeal.τ).loc Cert.DiscGradIdeal.main_arg2)) (m ((c.tc : Thread Cert.DiscGradIdeal.nD Cert.DiscGradIdeal.τ).loc Cert.DiscGradIdeal.main_arg3)) (m ((c.tc : Thread Cert.DiscGradIdeal.nD Cert.DiscGradIdeal.τ).loc Cert.DiscGradIdeal.main_arg4)) (m ((c.tc : Thread Cert.DiscGradIdeal.nD Cert.DiscGradIdeal.τ).loc Cert.DiscGradIdeal.main_arg5)) (m ((c.tc : Thread Cert.DiscGradIdeal.nD Cert.DiscGradIdeal.τ).loc Cert.DiscGradIdeal.main_arg6)) (m ((c.tc : Thread Cert.DiscGradIdeal.nD Cert.DiscGradIdeal.τ).loc Cert.DiscGradIdeal.main_arg7)) (m ((c.tc : Thread Cert.DiscGradIdeal.nD Cert.DiscGradIdeal.τ).loc Cert.DiscGradIdeal.main_arg8))) = (fun _ => 1#1)

def Pre_ChainRuleIdeal (m : (ℓ : Loc Cert.ChainRuleIdeal.nD Cert.ChainRuleIdeal.τ Cert.ChainRuleIdeal.sig) → Buf (Elt Ideal) ℓ) : Prop :=
  True

def Pre_ChainRuleIdeal_tame [hPre_tame : Cert.Pre_tame.Facts] (m : (ℓ : Loc Cert.ChainRuleIdeal.nD Cert.ChainRuleIdeal.τ Cert.ChainRuleIdeal.sig) → Buf (Elt Ideal) ℓ) : Prop :=
  ∀ c : Dev Cert.ChainRuleIdeal.nD,
    (Cert.Pre_tame.fn (F := Ideal) (m ((c.tc : Thread Cert.ChainRuleIdeal.nD Cert.ChainRuleIdeal.τ).loc Cert.ChainRuleIdeal.main_arg0)) (m ((c.tc : Thread Cert.ChainRuleIdeal.nD Cert.ChainRuleIdeal.τ).loc Cert.ChainRuleIdeal.main_arg1)) (m ((c.tc : Thread Cert.ChainRuleIdeal.nD Cert.ChainRuleIdeal.τ).loc Cert.ChainRuleIdeal.main_arg2)) (m ((c.tc : Thread Cert.ChainRuleIdeal.nD Cert.ChainRuleIdeal.τ).loc Cert.ChainRuleIdeal.main_arg3)) (m ((c.tc : Thread Cert.ChainRuleIdeal.nD Cert.ChainRuleIdeal.τ).loc Cert.ChainRuleIdeal.main_arg4)) (m ((c.tc : Thread Cert.ChainRuleIdeal.nD Cert.ChainRuleIdeal.τ).loc Cert.ChainRuleIdeal.main_arg5)) (m ((c.tc : Thread Cert.ChainRuleIdeal.nD Cert.ChainRuleIdeal.τ).loc Cert.ChainRuleIdeal.main_arg6)) (m ((c.tc : Thread Cert.ChainRuleIdeal.nD Cert.ChainRuleIdeal.τ).loc Cert.ChainRuleIdeal.main_arg7)) (m ((c.tc : Thread Cert.ChainRuleIdeal.nD Cert.ChainRuleIdeal.τ).loc Cert.ChainRuleIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
      ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
      ∧ r.2.mem ((c.tc : Thread Cert.GatherWeights.nD Cert.GatherWeights.τ).loc Cert.GatherWeights.main_arg3) = m ((c.tc : Thread Cert.GatherWeights.nD Cert.GatherWeights.τ).loc Cert.GatherWeights.main_arg3)
      ∧ r.2.mem ((c.tc : Thread Cert.GatherWeights.nD Cert.GatherWeights.τ).loc Cert.GatherWeights.main_arg4) = m ((c.tc : Thread Cert.GatherWeights.nD Cert.GatherWeights.τ).loc Cert.GatherWeights.main_arg4)
      ∧ r.2.mem ((c.tc : Thread Cert.GatherWeights.nD Cert.GatherWeights.τ).loc Cert.GatherWeights.main_arg5) = m ((c.tc : Thread Cert.GatherWeights.nD Cert.GatherWeights.τ).loc Cert.GatherWeights.main_arg5))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
      ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
      ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
      ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4)
      ∧ r.2.mem ((c.tc : Thread Cert.GatherWeightsIdeal.nD Cert.GatherWeightsIdeal.τ).loc Cert.GatherWeightsIdeal.main_arg5) = m ((c.tc : Thread Cert.GatherWeightsIdeal.nD Cert.GatherWeightsIdeal.τ).loc Cert.GatherWeightsIdeal.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_GatherMod [hGatherMod : Cert.GatherMod.Facts] : Prop :=
  ∀ (m : (ℓ : Loc Cert.GatherMod.nD Cert.GatherMod.τ Cert.GatherMod.sig) → Buf (Elt Bits) ℓ) (g : Dev Cert.GatherMod.nD → PrngReg), Pre_GatherMod m →
    θ_run (Cert.GatherMod.defs (F := Bits)) (onTc (τ := Cert.GatherMod.τ) (Cert.GatherMod.main (F := Bits))) ⟨m, fun _ => 0, g⟩ (fun r => (∀ c : Dev Cert.GatherMod.nD,
      r.2.mem ((c.tc : Thread Cert.GatherMod.nD Cert.GatherMod.τ).loc Cert.GatherMod.main_arg0) = m ((c.tc : Thread Cert.GatherMod.nD Cert.GatherMod.τ).loc Cert.GatherMod.main_arg0))
      ∧ r.2.sem = fun _ => 0)

def quiescent_GatherModIdeal [hGatherModIdeal : Cert.GatherModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg), Pre_GatherModIdeal m →
    θ_run (Cert.GatherModIdeal.defs (F := Ideal)) (onTc (τ := Cert.GatherModIdeal.τ) (Cert.GatherModIdeal.main (F := Ideal))) ⟨m, fun _ => 0, g⟩ (fun r => (∀ c : Dev Cert.GatherModIdeal.nD,
      r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0))
      ∧ r.2.sem = fun _ => 0)

def quiescent_GatherC [hGatherC : Cert.GatherC.Facts] : Prop :=
  ∀ (m : (ℓ : Loc Cert.GatherC.nD Cert.GatherC.τ Cert.GatherC.sig) → Buf (Elt Bits) ℓ) (g : Dev Cert.GatherC.nD → PrngReg), Pre_GatherC m →
    θ_run (Cert.GatherC.defs (F := Bits)) (onTc (τ := Cert.GatherC.τ) (Cert.GatherC.main (F := Bits))) ⟨m, fun _ => 0, g⟩ (fun r => (∀ c : Dev Cert.GatherC.nD,
      r.2.mem ((c.tc : Thread Cert.GatherC.nD Cert.GatherC.τ).loc Cert.GatherC.main_arg0) = m ((c.tc : Thread Cert.GatherC.nD Cert.GatherC.τ).loc Cert.GatherC.main_arg0))
      ∧ r.2.sem = fun _ => 0)

def quiescent_GatherCIdeal [hGatherCIdeal : Cert.GatherCIdeal.Facts] : Prop :=
  ∀ (m : (ℓ : Loc Cert.GatherCIdeal.nD Cert.GatherCIdeal.τ Cert.GatherCIdeal.sig) → Buf (Elt Ideal) ℓ) (g : Dev Cert.GatherCIdeal.nD → PrngReg), Pre_GatherCIdeal m →
    θ_run (Cert.GatherCIdeal.defs (F := Ideal)) (onTc (τ := Cert.GatherCIdeal.τ) (Cert.GatherCIdeal.main (F := Ideal))) ⟨m, fun _ => 0, g⟩ (fun r => (∀ c : Dev Cert.GatherCIdeal.nD,
      r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ r.2.sem = fun _ => 0)

def quiescent_CIdeal [hCIdeal : Cert.CIdeal.Facts] : Prop :=
  ∀ (m : (ℓ : Loc Cert.CIdeal.nD Cert.CIdeal.τ Cert.CIdeal.sig) → Buf (Elt Ideal) ℓ) (g : Dev Cert.CIdeal.nD → PrngReg), Pre_CIdeal m →
    θ_run (Cert.CIdeal.defs (F := Ideal)) (onTc (τ := Cert.CIdeal.τ) (Cert.CIdeal.main (F := Ideal))) ⟨m, fun _ => 0, g⟩ (fun r => (∀ c : Dev Cert.CIdeal.nD,
      r.2.mem ((c.tc : Thread Cert.CIdeal.nD Cert.CIdeal.τ).loc Cert.CIdeal.main_arg0) = m ((c.tc : Thread Cert.CIdeal.nD Cert.CIdeal.τ).loc Cert.CIdeal.main_arg0))
      ∧ r.2.sem = fun _ => 0)

def quiescent_C [hC : Cert.C.Facts] : Prop :=
  ∀ (m : (ℓ : Loc Cert.C.nD Cert.C.τ Cert.C.sig) → Buf (Elt Bits) ℓ) (g : Dev Cert.C.nD → PrngReg), Pre_C m →
    θ_run (Cert.C.defs (F := Bits)) (onTc (τ := Cert.C.τ) (Cert.C.main (F := Bits))) ⟨m, fun _ => 0, g⟩ (fun r => (∀ c : Dev Cert.C.nD,
      r.2.mem ((c.tc : Thread Cert.C.nD Cert.C.τ).loc Cert.C.main_arg0) = m ((c.tc : Thread Cert.C.nD Cert.C.τ).loc Cert.C.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_StepGluIdeal [hStepGluIdeal : Cert.StepGluIdeal.Facts] : Prop :=
  ∀ (m : (ℓ : Loc Cert.StepGluIdeal.nD Cert.StepGluIdeal.τ Cert.StepGluIdeal.sig) → Buf (Elt Ideal) ℓ) (g : Dev Cert.StepGluIdeal.nD → PrngReg), Pre_StepGluIdeal m →
    θ_run (Cert.StepGluIdeal.defs (F := Ideal)) (onTc (τ := Cert.StepGluIdeal.τ) (Cert.StepGluIdeal.main (F := Ideal))) ⟨m, fun _ => 0, g⟩ (fun r => (∀ c : Dev Cert.StepGluIdeal.nD,
      r.2.mem ((c.tc : Thread Cert.StepGluIdeal.nD Cert.StepGluIdeal.τ).loc Cert.StepGluIdeal.main_arg0) = m ((c.tc : Thread Cert.StepGluIdeal.nD Cert.StepGluIdeal.τ).loc Cert.StepGluIdeal.main_arg0)
      ∧ r.2.mem ((c.tc : Thread Cert.StepGluIdeal.nD Cert.StepGluIdeal.τ).loc Cert.StepGluIdeal.main_arg1) = m ((c.tc : Thread Cert.StepGluIdeal.nD Cert.StepGluIdeal.τ).loc Cert.StepGluIdeal.main_arg1)
      ∧ r.2.mem ((c.tc : Thread Cert.StepGluIdeal.nD Cert.StepGluIdeal.τ).loc Cert.StepGluIdeal.main_arg2) = m ((c.tc : Thread Cert.StepGluIdeal.nD Cert.StepGluIdeal.τ).loc Cert.StepGluIdeal.main_arg2)
      ∧ r.2.mem ((c.tc : Thread Cert.StepGluIdeal.nD Cert.StepGluIdeal.τ).loc Cert.StepGluIdeal.main_arg3) = m ((c.tc : Thread Cert.StepGluIdeal.nD Cert.StepGluIdeal.τ).loc Cert.StepGluIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_StepBranchIdeal [hStepBranchIdeal : Cert.StepBranchIdeal.Facts] : Prop :=
  ∀ (m : (ℓ : Loc Cert.StepBranchIdeal.nD Cert.StepBranchIdeal.τ Cert.StepBranchIdeal.sig) → Buf (Elt Ideal) ℓ) (g : Dev Cert.StepBranchIdeal.nD → PrngReg), Pre_StepBranchIdeal m →
    θ_run (Cert.StepBranchIdeal.defs (F := Ideal)) (onTc (τ := Cert.StepBranchIdeal.τ) (Cert.StepBranchIdeal.main (F := Ideal))) ⟨m, fun _ => 0, g⟩ (fun r => (∀ c : Dev Cert.StepBranchIdeal.nD,
      r.2.mem ((c.tc : Thread Cert.StepBranchIdeal.nD Cert.StepBranchIdeal.τ).loc Cert.StepBranchIdeal.main_arg0) = m ((c.tc : Thread Cert.StepBranchIdeal.nD Cert.StepBranchIdeal.τ).loc Cert.StepBranchIdeal.main_arg0)
      ∧ r.2.mem ((c.tc : Thread Cert.StepBranchIdeal.nD Cert.StepBranchIdeal.τ).loc Cert.StepBranchIdeal.main_arg1) = m ((c.tc : Thread Cert.StepBranchIdeal.nD Cert.StepBranchIdeal.τ).loc Cert.StepBranchIdeal.main_arg1)
      ∧ r.2.mem ((c.tc : Thread Cert.StepBranchIdeal.nD Cert.StepBranchIdeal.τ).loc Cert.StepBranchIdeal.main_arg2) = m ((c.tc : Thread Cert.StepBranchIdeal.nD Cert.StepBranchIdeal.τ).loc Cert.StepBranchIdeal.main_arg2)
      ∧ r.2.mem ((c.tc : Thread Cert.StepBranchIdeal.nD Cert.StepBranchIdeal.τ).loc Cert.StepBranchIdeal.main_arg3) = m ((c.tc : Thread Cert.StepBranchIdeal.nD Cert.StepBranchIdeal.τ).loc Cert.StepBranchIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_AdamPack [hAdamPack : Cert.AdamPack.Facts] : Prop :=
  ∀ (m : (ℓ : Loc Cert.AdamPack.nD Cert.AdamPack.τ Cert.AdamPack.sig) → Buf (Elt Bits) ℓ) (g : Dev Cert.AdamPack.nD → PrngReg), Pre_AdamPack m →
    θ_run (Cert.AdamPack.defs (F := Bits)) (onTc (τ := Cert.AdamPack.τ) (Cert.AdamPack.main (F := Bits))) ⟨m, fun _ => 0, g⟩ (fun r => (∀ c : Dev Cert.AdamPack.nD,
      r.2.mem ((c.tc : Thread Cert.AdamPack.nD Cert.AdamPack.τ).loc Cert.AdamPack.main_arg0) = m ((c.tc : Thread Cert.AdamPack.nD Cert.AdamPack.τ).loc Cert.AdamPack.main_arg0)
      ∧ r.2.mem ((c.tc : Thread Cert.AdamPack.nD Cert.AdamPack.τ).loc Cert.AdamPack.main_arg1) = m ((c.tc : Thread Cert.AdamPack.nD Cert.AdamPack.τ).loc Cert.AdamPack.main_arg1)
      ∧ r.2.mem ((c.tc : Thread Cert.AdamPack.nD Cert.AdamPack.τ).loc Cert.AdamPack.main_arg2) = m ((c.tc : Thread Cert.AdamPack.nD Cert.AdamPack.τ).loc Cert.AdamPack.main_arg2)
      ∧ r.2.mem ((c.tc : Thread Cert.AdamPack.nD Cert.AdamPack.τ).loc Cert.AdamPack.main_arg3) = m ((c.tc : Thread Cert.AdamPack.nD Cert.AdamPack.τ).loc Cert.AdamPack.main_arg3))
      ∧ r.2.sem = fun _ => 0)

def quiescent_AdamPackIdeal [hAdamPackIdeal : Cert.AdamPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg), Pre_AdamPackIdeal m →
    θ_run (Cert.AdamPackIdeal.defs (F := Ideal)) (onTc (τ := Cert.AdamPackIdeal.τ) (Cert.AdamPackIdeal.main (F := Ideal))) ⟨m, fun _ => 0, g⟩ (fun r => (∀ c : Dev Cert.AdamPackIdeal.nD,
      r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
      ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
      ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
      ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ r.2.sem = fun _ => 0)

def quiescent_StepPackIdeal [hStepPackIdeal : Cert.StepPackIdeal.Facts] : Prop :=
  ∀ (m : (ℓ : Loc Cert.StepPackIdeal.nD Cert.StepPackIdeal.τ Cert.StepPackIdeal.sig) → Buf (Elt Ideal) ℓ) (g : Dev Cert.StepPackIdeal.nD → PrngReg), Pre_StepPackIdeal m →
    θ_run (Cert.StepPackIdeal.defs (F := Ideal)) (onTc (τ := Cert.StepPackIdeal.τ) (Cert.StepPackIdeal.main (F := Ideal))) ⟨m, fun _ => 0, g⟩ (fun r => (∀ c : Dev Cert.StepPackIdeal.nD,
      r.2.mem ((c.tc : Thread Cert.StepPackIdeal.nD Cert.StepPackIdeal.τ).loc Cert.StepPackIdeal.main_arg0) = m ((c.tc : Thread Cert.StepPackIdeal.nD Cert.StepPackIdeal.τ).loc Cert.StepPackIdeal.main_arg0)
      ∧ r.2.mem ((c.tc : Thread Cert.StepPackIdeal.nD Cert.StepPackIdeal.τ).loc Cert.StepPackIdeal.main_arg1) = m ((c.tc : Thread Cert.StepPackIdeal.nD Cert.StepPackIdeal.τ).loc Cert.StepPackIdeal.main_arg1)
      ∧ r.2.mem ((c.tc : Thread Cert.StepPackIdeal.nD Cert.StepPackIdeal.τ).loc Cert.StepPackIdeal.main_arg2) = m ((c.tc : Thread Cert.StepPackIdeal.nD Cert.StepPackIdeal.τ).loc Cert.StepPackIdeal.main_arg2)
      ∧ r.2.mem ((c.tc : Thread Cert.StepPackIdeal.nD Cert.StepPackIdeal.τ).loc Cert.StepPackIdeal.main_arg3) = m ((c.tc : Thread Cert.StepPackIdeal.nD Cert.StepPackIdeal.τ).loc Cert.StepPackIdeal.main_arg3))
      ∧ r.2.sem = fun _ => 0)

def quiescent_MmAdaFwd [hMmAdaFwd : Cert.MmAdaFwd.Facts] : Prop :=
  ∀ (m : (ℓ : Loc Cert.MmAdaFwd.nD Cert.MmAdaFwd.τ Cert.MmAdaFwd.sig) → Buf (Elt Bits) ℓ) (g : Dev Cert.MmAdaFwd.nD → PrngReg), Pre_MmAdaFwd m →
    θ_run (Cert.MmAdaFwd.defs (F := Bits)) (onTc (τ := Cert.MmAdaFwd.τ) (Cert.MmAdaFwd.main (F := Bits))) ⟨m, fun _ => 0, g⟩ (fun r => (∀ c : Dev Cert.MmAdaFwd.nD,
      r.2.mem ((c.tc : Thread Cert.MmAdaFwd.nD Cert.MmAdaFwd.τ).loc Cert.MmAdaFwd.main_arg0) = m ((c.tc : Thread Cert.MmAdaFwd.nD Cert.MmAdaFwd.τ).loc Cert.MmAdaFwd.main_arg0)
      ∧ r.2.mem ((c.tc : Thread Cert.MmAdaFwd.nD Cert.MmAdaFwd.τ).loc Cert.MmAdaFwd.main_arg1) = m ((c.tc : Thread Cert.MmAdaFwd.nD Cert.MmAdaFwd.τ).loc Cert.MmAdaFwd.main_arg1))
      ∧ r.2.sem = fun _ => 0)

def quiescent_MmAdaFwdIdeal [hMmAdaFwdIdeal : Cert.MmAdaFwdIdeal.Facts] : Prop :=
  ∀ (m : (ℓ : Loc Cert.MmAdaFwdIdeal.nD Cert.MmAdaFwdIdeal.τ Cert.MmAdaFwdIdeal.sig) → Buf (Elt Ideal) ℓ) (g : Dev Cert.MmAdaFwdIdeal.nD → PrngReg), Pre_MmAdaFwdIdeal m →
    θ_run (Cert.MmAdaFwdIdeal.defs (F := Ideal)) (onTc (τ := Cert.MmAdaFwdIdeal.τ) (Cert.MmAdaFwdIdeal.main (F := Ideal))) ⟨m, fun _ => 0, g⟩ (fun r => (∀ c : Dev Cert.MmAdaFwdIdeal.nD,
      r.2.mem ((c.tc : Thread Cert.MmAdaFwdIdeal.nD Cert.MmAdaFwdIdeal.τ).loc Cert.MmAdaFwdIdeal.main_arg0) = m ((c.tc : Thread Cert.MmAdaFwdIdeal.nD Cert.MmAdaFwdIdeal.τ).loc Cert.MmAdaFwdIdeal.main_arg0)
      ∧ r.2.mem ((c.tc : Thread Cert.MmAdaFwdIdeal.nD Cert.MmAdaFwdIdeal.τ).loc Cert.MmAdaFwdIdeal.main_arg1) = m ((c.tc : Thread Cert.MmAdaFwdIdeal.nD Cert.MmAdaFwdIdeal.τ).loc Cert.MmAdaFwdIdeal.main_arg1))
      ∧ r.2.sem = fun _ => 0)

def quiescent_TimesAdaFwdIdeal [hTimesAdaFwdIdeal : Cert.TimesAdaFwdIdeal.Facts] : Prop :=
  ∀ (m : (ℓ : Loc Cert.TimesAdaFwdIdeal.nD Cert.TimesAdaFwdIdeal.τ Cert.TimesAdaFwdIdeal.sig) → Buf (Elt Ideal) ℓ) (g : Dev Cert.TimesAdaFwdIdeal.nD → PrngReg), Pre_TimesAdaFwdIdeal m →
    θ_run (Cert.TimesAdaFwdIdeal.defs (F := Ideal)) (onTc (τ := Cert.TimesAdaFwdIdeal.τ) (Cert.TimesAdaFwdIdeal.main (F := Ideal))) ⟨m, fun _ => 0, g⟩ (fun r => (∀ c : Dev Cert.TimesAdaFwdIdeal.nD,
      r.2.mem ((c.tc : Thread Cert.TimesAdaFwdIdeal.nD Cert.TimesAdaFwdIdeal.τ).loc Cert.TimesAdaFwdIdeal.main_arg0) = m ((c.tc : Thread Cert.TimesAdaFwdIdeal.nD Cert.TimesAdaFwdIdeal.τ).loc Cert.TimesAdaFwdIdeal.main_arg0)
      ∧ r.2.mem ((c.tc : Thread Cert.TimesAdaFwdIdeal.nD Cert.TimesAdaFwdIdeal.τ).loc Cert.TimesAdaFwdIdeal.main_arg1) = m ((c.tc : Thread Cert.TimesAdaFwdIdeal.nD Cert.TimesAdaFwdIdeal.τ).loc Cert.TimesAdaFwdIdeal.main_arg1))
      ∧ r.2.sem = fun _ => 0)

def quiescent_MmProjA [hMmProjA : Cert.MmProjA.Facts] : Prop :=
  ∀ (m : (ℓ : Loc Cert.MmProjA.nD Cert.MmProjA.τ Cert.MmProjA.sig) → Buf (Elt Bits) ℓ) (g : Dev Cert.MmProjA.nD → PrngReg), Pre_MmProjA m →
    θ_run (Cert.MmProjA.defs (F := Bits)) (onTc (τ := Cert.MmProjA.τ) (Cert.MmProjA.main (F := Bits))) ⟨m, fun _ => 0, g⟩ (fun r => (∀ c : Dev Cert.MmProjA.nD,
      r.2.mem ((c.tc : Thread Cert.MmProjA.nD Cert.MmProjA.τ).loc Cert.MmProjA.main_arg0) = m ((c.tc : Thread Cert.MmProjA.nD Cert.MmProjA.τ).loc Cert.MmProjA.main_arg0)
      ∧ r.2.mem ((c.tc : Thread Cert.MmProjA.nD Cert.MmProjA.τ).loc Cert.MmProjA.main_arg1) = m ((c.tc : Thread Cert.MmProjA.nD Cert.MmProjA.τ).loc Cert.MmProjA.main_arg1))
      ∧ r.2.sem = fun _ => 0)

def quiescent_MmProjAIdeal [hMmProjAIdeal : Cert.MmProjAIdeal.Facts] : Prop :=
  ∀ (m : (ℓ : Loc Cert.MmProjAIdeal.nD Cert.MmProjAIdeal.τ Cert.MmProjAIdeal.sig) → Buf (Elt Ideal) ℓ) (g : Dev Cert.MmProjAIdeal.nD → PrngReg), Pre_MmProjAIdeal m →
    θ_run (Cert.MmProjAIdeal.defs (F := Ideal)) (onTc (τ := Cert.MmProjAIdeal.τ) (Cert.MmProjAIdeal.main (F := Ideal))) ⟨m, fun _ => 0, g⟩ (fun r => (∀ c : Dev Cert.MmProjAIdeal.nD,
      r.2.mem ((c.tc : Thread Cert.MmProjAIdeal.nD Cert.MmProjAIdeal.τ).loc Cert.MmProjAIdeal.main_arg0) = m ((c.tc : Thread Cert.MmProjAIdeal.nD Cert.MmProjAIdeal.τ).loc Cert.MmProjAIdeal.main_arg0)
      ∧ r.2.mem ((c.tc : Thread Cert.MmProjAIdeal.nD Cert.MmProjAIdeal.τ).loc Cert.MmProjAIdeal.main_arg1) = m ((c.tc : Thread Cert.MmProjAIdeal.nD Cert.MmProjAIdeal.τ).loc Cert.MmProjAIdeal.main_arg1))
      ∧ r.2.sem = fun _ => 0)

def quiescent_TimesProjAIdeal [hTimesProjAIdeal : Cert.TimesProjAIdeal.Facts] : Prop :=
  ∀ (m : (ℓ : Loc Cert.TimesProjAIdeal.nD Cert.TimesProjAIdeal.τ Cert.TimesProjAIdeal.sig) → Buf (Elt Ideal) ℓ) (g : Dev Cert.TimesProjAIdeal.nD → PrngReg), Pre_TimesProjAIdeal m →
    θ_run (Cert.TimesProjAIdeal.defs (F := Ideal)) (onTc (τ := Cert.TimesProjAIdeal.τ) (Cert.TimesProjAIdeal.main (F := Ideal))) ⟨m, fun _ => 0, g⟩ (fun r => (∀ c : Dev Cert.TimesProjAIdeal.nD,
      r.2.mem ((c.tc : Thread Cert.TimesProjAIdeal.nD Cert.TimesProjAIdeal.τ).loc Cert.TimesProjAIdeal.main_arg0) = m ((c.tc : Thread Cert.TimesProjAIdeal.nD Cert.TimesProjAIdeal.τ).loc Cert.TimesProjAIdeal.main_arg0)
      ∧ r.2.mem ((c.tc : Thread Cert.TimesProjAIdeal.nD Cert.TimesProjAIdeal.τ).loc Cert.TimesProjAIdeal.main_arg1) = m ((c.tc : Thread Cert.TimesProjAIdeal.nD Cert.TimesProjAIdeal.τ).loc Cert.TimesProjAIdeal.main_arg1))
      ∧ r.2.sem = fun _ => 0)

def quiescent_MmProjS [hMmProjS : Cert.MmProjS.Facts] : Prop :=
  ∀ (m : (ℓ : Loc Cert.MmProjS.nD Cert.MmProjS.τ Cert.MmProjS.sig) → Buf (Elt Bits) ℓ) (g : Dev Cert.MmProjS.nD → PrngReg), Pre_MmProjS m →
    θ_run (Cert.MmProjS.defs (F := Bits)) (onTc (τ := Cert.MmProjS.τ) (Cert.MmProjS.main (F := Bits))) ⟨m, fun _ => 0, g⟩ (fun r => (∀ c : Dev Cert.MmProjS.nD,
      r.2.mem ((c.tc : Thread Cert.MmProjS.nD Cert.MmProjS.τ).loc Cert.MmProjS.main_arg0) = m ((c.tc : Thread Cert.MmProjS.nD Cert.MmProjS.τ).loc Cert.MmProjS.main_arg0)
      ∧ r.2.mem ((c.tc : Thread Cert.MmProjS.nD Cert.MmProjS.τ).loc Cert.MmProjS.main_arg1) = m ((c.tc : Thread Cert.MmProjS.nD Cert.MmProjS.τ).loc Cert.MmProjS.main_arg1))
      ∧ r.2.sem = fun _ => 0)

def quiescent_MmProjSIdeal [hMmProjSIdeal : Cert.MmProjSIdeal.Facts] : Prop :=
  ∀ (m : (ℓ : Loc Cert.MmProjSIdeal.nD Cert.MmProjSIdeal.τ Cert.MmProjSIdeal.sig) → Buf (Elt Ideal) ℓ) (g : Dev Cert.MmProjSIdeal.nD → PrngReg), Pre_MmProjSIdeal m →
    θ_run (Cert.MmProjSIdeal.defs (F := Ideal)) (onTc (τ := Cert.MmProjSIdeal.τ) (Cert.MmProjSIdeal.main (F := Ideal))) ⟨m, fun _ => 0, g⟩ (fun r => (∀ c : Dev Cert.MmProjSIdeal.nD,
      r.2.mem ((c.tc : Thread Cert.MmProjSIdeal.nD Cert.MmProjSIdeal.τ).loc Cert.MmProjSIdeal.main_arg0) = m ((c.tc : Thread Cert.MmProjSIdeal.nD Cert.MmProjSIdeal.τ).loc Cert.MmProjSIdeal.main_arg0)
      ∧ r.2.mem ((c.tc : Thread Cert.MmProjSIdeal.nD Cert.MmProjSIdeal.τ).loc Cert.MmProjSIdeal.main_arg1) = m ((c.tc : Thread Cert.MmProjSIdeal.nD Cert.MmProjSIdeal.τ).loc Cert.MmProjSIdeal.main_arg1))
      ∧ r.2.sem = fun _ => 0)

def quiescent_TimesProjSIdeal [hTimesProjSIdeal : Cert.TimesProjSIdeal.Facts] : Prop :=
  ∀ (m : (ℓ : Loc Cert.TimesProjSIdeal.nD Cert.TimesProjSIdeal.τ Cert.TimesProjSIdeal.sig) → Buf (Elt Ideal) ℓ) (g : Dev Cert.TimesProjSIdeal.nD → PrngReg), Pre_TimesProjSIdeal m →
    θ_run (Cert.TimesProjSIdeal.defs (F := Ideal)) (onTc (τ := Cert.TimesProjSIdeal.τ) (Cert.TimesProjSIdeal.main (F := Ideal))) ⟨m, fun _ => 0, g⟩ (fun r => (∀ c : Dev Cert.TimesProjSIdeal.nD,
      r.2.mem ((c.tc : Thread Cert.TimesProjSIdeal.nD Cert.TimesProjSIdeal.τ).loc Cert.TimesProjSIdeal.main_arg0) = m ((c.tc : Thread Cert.TimesProjSIdeal.nD Cert.TimesProjSIdeal.τ).loc Cert.TimesProjSIdeal.main_arg0)
      ∧ r.2.mem ((c.tc : Thread Cert.TimesProjSIdeal.nD Cert.TimesProjSIdeal.τ).loc Cert.TimesProjSIdeal.main_arg1) = m ((c.tc : Thread Cert.TimesProjSIdeal.nD Cert.TimesProjSIdeal.τ).loc Cert.TimesProjSIdeal.main_arg1))
      ∧ r.2.sem = fun _ => 0)

def quiescent_MmProjG [hMmProjG : Cert.MmProjG.Facts] : Prop :=
  ∀ (m : (ℓ : Loc Cert.MmProjG.nD Cert.MmProjG.τ Cert.MmProjG.sig) → Buf (Elt Bits) ℓ) (g : Dev Cert.MmProjG.nD → PrngReg), Pre_MmProjG m →
    θ_run (Cert.MmProjG.defs (F := Bits)) (onTc (τ := Cert.MmProjG.τ) (Cert.MmProjG.main (F := Bits))) ⟨m, fun _ => 0, g⟩ (fun r => (∀ c : Dev Cert.MmProjG.nD,
      r.2.mem ((c.tc : Thread Cert.MmProjG.nD Cert.MmProjG.τ).loc Cert.MmProjG.main_arg0) = m ((c.tc : Thread Cert.MmProjG.nD Cert.MmProjG.τ).loc Cert.MmProjG.main_arg0)
      ∧ r.2.mem ((c.tc : Thread Cert.MmProjG.nD Cert.MmProjG.τ).loc Cert.MmProjG.main_arg1) = m ((c.tc : Thread Cert.MmProjG.nD Cert.MmProjG.τ).loc Cert.MmProjG.main_arg1))
      ∧ r.2.sem = fun _ => 0)

def quiescent_MmProjGIdeal [hMmProjGIdeal : Cert.MmProjGIdeal.Facts] : Prop :=
  ∀ (m : (ℓ : Loc Cert.MmProjGIdeal.nD Cert.MmProjGIdeal.τ Cert.MmProjGIdeal.sig) → Buf (Elt Ideal) ℓ) (g : Dev Cert.MmProjGIdeal.nD → PrngReg), Pre_MmProjGIdeal m →
    θ_run (Cert.MmProjGIdeal.defs (F := Ideal)) (onTc (τ := Cert.MmProjGIdeal.τ) (Cert.MmProjGIdeal.main (F := Ideal))) ⟨m, fun _ => 0, g⟩ (fun r => (∀ c : Dev Cert.MmProjGIdeal.nD,
      r.2.mem ((c.tc : Thread Cert.MmProjGIdeal.nD Cert.MmProjGIdeal.τ).loc Cert.MmProjGIdeal.main_arg0) = m ((c.tc : Thread Cert.MmProjGIdeal.nD Cert.MmProjGIdeal.τ).loc Cert.MmProjGIdeal.main_arg0)
      ∧ r.2.mem ((c.tc : Thread Cert.MmProjGIdeal.nD Cert.MmProjGIdeal.τ).loc Cert.MmProjGIdeal.main_arg1) = m ((c.tc : Thread Cert.MmProjGIdeal.nD Cert.MmProjGIdeal.τ).loc Cert.MmProjGIdeal.main_arg1))
      ∧ r.2.sem = fun _ => 0)

def quiescent_TimesProjGIdeal [hTimesProjGIdeal : Cert.TimesProjGIdeal.Facts] : Prop :=
  ∀ (m : (ℓ : Loc Cert.TimesProjGIdeal.nD Cert.TimesProjGIdeal.τ Cert.TimesProjGIdeal.sig) → Buf (Elt Ideal) ℓ) (g : Dev Cert.TimesProjGIdeal.nD → PrngReg), Pre_TimesProjGIdeal m →
    θ_run (Cert.TimesProjGIdeal.defs (F := Ideal)) (onTc (τ := Cert.TimesProjGIdeal.τ) (Cert.TimesProjGIdeal.main (F := Ideal))) ⟨m, fun _ => 0, g⟩ (fun r => (∀ c : Dev Cert.TimesProjGIdeal.nD,
      r.2.mem ((c.tc : Thread Cert.TimesProjGIdeal.nD Cert.TimesProjGIdeal.τ).loc Cert.TimesProjGIdeal.main_arg0) = m ((c.tc : Thread Cert.TimesProjGIdeal.nD Cert.TimesProjGIdeal.τ).loc Cert.TimesProjGIdeal.main_arg0)
      ∧ r.2.mem ((c.tc : Thread Cert.TimesProjGIdeal.nD Cert.TimesProjGIdeal.τ).loc Cert.TimesProjGIdeal.main_arg1) = m ((c.tc : Thread Cert.TimesProjGIdeal.nD Cert.TimesProjGIdeal.τ).loc Cert.TimesProjGIdeal.main_arg1))
      ∧ r.2.sem = fun _ => 0)

def quiescent_MmDy [hMmDy : Cert.MmDy.Facts] : Prop :=
  ∀ (m : (ℓ : Loc Cert.MmDy.nD Cert.MmDy.τ Cert.MmDy.sig) → Buf (Elt Bits) ℓ) (g : Dev Cert.MmDy.nD → PrngReg), Pre_MmDy m →
    θ_run (Cert.MmDy.defs (F := Bits)) (onTc (τ := Cert.MmDy.τ) (Cert.MmDy.main (F := Bits))) ⟨m, fun _ => 0, g⟩ (fun r => (∀ c : Dev Cert.MmDy.nD,
      r.2.mem ((c.tc : Thread Cert.MmDy.nD Cert.MmDy.τ).loc Cert.MmDy.main_arg0) = m ((c.tc : Thread Cert.MmDy.nD Cert.MmDy.τ).loc Cert.MmDy.main_arg0)
      ∧ r.2.mem ((c.tc : Thread Cert.MmDy.nD Cert.MmDy.τ).loc Cert.MmDy.main_arg1) = m ((c.tc : Thread Cert.MmDy.nD Cert.MmDy.τ).loc Cert.MmDy.main_arg1))
      ∧ r.2.sem = fun _ => 0)

def quiescent_MmDyIdeal [hMmDyIdeal : Cert.MmDyIdeal.Facts] : Prop :=
  ∀ (m : (ℓ : Loc Cert.MmDyIdeal.nD Cert.MmDyIdeal.τ Cert.MmDyIdeal.sig) → Buf (Elt Ideal) ℓ) (g : Dev Cert.MmDyIdeal.nD → PrngReg), Pre_MmDyIdeal m →
    θ_run (Cert.MmDyIdeal.defs (F := Ideal)) (onTc (τ := Cert.MmDyIdeal.τ) (Cert.MmDyIdeal.main (F := Ideal))) ⟨m, fun _ => 0, g⟩ (fun r => (∀ c : Dev Cert.MmDyIdeal.nD,
      r.2.mem ((c.tc : Thread Cert.MmDyIdeal.nD Cert.MmDyIdeal.τ).loc Cert.MmDyIdeal.main_arg0) = m ((c.tc : Thread Cert.MmDyIdeal.nD Cert.MmDyIdeal.τ).loc Cert.MmDyIdeal.main_arg0)
      ∧ r.2.mem ((c.tc : Thread Cert.MmDyIdeal.nD Cert.MmDyIdeal.τ).loc Cert.MmDyIdeal.main_arg1) = m ((c.tc : Thread Cert.MmDyIdeal.nD Cert.MmDyIdeal.τ).loc Cert.MmDyIdeal.main_arg1))
      ∧ r.2.sem = fun _ => 0)

def quiescent_TimesDyIdeal [hTimesDyIdeal : Cert.TimesDyIdeal.Facts] : Prop :=
  ∀ (m : (ℓ : Loc Cert.TimesDyIdeal.nD Cert.TimesDyIdeal.τ Cert.TimesDyIdeal.sig) → Buf (Elt Ideal) ℓ) (g : Dev Cert.TimesDyIdeal.nD → PrngReg), Pre_TimesDyIdeal m →
    θ_run (Cert.TimesDyIdeal.defs (F := Ideal)) (onTc (τ := Cert.TimesDyIdeal.τ) (Cert.TimesDyIdeal.main (F := Ideal))) ⟨m, fun _ => 0, g⟩ (fun r => (∀ c : Dev Cert.TimesDyIdeal.nD,
      r.2.mem ((c.tc : Thread Cert.TimesDyIdeal.nD Cert.TimesDyIdeal.τ).loc Cert.TimesDyIdeal.main_arg0) = m ((c.tc : Thread Cert.TimesDyIdeal.nD Cert.TimesDyIdeal.τ).loc Cert.TimesDyIdeal.main_arg0)
      ∧ r.2.mem ((c.tc : Thread Cert.TimesDyIdeal.nD Cert.TimesDyIdeal.τ).loc Cert.TimesDyIdeal.main_arg1) = m ((c.tc : Thread Cert.TimesDyIdeal.nD Cert.TimesDyIdeal.τ).loc Cert.TimesDyIdeal.main_arg1))
      ∧ r.2.sem = fun _ => 0)

def quiescent_MmDwAda [hMmDwAda : Cert.MmDwAda.Facts] : Prop :=
  ∀ (m : (ℓ : Loc Cert.MmDwAda.nD Cert.MmDwAda.τ Cert.MmDwAda.sig) → Buf (Elt Bits) ℓ) (g : Dev Cert.MmDwAda.nD → PrngReg), Pre_MmDwAda m →
    θ_run (Cert.MmDwAda.defs (F := Bits)) (onTc (τ := Cert.MmDwAda.τ) (Cert.MmDwAda.main (F := Bits))) ⟨m, fun _ => 0, g⟩ (fun r => (∀ c : Dev Cert.MmDwAda.nD,
      r.2.mem ((c.tc : Thread Cert.MmDwAda.nD Cert.MmDwAda.τ).loc Cert.MmDwAda.main_arg0) = m ((c.tc : Thread Cert.MmDwAda.nD Cert.MmDwAda.τ).loc Cert.MmDwAda.main_arg0)
      ∧ r.2.mem ((c.tc : Thread Cert.MmDwAda.nD Cert.MmDwAda.τ).loc Cert.MmDwAda.main_arg1) = m ((c.tc : Thread Cert.MmDwAda.nD Cert.MmDwAda.τ).loc Cert.MmDwAda.main_arg1))
      ∧ r.2.sem = fun _ => 0)

def quiescent_MmDwAdaIdeal [hMmDwAdaIdeal : Cert.MmDwAdaIdeal.Facts] : Prop :=
  ∀ (m : (ℓ : Loc Cert.MmDwAdaIdeal.nD Cert.MmDwAdaIdeal.τ Cert.MmDwAdaIdeal.sig) → Buf (Elt Ideal) ℓ) (g : Dev Cert.MmDwAdaIdeal.nD → PrngReg), Pre_MmDwAdaIdeal m →
    θ_run (Cert.MmDwAdaIdeal.defs (F := Ideal)) (onTc (τ := Cert.MmDwAdaIdeal.τ) (Cert.MmDwAdaIdeal.main (F := Ideal))) ⟨m, fun _ => 0, g⟩ (fun r => (∀ c : Dev Cert.MmDwAdaIdeal.nD,
      r.2.mem ((c.tc : Thread Cert.MmDwAdaIdeal.nD Cert.MmDwAdaIdeal.τ).loc Cert.MmDwAdaIdeal.main_arg0) = m ((c.tc : Thread Cert.MmDwAdaIdeal.nD Cert.MmDwAdaIdeal.τ).loc Cert.MmDwAdaIdeal.main_arg0)
      ∧ r.2.mem ((c.tc : Thread Cert.MmDwAdaIdeal.nD Cert.MmDwAdaIdeal.τ).loc Cert.MmDwAdaIdeal.main_arg1) = m ((c.tc : Thread Cert.MmDwAdaIdeal.nD Cert.MmDwAdaIdeal.τ).loc Cert.MmDwAdaIdeal.main_arg1))
      ∧ r.2.sem = fun _ => 0)

def quiescent_TimesDwAdaIdeal [hTimesDwAdaIdeal : Cert.TimesDwAdaIdeal.Facts] : Prop :=
  ∀ (m : (ℓ : Loc Cert.TimesDwAdaIdeal.nD Cert.TimesDwAdaIdeal.τ Cert.TimesDwAdaIdeal.sig) → Buf (Elt Ideal) ℓ) (g : Dev Cert.TimesDwAdaIdeal.nD → PrngReg), Pre_TimesDwAdaIdeal m →
    θ_run (Cert.TimesDwAdaIdeal.defs (F := Ideal)) (onTc (τ := Cert.TimesDwAdaIdeal.τ) (Cert.TimesDwAdaIdeal.main (F := Ideal))) ⟨m, fun _ => 0, g⟩ (fun r => (∀ c : Dev Cert.TimesDwAdaIdeal.nD,
      r.2.mem ((c.tc : Thread Cert.TimesDwAdaIdeal.nD Cert.TimesDwAdaIdeal.τ).loc Cert.TimesDwAdaIdeal.main_arg0) = m ((c.tc : Thread Cert.TimesDwAdaIdeal.nD Cert.TimesDwAdaIdeal.τ).loc Cert.TimesDwAdaIdeal.main_arg0)
      ∧ r.2.mem ((c.tc : Thread Cert.TimesDwAdaIdeal.nD Cert.TimesDwAdaIdeal.τ).loc Cert.TimesDwAdaIdeal.main_arg1) = m ((c.tc : Thread Cert.TimesDwAdaIdeal.nD Cert.TimesDwAdaIdeal.τ).loc Cert.TimesDwAdaIdeal.main_arg1))
      ∧ r.2.sem = fun _ => 0)

def quiescent_MmDwOut [hMmDwOut : Cert.MmDwOut.Facts] : Prop :=
  ∀ (m : (ℓ : Loc Cert.MmDwOut.nD Cert.MmDwOut.τ Cert.MmDwOut.sig) → Buf (Elt Bits) ℓ) (g : Dev Cert.MmDwOut.nD → PrngReg), Pre_MmDwOut m →
    θ_run (Cert.MmDwOut.defs (F := Bits)) (onTc (τ := Cert.MmDwOut.τ) (Cert.MmDwOut.main (F := Bits))) ⟨m, fun _ => 0, g⟩ (fun r => (∀ c : Dev Cert.MmDwOut.nD,
      r.2.mem ((c.tc : Thread Cert.MmDwOut.nD Cert.MmDwOut.τ).loc Cert.MmDwOut.main_arg0) = m ((c.tc : Thread Cert.MmDwOut.nD Cert.MmDwOut.τ).loc Cert.MmDwOut.main_arg0)
      ∧ r.2.mem ((c.tc : Thread Cert.MmDwOut.nD Cert.MmDwOut.τ).loc Cert.MmDwOut.main_arg1) = m ((c.tc : Thread Cert.MmDwOut.nD Cert.MmDwOut.τ).loc Cert.MmDwOut.main_arg1))
      ∧ r.2.sem = fun _ => 0)

def quiescent_MmDwOutIdeal [hMmDwOutIdeal : Cert.MmDwOutIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg), Pre_MmDwOutIdeal m →
    θ_run (Cert.MmDwOutIdeal.defs (F := Ideal)) (onTc (τ := Cert.MmDwOutIdeal.τ) (Cert.MmDwOutIdeal.main (F := Ideal))) ⟨m, fun _ => 0, g⟩ (fun r => (∀ c : Dev Cert.MmDwOutIdeal.nD,
      r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
      ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ r.2.sem = fun _ => 0)

def quiescent_TimesDwOutIdeal [hTimesDwOutIdeal : Cert.TimesDwOutIdeal.Facts] : Prop :=
  ∀ (m : (ℓ : Loc Cert.TimesDwOutIdeal.nD Cert.TimesDwOutIdeal.τ Cert.TimesDwOutIdeal.sig) → Buf (Elt Ideal) ℓ) (g : Dev Cert.TimesDwOutIdeal.nD → PrngReg), Pre_TimesDwOutIdeal m →
    θ_run (Cert.TimesDwOutIdeal.defs (F := Ideal)) (onTc (τ := Cert.TimesDwOutIdeal.τ) (Cert.TimesDwOutIdeal.main (F := Ideal))) ⟨m, fun _ => 0, g⟩ (fun r => (∀ c : Dev Cert.TimesDwOutIdeal.nD,
      r.2.mem ((c.tc : Thread Cert.TimesDwOutIdeal.nD Cert.TimesDwOutIdeal.τ).loc Cert.TimesDwOutIdeal.main_arg0) = m ((c.tc : Thread Cert.TimesDwOutIdeal.nD Cert.TimesDwOutIdeal.τ).loc Cert.TimesDwOutIdeal.main_arg0)
      ∧ r.2.mem ((c.tc : Thread Cert.TimesDwOutIdeal.nD Cert.TimesDwOutIdeal.τ).loc Cert.TimesDwOutIdeal.main_arg1) = m ((c.tc : Thread Cert.TimesDwOutIdeal.nD Cert.TimesDwOutIdeal.τ).loc Cert.TimesDwOutIdeal.main_arg1))
      ∧ r.2.sem = fun _ => 0)

def quiescent_MmDwBranch [hMmDwBranch : Cert.MmDwBranch.Facts] : Prop :=
  ∀ (m : (ℓ : Loc Cert.MmDwBranch.nD Cert.MmDwBranch.τ Cert.MmDwBranch.sig) → Buf (Elt Bits) ℓ) (g : Dev Cert.MmDwBranch.nD → PrngReg), Pre_MmDwBranch m →
    θ_run (Cert.MmDwBranch.defs (F := Bits)) (onTc (τ := Cert.MmDwBranch.τ) (Cert.MmDwBranch.main (F := Bits))) ⟨m, fun _ => 0, g⟩ (fun r => (∀ c : Dev Cert.MmDwBranch.nD,
      r.2.mem ((c.tc : Thread Cert.MmDwBranch.nD Cert.MmDwBranch.τ).loc Cert.MmDwBranch.main_arg0) = m ((c.tc : Thread Cert.MmDwBranch.nD Cert.MmDwBranch.τ).loc Cert.MmDwBranch.main_arg0)
      ∧ r.2.mem ((c.tc : Thread Cert.MmDwBranch.nD Cert.MmDwBranch.τ).loc Cert.MmDwBranch.main_arg1) = m ((c.tc : Thread Cert.MmDwBranch.nD Cert.MmDwBranch.τ).loc Cert.MmDwBranch.main_arg1))
      ∧ r.2.sem = fun _ => 0)

def quiescent_MmDwBranchIdeal [hMmDwBranchIdeal : Cert.MmDwBranchIdeal.Facts] : Prop :=
  ∀ (m : (ℓ : Loc Cert.MmDwBranchIdeal.nD Cert.MmDwBranchIdeal.τ Cert.MmDwBranchIdeal.sig) → Buf (Elt Ideal) ℓ) (g : Dev Cert.MmDwBranchIdeal.nD → PrngReg), Pre_MmDwBranchIdeal m →
    θ_run (Cert.MmDwBranchIdeal.defs (F := Ideal)) (onTc (τ := Cert.MmDwBranchIdeal.τ) (Cert.MmDwBranchIdeal.main (F := Ideal))) ⟨m, fun _ => 0, g⟩ (fun r => (∀ c : Dev Cert.MmDwBranchIdeal.nD,
      r.2.mem ((c.tc : Thread Cert.MmDwBranchIdeal.nD Cert.MmDwBranchIdeal.τ).loc Cert.MmDwBranchIdeal.main_arg0) = m ((c.tc : Thread Cert.MmDwBranchIdeal.nD Cert.MmDwBranchIdeal.τ).loc Cert.MmDwBranchIdeal.main_arg0)
      ∧ r.2.mem ((c.tc : Thread Cert.MmDwBranchIdeal.nD Cert.MmDwBranchIdeal.τ).loc Cert.MmDwBranchIdeal.main_arg1) = m ((c.tc : Thread Cert.MmDwBranchIdeal.nD Cert.MmDwBranchIdeal.τ).loc Cert.MmDwBranchIdeal.main_arg1))
      ∧ r.2.sem = fun _ => 0)

def quiescent_TimesDwBranchIdeal [hTimesDwBranchIdeal : Cert.TimesDwBranchIdeal.Facts] : Prop :=
  ∀ (m : (ℓ : Loc Cert.TimesDwBranchIdeal.nD Cert.TimesDwBranchIdeal.τ Cert.TimesDwBranchIdeal.sig) → Buf (Elt Ideal) ℓ) (g : Dev Cert.TimesDwBranchIdeal.nD → PrngReg), Pre_TimesDwBranchIdeal m →
    θ_run (Cert.TimesDwBranchIdeal.defs (F := Ideal)) (onTc (τ := Cert.TimesDwBranchIdeal.τ) (Cert.TimesDwBranchIdeal.main (F := Ideal))) ⟨m, fun _ => 0, g⟩ (fun r => (∀ c : Dev Cert.TimesDwBranchIdeal.nD,
      r.2.mem ((c.tc : Thread Cert.TimesDwBranchIdeal.nD Cert.TimesDwBranchIdeal.τ).loc Cert.TimesDwBranchIdeal.main_arg0) = m ((c.tc : Thread Cert.TimesDwBranchIdeal.nD Cert.TimesDwBranchIdeal.τ).loc Cert.TimesDwBranchIdeal.main_arg0)
      ∧ r.2.mem ((c.tc : Thread Cert.TimesDwBranchIdeal.nD Cert.TimesDwBranchIdeal.τ).loc Cert.TimesDwBranchIdeal.main_arg1) = m ((c.tc : Thread Cert.TimesDwBranchIdeal.nD Cert.TimesDwBranchIdeal.τ).loc Cert.TimesDwBranchIdeal.main_arg1))
      ∧ r.2.sem = fun _ => 0)

def quiescent_MmDwA [hMmDwA : Cert.MmDwA.Facts] : Prop :=
  ∀ (m : (ℓ : Loc Cert.MmDwA.nD Cert.MmDwA.τ Cert.MmDwA.sig) → Buf (Elt Bits) ℓ) (g : Dev Cert.MmDwA.nD → PrngReg), Pre_MmDwA m →
    θ_run (Cert.MmDwA.defs (F := Bits)) (onTc (τ := Cert.MmDwA.τ) (Cert.MmDwA.main (F := Bits))) ⟨m, fun _ => 0, g⟩ (fun r => (∀ c : Dev Cert.MmDwA.nD,
      r.2.mem ((c.tc : Thread Cert.MmDwA.nD Cert.MmDwA.τ).loc Cert.MmDwA.main_arg0) = m ((c.tc : Thread Cert.MmDwA.nD Cert.MmDwA.τ).loc Cert.MmDwA.main_arg0)
      ∧ r.2.mem ((c.tc : Thread Cert.MmDwA.nD Cert.MmDwA.τ).loc Cert.MmDwA.main_arg1) = m ((c.tc : Thread Cert.MmDwA.nD Cert.MmDwA.τ).loc Cert.MmDwA.main_arg1))
      ∧ r.2.sem = fun _ => 0)

def quiescent_MmDwAIdeal [hMmDwAIdeal : Cert.MmDwAIdeal.Facts] : Prop :=
  ∀ (m : (ℓ : Loc Cert.MmDwAIdeal.nD Cert.MmDwAIdeal.τ Cert.MmDwAIdeal.sig) → Buf (Elt Ideal) ℓ) (g : Dev Cert.MmDwAIdeal.nD → PrngReg), Pre_MmDwAIdeal m →
    θ_run (Cert.MmDwAIdeal.defs (F := Ideal)) (onTc (τ := Cert.MmDwAIdeal.τ) (Cert.MmDwAIdeal.main (F := Ideal))) ⟨m, fun _ => 0, g⟩ (fun r => (∀ c : Dev Cert.MmDwAIdeal.nD,
      r.2.mem ((c.tc : Thread Cert.MmDwAIdeal.nD Cert.MmDwAIdeal.τ).loc Cert.MmDwAIdeal.main_arg0) = m ((c.tc : Thread Cert.MmDwAIdeal.nD Cert.MmDwAIdeal.τ).loc Cert.MmDwAIdeal.main_arg0)
      ∧ r.2.mem ((c.tc : Thread Cert.MmDwAIdeal.nD Cert.MmDwAIdeal.τ).loc Cert.MmDwAIdeal.main_arg1) = m ((c.tc : Thread Cert.MmDwAIdeal.nD Cert.MmDwAIdeal.τ).loc Cert.MmDwAIdeal.main_arg1))
      ∧ r.2.sem = fun _ => 0)

def quiescent_TimesDwAIdeal [hTimesDwAIdeal : Cert.TimesDwAIdeal.Facts] : Prop :=
  ∀ (m : (ℓ : Loc Cert.TimesDwAIdeal.nD Cert.TimesDwAIdeal.τ Cert.TimesDwAIdeal.sig) → Buf (Elt Ideal) ℓ) (g : Dev Cert.TimesDwAIdeal.nD → PrngReg), Pre_TimesDwAIdeal m →
    θ_run (Cert.TimesDwAIdeal.defs (F := Ideal)) (onTc (τ := Cert.TimesDwAIdeal.τ) (Cert.TimesDwAIdeal.main (F := Ideal))) ⟨m, fun _ => 0, g⟩ (fun r => (∀ c : Dev Cert.TimesDwAIdeal.nD,
      r.2.mem ((c.tc : Thread Cert.TimesDwAIdeal.nD Cert.TimesDwAIdeal.τ).loc Cert.TimesDwAIdeal.main_arg0) = m ((c.tc : Thread Cert.TimesDwAIdeal.nD Cert.TimesDwAIdeal.τ).loc Cert.TimesDwAIdeal.main_arg0)
      ∧ r.2.mem ((c.tc : Thread Cert.TimesDwAIdeal.nD Cert.TimesDwAIdeal.τ).loc Cert.TimesDwAIdeal.main_arg1) = m ((c.tc : Thread Cert.TimesDwAIdeal.nD Cert.TimesDwAIdeal.τ).loc Cert.TimesDwAIdeal.main_arg1))
      ∧ r.2.sem = fun _ => 0)

def quiescent_MmDwG [hMmDwG : Cert.MmDwG.Facts] : Prop :=
  ∀ (m : (ℓ : Loc Cert.MmDwG.nD Cert.MmDwG.τ Cert.MmDwG.sig) → Buf (Elt Bits) ℓ) (g : Dev Cert.MmDwG.nD → PrngReg), Pre_MmDwG m →
    θ_run (Cert.MmDwG.defs (F := Bits)) (onTc (τ := Cert.MmDwG.τ) (Cert.MmDwG.main (F := Bits))) ⟨m, fun _ => 0, g⟩ (fun r => (∀ c : Dev Cert.MmDwG.nD,
      r.2.mem ((c.tc : Thread Cert.MmDwG.nD Cert.MmDwG.τ).loc Cert.MmDwG.main_arg0) = m ((c.tc : Thread Cert.MmDwG.nD Cert.MmDwG.τ).loc Cert.MmDwG.main_arg0)
      ∧ r.2.mem ((c.tc : Thread Cert.MmDwG.nD Cert.MmDwG.τ).loc Cert.MmDwG.main_arg1) = m ((c.tc : Thread Cert.MmDwG.nD Cert.MmDwG.τ).loc Cert.MmDwG.main_arg1))
      ∧ r.2.sem = fun _ => 0)

def quiescent_MmDwGIdeal [hMmDwGIdeal : Cert.MmDwGIdeal.Facts] : Prop :=
  ∀ (m : (ℓ : Loc Cert.MmDwGIdeal.nD Cert.MmDwGIdeal.τ Cert.MmDwGIdeal.sig) → Buf (Elt Ideal) ℓ) (g : Dev Cert.MmDwGIdeal.nD → PrngReg), Pre_MmDwGIdeal m →
    θ_run (Cert.MmDwGIdeal.defs (F := Ideal)) (onTc (τ := Cert.MmDwGIdeal.τ) (Cert.MmDwGIdeal.main (F := Ideal))) ⟨m, fun _ => 0, g⟩ (fun r => (∀ c : Dev Cert.MmDwGIdeal.nD,
      r.2.mem ((c.tc : Thread Cert.MmDwGIdeal.nD Cert.MmDwGIdeal.τ).loc Cert.MmDwGIdeal.main_arg0) = m ((c.tc : Thread Cert.MmDwGIdeal.nD Cert.MmDwGIdeal.τ).loc Cert.MmDwGIdeal.main_arg0)
      ∧ r.2.mem ((c.tc : Thread Cert.MmDwGIdeal.nD Cert.MmDwGIdeal.τ).loc Cert.MmDwGIdeal.main_arg1) = m ((c.tc : Thread Cert.MmDwGIdeal.nD Cert.MmDwGIdeal.τ).loc Cert.MmDwGIdeal.main_arg1))
      ∧ r.2.sem = fun _ => 0)

def quiescent_TimesDwGIdeal [hTimesDwGIdeal : Cert.TimesDwGIdeal.Facts] : Prop :=
  ∀ (m : (ℓ : Loc Cert.TimesDwGIdeal.nD Cert.TimesDwGIdeal.τ Cert.TimesDwGIdeal.sig) → Buf (Elt Ideal) ℓ) (g : Dev Cert.TimesDwGIdeal.nD → PrngReg), Pre_TimesDwGIdeal m →
    θ_run (Cert.TimesDwGIdeal.defs (F := Ideal)) (onTc (τ := Cert.TimesDwGIdeal.τ) (Cert.TimesDwGIdeal.main (F := Ideal))) ⟨m, fun _ => 0, g⟩ (fun r => (∀ c : Dev Cert.TimesDwGIdeal.nD,
      r.2.mem ((c.tc : Thread Cert.TimesDwGIdeal.nD Cert.TimesDwGIdeal.τ).loc Cert.TimesDwGIdeal.main_arg0) = m ((c.tc : Thread Cert.TimesDwGIdeal.nD Cert.TimesDwGIdeal.τ).loc Cert.TimesDwGIdeal.main_arg0)
      ∧ r.2.mem ((c.tc : Thread Cert.TimesDwGIdeal.nD Cert.TimesDwGIdeal.τ).loc Cert.TimesDwGIdeal.main_arg1) = m ((c.tc : Thread Cert.TimesDwGIdeal.nD Cert.TimesDwGIdeal.τ).loc Cert.TimesDwGIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3)
      ∧ r.2.mem ((c.tc : Thread Cert.InputGradIdeal.nD Cert.InputGradIdeal.τ).loc Cert.InputGradIdeal.main_arg4) = m ((c.tc : Thread Cert.InputGradIdeal.nD Cert.InputGradIdeal.τ).loc Cert.InputGradIdeal.main_arg4)
      ∧ r.2.mem ((c.tc : Thread Cert.InputGradIdeal.nD Cert.InputGradIdeal.τ).loc Cert.InputGradIdeal.main_arg5) = m ((c.tc : Thread Cert.InputGradIdeal.nD Cert.InputGradIdeal.τ).loc Cert.InputGradIdeal.main_arg5)
      ∧ r.2.mem ((c.tc : Thread Cert.InputGradIdeal.nD Cert.InputGradIdeal.τ).loc Cert.InputGradIdeal.main_arg6) = m ((c.tc : Thread Cert.InputGradIdeal.nD Cert.InputGradIdeal.τ).loc Cert.InputGradIdeal.main_arg6)
      ∧ r.2.mem ((c.tc : Thread Cert.InputGradIdeal.nD Cert.InputGradIdeal.τ).loc Cert.InputGradIdeal.main_arg7) = m ((c.tc : Thread Cert.InputGradIdeal.nD Cert.InputGradIdeal.τ).loc Cert.InputGradIdeal.main_arg7))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
      ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
      ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6)
      ∧ r.2.mem ((c.tc : Thread Cert.MergeGradIdeal.nD Cert.MergeGradIdeal.τ).loc Cert.MergeGradIdeal.main_arg7) = m ((c.tc : Thread Cert.MergeGradIdeal.nD Cert.MergeGradIdeal.τ).loc Cert.MergeGradIdeal.main_arg7))
      ∧ r.2.sem = fun _ => 0)

def quiescent_DiscGrad [hDiscGrad : Cert.DiscGrad.Facts] : Prop :=
  ∀ (m : (ℓ : Loc Cert.DiscGrad.nD Cert.DiscGrad.τ Cert.DiscGrad.sig) → Buf (Elt Bits) ℓ) (g : Dev Cert.DiscGrad.nD → PrngReg), Pre_DiscGrad m →
    θ_run (Cert.DiscGrad.defs (F := Bits)) (onTc (τ := Cert.DiscGrad.τ) (Cert.DiscGrad.main (F := Bits))) ⟨m, fun _ => 0, g⟩ (fun r => (∀ c : Dev Cert.DiscGrad.nD,
      r.2.mem ((c.tc : Thread Cert.DiscGrad.nD Cert.DiscGrad.τ).loc Cert.DiscGrad.main_arg0) = m ((c.tc : Thread Cert.DiscGrad.nD Cert.DiscGrad.τ).loc Cert.DiscGrad.main_arg0)
      ∧ r.2.mem ((c.tc : Thread Cert.DiscGrad.nD Cert.DiscGrad.τ).loc Cert.DiscGrad.main_arg1) = m ((c.tc : Thread Cert.DiscGrad.nD Cert.DiscGrad.τ).loc Cert.DiscGrad.main_arg1)
      ∧ r.2.mem ((c.tc : Thread Cert.DiscGrad.nD Cert.DiscGrad.τ).loc Cert.DiscGrad.main_arg2) = m ((c.tc : Thread Cert.DiscGrad.nD Cert.DiscGrad.τ).loc Cert.DiscGrad.main_arg2)
      ∧ r.2.mem ((c.tc : Thread Cert.DiscGrad.nD Cert.DiscGrad.τ).loc Cert.DiscGrad.main_arg3) = m ((c.tc : Thread Cert.DiscGrad.nD Cert.DiscGrad.τ).loc Cert.DiscGrad.main_arg3)
      ∧ r.2.mem ((c.tc : Thread Cert.DiscGrad.nD Cert.DiscGrad.τ).loc Cert.DiscGrad.main_arg4) = m ((c.tc : Thread Cert.DiscGrad.nD Cert.DiscGrad.τ).loc Cert.DiscGrad.main_arg4)
      ∧ r.2.mem ((c.tc : Thread Cert.DiscGrad.nD Cert.DiscGrad.τ).loc Cert.DiscGrad.main_arg5) = m ((c.tc : Thread Cert.DiscGrad.nD Cert.DiscGrad.τ).loc Cert.DiscGrad.main_arg5)
      ∧ r.2.mem ((c.tc : Thread Cert.DiscGrad.nD Cert.DiscGrad.τ).loc Cert.DiscGrad.main_arg6) = m ((c.tc : Thread Cert.DiscGrad.nD Cert.DiscGrad.τ).loc Cert.DiscGrad.main_arg6)
      ∧ r.2.mem ((c.tc : Thread Cert.DiscGrad.nD Cert.DiscGrad.τ).loc Cert.DiscGrad.main_arg7) = m ((c.tc : Thread Cert.DiscGrad.nD Cert.DiscGrad.τ).loc Cert.DiscGrad.main_arg7)
      ∧ r.2.mem ((c.tc : Thread Cert.DiscGrad.nD Cert.DiscGrad.τ).loc Cert.DiscGrad.main_arg8) = m ((c.tc : Thread Cert.DiscGrad.nD Cert.DiscGrad.τ).loc Cert.DiscGrad.main_arg8))
      ∧ r.2.sem = fun _ => 0)

def quiescent_DiscGradIdeal [hDiscGradIdeal : Cert.DiscGradIdeal.Facts] : Prop :=
  ∀ (m : (ℓ : Loc Cert.DiscGradIdeal.nD Cert.DiscGradIdeal.τ Cert.DiscGradIdeal.sig) → Buf (Elt Ideal) ℓ) (g : Dev Cert.DiscGradIdeal.nD → PrngReg), Pre_DiscGradIdeal m →
    θ_run (Cert.DiscGradIdeal.defs (F := Ideal)) (onTc (τ := Cert.DiscGradIdeal.τ) (Cert.DiscGradIdeal.main (F := Ideal))) ⟨m, fun _ => 0, g⟩ (fun r => (∀ c : Dev Cert.DiscGradIdeal.nD,
      r.2.mem ((c.tc : Thread Cert.DiscGradIdeal.nD Cert.DiscGradIdeal.τ).loc Cert.DiscGradIdeal.main_arg0) = m ((c.tc : Thread Cert.DiscGradIdeal.nD Cert.DiscGradIdeal.τ).loc Cert.DiscGradIdeal.main_arg0)
      ∧ r.2.mem ((c.tc : Thread Cert.DiscGradIdeal.nD Cert.DiscGradIdeal.τ).loc Cert.DiscGradIdeal.main_arg1) = m ((c.tc : Thread Cert.DiscGradIdeal.nD Cert.DiscGradIdeal.τ).loc Cert.DiscGradIdeal.main_arg1)
      ∧ r.2.mem ((c.tc : Thread Cert.DiscGradIdeal.nD Cert.DiscGradIdeal.τ).loc Cert.DiscGradIdeal.main_arg2) = m ((c.tc : Thread Cert.DiscGradIdeal.nD Cert.DiscGradIdeal.τ).loc Cert.DiscGradIdeal.main_arg2)
      ∧ r.2.mem ((c.tc : Thread Cert.DiscGradIdeal.nD Cert.DiscGradIdeal.τ).loc Cert.DiscGradIdeal.main_arg3) = m ((c.tc : Thread Cert.DiscGradIdeal.nD Cert.DiscGradIdeal.τ).loc Cert.DiscGradIdeal.main_arg3)
      ∧ r.2.mem ((c.tc : Thread Cert.DiscGradIdeal.nD Cert.DiscGradIdeal.τ).loc Cert.DiscGradIdeal.main_arg4) = m ((c.tc : Thread Cert.DiscGradIdeal.nD Cert.DiscGradIdeal.τ).loc Cert.DiscGradIdeal.main_arg4)
      ∧ r.2.mem ((c.tc : Thread Cert.DiscGradIdeal.nD Cert.DiscGradIdeal.τ).loc Cert.DiscGradIdeal.main_arg5) = m ((c.tc : Thread Cert.DiscGradIdeal.nD Cert.DiscGradIdeal.τ).loc Cert.DiscGradIdeal.main_arg5)
      ∧ r.2.mem ((c.tc : Thread Cert.DiscGradIdeal.nD Cert.DiscGradIdeal.τ).loc Cert.DiscGradIdeal.main_arg6) = m ((c.tc : Thread Cert.DiscGradIdeal.nD Cert.DiscGradIdeal.τ).loc Cert.DiscGradIdeal.main_arg6)
      ∧ r.2.mem ((c.tc : Thread Cert.DiscGradIdeal.nD Cert.DiscGradIdeal.τ).loc Cert.DiscGradIdeal.main_arg7) = m ((c.tc : Thread Cert.DiscGradIdeal.nD Cert.DiscGradIdeal.τ).loc Cert.DiscGradIdeal.main_arg7)
      ∧ r.2.mem ((c.tc : Thread Cert.DiscGradIdeal.nD Cert.DiscGradIdeal.τ).loc Cert.DiscGradIdeal.main_arg8) = m ((c.tc : Thread Cert.DiscGradIdeal.nD Cert.DiscGradIdeal.τ).loc Cert.DiscGradIdeal.main_arg8))
      ∧ r.2.sem = fun _ => 0)

def quiescent_DiscGradIdeal_pre_tame [hDiscGradIdeal : Cert.DiscGradIdeal.Facts] [hPre_tame : Cert.Pre_tame.Facts] : Prop :=
  ∀ (m : (ℓ : Loc Cert.DiscGradIdeal.nD Cert.DiscGradIdeal.τ Cert.DiscGradIdeal.sig) → Buf (Elt Ideal) ℓ) (g : Dev Cert.DiscGradIdeal.nD → PrngReg), Pre_DiscGradIdeal_tame m →
    θ_run (Cert.DiscGradIdeal.defs (F := Ideal)) (onTc (τ := Cert.DiscGradIdeal.τ) (Cert.DiscGradIdeal.main (F := Ideal))) ⟨m, fun _ => 0, g⟩ (fun r => (∀ c : Dev Cert.DiscGradIdeal.nD,
      r.2.mem ((c.tc : Thread Cert.DiscGradIdeal.nD Cert.DiscGradIdeal.τ).loc Cert.DiscGradIdeal.main_arg0) = m ((c.tc : Thread Cert.DiscGradIdeal.nD Cert.DiscGradIdeal.τ).loc Cert.DiscGradIdeal.main_arg0)
      ∧ r.2.mem ((c.tc : Thread Cert.DiscGradIdeal.nD Cert.DiscGradIdeal.τ).loc Cert.DiscGradIdeal.main_arg1) = m ((c.tc : Thread Cert.DiscGradIdeal.nD Cert.DiscGradIdeal.τ).loc Cert.DiscGradIdeal.main_arg1)
      ∧ r.2.mem ((c.tc : Thread Cert.DiscGradIdeal.nD Cert.DiscGradIdeal.τ).loc Cert.DiscGradIdeal.main_arg2) = m ((c.tc : Thread Cert.DiscGradIdeal.nD Cert.DiscGradIdeal.τ).loc Cert.DiscGradIdeal.main_arg2)
      ∧ r.2.mem ((c.tc : Thread Cert.DiscGradIdeal.nD Cert.DiscGradIdeal.τ).loc Cert.DiscGradIdeal.main_arg3) = m ((c.tc : Thread Cert.DiscGradIdeal.nD Cert.DiscGradIdeal.τ).loc Cert.DiscGradIdeal.main_arg3)
      ∧ r.2.mem ((c.tc : Thread Cert.DiscGradIdeal.nD Cert.DiscGradIdeal.τ).loc Cert.DiscGradIdeal.main_arg4) = m ((c.tc : Thread Cert.DiscGradIdeal.nD Cert.DiscGradIdeal.τ).loc Cert.DiscGradIdeal.main_arg4)
      ∧ r.2.mem ((c.tc : Thread Cert.DiscGradIdeal.nD Cert.DiscGradIdeal.τ).loc Cert.DiscGradIdeal.main_arg5) = m ((c.tc : Thread Cert.DiscGradIdeal.nD Cert.DiscGradIdeal.τ).loc Cert.DiscGradIdeal.main_arg5)
      ∧ r.2.mem ((c.tc : Thread Cert.DiscGradIdeal.nD Cert.DiscGradIdeal.τ).loc Cert.DiscGradIdeal.main_arg6) = m ((c.tc : Thread Cert.DiscGradIdeal.nD Cert.DiscGradIdeal.τ).loc Cert.DiscGradIdeal.main_arg6)
      ∧ r.2.mem ((c.tc : Thread Cert.DiscGradIdeal.nD Cert.DiscGradIdeal.τ).loc Cert.DiscGradIdeal.main_arg7) = m ((c.tc : Thread Cert.DiscGradIdeal.nD Cert.DiscGradIdeal.τ).loc Cert.DiscGradIdeal.main_arg7)
      ∧ r.2.mem ((c.tc : Thread Cert.DiscGradIdeal.nD Cert.DiscGradIdeal.τ).loc Cert.DiscGradIdeal.main_arg8) = m ((c.tc : Thread Cert.DiscGradIdeal.nD Cert.DiscGradIdeal.τ).loc Cert.DiscGradIdeal.main_arg8))
      ∧ r.2.sem = fun _ => 0)

def quiescent_ChainRuleIdeal [hChainRuleIdeal : Cert.ChainRuleIdeal.Facts] : Prop :=
  ∀ (m : (ℓ : Loc Cert.ChainRuleIdeal.nD Cert.ChainRuleIdeal.τ Cert.ChainRuleIdeal.sig) → Buf (Elt Ideal) ℓ) (g : Dev Cert.ChainRuleIdeal.nD → PrngReg), Pre_ChainRuleIdeal m →
    θ_run (Cert.ChainRuleIdeal.defs (F := Ideal)) (onTc (τ := Cert.ChainRuleIdeal.τ) (Cert.ChainRuleIdeal.main (F := Ideal))) ⟨m, fun _ => 0, g⟩ (fun r => (∀ c : Dev Cert.ChainRuleIdeal.nD,
      r.2.mem ((c.tc : Thread Cert.ChainRuleIdeal.nD Cert.ChainRuleIdeal.τ).loc Cert.ChainRuleIdeal.main_arg0) = m ((c.tc : Thread Cert.ChainRuleIdeal.nD Cert.ChainRuleIdeal.τ).loc Cert.ChainRuleIdeal.main_arg0)
      ∧ r.2.mem ((c.tc : Thread Cert.ChainRuleIdeal.nD Cert.ChainRuleIdeal.τ).loc Cert.ChainRuleIdeal.main_arg1) = m ((c.tc : Thread Cert.ChainRuleIdeal.nD Cert.ChainRuleIdeal.τ).loc Cert.ChainRuleIdeal.main_arg1)
      ∧ r.2.mem ((c.tc : Thread Cert.ChainRuleIdeal.nD Cert.ChainRuleIdeal.τ).loc Cert.ChainRuleIdeal.main_arg2) = m ((c.tc : Thread Cert.ChainRuleIdeal.nD Cert.ChainRuleIdeal.τ).loc Cert.ChainRuleIdeal.main_arg2)
      ∧ r.2.mem ((c.tc : Thread Cert.ChainRuleIdeal.nD Cert.ChainRuleIdeal.τ).loc Cert.ChainRuleIdeal.main_arg3) = m ((c.tc : Thread Cert.ChainRuleIdeal.nD Cert.ChainRuleIdeal.τ).loc Cert.ChainRuleIdeal.main_arg3)
      ∧ r.2.mem ((c.tc : Thread Cert.ChainRuleIdeal.nD Cert.ChainRuleIdeal.τ).loc Cert.ChainRuleIdeal.main_arg4) = m ((c.tc : Thread Cert.ChainRuleIdeal.nD Cert.ChainRuleIdeal.τ).loc Cert.ChainRuleIdeal.main_arg4)
      ∧ r.2.mem ((c.tc : Thread Cert.ChainRuleIdeal.nD Cert.ChainRuleIdeal.τ).loc Cert.ChainRuleIdeal.main_arg5) = m ((c.tc : Thread Cert.ChainRuleIdeal.nD Cert.ChainRuleIdeal.τ).loc Cert.ChainRuleIdeal.main_arg5)
      ∧ r.2.mem ((c.tc : Thread Cert.ChainRuleIdeal.nD Cert.ChainRuleIdeal.τ).loc Cert.ChainRuleIdeal.main_arg6) = m ((c.tc : Thread Cert.ChainRuleIdeal.nD Cert.ChainRuleIdeal.τ).loc Cert.ChainRuleIdeal.main_arg6)
      ∧ r.2.mem ((c.tc : Thread Cert.ChainRuleIdeal.nD Cert.ChainRuleIdeal.τ).loc Cert.ChainRuleIdeal.main_arg7) = m ((c.tc : Thread Cert.ChainRuleIdeal.nD Cert.ChainRuleIdeal.τ).loc Cert.ChainRuleIdeal.main_arg7)
      ∧ r.2.mem ((c.tc : Thread Cert.ChainRuleIdeal.nD Cert.ChainRuleIdeal.τ).loc Cert.ChainRuleIdeal.main_arg8) = m ((c.tc : Thread Cert.ChainRuleIdeal.nD Cert.ChainRuleIdeal.τ).loc Cert.ChainRuleIdeal.main_arg8))
      ∧ r.2.sem = fun _ => 0)

def quiescent_ChainRuleIdeal_pre_tame [hChainRuleIdeal : Cert.ChainRuleIdeal.Facts] [hPre_tame : Cert.Pre_tame.Facts] : Prop :=
  ∀ (m : (ℓ : Loc Cert.ChainRuleIdeal.nD Cert.ChainRuleIdeal.τ Cert.ChainRuleIdeal.sig) → Buf (Elt Ideal) ℓ) (g : Dev Cert.ChainRuleIdeal.nD → PrngReg), Pre_ChainRuleIdeal_tame m →
    θ_run (Cert.ChainRuleIdeal.defs (F := Ideal)) (onTc (τ := Cert.ChainRuleIdeal.τ) (Cert.ChainRuleIdeal.main (F := Ideal))) ⟨m, fun _ => 0, g⟩ (fun r => (∀ c : Dev Cert.ChainRuleIdeal.nD,
      r.2.mem ((c.tc : Thread Cert.ChainRuleIdeal.nD Cert.ChainRuleIdeal.τ).loc Cert.ChainRuleIdeal.main_arg0) = m ((c.tc : Thread Cert.ChainRuleIdeal.nD Cert.ChainRuleIdeal.τ).loc Cert.ChainRuleIdeal.main_arg0)
      ∧ r.2.mem ((c.tc : Thread Cert.ChainRuleIdeal.nD Cert.ChainRuleIdeal.τ).loc Cert.ChainRuleIdeal.main_arg1) = m ((c.tc : Thread Cert.ChainRuleIdeal.nD Cert.ChainRuleIdeal.τ).loc Cert.ChainRuleIdeal.main_arg1)
      ∧ r.2.mem ((c.tc : Thread Cert.ChainRuleIdeal.nD Cert.ChainRuleIdeal.τ).loc Cert.ChainRuleIdeal.main_arg2) = m ((c.tc : Thread Cert.ChainRuleIdeal.nD Cert.ChainRuleIdeal.τ).loc Cert.ChainRuleIdeal.main_arg2)
      ∧ r.2.mem ((c.tc : Thread Cert.ChainRuleIdeal.nD Cert.ChainRuleIdeal.τ).loc Cert.ChainRuleIdeal.main_arg3) = m ((c.tc : Thread Cert.ChainRuleIdeal.nD Cert.ChainRuleIdeal.τ).loc Cert.ChainRuleIdeal.main_arg3)
      ∧ r.2.mem ((c.tc : Thread Cert.ChainRuleIdeal.nD Cert.ChainRuleIdeal.τ).loc Cert.ChainRuleIdeal.main_arg4) = m ((c.tc : Thread Cert.ChainRuleIdeal.nD Cert.ChainRuleIdeal.τ).loc Cert.ChainRuleIdeal.main_arg4)
      ∧ r.2.mem ((c.tc : Thread Cert.ChainRuleIdeal.nD Cert.ChainRuleIdeal.τ).loc Cert.ChainRuleIdeal.main_arg5) = m ((c.tc : Thread Cert.ChainRuleIdeal.nD Cert.ChainRuleIdeal.τ).loc Cert.ChainRuleIdeal.main_arg5)
      ∧ r.2.mem ((c.tc : Thread Cert.ChainRuleIdeal.nD Cert.ChainRuleIdeal.τ).loc Cert.ChainRuleIdeal.main_arg6) = m ((c.tc : Thread Cert.ChainRuleIdeal.nD Cert.ChainRuleIdeal.τ).loc Cert.ChainRuleIdeal.main_arg6)
      ∧ r.2.mem ((c.tc : Thread Cert.ChainRuleIdeal.nD Cert.ChainRuleIdeal.τ).loc Cert.ChainRuleIdeal.main_arg7) = m ((c.tc : Thread Cert.ChainRuleIdeal.nD Cert.ChainRuleIdeal.τ).loc Cert.ChainRuleIdeal.main_arg7)
      ∧ r.2.mem ((c.tc : Thread Cert.ChainRuleIdeal.nD Cert.ChainRuleIdeal.τ).loc Cert.ChainRuleIdeal.main_arg8) = m ((c.tc : Thread Cert.ChainRuleIdeal.nD Cert.ChainRuleIdeal.τ).loc Cert.ChainRuleIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![8, 2, 1024, 800]⟩ ⟨4, ![64, 2, 1024, 800]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![8, 2, 64, 512]⟩ ⟨4, ![64, 2, 64, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![8, 2, 512, 128]⟩ ⟨4, ![64, 2, 512, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![8, 2, 512, 128]⟩ ⟨4, ![64, 2, 512, 128]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![8, 2, 512, 128]⟩ ⟨4, ![64, 2, 512, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨4, ![8, 2, 128, 1024]⟩ ⟨4, ![64, 2, 128, 1024]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨4, ![8, 2, 1024, 800]⟩ ⟨4, ![64, 2, 1024, 800]⟩ 0 8 c v0
          ∧ r.2.mem ((c.tc : Thread Cert.KernelIdeal.nD Cert.KernelIdeal.τ).loc Cert.KernelIdeal.main_v1_1) = Layout.block ⟨4, ![8, 2, 64, 512]⟩ ⟨4, ![64, 2, 64, 512]⟩ 0 8 c v1
          ∧ r.2.mem ((c.tc : Thread Cert.KernelIdeal.nD Cert.KernelIdeal.τ).loc Cert.KernelIdeal.main_v1_2) = Layout.block ⟨4, ![8, 2, 512, 128]⟩ ⟨4, ![64, 2, 512, 128]⟩ 0 8 c v2
          ∧ r.2.mem ((c.tc : Thread Cert.KernelIdeal.nD Cert.KernelIdeal.τ).loc Cert.KernelIdeal.main_v1_3) = Layout.block ⟨4, ![8, 2, 512, 128]⟩ ⟨4, ![64, 2, 512, 128]⟩ 0 8 c v3
          ∧ r.2.mem ((c.tc : Thread Cert.KernelIdeal.nD Cert.KernelIdeal.τ).loc Cert.KernelIdeal.main_v1_4) = Layout.block ⟨4, ![8, 2, 512, 128]⟩ ⟨4, ![64, 2, 512, 128]⟩ 0 8 c v4
          ∧ r.2.mem ((c.tc : Thread Cert.KernelIdeal.nD Cert.KernelIdeal.τ).loc Cert.KernelIdeal.main_v1_5) = Layout.block ⟨4, ![8, 2, 128, 1024]⟩ ⟨4, ![64, 2, 128, 1024]⟩ 0 8 c v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨4, ![8, 2, 1024, 800]⟩ ⟨4, ![64, 2, 1024, 800]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨4, ![8, 2, 64, 512]⟩ ⟨4, ![64, 2, 64, 512]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨4, ![8, 2, 512, 128]⟩ ⟨4, ![64, 2, 512, 128]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨4, ![8, 2, 512, 128]⟩ ⟨4, ![64, 2, 512, 128]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨4, ![8, 2, 512, 128]⟩ ⟨4, ![64, 2, 512, 128]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨4, ![8, 2, 128, 1024]⟩ ⟨4, ![64, 2, 128, 1024]⟩ 0 8 c (m' (((0 : Dev Cert.Reference.nD).tc : Thread Cert.Reference.nD Cert.Reference.τ).loc Cert.Reference.main_arg5))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨4, ![8, 2, 1024, 800]⟩ ⟨4, ![64, 2, 1024, 800]⟩ 0 8 c v0
          ∧ r.2.mem ((c.tc : Thread Cert.Kernel.nD Cert.Kernel.τ).loc Cert.Kernel.main_v1_1) = Layout.block ⟨4, ![8, 2, 64, 512]⟩ ⟨4, ![64, 2, 64, 512]⟩ 0 8 c v1
          ∧ r.2.mem ((c.tc : Thread Cert.Kernel.nD Cert.Kernel.τ).loc Cert.Kernel.main_v1_2) = Layout.block ⟨4, ![8, 2, 512, 128]⟩ ⟨4, ![64, 2, 512, 128]⟩ 0 8 c v2
          ∧ r.2.mem ((c.tc : Thread Cert.Kernel.nD Cert.Kernel.τ).loc Cert.Kernel.main_v1_3) = Layout.block ⟨4, ![8, 2, 512, 128]⟩ ⟨4, ![64, 2, 512, 128]⟩ 0 8 c v3
          ∧ r.2.mem ((c.tc : Thread Cert.Kernel.nD Cert.Kernel.τ).loc Cert.Kernel.main_v1_4) = Layout.block ⟨4, ![8, 2, 512, 128]⟩ ⟨4, ![64, 2, 512, 128]⟩ 0 8 c v4
          ∧ r.2.mem ((c.tc : Thread Cert.Kernel.nD Cert.Kernel.τ).loc Cert.Kernel.main_v1_5) = Layout.block ⟨4, ![8, 2, 128, 1024]⟩ ⟨4, ![64, 2, 128, 1024]⟩ 0 8 c v5
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5))

def preserves_GatherWeights_GatherWeightsIdeal : Prop :=
  True

def algebraic_GatherWeightsIdeal_WeightsIdeal [hGatherWeightsIdeal : Cert.GatherWeightsIdeal.Facts] [hWeightsIdeal : Cert.WeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.WeightsIdeal.nD Cert.WeightsIdeal.τ Cert.WeightsIdeal.sig) → Buf (Elt Ideal) ℓ) (g' : Dev Cert.WeightsIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.block ⟨3, ![2, 1024, 800]⟩ ⟨3, ![2, 1024, 6400]⟩ 2 8 c (m' (((0 : Dev Cert.WeightsIdeal.nD).tc : Thread Cert.WeightsIdeal.nD Cert.WeightsIdeal.τ).loc Cert.WeightsIdeal.main_arg0))
      ∧ m ((c.tc : Thread Cert.GatherWeightsIdeal.nD Cert.GatherWeightsIdeal.τ).loc Cert.GatherWeightsIdeal.main_arg1) = Layout.block ⟨3, ![2, 64, 512]⟩ ⟨3, ![2, 512, 512]⟩ 1 8 c (m' (((0 : Dev Cert.WeightsIdeal.nD).tc : Thread Cert.WeightsIdeal.nD Cert.WeightsIdeal.τ).loc Cert.WeightsIdeal.main_arg1))
      ∧ m ((c.tc : Thread Cert.GatherWeightsIdeal.nD Cert.GatherWeightsIdeal.τ).loc Cert.GatherWeightsIdeal.main_arg2) = Layout.block ⟨3, ![2, 512, 128]⟩ ⟨3, ![2, 512, 1024]⟩ 2 8 c (m' (((0 : Dev Cert.WeightsIdeal.nD).tc : Thread Cert.WeightsIdeal.nD Cert.WeightsIdeal.τ).loc Cert.WeightsIdeal.main_arg2))
      ∧ m ((c.tc : Thread Cert.GatherWeightsIdeal.nD Cert.GatherWeightsIdeal.τ).loc Cert.GatherWeightsIdeal.main_arg3) = Layout.block ⟨3, ![2, 512, 128]⟩ ⟨3, ![2, 512, 1024]⟩ 2 8 c (m' (((0 : Dev Cert.WeightsIdeal.nD).tc : Thread Cert.WeightsIdeal.nD Cert.WeightsIdeal.τ).loc Cert.WeightsIdeal.main_arg3))
      ∧ m ((c.tc : Thread Cert.GatherWeightsIdeal.nD Cert.GatherWeightsIdeal.τ).loc Cert.GatherWeightsIdeal.main_arg4) = Layout.block ⟨3, ![2, 512, 128]⟩ ⟨3, ![2, 512, 1024]⟩ 2 8 c (m' (((0 : Dev Cert.WeightsIdeal.nD).tc : Thread Cert.WeightsIdeal.nD Cert.WeightsIdeal.τ).loc Cert.WeightsIdeal.main_arg4))
      ∧ m ((c.tc : Thread Cert.GatherWeightsIdeal.nD Cert.GatherWeightsIdeal.τ).loc Cert.GatherWeightsIdeal.main_arg5) = Layout.block ⟨3, ![2, 128, 1024]⟩ ⟨3, ![2, 1024, 1024]⟩ 1 8 c (m' (((0 : Dev Cert.WeightsIdeal.nD).tc : Thread Cert.WeightsIdeal.nD Cert.WeightsIdeal.τ).loc Cert.WeightsIdeal.main_arg5))) →
    ∃ (v0 : Buf (Elt Ideal) (((0 : Dev Cert.WeightsIdeal.nD).tc : Thread Cert.WeightsIdeal.nD Cert.WeightsIdeal.τ).loc Cert.WeightsIdeal.main_v1)) (v1 : Buf (Elt Ideal) (((0 : Dev Cert.WeightsIdeal.nD).tc : Thread Cert.WeightsIdeal.nD Cert.WeightsIdeal.τ).loc Cert.WeightsIdeal.main_v3)) (v2 : Buf (Elt Ideal) (((0 : Dev Cert.WeightsIdeal.nD).tc : Thread Cert.WeightsIdeal.nD Cert.WeightsIdeal.τ).loc Cert.WeightsIdeal.main_v5)) (v3 : Buf (Elt Ideal) (((0 : Dev Cert.WeightsIdeal.nD).tc : Thread Cert.WeightsIdeal.nD Cert.WeightsIdeal.τ).loc Cert.WeightsIdeal.main_v7)) (v4 : Buf (Elt Ideal) (((0 : Dev Cert.WeightsIdeal.nD).tc : Thread Cert.WeightsIdeal.nD Cert.WeightsIdeal.τ).loc Cert.WeightsIdeal.main_v9)) (v5 : Buf (Elt Ideal) (((0 : Dev Cert.WeightsIdeal.nD).tc : Thread Cert.WeightsIdeal.nD Cert.WeightsIdeal.τ).loc Cert.WeightsIdeal.main_v11)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_v1_2) = v2
          ∧ r.2.mem ((c.tc : Thread Cert.GatherWeightsIdeal.nD Cert.GatherWeightsIdeal.τ).loc Cert.GatherWeightsIdeal.main_v1_3) = v3
          ∧ r.2.mem ((c.tc : Thread Cert.GatherWeightsIdeal.nD Cert.GatherWeightsIdeal.τ).loc Cert.GatherWeightsIdeal.main_v1_4) = v4
          ∧ r.2.mem ((c.tc : Thread Cert.GatherWeightsIdeal.nD Cert.GatherWeightsIdeal.τ).loc Cert.GatherWeightsIdeal.main_v1_5) = v5
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
          ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
          ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
          ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4)
          ∧ r.2.mem ((c.tc : Thread Cert.GatherWeightsIdeal.nD Cert.GatherWeightsIdeal.τ).loc Cert.GatherWeightsIdeal.main_arg5) = m ((c.tc : Thread Cert.GatherWeightsIdeal.nD Cert.GatherWeightsIdeal.τ).loc Cert.GatherWeightsIdeal.main_arg5))
      ∧ θ_run (Cert.WeightsIdeal.defs (F := Ideal)) (onTc (τ := Cert.WeightsIdeal.τ) (Cert.WeightsIdeal.main (F := Ideal))) ⟨m', fun _ => 0, g'⟩ (fun r =>
          r.2.mem (((0 : Dev Cert.WeightsIdeal.nD).tc : Thread Cert.WeightsIdeal.nD Cert.WeightsIdeal.τ).loc Cert.WeightsIdeal.main_v1) = v0
          ∧ r.2.mem (((0 : Dev Cert.WeightsIdeal.nD).tc : Thread Cert.WeightsIdeal.nD Cert.WeightsIdeal.τ).loc Cert.WeightsIdeal.main_v3) = v1
          ∧ r.2.mem (((0 : Dev Cert.WeightsIdeal.nD).tc : Thread Cert.WeightsIdeal.nD Cert.WeightsIdeal.τ).loc Cert.WeightsIdeal.main_v5) = v2
          ∧ r.2.mem (((0 : Dev Cert.WeightsIdeal.nD).tc : Thread Cert.WeightsIdeal.nD Cert.WeightsIdeal.τ).loc Cert.WeightsIdeal.main_v7) = v3
          ∧ r.2.mem (((0 : Dev Cert.WeightsIdeal.nD).tc : Thread Cert.WeightsIdeal.nD Cert.WeightsIdeal.τ).loc Cert.WeightsIdeal.main_v9) = v4
          ∧ r.2.mem (((0 : Dev Cert.WeightsIdeal.nD).tc : Thread Cert.WeightsIdeal.nD Cert.WeightsIdeal.τ).loc Cert.WeightsIdeal.main_v11) = v5
          ∧ r.2.mem (((0 : Dev Cert.WeightsIdeal.nD).tc : Thread Cert.WeightsIdeal.nD Cert.WeightsIdeal.τ).loc Cert.WeightsIdeal.main_arg0) = m' (((0 : Dev Cert.WeightsIdeal.nD).tc : Thread Cert.WeightsIdeal.nD Cert.WeightsIdeal.τ).loc Cert.WeightsIdeal.main_arg0)
          ∧ r.2.mem (((0 : Dev Cert.WeightsIdeal.nD).tc : Thread Cert.WeightsIdeal.nD Cert.WeightsIdeal.τ).loc Cert.WeightsIdeal.main_arg1) = m' (((0 : Dev Cert.WeightsIdeal.nD).tc : Thread Cert.WeightsIdeal.nD Cert.WeightsIdeal.τ).loc Cert.WeightsIdeal.main_arg1)
          ∧ r.2.mem (((0 : Dev Cert.WeightsIdeal.nD).tc : Thread Cert.WeightsIdeal.nD Cert.WeightsIdeal.τ).loc Cert.WeightsIdeal.main_arg2) = m' (((0 : Dev Cert.WeightsIdeal.nD).tc : Thread Cert.WeightsIdeal.nD Cert.WeightsIdeal.τ).loc Cert.WeightsIdeal.main_arg2)
          ∧ r.2.mem (((0 : Dev Cert.WeightsIdeal.nD).tc : Thread Cert.WeightsIdeal.nD Cert.WeightsIdeal.τ).loc Cert.WeightsIdeal.main_arg3) = m' (((0 : Dev Cert.WeightsIdeal.nD).tc : Thread Cert.WeightsIdeal.nD Cert.WeightsIdeal.τ).loc Cert.WeightsIdeal.main_arg3)
          ∧ r.2.mem (((0 : Dev Cert.WeightsIdeal.nD).tc : Thread Cert.WeightsIdeal.nD Cert.WeightsIdeal.τ).loc Cert.WeightsIdeal.main_arg4) = m' (((0 : Dev Cert.WeightsIdeal.nD).tc : Thread Cert.WeightsIdeal.nD Cert.WeightsIdeal.τ).loc Cert.WeightsIdeal.main_arg4)
          ∧ r.2.mem (((0 : Dev Cert.WeightsIdeal.nD).tc : Thread Cert.WeightsIdeal.nD Cert.WeightsIdeal.τ).loc Cert.WeightsIdeal.main_arg5) = m' (((0 : Dev Cert.WeightsIdeal.nD).tc : Thread Cert.WeightsIdeal.nD Cert.WeightsIdeal.τ).loc Cert.WeightsIdeal.main_arg5))

def bitexact_GatherWeights_Weights [hGatherWeights : Cert.GatherWeights.Facts] [hWeights : Cert.Weights.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.Weights.nD Cert.Weights.τ Cert.Weights.sig) → Buf (Elt Bits) ℓ) (g' : Dev Cert.Weights.nD → PrngReg), Pre_GatherWeights m →
    (∀ c : Dev Cert.GatherWeights.nD,
      m ((c.tc : Thread Cert.GatherWeights.nD Cert.GatherWeights.τ).loc Cert.GatherWeights.main_arg0) = Layout.block ⟨3, ![2, 1024, 800]⟩ ⟨3, ![2, 1024, 6400]⟩ 2 8 c (m' (((0 : Dev Cert.Weights.nD).tc : Thread Cert.Weights.nD Cert.Weights.τ).loc Cert.Weights.main_arg0))
      ∧ m ((c.tc : Thread Cert.GatherWeights.nD Cert.GatherWeights.τ).loc Cert.GatherWeights.main_arg1) = Layout.block ⟨3, ![2, 64, 512]⟩ ⟨3, ![2, 512, 512]⟩ 1 8 c (m' (((0 : Dev Cert.Weights.nD).tc : Thread Cert.Weights.nD Cert.Weights.τ).loc Cert.Weights.main_arg1))
      ∧ m ((c.tc : Thread Cert.GatherWeights.nD Cert.GatherWeights.τ).loc Cert.GatherWeights.main_arg2) = Layout.block ⟨3, ![2, 512, 128]⟩ ⟨3, ![2, 512, 1024]⟩ 2 8 c (m' (((0 : Dev Cert.Weights.nD).tc : Thread Cert.Weights.nD Cert.Weights.τ).loc Cert.Weights.main_arg2))
      ∧ m ((c.tc : Thread Cert.GatherWeights.nD Cert.GatherWeights.τ).loc Cert.GatherWeights.main_arg3) = Layout.block ⟨3, ![2, 512, 128]⟩ ⟨3, ![2, 512, 1024]⟩ 2 8 c (m' (((0 : Dev Cert.Weights.nD).tc : Thread Cert.Weights.nD Cert.Weights.τ).loc Cert.Weights.main_arg3))
      ∧ m ((c.tc : Thread Cert.GatherWeights.nD Cert.GatherWeights.τ).loc Cert.GatherWeights.main_arg4) = Layout.block ⟨3, ![2, 512, 128]⟩ ⟨3, ![2, 512, 1024]⟩ 2 8 c (m' (((0 : Dev Cert.Weights.nD).tc : Thread Cert.Weights.nD Cert.Weights.τ).loc Cert.Weights.main_arg4))
      ∧ m ((c.tc : Thread Cert.GatherWeights.nD Cert.GatherWeights.τ).loc Cert.GatherWeights.main_arg5) = Layout.block ⟨3, ![2, 128, 1024]⟩ ⟨3, ![2, 1024, 1024]⟩ 1 8 c (m' (((0 : Dev Cert.Weights.nD).tc : Thread Cert.Weights.nD Cert.Weights.τ).loc Cert.Weights.main_arg5))) →
    ∃ (v0 : Buf (Elt Bits) (((0 : Dev Cert.Weights.nD).tc : Thread Cert.Weights.nD Cert.Weights.τ).loc Cert.Weights.main_v1)) (v1 : Buf (Elt Bits) (((0 : Dev Cert.Weights.nD).tc : Thread Cert.Weights.nD Cert.Weights.τ).loc Cert.Weights.main_v3)) (v2 : Buf (Elt Bits) (((0 : Dev Cert.Weights.nD).tc : Thread Cert.Weights.nD Cert.Weights.τ).loc Cert.Weights.main_v5)) (v3 : Buf (Elt Bits) (((0 : Dev Cert.Weights.nD).tc : Thread Cert.Weights.nD Cert.Weights.τ).loc Cert.Weights.main_v7)) (v4 : Buf (Elt Bits) (((0 : Dev Cert.Weights.nD).tc : Thread Cert.Weights.nD Cert.Weights.τ).loc Cert.Weights.main_v9)) (v5 : Buf (Elt Bits) (((0 : Dev Cert.Weights.nD).tc : Thread Cert.Weights.nD Cert.Weights.τ).loc Cert.Weights.main_v11)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1_0) = v0
          ∧ r.2.mem ((c.tc : Thread Cert.GatherWeights.nD Cert.GatherWeights.τ).loc Cert.GatherWeights.main_v1_1) = v1
          ∧ r.2.mem ((c.tc : Thread Cert.GatherWeights.nD Cert.GatherWeights.τ).loc Cert.GatherWeights.main_v1_2) = v2
          ∧ r.2.mem ((c.tc : Thread Cert.GatherWeights.nD Cert.GatherWeights.τ).loc Cert.GatherWeights.main_v1_3) = v3
          ∧ r.2.mem ((c.tc : Thread Cert.GatherWeights.nD Cert.GatherWeights.τ).loc Cert.GatherWeights.main_v1_4) = v4
          ∧ r.2.mem ((c.tc : Thread Cert.GatherWeights.nD Cert.GatherWeights.τ).loc Cert.GatherWeights.main_v1_5) = v5
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
          ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
          ∧ r.2.mem ((c.tc : Thread Cert.GatherWeights.nD Cert.GatherWeights.τ).loc Cert.GatherWeights.main_arg3) = m ((c.tc : Thread Cert.GatherWeights.nD Cert.GatherWeights.τ).loc Cert.GatherWeights.main_arg3)
          ∧ r.2.mem ((c.tc : Thread Cert.GatherWeights.nD Cert.GatherWeights.τ).loc Cert.GatherWeights.main_arg4) = m ((c.tc : Thread Cert.GatherWeights.nD Cert.GatherWeights.τ).loc Cert.GatherWeights.main_arg4)
          ∧ r.2.mem ((c.tc : Thread Cert.GatherWeights.nD Cert.GatherWeights.τ).loc Cert.GatherWeights.main_arg5) = m ((c.tc : Thread Cert.GatherWeights.nD Cert.GatherWeights.τ).loc Cert.GatherWeights.main_arg5))
      ∧ θ_run (Cert.Weights.defs (F := Bits)) (onTc (τ := Cert.Weights.τ) (Cert.Weights.main (F := Bits))) ⟨m', fun _ => 0, g'⟩ (fun r =>
          r.2.mem (((0 : Dev Cert.Weights.nD).tc : Thread Cert.Weights.nD Cert.Weights.τ).loc Cert.Weights.main_v1) = v0
          ∧ r.2.mem (((0 : Dev Cert.Weights.nD).tc : Thread Cert.Weights.nD Cert.Weights.τ).loc Cert.Weights.main_v3) = v1
          ∧ r.2.mem (((0 : Dev Cert.Weights.nD).tc : Thread Cert.Weights.nD Cert.Weights.τ).loc Cert.Weights.main_v5) = v2
          ∧ r.2.mem (((0 : Dev Cert.Weights.nD).tc : Thread Cert.Weights.nD Cert.Weights.τ).loc Cert.Weights.main_v7) = v3
          ∧ r.2.mem (((0 : Dev Cert.Weights.nD).tc : Thread Cert.Weights.nD Cert.Weights.τ).loc Cert.Weights.main_v9) = v4
          ∧ r.2.mem (((0 : Dev Cert.Weights.nD).tc : Thread Cert.Weights.nD Cert.Weights.τ).loc Cert.Weights.main_v11) = v5
          ∧ r.2.mem (((0 : Dev Cert.Weights.nD).tc : Thread Cert.Weights.nD Cert.Weights.τ).loc Cert.Weights.main_arg0) = m' (((0 : Dev Cert.Weights.nD).tc : Thread Cert.Weights.nD Cert.Weights.τ).loc Cert.Weights.main_arg0)
          ∧ r.2.mem (((0 : Dev Cert.Weights.nD).tc : Thread Cert.Weights.nD Cert.Weights.τ).loc Cert.Weights.main_arg1) = m' (((0 : Dev Cert.Weights.nD).tc : Thread Cert.Weights.nD Cert.Weights.τ).loc Cert.Weights.main_arg1)
          ∧ r.2.mem (((0 : Dev Cert.Weights.nD).tc : Thread Cert.Weights.nD Cert.Weights.τ).loc Cert.Weights.main_arg2) = m' (((0 : Dev Cert.Weights.nD).tc : Thread Cert.Weights.nD Cert.Weights.τ).loc Cert.Weights.main_arg2)
          ∧ r.2.mem (((0 : Dev Cert.Weights.nD).tc : Thread Cert.Weights.nD Cert.Weights.τ).loc Cert.Weights.main_arg3) = m' (((0 : Dev Cert.Weights.nD).tc : Thread Cert.Weights.nD Cert.Weights.τ).loc Cert.Weights.main_arg3)
          ∧ r.2.mem (((0 : Dev Cert.Weights.nD).tc : Thread Cert.Weights.nD Cert.Weights.τ).loc Cert.Weights.main_arg4) = m' (((0 : Dev Cert.Weights.nD).tc : Thread Cert.Weights.nD Cert.Weights.τ).loc Cert.Weights.main_arg4)
          ∧ r.2.mem (((0 : Dev Cert.Weights.nD).tc : Thread Cert.Weights.nD Cert.Weights.τ).loc Cert.Weights.main_arg5) = m' (((0 : Dev Cert.Weights.nD).tc : Thread Cert.Weights.nD Cert.Weights.τ).loc Cert.Weights.main_arg5))

def preserves_GatherSmall_GatherSmallIdeal : Prop :=
  True

def algebraic_GatherSmallIdeal_SmallIdeal [hGatherSmallIdeal : Cert.GatherSmallIdeal.Facts] [hSmallIdeal : Cert.SmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.SmallIdeal.nD Cert.SmallIdeal.τ Cert.SmallIdeal.sig) → Buf (Elt Ideal) ℓ) (g' : Dev Cert.SmallIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![3264, 128]⟩ ⟨2, ![26112, 128]⟩ 0 8 c (m' (((0 : Dev Cert.SmallIdeal.nD).tc : Thread Cert.SmallIdeal.nD Cert.SmallIdeal.τ).loc Cert.SmallIdeal.main_arg0))) →
    ∃ (v0 : Buf (Elt Ideal) (((0 : Dev Cert.SmallIdeal.nD).tc : Thread Cert.SmallIdeal.nD Cert.SmallIdeal.τ).loc Cert.SmallIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.SmallIdeal.defs (F := Ideal)) (onTc (τ := Cert.SmallIdeal.τ) (Cert.SmallIdeal.main (F := Ideal))) ⟨m', fun _ => 0, g'⟩ (fun r =>
          r.2.mem (((0 : Dev Cert.SmallIdeal.nD).tc : Thread Cert.SmallIdeal.nD Cert.SmallIdeal.τ).loc Cert.SmallIdeal.main_v0) = v0
          ∧ r.2.mem (((0 : Dev Cert.SmallIdeal.nD).tc : Thread Cert.SmallIdeal.nD Cert.SmallIdeal.τ).loc Cert.SmallIdeal.main_arg0) = m' (((0 : Dev Cert.SmallIdeal.nD).tc : Thread Cert.SmallIdeal.nD Cert.SmallIdeal.τ).loc Cert.SmallIdeal.main_arg0))

def bitexact_GatherSmall_Small [hGatherSmall : Cert.GatherSmall.Facts] [hSmall : Cert.Small.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.Small.nD Cert.Small.τ Cert.Small.sig) → Buf (Elt Bits) ℓ) (g' : Dev Cert.Small.nD → PrngReg), Pre_GatherSmall m →
    (∀ c : Dev Cert.GatherSmall.nD,
      m ((c.tc : Thread Cert.GatherSmall.nD Cert.GatherSmall.τ).loc Cert.GatherSmall.main_arg0) = Layout.block ⟨2, ![3264, 128]⟩ ⟨2, ![26112, 128]⟩ 0 8 c (m' (((0 : Dev Cert.Small.nD).tc : Thread Cert.Small.nD Cert.Small.τ).loc Cert.Small.main_arg0))) →
    ∃ (v0 : Buf (Elt Bits) (((0 : Dev Cert.Small.nD).tc : Thread Cert.Small.nD Cert.Small.τ).loc Cert.Small.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.Small.defs (F := Bits)) (onTc (τ := Cert.Small.τ) (Cert.Small.main (F := Bits))) ⟨m', fun _ => 0, g'⟩ (fun r =>
          r.2.mem (((0 : Dev Cert.Small.nD).tc : Thread Cert.Small.nD Cert.Small.τ).loc Cert.Small.main_v0) = v0
          ∧ r.2.mem (((0 : Dev Cert.Small.nD).tc : Thread Cert.Small.nD Cert.Small.τ).loc Cert.Small.main_arg0) = m' (((0 : Dev Cert.Small.nD).tc : Thread Cert.Small.nD Cert.Small.τ).loc Cert.Small.main_arg0))

def preserves_GatherMod_GatherModIdeal : Prop :=
  True

def algebraic_GatherModIdeal_ModIdeal [hGatherModIdeal : Cert.GatherModIdeal.Facts] [hModIdeal : Cert.ModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg)
    (m' : (ℓ : Loc Cert.ModIdeal.nD Cert.ModIdeal.τ Cert.ModIdeal.sig) → Buf (Elt Ideal) ℓ) (g' : Dev Cert.ModIdeal.nD → PrngReg), Pre_GatherModIdeal m →
    (∀ c : Dev Cert.GatherModIdeal.nD,
      m ((c.tc : Thread Cert.GatherModIdeal.nD Cert.GatherModIdeal.τ).loc Cert.GatherModIdeal.main_arg0) = Layout.block ⟨2, ![16, 384]⟩ ⟨2, ![128, 384]⟩ 0 8 c (m' (((0 : Dev Cert.ModIdeal.nD).tc : Thread Cert.ModIdeal.nD Cert.ModIdeal.τ).loc Cert.ModIdeal.main_arg0))) →
    ∃ (v0 : Buf (Elt Ideal) (((0 : Dev Cert.ModIdeal.nD).tc : Thread Cert.ModIdeal.nD Cert.ModIdeal.τ).loc Cert.ModIdeal.main_v0)),
      θ_run (Cert.GatherModIdeal.defs (F := Ideal)) (onTc (τ := Cert.GatherModIdeal.τ) (Cert.GatherModIdeal.main (F := Ideal))) ⟨m, fun _ => 0, g⟩ (fun r => ∀ c : Dev Cert.GatherModIdeal.nD,
          r.2.mem ((c.tc : Thread Cert.GatherModIdeal.nD Cert.GatherModIdeal.τ).loc Cert.GatherModIdeal.main_v1) = v0
          ∧ r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ θ_run (Cert.ModIdeal.defs (F := Ideal)) (onTc (τ := Cert.ModIdeal.τ) (Cert.ModIdeal.main (F := Ideal))) ⟨m', fun _ => 0, g'⟩ (fun r =>
          r.2.mem (((0 : Dev Cert.ModIdeal.nD).tc : Thread Cert.ModIdeal.nD Cert.ModIdeal.τ).loc Cert.ModIdeal.main_v0) = v0
          ∧ r.2.mem (((0 : Dev Cert.ModIdeal.nD).tc : Thread Cert.ModIdeal.nD Cert.ModIdeal.τ).loc Cert.ModIdeal.main_arg0) = m' (((0 : Dev Cert.ModIdeal.nD).tc : Thread Cert.ModIdeal.nD Cert.ModIdeal.τ).loc Cert.ModIdeal.main_arg0))

def bitexact_GatherMod_Mod [hGatherMod : Cert.GatherMod.Facts] [hMod : Cert.Mod.Facts] : Prop :=
  ∀ (m : (ℓ : Loc Cert.GatherMod.nD Cert.GatherMod.τ Cert.GatherMod.sig) → Buf (Elt Bits) ℓ) (g : Dev Cert.GatherMod.nD → PrngReg)
    (m' : (ℓ : Loc Cert.Mod.nD Cert.Mod.τ Cert.Mod.sig) → Buf (Elt Bits) ℓ) (g' : Dev Cert.Mod.nD → PrngReg), Pre_GatherMod m →
    (∀ c : Dev Cert.GatherMod.nD,
      m ((c.tc : Thread Cert.GatherMod.nD Cert.GatherMod.τ).loc Cert.GatherMod.main_arg0) = Layout.block ⟨2, ![16, 384]⟩ ⟨2, ![128, 384]⟩ 0 8 c (m' (((0 : Dev Cert.Mod.nD).tc : Thread Cert.Mod.nD Cert.Mod.τ).loc Cert.Mod.main_arg0))) →
    ∃ (v0 : Buf (Elt Bits) (((0 : Dev Cert.Mod.nD).tc : Thread Cert.Mod.nD Cert.Mod.τ).loc Cert.Mod.main_v0)),
      θ_run (Cert.GatherMod.defs (F := Bits)) (onTc (τ := Cert.GatherMod.τ) (Cert.GatherMod.main (F := Bits))) ⟨m, fun _ => 0, g⟩ (fun r => ∀ c : Dev Cert.GatherMod.nD,
          r.2.mem ((c.tc : Thread Cert.GatherMod.nD Cert.GatherMod.τ).loc Cert.GatherMod.main_v1) = v0
          ∧ r.2.mem ((c.tc : Thread Cert.GatherMod.nD Cert.GatherMod.τ).loc Cert.GatherMod.main_arg0) = m ((c.tc : Thread Cert.GatherMod.nD Cert.GatherMod.τ).loc Cert.GatherMod.main_arg0))
      ∧ θ_run (Cert.Mod.defs (F := Bits)) (onTc (τ := Cert.Mod.τ) (Cert.Mod.main (F := Bits))) ⟨m', fun _ => 0, g'⟩ (fun r =>
          r.2.mem (((0 : Dev Cert.Mod.nD).tc : Thread Cert.Mod.nD Cert.Mod.τ).loc Cert.Mod.main_v0) = v0
          ∧ r.2.mem (((0 : Dev Cert.Mod.nD).tc : Thread Cert.Mod.nD Cert.Mod.τ).loc Cert.Mod.main_arg0) = m' (((0 : Dev Cert.Mod.nD).tc : Thread Cert.Mod.nD Cert.Mod.τ).loc Cert.Mod.main_arg0))

def preserves_GatherC_GatherCIdeal : Prop :=
  True

def algebraic_GatherCIdeal_CIdeal [hGatherCIdeal : Cert.GatherCIdeal.Facts] [hCIdeal : Cert.CIdeal.Facts] : Prop :=
  ∀ (m : (ℓ : Loc Cert.GatherCIdeal.nD Cert.GatherCIdeal.τ Cert.GatherCIdeal.sig) → Buf (Elt Ideal) ℓ) (g : Dev Cert.GatherCIdeal.nD → PrngReg)
    (m' : (ℓ : Loc Cert.CIdeal.nD Cert.CIdeal.τ Cert.CIdeal.sig) → Buf (Elt Ideal) ℓ) (g' : Dev Cert.CIdeal.nD → PrngReg), Pre_GatherCIdeal m →
    (∀ c : Dev Cert.GatherCIdeal.nD,
      m ((c.tc : Thread Cert.GatherCIdeal.nD Cert.GatherCIdeal.τ).loc Cert.GatherCIdeal.main_arg0) = Layout.block ⟨2, ![8, 128]⟩ ⟨2, ![64, 128]⟩ 0 8 c (m' (((0 : Dev Cert.CIdeal.nD).tc : Thread Cert.CIdeal.nD Cert.CIdeal.τ).loc Cert.CIdeal.main_arg0))) →
    ∃ (v0 : Buf (Elt Ideal) (((0 : Dev Cert.CIdeal.nD).tc : Thread Cert.CIdeal.nD Cert.CIdeal.τ).loc Cert.CIdeal.main_v0)),
      θ_run (Cert.GatherCIdeal.defs (F := Ideal)) (onTc (τ := Cert.GatherCIdeal.τ) (Cert.GatherCIdeal.main (F := Ideal))) ⟨m, fun _ => 0, g⟩ (fun r => ∀ c : Dev Cert.GatherCIdeal.nD,
          r.2.mem ((c.tc : Thread Cert.GatherCIdeal.nD Cert.GatherCIdeal.τ).loc Cert.GatherCIdeal.main_v1) = v0
          ∧ r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ θ_run (Cert.CIdeal.defs (F := Ideal)) (onTc (τ := Cert.CIdeal.τ) (Cert.CIdeal.main (F := Ideal))) ⟨m', fun _ => 0, g'⟩ (fun r =>
          r.2.mem (((0 : Dev Cert.CIdeal.nD).tc : Thread Cert.CIdeal.nD Cert.CIdeal.τ).loc Cert.CIdeal.main_v0) = v0
          ∧ r.2.mem (((0 : Dev Cert.CIdeal.nD).tc : Thread Cert.CIdeal.nD Cert.CIdeal.τ).loc Cert.CIdeal.main_arg0) = m' (((0 : Dev Cert.CIdeal.nD).tc : Thread Cert.CIdeal.nD Cert.CIdeal.τ).loc Cert.CIdeal.main_arg0))

def bitexact_GatherC_C [hGatherC : Cert.GatherC.Facts] [hC : Cert.C.Facts] : Prop :=
  ∀ (m : (ℓ : Loc Cert.GatherC.nD Cert.GatherC.τ Cert.GatherC.sig) → Buf (Elt Bits) ℓ) (g : Dev Cert.GatherC.nD → PrngReg)
    (m' : (ℓ : Loc Cert.C.nD Cert.C.τ Cert.C.sig) → Buf (Elt Bits) ℓ) (g' : Dev Cert.C.nD → PrngReg), Pre_GatherC m →
    (∀ c : Dev Cert.GatherC.nD,
      m ((c.tc : Thread Cert.GatherC.nD Cert.GatherC.τ).loc Cert.GatherC.main_arg0) = Layout.block ⟨2, ![8, 128]⟩ ⟨2, ![64, 128]⟩ 0 8 c (m' (((0 : Dev Cert.C.nD).tc : Thread Cert.C.nD Cert.C.τ).loc Cert.C.main_arg0))) →
    ∃ (v0 : Buf (Elt Bits) (((0 : Dev Cert.C.nD).tc : Thread Cert.C.nD Cert.C.τ).loc Cert.C.main_v0)),
      θ_run (Cert.GatherC.defs (F := Bits)) (onTc (τ := Cert.GatherC.τ) (Cert.GatherC.main (F := Bits))) ⟨m, fun _ => 0, g⟩ (fun r => ∀ c : Dev Cert.GatherC.nD,
          r.2.mem ((c.tc : Thread Cert.GatherC.nD Cert.GatherC.τ).loc Cert.GatherC.main_v1) = v0
          ∧ r.2.mem ((c.tc : Thread Cert.GatherC.nD Cert.GatherC.τ).loc Cert.GatherC.main_arg0) = m ((c.tc : Thread Cert.GatherC.nD Cert.GatherC.τ).loc Cert.GatherC.main_arg0))
      ∧ θ_run (Cert.C.defs (F := Bits)) (onTc (τ := Cert.C.τ) (Cert.C.main (F := Bits))) ⟨m', fun _ => 0, g'⟩ (fun r =>
          r.2.mem (((0 : Dev Cert.C.nD).tc : Thread Cert.C.nD Cert.C.τ).loc Cert.C.main_v0) = v0
          ∧ r.2.mem (((0 : Dev Cert.C.nD).tc : Thread Cert.C.nD Cert.C.τ).loc Cert.C.main_arg0) = m' (((0 : Dev Cert.C.nD).tc : Thread Cert.C.nD Cert.C.τ).loc Cert.C.main_arg0))

def preserves_SumSmall_SumSmallIdeal : Prop :=
  True

def algebraic_SumSmallIdeal_TotalIdeal [hSumSmallIdeal : Cert.SumSmallIdeal.Facts] [hTotalIdeal : Cert.TotalIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.TotalIdeal.nD Cert.TotalIdeal.τ Cert.TotalIdeal.sig) → Buf (Elt Ideal) ℓ) (g' : Dev Cert.TotalIdeal.nD → PrngReg), Pre_SumSmallIdeal m →
    (∀ c : Dev Cert.SumSmallIdeal.nD,
      m' ((c.tc : Thread Cert.TotalIdeal.nD Cert.TotalIdeal.τ).loc Cert.TotalIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.TotalIdeal.defs (F := Ideal)) (onTc (τ := Cert.TotalIdeal.τ) (Cert.TotalIdeal.main (F := Ideal))) ⟨m', fun _ => 0, g'⟩ (fun r => ∀ c : Dev Cert.TotalIdeal.nD,
          r.2.mem ((c.tc : Thread Cert.TotalIdeal.nD Cert.TotalIdeal.τ).loc Cert.TotalIdeal.main_v0) = v0 c
          ∧ r.2.mem ((c.tc : Thread Cert.TotalIdeal.nD Cert.TotalIdeal.τ).loc Cert.TotalIdeal.main_arg0) = m' ((c.tc : Thread Cert.TotalIdeal.nD Cert.TotalIdeal.τ).loc Cert.TotalIdeal.main_arg0))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_StepInIdeal [hAdamInIdeal : Cert.AdamInIdeal.Facts] [hStepInIdeal : Cert.StepInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.StepInIdeal.nD Cert.StepInIdeal.τ Cert.StepInIdeal.sig) → Buf (Elt Ideal) ℓ) (g' : Dev Cert.StepInIdeal.nD → PrngReg), Pre_AdamInIdeal m →
    (∀ c : Dev Cert.AdamInIdeal.nD,
      m' ((c.tc : Thread Cert.StepInIdeal.nD Cert.StepInIdeal.τ).loc Cert.StepInIdeal.main_arg0) = m ((c.tc : Thread Cert.AdamInIdeal.nD Cert.AdamInIdeal.τ).loc Cert.AdamInIdeal.main_arg0)
      ∧ m' ((c.tc : Thread Cert.StepInIdeal.nD Cert.StepInIdeal.τ).loc Cert.StepInIdeal.main_arg1) = m ((c.tc : Thread Cert.AdamInIdeal.nD Cert.AdamInIdeal.τ).loc Cert.AdamInIdeal.main_arg1)
      ∧ m' ((c.tc : Thread Cert.StepInIdeal.nD Cert.StepInIdeal.τ).loc Cert.StepInIdeal.main_arg2) = m ((c.tc : Thread Cert.AdamInIdeal.nD Cert.AdamInIdeal.τ).loc Cert.AdamInIdeal.main_arg2)
      ∧ m' ((c.tc : Thread Cert.StepInIdeal.nD Cert.StepInIdeal.τ).loc Cert.StepInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.StepInIdeal.defs (F := Ideal)) (onTc (τ := Cert.StepInIdeal.τ) (Cert.StepInIdeal.main (F := Ideal))) ⟨m', fun _ => 0, g'⟩ (fun r => ∀ c : Dev Cert.StepInIdeal.nD,
          r.2.mem ((c.tc : Thread Cert.StepInIdeal.nD Cert.StepInIdeal.τ).loc Cert.StepInIdeal.main_v1) = v0 c
          ∧ r.2.mem ((c.tc : Thread Cert.StepInIdeal.nD Cert.StepInIdeal.τ).loc Cert.StepInIdeal.main_v25) = v1 c
          ∧ r.2.mem ((c.tc : Thread Cert.StepInIdeal.nD Cert.StepInIdeal.τ).loc Cert.StepInIdeal.main_v6) = v2 c
          ∧ r.2.mem ((c.tc : Thread Cert.StepInIdeal.nD Cert.StepInIdeal.τ).loc Cert.StepInIdeal.main_v12) = v3 c
          ∧ r.2.mem ((c.tc : Thread Cert.StepInIdeal.nD Cert.StepInIdeal.τ).loc Cert.StepInIdeal.main_arg0) = m' ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m' ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m' ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m' ((c.tc : Thread Cert.StepInIdeal.nD Cert.StepInIdeal.τ).loc Cert.StepInIdeal.main_arg3))

def preserves_AdamGlu_AdamGluIdeal : Prop :=
  IdealRules.named_const.Statement Cert.AdamGluIdeal.κ "c1" .f32 0x3FC48605#32 ((8388608 / 5463681 : ℝ) : EReal)
  ∧ IdealRules.named_const.Statement Cert.AdamGluIdeal.κ "c2" .f32 0x42C8E6D3#32 ((268435456 / 2672307 : ℝ) : EReal)

def algebraic_AdamGluIdeal_StepGluIdeal [hAdamGluIdeal : Cert.AdamGluIdeal.Facts] [hStepGluIdeal : Cert.StepGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.StepGluIdeal.nD Cert.StepGluIdeal.τ Cert.StepGluIdeal.sig) → Buf (Elt Ideal) ℓ) (g' : Dev Cert.StepGluIdeal.nD → PrngReg), Pre_AdamGluIdeal m →
    (∀ c : Dev Cert.AdamGluIdeal.nD,
      m' ((c.tc : Thread Cert.StepGluIdeal.nD Cert.StepGluIdeal.τ).loc Cert.StepGluIdeal.main_arg0) = m ((c.tc : Thread Cert.AdamGluIdeal.nD Cert.AdamGluIdeal.τ).loc Cert.AdamGluIdeal.main_arg0)
      ∧ m' ((c.tc : Thread Cert.StepGluIdeal.nD Cert.StepGluIdeal.τ).loc Cert.StepGluIdeal.main_arg1) = m ((c.tc : Thread Cert.AdamGluIdeal.nD Cert.AdamGluIdeal.τ).loc Cert.AdamGluIdeal.main_arg1)
      ∧ m' ((c.tc : Thread Cert.StepGluIdeal.nD Cert.StepGluIdeal.τ).loc Cert.StepGluIdeal.main_arg2) = m ((c.tc : Thread Cert.AdamGluIdeal.nD Cert.AdamGluIdeal.τ).loc Cert.AdamGluIdeal.main_arg2)
      ∧ m' ((c.tc : Thread Cert.StepGluIdeal.nD Cert.StepGluIdeal.τ).loc Cert.StepGluIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.StepGluIdeal.defs (F := Ideal)) (onTc (τ := Cert.StepGluIdeal.τ) (Cert.StepGluIdeal.main (F := Ideal))) ⟨m', fun _ => 0, g'⟩ (fun r => ∀ c : Dev Cert.StepGluIdeal.nD,
          r.2.mem ((c.tc : Thread Cert.StepGluIdeal.nD Cert.StepGluIdeal.τ).loc Cert.StepGluIdeal.main_v1) = v0 c
          ∧ r.2.mem ((c.tc : Thread Cert.StepGluIdeal.nD Cert.StepGluIdeal.τ).loc Cert.StepGluIdeal.main_v25) = v1 c
          ∧ r.2.mem ((c.tc : Thread Cert.StepGluIdeal.nD Cert.StepGluIdeal.τ).loc Cert.StepGluIdeal.main_v6) = v2 c
          ∧ r.2.mem ((c.tc : Thread Cert.StepGluIdeal.nD Cert.StepGluIdeal.τ).loc Cert.StepGluIdeal.main_v12) = v3 c
          ∧ r.2.mem ((c.tc : Thread Cert.StepGluIdeal.nD Cert.StepGluIdeal.τ).loc Cert.StepGluIdeal.main_arg0) = m' ((c.tc : Thread Cert.StepGluIdeal.nD Cert.StepGluIdeal.τ).loc Cert.StepGluIdeal.main_arg0)
          ∧ r.2.mem ((c.tc : Thread Cert.StepGluIdeal.nD Cert.StepGluIdeal.τ).loc Cert.StepGluIdeal.main_arg1) = m' ((c.tc : Thread Cert.StepGluIdeal.nD Cert.StepGluIdeal.τ).loc Cert.StepGluIdeal.main_arg1)
          ∧ r.2.mem ((c.tc : Thread Cert.StepGluIdeal.nD Cert.StepGluIdeal.τ).loc Cert.StepGluIdeal.main_arg2) = m' ((c.tc : Thread Cert.StepGluIdeal.nD Cert.StepGluIdeal.τ).loc Cert.StepGluIdeal.main_arg2)
          ∧ r.2.mem ((c.tc : Thread Cert.StepGluIdeal.nD Cert.StepGluIdeal.τ).loc Cert.StepGluIdeal.main_arg3) = m' ((c.tc : Thread Cert.StepGluIdeal.nD Cert.StepGluIdeal.τ).loc Cert.StepGluIdeal.main_arg3))

def preserves_AdamBranch_AdamBranchIdeal : Prop :=
  IdealRules.named_const.Statement Cert.AdamBranchIdeal.κ "c1" .f32 0x3FC48605#32 ((8388608 / 5463681 : ℝ) : EReal)
  ∧ IdealRules.named_const.Statement Cert.AdamBranchIdeal.κ "c2" .f32 0x42C8E6D3#32 ((268435456 / 2672307 : ℝ) : EReal)

def algebraic_AdamBranchIdeal_StepBranchIdeal [hAdamBranchIdeal : Cert.AdamBranchIdeal.Facts] [hStepBranchIdeal : Cert.StepBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.StepBranchIdeal.nD Cert.StepBranchIdeal.τ Cert.StepBranchIdeal.sig) → Buf (Elt Ideal) ℓ) (g' : Dev Cert.StepBranchIdeal.nD → PrngReg), Pre_AdamBranchIdeal m →
    (∀ c : Dev Cert.AdamBranchIdeal.nD,
      m' ((c.tc : Thread Cert.StepBranchIdeal.nD Cert.StepBranchIdeal.τ).loc Cert.StepBranchIdeal.main_arg0) = m ((c.tc : Thread Cert.AdamBranchIdeal.nD Cert.AdamBranchIdeal.τ).loc Cert.AdamBranchIdeal.main_arg0)
      ∧ m' ((c.tc : Thread Cert.StepBranchIdeal.nD Cert.StepBranchIdeal.τ).loc Cert.StepBranchIdeal.main_arg1) = m ((c.tc : Thread Cert.AdamBranchIdeal.nD Cert.AdamBranchIdeal.τ).loc Cert.AdamBranchIdeal.main_arg1)
      ∧ m' ((c.tc : Thread Cert.StepBranchIdeal.nD Cert.StepBranchIdeal.τ).loc Cert.StepBranchIdeal.main_arg2) = m ((c.tc : Thread Cert.AdamBranchIdeal.nD Cert.AdamBranchIdeal.τ).loc Cert.AdamBranchIdeal.main_arg2)
      ∧ m' ((c.tc : Thread Cert.StepBranchIdeal.nD Cert.StepBranchIdeal.τ).loc Cert.StepBranchIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.StepBranchIdeal.defs (F := Ideal)) (onTc (τ := Cert.StepBranchIdeal.τ) (Cert.StepBranchIdeal.main (F := Ideal))) ⟨m', fun _ => 0, g'⟩ (fun r => ∀ c : Dev Cert.StepBranchIdeal.nD,
          r.2.mem ((c.tc : Thread Cert.StepBranchIdeal.nD Cert.StepBranchIdeal.τ).loc Cert.StepBranchIdeal.main_v1) = v0 c
          ∧ r.2.mem ((c.tc : Thread Cert.StepBranchIdeal.nD Cert.StepBranchIdeal.τ).loc Cert.StepBranchIdeal.main_v25) = v1 c
          ∧ r.2.mem ((c.tc : Thread Cert.StepBranchIdeal.nD Cert.StepBranchIdeal.τ).loc Cert.StepBranchIdeal.main_v6) = v2 c
          ∧ r.2.mem ((c.tc : Thread Cert.StepBranchIdeal.nD Cert.StepBranchIdeal.τ).loc Cert.StepBranchIdeal.main_v12) = v3 c
          ∧ r.2.mem ((c.tc : Thread Cert.StepBranchIdeal.nD Cert.StepBranchIdeal.τ).loc Cert.StepBranchIdeal.main_arg0) = m' ((c.tc : Thread Cert.StepBranchIdeal.nD Cert.StepBranchIdeal.τ).loc Cert.StepBranchIdeal.main_arg0)
          ∧ r.2.mem ((c.tc : Thread Cert.StepBranchIdeal.nD Cert.StepBranchIdeal.τ).loc Cert.StepBranchIdeal.main_arg1) = m' ((c.tc : Thread Cert.StepBranchIdeal.nD Cert.StepBranchIdeal.τ).loc Cert.StepBranchIdeal.main_arg1)
          ∧ r.2.mem ((c.tc : Thread Cert.StepBranchIdeal.nD Cert.StepBranchIdeal.τ).loc Cert.StepBranchIdeal.main_arg2) = m' ((c.tc : Thread Cert.StepBranchIdeal.nD Cert.StepBranchIdeal.τ).loc Cert.StepBranchIdeal.main_arg2)
          ∧ r.2.mem ((c.tc : Thread Cert.StepBranchIdeal.nD Cert.StepBranchIdeal.τ).loc Cert.StepBranchIdeal.main_arg3) = m' ((c.tc : Thread Cert.StepBranchIdeal.nD Cert.StepBranchIdeal.τ).loc Cert.StepBranchIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_StepOutIdeal [hAdamOutIdeal : Cert.AdamOutIdeal.Facts] [hStepOutIdeal : Cert.StepOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.StepOutIdeal.nD Cert.StepOutIdeal.τ Cert.StepOutIdeal.sig) → Buf (Elt Ideal) ℓ) (g' : Dev Cert.StepOutIdeal.nD → PrngReg), Pre_AdamOutIdeal m →
    (∀ c : Dev Cert.AdamOutIdeal.nD,
      m' ((c.tc : Thread Cert.StepOutIdeal.nD Cert.StepOutIdeal.τ).loc Cert.StepOutIdeal.main_arg0) = m ((c.tc : Thread Cert.AdamOutIdeal.nD Cert.AdamOutIdeal.τ).loc Cert.AdamOutIdeal.main_arg0)
      ∧ m' ((c.tc : Thread Cert.StepOutIdeal.nD Cert.StepOutIdeal.τ).loc Cert.StepOutIdeal.main_arg1) = m ((c.tc : Thread Cert.AdamOutIdeal.nD Cert.AdamOutIdeal.τ).loc Cert.AdamOutIdeal.main_arg1)
      ∧ m' ((c.tc : Thread Cert.StepOutIdeal.nD Cert.StepOutIdeal.τ).loc Cert.StepOutIdeal.main_arg2) = m ((c.tc : Thread Cert.AdamOutIdeal.nD Cert.AdamOutIdeal.τ).loc Cert.AdamOutIdeal.main_arg2)
      ∧ m' ((c.tc : Thread Cert.StepOutIdeal.nD Cert.StepOutIdeal.τ).loc Cert.StepOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.StepOutIdeal.defs (F := Ideal)) (onTc (τ := Cert.StepOutIdeal.τ) (Cert.StepOutIdeal.main (F := Ideal))) ⟨m', fun _ => 0, g'⟩ (fun r => ∀ c : Dev Cert.StepOutIdeal.nD,
          r.2.mem ((c.tc : Thread Cert.StepOutIdeal.nD Cert.StepOutIdeal.τ).loc Cert.StepOutIdeal.main_v1) = v0 c
          ∧ r.2.mem ((c.tc : Thread Cert.StepOutIdeal.nD Cert.StepOutIdeal.τ).loc Cert.StepOutIdeal.main_v25) = v1 c
          ∧ r.2.mem ((c.tc : Thread Cert.StepOutIdeal.nD Cert.StepOutIdeal.τ).loc Cert.StepOutIdeal.main_v6) = v2 c
          ∧ r.2.mem ((c.tc : Thread Cert.StepOutIdeal.nD Cert.StepOutIdeal.τ).loc Cert.StepOutIdeal.main_v12) = v3 c
          ∧ r.2.mem ((c.tc : Thread Cert.StepOutIdeal.nD Cert.StepOutIdeal.τ).loc Cert.StepOutIdeal.main_arg0) = m' ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m' ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m' ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m' ((c.tc : Thread Cert.StepOutIdeal.nD Cert.StepOutIdeal.τ).loc Cert.StepOutIdeal.main_arg3))

def preserves_AdamAda_AdamAdaIdeal : Prop :=
  IdealRules.named_const.Statement Cert.AdamAdaIdeal.κ "c1" .f32 0x3FC48605#32 ((8388608 / 5463681 : ℝ) : EReal)
  ∧ IdealRules.named_const.Statement Cert.AdamAdaIdeal.κ "c2" .f32 0x42C8E6D3#32 ((268435456 / 2672307 : ℝ) : EReal)

def algebraic_AdamAdaIdeal_StepAdaIdeal [hAdamAdaIdeal : Cert.AdamAdaIdeal.Facts] [hStepAdaIdeal : Cert.StepAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.StepAdaIdeal.nD Cert.StepAdaIdeal.τ Cert.StepAdaIdeal.sig) → Buf (Elt Ideal) ℓ) (g' : Dev Cert.StepAdaIdeal.nD → PrngReg), Pre_AdamAdaIdeal m →
    (∀ c : Dev Cert.AdamAdaIdeal.nD,
      m' ((c.tc : Thread Cert.StepAdaIdeal.nD Cert.StepAdaIdeal.τ).loc Cert.StepAdaIdeal.main_arg0) = m ((c.tc : Thread Cert.AdamAdaIdeal.nD Cert.AdamAdaIdeal.τ).loc Cert.AdamAdaIdeal.main_arg0)
      ∧ m' ((c.tc : Thread Cert.StepAdaIdeal.nD Cert.StepAdaIdeal.τ).loc Cert.StepAdaIdeal.main_arg1) = m ((c.tc : Thread Cert.AdamAdaIdeal.nD Cert.AdamAdaIdeal.τ).loc Cert.AdamAdaIdeal.main_arg1)
      ∧ m' ((c.tc : Thread Cert.StepAdaIdeal.nD Cert.StepAdaIdeal.τ).loc Cert.StepAdaIdeal.main_arg2) = m ((c.tc : Thread Cert.AdamAdaIdeal.nD Cert.AdamAdaIdeal.τ).loc Cert.AdamAdaIdeal.main_arg2)
      ∧ m' ((c.tc : Thread Cert.StepAdaIdeal.nD Cert.StepAdaIdeal.τ).loc Cert.StepAdaIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.StepAdaIdeal.defs (F := Ideal)) (onTc (τ := Cert.StepAdaIdeal.τ) (Cert.StepAdaIdeal.main (F := Ideal))) ⟨m', fun _ => 0, g'⟩ (fun r => ∀ c : Dev Cert.StepAdaIdeal.nD,
          r.2.mem ((c.tc : Thread Cert.StepAdaIdeal.nD Cert.StepAdaIdeal.τ).loc Cert.StepAdaIdeal.main_v0) = v0 c
          ∧ r.2.mem ((c.tc : Thread Cert.StepAdaIdeal.nD Cert.StepAdaIdeal.τ).loc Cert.StepAdaIdeal.main_v24) = v1 c
          ∧ r.2.mem ((c.tc : Thread Cert.StepAdaIdeal.nD Cert.StepAdaIdeal.τ).loc Cert.StepAdaIdeal.main_v5) = v2 c
          ∧ r.2.mem ((c.tc : Thread Cert.StepAdaIdeal.nD Cert.StepAdaIdeal.τ).loc Cert.StepAdaIdeal.main_v11) = v3 c
          ∧ r.2.mem ((c.tc : Thread Cert.StepAdaIdeal.nD Cert.StepAdaIdeal.τ).loc Cert.StepAdaIdeal.main_arg0) = m' ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m' ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m' ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m' ((c.tc : Thread Cert.StepAdaIdeal.nD Cert.StepAdaIdeal.τ).loc Cert.StepAdaIdeal.main_arg3))

def preserves_AdamPack_AdamPackIdeal : Prop :=
  IdealRules.named_const.Statement Cert.AdamPackIdeal.κ "c1" .f32 0x3FC48605#32 ((8388608 / 5463681 : ℝ) : EReal)
  ∧ IdealRules.named_const.Statement Cert.AdamPackIdeal.κ "c2" .f32 0x42C8E6D3#32 ((268435456 / 2672307 : ℝ) : EReal)

def algebraic_AdamPackIdeal_StepPackIdeal [hAdamPackIdeal : Cert.AdamPackIdeal.Facts] [hStepPackIdeal : Cert.StepPackIdeal.Facts] : Prop :=
  ∀ (m : (ℓ : Loc Cert.AdamPackIdeal.nD Cert.AdamPackIdeal.τ Cert.AdamPackIdeal.sig) → Buf (Elt Ideal) ℓ) (g : Dev Cert.AdamPackIdeal.nD → PrngReg)
    (m' : (ℓ : Loc Cert.StepPackIdeal.nD Cert.StepPackIdeal.τ Cert.StepPackIdeal.sig) → Buf (Elt Ideal) ℓ) (g' : Dev Cert.StepPackIdeal.nD → PrngReg), Pre_AdamPackIdeal m →
    (∀ c : Dev Cert.AdamPackIdeal.nD,
      m' ((c.tc : Thread Cert.StepPackIdeal.nD Cert.StepPackIdeal.τ).loc Cert.StepPackIdeal.main_arg0) = m ((c.tc : Thread Cert.AdamPackIdeal.nD Cert.AdamPackIdeal.τ).loc Cert.AdamPackIdeal.main_arg0)
      ∧ m' ((c.tc : Thread Cert.StepPackIdeal.nD Cert.StepPackIdeal.τ).loc Cert.StepPackIdeal.main_arg1) = m ((c.tc : Thread Cert.AdamPackIdeal.nD Cert.AdamPackIdeal.τ).loc Cert.AdamPackIdeal.main_arg1)
      ∧ m' ((c.tc : Thread Cert.StepPackIdeal.nD Cert.StepPackIdeal.τ).loc Cert.StepPackIdeal.main_arg2) = m ((c.tc : Thread Cert.AdamPackIdeal.nD Cert.AdamPackIdeal.τ).loc Cert.AdamPackIdeal.main_arg2)
      ∧ m' ((c.tc : Thread Cert.StepPackIdeal.nD Cert.StepPackIdeal.τ).loc Cert.StepPackIdeal.main_arg3) = m ((c.tc : Thread Cert.AdamPackIdeal.nD Cert.AdamPackIdeal.τ).loc Cert.AdamPackIdeal.main_arg3)) →
    ∃ (v0 : (c : Dev Cert.AdamPackIdeal.nD) → Buf (Elt Ideal) ((c.tc : Thread Cert.AdamPackIdeal.nD Cert.AdamPackIdeal.τ).loc Cert.AdamPackIdeal.main_v0_0)) (v1 : (c : Dev Cert.AdamPackIdeal.nD) → Buf (Elt Ideal) ((c.tc : Thread Cert.AdamPackIdeal.nD Cert.AdamPackIdeal.τ).loc Cert.AdamPackIdeal.main_v0_1)) (v2 : (c : Dev Cert.AdamPackIdeal.nD) → Buf (Elt Ideal) ((c.tc : Thread Cert.AdamPackIdeal.nD Cert.AdamPackIdeal.τ).loc Cert.AdamPackIdeal.main_v0_2)) (v3 : (c : Dev Cert.AdamPackIdeal.nD) → Buf (Elt Ideal) ((c.tc : Thread Cert.AdamPackIdeal.nD Cert.AdamPackIdeal.τ).loc Cert.AdamPackIdeal.main_v0_3)),
      θ_run (Cert.AdamPackIdeal.defs (F := Ideal)) (onTc (τ := Cert.AdamPackIdeal.τ) (Cert.AdamPackIdeal.main (F := Ideal))) ⟨m, fun _ => 0, g⟩ (fun r => ∀ c : Dev Cert.AdamPackIdeal.nD,
          r.2.mem ((c.tc : Thread Cert.AdamPackIdeal.nD Cert.AdamPackIdeal.τ).loc Cert.AdamPackIdeal.main_v0_0) = v0 c
          ∧ r.2.mem ((c.tc : Thread Cert.AdamPackIdeal.nD Cert.AdamPackIdeal.τ).loc Cert.AdamPackIdeal.main_v0_1) = v1 c
          ∧ r.2.mem ((c.tc : Thread Cert.AdamPackIdeal.nD Cert.AdamPackIdeal.τ).loc Cert.AdamPackIdeal.main_v0_2) = v2 c
          ∧ r.2.mem ((c.tc : Thread Cert.AdamPackIdeal.nD Cert.AdamPackIdeal.τ).loc Cert.AdamPackIdeal.main_v0_3) = v3 c
          ∧ r.2.mem ((c.tc : Thread Cert.AdamPackIdeal.nD Cert.AdamPackIdeal.τ).loc Cert.AdamPackIdeal.main_arg0) = m ((c.tc : Thread Cert.AdamPackIdeal.nD Cert.AdamPackIdeal.τ).loc Cert.AdamPackIdeal.main_arg0)
          ∧ r.2.mem ((c.tc : Thread Cert.AdamPackIdeal.nD Cert.AdamPackIdeal.τ).loc Cert.AdamPackIdeal.main_arg1) = m ((c.tc : Thread Cert.AdamPackIdeal.nD Cert.AdamPackIdeal.τ).loc Cert.AdamPackIdeal.main_arg1)
          ∧ r.2.mem ((c.tc : Thread Cert.AdamPackIdeal.nD Cert.AdamPackIdeal.τ).loc Cert.AdamPackIdeal.main_arg2) = m ((c.tc : Thread Cert.AdamPackIdeal.nD Cert.AdamPackIdeal.τ).loc Cert.AdamPackIdeal.main_arg2)
          ∧ r.2.mem ((c.tc : Thread Cert.AdamPackIdeal.nD Cert.AdamPackIdeal.τ).loc Cert.AdamPackIdeal.main_arg3) = m ((c.tc : Thread Cert.AdamPackIdeal.nD Cert.AdamPackIdeal.τ).loc Cert.AdamPackIdeal.main_arg3))
      ∧ θ_run (Cert.StepPackIdeal.defs (F := Ideal)) (onTc (τ := Cert.StepPackIdeal.τ) (Cert.StepPackIdeal.main (F := Ideal))) ⟨m', fun _ => 0, g'⟩ (fun r => ∀ c : Dev Cert.StepPackIdeal.nD,
          r.2.mem ((c.tc : Thread Cert.StepPackIdeal.nD Cert.StepPackIdeal.τ).loc Cert.StepPackIdeal.main_v0) = v0 c
          ∧ r.2.mem ((c.tc : Thread Cert.StepPackIdeal.nD Cert.StepPackIdeal.τ).loc Cert.StepPackIdeal.main_v24) = v1 c
          ∧ r.2.mem ((c.tc : Thread Cert.StepPackIdeal.nD Cert.StepPackIdeal.τ).loc Cert.StepPackIdeal.main_v5) = v2 c
          ∧ r.2.mem ((c.tc : Thread Cert.StepPackIdeal.nD Cert.StepPackIdeal.τ).loc Cert.StepPackIdeal.main_v11) = v3 c
          ∧ r.2.mem ((c.tc : Thread Cert.StepPackIdeal.nD Cert.StepPackIdeal.τ).loc Cert.StepPackIdeal.main_arg0) = m' ((c.tc : Thread Cert.StepPackIdeal.nD Cert.StepPackIdeal.τ).loc Cert.StepPackIdeal.main_arg0)
          ∧ r.2.mem ((c.tc : Thread Cert.StepPackIdeal.nD Cert.StepPackIdeal.τ).loc Cert.StepPackIdeal.main_arg1) = m' ((c.tc : Thread Cert.StepPackIdeal.nD Cert.StepPackIdeal.τ).loc Cert.StepPackIdeal.main_arg1)
          ∧ r.2.mem ((c.tc : Thread Cert.StepPackIdeal.nD Cert.StepPackIdeal.τ).loc Cert.StepPackIdeal.main_arg2) = m' ((c.tc : Thread Cert.StepPackIdeal.nD Cert.StepPackIdeal.τ).loc Cert.StepPackIdeal.main_arg2)
          ∧ r.2.mem ((c.tc : Thread Cert.StepPackIdeal.nD Cert.StepPackIdeal.τ).loc Cert.StepPackIdeal.main_arg3) = m' ((c.tc : Thread Cert.StepPackIdeal.nD Cert.StepPackIdeal.τ).loc Cert.StepPackIdeal.main_arg3))

def preserves_MmAdaFwd_MmAdaFwdIdeal : Prop :=
  True

def algebraic_MmAdaFwdIdeal_TimesAdaFwdIdeal [hMmAdaFwdIdeal : Cert.MmAdaFwdIdeal.Facts] [hTimesAdaFwdIdeal : Cert.TimesAdaFwdIdeal.Facts] : Prop :=
  ∀ (m : (ℓ : Loc Cert.MmAdaFwdIdeal.nD Cert.MmAdaFwdIdeal.τ Cert.MmAdaFwdIdeal.sig) → Buf (Elt Ideal) ℓ) (g : Dev Cert.MmAdaFwdIdeal.nD → PrngReg)
    (m' : (ℓ : Loc Cert.TimesAdaFwdIdeal.nD Cert.TimesAdaFwdIdeal.τ Cert.TimesAdaFwdIdeal.sig) → Buf (Elt Ideal) ℓ) (g' : Dev Cert.TimesAdaFwdIdeal.nD → PrngReg), Pre_MmAdaFwdIdeal m →
    (∀ c : Dev Cert.MmAdaFwdIdeal.nD,
      m' ((c.tc : Thread Cert.TimesAdaFwdIdeal.nD Cert.TimesAdaFwdIdeal.τ).loc Cert.TimesAdaFwdIdeal.main_arg0) = m ((c.tc : Thread Cert.MmAdaFwdIdeal.nD Cert.MmAdaFwdIdeal.τ).loc Cert.MmAdaFwdIdeal.main_arg0)
      ∧ m' ((c.tc : Thread Cert.TimesAdaFwdIdeal.nD Cert.TimesAdaFwdIdeal.τ).loc Cert.TimesAdaFwdIdeal.main_arg1) = m ((c.tc : Thread Cert.MmAdaFwdIdeal.nD Cert.MmAdaFwdIdeal.τ).loc Cert.MmAdaFwdIdeal.main_arg1)) →
    ∃ (v0 : (c : Dev Cert.MmAdaFwdIdeal.nD) → Buf (Elt Ideal) ((c.tc : Thread Cert.MmAdaFwdIdeal.nD Cert.MmAdaFwdIdeal.τ).loc Cert.MmAdaFwdIdeal.main_v0)),
      θ_run (Cert.MmAdaFwdIdeal.defs (F := Ideal)) (onTc (τ := Cert.MmAdaFwdIdeal.τ) (Cert.MmAdaFwdIdeal.main (F := Ideal))) ⟨m, fun _ => 0, g⟩ (fun r => ∀ c : Dev Cert.MmAdaFwdIdeal.nD,
          r.2.mem ((c.tc : Thread Cert.MmAdaFwdIdeal.nD Cert.MmAdaFwdIdeal.τ).loc Cert.MmAdaFwdIdeal.main_v0) = v0 c
          ∧ r.2.mem ((c.tc : Thread Cert.MmAdaFwdIdeal.nD Cert.MmAdaFwdIdeal.τ).loc Cert.MmAdaFwdIdeal.main_arg0) = m ((c.tc : Thread Cert.MmAdaFwdIdeal.nD Cert.MmAdaFwdIdeal.τ).loc Cert.MmAdaFwdIdeal.main_arg0)
          ∧ r.2.mem ((c.tc : Thread Cert.MmAdaFwdIdeal.nD Cert.MmAdaFwdIdeal.τ).loc Cert.MmAdaFwdIdeal.main_arg1) = m ((c.tc : Thread Cert.MmAdaFwdIdeal.nD Cert.MmAdaFwdIdeal.τ).loc Cert.MmAdaFwdIdeal.main_arg1))
      ∧ θ_run (Cert.TimesAdaFwdIdeal.defs (F := Ideal)) (onTc (τ := Cert.TimesAdaFwdIdeal.τ) (Cert.TimesAdaFwdIdeal.main (F := Ideal))) ⟨m', fun _ => 0, g'⟩ (fun r => ∀ c : Dev Cert.TimesAdaFwdIdeal.nD,
          r.2.mem ((c.tc : Thread Cert.TimesAdaFwdIdeal.nD Cert.TimesAdaFwdIdeal.τ).loc Cert.TimesAdaFwdIdeal.main_v0) = v0 c
          ∧ r.2.mem ((c.tc : Thread Cert.TimesAdaFwdIdeal.nD Cert.TimesAdaFwdIdeal.τ).loc Cert.TimesAdaFwdIdeal.main_arg0) = m' ((c.tc : Thread Cert.TimesAdaFwdIdeal.nD Cert.TimesAdaFwdIdeal.τ).loc Cert.TimesAdaFwdIdeal.main_arg0)
          ∧ r.2.mem ((c.tc : Thread Cert.TimesAdaFwdIdeal.nD Cert.TimesAdaFwdIdeal.τ).loc Cert.TimesAdaFwdIdeal.main_arg1) = m' ((c.tc : Thread Cert.TimesAdaFwdIdeal.nD Cert.TimesAdaFwdIdeal.τ).loc Cert.TimesAdaFwdIdeal.main_arg1))

def preserves_MmProjA_MmProjAIdeal : Prop :=
  True

def algebraic_MmProjAIdeal_TimesProjAIdeal [hMmProjAIdeal : Cert.MmProjAIdeal.Facts] [hTimesProjAIdeal : Cert.TimesProjAIdeal.Facts] : Prop :=
  ∀ (m : (ℓ : Loc Cert.MmProjAIdeal.nD Cert.MmProjAIdeal.τ Cert.MmProjAIdeal.sig) → Buf (Elt Ideal) ℓ) (g : Dev Cert.MmProjAIdeal.nD → PrngReg)
    (m' : (ℓ : Loc Cert.TimesProjAIdeal.nD Cert.TimesProjAIdeal.τ Cert.TimesProjAIdeal.sig) → Buf (Elt Ideal) ℓ) (g' : Dev Cert.TimesProjAIdeal.nD → PrngReg), Pre_MmProjAIdeal m →
    (∀ c : Dev Cert.MmProjAIdeal.nD,
      m' ((c.tc : Thread Cert.TimesProjAIdeal.nD Cert.TimesProjAIdeal.τ).loc Cert.TimesProjAIdeal.main_arg0) = m ((c.tc : Thread Cert.MmProjAIdeal.nD Cert.MmProjAIdeal.τ).loc Cert.MmProjAIdeal.main_arg0)
      ∧ m' ((c.tc : Thread Cert.TimesProjAIdeal.nD Cert.TimesProjAIdeal.τ).loc Cert.TimesProjAIdeal.main_arg1) = m ((c.tc : Thread Cert.MmProjAIdeal.nD Cert.MmProjAIdeal.τ).loc Cert.MmProjAIdeal.main_arg1)) →
    ∃ (v0 : (c : Dev Cert.MmProjAIdeal.nD) → Buf (Elt Ideal) ((c.tc : Thread Cert.MmProjAIdeal.nD Cert.MmProjAIdeal.τ).loc Cert.MmProjAIdeal.main_v0)),
      θ_run (Cert.MmProjAIdeal.defs (F := Ideal)) (onTc (τ := Cert.MmProjAIdeal.τ) (Cert.MmProjAIdeal.main (F := Ideal))) ⟨m, fun _ => 0, g⟩ (fun r => ∀ c : Dev Cert.MmProjAIdeal.nD,
          r.2.mem ((c.tc : Thread Cert.MmProjAIdeal.nD Cert.MmProjAIdeal.τ).loc Cert.MmProjAIdeal.main_v0) = v0 c
          ∧ r.2.mem ((c.tc : Thread Cert.MmProjAIdeal.nD Cert.MmProjAIdeal.τ).loc Cert.MmProjAIdeal.main_arg0) = m ((c.tc : Thread Cert.MmProjAIdeal.nD Cert.MmProjAIdeal.τ).loc Cert.MmProjAIdeal.main_arg0)
          ∧ r.2.mem ((c.tc : Thread Cert.MmProjAIdeal.nD Cert.MmProjAIdeal.τ).loc Cert.MmProjAIdeal.main_arg1) = m ((c.tc : Thread Cert.MmProjAIdeal.nD Cert.MmProjAIdeal.τ).loc Cert.MmProjAIdeal.main_arg1))
      ∧ θ_run (Cert.TimesProjAIdeal.defs (F := Ideal)) (onTc (τ := Cert.TimesProjAIdeal.τ) (Cert.TimesProjAIdeal.main (F := Ideal))) ⟨m', fun _ => 0, g'⟩ (fun r => ∀ c : Dev Cert.TimesProjAIdeal.nD,
          r.2.mem ((c.tc : Thread Cert.TimesProjAIdeal.nD Cert.TimesProjAIdeal.τ).loc Cert.TimesProjAIdeal.main_v2) = v0 c
          ∧ r.2.mem ((c.tc : Thread Cert.TimesProjAIdeal.nD Cert.TimesProjAIdeal.τ).loc Cert.TimesProjAIdeal.main_arg0) = m' ((c.tc : Thread Cert.TimesProjAIdeal.nD Cert.TimesProjAIdeal.τ).loc Cert.TimesProjAIdeal.main_arg0)
          ∧ r.2.mem ((c.tc : Thread Cert.TimesProjAIdeal.nD Cert.TimesProjAIdeal.τ).loc Cert.TimesProjAIdeal.main_arg1) = m' ((c.tc : Thread Cert.TimesProjAIdeal.nD Cert.TimesProjAIdeal.τ).loc Cert.TimesProjAIdeal.main_arg1))

def preserves_MmProjS_MmProjSIdeal : Prop :=
  True

def algebraic_MmProjSIdeal_TimesProjSIdeal [hMmProjSIdeal : Cert.MmProjSIdeal.Facts] [hTimesProjSIdeal : Cert.TimesProjSIdeal.Facts] : Prop :=
  ∀ (m : (ℓ : Loc Cert.MmProjSIdeal.nD Cert.MmProjSIdeal.τ Cert.MmProjSIdeal.sig) → Buf (Elt Ideal) ℓ) (g : Dev Cert.MmProjSIdeal.nD → PrngReg)
    (m' : (ℓ : Loc Cert.TimesProjSIdeal.nD Cert.TimesProjSIdeal.τ Cert.TimesProjSIdeal.sig) → Buf (Elt Ideal) ℓ) (g' : Dev Cert.TimesProjSIdeal.nD → PrngReg), Pre_MmProjSIdeal m →
    (∀ c : Dev Cert.MmProjSIdeal.nD,
      m' ((c.tc : Thread Cert.TimesProjSIdeal.nD Cert.TimesProjSIdeal.τ).loc Cert.TimesProjSIdeal.main_arg0) = m ((c.tc : Thread Cert.MmProjSIdeal.nD Cert.MmProjSIdeal.τ).loc Cert.MmProjSIdeal.main_arg0)
      ∧ m' ((c.tc : Thread Cert.TimesProjSIdeal.nD Cert.TimesProjSIdeal.τ).loc Cert.TimesProjSIdeal.main_arg1) = m ((c.tc : Thread Cert.MmProjSIdeal.nD Cert.MmProjSIdeal.τ).loc Cert.MmProjSIdeal.main_arg1)) →
    ∃ (v0 : (c : Dev Cert.MmProjSIdeal.nD) → Buf (Elt Ideal) ((c.tc : Thread Cert.MmProjSIdeal.nD Cert.MmProjSIdeal.τ).loc Cert.MmProjSIdeal.main_v0)),
      θ_run (Cert.MmProjSIdeal.defs (F := Ideal)) (onTc (τ := Cert.MmProjSIdeal.τ) (Cert.MmProjSIdeal.main (F := Ideal))) ⟨m, fun _ => 0, g⟩ (fun r => ∀ c : Dev Cert.MmProjSIdeal.nD,
          r.2.mem ((c.tc : Thread Cert.MmProjSIdeal.nD Cert.MmProjSIdeal.τ).loc Cert.MmProjSIdeal.main_v0) = v0 c
          ∧ r.2.mem ((c.tc : Thread Cert.MmProjSIdeal.nD Cert.MmProjSIdeal.τ).loc Cert.MmProjSIdeal.main_arg0) = m ((c.tc : Thread Cert.MmProjSIdeal.nD Cert.MmProjSIdeal.τ).loc Cert.MmProjSIdeal.main_arg0)
          ∧ r.2.mem ((c.tc : Thread Cert.MmProjSIdeal.nD Cert.MmProjSIdeal.τ).loc Cert.MmProjSIdeal.main_arg1) = m ((c.tc : Thread Cert.MmProjSIdeal.nD Cert.MmProjSIdeal.τ).loc Cert.MmProjSIdeal.main_arg1))
      ∧ θ_run (Cert.TimesProjSIdeal.defs (F := Ideal)) (onTc (τ := Cert.TimesProjSIdeal.τ) (Cert.TimesProjSIdeal.main (F := Ideal))) ⟨m', fun _ => 0, g'⟩ (fun r => ∀ c : Dev Cert.TimesProjSIdeal.nD,
          r.2.mem ((c.tc : Thread Cert.TimesProjSIdeal.nD Cert.TimesProjSIdeal.τ).loc Cert.TimesProjSIdeal.main_v2) = v0 c
          ∧ r.2.mem ((c.tc : Thread Cert.TimesProjSIdeal.nD Cert.TimesProjSIdeal.τ).loc Cert.TimesProjSIdeal.main_arg0) = m' ((c.tc : Thread Cert.TimesProjSIdeal.nD Cert.TimesProjSIdeal.τ).loc Cert.TimesProjSIdeal.main_arg0)
          ∧ r.2.mem ((c.tc : Thread Cert.TimesProjSIdeal.nD Cert.TimesProjSIdeal.τ).loc Cert.TimesProjSIdeal.main_arg1) = m' ((c.tc : Thread Cert.TimesProjSIdeal.nD Cert.TimesProjSIdeal.τ).loc Cert.TimesProjSIdeal.main_arg1))

def preserves_MmProjG_MmProjGIdeal : Prop :=
  True

def algebraic_MmProjGIdeal_TimesProjGIdeal [hMmProjGIdeal : Cert.MmProjGIdeal.Facts] [hTimesProjGIdeal : Cert.TimesProjGIdeal.Facts] : Prop :=
  ∀ (m : (ℓ : Loc Cert.MmProjGIdeal.nD Cert.MmProjGIdeal.τ Cert.MmProjGIdeal.sig) → Buf (Elt Ideal) ℓ) (g : Dev Cert.MmProjGIdeal.nD → PrngReg)
    (m' : (ℓ : Loc Cert.TimesProjGIdeal.nD Cert.TimesProjGIdeal.τ Cert.TimesProjGIdeal.sig) → Buf (Elt Ideal) ℓ) (g' : Dev Cert.TimesProjGIdeal.nD → PrngReg), Pre_MmProjGIdeal m →
    (∀ c : Dev Cert.MmProjGIdeal.nD,
      m' ((c.tc : Thread Cert.TimesProjGIdeal.nD Cert.TimesProjGIdeal.τ).loc Cert.TimesProjGIdeal.main_arg0) = m ((c.tc : Thread Cert.MmProjGIdeal.nD Cert.MmProjGIdeal.τ).loc Cert.MmProjGIdeal.main_arg0)
      ∧ m' ((c.tc : Thread Cert.TimesProjGIdeal.nD Cert.TimesProjGIdeal.τ).loc Cert.TimesProjGIdeal.main_arg1) = m ((c.tc : Thread Cert.MmProjGIdeal.nD Cert.MmProjGIdeal.τ).loc Cert.MmProjGIdeal.main_arg1)) →
    ∃ (v0 : (c : Dev Cert.MmProjGIdeal.nD) → Buf (Elt Ideal) ((c.tc : Thread Cert.MmProjGIdeal.nD Cert.MmProjGIdeal.τ).loc Cert.MmProjGIdeal.main_v0)),
      θ_run (Cert.MmProjGIdeal.defs (F := Ideal)) (onTc (τ := Cert.MmProjGIdeal.τ) (Cert.MmProjGIdeal.main (F := Ideal))) ⟨m, fun _ => 0, g⟩ (fun r => ∀ c : Dev Cert.MmProjGIdeal.nD,
          r.2.mem ((c.tc : Thread Cert.MmProjGIdeal.nD Cert.MmProjGIdeal.τ).loc Cert.MmProjGIdeal.main_v0) = v0 c
          ∧ r.2.mem ((c.tc : Thread Cert.MmProjGIdeal.nD Cert.MmProjGIdeal.τ).loc Cert.MmProjGIdeal.main_arg0) = m ((c.tc : Thread Cert.MmProjGIdeal.nD Cert.MmProjGIdeal.τ).loc Cert.MmProjGIdeal.main_arg0)
          ∧ r.2.mem ((c.tc : Thread Cert.MmProjGIdeal.nD Cert.MmProjGIdeal.τ).loc Cert.MmProjGIdeal.main_arg1) = m ((c.tc : Thread Cert.MmProjGIdeal.nD Cert.MmProjGIdeal.τ).loc Cert.MmProjGIdeal.main_arg1))
      ∧ θ_run (Cert.TimesProjGIdeal.defs (F := Ideal)) (onTc (τ := Cert.TimesProjGIdeal.τ) (Cert.TimesProjGIdeal.main (F := Ideal))) ⟨m', fun _ => 0, g'⟩ (fun r => ∀ c : Dev Cert.TimesProjGIdeal.nD,
          r.2.mem ((c.tc : Thread Cert.TimesProjGIdeal.nD Cert.TimesProjGIdeal.τ).loc Cert.TimesProjGIdeal.main_v2) = v0 c
          ∧ r.2.mem ((c.tc : Thread Cert.TimesProjGIdeal.nD Cert.TimesProjGIdeal.τ).loc Cert.TimesProjGIdeal.main_arg0) = m' ((c.tc : Thread Cert.TimesProjGIdeal.nD Cert.TimesProjGIdeal.τ).loc Cert.TimesProjGIdeal.main_arg0)
          ∧ r.2.mem ((c.tc : Thread Cert.TimesProjGIdeal.nD Cert.TimesProjGIdeal.τ).loc Cert.TimesProjGIdeal.main_arg1) = m' ((c.tc : Thread Cert.TimesProjGIdeal.nD Cert.TimesProjGIdeal.τ).loc Cert.TimesProjGIdeal.main_arg1))

def preserves_MmDy_MmDyIdeal : Prop :=
  True

def algebraic_MmDyIdeal_TimesDyIdeal [hMmDyIdeal : Cert.MmDyIdeal.Facts] [hTimesDyIdeal : Cert.TimesDyIdeal.Facts] : Prop :=
  ∀ (m : (ℓ : Loc Cert.MmDyIdeal.nD Cert.MmDyIdeal.τ Cert.MmDyIdeal.sig) → Buf (Elt Ideal) ℓ) (g : Dev Cert.MmDyIdeal.nD → PrngReg)
    (m' : (ℓ : Loc Cert.TimesDyIdeal.nD Cert.TimesDyIdeal.τ Cert.TimesDyIdeal.sig) → Buf (Elt Ideal) ℓ) (g' : Dev Cert.TimesDyIdeal.nD → PrngReg), Pre_MmDyIdeal m →
    (∀ c : Dev Cert.MmDyIdeal.nD,
      m' ((c.tc : Thread Cert.TimesDyIdeal.nD Cert.TimesDyIdeal.τ).loc Cert.TimesDyIdeal.main_arg0) = m ((c.tc : Thread Cert.MmDyIdeal.nD Cert.MmDyIdeal.τ).loc Cert.MmDyIdeal.main_arg0)
      ∧ m' ((c.tc : Thread Cert.TimesDyIdeal.nD Cert.TimesDyIdeal.τ).loc Cert.TimesDyIdeal.main_arg1) = m ((c.tc : Thread Cert.MmDyIdeal.nD Cert.MmDyIdeal.τ).loc Cert.MmDyIdeal.main_arg1)) →
    ∃ (v0 : (c : Dev Cert.MmDyIdeal.nD) → Buf (Elt Ideal) ((c.tc : Thread Cert.MmDyIdeal.nD Cert.MmDyIdeal.τ).loc Cert.MmDyIdeal.main_v0)),
      θ_run (Cert.MmDyIdeal.defs (F := Ideal)) (onTc (τ := Cert.MmDyIdeal.τ) (Cert.MmDyIdeal.main (F := Ideal))) ⟨m, fun _ => 0, g⟩ (fun r => ∀ c : Dev Cert.MmDyIdeal.nD,
          r.2.mem ((c.tc : Thread Cert.MmDyIdeal.nD Cert.MmDyIdeal.τ).loc Cert.MmDyIdeal.main_v0) = v0 c
          ∧ r.2.mem ((c.tc : Thread Cert.MmDyIdeal.nD Cert.MmDyIdeal.τ).loc Cert.MmDyIdeal.main_arg0) = m ((c.tc : Thread Cert.MmDyIdeal.nD Cert.MmDyIdeal.τ).loc Cert.MmDyIdeal.main_arg0)
          ∧ r.2.mem ((c.tc : Thread Cert.MmDyIdeal.nD Cert.MmDyIdeal.τ).loc Cert.MmDyIdeal.main_arg1) = m ((c.tc : Thread Cert.MmDyIdeal.nD Cert.MmDyIdeal.τ).loc Cert.MmDyIdeal.main_arg1))
      ∧ θ_run (Cert.TimesDyIdeal.defs (F := Ideal)) (onTc (τ := Cert.TimesDyIdeal.τ) (Cert.TimesDyIdeal.main (F := Ideal))) ⟨m', fun _ => 0, g'⟩ (fun r => ∀ c : Dev Cert.TimesDyIdeal.nD,
          r.2.mem ((c.tc : Thread Cert.TimesDyIdeal.nD Cert.TimesDyIdeal.τ).loc Cert.TimesDyIdeal.main_v3) = v0 c
          ∧ r.2.mem ((c.tc : Thread Cert.TimesDyIdeal.nD Cert.TimesDyIdeal.τ).loc Cert.TimesDyIdeal.main_arg0) = m' ((c.tc : Thread Cert.TimesDyIdeal.nD Cert.TimesDyIdeal.τ).loc Cert.TimesDyIdeal.main_arg0)
          ∧ r.2.mem ((c.tc : Thread Cert.TimesDyIdeal.nD Cert.TimesDyIdeal.τ).loc Cert.TimesDyIdeal.main_arg1) = m' ((c.tc : Thread Cert.TimesDyIdeal.nD Cert.TimesDyIdeal.τ).loc Cert.TimesDyIdeal.main_arg1))

def preserves_MmDwAda_MmDwAdaIdeal : Prop :=
  True

def algebraic_MmDwAdaIdeal_TimesDwAdaIdeal [hMmDwAdaIdeal : Cert.MmDwAdaIdeal.Facts] [hTimesDwAdaIdeal : Cert.TimesDwAdaIdeal.Facts] : Prop :=
  ∀ (m : (ℓ : Loc Cert.MmDwAdaIdeal.nD Cert.MmDwAdaIdeal.τ Cert.MmDwAdaIdeal.sig) → Buf (Elt Ideal) ℓ) (g : Dev Cert.MmDwAdaIdeal.nD → PrngReg)
    (m' : (ℓ : Loc Cert.TimesDwAdaIdeal.nD Cert.TimesDwAdaIdeal.τ Cert.TimesDwAdaIdeal.sig) → Buf (Elt Ideal) ℓ) (g' : Dev Cert.TimesDwAdaIdeal.nD → PrngReg), Pre_MmDwAdaIdeal m →
    (∀ c : Dev Cert.MmDwAdaIdeal.nD,
      m' ((c.tc : Thread Cert.TimesDwAdaIdeal.nD Cert.TimesDwAdaIdeal.τ).loc Cert.TimesDwAdaIdeal.main_arg0) = m ((c.tc : Thread Cert.MmDwAdaIdeal.nD Cert.MmDwAdaIdeal.τ).loc Cert.MmDwAdaIdeal.main_arg0)
      ∧ m' ((c.tc : Thread Cert.TimesDwAdaIdeal.nD Cert.TimesDwAdaIdeal.τ).loc Cert.TimesDwAdaIdeal.main_arg1) = m ((c.tc : Thread Cert.MmDwAdaIdeal.nD Cert.MmDwAdaIdeal.τ).loc Cert.MmDwAdaIdeal.main_arg1)) →
    ∃ (v0 : (c : Dev Cert.MmDwAdaIdeal.nD) → Buf (Elt Ideal) ((c.tc : Thread Cert.MmDwAdaIdeal.nD Cert.MmDwAdaIdeal.τ).loc Cert.MmDwAdaIdeal.main_v0)),
      θ_run (Cert.MmDwAdaIdeal.defs (F := Ideal)) (onTc (τ := Cert.MmDwAdaIdeal.τ) (Cert.MmDwAdaIdeal.main (F := Ideal))) ⟨m, fun _ => 0, g⟩ (fun r => ∀ c : Dev Cert.MmDwAdaIdeal.nD,
          r.2.mem ((c.tc : Thread Cert.MmDwAdaIdeal.nD Cert.MmDwAdaIdeal.τ).loc Cert.MmDwAdaIdeal.main_v0) = v0 c
          ∧ r.2.mem ((c.tc : Thread Cert.MmDwAdaIdeal.nD Cert.MmDwAdaIdeal.τ).loc Cert.MmDwAdaIdeal.main_arg0) = m ((c.tc : Thread Cert.MmDwAdaIdeal.nD Cert.MmDwAdaIdeal.τ).loc Cert.MmDwAdaIdeal.main_arg0)
          ∧ r.2.mem ((c.tc : Thread Cert.MmDwAdaIdeal.nD Cert.MmDwAdaIdeal.τ).loc Cert.MmDwAdaIdeal.main_arg1) = m ((c.tc : Thread Cert.MmDwAdaIdeal.nD Cert.MmDwAdaIdeal.τ).loc Cert.MmDwAdaIdeal.main_arg1))
      ∧ θ_run (Cert.TimesDwAdaIdeal.defs (F := Ideal)) (onTc (τ := Cert.TimesDwAdaIdeal.τ) (Cert.TimesDwAdaIdeal.main (F := Ideal))) ⟨m', fun _ => 0, g'⟩ (fun r => ∀ c : Dev Cert.TimesDwAdaIdeal.nD,
          r.2.mem ((c.tc : Thread Cert.TimesDwAdaIdeal.nD Cert.TimesDwAdaIdeal.τ).loc Cert.TimesDwAdaIdeal.main_v1) = v0 c
          ∧ r.2.mem ((c.tc : Thread Cert.TimesDwAdaIdeal.nD Cert.TimesDwAdaIdeal.τ).loc Cert.TimesDwAdaIdeal.main_arg0) = m' ((c.tc : Thread Cert.TimesDwAdaIdeal.nD Cert.TimesDwAdaIdeal.τ).loc Cert.TimesDwAdaIdeal.main_arg0)
          ∧ r.2.mem ((c.tc : Thread Cert.TimesDwAdaIdeal.nD Cert.TimesDwAdaIdeal.τ).loc Cert.TimesDwAdaIdeal.main_arg1) = m' ((c.tc : Thread Cert.TimesDwAdaIdeal.nD Cert.TimesDwAdaIdeal.τ).loc Cert.TimesDwAdaIdeal.main_arg1))

def preserves_MmDwOut_MmDwOutIdeal : Prop :=
  True

def algebraic_MmDwOutIdeal_TimesDwOutIdeal [hMmDwOutIdeal : Cert.MmDwOutIdeal.Facts] [hTimesDwOutIdeal : Cert.TimesDwOutIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg)
    (m' : (ℓ : Loc Cert.TimesDwOutIdeal.nD Cert.TimesDwOutIdeal.τ Cert.TimesDwOutIdeal.sig) → Buf (Elt Ideal) ℓ) (g' : Dev Cert.TimesDwOutIdeal.nD → PrngReg), Pre_MmDwOutIdeal m →
    (∀ c : Dev Cert.MmDwOutIdeal.nD,
      m' ((c.tc : Thread Cert.TimesDwOutIdeal.nD Cert.TimesDwOutIdeal.τ).loc Cert.TimesDwOutIdeal.main_arg0) = m ((c.tc : Thread Cert.MmDwOutIdeal.nD Cert.MmDwOutIdeal.τ).loc Cert.MmDwOutIdeal.main_arg0)
      ∧ m' ((c.tc : Thread Cert.TimesDwOutIdeal.nD Cert.TimesDwOutIdeal.τ).loc Cert.TimesDwOutIdeal.main_arg1) = m ((c.tc : Thread Cert.MmDwOutIdeal.nD Cert.MmDwOutIdeal.τ).loc Cert.MmDwOutIdeal.main_arg1)) →
    ∃ (v0 : (c : Dev Cert.MmDwOutIdeal.nD) → Buf (Elt Ideal) ((c.tc : Thread Cert.MmDwOutIdeal.nD Cert.MmDwOutIdeal.τ).loc Cert.MmDwOutIdeal.main_v0)),
      θ_run (Cert.MmDwOutIdeal.defs (F := Ideal)) (onTc (τ := Cert.MmDwOutIdeal.τ) (Cert.MmDwOutIdeal.main (F := Ideal))) ⟨m, fun _ => 0, g⟩ (fun r => ∀ c : Dev Cert.MmDwOutIdeal.nD,
          r.2.mem ((c.tc : Thread Cert.MmDwOutIdeal.nD Cert.MmDwOutIdeal.τ).loc Cert.MmDwOutIdeal.main_v0) = v0 c
          ∧ r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
          ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ θ_run (Cert.TimesDwOutIdeal.defs (F := Ideal)) (onTc (τ := Cert.TimesDwOutIdeal.τ) (Cert.TimesDwOutIdeal.main (F := Ideal))) ⟨m', fun _ => 0, g'⟩ (fun r => ∀ c : Dev Cert.TimesDwOutIdeal.nD,
          r.2.mem ((c.tc : Thread Cert.TimesDwOutIdeal.nD Cert.TimesDwOutIdeal.τ).loc Cert.TimesDwOutIdeal.main_v4) = v0 c
          ∧ r.2.mem ((c.tc : Thread Cert.TimesDwOutIdeal.nD Cert.TimesDwOutIdeal.τ).loc Cert.TimesDwOutIdeal.main_arg0) = m' ((c.tc : Thread Cert.TimesDwOutIdeal.nD Cert.TimesDwOutIdeal.τ).loc Cert.TimesDwOutIdeal.main_arg0)
          ∧ r.2.mem ((c.tc : Thread Cert.TimesDwOutIdeal.nD Cert.TimesDwOutIdeal.τ).loc Cert.TimesDwOutIdeal.main_arg1) = m' ((c.tc : Thread Cert.TimesDwOutIdeal.nD Cert.TimesDwOutIdeal.τ).loc Cert.TimesDwOutIdeal.main_arg1))

def preserves_MmDwBranch_MmDwBranchIdeal : Prop :=
  True

def algebraic_MmDwBranchIdeal_TimesDwBranchIdeal [hMmDwBranchIdeal : Cert.MmDwBranchIdeal.Facts] [hTimesDwBranchIdeal : Cert.TimesDwBranchIdeal.Facts] : Prop :=
  ∀ (m : (ℓ : Loc Cert.MmDwBranchIdeal.nD Cert.MmDwBranchIdeal.τ Cert.MmDwBranchIdeal.sig) → Buf (Elt Ideal) ℓ) (g : Dev Cert.MmDwBranchIdeal.nD → PrngReg)
    (m' : (ℓ : Loc Cert.TimesDwBranchIdeal.nD Cert.TimesDwBranchIdeal.τ Cert.TimesDwBranchIdeal.sig) → Buf (Elt Ideal) ℓ) (g' : Dev Cert.TimesDwBranchIdeal.nD → PrngReg), Pre_MmDwBranchIdeal m →
    (∀ c : Dev Cert.MmDwBranchIdeal.nD,
      m' ((c.tc : Thread Cert.TimesDwBranchIdeal.nD Cert.TimesDwBranchIdeal.τ).loc Cert.TimesDwBranchIdeal.main_arg0) = m ((c.tc : Thread Cert.MmDwBranchIdeal.nD Cert.MmDwBranchIdeal.τ).loc Cert.MmDwBranchIdeal.main_arg0)
      ∧ m' ((c.tc : Thread Cert.TimesDwBranchIdeal.nD Cert.TimesDwBranchIdeal.τ).loc Cert.TimesDwBranchIdeal.main_arg1) = m ((c.tc : Thread Cert.MmDwBranchIdeal.nD Cert.MmDwBranchIdeal.τ).loc Cert.MmDwBranchIdeal.main_arg1)) →
    ∃ (v0 : (c : Dev Cert.MmDwBranchIdeal.nD) → Buf (Elt Ideal) ((c.tc : Thread Cert.MmDwBranchIdeal.nD Cert.MmDwBranchIdeal.τ).loc Cert.MmDwBranchIdeal.main_v0)),
      θ_run (Cert.MmDwBranchIdeal.defs (F := Ideal)) (onTc (τ := Cert.MmDwBranchIdeal.τ) (Cert.MmDwBranchIdeal.main (F := Ideal))) ⟨m, fun _ => 0, g⟩ (fun r => ∀ c : Dev Cert.MmDwBranchIdeal.nD,
          r.2.mem ((c.tc : Thread Cert.MmDwBranchIdeal.nD Cert.MmDwBranchIdeal.τ).loc Cert.MmDwBranchIdeal.main_v0) = v0 c
          ∧ r.2.mem ((c.tc : Thread Cert.MmDwBranchIdeal.nD Cert.MmDwBranchIdeal.τ).loc Cert.MmDwBranchIdeal.main_arg0) = m ((c.tc : Thread Cert.MmDwBranchIdeal.nD Cert.MmDwBranchIdeal.τ).loc Cert.MmDwBranchIdeal.main_arg0)
          ∧ r.2.mem ((c.tc : Thread Cert.MmDwBranchIdeal.nD Cert.MmDwBranchIdeal.τ).loc Cert.MmDwBranchIdeal.main_arg1) = m ((c.tc : Thread Cert.MmDwBranchIdeal.nD Cert.MmDwBranchIdeal.τ).loc Cert.MmDwBranchIdeal.main_arg1))
      ∧ θ_run (Cert.TimesDwBranchIdeal.defs (F := Ideal)) (onTc (τ := Cert.TimesDwBranchIdeal.τ) (Cert.TimesDwBranchIdeal.main (F := Ideal))) ⟨m', fun _ => 0, g'⟩ (fun r => ∀ c : Dev Cert.TimesDwBranchIdeal.nD,
          r.2.mem ((c.tc : Thread Cert.TimesDwBranchIdeal.nD Cert.TimesDwBranchIdeal.τ).loc Cert.TimesDwBranchIdeal.main_v4) = v0 c
          ∧ r.2.mem ((c.tc : Thread Cert.TimesDwBranchIdeal.nD Cert.TimesDwBranchIdeal.τ).loc Cert.TimesDwBranchIdeal.main_arg0) = m' ((c.tc : Thread Cert.TimesDwBranchIdeal.nD Cert.TimesDwBranchIdeal.τ).loc Cert.TimesDwBranchIdeal.main_arg0)
          ∧ r.2.mem ((c.tc : Thread Cert.TimesDwBranchIdeal.nD Cert.TimesDwBranchIdeal.τ).loc Cert.TimesDwBranchIdeal.main_arg1) = m' ((c.tc : Thread Cert.TimesDwBranchIdeal.nD Cert.TimesDwBranchIdeal.τ).loc Cert.TimesDwBranchIdeal.main_arg1))

def preserves_MmDwA_MmDwAIdeal : Prop :=
  True

def algebraic_MmDwAIdeal_TimesDwAIdeal [hMmDwAIdeal : Cert.MmDwAIdeal.Facts] [hTimesDwAIdeal : Cert.TimesDwAIdeal.Facts] : Prop :=
  ∀ (m : (ℓ : Loc Cert.MmDwAIdeal.nD Cert.MmDwAIdeal.τ Cert.MmDwAIdeal.sig) → Buf (Elt Ideal) ℓ) (g : Dev Cert.MmDwAIdeal.nD → PrngReg)
    (m' : (ℓ : Loc Cert.TimesDwAIdeal.nD Cert.TimesDwAIdeal.τ Cert.TimesDwAIdeal.sig) → Buf (Elt Ideal) ℓ) (g' : Dev Cert.TimesDwAIdeal.nD → PrngReg), Pre_MmDwAIdeal m →
    (∀ c : Dev Cert.MmDwAIdeal.nD,
      m' ((c.tc : Thread Cert.TimesDwAIdeal.nD Cert.TimesDwAIdeal.τ).loc Cert.TimesDwAIdeal.main_arg0) = m ((c.tc : Thread Cert.MmDwAIdeal.nD Cert.MmDwAIdeal.τ).loc Cert.MmDwAIdeal.main_arg0)
      ∧ m' ((c.tc : Thread Cert.TimesDwAIdeal.nD Cert.TimesDwAIdeal.τ).loc Cert.TimesDwAIdeal.main_arg1) = m ((c.tc : Thread Cert.MmDwAIdeal.nD Cert.MmDwAIdeal.τ).loc Cert.MmDwAIdeal.main_arg1)) →
    ∃ (v0 : (c : Dev Cert.MmDwAIdeal.nD) → Buf (Elt Ideal) ((c.tc : Thread Cert.MmDwAIdeal.nD Cert.MmDwAIdeal.τ).loc Cert.MmDwAIdeal.main_v0)),
      θ_run (Cert.MmDwAIdeal.defs (F := Ideal)) (onTc (τ := Cert.MmDwAIdeal.τ) (Cert.MmDwAIdeal.main (F := Ideal))) ⟨m, fun _ => 0, g⟩ (fun r => ∀ c : Dev Cert.MmDwAIdeal.nD,
          r.2.mem ((c.tc : Thread Cert.MmDwAIdeal.nD Cert.MmDwAIdeal.τ).loc Cert.MmDwAIdeal.main_v0) = v0 c
          ∧ r.2.mem ((c.tc : Thread Cert.MmDwAIdeal.nD Cert.MmDwAIdeal.τ).loc Cert.MmDwAIdeal.main_arg0) = m ((c.tc : Thread Cert.MmDwAIdeal.nD Cert.MmDwAIdeal.τ).loc Cert.MmDwAIdeal.main_arg0)
          ∧ r.2.mem ((c.tc : Thread Cert.MmDwAIdeal.nD Cert.MmDwAIdeal.τ).loc Cert.MmDwAIdeal.main_arg1) = m ((c.tc : Thread Cert.MmDwAIdeal.nD Cert.MmDwAIdeal.τ).loc Cert.MmDwAIdeal.main_arg1))
      ∧ θ_run (Cert.TimesDwAIdeal.defs (F := Ideal)) (onTc (τ := Cert.TimesDwAIdeal.τ) (Cert.TimesDwAIdeal.main (F := Ideal))) ⟨m', fun _ => 0, g'⟩ (fun r => ∀ c : Dev Cert.TimesDwAIdeal.nD,
          r.2.mem ((c.tc : Thread Cert.TimesDwAIdeal.nD Cert.TimesDwAIdeal.τ).loc Cert.TimesDwAIdeal.main_v4) = v0 c
          ∧ r.2.mem ((c.tc : Thread Cert.TimesDwAIdeal.nD Cert.TimesDwAIdeal.τ).loc Cert.TimesDwAIdeal.main_arg0) = m' ((c.tc : Thread Cert.TimesDwAIdeal.nD Cert.TimesDwAIdeal.τ).loc Cert.TimesDwAIdeal.main_arg0)
          ∧ r.2.mem ((c.tc : Thread Cert.TimesDwAIdeal.nD Cert.TimesDwAIdeal.τ).loc Cert.TimesDwAIdeal.main_arg1) = m' ((c.tc : Thread Cert.TimesDwAIdeal.nD Cert.TimesDwAIdeal.τ).loc Cert.TimesDwAIdeal.main_arg1))

def preserves_MmDwG_MmDwGIdeal : Prop :=
  True

def algebraic_MmDwGIdeal_TimesDwGIdeal [hMmDwGIdeal : Cert.MmDwGIdeal.Facts] [hTimesDwGIdeal : Cert.TimesDwGIdeal.Facts] : Prop :=
  ∀ (m : (ℓ : Loc Cert.MmDwGIdeal.nD Cert.MmDwGIdeal.τ Cert.MmDwGIdeal.sig) → Buf (Elt Ideal) ℓ) (g : Dev Cert.MmDwGIdeal.nD → PrngReg)
    (m' : (ℓ : Loc Cert.TimesDwGIdeal.nD Cert.TimesDwGIdeal.τ Cert.TimesDwGIdeal.sig) → Buf (Elt Ideal) ℓ) (g' : Dev Cert.TimesDwGIdeal.nD → PrngReg), Pre_MmDwGIdeal m →
    (∀ c : Dev Cert.MmDwGIdeal.nD,
      m' ((c.tc : Thread Cert.TimesDwGIdeal.nD Cert.TimesDwGIdeal.τ).loc Cert.TimesDwGIdeal.main_arg0) = m ((c.tc : Thread Cert.MmDwGIdeal.nD Cert.MmDwGIdeal.τ).loc Cert.MmDwGIdeal.main_arg0)
      ∧ m' ((c.tc : Thread Cert.TimesDwGIdeal.nD Cert.TimesDwGIdeal.τ).loc Cert.TimesDwGIdeal.main_arg1) = m ((c.tc : Thread Cert.MmDwGIdeal.nD Cert.MmDwGIdeal.τ).loc Cert.MmDwGIdeal.main_arg1)) →
    ∃ (v0 : (c : Dev Cert.MmDwGIdeal.nD) → Buf (Elt Ideal) ((c.tc : Thread Cert.MmDwGIdeal.nD Cert.MmDwGIdeal.τ).loc Cert.MmDwGIdeal.main_v0)),
      θ_run (Cert.MmDwGIdeal.defs (F := Ideal)) (onTc (τ := Cert.MmDwGIdeal.τ) (Cert.MmDwGIdeal.main (F := Ideal))) ⟨m, fun _ => 0, g⟩ (fun r => ∀ c : Dev Cert.MmDwGIdeal.nD,
          r.2.mem ((c.tc : Thread Cert.MmDwGIdeal.nD Cert.MmDwGIdeal.τ).loc Cert.MmDwGIdeal.main_v0) = v0 c
          ∧ r.2.mem ((c.tc : Thread Cert.MmDwGIdeal.nD Cert.MmDwGIdeal.τ).loc Cert.MmDwGIdeal.main_arg0) = m ((c.tc : Thread Cert.MmDwGIdeal.nD Cert.MmDwGIdeal.τ).loc Cert.MmDwGIdeal.main_arg0)
          ∧ r.2.mem ((c.tc : Thread Cert.MmDwGIdeal.nD Cert.MmDwGIdeal.τ).loc Cert.MmDwGIdeal.main_arg1) = m ((c.tc : Thread Cert.MmDwGIdeal.nD Cert.MmDwGIdeal.τ).loc Cert.MmDwGIdeal.main_arg1))
      ∧ θ_run (Cert.TimesDwGIdeal.defs (F := Ideal)) (onTc (τ := Cert.TimesDwGIdeal.τ) (Cert.TimesDwGIdeal.main (F := Ideal))) ⟨m', fun _ => 0, g'⟩ (fun r => ∀ c : Dev Cert.TimesDwGIdeal.nD,
          r.2.mem ((c.tc : Thread Cert.TimesDwGIdeal.nD Cert.TimesDwGIdeal.τ).loc Cert.TimesDwGIdeal.main_v4) = v0 c
          ∧ r.2.mem ((c.tc : Thread Cert.TimesDwGIdeal.nD Cert.TimesDwGIdeal.τ).loc Cert.TimesDwGIdeal.main_arg0) = m' ((c.tc : Thread Cert.TimesDwGIdeal.nD Cert.TimesDwGIdeal.τ).loc Cert.TimesDwGIdeal.main_arg0)
          ∧ r.2.mem ((c.tc : Thread Cert.TimesDwGIdeal.nD Cert.TimesDwGIdeal.τ).loc Cert.TimesDwGIdeal.main_arg1) = m' ((c.tc : Thread Cert.TimesDwGIdeal.nD Cert.TimesDwGIdeal.τ).loc Cert.TimesDwGIdeal.main_arg1))

def preserves_NormFwd_NormFwdIdeal : Prop :=
  True

def algebraic_NormFwdIdeal_NormIdeal [hNormFwdIdeal : Cert.NormFwdIdeal.Facts] [hNormIdeal : Cert.NormIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormIdeal.nD Cert.NormIdeal.τ Cert.NormIdeal.sig) → Buf (Elt Ideal) ℓ) (g' : Dev Cert.NormIdeal.nD → PrngReg), Pre_NormFwdIdeal m →
    (∀ c : Dev Cert.NormFwdIdeal.nD,
      m' ((c.tc : Thread Cert.NormIdeal.nD Cert.NormIdeal.τ).loc Cert.NormIdeal.main_arg0) = m ((c.tc : Thread Cert.NormFwdIdeal.nD Cert.NormFwdIdeal.τ).loc Cert.NormFwdIdeal.main_arg0)
      ∧ m' ((c.tc : Thread Cert.NormIdeal.nD Cert.NormIdeal.τ).loc Cert.NormIdeal.main_arg1) = m ((c.tc : Thread Cert.NormFwdIdeal.nD Cert.NormFwdIdeal.τ).loc Cert.NormFwdIdeal.main_arg1)
      ∧ m' ((c.tc : Thread Cert.NormIdeal.nD Cert.NormIdeal.τ).loc Cert.NormIdeal.main_arg2) = m ((c.tc : Thread Cert.NormFwdIdeal.nD Cert.NormFwdIdeal.τ).loc Cert.NormFwdIdeal.main_arg2)
      ∧ m' ((c.tc : Thread Cert.NormIdeal.nD Cert.NormIdeal.τ).loc Cert.NormIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormIdeal.defs (F := Ideal)) (onTc (τ := Cert.NormIdeal.τ) (Cert.NormIdeal.main (F := Ideal))) ⟨m', fun _ => 0, g'⟩ (fun r => ∀ c : Dev Cert.NormIdeal.nD,
          r.2.mem ((c.tc : Thread Cert.NormIdeal.nD Cert.NormIdeal.τ).loc Cert.NormIdeal.main_v18) = v0 c
          ∧ r.2.mem ((c.tc : Thread Cert.NormIdeal.nD Cert.NormIdeal.τ).loc Cert.NormIdeal.main_arg0) = m' ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m' ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m' ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m' ((c.tc : Thread Cert.NormIdeal.nD Cert.NormIdeal.τ).loc Cert.NormIdeal.main_arg3))

def preserves_NormBwd_NormBwdIdeal : Prop :=
  True

def algebraic_NormBwdIdeal_NormGradIdeal [hNormBwdIdeal : Cert.NormBwdIdeal.Facts] [hNormGradIdeal : Cert.NormGradIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormBwdIdeal m →
    (∀ c : Dev Cert.NormBwdIdeal.nD,
      m' ((c.tc : Thread Cert.NormGradIdeal.nD Cert.NormGradIdeal.τ).loc Cert.NormGradIdeal.main_arg0) = m ((c.tc : Thread Cert.NormBwdIdeal.nD Cert.NormBwdIdeal.τ).loc Cert.NormBwdIdeal.main_arg0)
      ∧ m' ((c.tc : Thread Cert.NormGradIdeal.nD Cert.NormGradIdeal.τ).loc Cert.NormGradIdeal.main_arg1) = m ((c.tc : Thread Cert.NormBwdIdeal.nD Cert.NormBwdIdeal.τ).loc Cert.NormBwdIdeal.main_arg1)
      ∧ m' ((c.tc : Thread Cert.NormGradIdeal.nD Cert.NormGradIdeal.τ).loc Cert.NormGradIdeal.main_arg2) = m ((c.tc : Thread Cert.NormBwdIdeal.nD Cert.NormBwdIdeal.τ).loc Cert.NormBwdIdeal.main_arg2)
      ∧ m' ((c.tc : Thread Cert.NormGradIdeal.nD Cert.NormGradIdeal.τ).loc Cert.NormGradIdeal.main_arg3) = m ((c.tc : Thread Cert.NormBwdIdeal.nD Cert.NormBwdIdeal.τ).loc Cert.NormBwdIdeal.main_arg3)
      ∧ m' ((c.tc : Thread Cert.NormGradIdeal.nD Cert.NormGradIdeal.τ).loc Cert.NormGradIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v44) = v0 c
          ∧ r.2.mem ((c.tc : Thread Cert.NormGradIdeal.nD Cert.NormGradIdeal.τ).loc Cert.NormGradIdeal.main_v56) = v1 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4))

def preserves_FinalLoss_FinalLossIdeal : Prop :=
  True

def algebraic_FinalLossIdeal_LossIdeal [hFinalLossIdeal : Cert.FinalLossIdeal.Facts] [hLossIdeal : Cert.LossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.LossIdeal.nD Cert.LossIdeal.τ Cert.LossIdeal.sig) → Buf (Elt Ideal) ℓ) (g' : Dev Cert.LossIdeal.nD → PrngReg), Pre_FinalLossIdeal m →
    (∀ c : Dev Cert.FinalLossIdeal.nD,
      m' ((c.tc : Thread Cert.LossIdeal.nD Cert.LossIdeal.τ).loc Cert.LossIdeal.main_arg0) = m ((c.tc : Thread Cert.FinalLossIdeal.nD Cert.FinalLossIdeal.τ).loc Cert.FinalLossIdeal.main_arg0)
      ∧ m' ((c.tc : Thread Cert.LossIdeal.nD Cert.LossIdeal.τ).loc Cert.LossIdeal.main_arg1) = m ((c.tc : Thread Cert.FinalLossIdeal.nD Cert.FinalLossIdeal.τ).loc Cert.FinalLossIdeal.main_arg1)
      ∧ m' ((c.tc : Thread Cert.LossIdeal.nD Cert.LossIdeal.τ).loc Cert.LossIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.LossIdeal.defs (F := Ideal)) (onTc (τ := Cert.LossIdeal.τ) (Cert.LossIdeal.main (F := Ideal))) ⟨m', fun _ => 0, g'⟩ (fun r => ∀ c : Dev Cert.LossIdeal.nD,
          r.2.mem ((c.tc : Thread Cert.LossIdeal.nD Cert.LossIdeal.τ).loc Cert.LossIdeal.main_v44) = v0 c
          ∧ r.2.mem ((c.tc : Thread Cert.LossIdeal.nD Cert.LossIdeal.τ).loc Cert.LossIdeal.main_v56) = v1 c
          ∧ r.2.mem ((c.tc : Thread Cert.LossIdeal.nD Cert.LossIdeal.τ).loc Cert.LossIdeal.main_arg0) = m' ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m' ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m' ((c.tc : Thread Cert.LossIdeal.nD Cert.LossIdeal.τ).loc Cert.LossIdeal.main_arg2))

def preserves_Dh_DhIdeal : Prop :=
  True

def algebraic_DhIdeal_InputGradIdeal [hDhIdeal : Cert.DhIdeal.Facts] [hInputGradIdeal : Cert.InputGradIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.InputGradIdeal.nD Cert.InputGradIdeal.τ Cert.InputGradIdeal.sig) → Buf (Elt Ideal) ℓ) (g' : Dev Cert.InputGradIdeal.nD → PrngReg), Pre_DhIdeal m →
    (∀ c : Dev Cert.DhIdeal.nD,
      m' ((c.tc : Thread Cert.InputGradIdeal.nD Cert.InputGradIdeal.τ).loc Cert.InputGradIdeal.main_arg0) = m ((c.tc : Thread Cert.DhIdeal.nD Cert.DhIdeal.τ).loc Cert.DhIdeal.main_arg0)
      ∧ m' ((c.tc : Thread Cert.InputGradIdeal.nD Cert.InputGradIdeal.τ).loc Cert.InputGradIdeal.main_arg1) = m ((c.tc : Thread Cert.DhIdeal.nD Cert.DhIdeal.τ).loc Cert.DhIdeal.main_arg1)
      ∧ m' ((c.tc : Thread Cert.InputGradIdeal.nD Cert.InputGradIdeal.τ).loc Cert.InputGradIdeal.main_arg2) = m ((c.tc : Thread Cert.DhIdeal.nD Cert.DhIdeal.τ).loc Cert.DhIdeal.main_arg2)
      ∧ m' ((c.tc : Thread Cert.InputGradIdeal.nD Cert.InputGradIdeal.τ).loc Cert.InputGradIdeal.main_arg3) = m ((c.tc : Thread Cert.DhIdeal.nD Cert.DhIdeal.τ).loc Cert.DhIdeal.main_arg3)
      ∧ m' ((c.tc : Thread Cert.InputGradIdeal.nD Cert.InputGradIdeal.τ).loc Cert.InputGradIdeal.main_arg4) = m ((c.tc : Thread Cert.DhIdeal.nD Cert.DhIdeal.τ).loc Cert.DhIdeal.main_arg4)
      ∧ m' ((c.tc : Thread Cert.InputGradIdeal.nD Cert.InputGradIdeal.τ).loc Cert.InputGradIdeal.main_arg5) = m ((c.tc : Thread Cert.DhIdeal.nD Cert.DhIdeal.τ).loc Cert.DhIdeal.main_arg5)
      ∧ m' ((c.tc : Thread Cert.InputGradIdeal.nD Cert.InputGradIdeal.τ).loc Cert.InputGradIdeal.main_arg6) = m ((c.tc : Thread Cert.DhIdeal.nD Cert.DhIdeal.τ).loc Cert.DhIdeal.main_arg6)
      ∧ m' ((c.tc : Thread Cert.InputGradIdeal.nD Cert.InputGradIdeal.τ).loc Cert.InputGradIdeal.main_arg7) = m ((c.tc : Thread Cert.DhIdeal.nD Cert.DhIdeal.τ).loc Cert.DhIdeal.main_arg7)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7))
      ∧ θ_run (Cert.InputGradIdeal.defs (F := Ideal)) (onTc (τ := Cert.InputGradIdeal.τ) (Cert.InputGradIdeal.main (F := Ideal))) ⟨m', fun _ => 0, g'⟩ (fun r => ∀ c : Dev Cert.InputGradIdeal.nD,
          r.2.mem ((c.tc : Thread Cert.InputGradIdeal.nD Cert.InputGradIdeal.τ).loc Cert.InputGradIdeal.main_v20) = v0 c
          ∧ r.2.mem ((c.tc : Thread Cert.InputGradIdeal.nD Cert.InputGradIdeal.τ).loc Cert.InputGradIdeal.main_arg0) = m' ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m' ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m' ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m' ((c.tc : Thread Cert.InputGradIdeal.nD Cert.InputGradIdeal.τ).loc Cert.InputGradIdeal.main_arg3)
          ∧ r.2.mem ((c.tc : Thread Cert.InputGradIdeal.nD Cert.InputGradIdeal.τ).loc Cert.InputGradIdeal.main_arg4) = m' ((c.tc : Thread Cert.InputGradIdeal.nD Cert.InputGradIdeal.τ).loc Cert.InputGradIdeal.main_arg4)
          ∧ r.2.mem ((c.tc : Thread Cert.InputGradIdeal.nD Cert.InputGradIdeal.τ).loc Cert.InputGradIdeal.main_arg5) = m' ((c.tc : Thread Cert.InputGradIdeal.nD Cert.InputGradIdeal.τ).loc Cert.InputGradIdeal.main_arg5)
          ∧ r.2.mem ((c.tc : Thread Cert.InputGradIdeal.nD Cert.InputGradIdeal.τ).loc Cert.InputGradIdeal.main_arg6) = m' ((c.tc : Thread Cert.InputGradIdeal.nD Cert.InputGradIdeal.τ).loc Cert.InputGradIdeal.main_arg6)
          ∧ r.2.mem ((c.tc : Thread Cert.InputGradIdeal.nD Cert.InputGradIdeal.τ).loc Cert.InputGradIdeal.main_arg7) = m' ((c.tc : Thread Cert.InputGradIdeal.nD Cert.InputGradIdeal.τ).loc Cert.InputGradIdeal.main_arg7))

def preserves_MergeFwd_MergeFwdIdeal : Prop :=
  True

def algebraic_MergeFwdIdeal_MergeIdeal [hMergeFwdIdeal : Cert.MergeFwdIdeal.Facts] [hMergeIdeal : Cert.MergeIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeIdeal.nD Cert.MergeIdeal.τ Cert.MergeIdeal.sig) → Buf (Elt Ideal) ℓ) (g' : Dev Cert.MergeIdeal.nD → PrngReg), Pre_MergeFwdIdeal m →
    (∀ c : Dev Cert.MergeFwdIdeal.nD,
      m' ((c.tc : Thread Cert.MergeIdeal.nD Cert.MergeIdeal.τ).loc Cert.MergeIdeal.main_arg0) = m ((c.tc : Thread Cert.MergeFwdIdeal.nD Cert.MergeFwdIdeal.τ).loc Cert.MergeFwdIdeal.main_arg0)
      ∧ m' ((c.tc : Thread Cert.MergeIdeal.nD Cert.MergeIdeal.τ).loc Cert.MergeIdeal.main_arg1) = m ((c.tc : Thread Cert.MergeFwdIdeal.nD Cert.MergeFwdIdeal.τ).loc Cert.MergeFwdIdeal.main_arg1)
      ∧ m' ((c.tc : Thread Cert.MergeIdeal.nD Cert.MergeIdeal.τ).loc Cert.MergeIdeal.main_arg2) = m ((c.tc : Thread Cert.MergeFwdIdeal.nD Cert.MergeFwdIdeal.τ).loc Cert.MergeFwdIdeal.main_arg2)
      ∧ m' ((c.tc : Thread Cert.MergeIdeal.nD Cert.MergeIdeal.τ).loc Cert.MergeIdeal.main_arg3) = m ((c.tc : Thread Cert.MergeFwdIdeal.nD Cert.MergeFwdIdeal.τ).loc Cert.MergeFwdIdeal.main_arg3)
      ∧ m' ((c.tc : Thread Cert.MergeIdeal.nD Cert.MergeIdeal.τ).loc Cert.MergeIdeal.main_arg4) = m ((c.tc : Thread Cert.MergeFwdIdeal.nD Cert.MergeFwdIdeal.τ).loc Cert.MergeFwdIdeal.main_arg4)
      ∧ m' ((c.tc : Thread Cert.MergeIdeal.nD Cert.MergeIdeal.τ).loc Cert.MergeIdeal.main_arg5) = m ((c.tc : Thread Cert.MergeFwdIdeal.nD Cert.MergeFwdIdeal.τ).loc Cert.MergeFwdIdeal.main_arg5)
      ∧ m' ((c.tc : Thread Cert.MergeIdeal.nD Cert.MergeIdeal.τ).loc Cert.MergeIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeIdeal.defs (F := Ideal)) (onTc (τ := Cert.MergeIdeal.τ) (Cert.MergeIdeal.main (F := Ideal))) ⟨m', fun _ => 0, g'⟩ (fun r => ∀ c : Dev Cert.MergeIdeal.nD,
          r.2.mem ((c.tc : Thread Cert.MergeIdeal.nD Cert.MergeIdeal.τ).loc Cert.MergeIdeal.main_v23) = v0 c
          ∧ r.2.mem ((c.tc : Thread Cert.MergeIdeal.nD Cert.MergeIdeal.τ).loc Cert.MergeIdeal.main_v8) = v1 c
          ∧ r.2.mem ((c.tc : Thread Cert.MergeIdeal.nD Cert.MergeIdeal.τ).loc Cert.MergeIdeal.main_v11) = v2 c
          ∧ r.2.mem ((c.tc : Thread Cert.MergeIdeal.nD Cert.MergeIdeal.τ).loc Cert.MergeIdeal.main_v14) = v3 c
          ∧ r.2.mem ((c.tc : Thread Cert.MergeIdeal.nD Cert.MergeIdeal.τ).loc Cert.MergeIdeal.main_arg0) = m' ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m' ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m' ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m' ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m' ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m' ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m' ((c.tc : Thread Cert.MergeIdeal.nD Cert.MergeIdeal.τ).loc Cert.MergeIdeal.main_arg6))

def preserves_OutFwd_OutFwdIdeal : Prop :=
  True

def algebraic_OutFwdIdeal_ResidualIdeal [hOutFwdIdeal : Cert.OutFwdIdeal.Facts] [hResidualIdeal : Cert.ResidualIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.ResidualIdeal.nD Cert.ResidualIdeal.τ Cert.ResidualIdeal.sig) → Buf (Elt Ideal) ℓ) (g' : Dev Cert.ResidualIdeal.nD → PrngReg), Pre_OutFwdIdeal m →
    (∀ c : Dev Cert.OutFwdIdeal.nD,
      m' ((c.tc : Thread Cert.ResidualIdeal.nD Cert.ResidualIdeal.τ).loc Cert.ResidualIdeal.main_arg0) = m ((c.tc : Thread Cert.OutFwdIdeal.nD Cert.OutFwdIdeal.τ).loc Cert.OutFwdIdeal.main_arg0)
      ∧ m' ((c.tc : Thread Cert.ResidualIdeal.nD Cert.ResidualIdeal.τ).loc Cert.ResidualIdeal.main_arg1) = m ((c.tc : Thread Cert.OutFwdIdeal.nD Cert.OutFwdIdeal.τ).loc Cert.OutFwdIdeal.main_arg1)
      ∧ m' ((c.tc : Thread Cert.ResidualIdeal.nD Cert.ResidualIdeal.τ).loc Cert.ResidualIdeal.main_arg2) = m ((c.tc : Thread Cert.OutFwdIdeal.nD Cert.OutFwdIdeal.τ).loc Cert.OutFwdIdeal.main_arg2)
      ∧ m' ((c.tc : Thread Cert.ResidualIdeal.nD Cert.ResidualIdeal.τ).loc Cert.ResidualIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.ResidualIdeal.defs (F := Ideal)) (onTc (τ := Cert.ResidualIdeal.τ) (Cert.ResidualIdeal.main (F := Ideal))) ⟨m', fun _ => 0, g'⟩ (fun r => ∀ c : Dev Cert.ResidualIdeal.nD,
          r.2.mem ((c.tc : Thread Cert.ResidualIdeal.nD Cert.ResidualIdeal.τ).loc Cert.ResidualIdeal.main_v5) = v0 c
          ∧ r.2.mem ((c.tc : Thread Cert.ResidualIdeal.nD Cert.ResidualIdeal.τ).loc Cert.ResidualIdeal.main_v2) = v1 c
          ∧ r.2.mem ((c.tc : Thread Cert.ResidualIdeal.nD Cert.ResidualIdeal.τ).loc Cert.ResidualIdeal.main_arg0) = m' ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m' ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m' ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m' ((c.tc : Thread Cert.ResidualIdeal.nD Cert.ResidualIdeal.τ).loc Cert.ResidualIdeal.main_arg3))

def preserves_MergeBwd_MergeBwdIdeal : Prop :=
  True

def algebraic_MergeBwdIdeal_MergeGradIdeal [hMergeBwdIdeal : Cert.MergeBwdIdeal.Facts] [hMergeGradIdeal : Cert.MergeGradIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeGradIdeal.nD Cert.MergeGradIdeal.τ Cert.MergeGradIdeal.sig) → Buf (Elt Ideal) ℓ) (g' : Dev Cert.MergeGradIdeal.nD → PrngReg), Pre_MergeBwdIdeal m →
    (∀ c : Dev Cert.MergeBwdIdeal.nD,
      m' ((c.tc : Thread Cert.MergeGradIdeal.nD Cert.MergeGradIdeal.τ).loc Cert.MergeGradIdeal.main_arg0) = m ((c.tc : Thread Cert.MergeBwdIdeal.nD Cert.MergeBwdIdeal.τ).loc Cert.MergeBwdIdeal.main_arg0)
      ∧ m' ((c.tc : Thread Cert.MergeGradIdeal.nD Cert.MergeGradIdeal.τ).loc Cert.MergeGradIdeal.main_arg1) = m ((c.tc : Thread Cert.MergeBwdIdeal.nD Cert.MergeBwdIdeal.τ).loc Cert.MergeBwdIdeal.main_arg1)
      ∧ m' ((c.tc : Thread Cert.MergeGradIdeal.nD Cert.MergeGradIdeal.τ).loc Cert.MergeGradIdeal.main_arg2) = m ((c.tc : Thread Cert.MergeBwdIdeal.nD Cert.MergeBwdIdeal.τ).loc Cert.MergeBwdIdeal.main_arg2)
      ∧ m' ((c.tc : Thread Cert.MergeGradIdeal.nD Cert.MergeGradIdeal.τ).loc Cert.MergeGradIdeal.main_arg3) = m ((c.tc : Thread Cert.MergeBwdIdeal.nD Cert.MergeBwdIdeal.τ).loc Cert.MergeBwdIdeal.main_arg3)
      ∧ m' ((c.tc : Thread Cert.MergeGradIdeal.nD Cert.MergeGradIdeal.τ).loc Cert.MergeGradIdeal.main_arg4) = m ((c.tc : Thread Cert.MergeBwdIdeal.nD Cert.MergeBwdIdeal.τ).loc Cert.MergeBwdIdeal.main_arg4)
      ∧ m' ((c.tc : Thread Cert.MergeGradIdeal.nD Cert.MergeGradIdeal.τ).loc Cert.MergeGradIdeal.main_arg5) = m ((c.tc : Thread Cert.MergeBwdIdeal.nD Cert.MergeBwdIdeal.τ).loc Cert.MergeBwdIdeal.main_arg5)
      ∧ m' ((c.tc : Thread Cert.MergeGradIdeal.nD Cert.MergeGradIdeal.τ).loc Cert.MergeGradIdeal.main_arg6) = m ((c.tc : Thread Cert.MergeBwdIdeal.nD Cert.MergeBwdIdeal.τ).loc Cert.MergeBwdIdeal.main_arg6)
      ∧ m' ((c.tc : Thread Cert.MergeGradIdeal.nD Cert.MergeGradIdeal.τ).loc Cert.MergeGradIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeGradIdeal.defs (F := Ideal)) (onTc (τ := Cert.MergeGradIdeal.τ) (Cert.MergeGradIdeal.main (F := Ideal))) ⟨m', fun _ => 0, g'⟩ (fun r => ∀ c : Dev Cert.MergeGradIdeal.nD,
          r.2.mem ((c.tc : Thread Cert.MergeGradIdeal.nD Cert.MergeGradIdeal.τ).loc Cert.MergeGradIdeal.main_v11) = v0 c
          ∧ r.2.mem ((c.tc : Thread Cert.MergeGradIdeal.nD Cert.MergeGradIdeal.τ).loc Cert.MergeGradIdeal.main_v17) = v1 c
          ∧ r.2.mem ((c.tc : Thread Cert.MergeGradIdeal.nD Cert.MergeGradIdeal.τ).loc Cert.MergeGradIdeal.main_v19) = v2 c
          ∧ r.2.mem ((c.tc : Thread Cert.MergeGradIdeal.nD Cert.MergeGradIdeal.τ).loc Cert.MergeGradIdeal.main_v21) = v3 c
          ∧ r.2.mem ((c.tc : Thread Cert.MergeGradIdeal.nD Cert.MergeGradIdeal.τ).loc Cert.MergeGradIdeal.main_v38) = v4 c
          ∧ r.2.mem ((c.tc : Thread Cert.MergeGradIdeal.nD Cert.MergeGradIdeal.τ).loc Cert.MergeGradIdeal.main_v43) = v5 c
          ∧ r.2.mem ((c.tc : Thread Cert.MergeGradIdeal.nD Cert.MergeGradIdeal.τ).loc Cert.MergeGradIdeal.main_arg0) = m' ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m' ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m' ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m' ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m' ((c.tc : Thread Cert.MergeGradIdeal.nD Cert.MergeGradIdeal.τ).loc Cert.MergeGradIdeal.main_arg4)
          ∧ r.2.mem ((c.tc : Thread Cert.MergeGradIdeal.nD Cert.MergeGradIdeal.τ).loc Cert.MergeGradIdeal.main_arg5) = m' ((c.tc : Thread Cert.MergeGradIdeal.nD Cert.MergeGradIdeal.τ).loc Cert.MergeGradIdeal.main_arg5)
          ∧ r.2.mem ((c.tc : Thread Cert.MergeGradIdeal.nD Cert.MergeGradIdeal.τ).loc Cert.MergeGradIdeal.main_arg6) = m' ((c.tc : Thread Cert.MergeGradIdeal.nD Cert.MergeGradIdeal.τ).loc Cert.MergeGradIdeal.main_arg6)
          ∧ r.2.mem ((c.tc : Thread Cert.MergeGradIdeal.nD Cert.MergeGradIdeal.τ).loc Cert.MergeGradIdeal.main_arg7) = m' ((c.tc : Thread Cert.MergeGradIdeal.nD Cert.MergeGradIdeal.τ).loc Cert.MergeGradIdeal.main_arg7))

def preserves_DiscGrad_DiscGradIdeal : Prop :=
  True

def algebraic_DiscGradIdeal_ChainRuleIdeal_pre_tame [hDiscGradIdeal : Cert.DiscGradIdeal.Facts] [hChainRuleIdeal : Cert.ChainRuleIdeal.Facts] [hPre_tame : Cert.Pre_tame.Facts] : Prop :=
  ∀ (m : (ℓ : Loc Cert.DiscGradIdeal.nD Cert.DiscGradIdeal.τ Cert.DiscGradIdeal.sig) → Buf (Elt Ideal) ℓ) (g : Dev Cert.DiscGradIdeal.nD → PrngReg)
    (m' : (ℓ : Loc Cert.ChainRuleIdeal.nD Cert.ChainRuleIdeal.τ Cert.ChainRuleIdeal.sig) → Buf (Elt Ideal) ℓ) (g' : Dev Cert.ChainRuleIdeal.nD → PrngReg), Pre_DiscGradIdeal_tame m →
    (∀ c : Dev Cert.DiscGradIdeal.nD,
      m' ((c.tc : Thread Cert.ChainRuleIdeal.nD Cert.ChainRuleIdeal.τ).loc Cert.ChainRuleIdeal.main_arg0) = m ((c.tc : Thread Cert.DiscGradIdeal.nD Cert.DiscGradIdeal.τ).loc Cert.DiscGradIdeal.main_arg0)
      ∧ m' ((c.tc : Thread Cert.ChainRuleIdeal.nD Cert.ChainRuleIdeal.τ).loc Cert.ChainRuleIdeal.main_arg1) = m ((c.tc : Thread Cert.DiscGradIdeal.nD Cert.DiscGradIdeal.τ).loc Cert.DiscGradIdeal.main_arg1)
      ∧ m' ((c.tc : Thread Cert.ChainRuleIdeal.nD Cert.ChainRuleIdeal.τ).loc Cert.ChainRuleIdeal.main_arg2) = m ((c.tc : Thread Cert.DiscGradIdeal.nD Cert.DiscGradIdeal.τ).loc Cert.DiscGradIdeal.main_arg2)
      ∧ m' ((c.tc : Thread Cert.ChainRuleIdeal.nD Cert.ChainRuleIdeal.τ).loc Cert.ChainRuleIdeal.main_arg3) = m ((c.tc : Thread Cert.DiscGradIdeal.nD Cert.DiscGradIdeal.τ).loc Cert.DiscGradIdeal.main_arg3)
      ∧ m' ((c.tc : Thread Cert.ChainRuleIdeal.nD Cert.ChainRuleIdeal.τ).loc Cert.ChainRuleIdeal.main_arg4) = m ((c.tc : Thread Cert.DiscGradIdeal.nD Cert.DiscGradIdeal.τ).loc Cert.DiscGradIdeal.main_arg4)
      ∧ m' ((c.tc : Thread Cert.ChainRuleIdeal.nD Cert.ChainRuleIdeal.τ).loc Cert.ChainRuleIdeal.main_arg5) = m ((c.tc : Thread Cert.DiscGradIdeal.nD Cert.DiscGradIdeal.τ).loc Cert.DiscGradIdeal.main_arg5)
      ∧ m' ((c.tc : Thread Cert.ChainRuleIdeal.nD Cert.ChainRuleIdeal.τ).loc Cert.ChainRuleIdeal.main_arg6) = m ((c.tc : Thread Cert.DiscGradIdeal.nD Cert.DiscGradIdeal.τ).loc Cert.DiscGradIdeal.main_arg6)
      ∧ m' ((c.tc : Thread Cert.ChainRuleIdeal.nD Cert.ChainRuleIdeal.τ).loc Cert.ChainRuleIdeal.main_arg7) = m ((c.tc : Thread Cert.DiscGradIdeal.nD Cert.DiscGradIdeal.τ).loc Cert.DiscGradIdeal.main_arg7)
      ∧ m' ((c.tc : Thread Cert.ChainRuleIdeal.nD Cert.ChainRuleIdeal.τ).loc Cert.ChainRuleIdeal.main_arg8) = m ((c.tc : Thread Cert.DiscGradIdeal.nD Cert.DiscGradIdeal.τ).loc Cert.DiscGradIdeal.main_arg8)) →
    ∃ (v0 : (c : Dev Cert.DiscGradIdeal.nD) → Buf (Elt Ideal) ((c.tc : Thread Cert.DiscGradIdeal.nD Cert.DiscGradIdeal.τ).loc Cert.DiscGradIdeal.main_v142)) (v1 : (c : Dev Cert.DiscGradIdeal.nD) → Buf (Elt Ideal) ((c.tc : Thread Cert.DiscGradIdeal.nD Cert.DiscGradIdeal.τ).loc Cert.DiscGradIdeal.main_v134)) (v2 : (c : Dev Cert.DiscGradIdeal.nD) → Buf (Elt Ideal) ((c.tc : Thread Cert.DiscGradIdeal.nD Cert.DiscGradIdeal.τ).loc Cert.DiscGradIdeal.main_v144)) (v3 : (c : Dev Cert.DiscGradIdeal.nD) → Buf (Elt Ideal) ((c.tc : Thread Cert.DiscGradIdeal.nD Cert.DiscGradIdeal.τ).loc Cert.DiscGradIdeal.main_v76)) (v4 : (c : Dev Cert.DiscGradIdeal.nD) → Buf (Elt Ideal) ((c.tc : Thread Cert.DiscGradIdeal.nD Cert.DiscGradIdeal.τ).loc Cert.DiscGradIdeal.main_v68)),
      θ_run (Cert.DiscGradIdeal.defs (F := Ideal)) (onTc (τ := Cert.DiscGradIdeal.τ) (Cert.DiscGradIdeal.main (F := Ideal))) ⟨m, fun _ => 0, g⟩ (fun r => ∀ c : Dev Cert.DiscGradIdeal.nD,
          r.2.mem ((c.tc : Thread Cert.DiscGradIdeal.nD Cert.DiscGradIdeal.τ).loc Cert.DiscGradIdeal.main_v142) = v0 c
          ∧ r.2.mem ((c.tc : Thread Cert.DiscGradIdeal.nD Cert.DiscGradIdeal.τ).loc Cert.DiscGradIdeal.main_v134) = v1 c
          ∧ r.2.mem ((c.tc : Thread Cert.DiscGradIdeal.nD Cert.DiscGradIdeal.τ).loc Cert.DiscGradIdeal.main_v144) = v2 c
          ∧ r.2.mem ((c.tc : Thread Cert.DiscGradIdeal.nD Cert.DiscGradIdeal.τ).loc Cert.DiscGradIdeal.main_v76) = v3 c
          ∧ r.2.mem ((c.tc : Thread Cert.DiscGradIdeal.nD Cert.DiscGradIdeal.τ).loc Cert.DiscGradIdeal.main_v68) = v4 c
          ∧ r.2.mem ((c.tc : Thread Cert.DiscGradIdeal.nD Cert.DiscGradIdeal.τ).loc Cert.DiscGradIdeal.main_arg0) = m ((c.tc : Thread Cert.DiscGradIdeal.nD Cert.DiscGradIdeal.τ).loc Cert.DiscGradIdeal.main_arg0)
          ∧ r.2.mem ((c.tc : Thread Cert.DiscGradIdeal.nD Cert.DiscGradIdeal.τ).loc Cert.DiscGradIdeal.main_arg1) = m ((c.tc : Thread Cert.DiscGradIdeal.nD Cert.DiscGradIdeal.τ).loc Cert.DiscGradIdeal.main_arg1)
          ∧ r.2.mem ((c.tc : Thread Cert.DiscGradIdeal.nD Cert.DiscGradIdeal.τ).loc Cert.DiscGradIdeal.main_arg2) = m ((c.tc : Thread Cert.DiscGradIdeal.nD Cert.DiscGradIdeal.τ).loc Cert.DiscGradIdeal.main_arg2)
          ∧ r.2.mem ((c.tc : Thread Cert.DiscGradIdeal.nD Cert.DiscGradIdeal.τ).loc Cert.DiscGradIdeal.main_arg3) = m ((c.tc : Thread Cert.DiscGradIdeal.nD Cert.DiscGradIdeal.τ).loc Cert.DiscGradIdeal.main_arg3)
          ∧ r.2.mem ((c.tc : Thread Cert.DiscGradIdeal.nD Cert.DiscGradIdeal.τ).loc Cert.DiscGradIdeal.main_arg4) = m ((c.tc : Thread Cert.DiscGradIdeal.nD Cert.DiscGradIdeal.τ).loc Cert.DiscGradIdeal.main_arg4)
          ∧ r.2.mem ((c.tc : Thread Cert.DiscGradIdeal.nD Cert.DiscGradIdeal.τ).loc Cert.DiscGradIdeal.main_arg5) = m ((c.tc : Thread Cert.DiscGradIdeal.nD Cert.DiscGradIdeal.τ).loc Cert.DiscGradIdeal.main_arg5)
          ∧ r.2.mem ((c.tc : Thread Cert.DiscGradIdeal.nD Cert.DiscGradIdeal.τ).loc Cert.DiscGradIdeal.main_arg6) = m ((c.tc : Thread Cert.DiscGradIdeal.nD Cert.DiscGradIdeal.τ).loc Cert.DiscGradIdeal.main_arg6)
          ∧ r.2.mem ((c.tc : Thread Cert.DiscGradIdeal.nD Cert.DiscGradIdeal.τ).loc Cert.DiscGradIdeal.main_arg7) = m ((c.tc : Thread Cert.DiscGradIdeal.nD Cert.DiscGradIdeal.τ).loc Cert.DiscGradIdeal.main_arg7)
          ∧ r.2.mem ((c.tc : Thread Cert.DiscGradIdeal.nD Cert.DiscGradIdeal.τ).loc Cert.DiscGradIdeal.main_arg8) = m ((c.tc : Thread Cert.DiscGradIdeal.nD Cert.DiscGradIdeal.τ).loc Cert.DiscGradIdeal.main_arg8))
      ∧ θ_run (Cert.ChainRuleIdeal.defs (F := Ideal)) (onTc (τ := Cert.ChainRuleIdeal.τ) (Cert.ChainRuleIdeal.main (F := Ideal))) ⟨m', fun _ => 0, g'⟩ (fun r => ∀ c : Dev Cert.ChainRuleIdeal.nD,
          r.2.mem ((c.tc : Thread Cert.ChainRuleIdeal.nD Cert.ChainRuleIdeal.τ).loc Cert.ChainRuleIdeal.main_v89) = v0 c
          ∧ r.2.mem ((c.tc : Thread Cert.ChainRuleIdeal.nD Cert.ChainRuleIdeal.τ).loc Cert.ChainRuleIdeal.main_v92) = v1 c
          ∧ r.2.mem ((c.tc : Thread Cert.ChainRuleIdeal.nD Cert.ChainRuleIdeal.τ).loc Cert.ChainRuleIdeal.main_v86) = v2 c
          ∧ r.2.mem ((c.tc : Thread Cert.ChainRuleIdeal.nD Cert.ChainRuleIdeal.τ).loc Cert.ChainRuleIdeal.main_v38) = v3 c
          ∧ r.2.mem ((c.tc : Thread Cert.ChainRuleIdeal.nD Cert.ChainRuleIdeal.τ).loc Cert.ChainRuleIdeal.main_v43) = v4 c
          ∧ r.2.mem ((c.tc : Thread Cert.ChainRuleIdeal.nD Cert.ChainRuleIdeal.τ).loc Cert.ChainRuleIdeal.main_arg0) = m' ((c.tc : Thread Cert.ChainRuleIdeal.nD Cert.ChainRuleIdeal.τ).loc Cert.ChainRuleIdeal.main_arg0)
          ∧ r.2.mem ((c.tc : Thread Cert.ChainRuleIdeal.nD Cert.ChainRuleIdeal.τ).loc Cert.ChainRuleIdeal.main_arg1) = m' ((c.tc : Thread Cert.ChainRuleIdeal.nD Cert.ChainRuleIdeal.τ).loc Cert.ChainRuleIdeal.main_arg1)
          ∧ r.2.mem ((c.tc : Thread Cert.ChainRuleIdeal.nD Cert.ChainRuleIdeal.τ).loc Cert.ChainRuleIdeal.main_arg2) = m' ((c.tc : Thread Cert.ChainRuleIdeal.nD Cert.ChainRuleIdeal.τ).loc Cert.ChainRuleIdeal.main_arg2)
          ∧ r.2.mem ((c.tc : Thread Cert.ChainRuleIdeal.nD Cert.ChainRuleIdeal.τ).loc Cert.ChainRuleIdeal.main_arg3) = m' ((c.tc : Thread Cert.ChainRuleIdeal.nD Cert.ChainRuleIdeal.τ).loc Cert.ChainRuleIdeal.main_arg3)
          ∧ r.2.mem ((c.tc : Thread Cert.ChainRuleIdeal.nD Cert.ChainRuleIdeal.τ).loc Cert.ChainRuleIdeal.main_arg4) = m' ((c.tc : Thread Cert.ChainRuleIdeal.nD Cert.ChainRuleIdeal.τ).loc Cert.ChainRuleIdeal.main_arg4)
          ∧ r.2.mem ((c.tc : Thread Cert.ChainRuleIdeal.nD Cert.ChainRuleIdeal.τ).loc Cert.ChainRuleIdeal.main_arg5) = m' ((c.tc : Thread Cert.ChainRuleIdeal.nD Cert.ChainRuleIdeal.τ).loc Cert.ChainRuleIdeal.main_arg5)
          ∧ r.2.mem ((c.tc : Thread Cert.ChainRuleIdeal.nD Cert.ChainRuleIdeal.τ).loc Cert.ChainRuleIdeal.main_arg6) = m' ((c.tc : Thread Cert.ChainRuleIdeal.nD Cert.ChainRuleIdeal.τ).loc Cert.ChainRuleIdeal.main_arg6)
          ∧ r.2.mem ((c.tc : Thread Cert.ChainRuleIdeal.nD Cert.ChainRuleIdeal.τ).loc Cert.ChainRuleIdeal.main_arg7) = m' ((c.tc : Thread Cert.ChainRuleIdeal.nD Cert.ChainRuleIdeal.τ).loc Cert.ChainRuleIdeal.main_arg7)
          ∧ r.2.mem ((c.tc : Thread Cert.ChainRuleIdeal.nD Cert.ChainRuleIdeal.τ).loc Cert.ChainRuleIdeal.main_arg8) = m' ((c.tc : Thread Cert.ChainRuleIdeal.nD Cert.ChainRuleIdeal.τ).loc Cert.ChainRuleIdeal.main_arg8))

def Claim : Prop :=
  ∃ (hKernel : Cert.Kernel.Facts) (hKernelIdeal : Cert.KernelIdeal.Facts) (hReferenceIdeal : Cert.ReferenceIdeal.Facts) (hReference : Cert.Reference.Facts) (hGatherWeights : Cert.GatherWeights.Facts) (hGatherWeightsIdeal : Cert.GatherWeightsIdeal.Facts) (hWeightsIdeal : Cert.WeightsIdeal.Facts) (hWeights : Cert.Weights.Facts) (hGatherSmall : Cert.GatherSmall.Facts) (hGatherSmallIdeal : Cert.GatherSmallIdeal.Facts) (hSmallIdeal : Cert.SmallIdeal.Facts) (hSmall : Cert.Small.Facts) (hGatherMod : Cert.GatherMod.Facts) (hGatherModIdeal : Cert.GatherModIdeal.Facts) (hModIdeal : Cert.ModIdeal.Facts) (hMod : Cert.Mod.Facts) (hGatherC : Cert.GatherC.Facts) (hGatherCIdeal : Cert.GatherCIdeal.Facts) (hCIdeal : Cert.CIdeal.Facts) (hC : Cert.C.Facts) (hSumSmall : Cert.SumSmall.Facts) (hSumSmallIdeal : Cert.SumSmallIdeal.Facts) (hTotalIdeal : Cert.TotalIdeal.Facts) (hAdamIn : Cert.AdamIn.Facts) (hAdamInIdeal : Cert.AdamInIdeal.Facts) (hStepInIdeal : Cert.StepInIdeal.Facts) (hAdamGlu : Cert.AdamGlu.Facts) (hAdamGluIdeal : Cert.AdamGluIdeal.Facts) (hStepGluIdeal : Cert.StepGluIdeal.Facts) (hAdamBranch : Cert.AdamBranch.Facts) (hAdamBranchIdeal : Cert.AdamBranchIdeal.Facts) (hStepBranchIdeal : Cert.StepBranchIdeal.Facts) (hAdamOut : Cert.AdamOut.Facts) (hAdamOutIdeal : Cert.AdamOutIdeal.Facts) (hStepOutIdeal : Cert.StepOutIdeal.Facts) (hAdamAda : Cert.AdamAda.Facts) (hAdamAdaIdeal : Cert.AdamAdaIdeal.Facts) (hStepAdaIdeal : Cert.StepAdaIdeal.Facts) (hAdamPack : Cert.AdamPack.Facts) (hAdamPackIdeal : Cert.AdamPackIdeal.Facts) (hStepPackIdeal : Cert.StepPackIdeal.Facts) (hMmAdaFwd : Cert.MmAdaFwd.Facts) (hMmAdaFwdIdeal : Cert.MmAdaFwdIdeal.Facts) (hTimesAdaFwdIdeal : Cert.TimesAdaFwdIdeal.Facts) (hMmProjA : Cert.MmProjA.Facts) (hMmProjAIdeal : Cert.MmProjAIdeal.Facts) (hTimesProjAIdeal : Cert.TimesProjAIdeal.Facts) (hMmProjS : Cert.MmProjS.Facts) (hMmProjSIdeal : Cert.MmProjSIdeal.Facts) (hTimesProjSIdeal : Cert.TimesProjSIdeal.Facts) (hMmProjG : Cert.MmProjG.Facts) (hMmProjGIdeal : Cert.MmProjGIdeal.Facts) (hTimesProjGIdeal : Cert.TimesProjGIdeal.Facts) (hMmDy : Cert.MmDy.Facts) (hMmDyIdeal : Cert.MmDyIdeal.Facts) (hTimesDyIdeal : Cert.TimesDyIdeal.Facts) (hMmDwAda : Cert.MmDwAda.Facts) (hMmDwAdaIdeal : Cert.MmDwAdaIdeal.Facts) (hTimesDwAdaIdeal : Cert.TimesDwAdaIdeal.Facts) (hMmDwOut : Cert.MmDwOut.Facts) (hMmDwOutIdeal : Cert.MmDwOutIdeal.Facts) (hTimesDwOutIdeal : Cert.TimesDwOutIdeal.Facts) (hMmDwBranch : Cert.MmDwBranch.Facts) (hMmDwBranchIdeal : Cert.MmDwBranchIdeal.Facts) (hTimesDwBranchIdeal : Cert.TimesDwBranchIdeal.Facts) (hMmDwA : Cert.MmDwA.Facts) (hMmDwAIdeal : Cert.MmDwAIdeal.Facts) (hTimesDwAIdeal : Cert.TimesDwAIdeal.Facts) (hMmDwG : Cert.MmDwG.Facts) (hMmDwGIdeal : Cert.MmDwGIdeal.Facts) (hTimesDwGIdeal : Cert.TimesDwGIdeal.Facts) (hNormFwd : Cert.NormFwd.Facts) (hNormFwdIdeal : Cert.NormFwdIdeal.Facts) (hNormIdeal : Cert.NormIdeal.Facts) (hNormBwd : Cert.NormBwd.Facts) (hNormBwdIdeal : Cert.NormBwdIdeal.Facts) (hNormGradIdeal : Cert.NormGradIdeal.Facts) (hFinalLoss : Cert.FinalLoss.Facts) (hFinalLossIdeal : Cert.FinalLossIdeal.Facts) (hLossIdeal : Cert.LossIdeal.Facts) (hDh : Cert.Dh.Facts) (hDhIdeal : Cert.DhIdeal.Facts) (hInputGradIdeal : Cert.InputGradIdeal.Facts) (hMergeFwd : Cert.MergeFwd.Facts) (hMergeFwdIdeal : Cert.MergeFwdIdeal.Facts) (hMergeIdeal : Cert.MergeIdeal.Facts) (hOutFwd : Cert.OutFwd.Facts) (hOutFwdIdeal : Cert.OutFwdIdeal.Facts) (hResidualIdeal : Cert.ResidualIdeal.Facts) (hMergeBwd : Cert.MergeBwd.Facts) (hMergeBwdIdeal : Cert.MergeBwdIdeal.Facts) (hMergeGradIdeal : Cert.MergeGradIdeal.Facts) (hDiscGrad : Cert.DiscGrad.Facts) (hDiscGradIdeal : Cert.DiscGradIdeal.Facts) (hChainRuleIdeal : Cert.ChainRuleIdeal.Facts) (hPre_tame : Cert.Pre_tame.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_GatherWeights (hGatherWeights := hGatherWeights)
    ∧ quiescent_GatherWeightsIdeal (hGatherWeightsIdeal := hGatherWeightsIdeal)
    ∧ quiescent_WeightsIdeal (hWeightsIdeal := hWeightsIdeal)
    ∧ quiescent_Weights (hWeights := hWeights)
    ∧ quiescent_GatherSmall (hGatherSmall := hGatherSmall)
    ∧ quiescent_GatherSmallIdeal (hGatherSmallIdeal := hGatherSmallIdeal)
    ∧ quiescent_SmallIdeal (hSmallIdeal := hSmallIdeal)
    ∧ quiescent_Small (hSmall := hSmall)
    ∧ quiescent_GatherMod (hGatherMod := hGatherMod)
    ∧ quiescent_GatherModIdeal (hGatherModIdeal := hGatherModIdeal)
    ∧ quiescent_ModIdeal (hModIdeal := hModIdeal)
    ∧ quiescent_Mod (hMod := hMod)
    ∧ quiescent_GatherC (hGatherC := hGatherC)
    ∧ quiescent_GatherCIdeal (hGatherCIdeal := hGatherCIdeal)
    ∧ quiescent_CIdeal (hCIdeal := hCIdeal)
    ∧ quiescent_C (hC := hC)
    ∧ quiescent_SumSmall (hSumSmall := hSumSmall)
    ∧ quiescent_SumSmallIdeal (hSumSmallIdeal := hSumSmallIdeal)
    ∧ quiescent_TotalIdeal (hTotalIdeal := hTotalIdeal)
    ∧ quiescent_AdamIn (hAdamIn := hAdamIn)
    ∧ quiescent_AdamInIdeal (hAdamInIdeal := hAdamInIdeal)
    ∧ quiescent_StepInIdeal (hStepInIdeal := hStepInIdeal)
    ∧ quiescent_AdamGlu (hAdamGlu := hAdamGlu)
    ∧ quiescent_AdamGluIdeal (hAdamGluIdeal := hAdamGluIdeal)
    ∧ quiescent_StepGluIdeal (hStepGluIdeal := hStepGluIdeal)
    ∧ quiescent_AdamBranch (hAdamBranch := hAdamBranch)
    ∧ quiescent_AdamBranchIdeal (hAdamBranchIdeal := hAdamBranchIdeal)
    ∧ quiescent_StepBranchIdeal (hStepBranchIdeal := hStepBranchIdeal)
    ∧ quiescent_AdamOut (hAdamOut := hAdamOut)
    ∧ quiescent_AdamOutIdeal (hAdamOutIdeal := hAdamOutIdeal)
    ∧ quiescent_StepOutIdeal (hStepOutIdeal := hStepOutIdeal)
    ∧ quiescent_AdamAda (hAdamAda := hAdamAda)
    ∧ quiescent_AdamAdaIdeal (hAdamAdaIdeal := hAdamAdaIdeal)
    ∧ quiescent_StepAdaIdeal (hStepAdaIdeal := hStepAdaIdeal)
    ∧ quiescent_AdamPack (hAdamPack := hAdamPack)
    ∧ quiescent_AdamPackIdeal (hAdamPackIdeal := hAdamPackIdeal)
    ∧ quiescent_StepPackIdeal (hStepPackIdeal := hStepPackIdeal)
    ∧ quiescent_MmAdaFwd (hMmAdaFwd := hMmAdaFwd)
    ∧ quiescent_MmAdaFwdIdeal (hMmAdaFwdIdeal := hMmAdaFwdIdeal)
    ∧ quiescent_TimesAdaFwdIdeal (hTimesAdaFwdIdeal := hTimesAdaFwdIdeal)
    ∧ quiescent_MmProjA (hMmProjA := hMmProjA)
    ∧ quiescent_MmProjAIdeal (hMmProjAIdeal := hMmProjAIdeal)
    ∧ quiescent_TimesProjAIdeal (hTimesProjAIdeal := hTimesProjAIdeal)
    ∧ quiescent_MmProjS (hMmProjS := hMmProjS)
    ∧ quiescent_MmProjSIdeal (hMmProjSIdeal := hMmProjSIdeal)
    ∧ quiescent_TimesProjSIdeal (hTimesProjSIdeal := hTimesProjSIdeal)
    ∧ quiescent_MmProjG (hMmProjG := hMmProjG)
    ∧ quiescent_MmProjGIdeal (hMmProjGIdeal := hMmProjGIdeal)
    ∧ quiescent_TimesProjGIdeal (hTimesProjGIdeal := hTimesProjGIdeal)
    ∧ quiescent_MmDy (hMmDy := hMmDy)
    ∧ quiescent_MmDyIdeal (hMmDyIdeal := hMmDyIdeal)
    ∧ quiescent_TimesDyIdeal (hTimesDyIdeal := hTimesDyIdeal)
    ∧ quiescent_MmDwAda (hMmDwAda := hMmDwAda)
    ∧ quiescent_MmDwAdaIdeal (hMmDwAdaIdeal := hMmDwAdaIdeal)
    ∧ quiescent_TimesDwAdaIdeal (hTimesDwAdaIdeal := hTimesDwAdaIdeal)
    ∧ quiescent_MmDwOut (hMmDwOut := hMmDwOut)
    ∧ quiescent_MmDwOutIdeal (hMmDwOutIdeal := hMmDwOutIdeal)
    ∧ quiescent_TimesDwOutIdeal (hTimesDwOutIdeal := hTimesDwOutIdeal)
    ∧ quiescent_MmDwBranch (hMmDwBranch := hMmDwBranch)
    ∧ quiescent_MmDwBranchIdeal (hMmDwBranchIdeal := hMmDwBranchIdeal)
    ∧ quiescent_TimesDwBranchIdeal (hTimesDwBranchIdeal := hTimesDwBranchIdeal)
    ∧ quiescent_MmDwA (hMmDwA := hMmDwA)
    ∧ quiescent_MmDwAIdeal (hMmDwAIdeal := hMmDwAIdeal)
    ∧ quiescent_TimesDwAIdeal (hTimesDwAIdeal := hTimesDwAIdeal)
    ∧ quiescent_MmDwG (hMmDwG := hMmDwG)
    ∧ quiescent_MmDwGIdeal (hMmDwGIdeal := hMmDwGIdeal)
    ∧ quiescent_TimesDwGIdeal (hTimesDwGIdeal := hTimesDwGIdeal)
    ∧ quiescent_NormFwd (hNormFwd := hNormFwd)
    ∧ quiescent_NormFwdIdeal (hNormFwdIdeal := hNormFwdIdeal)
    ∧ quiescent_NormIdeal (hNormIdeal := hNormIdeal)
    ∧ quiescent_NormBwd (hNormBwd := hNormBwd)
    ∧ quiescent_NormBwdIdeal (hNormBwdIdeal := hNormBwdIdeal)
    ∧ quiescent_NormGradIdeal (hNormGradIdeal := hNormGradIdeal)
    ∧ quiescent_FinalLoss (hFinalLoss := hFinalLoss)
    ∧ quiescent_FinalLossIdeal (hFinalLossIdeal := hFinalLossIdeal)
    ∧ quiescent_LossIdeal (hLossIdeal := hLossIdeal)
    ∧ quiescent_Dh (hDh := hDh)
    ∧ quiescent_DhIdeal (hDhIdeal := hDhIdeal)
    ∧ quiescent_InputGradIdeal (hInputGradIdeal := hInputGradIdeal)
    ∧ quiescent_MergeFwd (hMergeFwd := hMergeFwd)
    ∧ quiescent_MergeFwdIdeal (hMergeFwdIdeal := hMergeFwdIdeal)
    ∧ quiescent_MergeIdeal (hMergeIdeal := hMergeIdeal)
    ∧ quiescent_OutFwd (hOutFwd := hOutFwd)
    ∧ quiescent_OutFwdIdeal (hOutFwdIdeal := hOutFwdIdeal)
    ∧ quiescent_ResidualIdeal (hResidualIdeal := hResidualIdeal)
    ∧ quiescent_MergeBwd (hMergeBwd := hMergeBwd)
    ∧ quiescent_MergeBwdIdeal (hMergeBwdIdeal := hMergeBwdIdeal)
    ∧ quiescent_MergeGradIdeal (hMergeGradIdeal := hMergeGradIdeal)
    ∧ quiescent_DiscGrad (hDiscGrad := hDiscGrad)
    ∧ quiescent_DiscGradIdeal (hDiscGradIdeal := hDiscGradIdeal)
    ∧ quiescent_DiscGradIdeal_pre_tame (hDiscGradIdeal := hDiscGradIdeal) (hPre_tame := hPre_tame)
    ∧ quiescent_ChainRuleIdeal (hChainRuleIdeal := hChainRuleIdeal)
    ∧ quiescent_ChainRuleIdeal_pre_tame (hChainRuleIdeal := hChainRuleIdeal) (hPre_tame := hPre_tame)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_GatherWeights_GatherWeightsIdeal
    ∧ algebraic_GatherWeightsIdeal_WeightsIdeal (hGatherWeightsIdeal := hGatherWeightsIdeal) (hWeightsIdeal := hWeightsIdeal)
    ∧ bitexact_GatherWeights_Weights (hGatherWeights := hGatherWeights) (hWeights := hWeights)
    ∧ preserves_GatherSmall_GatherSmallIdeal
    ∧ algebraic_GatherSmallIdeal_SmallIdeal (hGatherSmallIdeal := hGatherSmallIdeal) (hSmallIdeal := hSmallIdeal)
    ∧ bitexact_GatherSmall_Small (hGatherSmall := hGatherSmall) (hSmall := hSmall)
    ∧ preserves_GatherMod_GatherModIdeal
    ∧ algebraic_GatherModIdeal_ModIdeal (hGatherModIdeal := hGatherModIdeal) (hModIdeal := hModIdeal)
    ∧ bitexact_GatherMod_Mod (hGatherMod := hGatherMod) (hMod := hMod)
    ∧ preserves_GatherC_GatherCIdeal
    ∧ algebraic_GatherCIdeal_CIdeal (hGatherCIdeal := hGatherCIdeal) (hCIdeal := hCIdeal)
    ∧ bitexact_GatherC_C (hGatherC := hGatherC) (hC := hC)
    ∧ preserves_SumSmall_SumSmallIdeal
    ∧ algebraic_SumSmallIdeal_TotalIdeal (hSumSmallIdeal := hSumSmallIdeal) (hTotalIdeal := hTotalIdeal)
    ∧ preserves_AdamIn_AdamInIdeal
    ∧ algebraic_AdamInIdeal_StepInIdeal (hAdamInIdeal := hAdamInIdeal) (hStepInIdeal := hStepInIdeal)
    ∧ preserves_AdamGlu_AdamGluIdeal
    ∧ algebraic_AdamGluIdeal_StepGluIdeal (hAdamGluIdeal := hAdamGluIdeal) (hStepGluIdeal := hStepGluIdeal)
    ∧ preserves_AdamBranch_AdamBranchIdeal
    ∧ algebraic_AdamBranchIdeal_StepBranchIdeal (hAdamBranchIdeal := hAdamBranchIdeal) (hStepBranchIdeal := hStepBranchIdeal)
    ∧ preserves_AdamOut_AdamOutIdeal
    ∧ algebraic_AdamOutIdeal_StepOutIdeal (hAdamOutIdeal := hAdamOutIdeal) (hStepOutIdeal := hStepOutIdeal)
    ∧ preserves_AdamAda_AdamAdaIdeal
    ∧ algebraic_AdamAdaIdeal_StepAdaIdeal (hAdamAdaIdeal := hAdamAdaIdeal) (hStepAdaIdeal := hStepAdaIdeal)
    ∧ preserves_AdamPack_AdamPackIdeal
    ∧ algebraic_AdamPackIdeal_StepPackIdeal (hAdamPackIdeal := hAdamPackIdeal) (hStepPackIdeal := hStepPackIdeal)
    ∧ preserves_MmAdaFwd_MmAdaFwdIdeal
    ∧ algebraic_MmAdaFwdIdeal_TimesAdaFwdIdeal (hMmAdaFwdIdeal := hMmAdaFwdIdeal) (hTimesAdaFwdIdeal := hTimesAdaFwdIdeal)
    ∧ preserves_MmProjA_MmProjAIdeal
    ∧ algebraic_MmProjAIdeal_TimesProjAIdeal (hMmProjAIdeal := hMmProjAIdeal) (hTimesProjAIdeal := hTimesProjAIdeal)
    ∧ preserves_MmProjS_MmProjSIdeal
    ∧ algebraic_MmProjSIdeal_TimesProjSIdeal (hMmProjSIdeal := hMmProjSIdeal) (hTimesProjSIdeal := hTimesProjSIdeal)
    ∧ preserves_MmProjG_MmProjGIdeal
    ∧ algebraic_MmProjGIdeal_TimesProjGIdeal (hMmProjGIdeal := hMmProjGIdeal) (hTimesProjGIdeal := hTimesProjGIdeal)
    ∧ preserves_MmDy_MmDyIdeal
    ∧ algebraic_MmDyIdeal_TimesDyIdeal (hMmDyIdeal := hMmDyIdeal) (hTimesDyIdeal := hTimesDyIdeal)
    ∧ preserves_MmDwAda_MmDwAdaIdeal
    ∧ algebraic_MmDwAdaIdeal_TimesDwAdaIdeal (hMmDwAdaIdeal := hMmDwAdaIdeal) (hTimesDwAdaIdeal := hTimesDwAdaIdeal)
    ∧ preserves_MmDwOut_MmDwOutIdeal
    ∧ algebraic_MmDwOutIdeal_TimesDwOutIdeal (hMmDwOutIdeal := hMmDwOutIdeal) (hTimesDwOutIdeal := hTimesDwOutIdeal)
    ∧ preserves_MmDwBranch_MmDwBranchIdeal
    ∧ algebraic_MmDwBranchIdeal_TimesDwBranchIdeal (hMmDwBranchIdeal := hMmDwBranchIdeal) (hTimesDwBranchIdeal := hTimesDwBranchIdeal)
    ∧ preserves_MmDwA_MmDwAIdeal
    ∧ algebraic_MmDwAIdeal_TimesDwAIdeal (hMmDwAIdeal := hMmDwAIdeal) (hTimesDwAIdeal := hTimesDwAIdeal)
    ∧ preserves_MmDwG_MmDwGIdeal
    ∧ algebraic_MmDwGIdeal_TimesDwGIdeal (hMmDwGIdeal := hMmDwGIdeal) (hTimesDwGIdeal := hTimesDwGIdeal)
    ∧ preserves_NormFwd_NormFwdIdeal
    ∧ algebraic_NormFwdIdeal_NormIdeal (hNormFwdIdeal := hNormFwdIdeal) (hNormIdeal := hNormIdeal)
    ∧ preserves_NormBwd_NormBwdIdeal
    ∧ algebraic_NormBwdIdeal_NormGradIdeal (hNormBwdIdeal := hNormBwdIdeal) (hNormGradIdeal := hNormGradIdeal)
    ∧ preserves_FinalLoss_FinalLossIdeal
    ∧ algebraic_FinalLossIdeal_LossIdeal (hFinalLossIdeal := hFinalLossIdeal) (hLossIdeal := hLossIdeal)
    ∧ preserves_Dh_DhIdeal
    ∧ algebraic_DhIdeal_InputGradIdeal (hDhIdeal := hDhIdeal) (hInputGradIdeal := hInputGradIdeal)
    ∧ preserves_MergeFwd_MergeFwdIdeal
    ∧ algebraic_MergeFwdIdeal_MergeIdeal (hMergeFwdIdeal := hMergeFwdIdeal) (hMergeIdeal := hMergeIdeal)
    ∧ preserves_OutFwd_OutFwdIdeal
    ∧ algebraic_OutFwdIdeal_ResidualIdeal (hOutFwdIdeal := hOutFwdIdeal) (hResidualIdeal := hResidualIdeal)
    ∧ preserves_MergeBwd_MergeBwdIdeal
    ∧ algebraic_MergeBwdIdeal_MergeGradIdeal (hMergeBwdIdeal := hMergeBwdIdeal) (hMergeGradIdeal := hMergeGradIdeal)
    ∧ preserves_DiscGrad_DiscGradIdeal
    ∧ algebraic_DiscGradIdeal_ChainRuleIdeal_pre_tame (hDiscGradIdeal := hDiscGradIdeal) (hChainRuleIdeal := hChainRuleIdeal) (hPre_tame := hPre_tame)
-- ==== Pre_tame.lean ====
abbrev S2x32x64 : Shape := ⟨3, ![2, 32, 64]⟩
abbrev S2x32 : Shape := ⟨2, ![2, 32]⟩
abbrev S2x32x64x16 : Shape := ⟨4, ![2, 32, 64, 16]⟩
abbrev S2x32x1 : Shape := ⟨3, ![2, 32, 1]⟩
abbrev S2x32x64x1 : Shape := ⟨4, ![2, 32, 64, 1]⟩
abbrev S_ : Shape := ⟨0, ![]⟩

class Facts : Prop where
  bcast_S2x32_S2x32x1_0_1 : S2x32.BroadcastsInDim S2x32x1 (![0, 1] : Fin 2 → Fin S2x32x1.rank)
  bcast_S2x32x1_S2x32x64_0_1_2 : S2x32x1.BroadcastsInDim S2x32x64 (![0, 1, 2] : Fin 3 → Fin S2x32x64.rank)
  bcast_S2x32x64_S2x32x64x1_0_1_2 : S2x32x64.BroadcastsInDim S2x32x64x1 (![0, 1, 2] : Fin 3 → Fin S2x32x64x1.rank)
  bcast_S2x32x64x1_S2x32x64x16_0_1_2_3 : S2x32x64x1.BroadcastsInDim S2x32x64x16 (![0, 1, 2, 3] : Fin 4 → Fin S2x32x64x16.rank)
  bcast_S_S2x32x64x16 : S_.BroadcastsInDim S2x32x64x16 (![] : Fin 0 → Fin S2x32x64x16.rank)

variable [Facts]

def fn_part2 {F : FTy → Type} [FloatOps F] (main_arg8 : FVec F S2x32x64x16 .f32) (main_v38 : IVec S2x32x64x16 1) (main_v39 : FVec F S2x32x64x16 .f32) (main_cst_6 : FVec F S_ .f32) : IVec S2x32x64x16 1 :=
  let main_v40 : FVec F S2x32x64x16 .f32 := broadcastInDim S2x32x64x16 ![] bcast_S_S2x32x64x16 main_cst_6
  let main_v41 : IVec S2x32x64x16 1 := cmpf .olt main_v39 main_v40
  let main_v42 : IVec S2x32x64x16 1 := andi main_v38 main_v41
  let main_v43 : FVec F S2x32x64x16 .f32 := Host.absf main_arg8
  let main_cst_7 : FVec F S_ .f32 := constant S_ .f32 0x7F800000#32
  let main_v44 : FVec F S2x32x64x16 .f32 := broadcastInDim S2x32x64x16 ![] bcast_S_S2x32x64x16 main_cst_7
  let main_v45 : IVec S2x32x64x16 1 := cmpf .olt main_v43 main_v44
  let main_v46 : IVec S2x32x64x16 1 := andi main_v42 main_v45
  main_v46

def fn_part1 {F : FTy → Type} [FloatOps F] (main_arg3 : FVec F S2x32x64x16 .f32) (main_arg4 : FVec F S2x32x64x16 .f32) (main_arg7 : FVec F S2x32x64x16 .f32) (main_arg8 : FVec F S2x32x64x16 .f32) (main_v7 : FVec F S2x32x64x16 .f32) (main_v9 : FVec F S2x32x64x16 .f32) (main_v18 : IVec S2x32x64x16 1) (main_v19 : FVec F S2x32x64x16 .f32) (main_v20 : FVec F S2x32x64x16 .f32) : IVec S2x32x64x16 1 :=
  let main_v21 : IVec S2x32x64x16 1 := cmpf .olt main_v19 main_v20
  let main_v22 : IVec S2x32x64x16 1 := andi main_v18 main_v21
  let main_v23 : FVec F S2x32x64x16 .f32 := Host.absf main_v7
  let main_cst_2 : FVec F S_ .f32 := constant S_ .f32 0x7F800000#32
  let main_v24 : FVec F S2x32x64x16 .f32 := broadcastInDim S2x32x64x16 ![] bcast_S_S2x32x64x16 main_cst_2
  let main_v25 : IVec S2x32x64x16 1 := cmpf .olt main_v23 main_v24
  let main_v26 : IVec S2x32x64x16 1 := andi main_v22 main_v25
  let main_v27 : FVec F S2x32x64x16 .f32 := Host.absf main_v9
  let main_cst_3 : FVec F S_ .f32 := constant S_ .f32 0x7F800000#32
  let main_v28 : FVec F S2x32x64x16 .f32 := broadcastInDim S2x32x64x16 ![] bcast_S_S2x32x64x16 main_cst_3
  let main_v29 : IVec S2x32x64x16 1 := cmpf .olt main_v27 main_v28
  let main_v30 : IVec S2x32x64x16 1 := andi main_v26 main_v29
  let main_v31 : FVec F S2x32x64x16 .f32 := Host.absf main_arg3
  let main_cst_4 : FVec F S_ .f32 := constant S_ .f32 0x7F800000#32
  let main_v32 : FVec F S2x32x64x16 .f32 := broadcastInDim S2x32x64x16 ![] bcast_S_S2x32x64x16 main_cst_4
  let main_v33 : IVec S2x32x64x16 1 := cmpf .olt main_v31 main_v32
  let main_v34 : IVec S2x32x64x16 1 := andi main_v30 main_v33
  let main_v35 : FVec F S2x32x64x16 .f32 := Host.absf main_arg4
  let main_cst_5 : FVec F S_ .f32 := constant S_ .f32 0x7F800000#32
  let main_v36 : FVec F S2x32x64x16 .f32 := broadcastInDim S2x32x64x16 ![] bcast_S_S2x32x64x16 main_cst_5
  let main_v37 : IVec S2x32x64x16 1 := cmpf .olt main_v35 main_v36
  let main_v38 : IVec S2x32x64x16 1 := andi main_v34 main_v37
  let main_v39 : FVec F S2x32x64x16 .f32 := Host.absf main_arg7
  let main_cst_6 : FVec F S_ .f32 := constant S_ .f32 0x7F800000#32
  fn_part2 (F := F) main_arg8 main_v38 main_v39 main_cst_6

def fn {F : FTy → Type} [FloatOps F] (main_arg0 : FVec F S2x32x64 .f32) (main_arg1 : FVec F S2x32x64 .f32) (main_arg2 : FVec F S2x32 .f32) (main_arg3 : FVec F S2x32x64x16 .f32) (main_arg4 : FVec F S2x32x64x16 .f32) (main_arg5 : FVec F S2x32x64 .f32) (main_arg6 : FVec F S2x32x64 .f32) (main_arg7 : FVec F S2x32x64x16 .f32) (main_arg8 : FVec F S2x32x64x16 .f32) : IVec S2x32x64x16 1 :=
  let main_v0 : FVec F S2x32x1 .f32 := broadcastInDim S2x32x1 ![0, 1] bcast_S2x32_S2x32x1_0_1 main_arg2
  let main_v1 : FVec F S2x32x64 .f32 := broadcastInDim S2x32x64 ![0, 1, 2] bcast_S2x32x1_S2x32x64_0_1_2 main_v0
  let main_v2 : FVec F S2x32x64x1 .f32 := broadcastInDim S2x32x64x1 ![0, 1, 2] bcast_S2x32x64_S2x32x64x1_0_1_2 main_arg0
  let main_v3 : FVec F S2x32x64x16 .f32 := broadcastInDim S2x32x64x16 ![0, 1, 2, 3] bcast_S2x32x64x1_S2x32x64x16_0_1_2_3 main_v2
  let main_v4 : FVec F S2x32x64x1 .f32 := broadcastInDim S2x32x64x1 ![0, 1, 2] bcast_S2x32x64_S2x32x64x1_0_1_2 main_arg1
  let main_v5 : FVec F S2x32x64x16 .f32 := broadcastInDim S2x32x64x16 ![0, 1, 2, 3] bcast_S2x32x64x1_S2x32x64x16_0_1_2_3 main_v4
  let main_v6 : FVec F S2x32x64x1 .f32 := broadcastInDim S2x32x64x1 ![0, 1, 2] bcast_S2x32x64_S2x32x64x1_0_1_2 main_v1
  let main_v7 : FVec F S2x32x64x16 .f32 := broadcastInDim S2x32x64x16 ![0, 1, 2, 3] bcast_S2x32x64x1_S2x32x64x16_0_1_2_3 main_v6
  let main_v8 : FVec F S2x32x64x1 .f32 := broadcastInDim S2x32x64x1 ![0, 1, 2] bcast_S2x32x64_S2x32x64x1_0_1_2 main_arg5
  let main_v9 : FVec F S2x32x64x16 .f32 := broadcastInDim S2x32x64x16 ![0, 1, 2, 3] bcast_S2x32x64x1_S2x32x64x16_0_1_2_3 main_v8
  let main_v10 : FVec F S2x32x64x16 .f32 := mulf main_v3 main_v3
  let main_v11 : FVec F S2x32x64x16 .f32 := mulf main_v5 main_v5
  let main_v12 : FVec F S2x32x64x16 .f32 := addf main_v10 main_v11
  let main_cst : FVec F S_ .f32 := constant S_ .f32 0x00000000#32
  let main_v13 : FVec F S2x32x64x16 .f32 := broadcastInDim S2x32x64x16 ![] bcast_S_S2x32x64x16 main_cst
  let main_v14 : IVec S2x32x64x16 1 := cmpf .ogt main_v12 main_v13
  let main_v15 : FVec F S2x32x64x16 .f32 := Host.absf main_v3
  let main_cst_0 : FVec F S_ .f32 := constant S_ .f32 0x7F800000#32
  let main_v16 : FVec F S2x32x64x16 .f32 := broadcastInDim S2x32x64x16 ![] bcast_S_S2x32x64x16 main_cst_0
  let main_v17 : IVec S2x32x64x16 1 := cmpf .olt main_v15 main_v16
  let main_v18 : IVec S2x32x64x16 1 := andi main_v14 main_v17
  let main_v19 : FVec F S2x32x64x16 .f32 := Host.absf main_v5
  let main_cst_1 : FVec F S_ .f32 := constant S_ .f32 0x7F800000#32
  let main_v20 : FVec F S2x32x64x16 .f32 := broadcastInDim S2x32x64x16 ![] bcast_S_S2x32x64x16 main_cst_1
  fn_part1 (F := F) main_arg3 main_arg4 main_arg7 main_arg8 main_v7 main_v9 main_v18 main_v19 main_v20
-- ==== Kernel.lean ====
abbrev S8x2x1024x800 : Shape := ⟨4, ![8, 2, 1024, 800]⟩
abbrev S8x2x64x512 : Shape := ⟨4, ![8, 2, 64, 512]⟩
abbrev S8x2x512x128 : Shape := ⟨4, ![8, 2, 512, 128]⟩
abbrev S8x2x128x1024 : Shape := ⟨4, ![8, 2, 128, 1024]⟩
abbrev S6x7 : Shape := ⟨2, ![6, 7]⟩
abbrev S6 : Shape := ⟨1, ![6]⟩
abbrev S1 : Shape := ⟨1, ![1]⟩
abbrev S_ : Shape := ⟨0, ![]⟩
abbrev S1x2x1024x800 : Shape := ⟨4, ![1, 2, 1024, 800]⟩
abbrev S2x1024x800 : Shape := ⟨3, ![2, 1024, 800]⟩
abbrev S1x2x64x512 : Shape := ⟨4, ![1, 2, 64, 512]⟩
abbrev S2x64x512 : Shape := ⟨3, ![2, 64, 512]⟩
abbrev S1x2x512x128 : Shape := ⟨4, ![1, 2, 512, 128]⟩
abbrev S2x512x128 : Shape := ⟨3, ![2, 512, 128]⟩
abbrev S1x2x128x1024 : Shape := ⟨4, ![1, 2, 128, 1024]⟩
abbrev S2x128x1024 : Shape := ⟨3, ![2, 128, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x2x1024x800, .bf16⟩
  | .hbm, ⟨1, _⟩ => ⟨S8x2x64x512, .bf16⟩
  | .hbm, ⟨2, _⟩ => ⟨S8x2x512x128, .bf16⟩
  | .hbm, ⟨3, _⟩ => ⟨S8x2x512x128, .bf16⟩
  | .hbm, ⟨4, _⟩ => ⟨S8x2x512x128, .bf16⟩
  | .hbm, ⟨5, _⟩ => ⟨S8x2x128x1024, .bf16⟩
  | .hbm, ⟨6, _⟩ => ⟨S8x2x1024x800, .bf16⟩
  | .hbm, ⟨7, _⟩ => ⟨S8x2x64x512, .bf16⟩
  | .hbm, ⟨8, _⟩ => ⟨S8x2x512x128, .bf16⟩
  | .hbm, ⟨9, _⟩ => ⟨S8x2x512x128, .bf16⟩
  | .hbm, ⟨10, _⟩ => ⟨S8x2x512x128, .bf16⟩
  | .hbm, ⟨11, _⟩ => ⟨S8x2x128x1024, .bf16⟩
  | _, _ => ⟨S8x2x1024x800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  let c0_i32_7 : BitVec 32 := 0#32
  ![v12.toNat, 0, 0, 0]
def k0_off2 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_12 : BitVec 32 := 0#32
  let c0_i32_13 : BitVec 32 := 0#32
  let c0_i32_14 : BitVec 32 := 0#32
  ![v12.toNat, 0, 0, 0]
def k0_off3 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_19 : BitVec 32 := 0#32
  let c0_i32_20 : BitVec 32 := 0#32
  let c0_i32_21 : BitVec 32 := 0#32
  ![v12.toNat, 0, 0, 0]
def k0_off4 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_38 : BitVec 32 := 0#32
  let c0_i32_39 : BitVec 32 := 0#32
  let c0_i32_40 : BitVec 32 := 0#32
  ![v12.toNat, 0, 0, 0]
def k0_off5 (d0 : Dev nD) (c1_i32_44 : BitVec 32) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v49 : BitVec 32 := Scalar.xori v12 c1_i32_44
  let c0_i32_82 : BitVec 32 := 0#32
  let c0_i32_83 : BitVec 32 := 0#32
  let c0_i32_84 : BitVec 32 := 0#32
  ![v49.toNat, 0, 0, 0]
def k0_dev1 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_46 : BitVec 32 := 0#32
  let v51 : BitVec 1 := Scalar.cmpi .sgt v49 c0_i32_46
  let v52 : BitVec 32 := Scalar.extui v51
  let c0_i32_47 : BitVec 32 := 0#32
  let v53 : BitVec 1 := Scalar.cmpi .slt v49 c0_i32_47
  let v54 : BitVec 32 := Scalar.extui v53
  let v55 : BitVec 32 := Scalar.subi v52 v54
  let c4_i32_45 : BitVec 32 := 4#32
  let c0_i32_48 : BitVec 32 := 0#32
  let v56 : BitVec 1 := Scalar.cmpi .sgt c4_i32_45 c0_i32_48
  let v57 : BitVec 32 := Scalar.extui v56
  let c0_i32_49 : BitVec 32 := 0#32
  let v58 : BitVec 1 := Scalar.cmpi .slt c4_i32_45 c0_i32_49
  let v59 : BitVec 32 := Scalar.extui v58
  let v60 : BitVec 32 := Scalar.subi v57 v59
  let v61 : BitVec 1 := Scalar.cmpi .ne v55 v60
  let v62 : BitVec 32 := Scalar.remsi v49 c4_i32_45
  let c0_i32_50 : BitVec 32 := 0#32
  let v63 : BitVec 1 := Scalar.cmpi .ne v62 c0_i32_50
  let v64 : BitVec 1 := Scalar.andi v61 v63
  let v50 : BitVec 32 := Scalar.divsi v49 c4_i32_45
  let c1_i32_51 : BitVec 32 := 1#32
  let v65 : BitVec 32 := Scalar.subi v50 c1_i32_51
  let v66 : BitVec 32 := Scalar.select v64 v65 v50
  let c4_i32_75 : BitVec 32 := 4#32
  let v104 : BitVec 32 := Scalar.muli v66 c4_i32_75
  let v105 : BitVec 32 := Scalar.addi c0_i32_76 v104
  let c0_i32_53 : BitVec 32 := 0#32
  let v68 : BitVec 1 := Scalar.cmpi .sgt v49 c0_i32_53
  let v69 : BitVec 32 := Scalar.extui v68
  let c0_i32_54 : BitVec 32 := 0#32
  let v70 : BitVec 1 := Scalar.cmpi .slt v49 c0_i32_54
  let v71 : BitVec 32 := Scalar.extui v70
  let v72 : BitVec 32 := Scalar.subi v69 v71
  let c2_i32_52 : BitVec 32 := 2#32
  let c0_i32_55 : BitVec 32 := 0#32
  let v73 : BitVec 1 := Scalar.cmpi .sgt c2_i32_52 c0_i32_55
  let v74 : BitVec 32 := Scalar.extui v73
  let c0_i32_56 : BitVec 32 := 0#32
  let v75 : BitVec 1 := Scalar.cmpi .slt c2_i32_52 c0_i32_56
  let v76 : BitVec 32 := Scalar.extui v75
  let v77 : BitVec 32 := Scalar.subi v74 v76
  let v78 : BitVec 1 := Scalar.cmpi .ne v72 v77
  let v79 : BitVec 32 := Scalar.remsi v49 c2_i32_52
  let c0_i32_57 : BitVec 32 := 0#32
  let v80 : BitVec 1 := Scalar.cmpi .ne v79 c0_i32_57
  let v81 : BitVec 1 := Scalar.andi v78 v80
  let v67 : BitVec 32 := Scalar.divsi v49 c2_i32_52
  let c1_i32_58 : BitVec 32 := 1#32
  let v82 : BitVec 32 := Scalar.subi v67 c1_i32_58
  let v83 : BitVec 32 := Scalar.select v81 v82 v67
  let c2_i32_59 : BitVec 32 := 2#32
  let c0_i32_60 : BitVec 32 := 0#32
  let v84 : BitVec 1 := Scalar.cmpi .eq c2_i32_59 c0_i32_60
  let c1_i32_61 : BitVec 32 := 1#32
  let v85 : BitVec 32 := Scalar.select v84 c1_i32_61 c2_i32_59
  let v86 : BitVec 32 := Scalar.remsi v83 v85
  let c0_i32_63 : BitVec 32 := 0#32
  let v88 : BitVec 1 := Scalar.cmpi .slt v86 c0_i32_63
  let c0_i32_64 : BitVec 32 := 0#32
  let v89 : BitVec 1 := Scalar.cmpi .slt v85 c0_i32_64
  let v90 : BitVec 1 := Scalar.xori v88 v89
  let c0_i32_62 : BitVec 32 := 0#32
  let v87 : BitVec 1 := Scalar.cmpi .ne v86 c0_i32_62
  let v91 : BitVec 1 := Scalar.andi v90 v87
  let v92 : BitVec 32 := Scalar.addi v86 v85
  let v93 : BitVec 32 := Scalar.select v91 v92 v86
  let c2_i32_77 : BitVec 32 := 2#32
  let v106 : BitVec 32 := Scalar.muli v93 c2_i32_77
  let v107 : BitVec 32 := Scalar.addi v105 v106
  let c2_i32_65 : BitVec 32 := 2#32
  let c0_i32_66 : BitVec 32 := 0#32
  let v94 : BitVec 1 := Scalar.cmpi .eq c2_i32_65 c0_i32_66
  let c1_i32_67 : BitVec 32 := 1#32
  let v95 : BitVec 32 := Scalar.select v94 c1_i32_67 c2_i32_65
  let v96 : BitVec 32 := Scalar.remsi v49 v95
  let c0_i32_69 : BitVec 32 := 0#32
  let v98 : BitVec 1 := Scalar.cmpi .slt v96 c0_i32_69
  let c0_i32_70 : BitVec 32 := 0#32
  let v99 : BitVec 1 := Scalar.cmpi .slt v95 c0_i32_70
  let v100 : BitVec 1 := Scalar.xori v98 v99
  let c0_i32_68 : BitVec 32 := 0#32
  let v97 : BitVec 1 := Scalar.cmpi .ne v96 c0_i32_68
  let v101 : BitVec 1 := Scalar.andi v100 v97
  let v102 : BitVec 32 := Scalar.addi v96 v95
  let v103 : BitVec 32 := Scalar.select v101 v102 v96
  let c1_i32_78 : BitVec 32 := 1#32
  let v108 : BitVec 32 := Scalar.muli v103 c1_i32_78
  let v109 : BitVec 32 := Scalar.addi v107 v108
  v109.toNat
def k0_off6 (d0 : Dev nD) (c1_i32_44 : BitVec 32) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v49 : BitVec 32 := Scalar.xori v12 c1_i32_44
  let c0_i32_122 : BitVec 32 := 0#32
  let c0_i32_123 : BitVec 32 := 0#32
  let c0_i32_124 : BitVec 32 := 0#32
  ![v49.toNat, 0, 0, 0]
def k0_dev2 (d0 : Dev nD) : Nat :=
  let c0_i32_116 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_86 : BitVec 32 := 0#32
  let v119 : BitVec 1 := Scalar.cmpi .sgt v49 c0_i32_86
  let v120 : BitVec 32 := Scalar.extui v119
  let c0_i32_87 : BitVec 32 := 0#32
  let v121 : BitVec 1 := Scalar.cmpi .slt v49 c0_i32_87
  let v122 : BitVec 32 := Scalar.extui v121
  let v123 : BitVec 32 := Scalar.subi v120 v122
  let c4_i32_85 : BitVec 32 := 4#32
  let c0_i32_88 : BitVec 32 := 0#32
  let v124 : BitVec 1 := Scalar.cmpi .sgt c4_i32_85 c0_i32_88
  let v125 : BitVec 32 := Scalar.extui v124
  let c0_i32_89 : BitVec 32 := 0#32
  let v126 : BitVec 1 := Scalar.cmpi .slt c4_i32_85 c0_i32_89
  let v127 : BitVec 32 := Scalar.extui v126
  let v128 : BitVec 32 := Scalar.subi v125 v127
  let v129 : BitVec 1 := Scalar.cmpi .ne v123 v128
  let v130 : BitVec 32 := Scalar.remsi v49 c4_i32_85
  let c0_i32_90 : BitVec 32 := 0#32
  let v131 : BitVec 1 := Scalar.cmpi .ne v130 c0_i32_90
  let v132 : BitVec 1 := Scalar.andi v129 v131
  let v118 : BitVec 32 := Scalar.divsi v49 c4_i32_85
  let c1_i32_91 : BitVec 32 := 1#32
  let v133 : BitVec 32 := Scalar.subi v118 c1_i32_91
  let v134 : BitVec 32 := Scalar.select v132 v133 v118
  let c4_i32_115 : BitVec 32 := 4#32
  let v172 : BitVec 32 := Scalar.muli v134 c4_i32_115
  let v173 : BitVec 32 := Scalar.addi c0_i32_116 v172
  let c0_i32_93 : BitVec 32 := 0#32
  let v136 : BitVec 1 := Scalar.cmpi .sgt v49 c0_i32_93
  let v137 : BitVec 32 := Scalar.extui v136
  let c0_i32_94 : BitVec 32 := 0#32
  let v138 : BitVec 1 := Scalar.cmpi .slt v49 c0_i32_94
  let v139 : BitVec 32 := Scalar.extui v138
  let v140 : BitVec 32 := Scalar.subi v137 v139
  let c2_i32_92 : BitVec 32 := 2#32
  let c0_i32_95 : BitVec 32 := 0#32
  let v141 : BitVec 1 := Scalar.cmpi .sgt c2_i32_92 c0_i32_95
  let v142 : BitVec 32 := Scalar.extui v141
  let c0_i32_96 : BitVec 32 := 0#32
  let v143 : BitVec 1 := Scalar.cmpi .slt c2_i32_92 c0_i32_96
  let v144 : BitVec 32 := Scalar.extui v143
  let v145 : BitVec 32 := Scalar.subi v142 v144
  let v146 : BitVec 1 := Scalar.cmpi .ne v140 v145
  let v147 : BitVec 32 := Scalar.remsi v49 c2_i32_92
  let c0_i32_97 : BitVec 32 := 0#32
  let v148 : BitVec 1 := Scalar.cmpi .ne v147 c0_i32_97
  let v149 : BitVec 1 := Scalar.andi v146 v148
  let v135 : BitVec 32 := Scalar.divsi v49 c2_i32_92
  let c1_i32_98 : BitVec 32 := 1#32
  let v150 : BitVec 32 := Scalar.subi v135 c1_i32_98
  let v151 : BitVec 32 := Scalar.select v149 v150 v135
  let c2_i32_99 : BitVec 32 := 2#32
  let c0_i32_100 : BitVec 32 := 0#32
  let v152 : BitVec 1 := Scalar.cmpi .eq c2_i32_99 c0_i32_100
  let c1_i32_101 : BitVec 32 := 1#32
  let v153 : BitVec 32 := Scalar.select v152 c1_i32_101 c2_i32_99
  let v154 : BitVec 32 := Scalar.remsi v151 v153
  let c0_i32_103 : BitVec 32 := 0#32
  let v156 : BitVec 1 := Scalar.cmpi .slt v154 c0_i32_103
  let c0_i32_104 : BitVec 32 := 0#32
  let v157 : BitVec 1 := Scalar.cmpi .slt v153 c0_i32_104
  let v158 : BitVec 1 := Scalar.xori v156 v157
  let c0_i32_102 : BitVec 32 := 0#32
  let v155 : BitVec 1 := Scalar.cmpi .ne v154 c0_i32_102
  let v159 : BitVec 1 := Scalar.andi v158 v155
  let v160 : BitVec 32 := Scalar.addi v154 v153
  let v161 : BitVec 32 := Scalar.select v159 v160 v154
  let c2_i32_117 : BitVec 32 := 2#32
  let v174 : BitVec 32 := Scalar.muli v161 c2_i32_117
  let v175 : BitVec 32 := Scalar.addi v173 v174
  let c2_i32_105 : BitVec 32 := 2#32
  let c0_i32_106 : BitVec 32 := 0#32
  let v162 : BitVec 1 := Scalar.cmpi .eq c2_i32_105 c0_i32_106
  let c1_i32_107 : BitVec 32 := 1#32
  let v163 : BitVec 32 := Scalar.select v162 c1_i32_107 c2_i32_105
  let v164 : BitVec 32 := Scalar.remsi v49 v163
  let c0_i32_109 : BitVec 32 := 0#32
  let v166 : BitVec 1 := Scalar.cmpi .slt v164 c0_i32_109
  let c0_i32_110 : BitVec 32 := 0#32
  let v167 : BitVec 1 := Scalar.cmpi .slt v163 c0_i32_110
  let v168 : BitVec 1 := Scalar.xori v166 v167
  let c0_i32_108 : BitVec 32 := 0#32
  let v165 : BitVec 1 := Scalar.cmpi .ne v164 c0_i32_108
  let v169 : BitVec 1 := Scalar.andi v168 v165
  let v170 : BitVec 32 := Scalar.addi v164 v163
  let v171 : BitVec 32 := Scalar.select v169 v170 v164
  let c1_i32_118 : BitVec 32 := 1#32
  let v176 : BitVec 32 := Scalar.muli v171 c1_i32_118
  let v177 : BitVec 32 := Scalar.addi v175 v176
  v177.toNat
def k0_off7 (d0 : Dev nD) (c1_i32_44 : BitVec 32) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v49 : BitVec 32 := Scalar.xori v12 c1_i32_44
  let c0_i32_162 : BitVec 32 := 0#32
  let c0_i32_163 : BitVec 32 := 0#32
  let c0_i32_164 : BitVec 32 := 0#32
  ![v49.toNat, 0, 0, 0]
def k0_dev3 (d0 : Dev nD) : Nat :=
  let c0_i32_156 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_126 : BitVec 32 := 0#32
  let v187 : BitVec 1 := Scalar.cmpi .sgt v49 c0_i32_126
  let v188 : BitVec 32 := Scalar.extui v187
  let c0_i32_127 : BitVec 32 := 0#32
  let v189 : BitVec 1 := Scalar.cmpi .slt v49 c0_i32_127
  let v190 : BitVec 32 := Scalar.extui v189
  let v191 : BitVec 32 := Scalar.subi v188 v190
  let c4_i32_125 : BitVec 32 := 4#32
  let c0_i32_128 : BitVec 32 := 0#32
  let v192 : BitVec 1 := Scalar.cmpi .sgt c4_i32_125 c0_i32_128
  let v193 : BitVec 32 := Scalar.extui v192
  let c0_i32_129 : BitVec 32 := 0#32
  let v194 : BitVec 1 := Scalar.cmpi .slt c4_i32_125 c0_i32_129
  let v195 : BitVec 32 := Scalar.extui v194
  let v196 : BitVec 32 := Scalar.subi v193 v195
  let v197 : BitVec 1 := Scalar.cmpi .ne v191 v196
  let v198 : BitVec 32 := Scalar.remsi v49 c4_i32_125
  let c0_i32_130 : BitVec 32 := 0#32
  let v199 : BitVec 1 := Scalar.cmpi .ne v198 c0_i32_130
  let v200 : BitVec 1 := Scalar.andi v197 v199
  let v186 : BitVec 32 := Scalar.divsi v49 c4_i32_125
  let c1_i32_131 : BitVec 32 := 1#32
  let v201 : BitVec 32 := Scalar.subi v186 c1_i32_131
  let v202 : BitVec 32 := Scalar.select v200 v201 v186
  let c4_i32_155 : BitVec 32 := 4#32
  let v240 : BitVec 32 := Scalar.muli v202 c4_i32_155
  let v241 : BitVec 32 := Scalar.addi c0_i32_156 v240
  let c0_i32_133 : BitVec 32 := 0#32
  let v204 : BitVec 1 := Scalar.cmpi .sgt v49 c0_i32_133
  let v205 : BitVec 32 := Scalar.extui v204
  let c0_i32_134 : BitVec 32 := 0#32
  let v206 : BitVec 1 := Scalar.cmpi .slt v49 c0_i32_134
  let v207 : BitVec 32 := Scalar.extui v206
  let v208 : BitVec 32 := Scalar.subi v205 v207
  let c2_i32_132 : BitVec 32 := 2#32
  let c0_i32_135 : BitVec 32 := 0#32
  let v209 : BitVec 1 := Scalar.cmpi .sgt c2_i32_132 c0_i32_135
  let v210 : BitVec 32 := Scalar.extui v209
  let c0_i32_136 : BitVec 32 := 0#32
  let v211 : BitVec 1 := Scalar.cmpi .slt c2_i32_132 c0_i32_136
  let v212 : BitVec 32 := Scalar.extui v211
  let v213 : BitVec 32 := Scalar.subi v210 v212
  let v214 : BitVec 1 := Scalar.cmpi .ne v208 v213
  let v215 : BitVec 32 := Scalar.remsi v49 c2_i32_132
  let c0_i32_137 : BitVec 32 := 0#32
  let v216 : BitVec 1 := Scalar.cmpi .ne v215 c0_i32_137
  let v217 : BitVec 1 := Scalar.andi v214 v216
  let v203 : BitVec 32 := Scalar.divsi v49 c2_i32_132
  let c1_i32_138 : BitVec 32 := 1#32
  let v218 : BitVec 32 := Scalar.subi v203 c1_i32_138
  let v219 : BitVec 32 := Scalar.select v217 v218 v203
  let c2_i32_139 : BitVec 32 := 2#32
  let c0_i32_140 : BitVec 32 := 0#32
  let v220 : BitVec 1 := Scalar.cmpi .eq c2_i32_139 c0_i32_140
  let c1_i32_141 : BitVec 32 := 1#32
  let v221 : BitVec 32 := Scalar.select v220 c1_i32_141 c2_i32_139
  let v222 : BitVec 32 := Scalar.remsi v219 v221
  let c0_i32_143 : BitVec 32 := 0#32
  let v224 : BitVec 1 := Scalar.cmpi .slt v222 c0_i32_143
  let c0_i32_144 : BitVec 32 := 0#32
  let v225 : BitVec 1 := Scalar.cmpi .slt v221 c0_i32_144
  let v226 : BitVec 1 := Scalar.xori v224 v225
  let c0_i32_142 : BitVec 32 := 0#32
  let v223 : BitVec 1 := Scalar.cmpi .ne v222 c0_i32_142
  let v227 : BitVec 1 := Scalar.andi v226 v223
  let v228 : BitVec 32 := Scalar.addi v222 v221
  let v229 : BitVec 32 := Scalar.select v227 v228 v222
  let c2_i32_157 : BitVec 32 := 2#32
  let v242 : BitVec 32 := Scalar.muli v229 c2_i32_157
  let v243 : BitVec 32 := Scalar.addi v241 v242
  let c2_i32_145 : BitVec 32 := 2#32
  let c0_i32_146 : BitVec 32 := 0#32
  let v230 : BitVec 1 := Scalar.cmpi .eq c2_i32_145 c0_i32_146
  let c1_i32_147 : BitVec 32 := 1#32
  let v231 : BitVec 32 := Scalar.select v230 c1_i32_147 c2_i32_145
  let v232 : BitVec 32 := Scalar.remsi v49 v231
  let c0_i32_149 : BitVec 32 := 0#32
  let v234 : BitVec 1 := Scalar.cmpi .slt v232 c0_i32_149
  let c0_i32_150 : BitVec 32 := 0#32
  let v235 : BitVec 1 := Scalar.cmpi .slt v231 c0_i32_150
  let v236 : BitVec 1 := Scalar.xori v234 v235
  let c0_i32_148 : BitVec 32 := 0#32
  let v233 : BitVec 1 := Scalar.cmpi .ne v232 c0_i32_148
  let v237 : BitVec 1 := Scalar.andi v236 v233
  let v238 : BitVec 32 := Scalar.addi v232 v231
  let v239 : BitVec 32 := Scalar.select v237 v238 v232
  let c1_i32_158 : BitVec 32 := 1#32
  let v244 : BitVec 32 := Scalar.muli v239 c1_i32_158
  let v245 : BitVec 32 := Scalar.addi v243 v244
  v245.toNat
def k0_dev4 (d0 : Dev nD) : Nat :=
  let c0_i32_196 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_166 : BitVec 32 := 0#32
  let v255 : BitVec 1 := Scalar.cmpi .sgt v49 c0_i32_166
  let v256 : BitVec 32 := Scalar.extui v255
  let c0_i32_167 : BitVec 32 := 0#32
  let v257 : BitVec 1 := Scalar.cmpi .slt v49 c0_i32_167
  let v258 : BitVec 32 := Scalar.extui v257
  let v259 : BitVec 32 := Scalar.subi v256 v258
  let c4_i32_165 : BitVec 32 := 4#32
  let c0_i32_168 : BitVec 32 := 0#32
  let v260 : BitVec 1 := Scalar.cmpi .sgt c4_i32_165 c0_i32_168
  let v261 : BitVec 32 := Scalar.extui v260
  let c0_i32_169 : BitVec 32 := 0#32
  let v262 : BitVec 1 := Scalar.cmpi .slt c4_i32_165 c0_i32_169
  let v263 : BitVec 32 := Scalar.extui v262
  let v264 : BitVec 32 := Scalar.subi v261 v263
  let v265 : BitVec 1 := Scalar.cmpi .ne v259 v264
  let v266 : BitVec 32 := Scalar.remsi v49 c4_i32_165
  let c0_i32_170 : BitVec 32 := 0#32
  let v267 : BitVec 1 := Scalar.cmpi .ne v266 c0_i32_170
  let v268 : BitVec 1 := Scalar.andi v265 v267
  let v254 : BitVec 32 := Scalar.divsi v49 c4_i32_165
  let c1_i32_171 : BitVec 32 := 1#32
  let v269 : BitVec 32 := Scalar.subi v254 c1_i32_171
  let v270 : BitVec 32 := Scalar.select v268 v269 v254
  let c4_i32_195 : BitVec 32 := 4#32
  let v308 : BitVec 32 := Scalar.muli v270 c4_i32_195
  let v309 : BitVec 32 := Scalar.addi c0_i32_196 v308
  let c0_i32_173 : BitVec 32 := 0#32
  let v272 : BitVec 1 := Scalar.cmpi .sgt v49 c0_i32_173
  let v273 : BitVec 32 := Scalar.extui v272
  let c0_i32_174 : BitVec 32 := 0#32
  let v274 : BitVec 1 := Scalar.cmpi .slt v49 c0_i32_174
  let v275 : BitVec 32 := Scalar.extui v274
  let v276 : BitVec 32 := Scalar.subi v273 v275
  let c2_i32_172 : BitVec 32 := 2#32
  let c0_i32_175 : BitVec 32 := 0#32
  let v277 : BitVec 1 := Scalar.cmpi .sgt c2_i32_172 c0_i32_175
  let v278 : BitVec 32 := Scalar.extui v277
  let c0_i32_176 : BitVec 32 := 0#32
  let v279 : BitVec 1 := Scalar.cmpi .slt c2_i32_172 c0_i32_176
  let v280 : BitVec 32 := Scalar.extui v279
  let v281 : BitVec 32 := Scalar.subi v278 v280
  let v282 : BitVec 1 := Scalar.cmpi .ne v276 v281
  let v283 : BitVec 32 := Scalar.remsi v49 c2_i32_172
  let c0_i32_177 : BitVec 32 := 0#32
  let v284 : BitVec 1 := Scalar.cmpi .ne v283 c0_i32_177
  let v285 : BitVec 1 := Scalar.andi v282 v284
  let v271 : BitVec 32 := Scalar.divsi v49 c2_i32_172
  let c1_i32_178 : BitVec 32 := 1#32
  let v286 : BitVec 32 := Scalar.subi v271 c1_i32_178
  let v287 : BitVec 32 := Scalar.select v285 v286 v271
  let c2_i32_179 : BitVec 32 := 2#32
  let c0_i32_180 : BitVec 32 := 0#32
  let v288 : BitVec 1 := Scalar.cmpi .eq c2_i32_179 c0_i32_180
  let c1_i32_181 : BitVec 32 := 1#32
  let v289 : BitVec 32 := Scalar.select v288 c1_i32_181 c2_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c2_i32_197 : BitVec 32 := 2#32
  let v310 : BitVec 32 := Scalar.muli v297 c2_i32_197
  let v311 : BitVec 32 := Scalar.addi v309 v310
  let c2_i32_185 : BitVec 32 := 2#32
  let c0_i32_186 : BitVec 32 := 0#32
  let v298 : BitVec 1 := Scalar.cmpi .eq c2_i32_185 c0_i32_186
  let c1_i32_187 : BitVec 32 := 1#32
  let v299 : BitVec 32 := Scalar.select v298 c1_i32_187 c2_i32_185
  let v300 : BitVec 32 := Scalar.remsi v49 v299
  let c0_i32_189 : BitVec 32 := 0#32
  let v302 : BitVec 1 := Scalar.cmpi .slt v300 c0_i32_189
  let c0_i32_190 : BitVec 32 := 0#32
  let v303 : BitVec 1 := Scalar.cmpi .slt v299 c0_i32_190
  let v304 : BitVec 1 := Scalar.xori v302 v303
  let c0_i32_188 : BitVec 32 := 0#32
  let v301 : BitVec 1 := Scalar.cmpi .ne v300 c0_i32_188
  let v305 : BitVec 1 := Scalar.andi v304 v301
  let v306 : BitVec 32 := Scalar.addi v300 v299
  let v307 : BitVec 32 := Scalar.select v305 v306 v300
  let c1_i32_198 : BitVec 32 := 1#32
  let v312 : BitVec 32 := Scalar.muli v307 c1_i32_198
  let v313 : BitVec 32 := Scalar.addi v311 v312
  v313.toNat
def k0_dev5 (d0 : Dev nD) : Nat :=
  let c0_i32_236 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_206 : BitVec 32 := 0#32
  let v323 : BitVec 1 := Scalar.cmpi .sgt v49 c0_i32_206
  let v324 : BitVec 32 := Scalar.extui v323
  let c0_i32_207 : BitVec 32 := 0#32
  let v325 : BitVec 1 := Scalar.cmpi .slt v49 c0_i32_207
  let v326 : BitVec 32 := Scalar.extui v325
  let v327 : BitVec 32 := Scalar.subi v324 v326
  let c4_i32_205 : BitVec 32 := 4#32
  let c0_i32_208 : BitVec 32 := 0#32
  let v328 : BitVec 1 := Scalar.cmpi .sgt c4_i32_205 c0_i32_208
  let v329 : BitVec 32 := Scalar.extui v328
  let c0_i32_209 : BitVec 32 := 0#32
  let v330 : BitVec 1 := Scalar.cmpi .slt c4_i32_205 c0_i32_209
  let v331 : BitVec 32 := Scalar.extui v330
  let v332 : BitVec 32 := Scalar.subi v329 v331
  let v333 : BitVec 1 := Scalar.cmpi .ne v327 v332
  let v334 : BitVec 32 := Scalar.remsi v49 c4_i32_205
  let c0_i32_210 : BitVec 32 := 0#32
  let v335 : BitVec 1 := Scalar.cmpi .ne v334 c0_i32_210
  let v336 : BitVec 1 := Scalar.andi v333 v335
  let v322 : BitVec 32 := Scalar.divsi v49 c4_i32_205
  let c1_i32_211 : BitVec 32 := 1#32
  let v337 : BitVec 32 := Scalar.subi v322 c1_i32_211
  let v338 : BitVec 32 := Scalar.select v336 v337 v322
  let c4_i32_235 : BitVec 32 := 4#32
  let v376 : BitVec 32 := Scalar.muli v338 c4_i32_235
  let v377 : BitVec 32 := Scalar.addi c0_i32_236 v376
  let c0_i32_213 : BitVec 32 := 0#32
  let v340 : BitVec 1 := Scalar.cmpi .sgt v49 c0_i32_213
  let v341 : BitVec 32 := Scalar.extui v340
  let c0_i32_214 : BitVec 32 := 0#32
  let v342 : BitVec 1 := Scalar.cmpi .slt v49 c0_i32_214
  let v343 : BitVec 32 := Scalar.extui v342
  let v344 : BitVec 32 := Scalar.subi v341 v343
  let c2_i32_212 : BitVec 32 := 2#32
  let c0_i32_215 : BitVec 32 := 0#32
  let v345 : BitVec 1 := Scalar.cmpi .sgt c2_i32_212 c0_i32_215
  let v346 : BitVec 32 := Scalar.extui v345
  let c0_i32_216 : BitVec 32 := 0#32
  let v347 : BitVec 1 := Scalar.cmpi .slt c2_i32_212 c0_i32_216
  let v348 : BitVec 32 := Scalar.extui v347
  let v349 : BitVec 32 := Scalar.subi v346 v348
  let v350 : BitVec 1 := Scalar.cmpi .ne v344 v349
  let v351 : BitVec 32 := Scalar.remsi v49 c2_i32_212
  let c0_i32_217 : BitVec 32 := 0#32
  let v352 : BitVec 1 := Scalar.cmpi .ne v351 c0_i32_217
  let v353 : BitVec 1 := Scalar.andi v350 v352
  let v339 : BitVec 32 := Scalar.divsi v49 c2_i32_212
  let c1_i32_218 : BitVec 32 := 1#32
  let v354 : BitVec 32 := Scalar.subi v339 c1_i32_218
  let v355 : BitVec 32 := Scalar.select v353 v354 v339
  let c2_i32_219 : BitVec 32 := 2#32
  let c0_i32_220 : BitVec 32 := 0#32
  let v356 : BitVec 1 := Scalar.cmpi .eq c2_i32_219 c0_i32_220
  let c1_i32_221 : BitVec 32 := 1#32
  let v357 : BitVec 32 := Scalar.select v356 c1_i32_221 c2_i32_219
  let v358 : BitVec 32 := Scalar.remsi v355 v357
  let c0_i32_223 : BitVec 32 := 0#32
  let v360 : BitVec 1 := Scalar.cmpi .slt v358 c0_i32_223
  let c0_i32_224 : BitVec 32 := 0#32
  let v361 : BitVec 1 := Scalar.cmpi .slt v357 c0_i32_224
  let v362 : BitVec 1 := Scalar.xori v360 v361
  let c0_i32_222 : BitVec 32 := 0#32
  let v359 : BitVec 1 := Scalar.cmpi .ne v358 c0_i32_222
  let v363 : BitVec 1 := Scalar.andi v362 v359
  let v364 : BitVec 32 := Scalar.addi v358 v357
  let v365 : BitVec 32 := Scalar.select v363 v364 v358
  let c2_i32_237 : BitVec 32 := 2#32
  let v378 : BitVec 32 := Scalar.muli v365 c2_i32_237
  let v379 : BitVec 32 := Scalar.addi v377 v378
  let c2_i32_225 : BitVec 32 := 2#32
  let c0_i32_226 : BitVec 32 := 0#32
  let v366 : BitVec 1 := Scalar.cmpi .eq c2_i32_225 c0_i32_226
  let c1_i32_227 : BitVec 32 := 1#32
  let v367 : BitVec 32 := Scalar.select v366 c1_i32_227 c2_i32_225
  let v368 : BitVec 32 := Scalar.remsi v49 v367
  let c0_i32_229 : BitVec 32 := 0#32
  let v370 : BitVec 1 := Scalar.cmpi .slt v368 c0_i32_229
  let c0_i32_230 : BitVec 32 := 0#32
  let v371 : BitVec 1 := Scalar.cmpi .slt v367 c0_i32_230
  let v372 : BitVec 1 := Scalar.xori v370 v371
  let c0_i32_228 : BitVec 32 := 0#32
  let v369 : BitVec 1 := Scalar.cmpi .ne v368 c0_i32_228
  let v373 : BitVec 1 := Scalar.andi v372 v369
  let v374 : BitVec 32 := Scalar.addi v368 v367
  let v375 : BitVec 32 := Scalar.select v373 v374 v368
  let c1_i32_238 : BitVec 32 := 1#32
  let v380 : BitVec 32 := Scalar.muli v375 c1_i32_238
  let v381 : BitVec 32 := Scalar.addi v379 v380
  v381.toNat
def k0_off8 (d0 : Dev nD) (c1_i32_44 : BitVec 32) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v49 : BitVec 32 := Scalar.xori v12 c1_i32_44
  let c0_i32_282 : BitVec 32 := 0#32
  let c0_i32_283 : BitVec 32 := 0#32
  let c0_i32_284 : BitVec 32 := 0#32
  ![v49.toNat, 0, 0, 0]
def k0_dev6 (d0 : Dev nD) : Nat :=
  let c0_i32_276 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_44 : BitVec 32 := 1#32
  let v49 : BitVec 32 := Scalar.xori v12 c1_i32_44
  let c0_i32_246 : BitVec 32 := 0#32
  let v391 : BitVec 1 := Scalar.cmpi .sgt v49 c0_i32_246
  let v392 : BitVec 32 := Scalar.extui v391
  let c0_i32_247 : BitVec 32 := 0#32
  let v393 : BitVec 1 := Scalar.cmpi .slt v49 c0_i32_247
  let v394 : BitVec 32 := Scalar.extui v393
  let v395 : BitVec 32 := Scalar.subi v392 v394
  let c4_i32_245 : BitVec 32 := 4#32
  let c0_i32_248 : BitVec 32 := 0#32
  let v396 : BitVec 1 := Scalar.cmpi .sgt c4_i32_245 c0_i32_248
  let v397 : BitVec 32 := Scalar.extui v396
  let c0_i32_249 : BitVec 32 := 0#32
  let v398 : BitVec 1 := Scalar.cmpi .slt c4_i32_245 c0_i32_249
  let v399 : BitVec 32 := Scalar.extui v398
  let v400 : BitVec 32 := Scalar.subi v397 v399
  let v401 : BitVec 1 := Scalar.cmpi .ne v395 v400
  let v402 : BitVec 32 := Scalar.remsi v49 c4_i32_245
  let c0_i32_250 : BitVec 32 := 0#32
  let v403 : BitVec 1 := Scalar.cmpi .ne v402 c0_i32_250
  let v404 : BitVec 1 := Scalar.andi v401 v403
  let v390 : BitVec 32 := Scalar.divsi v49 c4_i32_245
  let c1_i32_251 : BitVec 32 := 1#32
  let v405 : BitVec 32 := Scalar.subi v390 c1_i32_251
  let v406 : BitVec 32 := Scalar.select v404 v405 v390
  let c4_i32_275 : BitVec 32 := 4#32
  let v444 : BitVec 32 := Scalar.muli v406 c4_i32_275
  let v445 : BitVec 32 := Scalar.addi c0_i32_276 v444
  let c0_i32_253 : BitVec 32 := 0#32
  let v408 : BitVec 1 := Scalar.cmpi .sgt v49 c0_i32_253
  let v409 : BitVec 32 := Scalar.extui v408
  let c0_i32_254 : BitVec 32 := 0#32
  let v410 : BitVec 1 := Scalar.cmpi .slt v49 c0_i32_254
  let v411 : BitVec 32 := Scalar.extui v410
  let v412 : BitVec 32 := Scalar.subi v409 v411
  let c2_i32_252 : BitVec 32 := 2#32
  let c0_i32_255 : BitVec 32 := 0#32
  let v413 : BitVec 1 := Scalar.cmpi .sgt c2_i32_252 c0_i32_255
  let v414 : BitVec 32 := Scalar.extui v413
  let c0_i32_256 : BitVec 32 := 0#32
  let v415 : BitVec 1 := Scalar.cmpi .slt c2_i32_252 c0_i32_256
  let v416 : BitVec 32 := Scalar.extui v415
  let v417 : BitVec 32 := Scalar.subi v414 v416
  let v418 : BitVec 1 := Scalar.cmpi .ne v412 v417
  let v419 : BitVec 32 := Scalar.remsi v49 c2_i32_252
  let c0_i32_257 : BitVec 32 := 0#32
  let v420 : BitVec 1 := Scalar.cmpi .ne v419 c0_i32_257
  let v421 : BitVec 1 := Scalar.andi v418 v420
  let v407 : BitVec 32 := Scalar.divsi v49 c2_i32_252
  let c1_i32_258 : BitVec 32 := 1#32
  let v422 : BitVec 32 := Scalar.subi v407 c1_i32_258
  let v423 : BitVec 32 := Scalar.select v421 v422 v407
  let c2_i32_259 : BitVec 32 := 2#32
  let c0_i32_260 : BitVec 32 := 0#32
  let v424 : BitVec 1 := Scalar.cmpi .eq c2_i32_259 c0_i32_260
  let c1_i32_261 : BitVec 32 := 1#32
  let v425 : BitVec 32 := Scalar.select v424 c1_i32_261 c2_i32_259
  let v426 : BitVec 32 := Scalar.remsi v423 v425
  let c0_i32_263 : BitVec 32 := 0#32
  let v428 : BitVec 1 := Scalar.cmpi .slt v426 c0_i32_263
  let c0_i32_264 : BitVec 32 := 0#32
  let v429 : BitVec 1 := Scalar.cmpi .slt v425 c0_i32_264
  let v430 : BitVec 1 := Scalar.xori v428 v429
  let c0_i32_262 : BitVec 32 := 0#32
  let v427 : BitVec 1 := Scalar.cmpi .ne v426 c0_i32_262
  let v431 : BitVec 1 := Scalar.andi v430 v427
  let v432 : BitVec 32 := Scalar.addi v426 v425
  let v433 : BitVec 32 := Scalar.select v431 v432 v426
  let c2_i32_277 : BitVec 32 := 2#32
  let v446 : BitVec 32 := Scalar.muli v433 c2_i32_277
  let v447 : BitVec 32 := Scalar.addi v445 v446
  let c2_i32_265 : BitVec 32 := 2#32
  let c0_i32_266 : BitVec 32 := 0#32
  let v434 : BitVec 1 := Scalar.cmpi .eq c2_i32_265 c0_i32_266
  let c1_i32_267 : BitVec 32 := 1#32
  let v435 : BitVec 32 := Scalar.select v434 c1_i32_267 c2_i32_265
  let v436 : BitVec 32 := Scalar.remsi v49 v435
  let c0_i32_269 : BitVec 32 := 0#32
  let v438 : BitVec 1 := Scalar.cmpi .slt v436 c0_i32_269
  let c0_i32_270 : BitVec 32 := 0#32
  let v439 : BitVec 1 := Scalar.cmpi .slt v435 c0_i32_270
  let v440 : BitVec 1 := Scalar.xori v438 v439
  let c0_i32_268 : BitVec 32 := 0#32
  let v437 : BitVec 1 := Scalar.cmpi .ne v436 c0_i32_268
  let v441 : BitVec 1 := Scalar.andi v440 v437
  let v442 : BitVec 32 := Scalar.addi v436 v435
  let v443 : BitVec 32 := Scalar.select v441 v442 v436
  let c1_i32_278 : BitVec 32 := 1#32
  let v448 : BitVec 32 := Scalar.muli v443 c1_i32_278
  let v449 : BitVec 32 := Scalar.addi v447 v448
  v449.toNat
def k0_dev7 (d0 : Dev nD) : Nat :=
  let c0_i32_317 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_287 : BitVec 32 := 0#32
  let v460 : BitVec 1 := Scalar.cmpi .sgt v458 c0_i32_287
  let v461 : BitVec 32 := Scalar.extui v460
  let c0_i32_288 : BitVec 32 := 0#32
  let v462 : BitVec 1 := Scalar.cmpi .slt v458 c0_i32_288
  let v463 : BitVec 32 := Scalar.extui v462
  let v464 : BitVec 32 := Scalar.subi v461 v463
  let c4_i32_286 : BitVec 32 := 4#32
  let c0_i32_289 : BitVec 32 := 0#32
  let v465 : BitVec 1 := Scalar.cmpi .sgt c4_i32_286 c0_i32_289
  let v466 : BitVec 32 := Scalar.extui v465
  let c0_i32_290 : BitVec 32 := 0#32
  let v467 : BitVec 1 := Scalar.cmpi .slt c4_i32_286 c0_i32_290
  let v468 : BitVec 32 := Scalar.extui v467
  let v469 : BitVec 32 := Scalar.subi v466 v468
  let v470 : BitVec 1 := Scalar.cmpi .ne v464 v469
  let v471 : BitVec 32 := Scalar.remsi v458 c4_i32_286
  let c0_i32_291 : BitVec 32 := 0#32
  let v472 : BitVec 1 := Scalar.cmpi .ne v471 c0_i32_291
  let v473 : BitVec 1 := Scalar.andi v470 v472
  let v459 : BitVec 32 := Scalar.divsi v458 c4_i32_286
  let c1_i32_292 : BitVec 32 := 1#32
  let v474 : BitVec 32 := Scalar.subi v459 c1_i32_292
  let v475 : BitVec 32 := Scalar.select v473 v474 v459
  let c4_i32_316 : BitVec 32 := 4#32
  let v513 : BitVec 32 := Scalar.muli v475 c4_i32_316
  let v514 : BitVec 32 := Scalar.addi c0_i32_317 v513
  let c0_i32_294 : BitVec 32 := 0#32
  let v477 : BitVec 1 := Scalar.cmpi .sgt v458 c0_i32_294
  let v478 : BitVec 32 := Scalar.extui v477
  let c0_i32_295 : BitVec 32 := 0#32
  let v479 : BitVec 1 := Scalar.cmpi .slt v458 c0_i32_295
  let v480 : BitVec 32 := Scalar.extui v479
  let v481 : BitVec 32 := Scalar.subi v478 v480
  let c2_i32_293 : BitVec 32 := 2#32
  let c0_i32_296 : BitVec 32 := 0#32
  let v482 : BitVec 1 := Scalar.cmpi .sgt c2_i32_293 c0_i32_296
  let v483 : BitVec 32 := Scalar.extui v482
  let c0_i32_297 : BitVec 32 := 0#32
  let v484 : BitVec 1 := Scalar.cmpi .slt c2_i32_293 c0_i32_297
  let v485 : BitVec 32 := Scalar.extui v484
  let v486 : BitVec 32 := Scalar.subi v483 v485
  let v487 : BitVec 1 := Scalar.cmpi .ne v481 v486
  let v488 : BitVec 32 := Scalar.remsi v458 c2_i32_293
  let c0_i32_298 : BitVec 32 := 0#32
  let v489 : BitVec 1 := Scalar.cmpi .ne v488 c0_i32_298
  let v490 : BitVec 1 := Scalar.andi v487 v489
  let v476 : BitVec 32 := Scalar.divsi v458 c2_i32_293
  let c1_i32_299 : BitVec 32 := 1#32
  let v491 : BitVec 32 := Scalar.subi v476 c1_i32_299
  let v492 : BitVec 32 := Scalar.select v490 v491 v476
  let c2_i32_300 : BitVec 32 := 2#32
  let c0_i32_301 : BitVec 32 := 0#32
  let v493 : BitVec 1 := Scalar.cmpi .eq c2_i32_300 c0_i32_301
  let c1_i32_302 : BitVec 32 := 1#32
  let v494 : BitVec 32 := Scalar.select v493 c1_i32_302 c2_i32_300
  let v495 : BitVec 32 := Scalar.remsi v492 v494
  let c0_i32_304 : BitVec 32 := 0#32
  let v497 : BitVec 1 := Scalar.cmpi .slt v495 c0_i32_304
  let c0_i32_305 : BitVec 32 := 0#32
  let v498 : BitVec 1 := Scalar.cmpi .slt v494 c0_i32_305
  let v499 : BitVec 1 := Scalar.xori v497 v498
  let c0_i32_303 : BitVec 32 := 0#32
  let v496 : BitVec 1 := Scalar.cmpi .ne v495 c0_i32_303
  let v500 : BitVec 1 := Scalar.andi v499 v496
  let v501 : BitVec 32 := Scalar.addi v495 v494
  let v502 : BitVec 32 := Scalar.select v500 v501 v495
  let c2_i32_318 : BitVec 32 := 2#32
  let v515 : BitVec 32 := Scalar.muli v502 c2_i32_318
  let v516 : BitVec 32 := Scalar.addi v514 v515
  let c2_i32_306 : BitVec 32 := 2#32
  let c0_i32_307 : BitVec 32 := 0#32
  let v503 : BitVec 1 := Scalar.cmpi .eq c2_i32_306 c0_i32_307
  let c1_i32_308 : BitVec 32 := 1#32
  let v504 : BitVec 32 := Scalar.select v503 c1_i32_308 c2_i32_306
  let v505 : BitVec 32 := Scalar.remsi v458 v504
  let c0_i32_310 : BitVec 32 := 0#32
  let v507 : BitVec 1 := Scalar.cmpi .slt v505 c0_i32_310
  let c0_i32_311 : BitVec 32 := 0#32
  let v508 : BitVec 1 := Scalar.cmpi .slt v504 c0_i32_311
  let v509 : BitVec 1 := Scalar.xori v507 v508
  let c0_i32_309 : BitVec 32 := 0#32
  let v506 : BitVec 1 := Scalar.cmpi .ne v505 c0_i32_309
  let v510 : BitVec 1 := Scalar.andi v509 v506
  let v511 : BitVec 32 := Scalar.addi v505 v504
  let v512 : BitVec 32 := Scalar.select v510 v511 v505
  let c1_i32_319 : BitVec 32 := 1#32
  let v517 : BitVec 32 := Scalar.muli v512 c1_i32_319
  let v518 : BitVec 32 := Scalar.addi v516 v517
  v518.toNat
def k0_dev8 (d0 : Dev nD) : Nat :=
  let c0_i32_357 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_327 : BitVec 32 := 0#32
  let v528 : BitVec 1 := Scalar.cmpi .sgt v458 c0_i32_327
  let v529 : BitVec 32 := Scalar.extui v528
  let c0_i32_328 : BitVec 32 := 0#32
  let v530 : BitVec 1 := Scalar.cmpi .slt v458 c0_i32_328
  let v531 : BitVec 32 := Scalar.extui v530
  let v532 : BitVec 32 := Scalar.subi v529 v531
  let c4_i32_326 : BitVec 32 := 4#32
  let c0_i32_329 : BitVec 32 := 0#32
  let v533 : BitVec 1 := Scalar.cmpi .sgt c4_i32_326 c0_i32_329
  let v534 : BitVec 32 := Scalar.extui v533
  let c0_i32_330 : BitVec 32 := 0#32
  let v535 : BitVec 1 := Scalar.cmpi .slt c4_i32_326 c0_i32_330
  let v536 : BitVec 32 := Scalar.extui v535
  let v537 : BitVec 32 := Scalar.subi v534 v536
  let v538 : BitVec 1 := Scalar.cmpi .ne v532 v537
  let v539 : BitVec 32 := Scalar.remsi v458 c4_i32_326
  let c0_i32_331 : BitVec 32 := 0#32
  let v540 : BitVec 1 := Scalar.cmpi .ne v539 c0_i32_331
  let v541 : BitVec 1 := Scalar.andi v538 v540
  let v527 : BitVec 32 := Scalar.divsi v458 c4_i32_326
  let c1_i32_332 : BitVec 32 := 1#32
  let v542 : BitVec 32 := Scalar.subi v527 c1_i32_332
  let v543 : BitVec 32 := Scalar.select v541 v542 v527
  let c4_i32_356 : BitVec 32 := 4#32
  let v581 : BitVec 32 := Scalar.muli v543 c4_i32_356
  let v582 : BitVec 32 := Scalar.addi c0_i32_357 v581
  let c0_i32_334 : BitVec 32 := 0#32
  let v545 : BitVec 1 := Scalar.cmpi .sgt v458 c0_i32_334
  let v546 : BitVec 32 := Scalar.extui v545
  let c0_i32_335 : BitVec 32 := 0#32
  let v547 : BitVec 1 := Scalar.cmpi .slt v458 c0_i32_335
  let v548 : BitVec 32 := Scalar.extui v547
  let v549 : BitVec 32 := Scalar.subi v546 v548
  let c2_i32_333 : BitVec 32 := 2#32
  let c0_i32_336 : BitVec 32 := 0#32
  let v550 : BitVec 1 := Scalar.cmpi .sgt c2_i32_333 c0_i32_336
  let v551 : BitVec 32 := Scalar.extui v550
  let c0_i32_337 : BitVec 32 := 0#32
  let v552 : BitVec 1 := Scalar.cmpi .slt c2_i32_333 c0_i32_337
  let v553 : BitVec 32 := Scalar.extui v552
  let v554 : BitVec 32 := Scalar.subi v551 v553
  let v555 : BitVec 1 := Scalar.cmpi .ne v549 v554
  let v556 : BitVec 32 := Scalar.remsi v458 c2_i32_333
  let c0_i32_338 : BitVec 32 := 0#32
  let v557 : BitVec 1 := Scalar.cmpi .ne v556 c0_i32_338
  let v558 : BitVec 1 := Scalar.andi v555 v557
  let v544 : BitVec 32 := Scalar.divsi v458 c2_i32_333
  let c1_i32_339 : BitVec 32 := 1#32
  let v559 : BitVec 32 := Scalar.subi v544 c1_i32_339
  let v560 : BitVec 32 := Scalar.select v558 v559 v544
  let c2_i32_340 : BitVec 32 := 2#32
  let c0_i32_341 : BitVec 32 := 0#32
  let v561 : BitVec 1 := Scalar.cmpi .eq c2_i32_340 c0_i32_341
  let c1_i32_342 : BitVec 32 := 1#32
  let v562 : BitVec 32 := Scalar.select v561 c1_i32_342 c2_i32_340
  let v563 : BitVec 32 := Scalar.remsi v560 v562
  let c0_i32_344 : BitVec 32 := 0#32
  let v565 : BitVec 1 := Scalar.cmpi .slt v563 c0_i32_344
  let c0_i32_345 : BitVec 32 := 0#32
  let v566 : BitVec 1 := Scalar.cmpi .slt v562 c0_i32_345
  let v567 : BitVec 1 := Scalar.xori v565 v566
  let c0_i32_343 : BitVec 32 := 0#32
  let v564 : BitVec 1 := Scalar.cmpi .ne v563 c0_i32_343
  let v568 : BitVec 1 := Scalar.andi v567 v564
  let v569 : BitVec 32 := Scalar.addi v563 v562
  let v570 : BitVec 32 := Scalar.select v568 v569 v563
  let c2_i32_358 : BitVec 32 := 2#32
  let v583 : BitVec 32 := Scalar.muli v570 c2_i32_358
  let v584 : BitVec 32 := Scalar.addi v582 v583
  let c2_i32_346 : BitVec 32 := 2#32
  let c0_i32_347 : BitVec 32 := 0#32
  let v571 : BitVec 1 := Scalar.cmpi .eq c2_i32_346 c0_i32_347
  let c1_i32_348 : BitVec 32 := 1#32
  let v572 : BitVec 32 := Scalar.select v571 c1_i32_348 c2_i32_346
  let v573 : BitVec 32 := Scalar.remsi v458 v572
  let c0_i32_350 : BitVec 32 := 0#32
  let v575 : BitVec 1 := Scalar.cmpi .slt v573 c0_i32_350
  let c0_i32_351 : BitVec 32 := 0#32
  let v576 : BitVec 1 := Scalar.cmpi .slt v572 c0_i32_351
  let v577 : BitVec 1 := Scalar.xori v575 v576
  let c0_i32_349 : BitVec 32 := 0#32
  let v574 : BitVec 1 := Scalar.cmpi .ne v573 c0_i32_349
  let v578 : BitVec 1 := Scalar.andi v577 v574
  let v579 : BitVec 32 := Scalar.addi v573 v572
  let v580 : BitVec 32 := Scalar.select v578 v579 v573
  let c1_i32_359 : BitVec 32 := 1#32
  let v585 : BitVec 32 := Scalar.muli v580 c1_i32_359
  let v586 : BitVec 32 := Scalar.addi v584 v585
  v586.toNat
def k0_dev9 (d0 : Dev nD) : Nat :=
  let c0_i32_397 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_367 : BitVec 32 := 0#32
  let v596 : BitVec 1 := Scalar.cmpi .sgt v458 c0_i32_367
  let v597 : BitVec 32 := Scalar.extui v596
  let c0_i32_368 : BitVec 32 := 0#32
  let v598 : BitVec 1 := Scalar.cmpi .slt v458 c0_i32_368
  let v599 : BitVec 32 := Scalar.extui v598
  let v600 : BitVec 32 := Scalar.subi v597 v599
  let c4_i32_366 : BitVec 32 := 4#32
  let c0_i32_369 : BitVec 32 := 0#32
  let v601 : BitVec 1 := Scalar.cmpi .sgt c4_i32_366 c0_i32_369
  let v602 : BitVec 32 := Scalar.extui v601
  let c0_i32_370 : BitVec 32 := 0#32
  let v603 : BitVec 1 := Scalar.cmpi .slt c4_i32_366 c0_i32_370
  let v604 : BitVec 32 := Scalar.extui v603
  let v605 : BitVec 32 := Scalar.subi v602 v604
  let v606 : BitVec 1 := Scalar.cmpi .ne v600 v605
  let v607 : BitVec 32 := Scalar.remsi v458 c4_i32_366
  let c0_i32_371 : BitVec 32 := 0#32
  let v608 : BitVec 1 := Scalar.cmpi .ne v607 c0_i32_371
  let v609 : BitVec 1 := Scalar.andi v606 v608
  let v595 : BitVec 32 := Scalar.divsi v458 c4_i32_366
  let c1_i32_372 : BitVec 32 := 1#32
  let v610 : BitVec 32 := Scalar.subi v595 c1_i32_372
  let v611 : BitVec 32 := Scalar.select v609 v610 v595
  let c4_i32_396 : BitVec 32 := 4#32
  let v649 : BitVec 32 := Scalar.muli v611 c4_i32_396
  let v650 : BitVec 32 := Scalar.addi c0_i32_397 v649
  let c0_i32_374 : BitVec 32 := 0#32
  let v613 : BitVec 1 := Scalar.cmpi .sgt v458 c0_i32_374
  let v614 : BitVec 32 := Scalar.extui v613
  let c0_i32_375 : BitVec 32 := 0#32
  let v615 : BitVec 1 := Scalar.cmpi .slt v458 c0_i32_375
  let v616 : BitVec 32 := Scalar.extui v615
  let v617 : BitVec 32 := Scalar.subi v614 v616
  let c2_i32_373 : BitVec 32 := 2#32
  let c0_i32_376 : BitVec 32 := 0#32
  let v618 : BitVec 1 := Scalar.cmpi .sgt c2_i32_373 c0_i32_376
  let v619 : BitVec 32 := Scalar.extui v618
  let c0_i32_377 : BitVec 32 := 0#32
  let v620 : BitVec 1 := Scalar.cmpi .slt c2_i32_373 c0_i32_377
  let v621 : BitVec 32 := Scalar.extui v620
  let v622 : BitVec 32 := Scalar.subi v619 v621
  let v623 : BitVec 1 := Scalar.cmpi .ne v617 v622
  let v624 : BitVec 32 := Scalar.remsi v458 c2_i32_373
  let c0_i32_378 : BitVec 32 := 0#32
  let v625 : BitVec 1 := Scalar.cmpi .ne v624 c0_i32_378
  let v626 : BitVec 1 := Scalar.andi v623 v625
  let v612 : BitVec 32 := Scalar.divsi v458 c2_i32_373
  let c1_i32_379 : BitVec 32 := 1#32
  let v627 : BitVec 32 := Scalar.subi v612 c1_i32_379
  let v628 : BitVec 32 := Scalar.select v626 v627 v612
  let c2_i32_380 : BitVec 32 := 2#32
  let c0_i32_381 : BitVec 32 := 0#32
  let v629 : BitVec 1 := Scalar.cmpi .eq c2_i32_380 c0_i32_381
  let c1_i32_382 : BitVec 32 := 1#32
  let v630 : BitVec 32 := Scalar.select v629 c1_i32_382 c2_i32_380
  let v631 : BitVec 32 := Scalar.remsi v628 v630
  let c0_i32_384 : BitVec 32 := 0#32
  let v633 : BitVec 1 := Scalar.cmpi .slt v631 c0_i32_384
  let c0_i32_385 : BitVec 32 := 0#32
  let v634 : BitVec 1 := Scalar.cmpi .slt v630 c0_i32_385
  let v635 : BitVec 1 := Scalar.xori v633 v634
  let c0_i32_383 : BitVec 32 := 0#32
  let v632 : BitVec 1 := Scalar.cmpi .ne v631 c0_i32_383
  let v636 : BitVec 1 := Scalar.andi v635 v632
  let v637 : BitVec 32 := Scalar.addi v631 v630
  let v638 : BitVec 32 := Scalar.select v636 v637 v631
  let c2_i32_398 : BitVec 32 := 2#32
  let v651 : BitVec 32 := Scalar.muli v638 c2_i32_398
  let v652 : BitVec 32 := Scalar.addi v650 v651
  let c2_i32_386 : BitVec 32 := 2#32
  let c0_i32_387 : BitVec 32 := 0#32
  let v639 : BitVec 1 := Scalar.cmpi .eq c2_i32_386 c0_i32_387
  let c1_i32_388 : BitVec 32 := 1#32
  let v640 : BitVec 32 := Scalar.select v639 c1_i32_388 c2_i32_386
  let v641 : BitVec 32 := Scalar.remsi v458 v640
  let c0_i32_390 : BitVec 32 := 0#32
  let v643 : BitVec 1 := Scalar.cmpi .slt v641 c0_i32_390
  let c0_i32_391 : BitVec 32 := 0#32
  let v644 : BitVec 1 := Scalar.cmpi .slt v640 c0_i32_391
  let v645 : BitVec 1 := Scalar.xori v643 v644
  let c0_i32_389 : BitVec 32 := 0#32
  let v642 : BitVec 1 := Scalar.cmpi .ne v641 c0_i32_389
  let v646 : BitVec 1 := Scalar.andi v645 v642
  let v647 : BitVec 32 := Scalar.addi v641 v640
  let v648 : BitVec 32 := Scalar.select v646 v647 v641
  let c1_i32_399 : BitVec 32 := 1#32
  let v653 : BitVec 32 := Scalar.muli v648 c1_i32_399
  let v654 : BitVec 32 := Scalar.addi v652 v653
  v654.toNat
def k0_dev10 (d0 : Dev nD) : Nat :=
  let c0_i32_437 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_407 : BitVec 32 := 0#32
  let v664 : BitVec 1 := Scalar.cmpi .sgt v458 c0_i32_407
  let v665 : BitVec 32 := Scalar.extui v664
  let c0_i32_408 : BitVec 32 := 0#32
  let v666 : BitVec 1 := Scalar.cmpi .slt v458 c0_i32_408
  let v667 : BitVec 32 := Scalar.extui v666
  let v668 : BitVec 32 := Scalar.subi v665 v667
  let c4_i32_406 : BitVec 32 := 4#32
  let c0_i32_409 : BitVec 32 := 0#32
  let v669 : BitVec 1 := Scalar.cmpi .sgt c4_i32_406 c0_i32_409
  let v670 : BitVec 32 := Scalar.extui v669
  let c0_i32_410 : BitVec 32 := 0#32
  let v671 : BitVec 1 := Scalar.cmpi .slt c4_i32_406 c0_i32_410
  let v672 : BitVec 32 := Scalar.extui v671
  let v673 : BitVec 32 := Scalar.subi v670 v672
  let v674 : BitVec 1 := Scalar.cmpi .ne v668 v673
  let v675 : BitVec 32 := Scalar.remsi v458 c4_i32_406
  let c0_i32_411 : BitVec 32 := 0#32
  let v676 : BitVec 1 := Scalar.cmpi .ne v675 c0_i32_411
  let v677 : BitVec 1 := Scalar.andi v674 v676
  let v663 : BitVec 32 := Scalar.divsi v458 c4_i32_406
  let c1_i32_412 : BitVec 32 := 1#32
  let v678 : BitVec 32 := Scalar.subi v663 c1_i32_412
  let v679 : BitVec 32 := Scalar.select v677 v678 v663
  let c4_i32_436 : BitVec 32 := 4#32
  let v717 : BitVec 32 := Scalar.muli v679 c4_i32_436
  let v718 : BitVec 32 := Scalar.addi c0_i32_437 v717
  let c0_i32_414 : BitVec 32 := 0#32
  let v681 : BitVec 1 := Scalar.cmpi .sgt v458 c0_i32_414
  let v682 : BitVec 32 := Scalar.extui v681
  let c0_i32_415 : BitVec 32 := 0#32
  let v683 : BitVec 1 := Scalar.cmpi .slt v458 c0_i32_415
  let v684 : BitVec 32 := Scalar.extui v683
  let v685 : BitVec 32 := Scalar.subi v682 v684
  let c2_i32_413 : BitVec 32 := 2#32
  let c0_i32_416 : BitVec 32 := 0#32
  let v686 : BitVec 1 := Scalar.cmpi .sgt c2_i32_413 c0_i32_416
  let v687 : BitVec 32 := Scalar.extui v686
  let c0_i32_417 : BitVec 32 := 0#32
  let v688 : BitVec 1 := Scalar.cmpi .slt c2_i32_413 c0_i32_417
  let v689 : BitVec 32 := Scalar.extui v688
  let v690 : BitVec 32 := Scalar.subi v687 v689
  let v691 : BitVec 1 := Scalar.cmpi .ne v685 v690
  let v692 : BitVec 32 := Scalar.remsi v458 c2_i32_413
  let c0_i32_418 : BitVec 32 := 0#32
  let v693 : BitVec 1 := Scalar.cmpi .ne v692 c0_i32_418
  let v694 : BitVec 1 := Scalar.andi v691 v693
  let v680 : BitVec 32 := Scalar.divsi v458 c2_i32_413
  let c1_i32_419 : BitVec 32 := 1#32
  let v695 : BitVec 32 := Scalar.subi v680 c1_i32_419
  let v696 : BitVec 32 := Scalar.select v694 v695 v680
  let c2_i32_420 : BitVec 32 := 2#32
  let c0_i32_421 : BitVec 32 := 0#32
  let v697 : BitVec 1 := Scalar.cmpi .eq c2_i32_420 c0_i32_421
  let c1_i32_422 : BitVec 32 := 1#32
  let v698 : BitVec 32 := Scalar.select v697 c1_i32_422 c2_i32_420
  let v699 : BitVec 32 := Scalar.remsi v696 v698
  let c0_i32_424 : BitVec 32 := 0#32
  let v701 : BitVec 1 := Scalar.cmpi .slt v699 c0_i32_424
  let c0_i32_425 : BitVec 32 := 0#32
  let v702 : BitVec 1 := Scalar.cmpi .slt v698 c0_i32_425
  let v703 : BitVec 1 := Scalar.xori v701 v702
  let c0_i32_423 : BitVec 32 := 0#32
  let v700 : BitVec 1 := Scalar.cmpi .ne v699 c0_i32_423
  let v704 : BitVec 1 := Scalar.andi v703 v700
  let v705 : BitVec 32 := Scalar.addi v699 v698
  let v706 : BitVec 32 := Scalar.select v704 v705 v699
  let c2_i32_438 : BitVec 32 := 2#32
  let v719 : BitVec 32 := Scalar.muli v706 c2_i32_438
  let v720 : BitVec 32 := Scalar.addi v718 v719
  let c2_i32_426 : BitVec 32 := 2#32
  let c0_i32_427 : BitVec 32 := 0#32
  let v707 : BitVec 1 := Scalar.cmpi .eq c2_i32_426 c0_i32_427
  let c1_i32_428 : BitVec 32 := 1#32
  let v708 : BitVec 32 := Scalar.select v707 c1_i32_428 c2_i32_426
  let v709 : BitVec 32 := Scalar.remsi v458 v708
  let c0_i32_430 : BitVec 32 := 0#32
  let v711 : BitVec 1 := Scalar.cmpi .slt v709 c0_i32_430
  let c0_i32_431 : BitVec 32 := 0#32
  let v712 : BitVec 1 := Scalar.cmpi .slt v708 c0_i32_431
  let v713 : BitVec 1 := Scalar.xori v711 v712
  let c0_i32_429 : BitVec 32 := 0#32
  let v710 : BitVec 1 := Scalar.cmpi .ne v709 c0_i32_429
  let v714 : BitVec 1 := Scalar.andi v713 v710
  let v715 : BitVec 32 := Scalar.addi v709 v708
  let v716 : BitVec 32 := Scalar.select v714 v715 v709
  let c1_i32_439 : BitVec 32 := 1#32
  let v721 : BitVec 32 := Scalar.muli v716 c1_i32_439
  let v722 : BitVec 32 := Scalar.addi v720 v721
  v722.toNat
def k0_dev11 (d0 : Dev nD) : Nat :=
  let c0_i32_477 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_447 : BitVec 32 := 0#32
  let v732 : BitVec 1 := Scalar.cmpi .sgt v458 c0_i32_447
  let v733 : BitVec 32 := Scalar.extui v732
  let c0_i32_448 : BitVec 32 := 0#32
  let v734 : BitVec 1 := Scalar.cmpi .slt v458 c0_i32_448
  let v735 : BitVec 32 := Scalar.extui v734
  let v736 : BitVec 32 := Scalar.subi v733 v735
  let c4_i32_446 : BitVec 32 := 4#32
  let c0_i32_449 : BitVec 32 := 0#32
  let v737 : BitVec 1 := Scalar.cmpi .sgt c4_i32_446 c0_i32_449
  let v738 : BitVec 32 := Scalar.extui v737
  let c0_i32_450 : BitVec 32 := 0#32
  let v739 : BitVec 1 := Scalar.cmpi .slt c4_i32_446 c0_i32_450
  let v740 : BitVec 32 := Scalar.extui v739
  let v741 : BitVec 32 := Scalar.subi v738 v740
  let v742 : BitVec 1 := Scalar.cmpi .ne v736 v741
  let v743 : BitVec 32 := Scalar.remsi v458 c4_i32_446
  let c0_i32_451 : BitVec 32 := 0#32
  let v744 : BitVec 1 := Scalar.cmpi .ne v743 c0_i32_451
  let v745 : BitVec 1 := Scalar.andi v742 v744
  let v731 : BitVec 32 := Scalar.divsi v458 c4_i32_446
  let c1_i32_452 : BitVec 32 := 1#32
  let v746 : BitVec 32 := Scalar.subi v731 c1_i32_452
  let v747 : BitVec 32 := Scalar.select v745 v746 v731
  let c4_i32_476 : BitVec 32 := 4#32
  let v785 : BitVec 32 := Scalar.muli v747 c4_i32_476
  let v786 : BitVec 32 := Scalar.addi c0_i32_477 v785
  let c0_i32_454 : BitVec 32 := 0#32
  let v749 : BitVec 1 := Scalar.cmpi .sgt v458 c0_i32_454
  let v750 : BitVec 32 := Scalar.extui v749
  let c0_i32_455 : BitVec 32 := 0#32
  let v751 : BitVec 1 := Scalar.cmpi .slt v458 c0_i32_455
  let v752 : BitVec 32 := Scalar.extui v751
  let v753 : BitVec 32 := Scalar.subi v750 v752
  let c2_i32_453 : BitVec 32 := 2#32
  let c0_i32_456 : BitVec 32 := 0#32
  let v754 : BitVec 1 := Scalar.cmpi .sgt c2_i32_453 c0_i32_456
  let v755 : BitVec 32 := Scalar.extui v754
  let c0_i32_457 : BitVec 32 := 0#32
  let v756 : BitVec 1 := Scalar.cmpi .slt c2_i32_453 c0_i32_457
  let v757 : BitVec 32 := Scalar.extui v756
  let v758 : BitVec 32 := Scalar.subi v755 v757
  let v759 : BitVec 1 := Scalar.cmpi .ne v753 v758
  let v760 : BitVec 32 := Scalar.remsi v458 c2_i32_453
  let c0_i32_458 : BitVec 32 := 0#32
  let v761 : BitVec 1 := Scalar.cmpi .ne v760 c0_i32_458
  let v762 : BitVec 1 := Scalar.andi v759 v761
  let v748 : BitVec 32 := Scalar.divsi v458 c2_i32_453
  let c1_i32_459 : BitVec 32 := 1#32
  let v763 : BitVec 32 := Scalar.subi v748 c1_i32_459
  let v764 : BitVec 32 := Scalar.select v762 v763 v748
  let c2_i32_460 : BitVec 32 := 2#32
  let c0_i32_461 : BitVec 32 := 0#32
  let v765 : BitVec 1 := Scalar.cmpi .eq c2_i32_460 c0_i32_461
  let c1_i32_462 : BitVec 32 := 1#32
  let v766 : BitVec 32 := Scalar.select v765 c1_i32_462 c2_i32_460
  let v767 : BitVec 32 := Scalar.remsi v764 v766
  let c0_i32_464 : BitVec 32 := 0#32
  let v769 : BitVec 1 := Scalar.cmpi .slt v767 c0_i32_464
  let c0_i32_465 : BitVec 32 := 0#32
  let v770 : BitVec 1 := Scalar.cmpi .slt v766 c0_i32_465
  let v771 : BitVec 1 := Scalar.xori v769 v770
  let c0_i32_463 : BitVec 32 := 0#32
  let v768 : BitVec 1 := Scalar.cmpi .ne v767 c0_i32_463
  let v772 : BitVec 1 := Scalar.andi v771 v768
  let v773 : BitVec 32 := Scalar.addi v767 v766
  let v774 : BitVec 32 := Scalar.select v772 v773 v767
  let c2_i32_478 : BitVec 32 := 2#32
  let v787 : BitVec 32 := Scalar.muli v774 c2_i32_478
  let v788 : BitVec 32 := Scalar.addi v786 v787
  let c2_i32_466 : BitVec 32 := 2#32
  let c0_i32_467 : BitVec 32 := 0#32
  let v775 : BitVec 1 := Scalar.cmpi .eq c2_i32_466 c0_i32_467
  let c1_i32_468 : BitVec 32 := 1#32
  let v776 : BitVec 32 := Scalar.select v775 c1_i32_468 c2_i32_466
  let v777 : BitVec 32 := Scalar.remsi v458 v776
  let c0_i32_470 : BitVec 32 := 0#32
  let v779 : BitVec 1 := Scalar.cmpi .slt v777 c0_i32_470
  let c0_i32_471 : BitVec 32 := 0#32
  let v780 : BitVec 1 := Scalar.cmpi .slt v776 c0_i32_471
  let v781 : BitVec 1 := Scalar.xori v779 v780
  let c0_i32_469 : BitVec 32 := 0#32
  let v778 : BitVec 1 := Scalar.cmpi .ne v777 c0_i32_469
  let v782 : BitVec 1 := Scalar.andi v781 v778
  let v783 : BitVec 32 := Scalar.addi v777 v776
  let v784 : BitVec 32 := Scalar.select v782 v783 v777
  let c1_i32_479 : BitVec 32 := 1#32
  let v789 : BitVec 32 := Scalar.muli v784 c1_i32_479
  let v790 : BitVec 32 := Scalar.addi v788 v789
  v790.toNat
def k0_dev12 (d0 : Dev nD) : Nat :=
  let c0_i32_517 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_285 : BitVec 32 := 2#32
  let v458 : BitVec 32 := Scalar.xori v12 c2_i32_285
  let c0_i32_487 : BitVec 32 := 0#32
  let v800 : BitVec 1 := Scalar.cmpi .sgt v458 c0_i32_487
  let v801 : BitVec 32 := Scalar.extui v800
  let c0_i32_488 : BitVec 32 := 0#32
  let v802 : BitVec 1 := Scalar.cmpi .slt v458 c0_i32_488
  let v803 : BitVec 32 := Scalar.extui v802
  let v804 : BitVec 32 := Scalar.subi v801 v803
  let c4_i32_486 : BitVec 32 := 4#32
  let c0_i32_489 : BitVec 32 := 0#32
  let v805 : BitVec 1 := Scalar.cmpi .sgt c4_i32_486 c0_i32_489
  let v806 : BitVec 32 := Scalar.extui v805
  let c0_i32_490 : BitVec 32 := 0#32
  let v807 : BitVec 1 := Scalar.cmpi .slt c4_i32_486 c0_i32_490
  let v808 : BitVec 32 := Scalar.extui v807
  let v809 : BitVec 32 := Scalar.subi v806 v808
  let v810 : BitVec 1 := Scalar.cmpi .ne v804 v809
  let v811 : BitVec 32 := Scalar.remsi v458 c4_i32_486
  let c0_i32_491 : BitVec 32 := 0#32
  let v812 : BitVec 1 := Scalar.cmpi .ne v811 c0_i32_491
  let v813 : BitVec 1 := Scalar.andi v810 v812
  let v799 : BitVec 32 := Scalar.divsi v458 c4_i32_486
  let c1_i32_492 : BitVec 32 := 1#32
  let v814 : BitVec 32 := Scalar.subi v799 c1_i32_492
  let v815 : BitVec 32 := Scalar.select v813 v814 v799
  let c4_i32_516 : BitVec 32 := 4#32
  let v853 : BitVec 32 := Scalar.muli v815 c4_i32_516
  let v854 : BitVec 32 := Scalar.addi c0_i32_517 v853
  let c0_i32_494 : BitVec 32 := 0#32
  let v817 : BitVec 1 := Scalar.cmpi .sgt v458 c0_i32_494
  let v818 : BitVec 32 := Scalar.extui v817
  let c0_i32_495 : BitVec 32 := 0#32
  let v819 : BitVec 1 := Scalar.cmpi .slt v458 c0_i32_495
  let v820 : BitVec 32 := Scalar.extui v819
  let v821 : BitVec 32 := Scalar.subi v818 v820
  let c2_i32_493 : BitVec 32 := 2#32
  let c0_i32_496 : BitVec 32 := 0#32
  let v822 : BitVec 1 := Scalar.cmpi .sgt c2_i32_493 c0_i32_496
  let v823 : BitVec 32 := Scalar.extui v822
  let c0_i32_497 : BitVec 32 := 0#32
  let v824 : BitVec 1 := Scalar.cmpi .slt c2_i32_493 c0_i32_497
  let v825 : BitVec 32 := Scalar.extui v824
  let v826 : BitVec 32 := Scalar.subi v823 v825
  let v827 : BitVec 1 := Scalar.cmpi .ne v821 v826
  let v828 : BitVec 32 := Scalar.remsi v458 c2_i32_493
  let c0_i32_498 : BitVec 32 := 0#32
  let v829 : BitVec 1 := Scalar.cmpi .ne v828 c0_i32_498
  let v830 : BitVec 1 := Scalar.andi v827 v829
  let v816 : BitVec 32 := Scalar.divsi v458 c2_i32_493
  let c1_i32_499 : BitVec 32 := 1#32
  let v831 : BitVec 32 := Scalar.subi v816 c1_i32_499
  let v832 : BitVec 32 := Scalar.select v830 v831 v816
  let c2_i32_500 : BitVec 32 := 2#32
  let c0_i32_501 : BitVec 32 := 0#32
  let v833 : BitVec 1 := Scalar.cmpi .eq c2_i32_500 c0_i32_501
  let c1_i32_502 : BitVec 32 := 1#32
  let v834 : BitVec 32 := Scalar.select v833 c1_i32_502 c2_i32_500
  let v835 : BitVec 32 := Scalar.remsi v832 v834
  let c0_i32_504 : BitVec 32 := 0#32
  let v837 : BitVec 1 := Scalar.cmpi .slt v835 c0_i32_504
  let c0_i32_505 : BitVec 32 := 0#32
  let v838 : BitVec 1 := Scalar.cmpi .slt v834 c0_i32_505
  let v839 : BitVec 1 := Scalar.xori v837 v838
  let c0_i32_503 : BitVec 32 := 0#32
  let v836 : BitVec 1 := Scalar.cmpi .ne v835 c0_i32_503
  let v840 : BitVec 1 := Scalar.andi v839 v836
  let v841 : BitVec 32 := Scalar.addi v835 v834
  let v842 : BitVec 32 := Scalar.select v840 v841 v835
  let c2_i32_518 : BitVec 32 := 2#32
  let v855 : BitVec 32 := Scalar.muli v842 c2_i32_518
  let v856 : BitVec 32 := Scalar.addi v854 v855
  let c2_i32_506 : BitVec 32 := 2#32
  let c0_i32_507 : BitVec 32 := 0#32
  let v843 : BitVec 1 := Scalar.cmpi .eq c2_i32_506 c0_i32_507
  let c1_i32_508 : BitVec 32 := 1#32
  let v844 : BitVec 32 := Scalar.select v843 c1_i32_508 c2_i32_506
  let v845 : BitVec 32 := Scalar.remsi v458 v844
  let c0_i32_510 : BitVec 32 := 0#32
  let v847 : BitVec 1 := Scalar.cmpi .slt v845 c0_i32_510
  let c0_i32_511 : BitVec 32 := 0#32
  let v848 : BitVec 1 := Scalar.cmpi .slt v844 c0_i32_511
  let v849 : BitVec 1 := Scalar.xori v847 v848
  let c0_i32_509 : BitVec 32 := 0#32
  let v846 : BitVec 1 := Scalar.cmpi .ne v845 c0_i32_509
  let v850 : BitVec 1 := Scalar.andi v849 v846
  let v851 : BitVec 32 := Scalar.addi v845 v844
  let v852 : BitVec 32 := Scalar.select v850 v851 v845
  let c1_i32_519 : BitVec 32 := 1#32
  let v857 : BitVec 32 := Scalar.muli v852 c1_i32_519
  let v858 : BitVec 32 := Scalar.addi v856 v857
  v858.toNat
def k0_dev13 (d0 : Dev nD) : Nat :=
  let c0_i32_558 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_528 : BitVec 32 := 0#32
  let v869 : BitVec 1 := Scalar.cmpi .sgt v867 c0_i32_528
  let v870 : BitVec 32 := Scalar.extui v869
  let c0_i32_529 : BitVec 32 := 0#32
  let v871 : BitVec 1 := Scalar.cmpi .slt v867 c0_i32_529
  let v872 : BitVec 32 := Scalar.extui v871
  let v873 : BitVec 32 := Scalar.subi v870 v872
  let c4_i32_527 : BitVec 32 := 4#32
  let c0_i32_530 : BitVec 32 := 0#32
  let v874 : BitVec 1 := Scalar.cmpi .sgt c4_i32_527 c0_i32_530
  let v875 : BitVec 32 := Scalar.extui v874
  let c0_i32_531 : BitVec 32 := 0#32
  let v876 : BitVec 1 := Scalar.cmpi .slt c4_i32_527 c0_i32_531
  let v877 : BitVec 32 := Scalar.extui v876
  let v878 : BitVec 32 := Scalar.subi v875 v877
  let v879 : BitVec 1 := Scalar.cmpi .ne v873 v878
  let v880 : BitVec 32 := Scalar.remsi v867 c4_i32_527
  let c0_i32_532 : BitVec 32 := 0#32
  let v881 : BitVec 1 := Scalar.cmpi .ne v880 c0_i32_532
  let v882 : BitVec 1 := Scalar.andi v879 v881
  let v868 : BitVec 32 := Scalar.divsi v867 c4_i32_527
  let c1_i32_533 : BitVec 32 := 1#32
  let v883 : BitVec 32 := Scalar.subi v868 c1_i32_533
  let v884 : BitVec 32 := Scalar.select v882 v883 v868
  let c4_i32_557 : BitVec 32 := 4#32
  let v922 : BitVec 32 := Scalar.muli v884 c4_i32_557
  let v923 : BitVec 32 := Scalar.addi c0_i32_558 v922
  let c0_i32_535 : BitVec 32 := 0#32
  let v886 : BitVec 1 := Scalar.cmpi .sgt v867 c0_i32_535
  let v887 : BitVec 32 := Scalar.extui v886
  let c0_i32_536 : BitVec 32 := 0#32
  let v888 : BitVec 1 := Scalar.cmpi .slt v867 c0_i32_536
  let v889 : BitVec 32 := Scalar.extui v888
  let v890 : BitVec 32 := Scalar.subi v887 v889
  let c2_i32_534 : BitVec 32 := 2#32
  let c0_i32_537 : BitVec 32 := 0#32
  let v891 : BitVec 1 := Scalar.cmpi .sgt c2_i32_534 c0_i32_537
  let v892 : BitVec 32 := Scalar.extui v891
  let c0_i32_538 : BitVec 32 := 0#32
  let v893 : BitVec 1 := Scalar.cmpi .slt c2_i32_534 c0_i32_538
  let v894 : BitVec 32 := Scalar.extui v893
  let v895 : BitVec 32 := Scalar.subi v892 v894
  let v896 : BitVec 1 := Scalar.cmpi .ne v890 v895
  let v897 : BitVec 32 := Scalar.remsi v867 c2_i32_534
  let c0_i32_539 : BitVec 32 := 0#32
  let v898 : BitVec 1 := Scalar.cmpi .ne v897 c0_i32_539
  let v899 : BitVec 1 := Scalar.andi v896 v898
  let v885 : BitVec 32 := Scalar.divsi v867 c2_i32_534
  let c1_i32_540 : BitVec 32 := 1#32
  let v900 : BitVec 32 := Scalar.subi v885 c1_i32_540
  let v901 : BitVec 32 := Scalar.select v899 v900 v885
  let c2_i32_541 : BitVec 32 := 2#32
  let c0_i32_542 : BitVec 32 := 0#32
  let v902 : BitVec 1 := Scalar.cmpi .eq c2_i32_541 c0_i32_542
  let c1_i32_543 : BitVec 32 := 1#32
  let v903 : BitVec 32 := Scalar.select v902 c1_i32_543 c2_i32_541
  let v904 : BitVec 32 := Scalar.remsi v901 v903
  let c0_i32_545 : BitVec 32 := 0#32
  let v906 : BitVec 1 := Scalar.cmpi .slt v904 c0_i32_545
  let c0_i32_546 : BitVec 32 := 0#32
  let v907 : BitVec 1 := Scalar.cmpi .slt v903 c0_i32_546
  let v908 : BitVec 1 := Scalar.xori v906 v907
  let c0_i32_544 : BitVec 32 := 0#32
  let v905 : BitVec 1 := Scalar.cmpi .ne v904 c0_i32_544
  let v909 : BitVec 1 := Scalar.andi v908 v905
  let v910 : BitVec 32 := Scalar.addi v904 v903
  let v911 : BitVec 32 := Scalar.select v909 v910 v904
  let c2_i32_559 : BitVec 32 := 2#32
  let v924 : BitVec 32 := Scalar.muli v911 c2_i32_559
  let v925 : BitVec 32 := Scalar.addi v923 v924
  let c2_i32_547 : BitVec 32 := 2#32
  let c0_i32_548 : BitVec 32 := 0#32
  let v912 : BitVec 1 := Scalar.cmpi .eq c2_i32_547 c0_i32_548
  let c1_i32_549 : BitVec 32 := 1#32
  let v913 : BitVec 32 := Scalar.select v912 c1_i32_549 c2_i32_547
  let v914 : BitVec 32 := Scalar.remsi v867 v913
  let c0_i32_551 : BitVec 32 := 0#32
  let v916 : BitVec 1 := Scalar.cmpi .slt v914 c0_i32_551
  let c0_i32_552 : BitVec 32 := 0#32
  let v917 : BitVec 1 := Scalar.cmpi .slt v913 c0_i32_552
  let v918 : BitVec 1 := Scalar.xori v916 v917
  let c0_i32_550 : BitVec 32 := 0#32
  let v915 : BitVec 1 := Scalar.cmpi .ne v914 c0_i32_550
  let v919 : BitVec 1 := Scalar.andi v918 v915
  let v920 : BitVec 32 := Scalar.addi v914 v913
  let v921 : BitVec 32 := Scalar.select v919 v920 v914
  let c1_i32_560 : BitVec 32 := 1#32
  let v926 : BitVec 32 := Scalar.muli v921 c1_i32_560
  let v927 : BitVec 32 := Scalar.addi v925 v926
  v927.toNat
def k0_dev14 (d0 : Dev nD) : Nat :=
  let c0_i32_598 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_568 : BitVec 32 := 0#32
  let v937 : BitVec 1 := Scalar.cmpi .sgt v867 c0_i32_568
  let v938 : BitVec 32 := Scalar.extui v937
  let c0_i32_569 : BitVec 32 := 0#32
  let v939 : BitVec 1 := Scalar.cmpi .slt v867 c0_i32_569
  let v940 : BitVec 32 := Scalar.extui v939
  let v941 : BitVec 32 := Scalar.subi v938 v940
  let c4_i32_567 : BitVec 32 := 4#32
  let c0_i32_570 : BitVec 32 := 0#32
  let v942 : BitVec 1 := Scalar.cmpi .sgt c4_i32_567 c0_i32_570
  let v943 : BitVec 32 := Scalar.extui v942
  let c0_i32_571 : BitVec 32 := 0#32
  let v944 : BitVec 1 := Scalar.cmpi .slt c4_i32_567 c0_i32_571
  let v945 : BitVec 32 := Scalar.extui v944
  let v946 : BitVec 32 := Scalar.subi v943 v945
  let v947 : BitVec 1 := Scalar.cmpi .ne v941 v946
  let v948 : BitVec 32 := Scalar.remsi v867 c4_i32_567
  let c0_i32_572 : BitVec 32 := 0#32
  let v949 : BitVec 1 := Scalar.cmpi .ne v948 c0_i32_572
  let v950 : BitVec 1 := Scalar.andi v947 v949
  let v936 : BitVec 32 := Scalar.divsi v867 c4_i32_567
  let c1_i32_573 : BitVec 32 := 1#32
  let v951 : BitVec 32 := Scalar.subi v936 c1_i32_573
  let v952 : BitVec 32 := Scalar.select v950 v951 v936
  let c4_i32_597 : BitVec 32 := 4#32
  let v990 : BitVec 32 := Scalar.muli v952 c4_i32_597
  let v991 : BitVec 32 := Scalar.addi c0_i32_598 v990
  let c0_i32_575 : BitVec 32 := 0#32
  let v954 : BitVec 1 := Scalar.cmpi .sgt v867 c0_i32_575
  let v955 : BitVec 32 := Scalar.extui v954
  let c0_i32_576 : BitVec 32 := 0#32
  let v956 : BitVec 1 := Scalar.cmpi .slt v867 c0_i32_576
  let v957 : BitVec 32 := Scalar.extui v956
  let v958 : BitVec 32 := Scalar.subi v955 v957
  let c2_i32_574 : BitVec 32 := 2#32
  let c0_i32_577 : BitVec 32 := 0#32
  let v959 : BitVec 1 := Scalar.cmpi .sgt c2_i32_574 c0_i32_577
  let v960 : BitVec 32 := Scalar.extui v959
  let c0_i32_578 : BitVec 32 := 0#32
  let v961 : BitVec 1 := Scalar.cmpi .slt c2_i32_574 c0_i32_578
  let v962 : BitVec 32 := Scalar.extui v961
  let v963 : BitVec 32 := Scalar.subi v960 v962
  let v964 : BitVec 1 := Scalar.cmpi .ne v958 v963
  let v965 : BitVec 32 := Scalar.remsi v867 c2_i32_574
  let c0_i32_579 : BitVec 32 := 0#32
  let v966 : BitVec 1 := Scalar.cmpi .ne v965 c0_i32_579
  let v967 : BitVec 1 := Scalar.andi v964 v966
  let v953 : BitVec 32 := Scalar.divsi v867 c2_i32_574
  let c1_i32_580 : BitVec 32 := 1#32
  let v968 : BitVec 32 := Scalar.subi v953 c1_i32_580
  let v969 : BitVec 32 := Scalar.select v967 v968 v953
  let c2_i32_581 : BitVec 32 := 2#32
  let c0_i32_582 : BitVec 32 := 0#32
  let v970 : BitVec 1 := Scalar.cmpi .eq c2_i32_581 c0_i32_582
  let c1_i32_583 : BitVec 32 := 1#32
  let v971 : BitVec 32 := Scalar.select v970 c1_i32_583 c2_i32_581
  let v972 : BitVec 32 := Scalar.remsi v969 v971
  let c0_i32_585 : BitVec 32 := 0#32
  let v974 : BitVec 1 := Scalar.cmpi .slt v972 c0_i32_585
  let c0_i32_586 : BitVec 32 := 0#32
  let v975 : BitVec 1 := Scalar.cmpi .slt v971 c0_i32_586
  let v976 : BitVec 1 := Scalar.xori v974 v975
  let c0_i32_584 : BitVec 32 := 0#32
  let v973 : BitVec 1 := Scalar.cmpi .ne v972 c0_i32_584
  let v977 : BitVec 1 := Scalar.andi v976 v973
  let v978 : BitVec 32 := Scalar.addi v972 v971
  let v979 : BitVec 32 := Scalar.select v977 v978 v972
  let c2_i32_599 : BitVec 32 := 2#32
  let v992 : BitVec 32 := Scalar.muli v979 c2_i32_599
  let v993 : BitVec 32 := Scalar.addi v991 v992
  let c2_i32_587 : BitVec 32 := 2#32
  let c0_i32_588 : BitVec 32 := 0#32
  let v980 : BitVec 1 := Scalar.cmpi .eq c2_i32_587 c0_i32_588
  let c1_i32_589 : BitVec 32 := 1#32
  let v981 : BitVec 32 := Scalar.select v980 c1_i32_589 c2_i32_587
  let v982 : BitVec 32 := Scalar.remsi v867 v981
  let c0_i32_591 : BitVec 32 := 0#32
  let v984 : BitVec 1 := Scalar.cmpi .slt v982 c0_i32_591
  let c0_i32_592 : BitVec 32 := 0#32
  let v985 : BitVec 1 := Scalar.cmpi .slt v981 c0_i32_592
  let v986 : BitVec 1 := Scalar.xori v984 v985
  let c0_i32_590 : BitVec 32 := 0#32
  let v983 : BitVec 1 := Scalar.cmpi .ne v982 c0_i32_590
  let v987 : BitVec 1 := Scalar.andi v986 v983
  let v988 : BitVec 32 := Scalar.addi v982 v981
  let v989 : BitVec 32 := Scalar.select v987 v988 v982
  let c1_i32_600 : BitVec 32 := 1#32
  let v994 : BitVec 32 := Scalar.muli v989 c1_i32_600
  let v995 : BitVec 32 := Scalar.addi v993 v994
  v995.toNat
def k0_dev15 (d0 : Dev nD) : Nat :=
  let c0_i32_638 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_608 : BitVec 32 := 0#32
  let v1005 : BitVec 1 := Scalar.cmpi .sgt v867 c0_i32_608
  let v1006 : BitVec 32 := Scalar.extui v1005
  let c0_i32_609 : BitVec 32 := 0#32
  let v1007 : BitVec 1 := Scalar.cmpi .slt v867 c0_i32_609
  let v1008 : BitVec 32 := Scalar.extui v1007
  let v1009 : BitVec 32 := Scalar.subi v1006 v1008
  let c4_i32_607 : BitVec 32 := 4#32
  let c0_i32_610 : BitVec 32 := 0#32
  let v1010 : BitVec 1 := Scalar.cmpi .sgt c4_i32_607 c0_i32_610
  let v1011 : BitVec 32 := Scalar.extui v1010
  let c0_i32_611 : BitVec 32 := 0#32
  let v1012 : BitVec 1 := Scalar.cmpi .slt c4_i32_607 c0_i32_611
  let v1013 : BitVec 32 := Scalar.extui v1012
  let v1014 : BitVec 32 := Scalar.subi v1011 v1013
  let v1015 : BitVec 1 := Scalar.cmpi .ne v1009 v1014
  let v1016 : BitVec 32 := Scalar.remsi v867 c4_i32_607
  let c0_i32_612 : BitVec 32 := 0#32
  let v1017 : BitVec 1 := Scalar.cmpi .ne v1016 c0_i32_612
  let v1018 : BitVec 1 := Scalar.andi v1015 v1017
  let v1004 : BitVec 32 := Scalar.divsi v867 c4_i32_607
  let c1_i32_613 : BitVec 32 := 1#32
  let v1019 : BitVec 32 := Scalar.subi v1004 c1_i32_613
  let v1020 : BitVec 32 := Scalar.select v1018 v1019 v1004
  let c4_i32_637 : BitVec 32 := 4#32
  let v1058 : BitVec 32 := Scalar.muli v1020 c4_i32_637
  let v1059 : BitVec 32 := Scalar.addi c0_i32_638 v1058
  let c0_i32_615 : BitVec 32 := 0#32
  let v1022 : BitVec 1 := Scalar.cmpi .sgt v867 c0_i32_615
  let v1023 : BitVec 32 := Scalar.extui v1022
  let c0_i32_616 : BitVec 32 := 0#32
  let v1024 : BitVec 1 := Scalar.cmpi .slt v867 c0_i32_616
  let v1025 : BitVec 32 := Scalar.extui v1024
  let v1026 : BitVec 32 := Scalar.subi v1023 v1025
  let c2_i32_614 : BitVec 32 := 2#32
  let c0_i32_617 : BitVec 32 := 0#32
  let v1027 : BitVec 1 := Scalar.cmpi .sgt c2_i32_614 c0_i32_617
  let v1028 : BitVec 32 := Scalar.extui v1027
  let c0_i32_618 : BitVec 32 := 0#32
  let v1029 : BitVec 1 := Scalar.cmpi .slt c2_i32_614 c0_i32_618
  let v1030 : BitVec 32 := Scalar.extui v1029
  let v1031 : BitVec 32 := Scalar.subi v1028 v1030
  let v1032 : BitVec 1 := Scalar.cmpi .ne v1026 v1031
  let v1033 : BitVec 32 := Scalar.remsi v867 c2_i32_614
  let c0_i32_619 : BitVec 32 := 0#32
  let v1034 : BitVec 1 := Scalar.cmpi .ne v1033 c0_i32_619
  let v1035 : BitVec 1 := Scalar.andi v1032 v1034
  let v1021 : BitVec 32 := Scalar.divsi v867 c2_i32_614
  let c1_i32_620 : BitVec 32 := 1#32
  let v1036 : BitVec 32 := Scalar.subi v1021 c1_i32_620
  let v1037 : BitVec 32 := Scalar.select v1035 v1036 v1021
  let c2_i32_621 : BitVec 32 := 2#32
  let c0_i32_622 : BitVec 32 := 0#32
  let v1038 : BitVec 1 := Scalar.cmpi .eq c2_i32_621 c0_i32_622
  let c1_i32_623 : BitVec 32 := 1#32
  let v1039 : BitVec 32 := Scalar.select v1038 c1_i32_623 c2_i32_621
  let v1040 : BitVec 32 := Scalar.remsi v1037 v1039
  let c0_i32_625 : BitVec 32 := 0#32
  let v1042 : BitVec 1 := Scalar.cmpi .slt v1040 c0_i32_625
  let c0_i32_626 : BitVec 32 := 0#32
  let v1043 : BitVec 1 := Scalar.cmpi .slt v1039 c0_i32_626
  let v1044 : BitVec 1 := Scalar.xori v1042 v1043
  let c0_i32_624 : BitVec 32 := 0#32
  let v1041 : BitVec 1 := Scalar.cmpi .ne v1040 c0_i32_624
  let v1045 : BitVec 1 := Scalar.andi v1044 v1041
  let v1046 : BitVec 32 := Scalar.addi v1040 v1039
  let v1047 : BitVec 32 := Scalar.select v1045 v1046 v1040
  let c2_i32_639 : BitVec 32 := 2#32
  let v1060 : BitVec 32 := Scalar.muli v1047 c2_i32_639
  let v1061 : BitVec 32 := Scalar.addi v1059 v1060
  let c2_i32_627 : BitVec 32 := 2#32
  let c0_i32_628 : BitVec 32 := 0#32
  let v1048 : BitVec 1 := Scalar.cmpi .eq c2_i32_627 c0_i32_628
  let c1_i32_629 : BitVec 32 := 1#32
  let v1049 : BitVec 32 := Scalar.select v1048 c1_i32_629 c2_i32_627
  let v1050 : BitVec 32 := Scalar.remsi v867 v1049
  let c0_i32_631 : BitVec 32 := 0#32
  let v1052 : BitVec 1 := Scalar.cmpi .slt v1050 c0_i32_631
  let c0_i32_632 : BitVec 32 := 0#32
  let v1053 : BitVec 1 := Scalar.cmpi .slt v1049 c0_i32_632
  let v1054 : BitVec 1 := Scalar.xori v1052 v1053
  let c0_i32_630 : BitVec 32 := 0#32
  let v1051 : BitVec 1 := Scalar.cmpi .ne v1050 c0_i32_630
  let v1055 : BitVec 1 := Scalar.andi v1054 v1051
  let v1056 : BitVec 32 := Scalar.addi v1050 v1049
  let v1057 : BitVec 32 := Scalar.select v1055 v1056 v1050
  let c1_i32_640 : BitVec 32 := 1#32
  let v1062 : BitVec 32 := Scalar.muli v1057 c1_i32_640
  let v1063 : BitVec 32 := Scalar.addi v1061 v1062
  v1063.toNat
def k0_dev16 (d0 : Dev nD) : Nat :=
  let c0_i32_678 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_648 : BitVec 32 := 0#32
  let v1073 : BitVec 1 := Scalar.cmpi .sgt v867 c0_i32_648
  let v1074 : BitVec 32 := Scalar.extui v1073
  let c0_i32_649 : BitVec 32 := 0#32
  let v1075 : BitVec 1 := Scalar.cmpi .slt v867 c0_i32_649
  let v1076 : BitVec 32 := Scalar.extui v1075
  let v1077 : BitVec 32 := Scalar.subi v1074 v1076
  let c4_i32_647 : BitVec 32 := 4#32
  let c0_i32_650 : BitVec 32 := 0#32
  let v1078 : BitVec 1 := Scalar.cmpi .sgt c4_i32_647 c0_i32_650
  let v1079 : BitVec 32 := Scalar.extui v1078
  let c0_i32_651 : BitVec 32 := 0#32
  let v1080 : BitVec 1 := Scalar.cmpi .slt c4_i32_647 c0_i32_651
  let v1081 : BitVec 32 := Scalar.extui v1080
  let v1082 : BitVec 32 := Scalar.subi v1079 v1081
  let v1083 : BitVec 1 := Scalar.cmpi .ne v1077 v1082
  let v1084 : BitVec 32 := Scalar.remsi v867 c4_i32_647
  let c0_i32_652 : BitVec 32 := 0#32
  let v1085 : BitVec 1 := Scalar.cmpi .ne v1084 c0_i32_652
  let v1086 : BitVec 1 := Scalar.andi v1083 v1085
  let v1072 : BitVec 32 := Scalar.divsi v867 c4_i32_647
  let c1_i32_653 : BitVec 32 := 1#32
  let v1087 : BitVec 32 := Scalar.subi v1072 c1_i32_653
  let v1088 : BitVec 32 := Scalar.select v1086 v1087 v1072
  let c4_i32_677 : BitVec 32 := 4#32
  let v1126 : BitVec 32 := Scalar.muli v1088 c4_i32_677
  let v1127 : BitVec 32 := Scalar.addi c0_i32_678 v1126
  let c0_i32_655 : BitVec 32 := 0#32
  let v1090 : BitVec 1 := Scalar.cmpi .sgt v867 c0_i32_655
  let v1091 : BitVec 32 := Scalar.extui v1090
  let c0_i32_656 : BitVec 32 := 0#32
  let v1092 : BitVec 1 := Scalar.cmpi .slt v867 c0_i32_656
  let v1093 : BitVec 32 := Scalar.extui v1092
  let v1094 : BitVec 32 := Scalar.subi v1091 v1093
  let c2_i32_654 : BitVec 32 := 2#32
  let c0_i32_657 : BitVec 32 := 0#32
  let v1095 : BitVec 1 := Scalar.cmpi .sgt c2_i32_654 c0_i32_657
  let v1096 : BitVec 32 := Scalar.extui v1095
  let c0_i32_658 : BitVec 32 := 0#32
  let v1097 : BitVec 1 := Scalar.cmpi .slt c2_i32_654 c0_i32_658
  let v1098 : BitVec 32 := Scalar.extui v1097
  let v1099 : BitVec 32 := Scalar.subi v1096 v1098
  let v1100 : BitVec 1 := Scalar.cmpi .ne v1094 v1099
  let v1101 : BitVec 32 := Scalar.remsi v867 c2_i32_654
  let c0_i32_659 : BitVec 32 := 0#32
  let v1102 : BitVec 1 := Scalar.cmpi .ne v1101 c0_i32_659
  let v1103 : BitVec 1 := Scalar.andi v1100 v1102
  let v1089 : BitVec 32 := Scalar.divsi v867 c2_i32_654
  let c1_i32_660 : BitVec 32 := 1#32
  let v1104 : BitVec 32 := Scalar.subi v1089 c1_i32_660
  let v1105 : BitVec 32 := Scalar.select v1103 v1104 v1089
  let c2_i32_661 : BitVec 32 := 2#32
  let c0_i32_662 : BitVec 32 := 0#32
  let v1106 : BitVec 1 := Scalar.cmpi .eq c2_i32_661 c0_i32_662
  let c1_i32_663 : BitVec 32 := 1#32
  let v1107 : BitVec 32 := Scalar.select v1106 c1_i32_663 c2_i32_661
  let v1108 : BitVec 32 := Scalar.remsi v1105 v1107
  let c0_i32_665 : BitVec 32 := 0#32
  let v1110 : BitVec 1 := Scalar.cmpi .slt v1108 c0_i32_665
  let c0_i32_666 : BitVec 32 := 0#32
  let v1111 : BitVec 1 := Scalar.cmpi .slt v1107 c0_i32_666
  let v1112 : BitVec 1 := Scalar.xori v1110 v1111
  let c0_i32_664 : BitVec 32 := 0#32
  let v1109 : BitVec 1 := Scalar.cmpi .ne v1108 c0_i32_664
  let v1113 : BitVec 1 := Scalar.andi v1112 v1109
  let v1114 : BitVec 32 := Scalar.addi v1108 v1107
  let v1115 : BitVec 32 := Scalar.select v1113 v1114 v1108
  let c2_i32_679 : BitVec 32 := 2#32
  let v1128 : BitVec 32 := Scalar.muli v1115 c2_i32_679
  let v1129 : BitVec 32 := Scalar.addi v1127 v1128
  let c2_i32_667 : BitVec 32 := 2#32
  let c0_i32_668 : BitVec 32 := 0#32
  let v1116 : BitVec 1 := Scalar.cmpi .eq c2_i32_667 c0_i32_668
  let c1_i32_669 : BitVec 32 := 1#32
  let v1117 : BitVec 32 := Scalar.select v1116 c1_i32_669 c2_i32_667
  let v1118 : BitVec 32 := Scalar.remsi v867 v1117
  let c0_i32_671 : BitVec 32 := 0#32
  let v1120 : BitVec 1 := Scalar.cmpi .slt v1118 c0_i32_671
  let c0_i32_672 : BitVec 32 := 0#32
  let v1121 : BitVec 1 := Scalar.cmpi .slt v1117 c0_i32_672
  let v1122 : BitVec 1 := Scalar.xori v1120 v1121
  let c0_i32_670 : BitVec 32 := 0#32
  let v1119 : BitVec 1 := Scalar.cmpi .ne v1118 c0_i32_670
  let v1123 : BitVec 1 := Scalar.andi v1122 v1119
  let v1124 : BitVec 32 := Scalar.addi v1118 v1117
  let v1125 : BitVec 32 := Scalar.select v1123 v1124 v1118
  let c1_i32_680 : BitVec 32 := 1#32
  let v1130 : BitVec 32 := Scalar.muli v1125 c1_i32_680
  let v1131 : BitVec 32 := Scalar.addi v1129 v1130
  v1131.toNat
def k0_dev17 (d0 : Dev nD) : Nat :=
  let c0_i32_718 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_688 : BitVec 32 := 0#32
  let v1141 : BitVec 1 := Scalar.cmpi .sgt v867 c0_i32_688
  let v1142 : BitVec 32 := Scalar.extui v1141
  let c0_i32_689 : BitVec 32 := 0#32
  let v1143 : BitVec 1 := Scalar.cmpi .slt v867 c0_i32_689
  let v1144 : BitVec 32 := Scalar.extui v1143
  let v1145 : BitVec 32 := Scalar.subi v1142 v1144
  let c4_i32_687 : BitVec 32 := 4#32
  let c0_i32_690 : BitVec 32 := 0#32
  let v1146 : BitVec 1 := Scalar.cmpi .sgt c4_i32_687 c0_i32_690
  let v1147 : BitVec 32 := Scalar.extui v1146
  let c0_i32_691 : BitVec 32 := 0#32
  let v1148 : BitVec 1 := Scalar.cmpi .slt c4_i32_687 c0_i32_691
  let v1149 : BitVec 32 := Scalar.extui v1148
  let v1150 : BitVec 32 := Scalar.subi v1147 v1149
  let v1151 : BitVec 1 := Scalar.cmpi .ne v1145 v1150
  let v1152 : BitVec 32 := Scalar.remsi v867 c4_i32_687
  let c0_i32_692 : BitVec 32 := 0#32
  let v1153 : BitVec 1 := Scalar.cmpi .ne v1152 c0_i32_692
  let v1154 : BitVec 1 := Scalar.andi v1151 v1153
  let v1140 : BitVec 32 := Scalar.divsi v867 c4_i32_687
  let c1_i32_693 : BitVec 32 := 1#32
  let v1155 : BitVec 32 := Scalar.subi v1140 c1_i32_693
  let v1156 : BitVec 32 := Scalar.select v1154 v1155 v1140
  let c4_i32_717 : BitVec 32 := 4#32
  let v1194 : BitVec 32 := Scalar.muli v1156 c4_i32_717
  let v1195 : BitVec 32 := Scalar.addi c0_i32_718 v1194
  let c0_i32_695 : BitVec 32 := 0#32
  let v1158 : BitVec 1 := Scalar.cmpi .sgt v867 c0_i32_695
  let v1159 : BitVec 32 := Scalar.extui v1158
  let c0_i32_696 : BitVec 32 := 0#32
  let v1160 : BitVec 1 := Scalar.cmpi .slt v867 c0_i32_696
  let v1161 : BitVec 32 := Scalar.extui v1160
  let v1162 : BitVec 32 := Scalar.subi v1159 v1161
  let c2_i32_694 : BitVec 32 := 2#32
  let c0_i32_697 : BitVec 32 := 0#32
  let v1163 : BitVec 1 := Scalar.cmpi .sgt c2_i32_694 c0_i32_697
  let v1164 : BitVec 32 := Scalar.extui v1163
  let c0_i32_698 : BitVec 32 := 0#32
  let v1165 : BitVec 1 := Scalar.cmpi .slt c2_i32_694 c0_i32_698
  let v1166 : BitVec 32 := Scalar.extui v1165
  let v1167 : BitVec 32 := Scalar.subi v1164 v1166
  let v1168 : BitVec 1 := Scalar.cmpi .ne v1162 v1167
  let v1169 : BitVec 32 := Scalar.remsi v867 c2_i32_694
  let c0_i32_699 : BitVec 32 := 0#32
  let v1170 : BitVec 1 := Scalar.cmpi .ne v1169 c0_i32_699
  let v1171 : BitVec 1 := Scalar.andi v1168 v1170
  let v1157 : BitVec 32 := Scalar.divsi v867 c2_i32_694
  let c1_i32_700 : BitVec 32 := 1#32
  let v1172 : BitVec 32 := Scalar.subi v1157 c1_i32_700
  let v1173 : BitVec 32 := Scalar.select v1171 v1172 v1157
  let c2_i32_701 : BitVec 32 := 2#32
  let c0_i32_702 : BitVec 32 := 0#32
  let v1174 : BitVec 1 := Scalar.cmpi .eq c2_i32_701 c0_i32_702
  let c1_i32_703 : BitVec 32 := 1#32
  let v1175 : BitVec 32 := Scalar.select v1174 c1_i32_703 c2_i32_701
  let v1176 : BitVec 32 := Scalar.remsi v1173 v1175
  let c0_i32_705 : BitVec 32 := 0#32
  let v1178 : BitVec 1 := Scalar.cmpi .slt v1176 c0_i32_705
  let c0_i32_706 : BitVec 32 := 0#32
  let v1179 : BitVec 1 := Scalar.cmpi .slt v1175 c0_i32_706
  let v1180 : BitVec 1 := Scalar.xori v1178 v1179
  let c0_i32_704 : BitVec 32 := 0#32
  let v1177 : BitVec 1 := Scalar.cmpi .ne v1176 c0_i32_704
  let v1181 : BitVec 1 := Scalar.andi v1180 v1177
  let v1182 : BitVec 32 := Scalar.addi v1176 v1175
  let v1183 : BitVec 32 := Scalar.select v1181 v1182 v1176
  let c2_i32_719 : BitVec 32 := 2#32
  let v1196 : BitVec 32 := Scalar.muli v1183 c2_i32_719
  let v1197 : BitVec 32 := Scalar.addi v1195 v1196
  let c2_i32_707 : BitVec 32 := 2#32
  let c0_i32_708 : BitVec 32 := 0#32
  let v1184 : BitVec 1 := Scalar.cmpi .eq c2_i32_707 c0_i32_708
  let c1_i32_709 : BitVec 32 := 1#32
  let v1185 : BitVec 32 := Scalar.select v1184 c1_i32_709 c2_i32_707
  let v1186 : BitVec 32 := Scalar.remsi v867 v1185
  let c0_i32_711 : BitVec 32 := 0#32
  let v1188 : BitVec 1 := Scalar.cmpi .slt v1186 c0_i32_711
  let c0_i32_712 : BitVec 32 := 0#32
  let v1189 : BitVec 1 := Scalar.cmpi .slt v1185 c0_i32_712
  let v1190 : BitVec 1 := Scalar.xori v1188 v1189
  let c0_i32_710 : BitVec 32 := 0#32
  let v1187 : BitVec 1 := Scalar.cmpi .ne v1186 c0_i32_710
  let v1191 : BitVec 1 := Scalar.andi v1190 v1187
  let v1192 : BitVec 32 := Scalar.addi v1186 v1185
  let v1193 : BitVec 32 := Scalar.select v1191 v1192 v1186
  let c1_i32_720 : BitVec 32 := 1#32
  let v1198 : BitVec 32 := Scalar.muli v1193 c1_i32_720
  let v1199 : BitVec 32 := Scalar.addi v1197 v1198
  v1199.toNat
def k0_dev18 (d0 : Dev nD) : Nat :=
  let c0_i32_758 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_526 : BitVec 32 := 3#32
  let v867 : BitVec 32 := Scalar.xori v12 c3_i32_526
  let c0_i32_728 : BitVec 32 := 0#32
  let v1209 : BitVec 1 := Scalar.cmpi .sgt v867 c0_i32_728
  let v1210 : BitVec 32 := Scalar.extui v1209
  let c0_i32_729 : BitVec 32 := 0#32
  let v1211 : BitVec 1 := Scalar.cmpi .slt v867 c0_i32_729
  let v1212 : BitVec 32 := Scalar.extui v1211
  let v1213 : BitVec 32 := Scalar.subi v1210 v1212
  let c4_i32_727 : BitVec 32 := 4#32
  let c0_i32_730 : BitVec 32 := 0#32
  let v1214 : BitVec 1 := Scalar.cmpi .sgt c4_i32_727 c0_i32_730
  let v1215 : BitVec 32 := Scalar.extui v1214
  let c0_i32_731 : BitVec 32 := 0#32
  let v1216 : BitVec 1 := Scalar.cmpi .slt c4_i32_727 c0_i32_731
  let v1217 : BitVec 32 := Scalar.extui v1216
  let v1218 : BitVec 32 := Scalar.subi v1215 v1217
  let v1219 : BitVec 1 := Scalar.cmpi .ne v1213 v1218
  let v1220 : BitVec 32 := Scalar.remsi v867 c4_i32_727
  let c0_i32_732 : BitVec 32 := 0#32
  let v1221 : BitVec 1 := Scalar.cmpi .ne v1220 c0_i32_732
  let v1222 : BitVec 1 := Scalar.andi v1219 v1221
  let v1208 : BitVec 32 := Scalar.divsi v867 c4_i32_727
  let c1_i32_733 : BitVec 32 := 1#32
  let v1223 : BitVec 32 := Scalar.subi v1208 c1_i32_733
  let v1224 : BitVec 32 := Scalar.select v1222 v1223 v1208
  let c4_i32_757 : BitVec 32 := 4#32
  let v1262 : BitVec 32 := Scalar.muli v1224 c4_i32_757
  let v1263 : BitVec 32 := Scalar.addi c0_i32_758 v1262
  let c0_i32_735 : BitVec 32 := 0#32
  let v1226 : BitVec 1 := Scalar.cmpi .sgt v867 c0_i32_735
  let v1227 : BitVec 32 := Scalar.extui v1226
  let c0_i32_736 : BitVec 32 := 0#32
  let v1228 : BitVec 1 := Scalar.cmpi .slt v867 c0_i32_736
  let v1229 : BitVec 32 := Scalar.extui v1228
  let v1230 : BitVec 32 := Scalar.subi v1227 v1229
  let c2_i32_734 : BitVec 32 := 2#32
  let c0_i32_737 : BitVec 32 := 0#32
  let v1231 : BitVec 1 := Scalar.cmpi .sgt c2_i32_734 c0_i32_737
  let v1232 : BitVec 32 := Scalar.extui v1231
  let c0_i32_738 : BitVec 32 := 0#32
  let v1233 : BitVec 1 := Scalar.cmpi .slt c2_i32_734 c0_i32_738
  let v1234 : BitVec 32 := Scalar.extui v1233
  let v1235 : BitVec 32 := Scalar.subi v1232 v1234
  let v1236 : BitVec 1 := Scalar.cmpi .ne v1230 v1235
  let v1237 : BitVec 32 := Scalar.remsi v867 c2_i32_734
  let c0_i32_739 : BitVec 32 := 0#32
  let v1238 : BitVec 1 := Scalar.cmpi .ne v1237 c0_i32_739
  let v1239 : BitVec 1 := Scalar.andi v1236 v1238
  let v1225 : BitVec 32 := Scalar.divsi v867 c2_i32_734
  let c1_i32_740 : BitVec 32 := 1#32
  let v1240 : BitVec 32 := Scalar.subi v1225 c1_i32_740
  let v1241 : BitVec 32 := Scalar.select v1239 v1240 v1225
  let c2_i32_741 : BitVec 32 := 2#32
  let c0_i32_742 : BitVec 32 := 0#32
  let v1242 : BitVec 1 := Scalar.cmpi .eq c2_i32_741 c0_i32_742
  let c1_i32_743 : BitVec 32 := 1#32
  let v1243 : BitVec 32 := Scalar.select v1242 c1_i32_743 c2_i32_741
  let v1244 : BitVec 32 := Scalar.remsi v1241 v1243
  let c0_i32_745 : BitVec 32 := 0#32
  let v1246 : BitVec 1 := Scalar.cmpi .slt v1244 c0_i32_745
  let c0_i32_746 : BitVec 32 := 0#32
  let v1247 : BitVec 1 := Scalar.cmpi .slt v1243 c0_i32_746
  let v1248 : BitVec 1 := Scalar.xori v1246 v1247
  let c0_i32_744 : BitVec 32 := 0#32
  let v1245 : BitVec 1 := Scalar.cmpi .ne v1244 c0_i32_744
  let v1249 : BitVec 1 := Scalar.andi v1248 v1245
  let v1250 : BitVec 32 := Scalar.addi v1244 v1243
  let v1251 : BitVec 32 := Scalar.select v1249 v1250 v1244
  let c2_i32_759 : BitVec 32 := 2#32
  let v1264 : BitVec 32 := Scalar.muli v1251 c2_i32_759
  let v1265 : BitVec 32 := Scalar.addi v1263 v1264
  let c2_i32_747 : BitVec 32 := 2#32
  let c0_i32_748 : BitVec 32 := 0#32
  let v1252 : BitVec 1 := Scalar.cmpi .eq c2_i32_747 c0_i32_748
  let c1_i32_749 : BitVec 32 := 1#32
  let v1253 : BitVec 32 := Scalar.select v1252 c1_i32_749 c2_i32_747
  let v1254 : BitVec 32 := Scalar.remsi v867 v1253
  let c0_i32_751 : BitVec 32 := 0#32
  let v1256 : BitVec 1 := Scalar.cmpi .slt v1254 c0_i32_751
  let c0_i32_752 : BitVec 32 := 0#32
  let v1257 : BitVec 1 := Scalar.cmpi .slt v1253 c0_i32_752
  let v1258 : BitVec 1 := Scalar.xori v1256 v1257
  let c0_i32_750 : BitVec 32 := 0#32
  let v1255 : BitVec 1 := Scalar.cmpi .ne v1254 c0_i32_750
  let v1259 : BitVec 1 := Scalar.andi v1258 v1255
  let v1260 : BitVec 32 := Scalar.addi v1254 v1253
  let v1261 : BitVec 32 := Scalar.select v1259 v1260 v1254
  let c1_i32_760 : BitVec 32 := 1#32
  let v1266 : BitVec 32 := Scalar.muli v1261 c1_i32_760
  let v1267 : BitVec 32 := Scalar.addi v1265 v1266
  v1267.toNat
def k0_dev19 (d0 : Dev nD) : Nat :=
  let c0_i32_799 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_769 : BitVec 32 := 0#32
  let v1278 : BitVec 1 := Scalar.cmpi .sgt v1276 c0_i32_769
  let v1279 : BitVec 32 := Scalar.extui v1278
  let c0_i32_770 : BitVec 32 := 0#32
  let v1280 : BitVec 1 := Scalar.cmpi .slt v1276 c0_i32_770
  let v1281 : BitVec 32 := Scalar.extui v1280
  let v1282 : BitVec 32 := Scalar.subi v1279 v1281
  let c4_i32_768 : BitVec 32 := 4#32
  let c0_i32_771 : BitVec 32 := 0#32
  let v1283 : BitVec 1 := Scalar.cmpi .sgt c4_i32_768 c0_i32_771
  let v1284 : BitVec 32 := Scalar.extui v1283
  let c0_i32_772 : BitVec 32 := 0#32
  let v1285 : BitVec 1 := Scalar.cmpi .slt c4_i32_768 c0_i32_772
  let v1286 : BitVec 32 := Scalar.extui v1285
  let v1287 : BitVec 32 := Scalar.subi v1284 v1286
  let v1288 : BitVec 1 := Scalar.cmpi .ne v1282 v1287
  let v1289 : BitVec 32 := Scalar.remsi v1276 c4_i32_768
  let c0_i32_773 : BitVec 32 := 0#32
  let v1290 : BitVec 1 := Scalar.cmpi .ne v1289 c0_i32_773
  let v1291 : BitVec 1 := Scalar.andi v1288 v1290
  let v1277 : BitVec 32 := Scalar.divsi v1276 c4_i32_768
  let c1_i32_774 : BitVec 32 := 1#32
  let v1292 : BitVec 32 := Scalar.subi v1277 c1_i32_774
  let v1293 : BitVec 32 := Scalar.select v1291 v1292 v1277
  let c4_i32_798 : BitVec 32 := 4#32
  let v1331 : BitVec 32 := Scalar.muli v1293 c4_i32_798
  let v1332 : BitVec 32 := Scalar.addi c0_i32_799 v1331
  let c0_i32_776 : BitVec 32 := 0#32
  let v1295 : BitVec 1 := Scalar.cmpi .sgt v1276 c0_i32_776
  let v1296 : BitVec 32 := Scalar.extui v1295
  let c0_i32_777 : BitVec 32 := 0#32
  let v1297 : BitVec 1 := Scalar.cmpi .slt v1276 c0_i32_777
  let v1298 : BitVec 32 := Scalar.extui v1297
  let v1299 : BitVec 32 := Scalar.subi v1296 v1298
  let c2_i32_775 : BitVec 32 := 2#32
  let c0_i32_778 : BitVec 32 := 0#32
  let v1300 : BitVec 1 := Scalar.cmpi .sgt c2_i32_775 c0_i32_778
  let v1301 : BitVec 32 := Scalar.extui v1300
  let c0_i32_779 : BitVec 32 := 0#32
  let v1302 : BitVec 1 := Scalar.cmpi .slt c2_i32_775 c0_i32_779
  let v1303 : BitVec 32 := Scalar.extui v1302
  let v1304 : BitVec 32 := Scalar.subi v1301 v1303
  let v1305 : BitVec 1 := Scalar.cmpi .ne v1299 v1304
  let v1306 : BitVec 32 := Scalar.remsi v1276 c2_i32_775
  let c0_i32_780 : BitVec 32 := 0#32
  let v1307 : BitVec 1 := Scalar.cmpi .ne v1306 c0_i32_780
  let v1308 : BitVec 1 := Scalar.andi v1305 v1307
  let v1294 : BitVec 32 := Scalar.divsi v1276 c2_i32_775
  let c1_i32_781 : BitVec 32 := 1#32
  let v1309 : BitVec 32 := Scalar.subi v1294 c1_i32_781
  let v1310 : BitVec 32 := Scalar.select v1308 v1309 v1294
  let c2_i32_782 : BitVec 32 := 2#32
  let c0_i32_783 : BitVec 32 := 0#32
  let v1311 : BitVec 1 := Scalar.cmpi .eq c2_i32_782 c0_i32_783
  let c1_i32_784 : BitVec 32 := 1#32
  let v1312 : BitVec 32 := Scalar.select v1311 c1_i32_784 c2_i32_782
  let v1313 : BitVec 32 := Scalar.remsi v1310 v1312
  let c0_i32_786 : BitVec 32 := 0#32
  let v1315 : BitVec 1 := Scalar.cmpi .slt v1313 c0_i32_786
  let c0_i32_787 : BitVec 32 := 0#32
  let v1316 : BitVec 1 := Scalar.cmpi .slt v1312 c0_i32_787
  let v1317 : BitVec 1 := Scalar.xori v1315 v1316
  let c0_i32_785 : BitVec 32 := 0#32
  let v1314 : BitVec 1 := Scalar.cmpi .ne v1313 c0_i32_785
  let v1318 : BitVec 1 := Scalar.andi v1317 v1314
  let v1319 : BitVec 32 := Scalar.addi v1313 v1312
  let v1320 : BitVec 32 := Scalar.select v1318 v1319 v1313
  let c2_i32_800 : BitVec 32 := 2#32
  let v1333 : BitVec 32 := Scalar.muli v1320 c2_i32_800
  let v1334 : BitVec 32 := Scalar.addi v1332 v1333
  let c2_i32_788 : BitVec 32 := 2#32
  let c0_i32_789 : BitVec 32 := 0#32
  let v1321 : BitVec 1 := Scalar.cmpi .eq c2_i32_788 c0_i32_789
  let c1_i32_790 : BitVec 32 := 1#32
  let v1322 : BitVec 32 := Scalar.select v1321 c1_i32_790 c2_i32_788
  let v1323 : BitVec 32 := Scalar.remsi v1276 v1322
  let c0_i32_792 : BitVec 32 := 0#32
  let v1325 : BitVec 1 := Scalar.cmpi .slt v1323 c0_i32_792
  let c0_i32_793 : BitVec 32 := 0#32
  let v1326 : BitVec 1 := Scalar.cmpi .slt v1322 c0_i32_793
  let v1327 : BitVec 1 := Scalar.xori v1325 v1326
  let c0_i32_791 : BitVec 32 := 0#32
  let v1324 : BitVec 1 := Scalar.cmpi .ne v1323 c0_i32_791
  let v1328 : BitVec 1 := Scalar.andi v1327 v1324
  let v1329 : BitVec 32 := Scalar.addi v1323 v1322
  let v1330 : BitVec 32 := Scalar.select v1328 v1329 v1323
  let c1_i32_801 : BitVec 32 := 1#32
  let v1335 : BitVec 32 := Scalar.muli v1330 c1_i32_801
  let v1336 : BitVec 32 := Scalar.addi v1334 v1335
  v1336.toNat
def k0_dev20 (d0 : Dev nD) : Nat :=
  let c0_i32_839 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_809 : BitVec 32 := 0#32
  let v1346 : BitVec 1 := Scalar.cmpi .sgt v1276 c0_i32_809
  let v1347 : BitVec 32 := Scalar.extui v1346
  let c0_i32_810 : BitVec 32 := 0#32
  let v1348 : BitVec 1 := Scalar.cmpi .slt v1276 c0_i32_810
  let v1349 : BitVec 32 := Scalar.extui v1348
  let v1350 : BitVec 32 := Scalar.subi v1347 v1349
  let c4_i32_808 : BitVec 32 := 4#32
  let c0_i32_811 : BitVec 32 := 0#32
  let v1351 : BitVec 1 := Scalar.cmpi .sgt c4_i32_808 c0_i32_811
  let v1352 : BitVec 32 := Scalar.extui v1351
  let c0_i32_812 : BitVec 32 := 0#32
  let v1353 : BitVec 1 := Scalar.cmpi .slt c4_i32_808 c0_i32_812
  let v1354 : BitVec 32 := Scalar.extui v1353
  let v1355 : BitVec 32 := Scalar.subi v1352 v1354
  let v1356 : BitVec 1 := Scalar.cmpi .ne v1350 v1355
  let v1357 : BitVec 32 := Scalar.remsi v1276 c4_i32_808
  let c0_i32_813 : BitVec 32 := 0#32
  let v1358 : BitVec 1 := Scalar.cmpi .ne v1357 c0_i32_813
  let v1359 : BitVec 1 := Scalar.andi v1356 v1358
  let v1345 : BitVec 32 := Scalar.divsi v1276 c4_i32_808
  let c1_i32_814 : BitVec 32 := 1#32
  let v1360 : BitVec 32 := Scalar.subi v1345 c1_i32_814
  let v1361 : BitVec 32 := Scalar.select v1359 v1360 v1345
  let c4_i32_838 : BitVec 32 := 4#32
  let v1399 : BitVec 32 := Scalar.muli v1361 c4_i32_838
  let v1400 : BitVec 32 := Scalar.addi c0_i32_839 v1399
  let c0_i32_816 : BitVec 32 := 0#32
  let v1363 : BitVec 1 := Scalar.cmpi .sgt v1276 c0_i32_816
  let v1364 : BitVec 32 := Scalar.extui v1363
  let c0_i32_817 : BitVec 32 := 0#32
  let v1365 : BitVec 1 := Scalar.cmpi .slt v1276 c0_i32_817
  let v1366 : BitVec 32 := Scalar.extui v1365
  let v1367 : BitVec 32 := Scalar.subi v1364 v1366
  let c2_i32_815 : BitVec 32 := 2#32
  let c0_i32_818 : BitVec 32 := 0#32
  let v1368 : BitVec 1 := Scalar.cmpi .sgt c2_i32_815 c0_i32_818
  let v1369 : BitVec 32 := Scalar.extui v1368
  let c0_i32_819 : BitVec 32 := 0#32
  let v1370 : BitVec 1 := Scalar.cmpi .slt c2_i32_815 c0_i32_819
  let v1371 : BitVec 32 := Scalar.extui v1370
  let v1372 : BitVec 32 := Scalar.subi v1369 v1371
  let v1373 : BitVec 1 := Scalar.cmpi .ne v1367 v1372
  let v1374 : BitVec 32 := Scalar.remsi v1276 c2_i32_815
  let c0_i32_820 : BitVec 32 := 0#32
  let v1375 : BitVec 1 := Scalar.cmpi .ne v1374 c0_i32_820
  let v1376 : BitVec 1 := Scalar.andi v1373 v1375
  let v1362 : BitVec 32 := Scalar.divsi v1276 c2_i32_815
  let c1_i32_821 : BitVec 32 := 1#32
  let v1377 : BitVec 32 := Scalar.subi v1362 c1_i32_821
  let v1378 : BitVec 32 := Scalar.select v1376 v1377 v1362
  let c2_i32_822 : BitVec 32 := 2#32
  let c0_i32_823 : BitVec 32 := 0#32
  let v1379 : BitVec 1 := Scalar.cmpi .eq c2_i32_822 c0_i32_823
  let c1_i32_824 : BitVec 32 := 1#32
  let v1380 : BitVec 32 := Scalar.select v1379 c1_i32_824 c2_i32_822
  let v1381 : BitVec 32 := Scalar.remsi v1378 v1380
  let c0_i32_826 : BitVec 32 := 0#32
  let v1383 : BitVec 1 := Scalar.cmpi .slt v1381 c0_i32_826
  let c0_i32_827 : BitVec 32 := 0#32
  let v1384 : BitVec 1 := Scalar.cmpi .slt v1380 c0_i32_827
  let v1385 : BitVec 1 := Scalar.xori v1383 v1384
  let c0_i32_825 : BitVec 32 := 0#32
  let v1382 : BitVec 1 := Scalar.cmpi .ne v1381 c0_i32_825
  let v1386 : BitVec 1 := Scalar.andi v1385 v1382
  let v1387 : BitVec 32 := Scalar.addi v1381 v1380
  let v1388 : BitVec 32 := Scalar.select v1386 v1387 v1381
  let c2_i32_840 : BitVec 32 := 2#32
  let v1401 : BitVec 32 := Scalar.muli v1388 c2_i32_840
  let v1402 : BitVec 32 := Scalar.addi v1400 v1401
  let c2_i32_828 : BitVec 32 := 2#32
  let c0_i32_829 : BitVec 32 := 0#32
  let v1389 : BitVec 1 := Scalar.cmpi .eq c2_i32_828 c0_i32_829
  let c1_i32_830 : BitVec 32 := 1#32
  let v1390 : BitVec 32 := Scalar.select v1389 c1_i32_830 c2_i32_828
  let v1391 : BitVec 32 := Scalar.remsi v1276 v1390
  let c0_i32_832 : BitVec 32 := 0#32
  let v1393 : BitVec 1 := Scalar.cmpi .slt v1391 c0_i32_832
  let c0_i32_833 : BitVec 32 := 0#32
  let v1394 : BitVec 1 := Scalar.cmpi .slt v1390 c0_i32_833
  let v1395 : BitVec 1 := Scalar.xori v1393 v1394
  let c0_i32_831 : BitVec 32 := 0#32
  let v1392 : BitVec 1 := Scalar.cmpi .ne v1391 c0_i32_831
  let v1396 : BitVec 1 := Scalar.andi v1395 v1392
  let v1397 : BitVec 32 := Scalar.addi v1391 v1390
  let v1398 : BitVec 32 := Scalar.select v1396 v1397 v1391
  let c1_i32_841 : BitVec 32 := 1#32
  let v1403 : BitVec 32 := Scalar.muli v1398 c1_i32_841
  let v1404 : BitVec 32 := Scalar.addi v1402 v1403
  v1404.toNat
def k0_dev21 (d0 : Dev nD) : Nat :=
  let c0_i32_879 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_849 : BitVec 32 := 0#32
  let v1414 : BitVec 1 := Scalar.cmpi .sgt v1276 c0_i32_849
  let v1415 : BitVec 32 := Scalar.extui v1414
  let c0_i32_850 : BitVec 32 := 0#32
  let v1416 : BitVec 1 := Scalar.cmpi .slt v1276 c0_i32_850
  let v1417 : BitVec 32 := Scalar.extui v1416
  let v1418 : BitVec 32 := Scalar.subi v1415 v1417
  let c4_i32_848 : BitVec 32 := 4#32
  let c0_i32_851 : BitVec 32 := 0#32
  let v1419 : BitVec 1 := Scalar.cmpi .sgt c4_i32_848 c0_i32_851
  let v1420 : BitVec 32 := Scalar.extui v1419
  let c0_i32_852 : BitVec 32 := 0#32
  let v1421 : BitVec 1 := Scalar.cmpi .slt c4_i32_848 c0_i32_852
  let v1422 : BitVec 32 := Scalar.extui v1421
  let v1423 : BitVec 32 := Scalar.subi v1420 v1422
  let v1424 : BitVec 1 := Scalar.cmpi .ne v1418 v1423
  let v1425 : BitVec 32 := Scalar.remsi v1276 c4_i32_848
  let c0_i32_853 : BitVec 32 := 0#32
  let v1426 : BitVec 1 := Scalar.cmpi .ne v1425 c0_i32_853
  let v1427 : BitVec 1 := Scalar.andi v1424 v1426
  let v1413 : BitVec 32 := Scalar.divsi v1276 c4_i32_848
  let c1_i32_854 : BitVec 32 := 1#32
  let v1428 : BitVec 32 := Scalar.subi v1413 c1_i32_854
  let v1429 : BitVec 32 := Scalar.select v1427 v1428 v1413
  let c4_i32_878 : BitVec 32 := 4#32
  let v1467 : BitVec 32 := Scalar.muli v1429 c4_i32_878
  let v1468 : BitVec 32 := Scalar.addi c0_i32_879 v1467
  let c0_i32_856 : BitVec 32 := 0#32
  let v1431 : BitVec 1 := Scalar.cmpi .sgt v1276 c0_i32_856
  let v1432 : BitVec 32 := Scalar.extui v1431
  let c0_i32_857 : BitVec 32 := 0#32
  let v1433 : BitVec 1 := Scalar.cmpi .slt v1276 c0_i32_857
  let v1434 : BitVec 32 := Scalar.extui v1433
  let v1435 : BitVec 32 := Scalar.subi v1432 v1434
  let c2_i32_855 : BitVec 32 := 2#32
  let c0_i32_858 : BitVec 32 := 0#32
  let v1436 : BitVec 1 := Scalar.cmpi .sgt c2_i32_855 c0_i32_858
  let v1437 : BitVec 32 := Scalar.extui v1436
  let c0_i32_859 : BitVec 32 := 0#32
  let v1438 : BitVec 1 := Scalar.cmpi .slt c2_i32_855 c0_i32_859
  let v1439 : BitVec 32 := Scalar.extui v1438
  let v1440 : BitVec 32 := Scalar.subi v1437 v1439
  let v1441 : BitVec 1 := Scalar.cmpi .ne v1435 v1440
  let v1442 : BitVec 32 := Scalar.remsi v1276 c2_i32_855
  let c0_i32_860 : BitVec 32 := 0#32
  let v1443 : BitVec 1 := Scalar.cmpi .ne v1442 c0_i32_860
  let v1444 : BitVec 1 := Scalar.andi v1441 v1443
  let v1430 : BitVec 32 := Scalar.divsi v1276 c2_i32_855
  let c1_i32_861 : BitVec 32 := 1#32
  let v1445 : BitVec 32 := Scalar.subi v1430 c1_i32_861
  let v1446 : BitVec 32 := Scalar.select v1444 v1445 v1430
  let c2_i32_862 : BitVec 32 := 2#32
  let c0_i32_863 : BitVec 32 := 0#32
  let v1447 : BitVec 1 := Scalar.cmpi .eq c2_i32_862 c0_i32_863
  let c1_i32_864 : BitVec 32 := 1#32
  let v1448 : BitVec 32 := Scalar.select v1447 c1_i32_864 c2_i32_862
  let v1449 : BitVec 32 := Scalar.remsi v1446 v1448
  let c0_i32_866 : BitVec 32 := 0#32
  let v1451 : BitVec 1 := Scalar.cmpi .slt v1449 c0_i32_866
  let c0_i32_867 : BitVec 32 := 0#32
  let v1452 : BitVec 1 := Scalar.cmpi .slt v1448 c0_i32_867
  let v1453 : BitVec 1 := Scalar.xori v1451 v1452
  let c0_i32_865 : BitVec 32 := 0#32
  let v1450 : BitVec 1 := Scalar.cmpi .ne v1449 c0_i32_865
  let v1454 : BitVec 1 := Scalar.andi v1453 v1450
  let v1455 : BitVec 32 := Scalar.addi v1449 v1448
  let v1456 : BitVec 32 := Scalar.select v1454 v1455 v1449
  let c2_i32_880 : BitVec 32 := 2#32
  let v1469 : BitVec 32 := Scalar.muli v1456 c2_i32_880
  let v1470 : BitVec 32 := Scalar.addi v1468 v1469
  let c2_i32_868 : BitVec 32 := 2#32
  let c0_i32_869 : BitVec 32 := 0#32
  let v1457 : BitVec 1 := Scalar.cmpi .eq c2_i32_868 c0_i32_869
  let c1_i32_870 : BitVec 32 := 1#32
  let v1458 : BitVec 32 := Scalar.select v1457 c1_i32_870 c2_i32_868
  let v1459 : BitVec 32 := Scalar.remsi v1276 v1458
  let c0_i32_872 : BitVec 32 := 0#32
  let v1461 : BitVec 1 := Scalar.cmpi .slt v1459 c0_i32_872
  let c0_i32_873 : BitVec 32 := 0#32
  let v1462 : BitVec 1 := Scalar.cmpi .slt v1458 c0_i32_873
  let v1463 : BitVec 1 := Scalar.xori v1461 v1462
  let c0_i32_871 : BitVec 32 := 0#32
  let v1460 : BitVec 1 := Scalar.cmpi .ne v1459 c0_i32_871
  let v1464 : BitVec 1 := Scalar.andi v1463 v1460
  let v1465 : BitVec 32 := Scalar.addi v1459 v1458
  let v1466 : BitVec 32 := Scalar.select v1464 v1465 v1459
  let c1_i32_881 : BitVec 32 := 1#32
  let v1471 : BitVec 32 := Scalar.muli v1466 c1_i32_881
  let v1472 : BitVec 32 := Scalar.addi v1470 v1471
  v1472.toNat
def k0_dev22 (d0 : Dev nD) : Nat :=
  let c0_i32_919 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_889 : BitVec 32 := 0#32
  let v1482 : BitVec 1 := Scalar.cmpi .sgt v1276 c0_i32_889
  let v1483 : BitVec 32 := Scalar.extui v1482
  let c0_i32_890 : BitVec 32 := 0#32
  let v1484 : BitVec 1 := Scalar.cmpi .slt v1276 c0_i32_890
  let v1485 : BitVec 32 := Scalar.extui v1484
  let v1486 : BitVec 32 := Scalar.subi v1483 v1485
  let c4_i32_888 : BitVec 32 := 4#32
  let c0_i32_891 : BitVec 32 := 0#32
  let v1487 : BitVec 1 := Scalar.cmpi .sgt c4_i32_888 c0_i32_891
  let v1488 : BitVec 32 := Scalar.extui v1487
  let c0_i32_892 : BitVec 32 := 0#32
  let v1489 : BitVec 1 := Scalar.cmpi .slt c4_i32_888 c0_i32_892
  let v1490 : BitVec 32 := Scalar.extui v1489
  let v1491 : BitVec 32 := Scalar.subi v1488 v1490
  let v1492 : BitVec 1 := Scalar.cmpi .ne v1486 v1491
  let v1493 : BitVec 32 := Scalar.remsi v1276 c4_i32_888
  let c0_i32_893 : BitVec 32 := 0#32
  let v1494 : BitVec 1 := Scalar.cmpi .ne v1493 c0_i32_893
  let v1495 : BitVec 1 := Scalar.andi v1492 v1494
  let v1481 : BitVec 32 := Scalar.divsi v1276 c4_i32_888
  let c1_i32_894 : BitVec 32 := 1#32
  let v1496 : BitVec 32 := Scalar.subi v1481 c1_i32_894
  let v1497 : BitVec 32 := Scalar.select v1495 v1496 v1481
  let c4_i32_918 : BitVec 32 := 4#32
  let v1535 : BitVec 32 := Scalar.muli v1497 c4_i32_918
  let v1536 : BitVec 32 := Scalar.addi c0_i32_919 v1535
  let c0_i32_896 : BitVec 32 := 0#32
  let v1499 : BitVec 1 := Scalar.cmpi .sgt v1276 c0_i32_896
  let v1500 : BitVec 32 := Scalar.extui v1499
  let c0_i32_897 : BitVec 32 := 0#32
  let v1501 : BitVec 1 := Scalar.cmpi .slt v1276 c0_i32_897
  let v1502 : BitVec 32 := Scalar.extui v1501
  let v1503 : BitVec 32 := Scalar.subi v1500 v1502
  let c2_i32_895 : BitVec 32 := 2#32
  let c0_i32_898 : BitVec 32 := 0#32
  let v1504 : BitVec 1 := Scalar.cmpi .sgt c2_i32_895 c0_i32_898
  let v1505 : BitVec 32 := Scalar.extui v1504
  let c0_i32_899 : BitVec 32 := 0#32
  let v1506 : BitVec 1 := Scalar.cmpi .slt c2_i32_895 c0_i32_899
  let v1507 : BitVec 32 := Scalar.extui v1506
  let v1508 : BitVec 32 := Scalar.subi v1505 v1507
  let v1509 : BitVec 1 := Scalar.cmpi .ne v1503 v1508
  let v1510 : BitVec 32 := Scalar.remsi v1276 c2_i32_895
  let c0_i32_900 : BitVec 32 := 0#32
  let v1511 : BitVec 1 := Scalar.cmpi .ne v1510 c0_i32_900
  let v1512 : BitVec 1 := Scalar.andi v1509 v1511
  let v1498 : BitVec 32 := Scalar.divsi v1276 c2_i32_895
  let c1_i32_901 : BitVec 32 := 1#32
  let v1513 : BitVec 32 := Scalar.subi v1498 c1_i32_901
  let v1514 : BitVec 32 := Scalar.select v1512 v1513 v1498
  let c2_i32_902 : BitVec 32 := 2#32
  let c0_i32_903 : BitVec 32 := 0#32
  let v1515 : BitVec 1 := Scalar.cmpi .eq c2_i32_902 c0_i32_903
  let c1_i32_904 : BitVec 32 := 1#32
  let v1516 : BitVec 32 := Scalar.select v1515 c1_i32_904 c2_i32_902
  let v1517 : BitVec 32 := Scalar.remsi v1514 v1516
  let c0_i32_906 : BitVec 32 := 0#32
  let v1519 : BitVec 1 := Scalar.cmpi .slt v1517 c0_i32_906
  let c0_i32_907 : BitVec 32 := 0#32
  let v1520 : BitVec 1 := Scalar.cmpi .slt v1516 c0_i32_907
  let v1521 : BitVec 1 := Scalar.xori v1519 v1520
  let c0_i32_905 : BitVec 32 := 0#32
  let v1518 : BitVec 1 := Scalar.cmpi .ne v1517 c0_i32_905
  let v1522 : BitVec 1 := Scalar.andi v1521 v1518
  let v1523 : BitVec 32 := Scalar.addi v1517 v1516
  let v1524 : BitVec 32 := Scalar.select v1522 v1523 v1517
  let c2_i32_920 : BitVec 32 := 2#32
  let v1537 : BitVec 32 := Scalar.muli v1524 c2_i32_920
  let v1538 : BitVec 32 := Scalar.addi v1536 v1537
  let c2_i32_908 : BitVec 32 := 2#32
  let c0_i32_909 : BitVec 32 := 0#32
  let v1525 : BitVec 1 := Scalar.cmpi .eq c2_i32_908 c0_i32_909
  let c1_i32_910 : BitVec 32 := 1#32
  let v1526 : BitVec 32 := Scalar.select v1525 c1_i32_910 c2_i32_908
  let v1527 : BitVec 32 := Scalar.remsi v1276 v1526
  let c0_i32_912 : BitVec 32 := 0#32
  let v1529 : BitVec 1 := Scalar.cmpi .slt v1527 c0_i32_912
  let c0_i32_913 : BitVec 32 := 0#32
  let v1530 : BitVec 1 := Scalar.cmpi .slt v1526 c0_i32_913
  let v1531 : BitVec 1 := Scalar.xori v1529 v1530
  let c0_i32_911 : BitVec 32 := 0#32
  let v1528 : BitVec 1 := Scalar.cmpi .ne v1527 c0_i32_911
  let v1532 : BitVec 1 := Scalar.andi v1531 v1528
  let v1533 : BitVec 32 := Scalar.addi v1527 v1526
  let v1534 : BitVec 32 := Scalar.select v1532 v1533 v1527
  let c1_i32_921 : BitVec 32 := 1#32
  let v1539 : BitVec 32 := Scalar.muli v1534 c1_i32_921
  let v1540 : BitVec 32 := Scalar.addi v1538 v1539
  v1540.toNat
def k0_dev23 (d0 : Dev nD) : Nat :=
  let c0_i32_959 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_929 : BitVec 32 := 0#32
  let v1550 : BitVec 1 := Scalar.cmpi .sgt v1276 c0_i32_929
  let v1551 : BitVec 32 := Scalar.extui v1550
  let c0_i32_930 : BitVec 32 := 0#32
  let v1552 : BitVec 1 := Scalar.cmpi .slt v1276 c0_i32_930
  let v1553 : BitVec 32 := Scalar.extui v1552
  let v1554 : BitVec 32 := Scalar.subi v1551 v1553
  let c4_i32_928 : BitVec 32 := 4#32
  let c0_i32_931 : BitVec 32 := 0#32
  let v1555 : BitVec 1 := Scalar.cmpi .sgt c4_i32_928 c0_i32_931
  let v1556 : BitVec 32 := Scalar.extui v1555
  let c0_i32_932 : BitVec 32 := 0#32
  let v1557 : BitVec 1 := Scalar.cmpi .slt c4_i32_928 c0_i32_932
  let v1558 : BitVec 32 := Scalar.extui v1557
  let v1559 : BitVec 32 := Scalar.subi v1556 v1558
  let v1560 : BitVec 1 := Scalar.cmpi .ne v1554 v1559
  let v1561 : BitVec 32 := Scalar.remsi v1276 c4_i32_928
  let c0_i32_933 : BitVec 32 := 0#32
  let v1562 : BitVec 1 := Scalar.cmpi .ne v1561 c0_i32_933
  let v1563 : BitVec 1 := Scalar.andi v1560 v1562
  let v1549 : BitVec 32 := Scalar.divsi v1276 c4_i32_928
  let c1_i32_934 : BitVec 32 := 1#32
  let v1564 : BitVec 32 := Scalar.subi v1549 c1_i32_934
  let v1565 : BitVec 32 := Scalar.select v1563 v1564 v1549
  let c4_i32_958 : BitVec 32 := 4#32
  let v1603 : BitVec 32 := Scalar.muli v1565 c4_i32_958
  let v1604 : BitVec 32 := Scalar.addi c0_i32_959 v1603
  let c0_i32_936 : BitVec 32 := 0#32
  let v1567 : BitVec 1 := Scalar.cmpi .sgt v1276 c0_i32_936
  let v1568 : BitVec 32 := Scalar.extui v1567
  let c0_i32_937 : BitVec 32 := 0#32
  let v1569 : BitVec 1 := Scalar.cmpi .slt v1276 c0_i32_937
  let v1570 : BitVec 32 := Scalar.extui v1569
  let v1571 : BitVec 32 := Scalar.subi v1568 v1570
  let c2_i32_935 : BitVec 32 := 2#32
  let c0_i32_938 : BitVec 32 := 0#32
  let v1572 : BitVec 1 := Scalar.cmpi .sgt c2_i32_935 c0_i32_938
  let v1573 : BitVec 32 := Scalar.extui v1572
  let c0_i32_939 : BitVec 32 := 0#32
  let v1574 : BitVec 1 := Scalar.cmpi .slt c2_i32_935 c0_i32_939
  let v1575 : BitVec 32 := Scalar.extui v1574
  let v1576 : BitVec 32 := Scalar.subi v1573 v1575
  let v1577 : BitVec 1 := Scalar.cmpi .ne v1571 v1576
  let v1578 : BitVec 32 := Scalar.remsi v1276 c2_i32_935
  let c0_i32_940 : BitVec 32 := 0#32
  let v1579 : BitVec 1 := Scalar.cmpi .ne v1578 c0_i32_940
  let v1580 : BitVec 1 := Scalar.andi v1577 v1579
  let v1566 : BitVec 32 := Scalar.divsi v1276 c2_i32_935
  let c1_i32_941 : BitVec 32 := 1#32
  let v1581 : BitVec 32 := Scalar.subi v1566 c1_i32_941
  let v1582 : BitVec 32 := Scalar.select v1580 v1581 v1566
  let c2_i32_942 : BitVec 32 := 2#32
  let c0_i32_943 : BitVec 32 := 0#32
  let v1583 : BitVec 1 := Scalar.cmpi .eq c2_i32_942 c0_i32_943
  let c1_i32_944 : BitVec 32 := 1#32
  let v1584 : BitVec 32 := Scalar.select v1583 c1_i32_944 c2_i32_942
  let v1585 : BitVec 32 := Scalar.remsi v1582 v1584
  let c0_i32_946 : BitVec 32 := 0#32
  let v1587 : BitVec 1 := Scalar.cmpi .slt v1585 c0_i32_946
  let c0_i32_947 : BitVec 32 := 0#32
  let v1588 : BitVec 1 := Scalar.cmpi .slt v1584 c0_i32_947
  let v1589 : BitVec 1 := Scalar.xori v1587 v1588
  let c0_i32_945 : BitVec 32 := 0#32
  let v1586 : BitVec 1 := Scalar.cmpi .ne v1585 c0_i32_945
  let v1590 : BitVec 1 := Scalar.andi v1589 v1586
  let v1591 : BitVec 32 := Scalar.addi v1585 v1584
  let v1592 : BitVec 32 := Scalar.select v1590 v1591 v1585
  let c2_i32_960 : BitVec 32 := 2#32
  let v1605 : BitVec 32 := Scalar.muli v1592 c2_i32_960
  let v1606 : BitVec 32 := Scalar.addi v1604 v1605
  let c2_i32_948 : BitVec 32 := 2#32
  let c0_i32_949 : BitVec 32 := 0#32
  let v1593 : BitVec 1 := Scalar.cmpi .eq c2_i32_948 c0_i32_949
  let c1_i32_950 : BitVec 32 := 1#32
  let v1594 : BitVec 32 := Scalar.select v1593 c1_i32_950 c2_i32_948
  let v1595 : BitVec 32 := Scalar.remsi v1276 v1594
  let c0_i32_952 : BitVec 32 := 0#32
  let v1597 : BitVec 1 := Scalar.cmpi .slt v1595 c0_i32_952
  let c0_i32_953 : BitVec 32 := 0#32
  let v1598 : BitVec 1 := Scalar.cmpi .slt v1594 c0_i32_953
  let v1599 : BitVec 1 := Scalar.xori v1597 v1598
  let c0_i32_951 : BitVec 32 := 0#32
  let v1596 : BitVec 1 := Scalar.cmpi .ne v1595 c0_i32_951
  let v1600 : BitVec 1 := Scalar.andi v1599 v1596
  let v1601 : BitVec 32 := Scalar.addi v1595 v1594
  let v1602 : BitVec 32 := Scalar.select v1600 v1601 v1595
  let c1_i32_961 : BitVec 32 := 1#32
  let v1607 : BitVec 32 := Scalar.muli v1602 c1_i32_961
  let v1608 : BitVec 32 := Scalar.addi v1606 v1607
  v1608.toNat
def k0_dev24 (d0 : Dev nD) : Nat :=
  let c0_i32_999 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_767 : BitVec 32 := 4#32
  let v1276 : BitVec 32 := Scalar.xori v12 c4_i32_767
  let c0_i32_969 : BitVec 32 := 0#32
  let v1618 : BitVec 1 := Scalar.cmpi .sgt v1276 c0_i32_969
  let v1619 : BitVec 32 := Scalar.extui v1618
  let c0_i32_970 : BitVec 32 := 0#32
  let v1620 : BitVec 1 := Scalar.cmpi .slt v1276 c0_i32_970
  let v1621 : BitVec 32 := Scalar.extui v1620
  let v1622 : BitVec 32 := Scalar.subi v1619 v1621
  let c4_i32_968 : BitVec 32 := 4#32
  let c0_i32_971 : BitVec 32 := 0#32
  let v1623 : BitVec 1 := Scalar.cmpi .sgt c4_i32_968 c0_i32_971
  let v1624 : BitVec 32 := Scalar.extui v1623
  let c0_i32_972 : BitVec 32 := 0#32
  let v1625 : BitVec 1 := Scalar.cmpi .slt c4_i32_968 c0_i32_972
  let v1626 : BitVec 32 := Scalar.extui v1625
  let v1627 : BitVec 32 := Scalar.subi v1624 v1626
  let v1628 : BitVec 1 := Scalar.cmpi .ne v1622 v1627
  let v1629 : BitVec 32 := Scalar.remsi v1276 c4_i32_968
  let c0_i32_973 : BitVec 32 := 0#32
  let v1630 : BitVec 1 := Scalar.cmpi .ne v1629 c0_i32_973
  let v1631 : BitVec 1 := Scalar.andi v1628 v1630
  let v1617 : BitVec 32 := Scalar.divsi v1276 c4_i32_968
  let c1_i32_974 : BitVec 32 := 1#32
  let v1632 : BitVec 32 := Scalar.subi v1617 c1_i32_974
  let v1633 : BitVec 32 := Scalar.select v1631 v1632 v1617
  let c4_i32_998 : BitVec 32 := 4#32
  let v1671 : BitVec 32 := Scalar.muli v1633 c4_i32_998
  let v1672 : BitVec 32 := Scalar.addi c0_i32_999 v1671
  let c0_i32_976 : BitVec 32 := 0#32
  let v1635 : BitVec 1 := Scalar.cmpi .sgt v1276 c0_i32_976
  let v1636 : BitVec 32 := Scalar.extui v1635
  let c0_i32_977 : BitVec 32 := 0#32
  let v1637 : BitVec 1 := Scalar.cmpi .slt v1276 c0_i32_977
  let v1638 : BitVec 32 := Scalar.extui v1637
  let v1639 : BitVec 32 := Scalar.subi v1636 v1638
  let c2_i32_975 : BitVec 32 := 2#32
  let c0_i32_978 : BitVec 32 := 0#32
  let v1640 : BitVec 1 := Scalar.cmpi .sgt c2_i32_975 c0_i32_978
  let v1641 : BitVec 32 := Scalar.extui v1640
  let c0_i32_979 : BitVec 32 := 0#32
  let v1642 : BitVec 1 := Scalar.cmpi .slt c2_i32_975 c0_i32_979
  let v1643 : BitVec 32 := Scalar.extui v1642
  let v1644 : BitVec 32 := Scalar.subi v1641 v1643
  let v1645 : BitVec 1 := Scalar.cmpi .ne v1639 v1644
  let v1646 : BitVec 32 := Scalar.remsi v1276 c2_i32_975
  let c0_i32_980 : BitVec 32 := 0#32
  let v1647 : BitVec 1 := Scalar.cmpi .ne v1646 c0_i32_980
  let v1648 : BitVec 1 := Scalar.andi v1645 v1647
  let v1634 : BitVec 32 := Scalar.divsi v1276 c2_i32_975
  let c1_i32_981 : BitVec 32 := 1#32
  let v1649 : BitVec 32 := Scalar.subi v1634 c1_i32_981
  let v1650 : BitVec 32 := Scalar.select v1648 v1649 v1634
  let c2_i32_982 : BitVec 32 := 2#32
  let c0_i32_983 : BitVec 32 := 0#32
  let v1651 : BitVec 1 := Scalar.cmpi .eq c2_i32_982 c0_i32_983
  let c1_i32_984 : BitVec 32 := 1#32
  let v1652 : BitVec 32 := Scalar.select v1651 c1_i32_984 c2_i32_982
  let v1653 : BitVec 32 := Scalar.remsi v1650 v1652
  let c0_i32_986 : BitVec 32 := 0#32
  let v1655 : BitVec 1 := Scalar.cmpi .slt v1653 c0_i32_986
  let c0_i32_987 : BitVec 32 := 0#32
  let v1656 : BitVec 1 := Scalar.cmpi .slt v1652 c0_i32_987
  let v1657 : BitVec 1 := Scalar.xori v1655 v1656
  let c0_i32_985 : BitVec 32 := 0#32
  let v1654 : BitVec 1 := Scalar.cmpi .ne v1653 c0_i32_985
  let v1658 : BitVec 1 := Scalar.andi v1657 v1654
  let v1659 : BitVec 32 := Scalar.addi v1653 v1652
  let v1660 : BitVec 32 := Scalar.select v1658 v1659 v1653
  let c2_i32_1000 : BitVec 32 := 2#32
  let v1673 : BitVec 32 := Scalar.muli v1660 c2_i32_1000
  let v1674 : BitVec 32 := Scalar.addi v1672 v1673
  let c2_i32_988 : BitVec 32 := 2#32
  let c0_i32_989 : BitVec 32 := 0#32
  let v1661 : BitVec 1 := Scalar.cmpi .eq c2_i32_988 c0_i32_989
  let c1_i32_990 : BitVec 32 := 1#32
  let v1662 : BitVec 32 := Scalar.select v1661 c1_i32_990 c2_i32_988
  let v1663 : BitVec 32 := Scalar.remsi v1276 v1662
  let c0_i32_992 : BitVec 32 := 0#32
  let v1665 : BitVec 1 := Scalar.cmpi .slt v1663 c0_i32_992
  let c0_i32_993 : BitVec 32 := 0#32
  let v1666 : BitVec 1 := Scalar.cmpi .slt v1662 c0_i32_993
  let v1667 : BitVec 1 := Scalar.xori v1665 v1666
  let c0_i32_991 : BitVec 32 := 0#32
  let v1664 : BitVec 1 := Scalar.cmpi .ne v1663 c0_i32_991
  let v1668 : BitVec 1 := Scalar.andi v1667 v1664
  let v1669 : BitVec 32 := Scalar.addi v1663 v1662
  let v1670 : BitVec 32 := Scalar.select v1668 v1669 v1663
  let c1_i32_1001 : BitVec 32 := 1#32
  let v1675 : BitVec 32 := Scalar.muli v1670 c1_i32_1001
  let v1676 : BitVec 32 := Scalar.addi v1674 v1675
  v1676.toNat
def k0_dev25 (d0 : Dev nD) : Nat :=
  let c0_i32_1040 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1010 : BitVec 32 := 0#32
  let v1687 : BitVec 1 := Scalar.cmpi .sgt v1685 c0_i32_1010
  let v1688 : BitVec 32 := Scalar.extui v1687
  let c0_i32_1011 : BitVec 32 := 0#32
  let v1689 : BitVec 1 := Scalar.cmpi .slt v1685 c0_i32_1011
  let v1690 : BitVec 32 := Scalar.extui v1689
  let v1691 : BitVec 32 := Scalar.subi v1688 v1690
  let c4_i32_1009 : BitVec 32 := 4#32
  let c0_i32_1012 : BitVec 32 := 0#32
  let v1692 : BitVec 1 := Scalar.cmpi .sgt c4_i32_1009 c0_i32_1012
  let v1693 : BitVec 32 := Scalar.extui v1692
  let c0_i32_1013 : BitVec 32 := 0#32
  let v1694 : BitVec 1 := Scalar.cmpi .slt c4_i32_1009 c0_i32_1013
  let v1695 : BitVec 32 := Scalar.extui v1694
  let v1696 : BitVec 32 := Scalar.subi v1693 v1695
  let v1697 : BitVec 1 := Scalar.cmpi .ne v1691 v1696
  let v1698 : BitVec 32 := Scalar.remsi v1685 c4_i32_1009
  let c0_i32_1014 : BitVec 32 := 0#32
  let v1699 : BitVec 1 := Scalar.cmpi .ne v1698 c0_i32_1014
  let v1700 : BitVec 1 := Scalar.andi v1697 v1699
  let v1686 : BitVec 32 := Scalar.divsi v1685 c4_i32_1009
  let c1_i32_1015 : BitVec 32 := 1#32
  let v1701 : BitVec 32 := Scalar.subi v1686 c1_i32_1015
  let v1702 : BitVec 32 := Scalar.select v1700 v1701 v1686
  let c4_i32_1039 : BitVec 32 := 4#32
  let v1740 : BitVec 32 := Scalar.muli v1702 c4_i32_1039
  let v1741 : BitVec 32 := Scalar.addi c0_i32_1040 v1740
  let c0_i32_1017 : BitVec 32 := 0#32
  let v1704 : BitVec 1 := Scalar.cmpi .sgt v1685 c0_i32_1017
  let v1705 : BitVec 32 := Scalar.extui v1704
  let c0_i32_1018 : BitVec 32 := 0#32
  let v1706 : BitVec 1 := Scalar.cmpi .slt v1685 c0_i32_1018
  let v1707 : BitVec 32 := Scalar.extui v1706
  let v1708 : BitVec 32 := Scalar.subi v1705 v1707
  let c2_i32_1016 : BitVec 32 := 2#32
  let c0_i32_1019 : BitVec 32 := 0#32
  let v1709 : BitVec 1 := Scalar.cmpi .sgt c2_i32_1016 c0_i32_1019
  let v1710 : BitVec 32 := Scalar.extui v1709
  let c0_i32_1020 : BitVec 32 := 0#32
  let v1711 : BitVec 1 := Scalar.cmpi .slt c2_i32_1016 c0_i32_1020
  let v1712 : BitVec 32 := Scalar.extui v1711
  let v1713 : BitVec 32 := Scalar.subi v1710 v1712
  let v1714 : BitVec 1 := Scalar.cmpi .ne v1708 v1713
  let v1715 : BitVec 32 := Scalar.remsi v1685 c2_i32_1016
  let c0_i32_1021 : BitVec 32 := 0#32
  let v1716 : BitVec 1 := Scalar.cmpi .ne v1715 c0_i32_1021
  let v1717 : BitVec 1 := Scalar.andi v1714 v1716
  let v1703 : BitVec 32 := Scalar.divsi v1685 c2_i32_1016
  let c1_i32_1022 : BitVec 32 := 1#32
  let v1718 : BitVec 32 := Scalar.subi v1703 c1_i32_1022
  let v1719 : BitVec 32 := Scalar.select v1717 v1718 v1703
  let c2_i32_1023 : BitVec 32 := 2#32
  let c0_i32_1024 : BitVec 32 := 0#32
  let v1720 : BitVec 1 := Scalar.cmpi .eq c2_i32_1023 c0_i32_1024
  let c1_i32_1025 : BitVec 32 := 1#32
  let v1721 : BitVec 32 := Scalar.select v1720 c1_i32_1025 c2_i32_1023
  let v1722 : BitVec 32 := Scalar.remsi v1719 v1721
  let c0_i32_1027 : BitVec 32 := 0#32
  let v1724 : BitVec 1 := Scalar.cmpi .slt v1722 c0_i32_1027
  let c0_i32_1028 : BitVec 32 := 0#32
  let v1725 : BitVec 1 := Scalar.cmpi .slt v1721 c0_i32_1028
  let v1726 : BitVec 1 := Scalar.xori v1724 v1725
  let c0_i32_1026 : BitVec 32 := 0#32
  let v1723 : BitVec 1 := Scalar.cmpi .ne v1722 c0_i32_1026
  let v1727 : BitVec 1 := Scalar.andi v1726 v1723
  let v1728 : BitVec 32 := Scalar.addi v1722 v1721
  let v1729 : BitVec 32 := Scalar.select v1727 v1728 v1722
  let c2_i32_1041 : BitVec 32 := 2#32
  let v1742 : BitVec 32 := Scalar.muli v1729 c2_i32_1041
  let v1743 : BitVec 32 := Scalar.addi v1741 v1742
  let c2_i32_1029 : BitVec 32 := 2#32
  let c0_i32_1030 : BitVec 32 := 0#32
  let v1730 : BitVec 1 := Scalar.cmpi .eq c2_i32_1029 c0_i32_1030
  let c1_i32_1031 : BitVec 32 := 1#32
  let v1731 : BitVec 32 := Scalar.select v1730 c1_i32_1031 c2_i32_1029
  let v1732 : BitVec 32 := Scalar.remsi v1685 v1731
  let c0_i32_1033 : BitVec 32 := 0#32
  let v1734 : BitVec 1 := Scalar.cmpi .slt v1732 c0_i32_1033
  let c0_i32_1034 : BitVec 32 := 0#32
  let v1735 : BitVec 1 := Scalar.cmpi .slt v1731 c0_i32_1034
  let v1736 : BitVec 1 := Scalar.xori v1734 v1735
  let c0_i32_1032 : BitVec 32 := 0#32
  let v1733 : BitVec 1 := Scalar.cmpi .ne v1732 c0_i32_1032
  let v1737 : BitVec 1 := Scalar.andi v1736 v1733
  let v1738 : BitVec 32 := Scalar.addi v1732 v1731
  let v1739 : BitVec 32 := Scalar.select v1737 v1738 v1732
  let c1_i32_1042 : BitVec 32 := 1#32
  let v1744 : BitVec 32 := Scalar.muli v1739 c1_i32_1042
  let v1745 : BitVec 32 := Scalar.addi v1743 v1744
  v1745.toNat
def k0_dev26 (d0 : Dev nD) : Nat :=
  let c0_i32_1080 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1050 : BitVec 32 := 0#32
  let v1755 : BitVec 1 := Scalar.cmpi .sgt v1685 c0_i32_1050
  let v1756 : BitVec 32 := Scalar.extui v1755
  let c0_i32_1051 : BitVec 32 := 0#32
  let v1757 : BitVec 1 := Scalar.cmpi .slt v1685 c0_i32_1051
  let v1758 : BitVec 32 := Scalar.extui v1757
  let v1759 : BitVec 32 := Scalar.subi v1756 v1758
  let c4_i32_1049 : BitVec 32 := 4#32
  let c0_i32_1052 : BitVec 32 := 0#32
  let v1760 : BitVec 1 := Scalar.cmpi .sgt c4_i32_1049 c0_i32_1052
  let v1761 : BitVec 32 := Scalar.extui v1760
  let c0_i32_1053 : BitVec 32 := 0#32
  let v1762 : BitVec 1 := Scalar.cmpi .slt c4_i32_1049 c0_i32_1053
  let v1763 : BitVec 32 := Scalar.extui v1762
  let v1764 : BitVec 32 := Scalar.subi v1761 v1763
  let v1765 : BitVec 1 := Scalar.cmpi .ne v1759 v1764
  let v1766 : BitVec 32 := Scalar.remsi v1685 c4_i32_1049
  let c0_i32_1054 : BitVec 32 := 0#32
  let v1767 : BitVec 1 := Scalar.cmpi .ne v1766 c0_i32_1054
  let v1768 : BitVec 1 := Scalar.andi v1765 v1767
  let v1754 : BitVec 32 := Scalar.divsi v1685 c4_i32_1049
  let c1_i32_1055 : BitVec 32 := 1#32
  let v1769 : BitVec 32 := Scalar.subi v1754 c1_i32_1055
  let v1770 : BitVec 32 := Scalar.select v1768 v1769 v1754
  let c4_i32_1079 : BitVec 32 := 4#32
  let v1808 : BitVec 32 := Scalar.muli v1770 c4_i32_1079
  let v1809 : BitVec 32 := Scalar.addi c0_i32_1080 v1808
  let c0_i32_1057 : BitVec 32 := 0#32
  let v1772 : BitVec 1 := Scalar.cmpi .sgt v1685 c0_i32_1057
  let v1773 : BitVec 32 := Scalar.extui v1772
  let c0_i32_1058 : BitVec 32 := 0#32
  let v1774 : BitVec 1 := Scalar.cmpi .slt v1685 c0_i32_1058
  let v1775 : BitVec 32 := Scalar.extui v1774
  let v1776 : BitVec 32 := Scalar.subi v1773 v1775
  let c2_i32_1056 : BitVec 32 := 2#32
  let c0_i32_1059 : BitVec 32 := 0#32
  let v1777 : BitVec 1 := Scalar.cmpi .sgt c2_i32_1056 c0_i32_1059
  let v1778 : BitVec 32 := Scalar.extui v1777
  let c0_i32_1060 : BitVec 32 := 0#32
  let v1779 : BitVec 1 := Scalar.cmpi .slt c2_i32_1056 c0_i32_1060
  let v1780 : BitVec 32 := Scalar.extui v1779
  let v1781 : BitVec 32 := Scalar.subi v1778 v1780
  let v1782 : BitVec 1 := Scalar.cmpi .ne v1776 v1781
  let v1783 : BitVec 32 := Scalar.remsi v1685 c2_i32_1056
  let c0_i32_1061 : BitVec 32 := 0#32
  let v1784 : BitVec 1 := Scalar.cmpi .ne v1783 c0_i32_1061
  let v1785 : BitVec 1 := Scalar.andi v1782 v1784
  let v1771 : BitVec 32 := Scalar.divsi v1685 c2_i32_1056
  let c1_i32_1062 : BitVec 32 := 1#32
  let v1786 : BitVec 32 := Scalar.subi v1771 c1_i32_1062
  let v1787 : BitVec 32 := Scalar.select v1785 v1786 v1771
  let c2_i32_1063 : BitVec 32 := 2#32
  let c0_i32_1064 : BitVec 32 := 0#32
  let v1788 : BitVec 1 := Scalar.cmpi .eq c2_i32_1063 c0_i32_1064
  let c1_i32_1065 : BitVec 32 := 1#32
  let v1789 : BitVec 32 := Scalar.select v1788 c1_i32_1065 c2_i32_1063
  let v1790 : BitVec 32 := Scalar.remsi v1787 v1789
  let c0_i32_1067 : BitVec 32 := 0#32
  let v1792 : BitVec 1 := Scalar.cmpi .slt v1790 c0_i32_1067
  let c0_i32_1068 : BitVec 32 := 0#32
  let v1793 : BitVec 1 := Scalar.cmpi .slt v1789 c0_i32_1068
  let v1794 : BitVec 1 := Scalar.xori v1792 v1793
  let c0_i32_1066 : BitVec 32 := 0#32
  let v1791 : BitVec 1 := Scalar.cmpi .ne v1790 c0_i32_1066
  let v1795 : BitVec 1 := Scalar.andi v1794 v1791
  let v1796 : BitVec 32 := Scalar.addi v1790 v1789
  let v1797 : BitVec 32 := Scalar.select v1795 v1796 v1790
  let c2_i32_1081 : BitVec 32 := 2#32
  let v1810 : BitVec 32 := Scalar.muli v1797 c2_i32_1081
  let v1811 : BitVec 32 := Scalar.addi v1809 v1810
  let c2_i32_1069 : BitVec 32 := 2#32
  let c0_i32_1070 : BitVec 32 := 0#32
  let v1798 : BitVec 1 := Scalar.cmpi .eq c2_i32_1069 c0_i32_1070
  let c1_i32_1071 : BitVec 32 := 1#32
  let v1799 : BitVec 32 := Scalar.select v1798 c1_i32_1071 c2_i32_1069
  let v1800 : BitVec 32 := Scalar.remsi v1685 v1799
  let c0_i32_1073 : BitVec 32 := 0#32
  let v1802 : BitVec 1 := Scalar.cmpi .slt v1800 c0_i32_1073
  let c0_i32_1074 : BitVec 32 := 0#32
  let v1803 : BitVec 1 := Scalar.cmpi .slt v1799 c0_i32_1074
  let v1804 : BitVec 1 := Scalar.xori v1802 v1803
  let c0_i32_1072 : BitVec 32 := 0#32
  let v1801 : BitVec 1 := Scalar.cmpi .ne v1800 c0_i32_1072
  let v1805 : BitVec 1 := Scalar.andi v1804 v1801
  let v1806 : BitVec 32 := Scalar.addi v1800 v1799
  let v1807 : BitVec 32 := Scalar.select v1805 v1806 v1800
  let c1_i32_1082 : BitVec 32 := 1#32
  let v1812 : BitVec 32 := Scalar.muli v1807 c1_i32_1082
  let v1813 : BitVec 32 := Scalar.addi v1811 v1812
  v1813.toNat
def k0_dev27 (d0 : Dev nD) : Nat :=
  let c0_i32_1120 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1090 : BitVec 32 := 0#32
  let v1823 : BitVec 1 := Scalar.cmpi .sgt v1685 c0_i32_1090
  let v1824 : BitVec 32 := Scalar.extui v1823
  let c0_i32_1091 : BitVec 32 := 0#32
  let v1825 : BitVec 1 := Scalar.cmpi .slt v1685 c0_i32_1091
  let v1826 : BitVec 32 := Scalar.extui v1825
  let v1827 : BitVec 32 := Scalar.subi v1824 v1826
  let c4_i32_1089 : BitVec 32 := 4#32
  let c0_i32_1092 : BitVec 32 := 0#32
  let v1828 : BitVec 1 := Scalar.cmpi .sgt c4_i32_1089 c0_i32_1092
  let v1829 : BitVec 32 := Scalar.extui v1828
  let c0_i32_1093 : BitVec 32 := 0#32
  let v1830 : BitVec 1 := Scalar.cmpi .slt c4_i32_1089 c0_i32_1093
  let v1831 : BitVec 32 := Scalar.extui v1830
  let v1832 : BitVec 32 := Scalar.subi v1829 v1831
  let v1833 : BitVec 1 := Scalar.cmpi .ne v1827 v1832
  let v1834 : BitVec 32 := Scalar.remsi v1685 c4_i32_1089
  let c0_i32_1094 : BitVec 32 := 0#32
  let v1835 : BitVec 1 := Scalar.cmpi .ne v1834 c0_i32_1094
  let v1836 : BitVec 1 := Scalar.andi v1833 v1835
  let v1822 : BitVec 32 := Scalar.divsi v1685 c4_i32_1089
  let c1_i32_1095 : BitVec 32 := 1#32
  let v1837 : BitVec 32 := Scalar.subi v1822 c1_i32_1095
  let v1838 : BitVec 32 := Scalar.select v1836 v1837 v1822
  let c4_i32_1119 : BitVec 32 := 4#32
  let v1876 : BitVec 32 := Scalar.muli v1838 c4_i32_1119
  let v1877 : BitVec 32 := Scalar.addi c0_i32_1120 v1876
  let c0_i32_1097 : BitVec 32 := 0#32
  let v1840 : BitVec 1 := Scalar.cmpi .sgt v1685 c0_i32_1097
  let v1841 : BitVec 32 := Scalar.extui v1840
  let c0_i32_1098 : BitVec 32 := 0#32
  let v1842 : BitVec 1 := Scalar.cmpi .slt v1685 c0_i32_1098
  let v1843 : BitVec 32 := Scalar.extui v1842
  let v1844 : BitVec 32 := Scalar.subi v1841 v1843
  let c2_i32_1096 : BitVec 32 := 2#32
  let c0_i32_1099 : BitVec 32 := 0#32
  let v1845 : BitVec 1 := Scalar.cmpi .sgt c2_i32_1096 c0_i32_1099
  let v1846 : BitVec 32 := Scalar.extui v1845
  let c0_i32_1100 : BitVec 32 := 0#32
  let v1847 : BitVec 1 := Scalar.cmpi .slt c2_i32_1096 c0_i32_1100
  let v1848 : BitVec 32 := Scalar.extui v1847
  let v1849 : BitVec 32 := Scalar.subi v1846 v1848
  let v1850 : BitVec 1 := Scalar.cmpi .ne v1844 v1849
  let v1851 : BitVec 32 := Scalar.remsi v1685 c2_i32_1096
  let c0_i32_1101 : BitVec 32 := 0#32
  let v1852 : BitVec 1 := Scalar.cmpi .ne v1851 c0_i32_1101
  let v1853 : BitVec 1 := Scalar.andi v1850 v1852
  let v1839 : BitVec 32 := Scalar.divsi v1685 c2_i32_1096
  let c1_i32_1102 : BitVec 32 := 1#32
  let v1854 : BitVec 32 := Scalar.subi v1839 c1_i32_1102
  let v1855 : BitVec 32 := Scalar.select v1853 v1854 v1839
  let c2_i32_1103 : BitVec 32 := 2#32
  let c0_i32_1104 : BitVec 32 := 0#32
  let v1856 : BitVec 1 := Scalar.cmpi .eq c2_i32_1103 c0_i32_1104
  let c1_i32_1105 : BitVec 32 := 1#32
  let v1857 : BitVec 32 := Scalar.select v1856 c1_i32_1105 c2_i32_1103
  let v1858 : BitVec 32 := Scalar.remsi v1855 v1857
  let c0_i32_1107 : BitVec 32 := 0#32
  let v1860 : BitVec 1 := Scalar.cmpi .slt v1858 c0_i32_1107
  let c0_i32_1108 : BitVec 32 := 0#32
  let v1861 : BitVec 1 := Scalar.cmpi .slt v1857 c0_i32_1108
  let v1862 : BitVec 1 := Scalar.xori v1860 v1861
  let c0_i32_1106 : BitVec 32 := 0#32
  let v1859 : BitVec 1 := Scalar.cmpi .ne v1858 c0_i32_1106
  let v1863 : BitVec 1 := Scalar.andi v1862 v1859
  let v1864 : BitVec 32 := Scalar.addi v1858 v1857
  let v1865 : BitVec 32 := Scalar.select v1863 v1864 v1858
  let c2_i32_1121 : BitVec 32 := 2#32
  let v1878 : BitVec 32 := Scalar.muli v1865 c2_i32_1121
  let v1879 : BitVec 32 := Scalar.addi v1877 v1878
  let c2_i32_1109 : BitVec 32 := 2#32
  let c0_i32_1110 : BitVec 32 := 0#32
  let v1866 : BitVec 1 := Scalar.cmpi .eq c2_i32_1109 c0_i32_1110
  let c1_i32_1111 : BitVec 32 := 1#32
  let v1867 : BitVec 32 := Scalar.select v1866 c1_i32_1111 c2_i32_1109
  let v1868 : BitVec 32 := Scalar.remsi v1685 v1867
  let c0_i32_1113 : BitVec 32 := 0#32
  let v1870 : BitVec 1 := Scalar.cmpi .slt v1868 c0_i32_1113
  let c0_i32_1114 : BitVec 32 := 0#32
  let v1871 : BitVec 1 := Scalar.cmpi .slt v1867 c0_i32_1114
  let v1872 : BitVec 1 := Scalar.xori v1870 v1871
  let c0_i32_1112 : BitVec 32 := 0#32
  let v1869 : BitVec 1 := Scalar.cmpi .ne v1868 c0_i32_1112
  let v1873 : BitVec 1 := Scalar.andi v1872 v1869
  let v1874 : BitVec 32 := Scalar.addi v1868 v1867
  let v1875 : BitVec 32 := Scalar.select v1873 v1874 v1868
  let c1_i32_1122 : BitVec 32 := 1#32
  let v1880 : BitVec 32 := Scalar.muli v1875 c1_i32_1122
  let v1881 : BitVec 32 := Scalar.addi v1879 v1880
  v1881.toNat
def k0_dev28 (d0 : Dev nD) : Nat :=
  let c0_i32_1160 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1130 : BitVec 32 := 0#32
  let v1891 : BitVec 1 := Scalar.cmpi .sgt v1685 c0_i32_1130
  let v1892 : BitVec 32 := Scalar.extui v1891
  let c0_i32_1131 : BitVec 32 := 0#32
  let v1893 : BitVec 1 := Scalar.cmpi .slt v1685 c0_i32_1131
  let v1894 : BitVec 32 := Scalar.extui v1893
  let v1895 : BitVec 32 := Scalar.subi v1892 v1894
  let c4_i32_1129 : BitVec 32 := 4#32
  let c0_i32_1132 : BitVec 32 := 0#32
  let v1896 : BitVec 1 := Scalar.cmpi .sgt c4_i32_1129 c0_i32_1132
  let v1897 : BitVec 32 := Scalar.extui v1896
  let c0_i32_1133 : BitVec 32 := 0#32
  let v1898 : BitVec 1 := Scalar.cmpi .slt c4_i32_1129 c0_i32_1133
  let v1899 : BitVec 32 := Scalar.extui v1898
  let v1900 : BitVec 32 := Scalar.subi v1897 v1899
  let v1901 : BitVec 1 := Scalar.cmpi .ne v1895 v1900
  let v1902 : BitVec 32 := Scalar.remsi v1685 c4_i32_1129
  let c0_i32_1134 : BitVec 32 := 0#32
  let v1903 : BitVec 1 := Scalar.cmpi .ne v1902 c0_i32_1134
  let v1904 : BitVec 1 := Scalar.andi v1901 v1903
  let v1890 : BitVec 32 := Scalar.divsi v1685 c4_i32_1129
  let c1_i32_1135 : BitVec 32 := 1#32
  let v1905 : BitVec 32 := Scalar.subi v1890 c1_i32_1135
  let v1906 : BitVec 32 := Scalar.select v1904 v1905 v1890
  let c4_i32_1159 : BitVec 32 := 4#32
  let v1944 : BitVec 32 := Scalar.muli v1906 c4_i32_1159
  let v1945 : BitVec 32 := Scalar.addi c0_i32_1160 v1944
  let c0_i32_1137 : BitVec 32 := 0#32
  let v1908 : BitVec 1 := Scalar.cmpi .sgt v1685 c0_i32_1137
  let v1909 : BitVec 32 := Scalar.extui v1908
  let c0_i32_1138 : BitVec 32 := 0#32
  let v1910 : BitVec 1 := Scalar.cmpi .slt v1685 c0_i32_1138
  let v1911 : BitVec 32 := Scalar.extui v1910
  let v1912 : BitVec 32 := Scalar.subi v1909 v1911
  let c2_i32_1136 : BitVec 32 := 2#32
  let c0_i32_1139 : BitVec 32 := 0#32
  let v1913 : BitVec 1 := Scalar.cmpi .sgt c2_i32_1136 c0_i32_1139
  let v1914 : BitVec 32 := Scalar.extui v1913
  let c0_i32_1140 : BitVec 32 := 0#32
  let v1915 : BitVec 1 := Scalar.cmpi .slt c2_i32_1136 c0_i32_1140
  let v1916 : BitVec 32 := Scalar.extui v1915
  let v1917 : BitVec 32 := Scalar.subi v1914 v1916
  let v1918 : BitVec 1 := Scalar.cmpi .ne v1912 v1917
  let v1919 : BitVec 32 := Scalar.remsi v1685 c2_i32_1136
  let c0_i32_1141 : BitVec 32 := 0#32
  let v1920 : BitVec 1 := Scalar.cmpi .ne v1919 c0_i32_1141
  let v1921 : BitVec 1 := Scalar.andi v1918 v1920
  let v1907 : BitVec 32 := Scalar.divsi v1685 c2_i32_1136
  let c1_i32_1142 : BitVec 32 := 1#32
  let v1922 : BitVec 32 := Scalar.subi v1907 c1_i32_1142
  let v1923 : BitVec 32 := Scalar.select v1921 v1922 v1907
  let c2_i32_1143 : BitVec 32 := 2#32
  let c0_i32_1144 : BitVec 32 := 0#32
  let v1924 : BitVec 1 := Scalar.cmpi .eq c2_i32_1143 c0_i32_1144
  let c1_i32_1145 : BitVec 32 := 1#32
  let v1925 : BitVec 32 := Scalar.select v1924 c1_i32_1145 c2_i32_1143
  let v1926 : BitVec 32 := Scalar.remsi v1923 v1925
  let c0_i32_1147 : BitVec 32 := 0#32
  let v1928 : BitVec 1 := Scalar.cmpi .slt v1926 c0_i32_1147
  let c0_i32_1148 : BitVec 32 := 0#32
  let v1929 : BitVec 1 := Scalar.cmpi .slt v1925 c0_i32_1148
  let v1930 : BitVec 1 := Scalar.xori v1928 v1929
  let c0_i32_1146 : BitVec 32 := 0#32
  let v1927 : BitVec 1 := Scalar.cmpi .ne v1926 c0_i32_1146
  let v1931 : BitVec 1 := Scalar.andi v1930 v1927
  let v1932 : BitVec 32 := Scalar.addi v1926 v1925
  let v1933 : BitVec 32 := Scalar.select v1931 v1932 v1926
  let c2_i32_1161 : BitVec 32 := 2#32
  let v1946 : BitVec 32 := Scalar.muli v1933 c2_i32_1161
  let v1947 : BitVec 32 := Scalar.addi v1945 v1946
  let c2_i32_1149 : BitVec 32 := 2#32
  let c0_i32_1150 : BitVec 32 := 0#32
  let v1934 : BitVec 1 := Scalar.cmpi .eq c2_i32_1149 c0_i32_1150
  let c1_i32_1151 : BitVec 32 := 1#32
  let v1935 : BitVec 32 := Scalar.select v1934 c1_i32_1151 c2_i32_1149
  let v1936 : BitVec 32 := Scalar.remsi v1685 v1935
  let c0_i32_1153 : BitVec 32 := 0#32
  let v1938 : BitVec 1 := Scalar.cmpi .slt v1936 c0_i32_1153
  let c0_i32_1154 : BitVec 32 := 0#32
  let v1939 : BitVec 1 := Scalar.cmpi .slt v1935 c0_i32_1154
  let v1940 : BitVec 1 := Scalar.xori v1938 v1939
  let c0_i32_1152 : BitVec 32 := 0#32
  let v1937 : BitVec 1 := Scalar.cmpi .ne v1936 c0_i32_1152
  let v1941 : BitVec 1 := Scalar.andi v1940 v1937
  let v1942 : BitVec 32 := Scalar.addi v1936 v1935
  let v1943 : BitVec 32 := Scalar.select v1941 v1942 v1936
  let c1_i32_1162 : BitVec 32 := 1#32
  let v1948 : BitVec 32 := Scalar.muli v1943 c1_i32_1162
  let v1949 : BitVec 32 := Scalar.addi v1947 v1948
  v1949.toNat
def k0_dev29 (d0 : Dev nD) : Nat :=
  let c0_i32_1200 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1170 : BitVec 32 := 0#32
  let v1959 : BitVec 1 := Scalar.cmpi .sgt v1685 c0_i32_1170
  let v1960 : BitVec 32 := Scalar.extui v1959
  let c0_i32_1171 : BitVec 32 := 0#32
  let v1961 : BitVec 1 := Scalar.cmpi .slt v1685 c0_i32_1171
  let v1962 : BitVec 32 := Scalar.extui v1961
  let v1963 : BitVec 32 := Scalar.subi v1960 v1962
  let c4_i32_1169 : BitVec 32 := 4#32
  let c0_i32_1172 : BitVec 32 := 0#32
  let v1964 : BitVec 1 := Scalar.cmpi .sgt c4_i32_1169 c0_i32_1172
  let v1965 : BitVec 32 := Scalar.extui v1964
  let c0_i32_1173 : BitVec 32 := 0#32
  let v1966 : BitVec 1 := Scalar.cmpi .slt c4_i32_1169 c0_i32_1173
  let v1967 : BitVec 32 := Scalar.extui v1966
  let v1968 : BitVec 32 := Scalar.subi v1965 v1967
  let v1969 : BitVec 1 := Scalar.cmpi .ne v1963 v1968
  let v1970 : BitVec 32 := Scalar.remsi v1685 c4_i32_1169
  let c0_i32_1174 : BitVec 32 := 0#32
  let v1971 : BitVec 1 := Scalar.cmpi .ne v1970 c0_i32_1174
  let v1972 : BitVec 1 := Scalar.andi v1969 v1971
  let v1958 : BitVec 32 := Scalar.divsi v1685 c4_i32_1169
  let c1_i32_1175 : BitVec 32 := 1#32
  let v1973 : BitVec 32 := Scalar.subi v1958 c1_i32_1175
  let v1974 : BitVec 32 := Scalar.select v1972 v1973 v1958
  let c4_i32_1199 : BitVec 32 := 4#32
  let v2012 : BitVec 32 := Scalar.muli v1974 c4_i32_1199
  let v2013 : BitVec 32 := Scalar.addi c0_i32_1200 v2012
  let c0_i32_1177 : BitVec 32 := 0#32
  let v1976 : BitVec 1 := Scalar.cmpi .sgt v1685 c0_i32_1177
  let v1977 : BitVec 32 := Scalar.extui v1976
  let c0_i32_1178 : BitVec 32 := 0#32
  let v1978 : BitVec 1 := Scalar.cmpi .slt v1685 c0_i32_1178
  let v1979 : BitVec 32 := Scalar.extui v1978
  let v1980 : BitVec 32 := Scalar.subi v1977 v1979
  let c2_i32_1176 : BitVec 32 := 2#32
  let c0_i32_1179 : BitVec 32 := 0#32
  let v1981 : BitVec 1 := Scalar.cmpi .sgt c2_i32_1176 c0_i32_1179
  let v1982 : BitVec 32 := Scalar.extui v1981
  let c0_i32_1180 : BitVec 32 := 0#32
  let v1983 : BitVec 1 := Scalar.cmpi .slt c2_i32_1176 c0_i32_1180
  let v1984 : BitVec 32 := Scalar.extui v1983
  let v1985 : BitVec 32 := Scalar.subi v1982 v1984
  let v1986 : BitVec 1 := Scalar.cmpi .ne v1980 v1985
  let v1987 : BitVec 32 := Scalar.remsi v1685 c2_i32_1176
  let c0_i32_1181 : BitVec 32 := 0#32
  let v1988 : BitVec 1 := Scalar.cmpi .ne v1987 c0_i32_1181
  let v1989 : BitVec 1 := Scalar.andi v1986 v1988
  let v1975 : BitVec 32 := Scalar.divsi v1685 c2_i32_1176
  let c1_i32_1182 : BitVec 32 := 1#32
  let v1990 : BitVec 32 := Scalar.subi v1975 c1_i32_1182
  let v1991 : BitVec 32 := Scalar.select v1989 v1990 v1975
  let c2_i32_1183 : BitVec 32 := 2#32
  let c0_i32_1184 : BitVec 32 := 0#32
  let v1992 : BitVec 1 := Scalar.cmpi .eq c2_i32_1183 c0_i32_1184
  let c1_i32_1185 : BitVec 32 := 1#32
  let v1993 : BitVec 32 := Scalar.select v1992 c1_i32_1185 c2_i32_1183
  let v1994 : BitVec 32 := Scalar.remsi v1991 v1993
  let c0_i32_1187 : BitVec 32 := 0#32
  let v1996 : BitVec 1 := Scalar.cmpi .slt v1994 c0_i32_1187
  let c0_i32_1188 : BitVec 32 := 0#32
  let v1997 : BitVec 1 := Scalar.cmpi .slt v1993 c0_i32_1188
  let v1998 : BitVec 1 := Scalar.xori v1996 v1997
  let c0_i32_1186 : BitVec 32 := 0#32
  let v1995 : BitVec 1 := Scalar.cmpi .ne v1994 c0_i32_1186
  let v1999 : BitVec 1 := Scalar.andi v1998 v1995
  let v2000 : BitVec 32 := Scalar.addi v1994 v1993
  let v2001 : BitVec 32 := Scalar.select v1999 v2000 v1994
  let c2_i32_1201 : BitVec 32 := 2#32
  let v2014 : BitVec 32 := Scalar.muli v2001 c2_i32_1201
  let v2015 : BitVec 32 := Scalar.addi v2013 v2014
  let c2_i32_1189 : BitVec 32 := 2#32
  let c0_i32_1190 : BitVec 32 := 0#32
  let v2002 : BitVec 1 := Scalar.cmpi .eq c2_i32_1189 c0_i32_1190
  let c1_i32_1191 : BitVec 32 := 1#32
  let v2003 : BitVec 32 := Scalar.select v2002 c1_i32_1191 c2_i32_1189
  let v2004 : BitVec 32 := Scalar.remsi v1685 v2003
  let c0_i32_1193 : BitVec 32 := 0#32
  let v2006 : BitVec 1 := Scalar.cmpi .slt v2004 c0_i32_1193
  let c0_i32_1194 : BitVec 32 := 0#32
  let v2007 : BitVec 1 := Scalar.cmpi .slt v2003 c0_i32_1194
  let v2008 : BitVec 1 := Scalar.xori v2006 v2007
  let c0_i32_1192 : BitVec 32 := 0#32
  let v2005 : BitVec 1 := Scalar.cmpi .ne v2004 c0_i32_1192
  let v2009 : BitVec 1 := Scalar.andi v2008 v2005
  let v2010 : BitVec 32 := Scalar.addi v2004 v2003
  let v2011 : BitVec 32 := Scalar.select v2009 v2010 v2004
  let c1_i32_1202 : BitVec 32 := 1#32
  let v2016 : BitVec 32 := Scalar.muli v2011 c1_i32_1202
  let v2017 : BitVec 32 := Scalar.addi v2015 v2016
  v2017.toNat
def k0_dev30 (d0 : Dev nD) : Nat :=
  let c0_i32_1240 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_1008 : BitVec 32 := 5#32
  let v1685 : BitVec 32 := Scalar.xori v12 c5_i32_1008
  let c0_i32_1210 : BitVec 32 := 0#32
  let v2027 : BitVec 1 := Scalar.cmpi .sgt v1685 c0_i32_1210
  let v2028 : BitVec 32 := Scalar.extui v2027
  let c0_i32_1211 : BitVec 32 := 0#32
  let v2029 : BitVec 1 := Scalar.cmpi .slt v1685 c0_i32_1211
  let v2030 : BitVec 32 := Scalar.extui v2029
  let v2031 : BitVec 32 := Scalar.subi v2028 v2030
  let c4_i32_1209 : BitVec 32 := 4#32
  let c0_i32_1212 : BitVec 32 := 0#32
  let v2032 : BitVec 1 := Scalar.cmpi .sgt c4_i32_1209 c0_i32_1212
  let v2033 : BitVec 32 := Scalar.extui v2032
  let c0_i32_1213 : BitVec 32 := 0#32
  let v2034 : BitVec 1 := Scalar.cmpi .slt c4_i32_1209 c0_i32_1213
  let v2035 : BitVec 32 := Scalar.extui v2034
  let v2036 : BitVec 32 := Scalar.subi v2033 v2035
  let v2037 : BitVec 1 := Scalar.cmpi .ne v2031 v2036
  let v2038 : BitVec 32 := Scalar.remsi v1685 c4_i32_1209
  let c0_i32_1214 : BitVec 32 := 0#32
  let v2039 : BitVec 1 := Scalar.cmpi .ne v2038 c0_i32_1214
  let v2040 : BitVec 1 := Scalar.andi v2037 v2039
  let v2026 : BitVec 32 := Scalar.divsi v1685 c4_i32_1209
  let c1_i32_1215 : BitVec 32 := 1#32
  let v2041 : BitVec 32 := Scalar.subi v2026 c1_i32_1215
  let v2042 : BitVec 32 := Scalar.select v2040 v2041 v2026
  let c4_i32_1239 : BitVec 32 := 4#32
  let v2080 : BitVec 32 := Scalar.muli v2042 c4_i32_1239
  let v2081 : BitVec 32 := Scalar.addi c0_i32_1240 v2080
  let c0_i32_1217 : BitVec 32 := 0#32
  let v2044 : BitVec 1 := Scalar.cmpi .sgt v1685 c0_i32_1217
  let v2045 : BitVec 32 := Scalar.extui v2044
  let c0_i32_1218 : BitVec 32 := 0#32
  let v2046 : BitVec 1 := Scalar.cmpi .slt v1685 c0_i32_1218
  let v2047 : BitVec 32 := Scalar.extui v2046
  let v2048 : BitVec 32 := Scalar.subi v2045 v2047
  let c2_i32_1216 : BitVec 32 := 2#32
  let c0_i32_1219 : BitVec 32 := 0#32
  let v2049 : BitVec 1 := Scalar.cmpi .sgt c2_i32_1216 c0_i32_1219
  let v2050 : BitVec 32 := Scalar.extui v2049
  let c0_i32_1220 : BitVec 32 := 0#32
  let v2051 : BitVec 1 := Scalar.cmpi .slt c2_i32_1216 c0_i32_1220
  let v2052 : BitVec 32 := Scalar.extui v2051
  let v2053 : BitVec 32 := Scalar.subi v2050 v2052
  let v2054 : BitVec 1 := Scalar.cmpi .ne v2048 v2053
  let v2055 : BitVec 32 := Scalar.remsi v1685 c2_i32_1216
  let c0_i32_1221 : BitVec 32 := 0#32
  let v2056 : BitVec 1 := Scalar.cmpi .ne v2055 c0_i32_1221
  let v2057 : BitVec 1 := Scalar.andi v2054 v2056
  let v2043 : BitVec 32 := Scalar.divsi v1685 c2_i32_1216
  let c1_i32_1222 : BitVec 32 := 1#32
  let v2058 : BitVec 32 := Scalar.subi v2043 c1_i32_1222
  let v2059 : BitVec 32 := Scalar.select v2057 v2058 v2043
  let c2_i32_1223 : BitVec 32 := 2#32
  let c0_i32_1224 : BitVec 32 := 0#32
  let v2060 : BitVec 1 := Scalar.cmpi .eq c2_i32_1223 c0_i32_1224
  let c1_i32_1225 : BitVec 32 := 1#32
  let v2061 : BitVec 32 := Scalar.select v2060 c1_i32_1225 c2_i32_1223
  let v2062 : BitVec 32 := Scalar.remsi v2059 v2061
  let c0_i32_1227 : BitVec 32 := 0#32
  let v2064 : BitVec 1 := Scalar.cmpi .slt v2062 c0_i32_1227
  let c0_i32_1228 : BitVec 32 := 0#32
  let v2065 : BitVec 1 := Scalar.cmpi .slt v2061 c0_i32_1228
  let v2066 : BitVec 1 := Scalar.xori v2064 v2065
  let c0_i32_1226 : BitVec 32 := 0#32
  let v2063 : BitVec 1 := Scalar.cmpi .ne v2062 c0_i32_1226
  let v2067 : BitVec 1 := Scalar.andi v2066 v2063
  let v2068 : BitVec 32 := Scalar.addi v2062 v2061
  let v2069 : BitVec 32 := Scalar.select v2067 v2068 v2062
  let c2_i32_1241 : BitVec 32 := 2#32
  let v2082 : BitVec 32 := Scalar.muli v2069 c2_i32_1241
  let v2083 : BitVec 32 := Scalar.addi v2081 v2082
  let c2_i32_1229 : BitVec 32 := 2#32
  let c0_i32_1230 : BitVec 32 := 0#32
  let v2070 : BitVec 1 := Scalar.cmpi .eq c2_i32_1229 c0_i32_1230
  let c1_i32_1231 : BitVec 32 := 1#32
  let v2071 : BitVec 32 := Scalar.select v2070 c1_i32_1231 c2_i32_1229
  let v2072 : BitVec 32 := Scalar.remsi v1685 v2071
  let c0_i32_1233 : BitVec 32 := 0#32
  let v2074 : BitVec 1 := Scalar.cmpi .slt v2072 c0_i32_1233
  let c0_i32_1234 : BitVec 32 := 0#32
  let v2075 : BitVec 1 := Scalar.cmpi .slt v2071 c0_i32_1234
  let v2076 : BitVec 1 := Scalar.xori v2074 v2075
  let c0_i32_1232 : BitVec 32 := 0#32
  let v2073 : BitVec 1 := Scalar.cmpi .ne v2072 c0_i32_1232
  let v2077 : BitVec 1 := Scalar.andi v2076 v2073
  let v2078 : BitVec 32 := Scalar.addi v2072 v2071
  let v2079 : BitVec 32 := Scalar.select v2077 v2078 v2072
  let c1_i32_1242 : BitVec 32 := 1#32
  let v2084 : BitVec 32 := Scalar.muli v2079 c1_i32_1242
  let v2085 : BitVec 32 := Scalar.addi v2083 v2084
  v2085.toNat
def k0_dev31 (d0 : Dev nD) : Nat :=
  let c0_i32_1280 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1250 : BitVec 32 := 0#32
  let v2096 : BitVec 1 := Scalar.cmpi .sgt v2094 c0_i32_1250
  let v2097 : BitVec 32 := Scalar.extui v2096
  let c0_i32_1251 : BitVec 32 := 0#32
  let v2098 : BitVec 1 := Scalar.cmpi .slt v2094 c0_i32_1251
  let v2099 : BitVec 32 := Scalar.extui v2098
  let v2100 : BitVec 32 := Scalar.subi v2097 v2099
  let c4_i32_1249 : BitVec 32 := 4#32
  let c0_i32_1252 : BitVec 32 := 0#32
  let v2101 : BitVec 1 := Scalar.cmpi .sgt c4_i32_1249 c0_i32_1252
  let v2102 : BitVec 32 := Scalar.extui v2101
  let c0_i32_1253 : BitVec 32 := 0#32
  let v2103 : BitVec 1 := Scalar.cmpi .slt c4_i32_1249 c0_i32_1253
  let v2104 : BitVec 32 := Scalar.extui v2103
  let v2105 : BitVec 32 := Scalar.subi v2102 v2104
  let v2106 : BitVec 1 := Scalar.cmpi .ne v2100 v2105
  let v2107 : BitVec 32 := Scalar.remsi v2094 c4_i32_1249
  let c0_i32_1254 : BitVec 32 := 0#32
  let v2108 : BitVec 1 := Scalar.cmpi .ne v2107 c0_i32_1254
  let v2109 : BitVec 1 := Scalar.andi v2106 v2108
  let v2095 : BitVec 32 := Scalar.divsi v2094 c4_i32_1249
  let c1_i32_1255 : BitVec 32 := 1#32
  let v2110 : BitVec 32 := Scalar.subi v2095 c1_i32_1255
  let v2111 : BitVec 32 := Scalar.select v2109 v2110 v2095
  let c4_i32_1279 : BitVec 32 := 4#32
  let v2149 : BitVec 32 := Scalar.muli v2111 c4_i32_1279
  let v2150 : BitVec 32 := Scalar.addi c0_i32_1280 v2149
  let c0_i32_1257 : BitVec 32 := 0#32
  let v2113 : BitVec 1 := Scalar.cmpi .sgt v2094 c0_i32_1257
  let v2114 : BitVec 32 := Scalar.extui v2113
  let c0_i32_1258 : BitVec 32 := 0#32
  let v2115 : BitVec 1 := Scalar.cmpi .slt v2094 c0_i32_1258
  let v2116 : BitVec 32 := Scalar.extui v2115
  let v2117 : BitVec 32 := Scalar.subi v2114 v2116
  let c2_i32_1256 : BitVec 32 := 2#32
  let c0_i32_1259 : BitVec 32 := 0#32
  let v2118 : BitVec 1 := Scalar.cmpi .sgt c2_i32_1256 c0_i32_1259
  let v2119 : BitVec 32 := Scalar.extui v2118
  let c0_i32_1260 : BitVec 32 := 0#32
  let v2120 : BitVec 1 := Scalar.cmpi .slt c2_i32_1256 c0_i32_1260
  let v2121 : BitVec 32 := Scalar.extui v2120
  let v2122 : BitVec 32 := Scalar.subi v2119 v2121
  let v2123 : BitVec 1 := Scalar.cmpi .ne v2117 v2122
  let v2124 : BitVec 32 := Scalar.remsi v2094 c2_i32_1256
  let c0_i32_1261 : BitVec 32 := 0#32
  let v2125 : BitVec 1 := Scalar.cmpi .ne v2124 c0_i32_1261
  let v2126 : BitVec 1 := Scalar.andi v2123 v2125
  let v2112 : BitVec 32 := Scalar.divsi v2094 c2_i32_1256
  let c1_i32_1262 : BitVec 32 := 1#32
  let v2127 : BitVec 32 := Scalar.subi v2112 c1_i32_1262
  let v2128 : BitVec 32 := Scalar.select v2126 v2127 v2112
  let c2_i32_1263 : BitVec 32 := 2#32
  let c0_i32_1264 : BitVec 32 := 0#32
  let v2129 : BitVec 1 := Scalar.cmpi .eq c2_i32_1263 c0_i32_1264
  let c1_i32_1265 : BitVec 32 := 1#32
  let v2130 : BitVec 32 := Scalar.select v2129 c1_i32_1265 c2_i32_1263
  let v2131 : BitVec 32 := Scalar.remsi v2128 v2130
  let c0_i32_1267 : BitVec 32 := 0#32
  let v2133 : BitVec 1 := Scalar.cmpi .slt v2131 c0_i32_1267
  let c0_i32_1268 : BitVec 32 := 0#32
  let v2134 : BitVec 1 := Scalar.cmpi .slt v2130 c0_i32_1268
  let v2135 : BitVec 1 := Scalar.xori v2133 v2134
  let c0_i32_1266 : BitVec 32 := 0#32
  let v2132 : BitVec 1 := Scalar.cmpi .ne v2131 c0_i32_1266
  let v2136 : BitVec 1 := Scalar.andi v2135 v2132
  let v2137 : BitVec 32 := Scalar.addi v2131 v2130
  let v2138 : BitVec 32 := Scalar.select v2136 v2137 v2131
  let c2_i32_1281 : BitVec 32 := 2#32
  let v2151 : BitVec 32 := Scalar.muli v2138 c2_i32_1281
  let v2152 : BitVec 32 := Scalar.addi v2150 v2151
  let c2_i32_1269 : BitVec 32 := 2#32
  let c0_i32_1270 : BitVec 32 := 0#32
  let v2139 : BitVec 1 := Scalar.cmpi .eq c2_i32_1269 c0_i32_1270
  let c1_i32_1271 : BitVec 32 := 1#32
  let v2140 : BitVec 32 := Scalar.select v2139 c1_i32_1271 c2_i32_1269
  let v2141 : BitVec 32 := Scalar.remsi v2094 v2140
  let c0_i32_1273 : BitVec 32 := 0#32
  let v2143 : BitVec 1 := Scalar.cmpi .slt v2141 c0_i32_1273
  let c0_i32_1274 : BitVec 32 := 0#32
  let v2144 : BitVec 1 := Scalar.cmpi .slt v2140 c0_i32_1274
  let v2145 : BitVec 1 := Scalar.xori v2143 v2144
  let c0_i32_1272 : BitVec 32 := 0#32
  let v2142 : BitVec 1 := Scalar.cmpi .ne v2141 c0_i32_1272
  let v2146 : BitVec 1 := Scalar.andi v2145 v2142
  let v2147 : BitVec 32 := Scalar.addi v2141 v2140
  let v2148 : BitVec 32 := Scalar.select v2146 v2147 v2141
  let c1_i32_1282 : BitVec 32 := 1#32
  let v2153 : BitVec 32 := Scalar.muli v2148 c1_i32_1282
  let v2154 : BitVec 32 := Scalar.addi v2152 v2153
  v2154.toNat
def k0_dev32 (d0 : Dev nD) : Nat :=
  let c0_i32_1320 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1290 : BitVec 32 := 0#32
  let v2164 : BitVec 1 := Scalar.cmpi .sgt v2094 c0_i32_1290
  let v2165 : BitVec 32 := Scalar.extui v2164
  let c0_i32_1291 : BitVec 32 := 0#32
  let v2166 : BitVec 1 := Scalar.cmpi .slt v2094 c0_i32_1291
  let v2167 : BitVec 32 := Scalar.extui v2166
  let v2168 : BitVec 32 := Scalar.subi v2165 v2167
  let c4_i32_1289 : BitVec 32 := 4#32
  let c0_i32_1292 : BitVec 32 := 0#32
  let v2169 : BitVec 1 := Scalar.cmpi .sgt c4_i32_1289 c0_i32_1292
  let v2170 : BitVec 32 := Scalar.extui v2169
  let c0_i32_1293 : BitVec 32 := 0#32
  let v2171 : BitVec 1 := Scalar.cmpi .slt c4_i32_1289 c0_i32_1293
  let v2172 : BitVec 32 := Scalar.extui v2171
  let v2173 : BitVec 32 := Scalar.subi v2170 v2172
  let v2174 : BitVec 1 := Scalar.cmpi .ne v2168 v2173
  let v2175 : BitVec 32 := Scalar.remsi v2094 c4_i32_1289
  let c0_i32_1294 : BitVec 32 := 0#32
  let v2176 : BitVec 1 := Scalar.cmpi .ne v2175 c0_i32_1294
  let v2177 : BitVec 1 := Scalar.andi v2174 v2176
  let v2163 : BitVec 32 := Scalar.divsi v2094 c4_i32_1289
  let c1_i32_1295 : BitVec 32 := 1#32
  let v2178 : BitVec 32 := Scalar.subi v2163 c1_i32_1295
  let v2179 : BitVec 32 := Scalar.select v2177 v2178 v2163
  let c4_i32_1319 : BitVec 32 := 4#32
  let v2217 : BitVec 32 := Scalar.muli v2179 c4_i32_1319
  let v2218 : BitVec 32 := Scalar.addi c0_i32_1320 v2217
  let c0_i32_1297 : BitVec 32 := 0#32
  let v2181 : BitVec 1 := Scalar.cmpi .sgt v2094 c0_i32_1297
  let v2182 : BitVec 32 := Scalar.extui v2181
  let c0_i32_1298 : BitVec 32 := 0#32
  let v2183 : BitVec 1 := Scalar.cmpi .slt v2094 c0_i32_1298
  let v2184 : BitVec 32 := Scalar.extui v2183
  let v2185 : BitVec 32 := Scalar.subi v2182 v2184
  let c2_i32_1296 : BitVec 32 := 2#32
  let c0_i32_1299 : BitVec 32 := 0#32
  let v2186 : BitVec 1 := Scalar.cmpi .sgt c2_i32_1296 c0_i32_1299
  let v2187 : BitVec 32 := Scalar.extui v2186
  let c0_i32_1300 : BitVec 32 := 0#32
  let v2188 : BitVec 1 := Scalar.cmpi .slt c2_i32_1296 c0_i32_1300
  let v2189 : BitVec 32 := Scalar.extui v2188
  let v2190 : BitVec 32 := Scalar.subi v2187 v2189
  let v2191 : BitVec 1 := Scalar.cmpi .ne v2185 v2190
  let v2192 : BitVec 32 := Scalar.remsi v2094 c2_i32_1296
  let c0_i32_1301 : BitVec 32 := 0#32
  let v2193 : BitVec 1 := Scalar.cmpi .ne v2192 c0_i32_1301
  let v2194 : BitVec 1 := Scalar.andi v2191 v2193
  let v2180 : BitVec 32 := Scalar.divsi v2094 c2_i32_1296
  let c1_i32_1302 : BitVec 32 := 1#32
  let v2195 : BitVec 32 := Scalar.subi v2180 c1_i32_1302
  let v2196 : BitVec 32 := Scalar.select v2194 v2195 v2180
  let c2_i32_1303 : BitVec 32 := 2#32
  let c0_i32_1304 : BitVec 32 := 0#32
  let v2197 : BitVec 1 := Scalar.cmpi .eq c2_i32_1303 c0_i32_1304
  let c1_i32_1305 : BitVec 32 := 1#32
  let v2198 : BitVec 32 := Scalar.select v2197 c1_i32_1305 c2_i32_1303
  let v2199 : BitVec 32 := Scalar.remsi v2196 v2198
  let c0_i32_1307 : BitVec 32 := 0#32
  let v2201 : BitVec 1 := Scalar.cmpi .slt v2199 c0_i32_1307
  let c0_i32_1308 : BitVec 32 := 0#32
  let v2202 : BitVec 1 := Scalar.cmpi .slt v2198 c0_i32_1308
  let v2203 : BitVec 1 := Scalar.xori v2201 v2202
  let c0_i32_1306 : BitVec 32 := 0#32
  let v2200 : BitVec 1 := Scalar.cmpi .ne v2199 c0_i32_1306
  let v2204 : BitVec 1 := Scalar.andi v2203 v2200
  let v2205 : BitVec 32 := Scalar.addi v2199 v2198
  let v2206 : BitVec 32 := Scalar.select v2204 v2205 v2199
  let c2_i32_1321 : BitVec 32 := 2#32
  let v2219 : BitVec 32 := Scalar.muli v2206 c2_i32_1321
  let v2220 : BitVec 32 := Scalar.addi v2218 v2219
  let c2_i32_1309 : BitVec 32 := 2#32
  let c0_i32_1310 : BitVec 32 := 0#32
  let v2207 : BitVec 1 := Scalar.cmpi .eq c2_i32_1309 c0_i32_1310
  let c1_i32_1311 : BitVec 32 := 1#32
  let v2208 : BitVec 32 := Scalar.select v2207 c1_i32_1311 c2_i32_1309
  let v2209 : BitVec 32 := Scalar.remsi v2094 v2208
  let c0_i32_1313 : BitVec 32 := 0#32
  let v2211 : BitVec 1 := Scalar.cmpi .slt v2209 c0_i32_1313
  let c0_i32_1314 : BitVec 32 := 0#32
  let v2212 : BitVec 1 := Scalar.cmpi .slt v2208 c0_i32_1314
  let v2213 : BitVec 1 := Scalar.xori v2211 v2212
  let c0_i32_1312 : BitVec 32 := 0#32
  let v2210 : BitVec 1 := Scalar.cmpi .ne v2209 c0_i32_1312
  let v2214 : BitVec 1 := Scalar.andi v2213 v2210
  let v2215 : BitVec 32 := Scalar.addi v2209 v2208
  let v2216 : BitVec 32 := Scalar.select v2214 v2215 v2209
  let c1_i32_1322 : BitVec 32 := 1#32
  let v2221 : BitVec 32 := Scalar.muli v2216 c1_i32_1322
  let v2222 : BitVec 32 := Scalar.addi v2220 v2221
  v2222.toNat
def k0_dev33 (d0 : Dev nD) : Nat :=
  let c0_i32_1360 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1330 : BitVec 32 := 0#32
  let v2232 : BitVec 1 := Scalar.cmpi .sgt v2094 c0_i32_1330
  let v2233 : BitVec 32 := Scalar.extui v2232
  let c0_i32_1331 : BitVec 32 := 0#32
  let v2234 : BitVec 1 := Scalar.cmpi .slt v2094 c0_i32_1331
  let v2235 : BitVec 32 := Scalar.extui v2234
  let v2236 : BitVec 32 := Scalar.subi v2233 v2235
  let c4_i32_1329 : BitVec 32 := 4#32
  let c0_i32_1332 : BitVec 32 := 0#32
  let v2237 : BitVec 1 := Scalar.cmpi .sgt c4_i32_1329 c0_i32_1332
  let v2238 : BitVec 32 := Scalar.extui v2237
  let c0_i32_1333 : BitVec 32 := 0#32
  let v2239 : BitVec 1 := Scalar.cmpi .slt c4_i32_1329 c0_i32_1333
  let v2240 : BitVec 32 := Scalar.extui v2239
  let v2241 : BitVec 32 := Scalar.subi v2238 v2240
  let v2242 : BitVec 1 := Scalar.cmpi .ne v2236 v2241
  let v2243 : BitVec 32 := Scalar.remsi v2094 c4_i32_1329
  let c0_i32_1334 : BitVec 32 := 0#32
  let v2244 : BitVec 1 := Scalar.cmpi .ne v2243 c0_i32_1334
  let v2245 : BitVec 1 := Scalar.andi v2242 v2244
  let v2231 : BitVec 32 := Scalar.divsi v2094 c4_i32_1329
  let c1_i32_1335 : BitVec 32 := 1#32
  let v2246 : BitVec 32 := Scalar.subi v2231 c1_i32_1335
  let v2247 : BitVec 32 := Scalar.select v2245 v2246 v2231
  let c4_i32_1359 : BitVec 32 := 4#32
  let v2285 : BitVec 32 := Scalar.muli v2247 c4_i32_1359
  let v2286 : BitVec 32 := Scalar.addi c0_i32_1360 v2285
  let c0_i32_1337 : BitVec 32 := 0#32
  let v2249 : BitVec 1 := Scalar.cmpi .sgt v2094 c0_i32_1337
  let v2250 : BitVec 32 := Scalar.extui v2249
  let c0_i32_1338 : BitVec 32 := 0#32
  let v2251 : BitVec 1 := Scalar.cmpi .slt v2094 c0_i32_1338
  let v2252 : BitVec 32 := Scalar.extui v2251
  let v2253 : BitVec 32 := Scalar.subi v2250 v2252
  let c2_i32_1336 : BitVec 32 := 2#32
  let c0_i32_1339 : BitVec 32 := 0#32
  let v2254 : BitVec 1 := Scalar.cmpi .sgt c2_i32_1336 c0_i32_1339
  let v2255 : BitVec 32 := Scalar.extui v2254
  let c0_i32_1340 : BitVec 32 := 0#32
  let v2256 : BitVec 1 := Scalar.cmpi .slt c2_i32_1336 c0_i32_1340
  let v2257 : BitVec 32 := Scalar.extui v2256
  let v2258 : BitVec 32 := Scalar.subi v2255 v2257
  let v2259 : BitVec 1 := Scalar.cmpi .ne v2253 v2258
  let v2260 : BitVec 32 := Scalar.remsi v2094 c2_i32_1336
  let c0_i32_1341 : BitVec 32 := 0#32
  let v2261 : BitVec 1 := Scalar.cmpi .ne v2260 c0_i32_1341
  let v2262 : BitVec 1 := Scalar.andi v2259 v2261
  let v2248 : BitVec 32 := Scalar.divsi v2094 c2_i32_1336
  let c1_i32_1342 : BitVec 32 := 1#32
  let v2263 : BitVec 32 := Scalar.subi v2248 c1_i32_1342
  let v2264 : BitVec 32 := Scalar.select v2262 v2263 v2248
  let c2_i32_1343 : BitVec 32 := 2#32
  let c0_i32_1344 : BitVec 32 := 0#32
  let v2265 : BitVec 1 := Scalar.cmpi .eq c2_i32_1343 c0_i32_1344
  let c1_i32_1345 : BitVec 32 := 1#32
  let v2266 : BitVec 32 := Scalar.select v2265 c1_i32_1345 c2_i32_1343
  let v2267 : BitVec 32 := Scalar.remsi v2264 v2266
  let c0_i32_1347 : BitVec 32 := 0#32
  let v2269 : BitVec 1 := Scalar.cmpi .slt v2267 c0_i32_1347
  let c0_i32_1348 : BitVec 32 := 0#32
  let v2270 : BitVec 1 := Scalar.cmpi .slt v2266 c0_i32_1348
  let v2271 : BitVec 1 := Scalar.xori v2269 v2270
  let c0_i32_1346 : BitVec 32 := 0#32
  let v2268 : BitVec 1 := Scalar.cmpi .ne v2267 c0_i32_1346
  let v2272 : BitVec 1 := Scalar.andi v2271 v2268
  let v2273 : BitVec 32 := Scalar.addi v2267 v2266
  let v2274 : BitVec 32 := Scalar.select v2272 v2273 v2267
  let c2_i32_1361 : BitVec 32 := 2#32
  let v2287 : BitVec 32 := Scalar.muli v2274 c2_i32_1361
  let v2288 : BitVec 32 := Scalar.addi v2286 v2287
  let c2_i32_1349 : BitVec 32 := 2#32
  let c0_i32_1350 : BitVec 32 := 0#32
  let v2275 : BitVec 1 := Scalar.cmpi .eq c2_i32_1349 c0_i32_1350
  let c1_i32_1351 : BitVec 32 := 1#32
  let v2276 : BitVec 32 := Scalar.select v2275 c1_i32_1351 c2_i32_1349
  let v2277 : BitVec 32 := Scalar.remsi v2094 v2276
  let c0_i32_1353 : BitVec 32 := 0#32
  let v2279 : BitVec 1 := Scalar.cmpi .slt v2277 c0_i32_1353
  let c0_i32_1354 : BitVec 32 := 0#32
  let v2280 : BitVec 1 := Scalar.cmpi .slt v2276 c0_i32_1354
  let v2281 : BitVec 1 := Scalar.xori v2279 v2280
  let c0_i32_1352 : BitVec 32 := 0#32
  let v2278 : BitVec 1 := Scalar.cmpi .ne v2277 c0_i32_1352
  let v2282 : BitVec 1 := Scalar.andi v2281 v2278
  let v2283 : BitVec 32 := Scalar.addi v2277 v2276
  let v2284 : BitVec 32 := Scalar.select v2282 v2283 v2277
  let c1_i32_1362 : BitVec 32 := 1#32
  let v2289 : BitVec 32 := Scalar.muli v2284 c1_i32_1362
  let v2290 : BitVec 32 := Scalar.addi v2288 v2289
  v2290.toNat
def k0_dev34 (d0 : Dev nD) : Nat :=
  let c0_i32_1400 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1370 : BitVec 32 := 0#32
  let v2300 : BitVec 1 := Scalar.cmpi .sgt v2094 c0_i32_1370
  let v2301 : BitVec 32 := Scalar.extui v2300
  let c0_i32_1371 : BitVec 32 := 0#32
  let v2302 : BitVec 1 := Scalar.cmpi .slt v2094 c0_i32_1371
  let v2303 : BitVec 32 := Scalar.extui v2302
  let v2304 : BitVec 32 := Scalar.subi v2301 v2303
  let c4_i32_1369 : BitVec 32 := 4#32
  let c0_i32_1372 : BitVec 32 := 0#32
  let v2305 : BitVec 1 := Scalar.cmpi .sgt c4_i32_1369 c0_i32_1372
  let v2306 : BitVec 32 := Scalar.extui v2305
  let c0_i32_1373 : BitVec 32 := 0#32
  let v2307 : BitVec 1 := Scalar.cmpi .slt c4_i32_1369 c0_i32_1373
  let v2308 : BitVec 32 := Scalar.extui v2307
  let v2309 : BitVec 32 := Scalar.subi v2306 v2308
  let v2310 : BitVec 1 := Scalar.cmpi .ne v2304 v2309
  let v2311 : BitVec 32 := Scalar.remsi v2094 c4_i32_1369
  let c0_i32_1374 : BitVec 32 := 0#32
  let v2312 : BitVec 1 := Scalar.cmpi .ne v2311 c0_i32_1374
  let v2313 : BitVec 1 := Scalar.andi v2310 v2312
  let v2299 : BitVec 32 := Scalar.divsi v2094 c4_i32_1369
  let c1_i32_1375 : BitVec 32 := 1#32
  let v2314 : BitVec 32 := Scalar.subi v2299 c1_i32_1375
  let v2315 : BitVec 32 := Scalar.select v2313 v2314 v2299
  let c4_i32_1399 : BitVec 32 := 4#32
  let v2353 : BitVec 32 := Scalar.muli v2315 c4_i32_1399
  let v2354 : BitVec 32 := Scalar.addi c0_i32_1400 v2353
  let c0_i32_1377 : BitVec 32 := 0#32
  let v2317 : BitVec 1 := Scalar.cmpi .sgt v2094 c0_i32_1377
  let v2318 : BitVec 32 := Scalar.extui v2317
  let c0_i32_1378 : BitVec 32 := 0#32
  let v2319 : BitVec 1 := Scalar.cmpi .slt v2094 c0_i32_1378
  let v2320 : BitVec 32 := Scalar.extui v2319
  let v2321 : BitVec 32 := Scalar.subi v2318 v2320
  let c2_i32_1376 : BitVec 32 := 2#32
  let c0_i32_1379 : BitVec 32 := 0#32
  let v2322 : BitVec 1 := Scalar.cmpi .sgt c2_i32_1376 c0_i32_1379
  let v2323 : BitVec 32 := Scalar.extui v2322
  let c0_i32_1380 : BitVec 32 := 0#32
  let v2324 : BitVec 1 := Scalar.cmpi .slt c2_i32_1376 c0_i32_1380
  let v2325 : BitVec 32 := Scalar.extui v2324
  let v2326 : BitVec 32 := Scalar.subi v2323 v2325
  let v2327 : BitVec 1 := Scalar.cmpi .ne v2321 v2326
  let v2328 : BitVec 32 := Scalar.remsi v2094 c2_i32_1376
  let c0_i32_1381 : BitVec 32 := 0#32
  let v2329 : BitVec 1 := Scalar.cmpi .ne v2328 c0_i32_1381
  let v2330 : BitVec 1 := Scalar.andi v2327 v2329
  let v2316 : BitVec 32 := Scalar.divsi v2094 c2_i32_1376
  let c1_i32_1382 : BitVec 32 := 1#32
  let v2331 : BitVec 32 := Scalar.subi v2316 c1_i32_1382
  let v2332 : BitVec 32 := Scalar.select v2330 v2331 v2316
  let c2_i32_1383 : BitVec 32 := 2#32
  let c0_i32_1384 : BitVec 32 := 0#32
  let v2333 : BitVec 1 := Scalar.cmpi .eq c2_i32_1383 c0_i32_1384
  let c1_i32_1385 : BitVec 32 := 1#32
  let v2334 : BitVec 32 := Scalar.select v2333 c1_i32_1385 c2_i32_1383
  let v2335 : BitVec 32 := Scalar.remsi v2332 v2334
  let c0_i32_1387 : BitVec 32 := 0#32
  let v2337 : BitVec 1 := Scalar.cmpi .slt v2335 c0_i32_1387
  let c0_i32_1388 : BitVec 32 := 0#32
  let v2338 : BitVec 1 := Scalar.cmpi .slt v2334 c0_i32_1388
  let v2339 : BitVec 1 := Scalar.xori v2337 v2338
  let c0_i32_1386 : BitVec 32 := 0#32
  let v2336 : BitVec 1 := Scalar.cmpi .ne v2335 c0_i32_1386
  let v2340 : BitVec 1 := Scalar.andi v2339 v2336
  let v2341 : BitVec 32 := Scalar.addi v2335 v2334
  let v2342 : BitVec 32 := Scalar.select v2340 v2341 v2335
  let c2_i32_1401 : BitVec 32 := 2#32
  let v2355 : BitVec 32 := Scalar.muli v2342 c2_i32_1401
  let v2356 : BitVec 32 := Scalar.addi v2354 v2355
  let c2_i32_1389 : BitVec 32 := 2#32
  let c0_i32_1390 : BitVec 32 := 0#32
  let v2343 : BitVec 1 := Scalar.cmpi .eq c2_i32_1389 c0_i32_1390
  let c1_i32_1391 : BitVec 32 := 1#32
  let v2344 : BitVec 32 := Scalar.select v2343 c1_i32_1391 c2_i32_1389
  let v2345 : BitVec 32 := Scalar.remsi v2094 v2344
  let c0_i32_1393 : BitVec 32 := 0#32
  let v2347 : BitVec 1 := Scalar.cmpi .slt v2345 c0_i32_1393
  let c0_i32_1394 : BitVec 32 := 0#32
  let v2348 : BitVec 1 := Scalar.cmpi .slt v2344 c0_i32_1394
  let v2349 : BitVec 1 := Scalar.xori v2347 v2348
  let c0_i32_1392 : BitVec 32 := 0#32
  let v2346 : BitVec 1 := Scalar.cmpi .ne v2345 c0_i32_1392
  let v2350 : BitVec 1 := Scalar.andi v2349 v2346
  let v2351 : BitVec 32 := Scalar.addi v2345 v2344
  let v2352 : BitVec 32 := Scalar.select v2350 v2351 v2345
  let c1_i32_1402 : BitVec 32 := 1#32
  let v2357 : BitVec 32 := Scalar.muli v2352 c1_i32_1402
  let v2358 : BitVec 32 := Scalar.addi v2356 v2357
  v2358.toNat
def k0_dev35 (d0 : Dev nD) : Nat :=
  let c0_i32_1440 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1410 : BitVec 32 := 0#32
  let v2368 : BitVec 1 := Scalar.cmpi .sgt v2094 c0_i32_1410
  let v2369 : BitVec 32 := Scalar.extui v2368
  let c0_i32_1411 : BitVec 32 := 0#32
  let v2370 : BitVec 1 := Scalar.cmpi .slt v2094 c0_i32_1411
  let v2371 : BitVec 32 := Scalar.extui v2370
  let v2372 : BitVec 32 := Scalar.subi v2369 v2371
  let c4_i32_1409 : BitVec 32 := 4#32
  let c0_i32_1412 : BitVec 32 := 0#32
  let v2373 : BitVec 1 := Scalar.cmpi .sgt c4_i32_1409 c0_i32_1412
  let v2374 : BitVec 32 := Scalar.extui v2373
  let c0_i32_1413 : BitVec 32 := 0#32
  let v2375 : BitVec 1 := Scalar.cmpi .slt c4_i32_1409 c0_i32_1413
  let v2376 : BitVec 32 := Scalar.extui v2375
  let v2377 : BitVec 32 := Scalar.subi v2374 v2376
  let v2378 : BitVec 1 := Scalar.cmpi .ne v2372 v2377
  let v2379 : BitVec 32 := Scalar.remsi v2094 c4_i32_1409
  let c0_i32_1414 : BitVec 32 := 0#32
  let v2380 : BitVec 1 := Scalar.cmpi .ne v2379 c0_i32_1414
  let v2381 : BitVec 1 := Scalar.andi v2378 v2380
  let v2367 : BitVec 32 := Scalar.divsi v2094 c4_i32_1409
  let c1_i32_1415 : BitVec 32 := 1#32
  let v2382 : BitVec 32 := Scalar.subi v2367 c1_i32_1415
  let v2383 : BitVec 32 := Scalar.select v2381 v2382 v2367
  let c4_i32_1439 : BitVec 32 := 4#32
  let v2421 : BitVec 32 := Scalar.muli v2383 c4_i32_1439
  let v2422 : BitVec 32 := Scalar.addi c0_i32_1440 v2421
  let c0_i32_1417 : BitVec 32 := 0#32
  let v2385 : BitVec 1 := Scalar.cmpi .sgt v2094 c0_i32_1417
  let v2386 : BitVec 32 := Scalar.extui v2385
  let c0_i32_1418 : BitVec 32 := 0#32
  let v2387 : BitVec 1 := Scalar.cmpi .slt v2094 c0_i32_1418
  let v2388 : BitVec 32 := Scalar.extui v2387
  let v2389 : BitVec 32 := Scalar.subi v2386 v2388
  let c2_i32_1416 : BitVec 32 := 2#32
  let c0_i32_1419 : BitVec 32 := 0#32
  let v2390 : BitVec 1 := Scalar.cmpi .sgt c2_i32_1416 c0_i32_1419
  let v2391 : BitVec 32 := Scalar.extui v2390
  let c0_i32_1420 : BitVec 32 := 0#32
  let v2392 : BitVec 1 := Scalar.cmpi .slt c2_i32_1416 c0_i32_1420
  let v2393 : BitVec 32 := Scalar.extui v2392
  let v2394 : BitVec 32 := Scalar.subi v2391 v2393
  let v2395 : BitVec 1 := Scalar.cmpi .ne v2389 v2394
  let v2396 : BitVec 32 := Scalar.remsi v2094 c2_i32_1416
  let c0_i32_1421 : BitVec 32 := 0#32
  let v2397 : BitVec 1 := Scalar.cmpi .ne v2396 c0_i32_1421
  let v2398 : BitVec 1 := Scalar.andi v2395 v2397
  let v2384 : BitVec 32 := Scalar.divsi v2094 c2_i32_1416
  let c1_i32_1422 : BitVec 32 := 1#32
  let v2399 : BitVec 32 := Scalar.subi v2384 c1_i32_1422
  let v2400 : BitVec 32 := Scalar.select v2398 v2399 v2384
  let c2_i32_1423 : BitVec 32 := 2#32
  let c0_i32_1424 : BitVec 32 := 0#32
  let v2401 : BitVec 1 := Scalar.cmpi .eq c2_i32_1423 c0_i32_1424
  let c1_i32_1425 : BitVec 32 := 1#32
  let v2402 : BitVec 32 := Scalar.select v2401 c1_i32_1425 c2_i32_1423
  let v2403 : BitVec 32 := Scalar.remsi v2400 v2402
  let c0_i32_1427 : BitVec 32 := 0#32
  let v2405 : BitVec 1 := Scalar.cmpi .slt v2403 c0_i32_1427
  let c0_i32_1428 : BitVec 32 := 0#32
  let v2406 : BitVec 1 := Scalar.cmpi .slt v2402 c0_i32_1428
  let v2407 : BitVec 1 := Scalar.xori v2405 v2406
  let c0_i32_1426 : BitVec 32 := 0#32
  let v2404 : BitVec 1 := Scalar.cmpi .ne v2403 c0_i32_1426
  let v2408 : BitVec 1 := Scalar.andi v2407 v2404
  let v2409 : BitVec 32 := Scalar.addi v2403 v2402
  let v2410 : BitVec 32 := Scalar.select v2408 v2409 v2403
  let c2_i32_1441 : BitVec 32 := 2#32
  let v2423 : BitVec 32 := Scalar.muli v2410 c2_i32_1441
  let v2424 : BitVec 32 := Scalar.addi v2422 v2423
  let c2_i32_1429 : BitVec 32 := 2#32
  let c0_i32_1430 : BitVec 32 := 0#32
  let v2411 : BitVec 1 := Scalar.cmpi .eq c2_i32_1429 c0_i32_1430
  let c1_i32_1431 : BitVec 32 := 1#32
  let v2412 : BitVec 32 := Scalar.select v2411 c1_i32_1431 c2_i32_1429
  let v2413 : BitVec 32 := Scalar.remsi v2094 v2412
  let c0_i32_1433 : BitVec 32 := 0#32
  let v2415 : BitVec 1 := Scalar.cmpi .slt v2413 c0_i32_1433
  let c0_i32_1434 : BitVec 32 := 0#32
  let v2416 : BitVec 1 := Scalar.cmpi .slt v2412 c0_i32_1434
  let v2417 : BitVec 1 := Scalar.xori v2415 v2416
  let c0_i32_1432 : BitVec 32 := 0#32
  let v2414 : BitVec 1 := Scalar.cmpi .ne v2413 c0_i32_1432
  let v2418 : BitVec 1 := Scalar.andi v2417 v2414
  let v2419 : BitVec 32 := Scalar.addi v2413 v2412
  let v2420 : BitVec 32 := Scalar.select v2418 v2419 v2413
  let c1_i32_1442 : BitVec 32 := 1#32
  let v2425 : BitVec 32 := Scalar.muli v2420 c1_i32_1442
  let v2426 : BitVec 32 := Scalar.addi v2424 v2425
  v2426.toNat
def k0_dev36 (d0 : Dev nD) : Nat :=
  let c0_i32_1480 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2094 : BitVec 32 := Scalar.xori v12 c6_i32
  let c0_i32_1450 : BitVec 32 := 0#32
  let v2436 : BitVec 1 := Scalar.cmpi .sgt v2094 c0_i32_1450
  let v2437 : BitVec 32 := Scalar.extui v2436
  let c0_i32_1451 : BitVec 32 := 0#32
  let v2438 : BitVec 1 := Scalar.cmpi .slt v2094 c0_i32_1451
  let v2439 : BitVec 32 := Scalar.extui v2438
  let v2440 : BitVec 32 := Scalar.subi v2437 v2439
  let c4_i32_1449 : BitVec 32 := 4#32
  let c0_i32_1452 : BitVec 32 := 0#32
  let v2441 : BitVec 1 := Scalar.cmpi .sgt c4_i32_1449 c0_i32_1452
  let v2442 : BitVec 32 := Scalar.extui v2441
  let c0_i32_1453 : BitVec 32 := 0#32
  let v2443 : BitVec 1 := Scalar.cmpi .slt c4_i32_1449 c0_i32_1453
  let v2444 : BitVec 32 := Scalar.extui v2443
  let v2445 : BitVec 32 := Scalar.subi v2442 v2444
  let v2446 : BitVec 1 := Scalar.cmpi .ne v2440 v2445
  let v2447 : BitVec 32 := Scalar.remsi v2094 c4_i32_1449
  let c0_i32_1454 : BitVec 32 := 0#32
  let v2448 : BitVec 1 := Scalar.cmpi .ne v2447 c0_i32_1454
  let v2449 : BitVec 1 := Scalar.andi v2446 v2448
  let v2435 : BitVec 32 := Scalar.divsi v2094 c4_i32_1449
  let c1_i32_1455 : BitVec 32 := 1#32
  let v2450 : BitVec 32 := Scalar.subi v2435 c1_i32_1455
  let v2451 : BitVec 32 := Scalar.select v2449 v2450 v2435
  let c4_i32_1479 : BitVec 32 := 4#32
  let v2489 : BitVec 32 := Scalar.muli v2451 c4_i32_1479
  let v2490 : BitVec 32 := Scalar.addi c0_i32_1480 v2489
  let c0_i32_1457 : BitVec 32 := 0#32
  let v2453 : BitVec 1 := Scalar.cmpi .sgt v2094 c0_i32_1457
  let v2454 : BitVec 32 := Scalar.extui v2453
  let c0_i32_1458 : BitVec 32 := 0#32
  let v2455 : BitVec 1 := Scalar.cmpi .slt v2094 c0_i32_1458
  let v2456 : BitVec 32 := Scalar.extui v2455
  let v2457 : BitVec 32 := Scalar.subi v2454 v2456
  let c2_i32_1456 : BitVec 32 := 2#32
  let c0_i32_1459 : BitVec 32 := 0#32
  let v2458 : BitVec 1 := Scalar.cmpi .sgt c2_i32_1456 c0_i32_1459
  let v2459 : BitVec 32 := Scalar.extui v2458
  let c0_i32_1460 : BitVec 32 := 0#32
  let v2460 : BitVec 1 := Scalar.cmpi .slt c2_i32_1456 c0_i32_1460
  let v2461 : BitVec 32 := Scalar.extui v2460
  let v2462 : BitVec 32 := Scalar.subi v2459 v2461
  let v2463 : BitVec 1 := Scalar.cmpi .ne v2457 v2462
  let v2464 : BitVec 32 := Scalar.remsi v2094 c2_i32_1456
  let c0_i32_1461 : BitVec 32 := 0#32
  let v2465 : BitVec 1 := Scalar.cmpi .ne v2464 c0_i32_1461
  let v2466 : BitVec 1 := Scalar.andi v2463 v2465
  let v2452 : BitVec 32 := Scalar.divsi v2094 c2_i32_1456
  let c1_i32_1462 : BitVec 32 := 1#32
  let v2467 : BitVec 32 := Scalar.subi v2452 c1_i32_1462
  let v2468 : BitVec 32 := Scalar.select v2466 v2467 v2452
  let c2_i32_1463 : BitVec 32 := 2#32
  let c0_i32_1464 : BitVec 32 := 0#32
  let v2469 : BitVec 1 := Scalar.cmpi .eq c2_i32_1463 c0_i32_1464
  let c1_i32_1465 : BitVec 32 := 1#32
  let v2470 : BitVec 32 := Scalar.select v2469 c1_i32_1465 c2_i32_1463
  let v2471 : BitVec 32 := Scalar.remsi v2468 v2470
  let c0_i32_1467 : BitVec 32 := 0#32
  let v2473 : BitVec 1 := Scalar.cmpi .slt v2471 c0_i32_1467
  let c0_i32_1468 : BitVec 32 := 0#32
  let v2474 : BitVec 1 := Scalar.cmpi .slt v2470 c0_i32_1468
  let v2475 : BitVec 1 := Scalar.xori v2473 v2474
  let c0_i32_1466 : BitVec 32 := 0#32
  let v2472 : BitVec 1 := Scalar.cmpi .ne v2471 c0_i32_1466
  let v2476 : BitVec 1 := Scalar.andi v2475 v2472
  let v2477 : BitVec 32 := Scalar.addi v2471 v2470
  let v2478 : BitVec 32 := Scalar.select v2476 v2477 v2471
  let c2_i32_1481 : BitVec 32 := 2#32
  let v2491 : BitVec 32 := Scalar.muli v2478 c2_i32_1481
  let v2492 : BitVec 32 := Scalar.addi v2490 v2491
  let c2_i32_1469 : BitVec 32 := 2#32
  let c0_i32_1470 : BitVec 32 := 0#32
  let v2479 : BitVec 1 := Scalar.cmpi .eq c2_i32_1469 c0_i32_1470
  let c1_i32_1471 : BitVec 32 := 1#32
  let v2480 : BitVec 32 := Scalar.select v2479 c1_i32_1471 c2_i32_1469
  let v2481 : BitVec 32 := Scalar.remsi v2094 v2480
  let c0_i32_1473 : BitVec 32 := 0#32
  let v2483 : BitVec 1 := Scalar.cmpi .slt v2481 c0_i32_1473
  let c0_i32_1474 : BitVec 32 := 0#32
  let v2484 : BitVec 1 := Scalar.cmpi .slt v2480 c0_i32_1474
  let v2485 : BitVec 1 := Scalar.xori v2483 v2484
  let c0_i32_1472 : BitVec 32 := 0#32
  let v2482 : BitVec 1 := Scalar.cmpi .ne v2481 c0_i32_1472
  let v2486 : BitVec 1 := Scalar.andi v2485 v2482
  let v2487 : BitVec 32 := Scalar.addi v2481 v2480
  let v2488 : BitVec 32 := Scalar.select v2486 v2487 v2481
  let c1_i32_1482 : BitVec 32 := 1#32
  let v2493 : BitVec 32 := Scalar.muli v2488 c1_i32_1482
  let v2494 : BitVec 32 := Scalar.addi v2492 v2493
  v2494.toNat
def k0_dev37 (d0 : Dev nD) : Nat :=
  let c0_i32_1520 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1490 : BitVec 32 := 0#32
  let v2505 : BitVec 1 := Scalar.cmpi .sgt v2503 c0_i32_1490
  let v2506 : BitVec 32 := Scalar.extui v2505
  let c0_i32_1491 : BitVec 32 := 0#32
  let v2507 : BitVec 1 := Scalar.cmpi .slt v2503 c0_i32_1491
  let v2508 : BitVec 32 := Scalar.extui v2507
  let v2509 : BitVec 32 := Scalar.subi v2506 v2508
  let c4_i32_1489 : BitVec 32 := 4#32
  let c0_i32_1492 : BitVec 32 := 0#32
  let v2510 : BitVec 1 := Scalar.cmpi .sgt c4_i32_1489 c0_i32_1492
  let v2511 : BitVec 32 := Scalar.extui v2510
  let c0_i32_1493 : BitVec 32 := 0#32
  let v2512 : BitVec 1 := Scalar.cmpi .slt c4_i32_1489 c0_i32_1493
  let v2513 : BitVec 32 := Scalar.extui v2512
  let v2514 : BitVec 32 := Scalar.subi v2511 v2513
  let v2515 : BitVec 1 := Scalar.cmpi .ne v2509 v2514
  let v2516 : BitVec 32 := Scalar.remsi v2503 c4_i32_1489
  let c0_i32_1494 : BitVec 32 := 0#32
  let v2517 : BitVec 1 := Scalar.cmpi .ne v2516 c0_i32_1494
  let v2518 : BitVec 1 := Scalar.andi v2515 v2517
  let v2504 : BitVec 32 := Scalar.divsi v2503 c4_i32_1489
  let c1_i32_1495 : BitVec 32 := 1#32
  let v2519 : BitVec 32 := Scalar.subi v2504 c1_i32_1495
  let v2520 : BitVec 32 := Scalar.select v2518 v2519 v2504
  let c4_i32_1519 : BitVec 32 := 4#32
  let v2558 : BitVec 32 := Scalar.muli v2520 c4_i32_1519
  let v2559 : BitVec 32 := Scalar.addi c0_i32_1520 v2558
  let c0_i32_1497 : BitVec 32 := 0#32
  let v2522 : BitVec 1 := Scalar.cmpi .sgt v2503 c0_i32_1497
  let v2523 : BitVec 32 := Scalar.extui v2522
  let c0_i32_1498 : BitVec 32 := 0#32
  let v2524 : BitVec 1 := Scalar.cmpi .slt v2503 c0_i32_1498
  let v2525 : BitVec 32 := Scalar.extui v2524
  let v2526 : BitVec 32 := Scalar.subi v2523 v2525
  let c2_i32_1496 : BitVec 32 := 2#32
  let c0_i32_1499 : BitVec 32 := 0#32
  let v2527 : BitVec 1 := Scalar.cmpi .sgt c2_i32_1496 c0_i32_1499
  let v2528 : BitVec 32 := Scalar.extui v2527
  let c0_i32_1500 : BitVec 32 := 0#32
  let v2529 : BitVec 1 := Scalar.cmpi .slt c2_i32_1496 c0_i32_1500
  let v2530 : BitVec 32 := Scalar.extui v2529
  let v2531 : BitVec 32 := Scalar.subi v2528 v2530
  let v2532 : BitVec 1 := Scalar.cmpi .ne v2526 v2531
  let v2533 : BitVec 32 := Scalar.remsi v2503 c2_i32_1496
  let c0_i32_1501 : BitVec 32 := 0#32
  let v2534 : BitVec 1 := Scalar.cmpi .ne v2533 c0_i32_1501
  let v2535 : BitVec 1 := Scalar.andi v2532 v2534
  let v2521 : BitVec 32 := Scalar.divsi v2503 c2_i32_1496
  let c1_i32_1502 : BitVec 32 := 1#32
  let v2536 : BitVec 32 := Scalar.subi v2521 c1_i32_1502
  let v2537 : BitVec 32 := Scalar.select v2535 v2536 v2521
  let c2_i32_1503 : BitVec 32 := 2#32
  let c0_i32_1504 : BitVec 32 := 0#32
  let v2538 : BitVec 1 := Scalar.cmpi .eq c2_i32_1503 c0_i32_1504
  let c1_i32_1505 : BitVec 32 := 1#32
  let v2539 : BitVec 32 := Scalar.select v2538 c1_i32_1505 c2_i32_1503
  let v2540 : BitVec 32 := Scalar.remsi v2537 v2539
  let c0_i32_1507 : BitVec 32 := 0#32
  let v2542 : BitVec 1 := Scalar.cmpi .slt v2540 c0_i32_1507
  let c0_i32_1508 : BitVec 32 := 0#32
  let v2543 : BitVec 1 := Scalar.cmpi .slt v2539 c0_i32_1508
  let v2544 : BitVec 1 := Scalar.xori v2542 v2543
  let c0_i32_1506 : BitVec 32 := 0#32
  let v2541 : BitVec 1 := Scalar.cmpi .ne v2540 c0_i32_1506
  let v2545 : BitVec 1 := Scalar.andi v2544 v2541
  let v2546 : BitVec 32 := Scalar.addi v2540 v2539
  let v2547 : BitVec 32 := Scalar.select v2545 v2546 v2540
  let c2_i32_1521 : BitVec 32 := 2#32
  let v2560 : BitVec 32 := Scalar.muli v2547 c2_i32_1521
  let v2561 : BitVec 32 := Scalar.addi v2559 v2560
  let c2_i32_1509 : BitVec 32 := 2#32
  let c0_i32_1510 : BitVec 32 := 0#32
  let v2548 : BitVec 1 := Scalar.cmpi .eq c2_i32_1509 c0_i32_1510
  let c1_i32_1511 : BitVec 32 := 1#32
  let v2549 : BitVec 32 := Scalar.select v2548 c1_i32_1511 c2_i32_1509
  let v2550 : BitVec 32 := Scalar.remsi v2503 v2549
  let c0_i32_1513 : BitVec 32 := 0#32
  let v2552 : BitVec 1 := Scalar.cmpi .slt v2550 c0_i32_1513
  let c0_i32_1514 : BitVec 32 := 0#32
  let v2553 : BitVec 1 := Scalar.cmpi .slt v2549 c0_i32_1514
  let v2554 : BitVec 1 := Scalar.xori v2552 v2553
  let c0_i32_1512 : BitVec 32 := 0#32
  let v2551 : BitVec 1 := Scalar.cmpi .ne v2550 c0_i32_1512
  let v2555 : BitVec 1 := Scalar.andi v2554 v2551
  let v2556 : BitVec 32 := Scalar.addi v2550 v2549
  let v2557 : BitVec 32 := Scalar.select v2555 v2556 v2550
  let c1_i32_1522 : BitVec 32 := 1#32
  let v2562 : BitVec 32 := Scalar.muli v2557 c1_i32_1522
  let v2563 : BitVec 32 := Scalar.addi v2561 v2562
  v2563.toNat
def k0_dev38 (d0 : Dev nD) : Nat :=
  let c0_i32_1560 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1530 : BitVec 32 := 0#32
  let v2573 : BitVec 1 := Scalar.cmpi .sgt v2503 c0_i32_1530
  let v2574 : BitVec 32 := Scalar.extui v2573
  let c0_i32_1531 : BitVec 32 := 0#32
  let v2575 : BitVec 1 := Scalar.cmpi .slt v2503 c0_i32_1531
  let v2576 : BitVec 32 := Scalar.extui v2575
  let v2577 : BitVec 32 := Scalar.subi v2574 v2576
  let c4_i32_1529 : BitVec 32 := 4#32
  let c0_i32_1532 : BitVec 32 := 0#32
  let v2578 : BitVec 1 := Scalar.cmpi .sgt c4_i32_1529 c0_i32_1532
  let v2579 : BitVec 32 := Scalar.extui v2578
  let c0_i32_1533 : BitVec 32 := 0#32
  let v2580 : BitVec 1 := Scalar.cmpi .slt c4_i32_1529 c0_i32_1533
  let v2581 : BitVec 32 := Scalar.extui v2580
  let v2582 : BitVec 32 := Scalar.subi v2579 v2581
  let v2583 : BitVec 1 := Scalar.cmpi .ne v2577 v2582
  let v2584 : BitVec 32 := Scalar.remsi v2503 c4_i32_1529
  let c0_i32_1534 : BitVec 32 := 0#32
  let v2585 : BitVec 1 := Scalar.cmpi .ne v2584 c0_i32_1534
  let v2586 : BitVec 1 := Scalar.andi v2583 v2585
  let v2572 : BitVec 32 := Scalar.divsi v2503 c4_i32_1529
  let c1_i32_1535 : BitVec 32 := 1#32
  let v2587 : BitVec 32 := Scalar.subi v2572 c1_i32_1535
  let v2588 : BitVec 32 := Scalar.select v2586 v2587 v2572
  let c4_i32_1559 : BitVec 32 := 4#32
  let v2626 : BitVec 32 := Scalar.muli v2588 c4_i32_1559
  let v2627 : BitVec 32 := Scalar.addi c0_i32_1560 v2626
  let c0_i32_1537 : BitVec 32 := 0#32
  let v2590 : BitVec 1 := Scalar.cmpi .sgt v2503 c0_i32_1537
  let v2591 : BitVec 32 := Scalar.extui v2590
  let c0_i32_1538 : BitVec 32 := 0#32
  let v2592 : BitVec 1 := Scalar.cmpi .slt v2503 c0_i32_1538
  let v2593 : BitVec 32 := Scalar.extui v2592
  let v2594 : BitVec 32 := Scalar.subi v2591 v2593
  let c2_i32_1536 : BitVec 32 := 2#32
  let c0_i32_1539 : BitVec 32 := 0#32
  let v2595 : BitVec 1 := Scalar.cmpi .sgt c2_i32_1536 c0_i32_1539
  let v2596 : BitVec 32 := Scalar.extui v2595
  let c0_i32_1540 : BitVec 32 := 0#32
  let v2597 : BitVec 1 := Scalar.cmpi .slt c2_i32_1536 c0_i32_1540
  let v2598 : BitVec 32 := Scalar.extui v2597
  let v2599 : BitVec 32 := Scalar.subi v2596 v2598
  let v2600 : BitVec 1 := Scalar.cmpi .ne v2594 v2599
  let v2601 : BitVec 32 := Scalar.remsi v2503 c2_i32_1536
  let c0_i32_1541 : BitVec 32 := 0#32
  let v2602 : BitVec 1 := Scalar.cmpi .ne v2601 c0_i32_1541
  let v2603 : BitVec 1 := Scalar.andi v2600 v2602
  let v2589 : BitVec 32 := Scalar.divsi v2503 c2_i32_1536
  let c1_i32_1542 : BitVec 32 := 1#32
  let v2604 : BitVec 32 := Scalar.subi v2589 c1_i32_1542
  let v2605 : BitVec 32 := Scalar.select v2603 v2604 v2589
  let c2_i32_1543 : BitVec 32 := 2#32
  let c0_i32_1544 : BitVec 32 := 0#32
  let v2606 : BitVec 1 := Scalar.cmpi .eq c2_i32_1543 c0_i32_1544
  let c1_i32_1545 : BitVec 32 := 1#32
  let v2607 : BitVec 32 := Scalar.select v2606 c1_i32_1545 c2_i32_1543
  let v2608 : BitVec 32 := Scalar.remsi v2605 v2607
  let c0_i32_1547 : BitVec 32 := 0#32
  let v2610 : BitVec 1 := Scalar.cmpi .slt v2608 c0_i32_1547
  let c0_i32_1548 : BitVec 32 := 0#32
  let v2611 : BitVec 1 := Scalar.cmpi .slt v2607 c0_i32_1548
  let v2612 : BitVec 1 := Scalar.xori v2610 v2611
  let c0_i32_1546 : BitVec 32 := 0#32
  let v2609 : BitVec 1 := Scalar.cmpi .ne v2608 c0_i32_1546
  let v2613 : BitVec 1 := Scalar.andi v2612 v2609
  let v2614 : BitVec 32 := Scalar.addi v2608 v2607
  let v2615 : BitVec 32 := Scalar.select v2613 v2614 v2608
  let c2_i32_1561 : BitVec 32 := 2#32
  let v2628 : BitVec 32 := Scalar.muli v2615 c2_i32_1561
  let v2629 : BitVec 32 := Scalar.addi v2627 v2628
  let c2_i32_1549 : BitVec 32 := 2#32
  let c0_i32_1550 : BitVec 32 := 0#32
  let v2616 : BitVec 1 := Scalar.cmpi .eq c2_i32_1549 c0_i32_1550
  let c1_i32_1551 : BitVec 32 := 1#32
  let v2617 : BitVec 32 := Scalar.select v2616 c1_i32_1551 c2_i32_1549
  let v2618 : BitVec 32 := Scalar.remsi v2503 v2617
  let c0_i32_1553 : BitVec 32 := 0#32
  let v2620 : BitVec 1 := Scalar.cmpi .slt v2618 c0_i32_1553
  let c0_i32_1554 : BitVec 32 := 0#32
  let v2621 : BitVec 1 := Scalar.cmpi .slt v2617 c0_i32_1554
  let v2622 : BitVec 1 := Scalar.xori v2620 v2621
  let c0_i32_1552 : BitVec 32 := 0#32
  let v2619 : BitVec 1 := Scalar.cmpi .ne v2618 c0_i32_1552
  let v2623 : BitVec 1 := Scalar.andi v2622 v2619
  let v2624 : BitVec 32 := Scalar.addi v2618 v2617
  let v2625 : BitVec 32 := Scalar.select v2623 v2624 v2618
  let c1_i32_1562 : BitVec 32 := 1#32
  let v2630 : BitVec 32 := Scalar.muli v2625 c1_i32_1562
  let v2631 : BitVec 32 := Scalar.addi v2629 v2630
  v2631.toNat
def k0_dev39 (d0 : Dev nD) : Nat :=
  let c0_i32_1600 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1570 : BitVec 32 := 0#32
  let v2641 : BitVec 1 := Scalar.cmpi .sgt v2503 c0_i32_1570
  let v2642 : BitVec 32 := Scalar.extui v2641
  let c0_i32_1571 : BitVec 32 := 0#32
  let v2643 : BitVec 1 := Scalar.cmpi .slt v2503 c0_i32_1571
  let v2644 : BitVec 32 := Scalar.extui v2643
  let v2645 : BitVec 32 := Scalar.subi v2642 v2644
  let c4_i32_1569 : BitVec 32 := 4#32
  let c0_i32_1572 : BitVec 32 := 0#32
  let v2646 : BitVec 1 := Scalar.cmpi .sgt c4_i32_1569 c0_i32_1572
  let v2647 : BitVec 32 := Scalar.extui v2646
  let c0_i32_1573 : BitVec 32 := 0#32
  let v2648 : BitVec 1 := Scalar.cmpi .slt c4_i32_1569 c0_i32_1573
  let v2649 : BitVec 32 := Scalar.extui v2648
  let v2650 : BitVec 32 := Scalar.subi v2647 v2649
  let v2651 : BitVec 1 := Scalar.cmpi .ne v2645 v2650
  let v2652 : BitVec 32 := Scalar.remsi v2503 c4_i32_1569
  let c0_i32_1574 : BitVec 32 := 0#32
  let v2653 : BitVec 1 := Scalar.cmpi .ne v2652 c0_i32_1574
  let v2654 : BitVec 1 := Scalar.andi v2651 v2653
  let v2640 : BitVec 32 := Scalar.divsi v2503 c4_i32_1569
  let c1_i32_1575 : BitVec 32 := 1#32
  let v2655 : BitVec 32 := Scalar.subi v2640 c1_i32_1575
  let v2656 : BitVec 32 := Scalar.select v2654 v2655 v2640
  let c4_i32_1599 : BitVec 32 := 4#32
  let v2694 : BitVec 32 := Scalar.muli v2656 c4_i32_1599
  let v2695 : BitVec 32 := Scalar.addi c0_i32_1600 v2694
  let c0_i32_1577 : BitVec 32 := 0#32
  let v2658 : BitVec 1 := Scalar.cmpi .sgt v2503 c0_i32_1577
  let v2659 : BitVec 32 := Scalar.extui v2658
  let c0_i32_1578 : BitVec 32 := 0#32
  let v2660 : BitVec 1 := Scalar.cmpi .slt v2503 c0_i32_1578
  let v2661 : BitVec 32 := Scalar.extui v2660
  let v2662 : BitVec 32 := Scalar.subi v2659 v2661
  let c2_i32_1576 : BitVec 32 := 2#32
  let c0_i32_1579 : BitVec 32 := 0#32
  let v2663 : BitVec 1 := Scalar.cmpi .sgt c2_i32_1576 c0_i32_1579
  let v2664 : BitVec 32 := Scalar.extui v2663
  let c0_i32_1580 : BitVec 32 := 0#32
  let v2665 : BitVec 1 := Scalar.cmpi .slt c2_i32_1576 c0_i32_1580
  let v2666 : BitVec 32 := Scalar.extui v2665
  let v2667 : BitVec 32 := Scalar.subi v2664 v2666
  let v2668 : BitVec 1 := Scalar.cmpi .ne v2662 v2667
  let v2669 : BitVec 32 := Scalar.remsi v2503 c2_i32_1576
  let c0_i32_1581 : BitVec 32 := 0#32
  let v2670 : BitVec 1 := Scalar.cmpi .ne v2669 c0_i32_1581
  let v2671 : BitVec 1 := Scalar.andi v2668 v2670
  let v2657 : BitVec 32 := Scalar.divsi v2503 c2_i32_1576
  let c1_i32_1582 : BitVec 32 := 1#32
  let v2672 : BitVec 32 := Scalar.subi v2657 c1_i32_1582
  let v2673 : BitVec 32 := Scalar.select v2671 v2672 v2657
  let c2_i32_1583 : BitVec 32 := 2#32
  let c0_i32_1584 : BitVec 32 := 0#32
  let v2674 : BitVec 1 := Scalar.cmpi .eq c2_i32_1583 c0_i32_1584
  let c1_i32_1585 : BitVec 32 := 1#32
  let v2675 : BitVec 32 := Scalar.select v2674 c1_i32_1585 c2_i32_1583
  let v2676 : BitVec 32 := Scalar.remsi v2673 v2675
  let c0_i32_1587 : BitVec 32 := 0#32
  let v2678 : BitVec 1 := Scalar.cmpi .slt v2676 c0_i32_1587
  let c0_i32_1588 : BitVec 32 := 0#32
  let v2679 : BitVec 1 := Scalar.cmpi .slt v2675 c0_i32_1588
  let v2680 : BitVec 1 := Scalar.xori v2678 v2679
  let c0_i32_1586 : BitVec 32 := 0#32
  let v2677 : BitVec 1 := Scalar.cmpi .ne v2676 c0_i32_1586
  let v2681 : BitVec 1 := Scalar.andi v2680 v2677
  let v2682 : BitVec 32 := Scalar.addi v2676 v2675
  let v2683 : BitVec 32 := Scalar.select v2681 v2682 v2676
  let c2_i32_1601 : BitVec 32 := 2#32
  let v2696 : BitVec 32 := Scalar.muli v2683 c2_i32_1601
  let v2697 : BitVec 32 := Scalar.addi v2695 v2696
  let c2_i32_1589 : BitVec 32 := 2#32
  let c0_i32_1590 : BitVec 32 := 0#32
  let v2684 : BitVec 1 := Scalar.cmpi .eq c2_i32_1589 c0_i32_1590
  let c1_i32_1591 : BitVec 32 := 1#32
  let v2685 : BitVec 32 := Scalar.select v2684 c1_i32_1591 c2_i32_1589
  let v2686 : BitVec 32 := Scalar.remsi v2503 v2685
  let c0_i32_1593 : BitVec 32 := 0#32
  let v2688 : BitVec 1 := Scalar.cmpi .slt v2686 c0_i32_1593
  let c0_i32_1594 : BitVec 32 := 0#32
  let v2689 : BitVec 1 := Scalar.cmpi .slt v2685 c0_i32_1594
  let v2690 : BitVec 1 := Scalar.xori v2688 v2689
  let c0_i32_1592 : BitVec 32 := 0#32
  let v2687 : BitVec 1 := Scalar.cmpi .ne v2686 c0_i32_1592
  let v2691 : BitVec 1 := Scalar.andi v2690 v2687
  let v2692 : BitVec 32 := Scalar.addi v2686 v2685
  let v2693 : BitVec 32 := Scalar.select v2691 v2692 v2686
  let c1_i32_1602 : BitVec 32 := 1#32
  let v2698 : BitVec 32 := Scalar.muli v2693 c1_i32_1602
  let v2699 : BitVec 32 := Scalar.addi v2697 v2698
  v2699.toNat
def k0_dev40 (d0 : Dev nD) : Nat :=
  let c0_i32_1640 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1610 : BitVec 32 := 0#32
  let v2709 : BitVec 1 := Scalar.cmpi .sgt v2503 c0_i32_1610
  let v2710 : BitVec 32 := Scalar.extui v2709
  let c0_i32_1611 : BitVec 32 := 0#32
  let v2711 : BitVec 1 := Scalar.cmpi .slt v2503 c0_i32_1611
  let v2712 : BitVec 32 := Scalar.extui v2711
  let v2713 : BitVec 32 := Scalar.subi v2710 v2712
  let c4_i32_1609 : BitVec 32 := 4#32
  let c0_i32_1612 : BitVec 32 := 0#32
  let v2714 : BitVec 1 := Scalar.cmpi .sgt c4_i32_1609 c0_i32_1612
  let v2715 : BitVec 32 := Scalar.extui v2714
  let c0_i32_1613 : BitVec 32 := 0#32
  let v2716 : BitVec 1 := Scalar.cmpi .slt c4_i32_1609 c0_i32_1613
  let v2717 : BitVec 32 := Scalar.extui v2716
  let v2718 : BitVec 32 := Scalar.subi v2715 v2717
  let v2719 : BitVec 1 := Scalar.cmpi .ne v2713 v2718
  let v2720 : BitVec 32 := Scalar.remsi v2503 c4_i32_1609
  let c0_i32_1614 : BitVec 32 := 0#32
  let v2721 : BitVec 1 := Scalar.cmpi .ne v2720 c0_i32_1614
  let v2722 : BitVec 1 := Scalar.andi v2719 v2721
  let v2708 : BitVec 32 := Scalar.divsi v2503 c4_i32_1609
  let c1_i32_1615 : BitVec 32 := 1#32
  let v2723 : BitVec 32 := Scalar.subi v2708 c1_i32_1615
  let v2724 : BitVec 32 := Scalar.select v2722 v2723 v2708
  let c4_i32_1639 : BitVec 32 := 4#32
  let v2762 : BitVec 32 := Scalar.muli v2724 c4_i32_1639
  let v2763 : BitVec 32 := Scalar.addi c0_i32_1640 v2762
  let c0_i32_1617 : BitVec 32 := 0#32
  let v2726 : BitVec 1 := Scalar.cmpi .sgt v2503 c0_i32_1617
  let v2727 : BitVec 32 := Scalar.extui v2726
  let c0_i32_1618 : BitVec 32 := 0#32
  let v2728 : BitVec 1 := Scalar.cmpi .slt v2503 c0_i32_1618
  let v2729 : BitVec 32 := Scalar.extui v2728
  let v2730 : BitVec 32 := Scalar.subi v2727 v2729
  let c2_i32_1616 : BitVec 32 := 2#32
  let c0_i32_1619 : BitVec 32 := 0#32
  let v2731 : BitVec 1 := Scalar.cmpi .sgt c2_i32_1616 c0_i32_1619
  let v2732 : BitVec 32 := Scalar.extui v2731
  let c0_i32_1620 : BitVec 32 := 0#32
  let v2733 : BitVec 1 := Scalar.cmpi .slt c2_i32_1616 c0_i32_1620
  let v2734 : BitVec 32 := Scalar.extui v2733
  let v2735 : BitVec 32 := Scalar.subi v2732 v2734
  let v2736 : BitVec 1 := Scalar.cmpi .ne v2730 v2735
  let v2737 : BitVec 32 := Scalar.remsi v2503 c2_i32_1616
  let c0_i32_1621 : BitVec 32 := 0#32
  let v2738 : BitVec 1 := Scalar.cmpi .ne v2737 c0_i32_1621
  let v2739 : BitVec 1 := Scalar.andi v2736 v2738
  let v2725 : BitVec 32 := Scalar.divsi v2503 c2_i32_1616
  let c1_i32_1622 : BitVec 32 := 1#32
  let v2740 : BitVec 32 := Scalar.subi v2725 c1_i32_1622
  let v2741 : BitVec 32 := Scalar.select v2739 v2740 v2725
  let c2_i32_1623 : BitVec 32 := 2#32
  let c0_i32_1624 : BitVec 32 := 0#32
  let v2742 : BitVec 1 := Scalar.cmpi .eq c2_i32_1623 c0_i32_1624
  let c1_i32_1625 : BitVec 32 := 1#32
  let v2743 : BitVec 32 := Scalar.select v2742 c1_i32_1625 c2_i32_1623
  let v2744 : BitVec 32 := Scalar.remsi v2741 v2743
  let c0_i32_1627 : BitVec 32 := 0#32
  let v2746 : BitVec 1 := Scalar.cmpi .slt v2744 c0_i32_1627
  let c0_i32_1628 : BitVec 32 := 0#32
  let v2747 : BitVec 1 := Scalar.cmpi .slt v2743 c0_i32_1628
  let v2748 : BitVec 1 := Scalar.xori v2746 v2747
  let c0_i32_1626 : BitVec 32 := 0#32
  let v2745 : BitVec 1 := Scalar.cmpi .ne v2744 c0_i32_1626
  let v2749 : BitVec 1 := Scalar.andi v2748 v2745
  let v2750 : BitVec 32 := Scalar.addi v2744 v2743
  let v2751 : BitVec 32 := Scalar.select v2749 v2750 v2744
  let c2_i32_1641 : BitVec 32 := 2#32
  let v2764 : BitVec 32 := Scalar.muli v2751 c2_i32_1641
  let v2765 : BitVec 32 := Scalar.addi v2763 v2764
  let c2_i32_1629 : BitVec 32 := 2#32
  let c0_i32_1630 : BitVec 32 := 0#32
  let v2752 : BitVec 1 := Scalar.cmpi .eq c2_i32_1629 c0_i32_1630
  let c1_i32_1631 : BitVec 32 := 1#32
  let v2753 : BitVec 32 := Scalar.select v2752 c1_i32_1631 c2_i32_1629
  let v2754 : BitVec 32 := Scalar.remsi v2503 v2753
  let c0_i32_1633 : BitVec 32 := 0#32
  let v2756 : BitVec 1 := Scalar.cmpi .slt v2754 c0_i32_1633
  let c0_i32_1634 : BitVec 32 := 0#32
  let v2757 : BitVec 1 := Scalar.cmpi .slt v2753 c0_i32_1634
  let v2758 : BitVec 1 := Scalar.xori v2756 v2757
  let c0_i32_1632 : BitVec 32 := 0#32
  let v2755 : BitVec 1 := Scalar.cmpi .ne v2754 c0_i32_1632
  let v2759 : BitVec 1 := Scalar.andi v2758 v2755
  let v2760 : BitVec 32 := Scalar.addi v2754 v2753
  let v2761 : BitVec 32 := Scalar.select v2759 v2760 v2754
  let c1_i32_1642 : BitVec 32 := 1#32
  let v2766 : BitVec 32 := Scalar.muli v2761 c1_i32_1642
  let v2767 : BitVec 32 := Scalar.addi v2765 v2766
  v2767.toNat
def k0_dev41 (d0 : Dev nD) : Nat :=
  let c0_i32_1680 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1650 : BitVec 32 := 0#32
  let v2777 : BitVec 1 := Scalar.cmpi .sgt v2503 c0_i32_1650
  let v2778 : BitVec 32 := Scalar.extui v2777
  let c0_i32_1651 : BitVec 32 := 0#32
  let v2779 : BitVec 1 := Scalar.cmpi .slt v2503 c0_i32_1651
  let v2780 : BitVec 32 := Scalar.extui v2779
  let v2781 : BitVec 32 := Scalar.subi v2778 v2780
  let c4_i32_1649 : BitVec 32 := 4#32
  let c0_i32_1652 : BitVec 32 := 0#32
  let v2782 : BitVec 1 := Scalar.cmpi .sgt c4_i32_1649 c0_i32_1652
  let v2783 : BitVec 32 := Scalar.extui v2782
  let c0_i32_1653 : BitVec 32 := 0#32
  let v2784 : BitVec 1 := Scalar.cmpi .slt c4_i32_1649 c0_i32_1653
  let v2785 : BitVec 32 := Scalar.extui v2784
  let v2786 : BitVec 32 := Scalar.subi v2783 v2785
  let v2787 : BitVec 1 := Scalar.cmpi .ne v2781 v2786
  let v2788 : BitVec 32 := Scalar.remsi v2503 c4_i32_1649
  let c0_i32_1654 : BitVec 32 := 0#32
  let v2789 : BitVec 1 := Scalar.cmpi .ne v2788 c0_i32_1654
  let v2790 : BitVec 1 := Scalar.andi v2787 v2789
  let v2776 : BitVec 32 := Scalar.divsi v2503 c4_i32_1649
  let c1_i32_1655 : BitVec 32 := 1#32
  let v2791 : BitVec 32 := Scalar.subi v2776 c1_i32_1655
  let v2792 : BitVec 32 := Scalar.select v2790 v2791 v2776
  let c4_i32_1679 : BitVec 32 := 4#32
  let v2830 : BitVec 32 := Scalar.muli v2792 c4_i32_1679
  let v2831 : BitVec 32 := Scalar.addi c0_i32_1680 v2830
  let c0_i32_1657 : BitVec 32 := 0#32
  let v2794 : BitVec 1 := Scalar.cmpi .sgt v2503 c0_i32_1657
  let v2795 : BitVec 32 := Scalar.extui v2794
  let c0_i32_1658 : BitVec 32 := 0#32
  let v2796 : BitVec 1 := Scalar.cmpi .slt v2503 c0_i32_1658
  let v2797 : BitVec 32 := Scalar.extui v2796
  let v2798 : BitVec 32 := Scalar.subi v2795 v2797
  let c2_i32_1656 : BitVec 32 := 2#32
  let c0_i32_1659 : BitVec 32 := 0#32
  let v2799 : BitVec 1 := Scalar.cmpi .sgt c2_i32_1656 c0_i32_1659
  let v2800 : BitVec 32 := Scalar.extui v2799
  let c0_i32_1660 : BitVec 32 := 0#32
  let v2801 : BitVec 1 := Scalar.cmpi .slt c2_i32_1656 c0_i32_1660
  let v2802 : BitVec 32 := Scalar.extui v2801
  let v2803 : BitVec 32 := Scalar.subi v2800 v2802
  let v2804 : BitVec 1 := Scalar.cmpi .ne v2798 v2803
  let v2805 : BitVec 32 := Scalar.remsi v2503 c2_i32_1656
  let c0_i32_1661 : BitVec 32 := 0#32
  let v2806 : BitVec 1 := Scalar.cmpi .ne v2805 c0_i32_1661
  let v2807 : BitVec 1 := Scalar.andi v2804 v2806
  let v2793 : BitVec 32 := Scalar.divsi v2503 c2_i32_1656
  let c1_i32_1662 : BitVec 32 := 1#32
  let v2808 : BitVec 32 := Scalar.subi v2793 c1_i32_1662
  let v2809 : BitVec 32 := Scalar.select v2807 v2808 v2793
  let c2_i32_1663 : BitVec 32 := 2#32
  let c0_i32_1664 : BitVec 32 := 0#32
  let v2810 : BitVec 1 := Scalar.cmpi .eq c2_i32_1663 c0_i32_1664
  let c1_i32_1665 : BitVec 32 := 1#32
  let v2811 : BitVec 32 := Scalar.select v2810 c1_i32_1665 c2_i32_1663
  let v2812 : BitVec 32 := Scalar.remsi v2809 v2811
  let c0_i32_1667 : BitVec 32 := 0#32
  let v2814 : BitVec 1 := Scalar.cmpi .slt v2812 c0_i32_1667
  let c0_i32_1668 : BitVec 32 := 0#32
  let v2815 : BitVec 1 := Scalar.cmpi .slt v2811 c0_i32_1668
  let v2816 : BitVec 1 := Scalar.xori v2814 v2815
  let c0_i32_1666 : BitVec 32 := 0#32
  let v2813 : BitVec 1 := Scalar.cmpi .ne v2812 c0_i32_1666
  let v2817 : BitVec 1 := Scalar.andi v2816 v2813
  let v2818 : BitVec 32 := Scalar.addi v2812 v2811
  let v2819 : BitVec 32 := Scalar.select v2817 v2818 v2812
  let c2_i32_1681 : BitVec 32 := 2#32
  let v2832 : BitVec 32 := Scalar.muli v2819 c2_i32_1681
  let v2833 : BitVec 32 := Scalar.addi v2831 v2832
  let c2_i32_1669 : BitVec 32 := 2#32
  let c0_i32_1670 : BitVec 32 := 0#32
  let v2820 : BitVec 1 := Scalar.cmpi .eq c2_i32_1669 c0_i32_1670
  let c1_i32_1671 : BitVec 32 := 1#32
  let v2821 : BitVec 32 := Scalar.select v2820 c1_i32_1671 c2_i32_1669
  let v2822 : BitVec 32 := Scalar.remsi v2503 v2821
  let c0_i32_1673 : BitVec 32 := 0#32
  let v2824 : BitVec 1 := Scalar.cmpi .slt v2822 c0_i32_1673
  let c0_i32_1674 : BitVec 32 := 0#32
  let v2825 : BitVec 1 := Scalar.cmpi .slt v2821 c0_i32_1674
  let v2826 : BitVec 1 := Scalar.xori v2824 v2825
  let c0_i32_1672 : BitVec 32 := 0#32
  let v2823 : BitVec 1 := Scalar.cmpi .ne v2822 c0_i32_1672
  let v2827 : BitVec 1 := Scalar.andi v2826 v2823
  let v2828 : BitVec 32 := Scalar.addi v2822 v2821
  let v2829 : BitVec 32 := Scalar.select v2827 v2828 v2822
  let c1_i32_1682 : BitVec 32 := 1#32
  let v2834 : BitVec 32 := Scalar.muli v2829 c1_i32_1682
  let v2835 : BitVec 32 := Scalar.addi v2833 v2834
  v2835.toNat
def k0_dev42 (d0 : Dev nD) : Nat :=
  let c0_i32_1720 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2503 : BitVec 32 := Scalar.xori v12 c7_i32
  let c0_i32_1690 : BitVec 32 := 0#32
  let v2845 : BitVec 1 := Scalar.cmpi .sgt v2503 c0_i32_1690
  let v2846 : BitVec 32 := Scalar.extui v2845
  let c0_i32_1691 : BitVec 32 := 0#32
  let v2847 : BitVec 1 := Scalar.cmpi .slt v2503 c0_i32_1691
  let v2848 : BitVec 32 := Scalar.extui v2847
  let v2849 : BitVec 32 := Scalar.subi v2846 v2848
  let c4_i32_1689 : BitVec 32 := 4#32
  let c0_i32_1692 : BitVec 32 := 0#32
  let v2850 : BitVec 1 := Scalar.cmpi .sgt c4_i32_1689 c0_i32_1692
  let v2851 : BitVec 32 := Scalar.extui v2850
  let c0_i32_1693 : BitVec 32 := 0#32
  let v2852 : BitVec 1 := Scalar.cmpi .slt c4_i32_1689 c0_i32_1693
  let v2853 : BitVec 32 := Scalar.extui v2852
  let v2854 : BitVec 32 := Scalar.subi v2851 v2853
  let v2855 : BitVec 1 := Scalar.cmpi .ne v2849 v2854
  let v2856 : BitVec 32 := Scalar.remsi v2503 c4_i32_1689
  let c0_i32_1694 : BitVec 32 := 0#32
  let v2857 : BitVec 1 := Scalar.cmpi .ne v2856 c0_i32_1694
  let v2858 : BitVec 1 := Scalar.andi v2855 v2857
  let v2844 : BitVec 32 := Scalar.divsi v2503 c4_i32_1689
  let c1_i32_1695 : BitVec 32 := 1#32
  let v2859 : BitVec 32 := Scalar.subi v2844 c1_i32_1695
  let v2860 : BitVec 32 := Scalar.select v2858 v2859 v2844
  let c4_i32_1719 : BitVec 32 := 4#32
  let v2898 : BitVec 32 := Scalar.muli v2860 c4_i32_1719
  let v2899 : BitVec 32 := Scalar.addi c0_i32_1720 v2898
  let c0_i32_1697 : BitVec 32 := 0#32
  let v2862 : BitVec 1 := Scalar.cmpi .sgt v2503 c0_i32_1697
  let v2863 : BitVec 32 := Scalar.extui v2862
  let c0_i32_1698 : BitVec 32 := 0#32
  let v2864 : BitVec 1 := Scalar.cmpi .slt v2503 c0_i32_1698
  let v2865 : BitVec 32 := Scalar.extui v2864
  let v2866 : BitVec 32 := Scalar.subi v2863 v2865
  let c2_i32_1696 : BitVec 32 := 2#32
  let c0_i32_1699 : BitVec 32 := 0#32
  let v2867 : BitVec 1 := Scalar.cmpi .sgt c2_i32_1696 c0_i32_1699
  let v2868 : BitVec 32 := Scalar.extui v2867
  let c0_i32_1700 : BitVec 32 := 0#32
  let v2869 : BitVec 1 := Scalar.cmpi .slt c2_i32_1696 c0_i32_1700
  let v2870 : BitVec 32 := Scalar.extui v2869
  let v2871 : BitVec 32 := Scalar.subi v2868 v2870
  let v2872 : BitVec 1 := Scalar.cmpi .ne v2866 v2871
  let v2873 : BitVec 32 := Scalar.remsi v2503 c2_i32_1696
  let c0_i32_1701 : BitVec 32 := 0#32
  let v2874 : BitVec 1 := Scalar.cmpi .ne v2873 c0_i32_1701
  let v2875 : BitVec 1 := Scalar.andi v2872 v2874
  let v2861 : BitVec 32 := Scalar.divsi v2503 c2_i32_1696
  let c1_i32_1702 : BitVec 32 := 1#32
  let v2876 : BitVec 32 := Scalar.subi v2861 c1_i32_1702
  let v2877 : BitVec 32 := Scalar.select v2875 v2876 v2861
  let c2_i32_1703 : BitVec 32 := 2#32
  let c0_i32_1704 : BitVec 32 := 0#32
  let v2878 : BitVec 1 := Scalar.cmpi .eq c2_i32_1703 c0_i32_1704
  let c1_i32_1705 : BitVec 32 := 1#32
  let v2879 : BitVec 32 := Scalar.select v2878 c1_i32_1705 c2_i32_1703
  let v2880 : BitVec 32 := Scalar.remsi v2877 v2879
  let c0_i32_1707 : BitVec 32 := 0#32
  let v2882 : BitVec 1 := Scalar.cmpi .slt v2880 c0_i32_1707
  let c0_i32_1708 : BitVec 32 := 0#32
  let v2883 : BitVec 1 := Scalar.cmpi .slt v2879 c0_i32_1708
  let v2884 : BitVec 1 := Scalar.xori v2882 v2883
  let c0_i32_1706 : BitVec 32 := 0#32
  let v2881 : BitVec 1 := Scalar.cmpi .ne v2880 c0_i32_1706
  let v2885 : BitVec 1 := Scalar.andi v2884 v2881
  let v2886 : BitVec 32 := Scalar.addi v2880 v2879
  let v2887 : BitVec 32 := Scalar.select v2885 v2886 v2880
  let c2_i32_1721 : BitVec 32 := 2#32
  let v2900 : BitVec 32 := Scalar.muli v2887 c2_i32_1721
  let v2901 : BitVec 32 := Scalar.addi v2899 v2900
  let c2_i32_1709 : BitVec 32 := 2#32
  let c0_i32_1710 : BitVec 32 := 0#32
  let v2888 : BitVec 1 := Scalar.cmpi .eq c2_i32_1709 c0_i32_1710
  let c1_i32_1711 : BitVec 32 := 1#32
  let v2889 : BitVec 32 := Scalar.select v2888 c1_i32_1711 c2_i32_1709
  let v2890 : BitVec 32 := Scalar.remsi v2503 v2889
  let c0_i32_1713 : BitVec 32 := 0#32
  let v2892 : BitVec 1 := Scalar.cmpi .slt v2890 c0_i32_1713
  let c0_i32_1714 : BitVec 32 := 0#32
  let v2893 : BitVec 1 := Scalar.cmpi .slt v2889 c0_i32_1714
  let v2894 : BitVec 1 := Scalar.xori v2892 v2893
  let c0_i32_1712 : BitVec 32 := 0#32
  let v2891 : BitVec 1 := Scalar.cmpi .ne v2890 c0_i32_1712
  let v2895 : BitVec 1 := Scalar.andi v2894 v2891
  let v2896 : BitVec 32 := Scalar.addi v2890 v2889
  let v2897 : BitVec 32 := Scalar.select v2895 v2896 v2890
  let c1_i32_1722 : BitVec 32 := 1#32
  let v2902 : BitVec 32 := Scalar.muli v2897 c1_i32_1722
  let v2903 : BitVec 32 := Scalar.addi v2901 v2902
  v2903.toNat
-- ==== Reference.lean ====
abbrev S64x2x1024x800 : Shape := ⟨4, ![64, 2, 1024, 800]⟩
abbrev S64x2x64x512 : Shape := ⟨4, ![64, 2, 64, 512]⟩
abbrev S64x2x512x128 : Shape := ⟨4, ![64, 2, 512, 128]⟩
abbrev S64x2x128x1024 : Shape := ⟨4, ![64, 2, 128, 1024]⟩
abbrev S8x8x2x1024x800 : Shape := ⟨5, ![8, 8, 2, 1024, 800]⟩
abbrev S8x8x2x64x512 : Shape := ⟨5, ![8, 8, 2, 64, 512]⟩
abbrev S8x8x2x512x128 : Shape := ⟨5, ![8, 8, 2, 512, 128]⟩
abbrev S8x8x2x128x1024 : Shape := ⟨5, ![8, 8, 2, 128, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x2x1024x800, .bf16⟩
  | .hbm, ⟨1, _⟩ => ⟨S64x2x64x512, .bf16⟩
  | .hbm, ⟨2, _⟩ => ⟨S64x2x512x128, .bf16⟩
  | .hbm, ⟨3, _⟩ => ⟨S64x2x512x128, .bf16⟩
  | .hbm, ⟨4, _⟩ => ⟨S64x2x512x128, .bf16⟩
  | .hbm, ⟨5, _⟩ => ⟨S64x2x128x1024, .bf16⟩
  | .hbm, ⟨6, _⟩ => ⟨S8x8x2x1024x800, .bf16⟩
  | .hbm, ⟨7, _⟩ => ⟨S8x8x2x1024x800, .bf16⟩
  | .hbm, ⟨8, _⟩ => ⟨S64x2x1024x800, .bf16⟩
  | .hbm, ⟨9, _⟩ => ⟨S8x8x2x64x512, .bf16⟩
  | .hbm, ⟨10, _⟩ => ⟨S8x8x2x64x512, .bf16⟩
  | .hbm, ⟨11, _⟩ => ⟨S64x2x64x512, .bf16⟩
  | .hbm, ⟨12, _⟩ => ⟨S8x8x2x512x128, .bf16⟩
  | .hbm, ⟨13, _⟩ => ⟨S8x8x2x512x128, .bf16⟩
  | .hbm, ⟨14, _⟩ => ⟨S64x2x512x128, .bf16⟩
  | .hbm, ⟨15, _⟩ => ⟨S8x8x2x512x128, .bf16⟩
  | .hbm, ⟨16, _⟩ => ⟨S8x8x2x512x128, .bf16⟩
  | .hbm, ⟨17, _⟩ => ⟨S64x2x512x128, .bf16⟩
  | .hbm, ⟨18, _⟩ => ⟨S8x8x2x512x128, .bf16⟩
  | .hbm, ⟨19, _⟩ => ⟨S8x8x2x512x128, .bf16⟩
  | .hbm, ⟨20, _⟩ => ⟨S64x2x512x128, .bf16⟩
  | .hbm, ⟨21, _⟩ => ⟨S8x8x2x128x1024, .bf16⟩
  | .hbm, ⟨22, _⟩ => ⟨S8x8x2x128x1024, .bf16⟩
  | .hbm, ⟨23, _⟩ => ⟨S64x2x128x1024, .bf16⟩
  | _, _ => ⟨S64x2x1024x800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GatherWeights.lean ====
abbrev S2x1024x800 : Shape := ⟨3, ![2, 1024, 800]⟩
abbrev S2x64x512 : Shape := ⟨3, ![2, 64, 512]⟩
abbrev S2x512x128 : Shape := ⟨3, ![2, 512, 128]⟩
abbrev S2x128x1024 : Shape := ⟨3, ![2, 128, 1024]⟩
abbrev S8x2x1024x800 : Shape := ⟨4, ![8, 2, 1024, 800]⟩
abbrev S8x2x64x512 : Shape := ⟨4, ![8, 2, 64, 512]⟩
abbrev S8x2x512x128 : Shape := ⟨4, ![8, 2, 512, 128]⟩
abbrev S8x2x128x1024 : Shape := ⟨4, ![8, 2, 128, 1024]⟩
abbrev S6x7 : Shape := ⟨2, ![6, 7]⟩
abbrev S6 : Shape := ⟨1, ![6]⟩
abbrev S1 : Shape := ⟨1, ![1]⟩
abbrev S_ : Shape := ⟨0, ![]⟩
abbrev S1x2x1024x800 : Shape := ⟨4, ![1, 2, 1024, 800]⟩
abbrev S1x2x64x512 : Shape := ⟨4, ![1, 2, 64, 512]⟩
abbrev S1x2x512x128 : Shape := ⟨4, ![1, 2, 512, 128]⟩
abbrev S1x2x128x1024 : Shape := ⟨4, ![1, 2, 128, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S2x1024x800, .bf16⟩
  | .hbm, ⟨1, _⟩ => ⟨S2x64x512, .bf16⟩
  | .hbm, ⟨2, _⟩ => ⟨S2x512x128, .bf16⟩
  | .hbm, ⟨3, _⟩ => ⟨S2x512x128, .bf16⟩
  | .hbm, ⟨4, _⟩ => ⟨S2x512x128, .bf16⟩
  | .hbm, ⟨5, _⟩ => ⟨S2x128x1024, .bf16⟩
  | .hbm, ⟨6, _⟩ => ⟨S8x2x1024x800, .bf16⟩
  | .hbm, ⟨7, _⟩ => ⟨S8x2x64x512, .bf16⟩
  | .hbm, ⟨8, _⟩ => ⟨S8x2x512x128, .bf16⟩
  | .hbm, ⟨9, _⟩ => ⟨S8x2x512x128, .bf16⟩
  | .hbm, ⟨10, _⟩ => ⟨S8x2x512x128, .bf16⟩
  | .hbm, ⟨11, _⟩ => ⟨S8x2x128x1024, .bf16⟩
  | _, _ => ⟨S2x1024x800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  let c0_i32_7 : BitVec 32 := 0#32
  ![v12.toNat, 0, 0, 0]
def k0_off2 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_9 : BitVec 32 := 0#32
  let c0_i32_10 : BitVec 32 := 0#32
  let c0_i32_11 : BitVec 32 := 0#32
  ![v12.toNat, 0, 0, 0]
def k0_off3 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_13 : BitVec 32 := 0#32
  let c0_i32_14 : BitVec 32 := 0#32
  let c0_i32_15 : BitVec 32 := 0#32
  ![v12.toNat, 0, 0, 0]
def k0_off4 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_23 : BitVec 32 := 0#32
  let c0_i32_24 : BitVec 32 := 0#32
  let c0_i32_25 : BitVec 32 := 0#32
  ![v12.toNat, 0, 0, 0]
def k0_dev1 (d0 : Dev nD) : Nat :=
  let c0_i32_58 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_28 : BitVec 32 := 0#32
  let v39 : BitVec 1 := Scalar.cmpi .sgt v37 c0_i32_28
  let v40 : BitVec 32 := Scalar.extui v39
  let c0_i32_29 : BitVec 32 := 0#32
  let v41 : BitVec 1 := Scalar.cmpi .slt v37 c0_i32_29
  let v42 : BitVec 32 := Scalar.extui v41
  let v43 : BitVec 32 := Scalar.subi v40 v42
  let c4_i32_27 : BitVec 32 := 4#32
  let c0_i32_30 : BitVec 32 := 0#32
  let v44 : BitVec 1 := Scalar.cmpi .sgt c4_i32_27 c0_i32_30
  let v45 : BitVec 32 := Scalar.extui v44
  let c0_i32_31 : BitVec 32 := 0#32
  let v46 : BitVec 1 := Scalar.cmpi .slt c4_i32_27 c0_i32_31
  let v47 : BitVec 32 := Scalar.extui v46
  let v48 : BitVec 32 := Scalar.subi v45 v47
  let v49 : BitVec 1 := Scalar.cmpi .ne v43 v48
  let v50 : BitVec 32 := Scalar.remsi v37 c4_i32_27
  let c0_i32_32 : BitVec 32 := 0#32
  let v51 : BitVec 1 := Scalar.cmpi .ne v50 c0_i32_32
  let v52 : BitVec 1 := Scalar.andi v49 v51
  let v38 : BitVec 32 := Scalar.divsi v37 c4_i32_27
  let c1_i32_33 : BitVec 32 := 1#32
  let v53 : BitVec 32 := Scalar.subi v38 c1_i32_33
  let v54 : BitVec 32 := Scalar.select v52 v53 v38
  let c4_i32_57 : BitVec 32 := 4#32
  let v92 : BitVec 32 := Scalar.muli v54 c4_i32_57
  let v93 : BitVec 32 := Scalar.addi c0_i32_58 v92
  let c0_i32_35 : BitVec 32 := 0#32
  let v56 : BitVec 1 := Scalar.cmpi .sgt v37 c0_i32_35
  let v57 : BitVec 32 := Scalar.extui v56
  let c0_i32_36 : BitVec 32 := 0#32
  let v58 : BitVec 1 := Scalar.cmpi .slt v37 c0_i32_36
  let v59 : BitVec 32 := Scalar.extui v58
  let v60 : BitVec 32 := Scalar.subi v57 v59
  let c2_i32_34 : BitVec 32 := 2#32
  let c0_i32_37 : BitVec 32 := 0#32
  let v61 : BitVec 1 := Scalar.cmpi .sgt c2_i32_34 c0_i32_37
  let v62 : BitVec 32 := Scalar.extui v61
  let c0_i32_38 : BitVec 32 := 0#32
  let v63 : BitVec 1 := Scalar.cmpi .slt c2_i32_34 c0_i32_38
  let v64 : BitVec 32 := Scalar.extui v63
  let v65 : BitVec 32 := Scalar.subi v62 v64
  let v66 : BitVec 1 := Scalar.cmpi .ne v60 v65
  let v67 : BitVec 32 := Scalar.remsi v37 c2_i32_34
  let c0_i32_39 : BitVec 32 := 0#32
  let v68 : BitVec 1 := Scalar.cmpi .ne v67 c0_i32_39
  let v69 : BitVec 1 := Scalar.andi v66 v68
  let v55 : BitVec 32 := Scalar.divsi v37 c2_i32_34
  let c1_i32_40 : BitVec 32 := 1#32
  let v70 : BitVec 32 := Scalar.subi v55 c1_i32_40
  let v71 : BitVec 32 := Scalar.select v69 v70 v55
  let c2_i32_41 : BitVec 32 := 2#32
  let c0_i32_42 : BitVec 32 := 0#32
  let v72 : BitVec 1 := Scalar.cmpi .eq c2_i32_41 c0_i32_42
  let c1_i32_43 : BitVec 32 := 1#32
  let v73 : BitVec 32 := Scalar.select v72 c1_i32_43 c2_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c2_i32_59 : BitVec 32 := 2#32
  let v94 : BitVec 32 := Scalar.muli v81 c2_i32_59
  let v95 : BitVec 32 := Scalar.addi v93 v94
  let c2_i32_47 : BitVec 32 := 2#32
  let c0_i32_48 : BitVec 32 := 0#32
  let v82 : BitVec 1 := Scalar.cmpi .eq c2_i32_47 c0_i32_48
  let c1_i32_49 : BitVec 32 := 1#32
  let v83 : BitVec 32 := Scalar.select v82 c1_i32_49 c2_i32_47
  let v84 : BitVec 32 := Scalar.remsi v37 v83
  let c0_i32_51 : BitVec 32 := 0#32
  let v86 : BitVec 1 := Scalar.cmpi .slt v84 c0_i32_51
  let c0_i32_52 : BitVec 32 := 0#32
  let v87 : BitVec 1 := Scalar.cmpi .slt v83 c0_i32_52
  let v88 : BitVec 1 := Scalar.xori v86 v87
  let c0_i32_50 : BitVec 32 := 0#32
  let v85 : BitVec 1 := Scalar.cmpi .ne v84 c0_i32_50
  let v89 : BitVec 1 := Scalar.andi v88 v85
  let v90 : BitVec 32 := Scalar.addi v84 v83
  let v91 : BitVec 32 := Scalar.select v89 v90 v84
  let c1_i32_60 : BitVec 32 := 1#32
  let v96 : BitVec 32 := Scalar.muli v91 c1_i32_60
  let v97 : BitVec 32 := Scalar.addi v95 v96
  v97.toNat
def k0_dev2 (d0 : Dev nD) : Nat :=
  let c0_i32_95 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_65 : BitVec 32 := 0#32
  let v105 : BitVec 1 := Scalar.cmpi .sgt v37 c0_i32_65
  let v106 : BitVec 32 := Scalar.extui v105
  let c0_i32_66 : BitVec 32 := 0#32
  let v107 : BitVec 1 := Scalar.cmpi .slt v37 c0_i32_66
  let v108 : BitVec 32 := Scalar.extui v107
  let v109 : BitVec 32 := Scalar.subi v106 v108
  let c4_i32_64 : BitVec 32 := 4#32
  let c0_i32_67 : BitVec 32 := 0#32
  let v110 : BitVec 1 := Scalar.cmpi .sgt c4_i32_64 c0_i32_67
  let v111 : BitVec 32 := Scalar.extui v110
  let c0_i32_68 : BitVec 32 := 0#32
  let v112 : BitVec 1 := Scalar.cmpi .slt c4_i32_64 c0_i32_68
  let v113 : BitVec 32 := Scalar.extui v112
  let v114 : BitVec 32 := Scalar.subi v111 v113
  let v115 : BitVec 1 := Scalar.cmpi .ne v109 v114
  let v116 : BitVec 32 := Scalar.remsi v37 c4_i32_64
  let c0_i32_69 : BitVec 32 := 0#32
  let v117 : BitVec 1 := Scalar.cmpi .ne v116 c0_i32_69
  let v118 : BitVec 1 := Scalar.andi v115 v117
  let v104 : BitVec 32 := Scalar.divsi v37 c4_i32_64
  let c1_i32_70 : BitVec 32 := 1#32
  let v119 : BitVec 32 := Scalar.subi v104 c1_i32_70
  let v120 : BitVec 32 := Scalar.select v118 v119 v104
  let c4_i32_94 : BitVec 32 := 4#32
  let v158 : BitVec 32 := Scalar.muli v120 c4_i32_94
  let v159 : BitVec 32 := Scalar.addi c0_i32_95 v158
  let c0_i32_72 : BitVec 32 := 0#32
  let v122 : BitVec 1 := Scalar.cmpi .sgt v37 c0_i32_72
  let v123 : BitVec 32 := Scalar.extui v122
  let c0_i32_73 : BitVec 32 := 0#32
  let v124 : BitVec 1 := Scalar.cmpi .slt v37 c0_i32_73
  let v125 : BitVec 32 := Scalar.extui v124
  let v126 : BitVec 32 := Scalar.subi v123 v125
  let c2_i32_71 : BitVec 32 := 2#32
  let c0_i32_74 : BitVec 32 := 0#32
  let v127 : BitVec 1 := Scalar.cmpi .sgt c2_i32_71 c0_i32_74
  let v128 : BitVec 32 := Scalar.extui v127
  let c0_i32_75 : BitVec 32 := 0#32
  let v129 : BitVec 1 := Scalar.cmpi .slt c2_i32_71 c0_i32_75
  let v130 : BitVec 32 := Scalar.extui v129
  let v131 : BitVec 32 := Scalar.subi v128 v130
  let v132 : BitVec 1 := Scalar.cmpi .ne v126 v131
  let v133 : BitVec 32 := Scalar.remsi v37 c2_i32_71
  let c0_i32_76 : BitVec 32 := 0#32
  let v134 : BitVec 1 := Scalar.cmpi .ne v133 c0_i32_76
  let v135 : BitVec 1 := Scalar.andi v132 v134
  let v121 : BitVec 32 := Scalar.divsi v37 c2_i32_71
  let c1_i32_77 : BitVec 32 := 1#32
  let v136 : BitVec 32 := Scalar.subi v121 c1_i32_77
  let v137 : BitVec 32 := Scalar.select v135 v136 v121
  let c2_i32_78 : BitVec 32 := 2#32
  let c0_i32_79 : BitVec 32 := 0#32
  let v138 : BitVec 1 := Scalar.cmpi .eq c2_i32_78 c0_i32_79
  let c1_i32_80 : BitVec 32 := 1#32
  let v139 : BitVec 32 := Scalar.select v138 c1_i32_80 c2_i32_78
  let v140 : BitVec 32 := Scalar.remsi v137 v139
  let c0_i32_82 : BitVec 32 := 0#32
  let v142 : BitVec 1 := Scalar.cmpi .slt v140 c0_i32_82
  let c0_i32_83 : BitVec 32 := 0#32
  let v143 : BitVec 1 := Scalar.cmpi .slt v139 c0_i32_83
  let v144 : BitVec 1 := Scalar.xori v142 v143
  let c0_i32_81 : BitVec 32 := 0#32
  let v141 : BitVec 1 := Scalar.cmpi .ne v140 c0_i32_81
  let v145 : BitVec 1 := Scalar.andi v144 v141
  let v146 : BitVec 32 := Scalar.addi v140 v139
  let v147 : BitVec 32 := Scalar.select v145 v146 v140
  let c2_i32_96 : BitVec 32 := 2#32
  let v160 : BitVec 32 := Scalar.muli v147 c2_i32_96
  let v161 : BitVec 32 := Scalar.addi v159 v160
  let c2_i32_84 : BitVec 32 := 2#32
  let c0_i32_85 : BitVec 32 := 0#32
  let v148 : BitVec 1 := Scalar.cmpi .eq c2_i32_84 c0_i32_85
  let c1_i32_86 : BitVec 32 := 1#32
  let v149 : BitVec 32 := Scalar.select v148 c1_i32_86 c2_i32_84
  let v150 : BitVec 32 := Scalar.remsi v37 v149
  let c0_i32_88 : BitVec 32 := 0#32
  let v152 : BitVec 1 := Scalar.cmpi .slt v150 c0_i32_88
  let c0_i32_89 : BitVec 32 := 0#32
  let v153 : BitVec 1 := Scalar.cmpi .slt v149 c0_i32_89
  let v154 : BitVec 1 := Scalar.xori v152 v153
  let c0_i32_87 : BitVec 32 := 0#32
  let v151 : BitVec 1 := Scalar.cmpi .ne v150 c0_i32_87
  let v155 : BitVec 1 := Scalar.andi v154 v151
  let v156 : BitVec 32 := Scalar.addi v150 v149
  let v157 : BitVec 32 := Scalar.select v155 v156 v150
  let c1_i32_97 : BitVec 32 := 1#32
  let v162 : BitVec 32 := Scalar.muli v157 c1_i32_97
  let v163 : BitVec 32 := Scalar.addi v161 v162
  v163.toNat
def k0_dev3 (d0 : Dev nD) : Nat :=
  let c0_i32_132 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_102 : BitVec 32 := 0#32
  let v171 : BitVec 1 := Scalar.cmpi .sgt v37 c0_i32_102
  let v172 : BitVec 32 := Scalar.extui v171
  let c0_i32_103 : BitVec 32 := 0#32
  let v173 : BitVec 1 := Scalar.cmpi .slt v37 c0_i32_103
  let v174 : BitVec 32 := Scalar.extui v173
  let v175 : BitVec 32 := Scalar.subi v172 v174
  let c4_i32_101 : BitVec 32 := 4#32
  let c0_i32_104 : BitVec 32 := 0#32
  let v176 : BitVec 1 := Scalar.cmpi .sgt c4_i32_101 c0_i32_104
  let v177 : BitVec 32 := Scalar.extui v176
  let c0_i32_105 : BitVec 32 := 0#32
  let v178 : BitVec 1 := Scalar.cmpi .slt c4_i32_101 c0_i32_105
  let v179 : BitVec 32 := Scalar.extui v178
  let v180 : BitVec 32 := Scalar.subi v177 v179
  let v181 : BitVec 1 := Scalar.cmpi .ne v175 v180
  let v182 : BitVec 32 := Scalar.remsi v37 c4_i32_101
  let c0_i32_106 : BitVec 32 := 0#32
  let v183 : BitVec 1 := Scalar.cmpi .ne v182 c0_i32_106
  let v184 : BitVec 1 := Scalar.andi v181 v183
  let v170 : BitVec 32 := Scalar.divsi v37 c4_i32_101
  let c1_i32_107 : BitVec 32 := 1#32
  let v185 : BitVec 32 := Scalar.subi v170 c1_i32_107
  let v186 : BitVec 32 := Scalar.select v184 v185 v170
  let c4_i32_131 : BitVec 32 := 4#32
  let v224 : BitVec 32 := Scalar.muli v186 c4_i32_131
  let v225 : BitVec 32 := Scalar.addi c0_i32_132 v224
  let c0_i32_109 : BitVec 32 := 0#32
  let v188 : BitVec 1 := Scalar.cmpi .sgt v37 c0_i32_109
  let v189 : BitVec 32 := Scalar.extui v188
  let c0_i32_110 : BitVec 32 := 0#32
  let v190 : BitVec 1 := Scalar.cmpi .slt v37 c0_i32_110
  let v191 : BitVec 32 := Scalar.extui v190
  let v192 : BitVec 32 := Scalar.subi v189 v191
  let c2_i32_108 : BitVec 32 := 2#32
  let c0_i32_111 : BitVec 32 := 0#32
  let v193 : BitVec 1 := Scalar.cmpi .sgt c2_i32_108 c0_i32_111
  let v194 : BitVec 32 := Scalar.extui v193
  let c0_i32_112 : BitVec 32 := 0#32
  let v195 : BitVec 1 := Scalar.cmpi .slt c2_i32_108 c0_i32_112
  let v196 : BitVec 32 := Scalar.extui v195
  let v197 : BitVec 32 := Scalar.subi v194 v196
  let v198 : BitVec 1 := Scalar.cmpi .ne v192 v197
  let v199 : BitVec 32 := Scalar.remsi v37 c2_i32_108
  let c0_i32_113 : BitVec 32 := 0#32
  let v200 : BitVec 1 := Scalar.cmpi .ne v199 c0_i32_113
  let v201 : BitVec 1 := Scalar.andi v198 v200
  let v187 : BitVec 32 := Scalar.divsi v37 c2_i32_108
  let c1_i32_114 : BitVec 32 := 1#32
  let v202 : BitVec 32 := Scalar.subi v187 c1_i32_114
  let v203 : BitVec 32 := Scalar.select v201 v202 v187
  let c2_i32_115 : BitVec 32 := 2#32
  let c0_i32_116 : BitVec 32 := 0#32
  let v204 : BitVec 1 := Scalar.cmpi .eq c2_i32_115 c0_i32_116
  let c1_i32_117 : BitVec 32 := 1#32
  let v205 : BitVec 32 := Scalar.select v204 c1_i32_117 c2_i32_115
  let v206 : BitVec 32 := Scalar.remsi v203 v205
  let c0_i32_119 : BitVec 32 := 0#32
  let v208 : BitVec 1 := Scalar.cmpi .slt v206 c0_i32_119
  let c0_i32_120 : BitVec 32 := 0#32
  let v209 : BitVec 1 := Scalar.cmpi .slt v205 c0_i32_120
  let v210 : BitVec 1 := Scalar.xori v208 v209
  let c0_i32_118 : BitVec 32 := 0#32
  let v207 : BitVec 1 := Scalar.cmpi .ne v206 c0_i32_118
  let v211 : BitVec 1 := Scalar.andi v210 v207
  let v212 : BitVec 32 := Scalar.addi v206 v205
  let v213 : BitVec 32 := Scalar.select v211 v212 v206
  let c2_i32_133 : BitVec 32 := 2#32
  let v226 : BitVec 32 := Scalar.muli v213 c2_i32_133
  let v227 : BitVec 32 := Scalar.addi v225 v226
  let c2_i32_121 : BitVec 32 := 2#32
  let c0_i32_122 : BitVec 32 := 0#32
  let v214 : BitVec 1 := Scalar.cmpi .eq c2_i32_121 c0_i32_122
  let c1_i32_123 : BitVec 32 := 1#32
  let v215 : BitVec 32 := Scalar.select v214 c1_i32_123 c2_i32_121
  let v216 : BitVec 32 := Scalar.remsi v37 v215
  let c0_i32_125 : BitVec 32 := 0#32
  let v218 : BitVec 1 := Scalar.cmpi .slt v216 c0_i32_125
  let c0_i32_126 : BitVec 32 := 0#32
  let v219 : BitVec 1 := Scalar.cmpi .slt v215 c0_i32_126
  let v220 : BitVec 1 := Scalar.xori v218 v219
  let c0_i32_124 : BitVec 32 := 0#32
  let v217 : BitVec 1 := Scalar.cmpi .ne v216 c0_i32_124
  let v221 : BitVec 1 := Scalar.andi v220 v217
  let v222 : BitVec 32 := Scalar.addi v216 v215
  let v223 : BitVec 32 := Scalar.select v221 v222 v216
  let c1_i32_134 : BitVec 32 := 1#32
  let v228 : BitVec 32 := Scalar.muli v223 c1_i32_134
  let v229 : BitVec 32 := Scalar.addi v227 v228
  v229.toNat
def k0_dev4 (d0 : Dev nD) : Nat :=
  let c0_i32_169 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_139 : BitVec 32 := 0#32
  let v237 : BitVec 1 := Scalar.cmpi .sgt v37 c0_i32_139
  let v238 : BitVec 32 := Scalar.extui v237
  let c0_i32_140 : BitVec 32 := 0#32
  let v239 : BitVec 1 := Scalar.cmpi .slt v37 c0_i32_140
  let v240 : BitVec 32 := Scalar.extui v239
  let v241 : BitVec 32 := Scalar.subi v238 v240
  let c4_i32_138 : BitVec 32 := 4#32
  let c0_i32_141 : BitVec 32 := 0#32
  let v242 : BitVec 1 := Scalar.cmpi .sgt c4_i32_138 c0_i32_141
  let v243 : BitVec 32 := Scalar.extui v242
  let c0_i32_142 : BitVec 32 := 0#32
  let v244 : BitVec 1 := Scalar.cmpi .slt c4_i32_138 c0_i32_142
  let v245 : BitVec 32 := Scalar.extui v244
  let v246 : BitVec 32 := Scalar.subi v243 v245
  let v247 : BitVec 1 := Scalar.cmpi .ne v241 v246
  let v248 : BitVec 32 := Scalar.remsi v37 c4_i32_138
  let c0_i32_143 : BitVec 32 := 0#32
  let v249 : BitVec 1 := Scalar.cmpi .ne v248 c0_i32_143
  let v250 : BitVec 1 := Scalar.andi v247 v249
  let v236 : BitVec 32 := Scalar.divsi v37 c4_i32_138
  let c1_i32_144 : BitVec 32 := 1#32
  let v251 : BitVec 32 := Scalar.subi v236 c1_i32_144
  let v252 : BitVec 32 := Scalar.select v250 v251 v236
  let c4_i32_168 : BitVec 32 := 4#32
  let v290 : BitVec 32 := Scalar.muli v252 c4_i32_168
  let v291 : BitVec 32 := Scalar.addi c0_i32_169 v290
  let c0_i32_146 : BitVec 32 := 0#32
  let v254 : BitVec 1 := Scalar.cmpi .sgt v37 c0_i32_146
  let v255 : BitVec 32 := Scalar.extui v254
  let c0_i32_147 : BitVec 32 := 0#32
  let v256 : BitVec 1 := Scalar.cmpi .slt v37 c0_i32_147
  let v257 : BitVec 32 := Scalar.extui v256
  let v258 : BitVec 32 := Scalar.subi v255 v257
  let c2_i32_145 : BitVec 32 := 2#32
  let c0_i32_148 : BitVec 32 := 0#32
  let v259 : BitVec 1 := Scalar.cmpi .sgt c2_i32_145 c0_i32_148
  let v260 : BitVec 32 := Scalar.extui v259
  let c0_i32_149 : BitVec 32 := 0#32
  let v261 : BitVec 1 := Scalar.cmpi .slt c2_i32_145 c0_i32_149
  let v262 : BitVec 32 := Scalar.extui v261
  let v263 : BitVec 32 := Scalar.subi v260 v262
  let v264 : BitVec 1 := Scalar.cmpi .ne v258 v263
  let v265 : BitVec 32 := Scalar.remsi v37 c2_i32_145
  let c0_i32_150 : BitVec 32 := 0#32
  let v266 : BitVec 1 := Scalar.cmpi .ne v265 c0_i32_150
  let v267 : BitVec 1 := Scalar.andi v264 v266
  let v253 : BitVec 32 := Scalar.divsi v37 c2_i32_145
  let c1_i32_151 : BitVec 32 := 1#32
  let v268 : BitVec 32 := Scalar.subi v253 c1_i32_151
  let v269 : BitVec 32 := Scalar.select v267 v268 v253
  let c2_i32_152 : BitVec 32 := 2#32
  let c0_i32_153 : BitVec 32 := 0#32
  let v270 : BitVec 1 := Scalar.cmpi .eq c2_i32_152 c0_i32_153
  let c1_i32_154 : BitVec 32 := 1#32
  let v271 : BitVec 32 := Scalar.select v270 c1_i32_154 c2_i32_152
  let v272 : BitVec 32 := Scalar.remsi v269 v271
  let c0_i32_156 : BitVec 32 := 0#32
  let v274 : BitVec 1 := Scalar.cmpi .slt v272 c0_i32_156
  let c0_i32_157 : BitVec 32 := 0#32
  let v275 : BitVec 1 := Scalar.cmpi .slt v271 c0_i32_157
  let v276 : BitVec 1 := Scalar.xori v274 v275
  let c0_i32_155 : BitVec 32 := 0#32
  let v273 : BitVec 1 := Scalar.cmpi .ne v272 c0_i32_155
  let v277 : BitVec 1 := Scalar.andi v276 v273
  let v278 : BitVec 32 := Scalar.addi v272 v271
  let v279 : BitVec 32 := Scalar.select v277 v278 v272
  let c2_i32_170 : BitVec 32 := 2#32
  let v292 : BitVec 32 := Scalar.muli v279 c2_i32_170
  let v293 : BitVec 32 := Scalar.addi v291 v292
  let c2_i32_158 : BitVec 32 := 2#32
  let c0_i32_159 : BitVec 32 := 0#32
  let v280 : BitVec 1 := Scalar.cmpi .eq c2_i32_158 c0_i32_159
  let c1_i32_160 : BitVec 32 := 1#32
  let v281 : BitVec 32 := Scalar.select v280 c1_i32_160 c2_i32_158
  let v282 : BitVec 32 := Scalar.remsi v37 v281
  let c0_i32_162 : BitVec 32 := 0#32
  let v284 : BitVec 1 := Scalar.cmpi .slt v282 c0_i32_162
  let c0_i32_163 : BitVec 32 := 0#32
  let v285 : BitVec 1 := Scalar.cmpi .slt v281 c0_i32_163
  let v286 : BitVec 1 := Scalar.xori v284 v285
  let c0_i32_161 : BitVec 32 := 0#32
  let v283 : BitVec 1 := Scalar.cmpi .ne v282 c0_i32_161
  let v287 : BitVec 1 := Scalar.andi v286 v283
  let v288 : BitVec 32 := Scalar.addi v282 v281
  let v289 : BitVec 32 := Scalar.select v287 v288 v282
  let c1_i32_171 : BitVec 32 := 1#32
  let v294 : BitVec 32 := Scalar.muli v289 c1_i32_171
  let v295 : BitVec 32 := Scalar.addi v293 v294
  v295.toNat
def k0_dev5 (d0 : Dev nD) : Nat :=
  let c0_i32_206 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_176 : BitVec 32 := 0#32
  let v303 : BitVec 1 := Scalar.cmpi .sgt v37 c0_i32_176
  let v304 : BitVec 32 := Scalar.extui v303
  let c0_i32_177 : BitVec 32 := 0#32
  let v305 : BitVec 1 := Scalar.cmpi .slt v37 c0_i32_177
  let v306 : BitVec 32 := Scalar.extui v305
  let v307 : BitVec 32 := Scalar.subi v304 v306
  let c4_i32_175 : BitVec 32 := 4#32
  let c0_i32_178 : BitVec 32 := 0#32
  let v308 : BitVec 1 := Scalar.cmpi .sgt c4_i32_175 c0_i32_178
  let v309 : BitVec 32 := Scalar.extui v308
  let c0_i32_179 : BitVec 32 := 0#32
  let v310 : BitVec 1 := Scalar.cmpi .slt c4_i32_175 c0_i32_179
  let v311 : BitVec 32 := Scalar.extui v310
  let v312 : BitVec 32 := Scalar.subi v309 v311
  let v313 : BitVec 1 := Scalar.cmpi .ne v307 v312
  let v314 : BitVec 32 := Scalar.remsi v37 c4_i32_175
  let c0_i32_180 : BitVec 32 := 0#32
  let v315 : BitVec 1 := Scalar.cmpi .ne v314 c0_i32_180
  let v316 : BitVec 1 := Scalar.andi v313 v315
  let v302 : BitVec 32 := Scalar.divsi v37 c4_i32_175
  let c1_i32_181 : BitVec 32 := 1#32
  let v317 : BitVec 32 := Scalar.subi v302 c1_i32_181
  let v318 : BitVec 32 := Scalar.select v316 v317 v302
  let c4_i32_205 : BitVec 32 := 4#32
  let v356 : BitVec 32 := Scalar.muli v318 c4_i32_205
  let v357 : BitVec 32 := Scalar.addi c0_i32_206 v356
  let c0_i32_183 : BitVec 32 := 0#32
  let v320 : BitVec 1 := Scalar.cmpi .sgt v37 c0_i32_183
  let v321 : BitVec 32 := Scalar.extui v320
  let c0_i32_184 : BitVec 32 := 0#32
  let v322 : BitVec 1 := Scalar.cmpi .slt v37 c0_i32_184
  let v323 : BitVec 32 := Scalar.extui v322
  let v324 : BitVec 32 := Scalar.subi v321 v323
  let c2_i32_182 : BitVec 32 := 2#32
  let c0_i32_185 : BitVec 32 := 0#32
  let v325 : BitVec 1 := Scalar.cmpi .sgt c2_i32_182 c0_i32_185
  let v326 : BitVec 32 := Scalar.extui v325
  let c0_i32_186 : BitVec 32 := 0#32
  let v327 : BitVec 1 := Scalar.cmpi .slt c2_i32_182 c0_i32_186
  let v328 : BitVec 32 := Scalar.extui v327
  let v329 : BitVec 32 := Scalar.subi v326 v328
  let v330 : BitVec 1 := Scalar.cmpi .ne v324 v329
  let v331 : BitVec 32 := Scalar.remsi v37 c2_i32_182
  let c0_i32_187 : BitVec 32 := 0#32
  let v332 : BitVec 1 := Scalar.cmpi .ne v331 c0_i32_187
  let v333 : BitVec 1 := Scalar.andi v330 v332
  let v319 : BitVec 32 := Scalar.divsi v37 c2_i32_182
  let c1_i32_188 : BitVec 32 := 1#32
  let v334 : BitVec 32 := Scalar.subi v319 c1_i32_188
  let v335 : BitVec 32 := Scalar.select v333 v334 v319
  let c2_i32_189 : BitVec 32 := 2#32
  let c0_i32_190 : BitVec 32 := 0#32
  let v336 : BitVec 1 := Scalar.cmpi .eq c2_i32_189 c0_i32_190
  let c1_i32_191 : BitVec 32 := 1#32
  let v337 : BitVec 32 := Scalar.select v336 c1_i32_191 c2_i32_189
  let v338 : BitVec 32 := Scalar.remsi v335 v337
  let c0_i32_193 : BitVec 32 := 0#32
  let v340 : BitVec 1 := Scalar.cmpi .slt v338 c0_i32_193
  let c0_i32_194 : BitVec 32 := 0#32
  let v341 : BitVec 1 := Scalar.cmpi .slt v337 c0_i32_194
  let v342 : BitVec 1 := Scalar.xori v340 v341
  let c0_i32_192 : BitVec 32 := 0#32
  let v339 : BitVec 1 := Scalar.cmpi .ne v338 c0_i32_192
  let v343 : BitVec 1 := Scalar.andi v342 v339
  let v344 : BitVec 32 := Scalar.addi v338 v337
  let v345 : BitVec 32 := Scalar.select v343 v344 v338
  let c2_i32_207 : BitVec 32 := 2#32
  let v358 : BitVec 32 := Scalar.muli v345 c2_i32_207
  let v359 : BitVec 32 := Scalar.addi v357 v358
  let c2_i32_195 : BitVec 32 := 2#32
  let c0_i32_196 : BitVec 32 := 0#32
  let v346 : BitVec 1 := Scalar.cmpi .eq c2_i32_195 c0_i32_196
  let c1_i32_197 : BitVec 32 := 1#32
  let v347 : BitVec 32 := Scalar.select v346 c1_i32_197 c2_i32_195
  let v348 : BitVec 32 := Scalar.remsi v37 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c1_i32_208 : BitVec 32 := 1#32
  let v360 : BitVec 32 := Scalar.muli v355 c1_i32_208
  let v361 : BitVec 32 := Scalar.addi v359 v360
  v361.toNat
def k0_dev6 (d0 : Dev nD) : Nat :=
  let c0_i32_243 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_213 : BitVec 32 := 0#32
  let v369 : BitVec 1 := Scalar.cmpi .sgt v37 c0_i32_213
  let v370 : BitVec 32 := Scalar.extui v369
  let c0_i32_214 : BitVec 32 := 0#32
  let v371 : BitVec 1 := Scalar.cmpi .slt v37 c0_i32_214
  let v372 : BitVec 32 := Scalar.extui v371
  let v373 : BitVec 32 := Scalar.subi v370 v372
  let c4_i32_212 : BitVec 32 := 4#32
  let c0_i32_215 : BitVec 32 := 0#32
  let v374 : BitVec 1 := Scalar.cmpi .sgt c4_i32_212 c0_i32_215
  let v375 : BitVec 32 := Scalar.extui v374
  let c0_i32_216 : BitVec 32 := 0#32
  let v376 : BitVec 1 := Scalar.cmpi .slt c4_i32_212 c0_i32_216
  let v377 : BitVec 32 := Scalar.extui v376
  let v378 : BitVec 32 := Scalar.subi v375 v377
  let v379 : BitVec 1 := Scalar.cmpi .ne v373 v378
  let v380 : BitVec 32 := Scalar.remsi v37 c4_i32_212
  let c0_i32_217 : BitVec 32 := 0#32
  let v381 : BitVec 1 := Scalar.cmpi .ne v380 c0_i32_217
  let v382 : BitVec 1 := Scalar.andi v379 v381
  let v368 : BitVec 32 := Scalar.divsi v37 c4_i32_212
  let c1_i32_218 : BitVec 32 := 1#32
  let v383 : BitVec 32 := Scalar.subi v368 c1_i32_218
  let v384 : BitVec 32 := Scalar.select v382 v383 v368
  let c4_i32_242 : BitVec 32 := 4#32
  let v422 : BitVec 32 := Scalar.muli v384 c4_i32_242
  let v423 : BitVec 32 := Scalar.addi c0_i32_243 v422
  let c0_i32_220 : BitVec 32 := 0#32
  let v386 : BitVec 1 := Scalar.cmpi .sgt v37 c0_i32_220
  let v387 : BitVec 32 := Scalar.extui v386
  let c0_i32_221 : BitVec 32 := 0#32
  let v388 : BitVec 1 := Scalar.cmpi .slt v37 c0_i32_221
  let v389 : BitVec 32 := Scalar.extui v388
  let v390 : BitVec 32 := Scalar.subi v387 v389
  let c2_i32_219 : BitVec 32 := 2#32
  let c0_i32_222 : BitVec 32 := 0#32
  let v391 : BitVec 1 := Scalar.cmpi .sgt c2_i32_219 c0_i32_222
  let v392 : BitVec 32 := Scalar.extui v391
  let c0_i32_223 : BitVec 32 := 0#32
  let v393 : BitVec 1 := Scalar.cmpi .slt c2_i32_219 c0_i32_223
  let v394 : BitVec 32 := Scalar.extui v393
  let v395 : BitVec 32 := Scalar.subi v392 v394
  let v396 : BitVec 1 := Scalar.cmpi .ne v390 v395
  let v397 : BitVec 32 := Scalar.remsi v37 c2_i32_219
  let c0_i32_224 : BitVec 32 := 0#32
  let v398 : BitVec 1 := Scalar.cmpi .ne v397 c0_i32_224
  let v399 : BitVec 1 := Scalar.andi v396 v398
  let v385 : BitVec 32 := Scalar.divsi v37 c2_i32_219
  let c1_i32_225 : BitVec 32 := 1#32
  let v400 : BitVec 32 := Scalar.subi v385 c1_i32_225
  let v401 : BitVec 32 := Scalar.select v399 v400 v385
  let c2_i32_226 : BitVec 32 := 2#32
  let c0_i32_227 : BitVec 32 := 0#32
  let v402 : BitVec 1 := Scalar.cmpi .eq c2_i32_226 c0_i32_227
  let c1_i32_228 : BitVec 32 := 1#32
  let v403 : BitVec 32 := Scalar.select v402 c1_i32_228 c2_i32_226
  let v404 : BitVec 32 := Scalar.remsi v401 v403
  let c0_i32_230 : BitVec 32 := 0#32
  let v406 : BitVec 1 := Scalar.cmpi .slt v404 c0_i32_230
  let c0_i32_231 : BitVec 32 := 0#32
  let v407 : BitVec 1 := Scalar.cmpi .slt v403 c0_i32_231
  let v408 : BitVec 1 := Scalar.xori v406 v407
  let c0_i32_229 : BitVec 32 := 0#32
  let v405 : BitVec 1 := Scalar.cmpi .ne v404 c0_i32_229
  let v409 : BitVec 1 := Scalar.andi v408 v405
  let v410 : BitVec 32 := Scalar.addi v404 v403
  let v411 : BitVec 32 := Scalar.select v409 v410 v404
  let c2_i32_244 : BitVec 32 := 2#32
  let v424 : BitVec 32 := Scalar.muli v411 c2_i32_244
  let v425 : BitVec 32 := Scalar.addi v423 v424
  let c2_i32_232 : BitVec 32 := 2#32
  let c0_i32_233 : BitVec 32 := 0#32
  let v412 : BitVec 1 := Scalar.cmpi .eq c2_i32_232 c0_i32_233
  let c1_i32_234 : BitVec 32 := 1#32
  let v413 : BitVec 32 := Scalar.select v412 c1_i32_234 c2_i32_232
  let v414 : BitVec 32 := Scalar.remsi v37 v413
  let c0_i32_236 : BitVec 32 := 0#32
  let v416 : BitVec 1 := Scalar.cmpi .slt v414 c0_i32_236
  let c0_i32_237 : BitVec 32 := 0#32
  let v417 : BitVec 1 := Scalar.cmpi .slt v413 c0_i32_237
  let v418 : BitVec 1 := Scalar.xori v416 v417
  let c0_i32_235 : BitVec 32 := 0#32
  let v415 : BitVec 1 := Scalar.cmpi .ne v414 c0_i32_235
  let v419 : BitVec 1 := Scalar.andi v418 v415
  let v420 : BitVec 32 := Scalar.addi v414 v413
  let v421 : BitVec 32 := Scalar.select v419 v420 v414
  let c1_i32_245 : BitVec 32 := 1#32
  let v426 : BitVec 32 := Scalar.muli v421 c1_i32_245
  let v427 : BitVec 32 := Scalar.addi v425 v426
  v427.toNat
def k0_dev7 (d0 : Dev nD) : Nat :=
  let c0_i32_281 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_251 : BitVec 32 := 0#32
  let v436 : BitVec 1 := Scalar.cmpi .sgt v434 c0_i32_251
  let v437 : BitVec 32 := Scalar.extui v436
  let c0_i32_252 : BitVec 32 := 0#32
  let v438 : BitVec 1 := Scalar.cmpi .slt v434 c0_i32_252
  let v439 : BitVec 32 := Scalar.extui v438
  let v440 : BitVec 32 := Scalar.subi v437 v439
  let c4_i32_250 : BitVec 32 := 4#32
  let c0_i32_253 : BitVec 32 := 0#32
  let v441 : BitVec 1 := Scalar.cmpi .sgt c4_i32_250 c0_i32_253
  let v442 : BitVec 32 := Scalar.extui v441
  let c0_i32_254 : BitVec 32 := 0#32
  let v443 : BitVec 1 := Scalar.cmpi .slt c4_i32_250 c0_i32_254
  let v444 : BitVec 32 := Scalar.extui v443
  let v445 : BitVec 32 := Scalar.subi v442 v444
  let v446 : BitVec 1 := Scalar.cmpi .ne v440 v445
  let v447 : BitVec 32 := Scalar.remsi v434 c4_i32_250
  let c0_i32_255 : BitVec 32 := 0#32
  let v448 : BitVec 1 := Scalar.cmpi .ne v447 c0_i32_255
  let v449 : BitVec 1 := Scalar.andi v446 v448
  let v435 : BitVec 32 := Scalar.divsi v434 c4_i32_250
  let c1_i32_256 : BitVec 32 := 1#32
  let v450 : BitVec 32 := Scalar.subi v435 c1_i32_256
  let v451 : BitVec 32 := Scalar.select v449 v450 v435
  let c4_i32_280 : BitVec 32 := 4#32
  let v489 : BitVec 32 := Scalar.muli v451 c4_i32_280
  let v490 : BitVec 32 := Scalar.addi c0_i32_281 v489
  let c0_i32_258 : BitVec 32 := 0#32
  let v453 : BitVec 1 := Scalar.cmpi .sgt v434 c0_i32_258
  let v454 : BitVec 32 := Scalar.extui v453
  let c0_i32_259 : BitVec 32 := 0#32
  let v455 : BitVec 1 := Scalar.cmpi .slt v434 c0_i32_259
  let v456 : BitVec 32 := Scalar.extui v455
  let v457 : BitVec 32 := Scalar.subi v454 v456
  let c2_i32_257 : BitVec 32 := 2#32
  let c0_i32_260 : BitVec 32 := 0#32
  let v458 : BitVec 1 := Scalar.cmpi .sgt c2_i32_257 c0_i32_260
  let v459 : BitVec 32 := Scalar.extui v458
  let c0_i32_261 : BitVec 32 := 0#32
  let v460 : BitVec 1 := Scalar.cmpi .slt c2_i32_257 c0_i32_261
  let v461 : BitVec 32 := Scalar.extui v460
  let v462 : BitVec 32 := Scalar.subi v459 v461
  let v463 : BitVec 1 := Scalar.cmpi .ne v457 v462
  let v464 : BitVec 32 := Scalar.remsi v434 c2_i32_257
  let c0_i32_262 : BitVec 32 := 0#32
  let v465 : BitVec 1 := Scalar.cmpi .ne v464 c0_i32_262
  let v466 : BitVec 1 := Scalar.andi v463 v465
  let v452 : BitVec 32 := Scalar.divsi v434 c2_i32_257
  let c1_i32_263 : BitVec 32 := 1#32
  let v467 : BitVec 32 := Scalar.subi v452 c1_i32_263
  let v468 : BitVec 32 := Scalar.select v466 v467 v452
  let c2_i32_264 : BitVec 32 := 2#32
  let c0_i32_265 : BitVec 32 := 0#32
  let v469 : BitVec 1 := Scalar.cmpi .eq c2_i32_264 c0_i32_265
  let c1_i32_266 : BitVec 32 := 1#32
  let v470 : BitVec 32 := Scalar.select v469 c1_i32_266 c2_i32_264
  let v471 : BitVec 32 := Scalar.remsi v468 v470
  let c0_i32_268 : BitVec 32 := 0#32
  let v473 : BitVec 1 := Scalar.cmpi .slt v471 c0_i32_268
  let c0_i32_269 : BitVec 32 := 0#32
  let v474 : BitVec 1 := Scalar.cmpi .slt v470 c0_i32_269
  let v475 : BitVec 1 := Scalar.xori v473 v474
  let c0_i32_267 : BitVec 32 := 0#32
  let v472 : BitVec 1 := Scalar.cmpi .ne v471 c0_i32_267
  let v476 : BitVec 1 := Scalar.andi v475 v472
  let v477 : BitVec 32 := Scalar.addi v471 v470
  let v478 : BitVec 32 := Scalar.select v476 v477 v471
  let c2_i32_282 : BitVec 32 := 2#32
  let v491 : BitVec 32 := Scalar.muli v478 c2_i32_282
  let v492 : BitVec 32 := Scalar.addi v490 v491
  let c2_i32_270 : BitVec 32 := 2#32
  let c0_i32_271 : BitVec 32 := 0#32
  let v479 : BitVec 1 := Scalar.cmpi .eq c2_i32_270 c0_i32_271
  let c1_i32_272 : BitVec 32 := 1#32
  let v480 : BitVec 32 := Scalar.select v479 c1_i32_272 c2_i32_270
  let v481 : BitVec 32 := Scalar.remsi v434 v480
  let c0_i32_274 : BitVec 32 := 0#32
  let v483 : BitVec 1 := Scalar.cmpi .slt v481 c0_i32_274
  let c0_i32_275 : BitVec 32 := 0#32
  let v484 : BitVec 1 := Scalar.cmpi .slt v480 c0_i32_275
  let v485 : BitVec 1 := Scalar.xori v483 v484
  let c0_i32_273 : BitVec 32 := 0#32
  let v482 : BitVec 1 := Scalar.cmpi .ne v481 c0_i32_273
  let v486 : BitVec 1 := Scalar.andi v485 v482
  let v487 : BitVec 32 := Scalar.addi v481 v480
  let v488 : BitVec 32 := Scalar.select v486 v487 v481
  let c1_i32_283 : BitVec 32 := 1#32
  let v493 : BitVec 32 := Scalar.muli v488 c1_i32_283
  let v494 : BitVec 32 := Scalar.addi v492 v493
  v494.toNat
def k0_dev8 (d0 : Dev nD) : Nat :=
  let c0_i32_318 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_288 : BitVec 32 := 0#32
  let v502 : BitVec 1 := Scalar.cmpi .sgt v434 c0_i32_288
  let v503 : BitVec 32 := Scalar.extui v502
  let c0_i32_289 : BitVec 32 := 0#32
  let v504 : BitVec 1 := Scalar.cmpi .slt v434 c0_i32_289
  let v505 : BitVec 32 := Scalar.extui v504
  let v506 : BitVec 32 := Scalar.subi v503 v505
  let c4_i32_287 : BitVec 32 := 4#32
  let c0_i32_290 : BitVec 32 := 0#32
  let v507 : BitVec 1 := Scalar.cmpi .sgt c4_i32_287 c0_i32_290
  let v508 : BitVec 32 := Scalar.extui v507
  let c0_i32_291 : BitVec 32 := 0#32
  let v509 : BitVec 1 := Scalar.cmpi .slt c4_i32_287 c0_i32_291
  let v510 : BitVec 32 := Scalar.extui v509
  let v511 : BitVec 32 := Scalar.subi v508 v510
  let v512 : BitVec 1 := Scalar.cmpi .ne v506 v511
  let v513 : BitVec 32 := Scalar.remsi v434 c4_i32_287
  let c0_i32_292 : BitVec 32 := 0#32
  let v514 : BitVec 1 := Scalar.cmpi .ne v513 c0_i32_292
  let v515 : BitVec 1 := Scalar.andi v512 v514
  let v501 : BitVec 32 := Scalar.divsi v434 c4_i32_287
  let c1_i32_293 : BitVec 32 := 1#32
  let v516 : BitVec 32 := Scalar.subi v501 c1_i32_293
  let v517 : BitVec 32 := Scalar.select v515 v516 v501
  let c4_i32_317 : BitVec 32 := 4#32
  let v555 : BitVec 32 := Scalar.muli v517 c4_i32_317
  let v556 : BitVec 32 := Scalar.addi c0_i32_318 v555
  let c0_i32_295 : BitVec 32 := 0#32
  let v519 : BitVec 1 := Scalar.cmpi .sgt v434 c0_i32_295
  let v520 : BitVec 32 := Scalar.extui v519
  let c0_i32_296 : BitVec 32 := 0#32
  let v521 : BitVec 1 := Scalar.cmpi .slt v434 c0_i32_296
  let v522 : BitVec 32 := Scalar.extui v521
  let v523 : BitVec 32 := Scalar.subi v520 v522
  let c2_i32_294 : BitVec 32 := 2#32
  let c0_i32_297 : BitVec 32 := 0#32
  let v524 : BitVec 1 := Scalar.cmpi .sgt c2_i32_294 c0_i32_297
  let v525 : BitVec 32 := Scalar.extui v524
  let c0_i32_298 : BitVec 32 := 0#32
  let v526 : BitVec 1 := Scalar.cmpi .slt c2_i32_294 c0_i32_298
  let v527 : BitVec 32 := Scalar.extui v526
  let v528 : BitVec 32 := Scalar.subi v525 v527
  let v529 : BitVec 1 := Scalar.cmpi .ne v523 v528
  let v530 : BitVec 32 := Scalar.remsi v434 c2_i32_294
  let c0_i32_299 : BitVec 32 := 0#32
  let v531 : BitVec 1 := Scalar.cmpi .ne v530 c0_i32_299
  let v532 : BitVec 1 := Scalar.andi v529 v531
  let v518 : BitVec 32 := Scalar.divsi v434 c2_i32_294
  let c1_i32_300 : BitVec 32 := 1#32
  let v533 : BitVec 32 := Scalar.subi v518 c1_i32_300
  let v534 : BitVec 32 := Scalar.select v532 v533 v518
  let c2_i32_301 : BitVec 32 := 2#32
  let c0_i32_302 : BitVec 32 := 0#32
  let v535 : BitVec 1 := Scalar.cmpi .eq c2_i32_301 c0_i32_302
  let c1_i32_303 : BitVec 32 := 1#32
  let v536 : BitVec 32 := Scalar.select v535 c1_i32_303 c2_i32_301
  let v537 : BitVec 32 := Scalar.remsi v534 v536
  let c0_i32_305 : BitVec 32 := 0#32
  let v539 : BitVec 1 := Scalar.cmpi .slt v537 c0_i32_305
  let c0_i32_306 : BitVec 32 := 0#32
  let v540 : BitVec 1 := Scalar.cmpi .slt v536 c0_i32_306
  let v541 : BitVec 1 := Scalar.xori v539 v540
  let c0_i32_304 : BitVec 32 := 0#32
  let v538 : BitVec 1 := Scalar.cmpi .ne v537 c0_i32_304
  let v542 : BitVec 1 := Scalar.andi v541 v538
  let v543 : BitVec 32 := Scalar.addi v537 v536
  let v544 : BitVec 32 := Scalar.select v542 v543 v537
  let c2_i32_319 : BitVec 32 := 2#32
  let v557 : BitVec 32 := Scalar.muli v544 c2_i32_319
  let v558 : BitVec 32 := Scalar.addi v556 v557
  let c2_i32_307 : BitVec 32 := 2#32
  let c0_i32_308 : BitVec 32 := 0#32
  let v545 : BitVec 1 := Scalar.cmpi .eq c2_i32_307 c0_i32_308
  let c1_i32_309 : BitVec 32 := 1#32
  let v546 : BitVec 32 := Scalar.select v545 c1_i32_309 c2_i32_307
  let v547 : BitVec 32 := Scalar.remsi v434 v546
  let c0_i32_311 : BitVec 32 := 0#32
  let v549 : BitVec 1 := Scalar.cmpi .slt v547 c0_i32_311
  let c0_i32_312 : BitVec 32 := 0#32
  let v550 : BitVec 1 := Scalar.cmpi .slt v546 c0_i32_312
  let v551 : BitVec 1 := Scalar.xori v549 v550
  let c0_i32_310 : BitVec 32 := 0#32
  let v548 : BitVec 1 := Scalar.cmpi .ne v547 c0_i32_310
  let v552 : BitVec 1 := Scalar.andi v551 v548
  let v553 : BitVec 32 := Scalar.addi v547 v546
  let v554 : BitVec 32 := Scalar.select v552 v553 v547
  let c1_i32_320 : BitVec 32 := 1#32
  let v559 : BitVec 32 := Scalar.muli v554 c1_i32_320
  let v560 : BitVec 32 := Scalar.addi v558 v559
  v560.toNat
def k0_dev9 (d0 : Dev nD) : Nat :=
  let c0_i32_355 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_325 : BitVec 32 := 0#32
  let v568 : BitVec 1 := Scalar.cmpi .sgt v434 c0_i32_325
  let v569 : BitVec 32 := Scalar.extui v568
  let c0_i32_326 : BitVec 32 := 0#32
  let v570 : BitVec 1 := Scalar.cmpi .slt v434 c0_i32_326
  let v571 : BitVec 32 := Scalar.extui v570
  let v572 : BitVec 32 := Scalar.subi v569 v571
  let c4_i32_324 : BitVec 32 := 4#32
  let c0_i32_327 : BitVec 32 := 0#32
  let v573 : BitVec 1 := Scalar.cmpi .sgt c4_i32_324 c0_i32_327
  let v574 : BitVec 32 := Scalar.extui v573
  let c0_i32_328 : BitVec 32 := 0#32
  let v575 : BitVec 1 := Scalar.cmpi .slt c4_i32_324 c0_i32_328
  let v576 : BitVec 32 := Scalar.extui v575
  let v577 : BitVec 32 := Scalar.subi v574 v576
  let v578 : BitVec 1 := Scalar.cmpi .ne v572 v577
  let v579 : BitVec 32 := Scalar.remsi v434 c4_i32_324
  let c0_i32_329 : BitVec 32 := 0#32
  let v580 : BitVec 1 := Scalar.cmpi .ne v579 c0_i32_329
  let v581 : BitVec 1 := Scalar.andi v578 v580
  let v567 : BitVec 32 := Scalar.divsi v434 c4_i32_324
  let c1_i32_330 : BitVec 32 := 1#32
  let v582 : BitVec 32 := Scalar.subi v567 c1_i32_330
  let v583 : BitVec 32 := Scalar.select v581 v582 v567
  let c4_i32_354 : BitVec 32 := 4#32
  let v621 : BitVec 32 := Scalar.muli v583 c4_i32_354
  let v622 : BitVec 32 := Scalar.addi c0_i32_355 v621
  let c0_i32_332 : BitVec 32 := 0#32
  let v585 : BitVec 1 := Scalar.cmpi .sgt v434 c0_i32_332
  let v586 : BitVec 32 := Scalar.extui v585
  let c0_i32_333 : BitVec 32 := 0#32
  let v587 : BitVec 1 := Scalar.cmpi .slt v434 c0_i32_333
  let v588 : BitVec 32 := Scalar.extui v587
  let v589 : BitVec 32 := Scalar.subi v586 v588
  let c2_i32_331 : BitVec 32 := 2#32
  let c0_i32_334 : BitVec 32 := 0#32
  let v590 : BitVec 1 := Scalar.cmpi .sgt c2_i32_331 c0_i32_334
  let v591 : BitVec 32 := Scalar.extui v590
  let c0_i32_335 : BitVec 32 := 0#32
  let v592 : BitVec 1 := Scalar.cmpi .slt c2_i32_331 c0_i32_335
  let v593 : BitVec 32 := Scalar.extui v592
  let v594 : BitVec 32 := Scalar.subi v591 v593
  let v595 : BitVec 1 := Scalar.cmpi .ne v589 v594
  let v596 : BitVec 32 := Scalar.remsi v434 c2_i32_331
  let c0_i32_336 : BitVec 32 := 0#32
  let v597 : BitVec 1 := Scalar.cmpi .ne v596 c0_i32_336
  let v598 : BitVec 1 := Scalar.andi v595 v597
  let v584 : BitVec 32 := Scalar.divsi v434 c2_i32_331
  let c1_i32_337 : BitVec 32 := 1#32
  let v599 : BitVec 32 := Scalar.subi v584 c1_i32_337
  let v600 : BitVec 32 := Scalar.select v598 v599 v584
  let c2_i32_338 : BitVec 32 := 2#32
  let c0_i32_339 : BitVec 32 := 0#32
  let v601 : BitVec 1 := Scalar.cmpi .eq c2_i32_338 c0_i32_339
  let c1_i32_340 : BitVec 32 := 1#32
  let v602 : BitVec 32 := Scalar.select v601 c1_i32_340 c2_i32_338
  let v603 : BitVec 32 := Scalar.remsi v600 v602
  let c0_i32_342 : BitVec 32 := 0#32
  let v605 : BitVec 1 := Scalar.cmpi .slt v603 c0_i32_342
  let c0_i32_343 : BitVec 32 := 0#32
  let v606 : BitVec 1 := Scalar.cmpi .slt v602 c0_i32_343
  let v607 : BitVec 1 := Scalar.xori v605 v606
  let c0_i32_341 : BitVec 32 := 0#32
  let v604 : BitVec 1 := Scalar.cmpi .ne v603 c0_i32_341
  let v608 : BitVec 1 := Scalar.andi v607 v604
  let v609 : BitVec 32 := Scalar.addi v603 v602
  let v610 : BitVec 32 := Scalar.select v608 v609 v603
  let c2_i32_356 : BitVec 32 := 2#32
  let v623 : BitVec 32 := Scalar.muli v610 c2_i32_356
  let v624 : BitVec 32 := Scalar.addi v622 v623
  let c2_i32_344 : BitVec 32 := 2#32
  let c0_i32_345 : BitVec 32 := 0#32
  let v611 : BitVec 1 := Scalar.cmpi .eq c2_i32_344 c0_i32_345
  let c1_i32_346 : BitVec 32 := 1#32
  let v612 : BitVec 32 := Scalar.select v611 c1_i32_346 c2_i32_344
  let v613 : BitVec 32 := Scalar.remsi v434 v612
  let c0_i32_348 : BitVec 32 := 0#32
  let v615 : BitVec 1 := Scalar.cmpi .slt v613 c0_i32_348
  let c0_i32_349 : BitVec 32 := 0#32
  let v616 : BitVec 1 := Scalar.cmpi .slt v612 c0_i32_349
  let v617 : BitVec 1 := Scalar.xori v615 v616
  let c0_i32_347 : BitVec 32 := 0#32
  let v614 : BitVec 1 := Scalar.cmpi .ne v613 c0_i32_347
  let v618 : BitVec 1 := Scalar.andi v617 v614
  let v619 : BitVec 32 := Scalar.addi v613 v612
  let v620 : BitVec 32 := Scalar.select v618 v619 v613
  let c1_i32_357 : BitVec 32 := 1#32
  let v625 : BitVec 32 := Scalar.muli v620 c1_i32_357
  let v626 : BitVec 32 := Scalar.addi v624 v625
  v626.toNat
def k0_dev10 (d0 : Dev nD) : Nat :=
  let c0_i32_392 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_362 : BitVec 32 := 0#32
  let v634 : BitVec 1 := Scalar.cmpi .sgt v434 c0_i32_362
  let v635 : BitVec 32 := Scalar.extui v634
  let c0_i32_363 : BitVec 32 := 0#32
  let v636 : BitVec 1 := Scalar.cmpi .slt v434 c0_i32_363
  let v637 : BitVec 32 := Scalar.extui v636
  let v638 : BitVec 32 := Scalar.subi v635 v637
  let c4_i32_361 : BitVec 32 := 4#32
  let c0_i32_364 : BitVec 32 := 0#32
  let v639 : BitVec 1 := Scalar.cmpi .sgt c4_i32_361 c0_i32_364
  let v640 : BitVec 32 := Scalar.extui v639
  let c0_i32_365 : BitVec 32 := 0#32
  let v641 : BitVec 1 := Scalar.cmpi .slt c4_i32_361 c0_i32_365
  let v642 : BitVec 32 := Scalar.extui v641
  let v643 : BitVec 32 := Scalar.subi v640 v642
  let v644 : BitVec 1 := Scalar.cmpi .ne v638 v643
  let v645 : BitVec 32 := Scalar.remsi v434 c4_i32_361
  let c0_i32_366 : BitVec 32 := 0#32
  let v646 : BitVec 1 := Scalar.cmpi .ne v645 c0_i32_366
  let v647 : BitVec 1 := Scalar.andi v644 v646
  let v633 : BitVec 32 := Scalar.divsi v434 c4_i32_361
  let c1_i32_367 : BitVec 32 := 1#32
  let v648 : BitVec 32 := Scalar.subi v633 c1_i32_367
  let v649 : BitVec 32 := Scalar.select v647 v648 v633
  let c4_i32_391 : BitVec 32 := 4#32
  let v687 : BitVec 32 := Scalar.muli v649 c4_i32_391
  let v688 : BitVec 32 := Scalar.addi c0_i32_392 v687
  let c0_i32_369 : BitVec 32 := 0#32
  let v651 : BitVec 1 := Scalar.cmpi .sgt v434 c0_i32_369
  let v652 : BitVec 32 := Scalar.extui v651
  let c0_i32_370 : BitVec 32 := 0#32
  let v653 : BitVec 1 := Scalar.cmpi .slt v434 c0_i32_370
  let v654 : BitVec 32 := Scalar.extui v653
  let v655 : BitVec 32 := Scalar.subi v652 v654
  let c2_i32_368 : BitVec 32 := 2#32
  let c0_i32_371 : BitVec 32 := 0#32
  let v656 : BitVec 1 := Scalar.cmpi .sgt c2_i32_368 c0_i32_371
  let v657 : BitVec 32 := Scalar.extui v656
  let c0_i32_372 : BitVec 32 := 0#32
  let v658 : BitVec 1 := Scalar.cmpi .slt c2_i32_368 c0_i32_372
  let v659 : BitVec 32 := Scalar.extui v658
  let v660 : BitVec 32 := Scalar.subi v657 v659
  let v661 : BitVec 1 := Scalar.cmpi .ne v655 v660
  let v662 : BitVec 32 := Scalar.remsi v434 c2_i32_368
  let c0_i32_373 : BitVec 32 := 0#32
  let v663 : BitVec 1 := Scalar.cmpi .ne v662 c0_i32_373
  let v664 : BitVec 1 := Scalar.andi v661 v663
  let v650 : BitVec 32 := Scalar.divsi v434 c2_i32_368
  let c1_i32_374 : BitVec 32 := 1#32
  let v665 : BitVec 32 := Scalar.subi v650 c1_i32_374
  let v666 : BitVec 32 := Scalar.select v664 v665 v650
  let c2_i32_375 : BitVec 32 := 2#32
  let c0_i32_376 : BitVec 32 := 0#32
  let v667 : BitVec 1 := Scalar.cmpi .eq c2_i32_375 c0_i32_376
  let c1_i32_377 : BitVec 32 := 1#32
  let v668 : BitVec 32 := Scalar.select v667 c1_i32_377 c2_i32_375
  let v669 : BitVec 32 := Scalar.remsi v666 v668
  let c0_i32_379 : BitVec 32 := 0#32
  let v671 : BitVec 1 := Scalar.cmpi .slt v669 c0_i32_379
  let c0_i32_380 : BitVec 32 := 0#32
  let v672 : BitVec 1 := Scalar.cmpi .slt v668 c0_i32_380
  let v673 : BitVec 1 := Scalar.xori v671 v672
  let c0_i32_378 : BitVec 32 := 0#32
  let v670 : BitVec 1 := Scalar.cmpi .ne v669 c0_i32_378
  let v674 : BitVec 1 := Scalar.andi v673 v670
  let v675 : BitVec 32 := Scalar.addi v669 v668
  let v676 : BitVec 32 := Scalar.select v674 v675 v669
  let c2_i32_393 : BitVec 32 := 2#32
  let v689 : BitVec 32 := Scalar.muli v676 c2_i32_393
  let v690 : BitVec 32 := Scalar.addi v688 v689
  let c2_i32_381 : BitVec 32 := 2#32
  let c0_i32_382 : BitVec 32 := 0#32
  let v677 : BitVec 1 := Scalar.cmpi .eq c2_i32_381 c0_i32_382
  let c1_i32_383 : BitVec 32 := 1#32
  let v678 : BitVec 32 := Scalar.select v677 c1_i32_383 c2_i32_381
  let v679 : BitVec 32 := Scalar.remsi v434 v678
  let c0_i32_385 : BitVec 32 := 0#32
  let v681 : BitVec 1 := Scalar.cmpi .slt v679 c0_i32_385
  let c0_i32_386 : BitVec 32 := 0#32
  let v682 : BitVec 1 := Scalar.cmpi .slt v678 c0_i32_386
  let v683 : BitVec 1 := Scalar.xori v681 v682
  let c0_i32_384 : BitVec 32 := 0#32
  let v680 : BitVec 1 := Scalar.cmpi .ne v679 c0_i32_384
  let v684 : BitVec 1 := Scalar.andi v683 v680
  let v685 : BitVec 32 := Scalar.addi v679 v678
  let v686 : BitVec 32 := Scalar.select v684 v685 v679
  let c1_i32_394 : BitVec 32 := 1#32
  let v691 : BitVec 32 := Scalar.muli v686 c1_i32_394
  let v692 : BitVec 32 := Scalar.addi v690 v691
  v692.toNat
def k0_dev11 (d0 : Dev nD) : Nat :=
  let c0_i32_429 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_399 : BitVec 32 := 0#32
  let v700 : BitVec 1 := Scalar.cmpi .sgt v434 c0_i32_399
  let v701 : BitVec 32 := Scalar.extui v700
  let c0_i32_400 : BitVec 32 := 0#32
  let v702 : BitVec 1 := Scalar.cmpi .slt v434 c0_i32_400
  let v703 : BitVec 32 := Scalar.extui v702
  let v704 : BitVec 32 := Scalar.subi v701 v703
  let c4_i32_398 : BitVec 32 := 4#32
  let c0_i32_401 : BitVec 32 := 0#32
  let v705 : BitVec 1 := Scalar.cmpi .sgt c4_i32_398 c0_i32_401
  let v706 : BitVec 32 := Scalar.extui v705
  let c0_i32_402 : BitVec 32 := 0#32
  let v707 : BitVec 1 := Scalar.cmpi .slt c4_i32_398 c0_i32_402
  let v708 : BitVec 32 := Scalar.extui v707
  let v709 : BitVec 32 := Scalar.subi v706 v708
  let v710 : BitVec 1 := Scalar.cmpi .ne v704 v709
  let v711 : BitVec 32 := Scalar.remsi v434 c4_i32_398
  let c0_i32_403 : BitVec 32 := 0#32
  let v712 : BitVec 1 := Scalar.cmpi .ne v711 c0_i32_403
  let v713 : BitVec 1 := Scalar.andi v710 v712
  let v699 : BitVec 32 := Scalar.divsi v434 c4_i32_398
  let c1_i32_404 : BitVec 32 := 1#32
  let v714 : BitVec 32 := Scalar.subi v699 c1_i32_404
  let v715 : BitVec 32 := Scalar.select v713 v714 v699
  let c4_i32_428 : BitVec 32 := 4#32
  let v753 : BitVec 32 := Scalar.muli v715 c4_i32_428
  let v754 : BitVec 32 := Scalar.addi c0_i32_429 v753
  let c0_i32_406 : BitVec 32 := 0#32
  let v717 : BitVec 1 := Scalar.cmpi .sgt v434 c0_i32_406
  let v718 : BitVec 32 := Scalar.extui v717
  let c0_i32_407 : BitVec 32 := 0#32
  let v719 : BitVec 1 := Scalar.cmpi .slt v434 c0_i32_407
  let v720 : BitVec 32 := Scalar.extui v719
  let v721 : BitVec 32 := Scalar.subi v718 v720
  let c2_i32_405 : BitVec 32 := 2#32
  let c0_i32_408 : BitVec 32 := 0#32
  let v722 : BitVec 1 := Scalar.cmpi .sgt c2_i32_405 c0_i32_408
  let v723 : BitVec 32 := Scalar.extui v722
  let c0_i32_409 : BitVec 32 := 0#32
  let v724 : BitVec 1 := Scalar.cmpi .slt c2_i32_405 c0_i32_409
  let v725 : BitVec 32 := Scalar.extui v724
  let v726 : BitVec 32 := Scalar.subi v723 v725
  let v727 : BitVec 1 := Scalar.cmpi .ne v721 v726
  let v728 : BitVec 32 := Scalar.remsi v434 c2_i32_405
  let c0_i32_410 : BitVec 32 := 0#32
  let v729 : BitVec 1 := Scalar.cmpi .ne v728 c0_i32_410
  let v730 : BitVec 1 := Scalar.andi v727 v729
  let v716 : BitVec 32 := Scalar.divsi v434 c2_i32_405
  let c1_i32_411 : BitVec 32 := 1#32
  let v731 : BitVec 32 := Scalar.subi v716 c1_i32_411
  let v732 : BitVec 32 := Scalar.select v730 v731 v716
  let c2_i32_412 : BitVec 32 := 2#32
  let c0_i32_413 : BitVec 32 := 0#32
  let v733 : BitVec 1 := Scalar.cmpi .eq c2_i32_412 c0_i32_413
  let c1_i32_414 : BitVec 32 := 1#32
  let v734 : BitVec 32 := Scalar.select v733 c1_i32_414 c2_i32_412
  let v735 : BitVec 32 := Scalar.remsi v732 v734
  let c0_i32_416 : BitVec 32 := 0#32
  let v737 : BitVec 1 := Scalar.cmpi .slt v735 c0_i32_416
  let c0_i32_417 : BitVec 32 := 0#32
  let v738 : BitVec 1 := Scalar.cmpi .slt v734 c0_i32_417
  let v739 : BitVec 1 := Scalar.xori v737 v738
  let c0_i32_415 : BitVec 32 := 0#32
  let v736 : BitVec 1 := Scalar.cmpi .ne v735 c0_i32_415
  let v740 : BitVec 1 := Scalar.andi v739 v736
  let v741 : BitVec 32 := Scalar.addi v735 v734
  let v742 : BitVec 32 := Scalar.select v740 v741 v735
  let c2_i32_430 : BitVec 32 := 2#32
  let v755 : BitVec 32 := Scalar.muli v742 c2_i32_430
  let v756 : BitVec 32 := Scalar.addi v754 v755
  let c2_i32_418 : BitVec 32 := 2#32
  let c0_i32_419 : BitVec 32 := 0#32
  let v743 : BitVec 1 := Scalar.cmpi .eq c2_i32_418 c0_i32_419
  let c1_i32_420 : BitVec 32 := 1#32
  let v744 : BitVec 32 := Scalar.select v743 c1_i32_420 c2_i32_418
  let v745 : BitVec 32 := Scalar.remsi v434 v744
  let c0_i32_422 : BitVec 32 := 0#32
  let v747 : BitVec 1 := Scalar.cmpi .slt v745 c0_i32_422
  let c0_i32_423 : BitVec 32 := 0#32
  let v748 : BitVec 1 := Scalar.cmpi .slt v744 c0_i32_423
  let v749 : BitVec 1 := Scalar.xori v747 v748
  let c0_i32_421 : BitVec 32 := 0#32
  let v746 : BitVec 1 := Scalar.cmpi .ne v745 c0_i32_421
  let v750 : BitVec 1 := Scalar.andi v749 v746
  let v751 : BitVec 32 := Scalar.addi v745 v744
  let v752 : BitVec 32 := Scalar.select v750 v751 v745
  let c1_i32_431 : BitVec 32 := 1#32
  let v757 : BitVec 32 := Scalar.muli v752 c1_i32_431
  let v758 : BitVec 32 := Scalar.addi v756 v757
  v758.toNat
def k0_dev12 (d0 : Dev nD) : Nat :=
  let c0_i32_466 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_436 : BitVec 32 := 0#32
  let v766 : BitVec 1 := Scalar.cmpi .sgt v434 c0_i32_436
  let v767 : BitVec 32 := Scalar.extui v766
  let c0_i32_437 : BitVec 32 := 0#32
  let v768 : BitVec 1 := Scalar.cmpi .slt v434 c0_i32_437
  let v769 : BitVec 32 := Scalar.extui v768
  let v770 : BitVec 32 := Scalar.subi v767 v769
  let c4_i32_435 : BitVec 32 := 4#32
  let c0_i32_438 : BitVec 32 := 0#32
  let v771 : BitVec 1 := Scalar.cmpi .sgt c4_i32_435 c0_i32_438
  let v772 : BitVec 32 := Scalar.extui v771
  let c0_i32_439 : BitVec 32 := 0#32
  let v773 : BitVec 1 := Scalar.cmpi .slt c4_i32_435 c0_i32_439
  let v774 : BitVec 32 := Scalar.extui v773
  let v775 : BitVec 32 := Scalar.subi v772 v774
  let v776 : BitVec 1 := Scalar.cmpi .ne v770 v775
  let v777 : BitVec 32 := Scalar.remsi v434 c4_i32_435
  let c0_i32_440 : BitVec 32 := 0#32
  let v778 : BitVec 1 := Scalar.cmpi .ne v777 c0_i32_440
  let v779 : BitVec 1 := Scalar.andi v776 v778
  let v765 : BitVec 32 := Scalar.divsi v434 c4_i32_435
  let c1_i32_441 : BitVec 32 := 1#32
  let v780 : BitVec 32 := Scalar.subi v765 c1_i32_441
  let v781 : BitVec 32 := Scalar.select v779 v780 v765
  let c4_i32_465 : BitVec 32 := 4#32
  let v819 : BitVec 32 := Scalar.muli v781 c4_i32_465
  let v820 : BitVec 32 := Scalar.addi c0_i32_466 v819
  let c0_i32_443 : BitVec 32 := 0#32
  let v783 : BitVec 1 := Scalar.cmpi .sgt v434 c0_i32_443
  let v784 : BitVec 32 := Scalar.extui v783
  let c0_i32_444 : BitVec 32 := 0#32
  let v785 : BitVec 1 := Scalar.cmpi .slt v434 c0_i32_444
  let v786 : BitVec 32 := Scalar.extui v785
  let v787 : BitVec 32 := Scalar.subi v784 v786
  let c2_i32_442 : BitVec 32 := 2#32
  let c0_i32_445 : BitVec 32 := 0#32
  let v788 : BitVec 1 := Scalar.cmpi .sgt c2_i32_442 c0_i32_445
  let v789 : BitVec 32 := Scalar.extui v788
  let c0_i32_446 : BitVec 32 := 0#32
  let v790 : BitVec 1 := Scalar.cmpi .slt c2_i32_442 c0_i32_446
  let v791 : BitVec 32 := Scalar.extui v790
  let v792 : BitVec 32 := Scalar.subi v789 v791
  let v793 : BitVec 1 := Scalar.cmpi .ne v787 v792
  let v794 : BitVec 32 := Scalar.remsi v434 c2_i32_442
  let c0_i32_447 : BitVec 32 := 0#32
  let v795 : BitVec 1 := Scalar.cmpi .ne v794 c0_i32_447
  let v796 : BitVec 1 := Scalar.andi v793 v795
  let v782 : BitVec 32 := Scalar.divsi v434 c2_i32_442
  let c1_i32_448 : BitVec 32 := 1#32
  let v797 : BitVec 32 := Scalar.subi v782 c1_i32_448
  let v798 : BitVec 32 := Scalar.select v796 v797 v782
  let c2_i32_449 : BitVec 32 := 2#32
  let c0_i32_450 : BitVec 32 := 0#32
  let v799 : BitVec 1 := Scalar.cmpi .eq c2_i32_449 c0_i32_450
  let c1_i32_451 : BitVec 32 := 1#32
  let v800 : BitVec 32 := Scalar.select v799 c1_i32_451 c2_i32_449
  let v801 : BitVec 32 := Scalar.remsi v798 v800
  let c0_i32_453 : BitVec 32 := 0#32
  let v803 : BitVec 1 := Scalar.cmpi .slt v801 c0_i32_453
  let c0_i32_454 : BitVec 32 := 0#32
  let v804 : BitVec 1 := Scalar.cmpi .slt v800 c0_i32_454
  let v805 : BitVec 1 := Scalar.xori v803 v804
  let c0_i32_452 : BitVec 32 := 0#32
  let v802 : BitVec 1 := Scalar.cmpi .ne v801 c0_i32_452
  let v806 : BitVec 1 := Scalar.andi v805 v802
  let v807 : BitVec 32 := Scalar.addi v801 v800
  let v808 : BitVec 32 := Scalar.select v806 v807 v801
  let c2_i32_467 : BitVec 32 := 2#32
  let v821 : BitVec 32 := Scalar.muli v808 c2_i32_467
  let v822 : BitVec 32 := Scalar.addi v820 v821
  let c2_i32_455 : BitVec 32 := 2#32
  let c0_i32_456 : BitVec 32 := 0#32
  let v809 : BitVec 1 := Scalar.cmpi .eq c2_i32_455 c0_i32_456
  let c1_i32_457 : BitVec 32 := 1#32
  let v810 : BitVec 32 := Scalar.select v809 c1_i32_457 c2_i32_455
  let v811 : BitVec 32 := Scalar.remsi v434 v810
  let c0_i32_459 : BitVec 32 := 0#32
  let v813 : BitVec 1 := Scalar.cmpi .slt v811 c0_i32_459
  let c0_i32_460 : BitVec 32 := 0#32
  let v814 : BitVec 1 := Scalar.cmpi .slt v810 c0_i32_460
  let v815 : BitVec 1 := Scalar.xori v813 v814
  let c0_i32_458 : BitVec 32 := 0#32
  let v812 : BitVec 1 := Scalar.cmpi .ne v811 c0_i32_458
  let v816 : BitVec 1 := Scalar.andi v815 v812
  let v817 : BitVec 32 := Scalar.addi v811 v810
  let v818 : BitVec 32 := Scalar.select v816 v817 v811
  let c1_i32_468 : BitVec 32 := 1#32
  let v823 : BitVec 32 := Scalar.muli v818 c1_i32_468
  let v824 : BitVec 32 := Scalar.addi v822 v823
  v824.toNat
def k0_dev13 (d0 : Dev nD) : Nat :=
  let c0_i32_504 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_474 : BitVec 32 := 0#32
  let v833 : BitVec 1 := Scalar.cmpi .sgt v831 c0_i32_474
  let v834 : BitVec 32 := Scalar.extui v833
  let c0_i32_475 : BitVec 32 := 0#32
  let v835 : BitVec 1 := Scalar.cmpi .slt v831 c0_i32_475
  let v836 : BitVec 32 := Scalar.extui v835
  let v837 : BitVec 32 := Scalar.subi v834 v836
  let c4_i32_473 : BitVec 32 := 4#32
  let c0_i32_476 : BitVec 32 := 0#32
  let v838 : BitVec 1 := Scalar.cmpi .sgt c4_i32_473 c0_i32_476
  let v839 : BitVec 32 := Scalar.extui v838
  let c0_i32_477 : BitVec 32 := 0#32
  let v840 : BitVec 1 := Scalar.cmpi .slt c4_i32_473 c0_i32_477
  let v841 : BitVec 32 := Scalar.extui v840
  let v842 : BitVec 32 := Scalar.subi v839 v841
  let v843 : BitVec 1 := Scalar.cmpi .ne v837 v842
  let v844 : BitVec 32 := Scalar.remsi v831 c4_i32_473
  let c0_i32_478 : BitVec 32 := 0#32
  let v845 : BitVec 1 := Scalar.cmpi .ne v844 c0_i32_478
  let v846 : BitVec 1 := Scalar.andi v843 v845
  let v832 : BitVec 32 := Scalar.divsi v831 c4_i32_473
  let c1_i32_479 : BitVec 32 := 1#32
  let v847 : BitVec 32 := Scalar.subi v832 c1_i32_479
  let v848 : BitVec 32 := Scalar.select v846 v847 v832
  let c4_i32_503 : BitVec 32 := 4#32
  let v886 : BitVec 32 := Scalar.muli v848 c4_i32_503
  let v887 : BitVec 32 := Scalar.addi c0_i32_504 v886
  let c0_i32_481 : BitVec 32 := 0#32
  let v850 : BitVec 1 := Scalar.cmpi .sgt v831 c0_i32_481
  let v851 : BitVec 32 := Scalar.extui v850
  let c0_i32_482 : BitVec 32 := 0#32
  let v852 : BitVec 1 := Scalar.cmpi .slt v831 c0_i32_482
  let v853 : BitVec 32 := Scalar.extui v852
  let v854 : BitVec 32 := Scalar.subi v851 v853
  let c2_i32_480 : BitVec 32 := 2#32
  let c0_i32_483 : BitVec 32 := 0#32
  let v855 : BitVec 1 := Scalar.cmpi .sgt c2_i32_480 c0_i32_483
  let v856 : BitVec 32 := Scalar.extui v855
  let c0_i32_484 : BitVec 32 := 0#32
  let v857 : BitVec 1 := Scalar.cmpi .slt c2_i32_480 c0_i32_484
  let v858 : BitVec 32 := Scalar.extui v857
  let v859 : BitVec 32 := Scalar.subi v856 v858
  let v860 : BitVec 1 := Scalar.cmpi .ne v854 v859
  let v861 : BitVec 32 := Scalar.remsi v831 c2_i32_480
  let c0_i32_485 : BitVec 32 := 0#32
  let v862 : BitVec 1 := Scalar.cmpi .ne v861 c0_i32_485
  let v863 : BitVec 1 := Scalar.andi v860 v862
  let v849 : BitVec 32 := Scalar.divsi v831 c2_i32_480
  let c1_i32_486 : BitVec 32 := 1#32
  let v864 : BitVec 32 := Scalar.subi v849 c1_i32_486
  let v865 : BitVec 32 := Scalar.select v863 v864 v849
  let c2_i32_487 : BitVec 32 := 2#32
  let c0_i32_488 : BitVec 32 := 0#32
  let v866 : BitVec 1 := Scalar.cmpi .eq c2_i32_487 c0_i32_488
  let c1_i32_489 : BitVec 32 := 1#32
  let v867 : BitVec 32 := Scalar.select v866 c1_i32_489 c2_i32_487
  let v868 : BitVec 32 := Scalar.remsi v865 v867
  let c0_i32_491 : BitVec 32 := 0#32
  let v870 : BitVec 1 := Scalar.cmpi .slt v868 c0_i32_491
  let c0_i32_492 : BitVec 32 := 0#32
  let v871 : BitVec 1 := Scalar.cmpi .slt v867 c0_i32_492
  let v872 : BitVec 1 := Scalar.xori v870 v871
  let c0_i32_490 : BitVec 32 := 0#32
  let v869 : BitVec 1 := Scalar.cmpi .ne v868 c0_i32_490
  let v873 : BitVec 1 := Scalar.andi v872 v869
  let v874 : BitVec 32 := Scalar.addi v868 v867
  let v875 : BitVec 32 := Scalar.select v873 v874 v868
  let c2_i32_505 : BitVec 32 := 2#32
  let v888 : BitVec 32 := Scalar.muli v875 c2_i32_505
  let v889 : BitVec 32 := Scalar.addi v887 v888
  let c2_i32_493 : BitVec 32 := 2#32
  let c0_i32_494 : BitVec 32 := 0#32
  let v876 : BitVec 1 := Scalar.cmpi .eq c2_i32_493 c0_i32_494
  let c1_i32_495 : BitVec 32 := 1#32
  let v877 : BitVec 32 := Scalar.select v876 c1_i32_495 c2_i32_493
  let v878 : BitVec 32 := Scalar.remsi v831 v877
  let c0_i32_497 : BitVec 32 := 0#32
  let v880 : BitVec 1 := Scalar.cmpi .slt v878 c0_i32_497
  let c0_i32_498 : BitVec 32 := 0#32
  let v881 : BitVec 1 := Scalar.cmpi .slt v877 c0_i32_498
  let v882 : BitVec 1 := Scalar.xori v880 v881
  let c0_i32_496 : BitVec 32 := 0#32
  let v879 : BitVec 1 := Scalar.cmpi .ne v878 c0_i32_496
  let v883 : BitVec 1 := Scalar.andi v882 v879
  let v884 : BitVec 32 := Scalar.addi v878 v877
  let v885 : BitVec 32 := Scalar.select v883 v884 v878
  let c1_i32_506 : BitVec 32 := 1#32
  let v890 : BitVec 32 := Scalar.muli v885 c1_i32_506
  let v891 : BitVec 32 := Scalar.addi v889 v890
  v891.toNat
def k0_dev14 (d0 : Dev nD) : Nat :=
  let c0_i32_541 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_511 : BitVec 32 := 0#32
  let v899 : BitVec 1 := Scalar.cmpi .sgt v831 c0_i32_511
  let v900 : BitVec 32 := Scalar.extui v899
  let c0_i32_512 : BitVec 32 := 0#32
  let v901 : BitVec 1 := Scalar.cmpi .slt v831 c0_i32_512
  let v902 : BitVec 32 := Scalar.extui v901
  let v903 : BitVec 32 := Scalar.subi v900 v902
  let c4_i32_510 : BitVec 32 := 4#32
  let c0_i32_513 : BitVec 32 := 0#32
  let v904 : BitVec 1 := Scalar.cmpi .sgt c4_i32_510 c0_i32_513
  let v905 : BitVec 32 := Scalar.extui v904
  let c0_i32_514 : BitVec 32 := 0#32
  let v906 : BitVec 1 := Scalar.cmpi .slt c4_i32_510 c0_i32_514
  let v907 : BitVec 32 := Scalar.extui v906
  let v908 : BitVec 32 := Scalar.subi v905 v907
  let v909 : BitVec 1 := Scalar.cmpi .ne v903 v908
  let v910 : BitVec 32 := Scalar.remsi v831 c4_i32_510
  let c0_i32_515 : BitVec 32 := 0#32
  let v911 : BitVec 1 := Scalar.cmpi .ne v910 c0_i32_515
  let v912 : BitVec 1 := Scalar.andi v909 v911
  let v898 : BitVec 32 := Scalar.divsi v831 c4_i32_510
  let c1_i32_516 : BitVec 32 := 1#32
  let v913 : BitVec 32 := Scalar.subi v898 c1_i32_516
  let v914 : BitVec 32 := Scalar.select v912 v913 v898
  let c4_i32_540 : BitVec 32 := 4#32
  let v952 : BitVec 32 := Scalar.muli v914 c4_i32_540
  let v953 : BitVec 32 := Scalar.addi c0_i32_541 v952
  let c0_i32_518 : BitVec 32 := 0#32
  let v916 : BitVec 1 := Scalar.cmpi .sgt v831 c0_i32_518
  let v917 : BitVec 32 := Scalar.extui v916
  let c0_i32_519 : BitVec 32 := 0#32
  let v918 : BitVec 1 := Scalar.cmpi .slt v831 c0_i32_519
  let v919 : BitVec 32 := Scalar.extui v918
  let v920 : BitVec 32 := Scalar.subi v917 v919
  let c2_i32_517 : BitVec 32 := 2#32
  let c0_i32_520 : BitVec 32 := 0#32
  let v921 : BitVec 1 := Scalar.cmpi .sgt c2_i32_517 c0_i32_520
  let v922 : BitVec 32 := Scalar.extui v921
  let c0_i32_521 : BitVec 32 := 0#32
  let v923 : BitVec 1 := Scalar.cmpi .slt c2_i32_517 c0_i32_521
  let v924 : BitVec 32 := Scalar.extui v923
  let v925 : BitVec 32 := Scalar.subi v922 v924
  let v926 : BitVec 1 := Scalar.cmpi .ne v920 v925
  let v927 : BitVec 32 := Scalar.remsi v831 c2_i32_517
  let c0_i32_522 : BitVec 32 := 0#32
  let v928 : BitVec 1 := Scalar.cmpi .ne v927 c0_i32_522
  let v929 : BitVec 1 := Scalar.andi v926 v928
  let v915 : BitVec 32 := Scalar.divsi v831 c2_i32_517
  let c1_i32_523 : BitVec 32 := 1#32
  let v930 : BitVec 32 := Scalar.subi v915 c1_i32_523
  let v931 : BitVec 32 := Scalar.select v929 v930 v915
  let c2_i32_524 : BitVec 32 := 2#32
  let c0_i32_525 : BitVec 32 := 0#32
  let v932 : BitVec 1 := Scalar.cmpi .eq c2_i32_524 c0_i32_525
  let c1_i32_526 : BitVec 32 := 1#32
  let v933 : BitVec 32 := Scalar.select v932 c1_i32_526 c2_i32_524
  let v934 : BitVec 32 := Scalar.remsi v931 v933
  let c0_i32_528 : BitVec 32 := 0#32
  let v936 : BitVec 1 := Scalar.cmpi .slt v934 c0_i32_528
  let c0_i32_529 : BitVec 32 := 0#32
  let v937 : BitVec 1 := Scalar.cmpi .slt v933 c0_i32_529
  let v938 : BitVec 1 := Scalar.xori v936 v937
  let c0_i32_527 : BitVec 32 := 0#32
  let v935 : BitVec 1 := Scalar.cmpi .ne v934 c0_i32_527
  let v939 : BitVec 1 := Scalar.andi v938 v935
  let v940 : BitVec 32 := Scalar.addi v934 v933
  let v941 : BitVec 32 := Scalar.select v939 v940 v934
  let c2_i32_542 : BitVec 32 := 2#32
  let v954 : BitVec 32 := Scalar.muli v941 c2_i32_542
  let v955 : BitVec 32 := Scalar.addi v953 v954
  let c2_i32_530 : BitVec 32 := 2#32
  let c0_i32_531 : BitVec 32 := 0#32
  let v942 : BitVec 1 := Scalar.cmpi .eq c2_i32_530 c0_i32_531
  let c1_i32_532 : BitVec 32 := 1#32
  let v943 : BitVec 32 := Scalar.select v942 c1_i32_532 c2_i32_530
  let v944 : BitVec 32 := Scalar.remsi v831 v943
  let c0_i32_534 : BitVec 32 := 0#32
  let v946 : BitVec 1 := Scalar.cmpi .slt v944 c0_i32_534
  let c0_i32_535 : BitVec 32 := 0#32
  let v947 : BitVec 1 := Scalar.cmpi .slt v943 c0_i32_535
  let v948 : BitVec 1 := Scalar.xori v946 v947
  let c0_i32_533 : BitVec 32 := 0#32
  let v945 : BitVec 1 := Scalar.cmpi .ne v944 c0_i32_533
  let v949 : BitVec 1 := Scalar.andi v948 v945
  let v950 : BitVec 32 := Scalar.addi v944 v943
  let v951 : BitVec 32 := Scalar.select v949 v950 v944
  let c1_i32_543 : BitVec 32 := 1#32
  let v956 : BitVec 32 := Scalar.muli v951 c1_i32_543
  let v957 : BitVec 32 := Scalar.addi v955 v956
  v957.toNat
def k0_dev15 (d0 : Dev nD) : Nat :=
  let c0_i32_578 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_548 : BitVec 32 := 0#32
  let v965 : BitVec 1 := Scalar.cmpi .sgt v831 c0_i32_548
  let v966 : BitVec 32 := Scalar.extui v965
  let c0_i32_549 : BitVec 32 := 0#32
  let v967 : BitVec 1 := Scalar.cmpi .slt v831 c0_i32_549
  let v968 : BitVec 32 := Scalar.extui v967
  let v969 : BitVec 32 := Scalar.subi v966 v968
  let c4_i32_547 : BitVec 32 := 4#32
  let c0_i32_550 : BitVec 32 := 0#32
  let v970 : BitVec 1 := Scalar.cmpi .sgt c4_i32_547 c0_i32_550
  let v971 : BitVec 32 := Scalar.extui v970
  let c0_i32_551 : BitVec 32 := 0#32
  let v972 : BitVec 1 := Scalar.cmpi .slt c4_i32_547 c0_i32_551
  let v973 : BitVec 32 := Scalar.extui v972
  let v974 : BitVec 32 := Scalar.subi v971 v973
  let v975 : BitVec 1 := Scalar.cmpi .ne v969 v974
  let v976 : BitVec 32 := Scalar.remsi v831 c4_i32_547
  let c0_i32_552 : BitVec 32 := 0#32
  let v977 : BitVec 1 := Scalar.cmpi .ne v976 c0_i32_552
  let v978 : BitVec 1 := Scalar.andi v975 v977
  let v964 : BitVec 32 := Scalar.divsi v831 c4_i32_547
  let c1_i32_553 : BitVec 32 := 1#32
  let v979 : BitVec 32 := Scalar.subi v964 c1_i32_553
  let v980 : BitVec 32 := Scalar.select v978 v979 v964
  let c4_i32_577 : BitVec 32 := 4#32
  let v1018 : BitVec 32 := Scalar.muli v980 c4_i32_577
  let v1019 : BitVec 32 := Scalar.addi c0_i32_578 v1018
  let c0_i32_555 : BitVec 32 := 0#32
  let v982 : BitVec 1 := Scalar.cmpi .sgt v831 c0_i32_555
  let v983 : BitVec 32 := Scalar.extui v982
  let c0_i32_556 : BitVec 32 := 0#32
  let v984 : BitVec 1 := Scalar.cmpi .slt v831 c0_i32_556
  let v985 : BitVec 32 := Scalar.extui v984
  let v986 : BitVec 32 := Scalar.subi v983 v985
  let c2_i32_554 : BitVec 32 := 2#32
  let c0_i32_557 : BitVec 32 := 0#32
  let v987 : BitVec 1 := Scalar.cmpi .sgt c2_i32_554 c0_i32_557
  let v988 : BitVec 32 := Scalar.extui v987
  let c0_i32_558 : BitVec 32 := 0#32
  let v989 : BitVec 1 := Scalar.cmpi .slt c2_i32_554 c0_i32_558
  let v990 : BitVec 32 := Scalar.extui v989
  let v991 : BitVec 32 := Scalar.subi v988 v990
  let v992 : BitVec 1 := Scalar.cmpi .ne v986 v991
  let v993 : BitVec 32 := Scalar.remsi v831 c2_i32_554
  let c0_i32_559 : BitVec 32 := 0#32
  let v994 : BitVec 1 := Scalar.cmpi .ne v993 c0_i32_559
  let v995 : BitVec 1 := Scalar.andi v992 v994
  let v981 : BitVec 32 := Scalar.divsi v831 c2_i32_554
  let c1_i32_560 : BitVec 32 := 1#32
  let v996 : BitVec 32 := Scalar.subi v981 c1_i32_560
  let v997 : BitVec 32 := Scalar.select v995 v996 v981
  let c2_i32_561 : BitVec 32 := 2#32
  let c0_i32_562 : BitVec 32 := 0#32
  let v998 : BitVec 1 := Scalar.cmpi .eq c2_i32_561 c0_i32_562
  let c1_i32_563 : BitVec 32 := 1#32
  let v999 : BitVec 32 := Scalar.select v998 c1_i32_563 c2_i32_561
  let v1000 : BitVec 32 := Scalar.remsi v997 v999
  let c0_i32_565 : BitVec 32 := 0#32
  let v1002 : BitVec 1 := Scalar.cmpi .slt v1000 c0_i32_565
  let c0_i32_566 : BitVec 32 := 0#32
  let v1003 : BitVec 1 := Scalar.cmpi .slt v999 c0_i32_566
  let v1004 : BitVec 1 := Scalar.xori v1002 v1003
  let c0_i32_564 : BitVec 32 := 0#32
  let v1001 : BitVec 1 := Scalar.cmpi .ne v1000 c0_i32_564
  let v1005 : BitVec 1 := Scalar.andi v1004 v1001
  let v1006 : BitVec 32 := Scalar.addi v1000 v999
  let v1007 : BitVec 32 := Scalar.select v1005 v1006 v1000
  let c2_i32_579 : BitVec 32 := 2#32
  let v1020 : BitVec 32 := Scalar.muli v1007 c2_i32_579
  let v1021 : BitVec 32 := Scalar.addi v1019 v1020
  let c2_i32_567 : BitVec 32 := 2#32
  let c0_i32_568 : BitVec 32 := 0#32
  let v1008 : BitVec 1 := Scalar.cmpi .eq c2_i32_567 c0_i32_568
  let c1_i32_569 : BitVec 32 := 1#32
  let v1009 : BitVec 32 := Scalar.select v1008 c1_i32_569 c2_i32_567
  let v1010 : BitVec 32 := Scalar.remsi v831 v1009
  let c0_i32_571 : BitVec 32 := 0#32
  let v1012 : BitVec 1 := Scalar.cmpi .slt v1010 c0_i32_571
  let c0_i32_572 : BitVec 32 := 0#32
  let v1013 : BitVec 1 := Scalar.cmpi .slt v1009 c0_i32_572
  let v1014 : BitVec 1 := Scalar.xori v1012 v1013
  let c0_i32_570 : BitVec 32 := 0#32
  let v1011 : BitVec 1 := Scalar.cmpi .ne v1010 c0_i32_570
  let v1015 : BitVec 1 := Scalar.andi v1014 v1011
  let v1016 : BitVec 32 := Scalar.addi v1010 v1009
  let v1017 : BitVec 32 := Scalar.select v1015 v1016 v1010
  let c1_i32_580 : BitVec 32 := 1#32
  let v1022 : BitVec 32 := Scalar.muli v1017 c1_i32_580
  let v1023 : BitVec 32 := Scalar.addi v1021 v1022
  v1023.toNat
def k0_dev16 (d0 : Dev nD) : Nat :=
  let c0_i32_615 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_585 : BitVec 32 := 0#32
  let v1031 : BitVec 1 := Scalar.cmpi .sgt v831 c0_i32_585
  let v1032 : BitVec 32 := Scalar.extui v1031
  let c0_i32_586 : BitVec 32 := 0#32
  let v1033 : BitVec 1 := Scalar.cmpi .slt v831 c0_i32_586
  let v1034 : BitVec 32 := Scalar.extui v1033
  let v1035 : BitVec 32 := Scalar.subi v1032 v1034
  let c4_i32_584 : BitVec 32 := 4#32
  let c0_i32_587 : BitVec 32 := 0#32
  let v1036 : BitVec 1 := Scalar.cmpi .sgt c4_i32_584 c0_i32_587
  let v1037 : BitVec 32 := Scalar.extui v1036
  let c0_i32_588 : BitVec 32 := 0#32
  let v1038 : BitVec 1 := Scalar.cmpi .slt c4_i32_584 c0_i32_588
  let v1039 : BitVec 32 := Scalar.extui v1038
  let v1040 : BitVec 32 := Scalar.subi v1037 v1039
  let v1041 : BitVec 1 := Scalar.cmpi .ne v1035 v1040
  let v1042 : BitVec 32 := Scalar.remsi v831 c4_i32_584
  let c0_i32_589 : BitVec 32 := 0#32
  let v1043 : BitVec 1 := Scalar.cmpi .ne v1042 c0_i32_589
  let v1044 : BitVec 1 := Scalar.andi v1041 v1043
  let v1030 : BitVec 32 := Scalar.divsi v831 c4_i32_584
  let c1_i32_590 : BitVec 32 := 1#32
  let v1045 : BitVec 32 := Scalar.subi v1030 c1_i32_590
  let v1046 : BitVec 32 := Scalar.select v1044 v1045 v1030
  let c4_i32_614 : BitVec 32 := 4#32
  let v1084 : BitVec 32 := Scalar.muli v1046 c4_i32_614
  let v1085 : BitVec 32 := Scalar.addi c0_i32_615 v1084
  let c0_i32_592 : BitVec 32 := 0#32
  let v1048 : BitVec 1 := Scalar.cmpi .sgt v831 c0_i32_592
  let v1049 : BitVec 32 := Scalar.extui v1048
  let c0_i32_593 : BitVec 32 := 0#32
  let v1050 : BitVec 1 := Scalar.cmpi .slt v831 c0_i32_593
  let v1051 : BitVec 32 := Scalar.extui v1050
  let v1052 : BitVec 32 := Scalar.subi v1049 v1051
  let c2_i32_591 : BitVec 32 := 2#32
  let c0_i32_594 : BitVec 32 := 0#32
  let v1053 : BitVec 1 := Scalar.cmpi .sgt c2_i32_591 c0_i32_594
  let v1054 : BitVec 32 := Scalar.extui v1053
  let c0_i32_595 : BitVec 32 := 0#32
  let v1055 : BitVec 1 := Scalar.cmpi .slt c2_i32_591 c0_i32_595
  let v1056 : BitVec 32 := Scalar.extui v1055
  let v1057 : BitVec 32 := Scalar.subi v1054 v1056
  let v1058 : BitVec 1 := Scalar.cmpi .ne v1052 v1057
  let v1059 : BitVec 32 := Scalar.remsi v831 c2_i32_591
  let c0_i32_596 : BitVec 32 := 0#32
  let v1060 : BitVec 1 := Scalar.cmpi .ne v1059 c0_i32_596
  let v1061 : BitVec 1 := Scalar.andi v1058 v1060
  let v1047 : BitVec 32 := Scalar.divsi v831 c2_i32_591
  let c1_i32_597 : BitVec 32 := 1#32
  let v1062 : BitVec 32 := Scalar.subi v1047 c1_i32_597
  let v1063 : BitVec 32 := Scalar.select v1061 v1062 v1047
  let c2_i32_598 : BitVec 32 := 2#32
  let c0_i32_599 : BitVec 32 := 0#32
  let v1064 : BitVec 1 := Scalar.cmpi .eq c2_i32_598 c0_i32_599
  let c1_i32_600 : BitVec 32 := 1#32
  let v1065 : BitVec 32 := Scalar.select v1064 c1_i32_600 c2_i32_598
  let v1066 : BitVec 32 := Scalar.remsi v1063 v1065
  let c0_i32_602 : BitVec 32 := 0#32
  let v1068 : BitVec 1 := Scalar.cmpi .slt v1066 c0_i32_602
  let c0_i32_603 : BitVec 32 := 0#32
  let v1069 : BitVec 1 := Scalar.cmpi .slt v1065 c0_i32_603
  let v1070 : BitVec 1 := Scalar.xori v1068 v1069
  let c0_i32_601 : BitVec 32 := 0#32
  let v1067 : BitVec 1 := Scalar.cmpi .ne v1066 c0_i32_601
  let v1071 : BitVec 1 := Scalar.andi v1070 v1067
  let v1072 : BitVec 32 := Scalar.addi v1066 v1065
  let v1073 : BitVec 32 := Scalar.select v1071 v1072 v1066
  let c2_i32_616 : BitVec 32 := 2#32
  let v1086 : BitVec 32 := Scalar.muli v1073 c2_i32_616
  let v1087 : BitVec 32 := Scalar.addi v1085 v1086
  let c2_i32_604 : BitVec 32 := 2#32
  let c0_i32_605 : BitVec 32 := 0#32
  let v1074 : BitVec 1 := Scalar.cmpi .eq c2_i32_604 c0_i32_605
  let c1_i32_606 : BitVec 32 := 1#32
  let v1075 : BitVec 32 := Scalar.select v1074 c1_i32_606 c2_i32_604
  let v1076 : BitVec 32 := Scalar.remsi v831 v1075
  let c0_i32_608 : BitVec 32 := 0#32
  let v1078 : BitVec 1 := Scalar.cmpi .slt v1076 c0_i32_608
  let c0_i32_609 : BitVec 32 := 0#32
  let v1079 : BitVec 1 := Scalar.cmpi .slt v1075 c0_i32_609
  let v1080 : BitVec 1 := Scalar.xori v1078 v1079
  let c0_i32_607 : BitVec 32 := 0#32
  let v1077 : BitVec 1 := Scalar.cmpi .ne v1076 c0_i32_607
  let v1081 : BitVec 1 := Scalar.andi v1080 v1077
  let v1082 : BitVec 32 := Scalar.addi v1076 v1075
  let v1083 : BitVec 32 := Scalar.select v1081 v1082 v1076
  let c1_i32_617 : BitVec 32 := 1#32
  let v1088 : BitVec 32 := Scalar.muli v1083 c1_i32_617
  let v1089 : BitVec 32 := Scalar.addi v1087 v1088
  v1089.toNat
def k0_dev17 (d0 : Dev nD) : Nat :=
  let c0_i32_652 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_622 : BitVec 32 := 0#32
  let v1097 : BitVec 1 := Scalar.cmpi .sgt v831 c0_i32_622
  let v1098 : BitVec 32 := Scalar.extui v1097
  let c0_i32_623 : BitVec 32 := 0#32
  let v1099 : BitVec 1 := Scalar.cmpi .slt v831 c0_i32_623
  let v1100 : BitVec 32 := Scalar.extui v1099
  let v1101 : BitVec 32 := Scalar.subi v1098 v1100
  let c4_i32_621 : BitVec 32 := 4#32
  let c0_i32_624 : BitVec 32 := 0#32
  let v1102 : BitVec 1 := Scalar.cmpi .sgt c4_i32_621 c0_i32_624
  let v1103 : BitVec 32 := Scalar.extui v1102
  let c0_i32_625 : BitVec 32 := 0#32
  let v1104 : BitVec 1 := Scalar.cmpi .slt c4_i32_621 c0_i32_625
  let v1105 : BitVec 32 := Scalar.extui v1104
  let v1106 : BitVec 32 := Scalar.subi v1103 v1105
  let v1107 : BitVec 1 := Scalar.cmpi .ne v1101 v1106
  let v1108 : BitVec 32 := Scalar.remsi v831 c4_i32_621
  let c0_i32_626 : BitVec 32 := 0#32
  let v1109 : BitVec 1 := Scalar.cmpi .ne v1108 c0_i32_626
  let v1110 : BitVec 1 := Scalar.andi v1107 v1109
  let v1096 : BitVec 32 := Scalar.divsi v831 c4_i32_621
  let c1_i32_627 : BitVec 32 := 1#32
  let v1111 : BitVec 32 := Scalar.subi v1096 c1_i32_627
  let v1112 : BitVec 32 := Scalar.select v1110 v1111 v1096
  let c4_i32_651 : BitVec 32 := 4#32
  let v1150 : BitVec 32 := Scalar.muli v1112 c4_i32_651
  let v1151 : BitVec 32 := Scalar.addi c0_i32_652 v1150
  let c0_i32_629 : BitVec 32 := 0#32
  let v1114 : BitVec 1 := Scalar.cmpi .sgt v831 c0_i32_629
  let v1115 : BitVec 32 := Scalar.extui v1114
  let c0_i32_630 : BitVec 32 := 0#32
  let v1116 : BitVec 1 := Scalar.cmpi .slt v831 c0_i32_630
  let v1117 : BitVec 32 := Scalar.extui v1116
  let v1118 : BitVec 32 := Scalar.subi v1115 v1117
  let c2_i32_628 : BitVec 32 := 2#32
  let c0_i32_631 : BitVec 32 := 0#32
  let v1119 : BitVec 1 := Scalar.cmpi .sgt c2_i32_628 c0_i32_631
  let v1120 : BitVec 32 := Scalar.extui v1119
  let c0_i32_632 : BitVec 32 := 0#32
  let v1121 : BitVec 1 := Scalar.cmpi .slt c2_i32_628 c0_i32_632
  let v1122 : BitVec 32 := Scalar.extui v1121
  let v1123 : BitVec 32 := Scalar.subi v1120 v1122
  let v1124 : BitVec 1 := Scalar.cmpi .ne v1118 v1123
  let v1125 : BitVec 32 := Scalar.remsi v831 c2_i32_628
  let c0_i32_633 : BitVec 32 := 0#32
  let v1126 : BitVec 1 := Scalar.cmpi .ne v1125 c0_i32_633
  let v1127 : BitVec 1 := Scalar.andi v1124 v1126
  let v1113 : BitVec 32 := Scalar.divsi v831 c2_i32_628
  let c1_i32_634 : BitVec 32 := 1#32
  let v1128 : BitVec 32 := Scalar.subi v1113 c1_i32_634
  let v1129 : BitVec 32 := Scalar.select v1127 v1128 v1113
  let c2_i32_635 : BitVec 32 := 2#32
  let c0_i32_636 : BitVec 32 := 0#32
  let v1130 : BitVec 1 := Scalar.cmpi .eq c2_i32_635 c0_i32_636
  let c1_i32_637 : BitVec 32 := 1#32
  let v1131 : BitVec 32 := Scalar.select v1130 c1_i32_637 c2_i32_635
  let v1132 : BitVec 32 := Scalar.remsi v1129 v1131
  let c0_i32_639 : BitVec 32 := 0#32
  let v1134 : BitVec 1 := Scalar.cmpi .slt v1132 c0_i32_639
  let c0_i32_640 : BitVec 32 := 0#32
  let v1135 : BitVec 1 := Scalar.cmpi .slt v1131 c0_i32_640
  let v1136 : BitVec 1 := Scalar.xori v1134 v1135
  let c0_i32_638 : BitVec 32 := 0#32
  let v1133 : BitVec 1 := Scalar.cmpi .ne v1132 c0_i32_638
  let v1137 : BitVec 1 := Scalar.andi v1136 v1133
  let v1138 : BitVec 32 := Scalar.addi v1132 v1131
  let v1139 : BitVec 32 := Scalar.select v1137 v1138 v1132
  let c2_i32_653 : BitVec 32 := 2#32
  let v1152 : BitVec 32 := Scalar.muli v1139 c2_i32_653
  let v1153 : BitVec 32 := Scalar.addi v1151 v1152
  let c2_i32_641 : BitVec 32 := 2#32
  let c0_i32_642 : BitVec 32 := 0#32
  let v1140 : BitVec 1 := Scalar.cmpi .eq c2_i32_641 c0_i32_642
  let c1_i32_643 : BitVec 32 := 1#32
  let v1141 : BitVec 32 := Scalar.select v1140 c1_i32_643 c2_i32_641
  let v1142 : BitVec 32 := Scalar.remsi v831 v1141
  let c0_i32_645 : BitVec 32 := 0#32
  let v1144 : BitVec 1 := Scalar.cmpi .slt v1142 c0_i32_645
  let c0_i32_646 : BitVec 32 := 0#32
  let v1145 : BitVec 1 := Scalar.cmpi .slt v1141 c0_i32_646
  let v1146 : BitVec 1 := Scalar.xori v1144 v1145
  let c0_i32_644 : BitVec 32 := 0#32
  let v1143 : BitVec 1 := Scalar.cmpi .ne v1142 c0_i32_644
  let v1147 : BitVec 1 := Scalar.andi v1146 v1143
  let v1148 : BitVec 32 := Scalar.addi v1142 v1141
  let v1149 : BitVec 32 := Scalar.select v1147 v1148 v1142
  let c1_i32_654 : BitVec 32 := 1#32
  let v1154 : BitVec 32 := Scalar.muli v1149 c1_i32_654
  let v1155 : BitVec 32 := Scalar.addi v1153 v1154
  v1155.toNat
def k0_dev18 (d0 : Dev nD) : Nat :=
  let c0_i32_689 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_659 : BitVec 32 := 0#32
  let v1163 : BitVec 1 := Scalar.cmpi .sgt v831 c0_i32_659
  let v1164 : BitVec 32 := Scalar.extui v1163
  let c0_i32_660 : BitVec 32 := 0#32
  let v1165 : BitVec 1 := Scalar.cmpi .slt v831 c0_i32_660
  let v1166 : BitVec 32 := Scalar.extui v1165
  let v1167 : BitVec 32 := Scalar.subi v1164 v1166
  let c4_i32_658 : BitVec 32 := 4#32
  let c0_i32_661 : BitVec 32 := 0#32
  let v1168 : BitVec 1 := Scalar.cmpi .sgt c4_i32_658 c0_i32_661
  let v1169 : BitVec 32 := Scalar.extui v1168
  let c0_i32_662 : BitVec 32 := 0#32
  let v1170 : BitVec 1 := Scalar.cmpi .slt c4_i32_658 c0_i32_662
  let v1171 : BitVec 32 := Scalar.extui v1170
  let v1172 : BitVec 32 := Scalar.subi v1169 v1171
  let v1173 : BitVec 1 := Scalar.cmpi .ne v1167 v1172
  let v1174 : BitVec 32 := Scalar.remsi v831 c4_i32_658
  let c0_i32_663 : BitVec 32 := 0#32
  let v1175 : BitVec 1 := Scalar.cmpi .ne v1174 c0_i32_663
  let v1176 : BitVec 1 := Scalar.andi v1173 v1175
  let v1162 : BitVec 32 := Scalar.divsi v831 c4_i32_658
  let c1_i32_664 : BitVec 32 := 1#32
  let v1177 : BitVec 32 := Scalar.subi v1162 c1_i32_664
  let v1178 : BitVec 32 := Scalar.select v1176 v1177 v1162
  let c4_i32_688 : BitVec 32 := 4#32
  let v1216 : BitVec 32 := Scalar.muli v1178 c4_i32_688
  let v1217 : BitVec 32 := Scalar.addi c0_i32_689 v1216
  let c0_i32_666 : BitVec 32 := 0#32
  let v1180 : BitVec 1 := Scalar.cmpi .sgt v831 c0_i32_666
  let v1181 : BitVec 32 := Scalar.extui v1180
  let c0_i32_667 : BitVec 32 := 0#32
  let v1182 : BitVec 1 := Scalar.cmpi .slt v831 c0_i32_667
  let v1183 : BitVec 32 := Scalar.extui v1182
  let v1184 : BitVec 32 := Scalar.subi v1181 v1183
  let c2_i32_665 : BitVec 32 := 2#32
  let c0_i32_668 : BitVec 32 := 0#32
  let v1185 : BitVec 1 := Scalar.cmpi .sgt c2_i32_665 c0_i32_668
  let v1186 : BitVec 32 := Scalar.extui v1185
  let c0_i32_669 : BitVec 32 := 0#32
  let v1187 : BitVec 1 := Scalar.cmpi .slt c2_i32_665 c0_i32_669
  let v1188 : BitVec 32 := Scalar.extui v1187
  let v1189 : BitVec 32 := Scalar.subi v1186 v1188
  let v1190 : BitVec 1 := Scalar.cmpi .ne v1184 v1189
  let v1191 : BitVec 32 := Scalar.remsi v831 c2_i32_665
  let c0_i32_670 : BitVec 32 := 0#32
  let v1192 : BitVec 1 := Scalar.cmpi .ne v1191 c0_i32_670
  let v1193 : BitVec 1 := Scalar.andi v1190 v1192
  let v1179 : BitVec 32 := Scalar.divsi v831 c2_i32_665
  let c1_i32_671 : BitVec 32 := 1#32
  let v1194 : BitVec 32 := Scalar.subi v1179 c1_i32_671
  let v1195 : BitVec 32 := Scalar.select v1193 v1194 v1179
  let c2_i32_672 : BitVec 32 := 2#32
  let c0_i32_673 : BitVec 32 := 0#32
  let v1196 : BitVec 1 := Scalar.cmpi .eq c2_i32_672 c0_i32_673
  let c1_i32_674 : BitVec 32 := 1#32
  let v1197 : BitVec 32 := Scalar.select v1196 c1_i32_674 c2_i32_672
  let v1198 : BitVec 32 := Scalar.remsi v1195 v1197
  let c0_i32_676 : BitVec 32 := 0#32
  let v1200 : BitVec 1 := Scalar.cmpi .slt v1198 c0_i32_676
  let c0_i32_677 : BitVec 32 := 0#32
  let v1201 : BitVec 1 := Scalar.cmpi .slt v1197 c0_i32_677
  let v1202 : BitVec 1 := Scalar.xori v1200 v1201
  let c0_i32_675 : BitVec 32 := 0#32
  let v1199 : BitVec 1 := Scalar.cmpi .ne v1198 c0_i32_675
  let v1203 : BitVec 1 := Scalar.andi v1202 v1199
  let v1204 : BitVec 32 := Scalar.addi v1198 v1197
  let v1205 : BitVec 32 := Scalar.select v1203 v1204 v1198
  let c2_i32_690 : BitVec 32 := 2#32
  let v1218 : BitVec 32 := Scalar.muli v1205 c2_i32_690
  let v1219 : BitVec 32 := Scalar.addi v1217 v1218
  let c2_i32_678 : BitVec 32 := 2#32
  let c0_i32_679 : BitVec 32 := 0#32
  let v1206 : BitVec 1 := Scalar.cmpi .eq c2_i32_678 c0_i32_679
  let c1_i32_680 : BitVec 32 := 1#32
  let v1207 : BitVec 32 := Scalar.select v1206 c1_i32_680 c2_i32_678
  let v1208 : BitVec 32 := Scalar.remsi v831 v1207
  let c0_i32_682 : BitVec 32 := 0#32
  let v1210 : BitVec 1 := Scalar.cmpi .slt v1208 c0_i32_682
  let c0_i32_683 : BitVec 32 := 0#32
  let v1211 : BitVec 1 := Scalar.cmpi .slt v1207 c0_i32_683
  let v1212 : BitVec 1 := Scalar.xori v1210 v1211
  let c0_i32_681 : BitVec 32 := 0#32
  let v1209 : BitVec 1 := Scalar.cmpi .ne v1208 c0_i32_681
  let v1213 : BitVec 1 := Scalar.andi v1212 v1209
  let v1214 : BitVec 32 := Scalar.addi v1208 v1207
  let v1215 : BitVec 32 := Scalar.select v1213 v1214 v1208
  let c1_i32_691 : BitVec 32 := 1#32
  let v1220 : BitVec 32 := Scalar.muli v1215 c1_i32_691
  let v1221 : BitVec 32 := Scalar.addi v1219 v1220
  v1221.toNat
def k0_dev19 (d0 : Dev nD) : Nat :=
  let c0_i32_727 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_697 : BitVec 32 := 0#32
  let v1230 : BitVec 1 := Scalar.cmpi .sgt v1228 c0_i32_697
  let v1231 : BitVec 32 := Scalar.extui v1230
  let c0_i32_698 : BitVec 32 := 0#32
  let v1232 : BitVec 1 := Scalar.cmpi .slt v1228 c0_i32_698
  let v1233 : BitVec 32 := Scalar.extui v1232
  let v1234 : BitVec 32 := Scalar.subi v1231 v1233
  let c4_i32_696 : BitVec 32 := 4#32
  let c0_i32_699 : BitVec 32 := 0#32
  let v1235 : BitVec 1 := Scalar.cmpi .sgt c4_i32_696 c0_i32_699
  let v1236 : BitVec 32 := Scalar.extui v1235
  let c0_i32_700 : BitVec 32 := 0#32
  let v1237 : BitVec 1 := Scalar.cmpi .slt c4_i32_696 c0_i32_700
  let v1238 : BitVec 32 := Scalar.extui v1237
  let v1239 : BitVec 32 := Scalar.subi v1236 v1238
  let v1240 : BitVec 1 := Scalar.cmpi .ne v1234 v1239
  let v1241 : BitVec 32 := Scalar.remsi v1228 c4_i32_696
  let c0_i32_701 : BitVec 32 := 0#32
  let v1242 : BitVec 1 := Scalar.cmpi .ne v1241 c0_i32_701
  let v1243 : BitVec 1 := Scalar.andi v1240 v1242
  let v1229 : BitVec 32 := Scalar.divsi v1228 c4_i32_696
  let c1_i32_702 : BitVec 32 := 1#32
  let v1244 : BitVec 32 := Scalar.subi v1229 c1_i32_702
  let v1245 : BitVec 32 := Scalar.select v1243 v1244 v1229
  let c4_i32_726 : BitVec 32 := 4#32
  let v1283 : BitVec 32 := Scalar.muli v1245 c4_i32_726
  let v1284 : BitVec 32 := Scalar.addi c0_i32_727 v1283
  let c0_i32_704 : BitVec 32 := 0#32
  let v1247 : BitVec 1 := Scalar.cmpi .sgt v1228 c0_i32_704
  let v1248 : BitVec 32 := Scalar.extui v1247
  let c0_i32_705 : BitVec 32 := 0#32
  let v1249 : BitVec 1 := Scalar.cmpi .slt v1228 c0_i32_705
  let v1250 : BitVec 32 := Scalar.extui v1249
  let v1251 : BitVec 32 := Scalar.subi v1248 v1250
  let c2_i32_703 : BitVec 32 := 2#32
  let c0_i32_706 : BitVec 32 := 0#32
  let v1252 : BitVec 1 := Scalar.cmpi .sgt c2_i32_703 c0_i32_706
  let v1253 : BitVec 32 := Scalar.extui v1252
  let c0_i32_707 : BitVec 32 := 0#32
  let v1254 : BitVec 1 := Scalar.cmpi .slt c2_i32_703 c0_i32_707
  let v1255 : BitVec 32 := Scalar.extui v1254
  let v1256 : BitVec 32 := Scalar.subi v1253 v1255
  let v1257 : BitVec 1 := Scalar.cmpi .ne v1251 v1256
  let v1258 : BitVec 32 := Scalar.remsi v1228 c2_i32_703
  let c0_i32_708 : BitVec 32 := 0#32
  let v1259 : BitVec 1 := Scalar.cmpi .ne v1258 c0_i32_708
  let v1260 : BitVec 1 := Scalar.andi v1257 v1259
  let v1246 : BitVec 32 := Scalar.divsi v1228 c2_i32_703
  let c1_i32_709 : BitVec 32 := 1#32
  let v1261 : BitVec 32 := Scalar.subi v1246 c1_i32_709
  let v1262 : BitVec 32 := Scalar.select v1260 v1261 v1246
  let c2_i32_710 : BitVec 32 := 2#32
  let c0_i32_711 : BitVec 32 := 0#32
  let v1263 : BitVec 1 := Scalar.cmpi .eq c2_i32_710 c0_i32_711
  let c1_i32_712 : BitVec 32 := 1#32
  let v1264 : BitVec 32 := Scalar.select v1263 c1_i32_712 c2_i32_710
  let v1265 : BitVec 32 := Scalar.remsi v1262 v1264
  let c0_i32_714 : BitVec 32 := 0#32
  let v1267 : BitVec 1 := Scalar.cmpi .slt v1265 c0_i32_714
  let c0_i32_715 : BitVec 32 := 0#32
  let v1268 : BitVec 1 := Scalar.cmpi .slt v1264 c0_i32_715
  let v1269 : BitVec 1 := Scalar.xori v1267 v1268
  let c0_i32_713 : BitVec 32 := 0#32
  let v1266 : BitVec 1 := Scalar.cmpi .ne v1265 c0_i32_713
  let v1270 : BitVec 1 := Scalar.andi v1269 v1266
  let v1271 : BitVec 32 := Scalar.addi v1265 v1264
  let v1272 : BitVec 32 := Scalar.select v1270 v1271 v1265
  let c2_i32_728 : BitVec 32 := 2#32
  let v1285 : BitVec 32 := Scalar.muli v1272 c2_i32_728
  let v1286 : BitVec 32 := Scalar.addi v1284 v1285
  let c2_i32_716 : BitVec 32 := 2#32
  let c0_i32_717 : BitVec 32 := 0#32
  let v1273 : BitVec 1 := Scalar.cmpi .eq c2_i32_716 c0_i32_717
  let c1_i32_718 : BitVec 32 := 1#32
  let v1274 : BitVec 32 := Scalar.select v1273 c1_i32_718 c2_i32_716
  let v1275 : BitVec 32 := Scalar.remsi v1228 v1274
  let c0_i32_720 : BitVec 32 := 0#32
  let v1277 : BitVec 1 := Scalar.cmpi .slt v1275 c0_i32_720
  let c0_i32_721 : BitVec 32 := 0#32
  let v1278 : BitVec 1 := Scalar.cmpi .slt v1274 c0_i32_721
  let v1279 : BitVec 1 := Scalar.xori v1277 v1278
  let c0_i32_719 : BitVec 32 := 0#32
  let v1276 : BitVec 1 := Scalar.cmpi .ne v1275 c0_i32_719
  let v1280 : BitVec 1 := Scalar.andi v1279 v1276
  let v1281 : BitVec 32 := Scalar.addi v1275 v1274
  let v1282 : BitVec 32 := Scalar.select v1280 v1281 v1275
  let c1_i32_729 : BitVec 32 := 1#32
  let v1287 : BitVec 32 := Scalar.muli v1282 c1_i32_729
  let v1288 : BitVec 32 := Scalar.addi v1286 v1287
  v1288.toNat
def k0_dev20 (d0 : Dev nD) : Nat :=
  let c0_i32_764 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_734 : BitVec 32 := 0#32
  let v1296 : BitVec 1 := Scalar.cmpi .sgt v1228 c0_i32_734
  let v1297 : BitVec 32 := Scalar.extui v1296
  let c0_i32_735 : BitVec 32 := 0#32
  let v1298 : BitVec 1 := Scalar.cmpi .slt v1228 c0_i32_735
  let v1299 : BitVec 32 := Scalar.extui v1298
  let v1300 : BitVec 32 := Scalar.subi v1297 v1299
  let c4_i32_733 : BitVec 32 := 4#32
  let c0_i32_736 : BitVec 32 := 0#32
  let v1301 : BitVec 1 := Scalar.cmpi .sgt c4_i32_733 c0_i32_736
  let v1302 : BitVec 32 := Scalar.extui v1301
  let c0_i32_737 : BitVec 32 := 0#32
  let v1303 : BitVec 1 := Scalar.cmpi .slt c4_i32_733 c0_i32_737
  let v1304 : BitVec 32 := Scalar.extui v1303
  let v1305 : BitVec 32 := Scalar.subi v1302 v1304
  let v1306 : BitVec 1 := Scalar.cmpi .ne v1300 v1305
  let v1307 : BitVec 32 := Scalar.remsi v1228 c4_i32_733
  let c0_i32_738 : BitVec 32 := 0#32
  let v1308 : BitVec 1 := Scalar.cmpi .ne v1307 c0_i32_738
  let v1309 : BitVec 1 := Scalar.andi v1306 v1308
  let v1295 : BitVec 32 := Scalar.divsi v1228 c4_i32_733
  let c1_i32_739 : BitVec 32 := 1#32
  let v1310 : BitVec 32 := Scalar.subi v1295 c1_i32_739
  let v1311 : BitVec 32 := Scalar.select v1309 v1310 v1295
  let c4_i32_763 : BitVec 32 := 4#32
  let v1349 : BitVec 32 := Scalar.muli v1311 c4_i32_763
  let v1350 : BitVec 32 := Scalar.addi c0_i32_764 v1349
  let c0_i32_741 : BitVec 32 := 0#32
  let v1313 : BitVec 1 := Scalar.cmpi .sgt v1228 c0_i32_741
  let v1314 : BitVec 32 := Scalar.extui v1313
  let c0_i32_742 : BitVec 32 := 0#32
  let v1315 : BitVec 1 := Scalar.cmpi .slt v1228 c0_i32_742
  let v1316 : BitVec 32 := Scalar.extui v1315
  let v1317 : BitVec 32 := Scalar.subi v1314 v1316
  let c2_i32_740 : BitVec 32 := 2#32
  let c0_i32_743 : BitVec 32 := 0#32
  let v1318 : BitVec 1 := Scalar.cmpi .sgt c2_i32_740 c0_i32_743
  let v1319 : BitVec 32 := Scalar.extui v1318
  let c0_i32_744 : BitVec 32 := 0#32
  let v1320 : BitVec 1 := Scalar.cmpi .slt c2_i32_740 c0_i32_744
  let v1321 : BitVec 32 := Scalar.extui v1320
  let v1322 : BitVec 32 := Scalar.subi v1319 v1321
  let v1323 : BitVec 1 := Scalar.cmpi .ne v1317 v1322
  let v1324 : BitVec 32 := Scalar.remsi v1228 c2_i32_740
  let c0_i32_745 : BitVec 32 := 0#32
  let v1325 : BitVec 1 := Scalar.cmpi .ne v1324 c0_i32_745
  let v1326 : BitVec 1 := Scalar.andi v1323 v1325
  let v1312 : BitVec 32 := Scalar.divsi v1228 c2_i32_740
  let c1_i32_746 : BitVec 32 := 1#32
  let v1327 : BitVec 32 := Scalar.subi v1312 c1_i32_746
  let v1328 : BitVec 32 := Scalar.select v1326 v1327 v1312
  let c2_i32_747 : BitVec 32 := 2#32
  let c0_i32_748 : BitVec 32 := 0#32
  let v1329 : BitVec 1 := Scalar.cmpi .eq c2_i32_747 c0_i32_748
  let c1_i32_749 : BitVec 32 := 1#32
  let v1330 : BitVec 32 := Scalar.select v1329 c1_i32_749 c2_i32_747
  let v1331 : BitVec 32 := Scalar.remsi v1328 v1330
  let c0_i32_751 : BitVec 32 := 0#32
  let v1333 : BitVec 1 := Scalar.cmpi .slt v1331 c0_i32_751
  let c0_i32_752 : BitVec 32 := 0#32
  let v1334 : BitVec 1 := Scalar.cmpi .slt v1330 c0_i32_752
  let v1335 : BitVec 1 := Scalar.xori v1333 v1334
  let c0_i32_750 : BitVec 32 := 0#32
  let v1332 : BitVec 1 := Scalar.cmpi .ne v1331 c0_i32_750
  let v1336 : BitVec 1 := Scalar.andi v1335 v1332
  let v1337 : BitVec 32 := Scalar.addi v1331 v1330
  let v1338 : BitVec 32 := Scalar.select v1336 v1337 v1331
  let c2_i32_765 : BitVec 32 := 2#32
  let v1351 : BitVec 32 := Scalar.muli v1338 c2_i32_765
  let v1352 : BitVec 32 := Scalar.addi v1350 v1351
  let c2_i32_753 : BitVec 32 := 2#32
  let c0_i32_754 : BitVec 32 := 0#32
  let v1339 : BitVec 1 := Scalar.cmpi .eq c2_i32_753 c0_i32_754
  let c1_i32_755 : BitVec 32 := 1#32
  let v1340 : BitVec 32 := Scalar.select v1339 c1_i32_755 c2_i32_753
  let v1341 : BitVec 32 := Scalar.remsi v1228 v1340
  let c0_i32_757 : BitVec 32 := 0#32
  let v1343 : BitVec 1 := Scalar.cmpi .slt v1341 c0_i32_757
  let c0_i32_758 : BitVec 32 := 0#32
  let v1344 : BitVec 1 := Scalar.cmpi .slt v1340 c0_i32_758
  let v1345 : BitVec 1 := Scalar.xori v1343 v1344
  let c0_i32_756 : BitVec 32 := 0#32
  let v1342 : BitVec 1 := Scalar.cmpi .ne v1341 c0_i32_756
  let v1346 : BitVec 1 := Scalar.andi v1345 v1342
  let v1347 : BitVec 32 := Scalar.addi v1341 v1340
  let v1348 : BitVec 32 := Scalar.select v1346 v1347 v1341
  let c1_i32_766 : BitVec 32 := 1#32
  let v1353 : BitVec 32 := Scalar.muli v1348 c1_i32_766
  let v1354 : BitVec 32 := Scalar.addi v1352 v1353
  v1354.toNat
def k0_dev21 (d0 : Dev nD) : Nat :=
  let c0_i32_801 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_771 : BitVec 32 := 0#32
  let v1362 : BitVec 1 := Scalar.cmpi .sgt v1228 c0_i32_771
  let v1363 : BitVec 32 := Scalar.extui v1362
  let c0_i32_772 : BitVec 32 := 0#32
  let v1364 : BitVec 1 := Scalar.cmpi .slt v1228 c0_i32_772
  let v1365 : BitVec 32 := Scalar.extui v1364
  let v1366 : BitVec 32 := Scalar.subi v1363 v1365
  let c4_i32_770 : BitVec 32 := 4#32
  let c0_i32_773 : BitVec 32 := 0#32
  let v1367 : BitVec 1 := Scalar.cmpi .sgt c4_i32_770 c0_i32_773
  let v1368 : BitVec 32 := Scalar.extui v1367
  let c0_i32_774 : BitVec 32 := 0#32
  let v1369 : BitVec 1 := Scalar.cmpi .slt c4_i32_770 c0_i32_774
  let v1370 : BitVec 32 := Scalar.extui v1369
  let v1371 : BitVec 32 := Scalar.subi v1368 v1370
  let v1372 : BitVec 1 := Scalar.cmpi .ne v1366 v1371
  let v1373 : BitVec 32 := Scalar.remsi v1228 c4_i32_770
  let c0_i32_775 : BitVec 32 := 0#32
  let v1374 : BitVec 1 := Scalar.cmpi .ne v1373 c0_i32_775
  let v1375 : BitVec 1 := Scalar.andi v1372 v1374
  let v1361 : BitVec 32 := Scalar.divsi v1228 c4_i32_770
  let c1_i32_776 : BitVec 32 := 1#32
  let v1376 : BitVec 32 := Scalar.subi v1361 c1_i32_776
  let v1377 : BitVec 32 := Scalar.select v1375 v1376 v1361
  let c4_i32_800 : BitVec 32 := 4#32
  let v1415 : BitVec 32 := Scalar.muli v1377 c4_i32_800
  let v1416 : BitVec 32 := Scalar.addi c0_i32_801 v1415
  let c0_i32_778 : BitVec 32 := 0#32
  let v1379 : BitVec 1 := Scalar.cmpi .sgt v1228 c0_i32_778
  let v1380 : BitVec 32 := Scalar.extui v1379
  let c0_i32_779 : BitVec 32 := 0#32
  let v1381 : BitVec 1 := Scalar.cmpi .slt v1228 c0_i32_779
  let v1382 : BitVec 32 := Scalar.extui v1381
  let v1383 : BitVec 32 := Scalar.subi v1380 v1382
  let c2_i32_777 : BitVec 32 := 2#32
  let c0_i32_780 : BitVec 32 := 0#32
  let v1384 : BitVec 1 := Scalar.cmpi .sgt c2_i32_777 c0_i32_780
  let v1385 : BitVec 32 := Scalar.extui v1384
  let c0_i32_781 : BitVec 32 := 0#32
  let v1386 : BitVec 1 := Scalar.cmpi .slt c2_i32_777 c0_i32_781
  let v1387 : BitVec 32 := Scalar.extui v1386
  let v1388 : BitVec 32 := Scalar.subi v1385 v1387
  let v1389 : BitVec 1 := Scalar.cmpi .ne v1383 v1388
  let v1390 : BitVec 32 := Scalar.remsi v1228 c2_i32_777
  let c0_i32_782 : BitVec 32 := 0#32
  let v1391 : BitVec 1 := Scalar.cmpi .ne v1390 c0_i32_782
  let v1392 : BitVec 1 := Scalar.andi v1389 v1391
  let v1378 : BitVec 32 := Scalar.divsi v1228 c2_i32_777
  let c1_i32_783 : BitVec 32 := 1#32
  let v1393 : BitVec 32 := Scalar.subi v1378 c1_i32_783
  let v1394 : BitVec 32 := Scalar.select v1392 v1393 v1378
  let c2_i32_784 : BitVec 32 := 2#32
  let c0_i32_785 : BitVec 32 := 0#32
  let v1395 : BitVec 1 := Scalar.cmpi .eq c2_i32_784 c0_i32_785
  let c1_i32_786 : BitVec 32 := 1#32
  let v1396 : BitVec 32 := Scalar.select v1395 c1_i32_786 c2_i32_784
  let v1397 : BitVec 32 := Scalar.remsi v1394 v1396
  let c0_i32_788 : BitVec 32 := 0#32
  let v1399 : BitVec 1 := Scalar.cmpi .slt v1397 c0_i32_788
  let c0_i32_789 : BitVec 32 := 0#32
  let v1400 : BitVec 1 := Scalar.cmpi .slt v1396 c0_i32_789
  let v1401 : BitVec 1 := Scalar.xori v1399 v1400
  let c0_i32_787 : BitVec 32 := 0#32
  let v1398 : BitVec 1 := Scalar.cmpi .ne v1397 c0_i32_787
  let v1402 : BitVec 1 := Scalar.andi v1401 v1398
  let v1403 : BitVec 32 := Scalar.addi v1397 v1396
  let v1404 : BitVec 32 := Scalar.select v1402 v1403 v1397
  let c2_i32_802 : BitVec 32 := 2#32
  let v1417 : BitVec 32 := Scalar.muli v1404 c2_i32_802
  let v1418 : BitVec 32 := Scalar.addi v1416 v1417
  let c2_i32_790 : BitVec 32 := 2#32
  let c0_i32_791 : BitVec 32 := 0#32
  let v1405 : BitVec 1 := Scalar.cmpi .eq c2_i32_790 c0_i32_791
  let c1_i32_792 : BitVec 32 := 1#32
  let v1406 : BitVec 32 := Scalar.select v1405 c1_i32_792 c2_i32_790
  let v1407 : BitVec 32 := Scalar.remsi v1228 v1406
  let c0_i32_794 : BitVec 32 := 0#32
  let v1409 : BitVec 1 := Scalar.cmpi .slt v1407 c0_i32_794
  let c0_i32_795 : BitVec 32 := 0#32
  let v1410 : BitVec 1 := Scalar.cmpi .slt v1406 c0_i32_795
  let v1411 : BitVec 1 := Scalar.xori v1409 v1410
  let c0_i32_793 : BitVec 32 := 0#32
  let v1408 : BitVec 1 := Scalar.cmpi .ne v1407 c0_i32_793
  let v1412 : BitVec 1 := Scalar.andi v1411 v1408
  let v1413 : BitVec 32 := Scalar.addi v1407 v1406
  let v1414 : BitVec 32 := Scalar.select v1412 v1413 v1407
  let c1_i32_803 : BitVec 32 := 1#32
  let v1419 : BitVec 32 := Scalar.muli v1414 c1_i32_803
  let v1420 : BitVec 32 := Scalar.addi v1418 v1419
  v1420.toNat
def k0_dev22 (d0 : Dev nD) : Nat :=
  let c0_i32_838 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_808 : BitVec 32 := 0#32
  let v1428 : BitVec 1 := Scalar.cmpi .sgt v1228 c0_i32_808
  let v1429 : BitVec 32 := Scalar.extui v1428
  let c0_i32_809 : BitVec 32 := 0#32
  let v1430 : BitVec 1 := Scalar.cmpi .slt v1228 c0_i32_809
  let v1431 : BitVec 32 := Scalar.extui v1430
  let v1432 : BitVec 32 := Scalar.subi v1429 v1431
  let c4_i32_807 : BitVec 32 := 4#32
  let c0_i32_810 : BitVec 32 := 0#32
  let v1433 : BitVec 1 := Scalar.cmpi .sgt c4_i32_807 c0_i32_810
  let v1434 : BitVec 32 := Scalar.extui v1433
  let c0_i32_811 : BitVec 32 := 0#32
  let v1435 : BitVec 1 := Scalar.cmpi .slt c4_i32_807 c0_i32_811
  let v1436 : BitVec 32 := Scalar.extui v1435
  let v1437 : BitVec 32 := Scalar.subi v1434 v1436
  let v1438 : BitVec 1 := Scalar.cmpi .ne v1432 v1437
  let v1439 : BitVec 32 := Scalar.remsi v1228 c4_i32_807
  let c0_i32_812 : BitVec 32 := 0#32
  let v1440 : BitVec 1 := Scalar.cmpi .ne v1439 c0_i32_812
  let v1441 : BitVec 1 := Scalar.andi v1438 v1440
  let v1427 : BitVec 32 := Scalar.divsi v1228 c4_i32_807
  let c1_i32_813 : BitVec 32 := 1#32
  let v1442 : BitVec 32 := Scalar.subi v1427 c1_i32_813
  let v1443 : BitVec 32 := Scalar.select v1441 v1442 v1427
  let c4_i32_837 : BitVec 32 := 4#32
  let v1481 : BitVec 32 := Scalar.muli v1443 c4_i32_837
  let v1482 : BitVec 32 := Scalar.addi c0_i32_838 v1481
  let c0_i32_815 : BitVec 32 := 0#32
  let v1445 : BitVec 1 := Scalar.cmpi .sgt v1228 c0_i32_815
  let v1446 : BitVec 32 := Scalar.extui v1445
  let c0_i32_816 : BitVec 32 := 0#32
  let v1447 : BitVec 1 := Scalar.cmpi .slt v1228 c0_i32_816
  let v1448 : BitVec 32 := Scalar.extui v1447
  let v1449 : BitVec 32 := Scalar.subi v1446 v1448
  let c2_i32_814 : BitVec 32 := 2#32
  let c0_i32_817 : BitVec 32 := 0#32
  let v1450 : BitVec 1 := Scalar.cmpi .sgt c2_i32_814 c0_i32_817
  let v1451 : BitVec 32 := Scalar.extui v1450
  let c0_i32_818 : BitVec 32 := 0#32
  let v1452 : BitVec 1 := Scalar.cmpi .slt c2_i32_814 c0_i32_818
  let v1453 : BitVec 32 := Scalar.extui v1452
  let v1454 : BitVec 32 := Scalar.subi v1451 v1453
  let v1455 : BitVec 1 := Scalar.cmpi .ne v1449 v1454
  let v1456 : BitVec 32 := Scalar.remsi v1228 c2_i32_814
  let c0_i32_819 : BitVec 32 := 0#32
  let v1457 : BitVec 1 := Scalar.cmpi .ne v1456 c0_i32_819
  let v1458 : BitVec 1 := Scalar.andi v1455 v1457
  let v1444 : BitVec 32 := Scalar.divsi v1228 c2_i32_814
  let c1_i32_820 : BitVec 32 := 1#32
  let v1459 : BitVec 32 := Scalar.subi v1444 c1_i32_820
  let v1460 : BitVec 32 := Scalar.select v1458 v1459 v1444
  let c2_i32_821 : BitVec 32 := 2#32
  let c0_i32_822 : BitVec 32 := 0#32
  let v1461 : BitVec 1 := Scalar.cmpi .eq c2_i32_821 c0_i32_822
  let c1_i32_823 : BitVec 32 := 1#32
  let v1462 : BitVec 32 := Scalar.select v1461 c1_i32_823 c2_i32_821
  let v1463 : BitVec 32 := Scalar.remsi v1460 v1462
  let c0_i32_825 : BitVec 32 := 0#32
  let v1465 : BitVec 1 := Scalar.cmpi .slt v1463 c0_i32_825
  let c0_i32_826 : BitVec 32 := 0#32
  let v1466 : BitVec 1 := Scalar.cmpi .slt v1462 c0_i32_826
  let v1467 : BitVec 1 := Scalar.xori v1465 v1466
  let c0_i32_824 : BitVec 32 := 0#32
  let v1464 : BitVec 1 := Scalar.cmpi .ne v1463 c0_i32_824
  let v1468 : BitVec 1 := Scalar.andi v1467 v1464
  let v1469 : BitVec 32 := Scalar.addi v1463 v1462
  let v1470 : BitVec 32 := Scalar.select v1468 v1469 v1463
  let c2_i32_839 : BitVec 32 := 2#32
  let v1483 : BitVec 32 := Scalar.muli v1470 c2_i32_839
  let v1484 : BitVec 32 := Scalar.addi v1482 v1483
  let c2_i32_827 : BitVec 32 := 2#32
  let c0_i32_828 : BitVec 32 := 0#32
  let v1471 : BitVec 1 := Scalar.cmpi .eq c2_i32_827 c0_i32_828
  let c1_i32_829 : BitVec 32 := 1#32
  let v1472 : BitVec 32 := Scalar.select v1471 c1_i32_829 c2_i32_827
  let v1473 : BitVec 32 := Scalar.remsi v1228 v1472
  let c0_i32_831 : BitVec 32 := 0#32
  let v1475 : BitVec 1 := Scalar.cmpi .slt v1473 c0_i32_831
  let c0_i32_832 : BitVec 32 := 0#32
  let v1476 : BitVec 1 := Scalar.cmpi .slt v1472 c0_i32_832
  let v1477 : BitVec 1 := Scalar.xori v1475 v1476
  let c0_i32_830 : BitVec 32 := 0#32
  let v1474 : BitVec 1 := Scalar.cmpi .ne v1473 c0_i32_830
  let v1478 : BitVec 1 := Scalar.andi v1477 v1474
  let v1479 : BitVec 32 := Scalar.addi v1473 v1472
  let v1480 : BitVec 32 := Scalar.select v1478 v1479 v1473
  let c1_i32_840 : BitVec 32 := 1#32
  let v1485 : BitVec 32 := Scalar.muli v1480 c1_i32_840
  let v1486 : BitVec 32 := Scalar.addi v1484 v1485
  v1486.toNat
def k0_dev23 (d0 : Dev nD) : Nat :=
  let c0_i32_875 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_845 : BitVec 32 := 0#32
  let v1494 : BitVec 1 := Scalar.cmpi .sgt v1228 c0_i32_845
  let v1495 : BitVec 32 := Scalar.extui v1494
  let c0_i32_846 : BitVec 32 := 0#32
  let v1496 : BitVec 1 := Scalar.cmpi .slt v1228 c0_i32_846
  let v1497 : BitVec 32 := Scalar.extui v1496
  let v1498 : BitVec 32 := Scalar.subi v1495 v1497
  let c4_i32_844 : BitVec 32 := 4#32
  let c0_i32_847 : BitVec 32 := 0#32
  let v1499 : BitVec 1 := Scalar.cmpi .sgt c4_i32_844 c0_i32_847
  let v1500 : BitVec 32 := Scalar.extui v1499
  let c0_i32_848 : BitVec 32 := 0#32
  let v1501 : BitVec 1 := Scalar.cmpi .slt c4_i32_844 c0_i32_848
  let v1502 : BitVec 32 := Scalar.extui v1501
  let v1503 : BitVec 32 := Scalar.subi v1500 v1502
  let v1504 : BitVec 1 := Scalar.cmpi .ne v1498 v1503
  let v1505 : BitVec 32 := Scalar.remsi v1228 c4_i32_844
  let c0_i32_849 : BitVec 32 := 0#32
  let v1506 : BitVec 1 := Scalar.cmpi .ne v1505 c0_i32_849
  let v1507 : BitVec 1 := Scalar.andi v1504 v1506
  let v1493 : BitVec 32 := Scalar.divsi v1228 c4_i32_844
  let c1_i32_850 : BitVec 32 := 1#32
  let v1508 : BitVec 32 := Scalar.subi v1493 c1_i32_850
  let v1509 : BitVec 32 := Scalar.select v1507 v1508 v1493
  let c4_i32_874 : BitVec 32 := 4#32
  let v1547 : BitVec 32 := Scalar.muli v1509 c4_i32_874
  let v1548 : BitVec 32 := Scalar.addi c0_i32_875 v1547
  let c0_i32_852 : BitVec 32 := 0#32
  let v1511 : BitVec 1 := Scalar.cmpi .sgt v1228 c0_i32_852
  let v1512 : BitVec 32 := Scalar.extui v1511
  let c0_i32_853 : BitVec 32 := 0#32
  let v1513 : BitVec 1 := Scalar.cmpi .slt v1228 c0_i32_853
  let v1514 : BitVec 32 := Scalar.extui v1513
  let v1515 : BitVec 32 := Scalar.subi v1512 v1514
  let c2_i32_851 : BitVec 32 := 2#32
  let c0_i32_854 : BitVec 32 := 0#32
  let v1516 : BitVec 1 := Scalar.cmpi .sgt c2_i32_851 c0_i32_854
  let v1517 : BitVec 32 := Scalar.extui v1516
  let c0_i32_855 : BitVec 32 := 0#32
  let v1518 : BitVec 1 := Scalar.cmpi .slt c2_i32_851 c0_i32_855
  let v1519 : BitVec 32 := Scalar.extui v1518
  let v1520 : BitVec 32 := Scalar.subi v1517 v1519
  let v1521 : BitVec 1 := Scalar.cmpi .ne v1515 v1520
  let v1522 : BitVec 32 := Scalar.remsi v1228 c2_i32_851
  let c0_i32_856 : BitVec 32 := 0#32
  let v1523 : BitVec 1 := Scalar.cmpi .ne v1522 c0_i32_856
  let v1524 : BitVec 1 := Scalar.andi v1521 v1523
  let v1510 : BitVec 32 := Scalar.divsi v1228 c2_i32_851
  let c1_i32_857 : BitVec 32 := 1#32
  let v1525 : BitVec 32 := Scalar.subi v1510 c1_i32_857
  let v1526 : BitVec 32 := Scalar.select v1524 v1525 v1510
  let c2_i32_858 : BitVec 32 := 2#32
  let c0_i32_859 : BitVec 32 := 0#32
  let v1527 : BitVec 1 := Scalar.cmpi .eq c2_i32_858 c0_i32_859
  let c1_i32_860 : BitVec 32 := 1#32
  let v1528 : BitVec 32 := Scalar.select v1527 c1_i32_860 c2_i32_858
  let v1529 : BitVec 32 := Scalar.remsi v1526 v1528
  let c0_i32_862 : BitVec 32 := 0#32
  let v1531 : BitVec 1 := Scalar.cmpi .slt v1529 c0_i32_862
  let c0_i32_863 : BitVec 32 := 0#32
  let v1532 : BitVec 1 := Scalar.cmpi .slt v1528 c0_i32_863
  let v1533 : BitVec 1 := Scalar.xori v1531 v1532
  let c0_i32_861 : BitVec 32 := 0#32
  let v1530 : BitVec 1 := Scalar.cmpi .ne v1529 c0_i32_861
  let v1534 : BitVec 1 := Scalar.andi v1533 v1530
  let v1535 : BitVec 32 := Scalar.addi v1529 v1528
  let v1536 : BitVec 32 := Scalar.select v1534 v1535 v1529
  let c2_i32_876 : BitVec 32 := 2#32
  let v1549 : BitVec 32 := Scalar.muli v1536 c2_i32_876
  let v1550 : BitVec 32 := Scalar.addi v1548 v1549
  let c2_i32_864 : BitVec 32 := 2#32
  let c0_i32_865 : BitVec 32 := 0#32
  let v1537 : BitVec 1 := Scalar.cmpi .eq c2_i32_864 c0_i32_865
  let c1_i32_866 : BitVec 32 := 1#32
  let v1538 : BitVec 32 := Scalar.select v1537 c1_i32_866 c2_i32_864
  let v1539 : BitVec 32 := Scalar.remsi v1228 v1538
  let c0_i32_868 : BitVec 32 := 0#32
  let v1541 : BitVec 1 := Scalar.cmpi .slt v1539 c0_i32_868
  let c0_i32_869 : BitVec 32 := 0#32
  let v1542 : BitVec 1 := Scalar.cmpi .slt v1538 c0_i32_869
  let v1543 : BitVec 1 := Scalar.xori v1541 v1542
  let c0_i32_867 : BitVec 32 := 0#32
  let v1540 : BitVec 1 := Scalar.cmpi .ne v1539 c0_i32_867
  let v1544 : BitVec 1 := Scalar.andi v1543 v1540
  let v1545 : BitVec 32 := Scalar.addi v1539 v1538
  let v1546 : BitVec 32 := Scalar.select v1544 v1545 v1539
  let c1_i32_877 : BitVec 32 := 1#32
  let v1551 : BitVec 32 := Scalar.muli v1546 c1_i32_877
  let v1552 : BitVec 32 := Scalar.addi v1550 v1551
  v1552.toNat
def k0_dev24 (d0 : Dev nD) : Nat :=
  let c0_i32_912 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_882 : BitVec 32 := 0#32
  let v1560 : BitVec 1 := Scalar.cmpi .sgt v1228 c0_i32_882
  let v1561 : BitVec 32 := Scalar.extui v1560
  let c0_i32_883 : BitVec 32 := 0#32
  let v1562 : BitVec 1 := Scalar.cmpi .slt v1228 c0_i32_883
  let v1563 : BitVec 32 := Scalar.extui v1562
  let v1564 : BitVec 32 := Scalar.subi v1561 v1563
  let c4_i32_881 : BitVec 32 := 4#32
  let c0_i32_884 : BitVec 32 := 0#32
  let v1565 : BitVec 1 := Scalar.cmpi .sgt c4_i32_881 c0_i32_884
  let v1566 : BitVec 32 := Scalar.extui v1565
  let c0_i32_885 : BitVec 32 := 0#32
  let v1567 : BitVec 1 := Scalar.cmpi .slt c4_i32_881 c0_i32_885
  let v1568 : BitVec 32 := Scalar.extui v1567
  let v1569 : BitVec 32 := Scalar.subi v1566 v1568
  let v1570 : BitVec 1 := Scalar.cmpi .ne v1564 v1569
  let v1571 : BitVec 32 := Scalar.remsi v1228 c4_i32_881
  let c0_i32_886 : BitVec 32 := 0#32
  let v1572 : BitVec 1 := Scalar.cmpi .ne v1571 c0_i32_886
  let v1573 : BitVec 1 := Scalar.andi v1570 v1572
  let v1559 : BitVec 32 := Scalar.divsi v1228 c4_i32_881
  let c1_i32_887 : BitVec 32 := 1#32
  let v1574 : BitVec 32 := Scalar.subi v1559 c1_i32_887
  let v1575 : BitVec 32 := Scalar.select v1573 v1574 v1559
  let c4_i32_911 : BitVec 32 := 4#32
  let v1613 : BitVec 32 := Scalar.muli v1575 c4_i32_911
  let v1614 : BitVec 32 := Scalar.addi c0_i32_912 v1613
  let c0_i32_889 : BitVec 32 := 0#32
  let v1577 : BitVec 1 := Scalar.cmpi .sgt v1228 c0_i32_889
  let v1578 : BitVec 32 := Scalar.extui v1577
  let c0_i32_890 : BitVec 32 := 0#32
  let v1579 : BitVec 1 := Scalar.cmpi .slt v1228 c0_i32_890
  let v1580 : BitVec 32 := Scalar.extui v1579
  let v1581 : BitVec 32 := Scalar.subi v1578 v1580
  let c2_i32_888 : BitVec 32 := 2#32
  let c0_i32_891 : BitVec 32 := 0#32
  let v1582 : BitVec 1 := Scalar.cmpi .sgt c2_i32_888 c0_i32_891
  let v1583 : BitVec 32 := Scalar.extui v1582
  let c0_i32_892 : BitVec 32 := 0#32
  let v1584 : BitVec 1 := Scalar.cmpi .slt c2_i32_888 c0_i32_892
  let v1585 : BitVec 32 := Scalar.extui v1584
  let v1586 : BitVec 32 := Scalar.subi v1583 v1585
  let v1587 : BitVec 1 := Scalar.cmpi .ne v1581 v1586
  let v1588 : BitVec 32 := Scalar.remsi v1228 c2_i32_888
  let c0_i32_893 : BitVec 32 := 0#32
  let v1589 : BitVec 1 := Scalar.cmpi .ne v1588 c0_i32_893
  let v1590 : BitVec 1 := Scalar.andi v1587 v1589
  let v1576 : BitVec 32 := Scalar.divsi v1228 c2_i32_888
  let c1_i32_894 : BitVec 32 := 1#32
  let v1591 : BitVec 32 := Scalar.subi v1576 c1_i32_894
  let v1592 : BitVec 32 := Scalar.select v1590 v1591 v1576
  let c2_i32_895 : BitVec 32 := 2#32
  let c0_i32_896 : BitVec 32 := 0#32
  let v1593 : BitVec 1 := Scalar.cmpi .eq c2_i32_895 c0_i32_896
  let c1_i32_897 : BitVec 32 := 1#32
  let v1594 : BitVec 32 := Scalar.select v1593 c1_i32_897 c2_i32_895
  let v1595 : BitVec 32 := Scalar.remsi v1592 v1594
  let c0_i32_899 : BitVec 32 := 0#32
  let v1597 : BitVec 1 := Scalar.cmpi .slt v1595 c0_i32_899
  let c0_i32_900 : BitVec 32 := 0#32
  let v1598 : BitVec 1 := Scalar.cmpi .slt v1594 c0_i32_900
  let v1599 : BitVec 1 := Scalar.xori v1597 v1598
  let c0_i32_898 : BitVec 32 := 0#32
  let v1596 : BitVec 1 := Scalar.cmpi .ne v1595 c0_i32_898
  let v1600 : BitVec 1 := Scalar.andi v1599 v1596
  let v1601 : BitVec 32 := Scalar.addi v1595 v1594
  let v1602 : BitVec 32 := Scalar.select v1600 v1601 v1595
  let c2_i32_913 : BitVec 32 := 2#32
  let v1615 : BitVec 32 := Scalar.muli v1602 c2_i32_913
  let v1616 : BitVec 32 := Scalar.addi v1614 v1615
  let c2_i32_901 : BitVec 32 := 2#32
  let c0_i32_902 : BitVec 32 := 0#32
  let v1603 : BitVec 1 := Scalar.cmpi .eq c2_i32_901 c0_i32_902
  let c1_i32_903 : BitVec 32 := 1#32
  let v1604 : BitVec 32 := Scalar.select v1603 c1_i32_903 c2_i32_901
  let v1605 : BitVec 32 := Scalar.remsi v1228 v1604
  let c0_i32_905 : BitVec 32 := 0#32
  let v1607 : BitVec 1 := Scalar.cmpi .slt v1605 c0_i32_905
  let c0_i32_906 : BitVec 32 := 0#32
  let v1608 : BitVec 1 := Scalar.cmpi .slt v1604 c0_i32_906
  let v1609 : BitVec 1 := Scalar.xori v1607 v1608
  let c0_i32_904 : BitVec 32 := 0#32
  let v1606 : BitVec 1 := Scalar.cmpi .ne v1605 c0_i32_904
  let v1610 : BitVec 1 := Scalar.andi v1609 v1606
  let v1611 : BitVec 32 := Scalar.addi v1605 v1604
  let v1612 : BitVec 32 := Scalar.select v1610 v1611 v1605
  let c1_i32_914 : BitVec 32 := 1#32
  let v1617 : BitVec 32 := Scalar.muli v1612 c1_i32_914
  let v1618 : BitVec 32 := Scalar.addi v1616 v1617
  v1618.toNat
def k0_dev25 (d0 : Dev nD) : Nat :=
  let c0_i32_950 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_920 : BitVec 32 := 0#32
  let v1627 : BitVec 1 := Scalar.cmpi .sgt v1625 c0_i32_920
  let v1628 : BitVec 32 := Scalar.extui v1627
  let c0_i32_921 : BitVec 32 := 0#32
  let v1629 : BitVec 1 := Scalar.cmpi .slt v1625 c0_i32_921
  let v1630 : BitVec 32 := Scalar.extui v1629
  let v1631 : BitVec 32 := Scalar.subi v1628 v1630
  let c4_i32_919 : BitVec 32 := 4#32
  let c0_i32_922 : BitVec 32 := 0#32
  let v1632 : BitVec 1 := Scalar.cmpi .sgt c4_i32_919 c0_i32_922
  let v1633 : BitVec 32 := Scalar.extui v1632
  let c0_i32_923 : BitVec 32 := 0#32
  let v1634 : BitVec 1 := Scalar.cmpi .slt c4_i32_919 c0_i32_923
  let v1635 : BitVec 32 := Scalar.extui v1634
  let v1636 : BitVec 32 := Scalar.subi v1633 v1635
  let v1637 : BitVec 1 := Scalar.cmpi .ne v1631 v1636
  let v1638 : BitVec 32 := Scalar.remsi v1625 c4_i32_919
  let c0_i32_924 : BitVec 32 := 0#32
  let v1639 : BitVec 1 := Scalar.cmpi .ne v1638 c0_i32_924
  let v1640 : BitVec 1 := Scalar.andi v1637 v1639
  let v1626 : BitVec 32 := Scalar.divsi v1625 c4_i32_919
  let c1_i32_925 : BitVec 32 := 1#32
  let v1641 : BitVec 32 := Scalar.subi v1626 c1_i32_925
  let v1642 : BitVec 32 := Scalar.select v1640 v1641 v1626
  let c4_i32_949 : BitVec 32 := 4#32
  let v1680 : BitVec 32 := Scalar.muli v1642 c4_i32_949
  let v1681 : BitVec 32 := Scalar.addi c0_i32_950 v1680
  let c0_i32_927 : BitVec 32 := 0#32
  let v1644 : BitVec 1 := Scalar.cmpi .sgt v1625 c0_i32_927
  let v1645 : BitVec 32 := Scalar.extui v1644
  let c0_i32_928 : BitVec 32 := 0#32
  let v1646 : BitVec 1 := Scalar.cmpi .slt v1625 c0_i32_928
  let v1647 : BitVec 32 := Scalar.extui v1646
  let v1648 : BitVec 32 := Scalar.subi v1645 v1647
  let c2_i32_926 : BitVec 32 := 2#32
  let c0_i32_929 : BitVec 32 := 0#32
  let v1649 : BitVec 1 := Scalar.cmpi .sgt c2_i32_926 c0_i32_929
  let v1650 : BitVec 32 := Scalar.extui v1649
  let c0_i32_930 : BitVec 32 := 0#32
  let v1651 : BitVec 1 := Scalar.cmpi .slt c2_i32_926 c0_i32_930
  let v1652 : BitVec 32 := Scalar.extui v1651
  let v1653 : BitVec 32 := Scalar.subi v1650 v1652
  let v1654 : BitVec 1 := Scalar.cmpi .ne v1648 v1653
  let v1655 : BitVec 32 := Scalar.remsi v1625 c2_i32_926
  let c0_i32_931 : BitVec 32 := 0#32
  let v1656 : BitVec 1 := Scalar.cmpi .ne v1655 c0_i32_931
  let v1657 : BitVec 1 := Scalar.andi v1654 v1656
  let v1643 : BitVec 32 := Scalar.divsi v1625 c2_i32_926
  let c1_i32_932 : BitVec 32 := 1#32
  let v1658 : BitVec 32 := Scalar.subi v1643 c1_i32_932
  let v1659 : BitVec 32 := Scalar.select v1657 v1658 v1643
  let c2_i32_933 : BitVec 32 := 2#32
  let c0_i32_934 : BitVec 32 := 0#32
  let v1660 : BitVec 1 := Scalar.cmpi .eq c2_i32_933 c0_i32_934
  let c1_i32_935 : BitVec 32 := 1#32
  let v1661 : BitVec 32 := Scalar.select v1660 c1_i32_935 c2_i32_933
  let v1662 : BitVec 32 := Scalar.remsi v1659 v1661
  let c0_i32_937 : BitVec 32 := 0#32
  let v1664 : BitVec 1 := Scalar.cmpi .slt v1662 c0_i32_937
  let c0_i32_938 : BitVec 32 := 0#32
  let v1665 : BitVec 1 := Scalar.cmpi .slt v1661 c0_i32_938
  let v1666 : BitVec 1 := Scalar.xori v1664 v1665
  let c0_i32_936 : BitVec 32 := 0#32
  let v1663 : BitVec 1 := Scalar.cmpi .ne v1662 c0_i32_936
  let v1667 : BitVec 1 := Scalar.andi v1666 v1663
  let v1668 : BitVec 32 := Scalar.addi v1662 v1661
  let v1669 : BitVec 32 := Scalar.select v1667 v1668 v1662
  let c2_i32_951 : BitVec 32 := 2#32
  let v1682 : BitVec 32 := Scalar.muli v1669 c2_i32_951
  let v1683 : BitVec 32 := Scalar.addi v1681 v1682
  let c2_i32_939 : BitVec 32 := 2#32
  let c0_i32_940 : BitVec 32 := 0#32
  let v1670 : BitVec 1 := Scalar.cmpi .eq c2_i32_939 c0_i32_940
  let c1_i32_941 : BitVec 32 := 1#32
  let v1671 : BitVec 32 := Scalar.select v1670 c1_i32_941 c2_i32_939
  let v1672 : BitVec 32 := Scalar.remsi v1625 v1671
  let c0_i32_943 : BitVec 32 := 0#32
  let v1674 : BitVec 1 := Scalar.cmpi .slt v1672 c0_i32_943
  let c0_i32_944 : BitVec 32 := 0#32
  let v1675 : BitVec 1 := Scalar.cmpi .slt v1671 c0_i32_944
  let v1676 : BitVec 1 := Scalar.xori v1674 v1675
  let c0_i32_942 : BitVec 32 := 0#32
  let v1673 : BitVec 1 := Scalar.cmpi .ne v1672 c0_i32_942
  let v1677 : BitVec 1 := Scalar.andi v1676 v1673
  let v1678 : BitVec 32 := Scalar.addi v1672 v1671
  let v1679 : BitVec 32 := Scalar.select v1677 v1678 v1672
  let c1_i32_952 : BitVec 32 := 1#32
  let v1684 : BitVec 32 := Scalar.muli v1679 c1_i32_952
  let v1685 : BitVec 32 := Scalar.addi v1683 v1684
  v1685.toNat
def k0_dev26 (d0 : Dev nD) : Nat :=
  let c0_i32_987 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_957 : BitVec 32 := 0#32
  let v1693 : BitVec 1 := Scalar.cmpi .sgt v1625 c0_i32_957
  let v1694 : BitVec 32 := Scalar.extui v1693
  let c0_i32_958 : BitVec 32 := 0#32
  let v1695 : BitVec 1 := Scalar.cmpi .slt v1625 c0_i32_958
  let v1696 : BitVec 32 := Scalar.extui v1695
  let v1697 : BitVec 32 := Scalar.subi v1694 v1696
  let c4_i32_956 : BitVec 32 := 4#32
  let c0_i32_959 : BitVec 32 := 0#32
  let v1698 : BitVec 1 := Scalar.cmpi .sgt c4_i32_956 c0_i32_959
  let v1699 : BitVec 32 := Scalar.extui v1698
  let c0_i32_960 : BitVec 32 := 0#32
  let v1700 : BitVec 1 := Scalar.cmpi .slt c4_i32_956 c0_i32_960
  let v1701 : BitVec 32 := Scalar.extui v1700
  let v1702 : BitVec 32 := Scalar.subi v1699 v1701
  let v1703 : BitVec 1 := Scalar.cmpi .ne v1697 v1702
  let v1704 : BitVec 32 := Scalar.remsi v1625 c4_i32_956
  let c0_i32_961 : BitVec 32 := 0#32
  let v1705 : BitVec 1 := Scalar.cmpi .ne v1704 c0_i32_961
  let v1706 : BitVec 1 := Scalar.andi v1703 v1705
  let v1692 : BitVec 32 := Scalar.divsi v1625 c4_i32_956
  let c1_i32_962 : BitVec 32 := 1#32
  let v1707 : BitVec 32 := Scalar.subi v1692 c1_i32_962
  let v1708 : BitVec 32 := Scalar.select v1706 v1707 v1692
  let c4_i32_986 : BitVec 32 := 4#32
  let v1746 : BitVec 32 := Scalar.muli v1708 c4_i32_986
  let v1747 : BitVec 32 := Scalar.addi c0_i32_987 v1746
  let c0_i32_964 : BitVec 32 := 0#32
  let v1710 : BitVec 1 := Scalar.cmpi .sgt v1625 c0_i32_964
  let v1711 : BitVec 32 := Scalar.extui v1710
  let c0_i32_965 : BitVec 32 := 0#32
  let v1712 : BitVec 1 := Scalar.cmpi .slt v1625 c0_i32_965
  let v1713 : BitVec 32 := Scalar.extui v1712
  let v1714 : BitVec 32 := Scalar.subi v1711 v1713
  let c2_i32_963 : BitVec 32 := 2#32
  let c0_i32_966 : BitVec 32 := 0#32
  let v1715 : BitVec 1 := Scalar.cmpi .sgt c2_i32_963 c0_i32_966
  let v1716 : BitVec 32 := Scalar.extui v1715
  let c0_i32_967 : BitVec 32 := 0#32
  let v1717 : BitVec 1 := Scalar.cmpi .slt c2_i32_963 c0_i32_967
  let v1718 : BitVec 32 := Scalar.extui v1717
  let v1719 : BitVec 32 := Scalar.subi v1716 v1718
  let v1720 : BitVec 1 := Scalar.cmpi .ne v1714 v1719
  let v1721 : BitVec 32 := Scalar.remsi v1625 c2_i32_963
  let c0_i32_968 : BitVec 32 := 0#32
  let v1722 : BitVec 1 := Scalar.cmpi .ne v1721 c0_i32_968
  let v1723 : BitVec 1 := Scalar.andi v1720 v1722
  let v1709 : BitVec 32 := Scalar.divsi v1625 c2_i32_963
  let c1_i32_969 : BitVec 32 := 1#32
  let v1724 : BitVec 32 := Scalar.subi v1709 c1_i32_969
  let v1725 : BitVec 32 := Scalar.select v1723 v1724 v1709
  let c2_i32_970 : BitVec 32 := 2#32
  let c0_i32_971 : BitVec 32 := 0#32
  let v1726 : BitVec 1 := Scalar.cmpi .eq c2_i32_970 c0_i32_971
  let c1_i32_972 : BitVec 32 := 1#32
  let v1727 : BitVec 32 := Scalar.select v1726 c1_i32_972 c2_i32_970
  let v1728 : BitVec 32 := Scalar.remsi v1725 v1727
  let c0_i32_974 : BitVec 32 := 0#32
  let v1730 : BitVec 1 := Scalar.cmpi .slt v1728 c0_i32_974
  let c0_i32_975 : BitVec 32 := 0#32
  let v1731 : BitVec 1 := Scalar.cmpi .slt v1727 c0_i32_975
  let v1732 : BitVec 1 := Scalar.xori v1730 v1731
  let c0_i32_973 : BitVec 32 := 0#32
  let v1729 : BitVec 1 := Scalar.cmpi .ne v1728 c0_i32_973
  let v1733 : BitVec 1 := Scalar.andi v1732 v1729
  let v1734 : BitVec 32 := Scalar.addi v1728 v1727
  let v1735 : BitVec 32 := Scalar.select v1733 v1734 v1728
  let c2_i32_988 : BitVec 32 := 2#32
  let v1748 : BitVec 32 := Scalar.muli v1735 c2_i32_988
  let v1749 : BitVec 32 := Scalar.addi v1747 v1748
  let c2_i32_976 : BitVec 32 := 2#32
  let c0_i32_977 : BitVec 32 := 0#32
  let v1736 : BitVec 1 := Scalar.cmpi .eq c2_i32_976 c0_i32_977
  let c1_i32_978 : BitVec 32 := 1#32
  let v1737 : BitVec 32 := Scalar.select v1736 c1_i32_978 c2_i32_976
  let v1738 : BitVec 32 := Scalar.remsi v1625 v1737
  let c0_i32_980 : BitVec 32 := 0#32
  let v1740 : BitVec 1 := Scalar.cmpi .slt v1738 c0_i32_980
  let c0_i32_981 : BitVec 32 := 0#32
  let v1741 : BitVec 1 := Scalar.cmpi .slt v1737 c0_i32_981
  let v1742 : BitVec 1 := Scalar.xori v1740 v1741
  let c0_i32_979 : BitVec 32 := 0#32
  let v1739 : BitVec 1 := Scalar.cmpi .ne v1738 c0_i32_979
  let v1743 : BitVec 1 := Scalar.andi v1742 v1739
  let v1744 : BitVec 32 := Scalar.addi v1738 v1737
  let v1745 : BitVec 32 := Scalar.select v1743 v1744 v1738
  let c1_i32_989 : BitVec 32 := 1#32
  let v1750 : BitVec 32 := Scalar.muli v1745 c1_i32_989
  let v1751 : BitVec 32 := Scalar.addi v1749 v1750
  v1751.toNat
def k0_dev27 (d0 : Dev nD) : Nat :=
  let c0_i32_1024 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_994 : BitVec 32 := 0#32
  let v1759 : BitVec 1 := Scalar.cmpi .sgt v1625 c0_i32_994
  let v1760 : BitVec 32 := Scalar.extui v1759
  let c0_i32_995 : BitVec 32 := 0#32
  let v1761 : BitVec 1 := Scalar.cmpi .slt v1625 c0_i32_995
  let v1762 : BitVec 32 := Scalar.extui v1761
  let v1763 : BitVec 32 := Scalar.subi v1760 v1762
  let c4_i32_993 : BitVec 32 := 4#32
  let c0_i32_996 : BitVec 32 := 0#32
  let v1764 : BitVec 1 := Scalar.cmpi .sgt c4_i32_993 c0_i32_996
  let v1765 : BitVec 32 := Scalar.extui v1764
  let c0_i32_997 : BitVec 32 := 0#32
  let v1766 : BitVec 1 := Scalar.cmpi .slt c4_i32_993 c0_i32_997
  let v1767 : BitVec 32 := Scalar.extui v1766
  let v1768 : BitVec 32 := Scalar.subi v1765 v1767
  let v1769 : BitVec 1 := Scalar.cmpi .ne v1763 v1768
  let v1770 : BitVec 32 := Scalar.remsi v1625 c4_i32_993
  let c0_i32_998 : BitVec 32 := 0#32
  let v1771 : BitVec 1 := Scalar.cmpi .ne v1770 c0_i32_998
  let v1772 : BitVec 1 := Scalar.andi v1769 v1771
  let v1758 : BitVec 32 := Scalar.divsi v1625 c4_i32_993
  let c1_i32_999 : BitVec 32 := 1#32
  let v1773 : BitVec 32 := Scalar.subi v1758 c1_i32_999
  let v1774 : BitVec 32 := Scalar.select v1772 v1773 v1758
  let c4_i32_1023 : BitVec 32 := 4#32
  let v1812 : BitVec 32 := Scalar.muli v1774 c4_i32_1023
  let v1813 : BitVec 32 := Scalar.addi c0_i32_1024 v1812
  let c0_i32_1001 : BitVec 32 := 0#32
  let v1776 : BitVec 1 := Scalar.cmpi .sgt v1625 c0_i32_1001
  let v1777 : BitVec 32 := Scalar.extui v1776
  let c0_i32_1002 : BitVec 32 := 0#32
  let v1778 : BitVec 1 := Scalar.cmpi .slt v1625 c0_i32_1002
  let v1779 : BitVec 32 := Scalar.extui v1778
  let v1780 : BitVec 32 := Scalar.subi v1777 v1779
  let c2_i32_1000 : BitVec 32 := 2#32
  let c0_i32_1003 : BitVec 32 := 0#32
  let v1781 : BitVec 1 := Scalar.cmpi .sgt c2_i32_1000 c0_i32_1003
  let v1782 : BitVec 32 := Scalar.extui v1781
  let c0_i32_1004 : BitVec 32 := 0#32
  let v1783 : BitVec 1 := Scalar.cmpi .slt c2_i32_1000 c0_i32_1004
  let v1784 : BitVec 32 := Scalar.extui v1783
  let v1785 : BitVec 32 := Scalar.subi v1782 v1784
  let v1786 : BitVec 1 := Scalar.cmpi .ne v1780 v1785
  let v1787 : BitVec 32 := Scalar.remsi v1625 c2_i32_1000
  let c0_i32_1005 : BitVec 32 := 0#32
  let v1788 : BitVec 1 := Scalar.cmpi .ne v1787 c0_i32_1005
  let v1789 : BitVec 1 := Scalar.andi v1786 v1788
  let v1775 : BitVec 32 := Scalar.divsi v1625 c2_i32_1000
  let c1_i32_1006 : BitVec 32 := 1#32
  let v1790 : BitVec 32 := Scalar.subi v1775 c1_i32_1006
  let v1791 : BitVec 32 := Scalar.select v1789 v1790 v1775
  let c2_i32_1007 : BitVec 32 := 2#32
  let c0_i32_1008 : BitVec 32 := 0#32
  let v1792 : BitVec 1 := Scalar.cmpi .eq c2_i32_1007 c0_i32_1008
  let c1_i32_1009 : BitVec 32 := 1#32
  let v1793 : BitVec 32 := Scalar.select v1792 c1_i32_1009 c2_i32_1007
  let v1794 : BitVec 32 := Scalar.remsi v1791 v1793
  let c0_i32_1011 : BitVec 32 := 0#32
  let v1796 : BitVec 1 := Scalar.cmpi .slt v1794 c0_i32_1011
  let c0_i32_1012 : BitVec 32 := 0#32
  let v1797 : BitVec 1 := Scalar.cmpi .slt v1793 c0_i32_1012
  let v1798 : BitVec 1 := Scalar.xori v1796 v1797
  let c0_i32_1010 : BitVec 32 := 0#32
  let v1795 : BitVec 1 := Scalar.cmpi .ne v1794 c0_i32_1010
  let v1799 : BitVec 1 := Scalar.andi v1798 v1795
  let v1800 : BitVec 32 := Scalar.addi v1794 v1793
  let v1801 : BitVec 32 := Scalar.select v1799 v1800 v1794
  let c2_i32_1025 : BitVec 32 := 2#32
  let v1814 : BitVec 32 := Scalar.muli v1801 c2_i32_1025
  let v1815 : BitVec 32 := Scalar.addi v1813 v1814
  let c2_i32_1013 : BitVec 32 := 2#32
  let c0_i32_1014 : BitVec 32 := 0#32
  let v1802 : BitVec 1 := Scalar.cmpi .eq c2_i32_1013 c0_i32_1014
  let c1_i32_1015 : BitVec 32 := 1#32
  let v1803 : BitVec 32 := Scalar.select v1802 c1_i32_1015 c2_i32_1013
  let v1804 : BitVec 32 := Scalar.remsi v1625 v1803
  let c0_i32_1017 : BitVec 32 := 0#32
  let v1806 : BitVec 1 := Scalar.cmpi .slt v1804 c0_i32_1017
  let c0_i32_1018 : BitVec 32 := 0#32
  let v1807 : BitVec 1 := Scalar.cmpi .slt v1803 c0_i32_1018
  let v1808 : BitVec 1 := Scalar.xori v1806 v1807
  let c0_i32_1016 : BitVec 32 := 0#32
  let v1805 : BitVec 1 := Scalar.cmpi .ne v1804 c0_i32_1016
  let v1809 : BitVec 1 := Scalar.andi v1808 v1805
  let v1810 : BitVec 32 := Scalar.addi v1804 v1803
  let v1811 : BitVec 32 := Scalar.select v1809 v1810 v1804
  let c1_i32_1026 : BitVec 32 := 1#32
  let v1816 : BitVec 32 := Scalar.muli v1811 c1_i32_1026
  let v1817 : BitVec 32 := Scalar.addi v1815 v1816
  v1817.toNat
def k0_dev28 (d0 : Dev nD) : Nat :=
  let c0_i32_1061 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1031 : BitVec 32 := 0#32
  let v1825 : BitVec 1 := Scalar.cmpi .sgt v1625 c0_i32_1031
  let v1826 : BitVec 32 := Scalar.extui v1825
  let c0_i32_1032 : BitVec 32 := 0#32
  let v1827 : BitVec 1 := Scalar.cmpi .slt v1625 c0_i32_1032
  let v1828 : BitVec 32 := Scalar.extui v1827
  let v1829 : BitVec 32 := Scalar.subi v1826 v1828
  let c4_i32_1030 : BitVec 32 := 4#32
  let c0_i32_1033 : BitVec 32 := 0#32
  let v1830 : BitVec 1 := Scalar.cmpi .sgt c4_i32_1030 c0_i32_1033
  let v1831 : BitVec 32 := Scalar.extui v1830
  let c0_i32_1034 : BitVec 32 := 0#32
  let v1832 : BitVec 1 := Scalar.cmpi .slt c4_i32_1030 c0_i32_1034
  let v1833 : BitVec 32 := Scalar.extui v1832
  let v1834 : BitVec 32 := Scalar.subi v1831 v1833
  let v1835 : BitVec 1 := Scalar.cmpi .ne v1829 v1834
  let v1836 : BitVec 32 := Scalar.remsi v1625 c4_i32_1030
  let c0_i32_1035 : BitVec 32 := 0#32
  let v1837 : BitVec 1 := Scalar.cmpi .ne v1836 c0_i32_1035
  let v1838 : BitVec 1 := Scalar.andi v1835 v1837
  let v1824 : BitVec 32 := Scalar.divsi v1625 c4_i32_1030
  let c1_i32_1036 : BitVec 32 := 1#32
  let v1839 : BitVec 32 := Scalar.subi v1824 c1_i32_1036
  let v1840 : BitVec 32 := Scalar.select v1838 v1839 v1824
  let c4_i32_1060 : BitVec 32 := 4#32
  let v1878 : BitVec 32 := Scalar.muli v1840 c4_i32_1060
  let v1879 : BitVec 32 := Scalar.addi c0_i32_1061 v1878
  let c0_i32_1038 : BitVec 32 := 0#32
  let v1842 : BitVec 1 := Scalar.cmpi .sgt v1625 c0_i32_1038
  let v1843 : BitVec 32 := Scalar.extui v1842
  let c0_i32_1039 : BitVec 32 := 0#32
  let v1844 : BitVec 1 := Scalar.cmpi .slt v1625 c0_i32_1039
  let v1845 : BitVec 32 := Scalar.extui v1844
  let v1846 : BitVec 32 := Scalar.subi v1843 v1845
  let c2_i32_1037 : BitVec 32 := 2#32
  let c0_i32_1040 : BitVec 32 := 0#32
  let v1847 : BitVec 1 := Scalar.cmpi .sgt c2_i32_1037 c0_i32_1040
  let v1848 : BitVec 32 := Scalar.extui v1847
  let c0_i32_1041 : BitVec 32 := 0#32
  let v1849 : BitVec 1 := Scalar.cmpi .slt c2_i32_1037 c0_i32_1041
  let v1850 : BitVec 32 := Scalar.extui v1849
  let v1851 : BitVec 32 := Scalar.subi v1848 v1850
  let v1852 : BitVec 1 := Scalar.cmpi .ne v1846 v1851
  let v1853 : BitVec 32 := Scalar.remsi v1625 c2_i32_1037
  let c0_i32_1042 : BitVec 32 := 0#32
  let v1854 : BitVec 1 := Scalar.cmpi .ne v1853 c0_i32_1042
  let v1855 : BitVec 1 := Scalar.andi v1852 v1854
  let v1841 : BitVec 32 := Scalar.divsi v1625 c2_i32_1037
  let c1_i32_1043 : BitVec 32 := 1#32
  let v1856 : BitVec 32 := Scalar.subi v1841 c1_i32_1043
  let v1857 : BitVec 32 := Scalar.select v1855 v1856 v1841
  let c2_i32_1044 : BitVec 32 := 2#32
  let c0_i32_1045 : BitVec 32 := 0#32
  let v1858 : BitVec 1 := Scalar.cmpi .eq c2_i32_1044 c0_i32_1045
  let c1_i32_1046 : BitVec 32 := 1#32
  let v1859 : BitVec 32 := Scalar.select v1858 c1_i32_1046 c2_i32_1044
  let v1860 : BitVec 32 := Scalar.remsi v1857 v1859
  let c0_i32_1048 : BitVec 32 := 0#32
  let v1862 : BitVec 1 := Scalar.cmpi .slt v1860 c0_i32_1048
  let c0_i32_1049 : BitVec 32 := 0#32
  let v1863 : BitVec 1 := Scalar.cmpi .slt v1859 c0_i32_1049
  let v1864 : BitVec 1 := Scalar.xori v1862 v1863
  let c0_i32_1047 : BitVec 32 := 0#32
  let v1861 : BitVec 1 := Scalar.cmpi .ne v1860 c0_i32_1047
  let v1865 : BitVec 1 := Scalar.andi v1864 v1861
  let v1866 : BitVec 32 := Scalar.addi v1860 v1859
  let v1867 : BitVec 32 := Scalar.select v1865 v1866 v1860
  let c2_i32_1062 : BitVec 32 := 2#32
  let v1880 : BitVec 32 := Scalar.muli v1867 c2_i32_1062
  let v1881 : BitVec 32 := Scalar.addi v1879 v1880
  let c2_i32_1050 : BitVec 32 := 2#32
  let c0_i32_1051 : BitVec 32 := 0#32
  let v1868 : BitVec 1 := Scalar.cmpi .eq c2_i32_1050 c0_i32_1051
  let c1_i32_1052 : BitVec 32 := 1#32
  let v1869 : BitVec 32 := Scalar.select v1868 c1_i32_1052 c2_i32_1050
  let v1870 : BitVec 32 := Scalar.remsi v1625 v1869
  let c0_i32_1054 : BitVec 32 := 0#32
  let v1872 : BitVec 1 := Scalar.cmpi .slt v1870 c0_i32_1054
  let c0_i32_1055 : BitVec 32 := 0#32
  let v1873 : BitVec 1 := Scalar.cmpi .slt v1869 c0_i32_1055
  let v1874 : BitVec 1 := Scalar.xori v1872 v1873
  let c0_i32_1053 : BitVec 32 := 0#32
  let v1871 : BitVec 1 := Scalar.cmpi .ne v1870 c0_i32_1053
  let v1875 : BitVec 1 := Scalar.andi v1874 v1871
  let v1876 : BitVec 32 := Scalar.addi v1870 v1869
  let v1877 : BitVec 32 := Scalar.select v1875 v1876 v1870
  let c1_i32_1063 : BitVec 32 := 1#32
  let v1882 : BitVec 32 := Scalar.muli v1877 c1_i32_1063
  let v1883 : BitVec 32 := Scalar.addi v1881 v1882
  v1883.toNat
def k0_dev29 (d0 : Dev nD) : Nat :=
  let c0_i32_1098 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1068 : BitVec 32 := 0#32
  let v1891 : BitVec 1 := Scalar.cmpi .sgt v1625 c0_i32_1068
  let v1892 : BitVec 32 := Scalar.extui v1891
  let c0_i32_1069 : BitVec 32 := 0#32
  let v1893 : BitVec 1 := Scalar.cmpi .slt v1625 c0_i32_1069
  let v1894 : BitVec 32 := Scalar.extui v1893
  let v1895 : BitVec 32 := Scalar.subi v1892 v1894
  let c4_i32_1067 : BitVec 32 := 4#32
  let c0_i32_1070 : BitVec 32 := 0#32
  let v1896 : BitVec 1 := Scalar.cmpi .sgt c4_i32_1067 c0_i32_1070
  let v1897 : BitVec 32 := Scalar.extui v1896
  let c0_i32_1071 : BitVec 32 := 0#32
  let v1898 : BitVec 1 := Scalar.cmpi .slt c4_i32_1067 c0_i32_1071
  let v1899 : BitVec 32 := Scalar.extui v1898
  let v1900 : BitVec 32 := Scalar.subi v1897 v1899
  let v1901 : BitVec 1 := Scalar.cmpi .ne v1895 v1900
  let v1902 : BitVec 32 := Scalar.remsi v1625 c4_i32_1067
  let c0_i32_1072 : BitVec 32 := 0#32
  let v1903 : BitVec 1 := Scalar.cmpi .ne v1902 c0_i32_1072
  let v1904 : BitVec 1 := Scalar.andi v1901 v1903
  let v1890 : BitVec 32 := Scalar.divsi v1625 c4_i32_1067
  let c1_i32_1073 : BitVec 32 := 1#32
  let v1905 : BitVec 32 := Scalar.subi v1890 c1_i32_1073
  let v1906 : BitVec 32 := Scalar.select v1904 v1905 v1890
  let c4_i32_1097 : BitVec 32 := 4#32
  let v1944 : BitVec 32 := Scalar.muli v1906 c4_i32_1097
  let v1945 : BitVec 32 := Scalar.addi c0_i32_1098 v1944
  let c0_i32_1075 : BitVec 32 := 0#32
  let v1908 : BitVec 1 := Scalar.cmpi .sgt v1625 c0_i32_1075
  let v1909 : BitVec 32 := Scalar.extui v1908
  let c0_i32_1076 : BitVec 32 := 0#32
  let v1910 : BitVec 1 := Scalar.cmpi .slt v1625 c0_i32_1076
  let v1911 : BitVec 32 := Scalar.extui v1910
  let v1912 : BitVec 32 := Scalar.subi v1909 v1911
  let c2_i32_1074 : BitVec 32 := 2#32
  let c0_i32_1077 : BitVec 32 := 0#32
  let v1913 : BitVec 1 := Scalar.cmpi .sgt c2_i32_1074 c0_i32_1077
  let v1914 : BitVec 32 := Scalar.extui v1913
  let c0_i32_1078 : BitVec 32 := 0#32
  let v1915 : BitVec 1 := Scalar.cmpi .slt c2_i32_1074 c0_i32_1078
  let v1916 : BitVec 32 := Scalar.extui v1915
  let v1917 : BitVec 32 := Scalar.subi v1914 v1916
  let v1918 : BitVec 1 := Scalar.cmpi .ne v1912 v1917
  let v1919 : BitVec 32 := Scalar.remsi v1625 c2_i32_1074
  let c0_i32_1079 : BitVec 32 := 0#32
  let v1920 : BitVec 1 := Scalar.cmpi .ne v1919 c0_i32_1079
  let v1921 : BitVec 1 := Scalar.andi v1918 v1920
  let v1907 : BitVec 32 := Scalar.divsi v1625 c2_i32_1074
  let c1_i32_1080 : BitVec 32 := 1#32
  let v1922 : BitVec 32 := Scalar.subi v1907 c1_i32_1080
  let v1923 : BitVec 32 := Scalar.select v1921 v1922 v1907
  let c2_i32_1081 : BitVec 32 := 2#32
  let c0_i32_1082 : BitVec 32 := 0#32
  let v1924 : BitVec 1 := Scalar.cmpi .eq c2_i32_1081 c0_i32_1082
  let c1_i32_1083 : BitVec 32 := 1#32
  let v1925 : BitVec 32 := Scalar.select v1924 c1_i32_1083 c2_i32_1081
  let v1926 : BitVec 32 := Scalar.remsi v1923 v1925
  let c0_i32_1085 : BitVec 32 := 0#32
  let v1928 : BitVec 1 := Scalar.cmpi .slt v1926 c0_i32_1085
  let c0_i32_1086 : BitVec 32 := 0#32
  let v1929 : BitVec 1 := Scalar.cmpi .slt v1925 c0_i32_1086
  let v1930 : BitVec 1 := Scalar.xori v1928 v1929
  let c0_i32_1084 : BitVec 32 := 0#32
  let v1927 : BitVec 1 := Scalar.cmpi .ne v1926 c0_i32_1084
  let v1931 : BitVec 1 := Scalar.andi v1930 v1927
  let v1932 : BitVec 32 := Scalar.addi v1926 v1925
  let v1933 : BitVec 32 := Scalar.select v1931 v1932 v1926
  let c2_i32_1099 : BitVec 32 := 2#32
  let v1946 : BitVec 32 := Scalar.muli v1933 c2_i32_1099
  let v1947 : BitVec 32 := Scalar.addi v1945 v1946
  let c2_i32_1087 : BitVec 32 := 2#32
  let c0_i32_1088 : BitVec 32 := 0#32
  let v1934 : BitVec 1 := Scalar.cmpi .eq c2_i32_1087 c0_i32_1088
  let c1_i32_1089 : BitVec 32 := 1#32
  let v1935 : BitVec 32 := Scalar.select v1934 c1_i32_1089 c2_i32_1087
  let v1936 : BitVec 32 := Scalar.remsi v1625 v1935
  let c0_i32_1091 : BitVec 32 := 0#32
  let v1938 : BitVec 1 := Scalar.cmpi .slt v1936 c0_i32_1091
  let c0_i32_1092 : BitVec 32 := 0#32
  let v1939 : BitVec 1 := Scalar.cmpi .slt v1935 c0_i32_1092
  let v1940 : BitVec 1 := Scalar.xori v1938 v1939
  let c0_i32_1090 : BitVec 32 := 0#32
  let v1937 : BitVec 1 := Scalar.cmpi .ne v1936 c0_i32_1090
  let v1941 : BitVec 1 := Scalar.andi v1940 v1937
  let v1942 : BitVec 32 := Scalar.addi v1936 v1935
  let v1943 : BitVec 32 := Scalar.select v1941 v1942 v1936
  let c1_i32_1100 : BitVec 32 := 1#32
  let v1948 : BitVec 32 := Scalar.muli v1943 c1_i32_1100
  let v1949 : BitVec 32 := Scalar.addi v1947 v1948
  v1949.toNat
def k0_dev30 (d0 : Dev nD) : Nat :=
  let c0_i32_1135 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1105 : BitVec 32 := 0#32
  let v1957 : BitVec 1 := Scalar.cmpi .sgt v1625 c0_i32_1105
  let v1958 : BitVec 32 := Scalar.extui v1957
  let c0_i32_1106 : BitVec 32 := 0#32
  let v1959 : BitVec 1 := Scalar.cmpi .slt v1625 c0_i32_1106
  let v1960 : BitVec 32 := Scalar.extui v1959
  let v1961 : BitVec 32 := Scalar.subi v1958 v1960
  let c4_i32_1104 : BitVec 32 := 4#32
  let c0_i32_1107 : BitVec 32 := 0#32
  let v1962 : BitVec 1 := Scalar.cmpi .sgt c4_i32_1104 c0_i32_1107
  let v1963 : BitVec 32 := Scalar.extui v1962
  let c0_i32_1108 : BitVec 32 := 0#32
  let v1964 : BitVec 1 := Scalar.cmpi .slt c4_i32_1104 c0_i32_1108
  let v1965 : BitVec 32 := Scalar.extui v1964
  let v1966 : BitVec 32 := Scalar.subi v1963 v1965
  let v1967 : BitVec 1 := Scalar.cmpi .ne v1961 v1966
  let v1968 : BitVec 32 := Scalar.remsi v1625 c4_i32_1104
  let c0_i32_1109 : BitVec 32 := 0#32
  let v1969 : BitVec 1 := Scalar.cmpi .ne v1968 c0_i32_1109
  let v1970 : BitVec 1 := Scalar.andi v1967 v1969
  let v1956 : BitVec 32 := Scalar.divsi v1625 c4_i32_1104
  let c1_i32_1110 : BitVec 32 := 1#32
  let v1971 : BitVec 32 := Scalar.subi v1956 c1_i32_1110
  let v1972 : BitVec 32 := Scalar.select v1970 v1971 v1956
  let c4_i32_1134 : BitVec 32 := 4#32
  let v2010 : BitVec 32 := Scalar.muli v1972 c4_i32_1134
  let v2011 : BitVec 32 := Scalar.addi c0_i32_1135 v2010
  let c0_i32_1112 : BitVec 32 := 0#32
  let v1974 : BitVec 1 := Scalar.cmpi .sgt v1625 c0_i32_1112
  let v1975 : BitVec 32 := Scalar.extui v1974
  let c0_i32_1113 : BitVec 32 := 0#32
  let v1976 : BitVec 1 := Scalar.cmpi .slt v1625 c0_i32_1113
  let v1977 : BitVec 32 := Scalar.extui v1976
  let v1978 : BitVec 32 := Scalar.subi v1975 v1977
  let c2_i32_1111 : BitVec 32 := 2#32
  let c0_i32_1114 : BitVec 32 := 0#32
  let v1979 : BitVec 1 := Scalar.cmpi .sgt c2_i32_1111 c0_i32_1114
  let v1980 : BitVec 32 := Scalar.extui v1979
  let c0_i32_1115 : BitVec 32 := 0#32
  let v1981 : BitVec 1 := Scalar.cmpi .slt c2_i32_1111 c0_i32_1115
  let v1982 : BitVec 32 := Scalar.extui v1981
  let v1983 : BitVec 32 := Scalar.subi v1980 v1982
  let v1984 : BitVec 1 := Scalar.cmpi .ne v1978 v1983
  let v1985 : BitVec 32 := Scalar.remsi v1625 c2_i32_1111
  let c0_i32_1116 : BitVec 32 := 0#32
  let v1986 : BitVec 1 := Scalar.cmpi .ne v1985 c0_i32_1116
  let v1987 : BitVec 1 := Scalar.andi v1984 v1986
  let v1973 : BitVec 32 := Scalar.divsi v1625 c2_i32_1111
  let c1_i32_1117 : BitVec 32 := 1#32
  let v1988 : BitVec 32 := Scalar.subi v1973 c1_i32_1117
  let v1989 : BitVec 32 := Scalar.select v1987 v1988 v1973
  let c2_i32_1118 : BitVec 32 := 2#32
  let c0_i32_1119 : BitVec 32 := 0#32
  let v1990 : BitVec 1 := Scalar.cmpi .eq c2_i32_1118 c0_i32_1119
  let c1_i32_1120 : BitVec 32 := 1#32
  let v1991 : BitVec 32 := Scalar.select v1990 c1_i32_1120 c2_i32_1118
  let v1992 : BitVec 32 := Scalar.remsi v1989 v1991
  let c0_i32_1122 : BitVec 32 := 0#32
  let v1994 : BitVec 1 := Scalar.cmpi .slt v1992 c0_i32_1122
  let c0_i32_1123 : BitVec 32 := 0#32
  let v1995 : BitVec 1 := Scalar.cmpi .slt v1991 c0_i32_1123
  let v1996 : BitVec 1 := Scalar.xori v1994 v1995
  let c0_i32_1121 : BitVec 32 := 0#32
  let v1993 : BitVec 1 := Scalar.cmpi .ne v1992 c0_i32_1121
  let v1997 : BitVec 1 := Scalar.andi v1996 v1993
  let v1998 : BitVec 32 := Scalar.addi v1992 v1991
  let v1999 : BitVec 32 := Scalar.select v1997 v1998 v1992
  let c2_i32_1136 : BitVec 32 := 2#32
  let v2012 : BitVec 32 := Scalar.muli v1999 c2_i32_1136
  let v2013 : BitVec 32 := Scalar.addi v2011 v2012
  let c2_i32_1124 : BitVec 32 := 2#32
  let c0_i32_1125 : BitVec 32 := 0#32
  let v2000 : BitVec 1 := Scalar.cmpi .eq c2_i32_1124 c0_i32_1125
  let c1_i32_1126 : BitVec 32 := 1#32
  let v2001 : BitVec 32 := Scalar.select v2000 c1_i32_1126 c2_i32_1124
  let v2002 : BitVec 32 := Scalar.remsi v1625 v2001
  let c0_i32_1128 : BitVec 32 := 0#32
  let v2004 : BitVec 1 := Scalar.cmpi .slt v2002 c0_i32_1128
  let c0_i32_1129 : BitVec 32 := 0#32
  let v2005 : BitVec 1 := Scalar.cmpi .slt v2001 c0_i32_1129
  let v2006 : BitVec 1 := Scalar.xori v2004 v2005
  let c0_i32_1127 : BitVec 32 := 0#32
  let v2003 : BitVec 1 := Scalar.cmpi .ne v2002 c0_i32_1127
  let v2007 : BitVec 1 := Scalar.andi v2006 v2003
  let v2008 : BitVec 32 := Scalar.addi v2002 v2001
  let v2009 : BitVec 32 := Scalar.select v2007 v2008 v2002
  let c1_i32_1137 : BitVec 32 := 1#32
  let v2014 : BitVec 32 := Scalar.muli v2009 c1_i32_1137
  let v2015 : BitVec 32 := Scalar.addi v2013 v2014
  v2015.toNat
def k0_dev31 (d0 : Dev nD) : Nat :=
  let c0_i32_1172 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1142 : BitVec 32 := 0#32
  let v2024 : BitVec 1 := Scalar.cmpi .sgt v2022 c0_i32_1142
  let v2025 : BitVec 32 := Scalar.extui v2024
  let c0_i32_1143 : BitVec 32 := 0#32
  let v2026 : BitVec 1 := Scalar.cmpi .slt v2022 c0_i32_1143
  let v2027 : BitVec 32 := Scalar.extui v2026
  let v2028 : BitVec 32 := Scalar.subi v2025 v2027
  let c4_i32_1141 : BitVec 32 := 4#32
  let c0_i32_1144 : BitVec 32 := 0#32
  let v2029 : BitVec 1 := Scalar.cmpi .sgt c4_i32_1141 c0_i32_1144
  let v2030 : BitVec 32 := Scalar.extui v2029
  let c0_i32_1145 : BitVec 32 := 0#32
  let v2031 : BitVec 1 := Scalar.cmpi .slt c4_i32_1141 c0_i32_1145
  let v2032 : BitVec 32 := Scalar.extui v2031
  let v2033 : BitVec 32 := Scalar.subi v2030 v2032
  let v2034 : BitVec 1 := Scalar.cmpi .ne v2028 v2033
  let v2035 : BitVec 32 := Scalar.remsi v2022 c4_i32_1141
  let c0_i32_1146 : BitVec 32 := 0#32
  let v2036 : BitVec 1 := Scalar.cmpi .ne v2035 c0_i32_1146
  let v2037 : BitVec 1 := Scalar.andi v2034 v2036
  let v2023 : BitVec 32 := Scalar.divsi v2022 c4_i32_1141
  let c1_i32_1147 : BitVec 32 := 1#32
  let v2038 : BitVec 32 := Scalar.subi v2023 c1_i32_1147
  let v2039 : BitVec 32 := Scalar.select v2037 v2038 v2023
  let c4_i32_1171 : BitVec 32 := 4#32
  let v2077 : BitVec 32 := Scalar.muli v2039 c4_i32_1171
  let v2078 : BitVec 32 := Scalar.addi c0_i32_1172 v2077
  let c0_i32_1149 : BitVec 32 := 0#32
  let v2041 : BitVec 1 := Scalar.cmpi .sgt v2022 c0_i32_1149
  let v2042 : BitVec 32 := Scalar.extui v2041
  let c0_i32_1150 : BitVec 32 := 0#32
  let v2043 : BitVec 1 := Scalar.cmpi .slt v2022 c0_i32_1150
  let v2044 : BitVec 32 := Scalar.extui v2043
  let v2045 : BitVec 32 := Scalar.subi v2042 v2044
  let c2_i32_1148 : BitVec 32 := 2#32
  let c0_i32_1151 : BitVec 32 := 0#32
  let v2046 : BitVec 1 := Scalar.cmpi .sgt c2_i32_1148 c0_i32_1151
  let v2047 : BitVec 32 := Scalar.extui v2046
  let c0_i32_1152 : BitVec 32 := 0#32
  let v2048 : BitVec 1 := Scalar.cmpi .slt c2_i32_1148 c0_i32_1152
  let v2049 : BitVec 32 := Scalar.extui v2048
  let v2050 : BitVec 32 := Scalar.subi v2047 v2049
  let v2051 : BitVec 1 := Scalar.cmpi .ne v2045 v2050
  let v2052 : BitVec 32 := Scalar.remsi v2022 c2_i32_1148
  let c0_i32_1153 : BitVec 32 := 0#32
  let v2053 : BitVec 1 := Scalar.cmpi .ne v2052 c0_i32_1153
  let v2054 : BitVec 1 := Scalar.andi v2051 v2053
  let v2040 : BitVec 32 := Scalar.divsi v2022 c2_i32_1148
  let c1_i32_1154 : BitVec 32 := 1#32
  let v2055 : BitVec 32 := Scalar.subi v2040 c1_i32_1154
  let v2056 : BitVec 32 := Scalar.select v2054 v2055 v2040
  let c2_i32_1155 : BitVec 32 := 2#32
  let c0_i32_1156 : BitVec 32 := 0#32
  let v2057 : BitVec 1 := Scalar.cmpi .eq c2_i32_1155 c0_i32_1156
  let c1_i32_1157 : BitVec 32 := 1#32
  let v2058 : BitVec 32 := Scalar.select v2057 c1_i32_1157 c2_i32_1155
  let v2059 : BitVec 32 := Scalar.remsi v2056 v2058
  let c0_i32_1159 : BitVec 32 := 0#32
  let v2061 : BitVec 1 := Scalar.cmpi .slt v2059 c0_i32_1159
  let c0_i32_1160 : BitVec 32 := 0#32
  let v2062 : BitVec 1 := Scalar.cmpi .slt v2058 c0_i32_1160
  let v2063 : BitVec 1 := Scalar.xori v2061 v2062
  let c0_i32_1158 : BitVec 32 := 0#32
  let v2060 : BitVec 1 := Scalar.cmpi .ne v2059 c0_i32_1158
  let v2064 : BitVec 1 := Scalar.andi v2063 v2060
  let v2065 : BitVec 32 := Scalar.addi v2059 v2058
  let v2066 : BitVec 32 := Scalar.select v2064 v2065 v2059
  let c2_i32_1173 : BitVec 32 := 2#32
  let v2079 : BitVec 32 := Scalar.muli v2066 c2_i32_1173
  let v2080 : BitVec 32 := Scalar.addi v2078 v2079
  let c2_i32_1161 : BitVec 32 := 2#32
  let c0_i32_1162 : BitVec 32 := 0#32
  let v2067 : BitVec 1 := Scalar.cmpi .eq c2_i32_1161 c0_i32_1162
  let c1_i32_1163 : BitVec 32 := 1#32
  let v2068 : BitVec 32 := Scalar.select v2067 c1_i32_1163 c2_i32_1161
  let v2069 : BitVec 32 := Scalar.remsi v2022 v2068
  let c0_i32_1165 : BitVec 32 := 0#32
  let v2071 : BitVec 1 := Scalar.cmpi .slt v2069 c0_i32_1165
  let c0_i32_1166 : BitVec 32 := 0#32
  let v2072 : BitVec 1 := Scalar.cmpi .slt v2068 c0_i32_1166
  let v2073 : BitVec 1 := Scalar.xori v2071 v2072
  let c0_i32_1164 : BitVec 32 := 0#32
  let v2070 : BitVec 1 := Scalar.cmpi .ne v2069 c0_i32_1164
  let v2074 : BitVec 1 := Scalar.andi v2073 v2070
  let v2075 : BitVec 32 := Scalar.addi v2069 v2068
  let v2076 : BitVec 32 := Scalar.select v2074 v2075 v2069
  let c1_i32_1174 : BitVec 32 := 1#32
  let v2081 : BitVec 32 := Scalar.muli v2076 c1_i32_1174
  let v2082 : BitVec 32 := Scalar.addi v2080 v2081
  v2082.toNat
def k0_dev32 (d0 : Dev nD) : Nat :=
  let c0_i32_1209 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1179 : BitVec 32 := 0#32
  let v2090 : BitVec 1 := Scalar.cmpi .sgt v2022 c0_i32_1179
  let v2091 : BitVec 32 := Scalar.extui v2090
  let c0_i32_1180 : BitVec 32 := 0#32
  let v2092 : BitVec 1 := Scalar.cmpi .slt v2022 c0_i32_1180
  let v2093 : BitVec 32 := Scalar.extui v2092
  let v2094 : BitVec 32 := Scalar.subi v2091 v2093
  let c4_i32_1178 : BitVec 32 := 4#32
  let c0_i32_1181 : BitVec 32 := 0#32
  let v2095 : BitVec 1 := Scalar.cmpi .sgt c4_i32_1178 c0_i32_1181
  let v2096 : BitVec 32 := Scalar.extui v2095
  let c0_i32_1182 : BitVec 32 := 0#32
  let v2097 : BitVec 1 := Scalar.cmpi .slt c4_i32_1178 c0_i32_1182
  let v2098 : BitVec 32 := Scalar.extui v2097
  let v2099 : BitVec 32 := Scalar.subi v2096 v2098
  let v2100 : BitVec 1 := Scalar.cmpi .ne v2094 v2099
  let v2101 : BitVec 32 := Scalar.remsi v2022 c4_i32_1178
  let c0_i32_1183 : BitVec 32 := 0#32
  let v2102 : BitVec 1 := Scalar.cmpi .ne v2101 c0_i32_1183
  let v2103 : BitVec 1 := Scalar.andi v2100 v2102
  let v2089 : BitVec 32 := Scalar.divsi v2022 c4_i32_1178
  let c1_i32_1184 : BitVec 32 := 1#32
  let v2104 : BitVec 32 := Scalar.subi v2089 c1_i32_1184
  let v2105 : BitVec 32 := Scalar.select v2103 v2104 v2089
  let c4_i32_1208 : BitVec 32 := 4#32
  let v2143 : BitVec 32 := Scalar.muli v2105 c4_i32_1208
  let v2144 : BitVec 32 := Scalar.addi c0_i32_1209 v2143
  let c0_i32_1186 : BitVec 32 := 0#32
  let v2107 : BitVec 1 := Scalar.cmpi .sgt v2022 c0_i32_1186
  let v2108 : BitVec 32 := Scalar.extui v2107
  let c0_i32_1187 : BitVec 32 := 0#32
  let v2109 : BitVec 1 := Scalar.cmpi .slt v2022 c0_i32_1187
  let v2110 : BitVec 32 := Scalar.extui v2109
  let v2111 : BitVec 32 := Scalar.subi v2108 v2110
  let c2_i32_1185 : BitVec 32 := 2#32
  let c0_i32_1188 : BitVec 32 := 0#32
  let v2112 : BitVec 1 := Scalar.cmpi .sgt c2_i32_1185 c0_i32_1188
  let v2113 : BitVec 32 := Scalar.extui v2112
  let c0_i32_1189 : BitVec 32 := 0#32
  let v2114 : BitVec 1 := Scalar.cmpi .slt c2_i32_1185 c0_i32_1189
  let v2115 : BitVec 32 := Scalar.extui v2114
  let v2116 : BitVec 32 := Scalar.subi v2113 v2115
  let v2117 : BitVec 1 := Scalar.cmpi .ne v2111 v2116
  let v2118 : BitVec 32 := Scalar.remsi v2022 c2_i32_1185
  let c0_i32_1190 : BitVec 32 := 0#32
  let v2119 : BitVec 1 := Scalar.cmpi .ne v2118 c0_i32_1190
  let v2120 : BitVec 1 := Scalar.andi v2117 v2119
  let v2106 : BitVec 32 := Scalar.divsi v2022 c2_i32_1185
  let c1_i32_1191 : BitVec 32 := 1#32
  let v2121 : BitVec 32 := Scalar.subi v2106 c1_i32_1191
  let v2122 : BitVec 32 := Scalar.select v2120 v2121 v2106
  let c2_i32_1192 : BitVec 32 := 2#32
  let c0_i32_1193 : BitVec 32 := 0#32
  let v2123 : BitVec 1 := Scalar.cmpi .eq c2_i32_1192 c0_i32_1193
  let c1_i32_1194 : BitVec 32 := 1#32
  let v2124 : BitVec 32 := Scalar.select v2123 c1_i32_1194 c2_i32_1192
  let v2125 : BitVec 32 := Scalar.remsi v2122 v2124
  let c0_i32_1196 : BitVec 32 := 0#32
  let v2127 : BitVec 1 := Scalar.cmpi .slt v2125 c0_i32_1196
  let c0_i32_1197 : BitVec 32 := 0#32
  let v2128 : BitVec 1 := Scalar.cmpi .slt v2124 c0_i32_1197
  let v2129 : BitVec 1 := Scalar.xori v2127 v2128
  let c0_i32_1195 : BitVec 32 := 0#32
  let v2126 : BitVec 1 := Scalar.cmpi .ne v2125 c0_i32_1195
  let v2130 : BitVec 1 := Scalar.andi v2129 v2126
  let v2131 : BitVec 32 := Scalar.addi v2125 v2124
  let v2132 : BitVec 32 := Scalar.select v2130 v2131 v2125
  let c2_i32_1210 : BitVec 32 := 2#32
  let v2145 : BitVec 32 := Scalar.muli v2132 c2_i32_1210
  let v2146 : BitVec 32 := Scalar.addi v2144 v2145
  let c2_i32_1198 : BitVec 32 := 2#32
  let c0_i32_1199 : BitVec 32 := 0#32
  let v2133 : BitVec 1 := Scalar.cmpi .eq c2_i32_1198 c0_i32_1199
  let c1_i32_1200 : BitVec 32 := 1#32
  let v2134 : BitVec 32 := Scalar.select v2133 c1_i32_1200 c2_i32_1198
  let v2135 : BitVec 32 := Scalar.remsi v2022 v2134
  let c0_i32_1202 : BitVec 32 := 0#32
  let v2137 : BitVec 1 := Scalar.cmpi .slt v2135 c0_i32_1202
  let c0_i32_1203 : BitVec 32 := 0#32
  let v2138 : BitVec 1 := Scalar.cmpi .slt v2134 c0_i32_1203
  let v2139 : BitVec 1 := Scalar.xori v2137 v2138
  let c0_i32_1201 : BitVec 32 := 0#32
  let v2136 : BitVec 1 := Scalar.cmpi .ne v2135 c0_i32_1201
  let v2140 : BitVec 1 := Scalar.andi v2139 v2136
  let v2141 : BitVec 32 := Scalar.addi v2135 v2134
  let v2142 : BitVec 32 := Scalar.select v2140 v2141 v2135
  let c1_i32_1211 : BitVec 32 := 1#32
  let v2147 : BitVec 32 := Scalar.muli v2142 c1_i32_1211
  let v2148 : BitVec 32 := Scalar.addi v2146 v2147
  v2148.toNat
def k0_dev33 (d0 : Dev nD) : Nat :=
  let c0_i32_1246 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1216 : BitVec 32 := 0#32
  let v2156 : BitVec 1 := Scalar.cmpi .sgt v2022 c0_i32_1216
  let v2157 : BitVec 32 := Scalar.extui v2156
  let c0_i32_1217 : BitVec 32 := 0#32
  let v2158 : BitVec 1 := Scalar.cmpi .slt v2022 c0_i32_1217
  let v2159 : BitVec 32 := Scalar.extui v2158
  let v2160 : BitVec 32 := Scalar.subi v2157 v2159
  let c4_i32_1215 : BitVec 32 := 4#32
  let c0_i32_1218 : BitVec 32 := 0#32
  let v2161 : BitVec 1 := Scalar.cmpi .sgt c4_i32_1215 c0_i32_1218
  let v2162 : BitVec 32 := Scalar.extui v2161
  let c0_i32_1219 : BitVec 32 := 0#32
  let v2163 : BitVec 1 := Scalar.cmpi .slt c4_i32_1215 c0_i32_1219
  let v2164 : BitVec 32 := Scalar.extui v2163
  let v2165 : BitVec 32 := Scalar.subi v2162 v2164
  let v2166 : BitVec 1 := Scalar.cmpi .ne v2160 v2165
  let v2167 : BitVec 32 := Scalar.remsi v2022 c4_i32_1215
  let c0_i32_1220 : BitVec 32 := 0#32
  let v2168 : BitVec 1 := Scalar.cmpi .ne v2167 c0_i32_1220
  let v2169 : BitVec 1 := Scalar.andi v2166 v2168
  let v2155 : BitVec 32 := Scalar.divsi v2022 c4_i32_1215
  let c1_i32_1221 : BitVec 32 := 1#32
  let v2170 : BitVec 32 := Scalar.subi v2155 c1_i32_1221
  let v2171 : BitVec 32 := Scalar.select v2169 v2170 v2155
  let c4_i32_1245 : BitVec 32 := 4#32
  let v2209 : BitVec 32 := Scalar.muli v2171 c4_i32_1245
  let v2210 : BitVec 32 := Scalar.addi c0_i32_1246 v2209
  let c0_i32_1223 : BitVec 32 := 0#32
  let v2173 : BitVec 1 := Scalar.cmpi .sgt v2022 c0_i32_1223
  let v2174 : BitVec 32 := Scalar.extui v2173
  let c0_i32_1224 : BitVec 32 := 0#32
  let v2175 : BitVec 1 := Scalar.cmpi .slt v2022 c0_i32_1224
  let v2176 : BitVec 32 := Scalar.extui v2175
  let v2177 : BitVec 32 := Scalar.subi v2174 v2176
  let c2_i32_1222 : BitVec 32 := 2#32
  let c0_i32_1225 : BitVec 32 := 0#32
  let v2178 : BitVec 1 := Scalar.cmpi .sgt c2_i32_1222 c0_i32_1225
  let v2179 : BitVec 32 := Scalar.extui v2178
  let c0_i32_1226 : BitVec 32 := 0#32
  let v2180 : BitVec 1 := Scalar.cmpi .slt c2_i32_1222 c0_i32_1226
  let v2181 : BitVec 32 := Scalar.extui v2180
  let v2182 : BitVec 32 := Scalar.subi v2179 v2181
  let v2183 : BitVec 1 := Scalar.cmpi .ne v2177 v2182
  let v2184 : BitVec 32 := Scalar.remsi v2022 c2_i32_1222
  let c0_i32_1227 : BitVec 32 := 0#32
  let v2185 : BitVec 1 := Scalar.cmpi .ne v2184 c0_i32_1227
  let v2186 : BitVec 1 := Scalar.andi v2183 v2185
  let v2172 : BitVec 32 := Scalar.divsi v2022 c2_i32_1222
  let c1_i32_1228 : BitVec 32 := 1#32
  let v2187 : BitVec 32 := Scalar.subi v2172 c1_i32_1228
  let v2188 : BitVec 32 := Scalar.select v2186 v2187 v2172
  let c2_i32_1229 : BitVec 32 := 2#32
  let c0_i32_1230 : BitVec 32 := 0#32
  let v2189 : BitVec 1 := Scalar.cmpi .eq c2_i32_1229 c0_i32_1230
  let c1_i32_1231 : BitVec 32 := 1#32
  let v2190 : BitVec 32 := Scalar.select v2189 c1_i32_1231 c2_i32_1229
  let v2191 : BitVec 32 := Scalar.remsi v2188 v2190
  let c0_i32_1233 : BitVec 32 := 0#32
  let v2193 : BitVec 1 := Scalar.cmpi .slt v2191 c0_i32_1233
  let c0_i32_1234 : BitVec 32 := 0#32
  let v2194 : BitVec 1 := Scalar.cmpi .slt v2190 c0_i32_1234
  let v2195 : BitVec 1 := Scalar.xori v2193 v2194
  let c0_i32_1232 : BitVec 32 := 0#32
  let v2192 : BitVec 1 := Scalar.cmpi .ne v2191 c0_i32_1232
  let v2196 : BitVec 1 := Scalar.andi v2195 v2192
  let v2197 : BitVec 32 := Scalar.addi v2191 v2190
  let v2198 : BitVec 32 := Scalar.select v2196 v2197 v2191
  let c2_i32_1247 : BitVec 32 := 2#32
  let v2211 : BitVec 32 := Scalar.muli v2198 c2_i32_1247
  let v2212 : BitVec 32 := Scalar.addi v2210 v2211
  let c2_i32_1235 : BitVec 32 := 2#32
  let c0_i32_1236 : BitVec 32 := 0#32
  let v2199 : BitVec 1 := Scalar.cmpi .eq c2_i32_1235 c0_i32_1236
  let c1_i32_1237 : BitVec 32 := 1#32
  let v2200 : BitVec 32 := Scalar.select v2199 c1_i32_1237 c2_i32_1235
  let v2201 : BitVec 32 := Scalar.remsi v2022 v2200
  let c0_i32_1239 : BitVec 32 := 0#32
  let v2203 : BitVec 1 := Scalar.cmpi .slt v2201 c0_i32_1239
  let c0_i32_1240 : BitVec 32 := 0#32
  let v2204 : BitVec 1 := Scalar.cmpi .slt v2200 c0_i32_1240
  let v2205 : BitVec 1 := Scalar.xori v2203 v2204
  let c0_i32_1238 : BitVec 32 := 0#32
  let v2202 : BitVec 1 := Scalar.cmpi .ne v2201 c0_i32_1238
  let v2206 : BitVec 1 := Scalar.andi v2205 v2202
  let v2207 : BitVec 32 := Scalar.addi v2201 v2200
  let v2208 : BitVec 32 := Scalar.select v2206 v2207 v2201
  let c1_i32_1248 : BitVec 32 := 1#32
  let v2213 : BitVec 32 := Scalar.muli v2208 c1_i32_1248
  let v2214 : BitVec 32 := Scalar.addi v2212 v2213
  v2214.toNat
def k0_dev34 (d0 : Dev nD) : Nat :=
  let c0_i32_1283 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1253 : BitVec 32 := 0#32
  let v2222 : BitVec 1 := Scalar.cmpi .sgt v2022 c0_i32_1253
  let v2223 : BitVec 32 := Scalar.extui v2222
  let c0_i32_1254 : BitVec 32 := 0#32
  let v2224 : BitVec 1 := Scalar.cmpi .slt v2022 c0_i32_1254
  let v2225 : BitVec 32 := Scalar.extui v2224
  let v2226 : BitVec 32 := Scalar.subi v2223 v2225
  let c4_i32_1252 : BitVec 32 := 4#32
  let c0_i32_1255 : BitVec 32 := 0#32
  let v2227 : BitVec 1 := Scalar.cmpi .sgt c4_i32_1252 c0_i32_1255
  let v2228 : BitVec 32 := Scalar.extui v2227
  let c0_i32_1256 : BitVec 32 := 0#32
  let v2229 : BitVec 1 := Scalar.cmpi .slt c4_i32_1252 c0_i32_1256
  let v2230 : BitVec 32 := Scalar.extui v2229
  let v2231 : BitVec 32 := Scalar.subi v2228 v2230
  let v2232 : BitVec 1 := Scalar.cmpi .ne v2226 v2231
  let v2233 : BitVec 32 := Scalar.remsi v2022 c4_i32_1252
  let c0_i32_1257 : BitVec 32 := 0#32
  let v2234 : BitVec 1 := Scalar.cmpi .ne v2233 c0_i32_1257
  let v2235 : BitVec 1 := Scalar.andi v2232 v2234
  let v2221 : BitVec 32 := Scalar.divsi v2022 c4_i32_1252
  let c1_i32_1258 : BitVec 32 := 1#32
  let v2236 : BitVec 32 := Scalar.subi v2221 c1_i32_1258
  let v2237 : BitVec 32 := Scalar.select v2235 v2236 v2221
  let c4_i32_1282 : BitVec 32 := 4#32
  let v2275 : BitVec 32 := Scalar.muli v2237 c4_i32_1282
  let v2276 : BitVec 32 := Scalar.addi c0_i32_1283 v2275
  let c0_i32_1260 : BitVec 32 := 0#32
  let v2239 : BitVec 1 := Scalar.cmpi .sgt v2022 c0_i32_1260
  let v2240 : BitVec 32 := Scalar.extui v2239
  let c0_i32_1261 : BitVec 32 := 0#32
  let v2241 : BitVec 1 := Scalar.cmpi .slt v2022 c0_i32_1261
  let v2242 : BitVec 32 := Scalar.extui v2241
  let v2243 : BitVec 32 := Scalar.subi v2240 v2242
  let c2_i32_1259 : BitVec 32 := 2#32
  let c0_i32_1262 : BitVec 32 := 0#32
  let v2244 : BitVec 1 := Scalar.cmpi .sgt c2_i32_1259 c0_i32_1262
  let v2245 : BitVec 32 := Scalar.extui v2244
  let c0_i32_1263 : BitVec 32 := 0#32
  let v2246 : BitVec 1 := Scalar.cmpi .slt c2_i32_1259 c0_i32_1263
  let v2247 : BitVec 32 := Scalar.extui v2246
  let v2248 : BitVec 32 := Scalar.subi v2245 v2247
  let v2249 : BitVec 1 := Scalar.cmpi .ne v2243 v2248
  let v2250 : BitVec 32 := Scalar.remsi v2022 c2_i32_1259
  let c0_i32_1264 : BitVec 32 := 0#32
  let v2251 : BitVec 1 := Scalar.cmpi .ne v2250 c0_i32_1264
  let v2252 : BitVec 1 := Scalar.andi v2249 v2251
  let v2238 : BitVec 32 := Scalar.divsi v2022 c2_i32_1259
  let c1_i32_1265 : BitVec 32 := 1#32
  let v2253 : BitVec 32 := Scalar.subi v2238 c1_i32_1265
  let v2254 : BitVec 32 := Scalar.select v2252 v2253 v2238
  let c2_i32_1266 : BitVec 32 := 2#32
  let c0_i32_1267 : BitVec 32 := 0#32
  let v2255 : BitVec 1 := Scalar.cmpi .eq c2_i32_1266 c0_i32_1267
  let c1_i32_1268 : BitVec 32 := 1#32
  let v2256 : BitVec 32 := Scalar.select v2255 c1_i32_1268 c2_i32_1266
  let v2257 : BitVec 32 := Scalar.remsi v2254 v2256
  let c0_i32_1270 : BitVec 32 := 0#32
  let v2259 : BitVec 1 := Scalar.cmpi .slt v2257 c0_i32_1270
  let c0_i32_1271 : BitVec 32 := 0#32
  let v2260 : BitVec 1 := Scalar.cmpi .slt v2256 c0_i32_1271
  let v2261 : BitVec 1 := Scalar.xori v2259 v2260
  let c0_i32_1269 : BitVec 32 := 0#32
  let v2258 : BitVec 1 := Scalar.cmpi .ne v2257 c0_i32_1269
  let v2262 : BitVec 1 := Scalar.andi v2261 v2258
  let v2263 : BitVec 32 := Scalar.addi v2257 v2256
  let v2264 : BitVec 32 := Scalar.select v2262 v2263 v2257
  let c2_i32_1284 : BitVec 32 := 2#32
  let v2277 : BitVec 32 := Scalar.muli v2264 c2_i32_1284
  let v2278 : BitVec 32 := Scalar.addi v2276 v2277
  let c2_i32_1272 : BitVec 32 := 2#32
  let c0_i32_1273 : BitVec 32 := 0#32
  let v2265 : BitVec 1 := Scalar.cmpi .eq c2_i32_1272 c0_i32_1273
  let c1_i32_1274 : BitVec 32 := 1#32
  let v2266 : BitVec 32 := Scalar.select v2265 c1_i32_1274 c2_i32_1272
  let v2267 : BitVec 32 := Scalar.remsi v2022 v2266
  let c0_i32_1276 : BitVec 32 := 0#32
  let v2269 : BitVec 1 := Scalar.cmpi .slt v2267 c0_i32_1276
  let c0_i32_1277 : BitVec 32 := 0#32
  let v2270 : BitVec 1 := Scalar.cmpi .slt v2266 c0_i32_1277
  let v2271 : BitVec 1 := Scalar.xori v2269 v2270
  let c0_i32_1275 : BitVec 32 := 0#32
  let v2268 : BitVec 1 := Scalar.cmpi .ne v2267 c0_i32_1275
  let v2272 : BitVec 1 := Scalar.andi v2271 v2268
  let v2273 : BitVec 32 := Scalar.addi v2267 v2266
  let v2274 : BitVec 32 := Scalar.select v2272 v2273 v2267
  let c1_i32_1285 : BitVec 32 := 1#32
  let v2279 : BitVec 32 := Scalar.muli v2274 c1_i32_1285
  let v2280 : BitVec 32 := Scalar.addi v2278 v2279
  v2280.toNat
def k0_dev35 (d0 : Dev nD) : Nat :=
  let c0_i32_1320 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1290 : BitVec 32 := 0#32
  let v2288 : BitVec 1 := Scalar.cmpi .sgt v2022 c0_i32_1290
  let v2289 : BitVec 32 := Scalar.extui v2288
  let c0_i32_1291 : BitVec 32 := 0#32
  let v2290 : BitVec 1 := Scalar.cmpi .slt v2022 c0_i32_1291
  let v2291 : BitVec 32 := Scalar.extui v2290
  let v2292 : BitVec 32 := Scalar.subi v2289 v2291
  let c4_i32_1289 : BitVec 32 := 4#32
  let c0_i32_1292 : BitVec 32 := 0#32
  let v2293 : BitVec 1 := Scalar.cmpi .sgt c4_i32_1289 c0_i32_1292
  let v2294 : BitVec 32 := Scalar.extui v2293
  let c0_i32_1293 : BitVec 32 := 0#32
  let v2295 : BitVec 1 := Scalar.cmpi .slt c4_i32_1289 c0_i32_1293
  let v2296 : BitVec 32 := Scalar.extui v2295
  let v2297 : BitVec 32 := Scalar.subi v2294 v2296
  let v2298 : BitVec 1 := Scalar.cmpi .ne v2292 v2297
  let v2299 : BitVec 32 := Scalar.remsi v2022 c4_i32_1289
  let c0_i32_1294 : BitVec 32 := 0#32
  let v2300 : BitVec 1 := Scalar.cmpi .ne v2299 c0_i32_1294
  let v2301 : BitVec 1 := Scalar.andi v2298 v2300
  let v2287 : BitVec 32 := Scalar.divsi v2022 c4_i32_1289
  let c1_i32_1295 : BitVec 32 := 1#32
  let v2302 : BitVec 32 := Scalar.subi v2287 c1_i32_1295
  let v2303 : BitVec 32 := Scalar.select v2301 v2302 v2287
  let c4_i32_1319 : BitVec 32 := 4#32
  let v2341 : BitVec 32 := Scalar.muli v2303 c4_i32_1319
  let v2342 : BitVec 32 := Scalar.addi c0_i32_1320 v2341
  let c0_i32_1297 : BitVec 32 := 0#32
  let v2305 : BitVec 1 := Scalar.cmpi .sgt v2022 c0_i32_1297
  let v2306 : BitVec 32 := Scalar.extui v2305
  let c0_i32_1298 : BitVec 32 := 0#32
  let v2307 : BitVec 1 := Scalar.cmpi .slt v2022 c0_i32_1298
  let v2308 : BitVec 32 := Scalar.extui v2307
  let v2309 : BitVec 32 := Scalar.subi v2306 v2308
  let c2_i32_1296 : BitVec 32 := 2#32
  let c0_i32_1299 : BitVec 32 := 0#32
  let v2310 : BitVec 1 := Scalar.cmpi .sgt c2_i32_1296 c0_i32_1299
  let v2311 : BitVec 32 := Scalar.extui v2310
  let c0_i32_1300 : BitVec 32 := 0#32
  let v2312 : BitVec 1 := Scalar.cmpi .slt c2_i32_1296 c0_i32_1300
  let v2313 : BitVec 32 := Scalar.extui v2312
  let v2314 : BitVec 32 := Scalar.subi v2311 v2313
  let v2315 : BitVec 1 := Scalar.cmpi .ne v2309 v2314
  let v2316 : BitVec 32 := Scalar.remsi v2022 c2_i32_1296
  let c0_i32_1301 : BitVec 32 := 0#32
  let v2317 : BitVec 1 := Scalar.cmpi .ne v2316 c0_i32_1301
  let v2318 : BitVec 1 := Scalar.andi v2315 v2317
  let v2304 : BitVec 32 := Scalar.divsi v2022 c2_i32_1296
  let c1_i32_1302 : BitVec 32 := 1#32
  let v2319 : BitVec 32 := Scalar.subi v2304 c1_i32_1302
  let v2320 : BitVec 32 := Scalar.select v2318 v2319 v2304
  let c2_i32_1303 : BitVec 32 := 2#32
  let c0_i32_1304 : BitVec 32 := 0#32
  let v2321 : BitVec 1 := Scalar.cmpi .eq c2_i32_1303 c0_i32_1304
  let c1_i32_1305 : BitVec 32 := 1#32
  let v2322 : BitVec 32 := Scalar.select v2321 c1_i32_1305 c2_i32_1303
  let v2323 : BitVec 32 := Scalar.remsi v2320 v2322
  let c0_i32_1307 : BitVec 32 := 0#32
  let v2325 : BitVec 1 := Scalar.cmpi .slt v2323 c0_i32_1307
  let c0_i32_1308 : BitVec 32 := 0#32
  let v2326 : BitVec 1 := Scalar.cmpi .slt v2322 c0_i32_1308
  let v2327 : BitVec 1 := Scalar.xori v2325 v2326
  let c0_i32_1306 : BitVec 32 := 0#32
  let v2324 : BitVec 1 := Scalar.cmpi .ne v2323 c0_i32_1306
  let v2328 : BitVec 1 := Scalar.andi v2327 v2324
  let v2329 : BitVec 32 := Scalar.addi v2323 v2322
  let v2330 : BitVec 32 := Scalar.select v2328 v2329 v2323
  let c2_i32_1321 : BitVec 32 := 2#32
  let v2343 : BitVec 32 := Scalar.muli v2330 c2_i32_1321
  let v2344 : BitVec 32 := Scalar.addi v2342 v2343
  let c2_i32_1309 : BitVec 32 := 2#32
  let c0_i32_1310 : BitVec 32 := 0#32
  let v2331 : BitVec 1 := Scalar.cmpi .eq c2_i32_1309 c0_i32_1310
  let c1_i32_1311 : BitVec 32 := 1#32
  let v2332 : BitVec 32 := Scalar.select v2331 c1_i32_1311 c2_i32_1309
  let v2333 : BitVec 32 := Scalar.remsi v2022 v2332
  let c0_i32_1313 : BitVec 32 := 0#32
  let v2335 : BitVec 1 := Scalar.cmpi .slt v2333 c0_i32_1313
  let c0_i32_1314 : BitVec 32 := 0#32
  let v2336 : BitVec 1 := Scalar.cmpi .slt v2332 c0_i32_1314
  let v2337 : BitVec 1 := Scalar.xori v2335 v2336
  let c0_i32_1312 : BitVec 32 := 0#32
  let v2334 : BitVec 1 := Scalar.cmpi .ne v2333 c0_i32_1312
  let v2338 : BitVec 1 := Scalar.andi v2337 v2334
  let v2339 : BitVec 32 := Scalar.addi v2333 v2332
  let v2340 : BitVec 32 := Scalar.select v2338 v2339 v2333
  let c1_i32_1322 : BitVec 32 := 1#32
  let v2345 : BitVec 32 := Scalar.muli v2340 c1_i32_1322
  let v2346 : BitVec 32 := Scalar.addi v2344 v2345
  v2346.toNat
def k0_dev36 (d0 : Dev nD) : Nat :=
  let c0_i32_1357 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1327 : BitVec 32 := 0#32
  let v2354 : BitVec 1 := Scalar.cmpi .sgt v2022 c0_i32_1327
  let v2355 : BitVec 32 := Scalar.extui v2354
  let c0_i32_1328 : BitVec 32 := 0#32
  let v2356 : BitVec 1 := Scalar.cmpi .slt v2022 c0_i32_1328
  let v2357 : BitVec 32 := Scalar.extui v2356
  let v2358 : BitVec 32 := Scalar.subi v2355 v2357
  let c4_i32_1326 : BitVec 32 := 4#32
  let c0_i32_1329 : BitVec 32 := 0#32
  let v2359 : BitVec 1 := Scalar.cmpi .sgt c4_i32_1326 c0_i32_1329
  let v2360 : BitVec 32 := Scalar.extui v2359
  let c0_i32_1330 : BitVec 32 := 0#32
  let v2361 : BitVec 1 := Scalar.cmpi .slt c4_i32_1326 c0_i32_1330
  let v2362 : BitVec 32 := Scalar.extui v2361
  let v2363 : BitVec 32 := Scalar.subi v2360 v2362
  let v2364 : BitVec 1 := Scalar.cmpi .ne v2358 v2363
  let v2365 : BitVec 32 := Scalar.remsi v2022 c4_i32_1326
  let c0_i32_1331 : BitVec 32 := 0#32
  let v2366 : BitVec 1 := Scalar.cmpi .ne v2365 c0_i32_1331
  let v2367 : BitVec 1 := Scalar.andi v2364 v2366
  let v2353 : BitVec 32 := Scalar.divsi v2022 c4_i32_1326
  let c1_i32_1332 : BitVec 32 := 1#32
  let v2368 : BitVec 32 := Scalar.subi v2353 c1_i32_1332
  let v2369 : BitVec 32 := Scalar.select v2367 v2368 v2353
  let c4_i32_1356 : BitVec 32 := 4#32
  let v2407 : BitVec 32 := Scalar.muli v2369 c4_i32_1356
  let v2408 : BitVec 32 := Scalar.addi c0_i32_1357 v2407
  let c0_i32_1334 : BitVec 32 := 0#32
  let v2371 : BitVec 1 := Scalar.cmpi .sgt v2022 c0_i32_1334
  let v2372 : BitVec 32 := Scalar.extui v2371
  let c0_i32_1335 : BitVec 32 := 0#32
  let v2373 : BitVec 1 := Scalar.cmpi .slt v2022 c0_i32_1335
  let v2374 : BitVec 32 := Scalar.extui v2373
  let v2375 : BitVec 32 := Scalar.subi v2372 v2374
  let c2_i32_1333 : BitVec 32 := 2#32
  let c0_i32_1336 : BitVec 32 := 0#32
  let v2376 : BitVec 1 := Scalar.cmpi .sgt c2_i32_1333 c0_i32_1336
  let v2377 : BitVec 32 := Scalar.extui v2376
  let c0_i32_1337 : BitVec 32 := 0#32
  let v2378 : BitVec 1 := Scalar.cmpi .slt c2_i32_1333 c0_i32_1337
  let v2379 : BitVec 32 := Scalar.extui v2378
  let v2380 : BitVec 32 := Scalar.subi v2377 v2379
  let v2381 : BitVec 1 := Scalar.cmpi .ne v2375 v2380
  let v2382 : BitVec 32 := Scalar.remsi v2022 c2_i32_1333
  let c0_i32_1338 : BitVec 32 := 0#32
  let v2383 : BitVec 1 := Scalar.cmpi .ne v2382 c0_i32_1338
  let v2384 : BitVec 1 := Scalar.andi v2381 v2383
  let v2370 : BitVec 32 := Scalar.divsi v2022 c2_i32_1333
  let c1_i32_1339 : BitVec 32 := 1#32
  let v2385 : BitVec 32 := Scalar.subi v2370 c1_i32_1339
  let v2386 : BitVec 32 := Scalar.select v2384 v2385 v2370
  let c2_i32_1340 : BitVec 32 := 2#32
  let c0_i32_1341 : BitVec 32 := 0#32
  let v2387 : BitVec 1 := Scalar.cmpi .eq c2_i32_1340 c0_i32_1341
  let c1_i32_1342 : BitVec 32 := 1#32
  let v2388 : BitVec 32 := Scalar.select v2387 c1_i32_1342 c2_i32_1340
  let v2389 : BitVec 32 := Scalar.remsi v2386 v2388
  let c0_i32_1344 : BitVec 32 := 0#32
  let v2391 : BitVec 1 := Scalar.cmpi .slt v2389 c0_i32_1344
  let c0_i32_1345 : BitVec 32 := 0#32
  let v2392 : BitVec 1 := Scalar.cmpi .slt v2388 c0_i32_1345
  let v2393 : BitVec 1 := Scalar.xori v2391 v2392
  let c0_i32_1343 : BitVec 32 := 0#32
  let v2390 : BitVec 1 := Scalar.cmpi .ne v2389 c0_i32_1343
  let v2394 : BitVec 1 := Scalar.andi v2393 v2390
  let v2395 : BitVec 32 := Scalar.addi v2389 v2388
  let v2396 : BitVec 32 := Scalar.select v2394 v2395 v2389
  let c2_i32_1358 : BitVec 32 := 2#32
  let v2409 : BitVec 32 := Scalar.muli v2396 c2_i32_1358
  let v2410 : BitVec 32 := Scalar.addi v2408 v2409
  let c2_i32_1346 : BitVec 32 := 2#32
  let c0_i32_1347 : BitVec 32 := 0#32
  let v2397 : BitVec 1 := Scalar.cmpi .eq c2_i32_1346 c0_i32_1347
  let c1_i32_1348 : BitVec 32 := 1#32
  let v2398 : BitVec 32 := Scalar.select v2397 c1_i32_1348 c2_i32_1346
  let v2399 : BitVec 32 := Scalar.remsi v2022 v2398
  let c0_i32_1350 : BitVec 32 := 0#32
  let v2401 : BitVec 1 := Scalar.cmpi .slt v2399 c0_i32_1350
  let c0_i32_1351 : BitVec 32 := 0#32
  let v2402 : BitVec 1 := Scalar.cmpi .slt v2398 c0_i32_1351
  let v2403 : BitVec 1 := Scalar.xori v2401 v2402
  let c0_i32_1349 : BitVec 32 := 0#32
  let v2400 : BitVec 1 := Scalar.cmpi .ne v2399 c0_i32_1349
  let v2404 : BitVec 1 := Scalar.andi v2403 v2400
  let v2405 : BitVec 32 := Scalar.addi v2399 v2398
  let v2406 : BitVec 32 := Scalar.select v2404 v2405 v2399
  let c1_i32_1359 : BitVec 32 := 1#32
  let v2411 : BitVec 32 := Scalar.muli v2406 c1_i32_1359
  let v2412 : BitVec 32 := Scalar.addi v2410 v2411
  v2412.toNat
def k0_dev37 (d0 : Dev nD) : Nat :=
  let c0_i32_1394 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1364 : BitVec 32 := 0#32
  let v2421 : BitVec 1 := Scalar.cmpi .sgt v2419 c0_i32_1364
  let v2422 : BitVec 32 := Scalar.extui v2421
  let c0_i32_1365 : BitVec 32 := 0#32
  let v2423 : BitVec 1 := Scalar.cmpi .slt v2419 c0_i32_1365
  let v2424 : BitVec 32 := Scalar.extui v2423
  let v2425 : BitVec 32 := Scalar.subi v2422 v2424
  let c4_i32_1363 : BitVec 32 := 4#32
  let c0_i32_1366 : BitVec 32 := 0#32
  let v2426 : BitVec 1 := Scalar.cmpi .sgt c4_i32_1363 c0_i32_1366
  let v2427 : BitVec 32 := Scalar.extui v2426
  let c0_i32_1367 : BitVec 32 := 0#32
  let v2428 : BitVec 1 := Scalar.cmpi .slt c4_i32_1363 c0_i32_1367
  let v2429 : BitVec 32 := Scalar.extui v2428
  let v2430 : BitVec 32 := Scalar.subi v2427 v2429
  let v2431 : BitVec 1 := Scalar.cmpi .ne v2425 v2430
  let v2432 : BitVec 32 := Scalar.remsi v2419 c4_i32_1363
  let c0_i32_1368 : BitVec 32 := 0#32
  let v2433 : BitVec 1 := Scalar.cmpi .ne v2432 c0_i32_1368
  let v2434 : BitVec 1 := Scalar.andi v2431 v2433
  let v2420 : BitVec 32 := Scalar.divsi v2419 c4_i32_1363
  let c1_i32_1369 : BitVec 32 := 1#32
  let v2435 : BitVec 32 := Scalar.subi v2420 c1_i32_1369
  let v2436 : BitVec 32 := Scalar.select v2434 v2435 v2420
  let c4_i32_1393 : BitVec 32 := 4#32
  let v2474 : BitVec 32 := Scalar.muli v2436 c4_i32_1393
  let v2475 : BitVec 32 := Scalar.addi c0_i32_1394 v2474
  let c0_i32_1371 : BitVec 32 := 0#32
  let v2438 : BitVec 1 := Scalar.cmpi .sgt v2419 c0_i32_1371
  let v2439 : BitVec 32 := Scalar.extui v2438
  let c0_i32_1372 : BitVec 32 := 0#32
  let v2440 : BitVec 1 := Scalar.cmpi .slt v2419 c0_i32_1372
  let v2441 : BitVec 32 := Scalar.extui v2440
  let v2442 : BitVec 32 := Scalar.subi v2439 v2441
  let c2_i32_1370 : BitVec 32 := 2#32
  let c0_i32_1373 : BitVec 32 := 0#32
  let v2443 : BitVec 1 := Scalar.cmpi .sgt c2_i32_1370 c0_i32_1373
  let v2444 : BitVec 32 := Scalar.extui v2443
  let c0_i32_1374 : BitVec 32 := 0#32
  let v2445 : BitVec 1 := Scalar.cmpi .slt c2_i32_1370 c0_i32_1374
  let v2446 : BitVec 32 := Scalar.extui v2445
  let v2447 : BitVec 32 := Scalar.subi v2444 v2446
  let v2448 : BitVec 1 := Scalar.cmpi .ne v2442 v2447
  let v2449 : BitVec 32 := Scalar.remsi v2419 c2_i32_1370
  let c0_i32_1375 : BitVec 32 := 0#32
  let v2450 : BitVec 1 := Scalar.cmpi .ne v2449 c0_i32_1375
  let v2451 : BitVec 1 := Scalar.andi v2448 v2450
  let v2437 : BitVec 32 := Scalar.divsi v2419 c2_i32_1370
  let c1_i32_1376 : BitVec 32 := 1#32
  let v2452 : BitVec 32 := Scalar.subi v2437 c1_i32_1376
  let v2453 : BitVec 32 := Scalar.select v2451 v2452 v2437
  let c2_i32_1377 : BitVec 32 := 2#32
  let c0_i32_1378 : BitVec 32 := 0#32
  let v2454 : BitVec 1 := Scalar.cmpi .eq c2_i32_1377 c0_i32_1378
  let c1_i32_1379 : BitVec 32 := 1#32
  let v2455 : BitVec 32 := Scalar.select v2454 c1_i32_1379 c2_i32_1377
  let v2456 : BitVec 32 := Scalar.remsi v2453 v2455
  let c0_i32_1381 : BitVec 32 := 0#32
  let v2458 : BitVec 1 := Scalar.cmpi .slt v2456 c0_i32_1381
  let c0_i32_1382 : BitVec 32 := 0#32
  let v2459 : BitVec 1 := Scalar.cmpi .slt v2455 c0_i32_1382
  let v2460 : BitVec 1 := Scalar.xori v2458 v2459
  let c0_i32_1380 : BitVec 32 := 0#32
  let v2457 : BitVec 1 := Scalar.cmpi .ne v2456 c0_i32_1380
  let v2461 : BitVec 1 := Scalar.andi v2460 v2457
  let v2462 : BitVec 32 := Scalar.addi v2456 v2455
  let v2463 : BitVec 32 := Scalar.select v2461 v2462 v2456
  let c2_i32_1395 : BitVec 32 := 2#32
  let v2476 : BitVec 32 := Scalar.muli v2463 c2_i32_1395
  let v2477 : BitVec 32 := Scalar.addi v2475 v2476
  let c2_i32_1383 : BitVec 32 := 2#32
  let c0_i32_1384 : BitVec 32 := 0#32
  let v2464 : BitVec 1 := Scalar.cmpi .eq c2_i32_1383 c0_i32_1384
  let c1_i32_1385 : BitVec 32 := 1#32
  let v2465 : BitVec 32 := Scalar.select v2464 c1_i32_1385 c2_i32_1383
  let v2466 : BitVec 32 := Scalar.remsi v2419 v2465
  let c0_i32_1387 : BitVec 32 := 0#32
  let v2468 : BitVec 1 := Scalar.cmpi .slt v2466 c0_i32_1387
  let c0_i32_1388 : BitVec 32 := 0#32
  let v2469 : BitVec 1 := Scalar.cmpi .slt v2465 c0_i32_1388
  let v2470 : BitVec 1 := Scalar.xori v2468 v2469
  let c0_i32_1386 : BitVec 32 := 0#32
  let v2467 : BitVec 1 := Scalar.cmpi .ne v2466 c0_i32_1386
  let v2471 : BitVec 1 := Scalar.andi v2470 v2467
  let v2472 : BitVec 32 := Scalar.addi v2466 v2465
  let v2473 : BitVec 32 := Scalar.select v2471 v2472 v2466
  let c1_i32_1396 : BitVec 32 := 1#32
  let v2478 : BitVec 32 := Scalar.muli v2473 c1_i32_1396
  let v2479 : BitVec 32 := Scalar.addi v2477 v2478
  v2479.toNat
def k0_dev38 (d0 : Dev nD) : Nat :=
  let c0_i32_1431 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1401 : BitVec 32 := 0#32
  let v2487 : BitVec 1 := Scalar.cmpi .sgt v2419 c0_i32_1401
  let v2488 : BitVec 32 := Scalar.extui v2487
  let c0_i32_1402 : BitVec 32 := 0#32
  let v2489 : BitVec 1 := Scalar.cmpi .slt v2419 c0_i32_1402
  let v2490 : BitVec 32 := Scalar.extui v2489
  let v2491 : BitVec 32 := Scalar.subi v2488 v2490
  let c4_i32_1400 : BitVec 32 := 4#32
  let c0_i32_1403 : BitVec 32 := 0#32
  let v2492 : BitVec 1 := Scalar.cmpi .sgt c4_i32_1400 c0_i32_1403
  let v2493 : BitVec 32 := Scalar.extui v2492
  let c0_i32_1404 : BitVec 32 := 0#32
  let v2494 : BitVec 1 := Scalar.cmpi .slt c4_i32_1400 c0_i32_1404
  let v2495 : BitVec 32 := Scalar.extui v2494
  let v2496 : BitVec 32 := Scalar.subi v2493 v2495
  let v2497 : BitVec 1 := Scalar.cmpi .ne v2491 v2496
  let v2498 : BitVec 32 := Scalar.remsi v2419 c4_i32_1400
  let c0_i32_1405 : BitVec 32 := 0#32
  let v2499 : BitVec 1 := Scalar.cmpi .ne v2498 c0_i32_1405
  let v2500 : BitVec 1 := Scalar.andi v2497 v2499
  let v2486 : BitVec 32 := Scalar.divsi v2419 c4_i32_1400
  let c1_i32_1406 : BitVec 32 := 1#32
  let v2501 : BitVec 32 := Scalar.subi v2486 c1_i32_1406
  let v2502 : BitVec 32 := Scalar.select v2500 v2501 v2486
  let c4_i32_1430 : BitVec 32 := 4#32
  let v2540 : BitVec 32 := Scalar.muli v2502 c4_i32_1430
  let v2541 : BitVec 32 := Scalar.addi c0_i32_1431 v2540
  let c0_i32_1408 : BitVec 32 := 0#32
  let v2504 : BitVec 1 := Scalar.cmpi .sgt v2419 c0_i32_1408
  let v2505 : BitVec 32 := Scalar.extui v2504
  let c0_i32_1409 : BitVec 32 := 0#32
  let v2506 : BitVec 1 := Scalar.cmpi .slt v2419 c0_i32_1409
  let v2507 : BitVec 32 := Scalar.extui v2506
  let v2508 : BitVec 32 := Scalar.subi v2505 v2507
  let c2_i32_1407 : BitVec 32 := 2#32
  let c0_i32_1410 : BitVec 32 := 0#32
  let v2509 : BitVec 1 := Scalar.cmpi .sgt c2_i32_1407 c0_i32_1410
  let v2510 : BitVec 32 := Scalar.extui v2509
  let c0_i32_1411 : BitVec 32 := 0#32
  let v2511 : BitVec 1 := Scalar.cmpi .slt c2_i32_1407 c0_i32_1411
  let v2512 : BitVec 32 := Scalar.extui v2511
  let v2513 : BitVec 32 := Scalar.subi v2510 v2512
  let v2514 : BitVec 1 := Scalar.cmpi .ne v2508 v2513
  let v2515 : BitVec 32 := Scalar.remsi v2419 c2_i32_1407
  let c0_i32_1412 : BitVec 32 := 0#32
  let v2516 : BitVec 1 := Scalar.cmpi .ne v2515 c0_i32_1412
  let v2517 : BitVec 1 := Scalar.andi v2514 v2516
  let v2503 : BitVec 32 := Scalar.divsi v2419 c2_i32_1407
  let c1_i32_1413 : BitVec 32 := 1#32
  let v2518 : BitVec 32 := Scalar.subi v2503 c1_i32_1413
  let v2519 : BitVec 32 := Scalar.select v2517 v2518 v2503
  let c2_i32_1414 : BitVec 32 := 2#32
  let c0_i32_1415 : BitVec 32 := 0#32
  let v2520 : BitVec 1 := Scalar.cmpi .eq c2_i32_1414 c0_i32_1415
  let c1_i32_1416 : BitVec 32 := 1#32
  let v2521 : BitVec 32 := Scalar.select v2520 c1_i32_1416 c2_i32_1414
  let v2522 : BitVec 32 := Scalar.remsi v2519 v2521
  let c0_i32_1418 : BitVec 32 := 0#32
  let v2524 : BitVec 1 := Scalar.cmpi .slt v2522 c0_i32_1418
  let c0_i32_1419 : BitVec 32 := 0#32
  let v2525 : BitVec 1 := Scalar.cmpi .slt v2521 c0_i32_1419
  let v2526 : BitVec 1 := Scalar.xori v2524 v2525
  let c0_i32_1417 : BitVec 32 := 0#32
  let v2523 : BitVec 1 := Scalar.cmpi .ne v2522 c0_i32_1417
  let v2527 : BitVec 1 := Scalar.andi v2526 v2523
  let v2528 : BitVec 32 := Scalar.addi v2522 v2521
  let v2529 : BitVec 32 := Scalar.select v2527 v2528 v2522
  let c2_i32_1432 : BitVec 32 := 2#32
  let v2542 : BitVec 32 := Scalar.muli v2529 c2_i32_1432
  let v2543 : BitVec 32 := Scalar.addi v2541 v2542
  let c2_i32_1420 : BitVec 32 := 2#32
  let c0_i32_1421 : BitVec 32 := 0#32
  let v2530 : BitVec 1 := Scalar.cmpi .eq c2_i32_1420 c0_i32_1421
  let c1_i32_1422 : BitVec 32 := 1#32
  let v2531 : BitVec 32 := Scalar.select v2530 c1_i32_1422 c2_i32_1420
  let v2532 : BitVec 32 := Scalar.remsi v2419 v2531
  let c0_i32_1424 : BitVec 32 := 0#32
  let v2534 : BitVec 1 := Scalar.cmpi .slt v2532 c0_i32_1424
  let c0_i32_1425 : BitVec 32 := 0#32
  let v2535 : BitVec 1 := Scalar.cmpi .slt v2531 c0_i32_1425
  let v2536 : BitVec 1 := Scalar.xori v2534 v2535
  let c0_i32_1423 : BitVec 32 := 0#32
  let v2533 : BitVec 1 := Scalar.cmpi .ne v2532 c0_i32_1423
  let v2537 : BitVec 1 := Scalar.andi v2536 v2533
  let v2538 : BitVec 32 := Scalar.addi v2532 v2531
  let v2539 : BitVec 32 := Scalar.select v2537 v2538 v2532
  let c1_i32_1433 : BitVec 32 := 1#32
  let v2544 : BitVec 32 := Scalar.muli v2539 c1_i32_1433
  let v2545 : BitVec 32 := Scalar.addi v2543 v2544
  v2545.toNat
def k0_dev39 (d0 : Dev nD) : Nat :=
  let c0_i32_1468 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1438 : BitVec 32 := 0#32
  let v2553 : BitVec 1 := Scalar.cmpi .sgt v2419 c0_i32_1438
  let v2554 : BitVec 32 := Scalar.extui v2553
  let c0_i32_1439 : BitVec 32 := 0#32
  let v2555 : BitVec 1 := Scalar.cmpi .slt v2419 c0_i32_1439
  let v2556 : BitVec 32 := Scalar.extui v2555
  let v2557 : BitVec 32 := Scalar.subi v2554 v2556
  let c4_i32_1437 : BitVec 32 := 4#32
  let c0_i32_1440 : BitVec 32 := 0#32
  let v2558 : BitVec 1 := Scalar.cmpi .sgt c4_i32_1437 c0_i32_1440
  let v2559 : BitVec 32 := Scalar.extui v2558
  let c0_i32_1441 : BitVec 32 := 0#32
  let v2560 : BitVec 1 := Scalar.cmpi .slt c4_i32_1437 c0_i32_1441
  let v2561 : BitVec 32 := Scalar.extui v2560
  let v2562 : BitVec 32 := Scalar.subi v2559 v2561
  let v2563 : BitVec 1 := Scalar.cmpi .ne v2557 v2562
  let v2564 : BitVec 32 := Scalar.remsi v2419 c4_i32_1437
  let c0_i32_1442 : BitVec 32 := 0#32
  let v2565 : BitVec 1 := Scalar.cmpi .ne v2564 c0_i32_1442
  let v2566 : BitVec 1 := Scalar.andi v2563 v2565
  let v2552 : BitVec 32 := Scalar.divsi v2419 c4_i32_1437
  let c1_i32_1443 : BitVec 32 := 1#32
  let v2567 : BitVec 32 := Scalar.subi v2552 c1_i32_1443
  let v2568 : BitVec 32 := Scalar.select v2566 v2567 v2552
  let c4_i32_1467 : BitVec 32 := 4#32
  let v2606 : BitVec 32 := Scalar.muli v2568 c4_i32_1467
  let v2607 : BitVec 32 := Scalar.addi c0_i32_1468 v2606
  let c0_i32_1445 : BitVec 32 := 0#32
  let v2570 : BitVec 1 := Scalar.cmpi .sgt v2419 c0_i32_1445
  let v2571 : BitVec 32 := Scalar.extui v2570
  let c0_i32_1446 : BitVec 32 := 0#32
  let v2572 : BitVec 1 := Scalar.cmpi .slt v2419 c0_i32_1446
  let v2573 : BitVec 32 := Scalar.extui v2572
  let v2574 : BitVec 32 := Scalar.subi v2571 v2573
  let c2_i32_1444 : BitVec 32 := 2#32
  let c0_i32_1447 : BitVec 32 := 0#32
  let v2575 : BitVec 1 := Scalar.cmpi .sgt c2_i32_1444 c0_i32_1447
  let v2576 : BitVec 32 := Scalar.extui v2575
  let c0_i32_1448 : BitVec 32 := 0#32
  let v2577 : BitVec 1 := Scalar.cmpi .slt c2_i32_1444 c0_i32_1448
  let v2578 : BitVec 32 := Scalar.extui v2577
  let v2579 : BitVec 32 := Scalar.subi v2576 v2578
  let v2580 : BitVec 1 := Scalar.cmpi .ne v2574 v2579
  let v2581 : BitVec 32 := Scalar.remsi v2419 c2_i32_1444
  let c0_i32_1449 : BitVec 32 := 0#32
  let v2582 : BitVec 1 := Scalar.cmpi .ne v2581 c0_i32_1449
  let v2583 : BitVec 1 := Scalar.andi v2580 v2582
  let v2569 : BitVec 32 := Scalar.divsi v2419 c2_i32_1444
  let c1_i32_1450 : BitVec 32 := 1#32
  let v2584 : BitVec 32 := Scalar.subi v2569 c1_i32_1450
  let v2585 : BitVec 32 := Scalar.select v2583 v2584 v2569
  let c2_i32_1451 : BitVec 32 := 2#32
  let c0_i32_1452 : BitVec 32 := 0#32
  let v2586 : BitVec 1 := Scalar.cmpi .eq c2_i32_1451 c0_i32_1452
  let c1_i32_1453 : BitVec 32 := 1#32
  let v2587 : BitVec 32 := Scalar.select v2586 c1_i32_1453 c2_i32_1451
  let v2588 : BitVec 32 := Scalar.remsi v2585 v2587
  let c0_i32_1455 : BitVec 32 := 0#32
  let v2590 : BitVec 1 := Scalar.cmpi .slt v2588 c0_i32_1455
  let c0_i32_1456 : BitVec 32 := 0#32
  let v2591 : BitVec 1 := Scalar.cmpi .slt v2587 c0_i32_1456
  let v2592 : BitVec 1 := Scalar.xori v2590 v2591
  let c0_i32_1454 : BitVec 32 := 0#32
  let v2589 : BitVec 1 := Scalar.cmpi .ne v2588 c0_i32_1454
  let v2593 : BitVec 1 := Scalar.andi v2592 v2589
  let v2594 : BitVec 32 := Scalar.addi v2588 v2587
  let v2595 : BitVec 32 := Scalar.select v2593 v2594 v2588
  let c2_i32_1469 : BitVec 32 := 2#32
  let v2608 : BitVec 32 := Scalar.muli v2595 c2_i32_1469
  let v2609 : BitVec 32 := Scalar.addi v2607 v2608
  let c2_i32_1457 : BitVec 32 := 2#32
  let c0_i32_1458 : BitVec 32 := 0#32
  let v2596 : BitVec 1 := Scalar.cmpi .eq c2_i32_1457 c0_i32_1458
  let c1_i32_1459 : BitVec 32 := 1#32
  let v2597 : BitVec 32 := Scalar.select v2596 c1_i32_1459 c2_i32_1457
  let v2598 : BitVec 32 := Scalar.remsi v2419 v2597
  let c0_i32_1461 : BitVec 32 := 0#32
  let v2600 : BitVec 1 := Scalar.cmpi .slt v2598 c0_i32_1461
  let c0_i32_1462 : BitVec 32 := 0#32
  let v2601 : BitVec 1 := Scalar.cmpi .slt v2597 c0_i32_1462
  let v2602 : BitVec 1 := Scalar.xori v2600 v2601
  let c0_i32_1460 : BitVec 32 := 0#32
  let v2599 : BitVec 1 := Scalar.cmpi .ne v2598 c0_i32_1460
  let v2603 : BitVec 1 := Scalar.andi v2602 v2599
  let v2604 : BitVec 32 := Scalar.addi v2598 v2597
  let v2605 : BitVec 32 := Scalar.select v2603 v2604 v2598
  let c1_i32_1470 : BitVec 32 := 1#32
  let v2610 : BitVec 32 := Scalar.muli v2605 c1_i32_1470
  let v2611 : BitVec 32 := Scalar.addi v2609 v2610
  v2611.toNat
def k0_dev40 (d0 : Dev nD) : Nat :=
  let c0_i32_1505 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1475 : BitVec 32 := 0#32
  let v2619 : BitVec 1 := Scalar.cmpi .sgt v2419 c0_i32_1475
  let v2620 : BitVec 32 := Scalar.extui v2619
  let c0_i32_1476 : BitVec 32 := 0#32
  let v2621 : BitVec 1 := Scalar.cmpi .slt v2419 c0_i32_1476
  let v2622 : BitVec 32 := Scalar.extui v2621
  let v2623 : BitVec 32 := Scalar.subi v2620 v2622
  let c4_i32_1474 : BitVec 32 := 4#32
  let c0_i32_1477 : BitVec 32 := 0#32
  let v2624 : BitVec 1 := Scalar.cmpi .sgt c4_i32_1474 c0_i32_1477
  let v2625 : BitVec 32 := Scalar.extui v2624
  let c0_i32_1478 : BitVec 32 := 0#32
  let v2626 : BitVec 1 := Scalar.cmpi .slt c4_i32_1474 c0_i32_1478
  let v2627 : BitVec 32 := Scalar.extui v2626
  let v2628 : BitVec 32 := Scalar.subi v2625 v2627
  let v2629 : BitVec 1 := Scalar.cmpi .ne v2623 v2628
  let v2630 : BitVec 32 := Scalar.remsi v2419 c4_i32_1474
  let c0_i32_1479 : BitVec 32 := 0#32
  let v2631 : BitVec 1 := Scalar.cmpi .ne v2630 c0_i32_1479
  let v2632 : BitVec 1 := Scalar.andi v2629 v2631
  let v2618 : BitVec 32 := Scalar.divsi v2419 c4_i32_1474
  let c1_i32_1480 : BitVec 32 := 1#32
  let v2633 : BitVec 32 := Scalar.subi v2618 c1_i32_1480
  let v2634 : BitVec 32 := Scalar.select v2632 v2633 v2618
  let c4_i32_1504 : BitVec 32 := 4#32
  let v2672 : BitVec 32 := Scalar.muli v2634 c4_i32_1504
  let v2673 : BitVec 32 := Scalar.addi c0_i32_1505 v2672
  let c0_i32_1482 : BitVec 32 := 0#32
  let v2636 : BitVec 1 := Scalar.cmpi .sgt v2419 c0_i32_1482
  let v2637 : BitVec 32 := Scalar.extui v2636
  let c0_i32_1483 : BitVec 32 := 0#32
  let v2638 : BitVec 1 := Scalar.cmpi .slt v2419 c0_i32_1483
  let v2639 : BitVec 32 := Scalar.extui v2638
  let v2640 : BitVec 32 := Scalar.subi v2637 v2639
  let c2_i32_1481 : BitVec 32 := 2#32
  let c0_i32_1484 : BitVec 32 := 0#32
  let v2641 : BitVec 1 := Scalar.cmpi .sgt c2_i32_1481 c0_i32_1484
  let v2642 : BitVec 32 := Scalar.extui v2641
  let c0_i32_1485 : BitVec 32 := 0#32
  let v2643 : BitVec 1 := Scalar.cmpi .slt c2_i32_1481 c0_i32_1485
  let v2644 : BitVec 32 := Scalar.extui v2643
  let v2645 : BitVec 32 := Scalar.subi v2642 v2644
  let v2646 : BitVec 1 := Scalar.cmpi .ne v2640 v2645
  let v2647 : BitVec 32 := Scalar.remsi v2419 c2_i32_1481
  let c0_i32_1486 : BitVec 32 := 0#32
  let v2648 : BitVec 1 := Scalar.cmpi .ne v2647 c0_i32_1486
  let v2649 : BitVec 1 := Scalar.andi v2646 v2648
  let v2635 : BitVec 32 := Scalar.divsi v2419 c2_i32_1481
  let c1_i32_1487 : BitVec 32 := 1#32
  let v2650 : BitVec 32 := Scalar.subi v2635 c1_i32_1487
  let v2651 : BitVec 32 := Scalar.select v2649 v2650 v2635
  let c2_i32_1488 : BitVec 32 := 2#32
  let c0_i32_1489 : BitVec 32 := 0#32
  let v2652 : BitVec 1 := Scalar.cmpi .eq c2_i32_1488 c0_i32_1489
  let c1_i32_1490 : BitVec 32 := 1#32
  let v2653 : BitVec 32 := Scalar.select v2652 c1_i32_1490 c2_i32_1488
  let v2654 : BitVec 32 := Scalar.remsi v2651 v2653
  let c0_i32_1492 : BitVec 32 := 0#32
  let v2656 : BitVec 1 := Scalar.cmpi .slt v2654 c0_i32_1492
  let c0_i32_1493 : BitVec 32 := 0#32
  let v2657 : BitVec 1 := Scalar.cmpi .slt v2653 c0_i32_1493
  let v2658 : BitVec 1 := Scalar.xori v2656 v2657
  let c0_i32_1491 : BitVec 32 := 0#32
  let v2655 : BitVec 1 := Scalar.cmpi .ne v2654 c0_i32_1491
  let v2659 : BitVec 1 := Scalar.andi v2658 v2655
  let v2660 : BitVec 32 := Scalar.addi v2654 v2653
  let v2661 : BitVec 32 := Scalar.select v2659 v2660 v2654
  let c2_i32_1506 : BitVec 32 := 2#32
  let v2674 : BitVec 32 := Scalar.muli v2661 c2_i32_1506
  let v2675 : BitVec 32 := Scalar.addi v2673 v2674
  let c2_i32_1494 : BitVec 32 := 2#32
  let c0_i32_1495 : BitVec 32 := 0#32
  let v2662 : BitVec 1 := Scalar.cmpi .eq c2_i32_1494 c0_i32_1495
  let c1_i32_1496 : BitVec 32 := 1#32
  let v2663 : BitVec 32 := Scalar.select v2662 c1_i32_1496 c2_i32_1494
  let v2664 : BitVec 32 := Scalar.remsi v2419 v2663
  let c0_i32_1498 : BitVec 32 := 0#32
  let v2666 : BitVec 1 := Scalar.cmpi .slt v2664 c0_i32_1498
  let c0_i32_1499 : BitVec 32 := 0#32
  let v2667 : BitVec 1 := Scalar.cmpi .slt v2663 c0_i32_1499
  let v2668 : BitVec 1 := Scalar.xori v2666 v2667
  let c0_i32_1497 : BitVec 32 := 0#32
  let v2665 : BitVec 1 := Scalar.cmpi .ne v2664 c0_i32_1497
  let v2669 : BitVec 1 := Scalar.andi v2668 v2665
  let v2670 : BitVec 32 := Scalar.addi v2664 v2663
  let v2671 : BitVec 32 := Scalar.select v2669 v2670 v2664
  let c1_i32_1507 : BitVec 32 := 1#32
  let v2676 : BitVec 32 := Scalar.muli v2671 c1_i32_1507
  let v2677 : BitVec 32 := Scalar.addi v2675 v2676
  v2677.toNat
def k0_dev41 (d0 : Dev nD) : Nat :=
  let c0_i32_1542 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1512 : BitVec 32 := 0#32
  let v2685 : BitVec 1 := Scalar.cmpi .sgt v2419 c0_i32_1512
  let v2686 : BitVec 32 := Scalar.extui v2685
  let c0_i32_1513 : BitVec 32 := 0#32
  let v2687 : BitVec 1 := Scalar.cmpi .slt v2419 c0_i32_1513
  let v2688 : BitVec 32 := Scalar.extui v2687
  let v2689 : BitVec 32 := Scalar.subi v2686 v2688
  let c4_i32_1511 : BitVec 32 := 4#32
  let c0_i32_1514 : BitVec 32 := 0#32
  let v2690 : BitVec 1 := Scalar.cmpi .sgt c4_i32_1511 c0_i32_1514
  let v2691 : BitVec 32 := Scalar.extui v2690
  let c0_i32_1515 : BitVec 32 := 0#32
  let v2692 : BitVec 1 := Scalar.cmpi .slt c4_i32_1511 c0_i32_1515
  let v2693 : BitVec 32 := Scalar.extui v2692
  let v2694 : BitVec 32 := Scalar.subi v2691 v2693
  let v2695 : BitVec 1 := Scalar.cmpi .ne v2689 v2694
  let v2696 : BitVec 32 := Scalar.remsi v2419 c4_i32_1511
  let c0_i32_1516 : BitVec 32 := 0#32
  let v2697 : BitVec 1 := Scalar.cmpi .ne v2696 c0_i32_1516
  let v2698 : BitVec 1 := Scalar.andi v2695 v2697
  let v2684 : BitVec 32 := Scalar.divsi v2419 c4_i32_1511
  let c1_i32_1517 : BitVec 32 := 1#32
  let v2699 : BitVec 32 := Scalar.subi v2684 c1_i32_1517
  let v2700 : BitVec 32 := Scalar.select v2698 v2699 v2684
  let c4_i32_1541 : BitVec 32 := 4#32
  let v2738 : BitVec 32 := Scalar.muli v2700 c4_i32_1541
  let v2739 : BitVec 32 := Scalar.addi c0_i32_1542 v2738
  let c0_i32_1519 : BitVec 32 := 0#32
  let v2702 : BitVec 1 := Scalar.cmpi .sgt v2419 c0_i32_1519
  let v2703 : BitVec 32 := Scalar.extui v2702
  let c0_i32_1520 : BitVec 32 := 0#32
  let v2704 : BitVec 1 := Scalar.cmpi .slt v2419 c0_i32_1520
  let v2705 : BitVec 32 := Scalar.extui v2704
  let v2706 : BitVec 32 := Scalar.subi v2703 v2705
  let c2_i32_1518 : BitVec 32 := 2#32
  let c0_i32_1521 : BitVec 32 := 0#32
  let v2707 : BitVec 1 := Scalar.cmpi .sgt c2_i32_1518 c0_i32_1521
  let v2708 : BitVec 32 := Scalar.extui v2707
  let c0_i32_1522 : BitVec 32 := 0#32
  let v2709 : BitVec 1 := Scalar.cmpi .slt c2_i32_1518 c0_i32_1522
  let v2710 : BitVec 32 := Scalar.extui v2709
  let v2711 : BitVec 32 := Scalar.subi v2708 v2710
  let v2712 : BitVec 1 := Scalar.cmpi .ne v2706 v2711
  let v2713 : BitVec 32 := Scalar.remsi v2419 c2_i32_1518
  let c0_i32_1523 : BitVec 32 := 0#32
  let v2714 : BitVec 1 := Scalar.cmpi .ne v2713 c0_i32_1523
  let v2715 : BitVec 1 := Scalar.andi v2712 v2714
  let v2701 : BitVec 32 := Scalar.divsi v2419 c2_i32_1518
  let c1_i32_1524 : BitVec 32 := 1#32
  let v2716 : BitVec 32 := Scalar.subi v2701 c1_i32_1524
  let v2717 : BitVec 32 := Scalar.select v2715 v2716 v2701
  let c2_i32_1525 : BitVec 32 := 2#32
  let c0_i32_1526 : BitVec 32 := 0#32
  let v2718 : BitVec 1 := Scalar.cmpi .eq c2_i32_1525 c0_i32_1526
  let c1_i32_1527 : BitVec 32 := 1#32
  let v2719 : BitVec 32 := Scalar.select v2718 c1_i32_1527 c2_i32_1525
  let v2720 : BitVec 32 := Scalar.remsi v2717 v2719
  let c0_i32_1529 : BitVec 32 := 0#32
  let v2722 : BitVec 1 := Scalar.cmpi .slt v2720 c0_i32_1529
  let c0_i32_1530 : BitVec 32 := 0#32
  let v2723 : BitVec 1 := Scalar.cmpi .slt v2719 c0_i32_1530
  let v2724 : BitVec 1 := Scalar.xori v2722 v2723
  let c0_i32_1528 : BitVec 32 := 0#32
  let v2721 : BitVec 1 := Scalar.cmpi .ne v2720 c0_i32_1528
  let v2725 : BitVec 1 := Scalar.andi v2724 v2721
  let v2726 : BitVec 32 := Scalar.addi v2720 v2719
  let v2727 : BitVec 32 := Scalar.select v2725 v2726 v2720
  let c2_i32_1543 : BitVec 32 := 2#32
  let v2740 : BitVec 32 := Scalar.muli v2727 c2_i32_1543
  let v2741 : BitVec 32 := Scalar.addi v2739 v2740
  let c2_i32_1531 : BitVec 32 := 2#32
  let c0_i32_1532 : BitVec 32 := 0#32
  let v2728 : BitVec 1 := Scalar.cmpi .eq c2_i32_1531 c0_i32_1532
  let c1_i32_1533 : BitVec 32 := 1#32
  let v2729 : BitVec 32 := Scalar.select v2728 c1_i32_1533 c2_i32_1531
  let v2730 : BitVec 32 := Scalar.remsi v2419 v2729
  let c0_i32_1535 : BitVec 32 := 0#32
  let v2732 : BitVec 1 := Scalar.cmpi .slt v2730 c0_i32_1535
  let c0_i32_1536 : BitVec 32 := 0#32
  let v2733 : BitVec 1 := Scalar.cmpi .slt v2729 c0_i32_1536
  let v2734 : BitVec 1 := Scalar.xori v2732 v2733
  let c0_i32_1534 : BitVec 32 := 0#32
  let v2731 : BitVec 1 := Scalar.cmpi .ne v2730 c0_i32_1534
  let v2735 : BitVec 1 := Scalar.andi v2734 v2731
  let v2736 : BitVec 32 := Scalar.addi v2730 v2729
  let v2737 : BitVec 32 := Scalar.select v2735 v2736 v2730
  let c1_i32_1544 : BitVec 32 := 1#32
  let v2742 : BitVec 32 := Scalar.muli v2737 c1_i32_1544
  let v2743 : BitVec 32 := Scalar.addi v2741 v2742
  v2743.toNat
def k0_dev42 (d0 : Dev nD) : Nat :=
  let c0_i32_1579 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1549 : BitVec 32 := 0#32
  let v2751 : BitVec 1 := Scalar.cmpi .sgt v2419 c0_i32_1549
  let v2752 : BitVec 32 := Scalar.extui v2751
  let c0_i32_1550 : BitVec 32 := 0#32
  let v2753 : BitVec 1 := Scalar.cmpi .slt v2419 c0_i32_1550
  let v2754 : BitVec 32 := Scalar.extui v2753
  let v2755 : BitVec 32 := Scalar.subi v2752 v2754
  let c4_i32_1548 : BitVec 32 := 4#32
  let c0_i32_1551 : BitVec 32 := 0#32
  let v2756 : BitVec 1 := Scalar.cmpi .sgt c4_i32_1548 c0_i32_1551
  let v2757 : BitVec 32 := Scalar.extui v2756
  let c0_i32_1552 : BitVec 32 := 0#32
  let v2758 : BitVec 1 := Scalar.cmpi .slt c4_i32_1548 c0_i32_1552
  let v2759 : BitVec 32 := Scalar.extui v2758
  let v2760 : BitVec 32 := Scalar.subi v2757 v2759
  let v2761 : BitVec 1 := Scalar.cmpi .ne v2755 v2760
  let v2762 : BitVec 32 := Scalar.remsi v2419 c4_i32_1548
  let c0_i32_1553 : BitVec 32 := 0#32
  let v2763 : BitVec 1 := Scalar.cmpi .ne v2762 c0_i32_1553
  let v2764 : BitVec 1 := Scalar.andi v2761 v2763
  let v2750 : BitVec 32 := Scalar.divsi v2419 c4_i32_1548
  let c1_i32_1554 : BitVec 32 := 1#32
  let v2765 : BitVec 32 := Scalar.subi v2750 c1_i32_1554
  let v2766 : BitVec 32 := Scalar.select v2764 v2765 v2750
  let c4_i32_1578 : BitVec 32 := 4#32
  let v2804 : BitVec 32 := Scalar.muli v2766 c4_i32_1578
  let v2805 : BitVec 32 := Scalar.addi c0_i32_1579 v2804
  let c0_i32_1556 : BitVec 32 := 0#32
  let v2768 : BitVec 1 := Scalar.cmpi .sgt v2419 c0_i32_1556
  let v2769 : BitVec 32 := Scalar.extui v2768
  let c0_i32_1557 : BitVec 32 := 0#32
  let v2770 : BitVec 1 := Scalar.cmpi .slt v2419 c0_i32_1557
  let v2771 : BitVec 32 := Scalar.extui v2770
  let v2772 : BitVec 32 := Scalar.subi v2769 v2771
  let c2_i32_1555 : BitVec 32 := 2#32
  let c0_i32_1558 : BitVec 32 := 0#32
  let v2773 : BitVec 1 := Scalar.cmpi .sgt c2_i32_1555 c0_i32_1558
  let v2774 : BitVec 32 := Scalar.extui v2773
  let c0_i32_1559 : BitVec 32 := 0#32
  let v2775 : BitVec 1 := Scalar.cmpi .slt c2_i32_1555 c0_i32_1559
  let v2776 : BitVec 32 := Scalar.extui v2775
  let v2777 : BitVec 32 := Scalar.subi v2774 v2776
  let v2778 : BitVec 1 := Scalar.cmpi .ne v2772 v2777
  let v2779 : BitVec 32 := Scalar.remsi v2419 c2_i32_1555
  let c0_i32_1560 : BitVec 32 := 0#32
  let v2780 : BitVec 1 := Scalar.cmpi .ne v2779 c0_i32_1560
  let v2781 : BitVec 1 := Scalar.andi v2778 v2780
  let v2767 : BitVec 32 := Scalar.divsi v2419 c2_i32_1555
  let c1_i32_1561 : BitVec 32 := 1#32
  let v2782 : BitVec 32 := Scalar.subi v2767 c1_i32_1561
  let v2783 : BitVec 32 := Scalar.select v2781 v2782 v2767
  let c2_i32_1562 : BitVec 32 := 2#32
  let c0_i32_1563 : BitVec 32 := 0#32
  let v2784 : BitVec 1 := Scalar.cmpi .eq c2_i32_1562 c0_i32_1563
  let c1_i32_1564 : BitVec 32 := 1#32
  let v2785 : BitVec 32 := Scalar.select v2784 c1_i32_1564 c2_i32_1562
  let v2786 : BitVec 32 := Scalar.remsi v2783 v2785
  let c0_i32_1566 : BitVec 32 := 0#32
  let v2788 : BitVec 1 := Scalar.cmpi .slt v2786 c0_i32_1566
  let c0_i32_1567 : BitVec 32 := 0#32
  let v2789 : BitVec 1 := Scalar.cmpi .slt v2785 c0_i32_1567
  let v2790 : BitVec 1 := Scalar.xori v2788 v2789
  let c0_i32_1565 : BitVec 32 := 0#32
  let v2787 : BitVec 1 := Scalar.cmpi .ne v2786 c0_i32_1565
  let v2791 : BitVec 1 := Scalar.andi v2790 v2787
  let v2792 : BitVec 32 := Scalar.addi v2786 v2785
  let v2793 : BitVec 32 := Scalar.select v2791 v2792 v2786
  let c2_i32_1580 : BitVec 32 := 2#32
  let v2806 : BitVec 32 := Scalar.muli v2793 c2_i32_1580
  let v2807 : BitVec 32 := Scalar.addi v2805 v2806
  let c2_i32_1568 : BitVec 32 := 2#32
  let c0_i32_1569 : BitVec 32 := 0#32
  let v2794 : BitVec 1 := Scalar.cmpi .eq c2_i32_1568 c0_i32_1569
  let c1_i32_1570 : BitVec 32 := 1#32
  let v2795 : BitVec 32 := Scalar.select v2794 c1_i32_1570 c2_i32_1568
  let v2796 : BitVec 32 := Scalar.remsi v2419 v2795
  let c0_i32_1572 : BitVec 32 := 0#32
  let v2798 : BitVec 1 := Scalar.cmpi .slt v2796 c0_i32_1572
  let c0_i32_1573 : BitVec 32 := 0#32
  let v2799 : BitVec 1 := Scalar.cmpi .slt v2795 c0_i32_1573
  let v2800 : BitVec 1 := Scalar.xori v2798 v2799
  let c0_i32_1571 : BitVec 32 := 0#32
  let v2797 : BitVec 1 := Scalar.cmpi .ne v2796 c0_i32_1571
  let v2801 : BitVec 1 := Scalar.andi v2800 v2797
  let v2802 : BitVec 32 := Scalar.addi v2796 v2795
  let v2803 : BitVec 32 := Scalar.select v2801 v2802 v2796
  let c1_i32_1581 : BitVec 32 := 1#32
  let v2808 : BitVec 32 := Scalar.muli v2803 c1_i32_1581
  let v2809 : BitVec 32 := Scalar.addi v2807 v2808
  v2809.toNat
-- ==== GatherWeightsIdeal.lean ====
abbrev S2x1024x800 : Shape := ⟨3, ![2, 1024, 800]⟩
abbrev S2x64x512 : Shape := ⟨3, ![2, 64, 512]⟩
abbrev S2x512x128 : Shape := ⟨3, ![2, 512, 128]⟩
abbrev S2x128x1024 : Shape := ⟨3, ![2, 128, 1024]⟩
abbrev S8x2x1024x800 : Shape := ⟨4, ![8, 2, 1024, 800]⟩
abbrev S8x2x64x512 : Shape := ⟨4, ![8, 2, 64, 512]⟩
abbrev S8x2x512x128 : Shape := ⟨4, ![8, 2, 512, 128]⟩
abbrev S8x2x128x1024 : Shape := ⟨4, ![8, 2, 128, 1024]⟩
abbrev S6x7 : Shape := ⟨2, ![6, 7]⟩
abbrev S6 : Shape := ⟨1, ![6]⟩
abbrev S1 : Shape := ⟨1, ![1]⟩
abbrev S_ : Shape := ⟨0, ![]⟩
abbrev S1x2x1024x800 : Shape := ⟨4, ![1, 2, 1024, 800]⟩
abbrev S1x2x64x512 : Shape := ⟨4, ![1, 2, 64, 512]⟩
abbrev S1x2x512x128 : Shape := ⟨4, ![1, 2, 512, 128]⟩
abbrev S1x2x128x1024 : Shape := ⟨4, ![1, 2, 128, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S2x1024x800, .bf16⟩
  | .hbm, ⟨1, _⟩ => ⟨S2x64x512, .bf16⟩
  | .hbm, ⟨2, _⟩ => ⟨S2x512x128, .bf16⟩
  | .hbm, ⟨3, _⟩ => ⟨S2x512x128, .bf16⟩
  | .hbm, ⟨4, _⟩ => ⟨S2x512x128, .bf16⟩
  | .hbm, ⟨5, _⟩ => ⟨S2x128x1024, .bf16⟩
  | .hbm, ⟨6, _⟩ => ⟨S8x2x1024x800, .bf16⟩
  | .hbm, ⟨7, _⟩ => ⟨S8x2x64x512, .bf16⟩
  | .hbm, ⟨8, _⟩ => ⟨S8x2x512x128, .bf16⟩
  | .hbm, ⟨9, _⟩ => ⟨S8x2x512x128, .bf16⟩
  | .hbm, ⟨10, _⟩ => ⟨S8x2x512x128, .bf16⟩
  | .hbm, ⟨11, _⟩ => ⟨S8x2x128x1024, .bf16⟩
  | _, _ => ⟨S2x1024x800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  let c0_i32_7 : BitVec 32 := 0#32
  ![v12.toNat, 0, 0, 0]
def k0_off2 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_9 : BitVec 32 := 0#32
  let c0_i32_10 : BitVec 32 := 0#32
  let c0_i32_11 : BitVec 32 := 0#32
  ![v12.toNat, 0, 0, 0]
def k0_off3 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_13 : BitVec 32 := 0#32
  let c0_i32_14 : BitVec 32 := 0#32
  let c0_i32_15 : BitVec 32 := 0#32
  ![v12.toNat, 0, 0, 0]
def k0_off4 (d0 : Dev nD) : Fin 4 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_23 : BitVec 32 := 0#32
  let c0_i32_24 : BitVec 32 := 0#32
  let c0_i32_25 : BitVec 32 := 0#32
  ![v12.toNat, 0, 0, 0]
def k0_dev1 (d0 : Dev nD) : Nat :=
  let c0_i32_58 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_28 : BitVec 32 := 0#32
  let v39 : BitVec 1 := Scalar.cmpi .sgt v37 c0_i32_28
  let v40 : BitVec 32 := Scalar.extui v39
  let c0_i32_29 : BitVec 32 := 0#32
  let v41 : BitVec 1 := Scalar.cmpi .slt v37 c0_i32_29
  let v42 : BitVec 32 := Scalar.extui v41
  let v43 : BitVec 32 := Scalar.subi v40 v42
  let c4_i32_27 : BitVec 32 := 4#32
  let c0_i32_30 : BitVec 32 := 0#32
  let v44 : BitVec 1 := Scalar.cmpi .sgt c4_i32_27 c0_i32_30
  let v45 : BitVec 32 := Scalar.extui v44
  let c0_i32_31 : BitVec 32 := 0#32
  let v46 : BitVec 1 := Scalar.cmpi .slt c4_i32_27 c0_i32_31
  let v47 : BitVec 32 := Scalar.extui v46
  let v48 : BitVec 32 := Scalar.subi v45 v47
  let v49 : BitVec 1 := Scalar.cmpi .ne v43 v48
  let v50 : BitVec 32 := Scalar.remsi v37 c4_i32_27
  let c0_i32_32 : BitVec 32 := 0#32
  let v51 : BitVec 1 := Scalar.cmpi .ne v50 c0_i32_32
  let v52 : BitVec 1 := Scalar.andi v49 v51
  let v38 : BitVec 32 := Scalar.divsi v37 c4_i32_27
  let c1_i32_33 : BitVec 32 := 1#32
  let v53 : BitVec 32 := Scalar.subi v38 c1_i32_33
  let v54 : BitVec 32 := Scalar.select v52 v53 v38
  let c4_i32_57 : BitVec 32 := 4#32
  let v92 : BitVec 32 := Scalar.muli v54 c4_i32_57
  let v93 : BitVec 32 := Scalar.addi c0_i32_58 v92
  let c0_i32_35 : BitVec 32 := 0#32
  let v56 : BitVec 1 := Scalar.cmpi .sgt v37 c0_i32_35
  let v57 : BitVec 32 := Scalar.extui v56
  let c0_i32_36 : BitVec 32 := 0#32
  let v58 : BitVec 1 := Scalar.cmpi .slt v37 c0_i32_36
  let v59 : BitVec 32 := Scalar.extui v58
  let v60 : BitVec 32 := Scalar.subi v57 v59
  let c2_i32_34 : BitVec 32 := 2#32
  let c0_i32_37 : BitVec 32 := 0#32
  let v61 : BitVec 1 := Scalar.cmpi .sgt c2_i32_34 c0_i32_37
  let v62 : BitVec 32 := Scalar.extui v61
  let c0_i32_38 : BitVec 32 := 0#32
  let v63 : BitVec 1 := Scalar.cmpi .slt c2_i32_34 c0_i32_38
  let v64 : BitVec 32 := Scalar.extui v63
  let v65 : BitVec 32 := Scalar.subi v62 v64
  let v66 : BitVec 1 := Scalar.cmpi .ne v60 v65
  let v67 : BitVec 32 := Scalar.remsi v37 c2_i32_34
  let c0_i32_39 : BitVec 32 := 0#32
  let v68 : BitVec 1 := Scalar.cmpi .ne v67 c0_i32_39
  let v69 : BitVec 1 := Scalar.andi v66 v68
  let v55 : BitVec 32 := Scalar.divsi v37 c2_i32_34
  let c1_i32_40 : BitVec 32 := 1#32
  let v70 : BitVec 32 := Scalar.subi v55 c1_i32_40
  let v71 : BitVec 32 := Scalar.select v69 v70 v55
  let c2_i32_41 : BitVec 32 := 2#32
  let c0_i32_42 : BitVec 32 := 0#32
  let v72 : BitVec 1 := Scalar.cmpi .eq c2_i32_41 c0_i32_42
  let c1_i32_43 : BitVec 32 := 1#32
  let v73 : BitVec 32 := Scalar.select v72 c1_i32_43 c2_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c2_i32_59 : BitVec 32 := 2#32
  let v94 : BitVec 32 := Scalar.muli v81 c2_i32_59
  let v95 : BitVec 32 := Scalar.addi v93 v94
  let c2_i32_47 : BitVec 32 := 2#32
  let c0_i32_48 : BitVec 32 := 0#32
  let v82 : BitVec 1 := Scalar.cmpi .eq c2_i32_47 c0_i32_48
  let c1_i32_49 : BitVec 32 := 1#32
  let v83 : BitVec 32 := Scalar.select v82 c1_i32_49 c2_i32_47
  let v84 : BitVec 32 := Scalar.remsi v37 v83
  let c0_i32_51 : BitVec 32 := 0#32
  let v86 : BitVec 1 := Scalar.cmpi .slt v84 c0_i32_51
  let c0_i32_52 : BitVec 32 := 0#32
  let v87 : BitVec 1 := Scalar.cmpi .slt v83 c0_i32_52
  let v88 : BitVec 1 := Scalar.xori v86 v87
  let c0_i32_50 : BitVec 32 := 0#32
  let v85 : BitVec 1 := Scalar.cmpi .ne v84 c0_i32_50
  let v89 : BitVec 1 := Scalar.andi v88 v85
  let v90 : BitVec 32 := Scalar.addi v84 v83
  let v91 : BitVec 32 := Scalar.select v89 v90 v84
  let c1_i32_60 : BitVec 32 := 1#32
  let v96 : BitVec 32 := Scalar.muli v91 c1_i32_60
  let v97 : BitVec 32 := Scalar.addi v95 v96
  v97.toNat
def k0_dev2 (d0 : Dev nD) : Nat :=
  let c0_i32_95 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_65 : BitVec 32 := 0#32
  let v105 : BitVec 1 := Scalar.cmpi .sgt v37 c0_i32_65
  let v106 : BitVec 32 := Scalar.extui v105
  let c0_i32_66 : BitVec 32 := 0#32
  let v107 : BitVec 1 := Scalar.cmpi .slt v37 c0_i32_66
  let v108 : BitVec 32 := Scalar.extui v107
  let v109 : BitVec 32 := Scalar.subi v106 v108
  let c4_i32_64 : BitVec 32 := 4#32
  let c0_i32_67 : BitVec 32 := 0#32
  let v110 : BitVec 1 := Scalar.cmpi .sgt c4_i32_64 c0_i32_67
  let v111 : BitVec 32 := Scalar.extui v110
  let c0_i32_68 : BitVec 32 := 0#32
  let v112 : BitVec 1 := Scalar.cmpi .slt c4_i32_64 c0_i32_68
  let v113 : BitVec 32 := Scalar.extui v112
  let v114 : BitVec 32 := Scalar.subi v111 v113
  let v115 : BitVec 1 := Scalar.cmpi .ne v109 v114
  let v116 : BitVec 32 := Scalar.remsi v37 c4_i32_64
  let c0_i32_69 : BitVec 32 := 0#32
  let v117 : BitVec 1 := Scalar.cmpi .ne v116 c0_i32_69
  let v118 : BitVec 1 := Scalar.andi v115 v117
  let v104 : BitVec 32 := Scalar.divsi v37 c4_i32_64
  let c1_i32_70 : BitVec 32 := 1#32
  let v119 : BitVec 32 := Scalar.subi v104 c1_i32_70
  let v120 : BitVec 32 := Scalar.select v118 v119 v104
  let c4_i32_94 : BitVec 32 := 4#32
  let v158 : BitVec 32 := Scalar.muli v120 c4_i32_94
  let v159 : BitVec 32 := Scalar.addi c0_i32_95 v158
  let c0_i32_72 : BitVec 32 := 0#32
  let v122 : BitVec 1 := Scalar.cmpi .sgt v37 c0_i32_72
  let v123 : BitVec 32 := Scalar.extui v122
  let c0_i32_73 : BitVec 32 := 0#32
  let v124 : BitVec 1 := Scalar.cmpi .slt v37 c0_i32_73
  let v125 : BitVec 32 := Scalar.extui v124
  let v126 : BitVec 32 := Scalar.subi v123 v125
  let c2_i32_71 : BitVec 32 := 2#32
  let c0_i32_74 : BitVec 32 := 0#32
  let v127 : BitVec 1 := Scalar.cmpi .sgt c2_i32_71 c0_i32_74
  let v128 : BitVec 32 := Scalar.extui v127
  let c0_i32_75 : BitVec 32 := 0#32
  let v129 : BitVec 1 := Scalar.cmpi .slt c2_i32_71 c0_i32_75
  let v130 : BitVec 32 := Scalar.extui v129
  let v131 : BitVec 32 := Scalar.subi v128 v130
  let v132 : BitVec 1 := Scalar.cmpi .ne v126 v131
  let v133 : BitVec 32 := Scalar.remsi v37 c2_i32_71
  let c0_i32_76 : BitVec 32 := 0#32
  let v134 : BitVec 1 := Scalar.cmpi .ne v133 c0_i32_76
  let v135 : BitVec 1 := Scalar.andi v132 v134
  let v121 : BitVec 32 := Scalar.divsi v37 c2_i32_71
  let c1_i32_77 : BitVec 32 := 1#32
  let v136 : BitVec 32 := Scalar.subi v121 c1_i32_77
  let v137 : BitVec 32 := Scalar.select v135 v136 v121
  let c2_i32_78 : BitVec 32 := 2#32
  let c0_i32_79 : BitVec 32 := 0#32
  let v138 : BitVec 1 := Scalar.cmpi .eq c2_i32_78 c0_i32_79
  let c1_i32_80 : BitVec 32 := 1#32
  let v139 : BitVec 32 := Scalar.select v138 c1_i32_80 c2_i32_78
  let v140 : BitVec 32 := Scalar.remsi v137 v139
  let c0_i32_82 : BitVec 32 := 0#32
  let v142 : BitVec 1 := Scalar.cmpi .slt v140 c0_i32_82
  let c0_i32_83 : BitVec 32 := 0#32
  let v143 : BitVec 1 := Scalar.cmpi .slt v139 c0_i32_83
  let v144 : BitVec 1 := Scalar.xori v142 v143
  let c0_i32_81 : BitVec 32 := 0#32
  let v141 : BitVec 1 := Scalar.cmpi .ne v140 c0_i32_81
  let v145 : BitVec 1 := Scalar.andi v144 v141
  let v146 : BitVec 32 := Scalar.addi v140 v139
  let v147 : BitVec 32 := Scalar.select v145 v146 v140
  let c2_i32_96 : BitVec 32 := 2#32
  let v160 : BitVec 32 := Scalar.muli v147 c2_i32_96
  let v161 : BitVec 32 := Scalar.addi v159 v160
  let c2_i32_84 : BitVec 32 := 2#32
  let c0_i32_85 : BitVec 32 := 0#32
  let v148 : BitVec 1 := Scalar.cmpi .eq c2_i32_84 c0_i32_85
  let c1_i32_86 : BitVec 32 := 1#32
  let v149 : BitVec 32 := Scalar.select v148 c1_i32_86 c2_i32_84
  let v150 : BitVec 32 := Scalar.remsi v37 v149
  let c0_i32_88 : BitVec 32 := 0#32
  let v152 : BitVec 1 := Scalar.cmpi .slt v150 c0_i32_88
  let c0_i32_89 : BitVec 32 := 0#32
  let v153 : BitVec 1 := Scalar.cmpi .slt v149 c0_i32_89
  let v154 : BitVec 1 := Scalar.xori v152 v153
  let c0_i32_87 : BitVec 32 := 0#32
  let v151 : BitVec 1 := Scalar.cmpi .ne v150 c0_i32_87
  let v155 : BitVec 1 := Scalar.andi v154 v151
  let v156 : BitVec 32 := Scalar.addi v150 v149
  let v157 : BitVec 32 := Scalar.select v155 v156 v150
  let c1_i32_97 : BitVec 32 := 1#32
  let v162 : BitVec 32 := Scalar.muli v157 c1_i32_97
  let v163 : BitVec 32 := Scalar.addi v161 v162
  v163.toNat
def k0_dev3 (d0 : Dev nD) : Nat :=
  let c0_i32_132 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_102 : BitVec 32 := 0#32
  let v171 : BitVec 1 := Scalar.cmpi .sgt v37 c0_i32_102
  let v172 : BitVec 32 := Scalar.extui v171
  let c0_i32_103 : BitVec 32 := 0#32
  let v173 : BitVec 1 := Scalar.cmpi .slt v37 c0_i32_103
  let v174 : BitVec 32 := Scalar.extui v173
  let v175 : BitVec 32 := Scalar.subi v172 v174
  let c4_i32_101 : BitVec 32 := 4#32
  let c0_i32_104 : BitVec 32 := 0#32
  let v176 : BitVec 1 := Scalar.cmpi .sgt c4_i32_101 c0_i32_104
  let v177 : BitVec 32 := Scalar.extui v176
  let c0_i32_105 : BitVec 32 := 0#32
  let v178 : BitVec 1 := Scalar.cmpi .slt c4_i32_101 c0_i32_105
  let v179 : BitVec 32 := Scalar.extui v178
  let v180 : BitVec 32 := Scalar.subi v177 v179
  let v181 : BitVec 1 := Scalar.cmpi .ne v175 v180
  let v182 : BitVec 32 := Scalar.remsi v37 c4_i32_101
  let c0_i32_106 : BitVec 32 := 0#32
  let v183 : BitVec 1 := Scalar.cmpi .ne v182 c0_i32_106
  let v184 : BitVec 1 := Scalar.andi v181 v183
  let v170 : BitVec 32 := Scalar.divsi v37 c4_i32_101
  let c1_i32_107 : BitVec 32 := 1#32
  let v185 : BitVec 32 := Scalar.subi v170 c1_i32_107
  let v186 : BitVec 32 := Scalar.select v184 v185 v170
  let c4_i32_131 : BitVec 32 := 4#32
  let v224 : BitVec 32 := Scalar.muli v186 c4_i32_131
  let v225 : BitVec 32 := Scalar.addi c0_i32_132 v224
  let c0_i32_109 : BitVec 32 := 0#32
  let v188 : BitVec 1 := Scalar.cmpi .sgt v37 c0_i32_109
  let v189 : BitVec 32 := Scalar.extui v188
  let c0_i32_110 : BitVec 32 := 0#32
  let v190 : BitVec 1 := Scalar.cmpi .slt v37 c0_i32_110
  let v191 : BitVec 32 := Scalar.extui v190
  let v192 : BitVec 32 := Scalar.subi v189 v191
  let c2_i32_108 : BitVec 32 := 2#32
  let c0_i32_111 : BitVec 32 := 0#32
  let v193 : BitVec 1 := Scalar.cmpi .sgt c2_i32_108 c0_i32_111
  let v194 : BitVec 32 := Scalar.extui v193
  let c0_i32_112 : BitVec 32 := 0#32
  let v195 : BitVec 1 := Scalar.cmpi .slt c2_i32_108 c0_i32_112
  let v196 : BitVec 32 := Scalar.extui v195
  let v197 : BitVec 32 := Scalar.subi v194 v196
  let v198 : BitVec 1 := Scalar.cmpi .ne v192 v197
  let v199 : BitVec 32 := Scalar.remsi v37 c2_i32_108
  let c0_i32_113 : BitVec 32 := 0#32
  let v200 : BitVec 1 := Scalar.cmpi .ne v199 c0_i32_113
  let v201 : BitVec 1 := Scalar.andi v198 v200
  let v187 : BitVec 32 := Scalar.divsi v37 c2_i32_108
  let c1_i32_114 : BitVec 32 := 1#32
  let v202 : BitVec 32 := Scalar.subi v187 c1_i32_114
  let v203 : BitVec 32 := Scalar.select v201 v202 v187
  let c2_i32_115 : BitVec 32 := 2#32
  let c0_i32_116 : BitVec 32 := 0#32
  let v204 : BitVec 1 := Scalar.cmpi .eq c2_i32_115 c0_i32_116
  let c1_i32_117 : BitVec 32 := 1#32
  let v205 : BitVec 32 := Scalar.select v204 c1_i32_117 c2_i32_115
  let v206 : BitVec 32 := Scalar.remsi v203 v205
  let c0_i32_119 : BitVec 32 := 0#32
  let v208 : BitVec 1 := Scalar.cmpi .slt v206 c0_i32_119
  let c0_i32_120 : BitVec 32 := 0#32
  let v209 : BitVec 1 := Scalar.cmpi .slt v205 c0_i32_120
  let v210 : BitVec 1 := Scalar.xori v208 v209
  let c0_i32_118 : BitVec 32 := 0#32
  let v207 : BitVec 1 := Scalar.cmpi .ne v206 c0_i32_118
  let v211 : BitVec 1 := Scalar.andi v210 v207
  let v212 : BitVec 32 := Scalar.addi v206 v205
  let v213 : BitVec 32 := Scalar.select v211 v212 v206
  let c2_i32_133 : BitVec 32 := 2#32
  let v226 : BitVec 32 := Scalar.muli v213 c2_i32_133
  let v227 : BitVec 32 := Scalar.addi v225 v226
  let c2_i32_121 : BitVec 32 := 2#32
  let c0_i32_122 : BitVec 32 := 0#32
  let v214 : BitVec 1 := Scalar.cmpi .eq c2_i32_121 c0_i32_122
  let c1_i32_123 : BitVec 32 := 1#32
  let v215 : BitVec 32 := Scalar.select v214 c1_i32_123 c2_i32_121
  let v216 : BitVec 32 := Scalar.remsi v37 v215
  let c0_i32_125 : BitVec 32 := 0#32
  let v218 : BitVec 1 := Scalar.cmpi .slt v216 c0_i32_125
  let c0_i32_126 : BitVec 32 := 0#32
  let v219 : BitVec 1 := Scalar.cmpi .slt v215 c0_i32_126
  let v220 : BitVec 1 := Scalar.xori v218 v219
  let c0_i32_124 : BitVec 32 := 0#32
  let v217 : BitVec 1 := Scalar.cmpi .ne v216 c0_i32_124
  let v221 : BitVec 1 := Scalar.andi v220 v217
  let v222 : BitVec 32 := Scalar.addi v216 v215
  let v223 : BitVec 32 := Scalar.select v221 v222 v216
  let c1_i32_134 : BitVec 32 := 1#32
  let v228 : BitVec 32 := Scalar.muli v223 c1_i32_134
  let v229 : BitVec 32 := Scalar.addi v227 v228
  v229.toNat
def k0_dev4 (d0 : Dev nD) : Nat :=
  let c0_i32_169 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_139 : BitVec 32 := 0#32
  let v237 : BitVec 1 := Scalar.cmpi .sgt v37 c0_i32_139
  let v238 : BitVec 32 := Scalar.extui v237
  let c0_i32_140 : BitVec 32 := 0#32
  let v239 : BitVec 1 := Scalar.cmpi .slt v37 c0_i32_140
  let v240 : BitVec 32 := Scalar.extui v239
  let v241 : BitVec 32 := Scalar.subi v238 v240
  let c4_i32_138 : BitVec 32 := 4#32
  let c0_i32_141 : BitVec 32 := 0#32
  let v242 : BitVec 1 := Scalar.cmpi .sgt c4_i32_138 c0_i32_141
  let v243 : BitVec 32 := Scalar.extui v242
  let c0_i32_142 : BitVec 32 := 0#32
  let v244 : BitVec 1 := Scalar.cmpi .slt c4_i32_138 c0_i32_142
  let v245 : BitVec 32 := Scalar.extui v244
  let v246 : BitVec 32 := Scalar.subi v243 v245
  let v247 : BitVec 1 := Scalar.cmpi .ne v241 v246
  let v248 : BitVec 32 := Scalar.remsi v37 c4_i32_138
  let c0_i32_143 : BitVec 32 := 0#32
  let v249 : BitVec 1 := Scalar.cmpi .ne v248 c0_i32_143
  let v250 : BitVec 1 := Scalar.andi v247 v249
  let v236 : BitVec 32 := Scalar.divsi v37 c4_i32_138
  let c1_i32_144 : BitVec 32 := 1#32
  let v251 : BitVec 32 := Scalar.subi v236 c1_i32_144
  let v252 : BitVec 32 := Scalar.select v250 v251 v236
  let c4_i32_168 : BitVec 32 := 4#32
  let v290 : BitVec 32 := Scalar.muli v252 c4_i32_168
  let v291 : BitVec 32 := Scalar.addi c0_i32_169 v290
  let c0_i32_146 : BitVec 32 := 0#32
  let v254 : BitVec 1 := Scalar.cmpi .sgt v37 c0_i32_146
  let v255 : BitVec 32 := Scalar.extui v254
  let c0_i32_147 : BitVec 32 := 0#32
  let v256 : BitVec 1 := Scalar.cmpi .slt v37 c0_i32_147
  let v257 : BitVec 32 := Scalar.extui v256
  let v258 : BitVec 32 := Scalar.subi v255 v257
  let c2_i32_145 : BitVec 32 := 2#32
  let c0_i32_148 : BitVec 32 := 0#32
  let v259 : BitVec 1 := Scalar.cmpi .sgt c2_i32_145 c0_i32_148
  let v260 : BitVec 32 := Scalar.extui v259
  let c0_i32_149 : BitVec 32 := 0#32
  let v261 : BitVec 1 := Scalar.cmpi .slt c2_i32_145 c0_i32_149
  let v262 : BitVec 32 := Scalar.extui v261
  let v263 : BitVec 32 := Scalar.subi v260 v262
  let v264 : BitVec 1 := Scalar.cmpi .ne v258 v263
  let v265 : BitVec 32 := Scalar.remsi v37 c2_i32_145
  let c0_i32_150 : BitVec 32 := 0#32
  let v266 : BitVec 1 := Scalar.cmpi .ne v265 c0_i32_150
  let v267 : BitVec 1 := Scalar.andi v264 v266
  let v253 : BitVec 32 := Scalar.divsi v37 c2_i32_145
  let c1_i32_151 : BitVec 32 := 1#32
  let v268 : BitVec 32 := Scalar.subi v253 c1_i32_151
  let v269 : BitVec 32 := Scalar.select v267 v268 v253
  let c2_i32_152 : BitVec 32 := 2#32
  let c0_i32_153 : BitVec 32 := 0#32
  let v270 : BitVec 1 := Scalar.cmpi .eq c2_i32_152 c0_i32_153
  let c1_i32_154 : BitVec 32 := 1#32
  let v271 : BitVec 32 := Scalar.select v270 c1_i32_154 c2_i32_152
  let v272 : BitVec 32 := Scalar.remsi v269 v271
  let c0_i32_156 : BitVec 32 := 0#32
  let v274 : BitVec 1 := Scalar.cmpi .slt v272 c0_i32_156
  let c0_i32_157 : BitVec 32 := 0#32
  let v275 : BitVec 1 := Scalar.cmpi .slt v271 c0_i32_157
  let v276 : BitVec 1 := Scalar.xori v274 v275
  let c0_i32_155 : BitVec 32 := 0#32
  let v273 : BitVec 1 := Scalar.cmpi .ne v272 c0_i32_155
  let v277 : BitVec 1 := Scalar.andi v276 v273
  let v278 : BitVec 32 := Scalar.addi v272 v271
  let v279 : BitVec 32 := Scalar.select v277 v278 v272
  let c2_i32_170 : BitVec 32 := 2#32
  let v292 : BitVec 32 := Scalar.muli v279 c2_i32_170
  let v293 : BitVec 32 := Scalar.addi v291 v292
  let c2_i32_158 : BitVec 32 := 2#32
  let c0_i32_159 : BitVec 32 := 0#32
  let v280 : BitVec 1 := Scalar.cmpi .eq c2_i32_158 c0_i32_159
  let c1_i32_160 : BitVec 32 := 1#32
  let v281 : BitVec 32 := Scalar.select v280 c1_i32_160 c2_i32_158
  let v282 : BitVec 32 := Scalar.remsi v37 v281
  let c0_i32_162 : BitVec 32 := 0#32
  let v284 : BitVec 1 := Scalar.cmpi .slt v282 c0_i32_162
  let c0_i32_163 : BitVec 32 := 0#32
  let v285 : BitVec 1 := Scalar.cmpi .slt v281 c0_i32_163
  let v286 : BitVec 1 := Scalar.xori v284 v285
  let c0_i32_161 : BitVec 32 := 0#32
  let v283 : BitVec 1 := Scalar.cmpi .ne v282 c0_i32_161
  let v287 : BitVec 1 := Scalar.andi v286 v283
  let v288 : BitVec 32 := Scalar.addi v282 v281
  let v289 : BitVec 32 := Scalar.select v287 v288 v282
  let c1_i32_171 : BitVec 32 := 1#32
  let v294 : BitVec 32 := Scalar.muli v289 c1_i32_171
  let v295 : BitVec 32 := Scalar.addi v293 v294
  v295.toNat
def k0_dev5 (d0 : Dev nD) : Nat :=
  let c0_i32_206 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_176 : BitVec 32 := 0#32
  let v303 : BitVec 1 := Scalar.cmpi .sgt v37 c0_i32_176
  let v304 : BitVec 32 := Scalar.extui v303
  let c0_i32_177 : BitVec 32 := 0#32
  let v305 : BitVec 1 := Scalar.cmpi .slt v37 c0_i32_177
  let v306 : BitVec 32 := Scalar.extui v305
  let v307 : BitVec 32 := Scalar.subi v304 v306
  let c4_i32_175 : BitVec 32 := 4#32
  let c0_i32_178 : BitVec 32 := 0#32
  let v308 : BitVec 1 := Scalar.cmpi .sgt c4_i32_175 c0_i32_178
  let v309 : BitVec 32 := Scalar.extui v308
  let c0_i32_179 : BitVec 32 := 0#32
  let v310 : BitVec 1 := Scalar.cmpi .slt c4_i32_175 c0_i32_179
  let v311 : BitVec 32 := Scalar.extui v310
  let v312 : BitVec 32 := Scalar.subi v309 v311
  let v313 : BitVec 1 := Scalar.cmpi .ne v307 v312
  let v314 : BitVec 32 := Scalar.remsi v37 c4_i32_175
  let c0_i32_180 : BitVec 32 := 0#32
  let v315 : BitVec 1 := Scalar.cmpi .ne v314 c0_i32_180
  let v316 : BitVec 1 := Scalar.andi v313 v315
  let v302 : BitVec 32 := Scalar.divsi v37 c4_i32_175
  let c1_i32_181 : BitVec 32 := 1#32
  let v317 : BitVec 32 := Scalar.subi v302 c1_i32_181
  let v318 : BitVec 32 := Scalar.select v316 v317 v302
  let c4_i32_205 : BitVec 32 := 4#32
  let v356 : BitVec 32 := Scalar.muli v318 c4_i32_205
  let v357 : BitVec 32 := Scalar.addi c0_i32_206 v356
  let c0_i32_183 : BitVec 32 := 0#32
  let v320 : BitVec 1 := Scalar.cmpi .sgt v37 c0_i32_183
  let v321 : BitVec 32 := Scalar.extui v320
  let c0_i32_184 : BitVec 32 := 0#32
  let v322 : BitVec 1 := Scalar.cmpi .slt v37 c0_i32_184
  let v323 : BitVec 32 := Scalar.extui v322
  let v324 : BitVec 32 := Scalar.subi v321 v323
  let c2_i32_182 : BitVec 32 := 2#32
  let c0_i32_185 : BitVec 32 := 0#32
  let v325 : BitVec 1 := Scalar.cmpi .sgt c2_i32_182 c0_i32_185
  let v326 : BitVec 32 := Scalar.extui v325
  let c0_i32_186 : BitVec 32 := 0#32
  let v327 : BitVec 1 := Scalar.cmpi .slt c2_i32_182 c0_i32_186
  let v328 : BitVec 32 := Scalar.extui v327
  let v329 : BitVec 32 := Scalar.subi v326 v328
  let v330 : BitVec 1 := Scalar.cmpi .ne v324 v329
  let v331 : BitVec 32 := Scalar.remsi v37 c2_i32_182
  let c0_i32_187 : BitVec 32 := 0#32
  let v332 : BitVec 1 := Scalar.cmpi .ne v331 c0_i32_187
  let v333 : BitVec 1 := Scalar.andi v330 v332
  let v319 : BitVec 32 := Scalar.divsi v37 c2_i32_182
  let c1_i32_188 : BitVec 32 := 1#32
  let v334 : BitVec 32 := Scalar.subi v319 c1_i32_188
  let v335 : BitVec 32 := Scalar.select v333 v334 v319
  let c2_i32_189 : BitVec 32 := 2#32
  let c0_i32_190 : BitVec 32 := 0#32
  let v336 : BitVec 1 := Scalar.cmpi .eq c2_i32_189 c0_i32_190
  let c1_i32_191 : BitVec 32 := 1#32
  let v337 : BitVec 32 := Scalar.select v336 c1_i32_191 c2_i32_189
  let v338 : BitVec 32 := Scalar.remsi v335 v337
  let c0_i32_193 : BitVec 32 := 0#32
  let v340 : BitVec 1 := Scalar.cmpi .slt v338 c0_i32_193
  let c0_i32_194 : BitVec 32 := 0#32
  let v341 : BitVec 1 := Scalar.cmpi .slt v337 c0_i32_194
  let v342 : BitVec 1 := Scalar.xori v340 v341
  let c0_i32_192 : BitVec 32 := 0#32
  let v339 : BitVec 1 := Scalar.cmpi .ne v338 c0_i32_192
  let v343 : BitVec 1 := Scalar.andi v342 v339
  let v344 : BitVec 32 := Scalar.addi v338 v337
  let v345 : BitVec 32 := Scalar.select v343 v344 v338
  let c2_i32_207 : BitVec 32 := 2#32
  let v358 : BitVec 32 := Scalar.muli v345 c2_i32_207
  let v359 : BitVec 32 := Scalar.addi v357 v358
  let c2_i32_195 : BitVec 32 := 2#32
  let c0_i32_196 : BitVec 32 := 0#32
  let v346 : BitVec 1 := Scalar.cmpi .eq c2_i32_195 c0_i32_196
  let c1_i32_197 : BitVec 32 := 1#32
  let v347 : BitVec 32 := Scalar.select v346 c1_i32_197 c2_i32_195
  let v348 : BitVec 32 := Scalar.remsi v37 v347
  let c0_i32_199 : BitVec 32 := 0#32
  let v350 : BitVec 1 := Scalar.cmpi .slt v348 c0_i32_199
  let c0_i32_200 : BitVec 32 := 0#32
  let v351 : BitVec 1 := Scalar.cmpi .slt v347 c0_i32_200
  let v352 : BitVec 1 := Scalar.xori v350 v351
  let c0_i32_198 : BitVec 32 := 0#32
  let v349 : BitVec 1 := Scalar.cmpi .ne v348 c0_i32_198
  let v353 : BitVec 1 := Scalar.andi v352 v349
  let v354 : BitVec 32 := Scalar.addi v348 v347
  let v355 : BitVec 32 := Scalar.select v353 v354 v348
  let c1_i32_208 : BitVec 32 := 1#32
  let v360 : BitVec 32 := Scalar.muli v355 c1_i32_208
  let v361 : BitVec 32 := Scalar.addi v359 v360
  v361.toNat
def k0_dev6 (d0 : Dev nD) : Nat :=
  let c0_i32_243 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_26 : BitVec 32 := 1#32
  let v37 : BitVec 32 := Scalar.xori v12 c1_i32_26
  let c0_i32_213 : BitVec 32 := 0#32
  let v369 : BitVec 1 := Scalar.cmpi .sgt v37 c0_i32_213
  let v370 : BitVec 32 := Scalar.extui v369
  let c0_i32_214 : BitVec 32 := 0#32
  let v371 : BitVec 1 := Scalar.cmpi .slt v37 c0_i32_214
  let v372 : BitVec 32 := Scalar.extui v371
  let v373 : BitVec 32 := Scalar.subi v370 v372
  let c4_i32_212 : BitVec 32 := 4#32
  let c0_i32_215 : BitVec 32 := 0#32
  let v374 : BitVec 1 := Scalar.cmpi .sgt c4_i32_212 c0_i32_215
  let v375 : BitVec 32 := Scalar.extui v374
  let c0_i32_216 : BitVec 32 := 0#32
  let v376 : BitVec 1 := Scalar.cmpi .slt c4_i32_212 c0_i32_216
  let v377 : BitVec 32 := Scalar.extui v376
  let v378 : BitVec 32 := Scalar.subi v375 v377
  let v379 : BitVec 1 := Scalar.cmpi .ne v373 v378
  let v380 : BitVec 32 := Scalar.remsi v37 c4_i32_212
  let c0_i32_217 : BitVec 32 := 0#32
  let v381 : BitVec 1 := Scalar.cmpi .ne v380 c0_i32_217
  let v382 : BitVec 1 := Scalar.andi v379 v381
  let v368 : BitVec 32 := Scalar.divsi v37 c4_i32_212
  let c1_i32_218 : BitVec 32 := 1#32
  let v383 : BitVec 32 := Scalar.subi v368 c1_i32_218
  let v384 : BitVec 32 := Scalar.select v382 v383 v368
  let c4_i32_242 : BitVec 32 := 4#32
  let v422 : BitVec 32 := Scalar.muli v384 c4_i32_242
  let v423 : BitVec 32 := Scalar.addi c0_i32_243 v422
  let c0_i32_220 : BitVec 32 := 0#32
  let v386 : BitVec 1 := Scalar.cmpi .sgt v37 c0_i32_220
  let v387 : BitVec 32 := Scalar.extui v386
  let c0_i32_221 : BitVec 32 := 0#32
  let v388 : BitVec 1 := Scalar.cmpi .slt v37 c0_i32_221
  let v389 : BitVec 32 := Scalar.extui v388
  let v390 : BitVec 32 := Scalar.subi v387 v389
  let c2_i32_219 : BitVec 32 := 2#32
  let c0_i32_222 : BitVec 32 := 0#32
  let v391 : BitVec 1 := Scalar.cmpi .sgt c2_i32_219 c0_i32_222
  let v392 : BitVec 32 := Scalar.extui v391
  let c0_i32_223 : BitVec 32 := 0#32
  let v393 : BitVec 1 := Scalar.cmpi .slt c2_i32_219 c0_i32_223
  let v394 : BitVec 32 := Scalar.extui v393
  let v395 : BitVec 32 := Scalar.subi v392 v394
  let v396 : BitVec 1 := Scalar.cmpi .ne v390 v395
  let v397 : BitVec 32 := Scalar.remsi v37 c2_i32_219
  let c0_i32_224 : BitVec 32 := 0#32
  let v398 : BitVec 1 := Scalar.cmpi .ne v397 c0_i32_224
  let v399 : BitVec 1 := Scalar.andi v396 v398
  let v385 : BitVec 32 := Scalar.divsi v37 c2_i32_219
  let c1_i32_225 : BitVec 32 := 1#32
  let v400 : BitVec 32 := Scalar.subi v385 c1_i32_225
  let v401 : BitVec 32 := Scalar.select v399 v400 v385
  let c2_i32_226 : BitVec 32 := 2#32
  let c0_i32_227 : BitVec 32 := 0#32
  let v402 : BitVec 1 := Scalar.cmpi .eq c2_i32_226 c0_i32_227
  let c1_i32_228 : BitVec 32 := 1#32
  let v403 : BitVec 32 := Scalar.select v402 c1_i32_228 c2_i32_226
  let v404 : BitVec 32 := Scalar.remsi v401 v403
  let c0_i32_230 : BitVec 32 := 0#32
  let v406 : BitVec 1 := Scalar.cmpi .slt v404 c0_i32_230
  let c0_i32_231 : BitVec 32 := 0#32
  let v407 : BitVec 1 := Scalar.cmpi .slt v403 c0_i32_231
  let v408 : BitVec 1 := Scalar.xori v406 v407
  let c0_i32_229 : BitVec 32 := 0#32
  let v405 : BitVec 1 := Scalar.cmpi .ne v404 c0_i32_229
  let v409 : BitVec 1 := Scalar.andi v408 v405
  let v410 : BitVec 32 := Scalar.addi v404 v403
  let v411 : BitVec 32 := Scalar.select v409 v410 v404
  let c2_i32_244 : BitVec 32 := 2#32
  let v424 : BitVec 32 := Scalar.muli v411 c2_i32_244
  let v425 : BitVec 32 := Scalar.addi v423 v424
  let c2_i32_232 : BitVec 32 := 2#32
  let c0_i32_233 : BitVec 32 := 0#32
  let v412 : BitVec 1 := Scalar.cmpi .eq c2_i32_232 c0_i32_233
  let c1_i32_234 : BitVec 32 := 1#32
  let v413 : BitVec 32 := Scalar.select v412 c1_i32_234 c2_i32_232
  let v414 : BitVec 32 := Scalar.remsi v37 v413
  let c0_i32_236 : BitVec 32 := 0#32
  let v416 : BitVec 1 := Scalar.cmpi .slt v414 c0_i32_236
  let c0_i32_237 : BitVec 32 := 0#32
  let v417 : BitVec 1 := Scalar.cmpi .slt v413 c0_i32_237
  let v418 : BitVec 1 := Scalar.xori v416 v417
  let c0_i32_235 : BitVec 32 := 0#32
  let v415 : BitVec 1 := Scalar.cmpi .ne v414 c0_i32_235
  let v419 : BitVec 1 := Scalar.andi v418 v415
  let v420 : BitVec 32 := Scalar.addi v414 v413
  let v421 : BitVec 32 := Scalar.select v419 v420 v414
  let c1_i32_245 : BitVec 32 := 1#32
  let v426 : BitVec 32 := Scalar.muli v421 c1_i32_245
  let v427 : BitVec 32 := Scalar.addi v425 v426
  v427.toNat
def k0_dev7 (d0 : Dev nD) : Nat :=
  let c0_i32_281 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_251 : BitVec 32 := 0#32
  let v436 : BitVec 1 := Scalar.cmpi .sgt v434 c0_i32_251
  let v437 : BitVec 32 := Scalar.extui v436
  let c0_i32_252 : BitVec 32 := 0#32
  let v438 : BitVec 1 := Scalar.cmpi .slt v434 c0_i32_252
  let v439 : BitVec 32 := Scalar.extui v438
  let v440 : BitVec 32 := Scalar.subi v437 v439
  let c4_i32_250 : BitVec 32 := 4#32
  let c0_i32_253 : BitVec 32 := 0#32
  let v441 : BitVec 1 := Scalar.cmpi .sgt c4_i32_250 c0_i32_253
  let v442 : BitVec 32 := Scalar.extui v441
  let c0_i32_254 : BitVec 32 := 0#32
  let v443 : BitVec 1 := Scalar.cmpi .slt c4_i32_250 c0_i32_254
  let v444 : BitVec 32 := Scalar.extui v443
  let v445 : BitVec 32 := Scalar.subi v442 v444
  let v446 : BitVec 1 := Scalar.cmpi .ne v440 v445
  let v447 : BitVec 32 := Scalar.remsi v434 c4_i32_250
  let c0_i32_255 : BitVec 32 := 0#32
  let v448 : BitVec 1 := Scalar.cmpi .ne v447 c0_i32_255
  let v449 : BitVec 1 := Scalar.andi v446 v448
  let v435 : BitVec 32 := Scalar.divsi v434 c4_i32_250
  let c1_i32_256 : BitVec 32 := 1#32
  let v450 : BitVec 32 := Scalar.subi v435 c1_i32_256
  let v451 : BitVec 32 := Scalar.select v449 v450 v435
  let c4_i32_280 : BitVec 32 := 4#32
  let v489 : BitVec 32 := Scalar.muli v451 c4_i32_280
  let v490 : BitVec 32 := Scalar.addi c0_i32_281 v489
  let c0_i32_258 : BitVec 32 := 0#32
  let v453 : BitVec 1 := Scalar.cmpi .sgt v434 c0_i32_258
  let v454 : BitVec 32 := Scalar.extui v453
  let c0_i32_259 : BitVec 32 := 0#32
  let v455 : BitVec 1 := Scalar.cmpi .slt v434 c0_i32_259
  let v456 : BitVec 32 := Scalar.extui v455
  let v457 : BitVec 32 := Scalar.subi v454 v456
  let c2_i32_257 : BitVec 32 := 2#32
  let c0_i32_260 : BitVec 32 := 0#32
  let v458 : BitVec 1 := Scalar.cmpi .sgt c2_i32_257 c0_i32_260
  let v459 : BitVec 32 := Scalar.extui v458
  let c0_i32_261 : BitVec 32 := 0#32
  let v460 : BitVec 1 := Scalar.cmpi .slt c2_i32_257 c0_i32_261
  let v461 : BitVec 32 := Scalar.extui v460
  let v462 : BitVec 32 := Scalar.subi v459 v461
  let v463 : BitVec 1 := Scalar.cmpi .ne v457 v462
  let v464 : BitVec 32 := Scalar.remsi v434 c2_i32_257
  let c0_i32_262 : BitVec 32 := 0#32
  let v465 : BitVec 1 := Scalar.cmpi .ne v464 c0_i32_262
  let v466 : BitVec 1 := Scalar.andi v463 v465
  let v452 : BitVec 32 := Scalar.divsi v434 c2_i32_257
  let c1_i32_263 : BitVec 32 := 1#32
  let v467 : BitVec 32 := Scalar.subi v452 c1_i32_263
  let v468 : BitVec 32 := Scalar.select v466 v467 v452
  let c2_i32_264 : BitVec 32 := 2#32
  let c0_i32_265 : BitVec 32 := 0#32
  let v469 : BitVec 1 := Scalar.cmpi .eq c2_i32_264 c0_i32_265
  let c1_i32_266 : BitVec 32 := 1#32
  let v470 : BitVec 32 := Scalar.select v469 c1_i32_266 c2_i32_264
  let v471 : BitVec 32 := Scalar.remsi v468 v470
  let c0_i32_268 : BitVec 32 := 0#32
  let v473 : BitVec 1 := Scalar.cmpi .slt v471 c0_i32_268
  let c0_i32_269 : BitVec 32 := 0#32
  let v474 : BitVec 1 := Scalar.cmpi .slt v470 c0_i32_269
  let v475 : BitVec 1 := Scalar.xori v473 v474
  let c0_i32_267 : BitVec 32 := 0#32
  let v472 : BitVec 1 := Scalar.cmpi .ne v471 c0_i32_267
  let v476 : BitVec 1 := Scalar.andi v475 v472
  let v477 : BitVec 32 := Scalar.addi v471 v470
  let v478 : BitVec 32 := Scalar.select v476 v477 v471
  let c2_i32_282 : BitVec 32 := 2#32
  let v491 : BitVec 32 := Scalar.muli v478 c2_i32_282
  let v492 : BitVec 32 := Scalar.addi v490 v491
  let c2_i32_270 : BitVec 32 := 2#32
  let c0_i32_271 : BitVec 32 := 0#32
  let v479 : BitVec 1 := Scalar.cmpi .eq c2_i32_270 c0_i32_271
  let c1_i32_272 : BitVec 32 := 1#32
  let v480 : BitVec 32 := Scalar.select v479 c1_i32_272 c2_i32_270
  let v481 : BitVec 32 := Scalar.remsi v434 v480
  let c0_i32_274 : BitVec 32 := 0#32
  let v483 : BitVec 1 := Scalar.cmpi .slt v481 c0_i32_274
  let c0_i32_275 : BitVec 32 := 0#32
  let v484 : BitVec 1 := Scalar.cmpi .slt v480 c0_i32_275
  let v485 : BitVec 1 := Scalar.xori v483 v484
  let c0_i32_273 : BitVec 32 := 0#32
  let v482 : BitVec 1 := Scalar.cmpi .ne v481 c0_i32_273
  let v486 : BitVec 1 := Scalar.andi v485 v482
  let v487 : BitVec 32 := Scalar.addi v481 v480
  let v488 : BitVec 32 := Scalar.select v486 v487 v481
  let c1_i32_283 : BitVec 32 := 1#32
  let v493 : BitVec 32 := Scalar.muli v488 c1_i32_283
  let v494 : BitVec 32 := Scalar.addi v492 v493
  v494.toNat
def k0_dev8 (d0 : Dev nD) : Nat :=
  let c0_i32_318 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_288 : BitVec 32 := 0#32
  let v502 : BitVec 1 := Scalar.cmpi .sgt v434 c0_i32_288
  let v503 : BitVec 32 := Scalar.extui v502
  let c0_i32_289 : BitVec 32 := 0#32
  let v504 : BitVec 1 := Scalar.cmpi .slt v434 c0_i32_289
  let v505 : BitVec 32 := Scalar.extui v504
  let v506 : BitVec 32 := Scalar.subi v503 v505
  let c4_i32_287 : BitVec 32 := 4#32
  let c0_i32_290 : BitVec 32 := 0#32
  let v507 : BitVec 1 := Scalar.cmpi .sgt c4_i32_287 c0_i32_290
  let v508 : BitVec 32 := Scalar.extui v507
  let c0_i32_291 : BitVec 32 := 0#32
  let v509 : BitVec 1 := Scalar.cmpi .slt c4_i32_287 c0_i32_291
  let v510 : BitVec 32 := Scalar.extui v509
  let v511 : BitVec 32 := Scalar.subi v508 v510
  let v512 : BitVec 1 := Scalar.cmpi .ne v506 v511
  let v513 : BitVec 32 := Scalar.remsi v434 c4_i32_287
  let c0_i32_292 : BitVec 32 := 0#32
  let v514 : BitVec 1 := Scalar.cmpi .ne v513 c0_i32_292
  let v515 : BitVec 1 := Scalar.andi v512 v514
  let v501 : BitVec 32 := Scalar.divsi v434 c4_i32_287
  let c1_i32_293 : BitVec 32 := 1#32
  let v516 : BitVec 32 := Scalar.subi v501 c1_i32_293
  let v517 : BitVec 32 := Scalar.select v515 v516 v501
  let c4_i32_317 : BitVec 32 := 4#32
  let v555 : BitVec 32 := Scalar.muli v517 c4_i32_317
  let v556 : BitVec 32 := Scalar.addi c0_i32_318 v555
  let c0_i32_295 : BitVec 32 := 0#32
  let v519 : BitVec 1 := Scalar.cmpi .sgt v434 c0_i32_295
  let v520 : BitVec 32 := Scalar.extui v519
  let c0_i32_296 : BitVec 32 := 0#32
  let v521 : BitVec 1 := Scalar.cmpi .slt v434 c0_i32_296
  let v522 : BitVec 32 := Scalar.extui v521
  let v523 : BitVec 32 := Scalar.subi v520 v522
  let c2_i32_294 : BitVec 32 := 2#32
  let c0_i32_297 : BitVec 32 := 0#32
  let v524 : BitVec 1 := Scalar.cmpi .sgt c2_i32_294 c0_i32_297
  let v525 : BitVec 32 := Scalar.extui v524
  let c0_i32_298 : BitVec 32 := 0#32
  let v526 : BitVec 1 := Scalar.cmpi .slt c2_i32_294 c0_i32_298
  let v527 : BitVec 32 := Scalar.extui v526
  let v528 : BitVec 32 := Scalar.subi v525 v527
  let v529 : BitVec 1 := Scalar.cmpi .ne v523 v528
  let v530 : BitVec 32 := Scalar.remsi v434 c2_i32_294
  let c0_i32_299 : BitVec 32 := 0#32
  let v531 : BitVec 1 := Scalar.cmpi .ne v530 c0_i32_299
  let v532 : BitVec 1 := Scalar.andi v529 v531
  let v518 : BitVec 32 := Scalar.divsi v434 c2_i32_294
  let c1_i32_300 : BitVec 32 := 1#32
  let v533 : BitVec 32 := Scalar.subi v518 c1_i32_300
  let v534 : BitVec 32 := Scalar.select v532 v533 v518
  let c2_i32_301 : BitVec 32 := 2#32
  let c0_i32_302 : BitVec 32 := 0#32
  let v535 : BitVec 1 := Scalar.cmpi .eq c2_i32_301 c0_i32_302
  let c1_i32_303 : BitVec 32 := 1#32
  let v536 : BitVec 32 := Scalar.select v535 c1_i32_303 c2_i32_301
  let v537 : BitVec 32 := Scalar.remsi v534 v536
  let c0_i32_305 : BitVec 32 := 0#32
  let v539 : BitVec 1 := Scalar.cmpi .slt v537 c0_i32_305
  let c0_i32_306 : BitVec 32 := 0#32
  let v540 : BitVec 1 := Scalar.cmpi .slt v536 c0_i32_306
  let v541 : BitVec 1 := Scalar.xori v539 v540
  let c0_i32_304 : BitVec 32 := 0#32
  let v538 : BitVec 1 := Scalar.cmpi .ne v537 c0_i32_304
  let v542 : BitVec 1 := Scalar.andi v541 v538
  let v543 : BitVec 32 := Scalar.addi v537 v536
  let v544 : BitVec 32 := Scalar.select v542 v543 v537
  let c2_i32_319 : BitVec 32 := 2#32
  let v557 : BitVec 32 := Scalar.muli v544 c2_i32_319
  let v558 : BitVec 32 := Scalar.addi v556 v557
  let c2_i32_307 : BitVec 32 := 2#32
  let c0_i32_308 : BitVec 32 := 0#32
  let v545 : BitVec 1 := Scalar.cmpi .eq c2_i32_307 c0_i32_308
  let c1_i32_309 : BitVec 32 := 1#32
  let v546 : BitVec 32 := Scalar.select v545 c1_i32_309 c2_i32_307
  let v547 : BitVec 32 := Scalar.remsi v434 v546
  let c0_i32_311 : BitVec 32 := 0#32
  let v549 : BitVec 1 := Scalar.cmpi .slt v547 c0_i32_311
  let c0_i32_312 : BitVec 32 := 0#32
  let v550 : BitVec 1 := Scalar.cmpi .slt v546 c0_i32_312
  let v551 : BitVec 1 := Scalar.xori v549 v550
  let c0_i32_310 : BitVec 32 := 0#32
  let v548 : BitVec 1 := Scalar.cmpi .ne v547 c0_i32_310
  let v552 : BitVec 1 := Scalar.andi v551 v548
  let v553 : BitVec 32 := Scalar.addi v547 v546
  let v554 : BitVec 32 := Scalar.select v552 v553 v547
  let c1_i32_320 : BitVec 32 := 1#32
  let v559 : BitVec 32 := Scalar.muli v554 c1_i32_320
  let v560 : BitVec 32 := Scalar.addi v558 v559
  v560.toNat
def k0_dev9 (d0 : Dev nD) : Nat :=
  let c0_i32_355 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_325 : BitVec 32 := 0#32
  let v568 : BitVec 1 := Scalar.cmpi .sgt v434 c0_i32_325
  let v569 : BitVec 32 := Scalar.extui v568
  let c0_i32_326 : BitVec 32 := 0#32
  let v570 : BitVec 1 := Scalar.cmpi .slt v434 c0_i32_326
  let v571 : BitVec 32 := Scalar.extui v570
  let v572 : BitVec 32 := Scalar.subi v569 v571
  let c4_i32_324 : BitVec 32 := 4#32
  let c0_i32_327 : BitVec 32 := 0#32
  let v573 : BitVec 1 := Scalar.cmpi .sgt c4_i32_324 c0_i32_327
  let v574 : BitVec 32 := Scalar.extui v573
  let c0_i32_328 : BitVec 32 := 0#32
  let v575 : BitVec 1 := Scalar.cmpi .slt c4_i32_324 c0_i32_328
  let v576 : BitVec 32 := Scalar.extui v575
  let v577 : BitVec 32 := Scalar.subi v574 v576
  let v578 : BitVec 1 := Scalar.cmpi .ne v572 v577
  let v579 : BitVec 32 := Scalar.remsi v434 c4_i32_324
  let c0_i32_329 : BitVec 32 := 0#32
  let v580 : BitVec 1 := Scalar.cmpi .ne v579 c0_i32_329
  let v581 : BitVec 1 := Scalar.andi v578 v580
  let v567 : BitVec 32 := Scalar.divsi v434 c4_i32_324
  let c1_i32_330 : BitVec 32 := 1#32
  let v582 : BitVec 32 := Scalar.subi v567 c1_i32_330
  let v583 : BitVec 32 := Scalar.select v581 v582 v567
  let c4_i32_354 : BitVec 32 := 4#32
  let v621 : BitVec 32 := Scalar.muli v583 c4_i32_354
  let v622 : BitVec 32 := Scalar.addi c0_i32_355 v621
  let c0_i32_332 : BitVec 32 := 0#32
  let v585 : BitVec 1 := Scalar.cmpi .sgt v434 c0_i32_332
  let v586 : BitVec 32 := Scalar.extui v585
  let c0_i32_333 : BitVec 32 := 0#32
  let v587 : BitVec 1 := Scalar.cmpi .slt v434 c0_i32_333
  let v588 : BitVec 32 := Scalar.extui v587
  let v589 : BitVec 32 := Scalar.subi v586 v588
  let c2_i32_331 : BitVec 32 := 2#32
  let c0_i32_334 : BitVec 32 := 0#32
  let v590 : BitVec 1 := Scalar.cmpi .sgt c2_i32_331 c0_i32_334
  let v591 : BitVec 32 := Scalar.extui v590
  let c0_i32_335 : BitVec 32 := 0#32
  let v592 : BitVec 1 := Scalar.cmpi .slt c2_i32_331 c0_i32_335
  let v593 : BitVec 32 := Scalar.extui v592
  let v594 : BitVec 32 := Scalar.subi v591 v593
  let v595 : BitVec 1 := Scalar.cmpi .ne v589 v594
  let v596 : BitVec 32 := Scalar.remsi v434 c2_i32_331
  let c0_i32_336 : BitVec 32 := 0#32
  let v597 : BitVec 1 := Scalar.cmpi .ne v596 c0_i32_336
  let v598 : BitVec 1 := Scalar.andi v595 v597
  let v584 : BitVec 32 := Scalar.divsi v434 c2_i32_331
  let c1_i32_337 : BitVec 32 := 1#32
  let v599 : BitVec 32 := Scalar.subi v584 c1_i32_337
  let v600 : BitVec 32 := Scalar.select v598 v599 v584
  let c2_i32_338 : BitVec 32 := 2#32
  let c0_i32_339 : BitVec 32 := 0#32
  let v601 : BitVec 1 := Scalar.cmpi .eq c2_i32_338 c0_i32_339
  let c1_i32_340 : BitVec 32 := 1#32
  let v602 : BitVec 32 := Scalar.select v601 c1_i32_340 c2_i32_338
  let v603 : BitVec 32 := Scalar.remsi v600 v602
  let c0_i32_342 : BitVec 32 := 0#32
  let v605 : BitVec 1 := Scalar.cmpi .slt v603 c0_i32_342
  let c0_i32_343 : BitVec 32 := 0#32
  let v606 : BitVec 1 := Scalar.cmpi .slt v602 c0_i32_343
  let v607 : BitVec 1 := Scalar.xori v605 v606
  let c0_i32_341 : BitVec 32 := 0#32
  let v604 : BitVec 1 := Scalar.cmpi .ne v603 c0_i32_341
  let v608 : BitVec 1 := Scalar.andi v607 v604
  let v609 : BitVec 32 := Scalar.addi v603 v602
  let v610 : BitVec 32 := Scalar.select v608 v609 v603
  let c2_i32_356 : BitVec 32 := 2#32
  let v623 : BitVec 32 := Scalar.muli v610 c2_i32_356
  let v624 : BitVec 32 := Scalar.addi v622 v623
  let c2_i32_344 : BitVec 32 := 2#32
  let c0_i32_345 : BitVec 32 := 0#32
  let v611 : BitVec 1 := Scalar.cmpi .eq c2_i32_344 c0_i32_345
  let c1_i32_346 : BitVec 32 := 1#32
  let v612 : BitVec 32 := Scalar.select v611 c1_i32_346 c2_i32_344
  let v613 : BitVec 32 := Scalar.remsi v434 v612
  let c0_i32_348 : BitVec 32 := 0#32
  let v615 : BitVec 1 := Scalar.cmpi .slt v613 c0_i32_348
  let c0_i32_349 : BitVec 32 := 0#32
  let v616 : BitVec 1 := Scalar.cmpi .slt v612 c0_i32_349
  let v617 : BitVec 1 := Scalar.xori v615 v616
  let c0_i32_347 : BitVec 32 := 0#32
  let v614 : BitVec 1 := Scalar.cmpi .ne v613 c0_i32_347
  let v618 : BitVec 1 := Scalar.andi v617 v614
  let v619 : BitVec 32 := Scalar.addi v613 v612
  let v620 : BitVec 32 := Scalar.select v618 v619 v613
  let c1_i32_357 : BitVec 32 := 1#32
  let v625 : BitVec 32 := Scalar.muli v620 c1_i32_357
  let v626 : BitVec 32 := Scalar.addi v624 v625
  v626.toNat
def k0_dev10 (d0 : Dev nD) : Nat :=
  let c0_i32_392 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_362 : BitVec 32 := 0#32
  let v634 : BitVec 1 := Scalar.cmpi .sgt v434 c0_i32_362
  let v635 : BitVec 32 := Scalar.extui v634
  let c0_i32_363 : BitVec 32 := 0#32
  let v636 : BitVec 1 := Scalar.cmpi .slt v434 c0_i32_363
  let v637 : BitVec 32 := Scalar.extui v636
  let v638 : BitVec 32 := Scalar.subi v635 v637
  let c4_i32_361 : BitVec 32 := 4#32
  let c0_i32_364 : BitVec 32 := 0#32
  let v639 : BitVec 1 := Scalar.cmpi .sgt c4_i32_361 c0_i32_364
  let v640 : BitVec 32 := Scalar.extui v639
  let c0_i32_365 : BitVec 32 := 0#32
  let v641 : BitVec 1 := Scalar.cmpi .slt c4_i32_361 c0_i32_365
  let v642 : BitVec 32 := Scalar.extui v641
  let v643 : BitVec 32 := Scalar.subi v640 v642
  let v644 : BitVec 1 := Scalar.cmpi .ne v638 v643
  let v645 : BitVec 32 := Scalar.remsi v434 c4_i32_361
  let c0_i32_366 : BitVec 32 := 0#32
  let v646 : BitVec 1 := Scalar.cmpi .ne v645 c0_i32_366
  let v647 : BitVec 1 := Scalar.andi v644 v646
  let v633 : BitVec 32 := Scalar.divsi v434 c4_i32_361
  let c1_i32_367 : BitVec 32 := 1#32
  let v648 : BitVec 32 := Scalar.subi v633 c1_i32_367
  let v649 : BitVec 32 := Scalar.select v647 v648 v633
  let c4_i32_391 : BitVec 32 := 4#32
  let v687 : BitVec 32 := Scalar.muli v649 c4_i32_391
  let v688 : BitVec 32 := Scalar.addi c0_i32_392 v687
  let c0_i32_369 : BitVec 32 := 0#32
  let v651 : BitVec 1 := Scalar.cmpi .sgt v434 c0_i32_369
  let v652 : BitVec 32 := Scalar.extui v651
  let c0_i32_370 : BitVec 32 := 0#32
  let v653 : BitVec 1 := Scalar.cmpi .slt v434 c0_i32_370
  let v654 : BitVec 32 := Scalar.extui v653
  let v655 : BitVec 32 := Scalar.subi v652 v654
  let c2_i32_368 : BitVec 32 := 2#32
  let c0_i32_371 : BitVec 32 := 0#32
  let v656 : BitVec 1 := Scalar.cmpi .sgt c2_i32_368 c0_i32_371
  let v657 : BitVec 32 := Scalar.extui v656
  let c0_i32_372 : BitVec 32 := 0#32
  let v658 : BitVec 1 := Scalar.cmpi .slt c2_i32_368 c0_i32_372
  let v659 : BitVec 32 := Scalar.extui v658
  let v660 : BitVec 32 := Scalar.subi v657 v659
  let v661 : BitVec 1 := Scalar.cmpi .ne v655 v660
  let v662 : BitVec 32 := Scalar.remsi v434 c2_i32_368
  let c0_i32_373 : BitVec 32 := 0#32
  let v663 : BitVec 1 := Scalar.cmpi .ne v662 c0_i32_373
  let v664 : BitVec 1 := Scalar.andi v661 v663
  let v650 : BitVec 32 := Scalar.divsi v434 c2_i32_368
  let c1_i32_374 : BitVec 32 := 1#32
  let v665 : BitVec 32 := Scalar.subi v650 c1_i32_374
  let v666 : BitVec 32 := Scalar.select v664 v665 v650
  let c2_i32_375 : BitVec 32 := 2#32
  let c0_i32_376 : BitVec 32 := 0#32
  let v667 : BitVec 1 := Scalar.cmpi .eq c2_i32_375 c0_i32_376
  let c1_i32_377 : BitVec 32 := 1#32
  let v668 : BitVec 32 := Scalar.select v667 c1_i32_377 c2_i32_375
  let v669 : BitVec 32 := Scalar.remsi v666 v668
  let c0_i32_379 : BitVec 32 := 0#32
  let v671 : BitVec 1 := Scalar.cmpi .slt v669 c0_i32_379
  let c0_i32_380 : BitVec 32 := 0#32
  let v672 : BitVec 1 := Scalar.cmpi .slt v668 c0_i32_380
  let v673 : BitVec 1 := Scalar.xori v671 v672
  let c0_i32_378 : BitVec 32 := 0#32
  let v670 : BitVec 1 := Scalar.cmpi .ne v669 c0_i32_378
  let v674 : BitVec 1 := Scalar.andi v673 v670
  let v675 : BitVec 32 := Scalar.addi v669 v668
  let v676 : BitVec 32 := Scalar.select v674 v675 v669
  let c2_i32_393 : BitVec 32 := 2#32
  let v689 : BitVec 32 := Scalar.muli v676 c2_i32_393
  let v690 : BitVec 32 := Scalar.addi v688 v689
  let c2_i32_381 : BitVec 32 := 2#32
  let c0_i32_382 : BitVec 32 := 0#32
  let v677 : BitVec 1 := Scalar.cmpi .eq c2_i32_381 c0_i32_382
  let c1_i32_383 : BitVec 32 := 1#32
  let v678 : BitVec 32 := Scalar.select v677 c1_i32_383 c2_i32_381
  let v679 : BitVec 32 := Scalar.remsi v434 v678
  let c0_i32_385 : BitVec 32 := 0#32
  let v681 : BitVec 1 := Scalar.cmpi .slt v679 c0_i32_385
  let c0_i32_386 : BitVec 32 := 0#32
  let v682 : BitVec 1 := Scalar.cmpi .slt v678 c0_i32_386
  let v683 : BitVec 1 := Scalar.xori v681 v682
  let c0_i32_384 : BitVec 32 := 0#32
  let v680 : BitVec 1 := Scalar.cmpi .ne v679 c0_i32_384
  let v684 : BitVec 1 := Scalar.andi v683 v680
  let v685 : BitVec 32 := Scalar.addi v679 v678
  let v686 : BitVec 32 := Scalar.select v684 v685 v679
  let c1_i32_394 : BitVec 32 := 1#32
  let v691 : BitVec 32 := Scalar.muli v686 c1_i32_394
  let v692 : BitVec 32 := Scalar.addi v690 v691
  v692.toNat
def k0_dev11 (d0 : Dev nD) : Nat :=
  let c0_i32_429 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_399 : BitVec 32 := 0#32
  let v700 : BitVec 1 := Scalar.cmpi .sgt v434 c0_i32_399
  let v701 : BitVec 32 := Scalar.extui v700
  let c0_i32_400 : BitVec 32 := 0#32
  let v702 : BitVec 1 := Scalar.cmpi .slt v434 c0_i32_400
  let v703 : BitVec 32 := Scalar.extui v702
  let v704 : BitVec 32 := Scalar.subi v701 v703
  let c4_i32_398 : BitVec 32 := 4#32
  let c0_i32_401 : BitVec 32 := 0#32
  let v705 : BitVec 1 := Scalar.cmpi .sgt c4_i32_398 c0_i32_401
  let v706 : BitVec 32 := Scalar.extui v705
  let c0_i32_402 : BitVec 32 := 0#32
  let v707 : BitVec 1 := Scalar.cmpi .slt c4_i32_398 c0_i32_402
  let v708 : BitVec 32 := Scalar.extui v707
  let v709 : BitVec 32 := Scalar.subi v706 v708
  let v710 : BitVec 1 := Scalar.cmpi .ne v704 v709
  let v711 : BitVec 32 := Scalar.remsi v434 c4_i32_398
  let c0_i32_403 : BitVec 32 := 0#32
  let v712 : BitVec 1 := Scalar.cmpi .ne v711 c0_i32_403
  let v713 : BitVec 1 := Scalar.andi v710 v712
  let v699 : BitVec 32 := Scalar.divsi v434 c4_i32_398
  let c1_i32_404 : BitVec 32 := 1#32
  let v714 : BitVec 32 := Scalar.subi v699 c1_i32_404
  let v715 : BitVec 32 := Scalar.select v713 v714 v699
  let c4_i32_428 : BitVec 32 := 4#32
  let v753 : BitVec 32 := Scalar.muli v715 c4_i32_428
  let v754 : BitVec 32 := Scalar.addi c0_i32_429 v753
  let c0_i32_406 : BitVec 32 := 0#32
  let v717 : BitVec 1 := Scalar.cmpi .sgt v434 c0_i32_406
  let v718 : BitVec 32 := Scalar.extui v717
  let c0_i32_407 : BitVec 32 := 0#32
  let v719 : BitVec 1 := Scalar.cmpi .slt v434 c0_i32_407
  let v720 : BitVec 32 := Scalar.extui v719
  let v721 : BitVec 32 := Scalar.subi v718 v720
  let c2_i32_405 : BitVec 32 := 2#32
  let c0_i32_408 : BitVec 32 := 0#32
  let v722 : BitVec 1 := Scalar.cmpi .sgt c2_i32_405 c0_i32_408
  let v723 : BitVec 32 := Scalar.extui v722
  let c0_i32_409 : BitVec 32 := 0#32
  let v724 : BitVec 1 := Scalar.cmpi .slt c2_i32_405 c0_i32_409
  let v725 : BitVec 32 := Scalar.extui v724
  let v726 : BitVec 32 := Scalar.subi v723 v725
  let v727 : BitVec 1 := Scalar.cmpi .ne v721 v726
  let v728 : BitVec 32 := Scalar.remsi v434 c2_i32_405
  let c0_i32_410 : BitVec 32 := 0#32
  let v729 : BitVec 1 := Scalar.cmpi .ne v728 c0_i32_410
  let v730 : BitVec 1 := Scalar.andi v727 v729
  let v716 : BitVec 32 := Scalar.divsi v434 c2_i32_405
  let c1_i32_411 : BitVec 32 := 1#32
  let v731 : BitVec 32 := Scalar.subi v716 c1_i32_411
  let v732 : BitVec 32 := Scalar.select v730 v731 v716
  let c2_i32_412 : BitVec 32 := 2#32
  let c0_i32_413 : BitVec 32 := 0#32
  let v733 : BitVec 1 := Scalar.cmpi .eq c2_i32_412 c0_i32_413
  let c1_i32_414 : BitVec 32 := 1#32
  let v734 : BitVec 32 := Scalar.select v733 c1_i32_414 c2_i32_412
  let v735 : BitVec 32 := Scalar.remsi v732 v734
  let c0_i32_416 : BitVec 32 := 0#32
  let v737 : BitVec 1 := Scalar.cmpi .slt v735 c0_i32_416
  let c0_i32_417 : BitVec 32 := 0#32
  let v738 : BitVec 1 := Scalar.cmpi .slt v734 c0_i32_417
  let v739 : BitVec 1 := Scalar.xori v737 v738
  let c0_i32_415 : BitVec 32 := 0#32
  let v736 : BitVec 1 := Scalar.cmpi .ne v735 c0_i32_415
  let v740 : BitVec 1 := Scalar.andi v739 v736
  let v741 : BitVec 32 := Scalar.addi v735 v734
  let v742 : BitVec 32 := Scalar.select v740 v741 v735
  let c2_i32_430 : BitVec 32 := 2#32
  let v755 : BitVec 32 := Scalar.muli v742 c2_i32_430
  let v756 : BitVec 32 := Scalar.addi v754 v755
  let c2_i32_418 : BitVec 32 := 2#32
  let c0_i32_419 : BitVec 32 := 0#32
  let v743 : BitVec 1 := Scalar.cmpi .eq c2_i32_418 c0_i32_419
  let c1_i32_420 : BitVec 32 := 1#32
  let v744 : BitVec 32 := Scalar.select v743 c1_i32_420 c2_i32_418
  let v745 : BitVec 32 := Scalar.remsi v434 v744
  let c0_i32_422 : BitVec 32 := 0#32
  let v747 : BitVec 1 := Scalar.cmpi .slt v745 c0_i32_422
  let c0_i32_423 : BitVec 32 := 0#32
  let v748 : BitVec 1 := Scalar.cmpi .slt v744 c0_i32_423
  let v749 : BitVec 1 := Scalar.xori v747 v748
  let c0_i32_421 : BitVec 32 := 0#32
  let v746 : BitVec 1 := Scalar.cmpi .ne v745 c0_i32_421
  let v750 : BitVec 1 := Scalar.andi v749 v746
  let v751 : BitVec 32 := Scalar.addi v745 v744
  let v752 : BitVec 32 := Scalar.select v750 v751 v745
  let c1_i32_431 : BitVec 32 := 1#32
  let v757 : BitVec 32 := Scalar.muli v752 c1_i32_431
  let v758 : BitVec 32 := Scalar.addi v756 v757
  v758.toNat
def k0_dev12 (d0 : Dev nD) : Nat :=
  let c0_i32_466 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_249 : BitVec 32 := 2#32
  let v434 : BitVec 32 := Scalar.xori v12 c2_i32_249
  let c0_i32_436 : BitVec 32 := 0#32
  let v766 : BitVec 1 := Scalar.cmpi .sgt v434 c0_i32_436
  let v767 : BitVec 32 := Scalar.extui v766
  let c0_i32_437 : BitVec 32 := 0#32
  let v768 : BitVec 1 := Scalar.cmpi .slt v434 c0_i32_437
  let v769 : BitVec 32 := Scalar.extui v768
  let v770 : BitVec 32 := Scalar.subi v767 v769
  let c4_i32_435 : BitVec 32 := 4#32
  let c0_i32_438 : BitVec 32 := 0#32
  let v771 : BitVec 1 := Scalar.cmpi .sgt c4_i32_435 c0_i32_438
  let v772 : BitVec 32 := Scalar.extui v771
  let c0_i32_439 : BitVec 32 := 0#32
  let v773 : BitVec 1 := Scalar.cmpi .slt c4_i32_435 c0_i32_439
  let v774 : BitVec 32 := Scalar.extui v773
  let v775 : BitVec 32 := Scalar.subi v772 v774
  let v776 : BitVec 1 := Scalar.cmpi .ne v770 v775
  let v777 : BitVec 32 := Scalar.remsi v434 c4_i32_435
  let c0_i32_440 : BitVec 32 := 0#32
  let v778 : BitVec 1 := Scalar.cmpi .ne v777 c0_i32_440
  let v779 : BitVec 1 := Scalar.andi v776 v778
  let v765 : BitVec 32 := Scalar.divsi v434 c4_i32_435
  let c1_i32_441 : BitVec 32 := 1#32
  let v780 : BitVec 32 := Scalar.subi v765 c1_i32_441
  let v781 : BitVec 32 := Scalar.select v779 v780 v765
  let c4_i32_465 : BitVec 32 := 4#32
  let v819 : BitVec 32 := Scalar.muli v781 c4_i32_465
  let v820 : BitVec 32 := Scalar.addi c0_i32_466 v819
  let c0_i32_443 : BitVec 32 := 0#32
  let v783 : BitVec 1 := Scalar.cmpi .sgt v434 c0_i32_443
  let v784 : BitVec 32 := Scalar.extui v783
  let c0_i32_444 : BitVec 32 := 0#32
  let v785 : BitVec 1 := Scalar.cmpi .slt v434 c0_i32_444
  let v786 : BitVec 32 := Scalar.extui v785
  let v787 : BitVec 32 := Scalar.subi v784 v786
  let c2_i32_442 : BitVec 32 := 2#32
  let c0_i32_445 : BitVec 32 := 0#32
  let v788 : BitVec 1 := Scalar.cmpi .sgt c2_i32_442 c0_i32_445
  let v789 : BitVec 32 := Scalar.extui v788
  let c0_i32_446 : BitVec 32 := 0#32
  let v790 : BitVec 1 := Scalar.cmpi .slt c2_i32_442 c0_i32_446
  let v791 : BitVec 32 := Scalar.extui v790
  let v792 : BitVec 32 := Scalar.subi v789 v791
  let v793 : BitVec 1 := Scalar.cmpi .ne v787 v792
  let v794 : BitVec 32 := Scalar.remsi v434 c2_i32_442
  let c0_i32_447 : BitVec 32 := 0#32
  let v795 : BitVec 1 := Scalar.cmpi .ne v794 c0_i32_447
  let v796 : BitVec 1 := Scalar.andi v793 v795
  let v782 : BitVec 32 := Scalar.divsi v434 c2_i32_442
  let c1_i32_448 : BitVec 32 := 1#32
  let v797 : BitVec 32 := Scalar.subi v782 c1_i32_448
  let v798 : BitVec 32 := Scalar.select v796 v797 v782
  let c2_i32_449 : BitVec 32 := 2#32
  let c0_i32_450 : BitVec 32 := 0#32
  let v799 : BitVec 1 := Scalar.cmpi .eq c2_i32_449 c0_i32_450
  let c1_i32_451 : BitVec 32 := 1#32
  let v800 : BitVec 32 := Scalar.select v799 c1_i32_451 c2_i32_449
  let v801 : BitVec 32 := Scalar.remsi v798 v800
  let c0_i32_453 : BitVec 32 := 0#32
  let v803 : BitVec 1 := Scalar.cmpi .slt v801 c0_i32_453
  let c0_i32_454 : BitVec 32 := 0#32
  let v804 : BitVec 1 := Scalar.cmpi .slt v800 c0_i32_454
  let v805 : BitVec 1 := Scalar.xori v803 v804
  let c0_i32_452 : BitVec 32 := 0#32
  let v802 : BitVec 1 := Scalar.cmpi .ne v801 c0_i32_452
  let v806 : BitVec 1 := Scalar.andi v805 v802
  let v807 : BitVec 32 := Scalar.addi v801 v800
  let v808 : BitVec 32 := Scalar.select v806 v807 v801
  let c2_i32_467 : BitVec 32 := 2#32
  let v821 : BitVec 32 := Scalar.muli v808 c2_i32_467
  let v822 : BitVec 32 := Scalar.addi v820 v821
  let c2_i32_455 : BitVec 32 := 2#32
  let c0_i32_456 : BitVec 32 := 0#32
  let v809 : BitVec 1 := Scalar.cmpi .eq c2_i32_455 c0_i32_456
  let c1_i32_457 : BitVec 32 := 1#32
  let v810 : BitVec 32 := Scalar.select v809 c1_i32_457 c2_i32_455
  let v811 : BitVec 32 := Scalar.remsi v434 v810
  let c0_i32_459 : BitVec 32 := 0#32
  let v813 : BitVec 1 := Scalar.cmpi .slt v811 c0_i32_459
  let c0_i32_460 : BitVec 32 := 0#32
  let v814 : BitVec 1 := Scalar.cmpi .slt v810 c0_i32_460
  let v815 : BitVec 1 := Scalar.xori v813 v814
  let c0_i32_458 : BitVec 32 := 0#32
  let v812 : BitVec 1 := Scalar.cmpi .ne v811 c0_i32_458
  let v816 : BitVec 1 := Scalar.andi v815 v812
  let v817 : BitVec 32 := Scalar.addi v811 v810
  let v818 : BitVec 32 := Scalar.select v816 v817 v811
  let c1_i32_468 : BitVec 32 := 1#32
  let v823 : BitVec 32 := Scalar.muli v818 c1_i32_468
  let v824 : BitVec 32 := Scalar.addi v822 v823
  v824.toNat
def k0_dev13 (d0 : Dev nD) : Nat :=
  let c0_i32_504 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_474 : BitVec 32 := 0#32
  let v833 : BitVec 1 := Scalar.cmpi .sgt v831 c0_i32_474
  let v834 : BitVec 32 := Scalar.extui v833
  let c0_i32_475 : BitVec 32 := 0#32
  let v835 : BitVec 1 := Scalar.cmpi .slt v831 c0_i32_475
  let v836 : BitVec 32 := Scalar.extui v835
  let v837 : BitVec 32 := Scalar.subi v834 v836
  let c4_i32_473 : BitVec 32 := 4#32
  let c0_i32_476 : BitVec 32 := 0#32
  let v838 : BitVec 1 := Scalar.cmpi .sgt c4_i32_473 c0_i32_476
  let v839 : BitVec 32 := Scalar.extui v838
  let c0_i32_477 : BitVec 32 := 0#32
  let v840 : BitVec 1 := Scalar.cmpi .slt c4_i32_473 c0_i32_477
  let v841 : BitVec 32 := Scalar.extui v840
  let v842 : BitVec 32 := Scalar.subi v839 v841
  let v843 : BitVec 1 := Scalar.cmpi .ne v837 v842
  let v844 : BitVec 32 := Scalar.remsi v831 c4_i32_473
  let c0_i32_478 : BitVec 32 := 0#32
  let v845 : BitVec 1 := Scalar.cmpi .ne v844 c0_i32_478
  let v846 : BitVec 1 := Scalar.andi v843 v845
  let v832 : BitVec 32 := Scalar.divsi v831 c4_i32_473
  let c1_i32_479 : BitVec 32 := 1#32
  let v847 : BitVec 32 := Scalar.subi v832 c1_i32_479
  let v848 : BitVec 32 := Scalar.select v846 v847 v832
  let c4_i32_503 : BitVec 32 := 4#32
  let v886 : BitVec 32 := Scalar.muli v848 c4_i32_503
  let v887 : BitVec 32 := Scalar.addi c0_i32_504 v886
  let c0_i32_481 : BitVec 32 := 0#32
  let v850 : BitVec 1 := Scalar.cmpi .sgt v831 c0_i32_481
  let v851 : BitVec 32 := Scalar.extui v850
  let c0_i32_482 : BitVec 32 := 0#32
  let v852 : BitVec 1 := Scalar.cmpi .slt v831 c0_i32_482
  let v853 : BitVec 32 := Scalar.extui v852
  let v854 : BitVec 32 := Scalar.subi v851 v853
  let c2_i32_480 : BitVec 32 := 2#32
  let c0_i32_483 : BitVec 32 := 0#32
  let v855 : BitVec 1 := Scalar.cmpi .sgt c2_i32_480 c0_i32_483
  let v856 : BitVec 32 := Scalar.extui v855
  let c0_i32_484 : BitVec 32 := 0#32
  let v857 : BitVec 1 := Scalar.cmpi .slt c2_i32_480 c0_i32_484
  let v858 : BitVec 32 := Scalar.extui v857
  let v859 : BitVec 32 := Scalar.subi v856 v858
  let v860 : BitVec 1 := Scalar.cmpi .ne v854 v859
  let v861 : BitVec 32 := Scalar.remsi v831 c2_i32_480
  let c0_i32_485 : BitVec 32 := 0#32
  let v862 : BitVec 1 := Scalar.cmpi .ne v861 c0_i32_485
  let v863 : BitVec 1 := Scalar.andi v860 v862
  let v849 : BitVec 32 := Scalar.divsi v831 c2_i32_480
  let c1_i32_486 : BitVec 32 := 1#32
  let v864 : BitVec 32 := Scalar.subi v849 c1_i32_486
  let v865 : BitVec 32 := Scalar.select v863 v864 v849
  let c2_i32_487 : BitVec 32 := 2#32
  let c0_i32_488 : BitVec 32 := 0#32
  let v866 : BitVec 1 := Scalar.cmpi .eq c2_i32_487 c0_i32_488
  let c1_i32_489 : BitVec 32 := 1#32
  let v867 : BitVec 32 := Scalar.select v866 c1_i32_489 c2_i32_487
  let v868 : BitVec 32 := Scalar.remsi v865 v867
  let c0_i32_491 : BitVec 32 := 0#32
  let v870 : BitVec 1 := Scalar.cmpi .slt v868 c0_i32_491
  let c0_i32_492 : BitVec 32 := 0#32
  let v871 : BitVec 1 := Scalar.cmpi .slt v867 c0_i32_492
  let v872 : BitVec 1 := Scalar.xori v870 v871
  let c0_i32_490 : BitVec 32 := 0#32
  let v869 : BitVec 1 := Scalar.cmpi .ne v868 c0_i32_490
  let v873 : BitVec 1 := Scalar.andi v872 v869
  let v874 : BitVec 32 := Scalar.addi v868 v867
  let v875 : BitVec 32 := Scalar.select v873 v874 v868
  let c2_i32_505 : BitVec 32 := 2#32
  let v888 : BitVec 32 := Scalar.muli v875 c2_i32_505
  let v889 : BitVec 32 := Scalar.addi v887 v888
  let c2_i32_493 : BitVec 32 := 2#32
  let c0_i32_494 : BitVec 32 := 0#32
  let v876 : BitVec 1 := Scalar.cmpi .eq c2_i32_493 c0_i32_494
  let c1_i32_495 : BitVec 32 := 1#32
  let v877 : BitVec 32 := Scalar.select v876 c1_i32_495 c2_i32_493
  let v878 : BitVec 32 := Scalar.remsi v831 v877
  let c0_i32_497 : BitVec 32 := 0#32
  let v880 : BitVec 1 := Scalar.cmpi .slt v878 c0_i32_497
  let c0_i32_498 : BitVec 32 := 0#32
  let v881 : BitVec 1 := Scalar.cmpi .slt v877 c0_i32_498
  let v882 : BitVec 1 := Scalar.xori v880 v881
  let c0_i32_496 : BitVec 32 := 0#32
  let v879 : BitVec 1 := Scalar.cmpi .ne v878 c0_i32_496
  let v883 : BitVec 1 := Scalar.andi v882 v879
  let v884 : BitVec 32 := Scalar.addi v878 v877
  let v885 : BitVec 32 := Scalar.select v883 v884 v878
  let c1_i32_506 : BitVec 32 := 1#32
  let v890 : BitVec 32 := Scalar.muli v885 c1_i32_506
  let v891 : BitVec 32 := Scalar.addi v889 v890
  v891.toNat
def k0_dev14 (d0 : Dev nD) : Nat :=
  let c0_i32_541 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_511 : BitVec 32 := 0#32
  let v899 : BitVec 1 := Scalar.cmpi .sgt v831 c0_i32_511
  let v900 : BitVec 32 := Scalar.extui v899
  let c0_i32_512 : BitVec 32 := 0#32
  let v901 : BitVec 1 := Scalar.cmpi .slt v831 c0_i32_512
  let v902 : BitVec 32 := Scalar.extui v901
  let v903 : BitVec 32 := Scalar.subi v900 v902
  let c4_i32_510 : BitVec 32 := 4#32
  let c0_i32_513 : BitVec 32 := 0#32
  let v904 : BitVec 1 := Scalar.cmpi .sgt c4_i32_510 c0_i32_513
  let v905 : BitVec 32 := Scalar.extui v904
  let c0_i32_514 : BitVec 32 := 0#32
  let v906 : BitVec 1 := Scalar.cmpi .slt c4_i32_510 c0_i32_514
  let v907 : BitVec 32 := Scalar.extui v906
  let v908 : BitVec 32 := Scalar.subi v905 v907
  let v909 : BitVec 1 := Scalar.cmpi .ne v903 v908
  let v910 : BitVec 32 := Scalar.remsi v831 c4_i32_510
  let c0_i32_515 : BitVec 32 := 0#32
  let v911 : BitVec 1 := Scalar.cmpi .ne v910 c0_i32_515
  let v912 : BitVec 1 := Scalar.andi v909 v911
  let v898 : BitVec 32 := Scalar.divsi v831 c4_i32_510
  let c1_i32_516 : BitVec 32 := 1#32
  let v913 : BitVec 32 := Scalar.subi v898 c1_i32_516
  let v914 : BitVec 32 := Scalar.select v912 v913 v898
  let c4_i32_540 : BitVec 32 := 4#32
  let v952 : BitVec 32 := Scalar.muli v914 c4_i32_540
  let v953 : BitVec 32 := Scalar.addi c0_i32_541 v952
  let c0_i32_518 : BitVec 32 := 0#32
  let v916 : BitVec 1 := Scalar.cmpi .sgt v831 c0_i32_518
  let v917 : BitVec 32 := Scalar.extui v916
  let c0_i32_519 : BitVec 32 := 0#32
  let v918 : BitVec 1 := Scalar.cmpi .slt v831 c0_i32_519
  let v919 : BitVec 32 := Scalar.extui v918
  let v920 : BitVec 32 := Scalar.subi v917 v919
  let c2_i32_517 : BitVec 32 := 2#32
  let c0_i32_520 : BitVec 32 := 0#32
  let v921 : BitVec 1 := Scalar.cmpi .sgt c2_i32_517 c0_i32_520
  let v922 : BitVec 32 := Scalar.extui v921
  let c0_i32_521 : BitVec 32 := 0#32
  let v923 : BitVec 1 := Scalar.cmpi .slt c2_i32_517 c0_i32_521
  let v924 : BitVec 32 := Scalar.extui v923
  let v925 : BitVec 32 := Scalar.subi v922 v924
  let v926 : BitVec 1 := Scalar.cmpi .ne v920 v925
  let v927 : BitVec 32 := Scalar.remsi v831 c2_i32_517
  let c0_i32_522 : BitVec 32 := 0#32
  let v928 : BitVec 1 := Scalar.cmpi .ne v927 c0_i32_522
  let v929 : BitVec 1 := Scalar.andi v926 v928
  let v915 : BitVec 32 := Scalar.divsi v831 c2_i32_517
  let c1_i32_523 : BitVec 32 := 1#32
  let v930 : BitVec 32 := Scalar.subi v915 c1_i32_523
  let v931 : BitVec 32 := Scalar.select v929 v930 v915
  let c2_i32_524 : BitVec 32 := 2#32
  let c0_i32_525 : BitVec 32 := 0#32
  let v932 : BitVec 1 := Scalar.cmpi .eq c2_i32_524 c0_i32_525
  let c1_i32_526 : BitVec 32 := 1#32
  let v933 : BitVec 32 := Scalar.select v932 c1_i32_526 c2_i32_524
  let v934 : BitVec 32 := Scalar.remsi v931 v933
  let c0_i32_528 : BitVec 32 := 0#32
  let v936 : BitVec 1 := Scalar.cmpi .slt v934 c0_i32_528
  let c0_i32_529 : BitVec 32 := 0#32
  let v937 : BitVec 1 := Scalar.cmpi .slt v933 c0_i32_529
  let v938 : BitVec 1 := Scalar.xori v936 v937
  let c0_i32_527 : BitVec 32 := 0#32
  let v935 : BitVec 1 := Scalar.cmpi .ne v934 c0_i32_527
  let v939 : BitVec 1 := Scalar.andi v938 v935
  let v940 : BitVec 32 := Scalar.addi v934 v933
  let v941 : BitVec 32 := Scalar.select v939 v940 v934
  let c2_i32_542 : BitVec 32 := 2#32
  let v954 : BitVec 32 := Scalar.muli v941 c2_i32_542
  let v955 : BitVec 32 := Scalar.addi v953 v954
  let c2_i32_530 : BitVec 32 := 2#32
  let c0_i32_531 : BitVec 32 := 0#32
  let v942 : BitVec 1 := Scalar.cmpi .eq c2_i32_530 c0_i32_531
  let c1_i32_532 : BitVec 32 := 1#32
  let v943 : BitVec 32 := Scalar.select v942 c1_i32_532 c2_i32_530
  let v944 : BitVec 32 := Scalar.remsi v831 v943
  let c0_i32_534 : BitVec 32 := 0#32
  let v946 : BitVec 1 := Scalar.cmpi .slt v944 c0_i32_534
  let c0_i32_535 : BitVec 32 := 0#32
  let v947 : BitVec 1 := Scalar.cmpi .slt v943 c0_i32_535
  let v948 : BitVec 1 := Scalar.xori v946 v947
  let c0_i32_533 : BitVec 32 := 0#32
  let v945 : BitVec 1 := Scalar.cmpi .ne v944 c0_i32_533
  let v949 : BitVec 1 := Scalar.andi v948 v945
  let v950 : BitVec 32 := Scalar.addi v944 v943
  let v951 : BitVec 32 := Scalar.select v949 v950 v944
  let c1_i32_543 : BitVec 32 := 1#32
  let v956 : BitVec 32 := Scalar.muli v951 c1_i32_543
  let v957 : BitVec 32 := Scalar.addi v955 v956
  v957.toNat
def k0_dev15 (d0 : Dev nD) : Nat :=
  let c0_i32_578 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_548 : BitVec 32 := 0#32
  let v965 : BitVec 1 := Scalar.cmpi .sgt v831 c0_i32_548
  let v966 : BitVec 32 := Scalar.extui v965
  let c0_i32_549 : BitVec 32 := 0#32
  let v967 : BitVec 1 := Scalar.cmpi .slt v831 c0_i32_549
  let v968 : BitVec 32 := Scalar.extui v967
  let v969 : BitVec 32 := Scalar.subi v966 v968
  let c4_i32_547 : BitVec 32 := 4#32
  let c0_i32_550 : BitVec 32 := 0#32
  let v970 : BitVec 1 := Scalar.cmpi .sgt c4_i32_547 c0_i32_550
  let v971 : BitVec 32 := Scalar.extui v970
  let c0_i32_551 : BitVec 32 := 0#32
  let v972 : BitVec 1 := Scalar.cmpi .slt c4_i32_547 c0_i32_551
  let v973 : BitVec 32 := Scalar.extui v972
  let v974 : BitVec 32 := Scalar.subi v971 v973
  let v975 : BitVec 1 := Scalar.cmpi .ne v969 v974
  let v976 : BitVec 32 := Scalar.remsi v831 c4_i32_547
  let c0_i32_552 : BitVec 32 := 0#32
  let v977 : BitVec 1 := Scalar.cmpi .ne v976 c0_i32_552
  let v978 : BitVec 1 := Scalar.andi v975 v977
  let v964 : BitVec 32 := Scalar.divsi v831 c4_i32_547
  let c1_i32_553 : BitVec 32 := 1#32
  let v979 : BitVec 32 := Scalar.subi v964 c1_i32_553
  let v980 : BitVec 32 := Scalar.select v978 v979 v964
  let c4_i32_577 : BitVec 32 := 4#32
  let v1018 : BitVec 32 := Scalar.muli v980 c4_i32_577
  let v1019 : BitVec 32 := Scalar.addi c0_i32_578 v1018
  let c0_i32_555 : BitVec 32 := 0#32
  let v982 : BitVec 1 := Scalar.cmpi .sgt v831 c0_i32_555
  let v983 : BitVec 32 := Scalar.extui v982
  let c0_i32_556 : BitVec 32 := 0#32
  let v984 : BitVec 1 := Scalar.cmpi .slt v831 c0_i32_556
  let v985 : BitVec 32 := Scalar.extui v984
  let v986 : BitVec 32 := Scalar.subi v983 v985
  let c2_i32_554 : BitVec 32 := 2#32
  let c0_i32_557 : BitVec 32 := 0#32
  let v987 : BitVec 1 := Scalar.cmpi .sgt c2_i32_554 c0_i32_557
  let v988 : BitVec 32 := Scalar.extui v987
  let c0_i32_558 : BitVec 32 := 0#32
  let v989 : BitVec 1 := Scalar.cmpi .slt c2_i32_554 c0_i32_558
  let v990 : BitVec 32 := Scalar.extui v989
  let v991 : BitVec 32 := Scalar.subi v988 v990
  let v992 : BitVec 1 := Scalar.cmpi .ne v986 v991
  let v993 : BitVec 32 := Scalar.remsi v831 c2_i32_554
  let c0_i32_559 : BitVec 32 := 0#32
  let v994 : BitVec 1 := Scalar.cmpi .ne v993 c0_i32_559
  let v995 : BitVec 1 := Scalar.andi v992 v994
  let v981 : BitVec 32 := Scalar.divsi v831 c2_i32_554
  let c1_i32_560 : BitVec 32 := 1#32
  let v996 : BitVec 32 := Scalar.subi v981 c1_i32_560
  let v997 : BitVec 32 := Scalar.select v995 v996 v981
  let c2_i32_561 : BitVec 32 := 2#32
  let c0_i32_562 : BitVec 32 := 0#32
  let v998 : BitVec 1 := Scalar.cmpi .eq c2_i32_561 c0_i32_562
  let c1_i32_563 : BitVec 32 := 1#32
  let v999 : BitVec 32 := Scalar.select v998 c1_i32_563 c2_i32_561
  let v1000 : BitVec 32 := Scalar.remsi v997 v999
  let c0_i32_565 : BitVec 32 := 0#32
  let v1002 : BitVec 1 := Scalar.cmpi .slt v1000 c0_i32_565
  let c0_i32_566 : BitVec 32 := 0#32
  let v1003 : BitVec 1 := Scalar.cmpi .slt v999 c0_i32_566
  let v1004 : BitVec 1 := Scalar.xori v1002 v1003
  let c0_i32_564 : BitVec 32 := 0#32
  let v1001 : BitVec 1 := Scalar.cmpi .ne v1000 c0_i32_564
  let v1005 : BitVec 1 := Scalar.andi v1004 v1001
  let v1006 : BitVec 32 := Scalar.addi v1000 v999
  let v1007 : BitVec 32 := Scalar.select v1005 v1006 v1000
  let c2_i32_579 : BitVec 32 := 2#32
  let v1020 : BitVec 32 := Scalar.muli v1007 c2_i32_579
  let v1021 : BitVec 32 := Scalar.addi v1019 v1020
  let c2_i32_567 : BitVec 32 := 2#32
  let c0_i32_568 : BitVec 32 := 0#32
  let v1008 : BitVec 1 := Scalar.cmpi .eq c2_i32_567 c0_i32_568
  let c1_i32_569 : BitVec 32 := 1#32
  let v1009 : BitVec 32 := Scalar.select v1008 c1_i32_569 c2_i32_567
  let v1010 : BitVec 32 := Scalar.remsi v831 v1009
  let c0_i32_571 : BitVec 32 := 0#32
  let v1012 : BitVec 1 := Scalar.cmpi .slt v1010 c0_i32_571
  let c0_i32_572 : BitVec 32 := 0#32
  let v1013 : BitVec 1 := Scalar.cmpi .slt v1009 c0_i32_572
  let v1014 : BitVec 1 := Scalar.xori v1012 v1013
  let c0_i32_570 : BitVec 32 := 0#32
  let v1011 : BitVec 1 := Scalar.cmpi .ne v1010 c0_i32_570
  let v1015 : BitVec 1 := Scalar.andi v1014 v1011
  let v1016 : BitVec 32 := Scalar.addi v1010 v1009
  let v1017 : BitVec 32 := Scalar.select v1015 v1016 v1010
  let c1_i32_580 : BitVec 32 := 1#32
  let v1022 : BitVec 32 := Scalar.muli v1017 c1_i32_580
  let v1023 : BitVec 32 := Scalar.addi v1021 v1022
  v1023.toNat
def k0_dev16 (d0 : Dev nD) : Nat :=
  let c0_i32_615 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_585 : BitVec 32 := 0#32
  let v1031 : BitVec 1 := Scalar.cmpi .sgt v831 c0_i32_585
  let v1032 : BitVec 32 := Scalar.extui v1031
  let c0_i32_586 : BitVec 32 := 0#32
  let v1033 : BitVec 1 := Scalar.cmpi .slt v831 c0_i32_586
  let v1034 : BitVec 32 := Scalar.extui v1033
  let v1035 : BitVec 32 := Scalar.subi v1032 v1034
  let c4_i32_584 : BitVec 32 := 4#32
  let c0_i32_587 : BitVec 32 := 0#32
  let v1036 : BitVec 1 := Scalar.cmpi .sgt c4_i32_584 c0_i32_587
  let v1037 : BitVec 32 := Scalar.extui v1036
  let c0_i32_588 : BitVec 32 := 0#32
  let v1038 : BitVec 1 := Scalar.cmpi .slt c4_i32_584 c0_i32_588
  let v1039 : BitVec 32 := Scalar.extui v1038
  let v1040 : BitVec 32 := Scalar.subi v1037 v1039
  let v1041 : BitVec 1 := Scalar.cmpi .ne v1035 v1040
  let v1042 : BitVec 32 := Scalar.remsi v831 c4_i32_584
  let c0_i32_589 : BitVec 32 := 0#32
  let v1043 : BitVec 1 := Scalar.cmpi .ne v1042 c0_i32_589
  let v1044 : BitVec 1 := Scalar.andi v1041 v1043
  let v1030 : BitVec 32 := Scalar.divsi v831 c4_i32_584
  let c1_i32_590 : BitVec 32 := 1#32
  let v1045 : BitVec 32 := Scalar.subi v1030 c1_i32_590
  let v1046 : BitVec 32 := Scalar.select v1044 v1045 v1030
  let c4_i32_614 : BitVec 32 := 4#32
  let v1084 : BitVec 32 := Scalar.muli v1046 c4_i32_614
  let v1085 : BitVec 32 := Scalar.addi c0_i32_615 v1084
  let c0_i32_592 : BitVec 32 := 0#32
  let v1048 : BitVec 1 := Scalar.cmpi .sgt v831 c0_i32_592
  let v1049 : BitVec 32 := Scalar.extui v1048
  let c0_i32_593 : BitVec 32 := 0#32
  let v1050 : BitVec 1 := Scalar.cmpi .slt v831 c0_i32_593
  let v1051 : BitVec 32 := Scalar.extui v1050
  let v1052 : BitVec 32 := Scalar.subi v1049 v1051
  let c2_i32_591 : BitVec 32 := 2#32
  let c0_i32_594 : BitVec 32 := 0#32
  let v1053 : BitVec 1 := Scalar.cmpi .sgt c2_i32_591 c0_i32_594
  let v1054 : BitVec 32 := Scalar.extui v1053
  let c0_i32_595 : BitVec 32 := 0#32
  let v1055 : BitVec 1 := Scalar.cmpi .slt c2_i32_591 c0_i32_595
  let v1056 : BitVec 32 := Scalar.extui v1055
  let v1057 : BitVec 32 := Scalar.subi v1054 v1056
  let v1058 : BitVec 1 := Scalar.cmpi .ne v1052 v1057
  let v1059 : BitVec 32 := Scalar.remsi v831 c2_i32_591
  let c0_i32_596 : BitVec 32 := 0#32
  let v1060 : BitVec 1 := Scalar.cmpi .ne v1059 c0_i32_596
  let v1061 : BitVec 1 := Scalar.andi v1058 v1060
  let v1047 : BitVec 32 := Scalar.divsi v831 c2_i32_591
  let c1_i32_597 : BitVec 32 := 1#32
  let v1062 : BitVec 32 := Scalar.subi v1047 c1_i32_597
  let v1063 : BitVec 32 := Scalar.select v1061 v1062 v1047
  let c2_i32_598 : BitVec 32 := 2#32
  let c0_i32_599 : BitVec 32 := 0#32
  let v1064 : BitVec 1 := Scalar.cmpi .eq c2_i32_598 c0_i32_599
  let c1_i32_600 : BitVec 32 := 1#32
  let v1065 : BitVec 32 := Scalar.select v1064 c1_i32_600 c2_i32_598
  let v1066 : BitVec 32 := Scalar.remsi v1063 v1065
  let c0_i32_602 : BitVec 32 := 0#32
  let v1068 : BitVec 1 := Scalar.cmpi .slt v1066 c0_i32_602
  let c0_i32_603 : BitVec 32 := 0#32
  let v1069 : BitVec 1 := Scalar.cmpi .slt v1065 c0_i32_603
  let v1070 : BitVec 1 := Scalar.xori v1068 v1069
  let c0_i32_601 : BitVec 32 := 0#32
  let v1067 : BitVec 1 := Scalar.cmpi .ne v1066 c0_i32_601
  let v1071 : BitVec 1 := Scalar.andi v1070 v1067
  let v1072 : BitVec 32 := Scalar.addi v1066 v1065
  let v1073 : BitVec 32 := Scalar.select v1071 v1072 v1066
  let c2_i32_616 : BitVec 32 := 2#32
  let v1086 : BitVec 32 := Scalar.muli v1073 c2_i32_616
  let v1087 : BitVec 32 := Scalar.addi v1085 v1086
  let c2_i32_604 : BitVec 32 := 2#32
  let c0_i32_605 : BitVec 32 := 0#32
  let v1074 : BitVec 1 := Scalar.cmpi .eq c2_i32_604 c0_i32_605
  let c1_i32_606 : BitVec 32 := 1#32
  let v1075 : BitVec 32 := Scalar.select v1074 c1_i32_606 c2_i32_604
  let v1076 : BitVec 32 := Scalar.remsi v831 v1075
  let c0_i32_608 : BitVec 32 := 0#32
  let v1078 : BitVec 1 := Scalar.cmpi .slt v1076 c0_i32_608
  let c0_i32_609 : BitVec 32 := 0#32
  let v1079 : BitVec 1 := Scalar.cmpi .slt v1075 c0_i32_609
  let v1080 : BitVec 1 := Scalar.xori v1078 v1079
  let c0_i32_607 : BitVec 32 := 0#32
  let v1077 : BitVec 1 := Scalar.cmpi .ne v1076 c0_i32_607
  let v1081 : BitVec 1 := Scalar.andi v1080 v1077
  let v1082 : BitVec 32 := Scalar.addi v1076 v1075
  let v1083 : BitVec 32 := Scalar.select v1081 v1082 v1076
  let c1_i32_617 : BitVec 32 := 1#32
  let v1088 : BitVec 32 := Scalar.muli v1083 c1_i32_617
  let v1089 : BitVec 32 := Scalar.addi v1087 v1088
  v1089.toNat
def k0_dev17 (d0 : Dev nD) : Nat :=
  let c0_i32_652 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_622 : BitVec 32 := 0#32
  let v1097 : BitVec 1 := Scalar.cmpi .sgt v831 c0_i32_622
  let v1098 : BitVec 32 := Scalar.extui v1097
  let c0_i32_623 : BitVec 32 := 0#32
  let v1099 : BitVec 1 := Scalar.cmpi .slt v831 c0_i32_623
  let v1100 : BitVec 32 := Scalar.extui v1099
  let v1101 : BitVec 32 := Scalar.subi v1098 v1100
  let c4_i32_621 : BitVec 32 := 4#32
  let c0_i32_624 : BitVec 32 := 0#32
  let v1102 : BitVec 1 := Scalar.cmpi .sgt c4_i32_621 c0_i32_624
  let v1103 : BitVec 32 := Scalar.extui v1102
  let c0_i32_625 : BitVec 32 := 0#32
  let v1104 : BitVec 1 := Scalar.cmpi .slt c4_i32_621 c0_i32_625
  let v1105 : BitVec 32 := Scalar.extui v1104
  let v1106 : BitVec 32 := Scalar.subi v1103 v1105
  let v1107 : BitVec 1 := Scalar.cmpi .ne v1101 v1106
  let v1108 : BitVec 32 := Scalar.remsi v831 c4_i32_621
  let c0_i32_626 : BitVec 32 := 0#32
  let v1109 : BitVec 1 := Scalar.cmpi .ne v1108 c0_i32_626
  let v1110 : BitVec 1 := Scalar.andi v1107 v1109
  let v1096 : BitVec 32 := Scalar.divsi v831 c4_i32_621
  let c1_i32_627 : BitVec 32 := 1#32
  let v1111 : BitVec 32 := Scalar.subi v1096 c1_i32_627
  let v1112 : BitVec 32 := Scalar.select v1110 v1111 v1096
  let c4_i32_651 : BitVec 32 := 4#32
  let v1150 : BitVec 32 := Scalar.muli v1112 c4_i32_651
  let v1151 : BitVec 32 := Scalar.addi c0_i32_652 v1150
  let c0_i32_629 : BitVec 32 := 0#32
  let v1114 : BitVec 1 := Scalar.cmpi .sgt v831 c0_i32_629
  let v1115 : BitVec 32 := Scalar.extui v1114
  let c0_i32_630 : BitVec 32 := 0#32
  let v1116 : BitVec 1 := Scalar.cmpi .slt v831 c0_i32_630
  let v1117 : BitVec 32 := Scalar.extui v1116
  let v1118 : BitVec 32 := Scalar.subi v1115 v1117
  let c2_i32_628 : BitVec 32 := 2#32
  let c0_i32_631 : BitVec 32 := 0#32
  let v1119 : BitVec 1 := Scalar.cmpi .sgt c2_i32_628 c0_i32_631
  let v1120 : BitVec 32 := Scalar.extui v1119
  let c0_i32_632 : BitVec 32 := 0#32
  let v1121 : BitVec 1 := Scalar.cmpi .slt c2_i32_628 c0_i32_632
  let v1122 : BitVec 32 := Scalar.extui v1121
  let v1123 : BitVec 32 := Scalar.subi v1120 v1122
  let v1124 : BitVec 1 := Scalar.cmpi .ne v1118 v1123
  let v1125 : BitVec 32 := Scalar.remsi v831 c2_i32_628
  let c0_i32_633 : BitVec 32 := 0#32
  let v1126 : BitVec 1 := Scalar.cmpi .ne v1125 c0_i32_633
  let v1127 : BitVec 1 := Scalar.andi v1124 v1126
  let v1113 : BitVec 32 := Scalar.divsi v831 c2_i32_628
  let c1_i32_634 : BitVec 32 := 1#32
  let v1128 : BitVec 32 := Scalar.subi v1113 c1_i32_634
  let v1129 : BitVec 32 := Scalar.select v1127 v1128 v1113
  let c2_i32_635 : BitVec 32 := 2#32
  let c0_i32_636 : BitVec 32 := 0#32
  let v1130 : BitVec 1 := Scalar.cmpi .eq c2_i32_635 c0_i32_636
  let c1_i32_637 : BitVec 32 := 1#32
  let v1131 : BitVec 32 := Scalar.select v1130 c1_i32_637 c2_i32_635
  let v1132 : BitVec 32 := Scalar.remsi v1129 v1131
  let c0_i32_639 : BitVec 32 := 0#32
  let v1134 : BitVec 1 := Scalar.cmpi .slt v1132 c0_i32_639
  let c0_i32_640 : BitVec 32 := 0#32
  let v1135 : BitVec 1 := Scalar.cmpi .slt v1131 c0_i32_640
  let v1136 : BitVec 1 := Scalar.xori v1134 v1135
  let c0_i32_638 : BitVec 32 := 0#32
  let v1133 : BitVec 1 := Scalar.cmpi .ne v1132 c0_i32_638
  let v1137 : BitVec 1 := Scalar.andi v1136 v1133
  let v1138 : BitVec 32 := Scalar.addi v1132 v1131
  let v1139 : BitVec 32 := Scalar.select v1137 v1138 v1132
  let c2_i32_653 : BitVec 32 := 2#32
  let v1152 : BitVec 32 := Scalar.muli v1139 c2_i32_653
  let v1153 : BitVec 32 := Scalar.addi v1151 v1152
  let c2_i32_641 : BitVec 32 := 2#32
  let c0_i32_642 : BitVec 32 := 0#32
  let v1140 : BitVec 1 := Scalar.cmpi .eq c2_i32_641 c0_i32_642
  let c1_i32_643 : BitVec 32 := 1#32
  let v1141 : BitVec 32 := Scalar.select v1140 c1_i32_643 c2_i32_641
  let v1142 : BitVec 32 := Scalar.remsi v831 v1141
  let c0_i32_645 : BitVec 32 := 0#32
  let v1144 : BitVec 1 := Scalar.cmpi .slt v1142 c0_i32_645
  let c0_i32_646 : BitVec 32 := 0#32
  let v1145 : BitVec 1 := Scalar.cmpi .slt v1141 c0_i32_646
  let v1146 : BitVec 1 := Scalar.xori v1144 v1145
  let c0_i32_644 : BitVec 32 := 0#32
  let v1143 : BitVec 1 := Scalar.cmpi .ne v1142 c0_i32_644
  let v1147 : BitVec 1 := Scalar.andi v1146 v1143
  let v1148 : BitVec 32 := Scalar.addi v1142 v1141
  let v1149 : BitVec 32 := Scalar.select v1147 v1148 v1142
  let c1_i32_654 : BitVec 32 := 1#32
  let v1154 : BitVec 32 := Scalar.muli v1149 c1_i32_654
  let v1155 : BitVec 32 := Scalar.addi v1153 v1154
  v1155.toNat
def k0_dev18 (d0 : Dev nD) : Nat :=
  let c0_i32_689 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_472 : BitVec 32 := 3#32
  let v831 : BitVec 32 := Scalar.xori v12 c3_i32_472
  let c0_i32_659 : BitVec 32 := 0#32
  let v1163 : BitVec 1 := Scalar.cmpi .sgt v831 c0_i32_659
  let v1164 : BitVec 32 := Scalar.extui v1163
  let c0_i32_660 : BitVec 32 := 0#32
  let v1165 : BitVec 1 := Scalar.cmpi .slt v831 c0_i32_660
  let v1166 : BitVec 32 := Scalar.extui v1165
  let v1167 : BitVec 32 := Scalar.subi v1164 v1166
  let c4_i32_658 : BitVec 32 := 4#32
  let c0_i32_661 : BitVec 32 := 0#32
  let v1168 : BitVec 1 := Scalar.cmpi .sgt c4_i32_658 c0_i32_661
  let v1169 : BitVec 32 := Scalar.extui v1168
  let c0_i32_662 : BitVec 32 := 0#32
  let v1170 : BitVec 1 := Scalar.cmpi .slt c4_i32_658 c0_i32_662
  let v1171 : BitVec 32 := Scalar.extui v1170
  let v1172 : BitVec 32 := Scalar.subi v1169 v1171
  let v1173 : BitVec 1 := Scalar.cmpi .ne v1167 v1172
  let v1174 : BitVec 32 := Scalar.remsi v831 c4_i32_658
  let c0_i32_663 : BitVec 32 := 0#32
  let v1175 : BitVec 1 := Scalar.cmpi .ne v1174 c0_i32_663
  let v1176 : BitVec 1 := Scalar.andi v1173 v1175
  let v1162 : BitVec 32 := Scalar.divsi v831 c4_i32_658
  let c1_i32_664 : BitVec 32 := 1#32
  let v1177 : BitVec 32 := Scalar.subi v1162 c1_i32_664
  let v1178 : BitVec 32 := Scalar.select v1176 v1177 v1162
  let c4_i32_688 : BitVec 32 := 4#32
  let v1216 : BitVec 32 := Scalar.muli v1178 c4_i32_688
  let v1217 : BitVec 32 := Scalar.addi c0_i32_689 v1216
  let c0_i32_666 : BitVec 32 := 0#32
  let v1180 : BitVec 1 := Scalar.cmpi .sgt v831 c0_i32_666
  let v1181 : BitVec 32 := Scalar.extui v1180
  let c0_i32_667 : BitVec 32 := 0#32
  let v1182 : BitVec 1 := Scalar.cmpi .slt v831 c0_i32_667
  let v1183 : BitVec 32 := Scalar.extui v1182
  let v1184 : BitVec 32 := Scalar.subi v1181 v1183
  let c2_i32_665 : BitVec 32 := 2#32
  let c0_i32_668 : BitVec 32 := 0#32
  let v1185 : BitVec 1 := Scalar.cmpi .sgt c2_i32_665 c0_i32_668
  let v1186 : BitVec 32 := Scalar.extui v1185
  let c0_i32_669 : BitVec 32 := 0#32
  let v1187 : BitVec 1 := Scalar.cmpi .slt c2_i32_665 c0_i32_669
  let v1188 : BitVec 32 := Scalar.extui v1187
  let v1189 : BitVec 32 := Scalar.subi v1186 v1188
  let v1190 : BitVec 1 := Scalar.cmpi .ne v1184 v1189
  let v1191 : BitVec 32 := Scalar.remsi v831 c2_i32_665
  let c0_i32_670 : BitVec 32 := 0#32
  let v1192 : BitVec 1 := Scalar.cmpi .ne v1191 c0_i32_670
  let v1193 : BitVec 1 := Scalar.andi v1190 v1192
  let v1179 : BitVec 32 := Scalar.divsi v831 c2_i32_665
  let c1_i32_671 : BitVec 32 := 1#32
  let v1194 : BitVec 32 := Scalar.subi v1179 c1_i32_671
  let v1195 : BitVec 32 := Scalar.select v1193 v1194 v1179
  let c2_i32_672 : BitVec 32 := 2#32
  let c0_i32_673 : BitVec 32 := 0#32
  let v1196 : BitVec 1 := Scalar.cmpi .eq c2_i32_672 c0_i32_673
  let c1_i32_674 : BitVec 32 := 1#32
  let v1197 : BitVec 32 := Scalar.select v1196 c1_i32_674 c2_i32_672
  let v1198 : BitVec 32 := Scalar.remsi v1195 v1197
  let c0_i32_676 : BitVec 32 := 0#32
  let v1200 : BitVec 1 := Scalar.cmpi .slt v1198 c0_i32_676
  let c0_i32_677 : BitVec 32 := 0#32
  let v1201 : BitVec 1 := Scalar.cmpi .slt v1197 c0_i32_677
  let v1202 : BitVec 1 := Scalar.xori v1200 v1201
  let c0_i32_675 : BitVec 32 := 0#32
  let v1199 : BitVec 1 := Scalar.cmpi .ne v1198 c0_i32_675
  let v1203 : BitVec 1 := Scalar.andi v1202 v1199
  let v1204 : BitVec 32 := Scalar.addi v1198 v1197
  let v1205 : BitVec 32 := Scalar.select v1203 v1204 v1198
  let c2_i32_690 : BitVec 32 := 2#32
  let v1218 : BitVec 32 := Scalar.muli v1205 c2_i32_690
  let v1219 : BitVec 32 := Scalar.addi v1217 v1218
  let c2_i32_678 : BitVec 32 := 2#32
  let c0_i32_679 : BitVec 32 := 0#32
  let v1206 : BitVec 1 := Scalar.cmpi .eq c2_i32_678 c0_i32_679
  let c1_i32_680 : BitVec 32 := 1#32
  let v1207 : BitVec 32 := Scalar.select v1206 c1_i32_680 c2_i32_678
  let v1208 : BitVec 32 := Scalar.remsi v831 v1207
  let c0_i32_682 : BitVec 32 := 0#32
  let v1210 : BitVec 1 := Scalar.cmpi .slt v1208 c0_i32_682
  let c0_i32_683 : BitVec 32 := 0#32
  let v1211 : BitVec 1 := Scalar.cmpi .slt v1207 c0_i32_683
  let v1212 : BitVec 1 := Scalar.xori v1210 v1211
  let c0_i32_681 : BitVec 32 := 0#32
  let v1209 : BitVec 1 := Scalar.cmpi .ne v1208 c0_i32_681
  let v1213 : BitVec 1 := Scalar.andi v1212 v1209
  let v1214 : BitVec 32 := Scalar.addi v1208 v1207
  let v1215 : BitVec 32 := Scalar.select v1213 v1214 v1208
  let c1_i32_691 : BitVec 32 := 1#32
  let v1220 : BitVec 32 := Scalar.muli v1215 c1_i32_691
  let v1221 : BitVec 32 := Scalar.addi v1219 v1220
  v1221.toNat
def k0_dev19 (d0 : Dev nD) : Nat :=
  let c0_i32_727 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_697 : BitVec 32 := 0#32
  let v1230 : BitVec 1 := Scalar.cmpi .sgt v1228 c0_i32_697
  let v1231 : BitVec 32 := Scalar.extui v1230
  let c0_i32_698 : BitVec 32 := 0#32
  let v1232 : BitVec 1 := Scalar.cmpi .slt v1228 c0_i32_698
  let v1233 : BitVec 32 := Scalar.extui v1232
  let v1234 : BitVec 32 := Scalar.subi v1231 v1233
  let c4_i32_696 : BitVec 32 := 4#32
  let c0_i32_699 : BitVec 32 := 0#32
  let v1235 : BitVec 1 := Scalar.cmpi .sgt c4_i32_696 c0_i32_699
  let v1236 : BitVec 32 := Scalar.extui v1235
  let c0_i32_700 : BitVec 32 := 0#32
  let v1237 : BitVec 1 := Scalar.cmpi .slt c4_i32_696 c0_i32_700
  let v1238 : BitVec 32 := Scalar.extui v1237
  let v1239 : BitVec 32 := Scalar.subi v1236 v1238
  let v1240 : BitVec 1 := Scalar.cmpi .ne v1234 v1239
  let v1241 : BitVec 32 := Scalar.remsi v1228 c4_i32_696
  let c0_i32_701 : BitVec 32 := 0#32
  let v1242 : BitVec 1 := Scalar.cmpi .ne v1241 c0_i32_701
  let v1243 : BitVec 1 := Scalar.andi v1240 v1242
  let v1229 : BitVec 32 := Scalar.divsi v1228 c4_i32_696
  let c1_i32_702 : BitVec 32 := 1#32
  let v1244 : BitVec 32 := Scalar.subi v1229 c1_i32_702
  let v1245 : BitVec 32 := Scalar.select v1243 v1244 v1229
  let c4_i32_726 : BitVec 32 := 4#32
  let v1283 : BitVec 32 := Scalar.muli v1245 c4_i32_726
  let v1284 : BitVec 32 := Scalar.addi c0_i32_727 v1283
  let c0_i32_704 : BitVec 32 := 0#32
  let v1247 : BitVec 1 := Scalar.cmpi .sgt v1228 c0_i32_704
  let v1248 : BitVec 32 := Scalar.extui v1247
  let c0_i32_705 : BitVec 32 := 0#32
  let v1249 : BitVec 1 := Scalar.cmpi .slt v1228 c0_i32_705
  let v1250 : BitVec 32 := Scalar.extui v1249
  let v1251 : BitVec 32 := Scalar.subi v1248 v1250
  let c2_i32_703 : BitVec 32 := 2#32
  let c0_i32_706 : BitVec 32 := 0#32
  let v1252 : BitVec 1 := Scalar.cmpi .sgt c2_i32_703 c0_i32_706
  let v1253 : BitVec 32 := Scalar.extui v1252
  let c0_i32_707 : BitVec 32 := 0#32
  let v1254 : BitVec 1 := Scalar.cmpi .slt c2_i32_703 c0_i32_707
  let v1255 : BitVec 32 := Scalar.extui v1254
  let v1256 : BitVec 32 := Scalar.subi v1253 v1255
  let v1257 : BitVec 1 := Scalar.cmpi .ne v1251 v1256
  let v1258 : BitVec 32 := Scalar.remsi v1228 c2_i32_703
  let c0_i32_708 : BitVec 32 := 0#32
  let v1259 : BitVec 1 := Scalar.cmpi .ne v1258 c0_i32_708
  let v1260 : BitVec 1 := Scalar.andi v1257 v1259
  let v1246 : BitVec 32 := Scalar.divsi v1228 c2_i32_703
  let c1_i32_709 : BitVec 32 := 1#32
  let v1261 : BitVec 32 := Scalar.subi v1246 c1_i32_709
  let v1262 : BitVec 32 := Scalar.select v1260 v1261 v1246
  let c2_i32_710 : BitVec 32 := 2#32
  let c0_i32_711 : BitVec 32 := 0#32
  let v1263 : BitVec 1 := Scalar.cmpi .eq c2_i32_710 c0_i32_711
  let c1_i32_712 : BitVec 32 := 1#32
  let v1264 : BitVec 32 := Scalar.select v1263 c1_i32_712 c2_i32_710
  let v1265 : BitVec 32 := Scalar.remsi v1262 v1264
  let c0_i32_714 : BitVec 32 := 0#32
  let v1267 : BitVec 1 := Scalar.cmpi .slt v1265 c0_i32_714
  let c0_i32_715 : BitVec 32 := 0#32
  let v1268 : BitVec 1 := Scalar.cmpi .slt v1264 c0_i32_715
  let v1269 : BitVec 1 := Scalar.xori v1267 v1268
  let c0_i32_713 : BitVec 32 := 0#32
  let v1266 : BitVec 1 := Scalar.cmpi .ne v1265 c0_i32_713
  let v1270 : BitVec 1 := Scalar.andi v1269 v1266
  let v1271 : BitVec 32 := Scalar.addi v1265 v1264
  let v1272 : BitVec 32 := Scalar.select v1270 v1271 v1265
  let c2_i32_728 : BitVec 32 := 2#32
  let v1285 : BitVec 32 := Scalar.muli v1272 c2_i32_728
  let v1286 : BitVec 32 := Scalar.addi v1284 v1285
  let c2_i32_716 : BitVec 32 := 2#32
  let c0_i32_717 : BitVec 32 := 0#32
  let v1273 : BitVec 1 := Scalar.cmpi .eq c2_i32_716 c0_i32_717
  let c1_i32_718 : BitVec 32 := 1#32
  let v1274 : BitVec 32 := Scalar.select v1273 c1_i32_718 c2_i32_716
  let v1275 : BitVec 32 := Scalar.remsi v1228 v1274
  let c0_i32_720 : BitVec 32 := 0#32
  let v1277 : BitVec 1 := Scalar.cmpi .slt v1275 c0_i32_720
  let c0_i32_721 : BitVec 32 := 0#32
  let v1278 : BitVec 1 := Scalar.cmpi .slt v1274 c0_i32_721
  let v1279 : BitVec 1 := Scalar.xori v1277 v1278
  let c0_i32_719 : BitVec 32 := 0#32
  let v1276 : BitVec 1 := Scalar.cmpi .ne v1275 c0_i32_719
  let v1280 : BitVec 1 := Scalar.andi v1279 v1276
  let v1281 : BitVec 32 := Scalar.addi v1275 v1274
  let v1282 : BitVec 32 := Scalar.select v1280 v1281 v1275
  let c1_i32_729 : BitVec 32 := 1#32
  let v1287 : BitVec 32 := Scalar.muli v1282 c1_i32_729
  let v1288 : BitVec 32 := Scalar.addi v1286 v1287
  v1288.toNat
def k0_dev20 (d0 : Dev nD) : Nat :=
  let c0_i32_764 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_734 : BitVec 32 := 0#32
  let v1296 : BitVec 1 := Scalar.cmpi .sgt v1228 c0_i32_734
  let v1297 : BitVec 32 := Scalar.extui v1296
  let c0_i32_735 : BitVec 32 := 0#32
  let v1298 : BitVec 1 := Scalar.cmpi .slt v1228 c0_i32_735
  let v1299 : BitVec 32 := Scalar.extui v1298
  let v1300 : BitVec 32 := Scalar.subi v1297 v1299
  let c4_i32_733 : BitVec 32 := 4#32
  let c0_i32_736 : BitVec 32 := 0#32
  let v1301 : BitVec 1 := Scalar.cmpi .sgt c4_i32_733 c0_i32_736
  let v1302 : BitVec 32 := Scalar.extui v1301
  let c0_i32_737 : BitVec 32 := 0#32
  let v1303 : BitVec 1 := Scalar.cmpi .slt c4_i32_733 c0_i32_737
  let v1304 : BitVec 32 := Scalar.extui v1303
  let v1305 : BitVec 32 := Scalar.subi v1302 v1304
  let v1306 : BitVec 1 := Scalar.cmpi .ne v1300 v1305
  let v1307 : BitVec 32 := Scalar.remsi v1228 c4_i32_733
  let c0_i32_738 : BitVec 32 := 0#32
  let v1308 : BitVec 1 := Scalar.cmpi .ne v1307 c0_i32_738
  let v1309 : BitVec 1 := Scalar.andi v1306 v1308
  let v1295 : BitVec 32 := Scalar.divsi v1228 c4_i32_733
  let c1_i32_739 : BitVec 32 := 1#32
  let v1310 : BitVec 32 := Scalar.subi v1295 c1_i32_739
  let v1311 : BitVec 32 := Scalar.select v1309 v1310 v1295
  let c4_i32_763 : BitVec 32 := 4#32
  let v1349 : BitVec 32 := Scalar.muli v1311 c4_i32_763
  let v1350 : BitVec 32 := Scalar.addi c0_i32_764 v1349
  let c0_i32_741 : BitVec 32 := 0#32
  let v1313 : BitVec 1 := Scalar.cmpi .sgt v1228 c0_i32_741
  let v1314 : BitVec 32 := Scalar.extui v1313
  let c0_i32_742 : BitVec 32 := 0#32
  let v1315 : BitVec 1 := Scalar.cmpi .slt v1228 c0_i32_742
  let v1316 : BitVec 32 := Scalar.extui v1315
  let v1317 : BitVec 32 := Scalar.subi v1314 v1316
  let c2_i32_740 : BitVec 32 := 2#32
  let c0_i32_743 : BitVec 32 := 0#32
  let v1318 : BitVec 1 := Scalar.cmpi .sgt c2_i32_740 c0_i32_743
  let v1319 : BitVec 32 := Scalar.extui v1318
  let c0_i32_744 : BitVec 32 := 0#32
  let v1320 : BitVec 1 := Scalar.cmpi .slt c2_i32_740 c0_i32_744
  let v1321 : BitVec 32 := Scalar.extui v1320
  let v1322 : BitVec 32 := Scalar.subi v1319 v1321
  let v1323 : BitVec 1 := Scalar.cmpi .ne v1317 v1322
  let v1324 : BitVec 32 := Scalar.remsi v1228 c2_i32_740
  let c0_i32_745 : BitVec 32 := 0#32
  let v1325 : BitVec 1 := Scalar.cmpi .ne v1324 c0_i32_745
  let v1326 : BitVec 1 := Scalar.andi v1323 v1325
  let v1312 : BitVec 32 := Scalar.divsi v1228 c2_i32_740
  let c1_i32_746 : BitVec 32 := 1#32
  let v1327 : BitVec 32 := Scalar.subi v1312 c1_i32_746
  let v1328 : BitVec 32 := Scalar.select v1326 v1327 v1312
  let c2_i32_747 : BitVec 32 := 2#32
  let c0_i32_748 : BitVec 32 := 0#32
  let v1329 : BitVec 1 := Scalar.cmpi .eq c2_i32_747 c0_i32_748
  let c1_i32_749 : BitVec 32 := 1#32
  let v1330 : BitVec 32 := Scalar.select v1329 c1_i32_749 c2_i32_747
  let v1331 : BitVec 32 := Scalar.remsi v1328 v1330
  let c0_i32_751 : BitVec 32 := 0#32
  let v1333 : BitVec 1 := Scalar.cmpi .slt v1331 c0_i32_751
  let c0_i32_752 : BitVec 32 := 0#32
  let v1334 : BitVec 1 := Scalar.cmpi .slt v1330 c0_i32_752
  let v1335 : BitVec 1 := Scalar.xori v1333 v1334
  let c0_i32_750 : BitVec 32 := 0#32
  let v1332 : BitVec 1 := Scalar.cmpi .ne v1331 c0_i32_750
  let v1336 : BitVec 1 := Scalar.andi v1335 v1332
  let v1337 : BitVec 32 := Scalar.addi v1331 v1330
  let v1338 : BitVec 32 := Scalar.select v1336 v1337 v1331
  let c2_i32_765 : BitVec 32 := 2#32
  let v1351 : BitVec 32 := Scalar.muli v1338 c2_i32_765
  let v1352 : BitVec 32 := Scalar.addi v1350 v1351
  let c2_i32_753 : BitVec 32 := 2#32
  let c0_i32_754 : BitVec 32 := 0#32
  let v1339 : BitVec 1 := Scalar.cmpi .eq c2_i32_753 c0_i32_754
  let c1_i32_755 : BitVec 32 := 1#32
  let v1340 : BitVec 32 := Scalar.select v1339 c1_i32_755 c2_i32_753
  let v1341 : BitVec 32 := Scalar.remsi v1228 v1340
  let c0_i32_757 : BitVec 32 := 0#32
  let v1343 : BitVec 1 := Scalar.cmpi .slt v1341 c0_i32_757
  let c0_i32_758 : BitVec 32 := 0#32
  let v1344 : BitVec 1 := Scalar.cmpi .slt v1340 c0_i32_758
  let v1345 : BitVec 1 := Scalar.xori v1343 v1344
  let c0_i32_756 : BitVec 32 := 0#32
  let v1342 : BitVec 1 := Scalar.cmpi .ne v1341 c0_i32_756
  let v1346 : BitVec 1 := Scalar.andi v1345 v1342
  let v1347 : BitVec 32 := Scalar.addi v1341 v1340
  let v1348 : BitVec 32 := Scalar.select v1346 v1347 v1341
  let c1_i32_766 : BitVec 32 := 1#32
  let v1353 : BitVec 32 := Scalar.muli v1348 c1_i32_766
  let v1354 : BitVec 32 := Scalar.addi v1352 v1353
  v1354.toNat
def k0_dev21 (d0 : Dev nD) : Nat :=
  let c0_i32_801 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_771 : BitVec 32 := 0#32
  let v1362 : BitVec 1 := Scalar.cmpi .sgt v1228 c0_i32_771
  let v1363 : BitVec 32 := Scalar.extui v1362
  let c0_i32_772 : BitVec 32 := 0#32
  let v1364 : BitVec 1 := Scalar.cmpi .slt v1228 c0_i32_772
  let v1365 : BitVec 32 := Scalar.extui v1364
  let v1366 : BitVec 32 := Scalar.subi v1363 v1365
  let c4_i32_770 : BitVec 32 := 4#32
  let c0_i32_773 : BitVec 32 := 0#32
  let v1367 : BitVec 1 := Scalar.cmpi .sgt c4_i32_770 c0_i32_773
  let v1368 : BitVec 32 := Scalar.extui v1367
  let c0_i32_774 : BitVec 32 := 0#32
  let v1369 : BitVec 1 := Scalar.cmpi .slt c4_i32_770 c0_i32_774
  let v1370 : BitVec 32 := Scalar.extui v1369
  let v1371 : BitVec 32 := Scalar.subi v1368 v1370
  let v1372 : BitVec 1 := Scalar.cmpi .ne v1366 v1371
  let v1373 : BitVec 32 := Scalar.remsi v1228 c4_i32_770
  let c0_i32_775 : BitVec 32 := 0#32
  let v1374 : BitVec 1 := Scalar.cmpi .ne v1373 c0_i32_775
  let v1375 : BitVec 1 := Scalar.andi v1372 v1374
  let v1361 : BitVec 32 := Scalar.divsi v1228 c4_i32_770
  let c1_i32_776 : BitVec 32 := 1#32
  let v1376 : BitVec 32 := Scalar.subi v1361 c1_i32_776
  let v1377 : BitVec 32 := Scalar.select v1375 v1376 v1361
  let c4_i32_800 : BitVec 32 := 4#32
  let v1415 : BitVec 32 := Scalar.muli v1377 c4_i32_800
  let v1416 : BitVec 32 := Scalar.addi c0_i32_801 v1415
  let c0_i32_778 : BitVec 32 := 0#32
  let v1379 : BitVec 1 := Scalar.cmpi .sgt v1228 c0_i32_778
  let v1380 : BitVec 32 := Scalar.extui v1379
  let c0_i32_779 : BitVec 32 := 0#32
  let v1381 : BitVec 1 := Scalar.cmpi .slt v1228 c0_i32_779
  let v1382 : BitVec 32 := Scalar.extui v1381
  let v1383 : BitVec 32 := Scalar.subi v1380 v1382
  let c2_i32_777 : BitVec 32 := 2#32
  let c0_i32_780 : BitVec 32 := 0#32
  let v1384 : BitVec 1 := Scalar.cmpi .sgt c2_i32_777 c0_i32_780
  let v1385 : BitVec 32 := Scalar.extui v1384
  let c0_i32_781 : BitVec 32 := 0#32
  let v1386 : BitVec 1 := Scalar.cmpi .slt c2_i32_777 c0_i32_781
  let v1387 : BitVec 32 := Scalar.extui v1386
  let v1388 : BitVec 32 := Scalar.subi v1385 v1387
  let v1389 : BitVec 1 := Scalar.cmpi .ne v1383 v1388
  let v1390 : BitVec 32 := Scalar.remsi v1228 c2_i32_777
  let c0_i32_782 : BitVec 32 := 0#32
  let v1391 : BitVec 1 := Scalar.cmpi .ne v1390 c0_i32_782
  let v1392 : BitVec 1 := Scalar.andi v1389 v1391
  let v1378 : BitVec 32 := Scalar.divsi v1228 c2_i32_777
  let c1_i32_783 : BitVec 32 := 1#32
  let v1393 : BitVec 32 := Scalar.subi v1378 c1_i32_783
  let v1394 : BitVec 32 := Scalar.select v1392 v1393 v1378
  let c2_i32_784 : BitVec 32 := 2#32
  let c0_i32_785 : BitVec 32 := 0#32
  let v1395 : BitVec 1 := Scalar.cmpi .eq c2_i32_784 c0_i32_785
  let c1_i32_786 : BitVec 32 := 1#32
  let v1396 : BitVec 32 := Scalar.select v1395 c1_i32_786 c2_i32_784
  let v1397 : BitVec 32 := Scalar.remsi v1394 v1396
  let c0_i32_788 : BitVec 32 := 0#32
  let v1399 : BitVec 1 := Scalar.cmpi .slt v1397 c0_i32_788
  let c0_i32_789 : BitVec 32 := 0#32
  let v1400 : BitVec 1 := Scalar.cmpi .slt v1396 c0_i32_789
  let v1401 : BitVec 1 := Scalar.xori v1399 v1400
  let c0_i32_787 : BitVec 32 := 0#32
  let v1398 : BitVec 1 := Scalar.cmpi .ne v1397 c0_i32_787
  let v1402 : BitVec 1 := Scalar.andi v1401 v1398
  let v1403 : BitVec 32 := Scalar.addi v1397 v1396
  let v1404 : BitVec 32 := Scalar.select v1402 v1403 v1397
  let c2_i32_802 : BitVec 32 := 2#32
  let v1417 : BitVec 32 := Scalar.muli v1404 c2_i32_802
  let v1418 : BitVec 32 := Scalar.addi v1416 v1417
  let c2_i32_790 : BitVec 32 := 2#32
  let c0_i32_791 : BitVec 32 := 0#32
  let v1405 : BitVec 1 := Scalar.cmpi .eq c2_i32_790 c0_i32_791
  let c1_i32_792 : BitVec 32 := 1#32
  let v1406 : BitVec 32 := Scalar.select v1405 c1_i32_792 c2_i32_790
  let v1407 : BitVec 32 := Scalar.remsi v1228 v1406
  let c0_i32_794 : BitVec 32 := 0#32
  let v1409 : BitVec 1 := Scalar.cmpi .slt v1407 c0_i32_794
  let c0_i32_795 : BitVec 32 := 0#32
  let v1410 : BitVec 1 := Scalar.cmpi .slt v1406 c0_i32_795
  let v1411 : BitVec 1 := Scalar.xori v1409 v1410
  let c0_i32_793 : BitVec 32 := 0#32
  let v1408 : BitVec 1 := Scalar.cmpi .ne v1407 c0_i32_793
  let v1412 : BitVec 1 := Scalar.andi v1411 v1408
  let v1413 : BitVec 32 := Scalar.addi v1407 v1406
  let v1414 : BitVec 32 := Scalar.select v1412 v1413 v1407
  let c1_i32_803 : BitVec 32 := 1#32
  let v1419 : BitVec 32 := Scalar.muli v1414 c1_i32_803
  let v1420 : BitVec 32 := Scalar.addi v1418 v1419
  v1420.toNat
def k0_dev22 (d0 : Dev nD) : Nat :=
  let c0_i32_838 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_808 : BitVec 32 := 0#32
  let v1428 : BitVec 1 := Scalar.cmpi .sgt v1228 c0_i32_808
  let v1429 : BitVec 32 := Scalar.extui v1428
  let c0_i32_809 : BitVec 32 := 0#32
  let v1430 : BitVec 1 := Scalar.cmpi .slt v1228 c0_i32_809
  let v1431 : BitVec 32 := Scalar.extui v1430
  let v1432 : BitVec 32 := Scalar.subi v1429 v1431
  let c4_i32_807 : BitVec 32 := 4#32
  let c0_i32_810 : BitVec 32 := 0#32
  let v1433 : BitVec 1 := Scalar.cmpi .sgt c4_i32_807 c0_i32_810
  let v1434 : BitVec 32 := Scalar.extui v1433
  let c0_i32_811 : BitVec 32 := 0#32
  let v1435 : BitVec 1 := Scalar.cmpi .slt c4_i32_807 c0_i32_811
  let v1436 : BitVec 32 := Scalar.extui v1435
  let v1437 : BitVec 32 := Scalar.subi v1434 v1436
  let v1438 : BitVec 1 := Scalar.cmpi .ne v1432 v1437
  let v1439 : BitVec 32 := Scalar.remsi v1228 c4_i32_807
  let c0_i32_812 : BitVec 32 := 0#32
  let v1440 : BitVec 1 := Scalar.cmpi .ne v1439 c0_i32_812
  let v1441 : BitVec 1 := Scalar.andi v1438 v1440
  let v1427 : BitVec 32 := Scalar.divsi v1228 c4_i32_807
  let c1_i32_813 : BitVec 32 := 1#32
  let v1442 : BitVec 32 := Scalar.subi v1427 c1_i32_813
  let v1443 : BitVec 32 := Scalar.select v1441 v1442 v1427
  let c4_i32_837 : BitVec 32 := 4#32
  let v1481 : BitVec 32 := Scalar.muli v1443 c4_i32_837
  let v1482 : BitVec 32 := Scalar.addi c0_i32_838 v1481
  let c0_i32_815 : BitVec 32 := 0#32
  let v1445 : BitVec 1 := Scalar.cmpi .sgt v1228 c0_i32_815
  let v1446 : BitVec 32 := Scalar.extui v1445
  let c0_i32_816 : BitVec 32 := 0#32
  let v1447 : BitVec 1 := Scalar.cmpi .slt v1228 c0_i32_816
  let v1448 : BitVec 32 := Scalar.extui v1447
  let v1449 : BitVec 32 := Scalar.subi v1446 v1448
  let c2_i32_814 : BitVec 32 := 2#32
  let c0_i32_817 : BitVec 32 := 0#32
  let v1450 : BitVec 1 := Scalar.cmpi .sgt c2_i32_814 c0_i32_817
  let v1451 : BitVec 32 := Scalar.extui v1450
  let c0_i32_818 : BitVec 32 := 0#32
  let v1452 : BitVec 1 := Scalar.cmpi .slt c2_i32_814 c0_i32_818
  let v1453 : BitVec 32 := Scalar.extui v1452
  let v1454 : BitVec 32 := Scalar.subi v1451 v1453
  let v1455 : BitVec 1 := Scalar.cmpi .ne v1449 v1454
  let v1456 : BitVec 32 := Scalar.remsi v1228 c2_i32_814
  let c0_i32_819 : BitVec 32 := 0#32
  let v1457 : BitVec 1 := Scalar.cmpi .ne v1456 c0_i32_819
  let v1458 : BitVec 1 := Scalar.andi v1455 v1457
  let v1444 : BitVec 32 := Scalar.divsi v1228 c2_i32_814
  let c1_i32_820 : BitVec 32 := 1#32
  let v1459 : BitVec 32 := Scalar.subi v1444 c1_i32_820
  let v1460 : BitVec 32 := Scalar.select v1458 v1459 v1444
  let c2_i32_821 : BitVec 32 := 2#32
  let c0_i32_822 : BitVec 32 := 0#32
  let v1461 : BitVec 1 := Scalar.cmpi .eq c2_i32_821 c0_i32_822
  let c1_i32_823 : BitVec 32 := 1#32
  let v1462 : BitVec 32 := Scalar.select v1461 c1_i32_823 c2_i32_821
  let v1463 : BitVec 32 := Scalar.remsi v1460 v1462
  let c0_i32_825 : BitVec 32 := 0#32
  let v1465 : BitVec 1 := Scalar.cmpi .slt v1463 c0_i32_825
  let c0_i32_826 : BitVec 32 := 0#32
  let v1466 : BitVec 1 := Scalar.cmpi .slt v1462 c0_i32_826
  let v1467 : BitVec 1 := Scalar.xori v1465 v1466
  let c0_i32_824 : BitVec 32 := 0#32
  let v1464 : BitVec 1 := Scalar.cmpi .ne v1463 c0_i32_824
  let v1468 : BitVec 1 := Scalar.andi v1467 v1464
  let v1469 : BitVec 32 := Scalar.addi v1463 v1462
  let v1470 : BitVec 32 := Scalar.select v1468 v1469 v1463
  let c2_i32_839 : BitVec 32 := 2#32
  let v1483 : BitVec 32 := Scalar.muli v1470 c2_i32_839
  let v1484 : BitVec 32 := Scalar.addi v1482 v1483
  let c2_i32_827 : BitVec 32 := 2#32
  let c0_i32_828 : BitVec 32 := 0#32
  let v1471 : BitVec 1 := Scalar.cmpi .eq c2_i32_827 c0_i32_828
  let c1_i32_829 : BitVec 32 := 1#32
  let v1472 : BitVec 32 := Scalar.select v1471 c1_i32_829 c2_i32_827
  let v1473 : BitVec 32 := Scalar.remsi v1228 v1472
  let c0_i32_831 : BitVec 32 := 0#32
  let v1475 : BitVec 1 := Scalar.cmpi .slt v1473 c0_i32_831
  let c0_i32_832 : BitVec 32 := 0#32
  let v1476 : BitVec 1 := Scalar.cmpi .slt v1472 c0_i32_832
  let v1477 : BitVec 1 := Scalar.xori v1475 v1476
  let c0_i32_830 : BitVec 32 := 0#32
  let v1474 : BitVec 1 := Scalar.cmpi .ne v1473 c0_i32_830
  let v1478 : BitVec 1 := Scalar.andi v1477 v1474
  let v1479 : BitVec 32 := Scalar.addi v1473 v1472
  let v1480 : BitVec 32 := Scalar.select v1478 v1479 v1473
  let c1_i32_840 : BitVec 32 := 1#32
  let v1485 : BitVec 32 := Scalar.muli v1480 c1_i32_840
  let v1486 : BitVec 32 := Scalar.addi v1484 v1485
  v1486.toNat
def k0_dev23 (d0 : Dev nD) : Nat :=
  let c0_i32_875 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_845 : BitVec 32 := 0#32
  let v1494 : BitVec 1 := Scalar.cmpi .sgt v1228 c0_i32_845
  let v1495 : BitVec 32 := Scalar.extui v1494
  let c0_i32_846 : BitVec 32 := 0#32
  let v1496 : BitVec 1 := Scalar.cmpi .slt v1228 c0_i32_846
  let v1497 : BitVec 32 := Scalar.extui v1496
  let v1498 : BitVec 32 := Scalar.subi v1495 v1497
  let c4_i32_844 : BitVec 32 := 4#32
  let c0_i32_847 : BitVec 32 := 0#32
  let v1499 : BitVec 1 := Scalar.cmpi .sgt c4_i32_844 c0_i32_847
  let v1500 : BitVec 32 := Scalar.extui v1499
  let c0_i32_848 : BitVec 32 := 0#32
  let v1501 : BitVec 1 := Scalar.cmpi .slt c4_i32_844 c0_i32_848
  let v1502 : BitVec 32 := Scalar.extui v1501
  let v1503 : BitVec 32 := Scalar.subi v1500 v1502
  let v1504 : BitVec 1 := Scalar.cmpi .ne v1498 v1503
  let v1505 : BitVec 32 := Scalar.remsi v1228 c4_i32_844
  let c0_i32_849 : BitVec 32 := 0#32
  let v1506 : BitVec 1 := Scalar.cmpi .ne v1505 c0_i32_849
  let v1507 : BitVec 1 := Scalar.andi v1504 v1506
  let v1493 : BitVec 32 := Scalar.divsi v1228 c4_i32_844
  let c1_i32_850 : BitVec 32 := 1#32
  let v1508 : BitVec 32 := Scalar.subi v1493 c1_i32_850
  let v1509 : BitVec 32 := Scalar.select v1507 v1508 v1493
  let c4_i32_874 : BitVec 32 := 4#32
  let v1547 : BitVec 32 := Scalar.muli v1509 c4_i32_874
  let v1548 : BitVec 32 := Scalar.addi c0_i32_875 v1547
  let c0_i32_852 : BitVec 32 := 0#32
  let v1511 : BitVec 1 := Scalar.cmpi .sgt v1228 c0_i32_852
  let v1512 : BitVec 32 := Scalar.extui v1511
  let c0_i32_853 : BitVec 32 := 0#32
  let v1513 : BitVec 1 := Scalar.cmpi .slt v1228 c0_i32_853
  let v1514 : BitVec 32 := Scalar.extui v1513
  let v1515 : BitVec 32 := Scalar.subi v1512 v1514
  let c2_i32_851 : BitVec 32 := 2#32
  let c0_i32_854 : BitVec 32 := 0#32
  let v1516 : BitVec 1 := Scalar.cmpi .sgt c2_i32_851 c0_i32_854
  let v1517 : BitVec 32 := Scalar.extui v1516
  let c0_i32_855 : BitVec 32 := 0#32
  let v1518 : BitVec 1 := Scalar.cmpi .slt c2_i32_851 c0_i32_855
  let v1519 : BitVec 32 := Scalar.extui v1518
  let v1520 : BitVec 32 := Scalar.subi v1517 v1519
  let v1521 : BitVec 1 := Scalar.cmpi .ne v1515 v1520
  let v1522 : BitVec 32 := Scalar.remsi v1228 c2_i32_851
  let c0_i32_856 : BitVec 32 := 0#32
  let v1523 : BitVec 1 := Scalar.cmpi .ne v1522 c0_i32_856
  let v1524 : BitVec 1 := Scalar.andi v1521 v1523
  let v1510 : BitVec 32 := Scalar.divsi v1228 c2_i32_851
  let c1_i32_857 : BitVec 32 := 1#32
  let v1525 : BitVec 32 := Scalar.subi v1510 c1_i32_857
  let v1526 : BitVec 32 := Scalar.select v1524 v1525 v1510
  let c2_i32_858 : BitVec 32 := 2#32
  let c0_i32_859 : BitVec 32 := 0#32
  let v1527 : BitVec 1 := Scalar.cmpi .eq c2_i32_858 c0_i32_859
  let c1_i32_860 : BitVec 32 := 1#32
  let v1528 : BitVec 32 := Scalar.select v1527 c1_i32_860 c2_i32_858
  let v1529 : BitVec 32 := Scalar.remsi v1526 v1528
  let c0_i32_862 : BitVec 32 := 0#32
  let v1531 : BitVec 1 := Scalar.cmpi .slt v1529 c0_i32_862
  let c0_i32_863 : BitVec 32 := 0#32
  let v1532 : BitVec 1 := Scalar.cmpi .slt v1528 c0_i32_863
  let v1533 : BitVec 1 := Scalar.xori v1531 v1532
  let c0_i32_861 : BitVec 32 := 0#32
  let v1530 : BitVec 1 := Scalar.cmpi .ne v1529 c0_i32_861
  let v1534 : BitVec 1 := Scalar.andi v1533 v1530
  let v1535 : BitVec 32 := Scalar.addi v1529 v1528
  let v1536 : BitVec 32 := Scalar.select v1534 v1535 v1529
  let c2_i32_876 : BitVec 32 := 2#32
  let v1549 : BitVec 32 := Scalar.muli v1536 c2_i32_876
  let v1550 : BitVec 32 := Scalar.addi v1548 v1549
  let c2_i32_864 : BitVec 32 := 2#32
  let c0_i32_865 : BitVec 32 := 0#32
  let v1537 : BitVec 1 := Scalar.cmpi .eq c2_i32_864 c0_i32_865
  let c1_i32_866 : BitVec 32 := 1#32
  let v1538 : BitVec 32 := Scalar.select v1537 c1_i32_866 c2_i32_864
  let v1539 : BitVec 32 := Scalar.remsi v1228 v1538
  let c0_i32_868 : BitVec 32 := 0#32
  let v1541 : BitVec 1 := Scalar.cmpi .slt v1539 c0_i32_868
  let c0_i32_869 : BitVec 32 := 0#32
  let v1542 : BitVec 1 := Scalar.cmpi .slt v1538 c0_i32_869
  let v1543 : BitVec 1 := Scalar.xori v1541 v1542
  let c0_i32_867 : BitVec 32 := 0#32
  let v1540 : BitVec 1 := Scalar.cmpi .ne v1539 c0_i32_867
  let v1544 : BitVec 1 := Scalar.andi v1543 v1540
  let v1545 : BitVec 32 := Scalar.addi v1539 v1538
  let v1546 : BitVec 32 := Scalar.select v1544 v1545 v1539
  let c1_i32_877 : BitVec 32 := 1#32
  let v1551 : BitVec 32 := Scalar.muli v1546 c1_i32_877
  let v1552 : BitVec 32 := Scalar.addi v1550 v1551
  v1552.toNat
def k0_dev24 (d0 : Dev nD) : Nat :=
  let c0_i32_912 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_695 : BitVec 32 := 4#32
  let v1228 : BitVec 32 := Scalar.xori v12 c4_i32_695
  let c0_i32_882 : BitVec 32 := 0#32
  let v1560 : BitVec 1 := Scalar.cmpi .sgt v1228 c0_i32_882
  let v1561 : BitVec 32 := Scalar.extui v1560
  let c0_i32_883 : BitVec 32 := 0#32
  let v1562 : BitVec 1 := Scalar.cmpi .slt v1228 c0_i32_883
  let v1563 : BitVec 32 := Scalar.extui v1562
  let v1564 : BitVec 32 := Scalar.subi v1561 v1563
  let c4_i32_881 : BitVec 32 := 4#32
  let c0_i32_884 : BitVec 32 := 0#32
  let v1565 : BitVec 1 := Scalar.cmpi .sgt c4_i32_881 c0_i32_884
  let v1566 : BitVec 32 := Scalar.extui v1565
  let c0_i32_885 : BitVec 32 := 0#32
  let v1567 : BitVec 1 := Scalar.cmpi .slt c4_i32_881 c0_i32_885
  let v1568 : BitVec 32 := Scalar.extui v1567
  let v1569 : BitVec 32 := Scalar.subi v1566 v1568
  let v1570 : BitVec 1 := Scalar.cmpi .ne v1564 v1569
  let v1571 : BitVec 32 := Scalar.remsi v1228 c4_i32_881
  let c0_i32_886 : BitVec 32 := 0#32
  let v1572 : BitVec 1 := Scalar.cmpi .ne v1571 c0_i32_886
  let v1573 : BitVec 1 := Scalar.andi v1570 v1572
  let v1559 : BitVec 32 := Scalar.divsi v1228 c4_i32_881
  let c1_i32_887 : BitVec 32 := 1#32
  let v1574 : BitVec 32 := Scalar.subi v1559 c1_i32_887
  let v1575 : BitVec 32 := Scalar.select v1573 v1574 v1559
  let c4_i32_911 : BitVec 32 := 4#32
  let v1613 : BitVec 32 := Scalar.muli v1575 c4_i32_911
  let v1614 : BitVec 32 := Scalar.addi c0_i32_912 v1613
  let c0_i32_889 : BitVec 32 := 0#32
  let v1577 : BitVec 1 := Scalar.cmpi .sgt v1228 c0_i32_889
  let v1578 : BitVec 32 := Scalar.extui v1577
  let c0_i32_890 : BitVec 32 := 0#32
  let v1579 : BitVec 1 := Scalar.cmpi .slt v1228 c0_i32_890
  let v1580 : BitVec 32 := Scalar.extui v1579
  let v1581 : BitVec 32 := Scalar.subi v1578 v1580
  let c2_i32_888 : BitVec 32 := 2#32
  let c0_i32_891 : BitVec 32 := 0#32
  let v1582 : BitVec 1 := Scalar.cmpi .sgt c2_i32_888 c0_i32_891
  let v1583 : BitVec 32 := Scalar.extui v1582
  let c0_i32_892 : BitVec 32 := 0#32
  let v1584 : BitVec 1 := Scalar.cmpi .slt c2_i32_888 c0_i32_892
  let v1585 : BitVec 32 := Scalar.extui v1584
  let v1586 : BitVec 32 := Scalar.subi v1583 v1585
  let v1587 : BitVec 1 := Scalar.cmpi .ne v1581 v1586
  let v1588 : BitVec 32 := Scalar.remsi v1228 c2_i32_888
  let c0_i32_893 : BitVec 32 := 0#32
  let v1589 : BitVec 1 := Scalar.cmpi .ne v1588 c0_i32_893
  let v1590 : BitVec 1 := Scalar.andi v1587 v1589
  let v1576 : BitVec 32 := Scalar.divsi v1228 c2_i32_888
  let c1_i32_894 : BitVec 32 := 1#32
  let v1591 : BitVec 32 := Scalar.subi v1576 c1_i32_894
  let v1592 : BitVec 32 := Scalar.select v1590 v1591 v1576
  let c2_i32_895 : BitVec 32 := 2#32
  let c0_i32_896 : BitVec 32 := 0#32
  let v1593 : BitVec 1 := Scalar.cmpi .eq c2_i32_895 c0_i32_896
  let c1_i32_897 : BitVec 32 := 1#32
  let v1594 : BitVec 32 := Scalar.select v1593 c1_i32_897 c2_i32_895
  let v1595 : BitVec 32 := Scalar.remsi v1592 v1594
  let c0_i32_899 : BitVec 32 := 0#32
  let v1597 : BitVec 1 := Scalar.cmpi .slt v1595 c0_i32_899
  let c0_i32_900 : BitVec 32 := 0#32
  let v1598 : BitVec 1 := Scalar.cmpi .slt v1594 c0_i32_900
  let v1599 : BitVec 1 := Scalar.xori v1597 v1598
  let c0_i32_898 : BitVec 32 := 0#32
  let v1596 : BitVec 1 := Scalar.cmpi .ne v1595 c0_i32_898
  let v1600 : BitVec 1 := Scalar.andi v1599 v1596
  let v1601 : BitVec 32 := Scalar.addi v1595 v1594
  let v1602 : BitVec 32 := Scalar.select v1600 v1601 v1595
  let c2_i32_913 : BitVec 32 := 2#32
  let v1615 : BitVec 32 := Scalar.muli v1602 c2_i32_913
  let v1616 : BitVec 32 := Scalar.addi v1614 v1615
  let c2_i32_901 : BitVec 32 := 2#32
  let c0_i32_902 : BitVec 32 := 0#32
  let v1603 : BitVec 1 := Scalar.cmpi .eq c2_i32_901 c0_i32_902
  let c1_i32_903 : BitVec 32 := 1#32
  let v1604 : BitVec 32 := Scalar.select v1603 c1_i32_903 c2_i32_901
  let v1605 : BitVec 32 := Scalar.remsi v1228 v1604
  let c0_i32_905 : BitVec 32 := 0#32
  let v1607 : BitVec 1 := Scalar.cmpi .slt v1605 c0_i32_905
  let c0_i32_906 : BitVec 32 := 0#32
  let v1608 : BitVec 1 := Scalar.cmpi .slt v1604 c0_i32_906
  let v1609 : BitVec 1 := Scalar.xori v1607 v1608
  let c0_i32_904 : BitVec 32 := 0#32
  let v1606 : BitVec 1 := Scalar.cmpi .ne v1605 c0_i32_904
  let v1610 : BitVec 1 := Scalar.andi v1609 v1606
  let v1611 : BitVec 32 := Scalar.addi v1605 v1604
  let v1612 : BitVec 32 := Scalar.select v1610 v1611 v1605
  let c1_i32_914 : BitVec 32 := 1#32
  let v1617 : BitVec 32 := Scalar.muli v1612 c1_i32_914
  let v1618 : BitVec 32 := Scalar.addi v1616 v1617
  v1618.toNat
def k0_dev25 (d0 : Dev nD) : Nat :=
  let c0_i32_950 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_920 : BitVec 32 := 0#32
  let v1627 : BitVec 1 := Scalar.cmpi .sgt v1625 c0_i32_920
  let v1628 : BitVec 32 := Scalar.extui v1627
  let c0_i32_921 : BitVec 32 := 0#32
  let v1629 : BitVec 1 := Scalar.cmpi .slt v1625 c0_i32_921
  let v1630 : BitVec 32 := Scalar.extui v1629
  let v1631 : BitVec 32 := Scalar.subi v1628 v1630
  let c4_i32_919 : BitVec 32 := 4#32
  let c0_i32_922 : BitVec 32 := 0#32
  let v1632 : BitVec 1 := Scalar.cmpi .sgt c4_i32_919 c0_i32_922
  let v1633 : BitVec 32 := Scalar.extui v1632
  let c0_i32_923 : BitVec 32 := 0#32
  let v1634 : BitVec 1 := Scalar.cmpi .slt c4_i32_919 c0_i32_923
  let v1635 : BitVec 32 := Scalar.extui v1634
  let v1636 : BitVec 32 := Scalar.subi v1633 v1635
  let v1637 : BitVec 1 := Scalar.cmpi .ne v1631 v1636
  let v1638 : BitVec 32 := Scalar.remsi v1625 c4_i32_919
  let c0_i32_924 : BitVec 32 := 0#32
  let v1639 : BitVec 1 := Scalar.cmpi .ne v1638 c0_i32_924
  let v1640 : BitVec 1 := Scalar.andi v1637 v1639
  let v1626 : BitVec 32 := Scalar.divsi v1625 c4_i32_919
  let c1_i32_925 : BitVec 32 := 1#32
  let v1641 : BitVec 32 := Scalar.subi v1626 c1_i32_925
  let v1642 : BitVec 32 := Scalar.select v1640 v1641 v1626
  let c4_i32_949 : BitVec 32 := 4#32
  let v1680 : BitVec 32 := Scalar.muli v1642 c4_i32_949
  let v1681 : BitVec 32 := Scalar.addi c0_i32_950 v1680
  let c0_i32_927 : BitVec 32 := 0#32
  let v1644 : BitVec 1 := Scalar.cmpi .sgt v1625 c0_i32_927
  let v1645 : BitVec 32 := Scalar.extui v1644
  let c0_i32_928 : BitVec 32 := 0#32
  let v1646 : BitVec 1 := Scalar.cmpi .slt v1625 c0_i32_928
  let v1647 : BitVec 32 := Scalar.extui v1646
  let v1648 : BitVec 32 := Scalar.subi v1645 v1647
  let c2_i32_926 : BitVec 32 := 2#32
  let c0_i32_929 : BitVec 32 := 0#32
  let v1649 : BitVec 1 := Scalar.cmpi .sgt c2_i32_926 c0_i32_929
  let v1650 : BitVec 32 := Scalar.extui v1649
  let c0_i32_930 : BitVec 32 := 0#32
  let v1651 : BitVec 1 := Scalar.cmpi .slt c2_i32_926 c0_i32_930
  let v1652 : BitVec 32 := Scalar.extui v1651
  let v1653 : BitVec 32 := Scalar.subi v1650 v1652
  let v1654 : BitVec 1 := Scalar.cmpi .ne v1648 v1653
  let v1655 : BitVec 32 := Scalar.remsi v1625 c2_i32_926
  let c0_i32_931 : BitVec 32 := 0#32
  let v1656 : BitVec 1 := Scalar.cmpi .ne v1655 c0_i32_931
  let v1657 : BitVec 1 := Scalar.andi v1654 v1656
  let v1643 : BitVec 32 := Scalar.divsi v1625 c2_i32_926
  let c1_i32_932 : BitVec 32 := 1#32
  let v1658 : BitVec 32 := Scalar.subi v1643 c1_i32_932
  let v1659 : BitVec 32 := Scalar.select v1657 v1658 v1643
  let c2_i32_933 : BitVec 32 := 2#32
  let c0_i32_934 : BitVec 32 := 0#32
  let v1660 : BitVec 1 := Scalar.cmpi .eq c2_i32_933 c0_i32_934
  let c1_i32_935 : BitVec 32 := 1#32
  let v1661 : BitVec 32 := Scalar.select v1660 c1_i32_935 c2_i32_933
  let v1662 : BitVec 32 := Scalar.remsi v1659 v1661
  let c0_i32_937 : BitVec 32 := 0#32
  let v1664 : BitVec 1 := Scalar.cmpi .slt v1662 c0_i32_937
  let c0_i32_938 : BitVec 32 := 0#32
  let v1665 : BitVec 1 := Scalar.cmpi .slt v1661 c0_i32_938
  let v1666 : BitVec 1 := Scalar.xori v1664 v1665
  let c0_i32_936 : BitVec 32 := 0#32
  let v1663 : BitVec 1 := Scalar.cmpi .ne v1662 c0_i32_936
  let v1667 : BitVec 1 := Scalar.andi v1666 v1663
  let v1668 : BitVec 32 := Scalar.addi v1662 v1661
  let v1669 : BitVec 32 := Scalar.select v1667 v1668 v1662
  let c2_i32_951 : BitVec 32 := 2#32
  let v1682 : BitVec 32 := Scalar.muli v1669 c2_i32_951
  let v1683 : BitVec 32 := Scalar.addi v1681 v1682
  let c2_i32_939 : BitVec 32 := 2#32
  let c0_i32_940 : BitVec 32 := 0#32
  let v1670 : BitVec 1 := Scalar.cmpi .eq c2_i32_939 c0_i32_940
  let c1_i32_941 : BitVec 32 := 1#32
  let v1671 : BitVec 32 := Scalar.select v1670 c1_i32_941 c2_i32_939
  let v1672 : BitVec 32 := Scalar.remsi v1625 v1671
  let c0_i32_943 : BitVec 32 := 0#32
  let v1674 : BitVec 1 := Scalar.cmpi .slt v1672 c0_i32_943
  let c0_i32_944 : BitVec 32 := 0#32
  let v1675 : BitVec 1 := Scalar.cmpi .slt v1671 c0_i32_944
  let v1676 : BitVec 1 := Scalar.xori v1674 v1675
  let c0_i32_942 : BitVec 32 := 0#32
  let v1673 : BitVec 1 := Scalar.cmpi .ne v1672 c0_i32_942
  let v1677 : BitVec 1 := Scalar.andi v1676 v1673
  let v1678 : BitVec 32 := Scalar.addi v1672 v1671
  let v1679 : BitVec 32 := Scalar.select v1677 v1678 v1672
  let c1_i32_952 : BitVec 32 := 1#32
  let v1684 : BitVec 32 := Scalar.muli v1679 c1_i32_952
  let v1685 : BitVec 32 := Scalar.addi v1683 v1684
  v1685.toNat
def k0_dev26 (d0 : Dev nD) : Nat :=
  let c0_i32_987 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_957 : BitVec 32 := 0#32
  let v1693 : BitVec 1 := Scalar.cmpi .sgt v1625 c0_i32_957
  let v1694 : BitVec 32 := Scalar.extui v1693
  let c0_i32_958 : BitVec 32 := 0#32
  let v1695 : BitVec 1 := Scalar.cmpi .slt v1625 c0_i32_958
  let v1696 : BitVec 32 := Scalar.extui v1695
  let v1697 : BitVec 32 := Scalar.subi v1694 v1696
  let c4_i32_956 : BitVec 32 := 4#32
  let c0_i32_959 : BitVec 32 := 0#32
  let v1698 : BitVec 1 := Scalar.cmpi .sgt c4_i32_956 c0_i32_959
  let v1699 : BitVec 32 := Scalar.extui v1698
  let c0_i32_960 : BitVec 32 := 0#32
  let v1700 : BitVec 1 := Scalar.cmpi .slt c4_i32_956 c0_i32_960
  let v1701 : BitVec 32 := Scalar.extui v1700
  let v1702 : BitVec 32 := Scalar.subi v1699 v1701
  let v1703 : BitVec 1 := Scalar.cmpi .ne v1697 v1702
  let v1704 : BitVec 32 := Scalar.remsi v1625 c4_i32_956
  let c0_i32_961 : BitVec 32 := 0#32
  let v1705 : BitVec 1 := Scalar.cmpi .ne v1704 c0_i32_961
  let v1706 : BitVec 1 := Scalar.andi v1703 v1705
  let v1692 : BitVec 32 := Scalar.divsi v1625 c4_i32_956
  let c1_i32_962 : BitVec 32 := 1#32
  let v1707 : BitVec 32 := Scalar.subi v1692 c1_i32_962
  let v1708 : BitVec 32 := Scalar.select v1706 v1707 v1692
  let c4_i32_986 : BitVec 32 := 4#32
  let v1746 : BitVec 32 := Scalar.muli v1708 c4_i32_986
  let v1747 : BitVec 32 := Scalar.addi c0_i32_987 v1746
  let c0_i32_964 : BitVec 32 := 0#32
  let v1710 : BitVec 1 := Scalar.cmpi .sgt v1625 c0_i32_964
  let v1711 : BitVec 32 := Scalar.extui v1710
  let c0_i32_965 : BitVec 32 := 0#32
  let v1712 : BitVec 1 := Scalar.cmpi .slt v1625 c0_i32_965
  let v1713 : BitVec 32 := Scalar.extui v1712
  let v1714 : BitVec 32 := Scalar.subi v1711 v1713
  let c2_i32_963 : BitVec 32 := 2#32
  let c0_i32_966 : BitVec 32 := 0#32
  let v1715 : BitVec 1 := Scalar.cmpi .sgt c2_i32_963 c0_i32_966
  let v1716 : BitVec 32 := Scalar.extui v1715
  let c0_i32_967 : BitVec 32 := 0#32
  let v1717 : BitVec 1 := Scalar.cmpi .slt c2_i32_963 c0_i32_967
  let v1718 : BitVec 32 := Scalar.extui v1717
  let v1719 : BitVec 32 := Scalar.subi v1716 v1718
  let v1720 : BitVec 1 := Scalar.cmpi .ne v1714 v1719
  let v1721 : BitVec 32 := Scalar.remsi v1625 c2_i32_963
  let c0_i32_968 : BitVec 32 := 0#32
  let v1722 : BitVec 1 := Scalar.cmpi .ne v1721 c0_i32_968
  let v1723 : BitVec 1 := Scalar.andi v1720 v1722
  let v1709 : BitVec 32 := Scalar.divsi v1625 c2_i32_963
  let c1_i32_969 : BitVec 32 := 1#32
  let v1724 : BitVec 32 := Scalar.subi v1709 c1_i32_969
  let v1725 : BitVec 32 := Scalar.select v1723 v1724 v1709
  let c2_i32_970 : BitVec 32 := 2#32
  let c0_i32_971 : BitVec 32 := 0#32
  let v1726 : BitVec 1 := Scalar.cmpi .eq c2_i32_970 c0_i32_971
  let c1_i32_972 : BitVec 32 := 1#32
  let v1727 : BitVec 32 := Scalar.select v1726 c1_i32_972 c2_i32_970
  let v1728 : BitVec 32 := Scalar.remsi v1725 v1727
  let c0_i32_974 : BitVec 32 := 0#32
  let v1730 : BitVec 1 := Scalar.cmpi .slt v1728 c0_i32_974
  let c0_i32_975 : BitVec 32 := 0#32
  let v1731 : BitVec 1 := Scalar.cmpi .slt v1727 c0_i32_975
  let v1732 : BitVec 1 := Scalar.xori v1730 v1731
  let c0_i32_973 : BitVec 32 := 0#32
  let v1729 : BitVec 1 := Scalar.cmpi .ne v1728 c0_i32_973
  let v1733 : BitVec 1 := Scalar.andi v1732 v1729
  let v1734 : BitVec 32 := Scalar.addi v1728 v1727
  let v1735 : BitVec 32 := Scalar.select v1733 v1734 v1728
  let c2_i32_988 : BitVec 32 := 2#32
  let v1748 : BitVec 32 := Scalar.muli v1735 c2_i32_988
  let v1749 : BitVec 32 := Scalar.addi v1747 v1748
  let c2_i32_976 : BitVec 32 := 2#32
  let c0_i32_977 : BitVec 32 := 0#32
  let v1736 : BitVec 1 := Scalar.cmpi .eq c2_i32_976 c0_i32_977
  let c1_i32_978 : BitVec 32 := 1#32
  let v1737 : BitVec 32 := Scalar.select v1736 c1_i32_978 c2_i32_976
  let v1738 : BitVec 32 := Scalar.remsi v1625 v1737
  let c0_i32_980 : BitVec 32 := 0#32
  let v1740 : BitVec 1 := Scalar.cmpi .slt v1738 c0_i32_980
  let c0_i32_981 : BitVec 32 := 0#32
  let v1741 : BitVec 1 := Scalar.cmpi .slt v1737 c0_i32_981
  let v1742 : BitVec 1 := Scalar.xori v1740 v1741
  let c0_i32_979 : BitVec 32 := 0#32
  let v1739 : BitVec 1 := Scalar.cmpi .ne v1738 c0_i32_979
  let v1743 : BitVec 1 := Scalar.andi v1742 v1739
  let v1744 : BitVec 32 := Scalar.addi v1738 v1737
  let v1745 : BitVec 32 := Scalar.select v1743 v1744 v1738
  let c1_i32_989 : BitVec 32 := 1#32
  let v1750 : BitVec 32 := Scalar.muli v1745 c1_i32_989
  let v1751 : BitVec 32 := Scalar.addi v1749 v1750
  v1751.toNat
def k0_dev27 (d0 : Dev nD) : Nat :=
  let c0_i32_1024 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_994 : BitVec 32 := 0#32
  let v1759 : BitVec 1 := Scalar.cmpi .sgt v1625 c0_i32_994
  let v1760 : BitVec 32 := Scalar.extui v1759
  let c0_i32_995 : BitVec 32 := 0#32
  let v1761 : BitVec 1 := Scalar.cmpi .slt v1625 c0_i32_995
  let v1762 : BitVec 32 := Scalar.extui v1761
  let v1763 : BitVec 32 := Scalar.subi v1760 v1762
  let c4_i32_993 : BitVec 32 := 4#32
  let c0_i32_996 : BitVec 32 := 0#32
  let v1764 : BitVec 1 := Scalar.cmpi .sgt c4_i32_993 c0_i32_996
  let v1765 : BitVec 32 := Scalar.extui v1764
  let c0_i32_997 : BitVec 32 := 0#32
  let v1766 : BitVec 1 := Scalar.cmpi .slt c4_i32_993 c0_i32_997
  let v1767 : BitVec 32 := Scalar.extui v1766
  let v1768 : BitVec 32 := Scalar.subi v1765 v1767
  let v1769 : BitVec 1 := Scalar.cmpi .ne v1763 v1768
  let v1770 : BitVec 32 := Scalar.remsi v1625 c4_i32_993
  let c0_i32_998 : BitVec 32 := 0#32
  let v1771 : BitVec 1 := Scalar.cmpi .ne v1770 c0_i32_998
  let v1772 : BitVec 1 := Scalar.andi v1769 v1771
  let v1758 : BitVec 32 := Scalar.divsi v1625 c4_i32_993
  let c1_i32_999 : BitVec 32 := 1#32
  let v1773 : BitVec 32 := Scalar.subi v1758 c1_i32_999
  let v1774 : BitVec 32 := Scalar.select v1772 v1773 v1758
  let c4_i32_1023 : BitVec 32 := 4#32
  let v1812 : BitVec 32 := Scalar.muli v1774 c4_i32_1023
  let v1813 : BitVec 32 := Scalar.addi c0_i32_1024 v1812
  let c0_i32_1001 : BitVec 32 := 0#32
  let v1776 : BitVec 1 := Scalar.cmpi .sgt v1625 c0_i32_1001
  let v1777 : BitVec 32 := Scalar.extui v1776
  let c0_i32_1002 : BitVec 32 := 0#32
  let v1778 : BitVec 1 := Scalar.cmpi .slt v1625 c0_i32_1002
  let v1779 : BitVec 32 := Scalar.extui v1778
  let v1780 : BitVec 32 := Scalar.subi v1777 v1779
  let c2_i32_1000 : BitVec 32 := 2#32
  let c0_i32_1003 : BitVec 32 := 0#32
  let v1781 : BitVec 1 := Scalar.cmpi .sgt c2_i32_1000 c0_i32_1003
  let v1782 : BitVec 32 := Scalar.extui v1781
  let c0_i32_1004 : BitVec 32 := 0#32
  let v1783 : BitVec 1 := Scalar.cmpi .slt c2_i32_1000 c0_i32_1004
  let v1784 : BitVec 32 := Scalar.extui v1783
  let v1785 : BitVec 32 := Scalar.subi v1782 v1784
  let v1786 : BitVec 1 := Scalar.cmpi .ne v1780 v1785
  let v1787 : BitVec 32 := Scalar.remsi v1625 c2_i32_1000
  let c0_i32_1005 : BitVec 32 := 0#32
  let v1788 : BitVec 1 := Scalar.cmpi .ne v1787 c0_i32_1005
  let v1789 : BitVec 1 := Scalar.andi v1786 v1788
  let v1775 : BitVec 32 := Scalar.divsi v1625 c2_i32_1000
  let c1_i32_1006 : BitVec 32 := 1#32
  let v1790 : BitVec 32 := Scalar.subi v1775 c1_i32_1006
  let v1791 : BitVec 32 := Scalar.select v1789 v1790 v1775
  let c2_i32_1007 : BitVec 32 := 2#32
  let c0_i32_1008 : BitVec 32 := 0#32
  let v1792 : BitVec 1 := Scalar.cmpi .eq c2_i32_1007 c0_i32_1008
  let c1_i32_1009 : BitVec 32 := 1#32
  let v1793 : BitVec 32 := Scalar.select v1792 c1_i32_1009 c2_i32_1007
  let v1794 : BitVec 32 := Scalar.remsi v1791 v1793
  let c0_i32_1011 : BitVec 32 := 0#32
  let v1796 : BitVec 1 := Scalar.cmpi .slt v1794 c0_i32_1011
  let c0_i32_1012 : BitVec 32 := 0#32
  let v1797 : BitVec 1 := Scalar.cmpi .slt v1793 c0_i32_1012
  let v1798 : BitVec 1 := Scalar.xori v1796 v1797
  let c0_i32_1010 : BitVec 32 := 0#32
  let v1795 : BitVec 1 := Scalar.cmpi .ne v1794 c0_i32_1010
  let v1799 : BitVec 1 := Scalar.andi v1798 v1795
  let v1800 : BitVec 32 := Scalar.addi v1794 v1793
  let v1801 : BitVec 32 := Scalar.select v1799 v1800 v1794
  let c2_i32_1025 : BitVec 32 := 2#32
  let v1814 : BitVec 32 := Scalar.muli v1801 c2_i32_1025
  let v1815 : BitVec 32 := Scalar.addi v1813 v1814
  let c2_i32_1013 : BitVec 32 := 2#32
  let c0_i32_1014 : BitVec 32 := 0#32
  let v1802 : BitVec 1 := Scalar.cmpi .eq c2_i32_1013 c0_i32_1014
  let c1_i32_1015 : BitVec 32 := 1#32
  let v1803 : BitVec 32 := Scalar.select v1802 c1_i32_1015 c2_i32_1013
  let v1804 : BitVec 32 := Scalar.remsi v1625 v1803
  let c0_i32_1017 : BitVec 32 := 0#32
  let v1806 : BitVec 1 := Scalar.cmpi .slt v1804 c0_i32_1017
  let c0_i32_1018 : BitVec 32 := 0#32
  let v1807 : BitVec 1 := Scalar.cmpi .slt v1803 c0_i32_1018
  let v1808 : BitVec 1 := Scalar.xori v1806 v1807
  let c0_i32_1016 : BitVec 32 := 0#32
  let v1805 : BitVec 1 := Scalar.cmpi .ne v1804 c0_i32_1016
  let v1809 : BitVec 1 := Scalar.andi v1808 v1805
  let v1810 : BitVec 32 := Scalar.addi v1804 v1803
  let v1811 : BitVec 32 := Scalar.select v1809 v1810 v1804
  let c1_i32_1026 : BitVec 32 := 1#32
  let v1816 : BitVec 32 := Scalar.muli v1811 c1_i32_1026
  let v1817 : BitVec 32 := Scalar.addi v1815 v1816
  v1817.toNat
def k0_dev28 (d0 : Dev nD) : Nat :=
  let c0_i32_1061 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1031 : BitVec 32 := 0#32
  let v1825 : BitVec 1 := Scalar.cmpi .sgt v1625 c0_i32_1031
  let v1826 : BitVec 32 := Scalar.extui v1825
  let c0_i32_1032 : BitVec 32 := 0#32
  let v1827 : BitVec 1 := Scalar.cmpi .slt v1625 c0_i32_1032
  let v1828 : BitVec 32 := Scalar.extui v1827
  let v1829 : BitVec 32 := Scalar.subi v1826 v1828
  let c4_i32_1030 : BitVec 32 := 4#32
  let c0_i32_1033 : BitVec 32 := 0#32
  let v1830 : BitVec 1 := Scalar.cmpi .sgt c4_i32_1030 c0_i32_1033
  let v1831 : BitVec 32 := Scalar.extui v1830
  let c0_i32_1034 : BitVec 32 := 0#32
  let v1832 : BitVec 1 := Scalar.cmpi .slt c4_i32_1030 c0_i32_1034
  let v1833 : BitVec 32 := Scalar.extui v1832
  let v1834 : BitVec 32 := Scalar.subi v1831 v1833
  let v1835 : BitVec 1 := Scalar.cmpi .ne v1829 v1834
  let v1836 : BitVec 32 := Scalar.remsi v1625 c4_i32_1030
  let c0_i32_1035 : BitVec 32 := 0#32
  let v1837 : BitVec 1 := Scalar.cmpi .ne v1836 c0_i32_1035
  let v1838 : BitVec 1 := Scalar.andi v1835 v1837
  let v1824 : BitVec 32 := Scalar.divsi v1625 c4_i32_1030
  let c1_i32_1036 : BitVec 32 := 1#32
  let v1839 : BitVec 32 := Scalar.subi v1824 c1_i32_1036
  let v1840 : BitVec 32 := Scalar.select v1838 v1839 v1824
  let c4_i32_1060 : BitVec 32 := 4#32
  let v1878 : BitVec 32 := Scalar.muli v1840 c4_i32_1060
  let v1879 : BitVec 32 := Scalar.addi c0_i32_1061 v1878
  let c0_i32_1038 : BitVec 32 := 0#32
  let v1842 : BitVec 1 := Scalar.cmpi .sgt v1625 c0_i32_1038
  let v1843 : BitVec 32 := Scalar.extui v1842
  let c0_i32_1039 : BitVec 32 := 0#32
  let v1844 : BitVec 1 := Scalar.cmpi .slt v1625 c0_i32_1039
  let v1845 : BitVec 32 := Scalar.extui v1844
  let v1846 : BitVec 32 := Scalar.subi v1843 v1845
  let c2_i32_1037 : BitVec 32 := 2#32
  let c0_i32_1040 : BitVec 32 := 0#32
  let v1847 : BitVec 1 := Scalar.cmpi .sgt c2_i32_1037 c0_i32_1040
  let v1848 : BitVec 32 := Scalar.extui v1847
  let c0_i32_1041 : BitVec 32 := 0#32
  let v1849 : BitVec 1 := Scalar.cmpi .slt c2_i32_1037 c0_i32_1041
  let v1850 : BitVec 32 := Scalar.extui v1849
  let v1851 : BitVec 32 := Scalar.subi v1848 v1850
  let v1852 : BitVec 1 := Scalar.cmpi .ne v1846 v1851
  let v1853 : BitVec 32 := Scalar.remsi v1625 c2_i32_1037
  let c0_i32_1042 : BitVec 32 := 0#32
  let v1854 : BitVec 1 := Scalar.cmpi .ne v1853 c0_i32_1042
  let v1855 : BitVec 1 := Scalar.andi v1852 v1854
  let v1841 : BitVec 32 := Scalar.divsi v1625 c2_i32_1037
  let c1_i32_1043 : BitVec 32 := 1#32
  let v1856 : BitVec 32 := Scalar.subi v1841 c1_i32_1043
  let v1857 : BitVec 32 := Scalar.select v1855 v1856 v1841
  let c2_i32_1044 : BitVec 32 := 2#32
  let c0_i32_1045 : BitVec 32 := 0#32
  let v1858 : BitVec 1 := Scalar.cmpi .eq c2_i32_1044 c0_i32_1045
  let c1_i32_1046 : BitVec 32 := 1#32
  let v1859 : BitVec 32 := Scalar.select v1858 c1_i32_1046 c2_i32_1044
  let v1860 : BitVec 32 := Scalar.remsi v1857 v1859
  let c0_i32_1048 : BitVec 32 := 0#32
  let v1862 : BitVec 1 := Scalar.cmpi .slt v1860 c0_i32_1048
  let c0_i32_1049 : BitVec 32 := 0#32
  let v1863 : BitVec 1 := Scalar.cmpi .slt v1859 c0_i32_1049
  let v1864 : BitVec 1 := Scalar.xori v1862 v1863
  let c0_i32_1047 : BitVec 32 := 0#32
  let v1861 : BitVec 1 := Scalar.cmpi .ne v1860 c0_i32_1047
  let v1865 : BitVec 1 := Scalar.andi v1864 v1861
  let v1866 : BitVec 32 := Scalar.addi v1860 v1859
  let v1867 : BitVec 32 := Scalar.select v1865 v1866 v1860
  let c2_i32_1062 : BitVec 32 := 2#32
  let v1880 : BitVec 32 := Scalar.muli v1867 c2_i32_1062
  let v1881 : BitVec 32 := Scalar.addi v1879 v1880
  let c2_i32_1050 : BitVec 32 := 2#32
  let c0_i32_1051 : BitVec 32 := 0#32
  let v1868 : BitVec 1 := Scalar.cmpi .eq c2_i32_1050 c0_i32_1051
  let c1_i32_1052 : BitVec 32 := 1#32
  let v1869 : BitVec 32 := Scalar.select v1868 c1_i32_1052 c2_i32_1050
  let v1870 : BitVec 32 := Scalar.remsi v1625 v1869
  let c0_i32_1054 : BitVec 32 := 0#32
  let v1872 : BitVec 1 := Scalar.cmpi .slt v1870 c0_i32_1054
  let c0_i32_1055 : BitVec 32 := 0#32
  let v1873 : BitVec 1 := Scalar.cmpi .slt v1869 c0_i32_1055
  let v1874 : BitVec 1 := Scalar.xori v1872 v1873
  let c0_i32_1053 : BitVec 32 := 0#32
  let v1871 : BitVec 1 := Scalar.cmpi .ne v1870 c0_i32_1053
  let v1875 : BitVec 1 := Scalar.andi v1874 v1871
  let v1876 : BitVec 32 := Scalar.addi v1870 v1869
  let v1877 : BitVec 32 := Scalar.select v1875 v1876 v1870
  let c1_i32_1063 : BitVec 32 := 1#32
  let v1882 : BitVec 32 := Scalar.muli v1877 c1_i32_1063
  let v1883 : BitVec 32 := Scalar.addi v1881 v1882
  v1883.toNat
def k0_dev29 (d0 : Dev nD) : Nat :=
  let c0_i32_1098 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1068 : BitVec 32 := 0#32
  let v1891 : BitVec 1 := Scalar.cmpi .sgt v1625 c0_i32_1068
  let v1892 : BitVec 32 := Scalar.extui v1891
  let c0_i32_1069 : BitVec 32 := 0#32
  let v1893 : BitVec 1 := Scalar.cmpi .slt v1625 c0_i32_1069
  let v1894 : BitVec 32 := Scalar.extui v1893
  let v1895 : BitVec 32 := Scalar.subi v1892 v1894
  let c4_i32_1067 : BitVec 32 := 4#32
  let c0_i32_1070 : BitVec 32 := 0#32
  let v1896 : BitVec 1 := Scalar.cmpi .sgt c4_i32_1067 c0_i32_1070
  let v1897 : BitVec 32 := Scalar.extui v1896
  let c0_i32_1071 : BitVec 32 := 0#32
  let v1898 : BitVec 1 := Scalar.cmpi .slt c4_i32_1067 c0_i32_1071
  let v1899 : BitVec 32 := Scalar.extui v1898
  let v1900 : BitVec 32 := Scalar.subi v1897 v1899
  let v1901 : BitVec 1 := Scalar.cmpi .ne v1895 v1900
  let v1902 : BitVec 32 := Scalar.remsi v1625 c4_i32_1067
  let c0_i32_1072 : BitVec 32 := 0#32
  let v1903 : BitVec 1 := Scalar.cmpi .ne v1902 c0_i32_1072
  let v1904 : BitVec 1 := Scalar.andi v1901 v1903
  let v1890 : BitVec 32 := Scalar.divsi v1625 c4_i32_1067
  let c1_i32_1073 : BitVec 32 := 1#32
  let v1905 : BitVec 32 := Scalar.subi v1890 c1_i32_1073
  let v1906 : BitVec 32 := Scalar.select v1904 v1905 v1890
  let c4_i32_1097 : BitVec 32 := 4#32
  let v1944 : BitVec 32 := Scalar.muli v1906 c4_i32_1097
  let v1945 : BitVec 32 := Scalar.addi c0_i32_1098 v1944
  let c0_i32_1075 : BitVec 32 := 0#32
  let v1908 : BitVec 1 := Scalar.cmpi .sgt v1625 c0_i32_1075
  let v1909 : BitVec 32 := Scalar.extui v1908
  let c0_i32_1076 : BitVec 32 := 0#32
  let v1910 : BitVec 1 := Scalar.cmpi .slt v1625 c0_i32_1076
  let v1911 : BitVec 32 := Scalar.extui v1910
  let v1912 : BitVec 32 := Scalar.subi v1909 v1911
  let c2_i32_1074 : BitVec 32 := 2#32
  let c0_i32_1077 : BitVec 32 := 0#32
  let v1913 : BitVec 1 := Scalar.cmpi .sgt c2_i32_1074 c0_i32_1077
  let v1914 : BitVec 32 := Scalar.extui v1913
  let c0_i32_1078 : BitVec 32 := 0#32
  let v1915 : BitVec 1 := Scalar.cmpi .slt c2_i32_1074 c0_i32_1078
  let v1916 : BitVec 32 := Scalar.extui v1915
  let v1917 : BitVec 32 := Scalar.subi v1914 v1916
  let v1918 : BitVec 1 := Scalar.cmpi .ne v1912 v1917
  let v1919 : BitVec 32 := Scalar.remsi v1625 c2_i32_1074
  let c0_i32_1079 : BitVec 32 := 0#32
  let v1920 : BitVec 1 := Scalar.cmpi .ne v1919 c0_i32_1079
  let v1921 : BitVec 1 := Scalar.andi v1918 v1920
  let v1907 : BitVec 32 := Scalar.divsi v1625 c2_i32_1074
  let c1_i32_1080 : BitVec 32 := 1#32
  let v1922 : BitVec 32 := Scalar.subi v1907 c1_i32_1080
  let v1923 : BitVec 32 := Scalar.select v1921 v1922 v1907
  let c2_i32_1081 : BitVec 32 := 2#32
  let c0_i32_1082 : BitVec 32 := 0#32
  let v1924 : BitVec 1 := Scalar.cmpi .eq c2_i32_1081 c0_i32_1082
  let c1_i32_1083 : BitVec 32 := 1#32
  let v1925 : BitVec 32 := Scalar.select v1924 c1_i32_1083 c2_i32_1081
  let v1926 : BitVec 32 := Scalar.remsi v1923 v1925
  let c0_i32_1085 : BitVec 32 := 0#32
  let v1928 : BitVec 1 := Scalar.cmpi .slt v1926 c0_i32_1085
  let c0_i32_1086 : BitVec 32 := 0#32
  let v1929 : BitVec 1 := Scalar.cmpi .slt v1925 c0_i32_1086
  let v1930 : BitVec 1 := Scalar.xori v1928 v1929
  let c0_i32_1084 : BitVec 32 := 0#32
  let v1927 : BitVec 1 := Scalar.cmpi .ne v1926 c0_i32_1084
  let v1931 : BitVec 1 := Scalar.andi v1930 v1927
  let v1932 : BitVec 32 := Scalar.addi v1926 v1925
  let v1933 : BitVec 32 := Scalar.select v1931 v1932 v1926
  let c2_i32_1099 : BitVec 32 := 2#32
  let v1946 : BitVec 32 := Scalar.muli v1933 c2_i32_1099
  let v1947 : BitVec 32 := Scalar.addi v1945 v1946
  let c2_i32_1087 : BitVec 32 := 2#32
  let c0_i32_1088 : BitVec 32 := 0#32
  let v1934 : BitVec 1 := Scalar.cmpi .eq c2_i32_1087 c0_i32_1088
  let c1_i32_1089 : BitVec 32 := 1#32
  let v1935 : BitVec 32 := Scalar.select v1934 c1_i32_1089 c2_i32_1087
  let v1936 : BitVec 32 := Scalar.remsi v1625 v1935
  let c0_i32_1091 : BitVec 32 := 0#32
  let v1938 : BitVec 1 := Scalar.cmpi .slt v1936 c0_i32_1091
  let c0_i32_1092 : BitVec 32 := 0#32
  let v1939 : BitVec 1 := Scalar.cmpi .slt v1935 c0_i32_1092
  let v1940 : BitVec 1 := Scalar.xori v1938 v1939
  let c0_i32_1090 : BitVec 32 := 0#32
  let v1937 : BitVec 1 := Scalar.cmpi .ne v1936 c0_i32_1090
  let v1941 : BitVec 1 := Scalar.andi v1940 v1937
  let v1942 : BitVec 32 := Scalar.addi v1936 v1935
  let v1943 : BitVec 32 := Scalar.select v1941 v1942 v1936
  let c1_i32_1100 : BitVec 32 := 1#32
  let v1948 : BitVec 32 := Scalar.muli v1943 c1_i32_1100
  let v1949 : BitVec 32 := Scalar.addi v1947 v1948
  v1949.toNat
def k0_dev30 (d0 : Dev nD) : Nat :=
  let c0_i32_1135 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_918 : BitVec 32 := 5#32
  let v1625 : BitVec 32 := Scalar.xori v12 c5_i32_918
  let c0_i32_1105 : BitVec 32 := 0#32
  let v1957 : BitVec 1 := Scalar.cmpi .sgt v1625 c0_i32_1105
  let v1958 : BitVec 32 := Scalar.extui v1957
  let c0_i32_1106 : BitVec 32 := 0#32
  let v1959 : BitVec 1 := Scalar.cmpi .slt v1625 c0_i32_1106
  let v1960 : BitVec 32 := Scalar.extui v1959
  let v1961 : BitVec 32 := Scalar.subi v1958 v1960
  let c4_i32_1104 : BitVec 32 := 4#32
  let c0_i32_1107 : BitVec 32 := 0#32
  let v1962 : BitVec 1 := Scalar.cmpi .sgt c4_i32_1104 c0_i32_1107
  let v1963 : BitVec 32 := Scalar.extui v1962
  let c0_i32_1108 : BitVec 32 := 0#32
  let v1964 : BitVec 1 := Scalar.cmpi .slt c4_i32_1104 c0_i32_1108
  let v1965 : BitVec 32 := Scalar.extui v1964
  let v1966 : BitVec 32 := Scalar.subi v1963 v1965
  let v1967 : BitVec 1 := Scalar.cmpi .ne v1961 v1966
  let v1968 : BitVec 32 := Scalar.remsi v1625 c4_i32_1104
  let c0_i32_1109 : BitVec 32 := 0#32
  let v1969 : BitVec 1 := Scalar.cmpi .ne v1968 c0_i32_1109
  let v1970 : BitVec 1 := Scalar.andi v1967 v1969
  let v1956 : BitVec 32 := Scalar.divsi v1625 c4_i32_1104
  let c1_i32_1110 : BitVec 32 := 1#32
  let v1971 : BitVec 32 := Scalar.subi v1956 c1_i32_1110
  let v1972 : BitVec 32 := Scalar.select v1970 v1971 v1956
  let c4_i32_1134 : BitVec 32 := 4#32
  let v2010 : BitVec 32 := Scalar.muli v1972 c4_i32_1134
  let v2011 : BitVec 32 := Scalar.addi c0_i32_1135 v2010
  let c0_i32_1112 : BitVec 32 := 0#32
  let v1974 : BitVec 1 := Scalar.cmpi .sgt v1625 c0_i32_1112
  let v1975 : BitVec 32 := Scalar.extui v1974
  let c0_i32_1113 : BitVec 32 := 0#32
  let v1976 : BitVec 1 := Scalar.cmpi .slt v1625 c0_i32_1113
  let v1977 : BitVec 32 := Scalar.extui v1976
  let v1978 : BitVec 32 := Scalar.subi v1975 v1977
  let c2_i32_1111 : BitVec 32 := 2#32
  let c0_i32_1114 : BitVec 32 := 0#32
  let v1979 : BitVec 1 := Scalar.cmpi .sgt c2_i32_1111 c0_i32_1114
  let v1980 : BitVec 32 := Scalar.extui v1979
  let c0_i32_1115 : BitVec 32 := 0#32
  let v1981 : BitVec 1 := Scalar.cmpi .slt c2_i32_1111 c0_i32_1115
  let v1982 : BitVec 32 := Scalar.extui v1981
  let v1983 : BitVec 32 := Scalar.subi v1980 v1982
  let v1984 : BitVec 1 := Scalar.cmpi .ne v1978 v1983
  let v1985 : BitVec 32 := Scalar.remsi v1625 c2_i32_1111
  let c0_i32_1116 : BitVec 32 := 0#32
  let v1986 : BitVec 1 := Scalar.cmpi .ne v1985 c0_i32_1116
  let v1987 : BitVec 1 := Scalar.andi v1984 v1986
  let v1973 : BitVec 32 := Scalar.divsi v1625 c2_i32_1111
  let c1_i32_1117 : BitVec 32 := 1#32
  let v1988 : BitVec 32 := Scalar.subi v1973 c1_i32_1117
  let v1989 : BitVec 32 := Scalar.select v1987 v1988 v1973
  let c2_i32_1118 : BitVec 32 := 2#32
  let c0_i32_1119 : BitVec 32 := 0#32
  let v1990 : BitVec 1 := Scalar.cmpi .eq c2_i32_1118 c0_i32_1119
  let c1_i32_1120 : BitVec 32 := 1#32
  let v1991 : BitVec 32 := Scalar.select v1990 c1_i32_1120 c2_i32_1118
  let v1992 : BitVec 32 := Scalar.remsi v1989 v1991
  let c0_i32_1122 : BitVec 32 := 0#32
  let v1994 : BitVec 1 := Scalar.cmpi .slt v1992 c0_i32_1122
  let c0_i32_1123 : BitVec 32 := 0#32
  let v1995 : BitVec 1 := Scalar.cmpi .slt v1991 c0_i32_1123
  let v1996 : BitVec 1 := Scalar.xori v1994 v1995
  let c0_i32_1121 : BitVec 32 := 0#32
  let v1993 : BitVec 1 := Scalar.cmpi .ne v1992 c0_i32_1121
  let v1997 : BitVec 1 := Scalar.andi v1996 v1993
  let v1998 : BitVec 32 := Scalar.addi v1992 v1991
  let v1999 : BitVec 32 := Scalar.select v1997 v1998 v1992
  let c2_i32_1136 : BitVec 32 := 2#32
  let v2012 : BitVec 32 := Scalar.muli v1999 c2_i32_1136
  let v2013 : BitVec 32 := Scalar.addi v2011 v2012
  let c2_i32_1124 : BitVec 32 := 2#32
  let c0_i32_1125 : BitVec 32 := 0#32
  let v2000 : BitVec 1 := Scalar.cmpi .eq c2_i32_1124 c0_i32_1125
  let c1_i32_1126 : BitVec 32 := 1#32
  let v2001 : BitVec 32 := Scalar.select v2000 c1_i32_1126 c2_i32_1124
  let v2002 : BitVec 32 := Scalar.remsi v1625 v2001
  let c0_i32_1128 : BitVec 32 := 0#32
  let v2004 : BitVec 1 := Scalar.cmpi .slt v2002 c0_i32_1128
  let c0_i32_1129 : BitVec 32 := 0#32
  let v2005 : BitVec 1 := Scalar.cmpi .slt v2001 c0_i32_1129
  let v2006 : BitVec 1 := Scalar.xori v2004 v2005
  let c0_i32_1127 : BitVec 32 := 0#32
  let v2003 : BitVec 1 := Scalar.cmpi .ne v2002 c0_i32_1127
  let v2007 : BitVec 1 := Scalar.andi v2006 v2003
  let v2008 : BitVec 32 := Scalar.addi v2002 v2001
  let v2009 : BitVec 32 := Scalar.select v2007 v2008 v2002
  let c1_i32_1137 : BitVec 32 := 1#32
  let v2014 : BitVec 32 := Scalar.muli v2009 c1_i32_1137
  let v2015 : BitVec 32 := Scalar.addi v2013 v2014
  v2015.toNat
def k0_dev31 (d0 : Dev nD) : Nat :=
  let c0_i32_1172 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1142 : BitVec 32 := 0#32
  let v2024 : BitVec 1 := Scalar.cmpi .sgt v2022 c0_i32_1142
  let v2025 : BitVec 32 := Scalar.extui v2024
  let c0_i32_1143 : BitVec 32 := 0#32
  let v2026 : BitVec 1 := Scalar.cmpi .slt v2022 c0_i32_1143
  let v2027 : BitVec 32 := Scalar.extui v2026
  let v2028 : BitVec 32 := Scalar.subi v2025 v2027
  let c4_i32_1141 : BitVec 32 := 4#32
  let c0_i32_1144 : BitVec 32 := 0#32
  let v2029 : BitVec 1 := Scalar.cmpi .sgt c4_i32_1141 c0_i32_1144
  let v2030 : BitVec 32 := Scalar.extui v2029
  let c0_i32_1145 : BitVec 32 := 0#32
  let v2031 : BitVec 1 := Scalar.cmpi .slt c4_i32_1141 c0_i32_1145
  let v2032 : BitVec 32 := Scalar.extui v2031
  let v2033 : BitVec 32 := Scalar.subi v2030 v2032
  let v2034 : BitVec 1 := Scalar.cmpi .ne v2028 v2033
  let v2035 : BitVec 32 := Scalar.remsi v2022 c4_i32_1141
  let c0_i32_1146 : BitVec 32 := 0#32
  let v2036 : BitVec 1 := Scalar.cmpi .ne v2035 c0_i32_1146
  let v2037 : BitVec 1 := Scalar.andi v2034 v2036
  let v2023 : BitVec 32 := Scalar.divsi v2022 c4_i32_1141
  let c1_i32_1147 : BitVec 32 := 1#32
  let v2038 : BitVec 32 := Scalar.subi v2023 c1_i32_1147
  let v2039 : BitVec 32 := Scalar.select v2037 v2038 v2023
  let c4_i32_1171 : BitVec 32 := 4#32
  let v2077 : BitVec 32 := Scalar.muli v2039 c4_i32_1171
  let v2078 : BitVec 32 := Scalar.addi c0_i32_1172 v2077
  let c0_i32_1149 : BitVec 32 := 0#32
  let v2041 : BitVec 1 := Scalar.cmpi .sgt v2022 c0_i32_1149
  let v2042 : BitVec 32 := Scalar.extui v2041
  let c0_i32_1150 : BitVec 32 := 0#32
  let v2043 : BitVec 1 := Scalar.cmpi .slt v2022 c0_i32_1150
  let v2044 : BitVec 32 := Scalar.extui v2043
  let v2045 : BitVec 32 := Scalar.subi v2042 v2044
  let c2_i32_1148 : BitVec 32 := 2#32
  let c0_i32_1151 : BitVec 32 := 0#32
  let v2046 : BitVec 1 := Scalar.cmpi .sgt c2_i32_1148 c0_i32_1151
  let v2047 : BitVec 32 := Scalar.extui v2046
  let c0_i32_1152 : BitVec 32 := 0#32
  let v2048 : BitVec 1 := Scalar.cmpi .slt c2_i32_1148 c0_i32_1152
  let v2049 : BitVec 32 := Scalar.extui v2048
  let v2050 : BitVec 32 := Scalar.subi v2047 v2049
  let v2051 : BitVec 1 := Scalar.cmpi .ne v2045 v2050
  let v2052 : BitVec 32 := Scalar.remsi v2022 c2_i32_1148
  let c0_i32_1153 : BitVec 32 := 0#32
  let v2053 : BitVec 1 := Scalar.cmpi .ne v2052 c0_i32_1153
  let v2054 : BitVec 1 := Scalar.andi v2051 v2053
  let v2040 : BitVec 32 := Scalar.divsi v2022 c2_i32_1148
  let c1_i32_1154 : BitVec 32 := 1#32
  let v2055 : BitVec 32 := Scalar.subi v2040 c1_i32_1154
  let v2056 : BitVec 32 := Scalar.select v2054 v2055 v2040
  let c2_i32_1155 : BitVec 32 := 2#32
  let c0_i32_1156 : BitVec 32 := 0#32
  let v2057 : BitVec 1 := Scalar.cmpi .eq c2_i32_1155 c0_i32_1156
  let c1_i32_1157 : BitVec 32 := 1#32
  let v2058 : BitVec 32 := Scalar.select v2057 c1_i32_1157 c2_i32_1155
  let v2059 : BitVec 32 := Scalar.remsi v2056 v2058
  let c0_i32_1159 : BitVec 32 := 0#32
  let v2061 : BitVec 1 := Scalar.cmpi .slt v2059 c0_i32_1159
  let c0_i32_1160 : BitVec 32 := 0#32
  let v2062 : BitVec 1 := Scalar.cmpi .slt v2058 c0_i32_1160
  let v2063 : BitVec 1 := Scalar.xori v2061 v2062
  let c0_i32_1158 : BitVec 32 := 0#32
  let v2060 : BitVec 1 := Scalar.cmpi .ne v2059 c0_i32_1158
  let v2064 : BitVec 1 := Scalar.andi v2063 v2060
  let v2065 : BitVec 32 := Scalar.addi v2059 v2058
  let v2066 : BitVec 32 := Scalar.select v2064 v2065 v2059
  let c2_i32_1173 : BitVec 32 := 2#32
  let v2079 : BitVec 32 := Scalar.muli v2066 c2_i32_1173
  let v2080 : BitVec 32 := Scalar.addi v2078 v2079
  let c2_i32_1161 : BitVec 32 := 2#32
  let c0_i32_1162 : BitVec 32 := 0#32
  let v2067 : BitVec 1 := Scalar.cmpi .eq c2_i32_1161 c0_i32_1162
  let c1_i32_1163 : BitVec 32 := 1#32
  let v2068 : BitVec 32 := Scalar.select v2067 c1_i32_1163 c2_i32_1161
  let v2069 : BitVec 32 := Scalar.remsi v2022 v2068
  let c0_i32_1165 : BitVec 32 := 0#32
  let v2071 : BitVec 1 := Scalar.cmpi .slt v2069 c0_i32_1165
  let c0_i32_1166 : BitVec 32 := 0#32
  let v2072 : BitVec 1 := Scalar.cmpi .slt v2068 c0_i32_1166
  let v2073 : BitVec 1 := Scalar.xori v2071 v2072
  let c0_i32_1164 : BitVec 32 := 0#32
  let v2070 : BitVec 1 := Scalar.cmpi .ne v2069 c0_i32_1164
  let v2074 : BitVec 1 := Scalar.andi v2073 v2070
  let v2075 : BitVec 32 := Scalar.addi v2069 v2068
  let v2076 : BitVec 32 := Scalar.select v2074 v2075 v2069
  let c1_i32_1174 : BitVec 32 := 1#32
  let v2081 : BitVec 32 := Scalar.muli v2076 c1_i32_1174
  let v2082 : BitVec 32 := Scalar.addi v2080 v2081
  v2082.toNat
def k0_dev32 (d0 : Dev nD) : Nat :=
  let c0_i32_1209 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1179 : BitVec 32 := 0#32
  let v2090 : BitVec 1 := Scalar.cmpi .sgt v2022 c0_i32_1179
  let v2091 : BitVec 32 := Scalar.extui v2090
  let c0_i32_1180 : BitVec 32 := 0#32
  let v2092 : BitVec 1 := Scalar.cmpi .slt v2022 c0_i32_1180
  let v2093 : BitVec 32 := Scalar.extui v2092
  let v2094 : BitVec 32 := Scalar.subi v2091 v2093
  let c4_i32_1178 : BitVec 32 := 4#32
  let c0_i32_1181 : BitVec 32 := 0#32
  let v2095 : BitVec 1 := Scalar.cmpi .sgt c4_i32_1178 c0_i32_1181
  let v2096 : BitVec 32 := Scalar.extui v2095
  let c0_i32_1182 : BitVec 32 := 0#32
  let v2097 : BitVec 1 := Scalar.cmpi .slt c4_i32_1178 c0_i32_1182
  let v2098 : BitVec 32 := Scalar.extui v2097
  let v2099 : BitVec 32 := Scalar.subi v2096 v2098
  let v2100 : BitVec 1 := Scalar.cmpi .ne v2094 v2099
  let v2101 : BitVec 32 := Scalar.remsi v2022 c4_i32_1178
  let c0_i32_1183 : BitVec 32 := 0#32
  let v2102 : BitVec 1 := Scalar.cmpi .ne v2101 c0_i32_1183
  let v2103 : BitVec 1 := Scalar.andi v2100 v2102
  let v2089 : BitVec 32 := Scalar.divsi v2022 c4_i32_1178
  let c1_i32_1184 : BitVec 32 := 1#32
  let v2104 : BitVec 32 := Scalar.subi v2089 c1_i32_1184
  let v2105 : BitVec 32 := Scalar.select v2103 v2104 v2089
  let c4_i32_1208 : BitVec 32 := 4#32
  let v2143 : BitVec 32 := Scalar.muli v2105 c4_i32_1208
  let v2144 : BitVec 32 := Scalar.addi c0_i32_1209 v2143
  let c0_i32_1186 : BitVec 32 := 0#32
  let v2107 : BitVec 1 := Scalar.cmpi .sgt v2022 c0_i32_1186
  let v2108 : BitVec 32 := Scalar.extui v2107
  let c0_i32_1187 : BitVec 32 := 0#32
  let v2109 : BitVec 1 := Scalar.cmpi .slt v2022 c0_i32_1187
  let v2110 : BitVec 32 := Scalar.extui v2109
  let v2111 : BitVec 32 := Scalar.subi v2108 v2110
  let c2_i32_1185 : BitVec 32 := 2#32
  let c0_i32_1188 : BitVec 32 := 0#32
  let v2112 : BitVec 1 := Scalar.cmpi .sgt c2_i32_1185 c0_i32_1188
  let v2113 : BitVec 32 := Scalar.extui v2112
  let c0_i32_1189 : BitVec 32 := 0#32
  let v2114 : BitVec 1 := Scalar.cmpi .slt c2_i32_1185 c0_i32_1189
  let v2115 : BitVec 32 := Scalar.extui v2114
  let v2116 : BitVec 32 := Scalar.subi v2113 v2115
  let v2117 : BitVec 1 := Scalar.cmpi .ne v2111 v2116
  let v2118 : BitVec 32 := Scalar.remsi v2022 c2_i32_1185
  let c0_i32_1190 : BitVec 32 := 0#32
  let v2119 : BitVec 1 := Scalar.cmpi .ne v2118 c0_i32_1190
  let v2120 : BitVec 1 := Scalar.andi v2117 v2119
  let v2106 : BitVec 32 := Scalar.divsi v2022 c2_i32_1185
  let c1_i32_1191 : BitVec 32 := 1#32
  let v2121 : BitVec 32 := Scalar.subi v2106 c1_i32_1191
  let v2122 : BitVec 32 := Scalar.select v2120 v2121 v2106
  let c2_i32_1192 : BitVec 32 := 2#32
  let c0_i32_1193 : BitVec 32 := 0#32
  let v2123 : BitVec 1 := Scalar.cmpi .eq c2_i32_1192 c0_i32_1193
  let c1_i32_1194 : BitVec 32 := 1#32
  let v2124 : BitVec 32 := Scalar.select v2123 c1_i32_1194 c2_i32_1192
  let v2125 : BitVec 32 := Scalar.remsi v2122 v2124
  let c0_i32_1196 : BitVec 32 := 0#32
  let v2127 : BitVec 1 := Scalar.cmpi .slt v2125 c0_i32_1196
  let c0_i32_1197 : BitVec 32 := 0#32
  let v2128 : BitVec 1 := Scalar.cmpi .slt v2124 c0_i32_1197
  let v2129 : BitVec 1 := Scalar.xori v2127 v2128
  let c0_i32_1195 : BitVec 32 := 0#32
  let v2126 : BitVec 1 := Scalar.cmpi .ne v2125 c0_i32_1195
  let v2130 : BitVec 1 := Scalar.andi v2129 v2126
  let v2131 : BitVec 32 := Scalar.addi v2125 v2124
  let v2132 : BitVec 32 := Scalar.select v2130 v2131 v2125
  let c2_i32_1210 : BitVec 32 := 2#32
  let v2145 : BitVec 32 := Scalar.muli v2132 c2_i32_1210
  let v2146 : BitVec 32 := Scalar.addi v2144 v2145
  let c2_i32_1198 : BitVec 32 := 2#32
  let c0_i32_1199 : BitVec 32 := 0#32
  let v2133 : BitVec 1 := Scalar.cmpi .eq c2_i32_1198 c0_i32_1199
  let c1_i32_1200 : BitVec 32 := 1#32
  let v2134 : BitVec 32 := Scalar.select v2133 c1_i32_1200 c2_i32_1198
  let v2135 : BitVec 32 := Scalar.remsi v2022 v2134
  let c0_i32_1202 : BitVec 32 := 0#32
  let v2137 : BitVec 1 := Scalar.cmpi .slt v2135 c0_i32_1202
  let c0_i32_1203 : BitVec 32 := 0#32
  let v2138 : BitVec 1 := Scalar.cmpi .slt v2134 c0_i32_1203
  let v2139 : BitVec 1 := Scalar.xori v2137 v2138
  let c0_i32_1201 : BitVec 32 := 0#32
  let v2136 : BitVec 1 := Scalar.cmpi .ne v2135 c0_i32_1201
  let v2140 : BitVec 1 := Scalar.andi v2139 v2136
  let v2141 : BitVec 32 := Scalar.addi v2135 v2134
  let v2142 : BitVec 32 := Scalar.select v2140 v2141 v2135
  let c1_i32_1211 : BitVec 32 := 1#32
  let v2147 : BitVec 32 := Scalar.muli v2142 c1_i32_1211
  let v2148 : BitVec 32 := Scalar.addi v2146 v2147
  v2148.toNat
def k0_dev33 (d0 : Dev nD) : Nat :=
  let c0_i32_1246 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1216 : BitVec 32 := 0#32
  let v2156 : BitVec 1 := Scalar.cmpi .sgt v2022 c0_i32_1216
  let v2157 : BitVec 32 := Scalar.extui v2156
  let c0_i32_1217 : BitVec 32 := 0#32
  let v2158 : BitVec 1 := Scalar.cmpi .slt v2022 c0_i32_1217
  let v2159 : BitVec 32 := Scalar.extui v2158
  let v2160 : BitVec 32 := Scalar.subi v2157 v2159
  let c4_i32_1215 : BitVec 32 := 4#32
  let c0_i32_1218 : BitVec 32 := 0#32
  let v2161 : BitVec 1 := Scalar.cmpi .sgt c4_i32_1215 c0_i32_1218
  let v2162 : BitVec 32 := Scalar.extui v2161
  let c0_i32_1219 : BitVec 32 := 0#32
  let v2163 : BitVec 1 := Scalar.cmpi .slt c4_i32_1215 c0_i32_1219
  let v2164 : BitVec 32 := Scalar.extui v2163
  let v2165 : BitVec 32 := Scalar.subi v2162 v2164
  let v2166 : BitVec 1 := Scalar.cmpi .ne v2160 v2165
  let v2167 : BitVec 32 := Scalar.remsi v2022 c4_i32_1215
  let c0_i32_1220 : BitVec 32 := 0#32
  let v2168 : BitVec 1 := Scalar.cmpi .ne v2167 c0_i32_1220
  let v2169 : BitVec 1 := Scalar.andi v2166 v2168
  let v2155 : BitVec 32 := Scalar.divsi v2022 c4_i32_1215
  let c1_i32_1221 : BitVec 32 := 1#32
  let v2170 : BitVec 32 := Scalar.subi v2155 c1_i32_1221
  let v2171 : BitVec 32 := Scalar.select v2169 v2170 v2155
  let c4_i32_1245 : BitVec 32 := 4#32
  let v2209 : BitVec 32 := Scalar.muli v2171 c4_i32_1245
  let v2210 : BitVec 32 := Scalar.addi c0_i32_1246 v2209
  let c0_i32_1223 : BitVec 32 := 0#32
  let v2173 : BitVec 1 := Scalar.cmpi .sgt v2022 c0_i32_1223
  let v2174 : BitVec 32 := Scalar.extui v2173
  let c0_i32_1224 : BitVec 32 := 0#32
  let v2175 : BitVec 1 := Scalar.cmpi .slt v2022 c0_i32_1224
  let v2176 : BitVec 32 := Scalar.extui v2175
  let v2177 : BitVec 32 := Scalar.subi v2174 v2176
  let c2_i32_1222 : BitVec 32 := 2#32
  let c0_i32_1225 : BitVec 32 := 0#32
  let v2178 : BitVec 1 := Scalar.cmpi .sgt c2_i32_1222 c0_i32_1225
  let v2179 : BitVec 32 := Scalar.extui v2178
  let c0_i32_1226 : BitVec 32 := 0#32
  let v2180 : BitVec 1 := Scalar.cmpi .slt c2_i32_1222 c0_i32_1226
  let v2181 : BitVec 32 := Scalar.extui v2180
  let v2182 : BitVec 32 := Scalar.subi v2179 v2181
  let v2183 : BitVec 1 := Scalar.cmpi .ne v2177 v2182
  let v2184 : BitVec 32 := Scalar.remsi v2022 c2_i32_1222
  let c0_i32_1227 : BitVec 32 := 0#32
  let v2185 : BitVec 1 := Scalar.cmpi .ne v2184 c0_i32_1227
  let v2186 : BitVec 1 := Scalar.andi v2183 v2185
  let v2172 : BitVec 32 := Scalar.divsi v2022 c2_i32_1222
  let c1_i32_1228 : BitVec 32 := 1#32
  let v2187 : BitVec 32 := Scalar.subi v2172 c1_i32_1228
  let v2188 : BitVec 32 := Scalar.select v2186 v2187 v2172
  let c2_i32_1229 : BitVec 32 := 2#32
  let c0_i32_1230 : BitVec 32 := 0#32
  let v2189 : BitVec 1 := Scalar.cmpi .eq c2_i32_1229 c0_i32_1230
  let c1_i32_1231 : BitVec 32 := 1#32
  let v2190 : BitVec 32 := Scalar.select v2189 c1_i32_1231 c2_i32_1229
  let v2191 : BitVec 32 := Scalar.remsi v2188 v2190
  let c0_i32_1233 : BitVec 32 := 0#32
  let v2193 : BitVec 1 := Scalar.cmpi .slt v2191 c0_i32_1233
  let c0_i32_1234 : BitVec 32 := 0#32
  let v2194 : BitVec 1 := Scalar.cmpi .slt v2190 c0_i32_1234
  let v2195 : BitVec 1 := Scalar.xori v2193 v2194
  let c0_i32_1232 : BitVec 32 := 0#32
  let v2192 : BitVec 1 := Scalar.cmpi .ne v2191 c0_i32_1232
  let v2196 : BitVec 1 := Scalar.andi v2195 v2192
  let v2197 : BitVec 32 := Scalar.addi v2191 v2190
  let v2198 : BitVec 32 := Scalar.select v2196 v2197 v2191
  let c2_i32_1247 : BitVec 32 := 2#32
  let v2211 : BitVec 32 := Scalar.muli v2198 c2_i32_1247
  let v2212 : BitVec 32 := Scalar.addi v2210 v2211
  let c2_i32_1235 : BitVec 32 := 2#32
  let c0_i32_1236 : BitVec 32 := 0#32
  let v2199 : BitVec 1 := Scalar.cmpi .eq c2_i32_1235 c0_i32_1236
  let c1_i32_1237 : BitVec 32 := 1#32
  let v2200 : BitVec 32 := Scalar.select v2199 c1_i32_1237 c2_i32_1235
  let v2201 : BitVec 32 := Scalar.remsi v2022 v2200
  let c0_i32_1239 : BitVec 32 := 0#32
  let v2203 : BitVec 1 := Scalar.cmpi .slt v2201 c0_i32_1239
  let c0_i32_1240 : BitVec 32 := 0#32
  let v2204 : BitVec 1 := Scalar.cmpi .slt v2200 c0_i32_1240
  let v2205 : BitVec 1 := Scalar.xori v2203 v2204
  let c0_i32_1238 : BitVec 32 := 0#32
  let v2202 : BitVec 1 := Scalar.cmpi .ne v2201 c0_i32_1238
  let v2206 : BitVec 1 := Scalar.andi v2205 v2202
  let v2207 : BitVec 32 := Scalar.addi v2201 v2200
  let v2208 : BitVec 32 := Scalar.select v2206 v2207 v2201
  let c1_i32_1248 : BitVec 32 := 1#32
  let v2213 : BitVec 32 := Scalar.muli v2208 c1_i32_1248
  let v2214 : BitVec 32 := Scalar.addi v2212 v2213
  v2214.toNat
def k0_dev34 (d0 : Dev nD) : Nat :=
  let c0_i32_1283 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1253 : BitVec 32 := 0#32
  let v2222 : BitVec 1 := Scalar.cmpi .sgt v2022 c0_i32_1253
  let v2223 : BitVec 32 := Scalar.extui v2222
  let c0_i32_1254 : BitVec 32 := 0#32
  let v2224 : BitVec 1 := Scalar.cmpi .slt v2022 c0_i32_1254
  let v2225 : BitVec 32 := Scalar.extui v2224
  let v2226 : BitVec 32 := Scalar.subi v2223 v2225
  let c4_i32_1252 : BitVec 32 := 4#32
  let c0_i32_1255 : BitVec 32 := 0#32
  let v2227 : BitVec 1 := Scalar.cmpi .sgt c4_i32_1252 c0_i32_1255
  let v2228 : BitVec 32 := Scalar.extui v2227
  let c0_i32_1256 : BitVec 32 := 0#32
  let v2229 : BitVec 1 := Scalar.cmpi .slt c4_i32_1252 c0_i32_1256
  let v2230 : BitVec 32 := Scalar.extui v2229
  let v2231 : BitVec 32 := Scalar.subi v2228 v2230
  let v2232 : BitVec 1 := Scalar.cmpi .ne v2226 v2231
  let v2233 : BitVec 32 := Scalar.remsi v2022 c4_i32_1252
  let c0_i32_1257 : BitVec 32 := 0#32
  let v2234 : BitVec 1 := Scalar.cmpi .ne v2233 c0_i32_1257
  let v2235 : BitVec 1 := Scalar.andi v2232 v2234
  let v2221 : BitVec 32 := Scalar.divsi v2022 c4_i32_1252
  let c1_i32_1258 : BitVec 32 := 1#32
  let v2236 : BitVec 32 := Scalar.subi v2221 c1_i32_1258
  let v2237 : BitVec 32 := Scalar.select v2235 v2236 v2221
  let c4_i32_1282 : BitVec 32 := 4#32
  let v2275 : BitVec 32 := Scalar.muli v2237 c4_i32_1282
  let v2276 : BitVec 32 := Scalar.addi c0_i32_1283 v2275
  let c0_i32_1260 : BitVec 32 := 0#32
  let v2239 : BitVec 1 := Scalar.cmpi .sgt v2022 c0_i32_1260
  let v2240 : BitVec 32 := Scalar.extui v2239
  let c0_i32_1261 : BitVec 32 := 0#32
  let v2241 : BitVec 1 := Scalar.cmpi .slt v2022 c0_i32_1261
  let v2242 : BitVec 32 := Scalar.extui v2241
  let v2243 : BitVec 32 := Scalar.subi v2240 v2242
  let c2_i32_1259 : BitVec 32 := 2#32
  let c0_i32_1262 : BitVec 32 := 0#32
  let v2244 : BitVec 1 := Scalar.cmpi .sgt c2_i32_1259 c0_i32_1262
  let v2245 : BitVec 32 := Scalar.extui v2244
  let c0_i32_1263 : BitVec 32 := 0#32
  let v2246 : BitVec 1 := Scalar.cmpi .slt c2_i32_1259 c0_i32_1263
  let v2247 : BitVec 32 := Scalar.extui v2246
  let v2248 : BitVec 32 := Scalar.subi v2245 v2247
  let v2249 : BitVec 1 := Scalar.cmpi .ne v2243 v2248
  let v2250 : BitVec 32 := Scalar.remsi v2022 c2_i32_1259
  let c0_i32_1264 : BitVec 32 := 0#32
  let v2251 : BitVec 1 := Scalar.cmpi .ne v2250 c0_i32_1264
  let v2252 : BitVec 1 := Scalar.andi v2249 v2251
  let v2238 : BitVec 32 := Scalar.divsi v2022 c2_i32_1259
  let c1_i32_1265 : BitVec 32 := 1#32
  let v2253 : BitVec 32 := Scalar.subi v2238 c1_i32_1265
  let v2254 : BitVec 32 := Scalar.select v2252 v2253 v2238
  let c2_i32_1266 : BitVec 32 := 2#32
  let c0_i32_1267 : BitVec 32 := 0#32
  let v2255 : BitVec 1 := Scalar.cmpi .eq c2_i32_1266 c0_i32_1267
  let c1_i32_1268 : BitVec 32 := 1#32
  let v2256 : BitVec 32 := Scalar.select v2255 c1_i32_1268 c2_i32_1266
  let v2257 : BitVec 32 := Scalar.remsi v2254 v2256
  let c0_i32_1270 : BitVec 32 := 0#32
  let v2259 : BitVec 1 := Scalar.cmpi .slt v2257 c0_i32_1270
  let c0_i32_1271 : BitVec 32 := 0#32
  let v2260 : BitVec 1 := Scalar.cmpi .slt v2256 c0_i32_1271
  let v2261 : BitVec 1 := Scalar.xori v2259 v2260
  let c0_i32_1269 : BitVec 32 := 0#32
  let v2258 : BitVec 1 := Scalar.cmpi .ne v2257 c0_i32_1269
  let v2262 : BitVec 1 := Scalar.andi v2261 v2258
  let v2263 : BitVec 32 := Scalar.addi v2257 v2256
  let v2264 : BitVec 32 := Scalar.select v2262 v2263 v2257
  let c2_i32_1284 : BitVec 32 := 2#32
  let v2277 : BitVec 32 := Scalar.muli v2264 c2_i32_1284
  let v2278 : BitVec 32 := Scalar.addi v2276 v2277
  let c2_i32_1272 : BitVec 32 := 2#32
  let c0_i32_1273 : BitVec 32 := 0#32
  let v2265 : BitVec 1 := Scalar.cmpi .eq c2_i32_1272 c0_i32_1273
  let c1_i32_1274 : BitVec 32 := 1#32
  let v2266 : BitVec 32 := Scalar.select v2265 c1_i32_1274 c2_i32_1272
  let v2267 : BitVec 32 := Scalar.remsi v2022 v2266
  let c0_i32_1276 : BitVec 32 := 0#32
  let v2269 : BitVec 1 := Scalar.cmpi .slt v2267 c0_i32_1276
  let c0_i32_1277 : BitVec 32 := 0#32
  let v2270 : BitVec 1 := Scalar.cmpi .slt v2266 c0_i32_1277
  let v2271 : BitVec 1 := Scalar.xori v2269 v2270
  let c0_i32_1275 : BitVec 32 := 0#32
  let v2268 : BitVec 1 := Scalar.cmpi .ne v2267 c0_i32_1275
  let v2272 : BitVec 1 := Scalar.andi v2271 v2268
  let v2273 : BitVec 32 := Scalar.addi v2267 v2266
  let v2274 : BitVec 32 := Scalar.select v2272 v2273 v2267
  let c1_i32_1285 : BitVec 32 := 1#32
  let v2279 : BitVec 32 := Scalar.muli v2274 c1_i32_1285
  let v2280 : BitVec 32 := Scalar.addi v2278 v2279
  v2280.toNat
def k0_dev35 (d0 : Dev nD) : Nat :=
  let c0_i32_1320 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1290 : BitVec 32 := 0#32
  let v2288 : BitVec 1 := Scalar.cmpi .sgt v2022 c0_i32_1290
  let v2289 : BitVec 32 := Scalar.extui v2288
  let c0_i32_1291 : BitVec 32 := 0#32
  let v2290 : BitVec 1 := Scalar.cmpi .slt v2022 c0_i32_1291
  let v2291 : BitVec 32 := Scalar.extui v2290
  let v2292 : BitVec 32 := Scalar.subi v2289 v2291
  let c4_i32_1289 : BitVec 32 := 4#32
  let c0_i32_1292 : BitVec 32 := 0#32
  let v2293 : BitVec 1 := Scalar.cmpi .sgt c4_i32_1289 c0_i32_1292
  let v2294 : BitVec 32 := Scalar.extui v2293
  let c0_i32_1293 : BitVec 32 := 0#32
  let v2295 : BitVec 1 := Scalar.cmpi .slt c4_i32_1289 c0_i32_1293
  let v2296 : BitVec 32 := Scalar.extui v2295
  let v2297 : BitVec 32 := Scalar.subi v2294 v2296
  let v2298 : BitVec 1 := Scalar.cmpi .ne v2292 v2297
  let v2299 : BitVec 32 := Scalar.remsi v2022 c4_i32_1289
  let c0_i32_1294 : BitVec 32 := 0#32
  let v2300 : BitVec 1 := Scalar.cmpi .ne v2299 c0_i32_1294
  let v2301 : BitVec 1 := Scalar.andi v2298 v2300
  let v2287 : BitVec 32 := Scalar.divsi v2022 c4_i32_1289
  let c1_i32_1295 : BitVec 32 := 1#32
  let v2302 : BitVec 32 := Scalar.subi v2287 c1_i32_1295
  let v2303 : BitVec 32 := Scalar.select v2301 v2302 v2287
  let c4_i32_1319 : BitVec 32 := 4#32
  let v2341 : BitVec 32 := Scalar.muli v2303 c4_i32_1319
  let v2342 : BitVec 32 := Scalar.addi c0_i32_1320 v2341
  let c0_i32_1297 : BitVec 32 := 0#32
  let v2305 : BitVec 1 := Scalar.cmpi .sgt v2022 c0_i32_1297
  let v2306 : BitVec 32 := Scalar.extui v2305
  let c0_i32_1298 : BitVec 32 := 0#32
  let v2307 : BitVec 1 := Scalar.cmpi .slt v2022 c0_i32_1298
  let v2308 : BitVec 32 := Scalar.extui v2307
  let v2309 : BitVec 32 := Scalar.subi v2306 v2308
  let c2_i32_1296 : BitVec 32 := 2#32
  let c0_i32_1299 : BitVec 32 := 0#32
  let v2310 : BitVec 1 := Scalar.cmpi .sgt c2_i32_1296 c0_i32_1299
  let v2311 : BitVec 32 := Scalar.extui v2310
  let c0_i32_1300 : BitVec 32 := 0#32
  let v2312 : BitVec 1 := Scalar.cmpi .slt c2_i32_1296 c0_i32_1300
  let v2313 : BitVec 32 := Scalar.extui v2312
  let v2314 : BitVec 32 := Scalar.subi v2311 v2313
  let v2315 : BitVec 1 := Scalar.cmpi .ne v2309 v2314
  let v2316 : BitVec 32 := Scalar.remsi v2022 c2_i32_1296
  let c0_i32_1301 : BitVec 32 := 0#32
  let v2317 : BitVec 1 := Scalar.cmpi .ne v2316 c0_i32_1301
  let v2318 : BitVec 1 := Scalar.andi v2315 v2317
  let v2304 : BitVec 32 := Scalar.divsi v2022 c2_i32_1296
  let c1_i32_1302 : BitVec 32 := 1#32
  let v2319 : BitVec 32 := Scalar.subi v2304 c1_i32_1302
  let v2320 : BitVec 32 := Scalar.select v2318 v2319 v2304
  let c2_i32_1303 : BitVec 32 := 2#32
  let c0_i32_1304 : BitVec 32 := 0#32
  let v2321 : BitVec 1 := Scalar.cmpi .eq c2_i32_1303 c0_i32_1304
  let c1_i32_1305 : BitVec 32 := 1#32
  let v2322 : BitVec 32 := Scalar.select v2321 c1_i32_1305 c2_i32_1303
  let v2323 : BitVec 32 := Scalar.remsi v2320 v2322
  let c0_i32_1307 : BitVec 32 := 0#32
  let v2325 : BitVec 1 := Scalar.cmpi .slt v2323 c0_i32_1307
  let c0_i32_1308 : BitVec 32 := 0#32
  let v2326 : BitVec 1 := Scalar.cmpi .slt v2322 c0_i32_1308
  let v2327 : BitVec 1 := Scalar.xori v2325 v2326
  let c0_i32_1306 : BitVec 32 := 0#32
  let v2324 : BitVec 1 := Scalar.cmpi .ne v2323 c0_i32_1306
  let v2328 : BitVec 1 := Scalar.andi v2327 v2324
  let v2329 : BitVec 32 := Scalar.addi v2323 v2322
  let v2330 : BitVec 32 := Scalar.select v2328 v2329 v2323
  let c2_i32_1321 : BitVec 32 := 2#32
  let v2343 : BitVec 32 := Scalar.muli v2330 c2_i32_1321
  let v2344 : BitVec 32 := Scalar.addi v2342 v2343
  let c2_i32_1309 : BitVec 32 := 2#32
  let c0_i32_1310 : BitVec 32 := 0#32
  let v2331 : BitVec 1 := Scalar.cmpi .eq c2_i32_1309 c0_i32_1310
  let c1_i32_1311 : BitVec 32 := 1#32
  let v2332 : BitVec 32 := Scalar.select v2331 c1_i32_1311 c2_i32_1309
  let v2333 : BitVec 32 := Scalar.remsi v2022 v2332
  let c0_i32_1313 : BitVec 32 := 0#32
  let v2335 : BitVec 1 := Scalar.cmpi .slt v2333 c0_i32_1313
  let c0_i32_1314 : BitVec 32 := 0#32
  let v2336 : BitVec 1 := Scalar.cmpi .slt v2332 c0_i32_1314
  let v2337 : BitVec 1 := Scalar.xori v2335 v2336
  let c0_i32_1312 : BitVec 32 := 0#32
  let v2334 : BitVec 1 := Scalar.cmpi .ne v2333 c0_i32_1312
  let v2338 : BitVec 1 := Scalar.andi v2337 v2334
  let v2339 : BitVec 32 := Scalar.addi v2333 v2332
  let v2340 : BitVec 32 := Scalar.select v2338 v2339 v2333
  let c1_i32_1322 : BitVec 32 := 1#32
  let v2345 : BitVec 32 := Scalar.muli v2340 c1_i32_1322
  let v2346 : BitVec 32 := Scalar.addi v2344 v2345
  v2346.toNat
def k0_dev36 (d0 : Dev nD) : Nat :=
  let c0_i32_1357 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v2022 : BitVec 32 := Scalar.xori v12 c6_i32
  let c0_i32_1327 : BitVec 32 := 0#32
  let v2354 : BitVec 1 := Scalar.cmpi .sgt v2022 c0_i32_1327
  let v2355 : BitVec 32 := Scalar.extui v2354
  let c0_i32_1328 : BitVec 32 := 0#32
  let v2356 : BitVec 1 := Scalar.cmpi .slt v2022 c0_i32_1328
  let v2357 : BitVec 32 := Scalar.extui v2356
  let v2358 : BitVec 32 := Scalar.subi v2355 v2357
  let c4_i32_1326 : BitVec 32 := 4#32
  let c0_i32_1329 : BitVec 32 := 0#32
  let v2359 : BitVec 1 := Scalar.cmpi .sgt c4_i32_1326 c0_i32_1329
  let v2360 : BitVec 32 := Scalar.extui v2359
  let c0_i32_1330 : BitVec 32 := 0#32
  let v2361 : BitVec 1 := Scalar.cmpi .slt c4_i32_1326 c0_i32_1330
  let v2362 : BitVec 32 := Scalar.extui v2361
  let v2363 : BitVec 32 := Scalar.subi v2360 v2362
  let v2364 : BitVec 1 := Scalar.cmpi .ne v2358 v2363
  let v2365 : BitVec 32 := Scalar.remsi v2022 c4_i32_1326
  let c0_i32_1331 : BitVec 32 := 0#32
  let v2366 : BitVec 1 := Scalar.cmpi .ne v2365 c0_i32_1331
  let v2367 : BitVec 1 := Scalar.andi v2364 v2366
  let v2353 : BitVec 32 := Scalar.divsi v2022 c4_i32_1326
  let c1_i32_1332 : BitVec 32 := 1#32
  let v2368 : BitVec 32 := Scalar.subi v2353 c1_i32_1332
  let v2369 : BitVec 32 := Scalar.select v2367 v2368 v2353
  let c4_i32_1356 : BitVec 32 := 4#32
  let v2407 : BitVec 32 := Scalar.muli v2369 c4_i32_1356
  let v2408 : BitVec 32 := Scalar.addi c0_i32_1357 v2407
  let c0_i32_1334 : BitVec 32 := 0#32
  let v2371 : BitVec 1 := Scalar.cmpi .sgt v2022 c0_i32_1334
  let v2372 : BitVec 32 := Scalar.extui v2371
  let c0_i32_1335 : BitVec 32 := 0#32
  let v2373 : BitVec 1 := Scalar.cmpi .slt v2022 c0_i32_1335
  let v2374 : BitVec 32 := Scalar.extui v2373
  let v2375 : BitVec 32 := Scalar.subi v2372 v2374
  let c2_i32_1333 : BitVec 32 := 2#32
  let c0_i32_1336 : BitVec 32 := 0#32
  let v2376 : BitVec 1 := Scalar.cmpi .sgt c2_i32_1333 c0_i32_1336
  let v2377 : BitVec 32 := Scalar.extui v2376
  let c0_i32_1337 : BitVec 32 := 0#32
  let v2378 : BitVec 1 := Scalar.cmpi .slt c2_i32_1333 c0_i32_1337
  let v2379 : BitVec 32 := Scalar.extui v2378
  let v2380 : BitVec 32 := Scalar.subi v2377 v2379
  let v2381 : BitVec 1 := Scalar.cmpi .ne v2375 v2380
  let v2382 : BitVec 32 := Scalar.remsi v2022 c2_i32_1333
  let c0_i32_1338 : BitVec 32 := 0#32
  let v2383 : BitVec 1 := Scalar.cmpi .ne v2382 c0_i32_1338
  let v2384 : BitVec 1 := Scalar.andi v2381 v2383
  let v2370 : BitVec 32 := Scalar.divsi v2022 c2_i32_1333
  let c1_i32_1339 : BitVec 32 := 1#32
  let v2385 : BitVec 32 := Scalar.subi v2370 c1_i32_1339
  let v2386 : BitVec 32 := Scalar.select v2384 v2385 v2370
  let c2_i32_1340 : BitVec 32 := 2#32
  let c0_i32_1341 : BitVec 32 := 0#32
  let v2387 : BitVec 1 := Scalar.cmpi .eq c2_i32_1340 c0_i32_1341
  let c1_i32_1342 : BitVec 32 := 1#32
  let v2388 : BitVec 32 := Scalar.select v2387 c1_i32_1342 c2_i32_1340
  let v2389 : BitVec 32 := Scalar.remsi v2386 v2388
  let c0_i32_1344 : BitVec 32 := 0#32
  let v2391 : BitVec 1 := Scalar.cmpi .slt v2389 c0_i32_1344
  let c0_i32_1345 : BitVec 32 := 0#32
  let v2392 : BitVec 1 := Scalar.cmpi .slt v2388 c0_i32_1345
  let v2393 : BitVec 1 := Scalar.xori v2391 v2392
  let c0_i32_1343 : BitVec 32 := 0#32
  let v2390 : BitVec 1 := Scalar.cmpi .ne v2389 c0_i32_1343
  let v2394 : BitVec 1 := Scalar.andi v2393 v2390
  let v2395 : BitVec 32 := Scalar.addi v2389 v2388
  let v2396 : BitVec 32 := Scalar.select v2394 v2395 v2389
  let c2_i32_1358 : BitVec 32 := 2#32
  let v2409 : BitVec 32 := Scalar.muli v2396 c2_i32_1358
  let v2410 : BitVec 32 := Scalar.addi v2408 v2409
  let c2_i32_1346 : BitVec 32 := 2#32
  let c0_i32_1347 : BitVec 32 := 0#32
  let v2397 : BitVec 1 := Scalar.cmpi .eq c2_i32_1346 c0_i32_1347
  let c1_i32_1348 : BitVec 32 := 1#32
  let v2398 : BitVec 32 := Scalar.select v2397 c1_i32_1348 c2_i32_1346
  let v2399 : BitVec 32 := Scalar.remsi v2022 v2398
  let c0_i32_1350 : BitVec 32 := 0#32
  let v2401 : BitVec 1 := Scalar.cmpi .slt v2399 c0_i32_1350
  let c0_i32_1351 : BitVec 32 := 0#32
  let v2402 : BitVec 1 := Scalar.cmpi .slt v2398 c0_i32_1351
  let v2403 : BitVec 1 := Scalar.xori v2401 v2402
  let c0_i32_1349 : BitVec 32 := 0#32
  let v2400 : BitVec 1 := Scalar.cmpi .ne v2399 c0_i32_1349
  let v2404 : BitVec 1 := Scalar.andi v2403 v2400
  let v2405 : BitVec 32 := Scalar.addi v2399 v2398
  let v2406 : BitVec 32 := Scalar.select v2404 v2405 v2399
  let c1_i32_1359 : BitVec 32 := 1#32
  let v2411 : BitVec 32 := Scalar.muli v2406 c1_i32_1359
  let v2412 : BitVec 32 := Scalar.addi v2410 v2411
  v2412.toNat
def k0_dev37 (d0 : Dev nD) : Nat :=
  let c0_i32_1394 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1364 : BitVec 32 := 0#32
  let v2421 : BitVec 1 := Scalar.cmpi .sgt v2419 c0_i32_1364
  let v2422 : BitVec 32 := Scalar.extui v2421
  let c0_i32_1365 : BitVec 32 := 0#32
  let v2423 : BitVec 1 := Scalar.cmpi .slt v2419 c0_i32_1365
  let v2424 : BitVec 32 := Scalar.extui v2423
  let v2425 : BitVec 32 := Scalar.subi v2422 v2424
  let c4_i32_1363 : BitVec 32 := 4#32
  let c0_i32_1366 : BitVec 32 := 0#32
  let v2426 : BitVec 1 := Scalar.cmpi .sgt c4_i32_1363 c0_i32_1366
  let v2427 : BitVec 32 := Scalar.extui v2426
  let c0_i32_1367 : BitVec 32 := 0#32
  let v2428 : BitVec 1 := Scalar.cmpi .slt c4_i32_1363 c0_i32_1367
  let v2429 : BitVec 32 := Scalar.extui v2428
  let v2430 : BitVec 32 := Scalar.subi v2427 v2429
  let v2431 : BitVec 1 := Scalar.cmpi .ne v2425 v2430
  let v2432 : BitVec 32 := Scalar.remsi v2419 c4_i32_1363
  let c0_i32_1368 : BitVec 32 := 0#32
  let v2433 : BitVec 1 := Scalar.cmpi .ne v2432 c0_i32_1368
  let v2434 : BitVec 1 := Scalar.andi v2431 v2433
  let v2420 : BitVec 32 := Scalar.divsi v2419 c4_i32_1363
  let c1_i32_1369 : BitVec 32 := 1#32
  let v2435 : BitVec 32 := Scalar.subi v2420 c1_i32_1369
  let v2436 : BitVec 32 := Scalar.select v2434 v2435 v2420
  let c4_i32_1393 : BitVec 32 := 4#32
  let v2474 : BitVec 32 := Scalar.muli v2436 c4_i32_1393
  let v2475 : BitVec 32 := Scalar.addi c0_i32_1394 v2474
  let c0_i32_1371 : BitVec 32 := 0#32
  let v2438 : BitVec 1 := Scalar.cmpi .sgt v2419 c0_i32_1371
  let v2439 : BitVec 32 := Scalar.extui v2438
  let c0_i32_1372 : BitVec 32 := 0#32
  let v2440 : BitVec 1 := Scalar.cmpi .slt v2419 c0_i32_1372
  let v2441 : BitVec 32 := Scalar.extui v2440
  let v2442 : BitVec 32 := Scalar.subi v2439 v2441
  let c2_i32_1370 : BitVec 32 := 2#32
  let c0_i32_1373 : BitVec 32 := 0#32
  let v2443 : BitVec 1 := Scalar.cmpi .sgt c2_i32_1370 c0_i32_1373
  let v2444 : BitVec 32 := Scalar.extui v2443
  let c0_i32_1374 : BitVec 32 := 0#32
  let v2445 : BitVec 1 := Scalar.cmpi .slt c2_i32_1370 c0_i32_1374
  let v2446 : BitVec 32 := Scalar.extui v2445
  let v2447 : BitVec 32 := Scalar.subi v2444 v2446
  let v2448 : BitVec 1 := Scalar.cmpi .ne v2442 v2447
  let v2449 : BitVec 32 := Scalar.remsi v2419 c2_i32_1370
  let c0_i32_1375 : BitVec 32 := 0#32
  let v2450 : BitVec 1 := Scalar.cmpi .ne v2449 c0_i32_1375
  let v2451 : BitVec 1 := Scalar.andi v2448 v2450
  let v2437 : BitVec 32 := Scalar.divsi v2419 c2_i32_1370
  let c1_i32_1376 : BitVec 32 := 1#32
  let v2452 : BitVec 32 := Scalar.subi v2437 c1_i32_1376
  let v2453 : BitVec 32 := Scalar.select v2451 v2452 v2437
  let c2_i32_1377 : BitVec 32 := 2#32
  let c0_i32_1378 : BitVec 32 := 0#32
  let v2454 : BitVec 1 := Scalar.cmpi .eq c2_i32_1377 c0_i32_1378
  let c1_i32_1379 : BitVec 32 := 1#32
  let v2455 : BitVec 32 := Scalar.select v2454 c1_i32_1379 c2_i32_1377
  let v2456 : BitVec 32 := Scalar.remsi v2453 v2455
  let c0_i32_1381 : BitVec 32 := 0#32
  let v2458 : BitVec 1 := Scalar.cmpi .slt v2456 c0_i32_1381
  let c0_i32_1382 : BitVec 32 := 0#32
  let v2459 : BitVec 1 := Scalar.cmpi .slt v2455 c0_i32_1382
  let v2460 : BitVec 1 := Scalar.xori v2458 v2459
  let c0_i32_1380 : BitVec 32 := 0#32
  let v2457 : BitVec 1 := Scalar.cmpi .ne v2456 c0_i32_1380
  let v2461 : BitVec 1 := Scalar.andi v2460 v2457
  let v2462 : BitVec 32 := Scalar.addi v2456 v2455
  let v2463 : BitVec 32 := Scalar.select v2461 v2462 v2456
  let c2_i32_1395 : BitVec 32 := 2#32
  let v2476 : BitVec 32 := Scalar.muli v2463 c2_i32_1395
  let v2477 : BitVec 32 := Scalar.addi v2475 v2476
  let c2_i32_1383 : BitVec 32 := 2#32
  let c0_i32_1384 : BitVec 32 := 0#32
  let v2464 : BitVec 1 := Scalar.cmpi .eq c2_i32_1383 c0_i32_1384
  let c1_i32_1385 : BitVec 32 := 1#32
  let v2465 : BitVec 32 := Scalar.select v2464 c1_i32_1385 c2_i32_1383
  let v2466 : BitVec 32 := Scalar.remsi v2419 v2465
  let c0_i32_1387 : BitVec 32 := 0#32
  let v2468 : BitVec 1 := Scalar.cmpi .slt v2466 c0_i32_1387
  let c0_i32_1388 : BitVec 32 := 0#32
  let v2469 : BitVec 1 := Scalar.cmpi .slt v2465 c0_i32_1388
  let v2470 : BitVec 1 := Scalar.xori v2468 v2469
  let c0_i32_1386 : BitVec 32 := 0#32
  let v2467 : BitVec 1 := Scalar.cmpi .ne v2466 c0_i32_1386
  let v2471 : BitVec 1 := Scalar.andi v2470 v2467
  let v2472 : BitVec 32 := Scalar.addi v2466 v2465
  let v2473 : BitVec 32 := Scalar.select v2471 v2472 v2466
  let c1_i32_1396 : BitVec 32 := 1#32
  let v2478 : BitVec 32 := Scalar.muli v2473 c1_i32_1396
  let v2479 : BitVec 32 := Scalar.addi v2477 v2478
  v2479.toNat
def k0_dev38 (d0 : Dev nD) : Nat :=
  let c0_i32_1431 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1401 : BitVec 32 := 0#32
  let v2487 : BitVec 1 := Scalar.cmpi .sgt v2419 c0_i32_1401
  let v2488 : BitVec 32 := Scalar.extui v2487
  let c0_i32_1402 : BitVec 32 := 0#32
  let v2489 : BitVec 1 := Scalar.cmpi .slt v2419 c0_i32_1402
  let v2490 : BitVec 32 := Scalar.extui v2489
  let v2491 : BitVec 32 := Scalar.subi v2488 v2490
  let c4_i32_1400 : BitVec 32 := 4#32
  let c0_i32_1403 : BitVec 32 := 0#32
  let v2492 : BitVec 1 := Scalar.cmpi .sgt c4_i32_1400 c0_i32_1403
  let v2493 : BitVec 32 := Scalar.extui v2492
  let c0_i32_1404 : BitVec 32 := 0#32
  let v2494 : BitVec 1 := Scalar.cmpi .slt c4_i32_1400 c0_i32_1404
  let v2495 : BitVec 32 := Scalar.extui v2494
  let v2496 : BitVec 32 := Scalar.subi v2493 v2495
  let v2497 : BitVec 1 := Scalar.cmpi .ne v2491 v2496
  let v2498 : BitVec 32 := Scalar.remsi v2419 c4_i32_1400
  let c0_i32_1405 : BitVec 32 := 0#32
  let v2499 : BitVec 1 := Scalar.cmpi .ne v2498 c0_i32_1405
  let v2500 : BitVec 1 := Scalar.andi v2497 v2499
  let v2486 : BitVec 32 := Scalar.divsi v2419 c4_i32_1400
  let c1_i32_1406 : BitVec 32 := 1#32
  let v2501 : BitVec 32 := Scalar.subi v2486 c1_i32_1406
  let v2502 : BitVec 32 := Scalar.select v2500 v2501 v2486
  let c4_i32_1430 : BitVec 32 := 4#32
  let v2540 : BitVec 32 := Scalar.muli v2502 c4_i32_1430
  let v2541 : BitVec 32 := Scalar.addi c0_i32_1431 v2540
  let c0_i32_1408 : BitVec 32 := 0#32
  let v2504 : BitVec 1 := Scalar.cmpi .sgt v2419 c0_i32_1408
  let v2505 : BitVec 32 := Scalar.extui v2504
  let c0_i32_1409 : BitVec 32 := 0#32
  let v2506 : BitVec 1 := Scalar.cmpi .slt v2419 c0_i32_1409
  let v2507 : BitVec 32 := Scalar.extui v2506
  let v2508 : BitVec 32 := Scalar.subi v2505 v2507
  let c2_i32_1407 : BitVec 32 := 2#32
  let c0_i32_1410 : BitVec 32 := 0#32
  let v2509 : BitVec 1 := Scalar.cmpi .sgt c2_i32_1407 c0_i32_1410
  let v2510 : BitVec 32 := Scalar.extui v2509
  let c0_i32_1411 : BitVec 32 := 0#32
  let v2511 : BitVec 1 := Scalar.cmpi .slt c2_i32_1407 c0_i32_1411
  let v2512 : BitVec 32 := Scalar.extui v2511
  let v2513 : BitVec 32 := Scalar.subi v2510 v2512
  let v2514 : BitVec 1 := Scalar.cmpi .ne v2508 v2513
  let v2515 : BitVec 32 := Scalar.remsi v2419 c2_i32_1407
  let c0_i32_1412 : BitVec 32 := 0#32
  let v2516 : BitVec 1 := Scalar.cmpi .ne v2515 c0_i32_1412
  let v2517 : BitVec 1 := Scalar.andi v2514 v2516
  let v2503 : BitVec 32 := Scalar.divsi v2419 c2_i32_1407
  let c1_i32_1413 : BitVec 32 := 1#32
  let v2518 : BitVec 32 := Scalar.subi v2503 c1_i32_1413
  let v2519 : BitVec 32 := Scalar.select v2517 v2518 v2503
  let c2_i32_1414 : BitVec 32 := 2#32
  let c0_i32_1415 : BitVec 32 := 0#32
  let v2520 : BitVec 1 := Scalar.cmpi .eq c2_i32_1414 c0_i32_1415
  let c1_i32_1416 : BitVec 32 := 1#32
  let v2521 : BitVec 32 := Scalar.select v2520 c1_i32_1416 c2_i32_1414
  let v2522 : BitVec 32 := Scalar.remsi v2519 v2521
  let c0_i32_1418 : BitVec 32 := 0#32
  let v2524 : BitVec 1 := Scalar.cmpi .slt v2522 c0_i32_1418
  let c0_i32_1419 : BitVec 32 := 0#32
  let v2525 : BitVec 1 := Scalar.cmpi .slt v2521 c0_i32_1419
  let v2526 : BitVec 1 := Scalar.xori v2524 v2525
  let c0_i32_1417 : BitVec 32 := 0#32
  let v2523 : BitVec 1 := Scalar.cmpi .ne v2522 c0_i32_1417
  let v2527 : BitVec 1 := Scalar.andi v2526 v2523
  let v2528 : BitVec 32 := Scalar.addi v2522 v2521
  let v2529 : BitVec 32 := Scalar.select v2527 v2528 v2522
  let c2_i32_1432 : BitVec 32 := 2#32
  let v2542 : BitVec 32 := Scalar.muli v2529 c2_i32_1432
  let v2543 : BitVec 32 := Scalar.addi v2541 v2542
  let c2_i32_1420 : BitVec 32 := 2#32
  let c0_i32_1421 : BitVec 32 := 0#32
  let v2530 : BitVec 1 := Scalar.cmpi .eq c2_i32_1420 c0_i32_1421
  let c1_i32_1422 : BitVec 32 := 1#32
  let v2531 : BitVec 32 := Scalar.select v2530 c1_i32_1422 c2_i32_1420
  let v2532 : BitVec 32 := Scalar.remsi v2419 v2531
  let c0_i32_1424 : BitVec 32 := 0#32
  let v2534 : BitVec 1 := Scalar.cmpi .slt v2532 c0_i32_1424
  let c0_i32_1425 : BitVec 32 := 0#32
  let v2535 : BitVec 1 := Scalar.cmpi .slt v2531 c0_i32_1425
  let v2536 : BitVec 1 := Scalar.xori v2534 v2535
  let c0_i32_1423 : BitVec 32 := 0#32
  let v2533 : BitVec 1 := Scalar.cmpi .ne v2532 c0_i32_1423
  let v2537 : BitVec 1 := Scalar.andi v2536 v2533
  let v2538 : BitVec 32 := Scalar.addi v2532 v2531
  let v2539 : BitVec 32 := Scalar.select v2537 v2538 v2532
  let c1_i32_1433 : BitVec 32 := 1#32
  let v2544 : BitVec 32 := Scalar.muli v2539 c1_i32_1433
  let v2545 : BitVec 32 := Scalar.addi v2543 v2544
  v2545.toNat
def k0_dev39 (d0 : Dev nD) : Nat :=
  let c0_i32_1468 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1438 : BitVec 32 := 0#32
  let v2553 : BitVec 1 := Scalar.cmpi .sgt v2419 c0_i32_1438
  let v2554 : BitVec 32 := Scalar.extui v2553
  let c0_i32_1439 : BitVec 32 := 0#32
  let v2555 : BitVec 1 := Scalar.cmpi .slt v2419 c0_i32_1439
  let v2556 : BitVec 32 := Scalar.extui v2555
  let v2557 : BitVec 32 := Scalar.subi v2554 v2556
  let c4_i32_1437 : BitVec 32 := 4#32
  let c0_i32_1440 : BitVec 32 := 0#32
  let v2558 : BitVec 1 := Scalar.cmpi .sgt c4_i32_1437 c0_i32_1440
  let v2559 : BitVec 32 := Scalar.extui v2558
  let c0_i32_1441 : BitVec 32 := 0#32
  let v2560 : BitVec 1 := Scalar.cmpi .slt c4_i32_1437 c0_i32_1441
  let v2561 : BitVec 32 := Scalar.extui v2560
  let v2562 : BitVec 32 := Scalar.subi v2559 v2561
  let v2563 : BitVec 1 := Scalar.cmpi .ne v2557 v2562
  let v2564 : BitVec 32 := Scalar.remsi v2419 c4_i32_1437
  let c0_i32_1442 : BitVec 32 := 0#32
  let v2565 : BitVec 1 := Scalar.cmpi .ne v2564 c0_i32_1442
  let v2566 : BitVec 1 := Scalar.andi v2563 v2565
  let v2552 : BitVec 32 := Scalar.divsi v2419 c4_i32_1437
  let c1_i32_1443 : BitVec 32 := 1#32
  let v2567 : BitVec 32 := Scalar.subi v2552 c1_i32_1443
  let v2568 : BitVec 32 := Scalar.select v2566 v2567 v2552
  let c4_i32_1467 : BitVec 32 := 4#32
  let v2606 : BitVec 32 := Scalar.muli v2568 c4_i32_1467
  let v2607 : BitVec 32 := Scalar.addi c0_i32_1468 v2606
  let c0_i32_1445 : BitVec 32 := 0#32
  let v2570 : BitVec 1 := Scalar.cmpi .sgt v2419 c0_i32_1445
  let v2571 : BitVec 32 := Scalar.extui v2570
  let c0_i32_1446 : BitVec 32 := 0#32
  let v2572 : BitVec 1 := Scalar.cmpi .slt v2419 c0_i32_1446
  let v2573 : BitVec 32 := Scalar.extui v2572
  let v2574 : BitVec 32 := Scalar.subi v2571 v2573
  let c2_i32_1444 : BitVec 32 := 2#32
  let c0_i32_1447 : BitVec 32 := 0#32
  let v2575 : BitVec 1 := Scalar.cmpi .sgt c2_i32_1444 c0_i32_1447
  let v2576 : BitVec 32 := Scalar.extui v2575
  let c0_i32_1448 : BitVec 32 := 0#32
  let v2577 : BitVec 1 := Scalar.cmpi .slt c2_i32_1444 c0_i32_1448
  let v2578 : BitVec 32 := Scalar.extui v2577
  let v2579 : BitVec 32 := Scalar.subi v2576 v2578
  let v2580 : BitVec 1 := Scalar.cmpi .ne v2574 v2579
  let v2581 : BitVec 32 := Scalar.remsi v2419 c2_i32_1444
  let c0_i32_1449 : BitVec 32 := 0#32
  let v2582 : BitVec 1 := Scalar.cmpi .ne v2581 c0_i32_1449
  let v2583 : BitVec 1 := Scalar.andi v2580 v2582
  let v2569 : BitVec 32 := Scalar.divsi v2419 c2_i32_1444
  let c1_i32_1450 : BitVec 32 := 1#32
  let v2584 : BitVec 32 := Scalar.subi v2569 c1_i32_1450
  let v2585 : BitVec 32 := Scalar.select v2583 v2584 v2569
  let c2_i32_1451 : BitVec 32 := 2#32
  let c0_i32_1452 : BitVec 32 := 0#32
  let v2586 : BitVec 1 := Scalar.cmpi .eq c2_i32_1451 c0_i32_1452
  let c1_i32_1453 : BitVec 32 := 1#32
  let v2587 : BitVec 32 := Scalar.select v2586 c1_i32_1453 c2_i32_1451
  let v2588 : BitVec 32 := Scalar.remsi v2585 v2587
  let c0_i32_1455 : BitVec 32 := 0#32
  let v2590 : BitVec 1 := Scalar.cmpi .slt v2588 c0_i32_1455
  let c0_i32_1456 : BitVec 32 := 0#32
  let v2591 : BitVec 1 := Scalar.cmpi .slt v2587 c0_i32_1456
  let v2592 : BitVec 1 := Scalar.xori v2590 v2591
  let c0_i32_1454 : BitVec 32 := 0#32
  let v2589 : BitVec 1 := Scalar.cmpi .ne v2588 c0_i32_1454
  let v2593 : BitVec 1 := Scalar.andi v2592 v2589
  let v2594 : BitVec 32 := Scalar.addi v2588 v2587
  let v2595 : BitVec 32 := Scalar.select v2593 v2594 v2588
  let c2_i32_1469 : BitVec 32 := 2#32
  let v2608 : BitVec 32 := Scalar.muli v2595 c2_i32_1469
  let v2609 : BitVec 32 := Scalar.addi v2607 v2608
  let c2_i32_1457 : BitVec 32 := 2#32
  let c0_i32_1458 : BitVec 32 := 0#32
  let v2596 : BitVec 1 := Scalar.cmpi .eq c2_i32_1457 c0_i32_1458
  let c1_i32_1459 : BitVec 32 := 1#32
  let v2597 : BitVec 32 := Scalar.select v2596 c1_i32_1459 c2_i32_1457
  let v2598 : BitVec 32 := Scalar.remsi v2419 v2597
  let c0_i32_1461 : BitVec 32 := 0#32
  let v2600 : BitVec 1 := Scalar.cmpi .slt v2598 c0_i32_1461
  let c0_i32_1462 : BitVec 32 := 0#32
  let v2601 : BitVec 1 := Scalar.cmpi .slt v2597 c0_i32_1462
  let v2602 : BitVec 1 := Scalar.xori v2600 v2601
  let c0_i32_1460 : BitVec 32 := 0#32
  let v2599 : BitVec 1 := Scalar.cmpi .ne v2598 c0_i32_1460
  let v2603 : BitVec 1 := Scalar.andi v2602 v2599
  let v2604 : BitVec 32 := Scalar.addi v2598 v2597
  let v2605 : BitVec 32 := Scalar.select v2603 v2604 v2598
  let c1_i32_1470 : BitVec 32 := 1#32
  let v2610 : BitVec 32 := Scalar.muli v2605 c1_i32_1470
  let v2611 : BitVec 32 := Scalar.addi v2609 v2610
  v2611.toNat
def k0_dev40 (d0 : Dev nD) : Nat :=
  let c0_i32_1505 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1475 : BitVec 32 := 0#32
  let v2619 : BitVec 1 := Scalar.cmpi .sgt v2419 c0_i32_1475
  let v2620 : BitVec 32 := Scalar.extui v2619
  let c0_i32_1476 : BitVec 32 := 0#32
  let v2621 : BitVec 1 := Scalar.cmpi .slt v2419 c0_i32_1476
  let v2622 : BitVec 32 := Scalar.extui v2621
  let v2623 : BitVec 32 := Scalar.subi v2620 v2622
  let c4_i32_1474 : BitVec 32 := 4#32
  let c0_i32_1477 : BitVec 32 := 0#32
  let v2624 : BitVec 1 := Scalar.cmpi .sgt c4_i32_1474 c0_i32_1477
  let v2625 : BitVec 32 := Scalar.extui v2624
  let c0_i32_1478 : BitVec 32 := 0#32
  let v2626 : BitVec 1 := Scalar.cmpi .slt c4_i32_1474 c0_i32_1478
  let v2627 : BitVec 32 := Scalar.extui v2626
  let v2628 : BitVec 32 := Scalar.subi v2625 v2627
  let v2629 : BitVec 1 := Scalar.cmpi .ne v2623 v2628
  let v2630 : BitVec 32 := Scalar.remsi v2419 c4_i32_1474
  let c0_i32_1479 : BitVec 32 := 0#32
  let v2631 : BitVec 1 := Scalar.cmpi .ne v2630 c0_i32_1479
  let v2632 : BitVec 1 := Scalar.andi v2629 v2631
  let v2618 : BitVec 32 := Scalar.divsi v2419 c4_i32_1474
  let c1_i32_1480 : BitVec 32 := 1#32
  let v2633 : BitVec 32 := Scalar.subi v2618 c1_i32_1480
  let v2634 : BitVec 32 := Scalar.select v2632 v2633 v2618
  let c4_i32_1504 : BitVec 32 := 4#32
  let v2672 : BitVec 32 := Scalar.muli v2634 c4_i32_1504
  let v2673 : BitVec 32 := Scalar.addi c0_i32_1505 v2672
  let c0_i32_1482 : BitVec 32 := 0#32
  let v2636 : BitVec 1 := Scalar.cmpi .sgt v2419 c0_i32_1482
  let v2637 : BitVec 32 := Scalar.extui v2636
  let c0_i32_1483 : BitVec 32 := 0#32
  let v2638 : BitVec 1 := Scalar.cmpi .slt v2419 c0_i32_1483
  let v2639 : BitVec 32 := Scalar.extui v2638
  let v2640 : BitVec 32 := Scalar.subi v2637 v2639
  let c2_i32_1481 : BitVec 32 := 2#32
  let c0_i32_1484 : BitVec 32 := 0#32
  let v2641 : BitVec 1 := Scalar.cmpi .sgt c2_i32_1481 c0_i32_1484
  let v2642 : BitVec 32 := Scalar.extui v2641
  let c0_i32_1485 : BitVec 32 := 0#32
  let v2643 : BitVec 1 := Scalar.cmpi .slt c2_i32_1481 c0_i32_1485
  let v2644 : BitVec 32 := Scalar.extui v2643
  let v2645 : BitVec 32 := Scalar.subi v2642 v2644
  let v2646 : BitVec 1 := Scalar.cmpi .ne v2640 v2645
  let v2647 : BitVec 32 := Scalar.remsi v2419 c2_i32_1481
  let c0_i32_1486 : BitVec 32 := 0#32
  let v2648 : BitVec 1 := Scalar.cmpi .ne v2647 c0_i32_1486
  let v2649 : BitVec 1 := Scalar.andi v2646 v2648
  let v2635 : BitVec 32 := Scalar.divsi v2419 c2_i32_1481
  let c1_i32_1487 : BitVec 32 := 1#32
  let v2650 : BitVec 32 := Scalar.subi v2635 c1_i32_1487
  let v2651 : BitVec 32 := Scalar.select v2649 v2650 v2635
  let c2_i32_1488 : BitVec 32 := 2#32
  let c0_i32_1489 : BitVec 32 := 0#32
  let v2652 : BitVec 1 := Scalar.cmpi .eq c2_i32_1488 c0_i32_1489
  let c1_i32_1490 : BitVec 32 := 1#32
  let v2653 : BitVec 32 := Scalar.select v2652 c1_i32_1490 c2_i32_1488
  let v2654 : BitVec 32 := Scalar.remsi v2651 v2653
  let c0_i32_1492 : BitVec 32 := 0#32
  let v2656 : BitVec 1 := Scalar.cmpi .slt v2654 c0_i32_1492
  let c0_i32_1493 : BitVec 32 := 0#32
  let v2657 : BitVec 1 := Scalar.cmpi .slt v2653 c0_i32_1493
  let v2658 : BitVec 1 := Scalar.xori v2656 v2657
  let c0_i32_1491 : BitVec 32 := 0#32
  let v2655 : BitVec 1 := Scalar.cmpi .ne v2654 c0_i32_1491
  let v2659 : BitVec 1 := Scalar.andi v2658 v2655
  let v2660 : BitVec 32 := Scalar.addi v2654 v2653
  let v2661 : BitVec 32 := Scalar.select v2659 v2660 v2654
  let c2_i32_1506 : BitVec 32 := 2#32
  let v2674 : BitVec 32 := Scalar.muli v2661 c2_i32_1506
  let v2675 : BitVec 32 := Scalar.addi v2673 v2674
  let c2_i32_1494 : BitVec 32 := 2#32
  let c0_i32_1495 : BitVec 32 := 0#32
  let v2662 : BitVec 1 := Scalar.cmpi .eq c2_i32_1494 c0_i32_1495
  let c1_i32_1496 : BitVec 32 := 1#32
  let v2663 : BitVec 32 := Scalar.select v2662 c1_i32_1496 c2_i32_1494
  let v2664 : BitVec 32 := Scalar.remsi v2419 v2663
  let c0_i32_1498 : BitVec 32 := 0#32
  let v2666 : BitVec 1 := Scalar.cmpi .slt v2664 c0_i32_1498
  let c0_i32_1499 : BitVec 32 := 0#32
  let v2667 : BitVec 1 := Scalar.cmpi .slt v2663 c0_i32_1499
  let v2668 : BitVec 1 := Scalar.xori v2666 v2667
  let c0_i32_1497 : BitVec 32 := 0#32
  let v2665 : BitVec 1 := Scalar.cmpi .ne v2664 c0_i32_1497
  let v2669 : BitVec 1 := Scalar.andi v2668 v2665
  let v2670 : BitVec 32 := Scalar.addi v2664 v2663
  let v2671 : BitVec 32 := Scalar.select v2669 v2670 v2664
  let c1_i32_1507 : BitVec 32 := 1#32
  let v2676 : BitVec 32 := Scalar.muli v2671 c1_i32_1507
  let v2677 : BitVec 32 := Scalar.addi v2675 v2676
  v2677.toNat
def k0_dev41 (d0 : Dev nD) : Nat :=
  let c0_i32_1542 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1512 : BitVec 32 := 0#32
  let v2685 : BitVec 1 := Scalar.cmpi .sgt v2419 c0_i32_1512
  let v2686 : BitVec 32 := Scalar.extui v2685
  let c0_i32_1513 : BitVec 32 := 0#32
  let v2687 : BitVec 1 := Scalar.cmpi .slt v2419 c0_i32_1513
  let v2688 : BitVec 32 := Scalar.extui v2687
  let v2689 : BitVec 32 := Scalar.subi v2686 v2688
  let c4_i32_1511 : BitVec 32 := 4#32
  let c0_i32_1514 : BitVec 32 := 0#32
  let v2690 : BitVec 1 := Scalar.cmpi .sgt c4_i32_1511 c0_i32_1514
  let v2691 : BitVec 32 := Scalar.extui v2690
  let c0_i32_1515 : BitVec 32 := 0#32
  let v2692 : BitVec 1 := Scalar.cmpi .slt c4_i32_1511 c0_i32_1515
  let v2693 : BitVec 32 := Scalar.extui v2692
  let v2694 : BitVec 32 := Scalar.subi v2691 v2693
  let v2695 : BitVec 1 := Scalar.cmpi .ne v2689 v2694
  let v2696 : BitVec 32 := Scalar.remsi v2419 c4_i32_1511
  let c0_i32_1516 : BitVec 32 := 0#32
  let v2697 : BitVec 1 := Scalar.cmpi .ne v2696 c0_i32_1516
  let v2698 : BitVec 1 := Scalar.andi v2695 v2697
  let v2684 : BitVec 32 := Scalar.divsi v2419 c4_i32_1511
  let c1_i32_1517 : BitVec 32 := 1#32
  let v2699 : BitVec 32 := Scalar.subi v2684 c1_i32_1517
  let v2700 : BitVec 32 := Scalar.select v2698 v2699 v2684
  let c4_i32_1541 : BitVec 32 := 4#32
  let v2738 : BitVec 32 := Scalar.muli v2700 c4_i32_1541
  let v2739 : BitVec 32 := Scalar.addi c0_i32_1542 v2738
  let c0_i32_1519 : BitVec 32 := 0#32
  let v2702 : BitVec 1 := Scalar.cmpi .sgt v2419 c0_i32_1519
  let v2703 : BitVec 32 := Scalar.extui v2702
  let c0_i32_1520 : BitVec 32 := 0#32
  let v2704 : BitVec 1 := Scalar.cmpi .slt v2419 c0_i32_1520
  let v2705 : BitVec 32 := Scalar.extui v2704
  let v2706 : BitVec 32 := Scalar.subi v2703 v2705
  let c2_i32_1518 : BitVec 32 := 2#32
  let c0_i32_1521 : BitVec 32 := 0#32
  let v2707 : BitVec 1 := Scalar.cmpi .sgt c2_i32_1518 c0_i32_1521
  let v2708 : BitVec 32 := Scalar.extui v2707
  let c0_i32_1522 : BitVec 32 := 0#32
  let v2709 : BitVec 1 := Scalar.cmpi .slt c2_i32_1518 c0_i32_1522
  let v2710 : BitVec 32 := Scalar.extui v2709
  let v2711 : BitVec 32 := Scalar.subi v2708 v2710
  let v2712 : BitVec 1 := Scalar.cmpi .ne v2706 v2711
  let v2713 : BitVec 32 := Scalar.remsi v2419 c2_i32_1518
  let c0_i32_1523 : BitVec 32 := 0#32
  let v2714 : BitVec 1 := Scalar.cmpi .ne v2713 c0_i32_1523
  let v2715 : BitVec 1 := Scalar.andi v2712 v2714
  let v2701 : BitVec 32 := Scalar.divsi v2419 c2_i32_1518
  let c1_i32_1524 : BitVec 32 := 1#32
  let v2716 : BitVec 32 := Scalar.subi v2701 c1_i32_1524
  let v2717 : BitVec 32 := Scalar.select v2715 v2716 v2701
  let c2_i32_1525 : BitVec 32 := 2#32
  let c0_i32_1526 : BitVec 32 := 0#32
  let v2718 : BitVec 1 := Scalar.cmpi .eq c2_i32_1525 c0_i32_1526
  let c1_i32_1527 : BitVec 32 := 1#32
  let v2719 : BitVec 32 := Scalar.select v2718 c1_i32_1527 c2_i32_1525
  let v2720 : BitVec 32 := Scalar.remsi v2717 v2719
  let c0_i32_1529 : BitVec 32 := 0#32
  let v2722 : BitVec 1 := Scalar.cmpi .slt v2720 c0_i32_1529
  let c0_i32_1530 : BitVec 32 := 0#32
  let v2723 : BitVec 1 := Scalar.cmpi .slt v2719 c0_i32_1530
  let v2724 : BitVec 1 := Scalar.xori v2722 v2723
  let c0_i32_1528 : BitVec 32 := 0#32
  let v2721 : BitVec 1 := Scalar.cmpi .ne v2720 c0_i32_1528
  let v2725 : BitVec 1 := Scalar.andi v2724 v2721
  let v2726 : BitVec 32 := Scalar.addi v2720 v2719
  let v2727 : BitVec 32 := Scalar.select v2725 v2726 v2720
  let c2_i32_1543 : BitVec 32 := 2#32
  let v2740 : BitVec 32 := Scalar.muli v2727 c2_i32_1543
  let v2741 : BitVec 32 := Scalar.addi v2739 v2740
  let c2_i32_1531 : BitVec 32 := 2#32
  let c0_i32_1532 : BitVec 32 := 0#32
  let v2728 : BitVec 1 := Scalar.cmpi .eq c2_i32_1531 c0_i32_1532
  let c1_i32_1533 : BitVec 32 := 1#32
  let v2729 : BitVec 32 := Scalar.select v2728 c1_i32_1533 c2_i32_1531
  let v2730 : BitVec 32 := Scalar.remsi v2419 v2729
  let c0_i32_1535 : BitVec 32 := 0#32
  let v2732 : BitVec 1 := Scalar.cmpi .slt v2730 c0_i32_1535
  let c0_i32_1536 : BitVec 32 := 0#32
  let v2733 : BitVec 1 := Scalar.cmpi .slt v2729 c0_i32_1536
  let v2734 : BitVec 1 := Scalar.xori v2732 v2733
  let c0_i32_1534 : BitVec 32 := 0#32
  let v2731 : BitVec 1 := Scalar.cmpi .ne v2730 c0_i32_1534
  let v2735 : BitVec 1 := Scalar.andi v2734 v2731
  let v2736 : BitVec 32 := Scalar.addi v2730 v2729
  let v2737 : BitVec 32 := Scalar.select v2735 v2736 v2730
  let c1_i32_1544 : BitVec 32 := 1#32
  let v2742 : BitVec 32 := Scalar.muli v2737 c1_i32_1544
  let v2743 : BitVec 32 := Scalar.addi v2741 v2742
  v2743.toNat
def k0_dev42 (d0 : Dev nD) : Nat :=
  let c0_i32_1579 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v2419 : BitVec 32 := Scalar.xori v12 c7_i32
  let c0_i32_1549 : BitVec 32 := 0#32
  let v2751 : BitVec 1 := Scalar.cmpi .sgt v2419 c0_i32_1549
  let v2752 : BitVec 32 := Scalar.extui v2751
  let c0_i32_1550 : BitVec 32 := 0#32
  let v2753 : BitVec 1 := Scalar.cmpi .slt v2419 c0_i32_1550
  let v2754 : BitVec 32 := Scalar.extui v2753
  let v2755 : BitVec 32 := Scalar.subi v2752 v2754
  let c4_i32_1548 : BitVec 32 := 4#32
  let c0_i32_1551 : BitVec 32 := 0#32
  let v2756 : BitVec 1 := Scalar.cmpi .sgt c4_i32_1548 c0_i32_1551
  let v2757 : BitVec 32 := Scalar.extui v2756
  let c0_i32_1552 : BitVec 32 := 0#32
  let v2758 : BitVec 1 := Scalar.cmpi .slt c4_i32_1548 c0_i32_1552
  let v2759 : BitVec 32 := Scalar.extui v2758
  let v2760 : BitVec 32 := Scalar.subi v2757 v2759
  let v2761 : BitVec 1 := Scalar.cmpi .ne v2755 v2760
  let v2762 : BitVec 32 := Scalar.remsi v2419 c4_i32_1548
  let c0_i32_1553 : BitVec 32 := 0#32
  let v2763 : BitVec 1 := Scalar.cmpi .ne v2762 c0_i32_1553
  let v2764 : BitVec 1 := Scalar.andi v2761 v2763
  let v2750 : BitVec 32 := Scalar.divsi v2419 c4_i32_1548
  let c1_i32_1554 : BitVec 32 := 1#32
  let v2765 : BitVec 32 := Scalar.subi v2750 c1_i32_1554
  let v2766 : BitVec 32 := Scalar.select v2764 v2765 v2750
  let c4_i32_1578 : BitVec 32 := 4#32
  let v2804 : BitVec 32 := Scalar.muli v2766 c4_i32_1578
  let v2805 : BitVec 32 := Scalar.addi c0_i32_1579 v2804
  let c0_i32_1556 : BitVec 32 := 0#32
  let v2768 : BitVec 1 := Scalar.cmpi .sgt v2419 c0_i32_1556
  let v2769 : BitVec 32 := Scalar.extui v2768
  let c0_i32_1557 : BitVec 32 := 0#32
  let v2770 : BitVec 1 := Scalar.cmpi .slt v2419 c0_i32_1557
  let v2771 : BitVec 32 := Scalar.extui v2770
  let v2772 : BitVec 32 := Scalar.subi v2769 v2771
  let c2_i32_1555 : BitVec 32 := 2#32
  let c0_i32_1558 : BitVec 32 := 0#32
  let v2773 : BitVec 1 := Scalar.cmpi .sgt c2_i32_1555 c0_i32_1558
  let v2774 : BitVec 32 := Scalar.extui v2773
  let c0_i32_1559 : BitVec 32 := 0#32
  let v2775 : BitVec 1 := Scalar.cmpi .slt c2_i32_1555 c0_i32_1559
  let v2776 : BitVec 32 := Scalar.extui v2775
  let v2777 : BitVec 32 := Scalar.subi v2774 v2776
  let v2778 : BitVec 1 := Scalar.cmpi .ne v2772 v2777
  let v2779 : BitVec 32 := Scalar.remsi v2419 c2_i32_1555
  let c0_i32_1560 : BitVec 32 := 0#32
  let v2780 : BitVec 1 := Scalar.cmpi .ne v2779 c0_i32_1560
  let v2781 : BitVec 1 := Scalar.andi v2778 v2780
  let v2767 : BitVec 32 := Scalar.divsi v2419 c2_i32_1555
  let c1_i32_1561 : BitVec 32 := 1#32
  let v2782 : BitVec 32 := Scalar.subi v2767 c1_i32_1561
  let v2783 : BitVec 32 := Scalar.select v2781 v2782 v2767
  let c2_i32_1562 : BitVec 32 := 2#32
  let c0_i32_1563 : BitVec 32 := 0#32
  let v2784 : BitVec 1 := Scalar.cmpi .eq c2_i32_1562 c0_i32_1563
  let c1_i32_1564 : BitVec 32 := 1#32
  let v2785 : BitVec 32 := Scalar.select v2784 c1_i32_1564 c2_i32_1562
  let v2786 : BitVec 32 := Scalar.remsi v2783 v2785
  let c0_i32_1566 : BitVec 32 := 0#32
  let v2788 : BitVec 1 := Scalar.cmpi .slt v2786 c0_i32_1566
  let c0_i32_1567 : BitVec 32 := 0#32
  let v2789 : BitVec 1 := Scalar.cmpi .slt v2785 c0_i32_1567
  let v2790 : BitVec 1 := Scalar.xori v2788 v2789
  let c0_i32_1565 : BitVec 32 := 0#32
  let v2787 : BitVec 1 := Scalar.cmpi .ne v2786 c0_i32_1565
  let v2791 : BitVec 1 := Scalar.andi v2790 v2787
  let v2792 : BitVec 32 := Scalar.addi v2786 v2785
  let v2793 : BitVec 32 := Scalar.select v2791 v2792 v2786
  let c2_i32_1580 : BitVec 32 := 2#32
  let v2806 : BitVec 32 := Scalar.muli v2793 c2_i32_1580
  let v2807 : BitVec 32 := Scalar.addi v2805 v2806
  let c2_i32_1568 : BitVec 32 := 2#32
  let c0_i32_1569 : BitVec 32 := 0#32
  let v2794 : BitVec 1 := Scalar.cmpi .eq c2_i32_1568 c0_i32_1569
  let c1_i32_1570 : BitVec 32 := 1#32
  let v2795 : BitVec 32 := Scalar.select v2794 c1_i32_1570 c2_i32_1568
  let v2796 : BitVec 32 := Scalar.remsi v2419 v2795
  let c0_i32_1572 : BitVec 32 := 0#32
  let v2798 : BitVec 1 := Scalar.cmpi .slt v2796 c0_i32_1572
  let c0_i32_1573 : BitVec 32 := 0#32
  let v2799 : BitVec 1 := Scalar.cmpi .slt v2795 c0_i32_1573
  let v2800 : BitVec 1 := Scalar.xori v2798 v2799
  let c0_i32_1571 : BitVec 32 := 0#32
  let v2797 : BitVec 1 := Scalar.cmpi .ne v2796 c0_i32_1571
  let v2801 : BitVec 1 := Scalar.andi v2800 v2797
  let v2802 : BitVec 32 := Scalar.addi v2796 v2795
  let v2803 : BitVec 32 := Scalar.select v2801 v2802 v2796
  let c1_i32_1581 : BitVec 32 := 1#32
  let v2808 : BitVec 32 := Scalar.muli v2803 c1_i32_1581
  let v2809 : BitVec 32 := Scalar.addi v2807 v2808
  v2809.toNat
-- ==== Weights.lean ====
abbrev S2x1024x6400 : Shape := ⟨3, ![2, 1024, 6400]⟩
abbrev S2x512x512 : Shape := ⟨3, ![2, 512, 512]⟩
abbrev S2x512x1024 : Shape := ⟨3, ![2, 512, 1024]⟩
abbrev S2x1024x1024 : Shape := ⟨3, ![2, 1024, 1024]⟩
abbrev S2x1024x8x800 : Shape := ⟨4, ![2, 1024, 8, 800]⟩
abbrev S8x2x1024x800 : Shape := ⟨4, ![8, 2, 1024, 800]⟩
abbrev S2x8x64x512 : Shape := ⟨4, ![2, 8, 64, 512]⟩
abbrev S8x2x64x512 : Shape := ⟨4, ![8, 2, 64, 512]⟩
abbrev S2x512x8x128 : Shape := ⟨4, ![2, 512, 8, 128]⟩
abbrev S8x2x512x128 : Shape := ⟨4, ![8, 2, 512, 128]⟩
abbrev S2x8x128x1024 : Shape := ⟨4, ![2, 8, 128, 1024]⟩
abbrev S8x2x128x1024 : Shape := ⟨4, ![8, 2, 128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x1024x6400, .bf16⟩
  | .hbm, ⟨1, _⟩ => ⟨S2x512x512, .bf16⟩
  | .hbm, ⟨2, _⟩ => ⟨S2x512x1024, .bf16⟩
  | .hbm, ⟨3, _⟩ => ⟨S2x512x1024, .bf16⟩
  | .hbm, ⟨4, _⟩ => ⟨S2x512x1024, .bf16⟩
  | .hbm, ⟨5, _⟩ => ⟨S2x1024x1024, .bf16⟩
  | .hbm, ⟨6, _⟩ => ⟨S2x1024x8x800, .bf16⟩
  | .hbm, ⟨7, _⟩ => ⟨S8x2x1024x800, .bf16⟩
  | .hbm, ⟨8, _⟩ => ⟨S2x8x64x512, .bf16⟩
  | .hbm, ⟨9, _⟩ => ⟨S8x2x64x512, .bf16⟩
  | .hbm, ⟨10, _⟩ => ⟨S2x512x8x128, .bf16⟩
  | .hbm, ⟨11, _⟩ => ⟨S8x2x512x128, .bf16⟩
  | .hbm, ⟨12, _⟩ => ⟨S2x512x8x128, .bf16⟩
  | .hbm, ⟨13, _⟩ => ⟨S8x2x512x128, .bf16⟩
  | .hbm, ⟨14, _⟩ => ⟨S2x512x8x128, .bf16⟩
  | .hbm, ⟨15, _⟩ => ⟨S8x2x512x128, .bf16⟩
  | .hbm, ⟨16, _⟩ => ⟨S2x8x128x1024, .bf16⟩
  | .hbm, ⟨17, _⟩ => ⟨S8x2x128x1024, .bf16⟩
  | _, _ => ⟨S2x1024x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== GatherSmall.lean ====
abbrev S3264x128 : Shape := ⟨2, ![3264, 128]⟩
abbrev S8x3264x128 : Shape := ⟨3, ![8, 3264, 128]⟩
abbrev S1x7 : Shape := ⟨2, ![1, 7]⟩
abbrev S1 : Shape := ⟨1, ![1]⟩
abbrev S_ : Shape := ⟨0, ![]⟩
abbrev S1x3264x128 : Shape := ⟨3, ![1, 3264, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S3264x128, .f32⟩
  | .hbm, ⟨1, _⟩ => ⟨S8x3264x128, .f32⟩
  | _, _ => ⟨S3264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_39 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_7 : BitVec 32 := 1#32
  let v17 : BitVec 32 := Scalar.xori v12 c1_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c4_i32_8 : BitVec 32 := 4#32
  let c0_i32_11 : BitVec 32 := 0#32
  let v24 : BitVec 1 := Scalar.cmpi .sgt c4_i32_8 c0_i32_11
  let v25 : BitVec 32 := Scalar.extui v24
  let c0_i32_12 : BitVec 32 := 0#32
  let v26 : BitVec 1 := Scalar.cmpi .slt c4_i32_8 c0_i32_12
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_13 : BitVec 32 := 0#32
  let v31 : BitVec 1 := Scalar.cmpi .ne v30 c0_i32_13
  let v32 : BitVec 1 := Scalar.andi v29 v31
  let v18 : BitVec 32 := Scalar.divsi v17 c4_i32_8
  let c1_i32_14 : BitVec 32 := 1#32
  let v33 : BitVec 32 := Scalar.subi v18 c1_i32_14
  let v34 : BitVec 32 := Scalar.select v32 v33 v18
  let c4_i32_38 : BitVec 32 := 4#32
  let v72 : BitVec 32 := Scalar.muli v34 c4_i32_38
  let v73 : BitVec 32 := Scalar.addi c0_i32_39 v72
  let c0_i32_16 : BitVec 32 := 0#32
  let v36 : BitVec 1 := Scalar.cmpi .sgt v17 c0_i32_16
  let v37 : BitVec 32 := Scalar.extui v36
  let c0_i32_17 : BitVec 32 := 0#32
  let v38 : BitVec 1 := Scalar.cmpi .slt v17 c0_i32_17
  let v39 : BitVec 32 := Scalar.extui v38
  let v40 : BitVec 32 := Scalar.subi v37 v39
  let c2_i32_15 : BitVec 32 := 2#32
  let c0_i32_18 : BitVec 32 := 0#32
  let v41 : BitVec 1 := Scalar.cmpi .sgt c2_i32_15 c0_i32_18
  let v42 : BitVec 32 := Scalar.extui v41
  let c0_i32_19 : BitVec 32 := 0#32
  let v43 : BitVec 1 := Scalar.cmpi .slt c2_i32_15 c0_i32_19
  let v44 : BitVec 32 := Scalar.extui v43
  let v45 : BitVec 32 := Scalar.subi v42 v44
  let v46 : BitVec 1 := Scalar.cmpi .ne v40 v45
  let v47 : BitVec 32 := Scalar.remsi v17 c2_i32_15
  let c0_i32_20 : BitVec 32 := 0#32
  let v48 : BitVec 1 := Scalar.cmpi .ne v47 c0_i32_20
  let v49 : BitVec 1 := Scalar.andi v46 v48
  let v35 : BitVec 32 := Scalar.divsi v17 c2_i32_15
  let c1_i32_21 : BitVec 32 := 1#32
  let v50 : BitVec 32 := Scalar.subi v35 c1_i32_21
  let v51 : BitVec 32 := Scalar.select v49 v50 v35
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v51 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c2_i32_40 : BitVec 32 := 2#32
  let v74 : BitVec 32 := Scalar.muli v61 c2_i32_40
  let v75 : BitVec 32 := Scalar.addi v73 v74
  let c2_i32_28 : BitVec 32 := 2#32
  let c0_i32_29 : BitVec 32 := 0#32
  let v62 : BitVec 1 := Scalar.cmpi .eq c2_i32_28 c0_i32_29
  let c1_i32_30 : BitVec 32 := 1#32
  let v63 : BitVec 32 := Scalar.select v62 c1_i32_30 c2_i32_28
  let v64 : BitVec 32 := Scalar.remsi v17 v63
  let c0_i32_32 : BitVec 32 := 0#32
  let v66 : BitVec 1 := Scalar.cmpi .slt v64 c0_i32_32
  let c0_i32_33 : BitVec 32 := 0#32
  let v67 : BitVec 1 := Scalar.cmpi .slt v63 c0_i32_33
  let v68 : BitVec 1 := Scalar.xori v66 v67
  let c0_i32_31 : BitVec 32 := 0#32
  let v65 : BitVec 1 := Scalar.cmpi .ne v64 c0_i32_31
  let v69 : BitVec 1 := Scalar.andi v68 v65
  let v70 : BitVec 32 := Scalar.addi v64 v63
  let v71 : BitVec 32 := Scalar.select v69 v70 v64
  let c1_i32_41 : BitVec 32 := 1#32
  let v76 : BitVec 32 := Scalar.muli v71 c1_i32_41
  let v77 : BitVec 32 := Scalar.addi v75 v76
  v77.toNat
def k0_dev2 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_44 : BitVec 32 := 2#32
  let v84 : BitVec 32 := Scalar.xori v12 c2_i32_44
  let c0_i32_46 : BitVec 32 := 0#32
  let v86 : BitVec 1 := Scalar.cmpi .sgt v84 c0_i32_46
  let v87 : BitVec 32 := Scalar.extui v86
  let c0_i32_47 : BitVec 32 := 0#32
  let v88 : BitVec 1 := Scalar.cmpi .slt v84 c0_i32_47
  let v89 : BitVec 32 := Scalar.extui v88
  let v90 : BitVec 32 := Scalar.subi v87 v89
  let c4_i32_45 : BitVec 32 := 4#32
  let c0_i32_48 : BitVec 32 := 0#32
  let v91 : BitVec 1 := Scalar.cmpi .sgt c4_i32_45 c0_i32_48
  let v92 : BitVec 32 := Scalar.extui v91
  let c0_i32_49 : BitVec 32 := 0#32
  let v93 : BitVec 1 := Scalar.cmpi .slt c4_i32_45 c0_i32_49
  let v94 : BitVec 32 := Scalar.extui v93
  let v95 : BitVec 32 := Scalar.subi v92 v94
  let v96 : BitVec 1 := Scalar.cmpi .ne v90 v95
  let v97 : BitVec 32 := Scalar.remsi v84 c4_i32_45
  let c0_i32_50 : BitVec 32 := 0#32
  let v98 : BitVec 1 := Scalar.cmpi .ne v97 c0_i32_50
  let v99 : BitVec 1 := Scalar.andi v96 v98
  let v85 : BitVec 32 := Scalar.divsi v84 c4_i32_45
  let c1_i32_51 : BitVec 32 := 1#32
  let v100 : BitVec 32 := Scalar.subi v85 c1_i32_51
  let v101 : BitVec 32 := Scalar.select v99 v100 v85
  let c4_i32_75 : BitVec 32 := 4#32
  let v139 : BitVec 32 := Scalar.muli v101 c4_i32_75
  let v140 : BitVec 32 := Scalar.addi c0_i32_76 v139
  let c0_i32_53 : BitVec 32 := 0#32
  let v103 : BitVec 1 := Scalar.cmpi .sgt v84 c0_i32_53
  let v104 : BitVec 32 := Scalar.extui v103
  let c0_i32_54 : BitVec 32 := 0#32
  let v105 : BitVec 1 := Scalar.cmpi .slt v84 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi v84 c2_i32_52
  let c0_i32_57 : BitVec 32 := 0#32
  let v115 : BitVec 1 := Scalar.cmpi .ne v114 c0_i32_57
  let v116 : BitVec 1 := Scalar.andi v113 v115
  let v102 : BitVec 32 := Scalar.divsi v84 c2_i32_52
  let c1_i32_58 : BitVec 32 := 1#32
  let v117 : BitVec 32 := Scalar.subi v102 c1_i32_58
  let v118 : BitVec 32 := Scalar.select v116 v117 v102
  let c2_i32_59 : BitVec 32 := 2#32
  let c0_i32_60 : BitVec 32 := 0#32
  let v119 : BitVec 1 := Scalar.cmpi .eq c2_i32_59 c0_i32_60
  let c1_i32_61 : BitVec 32 := 1#32
  let v120 : BitVec 32 := Scalar.select v119 c1_i32_61 c2_i32_59
  let v121 : BitVec 32 := Scalar.remsi v118 v120
  let c0_i32_63 : BitVec 32 := 0#32
  let v123 : BitVec 1 := Scalar.cmpi .slt v121 c0_i32_63
  let c0_i32_64 : BitVec 32 := 0#32
  let v124 : BitVec 1 := Scalar.cmpi .slt v120 c0_i32_64
  let v125 : BitVec 1 := Scalar.xori v123 v124
  let c0_i32_62 : BitVec 32 := 0#32
  let v122 : BitVec 1 := Scalar.cmpi .ne v121 c0_i32_62
  let v126 : BitVec 1 := Scalar.andi v125 v122
  let v127 : BitVec 32 := Scalar.addi v121 v120
  let v128 : BitVec 32 := Scalar.select v126 v127 v121
  let c2_i32_77 : BitVec 32 := 2#32
  let v141 : BitVec 32 := Scalar.muli v128 c2_i32_77
  let v142 : BitVec 32 := Scalar.addi v140 v141
  let c2_i32_65 : BitVec 32 := 2#32
  let c0_i32_66 : BitVec 32 := 0#32
  let v129 : BitVec 1 := Scalar.cmpi .eq c2_i32_65 c0_i32_66
  let c1_i32_67 : BitVec 32 := 1#32
  let v130 : BitVec 32 := Scalar.select v129 c1_i32_67 c2_i32_65
  let v131 : BitVec 32 := Scalar.remsi v84 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c1_i32_78 : BitVec 32 := 1#32
  let v143 : BitVec 32 := Scalar.muli v138 c1_i32_78
  let v144 : BitVec 32 := Scalar.addi v142 v143
  v144.toNat
def k0_dev3 (d0 : Dev nD) : Nat :=
  let c0_i32_112 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v151 : BitVec 32 := Scalar.xori v12 c3_i32
  let c0_i32_82 : BitVec 32 := 0#32
  let v153 : BitVec 1 := Scalar.cmpi .sgt v151 c0_i32_82
  let v154 : BitVec 32 := Scalar.extui v153
  let c0_i32_83 : BitVec 32 := 0#32
  let v155 : BitVec 1 := Scalar.cmpi .slt v151 c0_i32_83
  let v156 : BitVec 32 := Scalar.extui v155
  let v157 : BitVec 32 := Scalar.subi v154 v156
  let c4_i32_81 : BitVec 32 := 4#32
  let c0_i32_84 : BitVec 32 := 0#32
  let v158 : BitVec 1 := Scalar.cmpi .sgt c4_i32_81 c0_i32_84
  let v159 : BitVec 32 := Scalar.extui v158
  let c0_i32_85 : BitVec 32 := 0#32
  let v160 : BitVec 1 := Scalar.cmpi .slt c4_i32_81 c0_i32_85
  let v161 : BitVec 32 := Scalar.extui v160
  let v162 : BitVec 32 := Scalar.subi v159 v161
  let v163 : BitVec 1 := Scalar.cmpi .ne v157 v162
  let v164 : BitVec 32 := Scalar.remsi v151 c4_i32_81
  let c0_i32_86 : BitVec 32 := 0#32
  let v165 : BitVec 1 := Scalar.cmpi .ne v164 c0_i32_86
  let v166 : BitVec 1 := Scalar.andi v163 v165
  let v152 : BitVec 32 := Scalar.divsi v151 c4_i32_81
  let c1_i32_87 : BitVec 32 := 1#32
  let v167 : BitVec 32 := Scalar.subi v152 c1_i32_87
  let v168 : BitVec 32 := Scalar.select v166 v167 v152
  let c4_i32_111 : BitVec 32 := 4#32
  let v206 : BitVec 32 := Scalar.muli v168 c4_i32_111
  let v207 : BitVec 32 := Scalar.addi c0_i32_112 v206
  let c0_i32_89 : BitVec 32 := 0#32
  let v170 : BitVec 1 := Scalar.cmpi .sgt v151 c0_i32_89
  let v171 : BitVec 32 := Scalar.extui v170
  let c0_i32_90 : BitVec 32 := 0#32
  let v172 : BitVec 1 := Scalar.cmpi .slt v151 c0_i32_90
  let v173 : BitVec 32 := Scalar.extui v172
  let v174 : BitVec 32 := Scalar.subi v171 v173
  let c2_i32_88 : BitVec 32 := 2#32
  let c0_i32_91 : BitVec 32 := 0#32
  let v175 : BitVec 1 := Scalar.cmpi .sgt c2_i32_88 c0_i32_91
  let v176 : BitVec 32 := Scalar.extui v175
  let c0_i32_92 : BitVec 32 := 0#32
  let v177 : BitVec 1 := Scalar.cmpi .slt c2_i32_88 c0_i32_92
  let v178 : BitVec 32 := Scalar.extui v177
  let v179 : BitVec 32 := Scalar.subi v176 v178
  let v180 : BitVec 1 := Scalar.cmpi .ne v174 v179
  let v181 : BitVec 32 := Scalar.remsi v151 c2_i32_88
  let c0_i32_93 : BitVec 32 := 0#32
  let v182 : BitVec 1 := Scalar.cmpi .ne v181 c0_i32_93
  let v183 : BitVec 1 := Scalar.andi v180 v182
  let v169 : BitVec 32 := Scalar.divsi v151 c2_i32_88
  let c1_i32_94 : BitVec 32 := 1#32
  let v184 : BitVec 32 := Scalar.subi v169 c1_i32_94
  let v185 : BitVec 32 := Scalar.select v183 v184 v169
  let c2_i32_95 : BitVec 32 := 2#32
  let c0_i32_96 : BitVec 32 := 0#32
  let v186 : BitVec 1 := Scalar.cmpi .eq c2_i32_95 c0_i32_96
  let c1_i32_97 : BitVec 32 := 1#32
  let v187 : BitVec 32 := Scalar.select v186 c1_i32_97 c2_i32_95
  let v188 : BitVec 32 := Scalar.remsi v185 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let c2_i32_113 : BitVec 32 := 2#32
  let v208 : BitVec 32 := Scalar.muli v195 c2_i32_113
  let v209 : BitVec 32 := Scalar.addi v207 v208
  let c2_i32_101 : BitVec 32 := 2#32
  let c0_i32_102 : BitVec 32 := 0#32
  let v196 : BitVec 1 := Scalar.cmpi .eq c2_i32_101 c0_i32_102
  let c1_i32_103 : BitVec 32 := 1#32
  let v197 : BitVec 32 := Scalar.select v196 c1_i32_103 c2_i32_101
  let v198 : BitVec 32 := Scalar.remsi v151 v197
  let c0_i32_105 : BitVec 32 := 0#32
  let v200 : BitVec 1 := Scalar.cmpi .slt v198 c0_i32_105
  let c0_i32_106 : BitVec 32 := 0#32
  let v201 : BitVec 1 := Scalar.cmpi .slt v197 c0_i32_106
  let v202 : BitVec 1 := Scalar.xori v200 v201
  let c0_i32_104 : BitVec 32 := 0#32
  let v199 : BitVec 1 := Scalar.cmpi .ne v198 c0_i32_104
  let v203 : BitVec 1 := Scalar.andi v202 v199
  let v204 : BitVec 32 := Scalar.addi v198 v197
  let v205 : BitVec 32 := Scalar.select v203 v204 v198
  let c1_i32_114 : BitVec 32 := 1#32
  let v210 : BitVec 32 := Scalar.muli v205 c1_i32_114
  let v211 : BitVec 32 := Scalar.addi v209 v210
  v211.toNat
def k0_dev4 (d0 : Dev nD) : Nat :=
  let c0_i32_149 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_117 : BitVec 32 := 4#32
  let v218 : BitVec 32 := Scalar.xori v12 c4_i32_117
  let c0_i32_119 : BitVec 32 := 0#32
  let v220 : BitVec 1 := Scalar.cmpi .sgt v218 c0_i32_119
  let v221 : BitVec 32 := Scalar.extui v220
  let c0_i32_120 : BitVec 32 := 0#32
  let v222 : BitVec 1 := Scalar.cmpi .slt v218 c0_i32_120
  let v223 : BitVec 32 := Scalar.extui v222
  let v224 : BitVec 32 := Scalar.subi v221 v223
  let c4_i32_118 : BitVec 32 := 4#32
  let c0_i32_121 : BitVec 32 := 0#32
  let v225 : BitVec 1 := Scalar.cmpi .sgt c4_i32_118 c0_i32_121
  let v226 : BitVec 32 := Scalar.extui v225
  let c0_i32_122 : BitVec 32 := 0#32
  let v227 : BitVec 1 := Scalar.cmpi .slt c4_i32_118 c0_i32_122
  let v228 : BitVec 32 := Scalar.extui v227
  let v229 : BitVec 32 := Scalar.subi v226 v228
  let v230 : BitVec 1 := Scalar.cmpi .ne v224 v229
  let v231 : BitVec 32 := Scalar.remsi v218 c4_i32_118
  let c0_i32_123 : BitVec 32 := 0#32
  let v232 : BitVec 1 := Scalar.cmpi .ne v231 c0_i32_123
  let v233 : BitVec 1 := Scalar.andi v230 v232
  let v219 : BitVec 32 := Scalar.divsi v218 c4_i32_118
  let c1_i32_124 : BitVec 32 := 1#32
  let v234 : BitVec 32 := Scalar.subi v219 c1_i32_124
  let v235 : BitVec 32 := Scalar.select v233 v234 v219
  let c4_i32_148 : BitVec 32 := 4#32
  let v273 : BitVec 32 := Scalar.muli v235 c4_i32_148
  let v274 : BitVec 32 := Scalar.addi c0_i32_149 v273
  let c0_i32_126 : BitVec 32 := 0#32
  let v237 : BitVec 1 := Scalar.cmpi .sgt v218 c0_i32_126
  let v238 : BitVec 32 := Scalar.extui v237
  let c0_i32_127 : BitVec 32 := 0#32
  let v239 : BitVec 1 := Scalar.cmpi .slt v218 c0_i32_127
  let v240 : BitVec 32 := Scalar.extui v239
  let v241 : BitVec 32 := Scalar.subi v238 v240
  let c2_i32_125 : BitVec 32 := 2#32
  let c0_i32_128 : BitVec 32 := 0#32
  let v242 : BitVec 1 := Scalar.cmpi .sgt c2_i32_125 c0_i32_128
  let v243 : BitVec 32 := Scalar.extui v242
  let c0_i32_129 : BitVec 32 := 0#32
  let v244 : BitVec 1 := Scalar.cmpi .slt c2_i32_125 c0_i32_129
  let v245 : BitVec 32 := Scalar.extui v244
  let v246 : BitVec 32 := Scalar.subi v243 v245
  let v247 : BitVec 1 := Scalar.cmpi .ne v241 v246
  let v248 : BitVec 32 := Scalar.remsi v218 c2_i32_125
  let c0_i32_130 : BitVec 32 := 0#32
  let v249 : BitVec 1 := Scalar.cmpi .ne v248 c0_i32_130
  let v250 : BitVec 1 := Scalar.andi v247 v249
  let v236 : BitVec 32 := Scalar.divsi v218 c2_i32_125
  let c1_i32_131 : BitVec 32 := 1#32
  let v251 : BitVec 32 := Scalar.subi v236 c1_i32_131
  let v252 : BitVec 32 := Scalar.select v250 v251 v236
  let c2_i32_132 : BitVec 32 := 2#32
  let c0_i32_133 : BitVec 32 := 0#32
  let v253 : BitVec 1 := Scalar.cmpi .eq c2_i32_132 c0_i32_133
  let c1_i32_134 : BitVec 32 := 1#32
  let v254 : BitVec 32 := Scalar.select v253 c1_i32_134 c2_i32_132
  let v255 : BitVec 32 := Scalar.remsi v252 v254
  let c0_i32_136 : BitVec 32 := 0#32
  let v257 : BitVec 1 := Scalar.cmpi .slt v255 c0_i32_136
  let c0_i32_137 : BitVec 32 := 0#32
  let v258 : BitVec 1 := Scalar.cmpi .slt v254 c0_i32_137
  let v259 : BitVec 1 := Scalar.xori v257 v258
  let c0_i32_135 : BitVec 32 := 0#32
  let v256 : BitVec 1 := Scalar.cmpi .ne v255 c0_i32_135
  let v260 : BitVec 1 := Scalar.andi v259 v256
  let v261 : BitVec 32 := Scalar.addi v255 v254
  let v262 : BitVec 32 := Scalar.select v260 v261 v255
  let c2_i32_150 : BitVec 32 := 2#32
  let v275 : BitVec 32 := Scalar.muli v262 c2_i32_150
  let v276 : BitVec 32 := Scalar.addi v274 v275
  let c2_i32_138 : BitVec 32 := 2#32
  let c0_i32_139 : BitVec 32 := 0#32
  let v263 : BitVec 1 := Scalar.cmpi .eq c2_i32_138 c0_i32_139
  let c1_i32_140 : BitVec 32 := 1#32
  let v264 : BitVec 32 := Scalar.select v263 c1_i32_140 c2_i32_138
  let v265 : BitVec 32 := Scalar.remsi v218 v264
  let c0_i32_142 : BitVec 32 := 0#32
  let v267 : BitVec 1 := Scalar.cmpi .slt v265 c0_i32_142
  let c0_i32_143 : BitVec 32 := 0#32
  let v268 : BitVec 1 := Scalar.cmpi .slt v264 c0_i32_143
  let v269 : BitVec 1 := Scalar.xori v267 v268
  let c0_i32_141 : BitVec 32 := 0#32
  let v266 : BitVec 1 := Scalar.cmpi .ne v265 c0_i32_141
  let v270 : BitVec 1 := Scalar.andi v269 v266
  let v271 : BitVec 32 := Scalar.addi v265 v264
  let v272 : BitVec 32 := Scalar.select v270 v271 v265
  let c1_i32_151 : BitVec 32 := 1#32
  let v277 : BitVec 32 := Scalar.muli v272 c1_i32_151
  let v278 : BitVec 32 := Scalar.addi v276 v277
  v278.toNat
def k0_dev5 (d0 : Dev nD) : Nat :=
  let c0_i32_185 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v285 : BitVec 32 := Scalar.xori v12 c5_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c4_i32_154 : BitVec 32 := 4#32
  let c0_i32_157 : BitVec 32 := 0#32
  let v292 : BitVec 1 := Scalar.cmpi .sgt c4_i32_154 c0_i32_157
  let v293 : BitVec 32 := Scalar.extui v292
  let c0_i32_158 : BitVec 32 := 0#32
  let v294 : BitVec 1 := Scalar.cmpi .slt c4_i32_154 c0_i32_158
  let v295 : BitVec 32 := Scalar.extui v294
  let v296 : BitVec 32 := Scalar.subi v293 v295
  let v297 : BitVec 1 := Scalar.cmpi .ne v291 v296
  let v298 : BitVec 32 := Scalar.remsi v285 c4_i32_154
  let c0_i32_159 : BitVec 32 := 0#32
  let v299 : BitVec 1 := Scalar.cmpi .ne v298 c0_i32_159
  let v300 : BitVec 1 := Scalar.andi v297 v299
  let v286 : BitVec 32 := Scalar.divsi v285 c4_i32_154
  let c1_i32_160 : BitVec 32 := 1#32
  let v301 : BitVec 32 := Scalar.subi v286 c1_i32_160
  let v302 : BitVec 32 := Scalar.select v300 v301 v286
  let c4_i32_184 : BitVec 32 := 4#32
  let v340 : BitVec 32 := Scalar.muli v302 c4_i32_184
  let v341 : BitVec 32 := Scalar.addi c0_i32_185 v340
  let c0_i32_162 : BitVec 32 := 0#32
  let v304 : BitVec 1 := Scalar.cmpi .sgt v285 c0_i32_162
  let v305 : BitVec 32 := Scalar.extui v304
  let c0_i32_163 : BitVec 32 := 0#32
  let v306 : BitVec 1 := Scalar.cmpi .slt v285 c0_i32_163
  let v307 : BitVec 32 := Scalar.extui v306
  let v308 : BitVec 32 := Scalar.subi v305 v307
  let c2_i32_161 : BitVec 32 := 2#32
  let c0_i32_164 : BitVec 32 := 0#32
  let v309 : BitVec 1 := Scalar.cmpi .sgt c2_i32_161 c0_i32_164
  let v310 : BitVec 32 := Scalar.extui v309
  let c0_i32_165 : BitVec 32 := 0#32
  let v311 : BitVec 1 := Scalar.cmpi .slt c2_i32_161 c0_i32_165
  let v312 : BitVec 32 := Scalar.extui v311
  let v313 : BitVec 32 := Scalar.subi v310 v312
  let v314 : BitVec 1 := Scalar.cmpi .ne v308 v313
  let v315 : BitVec 32 := Scalar.remsi v285 c2_i32_161
  let c0_i32_166 : BitVec 32 := 0#32
  let v316 : BitVec 1 := Scalar.cmpi .ne v315 c0_i32_166
  let v317 : BitVec 1 := Scalar.andi v314 v316
  let v303 : BitVec 32 := Scalar.divsi v285 c2_i32_161
  let c1_i32_167 : BitVec 32 := 1#32
  let v318 : BitVec 32 := Scalar.subi v303 c1_i32_167
  let v319 : BitVec 32 := Scalar.select v317 v318 v303
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v319 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c2_i32_186 : BitVec 32 := 2#32
  let v342 : BitVec 32 := Scalar.muli v329 c2_i32_186
  let v343 : BitVec 32 := Scalar.addi v341 v342
  let c2_i32_174 : BitVec 32 := 2#32
  let c0_i32_175 : BitVec 32 := 0#32
  let v330 : BitVec 1 := Scalar.cmpi .eq c2_i32_174 c0_i32_175
  let c1_i32_176 : BitVec 32 := 1#32
  let v331 : BitVec 32 := Scalar.select v330 c1_i32_176 c2_i32_174
  let v332 : BitVec 32 := Scalar.remsi v285 v331
  let c0_i32_178 : BitVec 32 := 0#32
  let v334 : BitVec 1 := Scalar.cmpi .slt v332 c0_i32_178
  let c0_i32_179 : BitVec 32 := 0#32
  let v335 : BitVec 1 := Scalar.cmpi .slt v331 c0_i32_179
  let v336 : BitVec 1 := Scalar.xori v334 v335
  let c0_i32_177 : BitVec 32 := 0#32
  let v333 : BitVec 1 := Scalar.cmpi .ne v332 c0_i32_177
  let v337 : BitVec 1 := Scalar.andi v336 v333
  let v338 : BitVec 32 := Scalar.addi v332 v331
  let v339 : BitVec 32 := Scalar.select v337 v338 v332
  let c1_i32_187 : BitVec 32 := 1#32
  let v344 : BitVec 32 := Scalar.muli v339 c1_i32_187
  let v345 : BitVec 32 := Scalar.addi v343 v344
  v345.toNat
def k0_dev6 (d0 : Dev nD) : Nat :=
  let c0_i32_221 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v352 : BitVec 32 := Scalar.xori v12 c6_i32
  let c0_i32_191 : BitVec 32 := 0#32
  let v354 : BitVec 1 := Scalar.cmpi .sgt v352 c0_i32_191
  let v355 : BitVec 32 := Scalar.extui v354
  let c0_i32_192 : BitVec 32 := 0#32
  let v356 : BitVec 1 := Scalar.cmpi .slt v352 c0_i32_192
  let v357 : BitVec 32 := Scalar.extui v356
  let v358 : BitVec 32 := Scalar.subi v355 v357
  let c4_i32_190 : BitVec 32 := 4#32
  let c0_i32_193 : BitVec 32 := 0#32
  let v359 : BitVec 1 := Scalar.cmpi .sgt c4_i32_190 c0_i32_193
  let v360 : BitVec 32 := Scalar.extui v359
  let c0_i32_194 : BitVec 32 := 0#32
  let v361 : BitVec 1 := Scalar.cmpi .slt c4_i32_190 c0_i32_194
  let v362 : BitVec 32 := Scalar.extui v361
  let v363 : BitVec 32 := Scalar.subi v360 v362
  let v364 : BitVec 1 := Scalar.cmpi .ne v358 v363
  let v365 : BitVec 32 := Scalar.remsi v352 c4_i32_190
  let c0_i32_195 : BitVec 32 := 0#32
  let v366 : BitVec 1 := Scalar.cmpi .ne v365 c0_i32_195
  let v367 : BitVec 1 := Scalar.andi v364 v366
  let v353 : BitVec 32 := Scalar.divsi v352 c4_i32_190
  let c1_i32_196 : BitVec 32 := 1#32
  let v368 : BitVec 32 := Scalar.subi v353 c1_i32_196
  let v369 : BitVec 32 := Scalar.select v367 v368 v353
  let c4_i32_220 : BitVec 32 := 4#32
  let v407 : BitVec 32 := Scalar.muli v369 c4_i32_220
  let v408 : BitVec 32 := Scalar.addi c0_i32_221 v407
  let c0_i32_198 : BitVec 32 := 0#32
  let v371 : BitVec 1 := Scalar.cmpi .sgt v352 c0_i32_198
  let v372 : BitVec 32 := Scalar.extui v371
  let c0_i32_199 : BitVec 32 := 0#32
  let v373 : BitVec 1 := Scalar.cmpi .slt v352 c0_i32_199
  let v374 : BitVec 32 := Scalar.extui v373
  let v375 : BitVec 32 := Scalar.subi v372 v374
  let c2_i32_197 : BitVec 32 := 2#32
  let c0_i32_200 : BitVec 32 := 0#32
  let v376 : BitVec 1 := Scalar.cmpi .sgt c2_i32_197 c0_i32_200
  let v377 : BitVec 32 := Scalar.extui v376
  let c0_i32_201 : BitVec 32 := 0#32
  let v378 : BitVec 1 := Scalar.cmpi .slt c2_i32_197 c0_i32_201
  let v379 : BitVec 32 := Scalar.extui v378
  let v380 : BitVec 32 := Scalar.subi v377 v379
  let v381 : BitVec 1 := Scalar.cmpi .ne v375 v380
  let v382 : BitVec 32 := Scalar.remsi v352 c2_i32_197
  let c0_i32_202 : BitVec 32 := 0#32
  let v383 : BitVec 1 := Scalar.cmpi .ne v382 c0_i32_202
  let v384 : BitVec 1 := Scalar.andi v381 v383
  let v370 : BitVec 32 := Scalar.divsi v352 c2_i32_197
  let c1_i32_203 : BitVec 32 := 1#32
  let v385 : BitVec 32 := Scalar.subi v370 c1_i32_203
  let v386 : BitVec 32 := Scalar.select v384 v385 v370
  let c2_i32_204 : BitVec 32 := 2#32
  let c0_i32_205 : BitVec 32 := 0#32
  let v387 : BitVec 1 := Scalar.cmpi .eq c2_i32_204 c0_i32_205
  let c1_i32_206 : BitVec 32 := 1#32
  let v388 : BitVec 32 := Scalar.select v387 c1_i32_206 c2_i32_204
  let v389 : BitVec 32 := Scalar.remsi v386 v388
  let c0_i32_208 : BitVec 32 := 0#32
  let v391 : BitVec 1 := Scalar.cmpi .slt v389 c0_i32_208
  let c0_i32_209 : BitVec 32 := 0#32
  let v392 : BitVec 1 := Scalar.cmpi .slt v388 c0_i32_209
  let v393 : BitVec 1 := Scalar.xori v391 v392
  let c0_i32_207 : BitVec 32 := 0#32
  let v390 : BitVec 1 := Scalar.cmpi .ne v389 c0_i32_207
  let v394 : BitVec 1 := Scalar.andi v393 v390
  let v395 : BitVec 32 := Scalar.addi v389 v388
  let v396 : BitVec 32 := Scalar.select v394 v395 v389
  let c2_i32_222 : BitVec 32 := 2#32
  let v409 : BitVec 32 := Scalar.muli v396 c2_i32_222
  let v410 : BitVec 32 := Scalar.addi v408 v409
  let c2_i32_210 : BitVec 32 := 2#32
  let c0_i32_211 : BitVec 32 := 0#32
  let v397 : BitVec 1 := Scalar.cmpi .eq c2_i32_210 c0_i32_211
  let c1_i32_212 : BitVec 32 := 1#32
  let v398 : BitVec 32 := Scalar.select v397 c1_i32_212 c2_i32_210
  let v399 : BitVec 32 := Scalar.remsi v352 v398
  let c0_i32_214 : BitVec 32 := 0#32
  let v401 : BitVec 1 := Scalar.cmpi .slt v399 c0_i32_214
  let c0_i32_215 : BitVec 32 := 0#32
  let v402 : BitVec 1 := Scalar.cmpi .slt v398 c0_i32_215
  let v403 : BitVec 1 := Scalar.xori v401 v402
  let c0_i32_213 : BitVec 32 := 0#32
  let v400 : BitVec 1 := Scalar.cmpi .ne v399 c0_i32_213
  let v404 : BitVec 1 := Scalar.andi v403 v400
  let v405 : BitVec 32 := Scalar.addi v399 v398
  let v406 : BitVec 32 := Scalar.select v404 v405 v399
  let c1_i32_223 : BitVec 32 := 1#32
  let v411 : BitVec 32 := Scalar.muli v406 c1_i32_223
  let v412 : BitVec 32 := Scalar.addi v410 v411
  v412.toNat
def k0_dev7 (d0 : Dev nD) : Nat :=
  let c0_i32_257 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v419 : BitVec 32 := Scalar.xori v12 c7_i32
  let c0_i32_227 : BitVec 32 := 0#32
  let v421 : BitVec 1 := Scalar.cmpi .sgt v419 c0_i32_227
  let v422 : BitVec 32 := Scalar.extui v421
  let c0_i32_228 : BitVec 32 := 0#32
  let v423 : BitVec 1 := Scalar.cmpi .slt v419 c0_i32_228
  let v424 : BitVec 32 := Scalar.extui v423
  let v425 : BitVec 32 := Scalar.subi v422 v424
  let c4_i32_226 : BitVec 32 := 4#32
  let c0_i32_229 : BitVec 32 := 0#32
  let v426 : BitVec 1 := Scalar.cmpi .sgt c4_i32_226 c0_i32_229
  let v427 : BitVec 32 := Scalar.extui v426
  let c0_i32_230 : BitVec 32 := 0#32
  let v428 : BitVec 1 := Scalar.cmpi .slt c4_i32_226 c0_i32_230
  let v429 : BitVec 32 := Scalar.extui v428
  let v430 : BitVec 32 := Scalar.subi v427 v429
  let v431 : BitVec 1 := Scalar.cmpi .ne v425 v430
  let v432 : BitVec 32 := Scalar.remsi v419 c4_i32_226
  let c0_i32_231 : BitVec 32 := 0#32
  let v433 : BitVec 1 := Scalar.cmpi .ne v432 c0_i32_231
  let v434 : BitVec 1 := Scalar.andi v431 v433
  let v420 : BitVec 32 := Scalar.divsi v419 c4_i32_226
  let c1_i32_232 : BitVec 32 := 1#32
  let v435 : BitVec 32 := Scalar.subi v420 c1_i32_232
  let v436 : BitVec 32 := Scalar.select v434 v435 v420
  let c4_i32_256 : BitVec 32 := 4#32
  let v474 : BitVec 32 := Scalar.muli v436 c4_i32_256
  let v475 : BitVec 32 := Scalar.addi c0_i32_257 v474
  let c0_i32_234 : BitVec 32 := 0#32
  let v438 : BitVec 1 := Scalar.cmpi .sgt v419 c0_i32_234
  let v439 : BitVec 32 := Scalar.extui v438
  let c0_i32_235 : BitVec 32 := 0#32
  let v440 : BitVec 1 := Scalar.cmpi .slt v419 c0_i32_235
  let v441 : BitVec 32 := Scalar.extui v440
  let v442 : BitVec 32 := Scalar.subi v439 v441
  let c2_i32_233 : BitVec 32 := 2#32
  let c0_i32_236 : BitVec 32 := 0#32
  let v443 : BitVec 1 := Scalar.cmpi .sgt c2_i32_233 c0_i32_236
  let v444 : BitVec 32 := Scalar.extui v443
  let c0_i32_237 : BitVec 32 := 0#32
  let v445 : BitVec 1 := Scalar.cmpi .slt c2_i32_233 c0_i32_237
  let v446 : BitVec 32 := Scalar.extui v445
  let v447 : BitVec 32 := Scalar.subi v444 v446
  let v448 : BitVec 1 := Scalar.cmpi .ne v442 v447
  let v449 : BitVec 32 := Scalar.remsi v419 c2_i32_233
  let c0_i32_238 : BitVec 32 := 0#32
  let v450 : BitVec 1 := Scalar.cmpi .ne v449 c0_i32_238
  let v451 : BitVec 1 := Scalar.andi v448 v450
  let v437 : BitVec 32 := Scalar.divsi v419 c2_i32_233
  let c1_i32_239 : BitVec 32 := 1#32
  let v452 : BitVec 32 := Scalar.subi v437 c1_i32_239
  let v453 : BitVec 32 := Scalar.select v451 v452 v437
  let c2_i32_240 : BitVec 32 := 2#32
  let c0_i32_241 : BitVec 32 := 0#32
  let v454 : BitVec 1 := Scalar.cmpi .eq c2_i32_240 c0_i32_241
  let c1_i32_242 : BitVec 32 := 1#32
  let v455 : BitVec 32 := Scalar.select v454 c1_i32_242 c2_i32_240
  let v456 : BitVec 32 := Scalar.remsi v453 v455
  let c0_i32_244 : BitVec 32 := 0#32
  let v458 : BitVec 1 := Scalar.cmpi .slt v456 c0_i32_244
  let c0_i32_245 : BitVec 32 := 0#32
  let v459 : BitVec 1 := Scalar.cmpi .slt v455 c0_i32_245
  let v460 : BitVec 1 := Scalar.xori v458 v459
  let c0_i32_243 : BitVec 32 := 0#32
  let v457 : BitVec 1 := Scalar.cmpi .ne v456 c0_i32_243
  let v461 : BitVec 1 := Scalar.andi v460 v457
  let v462 : BitVec 32 := Scalar.addi v456 v455
  let v463 : BitVec 32 := Scalar.select v461 v462 v456
  let c2_i32_258 : BitVec 32 := 2#32
  let v476 : BitVec 32 := Scalar.muli v463 c2_i32_258
  let v477 : BitVec 32 := Scalar.addi v475 v476
  let c2_i32_246 : BitVec 32 := 2#32
  let c0_i32_247 : BitVec 32 := 0#32
  let v464 : BitVec 1 := Scalar.cmpi .eq c2_i32_246 c0_i32_247
  let c1_i32_248 : BitVec 32 := 1#32
  let v465 : BitVec 32 := Scalar.select v464 c1_i32_248 c2_i32_246
  let v466 : BitVec 32 := Scalar.remsi v419 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c1_i32_259 : BitVec 32 := 1#32
  let v478 : BitVec 32 := Scalar.muli v473 c1_i32_259
  let v479 : BitVec 32 := Scalar.addi v477 v478
  v479.toNat
-- ==== GatherSmallIdeal.lean ====
abbrev S3264x128 : Shape := ⟨2, ![3264, 128]⟩
abbrev S8x3264x128 : Shape := ⟨3, ![8, 3264, 128]⟩
abbrev S1x7 : Shape := ⟨2, ![1, 7]⟩
abbrev S1 : Shape := ⟨1, ![1]⟩
abbrev S_ : Shape := ⟨0, ![]⟩
abbrev S1x3264x128 : Shape := ⟨3, ![1, 3264, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S3264x128, .f32⟩
  | .hbm, ⟨1, _⟩ => ⟨S8x3264x128, .f32⟩
  | _, _ => ⟨S3264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_39 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_7 : BitVec 32 := 1#32
  let v17 : BitVec 32 := Scalar.xori v12 c1_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c4_i32_8 : BitVec 32 := 4#32
  let c0_i32_11 : BitVec 32 := 0#32
  let v24 : BitVec 1 := Scalar.cmpi .sgt c4_i32_8 c0_i32_11
  let v25 : BitVec 32 := Scalar.extui v24
  let c0_i32_12 : BitVec 32 := 0#32
  let v26 : BitVec 1 := Scalar.cmpi .slt c4_i32_8 c0_i32_12
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_13 : BitVec 32 := 0#32
  let v31 : BitVec 1 := Scalar.cmpi .ne v30 c0_i32_13
  let v32 : BitVec 1 := Scalar.andi v29 v31
  let v18 : BitVec 32 := Scalar.divsi v17 c4_i32_8
  let c1_i32_14 : BitVec 32 := 1#32
  let v33 : BitVec 32 := Scalar.subi v18 c1_i32_14
  let v34 : BitVec 32 := Scalar.select v32 v33 v18
  let c4_i32_38 : BitVec 32 := 4#32
  let v72 : BitVec 32 := Scalar.muli v34 c4_i32_38
  let v73 : BitVec 32 := Scalar.addi c0_i32_39 v72
  let c0_i32_16 : BitVec 32 := 0#32
  let v36 : BitVec 1 := Scalar.cmpi .sgt v17 c0_i32_16
  let v37 : BitVec 32 := Scalar.extui v36
  let c0_i32_17 : BitVec 32 := 0#32
  let v38 : BitVec 1 := Scalar.cmpi .slt v17 c0_i32_17
  let v39 : BitVec 32 := Scalar.extui v38
  let v40 : BitVec 32 := Scalar.subi v37 v39
  let c2_i32_15 : BitVec 32 := 2#32
  let c0_i32_18 : BitVec 32 := 0#32
  let v41 : BitVec 1 := Scalar.cmpi .sgt c2_i32_15 c0_i32_18
  let v42 : BitVec 32 := Scalar.extui v41
  let c0_i32_19 : BitVec 32 := 0#32
  let v43 : BitVec 1 := Scalar.cmpi .slt c2_i32_15 c0_i32_19
  let v44 : BitVec 32 := Scalar.extui v43
  let v45 : BitVec 32 := Scalar.subi v42 v44
  let v46 : BitVec 1 := Scalar.cmpi .ne v40 v45
  let v47 : BitVec 32 := Scalar.remsi v17 c2_i32_15
  let c0_i32_20 : BitVec 32 := 0#32
  let v48 : BitVec 1 := Scalar.cmpi .ne v47 c0_i32_20
  let v49 : BitVec 1 := Scalar.andi v46 v48
  let v35 : BitVec 32 := Scalar.divsi v17 c2_i32_15
  let c1_i32_21 : BitVec 32 := 1#32
  let v50 : BitVec 32 := Scalar.subi v35 c1_i32_21
  let v51 : BitVec 32 := Scalar.select v49 v50 v35
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v51 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c2_i32_40 : BitVec 32 := 2#32
  let v74 : BitVec 32 := Scalar.muli v61 c2_i32_40
  let v75 : BitVec 32 := Scalar.addi v73 v74
  let c2_i32_28 : BitVec 32 := 2#32
  let c0_i32_29 : BitVec 32 := 0#32
  let v62 : BitVec 1 := Scalar.cmpi .eq c2_i32_28 c0_i32_29
  let c1_i32_30 : BitVec 32 := 1#32
  let v63 : BitVec 32 := Scalar.select v62 c1_i32_30 c2_i32_28
  let v64 : BitVec 32 := Scalar.remsi v17 v63
  let c0_i32_32 : BitVec 32 := 0#32
  let v66 : BitVec 1 := Scalar.cmpi .slt v64 c0_i32_32
  let c0_i32_33 : BitVec 32 := 0#32
  let v67 : BitVec 1 := Scalar.cmpi .slt v63 c0_i32_33
  let v68 : BitVec 1 := Scalar.xori v66 v67
  let c0_i32_31 : BitVec 32 := 0#32
  let v65 : BitVec 1 := Scalar.cmpi .ne v64 c0_i32_31
  let v69 : BitVec 1 := Scalar.andi v68 v65
  let v70 : BitVec 32 := Scalar.addi v64 v63
  let v71 : BitVec 32 := Scalar.select v69 v70 v64
  let c1_i32_41 : BitVec 32 := 1#32
  let v76 : BitVec 32 := Scalar.muli v71 c1_i32_41
  let v77 : BitVec 32 := Scalar.addi v75 v76
  v77.toNat
def k0_dev2 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_44 : BitVec 32 := 2#32
  let v84 : BitVec 32 := Scalar.xori v12 c2_i32_44
  let c0_i32_46 : BitVec 32 := 0#32
  let v86 : BitVec 1 := Scalar.cmpi .sgt v84 c0_i32_46
  let v87 : BitVec 32 := Scalar.extui v86
  let c0_i32_47 : BitVec 32 := 0#32
  let v88 : BitVec 1 := Scalar.cmpi .slt v84 c0_i32_47
  let v89 : BitVec 32 := Scalar.extui v88
  let v90 : BitVec 32 := Scalar.subi v87 v89
  let c4_i32_45 : BitVec 32 := 4#32
  let c0_i32_48 : BitVec 32 := 0#32
  let v91 : BitVec 1 := Scalar.cmpi .sgt c4_i32_45 c0_i32_48
  let v92 : BitVec 32 := Scalar.extui v91
  let c0_i32_49 : BitVec 32 := 0#32
  let v93 : BitVec 1 := Scalar.cmpi .slt c4_i32_45 c0_i32_49
  let v94 : BitVec 32 := Scalar.extui v93
  let v95 : BitVec 32 := Scalar.subi v92 v94
  let v96 : BitVec 1 := Scalar.cmpi .ne v90 v95
  let v97 : BitVec 32 := Scalar.remsi v84 c4_i32_45
  let c0_i32_50 : BitVec 32 := 0#32
  let v98 : BitVec 1 := Scalar.cmpi .ne v97 c0_i32_50
  let v99 : BitVec 1 := Scalar.andi v96 v98
  let v85 : BitVec 32 := Scalar.divsi v84 c4_i32_45
  let c1_i32_51 : BitVec 32 := 1#32
  let v100 : BitVec 32 := Scalar.subi v85 c1_i32_51
  let v101 : BitVec 32 := Scalar.select v99 v100 v85
  let c4_i32_75 : BitVec 32 := 4#32
  let v139 : BitVec 32 := Scalar.muli v101 c4_i32_75
  let v140 : BitVec 32 := Scalar.addi c0_i32_76 v139
  let c0_i32_53 : BitVec 32 := 0#32
  let v103 : BitVec 1 := Scalar.cmpi .sgt v84 c0_i32_53
  let v104 : BitVec 32 := Scalar.extui v103
  let c0_i32_54 : BitVec 32 := 0#32
  let v105 : BitVec 1 := Scalar.cmpi .slt v84 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi v84 c2_i32_52
  let c0_i32_57 : BitVec 32 := 0#32
  let v115 : BitVec 1 := Scalar.cmpi .ne v114 c0_i32_57
  let v116 : BitVec 1 := Scalar.andi v113 v115
  let v102 : BitVec 32 := Scalar.divsi v84 c2_i32_52
  let c1_i32_58 : BitVec 32 := 1#32
  let v117 : BitVec 32 := Scalar.subi v102 c1_i32_58
  let v118 : BitVec 32 := Scalar.select v116 v117 v102
  let c2_i32_59 : BitVec 32 := 2#32
  let c0_i32_60 : BitVec 32 := 0#32
  let v119 : BitVec 1 := Scalar.cmpi .eq c2_i32_59 c0_i32_60
  let c1_i32_61 : BitVec 32 := 1#32
  let v120 : BitVec 32 := Scalar.select v119 c1_i32_61 c2_i32_59
  let v121 : BitVec 32 := Scalar.remsi v118 v120
  let c0_i32_63 : BitVec 32 := 0#32
  let v123 : BitVec 1 := Scalar.cmpi .slt v121 c0_i32_63
  let c0_i32_64 : BitVec 32 := 0#32
  let v124 : BitVec 1 := Scalar.cmpi .slt v120 c0_i32_64
  let v125 : BitVec 1 := Scalar.xori v123 v124
  let c0_i32_62 : BitVec 32 := 0#32
  let v122 : BitVec 1 := Scalar.cmpi .ne v121 c0_i32_62
  let v126 : BitVec 1 := Scalar.andi v125 v122
  let v127 : BitVec 32 := Scalar.addi v121 v120
  let v128 : BitVec 32 := Scalar.select v126 v127 v121
  let c2_i32_77 : BitVec 32 := 2#32
  let v141 : BitVec 32 := Scalar.muli v128 c2_i32_77
  let v142 : BitVec 32 := Scalar.addi v140 v141
  let c2_i32_65 : BitVec 32 := 2#32
  let c0_i32_66 : BitVec 32 := 0#32
  let v129 : BitVec 1 := Scalar.cmpi .eq c2_i32_65 c0_i32_66
  let c1_i32_67 : BitVec 32 := 1#32
  let v130 : BitVec 32 := Scalar.select v129 c1_i32_67 c2_i32_65
  let v131 : BitVec 32 := Scalar.remsi v84 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c1_i32_78 : BitVec 32 := 1#32
  let v143 : BitVec 32 := Scalar.muli v138 c1_i32_78
  let v144 : BitVec 32 := Scalar.addi v142 v143
  v144.toNat
def k0_dev3 (d0 : Dev nD) : Nat :=
  let c0_i32_112 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v151 : BitVec 32 := Scalar.xori v12 c3_i32
  let c0_i32_82 : BitVec 32 := 0#32
  let v153 : BitVec 1 := Scalar.cmpi .sgt v151 c0_i32_82
  let v154 : BitVec 32 := Scalar.extui v153
  let c0_i32_83 : BitVec 32 := 0#32
  let v155 : BitVec 1 := Scalar.cmpi .slt v151 c0_i32_83
  let v156 : BitVec 32 := Scalar.extui v155
  let v157 : BitVec 32 := Scalar.subi v154 v156
  let c4_i32_81 : BitVec 32 := 4#32
  let c0_i32_84 : BitVec 32 := 0#32
  let v158 : BitVec 1 := Scalar.cmpi .sgt c4_i32_81 c0_i32_84
  let v159 : BitVec 32 := Scalar.extui v158
  let c0_i32_85 : BitVec 32 := 0#32
  let v160 : BitVec 1 := Scalar.cmpi .slt c4_i32_81 c0_i32_85
  let v161 : BitVec 32 := Scalar.extui v160
  let v162 : BitVec 32 := Scalar.subi v159 v161
  let v163 : BitVec 1 := Scalar.cmpi .ne v157 v162
  let v164 : BitVec 32 := Scalar.remsi v151 c4_i32_81
  let c0_i32_86 : BitVec 32 := 0#32
  let v165 : BitVec 1 := Scalar.cmpi .ne v164 c0_i32_86
  let v166 : BitVec 1 := Scalar.andi v163 v165
  let v152 : BitVec 32 := Scalar.divsi v151 c4_i32_81
  let c1_i32_87 : BitVec 32 := 1#32
  let v167 : BitVec 32 := Scalar.subi v152 c1_i32_87
  let v168 : BitVec 32 := Scalar.select v166 v167 v152
  let c4_i32_111 : BitVec 32 := 4#32
  let v206 : BitVec 32 := Scalar.muli v168 c4_i32_111
  let v207 : BitVec 32 := Scalar.addi c0_i32_112 v206
  let c0_i32_89 : BitVec 32 := 0#32
  let v170 : BitVec 1 := Scalar.cmpi .sgt v151 c0_i32_89
  let v171 : BitVec 32 := Scalar.extui v170
  let c0_i32_90 : BitVec 32 := 0#32
  let v172 : BitVec 1 := Scalar.cmpi .slt v151 c0_i32_90
  let v173 : BitVec 32 := Scalar.extui v172
  let v174 : BitVec 32 := Scalar.subi v171 v173
  let c2_i32_88 : BitVec 32 := 2#32
  let c0_i32_91 : BitVec 32 := 0#32
  let v175 : BitVec 1 := Scalar.cmpi .sgt c2_i32_88 c0_i32_91
  let v176 : BitVec 32 := Scalar.extui v175
  let c0_i32_92 : BitVec 32 := 0#32
  let v177 : BitVec 1 := Scalar.cmpi .slt c2_i32_88 c0_i32_92
  let v178 : BitVec 32 := Scalar.extui v177
  let v179 : BitVec 32 := Scalar.subi v176 v178
  let v180 : BitVec 1 := Scalar.cmpi .ne v174 v179
  let v181 : BitVec 32 := Scalar.remsi v151 c2_i32_88
  let c0_i32_93 : BitVec 32 := 0#32
  let v182 : BitVec 1 := Scalar.cmpi .ne v181 c0_i32_93
  let v183 : BitVec 1 := Scalar.andi v180 v182
  let v169 : BitVec 32 := Scalar.divsi v151 c2_i32_88
  let c1_i32_94 : BitVec 32 := 1#32
  let v184 : BitVec 32 := Scalar.subi v169 c1_i32_94
  let v185 : BitVec 32 := Scalar.select v183 v184 v169
  let c2_i32_95 : BitVec 32 := 2#32
  let c0_i32_96 : BitVec 32 := 0#32
  let v186 : BitVec 1 := Scalar.cmpi .eq c2_i32_95 c0_i32_96
  let c1_i32_97 : BitVec 32 := 1#32
  let v187 : BitVec 32 := Scalar.select v186 c1_i32_97 c2_i32_95
  let v188 : BitVec 32 := Scalar.remsi v185 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let c2_i32_113 : BitVec 32 := 2#32
  let v208 : BitVec 32 := Scalar.muli v195 c2_i32_113
  let v209 : BitVec 32 := Scalar.addi v207 v208
  let c2_i32_101 : BitVec 32 := 2#32
  let c0_i32_102 : BitVec 32 := 0#32
  let v196 : BitVec 1 := Scalar.cmpi .eq c2_i32_101 c0_i32_102
  let c1_i32_103 : BitVec 32 := 1#32
  let v197 : BitVec 32 := Scalar.select v196 c1_i32_103 c2_i32_101
  let v198 : BitVec 32 := Scalar.remsi v151 v197
  let c0_i32_105 : BitVec 32 := 0#32
  let v200 : BitVec 1 := Scalar.cmpi .slt v198 c0_i32_105
  let c0_i32_106 : BitVec 32 := 0#32
  let v201 : BitVec 1 := Scalar.cmpi .slt v197 c0_i32_106
  let v202 : BitVec 1 := Scalar.xori v200 v201
  let c0_i32_104 : BitVec 32 := 0#32
  let v199 : BitVec 1 := Scalar.cmpi .ne v198 c0_i32_104
  let v203 : BitVec 1 := Scalar.andi v202 v199
  let v204 : BitVec 32 := Scalar.addi v198 v197
  let v205 : BitVec 32 := Scalar.select v203 v204 v198
  let c1_i32_114 : BitVec 32 := 1#32
  let v210 : BitVec 32 := Scalar.muli v205 c1_i32_114
  let v211 : BitVec 32 := Scalar.addi v209 v210
  v211.toNat
def k0_dev4 (d0 : Dev nD) : Nat :=
  let c0_i32_149 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_117 : BitVec 32 := 4#32
  let v218 : BitVec 32 := Scalar.xori v12 c4_i32_117
  let c0_i32_119 : BitVec 32 := 0#32
  let v220 : BitVec 1 := Scalar.cmpi .sgt v218 c0_i32_119
  let v221 : BitVec 32 := Scalar.extui v220
  let c0_i32_120 : BitVec 32 := 0#32
  let v222 : BitVec 1 := Scalar.cmpi .slt v218 c0_i32_120
  let v223 : BitVec 32 := Scalar.extui v222
  let v224 : BitVec 32 := Scalar.subi v221 v223
  let c4_i32_118 : BitVec 32 := 4#32
  let c0_i32_121 : BitVec 32 := 0#32
  let v225 : BitVec 1 := Scalar.cmpi .sgt c4_i32_118 c0_i32_121
  let v226 : BitVec 32 := Scalar.extui v225
  let c0_i32_122 : BitVec 32 := 0#32
  let v227 : BitVec 1 := Scalar.cmpi .slt c4_i32_118 c0_i32_122
  let v228 : BitVec 32 := Scalar.extui v227
  let v229 : BitVec 32 := Scalar.subi v226 v228
  let v230 : BitVec 1 := Scalar.cmpi .ne v224 v229
  let v231 : BitVec 32 := Scalar.remsi v218 c4_i32_118
  let c0_i32_123 : BitVec 32 := 0#32
  let v232 : BitVec 1 := Scalar.cmpi .ne v231 c0_i32_123
  let v233 : BitVec 1 := Scalar.andi v230 v232
  let v219 : BitVec 32 := Scalar.divsi v218 c4_i32_118
  let c1_i32_124 : BitVec 32 := 1#32
  let v234 : BitVec 32 := Scalar.subi v219 c1_i32_124
  let v235 : BitVec 32 := Scalar.select v233 v234 v219
  let c4_i32_148 : BitVec 32 := 4#32
  let v273 : BitVec 32 := Scalar.muli v235 c4_i32_148
  let v274 : BitVec 32 := Scalar.addi c0_i32_149 v273
  let c0_i32_126 : BitVec 32 := 0#32
  let v237 : BitVec 1 := Scalar.cmpi .sgt v218 c0_i32_126
  let v238 : BitVec 32 := Scalar.extui v237
  let c0_i32_127 : BitVec 32 := 0#32
  let v239 : BitVec 1 := Scalar.cmpi .slt v218 c0_i32_127
  let v240 : BitVec 32 := Scalar.extui v239
  let v241 : BitVec 32 := Scalar.subi v238 v240
  let c2_i32_125 : BitVec 32 := 2#32
  let c0_i32_128 : BitVec 32 := 0#32
  let v242 : BitVec 1 := Scalar.cmpi .sgt c2_i32_125 c0_i32_128
  let v243 : BitVec 32 := Scalar.extui v242
  let c0_i32_129 : BitVec 32 := 0#32
  let v244 : BitVec 1 := Scalar.cmpi .slt c2_i32_125 c0_i32_129
  let v245 : BitVec 32 := Scalar.extui v244
  let v246 : BitVec 32 := Scalar.subi v243 v245
  let v247 : BitVec 1 := Scalar.cmpi .ne v241 v246
  let v248 : BitVec 32 := Scalar.remsi v218 c2_i32_125
  let c0_i32_130 : BitVec 32 := 0#32
  let v249 : BitVec 1 := Scalar.cmpi .ne v248 c0_i32_130
  let v250 : BitVec 1 := Scalar.andi v247 v249
  let v236 : BitVec 32 := Scalar.divsi v218 c2_i32_125
  let c1_i32_131 : BitVec 32 := 1#32
  let v251 : BitVec 32 := Scalar.subi v236 c1_i32_131
  let v252 : BitVec 32 := Scalar.select v250 v251 v236
  let c2_i32_132 : BitVec 32 := 2#32
  let c0_i32_133 : BitVec 32 := 0#32
  let v253 : BitVec 1 := Scalar.cmpi .eq c2_i32_132 c0_i32_133
  let c1_i32_134 : BitVec 32 := 1#32
  let v254 : BitVec 32 := Scalar.select v253 c1_i32_134 c2_i32_132
  let v255 : BitVec 32 := Scalar.remsi v252 v254
  let c0_i32_136 : BitVec 32 := 0#32
  let v257 : BitVec 1 := Scalar.cmpi .slt v255 c0_i32_136
  let c0_i32_137 : BitVec 32 := 0#32
  let v258 : BitVec 1 := Scalar.cmpi .slt v254 c0_i32_137
  let v259 : BitVec 1 := Scalar.xori v257 v258
  let c0_i32_135 : BitVec 32 := 0#32
  let v256 : BitVec 1 := Scalar.cmpi .ne v255 c0_i32_135
  let v260 : BitVec 1 := Scalar.andi v259 v256
  let v261 : BitVec 32 := Scalar.addi v255 v254
  let v262 : BitVec 32 := Scalar.select v260 v261 v255
  let c2_i32_150 : BitVec 32 := 2#32
  let v275 : BitVec 32 := Scalar.muli v262 c2_i32_150
  let v276 : BitVec 32 := Scalar.addi v274 v275
  let c2_i32_138 : BitVec 32 := 2#32
  let c0_i32_139 : BitVec 32 := 0#32
  let v263 : BitVec 1 := Scalar.cmpi .eq c2_i32_138 c0_i32_139
  let c1_i32_140 : BitVec 32 := 1#32
  let v264 : BitVec 32 := Scalar.select v263 c1_i32_140 c2_i32_138
  let v265 : BitVec 32 := Scalar.remsi v218 v264
  let c0_i32_142 : BitVec 32 := 0#32
  let v267 : BitVec 1 := Scalar.cmpi .slt v265 c0_i32_142
  let c0_i32_143 : BitVec 32 := 0#32
  let v268 : BitVec 1 := Scalar.cmpi .slt v264 c0_i32_143
  let v269 : BitVec 1 := Scalar.xori v267 v268
  let c0_i32_141 : BitVec 32 := 0#32
  let v266 : BitVec 1 := Scalar.cmpi .ne v265 c0_i32_141
  let v270 : BitVec 1 := Scalar.andi v269 v266
  let v271 : BitVec 32 := Scalar.addi v265 v264
  let v272 : BitVec 32 := Scalar.select v270 v271 v265
  let c1_i32_151 : BitVec 32 := 1#32
  let v277 : BitVec 32 := Scalar.muli v272 c1_i32_151
  let v278 : BitVec 32 := Scalar.addi v276 v277
  v278.toNat
def k0_dev5 (d0 : Dev nD) : Nat :=
  let c0_i32_185 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v285 : BitVec 32 := Scalar.xori v12 c5_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c4_i32_154 : BitVec 32 := 4#32
  let c0_i32_157 : BitVec 32 := 0#32
  let v292 : BitVec 1 := Scalar.cmpi .sgt c4_i32_154 c0_i32_157
  let v293 : BitVec 32 := Scalar.extui v292
  let c0_i32_158 : BitVec 32 := 0#32
  let v294 : BitVec 1 := Scalar.cmpi .slt c4_i32_154 c0_i32_158
  let v295 : BitVec 32 := Scalar.extui v294
  let v296 : BitVec 32 := Scalar.subi v293 v295
  let v297 : BitVec 1 := Scalar.cmpi .ne v291 v296
  let v298 : BitVec 32 := Scalar.remsi v285 c4_i32_154
  let c0_i32_159 : BitVec 32 := 0#32
  let v299 : BitVec 1 := Scalar.cmpi .ne v298 c0_i32_159
  let v300 : BitVec 1 := Scalar.andi v297 v299
  let v286 : BitVec 32 := Scalar.divsi v285 c4_i32_154
  let c1_i32_160 : BitVec 32 := 1#32
  let v301 : BitVec 32 := Scalar.subi v286 c1_i32_160
  let v302 : BitVec 32 := Scalar.select v300 v301 v286
  let c4_i32_184 : BitVec 32 := 4#32
  let v340 : BitVec 32 := Scalar.muli v302 c4_i32_184
  let v341 : BitVec 32 := Scalar.addi c0_i32_185 v340
  let c0_i32_162 : BitVec 32 := 0#32
  let v304 : BitVec 1 := Scalar.cmpi .sgt v285 c0_i32_162
  let v305 : BitVec 32 := Scalar.extui v304
  let c0_i32_163 : BitVec 32 := 0#32
  let v306 : BitVec 1 := Scalar.cmpi .slt v285 c0_i32_163
  let v307 : BitVec 32 := Scalar.extui v306
  let v308 : BitVec 32 := Scalar.subi v305 v307
  let c2_i32_161 : BitVec 32 := 2#32
  let c0_i32_164 : BitVec 32 := 0#32
  let v309 : BitVec 1 := Scalar.cmpi .sgt c2_i32_161 c0_i32_164
  let v310 : BitVec 32 := Scalar.extui v309
  let c0_i32_165 : BitVec 32 := 0#32
  let v311 : BitVec 1 := Scalar.cmpi .slt c2_i32_161 c0_i32_165
  let v312 : BitVec 32 := Scalar.extui v311
  let v313 : BitVec 32 := Scalar.subi v310 v312
  let v314 : BitVec 1 := Scalar.cmpi .ne v308 v313
  let v315 : BitVec 32 := Scalar.remsi v285 c2_i32_161
  let c0_i32_166 : BitVec 32 := 0#32
  let v316 : BitVec 1 := Scalar.cmpi .ne v315 c0_i32_166
  let v317 : BitVec 1 := Scalar.andi v314 v316
  let v303 : BitVec 32 := Scalar.divsi v285 c2_i32_161
  let c1_i32_167 : BitVec 32 := 1#32
  let v318 : BitVec 32 := Scalar.subi v303 c1_i32_167
  let v319 : BitVec 32 := Scalar.select v317 v318 v303
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v319 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c2_i32_186 : BitVec 32 := 2#32
  let v342 : BitVec 32 := Scalar.muli v329 c2_i32_186
  let v343 : BitVec 32 := Scalar.addi v341 v342
  let c2_i32_174 : BitVec 32 := 2#32
  let c0_i32_175 : BitVec 32 := 0#32
  let v330 : BitVec 1 := Scalar.cmpi .eq c2_i32_174 c0_i32_175
  let c1_i32_176 : BitVec 32 := 1#32
  let v331 : BitVec 32 := Scalar.select v330 c1_i32_176 c2_i32_174
  let v332 : BitVec 32 := Scalar.remsi v285 v331
  let c0_i32_178 : BitVec 32 := 0#32
  let v334 : BitVec 1 := Scalar.cmpi .slt v332 c0_i32_178
  let c0_i32_179 : BitVec 32 := 0#32
  let v335 : BitVec 1 := Scalar.cmpi .slt v331 c0_i32_179
  let v336 : BitVec 1 := Scalar.xori v334 v335
  let c0_i32_177 : BitVec 32 := 0#32
  let v333 : BitVec 1 := Scalar.cmpi .ne v332 c0_i32_177
  let v337 : BitVec 1 := Scalar.andi v336 v333
  let v338 : BitVec 32 := Scalar.addi v332 v331
  let v339 : BitVec 32 := Scalar.select v337 v338 v332
  let c1_i32_187 : BitVec 32 := 1#32
  let v344 : BitVec 32 := Scalar.muli v339 c1_i32_187
  let v345 : BitVec 32 := Scalar.addi v343 v344
  v345.toNat
def k0_dev6 (d0 : Dev nD) : Nat :=
  let c0_i32_221 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v352 : BitVec 32 := Scalar.xori v12 c6_i32
  let c0_i32_191 : BitVec 32 := 0#32
  let v354 : BitVec 1 := Scalar.cmpi .sgt v352 c0_i32_191
  let v355 : BitVec 32 := Scalar.extui v354
  let c0_i32_192 : BitVec 32 := 0#32
  let v356 : BitVec 1 := Scalar.cmpi .slt v352 c0_i32_192
  let v357 : BitVec 32 := Scalar.extui v356
  let v358 : BitVec 32 := Scalar.subi v355 v357
  let c4_i32_190 : BitVec 32 := 4#32
  let c0_i32_193 : BitVec 32 := 0#32
  let v359 : BitVec 1 := Scalar.cmpi .sgt c4_i32_190 c0_i32_193
  let v360 : BitVec 32 := Scalar.extui v359
  let c0_i32_194 : BitVec 32 := 0#32
  let v361 : BitVec 1 := Scalar.cmpi .slt c4_i32_190 c0_i32_194
  let v362 : BitVec 32 := Scalar.extui v361
  let v363 : BitVec 32 := Scalar.subi v360 v362
  let v364 : BitVec 1 := Scalar.cmpi .ne v358 v363
  let v365 : BitVec 32 := Scalar.remsi v352 c4_i32_190
  let c0_i32_195 : BitVec 32 := 0#32
  let v366 : BitVec 1 := Scalar.cmpi .ne v365 c0_i32_195
  let v367 : BitVec 1 := Scalar.andi v364 v366
  let v353 : BitVec 32 := Scalar.divsi v352 c4_i32_190
  let c1_i32_196 : BitVec 32 := 1#32
  let v368 : BitVec 32 := Scalar.subi v353 c1_i32_196
  let v369 : BitVec 32 := Scalar.select v367 v368 v353
  let c4_i32_220 : BitVec 32 := 4#32
  let v407 : BitVec 32 := Scalar.muli v369 c4_i32_220
  let v408 : BitVec 32 := Scalar.addi c0_i32_221 v407
  let c0_i32_198 : BitVec 32 := 0#32
  let v371 : BitVec 1 := Scalar.cmpi .sgt v352 c0_i32_198
  let v372 : BitVec 32 := Scalar.extui v371
  let c0_i32_199 : BitVec 32 := 0#32
  let v373 : BitVec 1 := Scalar.cmpi .slt v352 c0_i32_199
  let v374 : BitVec 32 := Scalar.extui v373
  let v375 : BitVec 32 := Scalar.subi v372 v374
  let c2_i32_197 : BitVec 32 := 2#32
  let c0_i32_200 : BitVec 32 := 0#32
  let v376 : BitVec 1 := Scalar.cmpi .sgt c2_i32_197 c0_i32_200
  let v377 : BitVec 32 := Scalar.extui v376
  let c0_i32_201 : BitVec 32 := 0#32
  let v378 : BitVec 1 := Scalar.cmpi .slt c2_i32_197 c0_i32_201
  let v379 : BitVec 32 := Scalar.extui v378
  let v380 : BitVec 32 := Scalar.subi v377 v379
  let v381 : BitVec 1 := Scalar.cmpi .ne v375 v380
  let v382 : BitVec 32 := Scalar.remsi v352 c2_i32_197
  let c0_i32_202 : BitVec 32 := 0#32
  let v383 : BitVec 1 := Scalar.cmpi .ne v382 c0_i32_202
  let v384 : BitVec 1 := Scalar.andi v381 v383
  let v370 : BitVec 32 := Scalar.divsi v352 c2_i32_197
  let c1_i32_203 : BitVec 32 := 1#32
  let v385 : BitVec 32 := Scalar.subi v370 c1_i32_203
  let v386 : BitVec 32 := Scalar.select v384 v385 v370
  let c2_i32_204 : BitVec 32 := 2#32
  let c0_i32_205 : BitVec 32 := 0#32
  let v387 : BitVec 1 := Scalar.cmpi .eq c2_i32_204 c0_i32_205
  let c1_i32_206 : BitVec 32 := 1#32
  let v388 : BitVec 32 := Scalar.select v387 c1_i32_206 c2_i32_204
  let v389 : BitVec 32 := Scalar.remsi v386 v388
  let c0_i32_208 : BitVec 32 := 0#32
  let v391 : BitVec 1 := Scalar.cmpi .slt v389 c0_i32_208
  let c0_i32_209 : BitVec 32 := 0#32
  let v392 : BitVec 1 := Scalar.cmpi .slt v388 c0_i32_209
  let v393 : BitVec 1 := Scalar.xori v391 v392
  let c0_i32_207 : BitVec 32 := 0#32
  let v390 : BitVec 1 := Scalar.cmpi .ne v389 c0_i32_207
  let v394 : BitVec 1 := Scalar.andi v393 v390
  let v395 : BitVec 32 := Scalar.addi v389 v388
  let v396 : BitVec 32 := Scalar.select v394 v395 v389
  let c2_i32_222 : BitVec 32 := 2#32
  let v409 : BitVec 32 := Scalar.muli v396 c2_i32_222
  let v410 : BitVec 32 := Scalar.addi v408 v409
  let c2_i32_210 : BitVec 32 := 2#32
  let c0_i32_211 : BitVec 32 := 0#32
  let v397 : BitVec 1 := Scalar.cmpi .eq c2_i32_210 c0_i32_211
  let c1_i32_212 : BitVec 32 := 1#32
  let v398 : BitVec 32 := Scalar.select v397 c1_i32_212 c2_i32_210
  let v399 : BitVec 32 := Scalar.remsi v352 v398
  let c0_i32_214 : BitVec 32 := 0#32
  let v401 : BitVec 1 := Scalar.cmpi .slt v399 c0_i32_214
  let c0_i32_215 : BitVec 32 := 0#32
  let v402 : BitVec 1 := Scalar.cmpi .slt v398 c0_i32_215
  let v403 : BitVec 1 := Scalar.xori v401 v402
  let c0_i32_213 : BitVec 32 := 0#32
  let v400 : BitVec 1 := Scalar.cmpi .ne v399 c0_i32_213
  let v404 : BitVec 1 := Scalar.andi v403 v400
  let v405 : BitVec 32 := Scalar.addi v399 v398
  let v406 : BitVec 32 := Scalar.select v404 v405 v399
  let c1_i32_223 : BitVec 32 := 1#32
  let v411 : BitVec 32 := Scalar.muli v406 c1_i32_223
  let v412 : BitVec 32 := Scalar.addi v410 v411
  v412.toNat
def k0_dev7 (d0 : Dev nD) : Nat :=
  let c0_i32_257 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v419 : BitVec 32 := Scalar.xori v12 c7_i32
  let c0_i32_227 : BitVec 32 := 0#32
  let v421 : BitVec 1 := Scalar.cmpi .sgt v419 c0_i32_227
  let v422 : BitVec 32 := Scalar.extui v421
  let c0_i32_228 : BitVec 32 := 0#32
  let v423 : BitVec 1 := Scalar.cmpi .slt v419 c0_i32_228
  let v424 : BitVec 32 := Scalar.extui v423
  let v425 : BitVec 32 := Scalar.subi v422 v424
  let c4_i32_226 : BitVec 32 := 4#32
  let c0_i32_229 : BitVec 32 := 0#32
  let v426 : BitVec 1 := Scalar.cmpi .sgt c4_i32_226 c0_i32_229
  let v427 : BitVec 32 := Scalar.extui v426
  let c0_i32_230 : BitVec 32 := 0#32
  let v428 : BitVec 1 := Scalar.cmpi .slt c4_i32_226 c0_i32_230
  let v429 : BitVec 32 := Scalar.extui v428
  let v430 : BitVec 32 := Scalar.subi v427 v429
  let v431 : BitVec 1 := Scalar.cmpi .ne v425 v430
  let v432 : BitVec 32 := Scalar.remsi v419 c4_i32_226
  let c0_i32_231 : BitVec 32 := 0#32
  let v433 : BitVec 1 := Scalar.cmpi .ne v432 c0_i32_231
  let v434 : BitVec 1 := Scalar.andi v431 v433
  let v420 : BitVec 32 := Scalar.divsi v419 c4_i32_226
  let c1_i32_232 : BitVec 32 := 1#32
  let v435 : BitVec 32 := Scalar.subi v420 c1_i32_232
  let v436 : BitVec 32 := Scalar.select v434 v435 v420
  let c4_i32_256 : BitVec 32 := 4#32
  let v474 : BitVec 32 := Scalar.muli v436 c4_i32_256
  let v475 : BitVec 32 := Scalar.addi c0_i32_257 v474
  let c0_i32_234 : BitVec 32 := 0#32
  let v438 : BitVec 1 := Scalar.cmpi .sgt v419 c0_i32_234
  let v439 : BitVec 32 := Scalar.extui v438
  let c0_i32_235 : BitVec 32 := 0#32
  let v440 : BitVec 1 := Scalar.cmpi .slt v419 c0_i32_235
  let v441 : BitVec 32 := Scalar.extui v440
  let v442 : BitVec 32 := Scalar.subi v439 v441
  let c2_i32_233 : BitVec 32 := 2#32
  let c0_i32_236 : BitVec 32 := 0#32
  let v443 : BitVec 1 := Scalar.cmpi .sgt c2_i32_233 c0_i32_236
  let v444 : BitVec 32 := Scalar.extui v443
  let c0_i32_237 : BitVec 32 := 0#32
  let v445 : BitVec 1 := Scalar.cmpi .slt c2_i32_233 c0_i32_237
  let v446 : BitVec 32 := Scalar.extui v445
  let v447 : BitVec 32 := Scalar.subi v444 v446
  let v448 : BitVec 1 := Scalar.cmpi .ne v442 v447
  let v449 : BitVec 32 := Scalar.remsi v419 c2_i32_233
  let c0_i32_238 : BitVec 32 := 0#32
  let v450 : BitVec 1 := Scalar.cmpi .ne v449 c0_i32_238
  let v451 : BitVec 1 := Scalar.andi v448 v450
  let v437 : BitVec 32 := Scalar.divsi v419 c2_i32_233
  let c1_i32_239 : BitVec 32 := 1#32
  let v452 : BitVec 32 := Scalar.subi v437 c1_i32_239
  let v453 : BitVec 32 := Scalar.select v451 v452 v437
  let c2_i32_240 : BitVec 32 := 2#32
  let c0_i32_241 : BitVec 32 := 0#32
  let v454 : BitVec 1 := Scalar.cmpi .eq c2_i32_240 c0_i32_241
  let c1_i32_242 : BitVec 32 := 1#32
  let v455 : BitVec 32 := Scalar.select v454 c1_i32_242 c2_i32_240
  let v456 : BitVec 32 := Scalar.remsi v453 v455
  let c0_i32_244 : BitVec 32 := 0#32
  let v458 : BitVec 1 := Scalar.cmpi .slt v456 c0_i32_244
  let c0_i32_245 : BitVec 32 := 0#32
  let v459 : BitVec 1 := Scalar.cmpi .slt v455 c0_i32_245
  let v460 : BitVec 1 := Scalar.xori v458 v459
  let c0_i32_243 : BitVec 32 := 0#32
  let v457 : BitVec 1 := Scalar.cmpi .ne v456 c0_i32_243
  let v461 : BitVec 1 := Scalar.andi v460 v457
  let v462 : BitVec 32 := Scalar.addi v456 v455
  let v463 : BitVec 32 := Scalar.select v461 v462 v456
  let c2_i32_258 : BitVec 32 := 2#32
  let v476 : BitVec 32 := Scalar.muli v463 c2_i32_258
  let v477 : BitVec 32 := Scalar.addi v475 v476
  let c2_i32_246 : BitVec 32 := 2#32
  let c0_i32_247 : BitVec 32 := 0#32
  let v464 : BitVec 1 := Scalar.cmpi .eq c2_i32_246 c0_i32_247
  let c1_i32_248 : BitVec 32 := 1#32
  let v465 : BitVec 32 := Scalar.select v464 c1_i32_248 c2_i32_246
  let v466 : BitVec 32 := Scalar.remsi v419 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c1_i32_259 : BitVec 32 := 1#32
  let v478 : BitVec 32 := Scalar.muli v473 c1_i32_259
  let v479 : BitVec 32 := Scalar.addi v477 v478
  v479.toNat
-- ==== SmallIdeal.lean ====
abbrev S26112x128 : Shape := ⟨2, ![26112, 128]⟩
abbrev S8x3264x128 : Shape := ⟨3, ![8, 3264, 128]⟩

abbrev nBuf : Space → Nat
  | .hbm => 2
  | .vmem => 0
  | .smem => 0
  | _ => 0

abbrev bufTy : (tb : Table) → Fin (tcTables nBuf tb) → BufTy
  | .hbm, ⟨0, _⟩ => ⟨S26112x128, .f32⟩
  | .hbm, ⟨1, _⟩ => ⟨S8x3264x128, .f32⟩
  | _, _ => ⟨S26112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S26112x128 : Shape := ⟨2, ![26112, 128]⟩
abbrev S8x3264x128 : Shape := ⟨3, ![8, 3264, 128]⟩

abbrev nBuf : Space → Nat
  | .hbm => 2
  | .vmem => 0
  | .smem => 0
  | _ => 0

abbrev bufTy : (tb : Table) → Fin (tcTables nBuf tb) → BufTy
  | .hbm, ⟨0, _⟩ => ⟨S26112x128, .f32⟩
  | .hbm, ⟨1, _⟩ => ⟨S8x3264x128, .f32⟩
  | _, _ => ⟨S26112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherMod.lean ====
abbrev S16x384 : Shape := ⟨2, ![16, 384]⟩
abbrev S8x16x384 : Shape := ⟨3, ![8, 16, 384]⟩
abbrev S1x7 : Shape := ⟨2, ![1, 7]⟩
abbrev S1 : Shape := ⟨1, ![1]⟩
abbrev S_ : Shape := ⟨0, ![]⟩
abbrev S1x16x384 : Shape := ⟨3, ![1, 16, 384]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S8x16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_39 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_7 : BitVec 32 := 1#32
  let v17 : BitVec 32 := Scalar.xori v12 c1_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c4_i32_8 : BitVec 32 := 4#32
  let c0_i32_11 : BitVec 32 := 0#32
  let v24 : BitVec 1 := Scalar.cmpi .sgt c4_i32_8 c0_i32_11
  let v25 : BitVec 32 := Scalar.extui v24
  let c0_i32_12 : BitVec 32 := 0#32
  let v26 : BitVec 1 := Scalar.cmpi .slt c4_i32_8 c0_i32_12
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_13 : BitVec 32 := 0#32
  let v31 : BitVec 1 := Scalar.cmpi .ne v30 c0_i32_13
  let v32 : BitVec 1 := Scalar.andi v29 v31
  let v18 : BitVec 32 := Scalar.divsi v17 c4_i32_8
  let c1_i32_14 : BitVec 32 := 1#32
  let v33 : BitVec 32 := Scalar.subi v18 c1_i32_14
  let v34 : BitVec 32 := Scalar.select v32 v33 v18
  let c4_i32_38 : BitVec 32 := 4#32
  let v72 : BitVec 32 := Scalar.muli v34 c4_i32_38
  let v73 : BitVec 32 := Scalar.addi c0_i32_39 v72
  let c0_i32_16 : BitVec 32 := 0#32
  let v36 : BitVec 1 := Scalar.cmpi .sgt v17 c0_i32_16
  let v37 : BitVec 32 := Scalar.extui v36
  let c0_i32_17 : BitVec 32 := 0#32
  let v38 : BitVec 1 := Scalar.cmpi .slt v17 c0_i32_17
  let v39 : BitVec 32 := Scalar.extui v38
  let v40 : BitVec 32 := Scalar.subi v37 v39
  let c2_i32_15 : BitVec 32 := 2#32
  let c0_i32_18 : BitVec 32 := 0#32
  let v41 : BitVec 1 := Scalar.cmpi .sgt c2_i32_15 c0_i32_18
  let v42 : BitVec 32 := Scalar.extui v41
  let c0_i32_19 : BitVec 32 := 0#32
  let v43 : BitVec 1 := Scalar.cmpi .slt c2_i32_15 c0_i32_19
  let v44 : BitVec 32 := Scalar.extui v43
  let v45 : BitVec 32 := Scalar.subi v42 v44
  let v46 : BitVec 1 := Scalar.cmpi .ne v40 v45
  let v47 : BitVec 32 := Scalar.remsi v17 c2_i32_15
  let c0_i32_20 : BitVec 32 := 0#32
  let v48 : BitVec 1 := Scalar.cmpi .ne v47 c0_i32_20
  let v49 : BitVec 1 := Scalar.andi v46 v48
  let v35 : BitVec 32 := Scalar.divsi v17 c2_i32_15
  let c1_i32_21 : BitVec 32 := 1#32
  let v50 : BitVec 32 := Scalar.subi v35 c1_i32_21
  let v51 : BitVec 32 := Scalar.select v49 v50 v35
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v51 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c2_i32_40 : BitVec 32 := 2#32
  let v74 : BitVec 32 := Scalar.muli v61 c2_i32_40
  let v75 : BitVec 32 := Scalar.addi v73 v74
  let c2_i32_28 : BitVec 32 := 2#32
  let c0_i32_29 : BitVec 32 := 0#32
  let v62 : BitVec 1 := Scalar.cmpi .eq c2_i32_28 c0_i32_29
  let c1_i32_30 : BitVec 32 := 1#32
  let v63 : BitVec 32 := Scalar.select v62 c1_i32_30 c2_i32_28
  let v64 : BitVec 32 := Scalar.remsi v17 v63
  let c0_i32_32 : BitVec 32 := 0#32
  let v66 : BitVec 1 := Scalar.cmpi .slt v64 c0_i32_32
  let c0_i32_33 : BitVec 32 := 0#32
  let v67 : BitVec 1 := Scalar.cmpi .slt v63 c0_i32_33
  let v68 : BitVec 1 := Scalar.xori v66 v67
  let c0_i32_31 : BitVec 32 := 0#32
  let v65 : BitVec 1 := Scalar.cmpi .ne v64 c0_i32_31
  let v69 : BitVec 1 := Scalar.andi v68 v65
  let v70 : BitVec 32 := Scalar.addi v64 v63
  let v71 : BitVec 32 := Scalar.select v69 v70 v64
  let c1_i32_41 : BitVec 32 := 1#32
  let v76 : BitVec 32 := Scalar.muli v71 c1_i32_41
  let v77 : BitVec 32 := Scalar.addi v75 v76
  v77.toNat
def k0_dev2 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_44 : BitVec 32 := 2#32
  let v84 : BitVec 32 := Scalar.xori v12 c2_i32_44
  let c0_i32_46 : BitVec 32 := 0#32
  let v86 : BitVec 1 := Scalar.cmpi .sgt v84 c0_i32_46
  let v87 : BitVec 32 := Scalar.extui v86
  let c0_i32_47 : BitVec 32 := 0#32
  let v88 : BitVec 1 := Scalar.cmpi .slt v84 c0_i32_47
  let v89 : BitVec 32 := Scalar.extui v88
  let v90 : BitVec 32 := Scalar.subi v87 v89
  let c4_i32_45 : BitVec 32 := 4#32
  let c0_i32_48 : BitVec 32 := 0#32
  let v91 : BitVec 1 := Scalar.cmpi .sgt c4_i32_45 c0_i32_48
  let v92 : BitVec 32 := Scalar.extui v91
  let c0_i32_49 : BitVec 32 := 0#32
  let v93 : BitVec 1 := Scalar.cmpi .slt c4_i32_45 c0_i32_49
  let v94 : BitVec 32 := Scalar.extui v93
  let v95 : BitVec 32 := Scalar.subi v92 v94
  let v96 : BitVec 1 := Scalar.cmpi .ne v90 v95
  let v97 : BitVec 32 := Scalar.remsi v84 c4_i32_45
  let c0_i32_50 : BitVec 32 := 0#32
  let v98 : BitVec 1 := Scalar.cmpi .ne v97 c0_i32_50
  let v99 : BitVec 1 := Scalar.andi v96 v98
  let v85 : BitVec 32 := Scalar.divsi v84 c4_i32_45
  let c1_i32_51 : BitVec 32 := 1#32
  let v100 : BitVec 32 := Scalar.subi v85 c1_i32_51
  let v101 : BitVec 32 := Scalar.select v99 v100 v85
  let c4_i32_75 : BitVec 32 := 4#32
  let v139 : BitVec 32 := Scalar.muli v101 c4_i32_75
  let v140 : BitVec 32 := Scalar.addi c0_i32_76 v139
  let c0_i32_53 : BitVec 32 := 0#32
  let v103 : BitVec 1 := Scalar.cmpi .sgt v84 c0_i32_53
  let v104 : BitVec 32 := Scalar.extui v103
  let c0_i32_54 : BitVec 32 := 0#32
  let v105 : BitVec 1 := Scalar.cmpi .slt v84 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi v84 c2_i32_52
  let c0_i32_57 : BitVec 32 := 0#32
  let v115 : BitVec 1 := Scalar.cmpi .ne v114 c0_i32_57
  let v116 : BitVec 1 := Scalar.andi v113 v115
  let v102 : BitVec 32 := Scalar.divsi v84 c2_i32_52
  let c1_i32_58 : BitVec 32 := 1#32
  let v117 : BitVec 32 := Scalar.subi v102 c1_i32_58
  let v118 : BitVec 32 := Scalar.select v116 v117 v102
  let c2_i32_59 : BitVec 32 := 2#32
  let c0_i32_60 : BitVec 32 := 0#32
  let v119 : BitVec 1 := Scalar.cmpi .eq c2_i32_59 c0_i32_60
  let c1_i32_61 : BitVec 32 := 1#32
  let v120 : BitVec 32 := Scalar.select v119 c1_i32_61 c2_i32_59
  let v121 : BitVec 32 := Scalar.remsi v118 v120
  let c0_i32_63 : BitVec 32 := 0#32
  let v123 : BitVec 1 := Scalar.cmpi .slt v121 c0_i32_63
  let c0_i32_64 : BitVec 32 := 0#32
  let v124 : BitVec 1 := Scalar.cmpi .slt v120 c0_i32_64
  let v125 : BitVec 1 := Scalar.xori v123 v124
  let c0_i32_62 : BitVec 32 := 0#32
  let v122 : BitVec 1 := Scalar.cmpi .ne v121 c0_i32_62
  let v126 : BitVec 1 := Scalar.andi v125 v122
  let v127 : BitVec 32 := Scalar.addi v121 v120
  let v128 : BitVec 32 := Scalar.select v126 v127 v121
  let c2_i32_77 : BitVec 32 := 2#32
  let v141 : BitVec 32 := Scalar.muli v128 c2_i32_77
  let v142 : BitVec 32 := Scalar.addi v140 v141
  let c2_i32_65 : BitVec 32 := 2#32
  let c0_i32_66 : BitVec 32 := 0#32
  let v129 : BitVec 1 := Scalar.cmpi .eq c2_i32_65 c0_i32_66
  let c1_i32_67 : BitVec 32 := 1#32
  let v130 : BitVec 32 := Scalar.select v129 c1_i32_67 c2_i32_65
  let v131 : BitVec 32 := Scalar.remsi v84 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c1_i32_78 : BitVec 32 := 1#32
  let v143 : BitVec 32 := Scalar.muli v138 c1_i32_78
  let v144 : BitVec 32 := Scalar.addi v142 v143
  v144.toNat
def k0_dev3 (d0 : Dev nD) : Nat :=
  let c0_i32_112 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v151 : BitVec 32 := Scalar.xori v12 c3_i32
  let c0_i32_82 : BitVec 32 := 0#32
  let v153 : BitVec 1 := Scalar.cmpi .sgt v151 c0_i32_82
  let v154 : BitVec 32 := Scalar.extui v153
  let c0_i32_83 : BitVec 32 := 0#32
  let v155 : BitVec 1 := Scalar.cmpi .slt v151 c0_i32_83
  let v156 : BitVec 32 := Scalar.extui v155
  let v157 : BitVec 32 := Scalar.subi v154 v156
  let c4_i32_81 : BitVec 32 := 4#32
  let c0_i32_84 : BitVec 32 := 0#32
  let v158 : BitVec 1 := Scalar.cmpi .sgt c4_i32_81 c0_i32_84
  let v159 : BitVec 32 := Scalar.extui v158
  let c0_i32_85 : BitVec 32 := 0#32
  let v160 : BitVec 1 := Scalar.cmpi .slt c4_i32_81 c0_i32_85
  let v161 : BitVec 32 := Scalar.extui v160
  let v162 : BitVec 32 := Scalar.subi v159 v161
  let v163 : BitVec 1 := Scalar.cmpi .ne v157 v162
  let v164 : BitVec 32 := Scalar.remsi v151 c4_i32_81
  let c0_i32_86 : BitVec 32 := 0#32
  let v165 : BitVec 1 := Scalar.cmpi .ne v164 c0_i32_86
  let v166 : BitVec 1 := Scalar.andi v163 v165
  let v152 : BitVec 32 := Scalar.divsi v151 c4_i32_81
  let c1_i32_87 : BitVec 32 := 1#32
  let v167 : BitVec 32 := Scalar.subi v152 c1_i32_87
  let v168 : BitVec 32 := Scalar.select v166 v167 v152
  let c4_i32_111 : BitVec 32 := 4#32
  let v206 : BitVec 32 := Scalar.muli v168 c4_i32_111
  let v207 : BitVec 32 := Scalar.addi c0_i32_112 v206
  let c0_i32_89 : BitVec 32 := 0#32
  let v170 : BitVec 1 := Scalar.cmpi .sgt v151 c0_i32_89
  let v171 : BitVec 32 := Scalar.extui v170
  let c0_i32_90 : BitVec 32 := 0#32
  let v172 : BitVec 1 := Scalar.cmpi .slt v151 c0_i32_90
  let v173 : BitVec 32 := Scalar.extui v172
  let v174 : BitVec 32 := Scalar.subi v171 v173
  let c2_i32_88 : BitVec 32 := 2#32
  let c0_i32_91 : BitVec 32 := 0#32
  let v175 : BitVec 1 := Scalar.cmpi .sgt c2_i32_88 c0_i32_91
  let v176 : BitVec 32 := Scalar.extui v175
  let c0_i32_92 : BitVec 32 := 0#32
  let v177 : BitVec 1 := Scalar.cmpi .slt c2_i32_88 c0_i32_92
  let v178 : BitVec 32 := Scalar.extui v177
  let v179 : BitVec 32 := Scalar.subi v176 v178
  let v180 : BitVec 1 := Scalar.cmpi .ne v174 v179
  let v181 : BitVec 32 := Scalar.remsi v151 c2_i32_88
  let c0_i32_93 : BitVec 32 := 0#32
  let v182 : BitVec 1 := Scalar.cmpi .ne v181 c0_i32_93
  let v183 : BitVec 1 := Scalar.andi v180 v182
  let v169 : BitVec 32 := Scalar.divsi v151 c2_i32_88
  let c1_i32_94 : BitVec 32 := 1#32
  let v184 : BitVec 32 := Scalar.subi v169 c1_i32_94
  let v185 : BitVec 32 := Scalar.select v183 v184 v169
  let c2_i32_95 : BitVec 32 := 2#32
  let c0_i32_96 : BitVec 32 := 0#32
  let v186 : BitVec 1 := Scalar.cmpi .eq c2_i32_95 c0_i32_96
  let c1_i32_97 : BitVec 32 := 1#32
  let v187 : BitVec 32 := Scalar.select v186 c1_i32_97 c2_i32_95
  let v188 : BitVec 32 := Scalar.remsi v185 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let c2_i32_113 : BitVec 32 := 2#32
  let v208 : BitVec 32 := Scalar.muli v195 c2_i32_113
  let v209 : BitVec 32 := Scalar.addi v207 v208
  let c2_i32_101 : BitVec 32 := 2#32
  let c0_i32_102 : BitVec 32 := 0#32
  let v196 : BitVec 1 := Scalar.cmpi .eq c2_i32_101 c0_i32_102
  let c1_i32_103 : BitVec 32 := 1#32
  let v197 : BitVec 32 := Scalar.select v196 c1_i32_103 c2_i32_101
  let v198 : BitVec 32 := Scalar.remsi v151 v197
  let c0_i32_105 : BitVec 32 := 0#32
  let v200 : BitVec 1 := Scalar.cmpi .slt v198 c0_i32_105
  let c0_i32_106 : BitVec 32 := 0#32
  let v201 : BitVec 1 := Scalar.cmpi .slt v197 c0_i32_106
  let v202 : BitVec 1 := Scalar.xori v200 v201
  let c0_i32_104 : BitVec 32 := 0#32
  let v199 : BitVec 1 := Scalar.cmpi .ne v198 c0_i32_104
  let v203 : BitVec 1 := Scalar.andi v202 v199
  let v204 : BitVec 32 := Scalar.addi v198 v197
  let v205 : BitVec 32 := Scalar.select v203 v204 v198
  let c1_i32_114 : BitVec 32 := 1#32
  let v210 : BitVec 32 := Scalar.muli v205 c1_i32_114
  let v211 : BitVec 32 := Scalar.addi v209 v210
  v211.toNat
def k0_dev4 (d0 : Dev nD) : Nat :=
  let c0_i32_149 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_117 : BitVec 32 := 4#32
  let v218 : BitVec 32 := Scalar.xori v12 c4_i32_117
  let c0_i32_119 : BitVec 32 := 0#32
  let v220 : BitVec 1 := Scalar.cmpi .sgt v218 c0_i32_119
  let v221 : BitVec 32 := Scalar.extui v220
  let c0_i32_120 : BitVec 32 := 0#32
  let v222 : BitVec 1 := Scalar.cmpi .slt v218 c0_i32_120
  let v223 : BitVec 32 := Scalar.extui v222
  let v224 : BitVec 32 := Scalar.subi v221 v223
  let c4_i32_118 : BitVec 32 := 4#32
  let c0_i32_121 : BitVec 32 := 0#32
  let v225 : BitVec 1 := Scalar.cmpi .sgt c4_i32_118 c0_i32_121
  let v226 : BitVec 32 := Scalar.extui v225
  let c0_i32_122 : BitVec 32 := 0#32
  let v227 : BitVec 1 := Scalar.cmpi .slt c4_i32_118 c0_i32_122
  let v228 : BitVec 32 := Scalar.extui v227
  let v229 : BitVec 32 := Scalar.subi v226 v228
  let v230 : BitVec 1 := Scalar.cmpi .ne v224 v229
  let v231 : BitVec 32 := Scalar.remsi v218 c4_i32_118
  let c0_i32_123 : BitVec 32 := 0#32
  let v232 : BitVec 1 := Scalar.cmpi .ne v231 c0_i32_123
  let v233 : BitVec 1 := Scalar.andi v230 v232
  let v219 : BitVec 32 := Scalar.divsi v218 c4_i32_118
  let c1_i32_124 : BitVec 32 := 1#32
  let v234 : BitVec 32 := Scalar.subi v219 c1_i32_124
  let v235 : BitVec 32 := Scalar.select v233 v234 v219
  let c4_i32_148 : BitVec 32 := 4#32
  let v273 : BitVec 32 := Scalar.muli v235 c4_i32_148
  let v274 : BitVec 32 := Scalar.addi c0_i32_149 v273
  let c0_i32_126 : BitVec 32 := 0#32
  let v237 : BitVec 1 := Scalar.cmpi .sgt v218 c0_i32_126
  let v238 : BitVec 32 := Scalar.extui v237
  let c0_i32_127 : BitVec 32 := 0#32
  let v239 : BitVec 1 := Scalar.cmpi .slt v218 c0_i32_127
  let v240 : BitVec 32 := Scalar.extui v239
  let v241 : BitVec 32 := Scalar.subi v238 v240
  let c2_i32_125 : BitVec 32 := 2#32
  let c0_i32_128 : BitVec 32 := 0#32
  let v242 : BitVec 1 := Scalar.cmpi .sgt c2_i32_125 c0_i32_128
  let v243 : BitVec 32 := Scalar.extui v242
  let c0_i32_129 : BitVec 32 := 0#32
  let v244 : BitVec 1 := Scalar.cmpi .slt c2_i32_125 c0_i32_129
  let v245 : BitVec 32 := Scalar.extui v244
  let v246 : BitVec 32 := Scalar.subi v243 v245
  let v247 : BitVec 1 := Scalar.cmpi .ne v241 v246
  let v248 : BitVec 32 := Scalar.remsi v218 c2_i32_125
  let c0_i32_130 : BitVec 32 := 0#32
  let v249 : BitVec 1 := Scalar.cmpi .ne v248 c0_i32_130
  let v250 : BitVec 1 := Scalar.andi v247 v249
  let v236 : BitVec 32 := Scalar.divsi v218 c2_i32_125
  let c1_i32_131 : BitVec 32 := 1#32
  let v251 : BitVec 32 := Scalar.subi v236 c1_i32_131
  let v252 : BitVec 32 := Scalar.select v250 v251 v236
  let c2_i32_132 : BitVec 32 := 2#32
  let c0_i32_133 : BitVec 32 := 0#32
  let v253 : BitVec 1 := Scalar.cmpi .eq c2_i32_132 c0_i32_133
  let c1_i32_134 : BitVec 32 := 1#32
  let v254 : BitVec 32 := Scalar.select v253 c1_i32_134 c2_i32_132
  let v255 : BitVec 32 := Scalar.remsi v252 v254
  let c0_i32_136 : BitVec 32 := 0#32
  let v257 : BitVec 1 := Scalar.cmpi .slt v255 c0_i32_136
  let c0_i32_137 : BitVec 32 := 0#32
  let v258 : BitVec 1 := Scalar.cmpi .slt v254 c0_i32_137
  let v259 : BitVec 1 := Scalar.xori v257 v258
  let c0_i32_135 : BitVec 32 := 0#32
  let v256 : BitVec 1 := Scalar.cmpi .ne v255 c0_i32_135
  let v260 : BitVec 1 := Scalar.andi v259 v256
  let v261 : BitVec 32 := Scalar.addi v255 v254
  let v262 : BitVec 32 := Scalar.select v260 v261 v255
  let c2_i32_150 : BitVec 32 := 2#32
  let v275 : BitVec 32 := Scalar.muli v262 c2_i32_150
  let v276 : BitVec 32 := Scalar.addi v274 v275
  let c2_i32_138 : BitVec 32 := 2#32
  let c0_i32_139 : BitVec 32 := 0#32
  let v263 : BitVec 1 := Scalar.cmpi .eq c2_i32_138 c0_i32_139
  let c1_i32_140 : BitVec 32 := 1#32
  let v264 : BitVec 32 := Scalar.select v263 c1_i32_140 c2_i32_138
  let v265 : BitVec 32 := Scalar.remsi v218 v264
  let c0_i32_142 : BitVec 32 := 0#32
  let v267 : BitVec 1 := Scalar.cmpi .slt v265 c0_i32_142
  let c0_i32_143 : BitVec 32 := 0#32
  let v268 : BitVec 1 := Scalar.cmpi .slt v264 c0_i32_143
  let v269 : BitVec 1 := Scalar.xori v267 v268
  let c0_i32_141 : BitVec 32 := 0#32
  let v266 : BitVec 1 := Scalar.cmpi .ne v265 c0_i32_141
  let v270 : BitVec 1 := Scalar.andi v269 v266
  let v271 : BitVec 32 := Scalar.addi v265 v264
  let v272 : BitVec 32 := Scalar.select v270 v271 v265
  let c1_i32_151 : BitVec 32 := 1#32
  let v277 : BitVec 32 := Scalar.muli v272 c1_i32_151
  let v278 : BitVec 32 := Scalar.addi v276 v277
  v278.toNat
def k0_dev5 (d0 : Dev nD) : Nat :=
  let c0_i32_185 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v285 : BitVec 32 := Scalar.xori v12 c5_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c4_i32_154 : BitVec 32 := 4#32
  let c0_i32_157 : BitVec 32 := 0#32
  let v292 : BitVec 1 := Scalar.cmpi .sgt c4_i32_154 c0_i32_157
  let v293 : BitVec 32 := Scalar.extui v292
  let c0_i32_158 : BitVec 32 := 0#32
  let v294 : BitVec 1 := Scalar.cmpi .slt c4_i32_154 c0_i32_158
  let v295 : BitVec 32 := Scalar.extui v294
  let v296 : BitVec 32 := Scalar.subi v293 v295
  let v297 : BitVec 1 := Scalar.cmpi .ne v291 v296
  let v298 : BitVec 32 := Scalar.remsi v285 c4_i32_154
  let c0_i32_159 : BitVec 32 := 0#32
  let v299 : BitVec 1 := Scalar.cmpi .ne v298 c0_i32_159
  let v300 : BitVec 1 := Scalar.andi v297 v299
  let v286 : BitVec 32 := Scalar.divsi v285 c4_i32_154
  let c1_i32_160 : BitVec 32 := 1#32
  let v301 : BitVec 32 := Scalar.subi v286 c1_i32_160
  let v302 : BitVec 32 := Scalar.select v300 v301 v286
  let c4_i32_184 : BitVec 32 := 4#32
  let v340 : BitVec 32 := Scalar.muli v302 c4_i32_184
  let v341 : BitVec 32 := Scalar.addi c0_i32_185 v340
  let c0_i32_162 : BitVec 32 := 0#32
  let v304 : BitVec 1 := Scalar.cmpi .sgt v285 c0_i32_162
  let v305 : BitVec 32 := Scalar.extui v304
  let c0_i32_163 : BitVec 32 := 0#32
  let v306 : BitVec 1 := Scalar.cmpi .slt v285 c0_i32_163
  let v307 : BitVec 32 := Scalar.extui v306
  let v308 : BitVec 32 := Scalar.subi v305 v307
  let c2_i32_161 : BitVec 32 := 2#32
  let c0_i32_164 : BitVec 32 := 0#32
  let v309 : BitVec 1 := Scalar.cmpi .sgt c2_i32_161 c0_i32_164
  let v310 : BitVec 32 := Scalar.extui v309
  let c0_i32_165 : BitVec 32 := 0#32
  let v311 : BitVec 1 := Scalar.cmpi .slt c2_i32_161 c0_i32_165
  let v312 : BitVec 32 := Scalar.extui v311
  let v313 : BitVec 32 := Scalar.subi v310 v312
  let v314 : BitVec 1 := Scalar.cmpi .ne v308 v313
  let v315 : BitVec 32 := Scalar.remsi v285 c2_i32_161
  let c0_i32_166 : BitVec 32 := 0#32
  let v316 : BitVec 1 := Scalar.cmpi .ne v315 c0_i32_166
  let v317 : BitVec 1 := Scalar.andi v314 v316
  let v303 : BitVec 32 := Scalar.divsi v285 c2_i32_161
  let c1_i32_167 : BitVec 32 := 1#32
  let v318 : BitVec 32 := Scalar.subi v303 c1_i32_167
  let v319 : BitVec 32 := Scalar.select v317 v318 v303
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v319 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c2_i32_186 : BitVec 32 := 2#32
  let v342 : BitVec 32 := Scalar.muli v329 c2_i32_186
  let v343 : BitVec 32 := Scalar.addi v341 v342
  let c2_i32_174 : BitVec 32 := 2#32
  let c0_i32_175 : BitVec 32 := 0#32
  let v330 : BitVec 1 := Scalar.cmpi .eq c2_i32_174 c0_i32_175
  let c1_i32_176 : BitVec 32 := 1#32
  let v331 : BitVec 32 := Scalar.select v330 c1_i32_176 c2_i32_174
  let v332 : BitVec 32 := Scalar.remsi v285 v331
  let c0_i32_178 : BitVec 32 := 0#32
  let v334 : BitVec 1 := Scalar.cmpi .slt v332 c0_i32_178
  let c0_i32_179 : BitVec 32 := 0#32
  let v335 : BitVec 1 := Scalar.cmpi .slt v331 c0_i32_179
  let v336 : BitVec 1 := Scalar.xori v334 v335
  let c0_i32_177 : BitVec 32 := 0#32
  let v333 : BitVec 1 := Scalar.cmpi .ne v332 c0_i32_177
  let v337 : BitVec 1 := Scalar.andi v336 v333
  let v338 : BitVec 32 := Scalar.addi v332 v331
  let v339 : BitVec 32 := Scalar.select v337 v338 v332
  let c1_i32_187 : BitVec 32 := 1#32
  let v344 : BitVec 32 := Scalar.muli v339 c1_i32_187
  let v345 : BitVec 32 := Scalar.addi v343 v344
  v345.toNat
def k0_dev6 (d0 : Dev nD) : Nat :=
  let c0_i32_221 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v352 : BitVec 32 := Scalar.xori v12 c6_i32
  let c0_i32_191 : BitVec 32 := 0#32
  let v354 : BitVec 1 := Scalar.cmpi .sgt v352 c0_i32_191
  let v355 : BitVec 32 := Scalar.extui v354
  let c0_i32_192 : BitVec 32 := 0#32
  let v356 : BitVec 1 := Scalar.cmpi .slt v352 c0_i32_192
  let v357 : BitVec 32 := Scalar.extui v356
  let v358 : BitVec 32 := Scalar.subi v355 v357
  let c4_i32_190 : BitVec 32 := 4#32
  let c0_i32_193 : BitVec 32 := 0#32
  let v359 : BitVec 1 := Scalar.cmpi .sgt c4_i32_190 c0_i32_193
  let v360 : BitVec 32 := Scalar.extui v359
  let c0_i32_194 : BitVec 32 := 0#32
  let v361 : BitVec 1 := Scalar.cmpi .slt c4_i32_190 c0_i32_194
  let v362 : BitVec 32 := Scalar.extui v361
  let v363 : BitVec 32 := Scalar.subi v360 v362
  let v364 : BitVec 1 := Scalar.cmpi .ne v358 v363
  let v365 : BitVec 32 := Scalar.remsi v352 c4_i32_190
  let c0_i32_195 : BitVec 32 := 0#32
  let v366 : BitVec 1 := Scalar.cmpi .ne v365 c0_i32_195
  let v367 : BitVec 1 := Scalar.andi v364 v366
  let v353 : BitVec 32 := Scalar.divsi v352 c4_i32_190
  let c1_i32_196 : BitVec 32 := 1#32
  let v368 : BitVec 32 := Scalar.subi v353 c1_i32_196
  let v369 : BitVec 32 := Scalar.select v367 v368 v353
  let c4_i32_220 : BitVec 32 := 4#32
  let v407 : BitVec 32 := Scalar.muli v369 c4_i32_220
  let v408 : BitVec 32 := Scalar.addi c0_i32_221 v407
  let c0_i32_198 : BitVec 32 := 0#32
  let v371 : BitVec 1 := Scalar.cmpi .sgt v352 c0_i32_198
  let v372 : BitVec 32 := Scalar.extui v371
  let c0_i32_199 : BitVec 32 := 0#32
  let v373 : BitVec 1 := Scalar.cmpi .slt v352 c0_i32_199
  let v374 : BitVec 32 := Scalar.extui v373
  let v375 : BitVec 32 := Scalar.subi v372 v374
  let c2_i32_197 : BitVec 32 := 2#32
  let c0_i32_200 : BitVec 32 := 0#32
  let v376 : BitVec 1 := Scalar.cmpi .sgt c2_i32_197 c0_i32_200
  let v377 : BitVec 32 := Scalar.extui v376
  let c0_i32_201 : BitVec 32 := 0#32
  let v378 : BitVec 1 := Scalar.cmpi .slt c2_i32_197 c0_i32_201
  let v379 : BitVec 32 := Scalar.extui v378
  let v380 : BitVec 32 := Scalar.subi v377 v379
  let v381 : BitVec 1 := Scalar.cmpi .ne v375 v380
  let v382 : BitVec 32 := Scalar.remsi v352 c2_i32_197
  let c0_i32_202 : BitVec 32 := 0#32
  let v383 : BitVec 1 := Scalar.cmpi .ne v382 c0_i32_202
  let v384 : BitVec 1 := Scalar.andi v381 v383
  let v370 : BitVec 32 := Scalar.divsi v352 c2_i32_197
  let c1_i32_203 : BitVec 32 := 1#32
  let v385 : BitVec 32 := Scalar.subi v370 c1_i32_203
  let v386 : BitVec 32 := Scalar.select v384 v385 v370
  let c2_i32_204 : BitVec 32 := 2#32
  let c0_i32_205 : BitVec 32 := 0#32
  let v387 : BitVec 1 := Scalar.cmpi .eq c2_i32_204 c0_i32_205
  let c1_i32_206 : BitVec 32 := 1#32
  let v388 : BitVec 32 := Scalar.select v387 c1_i32_206 c2_i32_204
  let v389 : BitVec 32 := Scalar.remsi v386 v388
  let c0_i32_208 : BitVec 32 := 0#32
  let v391 : BitVec 1 := Scalar.cmpi .slt v389 c0_i32_208
  let c0_i32_209 : BitVec 32 := 0#32
  let v392 : BitVec 1 := Scalar.cmpi .slt v388 c0_i32_209
  let v393 : BitVec 1 := Scalar.xori v391 v392
  let c0_i32_207 : BitVec 32 := 0#32
  let v390 : BitVec 1 := Scalar.cmpi .ne v389 c0_i32_207
  let v394 : BitVec 1 := Scalar.andi v393 v390
  let v395 : BitVec 32 := Scalar.addi v389 v388
  let v396 : BitVec 32 := Scalar.select v394 v395 v389
  let c2_i32_222 : BitVec 32 := 2#32
  let v409 : BitVec 32 := Scalar.muli v396 c2_i32_222
  let v410 : BitVec 32 := Scalar.addi v408 v409
  let c2_i32_210 : BitVec 32 := 2#32
  let c0_i32_211 : BitVec 32 := 0#32
  let v397 : BitVec 1 := Scalar.cmpi .eq c2_i32_210 c0_i32_211
  let c1_i32_212 : BitVec 32 := 1#32
  let v398 : BitVec 32 := Scalar.select v397 c1_i32_212 c2_i32_210
  let v399 : BitVec 32 := Scalar.remsi v352 v398
  let c0_i32_214 : BitVec 32 := 0#32
  let v401 : BitVec 1 := Scalar.cmpi .slt v399 c0_i32_214
  let c0_i32_215 : BitVec 32 := 0#32
  let v402 : BitVec 1 := Scalar.cmpi .slt v398 c0_i32_215
  let v403 : BitVec 1 := Scalar.xori v401 v402
  let c0_i32_213 : BitVec 32 := 0#32
  let v400 : BitVec 1 := Scalar.cmpi .ne v399 c0_i32_213
  let v404 : BitVec 1 := Scalar.andi v403 v400
  let v405 : BitVec 32 := Scalar.addi v399 v398
  let v406 : BitVec 32 := Scalar.select v404 v405 v399
  let c1_i32_223 : BitVec 32 := 1#32
  let v411 : BitVec 32 := Scalar.muli v406 c1_i32_223
  let v412 : BitVec 32 := Scalar.addi v410 v411
  v412.toNat
def k0_dev7 (d0 : Dev nD) : Nat :=
  let c0_i32_257 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v419 : BitVec 32 := Scalar.xori v12 c7_i32
  let c0_i32_227 : BitVec 32 := 0#32
  let v421 : BitVec 1 := Scalar.cmpi .sgt v419 c0_i32_227
  let v422 : BitVec 32 := Scalar.extui v421
  let c0_i32_228 : BitVec 32 := 0#32
  let v423 : BitVec 1 := Scalar.cmpi .slt v419 c0_i32_228
  let v424 : BitVec 32 := Scalar.extui v423
  let v425 : BitVec 32 := Scalar.subi v422 v424
  let c4_i32_226 : BitVec 32 := 4#32
  let c0_i32_229 : BitVec 32 := 0#32
  let v426 : BitVec 1 := Scalar.cmpi .sgt c4_i32_226 c0_i32_229
  let v427 : BitVec 32 := Scalar.extui v426
  let c0_i32_230 : BitVec 32 := 0#32
  let v428 : BitVec 1 := Scalar.cmpi .slt c4_i32_226 c0_i32_230
  let v429 : BitVec 32 := Scalar.extui v428
  let v430 : BitVec 32 := Scalar.subi v427 v429
  let v431 : BitVec 1 := Scalar.cmpi .ne v425 v430
  let v432 : BitVec 32 := Scalar.remsi v419 c4_i32_226
  let c0_i32_231 : BitVec 32 := 0#32
  let v433 : BitVec 1 := Scalar.cmpi .ne v432 c0_i32_231
  let v434 : BitVec 1 := Scalar.andi v431 v433
  let v420 : BitVec 32 := Scalar.divsi v419 c4_i32_226
  let c1_i32_232 : BitVec 32 := 1#32
  let v435 : BitVec 32 := Scalar.subi v420 c1_i32_232
  let v436 : BitVec 32 := Scalar.select v434 v435 v420
  let c4_i32_256 : BitVec 32 := 4#32
  let v474 : BitVec 32 := Scalar.muli v436 c4_i32_256
  let v475 : BitVec 32 := Scalar.addi c0_i32_257 v474
  let c0_i32_234 : BitVec 32 := 0#32
  let v438 : BitVec 1 := Scalar.cmpi .sgt v419 c0_i32_234
  let v439 : BitVec 32 := Scalar.extui v438
  let c0_i32_235 : BitVec 32 := 0#32
  let v440 : BitVec 1 := Scalar.cmpi .slt v419 c0_i32_235
  let v441 : BitVec 32 := Scalar.extui v440
  let v442 : BitVec 32 := Scalar.subi v439 v441
  let c2_i32_233 : BitVec 32 := 2#32
  let c0_i32_236 : BitVec 32 := 0#32
  let v443 : BitVec 1 := Scalar.cmpi .sgt c2_i32_233 c0_i32_236
  let v444 : BitVec 32 := Scalar.extui v443
  let c0_i32_237 : BitVec 32 := 0#32
  let v445 : BitVec 1 := Scalar.cmpi .slt c2_i32_233 c0_i32_237
  let v446 : BitVec 32 := Scalar.extui v445
  let v447 : BitVec 32 := Scalar.subi v444 v446
  let v448 : BitVec 1 := Scalar.cmpi .ne v442 v447
  let v449 : BitVec 32 := Scalar.remsi v419 c2_i32_233
  let c0_i32_238 : BitVec 32 := 0#32
  let v450 : BitVec 1 := Scalar.cmpi .ne v449 c0_i32_238
  let v451 : BitVec 1 := Scalar.andi v448 v450
  let v437 : BitVec 32 := Scalar.divsi v419 c2_i32_233
  let c1_i32_239 : BitVec 32 := 1#32
  let v452 : BitVec 32 := Scalar.subi v437 c1_i32_239
  let v453 : BitVec 32 := Scalar.select v451 v452 v437
  let c2_i32_240 : BitVec 32 := 2#32
  let c0_i32_241 : BitVec 32 := 0#32
  let v454 : BitVec 1 := Scalar.cmpi .eq c2_i32_240 c0_i32_241
  let c1_i32_242 : BitVec 32 := 1#32
  let v455 : BitVec 32 := Scalar.select v454 c1_i32_242 c2_i32_240
  let v456 : BitVec 32 := Scalar.remsi v453 v455
  let c0_i32_244 : BitVec 32 := 0#32
  let v458 : BitVec 1 := Scalar.cmpi .slt v456 c0_i32_244
  let c0_i32_245 : BitVec 32 := 0#32
  let v459 : BitVec 1 := Scalar.cmpi .slt v455 c0_i32_245
  let v460 : BitVec 1 := Scalar.xori v458 v459
  let c0_i32_243 : BitVec 32 := 0#32
  let v457 : BitVec 1 := Scalar.cmpi .ne v456 c0_i32_243
  let v461 : BitVec 1 := Scalar.andi v460 v457
  let v462 : BitVec 32 := Scalar.addi v456 v455
  let v463 : BitVec 32 := Scalar.select v461 v462 v456
  let c2_i32_258 : BitVec 32 := 2#32
  let v476 : BitVec 32 := Scalar.muli v463 c2_i32_258
  let v477 : BitVec 32 := Scalar.addi v475 v476
  let c2_i32_246 : BitVec 32 := 2#32
  let c0_i32_247 : BitVec 32 := 0#32
  let v464 : BitVec 1 := Scalar.cmpi .eq c2_i32_246 c0_i32_247
  let c1_i32_248 : BitVec 32 := 1#32
  let v465 : BitVec 32 := Scalar.select v464 c1_i32_248 c2_i32_246
  let v466 : BitVec 32 := Scalar.remsi v419 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c1_i32_259 : BitVec 32 := 1#32
  let v478 : BitVec 32 := Scalar.muli v473 c1_i32_259
  let v479 : BitVec 32 := Scalar.addi v477 v478
  v479.toNat
-- ==== GatherModIdeal.lean ====
abbrev S16x384 : Shape := ⟨2, ![16, 384]⟩
abbrev S8x16x384 : Shape := ⟨3, ![8, 16, 384]⟩
abbrev S1x7 : Shape := ⟨2, ![1, 7]⟩
abbrev S1 : Shape := ⟨1, ![1]⟩
abbrev S_ : Shape := ⟨0, ![]⟩
abbrev S1x16x384 : Shape := ⟨3, ![1, 16, 384]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S8x16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_39 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_7 : BitVec 32 := 1#32
  let v17 : BitVec 32 := Scalar.xori v12 c1_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c4_i32_8 : BitVec 32 := 4#32
  let c0_i32_11 : BitVec 32 := 0#32
  let v24 : BitVec 1 := Scalar.cmpi .sgt c4_i32_8 c0_i32_11
  let v25 : BitVec 32 := Scalar.extui v24
  let c0_i32_12 : BitVec 32 := 0#32
  let v26 : BitVec 1 := Scalar.cmpi .slt c4_i32_8 c0_i32_12
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_13 : BitVec 32 := 0#32
  let v31 : BitVec 1 := Scalar.cmpi .ne v30 c0_i32_13
  let v32 : BitVec 1 := Scalar.andi v29 v31
  let v18 : BitVec 32 := Scalar.divsi v17 c4_i32_8
  let c1_i32_14 : BitVec 32 := 1#32
  let v33 : BitVec 32 := Scalar.subi v18 c1_i32_14
  let v34 : BitVec 32 := Scalar.select v32 v33 v18
  let c4_i32_38 : BitVec 32 := 4#32
  let v72 : BitVec 32 := Scalar.muli v34 c4_i32_38
  let v73 : BitVec 32 := Scalar.addi c0_i32_39 v72
  let c0_i32_16 : BitVec 32 := 0#32
  let v36 : BitVec 1 := Scalar.cmpi .sgt v17 c0_i32_16
  let v37 : BitVec 32 := Scalar.extui v36
  let c0_i32_17 : BitVec 32 := 0#32
  let v38 : BitVec 1 := Scalar.cmpi .slt v17 c0_i32_17
  let v39 : BitVec 32 := Scalar.extui v38
  let v40 : BitVec 32 := Scalar.subi v37 v39
  let c2_i32_15 : BitVec 32 := 2#32
  let c0_i32_18 : BitVec 32 := 0#32
  let v41 : BitVec 1 := Scalar.cmpi .sgt c2_i32_15 c0_i32_18
  let v42 : BitVec 32 := Scalar.extui v41
  let c0_i32_19 : BitVec 32 := 0#32
  let v43 : BitVec 1 := Scalar.cmpi .slt c2_i32_15 c0_i32_19
  let v44 : BitVec 32 := Scalar.extui v43
  let v45 : BitVec 32 := Scalar.subi v42 v44
  let v46 : BitVec 1 := Scalar.cmpi .ne v40 v45
  let v47 : BitVec 32 := Scalar.remsi v17 c2_i32_15
  let c0_i32_20 : BitVec 32 := 0#32
  let v48 : BitVec 1 := Scalar.cmpi .ne v47 c0_i32_20
  let v49 : BitVec 1 := Scalar.andi v46 v48
  let v35 : BitVec 32 := Scalar.divsi v17 c2_i32_15
  let c1_i32_21 : BitVec 32 := 1#32
  let v50 : BitVec 32 := Scalar.subi v35 c1_i32_21
  let v51 : BitVec 32 := Scalar.select v49 v50 v35
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v51 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c2_i32_40 : BitVec 32 := 2#32
  let v74 : BitVec 32 := Scalar.muli v61 c2_i32_40
  let v75 : BitVec 32 := Scalar.addi v73 v74
  let c2_i32_28 : BitVec 32 := 2#32
  let c0_i32_29 : BitVec 32 := 0#32
  let v62 : BitVec 1 := Scalar.cmpi .eq c2_i32_28 c0_i32_29
  let c1_i32_30 : BitVec 32 := 1#32
  let v63 : BitVec 32 := Scalar.select v62 c1_i32_30 c2_i32_28
  let v64 : BitVec 32 := Scalar.remsi v17 v63
  let c0_i32_32 : BitVec 32 := 0#32
  let v66 : BitVec 1 := Scalar.cmpi .slt v64 c0_i32_32
  let c0_i32_33 : BitVec 32 := 0#32
  let v67 : BitVec 1 := Scalar.cmpi .slt v63 c0_i32_33
  let v68 : BitVec 1 := Scalar.xori v66 v67
  let c0_i32_31 : BitVec 32 := 0#32
  let v65 : BitVec 1 := Scalar.cmpi .ne v64 c0_i32_31
  let v69 : BitVec 1 := Scalar.andi v68 v65
  let v70 : BitVec 32 := Scalar.addi v64 v63
  let v71 : BitVec 32 := Scalar.select v69 v70 v64
  let c1_i32_41 : BitVec 32 := 1#32
  let v76 : BitVec 32 := Scalar.muli v71 c1_i32_41
  let v77 : BitVec 32 := Scalar.addi v75 v76
  v77.toNat
def k0_dev2 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_44 : BitVec 32 := 2#32
  let v84 : BitVec 32 := Scalar.xori v12 c2_i32_44
  let c0_i32_46 : BitVec 32 := 0#32
  let v86 : BitVec 1 := Scalar.cmpi .sgt v84 c0_i32_46
  let v87 : BitVec 32 := Scalar.extui v86
  let c0_i32_47 : BitVec 32 := 0#32
  let v88 : BitVec 1 := Scalar.cmpi .slt v84 c0_i32_47
  let v89 : BitVec 32 := Scalar.extui v88
  let v90 : BitVec 32 := Scalar.subi v87 v89
  let c4_i32_45 : BitVec 32 := 4#32
  let c0_i32_48 : BitVec 32 := 0#32
  let v91 : BitVec 1 := Scalar.cmpi .sgt c4_i32_45 c0_i32_48
  let v92 : BitVec 32 := Scalar.extui v91
  let c0_i32_49 : BitVec 32 := 0#32
  let v93 : BitVec 1 := Scalar.cmpi .slt c4_i32_45 c0_i32_49
  let v94 : BitVec 32 := Scalar.extui v93
  let v95 : BitVec 32 := Scalar.subi v92 v94
  let v96 : BitVec 1 := Scalar.cmpi .ne v90 v95
  let v97 : BitVec 32 := Scalar.remsi v84 c4_i32_45
  let c0_i32_50 : BitVec 32 := 0#32
  let v98 : BitVec 1 := Scalar.cmpi .ne v97 c0_i32_50
  let v99 : BitVec 1 := Scalar.andi v96 v98
  let v85 : BitVec 32 := Scalar.divsi v84 c4_i32_45
  let c1_i32_51 : BitVec 32 := 1#32
  let v100 : BitVec 32 := Scalar.subi v85 c1_i32_51
  let v101 : BitVec 32 := Scalar.select v99 v100 v85
  let c4_i32_75 : BitVec 32 := 4#32
  let v139 : BitVec 32 := Scalar.muli v101 c4_i32_75
  let v140 : BitVec 32 := Scalar.addi c0_i32_76 v139
  let c0_i32_53 : BitVec 32 := 0#32
  let v103 : BitVec 1 := Scalar.cmpi .sgt v84 c0_i32_53
  let v104 : BitVec 32 := Scalar.extui v103
  let c0_i32_54 : BitVec 32 := 0#32
  let v105 : BitVec 1 := Scalar.cmpi .slt v84 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi v84 c2_i32_52
  let c0_i32_57 : BitVec 32 := 0#32
  let v115 : BitVec 1 := Scalar.cmpi .ne v114 c0_i32_57
  let v116 : BitVec 1 := Scalar.andi v113 v115
  let v102 : BitVec 32 := Scalar.divsi v84 c2_i32_52
  let c1_i32_58 : BitVec 32 := 1#32
  let v117 : BitVec 32 := Scalar.subi v102 c1_i32_58
  let v118 : BitVec 32 := Scalar.select v116 v117 v102
  let c2_i32_59 : BitVec 32 := 2#32
  let c0_i32_60 : BitVec 32 := 0#32
  let v119 : BitVec 1 := Scalar.cmpi .eq c2_i32_59 c0_i32_60
  let c1_i32_61 : BitVec 32 := 1#32
  let v120 : BitVec 32 := Scalar.select v119 c1_i32_61 c2_i32_59
  let v121 : BitVec 32 := Scalar.remsi v118 v120
  let c0_i32_63 : BitVec 32 := 0#32
  let v123 : BitVec 1 := Scalar.cmpi .slt v121 c0_i32_63
  let c0_i32_64 : BitVec 32 := 0#32
  let v124 : BitVec 1 := Scalar.cmpi .slt v120 c0_i32_64
  let v125 : BitVec 1 := Scalar.xori v123 v124
  let c0_i32_62 : BitVec 32 := 0#32
  let v122 : BitVec 1 := Scalar.cmpi .ne v121 c0_i32_62
  let v126 : BitVec 1 := Scalar.andi v125 v122
  let v127 : BitVec 32 := Scalar.addi v121 v120
  let v128 : BitVec 32 := Scalar.select v126 v127 v121
  let c2_i32_77 : BitVec 32 := 2#32
  let v141 : BitVec 32 := Scalar.muli v128 c2_i32_77
  let v142 : BitVec 32 := Scalar.addi v140 v141
  let c2_i32_65 : BitVec 32 := 2#32
  let c0_i32_66 : BitVec 32 := 0#32
  let v129 : BitVec 1 := Scalar.cmpi .eq c2_i32_65 c0_i32_66
  let c1_i32_67 : BitVec 32 := 1#32
  let v130 : BitVec 32 := Scalar.select v129 c1_i32_67 c2_i32_65
  let v131 : BitVec 32 := Scalar.remsi v84 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c1_i32_78 : BitVec 32 := 1#32
  let v143 : BitVec 32 := Scalar.muli v138 c1_i32_78
  let v144 : BitVec 32 := Scalar.addi v142 v143
  v144.toNat
def k0_dev3 (d0 : Dev nD) : Nat :=
  let c0_i32_112 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v151 : BitVec 32 := Scalar.xori v12 c3_i32
  let c0_i32_82 : BitVec 32 := 0#32
  let v153 : BitVec 1 := Scalar.cmpi .sgt v151 c0_i32_82
  let v154 : BitVec 32 := Scalar.extui v153
  let c0_i32_83 : BitVec 32 := 0#32
  let v155 : BitVec 1 := Scalar.cmpi .slt v151 c0_i32_83
  let v156 : BitVec 32 := Scalar.extui v155
  let v157 : BitVec 32 := Scalar.subi v154 v156
  let c4_i32_81 : BitVec 32 := 4#32
  let c0_i32_84 : BitVec 32 := 0#32
  let v158 : BitVec 1 := Scalar.cmpi .sgt c4_i32_81 c0_i32_84
  let v159 : BitVec 32 := Scalar.extui v158
  let c0_i32_85 : BitVec 32 := 0#32
  let v160 : BitVec 1 := Scalar.cmpi .slt c4_i32_81 c0_i32_85
  let v161 : BitVec 32 := Scalar.extui v160
  let v162 : BitVec 32 := Scalar.subi v159 v161
  let v163 : BitVec 1 := Scalar.cmpi .ne v157 v162
  let v164 : BitVec 32 := Scalar.remsi v151 c4_i32_81
  let c0_i32_86 : BitVec 32 := 0#32
  let v165 : BitVec 1 := Scalar.cmpi .ne v164 c0_i32_86
  let v166 : BitVec 1 := Scalar.andi v163 v165
  let v152 : BitVec 32 := Scalar.divsi v151 c4_i32_81
  let c1_i32_87 : BitVec 32 := 1#32
  let v167 : BitVec 32 := Scalar.subi v152 c1_i32_87
  let v168 : BitVec 32 := Scalar.select v166 v167 v152
  let c4_i32_111 : BitVec 32 := 4#32
  let v206 : BitVec 32 := Scalar.muli v168 c4_i32_111
  let v207 : BitVec 32 := Scalar.addi c0_i32_112 v206
  let c0_i32_89 : BitVec 32 := 0#32
  let v170 : BitVec 1 := Scalar.cmpi .sgt v151 c0_i32_89
  let v171 : BitVec 32 := Scalar.extui v170
  let c0_i32_90 : BitVec 32 := 0#32
  let v172 : BitVec 1 := Scalar.cmpi .slt v151 c0_i32_90
  let v173 : BitVec 32 := Scalar.extui v172
  let v174 : BitVec 32 := Scalar.subi v171 v173
  let c2_i32_88 : BitVec 32 := 2#32
  let c0_i32_91 : BitVec 32 := 0#32
  let v175 : BitVec 1 := Scalar.cmpi .sgt c2_i32_88 c0_i32_91
  let v176 : BitVec 32 := Scalar.extui v175
  let c0_i32_92 : BitVec 32 := 0#32
  let v177 : BitVec 1 := Scalar.cmpi .slt c2_i32_88 c0_i32_92
  let v178 : BitVec 32 := Scalar.extui v177
  let v179 : BitVec 32 := Scalar.subi v176 v178
  let v180 : BitVec 1 := Scalar.cmpi .ne v174 v179
  let v181 : BitVec 32 := Scalar.remsi v151 c2_i32_88
  let c0_i32_93 : BitVec 32 := 0#32
  let v182 : BitVec 1 := Scalar.cmpi .ne v181 c0_i32_93
  let v183 : BitVec 1 := Scalar.andi v180 v182
  let v169 : BitVec 32 := Scalar.divsi v151 c2_i32_88
  let c1_i32_94 : BitVec 32 := 1#32
  let v184 : BitVec 32 := Scalar.subi v169 c1_i32_94
  let v185 : BitVec 32 := Scalar.select v183 v184 v169
  let c2_i32_95 : BitVec 32 := 2#32
  let c0_i32_96 : BitVec 32 := 0#32
  let v186 : BitVec 1 := Scalar.cmpi .eq c2_i32_95 c0_i32_96
  let c1_i32_97 : BitVec 32 := 1#32
  let v187 : BitVec 32 := Scalar.select v186 c1_i32_97 c2_i32_95
  let v188 : BitVec 32 := Scalar.remsi v185 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let c2_i32_113 : BitVec 32 := 2#32
  let v208 : BitVec 32 := Scalar.muli v195 c2_i32_113
  let v209 : BitVec 32 := Scalar.addi v207 v208
  let c2_i32_101 : BitVec 32 := 2#32
  let c0_i32_102 : BitVec 32 := 0#32
  let v196 : BitVec 1 := Scalar.cmpi .eq c2_i32_101 c0_i32_102
  let c1_i32_103 : BitVec 32 := 1#32
  let v197 : BitVec 32 := Scalar.select v196 c1_i32_103 c2_i32_101
  let v198 : BitVec 32 := Scalar.remsi v151 v197
  let c0_i32_105 : BitVec 32 := 0#32
  let v200 : BitVec 1 := Scalar.cmpi .slt v198 c0_i32_105
  let c0_i32_106 : BitVec 32 := 0#32
  let v201 : BitVec 1 := Scalar.cmpi .slt v197 c0_i32_106
  let v202 : BitVec 1 := Scalar.xori v200 v201
  let c0_i32_104 : BitVec 32 := 0#32
  let v199 : BitVec 1 := Scalar.cmpi .ne v198 c0_i32_104
  let v203 : BitVec 1 := Scalar.andi v202 v199
  let v204 : BitVec 32 := Scalar.addi v198 v197
  let v205 : BitVec 32 := Scalar.select v203 v204 v198
  let c1_i32_114 : BitVec 32 := 1#32
  let v210 : BitVec 32 := Scalar.muli v205 c1_i32_114
  let v211 : BitVec 32 := Scalar.addi v209 v210
  v211.toNat
def k0_dev4 (d0 : Dev nD) : Nat :=
  let c0_i32_149 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_117 : BitVec 32 := 4#32
  let v218 : BitVec 32 := Scalar.xori v12 c4_i32_117
  let c0_i32_119 : BitVec 32 := 0#32
  let v220 : BitVec 1 := Scalar.cmpi .sgt v218 c0_i32_119
  let v221 : BitVec 32 := Scalar.extui v220
  let c0_i32_120 : BitVec 32 := 0#32
  let v222 : BitVec 1 := Scalar.cmpi .slt v218 c0_i32_120
  let v223 : BitVec 32 := Scalar.extui v222
  let v224 : BitVec 32 := Scalar.subi v221 v223
  let c4_i32_118 : BitVec 32 := 4#32
  let c0_i32_121 : BitVec 32 := 0#32
  let v225 : BitVec 1 := Scalar.cmpi .sgt c4_i32_118 c0_i32_121
  let v226 : BitVec 32 := Scalar.extui v225
  let c0_i32_122 : BitVec 32 := 0#32
  let v227 : BitVec 1 := Scalar.cmpi .slt c4_i32_118 c0_i32_122
  let v228 : BitVec 32 := Scalar.extui v227
  let v229 : BitVec 32 := Scalar.subi v226 v228
  let v230 : BitVec 1 := Scalar.cmpi .ne v224 v229
  let v231 : BitVec 32 := Scalar.remsi v218 c4_i32_118
  let c0_i32_123 : BitVec 32 := 0#32
  let v232 : BitVec 1 := Scalar.cmpi .ne v231 c0_i32_123
  let v233 : BitVec 1 := Scalar.andi v230 v232
  let v219 : BitVec 32 := Scalar.divsi v218 c4_i32_118
  let c1_i32_124 : BitVec 32 := 1#32
  let v234 : BitVec 32 := Scalar.subi v219 c1_i32_124
  let v235 : BitVec 32 := Scalar.select v233 v234 v219
  let c4_i32_148 : BitVec 32 := 4#32
  let v273 : BitVec 32 := Scalar.muli v235 c4_i32_148
  let v274 : BitVec 32 := Scalar.addi c0_i32_149 v273
  let c0_i32_126 : BitVec 32 := 0#32
  let v237 : BitVec 1 := Scalar.cmpi .sgt v218 c0_i32_126
  let v238 : BitVec 32 := Scalar.extui v237
  let c0_i32_127 : BitVec 32 := 0#32
  let v239 : BitVec 1 := Scalar.cmpi .slt v218 c0_i32_127
  let v240 : BitVec 32 := Scalar.extui v239
  let v241 : BitVec 32 := Scalar.subi v238 v240
  let c2_i32_125 : BitVec 32 := 2#32
  let c0_i32_128 : BitVec 32 := 0#32
  let v242 : BitVec 1 := Scalar.cmpi .sgt c2_i32_125 c0_i32_128
  let v243 : BitVec 32 := Scalar.extui v242
  let c0_i32_129 : BitVec 32 := 0#32
  let v244 : BitVec 1 := Scalar.cmpi .slt c2_i32_125 c0_i32_129
  let v245 : BitVec 32 := Scalar.extui v244
  let v246 : BitVec 32 := Scalar.subi v243 v245
  let v247 : BitVec 1 := Scalar.cmpi .ne v241 v246
  let v248 : BitVec 32 := Scalar.remsi v218 c2_i32_125
  let c0_i32_130 : BitVec 32 := 0#32
  let v249 : BitVec 1 := Scalar.cmpi .ne v248 c0_i32_130
  let v250 : BitVec 1 := Scalar.andi v247 v249
  let v236 : BitVec 32 := Scalar.divsi v218 c2_i32_125
  let c1_i32_131 : BitVec 32 := 1#32
  let v251 : BitVec 32 := Scalar.subi v236 c1_i32_131
  let v252 : BitVec 32 := Scalar.select v250 v251 v236
  let c2_i32_132 : BitVec 32 := 2#32
  let c0_i32_133 : BitVec 32 := 0#32
  let v253 : BitVec 1 := Scalar.cmpi .eq c2_i32_132 c0_i32_133
  let c1_i32_134 : BitVec 32 := 1#32
  let v254 : BitVec 32 := Scalar.select v253 c1_i32_134 c2_i32_132
  let v255 : BitVec 32 := Scalar.remsi v252 v254
  let c0_i32_136 : BitVec 32 := 0#32
  let v257 : BitVec 1 := Scalar.cmpi .slt v255 c0_i32_136
  let c0_i32_137 : BitVec 32 := 0#32
  let v258 : BitVec 1 := Scalar.cmpi .slt v254 c0_i32_137
  let v259 : BitVec 1 := Scalar.xori v257 v258
  let c0_i32_135 : BitVec 32 := 0#32
  let v256 : BitVec 1 := Scalar.cmpi .ne v255 c0_i32_135
  let v260 : BitVec 1 := Scalar.andi v259 v256
  let v261 : BitVec 32 := Scalar.addi v255 v254
  let v262 : BitVec 32 := Scalar.select v260 v261 v255
  let c2_i32_150 : BitVec 32 := 2#32
  let v275 : BitVec 32 := Scalar.muli v262 c2_i32_150
  let v276 : BitVec 32 := Scalar.addi v274 v275
  let c2_i32_138 : BitVec 32 := 2#32
  let c0_i32_139 : BitVec 32 := 0#32
  let v263 : BitVec 1 := Scalar.cmpi .eq c2_i32_138 c0_i32_139
  let c1_i32_140 : BitVec 32 := 1#32
  let v264 : BitVec 32 := Scalar.select v263 c1_i32_140 c2_i32_138
  let v265 : BitVec 32 := Scalar.remsi v218 v264
  let c0_i32_142 : BitVec 32 := 0#32
  let v267 : BitVec 1 := Scalar.cmpi .slt v265 c0_i32_142
  let c0_i32_143 : BitVec 32 := 0#32
  let v268 : BitVec 1 := Scalar.cmpi .slt v264 c0_i32_143
  let v269 : BitVec 1 := Scalar.xori v267 v268
  let c0_i32_141 : BitVec 32 := 0#32
  let v266 : BitVec 1 := Scalar.cmpi .ne v265 c0_i32_141
  let v270 : BitVec 1 := Scalar.andi v269 v266
  let v271 : BitVec 32 := Scalar.addi v265 v264
  let v272 : BitVec 32 := Scalar.select v270 v271 v265
  let c1_i32_151 : BitVec 32 := 1#32
  let v277 : BitVec 32 := Scalar.muli v272 c1_i32_151
  let v278 : BitVec 32 := Scalar.addi v276 v277
  v278.toNat
def k0_dev5 (d0 : Dev nD) : Nat :=
  let c0_i32_185 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v285 : BitVec 32 := Scalar.xori v12 c5_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c4_i32_154 : BitVec 32 := 4#32
  let c0_i32_157 : BitVec 32 := 0#32
  let v292 : BitVec 1 := Scalar.cmpi .sgt c4_i32_154 c0_i32_157
  let v293 : BitVec 32 := Scalar.extui v292
  let c0_i32_158 : BitVec 32 := 0#32
  let v294 : BitVec 1 := Scalar.cmpi .slt c4_i32_154 c0_i32_158
  let v295 : BitVec 32 := Scalar.extui v294
  let v296 : BitVec 32 := Scalar.subi v293 v295
  let v297 : BitVec 1 := Scalar.cmpi .ne v291 v296
  let v298 : BitVec 32 := Scalar.remsi v285 c4_i32_154
  let c0_i32_159 : BitVec 32 := 0#32
  let v299 : BitVec 1 := Scalar.cmpi .ne v298 c0_i32_159
  let v300 : BitVec 1 := Scalar.andi v297 v299
  let v286 : BitVec 32 := Scalar.divsi v285 c4_i32_154
  let c1_i32_160 : BitVec 32 := 1#32
  let v301 : BitVec 32 := Scalar.subi v286 c1_i32_160
  let v302 : BitVec 32 := Scalar.select v300 v301 v286
  let c4_i32_184 : BitVec 32 := 4#32
  let v340 : BitVec 32 := Scalar.muli v302 c4_i32_184
  let v341 : BitVec 32 := Scalar.addi c0_i32_185 v340
  let c0_i32_162 : BitVec 32 := 0#32
  let v304 : BitVec 1 := Scalar.cmpi .sgt v285 c0_i32_162
  let v305 : BitVec 32 := Scalar.extui v304
  let c0_i32_163 : BitVec 32 := 0#32
  let v306 : BitVec 1 := Scalar.cmpi .slt v285 c0_i32_163
  let v307 : BitVec 32 := Scalar.extui v306
  let v308 : BitVec 32 := Scalar.subi v305 v307
  let c2_i32_161 : BitVec 32 := 2#32
  let c0_i32_164 : BitVec 32 := 0#32
  let v309 : BitVec 1 := Scalar.cmpi .sgt c2_i32_161 c0_i32_164
  let v310 : BitVec 32 := Scalar.extui v309
  let c0_i32_165 : BitVec 32 := 0#32
  let v311 : BitVec 1 := Scalar.cmpi .slt c2_i32_161 c0_i32_165
  let v312 : BitVec 32 := Scalar.extui v311
  let v313 : BitVec 32 := Scalar.subi v310 v312
  let v314 : BitVec 1 := Scalar.cmpi .ne v308 v313
  let v315 : BitVec 32 := Scalar.remsi v285 c2_i32_161
  let c0_i32_166 : BitVec 32 := 0#32
  let v316 : BitVec 1 := Scalar.cmpi .ne v315 c0_i32_166
  let v317 : BitVec 1 := Scalar.andi v314 v316
  let v303 : BitVec 32 := Scalar.divsi v285 c2_i32_161
  let c1_i32_167 : BitVec 32 := 1#32
  let v318 : BitVec 32 := Scalar.subi v303 c1_i32_167
  let v319 : BitVec 32 := Scalar.select v317 v318 v303
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v319 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c2_i32_186 : BitVec 32 := 2#32
  let v342 : BitVec 32 := Scalar.muli v329 c2_i32_186
  let v343 : BitVec 32 := Scalar.addi v341 v342
  let c2_i32_174 : BitVec 32 := 2#32
  let c0_i32_175 : BitVec 32 := 0#32
  let v330 : BitVec 1 := Scalar.cmpi .eq c2_i32_174 c0_i32_175
  let c1_i32_176 : BitVec 32 := 1#32
  let v331 : BitVec 32 := Scalar.select v330 c1_i32_176 c2_i32_174
  let v332 : BitVec 32 := Scalar.remsi v285 v331
  let c0_i32_178 : BitVec 32 := 0#32
  let v334 : BitVec 1 := Scalar.cmpi .slt v332 c0_i32_178
  let c0_i32_179 : BitVec 32 := 0#32
  let v335 : BitVec 1 := Scalar.cmpi .slt v331 c0_i32_179
  let v336 : BitVec 1 := Scalar.xori v334 v335
  let c0_i32_177 : BitVec 32 := 0#32
  let v333 : BitVec 1 := Scalar.cmpi .ne v332 c0_i32_177
  let v337 : BitVec 1 := Scalar.andi v336 v333
  let v338 : BitVec 32 := Scalar.addi v332 v331
  let v339 : BitVec 32 := Scalar.select v337 v338 v332
  let c1_i32_187 : BitVec 32 := 1#32
  let v344 : BitVec 32 := Scalar.muli v339 c1_i32_187
  let v345 : BitVec 32 := Scalar.addi v343 v344
  v345.toNat
def k0_dev6 (d0 : Dev nD) : Nat :=
  let c0_i32_221 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v352 : BitVec 32 := Scalar.xori v12 c6_i32
  let c0_i32_191 : BitVec 32 := 0#32
  let v354 : BitVec 1 := Scalar.cmpi .sgt v352 c0_i32_191
  let v355 : BitVec 32 := Scalar.extui v354
  let c0_i32_192 : BitVec 32 := 0#32
  let v356 : BitVec 1 := Scalar.cmpi .slt v352 c0_i32_192
  let v357 : BitVec 32 := Scalar.extui v356
  let v358 : BitVec 32 := Scalar.subi v355 v357
  let c4_i32_190 : BitVec 32 := 4#32
  let c0_i32_193 : BitVec 32 := 0#32
  let v359 : BitVec 1 := Scalar.cmpi .sgt c4_i32_190 c0_i32_193
  let v360 : BitVec 32 := Scalar.extui v359
  let c0_i32_194 : BitVec 32 := 0#32
  let v361 : BitVec 1 := Scalar.cmpi .slt c4_i32_190 c0_i32_194
  let v362 : BitVec 32 := Scalar.extui v361
  let v363 : BitVec 32 := Scalar.subi v360 v362
  let v364 : BitVec 1 := Scalar.cmpi .ne v358 v363
  let v365 : BitVec 32 := Scalar.remsi v352 c4_i32_190
  let c0_i32_195 : BitVec 32 := 0#32
  let v366 : BitVec 1 := Scalar.cmpi .ne v365 c0_i32_195
  let v367 : BitVec 1 := Scalar.andi v364 v366
  let v353 : BitVec 32 := Scalar.divsi v352 c4_i32_190
  let c1_i32_196 : BitVec 32 := 1#32
  let v368 : BitVec 32 := Scalar.subi v353 c1_i32_196
  let v369 : BitVec 32 := Scalar.select v367 v368 v353
  let c4_i32_220 : BitVec 32 := 4#32
  let v407 : BitVec 32 := Scalar.muli v369 c4_i32_220
  let v408 : BitVec 32 := Scalar.addi c0_i32_221 v407
  let c0_i32_198 : BitVec 32 := 0#32
  let v371 : BitVec 1 := Scalar.cmpi .sgt v352 c0_i32_198
  let v372 : BitVec 32 := Scalar.extui v371
  let c0_i32_199 : BitVec 32 := 0#32
  let v373 : BitVec 1 := Scalar.cmpi .slt v352 c0_i32_199
  let v374 : BitVec 32 := Scalar.extui v373
  let v375 : BitVec 32 := Scalar.subi v372 v374
  let c2_i32_197 : BitVec 32 := 2#32
  let c0_i32_200 : BitVec 32 := 0#32
  let v376 : BitVec 1 := Scalar.cmpi .sgt c2_i32_197 c0_i32_200
  let v377 : BitVec 32 := Scalar.extui v376
  let c0_i32_201 : BitVec 32 := 0#32
  let v378 : BitVec 1 := Scalar.cmpi .slt c2_i32_197 c0_i32_201
  let v379 : BitVec 32 := Scalar.extui v378
  let v380 : BitVec 32 := Scalar.subi v377 v379
  let v381 : BitVec 1 := Scalar.cmpi .ne v375 v380
  let v382 : BitVec 32 := Scalar.remsi v352 c2_i32_197
  let c0_i32_202 : BitVec 32 := 0#32
  let v383 : BitVec 1 := Scalar.cmpi .ne v382 c0_i32_202
  let v384 : BitVec 1 := Scalar.andi v381 v383
  let v370 : BitVec 32 := Scalar.divsi v352 c2_i32_197
  let c1_i32_203 : BitVec 32 := 1#32
  let v385 : BitVec 32 := Scalar.subi v370 c1_i32_203
  let v386 : BitVec 32 := Scalar.select v384 v385 v370
  let c2_i32_204 : BitVec 32 := 2#32
  let c0_i32_205 : BitVec 32 := 0#32
  let v387 : BitVec 1 := Scalar.cmpi .eq c2_i32_204 c0_i32_205
  let c1_i32_206 : BitVec 32 := 1#32
  let v388 : BitVec 32 := Scalar.select v387 c1_i32_206 c2_i32_204
  let v389 : BitVec 32 := Scalar.remsi v386 v388
  let c0_i32_208 : BitVec 32 := 0#32
  let v391 : BitVec 1 := Scalar.cmpi .slt v389 c0_i32_208
  let c0_i32_209 : BitVec 32 := 0#32
  let v392 : BitVec 1 := Scalar.cmpi .slt v388 c0_i32_209
  let v393 : BitVec 1 := Scalar.xori v391 v392
  let c0_i32_207 : BitVec 32 := 0#32
  let v390 : BitVec 1 := Scalar.cmpi .ne v389 c0_i32_207
  let v394 : BitVec 1 := Scalar.andi v393 v390
  let v395 : BitVec 32 := Scalar.addi v389 v388
  let v396 : BitVec 32 := Scalar.select v394 v395 v389
  let c2_i32_222 : BitVec 32 := 2#32
  let v409 : BitVec 32 := Scalar.muli v396 c2_i32_222
  let v410 : BitVec 32 := Scalar.addi v408 v409
  let c2_i32_210 : BitVec 32 := 2#32
  let c0_i32_211 : BitVec 32 := 0#32
  let v397 : BitVec 1 := Scalar.cmpi .eq c2_i32_210 c0_i32_211
  let c1_i32_212 : BitVec 32 := 1#32
  let v398 : BitVec 32 := Scalar.select v397 c1_i32_212 c2_i32_210
  let v399 : BitVec 32 := Scalar.remsi v352 v398
  let c0_i32_214 : BitVec 32 := 0#32
  let v401 : BitVec 1 := Scalar.cmpi .slt v399 c0_i32_214
  let c0_i32_215 : BitVec 32 := 0#32
  let v402 : BitVec 1 := Scalar.cmpi .slt v398 c0_i32_215
  let v403 : BitVec 1 := Scalar.xori v401 v402
  let c0_i32_213 : BitVec 32 := 0#32
  let v400 : BitVec 1 := Scalar.cmpi .ne v399 c0_i32_213
  let v404 : BitVec 1 := Scalar.andi v403 v400
  let v405 : BitVec 32 := Scalar.addi v399 v398
  let v406 : BitVec 32 := Scalar.select v404 v405 v399
  let c1_i32_223 : BitVec 32 := 1#32
  let v411 : BitVec 32 := Scalar.muli v406 c1_i32_223
  let v412 : BitVec 32 := Scalar.addi v410 v411
  v412.toNat
def k0_dev7 (d0 : Dev nD) : Nat :=
  let c0_i32_257 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v419 : BitVec 32 := Scalar.xori v12 c7_i32
  let c0_i32_227 : BitVec 32 := 0#32
  let v421 : BitVec 1 := Scalar.cmpi .sgt v419 c0_i32_227
  let v422 : BitVec 32 := Scalar.extui v421
  let c0_i32_228 : BitVec 32 := 0#32
  let v423 : BitVec 1 := Scalar.cmpi .slt v419 c0_i32_228
  let v424 : BitVec 32 := Scalar.extui v423
  let v425 : BitVec 32 := Scalar.subi v422 v424
  let c4_i32_226 : BitVec 32 := 4#32
  let c0_i32_229 : BitVec 32 := 0#32
  let v426 : BitVec 1 := Scalar.cmpi .sgt c4_i32_226 c0_i32_229
  let v427 : BitVec 32 := Scalar.extui v426
  let c0_i32_230 : BitVec 32 := 0#32
  let v428 : BitVec 1 := Scalar.cmpi .slt c4_i32_226 c0_i32_230
  let v429 : BitVec 32 := Scalar.extui v428
  let v430 : BitVec 32 := Scalar.subi v427 v429
  let v431 : BitVec 1 := Scalar.cmpi .ne v425 v430
  let v432 : BitVec 32 := Scalar.remsi v419 c4_i32_226
  let c0_i32_231 : BitVec 32 := 0#32
  let v433 : BitVec 1 := Scalar.cmpi .ne v432 c0_i32_231
  let v434 : BitVec 1 := Scalar.andi v431 v433
  let v420 : BitVec 32 := Scalar.divsi v419 c4_i32_226
  let c1_i32_232 : BitVec 32 := 1#32
  let v435 : BitVec 32 := Scalar.subi v420 c1_i32_232
  let v436 : BitVec 32 := Scalar.select v434 v435 v420
  let c4_i32_256 : BitVec 32 := 4#32
  let v474 : BitVec 32 := Scalar.muli v436 c4_i32_256
  let v475 : BitVec 32 := Scalar.addi c0_i32_257 v474
  let c0_i32_234 : BitVec 32 := 0#32
  let v438 : BitVec 1 := Scalar.cmpi .sgt v419 c0_i32_234
  let v439 : BitVec 32 := Scalar.extui v438
  let c0_i32_235 : BitVec 32 := 0#32
  let v440 : BitVec 1 := Scalar.cmpi .slt v419 c0_i32_235
  let v441 : BitVec 32 := Scalar.extui v440
  let v442 : BitVec 32 := Scalar.subi v439 v441
  let c2_i32_233 : BitVec 32 := 2#32
  let c0_i32_236 : BitVec 32 := 0#32
  let v443 : BitVec 1 := Scalar.cmpi .sgt c2_i32_233 c0_i32_236
  let v444 : BitVec 32 := Scalar.extui v443
  let c0_i32_237 : BitVec 32 := 0#32
  let v445 : BitVec 1 := Scalar.cmpi .slt c2_i32_233 c0_i32_237
  let v446 : BitVec 32 := Scalar.extui v445
  let v447 : BitVec 32 := Scalar.subi v444 v446
  let v448 : BitVec 1 := Scalar.cmpi .ne v442 v447
  let v449 : BitVec 32 := Scalar.remsi v419 c2_i32_233
  let c0_i32_238 : BitVec 32 := 0#32
  let v450 : BitVec 1 := Scalar.cmpi .ne v449 c0_i32_238
  let v451 : BitVec 1 := Scalar.andi v448 v450
  let v437 : BitVec 32 := Scalar.divsi v419 c2_i32_233
  let c1_i32_239 : BitVec 32 := 1#32
  let v452 : BitVec 32 := Scalar.subi v437 c1_i32_239
  let v453 : BitVec 32 := Scalar.select v451 v452 v437
  let c2_i32_240 : BitVec 32 := 2#32
  let c0_i32_241 : BitVec 32 := 0#32
  let v454 : BitVec 1 := Scalar.cmpi .eq c2_i32_240 c0_i32_241
  let c1_i32_242 : BitVec 32 := 1#32
  let v455 : BitVec 32 := Scalar.select v454 c1_i32_242 c2_i32_240
  let v456 : BitVec 32 := Scalar.remsi v453 v455
  let c0_i32_244 : BitVec 32 := 0#32
  let v458 : BitVec 1 := Scalar.cmpi .slt v456 c0_i32_244
  let c0_i32_245 : BitVec 32 := 0#32
  let v459 : BitVec 1 := Scalar.cmpi .slt v455 c0_i32_245
  let v460 : BitVec 1 := Scalar.xori v458 v459
  let c0_i32_243 : BitVec 32 := 0#32
  let v457 : BitVec 1 := Scalar.cmpi .ne v456 c0_i32_243
  let v461 : BitVec 1 := Scalar.andi v460 v457
  let v462 : BitVec 32 := Scalar.addi v456 v455
  let v463 : BitVec 32 := Scalar.select v461 v462 v456
  let c2_i32_258 : BitVec 32 := 2#32
  let v476 : BitVec 32 := Scalar.muli v463 c2_i32_258
  let v477 : BitVec 32 := Scalar.addi v475 v476
  let c2_i32_246 : BitVec 32 := 2#32
  let c0_i32_247 : BitVec 32 := 0#32
  let v464 : BitVec 1 := Scalar.cmpi .eq c2_i32_246 c0_i32_247
  let c1_i32_248 : BitVec 32 := 1#32
  let v465 : BitVec 32 := Scalar.select v464 c1_i32_248 c2_i32_246
  let v466 : BitVec 32 := Scalar.remsi v419 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c1_i32_259 : BitVec 32 := 1#32
  let v478 : BitVec 32 := Scalar.muli v473 c1_i32_259
  let v479 : BitVec 32 := Scalar.addi v477 v478
  v479.toNat
-- ==== ModIdeal.lean ====
abbrev S128x384 : Shape := ⟨2, ![128, 384]⟩
abbrev S8x16x384 : Shape := ⟨3, ![8, 16, 384]⟩

abbrev nBuf : Space → Nat
  | .hbm => 2
  | .vmem => 0
  | .smem => 0
  | _ => 0

abbrev bufTy : (tb : Table) → Fin (tcTables nBuf tb) → BufTy
  | .hbm, ⟨0, _⟩ => ⟨S128x384, .f32⟩
  | .hbm, ⟨1, _⟩ => ⟨S8x16x384, .f32⟩
  | _, _ => ⟨S128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mod.lean ====
abbrev S128x384 : Shape := ⟨2, ![128, 384]⟩
abbrev S8x16x384 : Shape := ⟨3, ![8, 16, 384]⟩

abbrev nBuf : Space → Nat
  | .hbm => 2
  | .vmem => 0
  | .smem => 0
  | _ => 0

abbrev bufTy : (tb : Table) → Fin (tcTables nBuf tb) → BufTy
  | .hbm, ⟨0, _⟩ => ⟨S128x384, .f32⟩
  | .hbm, ⟨1, _⟩ => ⟨S8x16x384, .f32⟩
  | _, _ => ⟨S128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherC.lean ====
abbrev S8x128 : Shape := ⟨2, ![8, 128]⟩
abbrev S8x8x128 : Shape := ⟨3, ![8, 8, 128]⟩
abbrev S1x7 : Shape := ⟨2, ![1, 7]⟩
abbrev S1 : Shape := ⟨1, ![1]⟩
abbrev S_ : Shape := ⟨0, ![]⟩
abbrev S1x8x128 : Shape := ⟨3, ![1, 8, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_39 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_7 : BitVec 32 := 1#32
  let v17 : BitVec 32 := Scalar.xori v12 c1_i32_7
  let c0_i32_9 : BitVec 32 := 0#32
  let v19 : BitVec 1 := Scalar.cmpi .sgt v17 c0_i32_9
  let v20 : BitVec 32 := Scalar.extui v19
  let c0_i32_10 : BitVec 32 := 0#32
  let v21 : BitVec 1 := Scalar.cmpi .slt v17 c0_i32_10
  let v22 : BitVec 32 := Scalar.extui v21
  let v23 : BitVec 32 := Scalar.subi v20 v22
  let c4_i32_8 : BitVec 32 := 4#32
  let c0_i32_11 : BitVec 32 := 0#32
  let v24 : BitVec 1 := Scalar.cmpi .sgt c4_i32_8 c0_i32_11
  let v25 : BitVec 32 := Scalar.extui v24
  let c0_i32_12 : BitVec 32 := 0#32
  let v26 : BitVec 1 := Scalar.cmpi .slt c4_i32_8 c0_i32_12
  let v27 : BitVec 32 := Scalar.extui v26
  let v28 : BitVec 32 := Scalar.subi v25 v27
  let v29 : BitVec 1 := Scalar.cmpi .ne v23 v28
  let v30 : BitVec 32 := Scalar.remsi v17 c4_i32_8
  let c0_i32_13 : BitVec 32 := 0#32
  let v31 : BitVec 1 := Scalar.cmpi .ne v30 c0_i32_13
  let v32 : BitVec 1 := Scalar.andi v29 v31
  let v18 : BitVec 32 := Scalar.divsi v17 c4_i32_8
  let c1_i32_14 : BitVec 32 := 1#32
  let v33 : BitVec 32 := Scalar.subi v18 c1_i32_14
  let v34 : BitVec 32 := Scalar.select v32 v33 v18
  let c4_i32_38 : BitVec 32 := 4#32
  let v72 : BitVec 32 := Scalar.muli v34 c4_i32_38
  let v73 : BitVec 32 := Scalar.addi c0_i32_39 v72
  let c0_i32_16 : BitVec 32 := 0#32
  let v36 : BitVec 1 := Scalar.cmpi .sgt v17 c0_i32_16
  let v37 : BitVec 32 := Scalar.extui v36
  let c0_i32_17 : BitVec 32 := 0#32
  let v38 : BitVec 1 := Scalar.cmpi .slt v17 c0_i32_17
  let v39 : BitVec 32 := Scalar.extui v38
  let v40 : BitVec 32 := Scalar.subi v37 v39
  let c2_i32_15 : BitVec 32 := 2#32
  let c0_i32_18 : BitVec 32 := 0#32
  let v41 : BitVec 1 := Scalar.cmpi .sgt c2_i32_15 c0_i32_18
  let v42 : BitVec 32 := Scalar.extui v41
  let c0_i32_19 : BitVec 32 := 0#32
  let v43 : BitVec 1 := Scalar.cmpi .slt c2_i32_15 c0_i32_19
  let v44 : BitVec 32 := Scalar.extui v43
  let v45 : BitVec 32 := Scalar.subi v42 v44
  let v46 : BitVec 1 := Scalar.cmpi .ne v40 v45
  let v47 : BitVec 32 := Scalar.remsi v17 c2_i32_15
  let c0_i32_20 : BitVec 32 := 0#32
  let v48 : BitVec 1 := Scalar.cmpi .ne v47 c0_i32_20
  let v49 : BitVec 1 := Scalar.andi v46 v48
  let v35 : BitVec 32 := Scalar.divsi v17 c2_i32_15
  let c1_i32_21 : BitVec 32 := 1#32
  let v50 : BitVec 32 := Scalar.subi v35 c1_i32_21
  let v51 : BitVec 32 := Scalar.select v49 v50 v35
  let c2_i32_22 : BitVec 32 := 2#32
  let c0_i32_23 : BitVec 32 := 0#32
  let v52 : BitVec 1 := Scalar.cmpi .eq c2_i32_22 c0_i32_23
  let c1_i32_24 : BitVec 32 := 1#32
  let v53 : BitVec 32 := Scalar.select v52 c1_i32_24 c2_i32_22
  let v54 : BitVec 32 := Scalar.remsi v51 v53
  let c0_i32_26 : BitVec 32 := 0#32
  let v56 : BitVec 1 := Scalar.cmpi .slt v54 c0_i32_26
  let c0_i32_27 : BitVec 32 := 0#32
  let v57 : BitVec 1 := Scalar.cmpi .slt v53 c0_i32_27
  let v58 : BitVec 1 := Scalar.xori v56 v57
  let c0_i32_25 : BitVec 32 := 0#32
  let v55 : BitVec 1 := Scalar.cmpi .ne v54 c0_i32_25
  let v59 : BitVec 1 := Scalar.andi v58 v55
  let v60 : BitVec 32 := Scalar.addi v54 v53
  let v61 : BitVec 32 := Scalar.select v59 v60 v54
  let c2_i32_40 : BitVec 32 := 2#32
  let v74 : BitVec 32 := Scalar.muli v61 c2_i32_40
  let v75 : BitVec 32 := Scalar.addi v73 v74
  let c2_i32_28 : BitVec 32 := 2#32
  let c0_i32_29 : BitVec 32 := 0#32
  let v62 : BitVec 1 := Scalar.cmpi .eq c2_i32_28 c0_i32_29
  let c1_i32_30 : BitVec 32 := 1#32
  let v63 : BitVec 32 := Scalar.select v62 c1_i32_30 c2_i32_28
  let v64 : BitVec 32 := Scalar.remsi v17 v63
  let c0_i32_32 : BitVec 32 := 0#32
  let v66 : BitVec 1 := Scalar.cmpi .slt v64 c0_i32_32
  let c0_i32_33 : BitVec 32 := 0#32
  let v67 : BitVec 1 := Scalar.cmpi .slt v63 c0_i32_33
  let v68 : BitVec 1 := Scalar.xori v66 v67
  let c0_i32_31 : BitVec 32 := 0#32
  let v65 : BitVec 1 := Scalar.cmpi .ne v64 c0_i32_31
  let v69 : BitVec 1 := Scalar.andi v68 v65
  let v70 : BitVec 32 := Scalar.addi v64 v63
  let v71 : BitVec 32 := Scalar.select v69 v70 v64
  let c1_i32_41 : BitVec 32 := 1#32
  let v76 : BitVec 32 := Scalar.muli v71 c1_i32_41
  let v77 : BitVec 32 := Scalar.addi v75 v76
  v77.toNat
def k0_dev2 (d0 : Dev nD) : Nat :=
  let c0_i32_76 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_44 : BitVec 32 := 2#32
  let v84 : BitVec 32 := Scalar.xori v12 c2_i32_44
  let c0_i32_46 : BitVec 32 := 0#32
  let v86 : BitVec 1 := Scalar.cmpi .sgt v84 c0_i32_46
  let v87 : BitVec 32 := Scalar.extui v86
  let c0_i32_47 : BitVec 32 := 0#32
  let v88 : BitVec 1 := Scalar.cmpi .slt v84 c0_i32_47
  let v89 : BitVec 32 := Scalar.extui v88
  let v90 : BitVec 32 := Scalar.subi v87 v89
  let c4_i32_45 : BitVec 32 := 4#32
  let c0_i32_48 : BitVec 32 := 0#32
  let v91 : BitVec 1 := Scalar.cmpi .sgt c4_i32_45 c0_i32_48
  let v92 : BitVec 32 := Scalar.extui v91
  let c0_i32_49 : BitVec 32 := 0#32
  let v93 : BitVec 1 := Scalar.cmpi .slt c4_i32_45 c0_i32_49
  let v94 : BitVec 32 := Scalar.extui v93
  let v95 : BitVec 32 := Scalar.subi v92 v94
  let v96 : BitVec 1 := Scalar.cmpi .ne v90 v95
  let v97 : BitVec 32 := Scalar.remsi v84 c4_i32_45
  let c0_i32_50 : BitVec 32 := 0#32
  let v98 : BitVec 1 := Scalar.cmpi .ne v97 c0_i32_50
  let v99 : BitVec 1 := Scalar.andi v96 v98
  let v85 : BitVec 32 := Scalar.divsi v84 c4_i32_45
  let c1_i32_51 : BitVec 32 := 1#32
  let v100 : BitVec 32 := Scalar.subi v85 c1_i32_51
  let v101 : BitVec 32 := Scalar.select v99 v100 v85
  let c4_i32_75 : BitVec 32 := 4#32
  let v139 : BitVec 32 := Scalar.muli v101 c4_i32_75
  let v140 : BitVec 32 := Scalar.addi c0_i32_76 v139
  let c0_i32_53 : BitVec 32 := 0#32
  let v103 : BitVec 1 := Scalar.cmpi .sgt v84 c0_i32_53
  let v104 : BitVec 32 := Scalar.extui v103
  let c0_i32_54 : BitVec 32 := 0#32
  let v105 : BitVec 1 := Scalar.cmpi .slt v84 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi v84 c2_i32_52
  let c0_i32_57 : BitVec 32 := 0#32
  let v115 : BitVec 1 := Scalar.cmpi .ne v114 c0_i32_57
  let v116 : BitVec 1 := Scalar.andi v113 v115
  let v102 : BitVec 32 := Scalar.divsi v84 c2_i32_52
  let c1_i32_58 : BitVec 32 := 1#32
  let v117 : BitVec 32 := Scalar.subi v102 c1_i32_58
  let v118 : BitVec 32 := Scalar.select v116 v117 v102
  let c2_i32_59 : BitVec 32 := 2#32
  let c0_i32_60 : BitVec 32 := 0#32
  let v119 : BitVec 1 := Scalar.cmpi .eq c2_i32_59 c0_i32_60
  let c1_i32_61 : BitVec 32 := 1#32
  let v120 : BitVec 32 := Scalar.select v119 c1_i32_61 c2_i32_59
  let v121 : BitVec 32 := Scalar.remsi v118 v120
  let c0_i32_63 : BitVec 32 := 0#32
  let v123 : BitVec 1 := Scalar.cmpi .slt v121 c0_i32_63
  let c0_i32_64 : BitVec 32 := 0#32
  let v124 : BitVec 1 := Scalar.cmpi .slt v120 c0_i32_64
  let v125 : BitVec 1 := Scalar.xori v123 v124
  let c0_i32_62 : BitVec 32 := 0#32
  let v122 : BitVec 1 := Scalar.cmpi .ne v121 c0_i32_62
  let v126 : BitVec 1 := Scalar.andi v125 v122
  let v127 : BitVec 32 := Scalar.addi v121 v120
  let v128 : BitVec 32 := Scalar.select v126 v127 v121
  let c2_i32_77 : BitVec 32 := 2#32
  let v141 : BitVec 32 := Scalar.muli v128 c2_i32_77
  let v142 : BitVec 32 := Scalar.addi v140 v141
  let c2_i32_65 : BitVec 32 := 2#32
  let c0_i32_66 : BitVec 32 := 0#32
  let v129 : BitVec 1 := Scalar.cmpi .eq c2_i32_65 c0_i32_66
  let c1_i32_67 : BitVec 32 := 1#32
  let v130 : BitVec 32 := Scalar.select v129 c1_i32_67 c2_i32_65
  let v131 : BitVec 32 := Scalar.remsi v84 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let c1_i32_78 : BitVec 32 := 1#32
  let v143 : BitVec 32 := Scalar.muli v138 c1_i32_78
  let v144 : BitVec 32 := Scalar.addi v142 v143
  v144.toNat
def k0_dev3 (d0 : Dev nD) : Nat :=
  let c0_i32_112 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v151 : BitVec 32 := Scalar.xori v12 c3_i32
  let c0_i32_82 : BitVec 32 := 0#32
  let v153 : BitVec 1 := Scalar.cmpi .sgt v151 c0_i32_82
  let v154 : BitVec 32 := Scalar.extui v153
  let c0_i32_83 : BitVec 32 := 0#32
  let v155 : BitVec 1 := Scalar.cmpi .slt v151 c0_i32_83
  let v156 : BitVec 32 := Scalar.extui v155
  let v157 : BitVec 32 := Scalar.subi v154 v156
  let c4_i32_81 : BitVec 32 := 4#32
  let c0_i32_84 : BitVec 32 := 0#32
  let v158 : BitVec 1 := Scalar.cmpi .sgt c4_i32_81 c0_i32_84
  let v159 : BitVec 32 := Scalar.extui v158
  let c0_i32_85 : BitVec 32 := 0#32
  let v160 : BitVec 1 := Scalar.cmpi .slt c4_i32_81 c0_i32_85
  let v161 : BitVec 32 := Scalar.extui v160
  let v162 : BitVec 32 := Scalar.subi v159 v161
  let v163 : BitVec 1 := Scalar.cmpi .ne v157 v162
  let v164 : BitVec 32 := Scalar.remsi v151 c4_i32_81
  let c0_i32_86 : BitVec 32 := 0#32
  let v165 : BitVec 1 := Scalar.cmpi .ne v164 c0_i32_86
  let v166 : BitVec 1 := Scalar.andi v163 v165
  let v152 : BitVec 32 := Scalar.divsi v151 c4_i32_81
  let c1_i32_87 : BitVec 32 := 1#32
  let v167 : BitVec 32 := Scalar.subi v152 c1_i32_87
  let v168 : BitVec 32 := Scalar.select v166 v167 v152
  let c4_i32_111 : BitVec 32 := 4#32
  let v206 : BitVec 32 := Scalar.muli v168 c4_i32_111
  let v207 : BitVec 32 := Scalar.addi c0_i32_112 v206
  let c0_i32_89 : BitVec 32 := 0#32
  let v170 : BitVec 1 := Scalar.cmpi .sgt v151 c0_i32_89
  let v171 : BitVec 32 := Scalar.extui v170
  let c0_i32_90 : BitVec 32 := 0#32
  let v172 : BitVec 1 := Scalar.cmpi .slt v151 c0_i32_90
  let v173 : BitVec 32 := Scalar.extui v172
  let v174 : BitVec 32 := Scalar.subi v171 v173
  let c2_i32_88 : BitVec 32 := 2#32
  let c0_i32_91 : BitVec 32 := 0#32
  let v175 : BitVec 1 := Scalar.cmpi .sgt c2_i32_88 c0_i32_91
  let v176 : BitVec 32 := Scalar.extui v175
  let c0_i32_92 : BitVec 32 := 0#32
  let v177 : BitVec 1 := Scalar.cmpi .slt c2_i32_88 c0_i32_92
  let v178 : BitVec 32 := Scalar.extui v177
  let v179 : BitVec 32 := Scalar.subi v176 v178
  let v180 : BitVec 1 := Scalar.cmpi .ne v174 v179
  let v181 : BitVec 32 := Scalar.remsi v151 c2_i32_88
  let c0_i32_93 : BitVec 32 := 0#32
  let v182 : BitVec 1 := Scalar.cmpi .ne v181 c0_i32_93
  let v183 : BitVec 1 := Scalar.andi v180 v182
  let v169 : BitVec 32 := Scalar.divsi v151 c2_i32_88
  let c1_i32_94 : BitVec 32 := 1#32
  let v184 : BitVec 32 := Scalar.subi v169 c1_i32_94
  let v185 : BitVec 32 := Scalar.select v183 v184 v169
  let c2_i32_95 : BitVec 32 := 2#32
  let c0_i32_96 : BitVec 32 := 0#32
  let v186 : BitVec 1 := Scalar.cmpi .eq c2_i32_95 c0_i32_96
  let c1_i32_97 : BitVec 32 := 1#32
  let v187 : BitVec 32 := Scalar.select v186 c1_i32_97 c2_i32_95
  let v188 : BitVec 32 := Scalar.remsi v185 v187
  let c0_i32_99 : BitVec 32 := 0#32
  let v190 : BitVec 1 := Scalar.cmpi .slt v188 c0_i32_99
  let c0_i32_100 : BitVec 32 := 0#32
  let v191 : BitVec 1 := Scalar.cmpi .slt v187 c0_i32_100
  let v192 : BitVec 1 := Scalar.xori v190 v191
  let c0_i32_98 : BitVec 32 := 0#32
  let v189 : BitVec 1 := Scalar.cmpi .ne v188 c0_i32_98
  let v193 : BitVec 1 := Scalar.andi v192 v189
  let v194 : BitVec 32 := Scalar.addi v188 v187
  let v195 : BitVec 32 := Scalar.select v193 v194 v188
  let c2_i32_113 : BitVec 32 := 2#32
  let v208 : BitVec 32 := Scalar.muli v195 c2_i32_113
  let v209 : BitVec 32 := Scalar.addi v207 v208
  let c2_i32_101 : BitVec 32 := 2#32
  let c0_i32_102 : BitVec 32 := 0#32
  let v196 : BitVec 1 := Scalar.cmpi .eq c2_i32_101 c0_i32_102
  let c1_i32_103 : BitVec 32 := 1#32
  let v197 : BitVec 32 := Scalar.select v196 c1_i32_103 c2_i32_101
  let v198 : BitVec 32 := Scalar.remsi v151 v197
  let c0_i32_105 : BitVec 32 := 0#32
  let v200 : BitVec 1 := Scalar.cmpi .slt v198 c0_i32_105
  let c0_i32_106 : BitVec 32 := 0#32
  let v201 : BitVec 1 := Scalar.cmpi .slt v197 c0_i32_106
  let v202 : BitVec 1 := Scalar.xori v200 v201
  let c0_i32_104 : BitVec 32 := 0#32
  let v199 : BitVec 1 := Scalar.cmpi .ne v198 c0_i32_104
  let v203 : BitVec 1 := Scalar.andi v202 v199
  let v204 : BitVec 32 := Scalar.addi v198 v197
  let v205 : BitVec 32 := Scalar.select v203 v204 v198
  let c1_i32_114 : BitVec 32 := 1#32
  let v210 : BitVec 32 := Scalar.muli v205 c1_i32_114
  let v211 : BitVec 32 := Scalar.addi v209 v210
  v211.toNat
def k0_dev4 (d0 : Dev nD) : Nat :=
  let c0_i32_149 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_117 : BitVec 32 := 4#32
  let v218 : BitVec 32 := Scalar.xori v12 c4_i32_117
  let c0_i32_119 : BitVec 32 := 0#32
  let v220 : BitVec 1 := Scalar.cmpi .sgt v218 c0_i32_119
  let v221 : BitVec 32 := Scalar.extui v220
  let c0_i32_120 : BitVec 32 := 0#32
  let v222 : BitVec 1 := Scalar.cmpi .slt v218 c0_i32_120
  let v223 : BitVec 32 := Scalar.extui v222
  let v224 : BitVec 32 := Scalar.subi v221 v223
  let c4_i32_118 : BitVec 32 := 4#32
  let c0_i32_121 : BitVec 32 := 0#32
  let v225 : BitVec 1 := Scalar.cmpi .sgt c4_i32_118 c0_i32_121
  let v226 : BitVec 32 := Scalar.extui v225
  let c0_i32_122 : BitVec 32 := 0#32
  let v227 : BitVec 1 := Scalar.cmpi .slt c4_i32_118 c0_i32_122
  let v228 : BitVec 32 := Scalar.extui v227
  let v229 : BitVec 32 := Scalar.subi v226 v228
  let v230 : BitVec 1 := Scalar.cmpi .ne v224 v229
  let v231 : BitVec 32 := Scalar.remsi v218 c4_i32_118
  let c0_i32_123 : BitVec 32 := 0#32
  let v232 : BitVec 1 := Scalar.cmpi .ne v231 c0_i32_123
  let v233 : BitVec 1 := Scalar.andi v230 v232
  let v219 : BitVec 32 := Scalar.divsi v218 c4_i32_118
  let c1_i32_124 : BitVec 32 := 1#32
  let v234 : BitVec 32 := Scalar.subi v219 c1_i32_124
  let v235 : BitVec 32 := Scalar.select v233 v234 v219
  let c4_i32_148 : BitVec 32 := 4#32
  let v273 : BitVec 32 := Scalar.muli v235 c4_i32_148
  let v274 : BitVec 32 := Scalar.addi c0_i32_149 v273
  let c0_i32_126 : BitVec 32 := 0#32
  let v237 : BitVec 1 := Scalar.cmpi .sgt v218 c0_i32_126
  let v238 : BitVec 32 := Scalar.extui v237
  let c0_i32_127 : BitVec 32 := 0#32
  let v239 : BitVec 1 := Scalar.cmpi .slt v218 c0_i32_127
  let v240 : BitVec 32 := Scalar.extui v239
  let v241 : BitVec 32 := Scalar.subi v238 v240
  let c2_i32_125 : BitVec 32 := 2#32
  let c0_i32_128 : BitVec 32 := 0#32
  let v242 : BitVec 1 := Scalar.cmpi .sgt c2_i32_125 c0_i32_128
  let v243 : BitVec 32 := Scalar.extui v242
  let c0_i32_129 : BitVec 32 := 0#32
  let v244 : BitVec 1 := Scalar.cmpi .slt c2_i32_125 c0_i32_129
  let v245 : BitVec 32 := Scalar.extui v244
  let v246 : BitVec 32 := Scalar.subi v243 v245
  let v247 : BitVec 1 := Scalar.cmpi .ne v241 v246
  let v248 : BitVec 32 := Scalar.remsi v218 c2_i32_125
  let c0_i32_130 : BitVec 32 := 0#32
  let v249 : BitVec 1 := Scalar.cmpi .ne v248 c0_i32_130
  let v250 : BitVec 1 := Scalar.andi v247 v249
  let v236 : BitVec 32 := Scalar.divsi v218 c2_i32_125
  let c1_i32_131 : BitVec 32 := 1#32
  let v251 : BitVec 32 := Scalar.subi v236 c1_i32_131
  let v252 : BitVec 32 := Scalar.select v250 v251 v236
  let c2_i32_132 : BitVec 32 := 2#32
  let c0_i32_133 : BitVec 32 := 0#32
  let v253 : BitVec 1 := Scalar.cmpi .eq c2_i32_132 c0_i32_133
  let c1_i32_134 : BitVec 32 := 1#32
  let v254 : BitVec 32 := Scalar.select v253 c1_i32_134 c2_i32_132
  let v255 : BitVec 32 := Scalar.remsi v252 v254
  let c0_i32_136 : BitVec 32 := 0#32
  let v257 : BitVec 1 := Scalar.cmpi .slt v255 c0_i32_136
  let c0_i32_137 : BitVec 32 := 0#32
  let v258 : BitVec 1 := Scalar.cmpi .slt v254 c0_i32_137
  let v259 : BitVec 1 := Scalar.xori v257 v258
  let c0_i32_135 : BitVec 32 := 0#32
  let v256 : BitVec 1 := Scalar.cmpi .ne v255 c0_i32_135
  let v260 : BitVec 1 := Scalar.andi v259 v256
  let v261 : BitVec 32 := Scalar.addi v255 v254
  let v262 : BitVec 32 := Scalar.select v260 v261 v255
  let c2_i32_150 : BitVec 32 := 2#32
  let v275 : BitVec 32 := Scalar.muli v262 c2_i32_150
  let v276 : BitVec 32 := Scalar.addi v274 v275
  let c2_i32_138 : BitVec 32 := 2#32
  let c0_i32_139 : BitVec 32 := 0#32
  let v263 : BitVec 1 := Scalar.cmpi .eq c2_i32_138 c0_i32_139
  let c1_i32_140 : BitVec 32 := 1#32
  let v264 : BitVec 32 := Scalar.select v263 c1_i32_140 c2_i32_138
  let v265 : BitVec 32 := Scalar.remsi v218 v264
  let c0_i32_142 : BitVec 32 := 0#32
  let v267 : BitVec 1 := Scalar.cmpi .slt v265 c0_i32_142
  let c0_i32_143 : BitVec 32 := 0#32
  let v268 : BitVec 1 := Scalar.cmpi .slt v264 c0_i32_143
  let v269 : BitVec 1 := Scalar.xori v267 v268
  let c0_i32_141 : BitVec 32 := 0#32
  let v266 : BitVec 1 := Scalar.cmpi .ne v265 c0_i32_141
  let v270 : BitVec 1 := Scalar.andi v269 v266
  let v271 : BitVec 32 := Scalar.addi v265 v264
  let v272 : BitVec 32 := Scalar.select v270 v271 v265
  let c1_i32_151 : BitVec 32 := 1#32
  let v277 : BitVec 32 := Scalar.muli v272 c1_i32_151
  let v278 : BitVec 32 := Scalar.addi v276 v277
  v278.toNat
def k0_dev5 (d0 : Dev nD) : Nat :=
  let c0_i32_185 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v285 : BitVec 32 := Scalar.xori v12 c5_i32
  let c0_i32_155 : BitVec 32 := 0#32
  let v287 : BitVec 1 := Scalar.cmpi .sgt v285 c0_i32_155
  let v288 : BitVec 32 := Scalar.extui v287
  let c0_i32_156 : BitVec 32 := 0#32
  let v289 : BitVec 1 := Scalar.cmpi .slt v285 c0_i32_156
  let v290 : BitVec 32 := Scalar.extui v289
  let v291 : BitVec 32 := Scalar.subi v288 v290
  let c4_i32_154 : BitVec 32 := 4#32
  let c0_i32_157 : BitVec 32 := 0#32
  let v292 : BitVec 1 := Scalar.cmpi .sgt c4_i32_154 c0_i32_157
  let v293 : BitVec 32 := Scalar.extui v292
  let c0_i32_158 : BitVec 32 := 0#32
  let v294 : BitVec 1 := Scalar.cmpi .slt c4_i32_154 c0_i32_158
  let v295 : BitVec 32 := Scalar.extui v294
  let v296 : BitVec 32 := Scalar.subi v293 v295
  let v297 : BitVec 1 := Scalar.cmpi .ne v291 v296
  let v298 : BitVec 32 := Scalar.remsi v285 c4_i32_154
  let c0_i32_159 : BitVec 32 := 0#32
  let v299 : BitVec 1 := Scalar.cmpi .ne v298 c0_i32_159
  let v300 : BitVec 1 := Scalar.andi v297 v299
  let v286 : BitVec 32 := Scalar.divsi v285 c4_i32_154
  let c1_i32_160 : BitVec 32 := 1#32
  let v301 : BitVec 32 := Scalar.subi v286 c1_i32_160
  let v302 : BitVec 32 := Scalar.select v300 v301 v286
  let c4_i32_184 : BitVec 32 := 4#32
  let v340 : BitVec 32 := Scalar.muli v302 c4_i32_184
  let v341 : BitVec 32 := Scalar.addi c0_i32_185 v340
  let c0_i32_162 : BitVec 32 := 0#32
  let v304 : BitVec 1 := Scalar.cmpi .sgt v285 c0_i32_162
  let v305 : BitVec 32 := Scalar.extui v304
  let c0_i32_163 : BitVec 32 := 0#32
  let v306 : BitVec 1 := Scalar.cmpi .slt v285 c0_i32_163
  let v307 : BitVec 32 := Scalar.extui v306
  let v308 : BitVec 32 := Scalar.subi v305 v307
  let c2_i32_161 : BitVec 32 := 2#32
  let c0_i32_164 : BitVec 32 := 0#32
  let v309 : BitVec 1 := Scalar.cmpi .sgt c2_i32_161 c0_i32_164
  let v310 : BitVec 32 := Scalar.extui v309
  let c0_i32_165 : BitVec 32 := 0#32
  let v311 : BitVec 1 := Scalar.cmpi .slt c2_i32_161 c0_i32_165
  let v312 : BitVec 32 := Scalar.extui v311
  let v313 : BitVec 32 := Scalar.subi v310 v312
  let v314 : BitVec 1 := Scalar.cmpi .ne v308 v313
  let v315 : BitVec 32 := Scalar.remsi v285 c2_i32_161
  let c0_i32_166 : BitVec 32 := 0#32
  let v316 : BitVec 1 := Scalar.cmpi .ne v315 c0_i32_166
  let v317 : BitVec 1 := Scalar.andi v314 v316
  let v303 : BitVec 32 := Scalar.divsi v285 c2_i32_161
  let c1_i32_167 : BitVec 32 := 1#32
  let v318 : BitVec 32 := Scalar.subi v303 c1_i32_167
  let v319 : BitVec 32 := Scalar.select v317 v318 v303
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v319 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c2_i32_186 : BitVec 32 := 2#32
  let v342 : BitVec 32 := Scalar.muli v329 c2_i32_186
  let v343 : BitVec 32 := Scalar.addi v341 v342
  let c2_i32_174 : BitVec 32 := 2#32
  let c0_i32_175 : BitVec 32 := 0#32
  let v330 : BitVec 1 := Scalar.cmpi .eq c2_i32_174 c0_i32_175
  let c1_i32_176 : BitVec 32 := 1#32
  let v331 : BitVec 32 := Scalar.select v330 c1_i32_176 c2_i32_174
  let v332 : BitVec 32 := Scalar.remsi v285 v331
  let c0_i32_178 : BitVec 32 := 0#32
  let v334 : BitVec 1 := Scalar.cmpi .slt v332 c0_i32_178
  let c0_i32_179 : BitVec 32 := 0#32
  let v335 : BitVec 1 := Scalar.cmpi .slt v331 c0_i32_179
  let v336 : BitVec 1 := Scalar.xori v334 v335
  let c0_i32_177 : BitVec 32 := 0#32
  let v333 : BitVec 1 := Scalar.cmpi .ne v332 c0_i32_177
  let v337 : BitVec 1 := Scalar.andi v336 v333
  let v338 : BitVec 32 := Scalar.addi v332 v331
  let v339 : BitVec 32 := Scalar.select v337 v338 v332
  let c1_i32_187 : BitVec 32 := 1#32
  let v344 : BitVec 32 := Scalar.muli v339 c1_i32_187
  let v345 : BitVec 32 := Scalar.addi v343 v344
  v345.toNat
def k0_dev6 (d0 : Dev nD) : Nat :=
  let c0_i32_221 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v352 : BitVec 32 := Scalar.xori v12 c6_i32
  let c0_i32_191 : BitVec 32 := 0#32
  let v354 : BitVec 1 := Scalar.cmpi .sgt v352 c0_i32_191
  let v355 : BitVec 32 := Scalar.extui v354
  let c0_i32_192 : BitVec 32 := 0#32
  let v356 : BitVec 1 := Scalar.cmpi .slt v352 c0_i32_192
  let v357 : BitVec 32 := Scalar.extui v356
  let v358 : BitVec 32 := Scalar.subi v355 v357
  let c4_i32_190 : BitVec 32 := 4#32
  let c0_i32_193 : BitVec 32 := 0#32
  let v359 : BitVec 1 := Scalar.cmpi .sgt c4_i32_190 c0_i32_193
  let v360 : BitVec 32 := Scalar.extui v359
  let c0_i32_194 : BitVec 32 := 0#32
  let v361 : BitVec 1 := Scalar.cmpi .slt c4_i32_190 c0_i32_194
  let v362 : BitVec 32 := Scalar.extui v361
  let v363 : BitVec 32 := Scalar.subi v360 v362
  let v364 : BitVec 1 := Scalar.cmpi .ne v358 v363
  let v365 : BitVec 32 := Scalar.remsi v352 c4_i32_190
  let c0_i32_195 : BitVec 32 := 0#32
  let v366 : BitVec 1 := Scalar.cmpi .ne v365 c0_i32_195
  let v367 : BitVec 1 := Scalar.andi v364 v366
  let v353 : BitVec 32 := Scalar.divsi v352 c4_i32_190
  let c1_i32_196 : BitVec 32 := 1#32
  let v368 : BitVec 32 := Scalar.subi v353 c1_i32_196
  let v369 : BitVec 32 := Scalar.select v367 v368 v353
  let c4_i32_220 : BitVec 32 := 4#32
  let v407 : BitVec 32 := Scalar.muli v369 c4_i32_220
  let v408 : BitVec 32 := Scalar.addi c0_i32_221 v407
  let c0_i32_198 : BitVec 32 := 0#32
  let v371 : BitVec 1 := Scalar.cmpi .sgt v352 c0_i32_198
  let v372 : BitVec 32 := Scalar.extui v371
  let c0_i32_199 : BitVec 32 := 0#32
  let v373 : BitVec 1 := Scalar.cmpi .slt v352 c0_i32_199
  let v374 : BitVec 32 := Scalar.extui v373
  let v375 : BitVec 32 := Scalar.subi v372 v374
  let c2_i32_197 : BitVec 32 := 2#32
  let c0_i32_200 : BitVec 32 := 0#32
  let v376 : BitVec 1 := Scalar.cmpi .sgt c2_i32_197 c0_i32_200
  let v377 : BitVec 32 := Scalar.extui v376
  let c0_i32_201 : BitVec 32 := 0#32
  let v378 : BitVec 1 := Scalar.cmpi .slt c2_i32_197 c0_i32_201
  let v379 : BitVec 32 := Scalar.extui v378
  let v380 : BitVec 32 := Scalar.subi v377 v379
  let v381 : BitVec 1 := Scalar.cmpi .ne v375 v380
  let v382 : BitVec 32 := Scalar.remsi v352 c2_i32_197
  let c0_i32_202 : BitVec 32 := 0#32
  let v383 : BitVec 1 := Scalar.cmpi .ne v382 c0_i32_202
  let v384 : BitVec 1 := Scalar.andi v381 v383
  let v370 : BitVec 32 := Scalar.divsi v352 c2_i32_197
  let c1_i32_203 : BitVec 32 := 1#32
  let v385 : BitVec 32 := Scalar.subi v370 c1_i32_203
  let v386 : BitVec 32 := Scalar.select v384 v385 v370
  let c2_i32_204 : BitVec 32 := 2#32
  let c0_i32_205 : BitVec 32 := 0#32
  let v387 : BitVec 1 := Scalar.cmpi .eq c2_i32_204 c0_i32_205
  let c1_i32_206 : BitVec 32 := 1#32
  let v388 : BitVec 32 := Scalar.select v387 c1_i32_206 c2_i32_204
  let v389 : BitVec 32 := Scalar.remsi v386 v388
  let c0_i32_208 : BitVec 32 := 0#32
  let v391 : BitVec 1 := Scalar.cmpi .slt v389 c0_i32_208
  let c0_i32_209 : BitVec 32 := 0#32
  let v392 : BitVec 1 := Scalar.cmpi .slt v388 c0_i32_209
  let v393 : BitVec 1 := Scalar.xori v391 v392
  let c0_i32_207 : BitVec 32 := 0#32
  let v390 : BitVec 1 := Scalar.cmpi .ne v389 c0_i32_207
  let v394 : BitVec 1 := Scalar.andi v393 v390
  let v395 : BitVec 32 := Scalar.addi v389 v388
  let v396 : BitVec 32 := Scalar.select v394 v395 v389
  let c2_i32_222 : BitVec 32 := 2#32
  let v409 : BitVec 32 := Scalar.muli v396 c2_i32_222
  let v410 : BitVec 32 := Scalar.addi v408 v409
  let c2_i32_210 : BitVec 32 := 2#32
  let c0_i32_211 : BitVec 32 := 0#32
  let v397 : BitVec 1 := Scalar.cmpi .eq c2_i32_210 c0_i32_211
  let c1_i32_212 : BitVec 32 := 1#32
  let v398 : BitVec 32 := Scalar.select v397 c1_i32_212 c2_i32_210
  let v399 : BitVec 32 := Scalar.remsi v352 v398
  let c0_i32_214 : BitVec 32 := 0#32
  let v401 : BitVec 1 := Scalar.cmpi .slt v399 c0_i32_214
  let c0_i32_215 : BitVec 32 := 0#32
  let v402 : BitVec 1 := Scalar.cmpi .slt v398 c0_i32_215
  let v403 : BitVec 1 := Scalar.xori v401 v402
  let c0_i32_213 : BitVec 32 := 0#32
  let v400 : BitVec 1 := Scalar.cmpi .ne v399 c0_i32_213
  let v404 : BitVec 1 := Scalar.andi v403 v400
  let v405 : BitVec 32 := Scalar.addi v399 v398
  let v406 : BitVec 32 := Scalar.select v404 v405 v399
  let c1_i32_223 : BitVec 32 := 1#32
  let v411 : BitVec 32 := Scalar.muli v406 c1_i32_223
  let v412 : BitVec 32 := Scalar.addi v410 v411
  v412.toNat
def k0_dev7 (d0 : Dev nD) : Nat :=
  let c0_i32_257 : BitVec 32 := 0#32
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v419 : BitVec 32 := Scalar.xori v12 c7_i32
  let c0_i32_227 : BitVec 32 := 0#32
  let v421 : BitVec 1 := Scalar.cmpi .sgt v419 c0_i32_227
  let v422 : BitVec 32 := Scalar.extui v421
  let c0_i32_228 : BitVec 32 := 0#32
  let v423 : BitVec 1 := Scalar.cmpi .slt v419 c0_i32_228
  let v424 : BitVec 32 := Scalar.extui v423
  let v425 : BitVec 32 := Scalar.subi v422 v424
  let c4_i32_226 : BitVec 32 := 4#32
  let c0_i32_229 : BitVec 32 := 0#32
  let v426 : BitVec 1 := Scalar.cmpi .sgt c4_i32_226 c0_i32_229
  let v427 : BitVec 32 := Scalar.extui v426
  let c0_i32_230 : BitVec 32 := 0#32
  let v428 : BitVec 1 := Scalar.cmpi .slt c4_i32_226 c0_i32_230
  let v429 : BitVec 32 := Scalar.extui v428
  let v430 : BitVec 32 := Scalar.subi v427 v429
  let v431 : BitVec 1 := Scalar.cmpi .ne v425 v430
  let v432 : BitVec 32 := Scalar.remsi v419 c4_i32_226
  let c0_i32_231 : BitVec 32 := 0#32
  let v433 : BitVec 1 := Scalar.cmpi .ne v432 c0_i32_231
  let v434 : BitVec 1 := Scalar.andi v431 v433
  let v420 : BitVec 32 := Scalar.divsi v419 c4_i32_226
  let c1_i32_232 : BitVec 32 := 1#32
  let v435 : BitVec 32 := Scalar.subi v420 c1_i32_232
  let v436 : BitVec 32 := Scalar.select v434 v435 v420
  let c4_i32_256 : BitVec 32 := 4#32
  let v474 : BitVec 32 := Scalar.muli v436 c4_i32_256
  let v475 : BitVec 32 := Scalar.addi c0_i32_257 v474
  let c0_i32_234 : BitVec 32 := 0#32
  let v438 : BitVec 1 := Scalar.cmpi .sgt v419 c0_i32_234
  let v439 : BitVec 32 := Scalar.extui v438
  let c0_i32_235 : BitVec 32 := 0#32
  let v440 : BitVec 1 := Scalar.cmpi .slt v419 c0_i32_235
  let v441 : BitVec 32 := Scalar.extui v440
  let v442 : BitVec 32 := Scalar.subi v439 v441
  let c2_i32_233 : BitVec 32 := 2#32
  let c0_i32_236 : BitVec 32 := 0#32
  let v443 : BitVec 1 := Scalar.cmpi .sgt c2_i32_233 c0_i32_236
  let v444 : BitVec 32 := Scalar.extui v443
  let c0_i32_237 : BitVec 32 := 0#32
  let v445 : BitVec 1 := Scalar.cmpi .slt c2_i32_233 c0_i32_237
  let v446 : BitVec 32 := Scalar.extui v445
  let v447 : BitVec 32 := Scalar.subi v444 v446
  let v448 : BitVec 1 := Scalar.cmpi .ne v442 v447
  let v449 : BitVec 32 := Scalar.remsi v419 c2_i32_233
  let c0_i32_238 : BitVec 32 := 0#32
  let v450 : BitVec 1 := Scalar.cmpi .ne v449 c0_i32_238
  let v451 : BitVec 1 := Scalar.andi v448 v450
  let v437 : BitVec 32 := Scalar.divsi v419 c2_i32_233
  let c1_i32_239 : BitVec 32 := 1#32
  let v452 : BitVec 32 := Scalar.subi v437 c1_i32_239
  let v453 : BitVec 32 := Scalar.select v451 v452 v437
  let c2_i32_240 : BitVec 32 := 2#32
  let c0_i32_241 : BitVec 32 := 0#32
  let v454 : BitVec 1 := Scalar.cmpi .eq c2_i32_240 c0_i32_241
  let c1_i32_242 : BitVec 32 := 1#32
  let v455 : BitVec 32 := Scalar.select v454 c1_i32_242 c2_i32_240
  let v456 : BitVec 32 := Scalar.remsi v453 v455
  let c0_i32_244 : BitVec 32 := 0#32
  let v458 : BitVec 1 := Scalar.cmpi .slt v456 c0_i32_244
  let c0_i32_245 : BitVec 32 := 0#32
  let v459 : BitVec 1 := Scalar.cmpi .slt v455 c0_i32_245
  let v460 : BitVec 1 := Scalar.xori v458 v459
  let c0_i32_243 : BitVec 32 := 0#32
  let v457 : BitVec 1 := Scalar.cmpi .ne v456 c0_i32_243
  let v461 : BitVec 1 := Scalar.andi v460 v457
  let v462 : BitVec 32 := Scalar.addi v456 v455
  let v463 : BitVec 32 := Scalar.select v461 v462 v456
  let c2_i32_258 : BitVec 32 := 2#32
  let v476 : BitVec 32 := Scalar.muli v463 c2_i32_258
  let v477 : BitVec 32 := Scalar.addi v475 v476
  let c2_i32_246 : BitVec 32 := 2#32
  let c0_i32_247 : BitVec 32 := 0#32
  let v464 : BitVec 1 := Scalar.cmpi .eq c2_i32_246 c0_i32_247
  let c1_i32_248 : BitVec 32 := 1#32
  let v465 : BitVec 32 := Scalar.select v464 c1_i32_248 c2_i32_246
  let v466 : BitVec 32 := Scalar.remsi v419 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c1_i32_259 : BitVec 32 := 1#32
  let v478 : BitVec 32 := Scalar.muli v473 c1_i32_259
  let v479 : BitVec 32 := Scalar.addi v477 v478
  v479.toNat
-- ==== C.lean ====
abbrev S64x128 : Shape := ⟨2, ![64, 128]⟩
abbrev S8x8x128 : Shape := ⟨3, ![8, 8, 128]⟩

abbrev nBuf : Space → Nat
  | .hbm => 2
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SumSmall.lean ====
abbrev S8x3264x128 : Shape := ⟨3, ![8, 3264, 128]⟩
abbrev S3264x128 : Shape := ⟨2, ![3264, 128]⟩
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x3264x128, .f32⟩
  | .hbm, ⟨1, _⟩ => ⟨S3264x128, .f32⟩
  | .local _ .vmem, ⟨0, _⟩ => ⟨S8x64x128, .f32⟩
  | .local _ .vmem, ⟨1, _⟩ => ⟨S8x64x128, .f32⟩
  | .local _ .vmem, ⟨2, _⟩ => ⟨S64x128, .f32⟩
  | .local _ .vmem, ⟨3, _⟩ => ⟨S64x128, .f32⟩
  | _, _ => ⟨S8x3264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![51], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallIdeal.lean ====
abbrev S8x3264x128 : Shape := ⟨3, ![8, 3264, 128]⟩
abbrev S3264x128 : Shape := ⟨2, ![3264, 128]⟩
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x3264x128, .f32⟩
  | .hbm, ⟨1, _⟩ => ⟨S3264x128, .f32⟩
  | .local _ .vmem, ⟨0, _⟩ => ⟨S8x64x128, .f32⟩
  | .local _ .vmem, ⟨1, _⟩ => ⟨S8x64x128, .f32⟩
  | .local _ .vmem, ⟨2, _⟩ => ⟨S64x128, .f32⟩
  | .local _ .vmem, ⟨3, _⟩ => ⟨S64x128, .f32⟩
  | _, _ => ⟨S8x3264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![51], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TotalIdeal.lean ====
abbrev S8x3264x128 : Shape := ⟨3, ![8, 3264, 128]⟩
abbrev S_ : Shape := ⟨0, ![]⟩
abbrev S3264x128 : Shape := ⟨2, ![3264, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x3264x128, .f32⟩
  | .hbm, ⟨1, _⟩ => ⟨S_, .f32⟩
  | .hbm, ⟨2, _⟩ => ⟨S3264x128, .f32⟩
  | _, _ => ⟨S8x3264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamIn.lean ====
abbrev S2048x800 : Shape := ⟨2, ![2048, 800]⟩
abbrev S8x2048x800 : Shape := ⟨3, ![8, 2048, 800]⟩
abbrev S256x800 : Shape := ⟨2, ![256, 800]⟩
abbrev S8x256x800 : Shape := ⟨3, ![8, 256, 800]⟩
abbrev S1x256x800 : Shape := ⟨3, ![1, 256, 800]⟩

abbrev nBuf : Space → Nat
  | .hbm => 8
  | .vmem => 16
  | .smem => 0
  | _ => 0

abbrev bufTy : (tb : Table) → Fin (tcTables nBuf tb) → BufTy
  | .hbm, ⟨0, _⟩ => ⟨S2048x800, .f32⟩
  | .hbm, ⟨1, _⟩ => ⟨S8x2048x800, .bf16⟩
  | .hbm, ⟨2, _⟩ => ⟨S2048x800, .f32⟩
  | .hbm, ⟨3, _⟩ => ⟨S2048x800, .f32⟩
  | .hbm, ⟨4, _⟩ => ⟨S2048x800, .f32⟩
  | .hbm, ⟨5, _⟩ => ⟨S2048x800, .f32⟩
  | .hbm, ⟨6, _⟩ => ⟨S2048x800, .f32⟩
  | .hbm, ⟨7, _⟩ => ⟨S2048x800, .f32⟩
  | .local _ .vmem, ⟨0, _⟩ => ⟨S256x800, .f32⟩
  | .local _ .vmem, ⟨1, _⟩ => ⟨S256x800, .f32⟩
  | .local _ .vmem, ⟨2, _⟩ => ⟨S8x256x800, .bf16⟩
  | .local _ .vmem, ⟨3, _⟩ => ⟨S8x256x800, .bf16⟩
  | .local _ .vmem, ⟨4, _⟩ => ⟨S256x800, .f32⟩
  | .local _ .vmem, ⟨5, _⟩ => ⟨S256x800, .f32⟩
  | .local _ .vmem, ⟨6, _⟩ => ⟨S256x800, .f32⟩
  | .local _ .vmem, ⟨7, _⟩ => ⟨S256x800, .f32⟩
  | .local _ .vmem, ⟨8, _⟩ => ⟨S256x800, .f32⟩
  | .local _ .vmem, ⟨9, _⟩ => ⟨S256x800, .f32⟩
  | .local _ .vmem, ⟨10, _⟩ => ⟨S256x800, .f32⟩
  | .local _ .vmem, ⟨11, _⟩ => ⟨S256x800, .f32⟩
  | .local _ .vmem, ⟨12, _⟩ => ⟨S256x800, .f32⟩
  | .local _ .vmem, ⟨13, _⟩ => ⟨S256x800, .f32⟩
  | .local _ .vmem, ⟨14, _⟩ => ⟨S256x800, .f32⟩
  | .local _ .vmem, ⟨15, _⟩ => ⟨S256x800, .f32⟩
  | _, _ => ⟨S2048x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x800 : Shape := ⟨2, ![2048, 800]⟩
abbrev S8x2048x800 : Shape := ⟨3, ![8, 2048, 800]⟩
abbrev S256x800 : Shape := ⟨2, ![256, 800]⟩
abbrev S8x256x800 : Shape := ⟨3, ![8, 256, 800]⟩
abbrev S1x256x800 : Shape := ⟨3, ![1, 256, 800]⟩

abbrev nBuf : Space → Nat
  | .hbm => 8
  | .vmem => 16
  | .smem => 0
  | _ => 0

abbrev bufTy : (tb : Table) → Fin (tcTables nBuf tb) → BufTy
  | .hbm, ⟨0, _⟩ => ⟨S2048x800, .f32⟩
  | .hbm, ⟨1, _⟩ => ⟨S8x2048x800, .bf16⟩
  | .hbm, ⟨2, _⟩ => ⟨S2048x800, .f32⟩
  | .hbm, ⟨3, _⟩ => ⟨S2048x800, .f32⟩
  | .hbm, ⟨4, _⟩ => ⟨S2048x800, .f32⟩
  | .hbm, ⟨5, _⟩ => ⟨S2048x800, .f32⟩
  | .hbm, ⟨6, _⟩ => ⟨S2048x800, .f32⟩
  | .hbm, ⟨7, _⟩ => ⟨S2048x800, .f32⟩
  | .local _ .vmem, ⟨0, _⟩ => ⟨S256x800, .f32⟩
  | .local _ .vmem, ⟨1, _⟩ => ⟨S256x800, .f32⟩
  | .local _ .vmem, ⟨2, _⟩ => ⟨S8x256x800, .bf16⟩
  | .local _ .vmem, ⟨3, _⟩ => ⟨S8x256x800, .bf16⟩
  | .local _ .vmem, ⟨4, _⟩ => ⟨S256x800, .f32⟩
  | .local _ .vmem, ⟨5, _⟩ => ⟨S256x800, .f32⟩
  | .local _ .vmem, ⟨6, _⟩ => ⟨S256x800, .f32⟩
  | .local _ .vmem, ⟨7, _⟩ => ⟨S256x800, .f32⟩
  | .local _ .vmem, ⟨8, _⟩ => ⟨S256x800, .f32⟩
  | .local _ .vmem, ⟨9, _⟩ => ⟨S256x800, .f32⟩
  | .local _ .vmem, ⟨10, _⟩ => ⟨S256x800, .f32⟩
  | .local _ .vmem, ⟨11, _⟩ => ⟨S256x800, .f32⟩
  | .local _ .vmem, ⟨12, _⟩ => ⟨S256x800, .f32⟩
  | .local _ .vmem, ⟨13, _⟩ => ⟨S256x800, .f32⟩
  | .local _ .vmem, ⟨14, _⟩ => ⟨S256x800, .f32⟩
  | .local _ .vmem, ⟨15, _⟩ => ⟨S256x800, .f32⟩
  | _, _ => ⟨S2048x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S2048x800 : Shape := ⟨2, ![2048, 800]⟩
abbrev S8x2048x800 : Shape := ⟨3, ![8, 2048, 800]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x800, .f32⟩
  | .hbm, ⟨1, _⟩ => ⟨S8x2048x800, .bf16⟩
  | .hbm, ⟨2, _⟩ => ⟨S2048x800, .f32⟩
  | .hbm, ⟨3, _⟩ => ⟨S2048x800, .f32⟩
  | .hbm, ⟨4, _⟩ => ⟨S8x2048x800, .f32⟩
  | .hbm, ⟨5, _⟩ => ⟨S_, .f32⟩
  | .hbm, ⟨6, _⟩ => ⟨S2048x800, .f32⟩
  | .hbm, ⟨7, _⟩ => ⟨S_, .f32⟩
  | .hbm, ⟨8, _⟩ => ⟨S2048x800, .f32⟩
  | .hbm, ⟨9, _⟩ => ⟨S2048x800, .f32⟩
  | .hbm, ⟨10, _⟩ => ⟨S_, .f32⟩
  | .hbm, ⟨11, _⟩ => ⟨S2048x800, .f32⟩
  | .hbm, ⟨12, _⟩ => ⟨S2048x800, .f32⟩
  | .hbm, ⟨13, _⟩ => ⟨S2048x800, .f32⟩
  | .hbm, ⟨14, _⟩ => ⟨S_, .f32⟩
  | .hbm, ⟨15, _⟩ => ⟨S2048x800, .f32⟩
  | .hbm, ⟨16, _⟩ => ⟨S2048x800, .f32⟩
  | .hbm, ⟨17, _⟩ => ⟨S2048x800, .f32⟩
  | .hbm, ⟨18, _⟩ => ⟨S_, .f32⟩
  | .hbm, ⟨19, _⟩ => ⟨S2048x800, .f32⟩
  | .hbm, ⟨20, _⟩ => ⟨S2048x800, .f32⟩
  | .hbm, ⟨21, _⟩ => ⟨S2048x800, .f32⟩
  | .hbm, ⟨22, _⟩ => ⟨S_, .f32⟩
  | .hbm, ⟨23, _⟩ => ⟨S2048x800, .f32⟩
  | .hbm, ⟨24, _⟩ => ⟨S2048x800, .f32⟩
  | .hbm, ⟨25, _⟩ => ⟨S_, .f32⟩
  | .hbm, ⟨26, _⟩ => ⟨S2048x800, .f32⟩
  | .hbm, ⟨27, _⟩ => ⟨S2048x800, .f32⟩
  | .hbm, ⟨28, _⟩ => ⟨S2048x800, .f32⟩
  | .hbm, ⟨29, _⟩ => ⟨S_, .f32⟩
  | .hbm, ⟨30, _⟩ => ⟨S2048x800, .f32⟩
  | .hbm, ⟨31, _⟩ => ⟨S2048x800, .f32⟩
  | .hbm, ⟨32, _⟩ => ⟨S2048x800, .f32⟩
  | .hbm, ⟨33, _⟩ => ⟨S_, .f32⟩
  | .hbm, ⟨34, _⟩ => ⟨S2048x800, .f32⟩
  | .hbm, ⟨35, _⟩ => ⟨S2048x800, .f32⟩
  | .hbm, ⟨36, _⟩ => ⟨S2048x800, .f32⟩
  | .hbm, ⟨37, _⟩ => ⟨S_, .f32⟩
  | .hbm, ⟨38, _⟩ => ⟨S2048x800, .f32⟩
  | .hbm, ⟨39, _⟩ => ⟨S2048x800, .f32⟩
  | _, _ => ⟨S2048x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S8x128x512, .bf16⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S128x512, .f32⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S128x512 : Shape := ⟨2, ![128, 512]⟩
abbrev S8x128x512 : Shape := ⟨3, ![8, 128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S8x128x512, .bf16⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S128x512, .f32⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepGluIdeal.lean ====
abbrev S128x512 : Shape := ⟨2, ![128, 512]⟩
abbrev S8x128x512 : Shape := ⟨3, ![8, 128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S8x128x512, .bf16⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S1024x128 : Shape := ⟨2, ![1024, 128]⟩
abbrev S8x1024x128 : Shape := ⟨3, ![8, 1024, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S8x1024x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchIdeal.lean ====
abbrev S1024x128 : Shape := ⟨2, ![1024, 128]⟩
abbrev S8x1024x128 : Shape := ⟨3, ![8, 1024, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S8x1024x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepBranchIdeal.lean ====
abbrev S1024x128 : Shape := ⟨2, ![1024, 128]⟩
abbrev S8x1024x128 : Shape := ⟨3, ![8, 1024, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S8x1024x128, .bf16⟩
  | .hbm, ⟨2, _⟩ => ⟨S1024x128, .f32⟩
  | .hbm, ⟨3, _⟩ => ⟨S1024x128, .f32⟩
  | .hbm, ⟨4, _⟩ => ⟨S8x1024x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepOutIdeal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S2048x384 : Shape := ⟨2, ![2048, 384]⟩
abbrev S1x2048x384 : Shape := ⟨3, ![1, 2048, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S1x256x384, .f32⟩
  | .local _ .vmem, ⟨3, _⟩ => ⟨S1x256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S2048x384 : Shape := ⟨2, ![2048, 384]⟩
abbrev S1x2048x384 : Shape := ⟨3, ![1, 2048, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S1x256x384, .f32⟩
  | .local _ .vmem, ⟨3, _⟩ => ⟨S1x256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaIdeal.lean ====
abbrev S2048x384 : Shape := ⟨2, ![2048, 384]⟩
abbrev S1x2048x384 : Shape := ⟨3, ![1, 2048, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S1x2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S_, .f32⟩
  | .hbm, ⟨25, _⟩ => ⟨S2048x384, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPack.lean ====
abbrev S3264x128 : Shape := ⟨2, ![3264, 128]⟩
abbrev S1x3264x128 : Shape := ⟨3, ![1, 3264, 128]⟩
abbrev S64x128 : Shape := ⟨2, ![64, 128]⟩
abbrev S1x64x128 : Shape := ⟨3, ![1, 64, 128]⟩

abbrev nBuf : Space → Nat
  | .hbm => 8
  | .vmem => 16
  | .smem => 0
  | _ => 0

abbrev bufTy : (tb : Table) → Fin (tcTables nBuf tb) → BufTy
  | .hbm, ⟨0, _⟩ => ⟨S3264x128, .f32⟩
  | .hbm, ⟨1, _⟩ => ⟨S1x3264x128, .f32⟩
  | .hbm, ⟨2, _⟩ => ⟨S3264x128, .f32⟩
  | .hbm, ⟨3, _⟩ => ⟨S3264x128, .f32⟩
  | .hbm, ⟨4, _⟩ => ⟨S3264x128, .f32⟩
  | .hbm, ⟨5, _⟩ => ⟨S3264x128, .f32⟩
  | .hbm, ⟨6, _⟩ => ⟨S3264x128, .f32⟩
  | .hbm, ⟨7, _⟩ => ⟨S3264x128, .f32⟩
  | .local _ .vmem, ⟨0, _⟩ => ⟨S64x128, .f32⟩
  | .local _ .vmem, ⟨1, _⟩ => ⟨S64x128, .f32⟩
  | .local _ .vmem, ⟨2, _⟩ => ⟨S1x64x128, .f32⟩
  | .local _ .vmem, ⟨3, _⟩ => ⟨S1x64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | _, _ => ⟨S3264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPackIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== StepPackIdeal.lean ====
abbrev S3264x128 : Shape := ⟨2, ![3264, 128]⟩
abbrev S1x3264x128 : Shape := ⟨3, ![1, 3264, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3264x128, .f32⟩
  | .hbm, ⟨1, _⟩ => ⟨S1x3264x128, .f32⟩
  | .hbm, ⟨2, _⟩ => ⟨S3264x128, .f32⟩
  | .hbm, ⟨3, _⟩ => ⟨S3264x128, .f32⟩
  | .hbm, ⟨4, _⟩ => ⟨S_, .f32⟩
  | .hbm, ⟨5, _⟩ => ⟨S3264x128, .f32⟩
  | .hbm, ⟨6, _⟩ => ⟨S_, .f32⟩
  | .hbm, ⟨7, _⟩ => ⟨S3264x128, .f32⟩
  | .hbm, ⟨8, _⟩ => ⟨S3264x128, .f32⟩
  | .hbm, ⟨9, _⟩ => ⟨S_, .f32⟩
  | .hbm, ⟨10, _⟩ => ⟨S3264x128, .f32⟩
  | .hbm, ⟨11, _⟩ => ⟨S3264x128, .f32⟩
  | .hbm, ⟨12, _⟩ => ⟨S3264x128, .f32⟩
  | .hbm, ⟨13, _⟩ => ⟨S_, .f32⟩
  | .hbm, ⟨14, _⟩ => ⟨S3264x128, .f32⟩
  | .hbm, ⟨15, _⟩ => ⟨S3264x128, .f32⟩
  | .hbm, ⟨16, _⟩ => ⟨S3264x128, .f32⟩
  | .hbm, ⟨17, _⟩ => ⟨S_, .f32⟩
  | .hbm, ⟨18, _⟩ => ⟨S3264x128, .f32⟩
  | .hbm, ⟨19, _⟩ => ⟨S3264x128, .f32⟩
  | .hbm, ⟨20, _⟩ => ⟨S3264x128, .f32⟩
  | .hbm, ⟨21, _⟩ => ⟨S_, .f32⟩
  | .hbm, ⟨22, _⟩ => ⟨S3264x128, .f32⟩
  | .hbm, ⟨23, _⟩ => ⟨S3264x128, .f32⟩
  | .hbm, ⟨24, _⟩ => ⟨S_, .f32⟩
  | .hbm, ⟨25, _⟩ => ⟨S3264x128, .f32⟩
  | .hbm, ⟨26, _⟩ => ⟨S3264x128, .f32⟩
  | .hbm, ⟨27, _⟩ => ⟨S3264x128, .f32⟩
  | .hbm, ⟨28, _⟩ => ⟨S_, .f32⟩
  | .hbm, ⟨29, _⟩ => ⟨S3264x128, .f32⟩
  | .hbm, ⟨30, _⟩ => ⟨S3264x128, .f32⟩
  | .hbm, ⟨31, _⟩ => ⟨S3264x128, .f32⟩
  | .hbm, ⟨32, _⟩ => ⟨S_, .f32⟩
  | .hbm, ⟨33, _⟩ => ⟨S3264x128, .f32⟩
  | .hbm, ⟨34, _⟩ => ⟨S3264x128, .f32⟩
  | .hbm, ⟨35, _⟩ => ⟨S3264x128, .f32⟩
  | .hbm, ⟨36, _⟩ => ⟨S_, .f32⟩
  | .hbm, ⟨37, _⟩ => ⟨S3264x128, .f32⟩
  | .hbm, ⟨38, _⟩ => ⟨S3264x128, .f32⟩
  | _, _ => ⟨S3264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MmAdaFwd.lean ====
abbrev S8x1024 : Shape := ⟨2, ![8, 1024]⟩
abbrev S1024x384 : Shape := ⟨2, ![1024, 384]⟩
abbrev S8x384 : Shape := ⟨2, ![8, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MmAdaFwdIdeal.lean ====
abbrev S8x1024 : Shape := ⟨2, ![8, 1024]⟩
abbrev S1024x384 : Shape := ⟨2, ![1024, 384]⟩
abbrev S8x384 : Shape := ⟨2, ![8, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== TimesAdaFwdIdeal.lean ====
abbrev S8x1024 : Shape := ⟨2, ![8, 1024]⟩
abbrev S1024x384 : Shape := ⟨2, ![1024, 384]⟩
abbrev S8x384 : Shape := ⟨2, ![8, 384]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmProjA.lean ====
abbrev S4096x1024 : Shape := ⟨2, ![4096, 1024]⟩
abbrev S1024x1280 : Shape := ⟨2, ![1024, 1280]⟩
abbrev S4096x1280 : Shape := ⟨2, ![4096, 1280]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1280, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmProjAIdeal.lean ====
abbrev S4096x1024 : Shape := ⟨2, ![4096, 1024]⟩
abbrev S1024x1280 : Shape := ⟨2, ![1024, 1280]⟩
abbrev S4096x1280 : Shape := ⟨2, ![4096, 1280]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1280, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TimesProjAIdeal.lean ====
abbrev S4096x1024 : Shape := ⟨2, ![4096, 1024]⟩
abbrev S1024x1280 : Shape := ⟨2, ![1024, 1280]⟩
abbrev S4096x1280 : Shape := ⟨2, ![4096, 1280]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1024, .f32⟩
  | .hbm, ⟨3, _⟩ => ⟨S1024x1280, .f32⟩
  | .hbm, ⟨4, _⟩ => ⟨S4096x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmProjS.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmProjSIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TimesProjSIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmProjG.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmProjGIdeal.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TimesProjGIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDy.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDyIdeal.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TimesDyIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S1024x512, .bf16⟩
  | .hbm, ⟨3, _⟩ => ⟨S4096x1024, .f32⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwAda.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 3
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | .local _ .vmem, ⟨3, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmDwAdaIdeal.lean ====
abbrev S8x1024 : Shape := ⟨2, ![8, 1024]⟩
abbrev S8x384 : Shape := ⟨2, ![8, 384]⟩
abbrev S1024x384 : Shape := ⟨2, ![1024, 384]⟩

abbrev nBuf : Space → Nat
  | .hbm => 3
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x384, .f32⟩
  | .local _ .vmem, ⟨0, _⟩ => ⟨S8x1024, .f32⟩
  | .local _ .vmem, ⟨1, _⟩ => ⟨S8x384, .f32⟩
  | .local _ .vmem, ⟨2, _⟩ => ⟨S1024x384, .f32⟩
  | .local _ .vmem, ⟨3, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TimesDwAdaIdeal.lean ====
abbrev S8x1024 : Shape := ⟨2, ![8, 1024]⟩
abbrev S8x384 : Shape := ⟨2, ![8, 384]⟩
abbrev S1024x8 : Shape := ⟨2, ![1024, 8]⟩
abbrev S1024x384 : Shape := ⟨2, ![1024, 384]⟩

abbrev nBuf : Space → Nat
  | .hbm => 4
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x8, .f32⟩
  | .hbm, ⟨3, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmDwOut.lean ====
abbrev S4096x1024 : Shape := ⟨2, ![4096, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwOutIdeal.lean ====
abbrev S4096x1024 : Shape := ⟨2, ![4096, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TimesDwOutIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmDwBranch.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwBranchIdeal.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TimesDwBranchIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x4096, .bf16⟩
  | .hbm, ⟨3, _⟩ => ⟨S512x4096, .f32⟩
  | .hbm, ⟨4, _⟩ => ⟨S4096x1024, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmDwA.lean ====
abbrev S4096x1024 : Shape := ⟨2, ![4096, 1024]⟩
abbrev S4096x1280 : Shape := ⟨2, ![4096, 1280]⟩
abbrev S1024x1280 : Shape := ⟨2, ![1024, 1280]⟩
abbrev S512x512 : Shape := ⟨2, ![512, 512]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S1024x1280, .bf16⟩
  | .local _ .vmem, ⟨0, _⟩ => ⟨S512x512, .bf16⟩
  | .local _ .vmem, ⟨1, _⟩ => ⟨S512x512, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwAIdeal.lean ====
abbrev S4096x1024 : Shape := ⟨2, ![4096, 1024]⟩
abbrev S4096x1280 : Shape := ⟨2, ![4096, 1280]⟩
abbrev S1024x1280 : Shape := ⟨2, ![1024, 1280]⟩
abbrev S512x512 : Shape := ⟨2, ![512, 512]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S1024x1280, .bf16⟩
  | .local _ .vmem, ⟨0, _⟩ => ⟨S512x512, .bf16⟩
  | .local _ .vmem, ⟨1, _⟩ => ⟨S512x512, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TimesDwAIdeal.lean ====
abbrev S4096x1024 : Shape := ⟨2, ![4096, 1024]⟩
abbrev S4096x1280 : Shape := ⟨2, ![4096, 1280]⟩
abbrev S1024x4096 : Shape := ⟨2, ![1024, 4096]⟩
abbrev S1024x1280 : Shape := ⟨2, ![1024, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S1024x4096, .bf16⟩
  | .hbm, ⟨3, _⟩ => ⟨S1024x4096, .f32⟩
  | .hbm, ⟨4, _⟩ => ⟨S4096x1280, .f32⟩
  | .hbm, ⟨5, _⟩ => ⟨S1024x1280, .f32⟩
  | .hbm, ⟨6, _⟩ => ⟨S1024x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmDwG.lean ====
abbrev S4096x1024 : Shape := ⟨2, ![4096, 1024]⟩
abbrev S4096x3072 : Shape := ⟨2, ![4096, 3072]⟩
abbrev S1024x3072 : Shape := ⟨2, ![1024, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwGIdeal.lean ====
abbrev S4096x1024 : Shape := ⟨2, ![4096, 1024]⟩
abbrev S4096x3072 : Shape := ⟨2, ![4096, 3072]⟩
abbrev S1024x3072 : Shape := ⟨2, ![1024, 3072]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TimesDwGIdeal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x4096, .bf16⟩
  | .hbm, ⟨3, _⟩ => ⟨S1024x4096, .f32⟩
  | .hbm, ⟨4, _⟩ => ⟨S4096x3072, .f32⟩
  | .hbm, ⟨5, _⟩ => ⟨S1024x3072, .f32⟩
  | .hbm, ⟨6, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdIdeal.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdIdeal.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S5x1024, .f32⟩
  | .hbm, ⟨77, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== FinalLoss.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FinalLossIdeal.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S6x1024, .f32⟩
  | .hbm, ⟨76, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Dh.lean ====
abbrev S4096x1280 : Shape := ⟨2, ![4096, 1280]⟩
abbrev S1024x1280 : Shape := ⟨2, ![1024, 1280]⟩
abbrev S4096x1024 : Shape := ⟨2, ![4096, 1024]⟩
abbrev S1024x1024 : Shape := ⟨2, ![1024, 1024]⟩
abbrev S4096x3072 : Shape := ⟨2, ![4096, 3072]⟩
abbrev S1024x3072 : Shape := ⟨2, ![1024, 3072]⟩
abbrev S512x1280 : Shape := ⟨2, ![512, 1280]⟩
abbrev S512x1024 : Shape := ⟨2, ![512, 1024]⟩
abbrev S512x3072 : Shape := ⟨2, ![512, 3072]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S1024x1024, .bf16⟩
  | .hbm, ⟨6, _⟩ => ⟨S4096x3072, .bf16⟩
  | .hbm, ⟨7, _⟩ => ⟨S1024x3072, .bf16⟩
  | .hbm, ⟨8, _⟩ => ⟨S4096x1024, .f32⟩
  | .local _ .vmem, ⟨0, _⟩ => ⟨S512x1280, .bf16⟩
  | .local _ .vmem, ⟨1, _⟩ => ⟨S512x1280, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S512x3072, .bf16⟩
  | .local _ .vmem, ⟨16, _⟩ => ⟨S512x512, .f32⟩
  | .local _ .vmem, ⟨17, _⟩ => ⟨S512x512, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DhIdeal.lean ====
abbrev S4096x1280 : Shape := ⟨2, ![4096, 1280]⟩
abbrev S1024x1280 : Shape := ⟨2, ![1024, 1280]⟩
abbrev S4096x1024 : Shape := ⟨2, ![4096, 1024]⟩
abbrev S1024x1024 : Shape := ⟨2, ![1024, 1024]⟩
abbrev S4096x3072 : Shape := ⟨2, ![4096, 3072]⟩
abbrev S1024x3072 : Shape := ⟨2, ![1024, 3072]⟩
abbrev S512x1280 : Shape := ⟨2, ![512, 1280]⟩
abbrev S512x1024 : Shape := ⟨2, ![512, 1024]⟩
abbrev S512x3072 : Shape := ⟨2, ![512, 3072]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S1024x1024, .bf16⟩
  | .hbm, ⟨6, _⟩ => ⟨S4096x3072, .bf16⟩
  | .hbm, ⟨7, _⟩ => ⟨S1024x3072, .bf16⟩
  | .hbm, ⟨8, _⟩ => ⟨S4096x1024, .f32⟩
  | .local _ .vmem, ⟨0, _⟩ => ⟨S512x1280, .bf16⟩
  | .local _ .vmem, ⟨1, _⟩ => ⟨S512x1280, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S512x3072, .bf16⟩
  | .local _ .vmem, ⟨16, _⟩ => ⟨S512x512, .f32⟩
  | .local _ .vmem, ⟨17, _⟩ => ⟨S512x512, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InputGradIdeal.lean ====
abbrev S4096x1280 : Shape := ⟨2, ![4096, 1280]⟩
abbrev S1024x1280 : Shape := ⟨2, ![1024, 1280]⟩
abbrev S4096x1024 : Shape := ⟨2, ![4096, 1024]⟩
abbrev S1024x1024 : Shape := ⟨2, ![1024, 1024]⟩
abbrev S4096x3072 : Shape := ⟨2, ![4096, 3072]⟩
abbrev S1024x3072 : Shape := ⟨2, ![1024, 3072]⟩
abbrev S1280x1024 : Shape := ⟨2, ![1280, 1024]⟩
abbrev S_ : Shape := ⟨0, ![]⟩
abbrev S3072x1024 : Shape := ⟨2, ![3072, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1024x1280, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S1024x1024, .bf16⟩
  | .hbm, ⟨6, _⟩ => ⟨S4096x3072, .bf16⟩
  | .hbm, ⟨7, _⟩ => ⟨S1024x3072, .bf16⟩
  | .hbm, ⟨8, _⟩ => ⟨S1280x1024, .bf16⟩
  | .hbm, ⟨9, _⟩ => ⟨S4096x1280, .f32⟩
  | .hbm, ⟨10, _⟩ => ⟨S1280x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S1024x1024, .bf16⟩
  | .hbm, ⟨16, _⟩ => ⟨S4096x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S1024x1024, .bf16⟩
  | .hbm, ⟨21, _⟩ => ⟨S4096x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S3072x1024, .bf16⟩
  | .hbm, ⟨26, _⟩ => ⟨S4096x3072, .f32⟩
  | .hbm, ⟨27, _⟩ => ⟨S3072x1024, .f32⟩
  | .hbm, ⟨28, _⟩ => ⟨S4096x1024, .f32⟩
  | .hbm, ⟨29, _⟩ => ⟨S4096x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== MergeFwd.lean ====
abbrev S4096x512 : Shape := ⟨2, ![4096, 512]⟩
abbrev S512x1024 : Shape := ⟨2, ![512, 1024]⟩
abbrev S4096x3072 : Shape := ⟨2, ![4096, 3072]⟩
abbrev S4096x1024 : Shape := ⟨2, ![4096, 1024]⟩
abbrev S256x512 : Shape := ⟨2, ![256, 512]⟩
abbrev S256x3072 : Shape := ⟨2, ![256, 3072]⟩
abbrev S256x1024 : Shape := ⟨2, ![256, 1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x3072, .f32⟩
  | .local _ .vmem, ⟨10, _⟩ => ⟨S256x3072, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFwdIdeal.lean ====
abbrev S4096x512 : Shape := ⟨2, ![4096, 512]⟩
abbrev S512x1024 : Shape := ⟨2, ![512, 1024]⟩
abbrev S4096x3072 : Shape := ⟨2, ![4096, 3072]⟩
abbrev S4096x1024 : Shape := ⟨2, ![4096, 1024]⟩
abbrev S256x512 : Shape := ⟨2, ![256, 512]⟩
abbrev S256x3072 : Shape := ⟨2, ![256, 3072]⟩
abbrev S256x1024 : Shape := ⟨2, ![256, 1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x3072, .f32⟩
  | .local _ .vmem, ⟨10, _⟩ => ⟨S256x3072, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeIdeal.lean ====
abbrev S4096x512 : Shape := ⟨2, ![4096, 512]⟩
abbrev S512x1024 : Shape := ⟨2, ![512, 1024]⟩
abbrev S4096x3072 : Shape := ⟨2, ![4096, 3072]⟩
abbrev S_ : Shape := ⟨0, ![]⟩
abbrev S4096x1024 : Shape := ⟨2, ![4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S4096x512, .f32⟩
  | .hbm, ⟨16, _⟩ => ⟨S512x1024, .f32⟩
  | .hbm, ⟨17, _⟩ => ⟨S4096x1024, .f32⟩
  | .hbm, ⟨18, _⟩ => ⟨S4096x512, .f32⟩
  | .hbm, ⟨19, _⟩ => ⟨S512x1024, .f32⟩
  | .hbm, ⟨20, _⟩ => ⟨S4096x1024, .f32⟩
  | .hbm, ⟨21, _⟩ => ⟨S4096x512, .f32⟩
  | .hbm, ⟨22, _⟩ => ⟨S512x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdIdeal.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidualIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MergeBwd.lean ====
abbrev S4096x1024 : Shape := ⟨2, ![4096, 1024]⟩
abbrev S1x1024 : Shape := ⟨2, ![1, 1024]⟩
abbrev S1024x1024 : Shape := ⟨2, ![1024, 1024]⟩
abbrev S4096x3072 : Shape := ⟨2, ![4096, 3072]⟩
abbrev S8x1024 : Shape := ⟨2, ![8, 1024]⟩
abbrev S256x1024 : Shape := ⟨2, ![256, 1024]⟩
abbrev S256x3072 : Shape := ⟨2, ![256, 3072]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x3072, .bf16⟩
  | .hbm, ⟨13, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x3072, .bf16⟩
  | .local _ .vmem, ⟨23, _⟩ => ⟨S256x3072, .bf16⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeGradIdeal.lean ====
abbrev S4096x1024 : Shape := ⟨2, ![4096, 1024]⟩
abbrev S1x1024 : Shape := ⟨2, ![1, 1024]⟩
abbrev S1024x1024 : Shape := ⟨2, ![1024, 1024]⟩
abbrev S4096x3072 : Shape := ⟨2, ![4096, 3072]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x1024, .bf16⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x3072, .f32⟩
  | .hbm, ⟨51, _⟩ => ⟨S4096x3072, .bf16⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S7x1024, .f32⟩
  | .hbm, ⟨58, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== DiscGrad.lean ====
abbrev S2x32x64 : Shape := ⟨3, ![2, 32, 64]⟩
abbrev S2x32 : Shape := ⟨2, ![2, 32]⟩
abbrev S2x32x64x16 : Shape := ⟨4, ![2, 32, 64, 16]⟩
abbrev S2x32x1 : Shape := ⟨3, ![2, 32, 1]⟩
abbrev S_ : Shape := ⟨0, ![]⟩
abbrev S2x32x64x1 : Shape := ⟨4, ![2, 32, 64, 1]⟩

abbrev nBuf : Space → Nat
  | .hbm => 170
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x64, .f32⟩
  | 6 => ⟨S2x32x64, .f32⟩
  | 7 => ⟨S2x32x64x16, .f32⟩
  | 8 => ⟨S2x32x64x16, .f32⟩
  | 9 => ⟨S2x32, .f32⟩
  | 10 => ⟨S2x32x1, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S_, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S2x32x64, .f32⟩
  | 34 => ⟨S2x32x64, .f32⟩
  | 35 => ⟨S_, .f32⟩
  | 36 => ⟨S2x32x64, .f32⟩
  | 37 => ⟨S2x32x64, .f32⟩
  | 38 => ⟨S2x32x64, .f32⟩
  | 39 => ⟨S_, .f32⟩
  | 40 => ⟨S2x32x64, .f32⟩
  | 41 => ⟨S2x32x64, .f32⟩
  | 42 => ⟨S2x32x64, .f32⟩
  | 43 => ⟨S2x32x64, .f32⟩
  | 44 => ⟨S2x32x64, .f32⟩
  | 45 => ⟨S2x32x64, .f32⟩
  | 46 => ⟨S_, .f32⟩
  | 47 => ⟨S2x32x64, .f32⟩
  | 48 => ⟨S2x32x64, .f32⟩
  | 49 => ⟨S2x32x64x1, .f32⟩
  | 50 => ⟨S2x32x64x16, .f32⟩
  | 51 => ⟨S2x32x64x16, .f32⟩
  | 52 => ⟨S2x32x64x1, .f32⟩
  | 53 => ⟨S2x32x64x16, .f32⟩
  | 54 => ⟨S2x32x64x16, .f32⟩
  | 55 => ⟨S2x32x64x16, .f32⟩
  | 56 => ⟨S2x32x64x1, .f32⟩
  | 57 => ⟨S2x32x64x16, .f32⟩
  | 58 => ⟨S2x32x64x16, .f32⟩
  | 59 => ⟨S2x32x64x1, .f32⟩
  | 60 => ⟨S2x32x64x16, .f32⟩
  | 61 => ⟨S2x32x64x16, .f32⟩
  | 62 => ⟨S2x32x64x16, .f32⟩
  | 63 => ⟨S2x32x64x16, .f32⟩
  | 64 => ⟨S2x32x64x16, .f32⟩
  | 65 => ⟨S2x32x64x16, .f32⟩
  | 66 => ⟨S2x32x64x16, .f32⟩
  | 67 => ⟨S2x32x64x16, .f32⟩
  | 68 => ⟨S_, .f32⟩
  | 69 => ⟨S2x32x64, .f32⟩
  | 70 => ⟨S2x32x64x1, .f32⟩
  | 71 => ⟨S_, .f32⟩
  | 72 => ⟨S2x32x64, .f32⟩
  | 73 => ⟨S2x32x64x16, .f32⟩
  | 74 => ⟨S2x32x64x16, .f32⟩
  | 75 => ⟨S2x32x64x16, .f32⟩
  | 76 => ⟨S_, .f32⟩
  | 77 => ⟨S2x32x64, .f32⟩
  | 78 => ⟨S2x32x64x1, .f32⟩
  | 79 => ⟨S_, .f32⟩
  | 80 => ⟨S2x32x64, .f32⟩
  | 81 => ⟨S2x32x64x16, .f32⟩
  | 82 => ⟨S2x32x64x16, .f32⟩
  | 83 => ⟨S2x32x64x16, .f32⟩
  | 84 => ⟨S2x32x64x16, .f32⟩
  | 85 => ⟨S2x32x64x16, .f32⟩
  | 86 => ⟨S2x32x64x16, .f32⟩
  | 87 => ⟨S_, .f32⟩
  | 88 => ⟨S2x32x64, .f32⟩
  | 89 => ⟨S2x32x64x1, .f32⟩
  | 90 => ⟨S_, .f32⟩
  | 91 => ⟨S2x32x64, .f32⟩
  | 92 => ⟨S2x32x64, .f32⟩
  | 93 => ⟨S2x32x64x16, .f32⟩
  | 94 => ⟨S2x32x64x16, .f32⟩
  | 95 => ⟨S2x32x64x16, .f32⟩
  | 96 => ⟨S2x32x64x16, .f32⟩
  | 97 => ⟨S_, .f32⟩
  | 98 => ⟨S2x32x64, .f32⟩
  | 99 => ⟨S2x32x64x1, .f32⟩
  | 100 => ⟨S_, .f32⟩
  | 101 => ⟨S2x32x64, .f32⟩
  | 102 => ⟨S2x32x64, .f32⟩
  | 103 => ⟨S2x32x64, .f32⟩
  | 104 => ⟨S2x32x64, .f32⟩
  | 105 => ⟨S2x32x64, .f32⟩
  | 106 => ⟨S2x32x64, .f32⟩
  | 107 => ⟨S2x32x64, .f32⟩
  | 108 => ⟨S2x32x64, .f32⟩
  | 109 => ⟨S2x32x64, .f32⟩
  | 110 => ⟨S2x32x64, .f32⟩
  | 111 => ⟨S2x32x64, .f32⟩
  | 112 => ⟨S2x32x64, .f32⟩
  | 113 => ⟨S2x32x64, .f32⟩
  | 114 => ⟨S2x32x64, .f32⟩
  | 115 => ⟨S2x32x64, .f32⟩
  | 116 => ⟨S2x32x64, .f32⟩
  | 117 => ⟨S2x32x64, .f32⟩
  | 118 => ⟨S2x32x64, .f32⟩
  | 119 => ⟨S2x32x64, .f32⟩
  | 120 => ⟨S2x32x64, .f32⟩
  | 121 => ⟨S2x32x64, .f32⟩
  | 122 => ⟨S2x32x64, .f32⟩
  | 123 => ⟨S2x32x64, .f32⟩
  | 124 => ⟨S2x32x64, .f32⟩
  | 125 => ⟨S2x32x64, .f32⟩
  | 126 => ⟨S2x32x64, .f32⟩
  | 127 => ⟨S2x32x64, .f32⟩
  | _ => ⟨S2x32x64, .f32⟩

abbrev hbmTy0_1 (i : Nat) : BufTy := match i % 128 with
  | 0 => ⟨S2x32x64, .f32⟩
  | 1 => ⟨S2x32x64, .f32⟩
  | 2 => ⟨S2x32x64, .f32⟩
  | 3 => ⟨S2x32x64, .f32⟩
  | 4 => ⟨S2x32x64, .f32⟩
  | 5 => ⟨S2x32x64, .f32⟩
  | 6 => ⟨S2x32x64, .f32⟩
  | 7 => ⟨S2x32x64, .f32⟩
  | 8 => ⟨S2x32x64, .f32⟩
  | 9 => ⟨S2x32x64, .f32⟩
  | 10 => ⟨S2x32x64, .f32⟩
  | 11 => ⟨S_, .f32⟩
  | 12 => ⟨S2x32, .f32⟩
  | 13 => ⟨S2x32x1, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S_, .f32⟩
  | 24 => ⟨S2x32, .f32⟩
  | 25 => ⟨S2x32x1, .f32⟩
  | 26 => ⟨S2x32x1, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S_, .f32⟩
  | 33 => ⟨S2x32, .f32⟩
  | 34 => ⟨S2x32x1, .f32⟩
  | 35 => ⟨S2x32x1, .f32⟩
  | 36 => ⟨S2x32x64, .f32⟩
  | 37 => ⟨S2x32x64, .f32⟩
  | 38 => ⟨S2x32x64, .f32⟩
  | 39 => ⟨S_, .f32⟩
  | 40 => ⟨S2x32, .f32⟩
  | 41 => ⟨S2x32, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_11 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_12 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_cst_13 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_14 : Ref sig .tc := ⟨.hbm, 167, rfl⟩
abbrev main_v143 : Ref sig .tc := ⟨.hbm, 168, rfl⟩
abbrev main_v144 : Ref sig .tc := ⟨.hbm, 169, rfl⟩

abbrev nD : Nat := 1
abbrev τ : Topo := Topo.v7x

variable {F : FTy → Type} [FloatOps F]
-- ==== ChainRuleIdeal.lean ====
abbrev S2x32x64 : Shape := ⟨3, ![2, 32, 64]⟩
abbrev S2x32 : Shape := ⟨2, ![2, 32]⟩
abbrev S2x32x64x16 : Shape := ⟨4, ![2, 32, 64, 16]⟩
abbrev S2x32x1 : Shape := ⟨3, ![2, 32, 1]⟩
abbrev S_ : Shape := ⟨0, ![]⟩
abbrev S2x32x64x1 : Shape := ⟨4, ![2, 32, 64, 1]⟩

abbrev nBuf : Space → Nat
  | .hbm => 106
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x64, .f32⟩
  | .hbm, ⟨6, _⟩ => ⟨S2x32x64, .f32⟩
  | .hbm, ⟨7, _⟩ => ⟨S2x32x64x16, .f32⟩
  | .hbm, ⟨8, _⟩ => ⟨S2x32x64x16, .f32⟩
  | .hbm, ⟨9, _⟩ => ⟨S2x32, .f32⟩
  | .hbm, ⟨10, _⟩ => ⟨S2x32x1, .f32⟩
  | .hbm, ⟨11, _⟩ => ⟨S2x32x64, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S2x32x64, .f32⟩
  | .hbm, ⟨24, _⟩ => ⟨S2x32x64, .f32⟩
  | .hbm, ⟨25, _⟩ => ⟨S_, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S2x32x64, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S2x32x64, .f32⟩
  | .hbm, ⟨35, _⟩ => ⟨S2x32x64, .f32⟩
  | .hbm, ⟨36, _⟩ => ⟨S2x32x64, .f32⟩
  | .hbm, ⟨37, _⟩ => ⟨S2x32x64, .f32⟩
  | .hbm, ⟨38, _⟩ => ⟨S2x32x64, .f32⟩
  | .hbm, ⟨39, _⟩ => ⟨S2x32x64, .f32⟩
  | .hbm, ⟨40, _⟩ => ⟨S2x32x64, .f32⟩
  | .hbm, ⟨41, _⟩ => ⟨S2x32x64, .f32⟩
  | .hbm, ⟨42, _⟩ => ⟨S2x32x64x1, .f32⟩
  | .hbm, ⟨43, _⟩ => ⟨S2x32x64x1, .f32⟩
  | .hbm, ⟨44, _⟩ => ⟨S2x32x64x16, .f32⟩
  | .hbm, ⟨45, _⟩ => ⟨S2x32x64x16, .f32⟩
  | .hbm, ⟨46, _⟩ => ⟨S2x32x64x16, .f32⟩
  | .hbm, ⟨47, _⟩ => ⟨S2x32x64x16, .f32⟩
  | .hbm, ⟨48, _⟩ => ⟨S2x32x64x16, .f32⟩
  | .hbm, ⟨49, _⟩ => ⟨S2x32x64x16, .f32⟩
  | .hbm, ⟨50, _⟩ => ⟨S2x32x64x16, .f32⟩
  | .hbm, ⟨51, _⟩ => ⟨S2x32x64x16, .f32⟩
  | .hbm, ⟨52, _⟩ => ⟨S2x32x64x16, .f32⟩
  | .hbm, ⟨53, _⟩ => ⟨S2x32x64x16, .f32⟩
  | .hbm, ⟨54, _⟩ => ⟨S2x32x64x16, .f32⟩
  | .hbm, ⟨55, _⟩ => ⟨S2x32x64x16, .f32⟩
  | .hbm, ⟨56, _⟩ => ⟨S2x32x64x16, .f32⟩
  | .hbm, ⟨57, _⟩ => ⟨S2x32x64x16, .f32⟩
  | .hbm, ⟨58, _⟩ => ⟨S2x32x64x16, .f32⟩
  | .hbm, ⟨59, _⟩ => ⟨S2x32x64x16, .f32⟩
  | .hbm, ⟨60, _⟩ => ⟨S_, .f32⟩
  | .hbm, ⟨61, _⟩ => ⟨S2x32x64, .f32⟩
  | .hbm, ⟨62, _⟩ => ⟨S_, .f32⟩
  | .hbm, ⟨63, _⟩ => ⟨S2x32x64, .f32⟩
  | .hbm, ⟨64, _⟩ => ⟨S2x32x64, .f32⟩
  | .hbm, ⟨65, _⟩ => ⟨S2x32x64, .f32⟩
  | .hbm, ⟨66, _⟩ => ⟨S2x32x64, .f32⟩
  | .hbm, ⟨67, _⟩ => ⟨S2x32x64, .f32⟩
  | .hbm, ⟨68, _⟩ => ⟨S2x32x64, .f32⟩
  | .hbm, ⟨69, _⟩ => ⟨S2x32x64, .f32⟩
  | .hbm, ⟨70, _⟩ => ⟨S2x32x64, .f32⟩
  | .hbm, ⟨71, _⟩ => ⟨S2x32x64, .f32⟩
  | .hbm, ⟨72, _⟩ => ⟨S2x32x64, .f32⟩
  | .hbm, ⟨73, _⟩ => ⟨S2x32x64, .f32⟩
  | .hbm, ⟨74, _⟩ => ⟨S2x32x64, .f32⟩
  | .hbm, ⟨75, _⟩ => ⟨S2x32x64, .f32⟩
  | .hbm, ⟨76, _⟩ => ⟨S2x32x64, .f32⟩
  | .hbm, ⟨77, _⟩ => ⟨S2x32x64, .f32⟩
  | .hbm, ⟨78, _⟩ => ⟨S2x32x64, .f32⟩
  | .hbm, ⟨79, _⟩ => ⟨S2x32x64, .f32⟩
  | .hbm, ⟨80, _⟩ => ⟨S2x32x64, .f32⟩
  | .hbm, ⟨81, _⟩ => ⟨S2x32x64, .f32⟩
  | .hbm, ⟨82, _⟩ => ⟨S2x32x64, .f32⟩
  | .hbm, ⟨83, _⟩ => ⟨S2x32x64, .f32⟩
  | .hbm, ⟨84, _⟩ => ⟨S2x32x64, .f32⟩
  | .hbm, ⟨85, _⟩ => ⟨S2x32x64, .f32⟩
  | .hbm, ⟨86, _⟩ => ⟨S2x32x64, .f32⟩
  | .hbm, ⟨87, _⟩ => ⟨S2x32x64, .f32⟩
  | .hbm, ⟨88, _⟩ => ⟨S2x32x64, .f32⟩
  | .hbm, ⟨89, _⟩ => ⟨S2x32x64, .f32⟩
  | .hbm, ⟨90, _⟩ => ⟨S2x32x64, .f32⟩
  | .hbm, ⟨91, _⟩ => ⟨S2x32x64, .f32⟩
  | .hbm, ⟨92, _⟩ => ⟨S2x32x64, .f32⟩
  | .hbm, ⟨93, _⟩ => ⟨S2x32x64, .f32⟩
  | .hbm, ⟨94, _⟩ => ⟨S2x32x64, .f32⟩
  | .hbm, ⟨95, _⟩ => ⟨S2x32x64, .f32⟩
  | .hbm, ⟨96, _⟩ => ⟨S_, .f32⟩
  | .hbm, ⟨97, _⟩ => ⟨S2x32, .f32⟩
  | .hbm, ⟨98, _⟩ => ⟨S2x32, .f32⟩
  | .hbm, ⟨99, _⟩ => ⟨S2x32, .f32⟩
  | .hbm, ⟨100, _⟩ => ⟨S2x32x64, .f32⟩
  | .hbm, ⟨101, _⟩ => ⟨S2x32x64, .f32⟩
  | .hbm, ⟨102, _⟩ => ⟨S2x32x64, .f32⟩
  | .hbm, ⟨103, _⟩ => ⟨S2x32x64, .f32⟩
  | .hbm, ⟨104, _⟩ => ⟨S2x32x64, .f32⟩
  | .hbm, ⟨105, _⟩ => ⟨S2x32x64, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_0 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_2 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩

abbrev nD : Nat := 1
abbrev τ : Topo := Topo.v7x

variable {F : FTy → Type} [FloatOps F]
-- ==== Proof.Start.lean ====
/-
The start of a program on several devices whose first kernel call exchanges data without any handshake.

Such a kernel writes into its peers' result arrays, and credits its peers' semaphores, as soon as it has started.
Nothing that a peer does after ITS start can hand over the right to do so; the right has to be dealt before any
device runs. `θ_run_dealt` is that start: what all devices hold at launch — the arrays of @main, and the counters of
the semaphores that the caller names (`ownS`) — is given at once to ONE update (`hglob`), which deals it to the
devices as it likes (`G'`); each device then proves its own run of @main from its share.
-/
module

public import Idealize.ShloMosaic.Lib.Pipeline.Launch

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Start

variable {nD : Nat} {τ : Topo} {sig : RefSig} {Val : EltTy → Type}
variable {Ix : Type} [DecidableEq Ix] {Name : Type} [DecidableEq Name] {U : Type} [URA U] {Lvl : Type}
variable [Preorder Lvl] [∀ e, Nonempty (Val e)] [Infinite Name]

local notation "𝕄" => MT nD τ sig Ix Val Name U Lvl

/-- The level facts of the whole machine, from the (empty) levels of every TensorCore. -/
theorem levels_assign (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hother : ∀ d : Dev nD, (bigSep (Finset.univ.erase Proc.tc) fun p : Proc τ => (coreLevAts ((d, p) : Thread nD τ) L lv : sProp 𝕄)) = BI.emp := by
    intro d
    rw [bigSep_congr (Ψ := fun _ : Proc τ => (BI.emp : sProp 𝕄)) fun p hp => ?_, BI.bigSep_emp_const]
    unfold coreLevAts
    rw [bigSep_congr (Ψ := fun _ : SemLoc sig => (BI.emp : sProp 𝕄)) fun sm _ => ?_, BI.bigSep_emp_const]
    rw [hL (((d, p) : Thread nD τ), sm) (Finset.ne_of_mem_erase hp), BI.bigSep_empty]
  have hall : (levAts L lv : sProp 𝕄) = bigSep Finset.univ fun c : Thread nD τ => coreLevAts c L lv :=
    bigSep_univ_prod fun g : GSem nD τ sig => bigSep (L g) fun ι => levAt g ι (lv g ι)
  have hinner : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [bigSep_congr (Ψ := fun _ : Dev nD => (BI.emp : sProp 𝕄)) fun d _ => hother d, BI.bigSep_emp_const, bigSep_sep']
    iintro ⟨-, H⟩
    isplitl [H]; · iexact H
    iempintro
  rw [hall, bigSep_threads (fun c : Thread nD τ => coreLevAts c L lv)]
  exact hinner

/-- **The launch with everything dealt at once.** `ownS c`/`restS c`: a cut of device `c`'s scoped semaphores;
    `hglob`: one update of all devices' `ownS`, arrays and unscoped semaphores; `hcore`: each device's run. -/
theorem θ_run_dealt {Λ : Labels} (defs : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix)
    (L : GSem nD τ sig → Finset Ix) (lv : GSem nD τ sig → Ix → Lvl) (hL : ∀ g : GSem nD τ sig, g.1.2 ≠ .tc → L g = ∅)
    (ownS restS : Dev nD → sProp 𝕄)
    (hcut : ∀ c : Dev nD, (scopedSems0 (c.tc : Thread nD τ) : sProp 𝕄) ⊢ iprop(ownS c ∗ restS c))
    (G' : Dev nD → sProp 𝕄) (u₀ : U)
    (hglob : iprop((bigSep Finset.univ fun c : Dev nD => iprop(ownS c
        ∗ unscopedBufs c (fun b => m ((c.tc : Thread nD τ).loc b)) ∗ unscopedSems0 c)) ∗ ownU u₀) ⊢ |={Set.univ}=> bigSep Finset.univ G')
    (fin : Dev nD → sProp 𝕄)
    (hcore : ∀ c : Dev nD, iprop(scopedBufs (c.tc : Thread nD τ) ∗ restS c ∗ opIdle (c.tc : Thread nD τ)
        ∗ owes (c.tc : Thread nD τ) (O₀ c) ∅ ∗ levAts L lv ∗ launchCred O₀ c ∗ prngReg c (g c) ∗ G' c)
      ⊢ wp frame (wpE defs 𝒱 (c.tc : Thread nD τ) none) Set.univ (main c)
          (fun _ => iprop((fin c ∗ scopedSems0 (c.tc : Thread nD τ))
            ∗ ∃ W, owes (c.tc : Thread nD τ) (0 : CellTallies nD τ sig Ix) W)))
    (QY : Dev nD → MemSt nD τ sig Val → Prop)
    (hfin : ∀ c (s' : Phys nD τ sig Val), iprop(fin c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let pre : Dev nD → sProp 𝕄 := fun c => iprop(scopedBufs (c.tc : Thread nD τ) ∗ restS c ∗ opIdle (c.tc : Thread nD τ)
    ∗ owes (c.tc : Thread nD τ) (O₀ c) ∅ ∗ levAts L lv ∗ launchCred O₀ c ∗ prngReg c (g c) ∗ G' c)
  let post' : Dev nD → sProp 𝕄 := fun c => iprop(fin c ∗ scopedSems0 (c.tc : Thread nD τ))
  refine (θ_run defs _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => pre) (fun _ => post')
      (fun _ => iprop(emp)) Set.univ ?_ (fun _ c => ?_) fun _ => ?_))
  · -- the launch
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(scopedBufs (c.tc : Thread nD τ) ∗ restS c ∗ opIdle (c.tc : Thread nD τ)))
            ∗ (bigSep Finset.univ fun c : Dev nD => iprop(ownS c ∗ unscopedBufs c (fun b => m ((c.tc : Thread nD τ).loc b)) ∗ unscopedSems0 c))
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => prngReg c (g c))
            ∗ (bigSep Finset.univ fun c : Dev nD => launchCred (Name := Name) (U := U) (Lvl := Lvl) (Val := Val) O₀ c) : sProp 𝕄) := by
      have hone (c : Dev nD) :
          coreInit (Ix := Ix) (Name := Name) (U := U) (Lvl := Lvl) (owing O₀) 0 (⟨m, fun _ => 0, g⟩ : MemSt nD τ sig Val) (c.tc : Thread nD τ)
            ⊢ iprop(iprop(scopedBufs (c.tc : Thread nD τ) ∗ restS c ∗ opIdle (c.tc : Thread nD τ))
                ∗ iprop(ownS c ∗ unscopedBufs c (fun b => m ((c.tc : Thread nD τ).loc b)) ∗ unscopedSems0 c)
                ∗ owes (c.tc : Thread nD τ) (O₀ c) ∅ ∗ levels0 c ∗ prngReg c (g c) ∗ launchCred O₀ c) := by
        refine (coreInit_boundary_owing O₀ m g c).trans ?_
        unfold boundary
        iintro ⟨⟨Hsc, Hss, Hidle⟩, Hub, Hus, HL, Hlv, Hpr, Hcr⟩
        ihave H := (hcut c) $$ Hss
        icases H with ⟨Hown, Hrest⟩
        isplitl [Hsc Hrest Hidle]
        · isplitl [Hsc]; · iexact Hsc
          isplitl [Hrest] <;> iassumption
        isplitl [Hown Hub Hus]
        · isplitl [Hown]; · iexact Hown
          isplitl [Hub] <;> iassumption
        isplitl [HL]; · iexact HL
        isplitl [Hlv]; · iexact Hlv
        isplitl [Hpr] <;> iassumption
      refine (bigSep_mono fun c _ => hone c).trans ?_
      simp only [bigSep_sep']
      exact BI.Entails.refl _
    iintro ⟨Hcores, Hu⟩
    ihave Hc := hcores $$ Hcores
    icases Hc with ⟨Hb, Hall, HL, Hlv, Hpr, Hcr⟩
    imod (levels_assign L lv hL) $$ Hlv with Hla
    imod hglob $$ [Hall Hu] with HG'
    · isplitl [Hall] <;> iassumption
    imodintro
    iexists ()
    isplitr []
    · simp only [pre, bigSep_sep']
      icases Hb with ⟨Hsc, Hrest, Hidle⟩
      isplitl [Hsc]; · iexact Hsc
      isplitl [Hrest]; · iexact Hrest
      isplitl [Hidle]; · iexact Hidle
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hpr]; · iexact Hpr
      iexact HG'
    · iempintro
  · -- one device's run
    refine (hcore c).trans (wp_mono _ _ _ fun _ => ?_)
    unfold post; simp only [liftTc_tc, post']
    exact BI.Entails.refl _
  · -- the end, read against the final state
    have hread (c : Dev nD) (s' : Phys nD τ sig Val) : iprop(post' c ∗ SI s') ⊢ |={Set.univ}=>
        iprop(⌜QY c s'.mem ∧ ∀ sm : SemLoc sig, sm.isScoped .tc = true → s'.mem.sem ((c.tc : Thread nD τ), sm) = 0⌝ ∗ SI s') := by
      simp only [post']
      iintro ⟨⟨Hf, Hss⟩, HSI⟩
      ihave %hz := (tcScoped_read_pers c s') $$ [Hss HSI]
      · isplitl [Hss] <;> iassumption
      imod (hfin c s') $$ [Hf HSI] with ⟨%hy, HSI⟩
      · isplitl [Hf] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Start

end Cert.Exchange

end
-- ==== Proof.Exchange.lean ====
/-
The protocol of an exchange without handshake, for any number of arrays, any devices and any semaphores.

Every device `d` holds, for each array `k`, a part for every device and a result slot for every device. It copies its
own part into its own slot, sends the part meant for the peer `peer r d` into that peer's slot for `d` (for every
round `r`), then waits for all of its transfers and all landings. Each semaphore cell is used ONCE:

* the send cell `(r, k)` of `d` is credited by `d`'s own transfer, and hands the part back;
* the receive cell `(r, k)` of `d` is credited by the transfer of `peer r d`, and hands over slot `peer r d` of `d`,
  holding the part of `peer r d` meant for `d`;
* the local cell `k` of `d` is credited by `d`'s own copy, and hands over slot `d` and the part `d`.

So a schedule of one round with one duty per cell says it all.
-/
module

public import proofs.«01_k».proof.Proof.Start
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} [∀ e, Nonempty (Val e)]
variable {U : Type} [URA U]

local notation "𝕄" => MT nD τ sig Unit Val ℕ U ℕ

/-! ## A schedule of one round with one duty per cell -/

section Shots

variable {I : Type} (cell : I → GSem nD τ sig) (amt : I → ℕ) (hamt : ∀ i, 0 < amt i) (pay : I → sProp (MT nD τ sig Unit Val ℕ U ℕ))

/-- Cell `cell i` is credited once, `amt i` units, and hands over `pay i`. -/
def shots : Schedule (GSem nD τ sig) Unit 𝕄 := by
  classical
  exact
  { duties := fun g r => if r = 0 ∧ ∃ i, cell i = g then {()} else ∅
    amount := fun g _ _ => if h : ∃ i, cell i = g then amt h.choose else 1
    payload := fun g _ _ => if h : ∃ i, cell i = g then pay h.choose else (iprop(emp) : sProp 𝕄)
    amount_pos := fun g _ _ _ => by
      by_cases h : ∃ i, cell i = g
      · rw [dif_pos h]; exact hamt _
      · rw [dif_neg h]; exact Nat.one_pos }

variable (hcell : Function.Injective cell)

include hcell in
theorem choose_cell (i : I) (h : ∃ j, cell j = cell i) : h.choose = i := hcell h.choose_spec

theorem shots_duties (i : I) : (shots cell amt hamt pay).duties (cell i) 0 = {()} := by
  dsimp only [shots]; exact if_pos ⟨rfl, i, rfl⟩

theorem shots_mem (i : I) : () ∈ (shots cell amt hamt pay).duties (cell i) 0 := by
  rw [shots_duties]; exact Finset.mem_singleton_self _

theorem shots_later (g : GSem nD τ sig) (r : ℕ) (hr : 1 ≤ r) : (shots cell amt hamt pay).duties g r = ∅ := by
  dsimp only [shots]; exact if_neg fun h => by omega

include hcell in
theorem shots_amount (i : I) (u : Unit) : (shots cell amt hamt pay).amount (cell i) 0 u = amt i := by
  dsimp only [shots]
  rw [dif_pos ⟨i, rfl⟩, choose_cell cell hcell i]

include hcell in
theorem shots_payload (i : I) (u : Unit) : (shots cell amt hamt pay).payload (cell i) 0 u = pay i := by
  dsimp only [shots]
  rw [dif_pos ⟨i, rfl⟩, choose_cell cell hcell i]

include hcell in
theorem shots_expect (i : I) : (shots cell amt hamt pay).expect (cell i) 0 = amt i := by
  unfold Schedule.expect Schedule.amountOf
  rw [shots_duties, Finset.sum_singleton, shots_amount cell amt hamt pay hcell]

include hcell in
theorem shots_rest (i : I) : bigSep ((shots cell amt hamt pay).duties (cell i) 0 \ ∅) (fun u => (shots cell amt hamt pay).payload (cell i) 0 u) = pay i := by
  rw [Finset.sdiff_empty, shots_duties, bigSep_singleton, shots_payload cell amt hamt pay hcell]

instance shots_storable [h : ∀ i, BI.Storable (upEmb : UEmb _ 𝕄) (pay i)] (g : GSem nD τ sig) (r : ℕ) (d : Unit) :
    BI.Storable (upEmb : UEmb _ 𝕄) ((shots cell amt hamt pay).payload g r d) := by
  classical
  show BI.Storable upEmb (if h : ∃ i, cell i = g then pay h.choose else (iprop(emp) : sProp 𝕄))
  split <;> infer_instance

end Shots

/-! ## Straight lists of operations -/

section Lists

variable {Λ : Labels} {α : Type}

/-- The operations of a list, one after the other, and then `p`. -/
def seqOps (L : List (TpuEff nD τ sig Val Λ .tc PUnit)) (p : Prog (TpuEff nD τ sig Val Λ .tc) α) : Prog (TpuEff nD τ sig Val Λ .tc) α :=
  L.foldr (fun e p => .op e fun _ => p) p

theorem listed_cons {ι : Type} (i : ι) (L : List ι) (P : ι → sProp 𝕄) : bigSepL (i :: L) P = iprop(P i ∗ bigSepL L P) := bigSepL_cons i L P

/-- A list of operations, each turning `P i` into `P' i` while a state indexed by what is left goes down. -/
theorem wp_seq (defs : Defs nD τ sig Val Λ) (𝒱 : Variants) (c : Dev nD) {ι : Type} (op : ι → TpuEff nD τ sig Val Λ .tc PUnit) (P P' : ι → sProp 𝕄)
    (X : List ι → sProp 𝕄) (S : sProp 𝕄) [BI.Persistent S]
    (h : ∀ i L (p : Prog (TpuEff nD τ sig Val Λ .tc) α) (Φ : α → sProp 𝕄),
      iprop(S ∗ P i ∗ X (i :: L)) ⊢ iprop(((P' i ∗ X L) -∗ wp frame (wpE defs 𝒱 c.tc none) Set.univ p Φ)
        -∗ wp frame (wpE defs 𝒱 c.tc none) Set.univ (.op (op i) fun _ => p) Φ))
    (L : List ι) (p : Prog (TpuEff nD τ sig Val Λ .tc) α) (Φ : α → sProp 𝕄) :
    iprop(S ∗ bigSepL L P ∗ X L) ⊢ iprop(((bigSepL L P' ∗ X []) -∗ wp frame (wpE defs 𝒱 c.tc none) Set.univ p Φ)
      -∗ wp frame (wpE defs 𝒱 c.tc none) Set.univ (seqOps (L.map op) p) Φ) := by
  induction L with
  | nil =>
    rw [show bigSepL [] P' = bigSepL [] P from rfl]
    iintro ⟨-, H, HX⟩ Hk
    iapply Hk; isplitl [H] <;> iassumption
  | cons i L ih =>
    rw [listed_cons, listed_cons]
    iintro ⟨#HS, ⟨Hi, HL⟩, HX⟩ Hk
    iapply (h i L (seqOps (L.map op) p) Φ) $$ [Hi HX]
    · isplitr; · iexact HS
      isplitl [Hi] <;> iassumption
    iintro ⟨Hi, HX⟩
    iapply ih $$ [HL HX]
    · isplitr; · iexact HS
      isplitl [HL] <;> iassumption
    iintro ⟨HL, HX⟩
    iapply Hk
    isplitr [HX]
    · isplitl [Hi] <;> iassumption
    iexact HX

end Lists

end Cert.Exchange
-- ==== Proof.Net.lean ====
/-
One device's run of the exchange: from its share of what was dealt at launch to its result slots filled.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- One array of an exchange: for every device, the part meant for it and the slot for what comes from it. -/
structure Part (nD : ℕ) (sig : RefSig) where
  s : Shape
  e : EltTy
  src : Dev nD → Memref sig .tc .hbm s e
  dst : Dev nD → Memref sig .tc .hbm s e
  hsrc : ∀ d, (src d).view.WordExact
  hdst : ∀ d, (dst d).view.WordExact
  hsc : ∀ d, (dst d).view.ref.isScScratch = false
  N : ℕ
  hNsrc : ∀ d, (src d).view.dmaCredit = N
  hNdst : ∀ d, (dst d).view.dmaCredit = N
  hN : 0 < N

/-- The roles a semaphore has: of a transfer's source, of a landing, of a copy within the device. -/
abbrev Role (R : Type) (n : ℕ) : Type := (R × Fin n) ⊕ ((R × Fin n) ⊕ Fin n)

/-- An exchange of `n` arrays in the rounds `R`. -/
structure Net (nD : ℕ) (sig : RefSig) (R : Type) (n : ℕ) where
  arr : Fin n → Part nD sig
  share : Dev nD → PosShare TreeShare
  peer : R → Dev nD → Dev nD
  sem : Role R n → DmaSem sig
  sem_inj : Function.Injective sem
  peer_peer : ∀ r d, peer r (peer r d) = d
  bij : ∀ c, Function.Bijective fun o : Option R => o.elim c fun r => peer r c

variable {nD : ℕ} {τ : Topo} {sig : RefSig} {Val : EltTy → Type} [∀ e, Nonempty (Val e)]
variable {U : Type} [URA U]
variable {R : Type} [Fintype R] [DecidableEq R] {n : ℕ}

local notation "𝕄" => MT nD τ sig Unit Val ℕ U ℕ

theorem of_all {I : Type} [Fintype I] (Φ : I → sProp 𝕄) (i : I) : bigSep Finset.univ Φ ⊢ Φ i := by
  classical exact BI.bigSep_elim (Finset.mem_univ i)

namespace Net

variable (X : Net nD sig R n)

/-- The cell of role `i.2` on device `i.1`. -/
def cell (i : Dev nD × Role R n) : GSem nD τ sig := (((i.1.tc : Thread nD τ)), .dma (X.sem i.2))

theorem cell_inj : Function.Injective (X.cell (τ := τ)) := by
  rintro ⟨d, x⟩ ⟨d', x'⟩ h
  have h1 : d = d' := congrArg (fun g : GSem nD τ sig => g.1.1) h
  have h2 : (SemLoc.dma (X.sem x) : SemLoc sig) = .dma (X.sem x') := congrArg Prod.snd h
  have h3 : X.sem x = X.sem x' := by injection h2
  rw [h1, X.sem_inj h3]

/-- The array of a role. -/
def which : Role R n → Fin n
  | .inl x => x.2
  | .inr (.inl x) => x.2
  | .inr (.inr k) => k

def amt (i : Dev nD × Role R n) : ℕ := (X.arr (which i.2)).N
theorem amt_pos (i : Dev nD × Role R n) : 0 < X.amt i := (X.arr (which i.2)).hN

variable (m : (ℓ : Loc nD τ sig) → Buf Val ℓ)

/-- The part of array `k` on device `d` that is meant for `d'`. -/
def srcP (d : Dev nD) (k : Fin n) (d' : Dev nD) : sProp 𝕄 :=
  ((X.arr k).src d').view.loc (d.tc : Thread nD τ) ↦[((X.arr k).src d').view.set]{X.share d'} m (((X.arr k).src d').view.loc (d.tc : Thread nD τ))
/-- The slot of array `k` on device `d` for what comes from `s`, as at launch. -/
def dstP (d : Dev nD) (k : Fin n) (s : Dev nD) : sProp 𝕄 :=
  ((X.arr k).dst s).view.loc (d.tc : Thread nD τ) ↦[((X.arr k).dst s).view.set]{fullShare} m (((X.arr k).dst s).view.loc (d.tc : Thread nD τ))
/-- The same slot, written with the part of device `s` that is meant for `d`. -/
def gotP (d : Dev nD) (k : Fin n) (s : Dev nD) : sProp 𝕄 :=
  ((X.arr k).dst s).view.loc (d.tc : Thread nD τ) ↦[((X.arr k).dst s).view.set]{fullShare}
    ((X.arr k).dst s).view.write Val (m (((X.arr k).dst s).view.loc (d.tc : Thread nD τ)))
      (((X.arr k).src d).view.read Val (m (((X.arr k).src d).view.loc (s.tc : Thread nD τ)))) Finset.univ

/-- What the one use of a cell hands over. -/
def pay : Dev nD × Role R n → sProp 𝕄
  | (d, .inl (r, k)) => X.srcP m d k (X.peer r d)
  | (d, .inr (.inl (r, k))) => X.gotP m d k (X.peer r d)
  | (d, .inr (.inr k)) => iprop(X.gotP m d k d ∗ X.srcP m d k d)

instance srcP_storable (d k d') : BI.Storable (upEmb : UEmb _ 𝕄) (X.srcP (U := U) m d k d') := by unfold srcP; infer_instance
instance gotP_storable (d k d') : BI.Storable (upEmb : UEmb _ 𝕄) (X.gotP (U := U) m d k d') := by unfold gotP; infer_instance
instance pay_storable (i) : BI.Storable (upEmb : UEmb _ 𝕄) (X.pay (U := U) m i) := by
  rcases i with ⟨d, x | x | k⟩ <;> simp only [pay] <;> infer_instance

/-- The schedule of the exchange. -/
def Rd : Schedule (GSem nD τ sig) Unit 𝕄 := shots X.cell X.amt X.amt_pos (X.pay m)

instance Rd_storable (g r d) : BI.Storable (upEmb : UEmb _ 𝕄) ((X.Rd (U := U) m).payload g r d) := by unfold Rd; infer_instance

theorem Rd_mem (i) : () ∈ (X.Rd (U := U) m).duties (X.cell i) 0 := shots_mem _ _ _ _ i
theorem Rd_later (g r) (hr : 1 ≤ r) : (X.Rd (U := U) m).duties g r = ∅ := shots_later _ _ _ _ g r hr
theorem Rd_amount (i u) : (X.Rd (U := U) m).amount (X.cell i) 0 u = X.amt i := shots_amount _ _ _ _ X.cell_inj i u
theorem Rd_payload (i u) : (X.Rd (U := U) m).payload (X.cell i) 0 u = X.pay m i := shots_payload _ _ _ _ X.cell_inj i u
theorem Rd_expect (i) : (X.Rd (U := U) m).expect (X.cell i) 0 = X.amt i := shots_expect _ _ _ _ X.cell_inj i
theorem Rd_rest (i) : bigSep ((X.Rd (U := U) m).duties (X.cell i) 0 \ ∅) (fun u => (X.Rd (U := U) m).payload (X.cell i) 0 u) = X.pay m i :=
  shots_rest _ _ _ _ X.cell_inj i

/-! ## The operations of device `d` -/

variable {Λ : Labels}

/-- The transfer of round `r` of array `k`. -/
def sendOp (d : Dev nD) (x : R × Fin n) : TpuEff nD τ sig Val Λ .tc PUnit :=
  .enqueueDma ((X.arr x.2).src (X.peer x.1 d)) (.remote (Dev.tc (X.peer x.1 d)) ((X.arr x.2).dst d) (.dma (X.sem (.inl x))) ((X.arr x.2).hsc d))
    (.dma (X.sem (.inr (.inl x)))) ((X.arr x.2).hsrc _) ((X.arr x.2).hdst _) ⟨⟨rfl, Or.inl rfl⟩, trivial⟩

/-- The copy of array `k` within the device. -/
def copyOp (d : Dev nD) (k : Fin n) : TpuEff nD τ sig Val Λ .tc PUnit :=
  .enqueueDma ((X.arr k).src d) (.here ((X.arr k).dst d)) (.dma (X.sem (.inr (.inr k)))) ((X.arr k).hsrc _) ((X.arr k).hdst _) ⟨Or.inl rfl, trivial⟩

/-- The wait for a role's cell. -/
def waitOp (d : Dev nD) : Role R n → TpuEff nD τ sig Val Λ .tc PUnit
  | .inl x => .waitDma2 (X.sem (.inl x)) ((X.arr x.2).dst d) ((X.arr x.2).src (X.peer x.1 d)) ((X.arr x.2).hdst _) ((X.arr x.2).hsrc _)
  | .inr (.inl x) => .waitDma2 (X.sem (.inr (.inl x))) ((X.arr x.2).src (X.peer x.1 d)) ((X.arr x.2).dst d) ((X.arr x.2).hsrc _) ((X.arr x.2).hdst _)
  | .inr (.inr k) => .waitDma2 (X.sem (.inr (.inr k))) ((X.arr k).src d) ((X.arr k).dst d) ((X.arr k).hsrc _) ((X.arr k).hdst _)

variable (E : Emb (URounds (GSem nD τ sig) Unit) (MT nD τ sig Unit Val ℕ U ℕ))

/-- What all devices know: each cell's invariant, and that its one round is open. -/
def known : sProp 𝕄 := iprop((∃ κ : Dev nD × Role R n → ℕ, bigSep Finset.univ fun i => cellInv E (X.Rd m) (κ i) (X.cell i))
  ∗ bigSep Finset.univ fun i => reached E (X.cell i) 0)

instance known_persistent : BI.Persistent (X.known m E) := by unfold known; infer_instance

theorem known_inv (i : Dev nD × Role R n) : X.known m E ⊢ iprop((∃ κ : ℕ, cellInv E (X.Rd m) κ (X.cell i)) ∗ reached E (X.cell i) 0) := by
  unfold known
  iintro ⟨⟨%κ, #HI⟩, #HR⟩
  isplitr
  · iexists (κ i)
    iapply (of_all (fun i => cellInv E (X.Rd m) (κ i) (X.cell i)) i) $$ HI
  · iapply (of_all (fun i => (reached E (X.cell i) 0 : sProp 𝕄)) i) $$ HR

section Steps
variable (defs : Defs nD τ sig Val Λ) (𝒱 : Variants) (c : Dev nD) {α : Type}

/-- The dues of a list of transfers. -/
def dues (c : Dev nD) (L : List (R × Fin n)) : CellTallies nD τ sig Unit :=
  (L.map fun x => tallyAt (X.cell (X.peer x.1 c, .inr (.inl x))) () (X.arr x.2).N).sum

theorem step_send [E.LandsIn (upEmb : UEmb _ 𝕄)] (x : R × Fin n) (L : List (R × Fin n)) (p : Prog (TpuEff nD τ sig Val Λ .tc) α) (Φ : α → sProp 𝕄) :
    iprop(X.known m E ∗ (X.srcP m c x.2 (X.peer x.1 c) ∗ X.dstP m (X.peer x.1 c) x.2 c
        ∗ dutyTok E (X.cell (c, .inl x)) 0 () ∗ dutyTok E (X.cell (X.peer x.1 c, .inr (.inl x))) 0 ()) ∗ owes (c.tc : Thread nD τ) (X.dues c (x :: L)) ∅)
      ⊢ iprop((((cred (tallyAt (X.cell (c, .inl x)) () (X.arr x.2).N)) ∗ owes (c.tc : Thread nD τ) (X.dues c L) ∅)
          -∗ wp frame (wpE defs 𝒱 c.tc none) Set.univ p Φ)
        -∗ wp frame (wpE defs 𝒱 c.tc none) Set.univ (.op (X.sendOp c x) fun _ => p) Φ) := by
  iintro ⟨#HK, ⟨Hs, Hd, Ht, Ht'⟩, HO⟩ Hk
  ihave #H1 := (X.known_inv m E (c, .inl x)) $$ HK
  ihave #H2 := (X.known_inv m E (X.peer x.1 c, .inr (.inl x))) $$ HK
  icases H1 with ⟨⟨%κ₁, HI1⟩, HR1⟩
  icases H2 with ⟨⟨%κ₂, HI2⟩, HR2⟩
  unfold srcP dstP
  iapply (wp_send_pointsTo 𝒱 E (X.Rd m) (c.tc : Thread nD τ) none (c' := (Dev.tc (X.peer x.1 c) : Thread nD τ)) (r₁ := 0) (r₂ := 0) (κ₁ := κ₁) (κ₂ := κ₂)
      (X.Rd_mem m (c, .inl x)) (X.Rd_mem m (X.peer x.1 c, .inr (.inl x))) () () (X.arr x.2).N ((X.arr x.2).hNdst c)
      (X.Rd_amount m (c, .inl x) ()) (X.Rd_amount m (X.peer x.1 c, .inr (.inl x)) ()) (X.dues c L) (O₀ := X.dues c (x :: L)) (W := ∅)
      (by unfold dues; rw [List.map_cons, List.sum_cons, add_comm]; rfl)
      (Entails.of_eq (X.Rd_payload m (c, .inl x) ()).symm)
      (Entails.of_eq (by
        refine Eq.trans ?_ (X.Rd_payload m (X.peer x.1 c, .inr (.inl x)) ()).symm
        show _ = X.gotP m (X.peer x.1 c) x.2 (X.peer x.1 (X.peer x.1 c))
        rw [X.peer_peer]; rfl))) $$ [Hs Hd Ht Ht' HO]
  · isplitr; · iexact HI1
    isplitr; · iexact HI2
    isplitl [Hs]; · iexact Hs
    isplitl [Hd]; · iexact Hd
    isplitl [HO]; · iexact HO
    isplitl [Ht]; · iexact Ht
    isplitr; · iexact HR1
    isplitl [Ht']; · iexact Ht'
    iexact HR2
  iexact Hk

theorem step_copy [E.LandsIn (upEmb : UEmb _ 𝕄)] (k : Fin n) (L : List (Fin n)) (p : Prog (TpuEff nD τ sig Val Λ .tc) α) (Φ : α → sProp 𝕄) :
    iprop(X.known m E ∗ (X.srcP m c k c ∗ X.dstP m c k c ∗ dutyTok E (X.cell (c, .inr (.inr k))) 0 ()) ∗ emp)
      ⊢ iprop((((cred (tallyAt (X.cell (c, .inr (.inr k))) () (X.arr k).N)) ∗ emp) -∗ wp frame (wpE defs 𝒱 c.tc none) Set.univ p Φ)
        -∗ wp frame (wpE defs 𝒱 c.tc none) Set.univ (.op (X.copyOp c k) fun _ => p) Φ) := by
  iintro ⟨#HK, ⟨Hs, Hd, Ht⟩, -⟩ Hk
  ihave #H1 := (X.known_inv m E (c, .inr (.inr k))) $$ HK
  icases H1 with ⟨⟨%κ, HI⟩, HR⟩
  unfold srcP dstP
  iapply (wp_copy_pointsTo 𝒱 E (X.Rd m) (c.tc : Thread nD τ) none (r := 0) (κ := κ)
      (X.Rd_mem m (c, .inr (.inr k))) () (X.arr k).N ((X.arr k).hNdst c) (X.Rd_amount m (c, .inr (.inr k)) ())
      (Entails.of_eq (X.Rd_payload m (c, .inr (.inr k)) ()).symm)) $$ [Hs Hd Ht]
  · isplitr; · iexact HI
    isplitl [Hs]; · iexact Hs
    isplitl [Hd]; · iexact Hd
    isplitl [Ht]; · iexact Ht
    iexact HR
  iintro Hc
  iapply Hk
  isplitl [Hc]; · iexact Hc
  iempintro

theorem waitOp_spec (x : Role R n) (K : PUnit → sProp 𝕄) :
    wpE defs 𝒱 (c.tc : Thread nD τ) none Set.univ (X.waitOp c x) K = waitSpec (c.tc : Thread nD τ) Set.univ (.dma (X.sem x)) (X.amt (c, x)) K := by
  rcases x with x | x | k
  · show waitSpec _ _ _ (((X.arr x.2).src (X.peer x.1 c)).view.dmaCredit) K = _
    rw [(X.arr x.2).hNsrc]; rfl
  · show waitSpec _ _ _ (((X.arr x.2).dst c).view.dmaCredit) K = _
    rw [(X.arr x.2).hNdst]; rfl
  · show waitSpec _ _ _ (((X.arr k).dst c).view.dmaCredit) K = _
    rw [(X.arr k).hNdst]; rfl

theorem step_wait [E.LandsIn (upEmb : UEmb _ 𝕄)] (x : Role R n) (L : List (Role R n)) (p : Prog (TpuEff nD τ sig Val Λ .tc) α) (Φ : α → sProp 𝕄) :
    iprop(X.known m E ∗ (cred (tallyAt (X.cell (c, x)) () (X.amt (c, x))) ∗ atPos E (X.cell (c, x)) 0 ∅ 0) ∗ ∃ W, owes (c.tc : Thread nD τ) 0 W)
      ⊢ iprop(((X.pay m (c, x) ∗ semVal (X.cell (c, x)) 0) ∗ (∃ W, owes (c.tc : Thread nD τ) 0 W) -∗ wp frame (wpE defs 𝒱 c.tc none) Set.univ p Φ)
        -∗ wp frame (wpE defs 𝒱 c.tc none) Set.univ (.op (X.waitOp c x) fun _ => p) Φ) := by
  iintro ⟨#HK, ⟨Hc, Ha⟩, ⟨%W, HO⟩⟩ Hk
  ihave #H1 := (X.known_inv m E (c, x)) $$ HK
  icases H1 with ⟨⟨%κ, HI⟩, HR⟩
  iapply (wp_wait_rest_token 𝒱 E (X.Rd m) (c.tc : Thread nD τ) none (κ := κ) (sm := .dma (X.sem x)) (k' := X.amt (c, x))
      (X.waitOp_spec defs 𝒱 c x) (Set.mem_univ _) () (O := 0) (W := W) (R := 0) (m := 0) (T := ∅)
      (by rw [Nat.zero_add]; exact (X.Rd_expect m (c, x)).symm)) $$ [Hc Ha HO]
  · isplitr; · iexact HI
    isplitl [Hc]; · iexact Hc
    isplitl [HO]; · iexact HO
    isplitr; · rw [MayWait_zero]; iempintro
    iexact Ha
  iintro ⟨HO, Ha, -, Hp⟩
  ihave Hp := (show (bigSep ((X.Rd (U := U) m).duties ((c.tc : Thread nD τ), .dma (X.sem x)) 0 \ ∅) fun u => (X.Rd m).payload ((c.tc : Thread nD τ), .dma (X.sem x)) 0 u)
      ⊢ X.pay m (c, x) from Entails.of_eq (X.Rd_rest m (c, x))) $$ Hp
  imod (cell_close E (X.Rd m) (Set.mem_univ κ) (fun h => h) (R := 0 + 1) (X.Rd_later m (X.cell (c, x)))) $$ [Ha] with Hz
  · isplitr; · iexact HI
    iexact Ha
  iapply Hk
  isplitr [HO]
  · isplitl [Hp]; · iexact Hp
    iexact Hz
  iexists _; iexact HO

end Steps

/-! ## The whole run of a device -/

section Run

/-- The device itself, and its peers: all devices. -/
def around (c : Dev nD) : Option R ≃ Dev nD := Equiv.ofBijective _ (X.bij c)

theorem deal_one (c : Dev nD) (Φ : Dev nD → sProp 𝕄) :
    bigSep Finset.univ Φ = iprop(Φ c ∗ bigSep Finset.univ fun r => Φ (X.peer r c)) := by
  rw [BI.bigSep_univ_equiv (X.around c) Φ, show (Finset.univ : Finset (Option R)) = insert none (Finset.univ.map Function.Embedding.some) from by ext o; cases o <;> simp,
    BI.bigSep_insert (by simp), BI.bigSep_map]
  rfl

theorem deal (c : Dev nD) (Φ : Fin n → Dev nD → sProp 𝕄) :
    (bigSep Finset.univ fun k => bigSep Finset.univ (Φ k))
      = iprop((bigSep Finset.univ fun k => Φ k c) ∗ bigSep Finset.univ fun x : R × Fin n => Φ x.2 (X.peer x.1 c)) := by
  rw [bigSep_congr fun k _ => X.deal_one c (Φ k), bigSep_sep', BI.bigSep_univ_prod, BI.bigSep_univ_comm]

/-- The duty token that device `c` gets for a role: of its own cells, but for a landing of the peer's. -/
def tok (c : Dev nD) : Role R n → sProp 𝕄
  | .inl x => dutyTok E (X.cell (c, .inl x)) 0 ()
  | .inr (.inl x) => dutyTok E (X.cell (X.peer x.1 c, .inr (.inl x))) 0 ()
  | .inr (.inr k) => dutyTok E (X.cell (c, .inr (.inr k))) 0 ()

/-- What device `c` starts with. -/
def dealt (c : Dev nD) : sProp 𝕄 :=
  iprop(X.known m E ∗ (bigSep Finset.univ fun k => bigSep Finset.univ (X.srcP m c k)) ∗ (bigSep Finset.univ fun k => bigSep Finset.univ fun d => X.dstP m d k c)
    ∗ (bigSep Finset.univ fun x => atPos E (X.cell (c, x)) 0 ∅ 0) ∗ bigSep Finset.univ (X.tok E c))

/-- The credit that its landings bring device `c`. -/
def landing (c : Dev nD) : sProp 𝕄 := bigSep Finset.univ fun x : R × Fin n => cred (tallyAt (X.cell (c, .inr (.inl x))) () (X.arr x.2).N)

/-- What it ends with: its parts back, its slots filled, its cells at zero. -/
def done (c : Dev nD) : sProp 𝕄 :=
  iprop((bigSep Finset.univ fun k => bigSep Finset.univ (X.srcP m c k)) ∗ (bigSep Finset.univ fun k => bigSep Finset.univ (X.gotP m c k))
    ∗ bigSep Finset.univ fun x => semVal (X.cell (c, x)) 0)

/-- The lists in which the arrays, the transfers and the waits are run through. -/
structure Order (R : Type) [Fintype R] [DecidableEq R] (n : ℕ) where
  LK : List (Fin n)
  LS : List (R × Fin n)
  LW : List (Role R n)
  nK : LK.Nodup
  nS : LS.Nodup
  nW : LW.Nodup
  uK : Finset.univ = LK.toFinset
  uS : Finset.univ = LS.toFinset
  uW : Finset.univ = LW.toFinset

variable (D : Order R n)

/-- The program of device `c`: the copies, the transfers, the waits. -/
def prog (c : Dev nD) {α : Type} (p : Prog (TpuEff nD τ sig Val Λ .tc) α) : Prog (TpuEff nD τ sig Val Λ .tc) α :=
  seqOps (D.LK.map (X.copyOp c)) (seqOps (D.LS.map (X.sendOp c)) (seqOps (D.LW.map (X.waitOp c)) p))

theorem pay_all (c : Dev nD) :
    bigSep Finset.univ (fun x => X.pay m (c, x))
      = (iprop((bigSep Finset.univ fun k => bigSep Finset.univ (X.srcP m c k)) ∗ (bigSep Finset.univ fun k => bigSep Finset.univ (X.gotP m c k))) : sProp 𝕄) := by
  rw [X.deal c, X.deal c, BI.bigSep_univ_sum, BI.bigSep_univ_sum]
  show iprop((bigSep Finset.univ fun x : R × Fin n => X.srcP m c x.2 (X.peer x.1 c)) ∗ (bigSep Finset.univ fun x : R × Fin n => X.gotP m c x.2 (X.peer x.1 c))
    ∗ bigSep Finset.univ fun k => iprop(X.gotP m c k c ∗ X.srcP m c k c)) = _
  rw [bigSep_sep']
  refine BI.Entails.antisymm ?_ ?_
  · have : iprop((bigSep Finset.univ fun x : R × Fin n => X.srcP m c x.2 (X.peer x.1 c)) ∗ (bigSep Finset.univ fun x : R × Fin n => X.gotP m c x.2 (X.peer x.1 c))
        ∗ (bigSep Finset.univ fun k => X.gotP m c k c) ∗ bigSep Finset.univ fun k => X.srcP m c k c)
      ⊢ (iprop(((bigSep Finset.univ fun k => X.srcP m c k c) ∗ bigSep Finset.univ fun x : R × Fin n => X.srcP m c x.2 (X.peer x.1 c))
        ∗ (bigSep Finset.univ fun k => X.gotP m c k c) ∗ bigSep Finset.univ fun x : R × Fin n => X.gotP m c x.2 (X.peer x.1 c)) : sProp 𝕄) := by
      iintro ⟨H1, H2, H3, H4⟩
      isplitl [H4 H1]; · isplitl [H4] <;> iassumption
      isplitl [H3] <;> iassumption
    exact this
  · have : (iprop(((bigSep Finset.univ fun k => X.srcP m c k c) ∗ bigSep Finset.univ fun x : R × Fin n => X.srcP m c x.2 (X.peer x.1 c))
        ∗ (bigSep Finset.univ fun k => X.gotP m c k c) ∗ bigSep Finset.univ fun x : R × Fin n => X.gotP m c x.2 (X.peer x.1 c)) : sProp 𝕄)
      ⊢ iprop((bigSep Finset.univ fun x : R × Fin n => X.srcP m c x.2 (X.peer x.1 c)) ∗ (bigSep Finset.univ fun x : R × Fin n => X.gotP m c x.2 (X.peer x.1 c))
        ∗ (bigSep Finset.univ fun k => X.gotP m c k c) ∗ bigSep Finset.univ fun k => X.srcP m c k c) := by
      iintro ⟨⟨H1, H2⟩, H3, H4⟩
      isplitl [H2]; · iexact H2
      isplitl [H4]; · iexact H4
      isplitl [H3] <;> iassumption
    exact this

variable (defs : Defs nD τ sig Val Λ) (𝒱 : Variants)

theorem wp_prog [E.LandsIn (upEmb : UEmb _ 𝕄)] (c : Dev nD) {α : Type} (p : Prog (TpuEff nD τ sig Val Λ .tc) α) (Φ : α → sProp 𝕄) :
    iprop(X.dealt m E c ∗ X.landing c ∗ owes (c.tc : Thread nD τ) (X.dues c D.LS) ∅)
      ⊢ iprop(((X.done m c ∗ ∃ W, owes (c.tc : Thread nD τ) 0 W) -∗ wp frame (wpE defs 𝒱 c.tc none) Set.univ p Φ)
        -∗ wp frame (wpE defs 𝒱 c.tc none) Set.univ (X.prog D c p) Φ) := by
  have hcopy := wp_seq defs 𝒱 c (X.copyOp (τ := τ) c)
    (fun k => iprop(X.srcP m c k c ∗ X.dstP m c k c ∗ dutyTok E (X.cell (c, .inr (.inr k))) 0 ()))
    (fun k => cred (tallyAt (X.cell (c, .inr (.inr k))) () (X.arr k).N)) (fun _ => iprop(emp)) (X.known m E)
    (fun k L p Φ => X.step_copy m E defs 𝒱 c k L p Φ) D.LK
    (seqOps (D.LS.map (X.sendOp c)) (seqOps (D.LW.map (X.waitOp c)) p)) Φ
  have hsend := wp_seq defs 𝒱 c (X.sendOp (τ := τ) c)
    (fun x => iprop(X.srcP m c x.2 (X.peer x.1 c) ∗ X.dstP m (X.peer x.1 c) x.2 c
        ∗ dutyTok E (X.cell (c, .inl x)) 0 () ∗ dutyTok E (X.cell (X.peer x.1 c, .inr (.inl x))) 0 ()))
    (fun x => cred (tallyAt (X.cell (c, .inl x)) () (X.arr x.2).N)) (fun L => owes (c.tc : Thread nD τ) (X.dues c L) ∅) (X.known m E)
    (fun x L p Φ => X.step_send m E defs 𝒱 c x L p Φ) D.LS (seqOps (D.LW.map (X.waitOp c)) p) Φ
  have hwait := wp_seq defs 𝒱 c (X.waitOp (τ := τ) c)
    (fun x => iprop(cred (tallyAt (X.cell (c, x)) () (X.amt (c, x))) ∗ atPos E (X.cell (c, x)) 0 ∅ 0))
    (fun x => iprop(X.pay m (c, x) ∗ semVal (X.cell (c, x)) 0)) (fun _ => iprop(∃ W, owes (c.tc : Thread nD τ) 0 W)) (X.known m E)
    (fun x L p Φ => X.step_wait m E defs 𝒱 c x L p Φ) D.LW p Φ
  simp only [← bigSep_univ_eq_bigSepL _ D.uK D.nK, ← bigSep_univ_eq_bigSepL _ D.uS D.nS, ← bigSep_univ_eq_bigSepL _ D.uW D.nW, bigSep_sep'] at hcopy hsend hwait
  unfold dealt done landing
  rw [X.deal c (fun k d => X.dstP m d k c), X.deal c (X.srcP m c)]
  have htok : bigSep Finset.univ (X.tok E c) = (iprop((bigSep Finset.univ fun x => dutyTok E (X.cell (c, .inl x)) 0 ())
      ∗ (bigSep Finset.univ fun x : R × Fin n => dutyTok E (X.cell (X.peer x.1 c, .inr (.inl x))) 0 ())
      ∗ bigSep Finset.univ fun k => dutyTok E (X.cell (c, .inr (.inr k))) 0 ()) : sProp 𝕄) := by
    rw [BI.bigSep_univ_sum, BI.bigSep_univ_sum]; rfl
  have hcred : bigSep Finset.univ (fun x => cred (tallyAt (X.cell (c, x)) () (X.amt (c, x)))) = (iprop((bigSep Finset.univ fun x : R × Fin n => cred (tallyAt (X.cell (c, .inl x)) () (X.arr x.2).N))
      ∗ (bigSep Finset.univ fun x : R × Fin n => cred (tallyAt (X.cell (c, .inr (.inl x))) () (X.arr x.2).N))
      ∗ bigSep Finset.univ fun k => cred (tallyAt (X.cell (c, .inr (.inr k))) () (X.arr k).N)) : sProp 𝕄) := by
    rw [BI.bigSep_univ_sum, BI.bigSep_univ_sum]; rfl
  rw [htok]
  rw [hcred] at hwait
  unfold prog
  iintro ⟨⟨#HK, ⟨Hs0, Hs⟩, ⟨Hd0, Hd⟩, Ha, Ht1, Ht2, Ht3⟩, HL, HO⟩ Hk
  iapply hcopy $$ [Hs0 Hd0 Ht3]
  · isplitr; · iexact HK
    isplitl
    · isplitl [Hs0]; · iexact Hs0
      isplitl [Hd0]; · iexact Hd0
      iexact Ht3
    iempintro
  iintro ⟨Hc0, -⟩
  iapply hsend $$ [Hs Hd Ht1 Ht2 HO]
  · isplitr; · iexact HK
    isplitr [HO]
    · isplitl [Hs]; · iexact Hs
      isplitl [Hd]; · iexact Hd
      isplitl [Ht1]; · iexact Ht1
      iexact Ht2
    iexact HO
  iintro ⟨Hc1, HO⟩
  iapply hwait $$ [Hc0 Hc1 HL HO Ha]
  · isplitr; · iexact HK
    isplitr [HO]
    · isplitr [Ha]
      · isplitl [Hc1]; · iexact Hc1
        isplitl [HL]; · iexact HL
        iexact Hc0
      iexact Ha
    iexists ∅
    iexact HO
  iintro ⟨⟨Hp, Hz⟩, HO⟩
  iapply Hk
  ihave Hp := (Entails.of_eq (X.pay_all m c)) $$ Hp
  rw [← X.deal c (X.srcP m c)]
  icases Hp with ⟨Hp1, Hp2⟩
  isplitr [HO]
  · isplitl [Hp1]; · iexact Hp1
    isplitl [Hp2]; · iexact Hp2
    iexact Hz
  iexact HO

end Run

end Net

end Cert.Exchange
-- ==== Proof.Deal.lean ====
/-
What all devices hold at launch, dealt for the exchange: the counters become the cells of the schedule, every device
gets the slots that it will write on the other devices, and the token of every landing goes to the device that
sends it.
-/
module

public import proofs.«01_k».proof.Proof.Net

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} [∀ e, Nonempty (Val e)]
variable {U : Type} [URA U]
variable {R : Type} [Fintype R] [DecidableEq R] {n : ℕ}

local notation "𝕄" => MT nD τ sig Unit Val ℕ U ℕ

namespace Net

variable (X : Net nD sig R n) (m : (ℓ : Loc nD τ sig) → Buf Val ℓ) (E : Emb (URounds (GSem nD τ sig) Unit) (MT nD τ sig Unit Val ℕ U ℕ))

/-- All cells of all devices. -/
def cells : Finset (GSem nD τ sig) := Finset.univ.map ⟨X.cell (τ := τ), X.cell_inj⟩
/-- Their one duty each. -/
def duties : Finset (GSem nD τ sig × ℕ × Unit) :=
  Finset.univ.map ⟨fun i : Dev nD × Role R n => (X.cell (τ := τ) i, 0, ()), fun _ _ h => X.cell_inj (congrArg Prod.fst h)⟩

/-- The ghost state that the launch is given. -/
def seed : URounds (GSem nD τ sig) Unit := launchOf X.cells ∅ X.duties

/-- A device's counters, its parts and its slots. -/
def start (c : Dev nD) : sProp 𝕄 :=
  iprop((bigSep Finset.univ fun x => semVal (X.cell (c, x)) 0) ∗ (bigSep Finset.univ fun k => bigSep Finset.univ (X.srcP m c k))
    ∗ bigSep Finset.univ fun k => bigSep Finset.univ (X.dstP m c k))

/-- A peer's peer is the device: the landings' tokens go round along it. -/
def swap (r : R) : Dev nD ≃ Dev nD := ⟨X.peer r, X.peer r, X.peer_peer r, X.peer_peer r⟩

theorem toks_around : (bigSep Finset.univ fun c => bigSep Finset.univ (X.tok E c))
    = (bigSep Finset.univ fun i => dutyTok E (X.cell i) 0 () : sProp 𝕄) := by
  rw [BI.bigSep_univ_prod]
  simp only [BI.bigSep_univ_sum, tok]
  have h : ∀ Φ Ψ Ψ' Θ : Dev nD → sProp 𝕄, bigSep Finset.univ Ψ = bigSep Finset.univ Ψ' →
      (bigSep Finset.univ fun c => iprop(Φ c ∗ Ψ c ∗ Θ c)) = bigSep Finset.univ fun c => iprop(Φ c ∗ Ψ' c ∗ Θ c) := by
    intro Φ Ψ Ψ' Θ h
    simp only [bigSep_sep', h]
  refine h _ _ _ _ ?_
  rw [BI.bigSep_univ_comm (fun (c : Dev nD) (x : R × Fin n) => (dutyTok E (X.cell (X.peer x.1 c, .inr (.inl x))) 0 () : sProp 𝕄)),
    BI.bigSep_univ_comm (fun (c : Dev nD) (x : R × Fin n) => (dutyTok E (X.cell (c, .inr (.inl x))) 0 () : sProp 𝕄))]
  refine bigSep_congr fun x _ => ?_
  exact (BI.bigSep_univ_equiv (X.swap x.1) fun c => (dutyTok E (X.cell (c, .inr (.inl x))) 0 () : sProp 𝕄)).symm

theorem slots_around : (bigSep Finset.univ fun c => bigSep Finset.univ fun k => bigSep Finset.univ fun d => X.dstP m d k c)
    = (bigSep Finset.univ fun c => bigSep Finset.univ fun k => bigSep Finset.univ (X.dstP m c k) : sProp 𝕄) := by
  rw [BI.bigSep_univ_comm, BI.bigSep_univ_comm (fun (c : Dev nD) (k : Fin n) => (bigSep Finset.univ (X.dstP m c k) : sProp 𝕄))]
  exact bigSep_congr fun k _ => BI.bigSep_univ_comm fun c d => (X.dstP m d k c : sProp 𝕄)

/-- The dealing. -/
theorem deal_all [E.LandsIn (upEmb : UEmb _ 𝕄)] :
    iprop((bigSep Finset.univ (X.start (U := U) m)) ∗ BI.own (E X.seed)) ⊢ |={Set.univ}=> bigSep Finset.univ (X.dealt m E) := by
  have hfund := fund_launch E (X.Rd m) (S := X.cells) (Sd := ∅) (Finset.disjoint_empty_right _) (fun _ h => absurd h (Finset.notMem_empty _)) X.duties (Es := Set.univ)
  simp only [Finset.union_empty, BI.bigSep_empty] at hfund
  unfold cells duties at hfund
  simp only [bigSep_map, Function.Embedding.coeFn_mk] at hfund
  unfold start seed
  simp only [bigSep_sep']
  have hz : (bigSep Finset.univ fun c => bigSep Finset.univ fun x => semVal (X.cell (c, x)) 0) = (bigSep Finset.univ fun i => semVal (X.cell i) 0 : sProp 𝕄) :=
    (BI.bigSep_univ_prod fun i => semVal (X.cell i) 0).symm
  have ha : (bigSep Finset.univ fun i => atPos E (X.cell i) 0 ∅ 0 : sProp 𝕄) = bigSep Finset.univ fun c => bigSep Finset.univ fun x => atPos E (X.cell (c, x)) 0 ∅ 0 :=
    BI.bigSep_univ_prod fun i => atPos E (X.cell i) 0 ∅ 0
  unfold dealt
  simp only [bigSep_sep', X.toks_around, X.slots_around]
  rw [hz]
  rw [ha] at hfund
  have hknown : X.known m E ⊢ (bigSep Finset.univ fun _ : Dev nD => X.known m E) := BI.bigSep_intro_persistent fun _ _ => Entails.rfl
  iintro ⟨⟨Hz, Hs, Hd⟩, Hu⟩
  imod hfund $$ [Hz Hu] with ⟨%κ, -, #HI, #HR, HA, -, HT⟩
  · isplitl [Hz]; · iexact Hz
    iexact Hu
  imodintro
  isplitr
  · iapply hknown
    unfold known
    isplitr
    · iexists (fun i => κ (X.cell i)); iexact HI
    iexact HR
  isplitl [Hs]; · iexact Hs
  isplitl [Hd]; · iexact Hd
  isplitl [HA]; · iexact HA
  iexact HT

/-- What every device owes at launch: the credit of its transfers' landings, which is the landings' credit. -/
theorem landing_of_launch (D : Order R n) (c : Dev nD) : (launchCred (fun d => X.dues d D.LS) c : sProp 𝕄) ⊢ X.landing c := by
  have h : (fun d => X.dues (τ := τ) d D.LS) = fun d => ∑ x ∈ (Finset.univ : Finset (R × Fin n)), tallyAt (X.cell (τ := τ) (X.peer x.1 d, .inr (.inl x))) () (X.arr x.2).N := by
    funext d
    unfold dues
    rw [D.uS, List.sum_toFinset _ D.nS]
  rw [h, launchCred_sum]
  exact bigSep_mono fun x _ => launchCred_tallyAt (.dma (X.sem (.inr (.inl x)))) (X.peer x.1) (X.peer x.1) (X.peer_peer x.1) (X.peer_peer x.1) () (X.arr x.2).N c

end Net

end Cert.Exchange
-- ==== Proof.Call.lean ====
/-
The run of a program that is one exchange: from any launch memory every device's program ends, its arguments as they
were, its results what the exchange leaves there, every semaphore at zero.
-/
module

public import proofs.«01_k».proof.Proof.Start
public import proofs.«01_k».proof.Proof.Deal

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation OwnSemFacts cellsSems0 ownSems0 idleSems0 scopedRest unscopedRest prefHeld EntryPre EntryPost)

/-- An exchange with its arrays as a program declares them: argument `k` is taken apart for the exchange's array `k`,
which fills result `k`; the program has no other array, and no semaphore that outlives the call. -/
structure Call (nD : ℕ) (sig : RefSig) (R : Type) [Fintype R] [DecidableEq R] (n : ℕ) where
  net : Net nD sig R n
  order : Net.Order R n
  arg : Fin n → Ref sig .tc
  res : Fin n → Ref sig .tc
  inj : Function.Injective (Sum.elim arg res)
  cover : ∀ b : Ref sig .tc, ¬ b.isScoped ↔ ∃ x, Sum.elim arg res x = b
  scopes : ∀ sm : SemLoc sig, sm.isScoped .tc = true

variable {nD : ℕ} {τ : Topo} {sig : RefSig} {R : Type} [Fintype R] [DecidableEq R] {n : ℕ}

/-- Two copies of the ghost state of rounds: the loops' and the exchange's. -/
abbrev UU (nD : ℕ) (τ : Topo) (sig : RefSig) : Type := UR sig nD τ × UR sig nD τ

variable {F : FTy → Type} [FloatOps F]

local notation "𝕄" => MT nD τ sig Unit (Elt F) ℕ (UU nD τ sig) ℕ

abbrev EP : Emb (UR sig nD τ) (MT nD τ sig Unit (Elt F) ℕ (UU nD τ sig) ℕ) := embL
abbrev ER : Emb (UR sig nD τ) (MT nD τ sig Unit (Elt F) ℕ (UU nD τ sig) ℕ) := embR

/-- A buffer of device `c`, whole. -/
abbrev wholeAt (c : Dev nD) (b : Ref sig .tc) (f : Buf (Elt F) ((c : Thread nD τ).loc b)) : sProp 𝕄 := ((c : Thread nD τ).loc b) ↦{fullShare} f

variable {Λ₀ : Labels} {body : Λ₀.Label}

/-- What a call without windows hands its body. -/
abbrev BodyArgs (sig : RefSig) (Λ₀ : Labels) (body : Λ₀.Label) : Type :=
  Fin Pipeline.Grid.none.N → ((w : Fin 0) → Fin ((Fin.elim0 w : Pipeline.Window sig Pipeline.Grid.none).nbuf)) → Λ₀.Args body

variable (a : BodyArgs sig Λ₀ body)

/-- A call without windows, run once. -/
abbrev single : Pipeline.Cfg sig Λ₀ where
  grid := .none
  W := 0
  win := Fin.elim0
  body := body
  bodyArgs := a

abbrev cfgs : Fin 1 → Pipeline.Cfg sig Λ₀ := fun _ => single a
abbrev pcfgs (F : FTy → Type) : Fin 1 → Pipeline.PCfg sig Λ₀ (Elt F) := fun p => (cfgs a p).toPCfg
abbrev 𝒱₀ : Variants := Variants.none
abbrev adm (F : FTy → Type) (p : Fin 1) : (pcfgs a F p).Adm := (cfgs a p).toPCfg_adm

theorem noWins : Pipeline.WinFacts₀ (single a).spec where
  arr_unscoped w := w.elim0
  stage_scoped k := k.1.elim0
  stage_inj k := k.1.elim0
  sem_scoped w := w.elim0

theorem cells_inj : Function.Injective (Pipeline.cellOf (nD := nD) (τ := τ) (cfgs a)) := fun k => k.2.2.1.elim0

theorem point_eq (t : Fin Pipeline.Grid.none.N) : t = ⟨0, by decide⟩ := by
  obtain ⟨t, ht⟩ := t
  have h : t < 1 := ht
  exact Fin.ext (Nat.lt_one_iff.mp h)

namespace Call

variable (C : Call nD sig R n)
variable (m : (ℓ : Loc nD τ sig) → Buf (Elt F) ℓ) (ρ : Dev nD → PrngReg)

/-- The pieces of the exchange are whole arrays: before it the arguments and the results as launched, after it
the results at `out`. -/
structure Pieces (out : (c : Dev nD) → (k : Fin n) → Buf (Elt F) ((c : Thread nD τ).loc (C.res k))) : Prop where
  src : ∀ c k, (bigSep Finset.univ (C.net.srcP m c k) : sProp 𝕄) = wholeAt c (C.arg k) (m ((c : Thread nD τ).loc (C.arg k)))
  dst : ∀ c k, (bigSep Finset.univ (C.net.dstP m c k) : sProp 𝕄) = wholeAt c (C.res k) (m ((c : Thread nD τ).loc (C.res k)))
  got : ∀ c k, (bigSep Finset.univ (C.net.gotP m c k) : sProp 𝕄) = wholeAt c (C.res k) (out c k)

variable (out : (c : Dev nD) → (k : Fin n) → Buf (Elt F) ((c : Thread nD τ).loc (C.res k)))

/-- What a device holds after the exchange: its arguments as they were, its result arrays filled. -/
def held₁ (c : Dev nD) : sProp 𝕄 :=
  iprop((bigSep Finset.univ fun k => wholeAt c (C.arg k) (m ((c : Thread nD τ).loc (C.arg k))))
    ∗ bigSep Finset.univ fun k => wholeAt c (C.res k) (out c k))

/-- The counters of the exchange's semaphores at zero. -/
def zeros (c : Dev nD) : sProp 𝕄 := bigSep Finset.univ fun x => semVal (C.net.cell (τ := τ) (c, x)) 0

/-- At launch a device holds the counters, the arguments and the results. -/
theorem start_of_launch (P : C.Pieces m out) (c : Dev nD) :
    (iprop(C.zeros c ∗ unscopedBufs c (fun b => m ((c.tc : Thread nD τ).loc b)) ∗ unscopedSems0 c) : sProp 𝕄) ⊢ C.net.start m c := by
  classical
  have hmap : (Finset.univ.filter fun b : Ref sig .tc => ¬ b.isScoped) = Finset.univ.map ⟨Sum.elim C.arg C.res, C.inj⟩ := by
    ext b
    simp only [Finset.mem_filter, Finset.mem_univ, true_and, Finset.mem_map, Function.Embedding.coeFn_mk]
    exact C.cover b
  have h : (unscopedBufs c (fun b => m ((c.tc : Thread nD τ).loc b)) : sProp 𝕄)
      = iprop((bigSep Finset.univ fun k => wholeAt c (C.arg k) (m ((c : Thread nD τ).loc (C.arg k))))
        ∗ bigSep Finset.univ fun k => wholeAt c (C.res k) (m ((c : Thread nD τ).loc (C.res k)))) := by
    unfold unscopedBufs
    rw [hmap, bigSep_map, BI.bigSep_univ_sum]
    rfl
  unfold Net.start zeros
  simp only [h, P.src, P.dst]
  iintro ⟨Hz, Hb, -⟩
  isplitl [Hz]; · iexact Hz
  iexact Hb

theorem done_eq (P : C.Pieces m out) (c : Dev nD) : C.net.done (U := UU nD τ sig) m c ⊢ iprop(C.zeros c ∗ C.held₁ m out c) := by
  unfold Net.done held₁ zeros
  simp only [P.src, P.got]
  iintro ⟨H1, H2, H3⟩
  isplitl [H3]; · iexact H3
  isplitl [H1] <;> iassumption

variable (defs₀ : Defs nD τ sig (Elt F) Λ₀)

/-! ## The call's own semaphores, its invariant -/

def osem (x : Role R n) : SemLoc sig := .dma (C.net.sem x)

theorem ownSemFacts : OwnSemFacts (single a).spec C.osem where
  isScoped x := C.scopes _
  inj x y h := C.net.sem_inj (by injection h)
  disj _ w := w.elim0

/-- Before the exchange a device holds its share of what was dealt; after it, what the exchange leaves. -/
def dats (p : Fin 1) (c : Dev nD) : Dat τ (Elt F) Unit ℕ (UU nD τ sig) ℕ (Pipeline.pin (pcfgs a F) (adm a F) p) c where
  A w := w.elim0
  after w := w.elim0
  Φ t := match t with
    | ⟨0, _⟩ => iprop((C.net.dealt m ER c ∗ C.net.landing c) ∗ scopedRest (single a).spec c)
    | ⟨_ + 1, _⟩ => iprop(C.net.done m c ∗ scopedRest (single a).spec c)
  q w := w.elim0
  owed t := match t with
    | ⟨0, _⟩ => C.net.dues c C.order.LS
    | ⟨_ + 1, _⟩ => 0
  recorded t := match t with
    | ⟨0, _⟩ => ∅
    | ⟨_ + 1, _⟩ => Set.univ

/-- The first operation asks for the device's number. -/
theorem wp_deviceId {α : Type} (c : Dev nD) (p : Dev nD → Prog (TpuEff nD τ sig (Elt F) Λ₀ .tc) α) (K : α → sProp 𝕄) :
    wp frame (wpE defs₀ 𝒱₀ c none) Set.univ (p c) K ⊢ wp frame (wpE defs₀ 𝒱₀ c none) Set.univ (.op .deviceId p) K := by
  rw [wp_op]
  iintro H
  imodintro
  iexact H

/-- The exchange, run: from the invariant before it to the invariant after it. -/
theorem exchange_run {α : Type} (c : Dev nD) (p : Prog (TpuEff nD τ sig (Elt F) Λ₀ .tc) α) (K : α → sProp 𝕄) :
    iprop((C.net.dealt m ER c ∗ C.net.landing c) ∗ ∃ W : Finset (SemLoc sig × Unit), ⌜(↑W : Set (SemLoc sig × Unit)) ⊆ ∅ ∪ ((single a).waitPairs ())⌝ ∗ owes (c.tc : Thread nD τ) (C.net.dues c C.order.LS) W)
      ⊢ iprop(((C.net.done m c ∗ ∃ W, owes (c.tc : Thread nD τ) 0 W) -∗ wp frame (wpE defs₀ 𝒱₀ c none) Set.univ p K)
        -∗ wp frame (wpE defs₀ 𝒱₀ c none) Set.univ (.op .deviceId fun d => C.net.prog C.order d p) K) := by
  have hrun := C.net.wp_prog m ER C.order defs₀ 𝒱₀ c p K
  have hdev := wp_deviceId defs₀ c (fun d => C.net.prog C.order d p) K
  beta_reduce at hdev
  generalize wp frame (wpE defs₀ 𝒱₀ (c.tc : Thread nD τ) none) Set.univ (C.net.prog C.order c p) K = A at hrun hdev
  generalize wp frame (wpE defs₀ 𝒱₀ (c.tc : Thread nD τ) none) Set.univ (.op .deviceId fun d => C.net.prog C.order d p) K = B at hdev ⊢
  iintro ⟨⟨HD, HL⟩, ⟨%W, %hW, HO⟩⟩ Hk
  have h0 : W = ∅ := by
    refine Finset.eq_empty_of_forall_notMem fun x hx => ?_
    rcases hW (Finset.mem_coe.mpr hx) with h | ⟨w, -⟩
    · exact h
    · exact w.elim0
  subst h0
  iapply hdev
  iapply hrun $$ [HD HL HO]
  · isplitl [HD]; · iexact HD
    isplitl [HL] <;> iassumption
  iexact Hk

set_option maxRecDepth 65536 in
/-- The body is the exchange. -/
theorem body_obligation {v : Λ₀.Result body} (hbody : ∀ t, defs₀ .tc (single a).body ((single a).bodyArgs t ((single a).slots t)) = .op .deviceId fun d => C.net.prog C.order d (.ret v)) (c : Dev nD) : BodyObligation (C.dats a m 0 c) defs₀ 𝒱₀ () Set.univ := fun t => by
  refine (show _ ⊢ wp frame (wpE defs₀ 𝒱₀ c none) Set.univ (defs₀ .tc (single a).body ((single a).bodyArgs t ((single a).slots t))) _ from ?_)
  rw [hbody t, point_eq t]
  show iprop(iprop((C.net.dealt m ER c ∗ C.net.landing c) ∗ scopedRest (single a).spec c) ∗ (∃ W : Finset (SemLoc sig × Unit), ⌜(↑W : Set (SemLoc sig × Unit)) ⊆ ∅ ∪ ((single a).waitPairs ())⌝ ∗ owes (c.tc : Thread nD τ) (C.net.dues c C.order.LS) W) ∗ _)
    ⊢ wp _ _ _ _ fun _ => iprop(iprop(C.net.done m c ∗ scopedRest (single a).spec c)
      ∗ (∃ W : Finset (SemLoc sig × Unit), ⌜(↑W : Set (SemLoc sig × Unit)) ⊆ Set.univ ∪ ((single a).waitPairs ())⌝ ∗ owes (c.tc : Thread nD τ) 0 W) ∗ _)
  iintro ⟨⟨HD, HR⟩, HO, -⟩
  iapply (C.exchange_run a m defs₀ c (.ret v) _) $$ [HD HO]
  · isplitl [HD] <;> iassumption
  iintro ⟨HD, ⟨%W, HO⟩⟩
  rw [wp_ret]
  imodintro
  isplitl [HD HR]
  · isplitl [HD] <;> iassumption
  isplitl [HO]
  · iexists W
    isplitr
    · ipureintro; exact fun x _ => Or.inl trivial
    · iexact HO
  rw [show (Finset.univ : Finset (Fin 0)) = ∅ from rfl, BI.bigSep_empty]
  iempintro

/-! ## The region -/

/-- What is left of a device's semaphores beside the exchange's. -/
def restS (c : Dev nD) : sProp 𝕄 :=
  iprop(cellsSems0 (Pipeline.pin (pcfgs a F) (adm a F)) 0 c ∗ idleSems0 (Pipeline.pin (pcfgs a F) (adm a F)) (cells_inj a) 0 (C.ownSemFacts a) c)

theorem zeros_eq (c : Dev nD) : (ownSems0 C.osem c : sProp 𝕄) = C.zeros c := rfl

theorem cut (c : Dev nD) : (scopedSems0 (c.tc : Thread nD τ) : sProp 𝕄) ⊢ iprop(C.zeros c ∗ C.restS a (F := F) c) := by
  refine (Entails.of_eq (Pipeline.scopedSems0_split (Pipeline.pin (pcfgs a F) (adm a F)) (cells_inj a) 0 (noWins a) (C.ownSemFacts a) c)).trans ?_
  unfold restS
  rw [zeros_eq]
  iintro ⟨⟨H1, H2⟩, H3⟩
  isplitl [H2]; · iexact H2
  isplitl [H1] <;> iassumption

theorem uncut (c : Dev nD) : (iprop(C.zeros c ∗ C.restS a (F := F) c) : sProp 𝕄) ⊢ scopedSems0 (c.tc : Thread nD τ) := by
  refine .trans ?_ (Entails.of_eq (Pipeline.scopedSems0_split (Pipeline.pin (pcfgs a F) (adm a F)) (cells_inj a) 0 (noWins a) (C.ownSemFacts a) c).symm)
  unfold restS
  rw [zeros_eq]
  iintro ⟨H2, H1, H3⟩
  isplitr [H3]
  · isplitl [H1] <;> iassumption
  · iexact H3

/-- A `∗` over no windows is `emp`. -/
theorem none_intro (Φ : Fin 0 → sProp 𝕄) : (iprop(emp) : sProp 𝕄) ⊢ bigSep Finset.univ Φ := by
  refine Entails.of_eq ?_
  rw [show (Finset.univ : Finset (Fin 0)) = ∅ from rfl, BI.bigSep_empty]
  rfl

/-- The exchange as an operation of @main: with what was dealt it leaves the arrays filled. -/
theorem exchange_call (P : C.Pieces m out) {v : Λ₀.Result body} (hbody : ∀ t, defs₀ .tc (single a).body ((single a).bodyArgs t ((single a).slots t)) = .op .deviceId fun d => C.net.prog C.order d (.ret v))
    (c : Dev nD) (k : PUnit → Prog (TpuEff nD τ sig (Elt F) (Pipeline.Sig Λ₀ (Fin 1) fun p => (pcfgs a F p).Adm) .tc) PUnit) (Q : PUnit → sProp 𝕄) :
    iprop(scopedBufs (c.tc : Thread nD τ) ∗ C.restS a (F := F) c ∗ owes (c.tc : Thread nD τ) (C.net.dues c C.order.LS) ∅ ∗ C.net.dealt m ER c ∗ C.net.landing c)
      ⊢ iprop(((C.held₁ m out c ∗ scopedSems0 (c.tc : Thread nD τ) ∗ scopedBufs (c.tc : Thread nD τ) ∗ ∃ W, owes (c.tc : Thread nD τ) 0 W)
            -∗ wp frame (wpE (Pipeline.defs (pcfgs a F) defs₀) (Variants.lift 𝒱₀) c none) Set.univ (k ⟨⟩) Q)
          -∗ wp frame (wpE (Pipeline.defs (pcfgs a F) defs₀) (Variants.lift 𝒱₀) c none) Set.univ (.op (.customCall (Pipeline.entry 0) ()) k) Q) := by
  have hbufs := Pipeline.scopedBufs_split (Pipeline.pin (pcfgs a F) (adm a F)) 0 (Ix := Unit) (Name := ℕ) (U := (UU nD τ sig)) (Lvl := ℕ) (Val := Elt F) (τ := τ)
    (fun k => k.1.elim0) (fun k => k.1.elim0) (fun w => w.elim0) c
  have hout : iprop((C.dats a m 0 c).Φ (Fin.last (single a).N) ∗ cellsSems0 (Pipeline.pin (pcfgs a F) (adm a F)) 0 c ∗ Dat.staging (single a) c ∗ idleSems0 (Pipeline.pin (pcfgs a F) (adm a F)) (cells_inj a) 0 (C.ownSemFacts a) c)
      ⊢ iprop(C.held₁ m out c ∗ scopedSems0 (c.tc : Thread nD τ) ∗ scopedBufs (c.tc : Thread nD τ)) := by
    show iprop(iprop(C.net.done m c ∗ scopedRest (single a).spec c) ∗ _) ⊢ _
    iintro ⟨⟨HD, HR⟩, Hc, Hst, Hi⟩
    ihave H := (C.done_eq m out P c) $$ HD
    icases H with ⟨Hz, Hh⟩
    isplitl [Hh]; · iexact Hh
    isplitl [Hz Hc Hi]
    · iapply (C.uncut a c)
      unfold restS
      isplitl [Hz]; · iexact Hz
      isplitl [Hc] <;> iassumption
    iapply (Entails.of_eq hbufs.symm)
    isplitl [Hst]; · iexact Hst
    iexact HR
  have hin : iprop(iprop(C.net.dealt m ER c ∗ C.net.landing c) ∗ prefHeld (pcfgs a F 0).pre c (fun _ => fullShare) (adm a F 0).1 ∗ scopedRest (single a).spec c)
      ⊢ (C.dats a m 0 c).Φ 0 := by
    show _ ⊢ iprop((C.net.dealt m ER c ∗ C.net.landing c) ∗ scopedRest (single a).spec c)
    iintro ⟨H1, -, H2⟩
    isplitl [H1] <;> iassumption
  have h := Pipeline.wp_customCall_entry_frame (pcfgs a F) (adm a F) (C.dats a m) () EP (fun _ => 0) (cells_inj a) 0 defs₀ 𝒱₀ (fun _ => fullShare) c Set.univ (fun w => w.elim0)
    (C.body_obligation a m defs₀ hbody c).loose (fun w => w.elim0) none (fun u h => nomatch h)
    (X := iprop(C.net.dealt m ER c ∗ C.net.landing c)) (Y := C.held₁ m out c) (R := scopedRest (single a).spec c)
    (I := idleSems0 (Pipeline.pin (pcfgs a F) (adm a F)) (cells_inj a) 0 (C.ownSemFacts a) c) (Entails.of_eq hbufs) hin hout (k := k) (Q := Q)
  have hpre : iprop(scopedBufs (c.tc : Thread nD τ) ∗ C.restS a (F := F) c ∗ owes (c.tc : Thread nD τ) (C.net.dues c C.order.LS) ∅ ∗ C.net.dealt m ER c ∗ C.net.landing c)
      ⊢ iprop(EntryPre (Pipeline.pin (pcfgs a F) (adm a F)) (C.dats a m) () EP (fun _ => 0) 0 c ∗ prefHeld (pcfgs a F 0).pre c (fun _ => fullShare) (adm a F 0).1
        ∗ iprop(C.net.dealt m ER c ∗ C.net.landing c) ∗ idleSems0 (Pipeline.pin (pcfgs a F) (adm a F)) (cells_inj a) 0 (C.ownSemFacts a) c ∗ scopedBufs (c.tc : Thread nD τ)) := by
    have harr : (iprop(emp) : sProp 𝕄) ⊢ (C.dats a m 0 c).arrays ((C.dats a m 0 c).arrAt · 0) := none_intro _
    have hwait : (iprop(emp) : sProp 𝕄) ⊢ Pipeline.PerCore.cellsWaits (fun _ => Pipeline.pin (pcfgs a F) (adm a F)) (C.dats a m) () 0 c := none_intro _
    have hinit : (iprop(emp) : sProp 𝕄) ⊢ Pipeline.PerCore.cellsInit (fun _ => Pipeline.pin (pcfgs a F) (adm a F)) (C.dats a m) EP (fun _ => 0) 0 c := none_intro _
    have htok : (iprop(emp) : sProp 𝕄) ⊢ Pipeline.PerCore.toksInit (fun _ => Pipeline.pin (pcfgs a F) (adm a F)) EP 0 c := none_intro _
    have hpref : (iprop(emp) : sProp 𝕄) ⊢ prefHeld (pcfgs a F 0).pre c (fun _ => fullShare) (adm a F 0).1 := none_intro _
    unfold restS EntryPre Pipeline.PerCore.EntryPre
    iintro ⟨Hb, ⟨Hc, Hi⟩, HO, HD, HL⟩
    isplitl [HO]
    · isplitr; · iapply harr; iempintro
      isplitl [HO]
      · iexists ∅
        isplitr; · ipureintro; rw [Finset.coe_empty]; exact Set.empty_subset _
        iexact HO
      isplitr; · iapply hwait; iempintro
      isplitr; · iapply hinit; iempintro
      iapply htok; iempintro
    isplitr; · iapply hpref; iempintro
    isplitl [HD HL]
    · isplitl [HD] <;> iassumption
    isplitl [Hi] <;> iassumption
  refine hpre.trans (h.trans ?_)
  iintro H Hk
  iapply H
  unfold EntryPost Pipeline.PerCore.EntryPost
  iintro ⟨⟨-, HO⟩, Hh, Hs, Hb⟩
  iapply Hk
  isplitl [Hh]; · iexact Hh
  isplitl [Hs]; · iexact Hs
  isplitl [Hb]; · iexact Hb
  icases HO with ⟨%W, -, HO⟩
  iexists W
  iexact HO

/-! ## The launch -/

def u₀ : UU nD τ sig := (initOf (Pipeline.cells (cfgs a) (cells_inj a)) (Pipeline.launchToks (cfgs a) (cells_inj a)), C.net.seed)

theorem start_all (P : C.Pieces m out) : (bigSep Finset.univ fun c : Dev nD => iprop(C.zeros c ∗ unscopedBufs c (fun b => m ((c.tc : Thread nD τ).loc b)) ∗ unscopedSems0 c))
    ⊢ (bigSep Finset.univ (C.net.start m) : sProp 𝕄) := bigSep_mono fun c _ => C.start_of_launch m out P c

theorem deal (P : C.Pieces m out) : iprop((bigSep Finset.univ fun c : Dev nD => iprop(C.zeros c
        ∗ unscopedBufs c (fun b => m ((c.tc : Thread nD τ).loc b)) ∗ unscopedSems0 c)) ∗ ownU (C.u₀ (τ := τ) a)) ⊢ (|={Set.univ}=> bigSep Finset.univ (C.net.dealt m ER) : sProp 𝕄) := by
  have hu := ownU_pair (nD := nD) (τ := τ) (sig := sig) (Ix := Unit) (Val := Elt F) (Name := ℕ) (Lvl := ℕ)
    (initOf (Pipeline.cells (nD := nD) (τ := τ) (cfgs a) (cells_inj a)) (Pipeline.launchToks (nD := nD) (τ := τ) (cfgs a) (cells_inj a))) (C.net.seed (τ := τ))
  unfold u₀
  iintro ⟨H, Hu⟩
  ihave Hu2 := hu $$ Hu
  icases Hu2 with ⟨-, Hu⟩
  iapply (C.net.deal_all m ER)
  isplitl [H]
  · iapply (C.start_all m out P); iexact H
  · iexact Hu

/-- What a final memory holds of device `c`. -/
def Ends (c : Dev nD) (s : MemSt nD τ sig (Elt F)) : Prop :=
  ∀ k : Fin n, s.mem ((c : Thread nD τ).loc (C.arg k)) = m ((c : Thread nD τ).loc (C.arg k)) ∧ s.mem ((c : Thread nD τ).loc (C.res k)) = out c k

theorem ends (c : Dev nD) (s : Phys nD τ sig (Elt F)) : iprop(C.held₁ m out c ∗ SI s) ⊢ (|={Set.univ}=> iprop(⌜C.Ends m out c s.mem⌝ ∗ SI s) : sProp 𝕄) := by
  unfold held₁
  iintro ⟨⟨H1, H2⟩, HSI⟩
  ihave HA := (pointsTo_read_all Finset.univ (fun k => (c : Thread nD τ).loc (C.arg k)) (fun k => m ((c : Thread nD τ).loc (C.arg k))) s fullShare) $$ [H1 HSI]
  · isplitl [H1] <;> iassumption
  icases HA with ⟨%hA, HSI⟩
  ihave HB := (pointsTo_read_all Finset.univ (fun k => (c : Thread nD τ).loc (C.res k)) (fun k => out c k) s fullShare) $$ [H2 HSI]
  · isplitl [H2] <;> iassumption
  icases HB with ⟨%hB, HSI⟩
  imodintro
  isplitr
  · ipureintro; exact fun k => ⟨hA k (Finset.mem_univ k), hB k (Finset.mem_univ k)⟩
  · iexact HSI

/-- One device's run of @main. -/
theorem core (P : C.Pieces m out) {v : Λ₀.Result body} (hbody : ∀ t, defs₀ .tc (single a).body ((single a).bodyArgs t ((single a).slots t)) = .op .deviceId fun d => C.net.prog C.order d (.ret v))
    (c : Dev nD) : iprop(scopedBufs (c.tc : Thread nD τ) ∗ C.restS a (F := F) c ∗ opIdle (c.tc : Thread nD τ)
        ∗ owes (c.tc : Thread nD τ) (C.net.dues c C.order.LS) ∅ ∗ levAts (fun _ => ∅) (fun _ _ => 0) ∗ Pipeline.launchCred (fun c => C.net.dues c C.order.LS) c ∗ prngReg c (ρ c) ∗ C.net.dealt m ER c)
      ⊢ wp frame (wpE (Pipeline.defs (pcfgs a F) defs₀) (Variants.lift 𝒱₀) (c.tc : Thread nD τ) none) Set.univ (.op (.customCall (Pipeline.entry 0) ()) fun _ => .ret PUnit.unit)
          (fun _ => iprop((C.held₁ m out c ∗ scopedSems0 (c.tc : Thread nD τ)) ∗ ∃ W, owes (c.tc : Thread nD τ) (0 : CellTallies nD τ sig Unit) W)) := by
  have h := C.exchange_call a m out defs₀ P hbody c (fun _ => .ret PUnit.unit) (fun _ => iprop((C.held₁ m out c ∗ scopedSems0 (c.tc : Thread nD τ)) ∗ ∃ W, owes (c.tc : Thread nD τ) (0 : CellTallies nD τ sig Unit) W))
  iintro ⟨Hb, HR, -, HO, -, HC, -, HD⟩
  ihave HL := (C.net.landing_of_launch C.order c) $$ HC
  iapply h $$ [Hb HR HO HD HL]
  · isplitl [Hb]; · iexact Hb
    isplitl [HR]; · iexact HR
    isplitl [HO]; · iexact HO
    isplitl [HD] <;> iassumption
  iintro ⟨Hh, Hs, -, HO⟩
  rw [wp_ret]
  imodintro
  isplitr [HO]
  · isplitl [Hh] <;> iassumption
  · iexact HO

/-- The run of a program that is the call alone, over any float values. -/
theorem run_main (P : C.Pieces m out) {v : Λ₀.Result body} (hbody : ∀ t, defs₀ .tc (single a).body ((single a).bodyArgs t ((single a).slots t)) = .op .deviceId fun d => C.net.prog C.order d (.ret v)) : θ_run (Pipeline.defs (pcfgs a F) defs₀) (onTc fun _ => .op (.customCall (Pipeline.entry 0) ()) fun _ => .ret ⟨⟩) ⟨m, fun _ => 0, ρ⟩ fun r => (∀ c, C.Ends m out c r.2) ∧ ∀ g, r.2.sem g = 0 := by
  exact θ_run_dealt (U := UU nD τ sig) (Name := ℕ) (Lvl := ℕ) (Pipeline.defs (pcfgs a F) defs₀) (Variants.lift 𝒱₀) m ρ _ (fun c => C.net.dues c C.order.LS) (fun _ => ∅) (fun _ _ => 0) (fun _ _ => rfl)
    C.zeros (C.restS a) (C.cut a) (C.net.dealt m ER) (C.u₀ (τ := τ) a) (C.deal a m out P) (C.held₁ m out) (C.core a m ρ out defs₀ P hbody) (C.Ends m out) (C.ends m out)
    fun s hs hz => ⟨hs, fun g => congrFun (sem_eq_zero_of_scoped C.scopes hz) g⟩

end Call

end Cert.Exchange

end
-- ==== Proof.Eight.lean ====
/-
Eight devices in seven rounds: the peers, the semaphores of the roles and the orders of the operations.
-/
module

public import proofs.«01_k».proof.Proof.Net

@[expose] public section

noncomputable section

namespace Cert.Exchange

open Idealize.ShloMosaic Idealize.SL.Sem

/-! ## The peers -/

/-- In round `r` device `d` talks to the device whose number differs in the bits of `r + 1`. -/
def peer (r : Fin 7) (d : Dev 8) : Dev 8 := ⟨d.val ^^^ (r.val + 1), by revert r d; decide⟩

theorem peer_peer (r : Fin 7) (d : Dev 8) : peer r (peer r d) = d := by revert d r; decide

theorem peer_bij (c : Dev 8) : Function.Bijective fun o : Option (Fin 7) => o.elim c fun r => peer r c := by
  refine (Fintype.bijective_iff_injective_and_card _).mpr ⟨?_, by decide⟩
  revert c; unfold Function.Injective; decide +kernel

/-! ## The semaphores -/

section Sems

variable {sig : RefSig} {n : ℕ}

/-- Element `(k, r)` of a semaphore array of `n` × 7. -/
def sem2 (b : DmaSems sig ⟨2, ![n, 7]⟩) (r : Fin 7) (k : Fin n) : DmaSem sig :=
  ((b.slice (Rect.unit (s := ⟨2, ![n, 7]⟩) ![k.val, r.val] ![1, 1]
    (fun x => by
      have hk : k.val + 1 ≤ n := k.isLt
      have hr : r.val + 1 ≤ 7 := r.isLt
      match x with
      | 0 => exact hk
      | 1 => exact hr))).squeeze ⟨0, ![]⟩ (show Shape.Squeezes ⟨2, ![1, 1]⟩ ⟨0, ![]⟩ by decide)).sem

/-- Element `k` of a semaphore array of `n`. -/
def sem1 (b : DmaSems sig ⟨1, ![n]⟩) (k : Fin n) : DmaSem sig :=
  ((b.slice (Rect.unit (s := ⟨1, ![n]⟩) ![k.val] ![1]
    (fun x => by
      have hk : k.val + 1 ≤ n := k.isLt
      match x with
      | 0 => exact hk))).squeeze ⟨0, ![]⟩ (show Shape.Squeezes ⟨1, ![1]⟩ ⟨0, ![]⟩ by decide)).sem

/-- The semaphore of a role: of the arrays for departures, for landings and for copies within a device. -/
def semOf (b₀ b₁ : DmaSems sig ⟨2, ![n, 7]⟩) (b₂ : DmaSems sig ⟨1, ![n]⟩) : Role (Fin 7) n → DmaSem sig
  | .inl x => sem2 b₀ x.1 x.2
  | .inr (.inl x) => sem2 b₁ x.1 x.2
  | .inr (.inr k) => sem1 b₂ k

/-- Its number, where the arrays lie one behind the other. -/
def num : Role (Fin 7) n → ℕ
  | .inl x => 7 * x.2.val + x.1.val
  | .inr (.inl x) => 7 * n + (7 * x.2.val + x.1.val)
  | .inr (.inr k) => 14 * n + k.val

theorem num_inj : Function.Injective (num (n := n)) := by
  rintro (⟨r, k⟩ | ⟨r, k⟩ | k) (⟨r', k'⟩ | ⟨r', k'⟩ | k') h <;> simp only [num] at h
  all_goals
    first
      | (exfalso; omega)
      | (obtain ⟨h1, h2⟩ : r = r' ∧ k = k' := ⟨Fin.ext (by omega), Fin.ext (by omega)⟩; rw [h1, h2])
      | (rw [show k = k' from Fin.ext (by omega)])

theorem semOf_inj (b₀ b₁ : DmaSems sig ⟨2, ![n, 7]⟩) (b₂ : DmaSems sig ⟨1, ![n]⟩) (h : ∀ x, (semOf b₀ b₁ b₂ x).val = num x) :
    Function.Injective (semOf b₀ b₁ b₂) := fun x y e => num_inj (by rw [← h, ← h, e])

end Sems

/-! ## Operations at equal ends -/

section Congr

variable {nD : ℕ} {τ : Topo} {sig : RefSig} {Λ : Labels} {Val : EltTy → Type} {s : Shape} {e : EltTy}

theorem transfer_congr {a a' b : Memref sig .tc .hbm s e} {t t' : Dev nD} {sS sR : DmaSem sig} (hab : a = a') (ht : t = t')
    {hsc hsc'} {ha hb ha' h h'} :
    (.enqueueDma a (.remote (Dev.tc t) b (.dma sS) hsc) (.dma sR) ha hb h : TpuEff nD τ sig Val Λ .tc PUnit)
      = .enqueueDma a' (.remote (Dev.tc t') b (.dma sS) hsc') (.dma sR) ha' hb h' := by
  subst hab; subst ht; rfl

theorem wait_congr_left {a a' b : Memref sig .tc .hbm s e} {q : DmaSem sig} (hab : a = a') {ha hb ha'} :
    (.waitDma2 q a b ha hb : TpuEff nD τ sig Val Λ .tc PUnit) = .waitDma2 q a' b ha' hb := by subst hab; rfl

theorem wait_congr_right {a a' b : Memref sig .tc .hbm s e} {q : DmaSem sig} (hab : a = a') {ha hb ha'} :
    (.waitDma2 q b a hb ha : TpuEff nD τ sig Val Λ .tc PUnit) = .waitDma2 q b a' hb ha' := by subst hab; rfl

end Congr

/-! ## The orders: round by round, array by array; after the transfers, the waits in the same order -/

def order₁ : Net.Order (Fin 7) 1 where
  LK := [0]
  LS := [0, 1, 2, 3, 4, 5, 6].flatMap fun r => [0].map fun k => (r, k)
  LW := ([0, 1, 2, 3, 4, 5, 6].flatMap fun r => [0].flatMap fun k => [.inl (r, k), .inr (.inl (r, k))]) ++ [0].map fun k => .inr (.inr k)
  nK := by decide
  nS := by decide +kernel
  nW := by decide +kernel
  uK := by decide
  uS := by decide +kernel
  uW := by decide +kernel

def order₆ : Net.Order (Fin 7) 6 where
  LK := [0, 1, 2, 3, 4, 5]
  LS := [0, 1, 2, 3, 4, 5, 6].flatMap fun r => [0, 1, 2, 3, 4, 5].map fun k => (r, k)
  LW := ([0, 1, 2, 3, 4, 5, 6].flatMap fun r => [0, 1, 2, 3, 4, 5].flatMap fun k => [.inl (r, k), .inr (.inl (r, k))])
    ++ [0, 1, 2, 3, 4, 5].map fun k => .inr (.inr k)
  nK := by decide
  nS := by decide +kernel
  nW := by decide +kernel
  uK := by decide
  uS := by decide +kernel
  uW := by decide +kernel

end Cert.Exchange

end
-- ==== Proof.Slots.lean ====
/-
An array cut into slots: the whole array held is every slot held, and slots that were filled one by one are a whole
array again.
-/
module

public import proofs.«01_k».proof.Proof.Net

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U]

local notation "𝕄" => MT nD τ sig Unit Val ℕ U ℕ

/-- Rectangles that meet every index exactly once cut a whole buffer into pieces. -/
theorem whole_eq_pieces {T : Type} [Fintype T] {s : Shape} {e : EltTy} (M : Memref sig .tc .hbm s e) (hM : M.IsWhole)
    (r : T → Rect s) (hr : ∀ i : s.Idx, ∃ t, i ∈ (r t).set) (hd : ∀ t t' (i : s.Idx), i ∈ (r t).set → i ∈ (r t').set → t = t')
    (c : Dev nD) (q : PosShare TreeShare) (f : Buf Val (M.view.loc (c.tc : Thread nD τ))) :
    (M.view.loc (c.tc : Thread nD τ) ↦{q} f : sProp 𝕄)
      = bigSep Finset.univ fun t => M.view.loc (c.tc : Thread nD τ) ↦[(M.view.slice (r t)).set]{q} f := by
  classical
  rw [← pointsTo_biUnion]
  · congr 1
    symm
    refine Finset.eq_univ_iff_forall.mpr fun i => ?_
    have hi : i ∈ M.view.set := by rw [hM.set_eq_univ]; exact Finset.mem_univ i
    obtain ⟨x, -, rfl⟩ := Finset.mem_map.mp hi
    obtain ⟨t, ht⟩ := hr x
    refine Finset.mem_biUnion.mpr ⟨t, Finset.mem_univ t, ?_⟩
    rw [View.set_slice]
    exact Finset.mem_map_of_mem _ ht
  · intro t _ t' _ hne
    refine Finset.disjoint_left.mpr fun i hi hi' => hne ?_
    rw [View.set_slice] at hi hi'
    obtain ⟨x, hx, rfl⟩ := Finset.mem_map.mp hi
    obtain ⟨x', hx', h⟩ := Finset.mem_map.mp hi'
    rw [M.view.emb.injective h] at hx'
    exact hd t t' x hx hx'

/-- A piece written with what another view reads is that piece of any contents that reads the same there. -/
theorem piece_eq {s : Shape} {e : EltTy} (c : Dev nD) (v : View sig .tc .hbm s e) (q : PosShare TreeShare)
    (f F : Buf Val (v.loc (c.tc : Thread nD τ))) (w : s.Idx → Val e) (h : v.read Val F = w) :
    (v.loc (c.tc : Thread nD τ) ↦[v.set]{q} v.write Val f w Finset.univ : sProp 𝕄) = (v.loc (c.tc : Thread nD τ) ↦[v.set]{q} F) := by
  refine pointsTo_congr fun i hi => ?_
  obtain ⟨x, -, rfl⟩ := Finset.mem_map.mp hi
  rw [View.write_emb_of_mem _ _ (Finset.mem_univ x), ← h, View.read_apply]
  exact cast_cast _ _ _

/-! ## Arrays of eight slots along a first axis -/

section Slot

variable {t : Shape}

/-- Eight slots of a shape, and one. -/
abbrev eight (t : Shape) : Shape := ⟨t.rank + 1, Matrix.vecCons 8 t.size⟩
abbrev one (t : Shape) : Shape := ⟨t.rank + 1, Matrix.vecCons 1 t.size⟩

/-- An index within a slot, in slot `d`. -/
def inSlot (d : Fin 8) (i : t.Idx) : (eight t).Idx :=
  Fin.cons (α := fun x : Fin (t.rank + 1) => Fin ((eight t).size x)) d i

/-- The array that holds, in slot `i`, slot `d` of the array number `i`. -/
def turn {T : Type} (f : Fin 8 → (eight t).Idx → T) (d : Fin 8) : (eight t).Idx → T :=
  fun i => f (i 0) (inSlot d fun x => i x.succ)

/-- The array that holds, in slot `i`, the array number `i`. -/
def stacked {T : Type} (f : Fin 8 → t.Idx → T) : (eight t).Idx → T := fun i => f (i 0) fun x => i x.succ

/-- The offset of slot `d`. -/
def AtSlot (off : Fin 8 → Fin (t.rank + 1) → ℕ) : Prop := ∀ d, off d 0 = d.val ∧ ∀ x : Fin t.rank, off d x.succ = 0

/-- An offset lies within the array. -/
abbrev Inb (t : Shape) (off : Fin (t.rank + 1) → ℕ) : Prop := ∀ x, off x + (one t).size x ≤ (eight t).size x

/-- The slot that starts at an offset. -/
abbrev slotRect (off : Fin (t.rank + 1) → ℕ) (h : Inb t off) : Rect (eight t) := Rect.unit (s := eight t) off (one t).size h

variable (off : Fin 8 → Fin (t.rank + 1) → ℕ) (hoff : AtSlot off) (h : ∀ d, Inb t (off d))

theorem slot_cover (hoff : AtSlot off) (i : (eight t).Idx) : ∃ d : Fin 8, i ∈ (slotRect (off d) (h d)).set := by
  obtain ⟨d, hd⟩ : ∃ d : Fin 8, d = i 0 := ⟨_, rfl⟩
  refine ⟨d, Rect.mem_set_unit.mpr fun x => ?_⟩
  refine Fin.cases ?_ (fun y => ?_) x
  · rw [(hoff d).1, hd]; exact ⟨le_refl _, Nat.lt_succ_self _⟩
  · rw [(hoff d).2 y]; exact ⟨Nat.zero_le _, lt_of_lt_of_eq (i y.succ).isLt (Nat.zero_add _).symm⟩

theorem slot_disjoint (hoff : AtSlot off) (d d' : Fin 8) (i : (eight t).Idx)
    (hi : i ∈ (slotRect (off d) (h d)).set) (hi' : i ∈ (slotRect (off d') (h d')).set) : d = d' := by
  have e := Rect.mem_set_unit.mp hi 0
  have e' := Rect.mem_set_unit.mp hi' 0
  rw [(hoff d).1] at e
  rw [(hoff d').1] at e'
  have e1 : d.val ≤ (i 0).val ∧ (i 0).val < d.val + 1 := e
  have e2 : d'.val ≤ (i 0).val ∧ (i 0).val < d'.val + 1 := e'
  exact Fin.ext (by omega)

/-- The index within the whole array of an index of slot `d`. -/
theorem slot_emb (hoff : AtSlot off) (d : Fin 8) (j : (one t).Idx) : (slotRect (off d) (h d)).emb j = inSlot d fun x => j x.succ := by
  have hj : (j 0).val = 0 := Nat.lt_one_iff.mp (j 0).isLt
  have hval : ∀ x, (((slotRect (off d) (h d)).emb j) x).val = off d x + (j x).val := fun x => by
    rw [Rect.emb_apply]; show off d x + 1 * (j x).val = _; rw [Nat.one_mul]
  refine funext fun x => Fin.ext ?_
  rw [hval]
  refine Fin.cases ?_ (fun y => ?_) x
  · rw [(hoff d).1, hj]; rfl
  · rw [(hoff d).2 y, Nat.zero_add]; rfl

/-- Read at slot `s`, the turned array is array number `s` read at slot `d`. -/
theorem turn_slot {T : Type} (f : Fin 8 → (eight t).Idx → T) (hoff : AtSlot off) (d s : Fin 8) (j : (one t).Idx) :
    turn f d ((slotRect (off s) (h s)).emb j) = f s ((slotRect (off d) (h d)).emb j) := by
  rw [slot_emb off h hoff, slot_emb off h hoff]; rfl

variable {e : EltTy} (hq : (one t).Squeezes t)

/-- The slot of an array of eight slots, its first axis dropped. -/
abbrev slotView (M : Memref sig .tc .hbm (eight t) e) (off : Fin (t.rank + 1) → ℕ) (h : Inb t off) (hq : (one t).Squeezes t) :
    Memref sig .tc .hbm t e := (M.slice (slotRect off h) (fun _ => rfl)).squeeze t hq

/-- Read at slot `s`, the array is what it holds there. -/
theorem slot_read (M : Memref sig .tc .hbm (eight t) e) (hoff : AtSlot off) (d : Fin 8) (f : M.view.ty.Contents Val) (j : t.Idx) :
    (slotView M (off d) (h d) hq).view.read Val f j = M.view.read Val f (inSlot d j) := by
  have hj : (slotRect (off d) (h d)).emb (Shape.reshapeEquiv (Shape.Squeezes.numel_eq hq) j) = inSlot d j := by
    rw [slot_emb off h hoff]
    refine congrArg (inSlot d) (funext fun x => ?_)
    have := congrFun (Shape.reshapeEquiv_cons_one (Shape.Squeezes.numel_eq hq) j) x.succ
    exact this
  rw [← hj]; rfl

variable (M : Memref sig .tc .hbm (eight t) e) (hM : M.IsWhole) (n : Dev nD) (q : PosShare TreeShare)

/-- The eight slots held are the whole array held. -/
theorem slots_eq (hM : M.IsWhole) (hoff : AtSlot off) (f : Buf Val (M.view.loc (n.tc : Thread nD τ))) :
    (bigSep Finset.univ fun d : Fin 8 => (M.view.loc (n.tc : Thread nD τ) ↦[(slotView M (off d) (h d) hq).view.set]{q} f : sProp 𝕄))
      = (M.view.loc (n.tc : Thread nD τ) ↦{q} f) := by
  rw [whole_eq_pieces M hM (fun d => slotRect (off d) (h d)) (slot_cover off h hoff) (slot_disjoint off h hoff)]
  exact bigSep_congr fun d _ => congrArg (fun S => (M.view.loc (n.tc : Thread nD τ) ↦[S]{q} f : sProp 𝕄)) (View.set_reshape _ _)

/-- Eight slots, each written with its part, are the whole array at any contents that read those parts. -/
theorem filled_eq (hM : M.IsWhole) (hoff : AtSlot off) (f G : Buf Val (M.view.loc (n.tc : Thread nD τ))) (w : Fin 8 → t.Idx → Val e)
    (hw : ∀ d, (slotView M (off d) (h d) hq).view.read Val G = w d) :
    (bigSep Finset.univ fun d : Fin 8 => (M.view.loc (n.tc : Thread nD τ) ↦[(slotView M (off d) (h d) hq).view.set]{q}
        (slotView M (off d) (h d) hq).view.write Val f (w d) Finset.univ : sProp 𝕄))
      = (M.view.loc (n.tc : Thread nD τ) ↦{q} G) := by
  rw [← slots_eq off h hq M n q hM hoff]
  exact bigSep_congr fun d _ => piece_eq n (slotView M (off d) (h d) hq).view q f G (w d) (hw d)

end Slot

end Cert.Exchange

end
-- ==== Proof.Turn.lean ====
/-
The turn of eight devices' arrays of slots: slot `j` of device `d` goes to device `j`, into its slot `d`.
-/
module

public import proofs.«01_k».proof.Proof.Call
public import proofs.«01_k».proof.Proof.Eight
public import proofs.«01_k».proof.Proof.Slots

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- One array of a turn: its eight slots and the eight slots for what comes. `far d r` is the offset that device `d`
computes in round `r` for its peer's slot. -/
structure Table (sig : RefSig) where
  s : Shape
  e : EltTy
  src : Memref sig .tc .hbm (eight s) e
  dst : Memref sig .tc .hbm (eight s) e
  hsrc : src.IsWhole
  hdst : dst.IsWhole
  off : Dev 8 → Fin (s.rank + 1) → ℕ
  inb : ∀ d, Inb s (off d)
  at_slot : AtSlot off
  far : Dev 8 → Fin 7 → Fin (s.rank + 1) → ℕ
  far_inb : ∀ d r, Inb s (far d r)
  far_eq : ∀ d r, far d r = off (peer r d)
  hq : (one s).Squeezes s
  wsrc : ∀ d, (slotView src (off d) (inb d) hq).view.WordExact
  wfar : ∀ d r, (slotView src (far d r) (far_inb d r) hq).view.WordExact
  wdst : ∀ d, (slotView dst (off d) (inb d) hq).view.WordExact
  hsc : dst.view.ref.isScScratch = false
  N : ℕ
  credit_src : ∀ d, (slotView src (off d) (inb d) hq).view.dmaCredit = N
  credit_dst : ∀ d, (slotView dst (off d) (inb d) hq).view.dmaCredit = N
  pos : 0 < N

/-- The part for a device is its slot. -/
def Table.part {sig : RefSig} (T : Table sig) : Part 8 sig where
  s := T.s
  e := T.e
  src d := slotView T.src (T.off d) (T.inb d) T.hq
  dst d := slotView T.dst (T.off d) (T.inb d) T.hq
  hsrc := T.wsrc
  hdst := T.wdst
  hsc _ := T.hsc
  N := T.N
  hNsrc := T.credit_src
  hNdst := T.credit_dst
  hN := T.pos

theorem Table.far_view {sig : RefSig} (T : Table sig) (d : Dev 8) (r : Fin 7) :
    slotView T.src (T.far d r) (T.far_inb d r) T.hq = slotView T.src (T.off (peer r d)) (T.inb (peer r d)) T.hq := by
  simp only [T.far_eq]

/-- A turn of `n` arrays, with the semaphores and the order of its operations. -/
structure Turn (sig : RefSig) (n : ℕ) where
  table : Fin n → Table sig
  sem : Role (Fin 7) n → DmaSem sig
  sem_inj : Function.Injective sem
  order : Net.Order (Fin 7) n
  inj : Function.Injective (Sum.elim (fun k => (table k).src.view.ref) fun k => (table k).dst.view.ref)
  cover : ∀ b : Ref sig .tc, ¬ b.isScoped ↔ ∃ x, Sum.elim (fun k => (table k).src.view.ref) (fun k => (table k).dst.view.ref) x = b
  scopes : ∀ sm : SemLoc sig, sm.isScoped .tc = true

variable {τ : Topo} {sig : RefSig} {n : ℕ} {F : FTy → Type} [FloatOps F]

namespace Turn

variable (G : Turn sig n)

/-- The turn, as an exchange. -/
def net : Net 8 sig (Fin 7) n where
  arr k := (G.table k).part
  share _ := fullShare
  peer := peer
  sem := G.sem
  sem_inj := G.sem_inj
  peer_peer := peer_peer
  bij := peer_bij

def call : Call 8 sig (Fin 7) n where
  net := G.net
  order := G.order
  arg k := (G.table k).src.view.ref
  res k := (G.table k).dst.view.ref
  inj := G.inj
  cover := G.cover
  scopes := G.scopes

/-! ## The operations with the devices and the offsets that the program names -/

variable {Λ : Labels} {Val : EltTy → Type}

/-- The transfer of round `r` of array `k`, to a device. -/
def sendTo (tgt : Fin 7 → Fin n → Dev 8) (d : Dev 8) (x : Fin 7 × Fin n) : TpuEff 8 τ sig Val Λ .tc PUnit :=
  .enqueueDma (slotView (G.table x.2).src ((G.table x.2).far d x.1) ((G.table x.2).far_inb d x.1) (G.table x.2).hq)
    (.remote (Dev.tc (tgt x.1 x.2)) (slotView (G.table x.2).dst ((G.table x.2).off d) ((G.table x.2).inb d) (G.table x.2).hq)
      (.dma (G.sem (.inl x))) (G.table x.2).hsc)
    (.dma (G.sem (.inr (.inl x)))) ((G.table x.2).wfar d x.1) ((G.table x.2).wdst d) ⟨⟨rfl, Or.inl rfl⟩, trivial⟩

/-- The wait of a role. -/
def waitAt (d : Dev 8) : Role (Fin 7) n → TpuEff 8 τ sig Val Λ .tc PUnit
  | .inl x => .waitDma2 (G.sem (.inl x)) (slotView (G.table x.2).dst ((G.table x.2).off d) ((G.table x.2).inb d) (G.table x.2).hq)
      (slotView (G.table x.2).src ((G.table x.2).far d x.1) ((G.table x.2).far_inb d x.1) (G.table x.2).hq)
      ((G.table x.2).wdst d) ((G.table x.2).wfar d x.1)
  | .inr (.inl x) => .waitDma2 (G.sem (.inr (.inl x))) (slotView (G.table x.2).src ((G.table x.2).far d x.1) ((G.table x.2).far_inb d x.1) (G.table x.2).hq)
      (slotView (G.table x.2).dst ((G.table x.2).off d) ((G.table x.2).inb d) (G.table x.2).hq)
      ((G.table x.2).wfar d x.1) ((G.table x.2).wdst d)
  | .inr (.inr k) => G.net.waitOp d (.inr (.inr k))

/-- The body with what the program names. -/
def named (tgt : Dev 8 → Fin 7 → Fin n → Dev 8) (d : Dev 8) {α : Type} (p : Prog (TpuEff 8 τ sig Val Λ .tc) α) : Prog (TpuEff 8 τ sig Val Λ .tc) α :=
  seqOps (G.order.LK.map (G.net.copyOp d)) (seqOps (G.order.LS.map (G.sendTo (tgt d) d)) (seqOps (G.order.LW.map (G.waitAt d)) p))

theorem sendTo_eq (tgt : Fin 7 → Fin n → Dev 8) (d : Dev 8) (h : ∀ r k, tgt r k = peer r d) (x : Fin 7 × Fin n) :
    (G.sendTo tgt d x : TpuEff 8 τ sig Val Λ .tc PUnit) = G.net.sendOp d x := transfer_congr ((G.table x.2).far_view d x.1) (h x.1 x.2)

theorem waitAt_eq (d : Dev 8) : ∀ x, (G.waitAt d x : TpuEff 8 τ sig Val Λ .tc PUnit) = G.net.waitOp d x
  | .inl x => wait_congr_right (b := slotView (G.table x.2).dst ((G.table x.2).off d) ((G.table x.2).inb d) (G.table x.2).hq)
      ((G.table x.2).far_view d x.1) (hb := (G.table x.2).wdst d) (ha := (G.table x.2).wfar d x.1) (ha' := (G.table x.2).wsrc (peer x.1 d))
  | .inr (.inl x) => wait_congr_left (b := slotView (G.table x.2).dst ((G.table x.2).off d) ((G.table x.2).inb d) (G.table x.2).hq)
      ((G.table x.2).far_view d x.1) (hb := (G.table x.2).wdst d) (ha := (G.table x.2).wfar d x.1) (ha' := (G.table x.2).wsrc (peer x.1 d))
  | .inr (.inr k) => rfl

theorem named_eq (tgt : Dev 8 → Fin 7 → Fin n → Dev 8) (h : ∀ d r k, tgt d r k = peer r d) (d : Dev 8) {α : Type} (p : Prog (TpuEff 8 τ sig Val Λ .tc) α) :
    G.named tgt d p = G.net.prog G.order d p := by
  unfold named Net.prog
  simp only [List.map_congr_left fun x _ => G.sendTo_eq (tgt d) d (h d) x, List.map_congr_left fun x _ => G.waitAt_eq d x]

/-! ## The arrays before and after -/

local notation "𝕄" => MT 8 τ sig Unit (Elt F) ℕ (UU 8 τ sig) ℕ

variable (m : (ℓ : Loc 8 τ sig) → Buf (Elt F) ℓ) (ρ : Dev 8 → PrngReg)

/-- Array `k` of a device, as it is read. -/
def given (k : Fin n) (d : Dev 8) : (eight (G.table k).s).Idx → Elt F (G.table k).e :=
  (G.table k).src.view.read (Elt F) (m ((G.table k).src.view.loc (d : Thread 8 τ)))

/-- Result `k`: slot `j` of it is this device's slot of device `j`. -/
def out (c : Dev 8) (k : Fin n) : Buf (Elt F) ((c : Thread 8 τ).loc (G.call.res k)) :=
  (G.table k).dst.view.write (Elt F) (m ((G.table k).dst.view.loc (c : Thread 8 τ))) (turn (G.given m k) c) Finset.univ

theorem out_slot (c : Dev 8) (k : Fin n) (d : Dev 8) :
    (slotView (G.table k).dst ((G.table k).off d) ((G.table k).inb d) (G.table k).hq).view.read (Elt F) (G.out m c k)
      = (slotView (G.table k).src ((G.table k).off c) ((G.table k).inb c) (G.table k).hq).view.read (Elt F) (m ((G.table k).src.view.loc (d : Thread 8 τ))) := by
  funext j
  refine (slot_read (G.table k).off (G.table k).inb (G.table k).hq (G.table k).dst (G.table k).at_slot d (G.out m c k) j).trans ?_
  refine Eq.trans ?_ (slot_read (G.table k).off (G.table k).inb (G.table k).hq (G.table k).src (G.table k).at_slot c
    (m ((G.table k).src.view.loc (d : Thread 8 τ))) j).symm
  unfold out
  rw [View.read_write_univ]
  rfl

theorem src_eq (c : Dev 8) (k : Fin n) : (bigSep Finset.univ (G.net.srcP m c k) : sProp 𝕄) = wholeAt c (G.call.arg k) (m ((c : Thread 8 τ).loc (G.call.arg k))) :=
  slots_eq (G.table k).off (G.table k).inb (G.table k).hq (G.table k).src c fullShare (G.table k).hsrc (G.table k).at_slot (m ((c : Thread 8 τ).loc (G.call.arg k)))

theorem dst_eq (c : Dev 8) (k : Fin n) : (bigSep Finset.univ (G.net.dstP m c k) : sProp 𝕄) = wholeAt c (G.call.res k) (m ((c : Thread 8 τ).loc (G.call.res k))) :=
  slots_eq (G.table k).off (G.table k).inb (G.table k).hq (G.table k).dst c fullShare (G.table k).hdst (G.table k).at_slot (m ((c : Thread 8 τ).loc (G.call.res k)))

theorem got_eq (c : Dev 8) (k : Fin n) : (bigSep Finset.univ (G.net.gotP m c k) : sProp 𝕄) = wholeAt c (G.call.res k) (G.out m c k) :=
  filled_eq (G.table k).off (G.table k).inb (G.table k).hq (G.table k).dst c fullShare (G.table k).hdst (G.table k).at_slot
    (m ((c : Thread 8 τ).loc (G.call.res k))) (G.out m c k) _ (G.out_slot m c k)

theorem pieces : G.call.Pieces m (G.out m) := ⟨G.src_eq m, G.dst_eq m, G.got_eq m⟩

/-- The run of a program that is the turn alone: every device ends with its slots of the eight devices' arrays. -/
theorem run {Λ₀ : Labels} {body : Λ₀.Label} (a : BodyArgs sig Λ₀ body) (defs₀ : Defs 8 τ sig (Elt F) Λ₀) {v : Λ₀.Result body}
    (tgt : Dev 8 → Fin 7 → Fin n → Dev 8) (htgt : ∀ d r k, tgt d r k = peer r d)
    (hbody : ∀ t, defs₀ .tc (single a).body ((single a).bodyArgs t ((single a).slots t)) = .op .deviceId fun d => G.named tgt d (.ret v)) :
    θ_run (Pipeline.defs (pcfgs a F) defs₀) (onTc fun _ => .op (.customCall (Pipeline.entry 0) ()) fun _ => .ret ⟨⟩) ⟨m, fun _ => 0, ρ⟩ fun r =>
      (∀ (c : Dev 8) (k : Fin n), r.2.mem ((G.table k).src.view.loc (c : Thread 8 τ)) = m ((G.table k).src.view.loc (c : Thread 8 τ))
        ∧ (G.table k).dst.view.read (Elt F) (r.2.mem ((G.table k).dst.view.loc (c : Thread 8 τ))) = turn (G.given m k) c)
      ∧ ∀ g, r.2.sem g = 0 := by
  refine (θ_run _ _ _).mono (fun r h => ⟨fun c k => ⟨(h.1 c k).1, ?_⟩, h.2⟩)
    (G.call.run_main a m ρ (G.out m) defs₀ (G.pieces m) (v := v) fun t => (hbody t).trans (congrArg _ (funext fun d => G.named_eq tgt htgt d _)))
  have e : r.2.mem ((G.table k).dst.view.loc (c : Thread 8 τ)) = G.out m c k := (h.1 c k).2
  rw [e]
  exact View.read_write_univ _ _

end Turn

end Cert.Exchange

end
-- ==== Proof.Scatter.lean ====
/-
The scatter of the weights' gradients: six arrays of eight slots on each device, turned.
-/
module

public import proofs.«01_k».proof.Proof.Turn
public import proofs.«01_k».proof.Proof.Gen.KernelIdeal.Points

@[expose] public section

noncomputable section

namespace Cert.Scatter

open Cert.KernelIdeal Cert.KernelIdeal.Gen Cert.Exchange
open Idealize.ShloMosaic
open Idealize.ShloMosaic.TcCoe
open Idealize.SL.Sem

variable {F : FTy → Type} [FloatOps F]

/-! ## The arrays, by shape -/

theorem at_slot {a b c : ℕ} {off : Dev nD → Fin 4 → ℕ} (h : ∀ d, off d = ![4 * (d.val / 4) + 2 * ((d.val / 2) % 2) + d.val % 2, 0, 0, 0]) :
    AtSlot (t := ⟨3, ![a, b, c]⟩) off := fun d => by
  rw [h]
  exact ⟨by show 4 * (d.val / 4) + 2 * ((d.val / 2) % 2) + d.val % 2 = d.val; omega, fun x => by fin_cases x <;> rfl⟩

/-- What round `r` adds to a device's number. -/
abbrev step (r : Fin 7) : BitVec 32 := BitVec.ofNat 32 (1 + r.val)

def tableA (a b : Memref sig .tc .hbm S8x2x1024x800 .bf16) (ha : a.IsWhole) (hb : b.IsWhole) (hsc : b.view.ref.isScScratch = false) (N : ℕ) (hN : 0 < N)
    (hNa : ∀ d, (slotView (t := S2x1024x800) a (k0_off1 d) (k0_off1_inb d) squeezes_S1x2x1024x800_S2x1024x800).view.dmaCredit = N)
    (hNb : ∀ d, (slotView (t := S2x1024x800) b (k0_off1 d) (k0_off1_inb d) squeezes_S1x2x1024x800_S2x1024x800).view.dmaCredit = N) : Table sig where
  s := S2x1024x800
  e := .bf16
  src := a
  dst := b
  hsrc := ha
  hdst := hb
  off := k0_off1
  inb := k0_off1_inb
  at_slot := at_slot k0_off1_eq
  far d r := k0_off5 d (step r)
  far_inb := k0_off5_inb
  far_eq := by decide +kernel
  hq := squeezes_S1x2x1024x800_S2x1024x800
  wsrc d := (ha.wordExact_slice rfl _ (k0_off1_wordsbf16 d)).reshape _ _
  wfar d r := (ha.wordExact_slice rfl _ (k0_off5_wordsbf16 d r)).reshape _ _
  wdst d := (hb.wordExact_slice rfl _ (k0_off1_wordsbf16 d)).reshape _ _
  hsc := hsc
  N := N
  credit_src := hNa
  credit_dst := hNb
  pos := hN

def tableB (a b : Memref sig .tc .hbm S8x2x64x512 .bf16) (ha : a.IsWhole) (hb : b.IsWhole) (hsc : b.view.ref.isScScratch = false) (N : ℕ) (hN : 0 < N)
    (hNa : ∀ d, (slotView (t := S2x64x512) a (k0_off2 d) (k0_off2_inb d) squeezes_S1x2x64x512_S2x64x512).view.dmaCredit = N)
    (hNb : ∀ d, (slotView (t := S2x64x512) b (k0_off2 d) (k0_off2_inb d) squeezes_S1x2x64x512_S2x64x512).view.dmaCredit = N) : Table sig where
  s := S2x64x512
  e := .bf16
  src := a
  dst := b
  hsrc := ha
  hdst := hb
  off := k0_off2
  inb := k0_off2_inb
  at_slot := at_slot k0_off2_eq
  far d r := k0_off6 d (step r)
  far_inb := k0_off6_inb
  far_eq := by decide +kernel
  hq := squeezes_S1x2x64x512_S2x64x512
  wsrc d := (ha.wordExact_slice rfl _ (k0_off2_wordsbf16 d)).reshape _ _
  wfar d r := (ha.wordExact_slice rfl _ (k0_off6_wordsbf16 d r)).reshape _ _
  wdst d := (hb.wordExact_slice rfl _ (k0_off2_wordsbf16 d)).reshape _ _
  hsc := hsc
  N := N
  credit_src := hNa
  credit_dst := hNb
  pos := hN

def tableC (a b : Memref sig .tc .hbm S8x2x512x128 .bf16) (ha : a.IsWhole) (hb : b.IsWhole) (hsc : b.view.ref.isScScratch = false) (N : ℕ) (hN : 0 < N)
    (hNa : ∀ d, (slotView (t := S2x512x128) a (k0_off3 d) (k0_off3_inb d) squeezes_S1x2x512x128_S2x512x128).view.dmaCredit = N)
    (hNb : ∀ d, (slotView (t := S2x512x128) b (k0_off3 d) (k0_off3_inb d) squeezes_S1x2x512x128_S2x512x128).view.dmaCredit = N) : Table sig where
  s := S2x512x128
  e := .bf16
  src := a
  dst := b
  hsrc := ha
  hdst := hb
  off := k0_off3
  inb := k0_off3_inb
  at_slot := at_slot k0_off3_eq
  far d r := k0_off7 d (step r)
  far_inb := k0_off7_inb
  far_eq := by decide +kernel
  hq := squeezes_S1x2x512x128_S2x512x128
  wsrc d := (ha.wordExact_slice rfl _ (k0_off3_wordsbf16 d)).reshape _ _
  wfar d r := (ha.wordExact_slice rfl _ (k0_off7_wordsbf16 d r)).reshape _ _
  wdst d := (hb.wordExact_slice rfl _ (k0_off3_wordsbf16 d)).reshape _ _
  hsc := hsc
  N := N
  credit_src := hNa
  credit_dst := hNb
  pos := hN

def tableD (a b : Memref sig .tc .hbm S8x2x128x1024 .bf16) (ha : a.IsWhole) (hb : b.IsWhole) (hsc : b.view.ref.isScScratch = false) (N : ℕ) (hN : 0 < N)
    (hNa : ∀ d, (slotView (t := S2x128x1024) a (k0_off4 d) (k0_off4_inb d) squeezes_S1x2x128x1024_S2x128x1024).view.dmaCredit = N)
    (hNb : ∀ d, (slotView (t := S2x128x1024) b (k0_off4 d) (k0_off4_inb d) squeezes_S1x2x128x1024_S2x128x1024).view.dmaCredit = N) : Table sig where
  s := S2x128x1024
  e := .bf16
  src := a
  dst := b
  hsrc := ha
  hdst := hb
  off := k0_off4
  inb := k0_off4_inb
  at_slot := at_slot k0_off4_eq
  far d r := k0_off8 d (step r)
  far_inb := k0_off8_inb
  far_eq := by decide +kernel
  hq := squeezes_S1x2x128x1024_S2x128x1024
  wsrc d := (ha.wordExact_slice rfl _ (k0_off4_wordsbf16 d)).reshape _ _
  wfar d r := (ha.wordExact_slice rfl _ (k0_off8_wordsbf16 d r)).reshape _ _
  wdst d := (hb.wordExact_slice rfl _ (k0_off4_wordsbf16 d)).reshape _ _
  hsc := hsc
  N := N
  credit_src := hNa
  credit_dst := hNb
  pos := hN

/-- The six arrays. -/
def table : Fin 6 → Table sig
  | 0 => tableA (Memref.whole main_arg0) (Memref.whole main_v1_0) (Memref.isWhole_whole _) (Memref.isWhole_whole _) rfl
      (slotView (t := S2x1024x800) (Memref.whole main_v1_0) (k0_off1 0) (k0_off1_inb 0) squeezes_S1x2x1024x800_S2x1024x800).view.dmaCredit (View.dmaCredit_pos _ (by decide +kernel)) (fun _ => rfl) fun _ => rfl
  | 1 => tableB (Memref.whole main_arg1) (Memref.whole main_v1_1) (Memref.isWhole_whole _) (Memref.isWhole_whole _) rfl
      (slotView (t := S2x64x512) (Memref.whole main_v1_1) (k0_off2 0) (k0_off2_inb 0) squeezes_S1x2x64x512_S2x64x512).view.dmaCredit (View.dmaCredit_pos _ (by decide +kernel)) (fun _ => rfl) fun _ => rfl
  | 2 => tableC (Memref.whole main_arg2) (Memref.whole main_v1_2) (Memref.isWhole_whole _) (Memref.isWhole_whole _) rfl
      (slotView (t := S2x512x128) (Memref.whole main_v1_2) (k0_off3 0) (k0_off3_inb 0) squeezes_S1x2x512x128_S2x512x128).view.dmaCredit (View.dmaCredit_pos _ (by decide +kernel)) (fun _ => rfl) fun _ => rfl
  | 3 => tableC (Memref.whole main_arg3) (Memref.whole main_v1_3) (Memref.isWhole_whole _) (Memref.isWhole_whole _) rfl
      (slotView (t := S2x512x128) (Memref.whole main_v1_3) (k0_off3 0) (k0_off3_inb 0) squeezes_S1x2x512x128_S2x512x128).view.dmaCredit (View.dmaCredit_pos _ (by decide +kernel)) (fun _ => rfl) fun _ => rfl
  | 4 => tableC (Memref.whole main_arg4) (Memref.whole main_v1_4) (Memref.isWhole_whole _) (Memref.isWhole_whole _) rfl
      (slotView (t := S2x512x128) (Memref.whole main_v1_4) (k0_off3 0) (k0_off3_inb 0) squeezes_S1x2x512x128_S2x512x128).view.dmaCredit (View.dmaCredit_pos _ (by decide +kernel)) (fun _ => rfl) fun _ => rfl
  | 5 => tableD (Memref.whole main_arg5) (Memref.whole main_v1_5) (Memref.isWhole_whole _) (Memref.isWhole_whole _) rfl
      (slotView (t := S2x128x1024) (Memref.whole main_v1_5) (k0_off4 0) (k0_off4_inb 0) squeezes_S1x2x128x1024_S2x128x1024).view.dmaCredit (View.dmaCredit_pos _ (by decide +kernel)) (fun _ => rfl) fun _ => rfl

/-- The arguments and the results. -/
def refs : Fin 6 ⊕ Fin 6 → Ref sig .tc :=
  Sum.elim ![main_arg0, main_arg1, main_arg2, main_arg3, main_arg4, main_arg5] ![main_v1_0, main_v1_1, main_v1_2, main_v1_3, main_v1_4, main_v1_5]

theorem refs_eq : Sum.elim (fun k => (table k).src.view.ref) (fun k => (table k).dst.view.ref) = refs := by
  funext x
  rcases x with k | k <;> fin_cases k <;> rfl

def scatter : Turn sig 6 where
  table := table
  sem := semOf cc0_scratch0 cc0_scratch1 cc0_scratch2
  sem_inj := semOf_inj _ _ _ (by decide +kernel)
  order := order₆
  inj := by rw [refs_eq]; decide +kernel
  cover := by rw [refs_eq]; decide +kernel
  scopes := by decide +kernel

/-! ## The printed body -/

/-- The device that the printed transfer of round `r`, array `k` names. -/
def named (d : Dev nD) : Fin 7 → Fin 6 → Dev nD := ![
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩],
  ![⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩],
  ![⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩],
  ![⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩],
  ![⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩],
  ![⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩],
  ![⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩]]

theorem named_eq : ∀ (d : Dev nD) (r : Fin 7) (k : Fin 6), named d r k = peer r d := by decide +kernel

set_option maxRecDepth 65536 in
theorem body_printed (t : Fin cfg0.N) : bodyAt0 (F := F) t = .op .deviceId fun d => scatter.named named d (.ret ⟨⟩) := rfl

set_option maxRecDepth 65536 in
theorem body_at (t : Fin cfg0.N) : defs₀ (F := F) .tc cfg0.body (cfg0.bodyArgs t (cfg0.slots t)) = .op .deviceId fun d => scatter.named named d (.ret ⟨⟩) :=
  Eq.trans (by delta defs₀; rfl) (body_printed t)

/-! ## The run -/

variable (m : (ℓ : Loc nD τ sig) → Buf (Elt F) ℓ) (ρ : Dev nD → PrngReg)

theorem run_main :
    θ_run (defs (F := F)) (onTc main) ⟨m, fun _ => 0, ρ⟩ fun r =>
      (∀ (c : Dev nD) (k : Fin 6), r.2.mem ((table k).src.view.loc (c : Thread nD τ)) = m ((table k).src.view.loc (c : Thread nD τ))
        ∧ (table k).dst.view.read (Elt F) (r.2.mem ((table k).dst.view.loc (c : Thread nD τ))) = turn (scatter.given m k) c)
      ∧ ∀ g, r.2.sem g = 0 :=
  scatter.run (F := F) m ρ (Λ₀ := Λ₀) (body := 0) (fun t s => (t, s)) defs₀ (v := PUnit.unit) named named_eq body_at

end Cert.Scatter

end
-- ==== Proof.Value.lean ====
/-
What the reference computes, read block by block: an array of 64 slots seen as an 8 × 8 table of slots, and that table
transposed.
-/
module

public import proofs.«01_k».proof.Proof.Slots
public import Idealize.ShloMosaic.Lib.Layout
public import Idealize.ShloMosaic.Lib.ValueIdx
public import Idealize.ShloMosaic.Lib.Pipeline.Value

@[expose] public section

noncomputable section

namespace Cert.Exchange

open Idealize.ShloMosaic Idealize.ShloMosaic.ValueIdx

variable {T : Type} {a b c : ℕ}

/-- Slot `8 * d + j` of the whole array is slot `j` of block `d`. -/
theorem block_slot (G : (⟨4, ![64, a, b, c]⟩ : Shape).Idx → T) (h : Layout.Tiles ⟨4, ![8, a, b, c]⟩ ⟨4, ![64, a, b, c]⟩ 0 8) (d : Fin 8)
    (i : (⟨4, ![8, a, b, c]⟩ : Shape).Idx) (k : (⟨4, ![64, a, b, c]⟩ : Shape).Idx)
    (h0 : (k 0).val = d.val * 8 + (i 0).val) (h1 : (k 1).val = (i 1).val) (h2 : (k 2).val = (i 2).val) (h3 : (k 3).val = (i 3).val) :
    Layout.block ⟨4, ![8, a, b, c]⟩ ⟨4, ![64, a, b, c]⟩ 0 8 d G h i = G k := by
  rw [Layout.block_apply]
  refine congrArg G (funext fun x => Fin.ext ?_)
  rw [Layout.Tiles.idx_val]
  match x with
  | 0 => exact h0.symm
  | 1 => exact h1.symm
  | 2 => exact h2.symm
  | 3 => exact h3.symm

/-- Block `d` of the transposed table: its slot `j` is slot `d` of block `j` of the argument. -/
theorem transposed_block (G : (⟨4, ![64, a, b, c]⟩ : Shape).Idx → T)
    (h1 : (⟨4, ![64, a, b, c]⟩ : Shape).ShapeCasts ⟨5, ![8, 8, a, b, c]⟩)
    (ht : (⟨5, ![8, 8, a, b, c]⟩ : Shape).Transposes [1, 0, 2, 3, 4] ⟨5, ![8, 8, a, b, c]⟩)
    (h2 : (⟨5, ![8, 8, a, b, c]⟩ : Shape).ShapeCasts ⟨4, ![64, a, b, c]⟩)
    (h : Layout.Tiles ⟨4, ![8, a, b, c]⟩ ⟨4, ![64, a, b, c]⟩ 0 8) (d : Fin 8) :
    Layout.block ⟨4, ![8, a, b, c]⟩ ⟨4, ![64, a, b, c]⟩ 0 8 d
        (shapeCast _ (transpose ⟨5, ![8, 8, a, b, c]⟩ [1, 0, 2, 3, 4] (shapeCast _ G h1) ht) h2) h
      = turn (t := ⟨3, ![a, b, c]⟩) (fun j => Layout.block ⟨4, ![8, a, b, c]⟩ ⟨4, ![64, a, b, c]⟩ 0 8 j G h) d := by
  funext i
  have hi : (i 0).val < 8 := (i 0).isLt
  have hd := d.isLt
  rw [block_slot _ h d i (ix4 ⟨d.val * 8 + (i 0).val, by omega⟩ (i 1) (i 2) (i 3)) rfl rfl rfl rfl]
  rw [shapeCast_apply _ h2 _ (ix5 d (i 0) (i 1) (i 2) (i 3)) (by simp only [Shape.rowMajor_val_four, Shape.rowMajor_val_five]; rfl)]
  rw [transpose_apply _ _ ht _ (ix5 (i 0) d (i 1) (i 2) (i 3)) (by intro x; match x with | 0 => rfl | 1 => rfl | 2 => rfl | 3 => rfl | 4 => rfl)]
  rw [shapeCast_apply _ h1 _ (ix4 ⟨(i 0).val * 8 + d.val, by omega⟩ (i 1) (i 2) (i 3)) (by simp only [Shape.rowMajor_val_four, Shape.rowMajor_val_five]; rfl)]
  exact (block_slot G h (i 0) (inSlot (t := ⟨3, ![a, b, c]⟩) d fun x => i x.succ) _ rfl rfl rfl rfl).symm

end Cert.Exchange

end
-- ==== Proof.Blocks.lean ====
/-
The scatter against the reference: from blocks of the whole arrays, each device ends with its blocks of the transposed
tables, over any float values.
-/
module

public import proofs.«01_k».proof.Proof.Scatter
public import proofs.«01_k».proof.Proof.Value
public import proofs.«01_k».proof.Proof.Gen.ReferenceIdeal.Run

@[expose] public section

noncomputable section

namespace Cert.Scatter

open Cert.KernelIdeal Cert.KernelIdeal.Gen Cert.Exchange
open Idealize.ShloMosaic
open Idealize.ShloMosaic.TcCoe
open Idealize.SL.Sem

variable {F : FTy → Type} [FloatOps F]

/-- The whole array of 64 slots, its 8 × 8 table of slots transposed. -/
abbrev swapped {T : Type} (a b c : ℕ) (G : (⟨4, ![64, a, b, c]⟩ : Shape).Idx → T)
    (h1 : (⟨4, ![64, a, b, c]⟩ : Shape).ShapeCasts ⟨5, ![8, 8, a, b, c]⟩ := by decide)
    (ht : (⟨5, ![8, 8, a, b, c]⟩ : Shape).Transposes [1, 0, 2, 3, 4] ⟨5, ![8, 8, a, b, c]⟩ := by decide)
    (h2 : (⟨5, ![8, 8, a, b, c]⟩ : Shape).ShapeCasts ⟨4, ![64, a, b, c]⟩ := by decide) : (⟨4, ![64, a, b, c]⟩ : Shape).Idx → T :=
  shapeCast _ (transpose ⟨5, ![8, 8, a, b, c]⟩ [1, 0, 2, 3, 4] (shapeCast _ G h1) ht) h2

/-- Blocks in, the transposed table's blocks out. -/
theorem turn_blocks {T : Type} {a b c : ℕ} (f : Fin 8 → (⟨4, ![8, a, b, c]⟩ : Shape).Idx → T) (G : (⟨4, ![64, a, b, c]⟩ : Shape).Idx → T)
    (h : Layout.Tiles ⟨4, ![8, a, b, c]⟩ ⟨4, ![64, a, b, c]⟩ 0 8) (hf : ∀ j, f j = Layout.block ⟨4, ![8, a, b, c]⟩ ⟨4, ![64, a, b, c]⟩ 0 8 j G h)
    (h1 : (⟨4, ![64, a, b, c]⟩ : Shape).ShapeCasts ⟨5, ![8, 8, a, b, c]⟩)
    (ht : (⟨5, ![8, 8, a, b, c]⟩ : Shape).Transposes [1, 0, 2, 3, 4] ⟨5, ![8, 8, a, b, c]⟩)
    (h2 : (⟨5, ![8, 8, a, b, c]⟩ : Shape).ShapeCasts ⟨4, ![64, a, b, c]⟩) (d : Fin 8) :
    turn (t := ⟨3, ![a, b, c]⟩) f d = Layout.block ⟨4, ![8, a, b, c]⟩ ⟨4, ![64, a, b, c]⟩ 0 8 d (swapped a b c G h1 ht h2) h := by
  rw [transposed_block, funext hf]

/-- The scatter, run from the devices' blocks of six whole arrays. -/
theorem run_blocks (m : (ℓ : Loc nD τ sig) → Buf (Elt F) ℓ) (ρ : Dev nD → PrngReg)
    (G0 : (⟨4, ![64, 2, 1024, 800]⟩ : Shape).Idx → Elt F .bf16)
    (G1 : (⟨4, ![64, 2, 64, 512]⟩ : Shape).Idx → Elt F .bf16)
    (G2 : (⟨4, ![64, 2, 512, 128]⟩ : Shape).Idx → Elt F .bf16)
    (G3 : (⟨4, ![64, 2, 512, 128]⟩ : Shape).Idx → Elt F .bf16)
    (G4 : (⟨4, ![64, 2, 512, 128]⟩ : Shape).Idx → Elt F .bf16)
    (G5 : (⟨4, ![64, 2, 128, 1024]⟩ : Shape).Idx → Elt F .bf16)
    (hag : ∀ c : Dev nD,
      m ((c.tc : Thread nD τ).loc main_arg0) = Layout.block ⟨4, ![8, 2, 1024, 800]⟩ ⟨4, ![64, 2, 1024, 800]⟩ 0 8 c G0
      ∧ m ((c.tc : Thread nD τ).loc main_arg1) = Layout.block ⟨4, ![8, 2, 64, 512]⟩ ⟨4, ![64, 2, 64, 512]⟩ 0 8 c G1
      ∧ m ((c.tc : Thread nD τ).loc main_arg2) = Layout.block ⟨4, ![8, 2, 512, 128]⟩ ⟨4, ![64, 2, 512, 128]⟩ 0 8 c G2
      ∧ m ((c.tc : Thread nD τ).loc main_arg3) = Layout.block ⟨4, ![8, 2, 512, 128]⟩ ⟨4, ![64, 2, 512, 128]⟩ 0 8 c G3
      ∧ m ((c.tc : Thread nD τ).loc main_arg4) = Layout.block ⟨4, ![8, 2, 512, 128]⟩ ⟨4, ![64, 2, 512, 128]⟩ 0 8 c G4
      ∧ m ((c.tc : Thread nD τ).loc main_arg5) = Layout.block ⟨4, ![8, 2, 128, 1024]⟩ ⟨4, ![64, 2, 128, 1024]⟩ 0 8 c G5) :
    θ_run (defs (F := F)) (onTc main) ⟨m, fun _ => 0, ρ⟩ fun r => ∀ c : Dev nD,
      r.2.mem ((c.tc : Thread nD τ).loc main_v1_0) = Layout.block ⟨4, ![8, 2, 1024, 800]⟩ ⟨4, ![64, 2, 1024, 800]⟩ 0 8 c (swapped 2 1024 800 G0)
      ∧ r.2.mem ((c.tc : Thread nD τ).loc main_v1_1) = Layout.block ⟨4, ![8, 2, 64, 512]⟩ ⟨4, ![64, 2, 64, 512]⟩ 0 8 c (swapped 2 64 512 G1)
      ∧ r.2.mem ((c.tc : Thread nD τ).loc main_v1_2) = Layout.block ⟨4, ![8, 2, 512, 128]⟩ ⟨4, ![64, 2, 512, 128]⟩ 0 8 c (swapped 2 512 128 G2)
      ∧ r.2.mem ((c.tc : Thread nD τ).loc main_v1_3) = Layout.block ⟨4, ![8, 2, 512, 128]⟩ ⟨4, ![64, 2, 512, 128]⟩ 0 8 c (swapped 2 512 128 G3)
      ∧ r.2.mem ((c.tc : Thread nD τ).loc main_v1_4) = Layout.block ⟨4, ![8, 2, 512, 128]⟩ ⟨4, ![64, 2, 512, 128]⟩ 0 8 c (swapped 2 512 128 G4)
      ∧ r.2.mem ((c.tc : Thread nD τ).loc main_v1_5) = Layout.block ⟨4, ![8, 2, 128, 1024]⟩ ⟨4, ![64, 2, 128, 1024]⟩ 0 8 c (swapped 2 128 1024 G5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (h.1 c 0).2.trans (turn_blocks (fun j : Dev nD => m ((j : Thread nD τ).loc main_arg0)) G0 _ (fun j => (hag j).1) _ _ _ c),
      (h.1 c 1).2.trans (turn_blocks (fun j : Dev nD => m ((j : Thread nD τ).loc main_arg1)) G1 _ (fun j => (hag j).2.1) _ _ _ c),
      (h.1 c 2).2.trans (turn_blocks (fun j : Dev nD => m ((j : Thread nD τ).loc main_arg2)) G2 _ (fun j => (hag j).2.2.1) _ _ _ c),
      (h.1 c 3).2.trans (turn_blocks (fun j : Dev nD => m ((j : Thread nD τ).loc main_arg3)) G3 _ (fun j => (hag j).2.2.2.1) _ _ _ c),
      (h.1 c 4).2.trans (turn_blocks (fun j : Dev nD => m ((j : Thread nD τ).loc main_arg4)) G4 _ (fun j => (hag j).2.2.2.2.1) _ _ _ c),
      (h.1 c 5).2.trans (turn_blocks (fun j : Dev nD => m ((j : Thread nD τ).loc main_arg5)) G5 _ (fun j => (hag j).2.2.2.2.2) _ _ _ c),
      (h.1 c 0).1,
      (h.1 c 1).1,
      (h.1 c 2).1,
      (h.1 c 3).1,
      (h.1 c 4).1,
      (h.1 c 5).1⟩)
    (run_main m ρ)

end Cert.Scatter

end
-- ==== Proof.Gather.lean ====
/-
The gather of eight devices' arrays: each array goes whole to every device, which ends with the stack of the eight.
-/
module

public import proofs.«01_k».proof.Proof.Call
public import proofs.«01_k».proof.Proof.Eight
public import proofs.«01_k».proof.Proof.Slots
public import Idealize.ShloMosaic.Lib.ShareLeaves

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- One array of a gather: what a device gives away, and the eight slots for what comes. -/
structure Stack (sig : RefSig) where
  s : Shape
  e : EltTy
  src : Memref sig .tc .hbm s e
  dst : Memref sig .tc .hbm (eight s) e
  hsrc : src.IsWhole
  hdst : dst.IsWhole
  off : Dev 8 → Fin (s.rank + 1) → ℕ
  inb : ∀ d, Inb s (off d)
  at_slot : AtSlot off
  hq : (one s).Squeezes s
  word : ∀ d, (slotView dst (off d) (inb d) hq).view.WordExact
  hsc : dst.view.ref.isScScratch = false
  credit : ∀ d, (slotView dst (off d) (inb d) hq).view.dmaCredit = src.view.dmaCredit
  pos : 0 < src.view.dmaCredit

/-- The part for every device is the whole array. -/
def Stack.part {sig : RefSig} (S : Stack sig) : Part 8 sig where
  s := S.s
  e := S.e
  src _ := S.src
  dst d := slotView S.dst (S.off d) (S.inb d) S.hq
  hsrc _ := S.hsrc.wordExact
  hdst := S.word
  hsc _ := S.hsc
  N := S.src.view.dmaCredit
  hNsrc _ := rfl
  hNdst := S.credit
  hN := S.pos

/-- A gather of `n` arrays, with the semaphores and the order of its operations. -/
structure Gather (sig : RefSig) (n : ℕ) where
  stack : Fin n → Stack sig
  sem : Role (Fin 7) n → DmaSem sig
  sem_inj : Function.Injective sem
  order : Net.Order (Fin 7) n
  inj : Function.Injective (Sum.elim (fun k => (stack k).src.view.ref) fun k => (stack k).dst.view.ref)
  cover : ∀ b : Ref sig .tc, ¬ b.isScoped ↔ ∃ x, Sum.elim (fun k => (stack k).src.view.ref) (fun k => (stack k).dst.view.ref) x = b
  scopes : ∀ sm : SemLoc sig, sm.isScoped .tc = true

variable {τ : Topo} {sig : RefSig} {n : ℕ} {F : FTy → Type} [FloatOps F]

namespace Gather

variable (G : Gather sig n)

/-- The gather, as an exchange: every device holds an eighth of its array for each. -/
def net : Net 8 sig (Fin 7) n where
  arr k := (G.stack k).part
  share d := ShareLeaves.leaf 3 fullShare d
  peer := peer
  sem := G.sem
  sem_inj := G.sem_inj
  peer_peer := peer_peer
  bij := peer_bij

def call : Call 8 sig (Fin 7) n where
  net := G.net
  order := G.order
  arg k := (G.stack k).src.view.ref
  res k := (G.stack k).dst.view.ref
  inj := G.inj
  cover := G.cover
  scopes := G.scopes

/-! ## The operations with the devices that the program names -/

variable {Λ : Labels} {Val : EltTy → Type}

/-- The transfer of round `r` of array `k`, to a device. -/
def sendTo (tgt : Fin 7 → Fin n → Dev 8) (d : Dev 8) (x : Fin 7 × Fin n) : TpuEff 8 τ sig Val Λ .tc PUnit :=
  .enqueueDma (G.stack x.2).src (.remote (Dev.tc (tgt x.1 x.2)) (slotView (G.stack x.2).dst ((G.stack x.2).off d) ((G.stack x.2).inb d) (G.stack x.2).hq)
      (.dma (G.sem (.inl x))) (G.stack x.2).hsc)
    (.dma (G.sem (.inr (.inl x)))) (G.stack x.2).hsrc.wordExact ((G.stack x.2).word d) ⟨⟨rfl, Or.inl rfl⟩, trivial⟩

/-- The body with the named devices. -/
def named (tgt : Dev 8 → Fin 7 → Fin n → Dev 8) (d : Dev 8) {α : Type} (p : Prog (TpuEff 8 τ sig Val Λ .tc) α) : Prog (TpuEff 8 τ sig Val Λ .tc) α :=
  seqOps (G.order.LK.map (G.net.copyOp d)) (seqOps (G.order.LS.map (G.sendTo (tgt d) d)) (seqOps (G.order.LW.map (G.net.waitOp d)) p))

theorem sendTo_eq (tgt : Fin 7 → Fin n → Dev 8) (d : Dev 8) (h : ∀ r k, tgt r k = peer r d) (x : Fin 7 × Fin n) :
    (G.sendTo tgt d x : TpuEff 8 τ sig Val Λ .tc PUnit) = G.net.sendOp d x := transfer_congr rfl (h x.1 x.2)

theorem named_eq (tgt : Dev 8 → Fin 7 → Fin n → Dev 8) (h : ∀ d r k, tgt d r k = peer r d) (d : Dev 8) {α : Type} (p : Prog (TpuEff 8 τ sig Val Λ .tc) α) :
    G.named tgt d p = G.net.prog G.order d p := by
  unfold named Net.prog
  simp only [List.map_congr_left fun x _ => G.sendTo_eq (tgt d) d (h d) x]

/-! ## The arrays before and after -/

local notation "𝕄" => MT 8 τ sig Unit (Elt F) ℕ (UU 8 τ sig) ℕ

variable (m : (ℓ : Loc 8 τ sig) → Buf (Elt F) ℓ) (ρ : Dev 8 → PrngReg)

/-- Array `k` of a device, as it is read. -/
def given (k : Fin n) (d : Dev 8) : (G.stack k).s.Idx → Elt F (G.stack k).e :=
  (G.stack k).src.view.read (Elt F) (m ((G.stack k).src.view.loc (d : Thread 8 τ)))

/-- Result `k`: the stack of the eight. -/
def out (c : Dev 8) (k : Fin n) : Buf (Elt F) ((c : Thread 8 τ).loc (G.call.res k)) :=
  (G.stack k).dst.view.write (Elt F) (m ((G.stack k).dst.view.loc (c : Thread 8 τ))) (stacked (G.given m k)) Finset.univ

theorem out_slot (c : Dev 8) (k : Fin n) (d : Dev 8) :
    (slotView (G.stack k).dst ((G.stack k).off d) ((G.stack k).inb d) (G.stack k).hq).view.read (Elt F) (G.out m c k) = G.given m k d := by
  funext j
  refine (slot_read (G.stack k).off (G.stack k).inb (G.stack k).hq (G.stack k).dst (G.stack k).at_slot d (G.out m c k) j).trans ?_
  unfold out
  rw [View.read_write_univ]
  rfl

theorem src_piece (c : Dev 8) (k : Fin n) (d : Dev 8) : (G.net.srcP m c k d : sProp 𝕄)
    = ((c : Thread 8 τ).loc (G.call.arg k) ↦[Finset.univ]{ShareLeaves.leaf 3 fullShare d} m ((c : Thread 8 τ).loc (G.call.arg k))) :=
  congrArg (fun S => ((G.stack k).src.view.loc (c.tc : Thread 8 τ) ↦[S]{ShareLeaves.leaf 3 fullShare d} m ((G.stack k).src.view.loc (c.tc : Thread 8 τ)) : sProp 𝕄))
    (G.stack k).hsrc.set_eq_univ

theorem src_eq (c : Dev 8) (k : Fin n) : (bigSep Finset.univ (G.net.srcP m c k) : sProp 𝕄) = wholeAt c (G.call.arg k) (m ((c : Thread 8 τ).loc (G.call.arg k))) :=
  (bigSep_congr fun d _ => G.src_piece m c k d).trans (ShareLeaves.pointsTo_leaves Finset.univ (m ((c : Thread 8 τ).loc (G.call.arg k))) 3 fullShare).symm

theorem dst_eq (c : Dev 8) (k : Fin n) : (bigSep Finset.univ (G.net.dstP m c k) : sProp 𝕄) = wholeAt c (G.call.res k) (m ((c : Thread 8 τ).loc (G.call.res k))) :=
  slots_eq (G.stack k).off (G.stack k).inb (G.stack k).hq (G.stack k).dst c fullShare (G.stack k).hdst (G.stack k).at_slot (m ((c : Thread 8 τ).loc (G.call.res k)))

theorem got_eq (c : Dev 8) (k : Fin n) : (bigSep Finset.univ (G.net.gotP m c k) : sProp 𝕄) = wholeAt c (G.call.res k) (G.out m c k) :=
  filled_eq (G.stack k).off (G.stack k).inb (G.stack k).hq (G.stack k).dst c fullShare (G.stack k).hdst (G.stack k).at_slot
    (m ((c : Thread 8 τ).loc (G.call.res k))) (G.out m c k) (G.given m k) (G.out_slot m c k)

theorem pieces : G.call.Pieces m (G.out m) := ⟨G.src_eq m, G.dst_eq m, G.got_eq m⟩

/-- The run of a program that is the gather alone: every device ends with the stacks of what the eight had. -/
theorem run {Λ₀ : Labels} {body : Λ₀.Label} (a : BodyArgs sig Λ₀ body) (defs₀ : Defs 8 τ sig (Elt F) Λ₀) {v : Λ₀.Result body}
    (tgt : Dev 8 → Fin 7 → Fin n → Dev 8) (htgt : ∀ d r k, tgt d r k = peer r d)
    (hbody : ∀ t, defs₀ .tc (single a).body ((single a).bodyArgs t ((single a).slots t)) = .op .deviceId fun d => G.named tgt d (.ret v)) :
    θ_run (Pipeline.defs (pcfgs a F) defs₀) (onTc fun _ => .op (.customCall (Pipeline.entry 0) ()) fun _ => .ret ⟨⟩) ⟨m, fun _ => 0, ρ⟩ fun r =>
      (∀ (c : Dev 8) (k : Fin n), r.2.mem ((G.stack k).src.view.loc (c : Thread 8 τ)) = m ((G.stack k).src.view.loc (c : Thread 8 τ))
        ∧ (G.stack k).dst.view.read (Elt F) (r.2.mem ((G.stack k).dst.view.loc (c : Thread 8 τ))) = stacked (G.given m k))
      ∧ ∀ g, r.2.sem g = 0 := by
  refine (θ_run _ _ _).mono (fun r h => ⟨fun c k => ⟨(h.1 c k).1, ?_⟩, h.2⟩)
    (G.call.run_main a m ρ (G.out m) defs₀ (G.pieces m) (v := v) fun t => (hbody t).trans (congrArg _ (funext fun d => G.named_eq tgt htgt d _)))
  have e : r.2.mem ((G.stack k).dst.view.loc (c : Thread 8 τ)) = G.out m c k := (h.1 c k).2
  rw [e]
  exact View.read_write_univ _ _

end Gather

end Cert.Exchange

end
-- ==== Proof.Stacked.lean ====
/-
What the references of the gathers compute: the eight blocks of a whole array, one behind the other along a new first
axis, wherever the axis is along which the array was cut.
-/
module

public import proofs.«01_k».proof.Proof.Slots
public import Idealize.ShloMosaic.Lib.Layout
public import Idealize.ShloMosaic.Lib.ValueIdx
public import Idealize.ShloMosaic.Lib.Pipeline.Value

@[expose] public section

noncomputable section

namespace Cert.Exchange

open Idealize.ShloMosaic Idealize.ShloMosaic.ValueIdx

variable {T : Type} {a b c n : ℕ}

/-- Cut along the rows. -/
theorem stacked_rows (f : Fin 8 → (⟨2, ![a, b]⟩ : Shape).Idx → T) (G : (⟨2, ![n, b]⟩ : Shape).Idx → T)
    (h : Layout.Tiles ⟨2, ![a, b]⟩ ⟨2, ![n, b]⟩ 0 8) (hs : (⟨2, ![n, b]⟩ : Shape).ShapeCasts ⟨3, ![8, a, b]⟩)
    (hf : ∀ d, f d = Layout.block ⟨2, ![a, b]⟩ ⟨2, ![n, b]⟩ 0 8 d G h) :
    stacked (t := ⟨2, ![a, b]⟩) f = shapeCast ⟨3, ![8, a, b]⟩ G hs := by
  funext i
  obtain ⟨d, hd⟩ : ∃ d : Fin 8, d = i 0 := ⟨_, rfl⟩
  have hv : d.val = (i 0).val := congrArg Fin.val hd
  have hi : (fun x : Fin 2 => i x.succ) = (ix2 (i 1) (i 2) : (⟨2, ![a, b]⟩ : Shape).Idx) := by
    funext x; match x with | 0 => rfl | 1 => rfl
  refine (congr (hf (i 0)) hi).trans ?_
  rw [← hd, Layout.block_apply]
  refine (shapeCast_apply _ hs _ _ ?_).symm
  rw [Shape.rowMajor_val_two, Shape.rowMajor_val_three, Layout.Tiles.idx_val, Layout.Tiles.idx_val]
  show (d.val * a + (i 1).val) * b + (i 2).val = ((i 0).val * a + (i 1).val) * b + (i 2).val
  rw [hv]

/-- Cut along the middle of three axes. -/
theorem stacked_mid (f : Fin 8 → (⟨3, ![a, b, c]⟩ : Shape).Idx → T) (G : (⟨3, ![a, n, c]⟩ : Shape).Idx → T)
    (h : Layout.Tiles ⟨3, ![a, b, c]⟩ ⟨3, ![a, n, c]⟩ 1 8) (hs : (⟨3, ![a, n, c]⟩ : Shape).ShapeCasts ⟨4, ![a, 8, b, c]⟩)
    (ht : (⟨4, ![a, 8, b, c]⟩ : Shape).Transposes [1, 0, 2, 3] ⟨4, ![8, a, b, c]⟩)
    (hf : ∀ d, f d = Layout.block ⟨3, ![a, b, c]⟩ ⟨3, ![a, n, c]⟩ 1 8 d G h) (hn : n = 8 * b) :
    stacked (t := ⟨3, ![a, b, c]⟩) f = transpose ⟨4, ![8, a, b, c]⟩ [1, 0, 2, 3] (shapeCast ⟨4, ![a, 8, b, c]⟩ G hs) ht := by
  funext i
  obtain ⟨d, hd⟩ : ∃ d : Fin 8, d = i 0 := ⟨_, rfl⟩
  have hv : d.val = (i 0).val := congrArg Fin.val hd
  have hi : (fun x : Fin 3 => i x.succ) = (ix3 (i 1) (i 2) (i 3) : (⟨3, ![a, b, c]⟩ : Shape).Idx) := by
    funext x; match x with | 0 => rfl | 1 => rfl | 2 => rfl
  refine (congr (hf (i 0)) hi).trans ?_
  rw [← hd, Layout.block_apply]
  rw [transpose_apply _ _ ht _ (ix4 (i 1) (i 0) (i 2) (i 3)) (by intro x; match x with | 0 => rfl | 1 => rfl | 2 => rfl | 3 => rfl)]
  refine (shapeCast_apply _ hs _ _ ?_).symm
  rw [Shape.rowMajor_val_three, Shape.rowMajor_val_four, Layout.Tiles.idx_val, Layout.Tiles.idx_val, Layout.Tiles.idx_val]
  subst hn
  show ((i 1).val * (8 * b) + (d.val * b + (i 2).val)) * c + (i 3).val = (((i 1).val * 8 + (i 0).val) * b + (i 2).val) * c + (i 3).val
  rw [hv]; ring

/-- Cut along the last of three axes. -/
theorem stacked_last (f : Fin 8 → (⟨3, ![a, b, c]⟩ : Shape).Idx → T) (G : (⟨3, ![a, b, n]⟩ : Shape).Idx → T)
    (h : Layout.Tiles ⟨3, ![a, b, c]⟩ ⟨3, ![a, b, n]⟩ 2 8) (hs : (⟨3, ![a, b, n]⟩ : Shape).ShapeCasts ⟨4, ![a, b, 8, c]⟩)
    (ht : (⟨4, ![a, b, 8, c]⟩ : Shape).Transposes [2, 0, 1, 3] ⟨4, ![8, a, b, c]⟩)
    (hf : ∀ d, f d = Layout.block ⟨3, ![a, b, c]⟩ ⟨3, ![a, b, n]⟩ 2 8 d G h) (hn : n = 8 * c) :
    stacked (t := ⟨3, ![a, b, c]⟩) f = transpose ⟨4, ![8, a, b, c]⟩ [2, 0, 1, 3] (shapeCast ⟨4, ![a, b, 8, c]⟩ G hs) ht := by
  funext i
  obtain ⟨d, hd⟩ : ∃ d : Fin 8, d = i 0 := ⟨_, rfl⟩
  have hv : d.val = (i 0).val := congrArg Fin.val hd
  have hi : (fun x : Fin 3 => i x.succ) = (ix3 (i 1) (i 2) (i 3) : (⟨3, ![a, b, c]⟩ : Shape).Idx) := by
    funext x; match x with | 0 => rfl | 1 => rfl | 2 => rfl
  refine (congr (hf (i 0)) hi).trans ?_
  rw [← hd, Layout.block_apply]
  rw [transpose_apply _ _ ht _ (ix4 (i 1) (i 2) (i 0) (i 3)) (by intro x; match x with | 0 => rfl | 1 => rfl | 2 => rfl | 3 => rfl)]
  refine (shapeCast_apply _ hs _ _ ?_).symm
  rw [Shape.rowMajor_val_three, Shape.rowMajor_val_four, Layout.Tiles.idx_val, Layout.Tiles.idx_val, Layout.Tiles.idx_val]
  subst hn
  show ((i 1).val * b + (i 2).val) * (8 * c) + (d.val * c + (i 3).val) = (((i 1).val * b + (i 2).val) * 8 + (i 0).val) * c + (i 3).val
  rw [hv]; ring

end Cert.Exchange

end
-- ==== Proof.Weights.lean ====
/-
The gather of the weights' shards: six arrays of each device, each stacked on every device.
-/
module

public import proofs.«01_k».proof.Proof.Gather
public import proofs.«01_k».proof.Proof.Stacked
public import proofs.«01_k».proof.Proof.Gen.GatherWeightsIdeal.Points

@[expose] public section

noncomputable section

namespace Cert.GatherOfWeights

open Cert.GatherWeightsIdeal Cert.GatherWeightsIdeal.Gen Cert.Exchange
open Idealize.ShloMosaic
open Idealize.ShloMosaic.TcCoe
open Idealize.SL.Sem

variable {F : FTy → Type} [FloatOps F]

/-! ## The arrays, by shape -/

theorem at_slot {a b c : ℕ} {off : Dev nD → Fin 4 → ℕ} (h : ∀ d, off d = ![4 * (d.val / 4) + 2 * ((d.val / 2) % 2) + d.val % 2, 0, 0, 0]) :
    AtSlot (t := ⟨3, ![a, b, c]⟩) off := fun d => by
  rw [h]
  exact ⟨by show 4 * (d.val / 4) + 2 * ((d.val / 2) % 2) + d.val % 2 = d.val; omega, fun x => by fin_cases x <;> rfl⟩

def stackA (a : Memref sig .tc .hbm S2x1024x800 .bf16) (b : Memref sig .tc .hbm S8x2x1024x800 .bf16) (ha : a.IsWhole) (hb : b.IsWhole)
    (hsc : b.view.ref.isScScratch = false) (hN : ∀ d, (slotView (t := S2x1024x800) b (k0_off1 d) (k0_off1_inb d) squeezes_S1x2x1024x800_S2x1024x800).view.dmaCredit = a.view.dmaCredit) : Stack sig where
  s := S2x1024x800
  e := .bf16
  src := a
  dst := b
  hsrc := ha
  hdst := hb
  off := k0_off1
  inb := k0_off1_inb
  at_slot := at_slot k0_off1_eq
  hq := squeezes_S1x2x1024x800_S2x1024x800
  word d := (hb.wordExact_slice rfl _ (k0_off1_wordsbf16 d)).reshape _ _
  hsc := hsc
  credit := hN
  pos := View.dmaCredit_pos _ (by decide +kernel)

def stackB (a : Memref sig .tc .hbm S2x64x512 .bf16) (b : Memref sig .tc .hbm S8x2x64x512 .bf16) (ha : a.IsWhole) (hb : b.IsWhole)
    (hsc : b.view.ref.isScScratch = false) (hN : ∀ d, (slotView (t := S2x64x512) b (k0_off2 d) (k0_off2_inb d) squeezes_S1x2x64x512_S2x64x512).view.dmaCredit = a.view.dmaCredit) : Stack sig where
  s := S2x64x512
  e := .bf16
  src := a
  dst := b
  hsrc := ha
  hdst := hb
  off := k0_off2
  inb := k0_off2_inb
  at_slot := at_slot k0_off2_eq
  hq := squeezes_S1x2x64x512_S2x64x512
  word d := (hb.wordExact_slice rfl _ (k0_off2_wordsbf16 d)).reshape _ _
  hsc := hsc
  credit := hN
  pos := View.dmaCredit_pos _ (by decide +kernel)

def stackC (a : Memref sig .tc .hbm S2x512x128 .bf16) (b : Memref sig .tc .hbm S8x2x512x128 .bf16) (ha : a.IsWhole) (hb : b.IsWhole)
    (hsc : b.view.ref.isScScratch = false) (hN : ∀ d, (slotView (t := S2x512x128) b (k0_off3 d) (k0_off3_inb d) squeezes_S1x2x512x128_S2x512x128).view.dmaCredit = a.view.dmaCredit) : Stack sig where
  s := S2x512x128
  e := .bf16
  src := a
  dst := b
  hsrc := ha
  hdst := hb
  off := k0_off3
  inb := k0_off3_inb
  at_slot := at_slot k0_off3_eq
  hq := squeezes_S1x2x512x128_S2x512x128
  word d := (hb.wordExact_slice rfl _ (k0_off3_wordsbf16 d)).reshape _ _
  hsc := hsc
  credit := hN
  pos := View.dmaCredit_pos _ (by decide +kernel)

def stackD (a : Memref sig .tc .hbm S2x128x1024 .bf16) (b : Memref sig .tc .hbm S8x2x128x1024 .bf16) (ha : a.IsWhole) (hb : b.IsWhole)
    (hsc : b.view.ref.isScScratch = false) (hN : ∀ d, (slotView (t := S2x128x1024) b (k0_off4 d) (k0_off4_inb d) squeezes_S1x2x128x1024_S2x128x1024).view.dmaCredit = a.view.dmaCredit) : Stack sig where
  s := S2x128x1024
  e := .bf16
  src := a
  dst := b
  hsrc := ha
  hdst := hb
  off := k0_off4
  inb := k0_off4_inb
  at_slot := at_slot k0_off4_eq
  hq := squeezes_S1x2x128x1024_S2x128x1024
  word d := (hb.wordExact_slice rfl _ (k0_off4_wordsbf16 d)).reshape _ _
  hsc := hsc
  credit := hN
  pos := View.dmaCredit_pos _ (by decide +kernel)

/-- The six arrays. -/
def stack : Fin 6 → Stack sig
  | 0 => stackA (Memref.whole main_arg0) (Memref.whole main_v1_0) (Memref.isWhole_whole _) (Memref.isWhole_whole _) rfl fun _ => rfl
  | 1 => stackB (Memref.whole main_arg1) (Memref.whole main_v1_1) (Memref.isWhole_whole _) (Memref.isWhole_whole _) rfl fun _ => rfl
  | 2 => stackC (Memref.whole main_arg2) (Memref.whole main_v1_2) (Memref.isWhole_whole _) (Memref.isWhole_whole _) rfl fun _ => rfl
  | 3 => stackC (Memref.whole main_arg3) (Memref.whole main_v1_3) (Memref.isWhole_whole _) (Memref.isWhole_whole _) rfl fun _ => rfl
  | 4 => stackC (Memref.whole main_arg4) (Memref.whole main_v1_4) (Memref.isWhole_whole _) (Memref.isWhole_whole _) rfl fun _ => rfl
  | 5 => stackD (Memref.whole main_arg5) (Memref.whole main_v1_5) (Memref.isWhole_whole _) (Memref.isWhole_whole _) rfl fun _ => rfl

/-- The arguments and the results. -/
def refs : Fin 6 ⊕ Fin 6 → Ref sig .tc :=
  Sum.elim ![main_arg0, main_arg1, main_arg2, main_arg3, main_arg4, main_arg5] ![main_v1_0, main_v1_1, main_v1_2, main_v1_3, main_v1_4, main_v1_5]

theorem refs_eq : Sum.elim (fun k => (stack k).src.view.ref) (fun k => (stack k).dst.view.ref) = refs := by
  funext x
  rcases x with k | k <;> fin_cases k <;> rfl

def gather : Gather sig 6 where
  stack := stack
  sem := semOf cc0_scratch0 cc0_scratch1 cc0_scratch2
  sem_inj := semOf_inj _ _ _ (by decide +kernel)
  order := order₆
  inj := by rw [refs_eq]; decide +kernel
  cover := by rw [refs_eq]; decide +kernel
  scopes := by decide +kernel

/-! ## The printed body -/

/-- The device that the printed transfer of round `r`, array `k` names. -/
def named (d : Dev nD) : Fin 7 → Fin 6 → Dev nD := ![
  ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩, ⟨k0_dev6 d, k0_dev6_lt d⟩],
  ![⟨k0_dev7 d, k0_dev7_lt d⟩, ⟨k0_dev8 d, k0_dev8_lt d⟩, ⟨k0_dev9 d, k0_dev9_lt d⟩, ⟨k0_dev10 d, k0_dev10_lt d⟩, ⟨k0_dev11 d, k0_dev11_lt d⟩, ⟨k0_dev12 d, k0_dev12_lt d⟩],
  ![⟨k0_dev13 d, k0_dev13_lt d⟩, ⟨k0_dev14 d, k0_dev14_lt d⟩, ⟨k0_dev15 d, k0_dev15_lt d⟩, ⟨k0_dev16 d, k0_dev16_lt d⟩, ⟨k0_dev17 d, k0_dev17_lt d⟩, ⟨k0_dev18 d, k0_dev18_lt d⟩],
  ![⟨k0_dev19 d, k0_dev19_lt d⟩, ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩],
  ![⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩, ⟨k0_dev30 d, k0_dev30_lt d⟩],
  ![⟨k0_dev31 d, k0_dev31_lt d⟩, ⟨k0_dev32 d, k0_dev32_lt d⟩, ⟨k0_dev33 d, k0_dev33_lt d⟩, ⟨k0_dev34 d, k0_dev34_lt d⟩, ⟨k0_dev35 d, k0_dev35_lt d⟩, ⟨k0_dev36 d, k0_dev36_lt d⟩],
  ![⟨k0_dev37 d, k0_dev37_lt d⟩, ⟨k0_dev38 d, k0_dev38_lt d⟩, ⟨k0_dev39 d, k0_dev39_lt d⟩, ⟨k0_dev40 d, k0_dev40_lt d⟩, ⟨k0_dev41 d, k0_dev41_lt d⟩, ⟨k0_dev42 d, k0_dev42_lt d⟩]]

theorem named_eq : ∀ (d : Dev nD) (r : Fin 7) (k : Fin 6), named d r k = peer r d := by decide +kernel

set_option maxRecDepth 65536 in
theorem body_printed (t : Fin cfg0.N) : bodyAt0 (F := F) t = .op .deviceId fun d => gather.named named d (.ret ⟨⟩) := rfl

set_option maxRecDepth 65536 in
theorem body_at (t : Fin cfg0.N) : defs₀ (F := F) .tc cfg0.body (cfg0.bodyArgs t (cfg0.slots t)) = .op .deviceId fun d => gather.named named d (.ret ⟨⟩) :=
  Eq.trans (by delta defs₀; rfl) (body_printed t)

/-! ## The run -/

variable (m : (ℓ : Loc nD τ sig) → Buf (Elt F) ℓ) (ρ : Dev nD → PrngReg)

theorem run_main :
    θ_run (defs (F := F)) (onTc main) ⟨m, fun _ => 0, ρ⟩ fun r =>
      (∀ (c : Dev nD) (k : Fin 6), r.2.mem ((stack k).src.view.loc (c : Thread nD τ)) = m ((stack k).src.view.loc (c : Thread nD τ))
        ∧ (stack k).dst.view.read (Elt F) (r.2.mem ((stack k).dst.view.loc (c : Thread nD τ))) = stacked (gather.given m k))
      ∧ ∀ g, r.2.sem g = 0 :=
  gather.run (F := F) m ρ (Λ₀ := Λ₀) (body := 0) (fun t s => (t, s)) defs₀ (v := PUnit.unit) named named_eq body_at

/-- A whole array cut along its last axis: the stack of its eight shards. -/
abbrev cols {T : Type} (a b n c : ℕ) (G : (⟨3, ![a, b, n]⟩ : Shape).Idx → T) (hs : (⟨3, ![a, b, n]⟩ : Shape).ShapeCasts ⟨4, ![a, b, 8, c]⟩ := by decide)
    (ht : (⟨4, ![a, b, 8, c]⟩ : Shape).Transposes [2, 0, 1, 3] ⟨4, ![8, a, b, c]⟩ := by decide) : (⟨4, ![8, a, b, c]⟩ : Shape).Idx → T :=
  transpose ⟨4, ![8, a, b, c]⟩ [2, 0, 1, 3] (shapeCast ⟨4, ![a, b, 8, c]⟩ G hs) ht

/-- A whole array cut along its middle axis. -/
abbrev rows {T : Type} (a n b c : ℕ) (G : (⟨3, ![a, n, c]⟩ : Shape).Idx → T) (hs : (⟨3, ![a, n, c]⟩ : Shape).ShapeCasts ⟨4, ![a, 8, b, c]⟩ := by decide)
    (ht : (⟨4, ![a, 8, b, c]⟩ : Shape).Transposes [1, 0, 2, 3] ⟨4, ![8, a, b, c]⟩ := by decide) : (⟨4, ![8, a, b, c]⟩ : Shape).Idx → T :=
  transpose ⟨4, ![8, a, b, c]⟩ [1, 0, 2, 3] (shapeCast ⟨4, ![a, 8, b, c]⟩ G hs) ht

/-- From the devices' blocks of six whole arrays, every device ends with the stacks of the blocks. -/
theorem run_blocks
    (G0 : (⟨3, ![2, 1024, 6400]⟩ : Shape).Idx → Elt F .bf16)
    (G1 : (⟨3, ![2, 512, 512]⟩ : Shape).Idx → Elt F .bf16)
    (G2 : (⟨3, ![2, 512, 1024]⟩ : Shape).Idx → Elt F .bf16)
    (G3 : (⟨3, ![2, 512, 1024]⟩ : Shape).Idx → Elt F .bf16)
    (G4 : (⟨3, ![2, 512, 1024]⟩ : Shape).Idx → Elt F .bf16)
    (G5 : (⟨3, ![2, 1024, 1024]⟩ : Shape).Idx → Elt F .bf16)
    (hag : ∀ c : Dev nD,
      m ((c.tc : Thread nD τ).loc main_arg0) = Layout.block ⟨3, ![2, 1024, 800]⟩ ⟨3, ![2, 1024, 6400]⟩ 2 8 c G0
      ∧ m ((c.tc : Thread nD τ).loc main_arg1) = Layout.block ⟨3, ![2, 64, 512]⟩ ⟨3, ![2, 512, 512]⟩ 1 8 c G1
      ∧ m ((c.tc : Thread nD τ).loc main_arg2) = Layout.block ⟨3, ![2, 512, 128]⟩ ⟨3, ![2, 512, 1024]⟩ 2 8 c G2
      ∧ m ((c.tc : Thread nD τ).loc main_arg3) = Layout.block ⟨3, ![2, 512, 128]⟩ ⟨3, ![2, 512, 1024]⟩ 2 8 c G3
      ∧ m ((c.tc : Thread nD τ).loc main_arg4) = Layout.block ⟨3, ![2, 512, 128]⟩ ⟨3, ![2, 512, 1024]⟩ 2 8 c G4
      ∧ m ((c.tc : Thread nD τ).loc main_arg5) = Layout.block ⟨3, ![2, 128, 1024]⟩ ⟨3, ![2, 1024, 1024]⟩ 1 8 c G5) :
    θ_run (defs (F := F)) (onTc main) ⟨m, fun _ => 0, ρ⟩ fun r => ∀ c : Dev nD,
      r.2.mem ((c.tc : Thread nD τ).loc main_v1_0) = cols 2 1024 6400 800 G0
      ∧ r.2.mem ((c.tc : Thread nD τ).loc main_v1_1) = rows 2 512 64 512 G1
      ∧ r.2.mem ((c.tc : Thread nD τ).loc main_v1_2) = cols 2 512 1024 128 G2
      ∧ r.2.mem ((c.tc : Thread nD τ).loc main_v1_3) = cols 2 512 1024 128 G3
      ∧ r.2.mem ((c.tc : Thread nD τ).loc main_v1_4) = cols 2 512 1024 128 G4
      ∧ r.2.mem ((c.tc : Thread nD τ).loc main_v1_5) = rows 2 1024 128 1024 G5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
    (h.1 c 0).2.trans (stacked_last _ G0 _ _ _ (fun d => (hag d).1) rfl),
    (h.1 c 1).2.trans (stacked_mid _ G1 _ _ _ (fun d => (hag d).2.1) rfl),
    (h.1 c 2).2.trans (stacked_last _ G2 _ _ _ (fun d => (hag d).2.2.1) rfl),
    (h.1 c 3).2.trans (stacked_last _ G3 _ _ _ (fun d => (hag d).2.2.2.1) rfl),
    (h.1 c 4).2.trans (stacked_last _ G4 _ _ _ (fun d => (hag d).2.2.2.2.1) rfl),
    (h.1 c 5).2.trans (stacked_mid _ G5 _ _ _ (fun d => (hag d).2.2.2.2.2) rfl),
    (h.1 c 0).1,
    (h.1 c 1).1,
    (h.1 c 2).1,
    (h.1 c 3).1,
    (h.1 c 4).1,
    (h.1 c 5).1⟩) (run_main m ρ)

end Cert.GatherOfWeights

end
-- ==== Proof.Small.lean ====
/-
The gather of the packed small parameters: 3264 rows of each device, stacked on every device.
-/
module

public import proofs.«01_k».proof.Proof.Gather
public import proofs.«01_k».proof.Proof.Stacked
public import proofs.«01_k».proof.Proof.Gen.GatherSmallIdeal.Points

@[expose] public section

noncomputable section

namespace Cert.GatherOfSmall

open Cert.GatherSmallIdeal Cert.GatherSmallIdeal.Gen Cert.Exchange
open Idealize.ShloMosaic
open Idealize.ShloMosaic.TcCoe
open Idealize.SL.Sem

variable {F : FTy → Type} [FloatOps F]

theorem at_slot : AtSlot (t := S3264x128) k0_off1 := fun d => by
  rw [k0_off1_eq]
  exact ⟨by show 4 * (d.val / 4) + 2 * ((d.val / 2) % 2) + d.val % 2 = d.val; omega, fun x => by fin_cases x <;> rfl⟩

def stack : Stack sig where
  s := S3264x128
  e := .f32
  src := Memref.whole main_arg0
  dst := Memref.whole main_v1
  hsrc := Memref.isWhole_whole _
  hdst := Memref.isWhole_whole _
  off := k0_off1
  inb := k0_off1_inb
  at_slot := at_slot
  hq := squeezes_S1x3264x128_S3264x128
  word _ := (View.wordExact_bits rfl).reshape _ _
  hsc := rfl
  credit _ := rfl
  pos := View.dmaCredit_pos _ (by decide +kernel)

def gather : Gather sig 1 where
  stack _ := stack
  sem := semOf cc0_scratch0 cc0_scratch1 cc0_scratch2
  sem_inj := semOf_inj _ _ _ (by decide +kernel)
  order := order₁
  inj := by decide
  cover := by decide
  scopes := by decide

/-- The device that the printed transfer of a round names. -/
def named (d : Dev nD) (r : Fin 7) (_ : Fin 1) : Dev nD :=
  (![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩] : Fin 7 → Dev nD) r

theorem named_eq : ∀ (d : Dev nD) (r : Fin 7) (k : Fin 1), named d r k = peer r d := by decide +kernel

set_option maxRecDepth 65536 in
theorem body_printed (t : Fin cfg0.N) : bodyAt0 (F := F) t = .op .deviceId fun d => gather.named named d (.ret ⟨⟩) := rfl

set_option maxRecDepth 65536 in
theorem body_at (t : Fin cfg0.N) : defs₀ (F := F) .tc cfg0.body (cfg0.bodyArgs t (cfg0.slots t)) = .op .deviceId fun d => gather.named named d (.ret ⟨⟩) :=
  Eq.trans (by delta defs₀; rfl) (body_printed t)

/-- The run: the argument as it was, the result the stack, every semaphore at zero. -/
theorem run_main (m : (ℓ : Loc nD τ sig) → Buf (Elt F) ℓ) (ρ : Dev nD → PrngReg) :
    θ_run (defs (F := F)) (onTc main) ⟨m, fun _ => 0, ρ⟩ fun r =>
      (∀ c : Dev nD, r.2.mem ((c : Thread nD τ).loc main_arg0) = m ((c : Thread nD τ).loc main_arg0)
        ∧ r.2.mem ((c : Thread nD τ).loc main_v1) = stacked (t := S3264x128) fun d : Dev nD => m ((d : Thread nD τ).loc main_arg0))
      ∧ ∀ g, r.2.sem g = 0 :=
  have h := gather.run (F := F) m ρ (Λ₀ := Λ₀) (body := 0) (fun t s => (t, s)) defs₀ (v := PUnit.unit) named named_eq body_at
  (θ_run defs _ _).mono (fun r h => ⟨fun c => h.1 c 0, h.2⟩) h

/-- From the devices' blocks of a whole array, every device ends with the eight blocks. -/
theorem run_blocks (m : (ℓ : Loc nD τ sig) → Buf (Elt F) ℓ) (ρ : Dev nD → PrngReg) (G : (⟨2, ![26112, 128]⟩ : Shape).Idx → Elt F .f32)
    (hs : (⟨2, ![26112, 128]⟩ : Shape).ShapeCasts ⟨3, ![8, 3264, 128]⟩)
    (hag : ∀ c : Dev nD, m ((c.tc : Thread nD τ).loc main_arg0) = Layout.block ⟨2, ![3264, 128]⟩ ⟨2, ![26112, 128]⟩ 0 8 c G) :
    θ_run (defs (F := F)) (onTc main) ⟨m, fun _ => 0, ρ⟩ fun r => ∀ c : Dev nD,
      r.2.mem ((c.tc : Thread nD τ).loc main_v1) = shapeCast ⟨3, ![8, 3264, 128]⟩ G hs
      ∧ r.2.mem ((c.tc : Thread nD τ).loc main_arg0) = m ((c.tc : Thread nD τ).loc main_arg0) :=
  (θ_run defs _ _).mono (fun r h c => ⟨(h.1 c).2.trans (stacked_rows _ G _ hs hag), (h.1 c).1⟩) (run_main m ρ)

end Cert.GatherOfSmall

end
-- ==== Proof.Mod.lean ====
/-
The gather of the modulation table: sixteen rows of each device, stacked on every device.
-/
module

public import proofs.«01_k».proof.Proof.Gather
public import proofs.«01_k».proof.Proof.Stacked
public import proofs.«01_k».proof.Proof.Gen.GatherModIdeal.Points

@[expose] public section

noncomputable section

namespace Cert.GatherOfMod

open Cert.GatherModIdeal Cert.GatherModIdeal.Gen Cert.Exchange
open Idealize.ShloMosaic
open Idealize.ShloMosaic.TcCoe
open Idealize.SL.Sem

variable {F : FTy → Type} [FloatOps F]

theorem at_slot : AtSlot (t := S16x384) k0_off1 := fun d => by
  rw [k0_off1_eq]
  exact ⟨by show 4 * (d.val / 4) + 2 * ((d.val / 2) % 2) + d.val % 2 = d.val; omega, fun x => by fin_cases x <;> rfl⟩

def stack : Stack sig where
  s := S16x384
  e := .f32
  src := Memref.whole main_arg0
  dst := Memref.whole main_v1
  hsrc := Memref.isWhole_whole _
  hdst := Memref.isWhole_whole _
  off := k0_off1
  inb := k0_off1_inb
  at_slot := at_slot
  hq := squeezes_S1x16x384_S16x384
  word _ := (View.wordExact_bits rfl).reshape _ _
  hsc := rfl
  credit _ := rfl
  pos := View.dmaCredit_pos _ (by decide +kernel)

def gather : Gather sig 1 where
  stack _ := stack
  sem := semOf cc0_scratch0 cc0_scratch1 cc0_scratch2
  sem_inj := semOf_inj _ _ _ (by decide +kernel)
  order := order₁
  inj := by decide
  cover := by decide
  scopes := by decide

/-- The device that the printed transfer of a round names. -/
def named (d : Dev nD) (r : Fin 7) (_ : Fin 1) : Dev nD :=
  (![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩] : Fin 7 → Dev nD) r

theorem named_eq : ∀ (d : Dev nD) (r : Fin 7) (k : Fin 1), named d r k = peer r d := by decide +kernel

set_option maxRecDepth 65536 in
theorem body_printed (t : Fin cfg0.N) : bodyAt0 (F := F) t = .op .deviceId fun d => gather.named named d (.ret ⟨⟩) := rfl

set_option maxRecDepth 65536 in
theorem body_at (t : Fin cfg0.N) : defs₀ (F := F) .tc cfg0.body (cfg0.bodyArgs t (cfg0.slots t)) = .op .deviceId fun d => gather.named named d (.ret ⟨⟩) :=
  Eq.trans (by delta defs₀; rfl) (body_printed t)

/-- The run: the argument as it was, the result the stack, every semaphore at zero. -/
theorem run_main (m : (ℓ : Loc nD τ sig) → Buf (Elt F) ℓ) (ρ : Dev nD → PrngReg) :
    θ_run (defs (F := F)) (onTc main) ⟨m, fun _ => 0, ρ⟩ fun r =>
      (∀ c : Dev nD, r.2.mem ((c : Thread nD τ).loc main_arg0) = m ((c : Thread nD τ).loc main_arg0)
        ∧ r.2.mem ((c : Thread nD τ).loc main_v1) = stacked (t := S16x384) fun d : Dev nD => m ((d : Thread nD τ).loc main_arg0))
      ∧ ∀ g, r.2.sem g = 0 :=
  have h := gather.run (F := F) m ρ (Λ₀ := Λ₀) (body := 0) (fun t s => (t, s)) defs₀ (v := PUnit.unit) named named_eq body_at
  (θ_run defs _ _).mono (fun r h => ⟨fun c => h.1 c 0, h.2⟩) h

/-- From the devices' blocks of a whole array, every device ends with the eight blocks. -/
theorem run_blocks (m : (ℓ : Loc nD τ sig) → Buf (Elt F) ℓ) (ρ : Dev nD → PrngReg) (G : (⟨2, ![128, 384]⟩ : Shape).Idx → Elt F .f32)
    (hs : (⟨2, ![128, 384]⟩ : Shape).ShapeCasts ⟨3, ![8, 16, 384]⟩)
    (hag : ∀ c : Dev nD, m ((c.tc : Thread nD τ).loc main_arg0) = Layout.block ⟨2, ![16, 384]⟩ ⟨2, ![128, 384]⟩ 0 8 c G) :
    θ_run (defs (F := F)) (onTc main) ⟨m, fun _ => 0, ρ⟩ fun r => ∀ c : Dev nD,
      r.2.mem ((c.tc : Thread nD τ).loc main_v1) = shapeCast ⟨3, ![8, 16, 384]⟩ G hs
      ∧ r.2.mem ((c.tc : Thread nD τ).loc main_arg0) = m ((c.tc : Thread nD τ).loc main_arg0) :=
  (θ_run defs _ _).mono (fun r h c => ⟨(h.1 c).2.trans (stacked_rows _ G _ hs hag), (h.1 c).1⟩) (run_main m ρ)

end Cert.GatherOfMod

end
-- ==== Proof.C.lean ====
/-
The gather of the shares of the 64-row array `c`: eight rows of each device, stacked on every device.
-/
module

public import proofs.«01_k».proof.Proof.Gather
public import proofs.«01_k».proof.Proof.Stacked
public import proofs.«01_k».proof.Proof.Gen.GatherCIdeal.Points

@[expose] public section

noncomputable section

namespace Cert.GatherOfC

open Cert.GatherCIdeal Cert.GatherCIdeal.Gen Cert.Exchange
open Idealize.ShloMosaic
open Idealize.ShloMosaic.TcCoe
open Idealize.SL.Sem

variable {F : FTy → Type} [FloatOps F]

theorem at_slot : AtSlot (t := S8x128) k0_off1 := fun d => by
  rw [k0_off1_eq]
  exact ⟨by show 4 * (d.val / 4) + 2 * ((d.val / 2) % 2) + d.val % 2 = d.val; omega, fun x => by fin_cases x <;> rfl⟩

def stack : Stack sig where
  s := S8x128
  e := .f32
  src := Memref.whole main_arg0
  dst := Memref.whole main_v1
  hsrc := Memref.isWhole_whole _
  hdst := Memref.isWhole_whole _
  off := k0_off1
  inb := k0_off1_inb
  at_slot := at_slot
  hq := squeezes_S1x8x128_S8x128
  word _ := (View.wordExact_bits rfl).reshape _ _
  hsc := rfl
  credit _ := rfl
  pos := View.dmaCredit_pos _ (by decide +kernel)

def gather : Gather sig 1 where
  stack _ := stack
  sem := semOf cc0_scratch0 cc0_scratch1 cc0_scratch2
  sem_inj := semOf_inj _ _ _ (by decide +kernel)
  order := order₁
  inj := by decide
  cover := by decide
  scopes := by decide

/-- The device that the printed transfer of a round names. -/
def named (d : Dev nD) (r : Fin 7) (_ : Fin 1) : Dev nD :=
  (![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩] : Fin 7 → Dev nD) r

theorem named_eq : ∀ (d : Dev nD) (r : Fin 7) (k : Fin 1), named d r k = peer r d := by decide +kernel

set_option maxRecDepth 65536 in
theorem body_printed (t : Fin cfg0.N) : bodyAt0 (F := F) t = .op .deviceId fun d => gather.named named d (.ret ⟨⟩) := rfl

set_option maxRecDepth 65536 in
theorem body_at (t : Fin cfg0.N) : defs₀ (F := F) .tc cfg0.body (cfg0.bodyArgs t (cfg0.slots t)) = .op .deviceId fun d => gather.named named d (.ret ⟨⟩) :=
  Eq.trans (by delta defs₀; rfl) (body_printed t)

/-- The run: the argument as it was, the result the stack, every semaphore at zero. -/
theorem run_main (m : (ℓ : Loc nD τ sig) → Buf (Elt F) ℓ) (ρ : Dev nD → PrngReg) :
    θ_run (defs (F := F)) (onTc main) ⟨m, fun _ => 0, ρ⟩ fun r =>
      (∀ c : Dev nD, r.2.mem ((c : Thread nD τ).loc main_arg0) = m ((c : Thread nD τ).loc main_arg0)
        ∧ r.2.mem ((c : Thread nD τ).loc main_v1) = stacked (t := S8x128) fun d : Dev nD => m ((d : Thread nD τ).loc main_arg0))
      ∧ ∀ g, r.2.sem g = 0 :=
  have h := gather.run (F := F) m ρ (Λ₀ := Λ₀) (body := 0) (fun t s => (t, s)) defs₀ (v := PUnit.unit) named named_eq body_at
  (θ_run defs _ _).mono (fun r h => ⟨fun c => h.1 c 0, h.2⟩) h

/-- From the devices' blocks of a whole array, every device ends with the eight blocks. -/
theorem run_blocks (m : (ℓ : Loc nD τ sig) → Buf (Elt F) ℓ) (ρ : Dev nD → PrngReg) (G : (⟨2, ![64, 128]⟩ : Shape).Idx → Elt F .f32)
    (hs : (⟨2, ![64, 128]⟩ : Shape).ShapeCasts ⟨3, ![8, 8, 128]⟩)
    (hag : ∀ c : Dev nD, m ((c.tc : Thread nD τ).loc main_arg0) = Layout.block ⟨2, ![8, 128]⟩ ⟨2, ![64, 128]⟩ 0 8 c G) :
    θ_run (defs (F := F)) (onTc main) ⟨m, fun _ => 0, ρ⟩ fun r => ∀ c : Dev nD,
      r.2.mem ((c.tc : Thread nD τ).loc main_v1) = shapeCast ⟨3, ![8, 8, 128]⟩ G hs
      ∧ r.2.mem ((c.tc : Thread nD τ).loc main_arg0) = m ((c.tc : Thread nD τ).loc main_arg0) :=
  (θ_run defs _ _).mono (fun r h c => ⟨(h.1 c).2.trans (stacked_rows _ G _ hs hag), (h.1 c).1⟩) (run_main m ρ)

end Cert.GatherOfC

end
-- ==== Proof.AdamW.lean ====
/- One AdamW step at `Ideal`, elementwise, as reference.py computes it from the devices' gradients: the values that the
   update calls (Proof/Update*.lean) are shown to write. The kernel multiplies by reciprocals where the reference divides:
   the two factors of the kernel are named the reciprocals of the reference's divisors, and `mul_c1`, `mul_c2` turn the one
   into the other. -/
module

public import Idealize.ShloMosaic.Lib.Pipeline.ValueKit

@[expose] public section

noncomputable section

open Idealize.ShloMosaic

namespace Cert.AdamW

variable {p r c : Nat}

/-- Arrays of extended reals: one `r` by `c`, and a stack of `p` of them. -/
abbrev Mat (r c : Nat) := (⟨2, ![r, c]⟩ : Shape).Idx → EReal
abbrev Stack (p r c : Nat) := (⟨3, ![p, r, c]⟩ : Shape).Idx → EReal

/-- The gradient: the sum of the `p` parts. -/
def grad (g : Stack p r c) : Mat r c := fun i => ∑ k, g (ix3 k (i 0) (i 1))

/-- The first moment after the step. -/
def mean (g : Stack p r c) (m : Mat r c) : Mat r c := fun i =>
  Ideal.ofBits .f32 0x3F666666#32 * m i + Ideal.ofBits .f32 0x3DCCCCCD#32 * ∑ k, g (ix3 k (i 0) (i 1))

/-- The second moment after the step. -/
def var (g : Stack p r c) (v : Mat r c) : Mat r c := fun i =>
  Ideal.ofBits .f32 0x3F7FBE77#32 * v i
    + Ideal.ofBits .f32 0x3A83126F#32 * ((∑ k, g (ix3 k (i 0) (i 1))) * ∑ k, g (ix3 k (i 0) (i 1)))

/-- The change of the weight: the corrected first moment over the root of the corrected second one, and the decay. -/
def delta (w : Mat r c) (g : Stack p r c) (m v : Mat r c) : Mat r c := fun i =>
  Ideal.ofBits .f32 0xBA83126F#32 * (Ideal.div (Ideal.div (mean g m i) (Ideal.ofBits .f32 0x3F26BD02#32))
      (Ideal.sqrt (Ideal.div (var g v i) (Ideal.ofBits .f32 0x3C231ACC#32)) + Ideal.ofBits .f32 0x322BCC77#32)
    + Ideal.ofBits .f32 0x3C23D70A#32 * w i)

theorem divisor1 : Ideal.ofBits .f32 0x3F26BD02#32 = ((5463681 / 8388608 : ℝ) : EReal) := by
  simp [Ideal.ofBits, Ideal.ieee, -EReal.coe_mul]; norm_num

theorem divisor2 : Ideal.ofBits .f32 0x3C231ACC#32 = ((2672307 / 268435456 : ℝ) : EReal) := by
  simp [Ideal.ofBits, Ideal.ieee, -EReal.coe_mul]; norm_num

theorem mul_c1 {κ : String → Option EReal} (h : κ "c1" = some ((8388608 / 5463681 : ℝ) : EReal)) (x : EReal) :
    x * Named.named (F := Ideal) κ "c1" (φ := .f32) 0x3FC48605#32 = Ideal.div x (Ideal.ofBits .f32 0x3F26BD02#32) := by
  rw [divisor1, Ideal.div_coe (by norm_num), IdealRules.named_const.ideal_named_scalar _ _ _ _ h]; norm_num

theorem mul_c2 {κ : String → Option EReal} (h : κ "c2" = some ((268435456 / 2672307 : ℝ) : EReal)) (x : EReal) :
    x * Named.named (F := Ideal) κ "c2" (φ := .f32) 0x42C8E6D3#32 = Ideal.div x (Ideal.ofBits .f32 0x3C231ACC#32) := by
  rw [divisor2, Ideal.div_coe (by norm_num), IdealRules.named_const.ideal_named_scalar _ _ _ _ h]; norm_num

end Cert.AdamW

end
-- ==== Proof.SumSmall.lean ====
/- The call that adds the eight devices' small gradients: the array its pipeline leaves, and the reference's, are the sum. -/
module

public import proofs.«01_k».proof.Proof.AdamW
public import proofs.«01_k».proof.Proof.Gen.SumSmallIdeal.Frame
public import proofs.«01_k».proof.Proof.Gen.TotalIdeal.Run

@[expose] public section

set_option maxRecDepth 16384

noncomputable section

open Idealize.ShloMosaic Idealize.ShloMosaic.TcCoe Idealize.SL.Sem
open Idealize.ShloMosaic.Pipeline (Dat)

namespace Cert.SumSmallIdeal.Update

open Cert.SumSmallIdeal Cert.SumSmallIdeal.Gen

variable (m : (ℓ : Loc nD τ sig) → Buf (Elt Ideal) ℓ)

/-- Step `t` works on the `t`-th block of rows of both arrays. -/
theorem idx : ∀ t : Fin cfg0.N, win0_0.index t = ![0, t.val, 0] ∧ win0_1.index t = ![t.val, 0] :=
  (by decide +kernel : ∀ t : Fin grid0.N, _)

theorem array (c : Dev nD) : (dats m 0 c).arrAt 1 (cfgs 0).N = AdamW.grad (m ((c.tc : Thread nD τ).loc main_arg0)) := by
  refine (dats m 0 c).arrAt_eq_of_covers 1 _ (by decide +kernel) fun t _ y => ?_
  blk_simp
  rw [after0_1]
  frame_out
  pointwise [k0_pay1, AdamW.grad]
  simp only [Fin.sum_univ_eight]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0) = AdamW.grad (m ((c.tc : Thread nD τ).loc main_arg0))
    ∧ r.2.mem ((c.tc : Thread nD τ).loc main_arg0) = m ((c.tc : Thread nD τ).loc main_arg0)) :=
  (θ_run defs _ _).mono (fun _ h c => ⟨((h.1 c).1 1).trans (array m c), h.2 c⟩) (θ_run_and (run_main m ρ) (unchanged m ρ))

end Cert.SumSmallIdeal.Update

namespace Cert.TotalIdeal.Update

open Cert.TotalIdeal

variable (m : (ℓ : Loc nD τ sig) → Buf (Elt Ideal) ℓ)

theorem run (ρ : Dev nD → PrngReg) (g : Dev nD → AdamW.Stack 8 3264 128)
    (hag : ∀ c : Dev nD, m ((c.tc : Thread nD τ).loc main_arg0) = g c) :
    θ_run defs (onTc (τ := τ) (main (F := Ideal))) ⟨m, fun _ => 0, ρ⟩ (fun r => ∀ c : Dev nD,
      r.2.mem ((c.tc : Thread nD τ).loc main_v0) = AdamW.grad (g c)
      ∧ r.2.mem ((c.tc : Thread nD τ).loc main_arg0) = m ((c.tc : Thread nD τ).loc main_arg0)) := by
  refine (θ_run defs _ _).mono (fun _ h c => ⟨(h c).1.trans ?_, (h c).2⟩) (Value.run (F := Ideal) m ρ)
  simp only [hag c]
  funext i
  pointwise [AdamW.grad]

end Cert.TotalIdeal.Update

end
-- ==== Proof.UpdateIn.lean ====
/- The update call of `w_in`: the arrays its pipeline leaves, and the reference's, are the step of Proof/AdamW.lean. -/
module

public import proofs.«01_k».proof.Proof.AdamW
public import proofs.«01_k».proof.Proof.Gen.AdamInIdeal.Frame
public import proofs.«01_k».proof.Proof.Gen.StepInIdeal.Run

@[expose] public section

set_option maxRecDepth 16384

noncomputable section

open Idealize.ShloMosaic Idealize.ShloMosaic.TcCoe Idealize.SL.Sem
open Idealize.ShloMosaic.Pipeline (Dat)

namespace Cert.AdamInIdeal.Update

open Cert.AdamInIdeal Cert.AdamInIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay5, k0_pay4, k0_pay3, k0_pay2, k0_pay1, AdamW.grad, AdamW.delta, AdamW.mean, AdamW.var]
    simp only [Fin.sum_univ_eight, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamInIdeal.Update

namespace Cert.StepInIdeal.Update

open Cert.StepInIdeal

variable (m : (ℓ : Loc nD τ sig) → Buf (Elt Ideal) ℓ)

theorem run (ρ : Dev nD → PrngReg) (w a b : Dev nD → AdamW.Mat 2048 800) (g : Dev nD → AdamW.Stack 8 2048 800)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v1) = AdamW.grad (g c)
      ∧ r.2.mem ((c.tc : Thread nD τ).loc main_v25) = AdamW.delta (w c) (g c) (a c) (b c)
      ∧ r.2.mem ((c.tc : Thread nD τ).loc main_v6) = AdamW.mean (g c) (a c)
      ∧ r.2.mem ((c.tc : Thread nD τ).loc main_v12) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepInIdeal.Update

end
-- ==== Proof.UpdateGlu.lean ====
/- The update call of `w_glu`: the arrays its pipeline leaves, and the reference's, are the step of Proof/AdamW.lean. -/
module

public import proofs.«01_k».proof.Proof.AdamW
public import proofs.«01_k».proof.Proof.Gen.AdamGluIdeal.Frame
public import proofs.«01_k».proof.Proof.Gen.StepGluIdeal.Run

@[expose] public section

set_option maxRecDepth 16384

noncomputable section

open Idealize.ShloMosaic Idealize.ShloMosaic.TcCoe Idealize.SL.Sem
open Idealize.ShloMosaic.Pipeline (Dat)

namespace Cert.AdamGluIdeal.Update

open Cert.AdamGluIdeal Cert.AdamGluIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay5, k0_pay4, k0_pay3, k0_pay2, k0_pay1, AdamW.grad, AdamW.delta, AdamW.mean, AdamW.var]
    simp only [Fin.sum_univ_eight, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamGluIdeal.Update

namespace Cert.StepGluIdeal.Update

open Cert.StepGluIdeal

variable (m : (ℓ : Loc nD τ sig) → Buf (Elt Ideal) ℓ)

theorem run (ρ : Dev nD → PrngReg) (w a b : Dev nD → AdamW.Mat 128 512) (g : Dev nD → AdamW.Stack 8 128 512)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v1) = AdamW.grad (g c)
      ∧ r.2.mem ((c.tc : Thread nD τ).loc main_v25) = AdamW.delta (w c) (g c) (a c) (b c)
      ∧ r.2.mem ((c.tc : Thread nD τ).loc main_v6) = AdamW.mean (g c) (a c)
      ∧ r.2.mem ((c.tc : Thread nD τ).loc main_v12) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepGluIdeal.Update

end
-- ==== Proof.UpdateBranch.lean ====
/- The update call of `w_br_att`, `w_br_ssm` and `w_br_pool`: the arrays its pipeline leaves, and the reference's, are the step of Proof/AdamW.lean. -/
module

public import proofs.«01_k».proof.Proof.AdamW
public import proofs.«01_k».proof.Proof.Gen.AdamBranchIdeal.Frame
public import proofs.«01_k».proof.Proof.Gen.StepBranchIdeal.Run

@[expose] public section

set_option maxRecDepth 16384

noncomputable section

open Idealize.ShloMosaic Idealize.ShloMosaic.TcCoe Idealize.SL.Sem
open Idealize.ShloMosaic.Pipeline (Dat)

namespace Cert.AdamBranchIdeal.Update

open Cert.AdamBranchIdeal Cert.AdamBranchIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay5, k0_pay4, k0_pay3, k0_pay2, k0_pay1, AdamW.grad, AdamW.delta, AdamW.mean, AdamW.var]
    simp only [Fin.sum_univ_eight, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamBranchIdeal.Update

namespace Cert.StepBranchIdeal.Update

open Cert.StepBranchIdeal

variable (m : (ℓ : Loc nD τ sig) → Buf (Elt Ideal) ℓ)

theorem run (ρ : Dev nD → PrngReg) (w a b : Dev nD → AdamW.Mat 1024 128) (g : Dev nD → AdamW.Stack 8 1024 128)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v1) = AdamW.grad (g c)
      ∧ r.2.mem ((c.tc : Thread nD τ).loc main_v25) = AdamW.delta (w c) (g c) (a c) (b c)
      ∧ r.2.mem ((c.tc : Thread nD τ).loc main_v6) = AdamW.mean (g c) (a c)
      ∧ r.2.mem ((c.tc : Thread nD τ).loc main_v12) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepBranchIdeal.Update

end
-- ==== Proof.UpdateOut.lean ====
/- The update call of `w_out`: the arrays its pipeline leaves, and the reference's, are the step of Proof/AdamW.lean. -/
module

public import proofs.«01_k».proof.Proof.AdamW
public import proofs.«01_k».proof.Proof.Gen.AdamOutIdeal.Frame
public import proofs.«01_k».proof.Proof.Gen.StepOutIdeal.Run

@[expose] public section

set_option maxRecDepth 16384

noncomputable section

open Idealize.ShloMosaic Idealize.ShloMosaic.TcCoe Idealize.SL.Sem
open Idealize.ShloMosaic.Pipeline (Dat)

namespace Cert.AdamOutIdeal.Update

open Cert.AdamOutIdeal Cert.AdamOutIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay5, k0_pay4, k0_pay3, k0_pay2, k0_pay1, AdamW.grad, AdamW.delta, AdamW.mean, AdamW.var]
    simp only [Fin.sum_univ_eight, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamOutIdeal.Update

namespace Cert.StepOutIdeal.Update

open Cert.StepOutIdeal

variable (m : (ℓ : Loc nD τ sig) → Buf (Elt Ideal) ℓ)

theorem run (ρ : Dev nD → PrngReg) (w a b : Dev nD → AdamW.Mat 256 1024) (g : Dev nD → AdamW.Stack 8 256 1024)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v1) = AdamW.grad (g c)
      ∧ r.2.mem ((c.tc : Thread nD τ).loc main_v25) = AdamW.delta (w c) (g c) (a c) (b c)
      ∧ r.2.mem ((c.tc : Thread nD τ).loc main_v6) = AdamW.mean (g c) (a c)
      ∧ r.2.mem ((c.tc : Thread nD τ).loc main_v12) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepOutIdeal.Update

end
-- ==== Proof.UpdateAda.lean ====
/- The update call of `w_ada`: the arrays its pipeline leaves, and the reference's, are the step of Proof/AdamW.lean. -/
module

public import proofs.«01_k».proof.Proof.AdamW
public import proofs.«01_k».proof.Proof.Gen.AdamAdaIdeal.Frame
public import proofs.«01_k».proof.Proof.Gen.StepAdaIdeal.Run

@[expose] public section

set_option maxRecDepth 16384

noncomputable section

open Idealize.ShloMosaic Idealize.ShloMosaic.TcCoe Idealize.SL.Sem
open Idealize.ShloMosaic.Pipeline (Dat)

namespace Cert.AdamAdaIdeal.Update

open Cert.AdamAdaIdeal Cert.AdamAdaIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay4, k0_pay3, k0_pay2, k0_pay1, AdamW.grad, AdamW.delta, AdamW.mean, AdamW.var]
    simp only [Fin.sum_univ_one, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamAdaIdeal.Update

namespace Cert.StepAdaIdeal.Update

open Cert.StepAdaIdeal

variable (m : (ℓ : Loc nD τ sig) → Buf (Elt Ideal) ℓ)

theorem run (ρ : Dev nD → PrngReg) (w a b : Dev nD → AdamW.Mat 2048 384) (g : Dev nD → AdamW.Stack 1 2048 384)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v0) = AdamW.grad (g c)
      ∧ r.2.mem ((c.tc : Thread nD τ).loc main_v24) = AdamW.delta (w c) (g c) (a c) (b c)
      ∧ r.2.mem ((c.tc : Thread nD τ).loc main_v5) = AdamW.mean (g c) (a c)
      ∧ r.2.mem ((c.tc : Thread nD τ).loc main_v11) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepAdaIdeal.Update

end
-- ==== Proof.UpdatePack.lean ====
/- The update call of the packed small weights: the arrays its pipeline leaves, and the reference's, are the step of Proof/AdamW.lean. -/
module

public import proofs.«01_k».proof.Proof.AdamW
public import proofs.«01_k».proof.Proof.Gen.AdamPackIdeal.Frame
public import proofs.«01_k».proof.Proof.Gen.StepPackIdeal.Run

@[expose] public section

set_option maxRecDepth 16384

noncomputable section

open Idealize.ShloMosaic Idealize.ShloMosaic.TcCoe Idealize.SL.Sem
open Idealize.ShloMosaic.Pipeline (Dat)

namespace Cert.AdamPackIdeal.Update

open Cert.AdamPackIdeal Cert.AdamPackIdeal.Gen

variable (m : (ℓ : Loc nD τ sig) → Buf (Elt Ideal) ℓ)

/-- Step `t` works on the `t`-th block of rows of every array. -/
theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem arrays (c : Dev nD) :
    (dats m 0 c).arrAt 4 (cfgs 0).N = AdamW.grad (m ((c.tc : Thread nD τ).loc main_arg1))
    ∧ (dats m 0 c).arrAt 5 (cfgs 0).N = AdamW.delta (m ((c.tc : Thread nD τ).loc main_arg0))
      (m ((c.tc : Thread nD τ).loc main_arg1)) (m ((c.tc : Thread nD τ).loc main_arg2)) (m ((c.tc : Thread nD τ).loc main_arg3))
    ∧ (dats m 0 c).arrAt 6 (cfgs 0).N = AdamW.mean (m ((c.tc : Thread nD τ).loc main_arg1)) (m ((c.tc : Thread nD τ).loc main_arg2))
    ∧ (dats m 0 c).arrAt 7 (cfgs 0).N = AdamW.var (m ((c.tc : Thread nD τ).loc main_arg1)) (m ((c.tc : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  all_goals
    blk_simp
    first | rw [after0_4] | rw [after0_5] | rw [after0_6] | rw [after0_7]
    frame_out
    pointwise [k0_pay4, k0_pay3, k0_pay2, k0_pay1, AdamW.grad, AdamW.delta, AdamW.mean, AdamW.var]
    simp only [Fin.sum_univ_one, AdamW.mul_c1 (show κ "c1" = _ from rfl), AdamW.mul_c2 (show κ "c2" = _ from rfl)]
    blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = AdamW.grad (m ((c.tc : Thread nD τ).loc main_arg1))
    ∧ r.2.mem ((c.tc : Thread nD τ).loc main_v0_1) = AdamW.delta (m ((c.tc : Thread nD τ).loc main_arg0))
      (m ((c.tc : Thread nD τ).loc main_arg1)) (m ((c.tc : Thread nD τ).loc main_arg2)) (m ((c.tc : Thread nD τ).loc main_arg3))
    ∧ r.2.mem ((c.tc : Thread nD τ).loc main_v0_2) = AdamW.mean (m ((c.tc : Thread nD τ).loc main_arg1)) (m ((c.tc : Thread nD τ).loc main_arg2))
    ∧ r.2.mem ((c.tc : Thread nD τ).loc main_v0_3) = AdamW.var (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (arrays m c).1, ((h.1 c).1 5).trans (arrays m c).2.1,
    ((h.1 c).1 6).trans (arrays m c).2.2.1, ((h.1 c).1 7).trans (arrays m c).2.2.2, h.2 c⟩) (θ_run_and (run_main m ρ) (unchanged m ρ))

end Cert.AdamPackIdeal.Update

namespace Cert.StepPackIdeal.Update

open Cert.StepPackIdeal

variable (m : (ℓ : Loc nD τ sig) → Buf (Elt Ideal) ℓ)

theorem run (ρ : Dev nD → PrngReg) (w a b : Dev nD → AdamW.Mat 3264 128) (g : Dev nD → AdamW.Stack 1 3264 128)
    (hag : ∀ c : Dev nD, m ((c.tc : Thread nD τ).loc main_arg0) = w c ∧ m ((c.tc : Thread nD τ).loc main_arg1) = g c
      ∧ m ((c.tc : Thread nD τ).loc main_arg2) = a c ∧ m ((c.tc : Thread nD τ).loc main_arg3) = b c) :
    θ_run defs (onTc (τ := τ) (main (F := Ideal))) ⟨m, fun _ => 0, ρ⟩ (fun r => ∀ c : Dev nD,
      r.2.mem ((c.tc : Thread nD τ).loc main_v0) = AdamW.grad (g c)
      ∧ r.2.mem ((c.tc : Thread nD τ).loc main_v24) = AdamW.delta (w c) (g c) (a c) (b c)
      ∧ r.2.mem ((c.tc : Thread nD τ).loc main_v5) = AdamW.mean (g c) (a c)
      ∧ r.2.mem ((c.tc : Thread nD τ).loc main_v11) = AdamW.var (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    simp only [hag c]
    funext i
    pointwise [AdamW.grad, AdamW.delta, AdamW.mean, AdamW.var]

end Cert.StepPackIdeal.Update

end
-- ==== Proof.Products.lean ====
/- The products of two matrices at `Ideal`, as sums over the contracted lane: what the product calls (Proof/Product*.lean)
   are shown to write. -/
module

public import proofs.«01_k».proof.Proof.AdamW

@[expose] public section

noncomputable section

open Idealize.ShloMosaic Cert.AdamW

namespace Cert.Products

variable {r k c : Nat}

/-- `x w`, `x wᵀ` and `xᵀ y`. -/
def nn (x : Mat r k) (w : Mat k c) : Mat r c := fun i => ∑ l, x (ix2 (i 0) l) * w (ix2 l (i 1))
def nt (x : Mat r k) (w : Mat c k) : Mat r c := fun i => ∑ l, x (ix2 (i 0) l) * w (ix2 (i 1) l)
def tn (x : Mat k r) (y : Mat k c) : Mat r c := fun i => ∑ l, x (ix2 l (i 0)) * y (ix2 l (i 1))

end Cert.Products

end
-- ==== Proof.ProductForward.lean ====
/- The calls that multiply by a weight, or by its transpose: each step writes one block of the product whole. -/
module

public import proofs.«01_k».proof.Proof.Products
public import proofs.«01_k».proof.Proof.Gen.MmAdaFwdIdeal.Frame
public import proofs.«01_k».proof.Proof.Gen.TimesAdaFwdIdeal.Run
public import proofs.«01_k».proof.Proof.Gen.MmProjAIdeal.Frame
public import proofs.«01_k».proof.Proof.Gen.TimesProjAIdeal.Run
public import proofs.«01_k».proof.Proof.Gen.MmProjSIdeal.Frame
public import proofs.«01_k».proof.Proof.Gen.TimesProjSIdeal.Run
public import proofs.«01_k».proof.Proof.Gen.MmProjGIdeal.Frame
public import proofs.«01_k».proof.Proof.Gen.TimesProjGIdeal.Run
public import proofs.«01_k».proof.Proof.Gen.MmDyIdeal.Frame
public import proofs.«01_k».proof.Proof.Gen.TimesDyIdeal.Run

@[expose] public section

set_option maxRecDepth 16384

noncomputable section

open Idealize.ShloMosaic Idealize.ShloMosaic.TcCoe Idealize.SL.Sem
open Idealize.ShloMosaic.Pipeline (Dat)

namespace Cert.MmAdaFwdIdeal.Product

open Cert.MmAdaFwdIdeal Cert.MmAdaFwdIdeal.Gen

variable (m : (ℓ : Loc nD τ sig) → Buf (Elt Ideal) ℓ)

/-- The blocks of step `t`, which walks the blocks of a row of blocks of the result. -/
theorem idx : ∀ t : Fin cfg0.N, win0_0.index t = ![0, 0] ∧ win0_1.index t = ![0, 0] ∧ win0_2.index t = ![0, 0] :=
  (by decide +kernel : ∀ t : Fin grid0.N, _)

theorem array (c : Dev nD) : (dats m 0 c).arrAt 2 (cfgs 0).N
    = Products.nn (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  pointwise [k0_pay1, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.nn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmAdaFwdIdeal.Product

namespace Cert.TimesAdaFwdIdeal.Product

open Cert.TimesAdaFwdIdeal

variable (m : (ℓ : Loc nD τ sig) → Buf (Elt Ideal) ℓ)

theorem run (ρ : Dev nD → PrngReg) (x : Dev nD → AdamW.Mat 8 1024) (y : Dev nD → AdamW.Mat 1024 384)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v0) = Products.nn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.nn]

end Cert.TimesAdaFwdIdeal.Product

namespace Cert.MmProjAIdeal.Product

open Cert.MmProjAIdeal Cert.MmProjAIdeal.Gen

variable (m : (ℓ : Loc nD τ sig) → Buf (Elt Ideal) ℓ)

/-- The blocks of step `t`, which walks the blocks of a row of blocks of the result. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem array (c : Dev nD) : (dats m 0 c).arrAt 2 (cfgs 0).N
    = Products.nn (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  pointwise [k0_pay1, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.nn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmProjAIdeal.Product

namespace Cert.TimesProjAIdeal.Product

open Cert.TimesProjAIdeal

variable (m : (ℓ : Loc nD τ sig) → Buf (Elt Ideal) ℓ)

theorem run (ρ : Dev nD → PrngReg) (x : Dev nD → AdamW.Mat 4096 1024) (y : Dev nD → AdamW.Mat 1024 1280)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v2) = Products.nn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.nn]

end Cert.TimesProjAIdeal.Product

namespace Cert.MmProjSIdeal.Product

open Cert.MmProjSIdeal Cert.MmProjSIdeal.Gen

variable (m : (ℓ : Loc nD τ sig) → Buf (Elt Ideal) ℓ)

/-- The blocks of step `t`, which walks the blocks of a row of blocks of the result. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem array (c : Dev nD) : (dats m 0 c).arrAt 2 (cfgs 0).N
    = Products.nn (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  pointwise [k0_pay1, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.nn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmProjSIdeal.Product

namespace Cert.TimesProjSIdeal.Product

open Cert.TimesProjSIdeal

variable (m : (ℓ : Loc nD τ sig) → Buf (Elt Ideal) ℓ)

theorem run (ρ : Dev nD → PrngReg) (x : Dev nD → AdamW.Mat 4096 1024) (y : Dev nD → AdamW.Mat 1024 1024)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v2) = Products.nn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.nn]

end Cert.TimesProjSIdeal.Product

namespace Cert.MmProjGIdeal.Product

open Cert.MmProjGIdeal Cert.MmProjGIdeal.Gen

variable (m : (ℓ : Loc nD τ sig) → Buf (Elt Ideal) ℓ)

/-- The blocks of step `t`, which walks the blocks of a row of blocks of the result. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem array (c : Dev nD) : (dats m 0 c).arrAt 2 (cfgs 0).N
    = Products.nn (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  pointwise [k0_pay1, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.nn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmProjGIdeal.Product

namespace Cert.TimesProjGIdeal.Product

open Cert.TimesProjGIdeal

variable (m : (ℓ : Loc nD τ sig) → Buf (Elt Ideal) ℓ)

theorem run (ρ : Dev nD → PrngReg) (x : Dev nD → AdamW.Mat 4096 1024) (y : Dev nD → AdamW.Mat 1024 3072)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v2) = Products.nn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.nn]

end Cert.TimesProjGIdeal.Product

namespace Cert.MmDyIdeal.Product

open Cert.MmDyIdeal Cert.MmDyIdeal.Gen

variable (m : (ℓ : Loc nD τ sig) → Buf (Elt Ideal) ℓ)

/-- The blocks of step `t`, which walks the blocks of a row of blocks of the result. -/
theorem idx : ∀ t : Fin cfg0.N, win0_0.index t = ![t.val, 0] ∧ win0_1.index t = ![0, 0] ∧ win0_2.index t = ![t.val, 0] :=
  (by decide +kernel : ∀ t : Fin grid0.N, _)

theorem array (c : Dev nD) : (dats m 0 c).arrAt 2 (cfgs 0).N
    = Products.nt (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  pointwise [k0_pay1, Products.nt]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.nt (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDyIdeal.Product

namespace Cert.TimesDyIdeal.Product

open Cert.TimesDyIdeal

variable (m : (ℓ : Loc nD τ sig) → Buf (Elt Ideal) ℓ)

theorem run (ρ : Dev nD → PrngReg) (x : Dev nD → AdamW.Mat 4096 1024) (y : Dev nD → AdamW.Mat 512 1024)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v3) = Products.nt (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.nt]

end Cert.TimesDyIdeal.Product

end
-- ==== Proof.ProductWeight.lean ====
/- The calls that multiply an input's transpose by a gradient: a weight's gradient on one device, accumulated in a scratch
   over the blocks of the contracted rows. -/
module

public import proofs.«01_k».proof.Proof.Products
public import proofs.«01_k».proof.Proof.Gen.MmDwAdaIdeal.Frame
public import proofs.«01_k».proof.Proof.Gen.TimesDwAdaIdeal.Run
public import proofs.«01_k».proof.Proof.Gen.MmDwOutIdeal.Frame
public import proofs.«01_k».proof.Proof.Gen.TimesDwOutIdeal.Run
public import proofs.«01_k».proof.Proof.Gen.MmDwBranchIdeal.Frame
public import proofs.«01_k».proof.Proof.Gen.TimesDwBranchIdeal.Run
public import proofs.«01_k».proof.Proof.Gen.MmDwAIdeal.Frame
public import proofs.«01_k».proof.Proof.Gen.TimesDwAIdeal.Run
public import proofs.«01_k».proof.Proof.Gen.MmDwGIdeal.Frame
public import proofs.«01_k».proof.Proof.Gen.TimesDwGIdeal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MmDwAdaIdeal.Product

open Cert.MmDwAdaIdeal Cert.MmDwAdaIdeal.Gen

variable (m : (ℓ : Loc nD τ sig) → Buf (Elt Ideal) ℓ)

/-- The one step works on the arrays whole. -/
theorem idx : ∀ t : Fin cfg0.N, win0_0.index t = ![0, 0] ∧ win0_1.index t = ![0, 0] ∧ win0_2.index t = ![0, 0] :=
  (by decide +kernel : ∀ t : Fin grid0.N, _)

theorem array (c : Dev nD) : (dats m 0 c).arrAt 2 (cfgs 0).N
    = Products.tn (m ((c.tc : Thread nD τ).loc main_arg0)) (m ((c.tc : Thread nD τ).loc main_arg1)) := by
  refine (dats m 0 c).arrAt_eq_of_covers 2 _ (by decide +kernel) fun t _ y => ?_
  blk_simp
  rw [after0_2]
  unfold Gen.outsAt0
  frame_out
  pointwise [k0_pay2, k0_pay1, Products.tn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.tn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDwAdaIdeal.Product

namespace Cert.TimesDwAdaIdeal.Product

open Cert.TimesDwAdaIdeal

variable (m : (ℓ : Loc nD τ sig) → Buf (Elt Ideal) ℓ)

theorem run (ρ : Dev nD → PrngReg) (x : Dev nD → AdamW.Mat 8 1024) (y : Dev nD → AdamW.Mat 8 384)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v1) = Products.tn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.tn]

end Cert.TimesDwAdaIdeal.Product

namespace Cert.MmDwOutIdeal.Product

open Cert.MmDwOutIdeal Cert.MmDwOutIdeal.Gen

variable (m : (ℓ : Loc nD τ sig) → Buf (Elt Ideal) ℓ)

/-- The blocks of step `t`: eight steps walk the contracted rows of one block of the result. -/
theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem zero (j) : k0_pay1 (F := Ideal) j = 0 := by pointwise [k0_pay1]

theorem part (a : Vec Ideal S512x512 .f32) (x : Vec Ideal S512x512 .bf16) (y : Vec Ideal S512x512 .bf16) (j) :
    k0_pay2 a x y j = a j + ∑ l, x (ix2 l (j 0)) * y (ix2 l (j 1)) := by pointwise [k0_pay2]

/-- At the last step of a run the block written is the scratch's content. -/
theorem last (c : Dev nD) (t : Fin cfg0.N) (h : t.val % 8 = 7) (y) :
    (outsAt0 m c t.val t.isLt).1 y = (outsAt0 m c t.val t.isLt).2 y := by
  rw [outsAt0_C m c t (by omega) h]
  frame_out
  pointwise [k0_pay3]

theorem array (c : Dev nD) : (dats m 0 c).arrAt 2 (cfgs 0).N
    = Products.tn (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, last m c t h, Pipeline.eq_sum_fin_of_reset_step_apply_of_flush (fun n h => (outsAt0 m c n h).2) 8 (fun _ => 0) _
    (fun t h j => by rw [outsAt0_A m c t h (by omega)]; frame_out; rw [part, zero])
    (fun t h j => by
      by_cases h7 : t.val % 8 = 7
      · rw [outsAt0_C m c t h h7]; frame_out; rw [part, read_unread_whole]
      · rw [outsAt0_B m c t h h7]; frame_out; rw [part, read_unread_whole])
    t h _, zero_add]
  pointwise [Products.tn]
  refine Fin.sum_mul_add_congr fun s k hl => ?_
  blk_point [iblk, V, idx t, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.tn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDwOutIdeal.Product

namespace Cert.TimesDwOutIdeal.Product

open Cert.TimesDwOutIdeal

variable (m : (ℓ : Loc nD τ sig) → Buf (Elt Ideal) ℓ)

theorem run (ρ : Dev nD → PrngReg) (x : Dev nD → AdamW.Mat 4096 1024) (y : Dev nD → AdamW.Mat 4096 1024)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v4) = Products.tn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.tn]

end Cert.TimesDwOutIdeal.Product

namespace Cert.MmDwBranchIdeal.Product

open Cert.MmDwBranchIdeal Cert.MmDwBranchIdeal.Gen

variable (m : (ℓ : Loc nD τ sig) → Buf (Elt Ideal) ℓ)

/-- The blocks of step `t`: eight steps walk the contracted rows of one block of the result. -/
theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem zero (j) : k0_pay1 (F := Ideal) j = 0 := by pointwise [k0_pay1]

theorem part (a : Vec Ideal S512x512 .f32) (x : Vec Ideal S512x512 .bf16) (y : Vec Ideal S512x512 .bf16) (j) :
    k0_pay2 a x y j = a j + ∑ l, x (ix2 l (j 0)) * y (ix2 l (j 1)) := by pointwise [k0_pay2]

/-- At the last step of a run the block written is the scratch's content. -/
theorem last (c : Dev nD) (t : Fin cfg0.N) (h : t.val % 8 = 7) (y) :
    (outsAt0 m c t.val t.isLt).1 y = (outsAt0 m c t.val t.isLt).2 y := by
  rw [outsAt0_C m c t (by omega) h]
  frame_out
  pointwise [k0_pay3]

theorem array (c : Dev nD) : (dats m 0 c).arrAt 2 (cfgs 0).N
    = Products.tn (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, last m c t h, Pipeline.eq_sum_fin_of_reset_step_apply_of_flush (fun n h => (outsAt0 m c n h).2) 8 (fun _ => 0) _
    (fun t h j => by rw [outsAt0_A m c t h (by omega)]; frame_out; rw [part, zero])
    (fun t h j => by
      by_cases h7 : t.val % 8 = 7
      · rw [outsAt0_C m c t h h7]; frame_out; rw [part, read_unread_whole]
      · rw [outsAt0_B m c t h h7]; frame_out; rw [part, read_unread_whole])
    t h _, zero_add]
  pointwise [Products.tn]
  refine Fin.sum_mul_add_congr fun s k hl => ?_
  blk_point [iblk, V, idx t, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.tn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDwBranchIdeal.Product

namespace Cert.TimesDwBranchIdeal.Product

open Cert.TimesDwBranchIdeal

variable (m : (ℓ : Loc nD τ sig) → Buf (Elt Ideal) ℓ)

theorem run (ρ : Dev nD → PrngReg) (x : Dev nD → AdamW.Mat 4096 512) (y : Dev nD → AdamW.Mat 4096 1024)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v4) = Products.tn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.tn]

end Cert.TimesDwBranchIdeal.Product

namespace Cert.MmDwAIdeal.Product

open Cert.MmDwAIdeal Cert.MmDwAIdeal.Gen

variable (m : (ℓ : Loc nD τ sig) → Buf (Elt Ideal) ℓ)

/-- The blocks of step `t`: eight steps walk the contracted rows of one block of the result. -/
theorem idx : ∀ t : Fin cfg0.N, win0_0.index t = ![t.val % 8, t.val / 16] ∧ win0_1.index t = ![t.val % 8, t.val / 8 % 2] ∧ win0_2.index t = ![t.val / 16, t.val / 8 % 2] :=
  (by decide +kernel : ∀ t : Fin grid0.N, _)

theorem zero (j) : k0_pay1 (F := Ideal) j = 0 := by pointwise [k0_pay1]

theorem part (a : Vec Ideal S512x640 .f32) (x : Vec Ideal S512x512 .bf16) (y : Vec Ideal S512x640 .bf16) (j) :
    k0_pay2 a x y j = a j + ∑ l, x (ix2 l (j 0)) * y (ix2 l (j 1)) := by pointwise [k0_pay2]

/-- At the last step of a run the block written is the scratch's content. -/
theorem last (c : Dev nD) (t : Fin cfg0.N) (h : t.val % 8 = 7) (y) :
    (outsAt0 m c t.val t.isLt).1 y = (outsAt0 m c t.val t.isLt).2 y := by
  rw [outsAt0_C m c t (by omega) h]
  frame_out
  pointwise [k0_pay3]

theorem array (c : Dev nD) : (dats m 0 c).arrAt 2 (cfgs 0).N
    = Products.tn (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, last m c t h, Pipeline.eq_sum_fin_of_reset_step_apply_of_flush (fun n h => (outsAt0 m c n h).2) 8 (fun _ => 0) _
    (fun t h j => by rw [outsAt0_A m c t h (by omega)]; frame_out; rw [part, zero])
    (fun t h j => by
      by_cases h7 : t.val % 8 = 7
      · rw [outsAt0_C m c t h h7]; frame_out; rw [part, read_unread_whole]
      · rw [outsAt0_B m c t h h7]; frame_out; rw [part, read_unread_whole])
    t h _, zero_add]
  pointwise [Products.tn]
  refine Fin.sum_mul_add_congr fun s k hl => ?_
  blk_point [iblk, V, idx t, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.tn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDwAIdeal.Product

namespace Cert.TimesDwAIdeal.Product

open Cert.TimesDwAIdeal

variable (m : (ℓ : Loc nD τ sig) → Buf (Elt Ideal) ℓ)

theorem run (ρ : Dev nD → PrngReg) (x : Dev nD → AdamW.Mat 4096 1024) (y : Dev nD → AdamW.Mat 4096 1280)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v4) = Products.tn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.tn]

end Cert.TimesDwAIdeal.Product

namespace Cert.MmDwGIdeal.Product

open Cert.MmDwGIdeal Cert.MmDwGIdeal.Gen

variable (m : (ℓ : Loc nD τ sig) → Buf (Elt Ideal) ℓ)

/-- The blocks of step `t`: eight steps walk the contracted rows of one block of the result. -/
theorem idx : ∀ t : Fin cfg0.N, win0_0.index t = ![t.val % 8, t.val / 48] ∧ win0_1.index t = ![t.val % 8, t.val / 8 % 6] ∧ win0_2.index t = ![t.val / 48, t.val / 8 % 6] :=
  (by decide +kernel : ∀ t : Fin grid0.N, _)

theorem zero (j) : k0_pay1 (F := Ideal) j = 0 := by pointwise [k0_pay1]

theorem part (a : Vec Ideal S512x512 .f32) (x : Vec Ideal S512x512 .bf16) (y : Vec Ideal S512x512 .bf16) (j) :
    k0_pay2 a x y j = a j + ∑ l, x (ix2 l (j 0)) * y (ix2 l (j 1)) := by pointwise [k0_pay2]

/-- At the last step of a run the block written is the scratch's content. -/
theorem last (c : Dev nD) (t : Fin cfg0.N) (h : t.val % 8 = 7) (y) :
    (outsAt0 m c t.val t.isLt).1 y = (outsAt0 m c t.val t.isLt).2 y := by
  rw [outsAt0_C m c t (by omega) h]
  frame_out
  pointwise [k0_pay3]

theorem array (c : Dev nD) : (dats m 0 c).arrAt 2 (cfgs 0).N
    = Products.tn (m ((c.tc : Thread nD τ).loc main_arg0)) (m ((c.tc : Thread nD τ).loc main_arg1)) := by
  refine (dats m 0 c).arrAt_eq_of_covers 2 _ (by decide +kernel) fun t hf y => ?_
  have h := (flush0_2 t).mp hf
  blk_simp
  rw [after0_2, last m c t h, Pipeline.eq_sum_fin_of_reset_step_apply_of_flush (fun n h => (outsAt0 m c n h).2) 8 (fun _ => 0) _
    (fun t h j => by rw [outsAt0_A m c t h (by omega)]; frame_out; rw [part, zero])
    (fun t h j => by
      by_cases h7 : t.val % 8 = 7
      · rw [outsAt0_C m c t h h7]; frame_out; rw [part, read_unread_whole]
      · rw [outsAt0_B m c t h h7]; frame_out; rw [part, read_unread_whole])
    t h _, zero_add]
  pointwise [Products.tn]
  refine Fin.sum_mul_add_congr fun s k hl => ?_
  blk_point [iblk, V, idx t, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0)
      = Products.tn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h.1 c).1 2).trans (array m c), h.2 c⟩) (θ_run_and (run_main m ρ) (unchanged m ρ))

end Cert.MmDwGIdeal.Product

namespace Cert.TimesDwGIdeal.Product

open Cert.TimesDwGIdeal

variable (m : (ℓ : Loc nD τ sig) → Buf (Elt Ideal) ℓ)

theorem run (ρ : Dev nD → PrngReg) (x : Dev nD → AdamW.Mat 4096 1024) (y : Dev nD → AdamW.Mat 4096 3072)
    (hag : ∀ c : Dev nD, m ((c.tc : Thread nD τ).loc main_arg0) = x c ∧ m ((c.tc : Thread nD τ).loc main_arg1) = y c) :
    θ_run defs (onTc (τ := τ) (main (F := Ideal))) ⟨m, fun _ => 0, ρ⟩ (fun r => ∀ c : Dev nD,
      r.2.mem ((c.tc : Thread nD τ).loc main_v4) = Products.tn (x c) (y c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (Value.run (F := Ideal) m ρ)
  simp only [hag c]
  funext i
  pointwise [Products.tn]

end Cert.TimesDwGIdeal.Product

end
-- ==== Proof.Passes.lean ====
/- The other calls of the passes on one device at `Ideal`: what their programs (Proof/Pass*.lean) are shown to write. -/
module

public import proofs.«01_k».proof.Proof.Products
public import Idealize.ShloMosaic.Lib.WritesUnit
public import Idealize.ShloMosaic.Lib.Pipeline.ReadBack

@[expose] public section

noncomputable section

open Idealize.ShloMosaic Cert.AdamW

namespace Cert.Passes

variable {l k c : Nat}

/-- The output projection through the gate, on top of the residual. -/
def residual (y : Mat l k) (w : Mat k c) (x : Mat l c) (gate : Mat 1 c) : Mat l c := fun i =>
  x i + gate (ix2 0 (i 1)) * Products.nn y w i

/-- The gradient of a layer's input: a product for each of the four parts of the projection. -/
def inputGrad {k₁ k₂ k₃ k₄ : Nat} (a₁ : Mat l k₁) (w₁ : Mat c k₁) (a₂ : Mat l k₂) (w₂ : Mat c k₂) (a₃ : Mat l k₃) (w₃ : Mat c k₃)
    (a₄ : Mat l k₄) (w₄ : Mat c k₄) : Mat l c := fun i =>
  Products.nt a₁ w₁ i + Products.nt a₂ w₂ i + Products.nt a₃ w₃ i + Products.nt a₄ w₄ i

/-- A third of the logits, from lane `o` on, through the sigmoid. -/
def gate (p : Mat l 3072) (o : Nat) (ho : o + 1024 ≤ 3072) : Mat l 1024 := fun i =>
  Ideal.div (Ideal.ofBits .f32 0x3F800000#32) (Ideal.ofBits .f32 0x3F800000#32
    + Ideal.exp (-p (ix2 (i 0) ⟨o + (i 1).val, Nat.lt_of_lt_of_le (Nat.add_lt_add_left (i 1).isLt o) ho⟩)))

/-- The three branches, each through its gate, together. -/
def merge (ya ys yp : Mat l k) (wa ws wp : Mat k 1024) (p : Mat l 3072) : Mat l 1024 := fun i =>
  gate p 0 (by decide) i * Products.nn ya wa i + gate p 1024 (by decide) i * Products.nn ys ws i
    + gate p 2048 (by decide) i * Products.nn yp wp i

/-- The root of a row's mean square, inverted, and the normalised row. -/
def rms (x : Mat l 1024) (r : Fin l) : EReal :=
  Ideal.rsqrt (Ideal.div (∑ j, x (ix2 r j) * x (ix2 r j)) (Ideal.ofBits .f32 0x44800000#32) + Ideal.ofBits .f32 0x358637BD#32)
def unit (x : Mat l 1024) : Mat l 1024 := fun i => x i * rms x (i 0)

/-- The normalised row, scaled and shifted. -/
def norm (x : Mat l 1024) (g shift scale : Mat 1 1024) : Mat l 1024 := fun i =>
  unit x i * g (ix2 0 (i 1)) * (Ideal.ofBits .f32 0x3F800000#32 + scale (ix2 0 (i 1))) + shift (ix2 0 (i 1))

/-- A row's gradient from the normalised row's, `d`. -/
def rowGrad (x d : Mat l 1024) : Mat l 1024 := fun i =>
  rms x (i 0) * (d i - unit x i * Ideal.div (∑ j, d (ix2 (i 0) j) * unit x (ix2 (i 0) j)) (Ideal.ofBits .f32 0x44800000#32))

/-- The gradient of the norm's input, on top of the residual's. -/
def normGrad (x dh dres : Mat l 1024) (g scale : Mat 1 1024) : Mat l 1024 := fun i =>
  dres i + rowGrad x (fun i => dh i * (Ideal.ofBits .f32 0x3F800000#32 + scale (ix2 0 (i 1))) * g (ix2 0 (i 1))) i

/-- The sums of the columns of three matrices, as the first rows of one. -/
def sums (a b c : Mat l 1024) : Mat 8 1024 := fun i =>
  if (i 0 : Nat) < 1 then ∑ r, a (ix2 r (i 1)) else if (i 0 : Nat) < 2 then ∑ r, b (ix2 r (i 1))
    else if (i 0 : Nat) < 3 then ∑ r, c (ix2 r (i 1)) else 0

/-- What the norm's backward pass sums: for the shift, for the scale and for the norm's own weight. -/
def normSums (x dh : Mat l 1024) (g scale : Mat 1 1024) : Mat 8 1024 :=
  sums dh (fun i => dh i * (unit x i * g (ix2 0 (i 1))))
    (fun i => dh i * (Ideal.ofBits .f32 0x3F800000#32 + scale (ix2 0 (i 1))) * unit x i)

/-- The sums over eight blocks of rows are the sums over all rows. -/
theorem sums_blocks (a b c : Fin 8 → Mat 512 1024) (a' b' c' : Mat 4096 1024) (y z : (⟨2, ![8, 1024]⟩ : Shape).Idx) (h : z = y)
    (ha : ∀ s k (hl : s.val * 512 + k.val < 4096), a s (ix2 k (y 1)) = a' (ix2 ⟨s.val * 512 + k.val, hl⟩ (y 1)))
    (hb : ∀ s k (hl : s.val * 512 + k.val < 4096), b s (ix2 k (y 1)) = b' (ix2 ⟨s.val * 512 + k.val, hl⟩ (y 1)))
    (hc : ∀ s k (hl : s.val * 512 + k.val < 4096), c s (ix2 k (y 1)) = c' (ix2 ⟨s.val * 512 + k.val, hl⟩ (y 1))) :
    ∑ s, sums (a s) (b s) (c s) y = sums a' b' c' z := by
  subst h
  unfold sums
  split_ifs
  · exact Fin.sum_mul_add_congr ha
  · exact Fin.sum_mul_add_congr hb
  · exact Fin.sum_mul_add_congr hc
  · exact Finset.sum_const_zero

/-- The error of the prediction, its gradient, the gradient of the last norm's input, and the sums over the sequence: of
    the last norm's weight's gradient and of the loss. -/
def err (x : Mat l 1024) (g : Mat 1 1024) (target : Mat l 1024) : Mat l 1024 := fun i => unit x i * g (ix2 0 (i 1)) - target i
def dy (x : Mat l 1024) (g : Mat 1 1024) (target : Mat l 1024) : Mat l 1024 := fun i =>
  Ideal.div (err x g target i) (Ideal.ofBits .f32 0x44800000#32)
def lossGrad (x : Mat l 1024) (g : Mat 1 1024) (target : Mat l 1024) : Mat l 1024 :=
  rowGrad x (fun i => dy x g target i * g (ix2 0 (i 1)))
def lossSums (x : Mat l 1024) (g : Mat 1 1024) (target : Mat l 1024) : Mat 8 1024 :=
  sums (fun i => dy x g target i * unit x i)
    (fun i => Ideal.ofBits .f32 0x3F000000#32 * Ideal.div (err x g target i * err x g target i) (Ideal.ofBits .f32 0x44800000#32))
    (fun _ => 0)

/-- Division by the model's width is multiplication by its inverse, which is exact. -/
theorem mul_inv (x : EReal) : x * Ideal.ofBits .f32 0x3A800000#32 = Ideal.div x (Ideal.ofBits .f32 0x44800000#32) := by
  rw [show Ideal.ofBits .f32 0x44800000#32 = ((1024 : ℝ) : EReal) by simp [Ideal.ofBits, Ideal.ieee, -EReal.coe_mul]; norm_num,
    Ideal.div_coe (by norm_num), show Ideal.ofBits .f32 0x3A800000#32 = ((1 / 1024 : ℝ) : EReal) by
      simp [Ideal.ofBits, Ideal.ieee, -EReal.coe_mul]; norm_num]

/-- A sum of squares times half the inverse of the width is the sum of the halves of the quotients. -/
theorem sum_half {n : Nat} (e : Fin n → EReal) : (∑ k, e k * e k) * Ideal.ofBits .f32 0x3A000000#32
    = ∑ k, Ideal.ofBits .f32 0x3F000000#32 * Ideal.div (e k * e k) (Ideal.ofBits .f32 0x44800000#32) := by
  have hc : Ideal.ofBits .f32 0x3A000000#32 = Ideal.ofBits .f32 0x3F000000#32 * Ideal.ofBits .f32 0x3A800000#32 := by
    simp [Ideal.ofBits, Ideal.ieee, -EReal.coe_mul]; norm_cast; norm_num
  have hh : Ideal.ofBits .f32 0x3A000000#32 = ((1 / 2048 : ℝ) : EReal) := by
    simp [Ideal.ofBits, Ideal.ieee, -EReal.coe_mul]; norm_num
  have hs : (∑ k, e k * e k) * Ideal.ofBits .f32 0x3A000000#32 = ∑ k, e k * e k * Ideal.ofBits .f32 0x3A000000#32 :=
    map_sum (⟨⟨(· * Ideal.ofBits .f32 0x3A000000#32), zero_mul _⟩, fun x y => EReal.right_distrib_of_nonneg_of_ne_top
      (by rw [hh]; exact_mod_cast (by norm_num : (0 : ℝ) ≤ 1 / 2048)) (by rw [hh]; exact EReal.coe_ne_top _) x y⟩ : EReal →+ EReal) _ _
  rw [hs]
  refine Finset.sum_congr rfl fun k _ => ?_
  rw [← mul_inv, mul_left_comm, ← hc]

/-- A row stored over what the earlier stores left, read back. -/
theorem read_row {sig : RefSig} {κ : Kind} {sp : Space} {Val : EltTy → Type} {e : EltTy} (v : View sig κ sp ⟨2, ![8, 1024]⟩ e)
    (f : v.ty.Contents Val) (o : Nat) (inb : ∀ a : Fin 2, (![o, 0] : Fin 2 → Nat) a + (![1, 1024] : Fin 2 → Nat) a ≤ (![8, 1024] : Fin 2 → Nat) a)
    (w : (⟨2, ![1, 1024]⟩ : Shape).Idx → Val e) (L : List (View.Piece Val ⟨2, ![8, 1024]⟩ e)) (y : (⟨2, ![8, 1024]⟩ : Shape).Idx) :
    v.read Val (v.writes Val f (⟨Rect.unit (s := ⟨2, ![8, 1024]⟩) ![o, 0] ![1, 1024] inb, w⟩ :: L)) y
      = if (y 0 : Nat) = o then w (ix2 0 (y 1)) else v.read Val (v.writes Val f L) y := by
  split
  · next h => exact View.read_writes_cons_rows_of_mem v f inb w L y (ix2 0 (y 1)) rfl (by simpa using h) rfl
  · next h => exact View.read_writes_cons_rows_of_not_mem (W := 1) v f inb w L y rfl rfl (by omega)

end Cert.Passes

end
-- ==== Proof.PassNorm.lean ====
/- The norm of a layer's input, and its backward pass. -/
module

public import proofs.«01_k».proof.Proof.Passes
public import proofs.«01_k».proof.Proof.Gen.NormFwdIdeal.Frame
public import proofs.«01_k».proof.Proof.Gen.NormIdeal.Run
public import proofs.«01_k».proof.Proof.Gen.NormBwdIdeal.Frame
public import proofs.«01_k».proof.Proof.Gen.NormGradIdeal.Run

@[expose] public section

set_option maxRecDepth 16384

noncomputable section

open Idealize.ShloMosaic Idealize.ShloMosaic.TcCoe Idealize.SL.Sem
open Idealize.ShloMosaic.Pipeline (Dat)

namespace Cert.NormFwdIdeal.Pass

open Cert.NormFwdIdeal Cert.NormFwdIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

theorem array (c : Dev nD) : (dats m 0 c).arrAt 4 (cfgs 0).N
    = Passes.norm (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  pointwise [k0_pay1, Passes.norm, Passes.unit, Passes.rms]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0) = Passes.norm (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (array m c), h.2 c⟩) (θ_run_and (run_main m ρ) (unchanged m ρ))

end Cert.NormFwdIdeal.Pass

namespace Cert.NormBwdIdeal.Pass

open Cert.NormBwdIdeal Cert.NormBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

theorem gradient (c : Dev nD) : (dats m 0 c).arrAt 5 (cfgs 0).N
    = Passes.normGrad (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  have h : (outsAt0 m c t.val t.isLt).1 = k0_pay7 (iblk m c 0 t) (iblk m c 1 t) (iblk m c 3 t) (iblk m c 4 t) (iblk m c 2 t) := by
    by_cases h0 : t.val % 8 = 0
    · rw [outsAt0_A m c t h0]; frame_out
    · rw [outsAt0_B m c t h0]; frame_out
  rw [h]
  pointwise [k0_pay7, k0_pay6, k0_pay5, k0_pay4, Passes.normGrad, Passes.rowGrad, Passes.unit, Passes.rms]
  blk_point [iblk, V, idx t]

/-- What one step adds to the rows of sums, over whatever they held. -/
theorem part {sp : Space} (v : View sig .tc sp S8x1024 .f32) (f : v.ty.Contents (Elt Ideal)) (L : List (View.Piece (Elt Ideal) S8x1024 .f32))
    (X : Vec Ideal S8x1024 .f32) (hX : v.read (Elt Ideal) (v.writes (Elt Ideal) f L) = X) (x dh : Vec Ideal S512x1024 .f32)
    (g s : Vec Ideal S1x1024 .f32) (y : S8x1024.Idx) :
    v.read (Elt Ideal) (v.writes (Elt Ideal) f
      (⟨Rect.unit ![2, 0] ![1, 1024] inb_S8x1024_S1x1024_2_0,
        k0_pay3 (k0_pay5 x) (k0_pay6 dh s) (View.ld X (Rect.unit ![2, 0] ![1, 1024] inb_S8x1024_S1x1024_2_0))⟩ ::
      ⟨Rect.unit ![1, 0] ![1, 1024] inb_S8x1024_S1x1024_1_0,
        k0_pay2 dh (k0_pay5 x) g (View.ld X (Rect.unit ![1, 0] ![1, 1024] inb_S8x1024_S1x1024_1_0))⟩ ::
      ⟨Rect.unit ![0, 0] ![1, 1024] inb_S8x1024_S1x1024_0_0,
        k0_pay1 dh (View.ld X (Rect.unit ![0, 0] ![1, 1024] inb_S8x1024_S1x1024_0_0))⟩ :: L)) y
      = X y + Passes.normSums x dh g s y := by
  rw [Passes.read_row, Passes.read_row, Passes.read_row, hX]
  have hy (j : Fin 8) (h : (y 0 : Nat) = j) : X (ix2 j (y 1)) = X y := congrArg X (funext (Fin.forall_fin_two.mpr ⟨Fin.ext h.symm, rfl⟩))
  have hn : (y 0 : Nat) = 0 ∨ (y 0 : Nat) = 1 ∨ (y 0 : Nat) = 2 ∨ 3 ≤ (y 0 : Nat) := by omega
  rcases hn with h | h | h | h
  · rw [if_neg (by omega), if_neg (by omega), if_pos h, ← hy 0 h]
    pointwise [k0_pay1, Passes.normSums, Passes.sums]
    rw [if_pos (by omega)]
  · rw [if_neg (by omega), if_pos h, ← hy 1 h]
    pointwise [k0_pay2, k0_pay5, k0_pay4, Passes.normSums, Passes.sums, Passes.unit, Passes.rms]
    rw [if_neg (by omega), if_pos (by omega)]
  · rw [if_pos h, ← hy 2 h]
    pointwise [k0_pay3, k0_pay6, k0_pay5, k0_pay4, Passes.normSums, Passes.sums, Passes.unit, Passes.rms]
    rw [if_neg (by omega), if_neg (by omega), if_pos (by omega)]
  · rw [if_neg (by omega), if_neg (by omega), if_neg (by omega), Passes.normSums, Passes.sums, if_neg (by omega), if_neg (by omega), if_neg (by omega), add_zero]

theorem zero (y : S8x1024.Idx) : k0_pay8 (F := Ideal) y = 0 := by
  pointwise [k0_pay8]

theorem stepA (c : Dev nD) (t : Fin cfg0.N) (h : t.val % 8 = 0) (y : S8x1024.Idx) : (outsAt0 m c t.val t.isLt).2 y
    = 0 + Passes.normSums (iblk m c 0 t) (iblk m c 1 t) (iblk m c 3 t) (iblk m c 4 t) y := by
  rw [outsAt0_A m c t h]; frame_out
  rw [← View.read_writes_junk_apply_eq_canon (ms0_6 t).view]
  simp (disch := first | rfl | decide) only [↓View.readCov_skip, ↓View.readCov_fill]
  exact (part (ms0_6 t).view _ [_] (k0_pay8 (F := Ideal)) (funext fun y => (View.read_writes_junk_apply_eq_canon _ y _).trans
    (congrFun (View.canon_cons_unit_lit _ _ _ (by decide)) y)) _ _ _ _ y).trans (by rw [zero])

theorem stepB (c : Dev nD) (t : Fin cfg0.N) (h : ¬ t.val % 8 = 0) (y : S8x1024.Idx) : (outsAt0 m c t.val t.isLt).2 y
    = (outsAt0 m c (t.val - 1) (Nat.lt_of_le_of_lt (Nat.sub_le _ _) t.isLt)).2 y + Passes.normSums (iblk m c 0 t) (iblk m c 1 t) (iblk m c 3 t) (iblk m c 4 t) y := by
  rw [outsAt0_B m c t h]; frame_out
  exact part (ms0_6 t).view _ [] _ ((hs0_6 t).read_unread _) _ _ _ _ y

theorem sums (c : Dev nD) : (dats m 0 c).arrAt 6 (cfgs 0).N
    = Passes.normSums (m ((c.tc : Thread nD τ).loc main_arg0)) (m ((c.tc : Thread nD τ).loc main_arg1))
      (m ((c.tc : Thread nD τ).loc main_arg3)) (m ((c.tc : Thread nD τ).loc main_arg4)) := by
  refine (dats m 0 c).arrAt_eq_of_covers 6 _ (by decide +kernel) fun t hf y => ?_
  have h := (flush0_6 t).mp hf
  blk_simp
  rw [after0_6, Pipeline.eq_sum_fin_of_reset_step_apply_of_flush (fun n h => (outsAt0 m c n h).2) 8 (fun _ => 0) _
    (stepA m c) (stepB m c) t h _, zero_add]
  refine Passes.sums_blocks _ _ _ _ _ _ y _ (funext (Fin.forall_fin_two.mpr ⟨Fin.ext (by blk_simp [idx t]), Fin.ext (by blk_simp [idx t])⟩))
    (fun s k hl => ?_) (fun s k hl => ?_) (fun s k hl => ?_)
  · blk_point [iblk, V, idx ⟨_, Pipeline.run_point_lt_of_flush t h s⟩]
  · pointwise [Passes.unit, Passes.rms]
    blk_point [iblk, V, idx ⟨_, Pipeline.run_point_lt_of_flush t h s⟩]
  · pointwise [Passes.unit, Passes.rms]
    blk_point [iblk, V, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0_0) = Passes.normGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v0_1) = Passes.normSums (m ((c.tc : Thread nD τ).loc main_arg0)) (m ((c.tc : Thread nD τ).loc main_arg1)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).1 5).trans (gradient m c), ((h.1 c).1 6).trans (sums m c), h.2 c⟩) (θ_run_and (run_main m ρ) (unchanged m ρ))

end Cert.NormBwdIdeal.Pass

namespace Cert.NormIdeal.Pass

open Cert.NormIdeal

variable (m : (ℓ : Loc nD τ sig) → Buf (Elt Ideal) ℓ)

theorem run (ρ : Dev nD → PrngReg) (a₁ : Dev nD → AdamW.Mat 4096 1024) (a₂ a₃ a₄ : Dev nD → AdamW.Mat 1 1024)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c) :
    θ_run defs (onTc (τ := τ) (main (F := Ideal))) ⟨m, fun _ => 0, ρ⟩ (fun r => ∀ c : Dev nD,
      r.2.mem ((c.tc : Thread nD τ).loc main_v18) = Passes.norm (a₁ c) (a₂ c) (a₃ c) (a₄ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2⟩) (Value.run (F := Ideal) m ρ)
  simp only [hag c]
  funext i
  pointwise [Passes.norm, Passes.unit, Passes.rms]

end Cert.NormIdeal.Pass

namespace Cert.NormGradIdeal.Pass

open Cert.NormGradIdeal

variable (m : (ℓ : Loc nD τ sig) → Buf (Elt Ideal) ℓ)

theorem run (ρ : Dev nD → PrngReg) (a₁ a₂ a₃ : Dev nD → AdamW.Mat 4096 1024) (a₄ a₅ : Dev nD → AdamW.Mat 1 1024)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c ∧ m ((c.tc : Thread nD τ).loc main_arg4) = a₅ c) :
    θ_run defs (onTc (τ := τ) (main (F := Ideal))) ⟨m, fun _ => 0, ρ⟩ (fun r => ∀ c : Dev nD,
      r.2.mem ((c.tc : Thread nD τ).loc main_v44) = Passes.normGrad (a₁ c) (a₂ c) (a₃ c) (a₄ c) (a₅ c)
      ∧ r.2.mem ((c.tc : Thread nD τ).loc main_v56) = Passes.normSums (a₁ c) (a₂ c) (a₄ c) (a₅ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨(h c).1.trans ?_, (h c).2.1.trans ?_, (h c).2.2⟩) (Value.run (F := Ideal) m ρ)
  · simp only [hag c]
    funext i
    pointwise [Passes.normGrad, Passes.rowGrad, Passes.unit, Passes.rms]
  · funext i
    pointwise [Passes.normSums, Passes.sums, Passes.unit, Passes.rms]
    simp only [hag c]
    split_ifs <;> first | rfl | omega

end Cert.NormGradIdeal.Pass

end
-- ==== Proof.PassLoss.lean ====
/- The loss: the gradient of the last layer's output, and the two sums over the sequence. -/
module

public import proofs.«01_k».proof.Proof.Passes
public import proofs.«01_k».proof.Proof.Gen.FinalLossIdeal.Frame
public import proofs.«01_k».proof.Proof.Gen.LossIdeal.Run

@[expose] public section

set_option maxRecDepth 16384

noncomputable section

open Idealize.ShloMosaic Idealize.ShloMosaic.TcCoe Idealize.SL.Sem
open Idealize.ShloMosaic.Pipeline (Dat)

namespace Cert.FinalLossIdeal.Pass

open Cert.FinalLossIdeal Cert.FinalLossIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem gradient (c : Dev nD) : (dats m 0 c).arrAt 3 (cfgs 0).N
    = Passes.lossGrad (m ((c.tc : Thread nD τ).loc main_arg0)) (m ((c.tc : Thread nD τ).loc main_arg1))
      (m ((c.tc : Thread nD τ).loc main_arg2)) := by
  refine (dats m 0 c).arrAt_eq_of_covers 3 _ (by decide +kernel) fun t _ y => ?_
  blk_simp
  rw [after0_3]
  have h : (outsAt0 m c t.val t.isLt).1 = k0_pay7 (iblk m c 0 t) (iblk m c 1 t) (iblk m c 2 t) := by
    by_cases h0 : t.val % 8 = 0
    · rw [outsAt0_A m c t h0]; frame_out
    · rw [outsAt0_B m c t h0]; frame_out
  rw [h]
  pointwise [k0_pay7, k0_pay6, k0_pay5, k0_pay4, k0_pay3, Passes.lossGrad, Passes.dy, Passes.err, Passes.rowGrad, Passes.unit, Passes.rms, Passes.mul_inv]
  blk_point [iblk, V, idx t]

/-- What one step adds to the rows of sums, over whatever they held. -/
theorem part {sp : Space} (v : View sig .tc sp S8x1024 .f32) (f : v.ty.Contents (Elt Ideal)) (L : List (View.Piece (Elt Ideal) S8x1024 .f32))
    (X : Vec Ideal S8x1024 .f32) (hX : v.read (Elt Ideal) (v.writes (Elt Ideal) f L) = X) (x target : Vec Ideal S512x1024 .f32)
    (g : Vec Ideal S1x1024 .f32) (y : S8x1024.Idx) :
    v.read (Elt Ideal) (v.writes (Elt Ideal) f
      (⟨Rect.unit ![1, 0] ![1, 1024] inb_S8x1024_S1x1024_1_0,
        k0_pay2 (k0_pay5 x g target) (View.ld X (Rect.unit ![1, 0] ![1, 1024] inb_S8x1024_S1x1024_1_0))⟩ ::
      ⟨Rect.unit ![0, 0] ![1, 1024] inb_S8x1024_S1x1024_0_0,
        k0_pay1 (k0_pay9 (View.ld X (Rect.unit ![0, 0] ![1, 1024] inb_S8x1024_S1x1024_0_0))) (k0_pay10 x g target)⟩ :: L)) y
      = X y + Passes.lossSums x g target y := by
  rw [Passes.read_row, Passes.read_row, hX]
  have hy (j : Fin 8) (h : (y 0 : Nat) = j) : X (ix2 j (y 1)) = X y := congrArg X (funext (Fin.forall_fin_two.mpr ⟨Fin.ext h.symm, rfl⟩))
  have hn : (y 0 : Nat) = 0 ∨ (y 0 : Nat) = 1 ∨ 2 ≤ (y 0 : Nat) := by omega
  rcases hn with h | h | h
  · rw [if_neg (by omega), if_pos h, ← hy 0 h, Passes.lossSums, Passes.sums, if_pos (by omega)]
    pointwise [k0_pay1, k0_pay9, k0_pay10, k0_pay6, k0_pay5, k0_pay4, k0_pay3, Passes.dy, Passes.err, Passes.unit, Passes.rms, Passes.mul_inv]
  · rw [if_pos h, ← hy 1 h, Passes.lossSums, Passes.sums, if_neg (by omega), if_pos (by omega), ← Passes.sum_half]
    pointwise [k0_pay2, k0_pay5, k0_pay4, k0_pay3, Passes.err, Passes.unit, Passes.rms]
  · rw [if_neg (by omega), if_neg (by omega), Passes.lossSums, Passes.sums, if_neg (by omega), if_neg (by omega), Finset.sum_const_zero, ite_self, add_zero]

theorem zero (y : S8x1024.Idx) : k0_pay8 (F := Ideal) y = 0 := by
  pointwise [k0_pay8]

theorem stepA (c : Dev nD) (t : Fin cfg0.N) (h : t.val % 8 = 0) (y : S8x1024.Idx) : (outsAt0 m c t.val t.isLt).2 y
    = 0 + Passes.lossSums (iblk m c 0 t) (iblk m c 1 t) (iblk m c 2 t) y := by
  rw [outsAt0_A m c t h]; frame_out
  rw [← View.read_writes_junk_apply_eq_canon (ms0_4 t).view]
  simp (disch := first | rfl | decide) only [↓View.readCov_skip, ↓View.readCov_fill]
  exact (part (ms0_4 t).view _ [_] (k0_pay8 (F := Ideal)) (funext fun y => (View.read_writes_junk_apply_eq_canon _ y _).trans
    (congrFun (View.canon_cons_unit_lit _ _ _ (by decide)) y)) _ _ _ y).trans (by rw [zero])

theorem stepB (c : Dev nD) (t : Fin cfg0.N) (h : ¬ t.val % 8 = 0) (y : S8x1024.Idx) : (outsAt0 m c t.val t.isLt).2 y
    = (outsAt0 m c (t.val - 1) (Nat.lt_of_le_of_lt (Nat.sub_le _ _) t.isLt)).2 y
      + Passes.lossSums (iblk m c 0 t) (iblk m c 1 t) (iblk m c 2 t) y := by
  rw [outsAt0_B m c t h]; frame_out
  exact part (ms0_4 t).view _ [] _ ((hs0_4 t).read_unread _) _ _ _ y

theorem sums (c : Dev nD) : (dats m 0 c).arrAt 4 (cfgs 0).N
    = Passes.lossSums (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  have h := (flush0_4 t).mp hf
  blk_simp
  rw [after0_4, Pipeline.eq_sum_fin_of_reset_step_apply_of_flush (fun n h => (outsAt0 m c n h).2) 8 (fun _ => 0) _
    (stepA m c) (stepB m c) t h _, zero_add]
  refine Passes.sums_blocks _ _ _ _ _ _ y _ (funext (Fin.forall_fin_two.mpr ⟨Fin.ext (by blk_simp [idx t]), Fin.ext (by blk_simp [idx t])⟩))
    (fun s k hl => ?_) (fun s k hl => ?_) (fun s k hl => rfl)
  all_goals pointwise [Passes.dy, Passes.err, Passes.unit, Passes.rms]
  all_goals blk_point [iblk, V, idx ⟨_, Pipeline.run_point_lt_of_flush t h s⟩]

theorem run (ρ : Dev nD → PrngReg) : θ_run defs (onTc (τ := τ) (main (F := Ideal))) ⟨m, fun _ => 0, ρ⟩ (fun r => ∀ c : Dev nD,
    r.2.mem ((c.tc : Thread nD τ).loc main_v0_0) = Passes.lossGrad (m ((c.tc : Thread nD τ).loc main_arg0)) (m ((c.tc : Thread nD τ).loc main_arg1)) (m ((c.tc : Thread nD τ).loc main_arg2))
    ∧ r.2.mem ((c.tc : Thread nD τ).loc main_v0_1) = Passes.lossSums (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1 c).1 3).trans (gradient m c), ((h.1 c).1 4).trans (sums m c), h.2 c⟩) (θ_run_and (run_main m ρ) (unchanged m ρ))

end Cert.FinalLossIdeal.Pass

namespace Cert.LossIdeal.Pass

open Cert.LossIdeal

variable (m : (ℓ : Loc nD τ sig) → Buf (Elt Ideal) ℓ)

theorem run (ρ : Dev nD → PrngReg) (a₁ : Dev nD → AdamW.Mat 4096 1024) (a₂ : Dev nD → AdamW.Mat 1 1024) (a₃ : Dev nD → AdamW.Mat 4096 1024)
    (hag : ∀ c : Dev nD, m ((c.tc : Thread nD τ).loc main_arg0) = a₁ c ∧ m ((c.tc : Thread nD τ).loc main_arg1) = a₂ c ∧ m ((c.tc : Thread nD τ).loc main_arg2) = a₃ c) :
    θ_run defs (onTc (τ := τ) (main (F := Ideal))) ⟨m, fun _ => 0, ρ⟩ (fun r => ∀ c : Dev nD,
      r.2.mem ((c.tc : Thread nD τ).loc main_v44) = Passes.lossGrad (a₁ c) (a₂ c) (a₃ c)
      ∧ r.2.mem ((c.tc : Thread nD τ).loc main_v56) = Passes.lossSums (a₁ c) (a₂ c) (a₃ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨(h c).1.trans ?_, (h c).2.1.trans ?_, (h c).2.2⟩) (Value.run (F := Ideal) m ρ)
  · simp only [hag c]
    funext i
    pointwise [Passes.lossGrad, Passes.dy, Passes.err, Passes.rowGrad, Passes.unit, Passes.rms]
  · funext i
    pointwise [Passes.lossSums, Passes.sums, Passes.dy, Passes.err, Passes.unit, Passes.rms]
    simp only [hag c]
    split_ifs <;> first | omega | with_reducible rfl | simp

end Cert.LossIdeal.Pass

end
-- ==== Proof.PassMerge.lean ====
/- A layer's merging of its branches, its output, and the gradient of its input. -/
module

public import proofs.«01_k».proof.Proof.Passes
public import proofs.«01_k».proof.Proof.Gen.DhIdeal.Frame
public import proofs.«01_k».proof.Proof.Gen.InputGradIdeal.Run
public import proofs.«01_k».proof.Proof.Gen.MergeFwdIdeal.Frame
public import proofs.«01_k».proof.Proof.Gen.MergeIdeal.Run
public import proofs.«01_k».proof.Proof.Gen.OutFwdIdeal.Frame
public import proofs.«01_k».proof.Proof.Gen.ResidualIdeal.Run

@[expose] public section

set_option maxRecDepth 16384

noncomputable section

open Idealize.ShloMosaic Idealize.ShloMosaic.TcCoe Idealize.SL.Sem
open Idealize.ShloMosaic.Pipeline (Dat)

namespace Cert.OutFwdIdeal.Pass

open Cert.OutFwdIdeal Cert.OutFwdIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem out (c : Dev nD) : (dats m 0 c).arrAt 5 (cfgs 0).N
    = Products.nn (m ((c.tc : Thread nD τ).loc main_arg0)) (m ((c.tc : Thread nD τ).loc main_arg1)) := by
  refine (dats m 0 c).arrAt_eq_of_covers 5 _ (by decide +kernel) fun t _ y => ?_
  blk_simp
  rw [after0_5]
  frame_out
  pointwise [k0_pay1, k0_pay2, Products.nn]
  blk_point [iblk, V, idx t]

theorem next (c : Dev nD) : (dats m 0 c).arrAt 4 (cfgs 0).N
    = Passes.residual (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  pointwise [k0_pay1, k0_pay2, Passes.residual, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = Passes.residual (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = Products.nn (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 4).trans (next m c), ((h.1 c).1 5).trans (out m c), h.2 c⟩) (θ_run_and (run_main m ρ) (unchanged m ρ))

end Cert.OutFwdIdeal.Pass

namespace Cert.DhIdeal.Pass

open Cert.DhIdeal Cert.DhIdeal.Gen

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, 0]
    ∧ win0_3.index t = ![t.val % 2, 0] ∧ win0_4.index t = ![t.val / 2, 0] ∧ win0_5.index t = ![t.val % 2, 0]
    ∧ win0_6.index t = ![t.val / 2, 0] ∧ win0_7.index t = ![t.val % 2, 0] ∧ win0_8.index t = ![t.val / 2, t.val % 2] :=
  (by decide +kernel : ∀ t : Fin grid0.N, _)

theorem array (c : Dev nD) : (dats m 0 c).arrAt 8 (cfgs 0).N
    = Passes.inputGrad (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  refine (dats m 0 c).arrAt_eq_of_covers 8 _ (by decide +kernel) fun t _ y => ?_
  blk_simp
  rw [after0_8]
  frame_out
  pointwise [k0_pay1, Passes.inputGrad, Products.nt]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0) = Passes.inputGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨((h.1 c).1 8).trans (array m c), h.2 c⟩) (θ_run_and (run_main m ρ) (unchanged m ρ))

end Cert.DhIdeal.Pass

namespace Cert.MergeFwdIdeal.Pass

open Cert.MergeFwdIdeal Cert.MergeFwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem merged (c : Dev nD) : (dats m 0 c).arrAt 7 (cfgs 0).N
    = Passes.merge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  frame_out
  pointwise [k0_pay2, k0_pay5, k0_pay1, k0_pay3, k0_pay4, zero_sub, Passes.merge, Passes.gate, Products.nn]
  blk_point [iblk, V, idx t]

theorem attention (c : Dev nD) : (dats m 0 c).arrAt 8 (cfgs 0).N
    = Products.nn (m ((c.tc : Thread nD τ).loc main_arg0)) (m ((c.tc : Thread nD τ).loc main_arg3)) := by
  refine (dats m 0 c).arrAt_eq_of_covers 8 _ (by decide +kernel) fun t _ y => ?_
  blk_simp
  rw [after0_8]
  frame_out
  pointwise [k0_pay3, Products.nn]
  blk_point [iblk, V, idx t]

theorem scan (c : Dev nD) : (dats m 0 c).arrAt 9 (cfgs 0).N
    = Products.nn (m ((c.tc : Thread nD τ).loc main_arg1)) (m ((c.tc : Thread nD τ).loc main_arg4)) := by
  refine (dats m 0 c).arrAt_eq_of_covers 9 _ (by decide +kernel) fun t _ y => ?_
  blk_simp
  rw [after0_9]
  frame_out
  pointwise [k0_pay4, Products.nn]
  blk_point [iblk, V, idx t]

theorem pooled (c : Dev nD) : (dats m 0 c).arrAt 10 (cfgs 0).N
    = Products.nn (m ((c.tc : Thread nD τ).loc main_arg2)) (m ((c.tc : Thread nD τ).loc main_arg5)) := by
  refine (dats m 0 c).arrAt_eq_of_covers 10 _ (by decide +kernel) fun t _ y => ?_
  blk_simp
  rw [after0_10]
  frame_out
  pointwise [k0_pay1, Products.nn]
  blk_point [iblk, V, idx t]

theorem run (ρ : Dev nD → PrngReg) : θ_run defs (onTc (τ := τ) (main (F := Ideal))) ⟨m, fun _ => 0, ρ⟩ (fun r => ∀ c : Dev nD,
    r.2.mem ((c.tc : Thread nD τ).loc main_v0_0) = Passes.merge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v0_1) = Products.nn (m ((c.tc : Thread nD τ).loc main_arg0)) (m ((c.tc : Thread nD τ).loc main_arg3))
    ∧ r.2.mem ((c.tc : Thread nD τ).loc main_v0_2) = Products.nn (m ((c.tc : Thread nD τ).loc main_arg1)) (m ((c.tc : Thread nD τ).loc main_arg4))
    ∧ r.2.mem ((c.tc : Thread nD τ).loc main_v0_3) = Products.nn (m ((c.tc : Thread nD τ).loc main_arg2)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨((h.1 c).1 7).trans (merged m c), ((h.1 c).1 8).trans (attention m c), ((h.1 c).1 9).trans (scan m c), ((h.1 c).1 10).trans (pooled m c), h.2 c⟩) (θ_run_and (run_main m ρ) (unchanged m ρ))

end Cert.MergeFwdIdeal.Pass

namespace Cert.ResidualIdeal.Pass

open Cert.ResidualIdeal

variable (m : (ℓ : Loc nD τ sig) → Buf (Elt Ideal) ℓ)

theorem run (ρ : Dev nD → PrngReg) (a₁ : Dev nD → AdamW.Mat 4096 1024) (a₂ : Dev nD → AdamW.Mat 1024 1024) (a₃ : Dev nD → AdamW.Mat 4096 1024) (a₄ : Dev nD → AdamW.Mat 1 1024)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c) :
    θ_run defs (onTc (τ := τ) (main (F := Ideal))) ⟨m, fun _ => 0, ρ⟩ (fun r => ∀ c : Dev nD,
      r.2.mem ((c.tc : Thread nD τ).loc main_v5) = Passes.residual (a₁ c) (a₂ c) (a₃ c) (a₄ c)
      ∧ r.2.mem ((c.tc : Thread nD τ).loc main_v2) = Products.nn (a₁ c) (a₂ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ⟨(h c).1.trans ?_, (h c).2.1.trans ?_, (h c).2.2⟩) (Value.run (F := Ideal) m ρ)
  · simp only [hag c]
    funext i
    pointwise [Passes.residual, Products.nn]
  · simp only [hag c]
    funext i
    pointwise [Products.nn]

end Cert.ResidualIdeal.Pass

namespace Cert.InputGradIdeal.Pass

open Cert.InputGradIdeal

variable (m : (ℓ : Loc nD τ sig) → Buf (Elt Ideal) ℓ)

theorem run (ρ : Dev nD → PrngReg) (a₁ : Dev nD → AdamW.Mat 4096 1280) (a₂ : Dev nD → AdamW.Mat 1024 1280) (a₃ : Dev nD → AdamW.Mat 4096 1024) (a₄ : Dev nD → AdamW.Mat 1024 1024) (a₅ : Dev nD → AdamW.Mat 4096 1024) (a₆ : Dev nD → AdamW.Mat 1024 1024) (a₇ : Dev nD → AdamW.Mat 4096 3072) (a₈ : Dev nD → AdamW.Mat 1024 3072)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c ∧ m ((c.tc : Thread nD τ).loc main_arg4) = a₅ c ∧ m ((c.tc : Thread nD τ).loc main_arg5) = a₆ c ∧ m ((c.tc : Thread nD τ).loc main_arg6) = a₇ c ∧ m ((c.tc : Thread nD τ).loc main_arg7) = a₈ c) :
    θ_run defs (onTc (τ := τ) (main (F := Ideal))) ⟨m, fun _ => 0, ρ⟩ (fun r => ∀ c : Dev nD,
      r.2.mem ((c.tc : Thread nD τ).loc main_v20) = Passes.inputGrad (a₁ c) (a₂ c) (a₃ c) (a₄ c) (a₅ c) (a₆ c) (a₇ c) (a₈ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ⟨(h c).1.trans ?_, (h c).2⟩) (Value.run (F := Ideal) m ρ)
  simp only [hag c]
  funext i
  pointwise [Passes.inputGrad, Products.nt]

end Cert.InputGradIdeal.Pass

namespace Cert.MergeIdeal.Pass

open Cert.MergeIdeal

variable (m : (ℓ : Loc nD τ sig) → Buf (Elt Ideal) ℓ)

theorem run (ρ : Dev nD → PrngReg) (a₁ a₂ a₃ : Dev nD → AdamW.Mat 4096 512) (a₄ a₅ a₆ : Dev nD → AdamW.Mat 512 1024) (a₇ : Dev nD → AdamW.Mat 4096 3072)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c ∧ m ((c.tc : Thread nD τ).loc main_arg4) = a₅ c ∧ m ((c.tc : Thread nD τ).loc main_arg5) = a₆ c ∧ m ((c.tc : Thread nD τ).loc main_arg6) = a₇ c) :
    θ_run defs (onTc (τ := τ) (main (F := Ideal))) ⟨m, fun _ => 0, ρ⟩ (fun r => ∀ c : Dev nD,
      r.2.mem ((c.tc : Thread nD τ).loc main_v23) = Passes.merge (a₁ c) (a₂ c) (a₃ c) (a₄ c) (a₅ c) (a₆ c) (a₇ c)
      ∧ r.2.mem ((c.tc : Thread nD τ).loc main_v8) = Products.nn (a₁ c) (a₄ c)
      ∧ r.2.mem ((c.tc : Thread nD τ).loc main_v11) = Products.nn (a₂ c) (a₅ c)
      ∧ r.2.mem ((c.tc : Thread nD τ).loc main_v14) = Products.nn (a₃ c) (a₆ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ⟨(h c).1.trans ?_, (h c).2.1.trans ?_, (h c).2.2.1.trans ?_, (h c).2.2.2.1.trans ?_, (h c).2.2.2.2⟩) (Value.run (F := Ideal) m ρ)
  · simp only [hag c]
    funext i
    pointwise [Passes.merge, Passes.gate, Products.nn]
  · simp only [hag c]
    funext i
    pointwise [Products.nn]
  · simp only [hag c]
    funext i
    pointwise [Products.nn]
  · simp only [hag c]
    funext i
    pointwise [Products.nn]

end Cert.MergeIdeal.Pass

end
-- ==== Proof.PassMergeBwd.lean ====
/- The gradients of a layer's branches and of its gates' logits, from that of its output. -/
module

public import proofs.«01_k».proof.Proof.Passes
public import proofs.«01_k».proof.Proof.Gen.MergeBwdIdeal.Frame
public import proofs.«01_k».proof.Proof.Gen.MergeGradIdeal.Run

@[expose] public section

set_option maxRecDepth 16384

noncomputable section

open Idealize.ShloMosaic Idealize.ShloMosaic.TcCoe Idealize.SL.Sem
open Idealize.ShloMosaic.Pipeline (Dat)
open Cert.AdamW

namespace Cert.Passes

variable {l : Nat}

/-- The gradient of the output projection's result, and of the merged branches. -/
def outGrad (dx : Mat l 1024) (g : Mat 1 1024) : Mat l 1024 := fun i => dx i * g (ix2 0 (i 1))
def mergedGrad (dx : Mat l 1024) (g : Mat 1 1024) (w : Mat 1024 1024) : Mat l 1024 := Products.nt (outGrad dx g) w

/-- A branch's gradient, through its gate. -/
def branchGrad (dx : Mat l 1024) (g : Mat 1 1024) (w : Mat 1024 1024) (p : Mat l 3072) (o : Nat) (ho : o + 1024 ≤ 3072) : Mat l 1024 :=
  fun i => mergedGrad dx g w i * gate p o ho i

/-- The gradient of a gate's logits, the gate's branch being `b`; and the three gates' together. -/
def gateGrad (dx : Mat l 1024) (g : Mat 1 1024) (w : Mat 1024 1024) (p : Mat l 3072) (o : Nat) (ho : o + 1024 ≤ 3072) (b : Mat l 1024) : Mat l 1024 :=
  fun i => mergedGrad dx g w i * b i * (gate p o ho i * (Ideal.ofBits .f32 0x3F800000#32 - gate p o ho i))
def logitsGrad (dx : Mat l 1024) (g : Mat 1 1024) (w : Mat 1024 1024) (p : Mat l 3072) (ba bs bp : Mat l 1024) : Mat l 3072 := fun i =>
  if h : (i 1 : Nat) < 1024 then gateGrad dx g w p 0 (by decide) ba (ix2 (i 0) ⟨i 1, h⟩)
  else if h' : (i 1 : Nat) - 1024 < 1024 then gateGrad dx g w p 1024 (by decide) bs (ix2 (i 0) ⟨i 1 - 1024, h'⟩)
  else gateGrad dx g w p 2048 (by decide) bp (ix2 (i 0) ⟨i 1 - 1024 - 1024, by have := (i 1).isLt; simp at this; omega⟩)

/-- What the backward pass sums: the gradient of the output's gate. -/
def gateSums (dx out : Mat l 1024) : Mat 8 1024 := sums (fun i => dx i * out i) (fun _ => 0) (fun _ => 0)

section

variable (dx : Mat l 1024) (g : Mat 1 1024) (w : Mat 1024 1024) (p : Mat l 3072) (ba bs bp : Mat l 1024)
  (i : (⟨2, ![l, 3072]⟩ : Shape).Idx) (j : Fin 1024)

theorem logits_attention (h : (i 1 : Nat) = j) :
    logitsGrad dx g w p ba bs bp i = gateGrad dx g w p 0 (by decide) ba (ix2 (i 0) j) := by
  rw [logitsGrad, dif_pos (by omega)]
  exact congrArg (fun j => gateGrad dx g w p 0 _ ba (ix2 (i 0) j)) (Fin.ext h)

theorem logits_scan (h : (i 1 : Nat) = 1024 + j) :
    logitsGrad dx g w p ba bs bp i = gateGrad dx g w p 1024 (by decide) bs (ix2 (i 0) j) := by
  rw [logitsGrad, dif_neg (by omega), dif_pos (by omega)]
  exact congrArg (fun j => gateGrad dx g w p 1024 _ bs (ix2 (i 0) j)) (Fin.ext (by simp only; omega))

theorem logits_pooled (h : (i 1 : Nat) = 2048 + j) :
    logitsGrad dx g w p ba bs bp i = gateGrad dx g w p 2048 (by decide) bp (ix2 (i 0) j) := by
  rw [logitsGrad, dif_neg (by omega), dif_neg (by omega)]
  exact congrArg (fun j => gateGrad dx g w p 2048 _ bp (ix2 (i 0) j)) (Fin.ext (by simp only; omega))

end

/-- The sums over sixteen blocks of rows are the sums over all rows. -/
theorem gateSums_blocks (a b : Fin 16 → Mat 256 1024) (a' b' : Mat 4096 1024) (y z : (⟨2, ![8, 1024]⟩ : Shape).Idx) (h : z = y)
    (ha : ∀ s k (hl : s.val * 256 + k.val < 4096), a s (ix2 k (y 1)) = a' (ix2 ⟨s.val * 256 + k.val, hl⟩ (y 1)))
    (hb : ∀ s k (hl : s.val * 256 + k.val < 4096), b s (ix2 k (y 1)) = b' (ix2 ⟨s.val * 256 + k.val, hl⟩ (y 1))) :
    ∑ s, gateSums (a s) (b s) y = gateSums a' b' z := by
  subst h
  unfold gateSums sums
  split_ifs
  · exact Fin.sum_mul_add_congr (f := fun r => a' (ix2 r (z 1)) * b' (ix2 r (z 1))) fun s k hl =>
      congrArg₂ (· * ·) (ha s k hl) (hb s k hl)
  all_goals simp

end Cert.Passes

namespace Cert.MergeBwdIdeal.Pass

open Cert.MergeBwdIdeal Cert.MergeBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

theorem out (c : Dev nD) : (dats m 0 c).arrAt 8 (cfgs 0).N
    = Passes.outGrad (m ((c.tc : Thread nD τ).loc main_arg0)) (m ((c.tc : Thread nD τ).loc main_arg2)) := by
  refine (dats m 0 c).arrAt_eq_of_covers 8 _ (by decide +kernel) fun t _ y => ?_
  blk_simp
  rw [after0_8]
  by_cases h : t.val % 16 = 0 <;> [rw [outsAt0_A m c t h]; rw [outsAt0_B m c t h]] <;> frame_out
  all_goals
    pointwise [k0_pay5, Passes.outGrad]
    blk_point [iblk, V, idx t]

theorem attention (c : Dev nD) : (dats m 0 c).arrAt 9 (cfgs 0).N
    = Passes.branchGrad (m ((c.tc : Thread nD τ).loc main_arg0)) (m ((c.tc : Thread nD τ).loc main_arg2)) (m ((c.tc : Thread nD τ).loc main_arg3)) (m ((c.tc : Thread nD τ).loc main_arg4)) 0 (by decide) := by
  refine (dats m 0 c).arrAt_eq_of_covers 9 _ (by decide +kernel) fun t _ y => ?_
  blk_simp
  rw [after0_9]
  by_cases h : t.val % 16 = 0 <;> [rw [outsAt0_A m c t h]; rw [outsAt0_B m c t h]] <;> frame_out
  all_goals
    pointwise [k0_pay8, k0_pay7, k0_pay6, k0_pay5, zero_sub, Passes.branchGrad, Passes.mergedGrad, Passes.outGrad, Passes.gate, Products.nt]
    blk_point [iblk, V, idx t]

theorem scan (c : Dev nD) : (dats m 0 c).arrAt 10 (cfgs 0).N
    = Passes.branchGrad (m ((c.tc : Thread nD τ).loc main_arg0)) (m ((c.tc : Thread nD τ).loc main_arg2)) (m ((c.tc : Thread nD τ).loc main_arg3)) (m ((c.tc : Thread nD τ).loc main_arg4)) 1024 (by decide) := by
  refine (dats m 0 c).arrAt_eq_of_covers 10 _ (by decide +kernel) fun t _ y => ?_
  blk_simp
  rw [after0_10]
  by_cases h : t.val % 16 = 0 <;> [rw [outsAt0_A m c t h]; rw [outsAt0_B m c t h]] <;> frame_out
  all_goals
    pointwise [k0_pay11, k0_pay10, k0_pay6, k0_pay5, zero_sub, Passes.branchGrad, Passes.mergedGrad, Passes.outGrad, Passes.gate, Products.nt]
    blk_point [iblk, V, idx t]

theorem pooled (c : Dev nD) : (dats m 0 c).arrAt 11 (cfgs 0).N
    = Passes.branchGrad (m ((c.tc : Thread nD τ).loc main_arg0)) (m ((c.tc : Thread nD τ).loc main_arg2)) (m ((c.tc : Thread nD τ).loc main_arg3)) (m ((c.tc : Thread nD τ).loc main_arg4)) 2048 (by decide) := by
  refine (dats m 0 c).arrAt_eq_of_covers 11 _ (by decide +kernel) fun t _ y => ?_
  blk_simp
  rw [after0_11]
  by_cases h : t.val % 16 = 0 <;> [rw [outsAt0_A m c t h]; rw [outsAt0_B m c t h]] <;> frame_out
  all_goals
    pointwise [k0_pay1, k0_pay13, k0_pay6, k0_pay5, zero_sub, Passes.branchGrad, Passes.mergedGrad, Passes.outGrad, Passes.gate, Products.nt]
    blk_point [iblk, V, idx t]

theorem logits (c : Dev nD) : (dats m 0 c).arrAt 12 (cfgs 0).N
    = Passes.logitsGrad (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 12 _ (by decide +kernel) fun t _ y => ?_
  blk_simp
  rw [after0_12]
  by_cases h : t.val % 16 = 0 <;> [rw [outsAt0_A m c t h]; rw [outsAt0_B m c t h]] <;> frame_out
  all_goals
    canon_tiles x hx
    · rw [Passes.logits_pooled _ _ _ _ _ _ _ _ (x 1) (by blk_simp [idx t]; omega)]
      pointwise [k0_pay2, k0_pay13, k0_pay6, k0_pay5, zero_sub, mul_assoc, Passes.gateGrad, Passes.mergedGrad, Passes.outGrad, Passes.gate, Products.nt]
      blk_point [iblk, V, idx t]
    · rw [Passes.logits_scan _ _ _ _ _ _ _ _ (x 1) (by blk_simp [idx t]; omega)]
      pointwise [k0_pay12, k0_pay10, k0_pay6, k0_pay5, zero_sub, mul_assoc, Passes.gateGrad, Passes.mergedGrad, Passes.outGrad, Passes.gate, Products.nt]
      blk_point [iblk, V, idx t]
    · rw [Passes.logits_attention _ _ _ _ _ _ _ _ (x 1) (by blk_simp [idx t]; omega)]
      pointwise [k0_pay9, k0_pay7, k0_pay6, k0_pay5, zero_sub, mul_assoc, Passes.gateGrad, Passes.mergedGrad, Passes.outGrad, Passes.gate, Products.nt]
      blk_point [iblk, V, idx t]

theorem part {sp : Space} (v : View sig .tc sp S8x1024 .f32) (f : v.ty.Contents (Elt Ideal)) (L : List (View.Piece (Elt Ideal) S8x1024 .f32))
    (X : Vec Ideal S8x1024 .f32) (hX : v.read (Elt Ideal) (v.writes (Elt Ideal) f L) = X) (dx out : Vec Ideal S256x1024 .f32) (y : S8x1024.Idx) :
    v.read (Elt Ideal) (v.writes (Elt Ideal) f
      (⟨Rect.unit ![0, 0] ![1, 1024] inb_S8x1024_S1x1024_0_0,
        k0_pay4 dx (View.ld X (Rect.unit ![0, 0] ![1, 1024] inb_S8x1024_S1x1024_0_0)) out⟩ :: L)) y
      = X y + Passes.gateSums dx out y := by
  rw [Passes.read_row, hX]
  split
  · next h =>
    rw [← (congrArg X (funext (Fin.forall_fin_two.mpr ⟨Fin.ext h.symm, rfl⟩)) : X (ix2 0 (y 1)) = X y)]
    pointwise [k0_pay4, Passes.gateSums, Passes.sums]
    rw [if_pos (by omega)]
  · next h => rw [Passes.gateSums, Passes.sums, if_neg (by omega)]; simp

theorem zero (y : S8x1024.Idx) : k0_pay3 (F := Ideal) y = 0 := by
  pointwise [k0_pay3]

theorem stepA (c : Dev nD) (t : Fin cfg0.N) (h : t.val % 16 = 0) (y : S8x1024.Idx) : (outsAt0 m c t.val t.isLt).2.2.2.2.2 y
    = 0 + Passes.gateSums (iblk m c 0 t) (iblk m c 1 t) y := by
  rw [outsAt0_A m c t h]; frame_out
  rw [← View.read_writes_junk_apply_eq_canon (ms0_13 t).view]
  simp (disch := first | rfl | decide) only [↓View.readCov_skip, ↓View.readCov_fill]
  exact (part (ms0_13 t).view _ [_] (k0_pay3 (F := Ideal)) (funext fun y => (View.read_writes_junk_apply_eq_canon _ y _).trans
    (congrFun (View.canon_cons_unit_lit _ _ _ (by decide)) y)) _ _ y).trans (by rw [zero])

theorem stepB (c : Dev nD) (t : Fin cfg0.N) (h : ¬ t.val % 16 = 0) (y : S8x1024.Idx) : (outsAt0 m c t.val t.isLt).2.2.2.2.2 y
    = (outsAt0 m c (t.val - 1) (Nat.lt_of_le_of_lt (Nat.sub_le _ _) t.isLt)).2.2.2.2.2 y + Passes.gateSums (iblk m c 0 t) (iblk m c 1 t) y := by
  rw [outsAt0_B m c t h]; frame_out
  exact part (ms0_13 t).view _ [] _ ((hs0_13 t).read_unread _) _ _ y

theorem sums (c : Dev nD) : (dats m 0 c).arrAt 13 (cfgs 0).N = Passes.gateSums (m ((c.tc : Thread nD τ).loc main_arg0)) (m ((c.tc : Thread nD τ).loc main_arg1)) := by
  refine (dats m 0 c).arrAt_eq_of_covers 13 _ (by decide +kernel) fun t hf y => ?_
  have h := (flush0_13 t).mp hf
  blk_simp
  rw [after0_13, Pipeline.eq_sum_fin_of_reset_step_apply_of_flush (fun n h => (outsAt0 m c n h).2.2.2.2.2) 16 (fun _ => 0) _
    (stepA m c) (stepB m c) t h _, zero_add]
  exact Passes.gateSums_blocks _ _ _ _ y _ (funext (Fin.forall_fin_two.mpr ⟨Fin.ext (by blk_simp [idx t]), Fin.ext (by blk_simp [idx t])⟩))
    (fun s k hl => by blk_point [iblk, V, idx ⟨_, Pipeline.run_point_lt_of_flush t h s⟩])
    (fun s k hl => by blk_point [iblk, V, idx ⟨_, Pipeline.run_point_lt_of_flush t h s⟩])

theorem run (ρ : Dev nD → PrngReg) : θ_run defs (onTc (τ := τ) (main (F := Ideal))) ⟨m, fun _ => 0, ρ⟩ (fun r => ∀ c : Dev nD,
    r.2.mem ((c.tc : Thread nD τ).loc main_v0_0) = Passes.outGrad (m ((c.tc : Thread nD τ).loc main_arg0)) (m ((c.tc : Thread nD τ).loc main_arg2))
    ∧ r.2.mem ((c.tc : Thread nD τ).loc main_v0_1) = Passes.branchGrad (m ((c.tc : Thread nD τ).loc main_arg0)) (m ((c.tc : Thread nD τ).loc main_arg2)) (m ((c.tc : Thread nD τ).loc main_arg3)) (m ((c.tc : Thread nD τ).loc main_arg4)) 0 (by decide)
    ∧ r.2.mem ((c.tc : Thread nD τ).loc main_v0_2) = Passes.branchGrad (m ((c.tc : Thread nD τ).loc main_arg0)) (m ((c.tc : Thread nD τ).loc main_arg2)) (m ((c.tc : Thread nD τ).loc main_arg3)) (m ((c.tc : Thread nD τ).loc main_arg4)) 1024 (by decide)
    ∧ r.2.mem ((c.tc : Thread nD τ).loc main_v0_3) = Passes.branchGrad (m ((c.tc : Thread nD τ).loc main_arg0)) (m ((c.tc : Thread nD τ).loc main_arg2)) (m ((c.tc : Thread nD τ).loc main_arg3)) (m ((c.tc : Thread nD τ).loc main_arg4)) 2048 (by decide)
    ∧ r.2.mem ((c.tc : Thread nD τ).loc main_v0_4) = Passes.logitsGrad (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v0_5) = Passes.gateSums (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨((h.1 c).1 8).trans (out m c), ((h.1 c).1 9).trans (attention m c), ((h.1 c).1 10).trans (scan m c), ((h.1 c).1 11).trans (pooled m c), ((h.1 c).1 12).trans (logits m c), ((h.1 c).1 13).trans (sums m c), h.2 c⟩) (θ_run_and (run_main m ρ) (unchanged m ρ))

end Cert.MergeBwdIdeal.Pass

namespace Cert.MergeGradIdeal.Pass

open Cert.MergeGradIdeal

variable (m : (ℓ : Loc nD τ sig) → Buf (Elt Ideal) ℓ)

theorem run (ρ : Dev nD → PrngReg) (a₁ a₂ : Dev nD → Mat 4096 1024) (a₃ : Dev nD → Mat 1 1024) (a₄ : Dev nD → Mat 1024 1024) (a₅ : Dev nD → Mat 4096 3072) (a₆ a₇ a₈ : Dev nD → Mat 4096 1024)
    (hag : ∀ c : Dev nD, m ((c.tc : Thread nD τ).loc main_arg0) = a₁ c ∧ m ((c.tc : Thread nD τ).loc main_arg1) = a₂ c ∧ m ((c.tc : Thread nD τ).loc main_arg2) = a₃ c ∧ m ((c.tc : Thread nD τ).loc main_arg3) = a₄ c ∧ m ((c.tc : Thread nD τ).loc main_arg4) = a₅ c ∧ m ((c.tc : Thread nD τ).loc main_arg5) = a₆ c ∧ m ((c.tc : Thread nD τ).loc main_arg6) = a₇ c ∧ m ((c.tc : Thread nD τ).loc main_arg7) = a₈ c) :
    θ_run defs (onTc (τ := τ) (main (F := Ideal))) ⟨m, fun _ => 0, ρ⟩ (fun r => ∀ c : Dev nD,
      r.2.mem ((c.tc : Thread nD τ).loc main_v11) = Passes.outGrad (a₁ c) (a₃ c)
      ∧ r.2.mem ((c.tc : Thread nD τ).loc main_v17) = Passes.branchGrad (a₁ c) (a₃ c) (a₄ c) (a₅ c) 0 (by decide)
      ∧ r.2.mem ((c.tc : Thread nD τ).loc main_v19) = Passes.branchGrad (a₁ c) (a₃ c) (a₄ c) (a₅ c) 1024 (by decide)
      ∧ r.2.mem ((c.tc : Thread nD τ).loc main_v21) = Passes.branchGrad (a₁ c) (a₃ c) (a₄ c) (a₅ c) 2048 (by decide)
      ∧ r.2.mem ((c.tc : Thread nD τ).loc main_v38) = Passes.logitsGrad (a₁ c) (a₃ c) (a₄ c) (a₅ c) (a₆ c) (a₇ c) (a₈ c)
      ∧ r.2.mem ((c.tc : Thread nD τ).loc main_v43) = Passes.gateSums (a₁ c) (a₂ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Value.run (F := Ideal) m ρ)
  · simp only [hag c]
    funext i
    pointwise [Passes.outGrad]
  iterate 3
    · simp only [hag c]
      funext i
      pointwise [Passes.branchGrad, Passes.mergedGrad, Passes.outGrad, Passes.gate, Products.nt]
  · funext i
    pointwise [Value.res_main_v38, Passes.logitsGrad, Passes.gateGrad, Passes.mergedGrad, Passes.outGrad, Passes.gate, Products.nt]
    simp only [hag c]
  · funext i
    pointwise [Passes.gateSums, Passes.sums]
    simp only [hag c]
    split_ifs <;> first | omega | with_reducible rfl | simp

end Cert.MergeGradIdeal.Pass

end
-- ==== Proof.Discretise.lean ====
/- The gradients of the state space's parameters, from those of its discretisation: the kernel differentiates its own lines, the
   reference writes the chain rule over the complex numbers. On the arguments of the precondition both are the gradients below: real
   numbers, and the imaginary part `v` of one gradient, which may be infinite, in one or two terms. -/
module

public import proofs.«01_k».proof.Defs
public import proofs.«01_k».proof.Proof.Passes
public import proofs.«01_k».proof.Proof.Gen.DiscGradIdeal.Run
public import proofs.«01_k».proof.Proof.Gen.ChainRuleIdeal.Run
public import proofs.«01_k».proof.Proof.Gen.Pre_tame

@[expose] public section

set_option maxRecDepth 16384

noncomputable section

open Idealize.ShloMosaic Idealize.ShloMosaic.TcCoe Idealize.SL.Sem

namespace Cert.Pole

/-- `e^(λ dt)` for `λ = a + b i`: its real and imaginary part. -/
def barRe (a b t : ℝ) : ℝ := Real.exp (a * t) * Real.cos (b * t)
def barIm (a b t : ℝ) : ℝ := Real.exp (a * t) * Real.sin (b * t)

/-- The input's factor, `(e^(λ dt) - 1) / λ`. -/
def facRe (a b t : ℝ) : ℝ := ((barRe a b t - 1) * a + barIm a b t * b) / (a * a + b * b)
def facIm (a b t : ℝ) : ℝ := (barIm a b t * a - (barRe a b t - 1) * b) / (a * a + b * b)

/-- The factor's gradient `p + q i` over the conjugate of `λ`. -/
def quoRe (a b p q : ℝ) : ℝ := (p * a - q * b) / (a * a + b * b)
def quoIm (a b p q : ℝ) : ℝ := (q * a + p * b) / (a * a + b * b)

/-- The gradient of `λ dt`, from that of `e^(λ dt)`, here `u`, and the factor's. -/
def expRe (a b t u p q : ℝ) : ℝ := (u + quoRe a b p q) * barRe a b t + quoIm a b p q * barIm a b t
def expIm (a b t u p q : ℝ) : ℝ := quoIm a b p q * barRe a b t - (u + quoRe a b p q) * barIm a b t

/-- The gradient of `λ`. -/
def lamRe (a b t u p q : ℝ) : ℝ := expRe a b t u p q * t - (quoRe a b p q * facRe a b t + quoIm a b p q * facIm a b t)
def lamIm (a b t u p q : ℝ) : ℝ := expIm a b t u p q * t - (quoIm a b p q * facRe a b t - quoRe a b p q * facIm a b t)

/-- A pole's part of the gradient of `dt`. -/
def step (a b t u p q : ℝ) : ℝ := expRe a b t u p q * a + expIm a b t u p q * b

/-- The arguments, as arrays: the poles `a + b i`, the logarithms of `dt`, the input's rows `x + y i`, and the gradients of
    `e^(λ dt)` and of the discretised rows. -/
structure Args where
  a : (⟨3, ![2, 32, 64]⟩ : Shape).Idx → ℝ
  b : (⟨3, ![2, 32, 64]⟩ : Shape).Idx → ℝ
  l : (⟨2, ![2, 32]⟩ : Shape).Idx → ℝ
  x : (⟨4, ![2, 32, 64, 16]⟩ : Shape).Idx → ℝ
  y : (⟨4, ![2, 32, 64, 16]⟩ : Shape).Idx → ℝ
  u : (⟨3, ![2, 32, 64]⟩ : Shape).Idx → ℝ
  v : (⟨3, ![2, 32, 64]⟩ : Shape).Idx → EReal
  s : (⟨4, ![2, 32, 64, 16]⟩ : Shape).Idx → ℝ
  w : (⟨4, ![2, 32, 64, 16]⟩ : Shape).Idx → ℝ

namespace Args

variable (r : Args)

/-- The factor's gradient, summed over its row. -/
def rowRe (k : Fin 2) (g : Fin 32) (n : Fin 64) : ℝ := ∑ h : Fin 16, (r.s (ix4 k g n h) * r.x (ix4 k g n h) + r.w (ix4 k g n h) * r.y (ix4 k g n h))
def rowIm (k : Fin 2) (g : Fin 32) (n : Fin 64) : ℝ := ∑ h : Fin 16, (r.w (ix4 k g n h) * r.x (ix4 k g n h) - r.s (ix4 k g n h) * r.y (ix4 k g n h))

/-- The five gradients. -/
def poleRe : (⟨3, ![2, 32, 64]⟩ : Shape).Idx → EReal := fun i =>
  r.v i * (barIm (r.a i) (r.b i) (Real.exp (r.l (ix2 (i 0) (i 1)))) * Real.exp (r.l (ix2 (i 0) (i 1))) : ℝ)
    + (lamRe (r.a i) (r.b i) (Real.exp (r.l (ix2 (i 0) (i 1)))) (r.u i) (r.rowRe (i 0) (i 1) (i 2)) (r.rowIm (i 0) (i 1) (i 2)) : ℝ)
def poleIm : (⟨3, ![2, 32, 64]⟩ : Shape).Idx → EReal := fun i =>
  r.v i * (barRe (r.a i) (r.b i) (Real.exp (r.l (ix2 (i 0) (i 1)))) * Real.exp (r.l (ix2 (i 0) (i 1))) : ℝ)
    + (lamIm (r.a i) (r.b i) (Real.exp (r.l (ix2 (i 0) (i 1)))) (r.u i) (r.rowRe (i 0) (i 1) (i 2)) (r.rowIm (i 0) (i 1) (i 2)) : ℝ)
def logDt : (⟨2, ![2, 32]⟩ : Shape).Idx → EReal := fun i =>
  (∑ n : Fin 64, (r.v (ix3 (i 0) (i 1) n) * (barIm (r.a (ix3 (i 0) (i 1) n)) (r.b (ix3 (i 0) (i 1) n)) (Real.exp (r.l i)) * r.a (ix3 (i 0) (i 1) n) : ℝ)
    + r.v (ix3 (i 0) (i 1) n) * (barRe (r.a (ix3 (i 0) (i 1) n)) (r.b (ix3 (i 0) (i 1) n)) (Real.exp (r.l i)) * r.b (ix3 (i 0) (i 1) n) : ℝ)
    + (step (r.a (ix3 (i 0) (i 1) n)) (r.b (ix3 (i 0) (i 1) n)) (Real.exp (r.l i)) (r.u (ix3 (i 0) (i 1) n)) (r.rowRe (i 0) (i 1) n) (r.rowIm (i 0) (i 1) n) : ℝ)))
    * (Real.exp (r.l i) : ℝ)
def inRe : (⟨4, ![2, 32, 64, 16]⟩ : Shape).Idx → EReal := fun i =>
  (r.s i * facRe (r.a (ix3 (i 0) (i 1) (i 2))) (r.b (ix3 (i 0) (i 1) (i 2))) (Real.exp (r.l (ix2 (i 0) (i 1))))
    + r.w i * facIm (r.a (ix3 (i 0) (i 1) (i 2))) (r.b (ix3 (i 0) (i 1) (i 2))) (Real.exp (r.l (ix2 (i 0) (i 1)))) : ℝ)
def inIm : (⟨4, ![2, 32, 64, 16]⟩ : Shape).Idx → EReal := fun i =>
  (r.w i * facRe (r.a (ix3 (i 0) (i 1) (i 2))) (r.b (ix3 (i 0) (i 1) (i 2))) (Real.exp (r.l (ix2 (i 0) (i 1))))
    - r.s i * facIm (r.a (ix3 (i 0) (i 1) (i 2))) (r.b (ix3 (i 0) (i 1) (i 2))) (Real.exp (r.l (ix2 (i 0) (i 1)))) : ℝ)

/-- No pole is zero. -/
def Nonzero : Prop := ∀ j, r.a j * r.a j + r.b j * r.b j ≠ 0

variable {r}

theorem Nonzero.div (h : r.Nonzero) (j) (z : ℝ) :
    Ideal.div (z : EReal) ((r.a j * r.a j + r.b j * r.b j : ℝ) : EReal) = ((z / (r.a j * r.a j + r.b j * r.b j) : ℝ) : EReal) := by
  rw [Ideal.div_coe (h j), ← EReal.coe_mul, mul_one_div]

theorem Nonzero.div_sq (h : r.Nonzero) (j) (z : ℝ) :
    Ideal.div (z : EReal) (((r.a j * r.a j + r.b j * r.b j) * (r.a j * r.a j + r.b j * r.b j) : ℝ) : EReal)
      = ((z / ((r.a j * r.a j + r.b j * r.b j) * (r.a j * r.a j + r.b j * r.b j)) : ℝ) : EReal) := by
  rw [Ideal.div_coe (mul_ne_zero (h j) (h j)), ← EReal.coe_mul, mul_one_div]

end Args

theorem coe_sum {ι : Type} (s : Finset ι) (f : ι → ℝ) : ∑ i ∈ s, (f i : EReal) = ((∑ i ∈ s, f i : ℝ) : EReal) :=
  (map_sum (⟨⟨fun r : ℝ => (r : EReal), rfl⟩, EReal.coe_add⟩ : ℝ →+ EReal) f s).symm

/-! An extended real `z` beside real numbers. -/

theorem add_mul_coe (z : EReal) (β γ : ℝ) : (z + β) * (γ : EReal) = z * γ + (β * γ : ℝ) := by
  induction z with
  | coe z => norm_cast; ring
  | top =>
    rw [EReal.top_add_coe]
    rcases lt_trichotomy γ 0 with h | rfl | h
    · simp [EReal.top_mul_coe_of_neg h]
    · simp
    · rw [EReal.top_mul_coe_of_pos h, EReal.top_add_coe]
  | bot =>
    rw [EReal.bot_add]
    rcases lt_trichotomy γ 0 with h | rfl | h
    · rw [EReal.bot_mul_coe_of_neg h, EReal.top_add_coe]
    · simp
    · simp [EReal.bot_mul_coe_of_pos h]

theorem coe_mul_add (z : EReal) (β γ : ℝ) : (γ : EReal) * (z + β) = z * γ + (β * γ : ℝ) := by rw [mul_comm, add_mul_coe]
theorem mul_coe_coe (z : EReal) (α γ : ℝ) : z * α * (γ : EReal) = z * (α * γ : ℝ) := by rw [mul_assoc, ← EReal.coe_mul]
theorem coe_add_add (z : EReal) (β γ : ℝ) : (γ : EReal) + (z + β) = z + (γ + β : ℝ) := by rw [add_left_comm, ← EReal.coe_add]
theorem add_add_coe (z : EReal) (β γ : ℝ) : z + β + (γ : EReal) = z + (β + γ : ℝ) := by rw [add_assoc, ← EReal.coe_add]
theorem add_sub_coe (z : EReal) (β γ : ℝ) : z + β - (γ : EReal) = z + (β - γ : ℝ) := by rw [sub_eq_add_neg, add_assoc, ← sub_eq_add_neg, ← EReal.coe_sub]
theorem add_add_add (z w : EReal) (β γ : ℝ) : z + β + (w + γ) = z + w + (β + γ : ℝ) := by rw [add_add_add_comm, ← EReal.coe_add]
theorem congr_mul_add (z : EReal) {α α' β β' : ℝ} (h : α = α') (k : β = β') : z * α + (β : EReal) = z * α' + (β' : EReal) := by rw [h, k]
theorem congr_mul_add_add (z : EReal) {α α' β β' γ γ' : ℝ} (h : α = α') (k : β = β') (l : γ = γ') :
    z * α + z * β + (γ : EReal) = z * α' + z * β' + (γ' : EReal) := by rw [h, k, l]

theorem coe_of_abs {x : EReal} (h : FloatOps.absf (F := Ideal) (φ := .f32) x < Ideal.ofBits .f32 2139095040#32) : x = (x.toReal : EReal) := by
  have ht : Ideal.ofBits .f32 2139095040#32 = ⊤ := by simp [Ideal.ofBits, Ideal.ieee]
  have h : max x (-x) < ⊤ := ht ▸ h
  refine (EReal.coe_toReal (fun e => ?_) fun e => ?_).symm <;> subst e <;> simp at h

/-- On the arguments the claim speaks of, every entry, the one array's apart, is a real number and no pole is zero. -/
theorem reals (a b l x y u v s w)
    (h : Cert.Pre_tame.fn (F := Ideal) a b l x y u v s w = fun _ => 1#1) :
    ∃ r : Args, r.Nonzero ∧ a = (fun i => (r.a i : EReal)) ∧ b = (fun i => (r.b i : EReal)) ∧ l = (fun i => (r.l i : EReal))
      ∧ x = (fun i => (r.x i : EReal)) ∧ y = (fun i => (r.y i : EReal)) ∧ u = (fun i => (r.u i : EReal)) ∧ v = r.v
      ∧ s = (fun i => (r.s i : EReal)) ∧ w = (fun i => (r.w i : EReal)) := by
  have h (i) := congrFun h i
  pointwise [Cert.Pre_tame.fn, Cert.Pre_tame.fn_part1, Cert.Pre_tame.fn_part2] at h
  have one (p : Bool) : BitVec.ofBool p = 1#1 ↔ p = true := by cases p <;> decide
  simp only [IntOp.andi_eq_one, one, decide_eq_true_eq] at h
  have at3 (j : (⟨3, ![2, 32, 64]⟩ : Shape).Idx) := h (ix4 (j 0) (j 1) (j 2) 0)
  have at2 (j : (⟨2, ![2, 32]⟩ : Shape).Idx) := h (ix4 (j 0) (j 1) 0 0)
  pointwise at at3
  pointwise at at2
  refine ⟨⟨fun i => (a i).toReal, fun i => (b i).toReal, fun i => (l i).toReal, fun i => (x i).toReal, fun i => (y i).toReal, fun i => (u i).toReal,
    v, fun i => (s i).toReal, fun i => (w i).toReal⟩, fun j hj => ?_, funext fun j => ?_, funext fun j => ?_, funext fun j => ?_,
    funext fun j => ?_, funext fun j => ?_, funext fun j => ?_, rfl, funext fun j => ?_, funext fun j => ?_⟩
  · have h0 := at3 j
    have ha := coe_of_abs h0.1.1.1.1.1.1.1.2
    have hb := coe_of_abs h0.1.1.1.1.1.1.2
    have hp := h0.1.1.1.1.1.1.1.1
    rw [ha, hb, ← EReal.coe_mul, ← EReal.coe_mul, ← EReal.coe_add, ← EReal.coe_zero, EReal.coe_lt_coe_iff] at hp
    exact hp.ne' hj
  · exact coe_of_abs (at3 j).1.1.1.1.1.1.1.2
  · exact coe_of_abs (at3 j).1.1.1.1.1.1.2
  · exact coe_of_abs (at2 j).1.1.1.1.1.2
  · exact coe_of_abs (h j).1.1.1.2
  · exact coe_of_abs (h j).1.1.2
  · exact coe_of_abs (at3 j).1.1.1.1.2
  · exact coe_of_abs (h j).1.2
  · exact coe_of_abs (h j).2

end Cert.Pole

namespace Cert.ChainRuleIdeal.Pass

open Cert.ChainRuleIdeal Cert.ChainRuleIdeal.Gen

variable (m : (ℓ : Loc nD τ sig) → Buf (Elt Ideal) ℓ) (c : Dev nD) (r : Pole.Args)

/-- Device `c`'s arguments are `r`. -/
def Holds : Prop := r.Nonzero
  ∧ m ((c.tc : Thread nD τ).loc main_arg0) = (fun i => (r.a i : EReal))
  ∧ m ((c.tc : Thread nD τ).loc main_arg1) = (fun i => (r.b i : EReal))
  ∧ m ((c.tc : Thread nD τ).loc main_arg2) = (fun i => (r.l i : EReal))
  ∧ m ((c.tc : Thread nD τ).loc main_arg3) = (fun i => (r.x i : EReal))
  ∧ m ((c.tc : Thread nD τ).loc main_arg4) = (fun i => (r.y i : EReal))
  ∧ m ((c.tc : Thread nD τ).loc main_arg5) = (fun i => (r.u i : EReal))
  ∧ m ((c.tc : Thread nD τ).loc main_arg6) = r.v
  ∧ m ((c.tc : Thread nD τ).loc main_arg7) = (fun i => (r.s i : EReal))
  ∧ m ((c.tc : Thread nD τ).loc main_arg8) = (fun i => (r.w i : EReal))

variable {m c r}

theorem poleRe (h : Holds m c r) : Value.res_main_v89 m c = r.poleRe := by
  obtain ⟨hn, ha, hb, hl, hx, hy, hu, hv, hs, hw⟩ := h
  funext i
  pointwise [Value.res_main_v89]
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  refine Pole.congr_mul_add _ ?_ ?_
  · simp only [Pole.barRe, Pole.barIm]
  · simp only [Pole.Args.rowRe, Pole.Args.rowIm, Pole.lamRe, Pole.lamIm, Pole.expRe, Pole.expIm, Pole.quoRe, Pole.quoIm, Pole.facRe, Pole.facIm, Pole.barRe, Pole.barIm]
    ring

theorem poleIm (h : Holds m c r) : Value.res_main_v92 m c = r.poleIm := by
  obtain ⟨hn, ha, hb, hl, hx, hy, hu, hv, hs, hw⟩ := h
  funext i
  pointwise [Value.res_main_v92]
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  refine Pole.congr_mul_add _ ?_ ?_
  · simp only [Pole.barRe, Pole.barIm]
  · simp only [Pole.Args.rowRe, Pole.Args.rowIm, Pole.lamRe, Pole.lamIm, Pole.expRe, Pole.expIm, Pole.quoRe, Pole.quoIm, Pole.facRe, Pole.facIm, Pole.barRe, Pole.barIm]
    ring

theorem logDt (h : Holds m c r) : Value.res_main_v86 m c = r.logDt := by
  obtain ⟨hn, ha, hb, hl, hx, hy, hu, hv, hs, hw⟩ := h
  funext i
  pointwise [Value.res_main_v86]
  simp only [hl, Ideal.exp_coe]
  refine congrArg (· * _) (Finset.sum_congr rfl fun n _ => ?_)
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  refine Pole.congr_mul_add_add _ ?_ ?_ ?_
  · simp only [Pole.barRe, Pole.barIm]
  · simp only [Pole.barRe, Pole.barIm]
  · simp only [Pole.step, Pole.Args.rowRe, Pole.Args.rowIm, Pole.lamRe, Pole.lamIm, Pole.expRe, Pole.expIm, Pole.quoRe, Pole.quoIm, Pole.facRe, Pole.facIm, Pole.barRe, Pole.barIm]
    ring

theorem run (ρ : Dev nD → PrngReg) (r : Dev nD → Pole.Args) (h : ∀ c, Holds m c (r c)) :
    θ_run defs (onTc (τ := τ) (main (F := Ideal))) ⟨m, fun _ => 0, ρ⟩ (fun p => ∀ c : Dev nD,
      p.2.mem ((c.tc : Thread nD τ).loc main_v89) = (r c).poleRe
      ∧ p.2.mem ((c.tc : Thread nD τ).loc main_v92) = (r c).poleIm
      ∧ p.2.mem ((c.tc : Thread nD τ).loc main_v86) = (r c).logDt
      ∧ p.2.mem ((c.tc : Thread nD τ).loc main_v38) = (r c).inRe
      ∧ p.2.mem ((c.tc : Thread nD τ).loc main_v43) = (r c).inIm
      ∧ p.2.mem ((c.tc : Thread nD τ).loc main_arg0) = m ((c.tc : Thread nD τ).loc main_arg0)
      ∧ p.2.mem ((c.tc : Thread nD τ).loc main_arg1) = m ((c.tc : Thread nD τ).loc main_arg1)
      ∧ p.2.mem ((c.tc : Thread nD τ).loc main_arg2) = m ((c.tc : Thread nD τ).loc main_arg2)
      ∧ p.2.mem ((c.tc : Thread nD τ).loc main_arg3) = m ((c.tc : Thread nD τ).loc main_arg3)
      ∧ p.2.mem ((c.tc : Thread nD τ).loc main_arg4) = m ((c.tc : Thread nD τ).loc main_arg4)
      ∧ p.2.mem ((c.tc : Thread nD τ).loc main_arg5) = m ((c.tc : Thread nD τ).loc main_arg5)
      ∧ p.2.mem ((c.tc : Thread nD τ).loc main_arg6) = m ((c.tc : Thread nD τ).loc main_arg6)
      ∧ p.2.mem ((c.tc : Thread nD τ).loc main_arg7) = m ((c.tc : Thread nD τ).loc main_arg7)
      ∧ p.2.mem ((c.tc : Thread nD τ).loc main_arg8) = m ((c.tc : Thread nD τ).loc main_arg8)) := by
  refine (θ_run defs _ _).mono (fun _ g c => ⟨(g c).1.trans (poleRe (h c)), (g c).2.1.trans (poleIm (h c)), (g c).2.2.1.trans (logDt (h c)),
    (g c).2.2.2.1.trans ?_, (g c).2.2.2.2.1.trans ?_, (g c).2.2.2.2.2⟩) (Value.run (F := Ideal) m ρ)
  all_goals
    obtain ⟨hn, ha, hb, hl, hx, hy, hu, hv, hs, hw⟩ := h c
    funext i
    pointwise
    simp only [ha, hb, hl, hx, hy, hu, hv, hs, hw, ← EReal.coe_one, ← EReal.coe_neg, ← EReal.coe_mul, ← EReal.coe_add, ← EReal.coe_sub, Pole.coe_sum,
      Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
    refine congrArg _ ?_
    simp only [Pole.Args.rowRe, Pole.Args.rowIm, Pole.lamRe, Pole.lamIm, Pole.expRe, Pole.expIm, Pole.quoRe, Pole.quoIm, Pole.facRe, Pole.facIm, Pole.barRe, Pole.barIm]

end Cert.ChainRuleIdeal.Pass

namespace Cert.DiscGradIdeal.Pass

open Cert.DiscGradIdeal Cert.DiscGradIdeal.Gen

variable (m : (ℓ : Loc nD τ sig) → Buf (Elt Ideal) ℓ) (c : Dev nD) (r : Pole.Args)

/-- Device `c`'s arguments are `r`. -/
def Holds : Prop := r.Nonzero
  ∧ m ((c.tc : Thread nD τ).loc main_arg0) = (fun i => (r.a i : EReal))
  ∧ m ((c.tc : Thread nD τ).loc main_arg1) = (fun i => (r.b i : EReal))
  ∧ m ((c.tc : Thread nD τ).loc main_arg2) = (fun i => (r.l i : EReal))
  ∧ m ((c.tc : Thread nD τ).loc main_arg3) = (fun i => (r.x i : EReal))
  ∧ m ((c.tc : Thread nD τ).loc main_arg4) = (fun i => (r.y i : EReal))
  ∧ m ((c.tc : Thread nD τ).loc main_arg5) = (fun i => (r.u i : EReal))
  ∧ m ((c.tc : Thread nD τ).loc main_arg6) = r.v
  ∧ m ((c.tc : Thread nD τ).loc main_arg7) = (fun i => (r.s i : EReal))
  ∧ m ((c.tc : Thread nD τ).loc main_arg8) = (fun i => (r.w i : EReal))

variable {m c r}

theorem poleRe (h : Holds m c r) : Value.res_main_v142 m c = r.poleRe := by
  obtain ⟨hn, ha, hb, hl, hx, hy, hu, hv, hs, hw⟩ := h
  funext i
  pointwise [Value.res_main_v142]
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  refine Pole.congr_mul_add _ ?_ ?_
  · simp only [Pole.barRe, Pole.barIm]
    ring
  · have := hn i
    simp only [Pole.Args.rowRe, Pole.Args.rowIm, Pole.lamRe, Pole.lamIm, Pole.expRe, Pole.expIm, Pole.quoRe, Pole.quoIm, Pole.facRe, Pole.facIm, Pole.barRe, Pole.barIm,
      Finset.univ_unique, Finset.sum_singleton, neg_mul, Finset.sum_neg_distrib, Finset.sum_add_distrib, Finset.sum_sub_distrib]
    field_simp
    ring

theorem poleIm (h : Holds m c r) : Value.res_main_v134 m c = r.poleIm := by
  obtain ⟨hn, ha, hb, hl, hx, hy, hu, hv, hs, hw⟩ := h
  funext i
  pointwise [Value.res_main_v134]
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  refine Pole.congr_mul_add _ ?_ ?_
  · simp only [Pole.barRe, Pole.barIm]
  · have h := congrArg (((Pole.barRe (r.a i) (r.b i) (Real.exp (r.l (ix2 (i 0) (i 1)))) - 1) * r.rowIm (i 0) (i 1) (i 2)
      - Pole.barIm (r.a i) (r.b i) (Real.exp (r.l (ix2 (i 0) (i 1)))) * r.rowRe (i 0) (i 1) (i 2)) * (r.a i * r.a i + r.b i * r.b i)⁻¹ * ·) (mul_inv_cancel₀ (hn i))
    simp only [Pole.Args.rowRe, Pole.Args.rowIm, Pole.lamRe, Pole.lamIm, Pole.expRe, Pole.expIm, Pole.quoRe, Pole.quoIm, Pole.facRe, Pole.facIm, Pole.barRe, Pole.barIm,
      Finset.univ_unique, Finset.sum_singleton, neg_mul, Finset.sum_neg_distrib, Finset.sum_add_distrib, Finset.sum_sub_distrib, div_eq_mul_inv, mul_inv, one_mul] at h ⊢
    linear_combination h

theorem logDt (h : Holds m c r) : Value.res_main_v144 m c = r.logDt := by
  obtain ⟨hn, ha, hb, hl, hx, hy, hu, hv, hs, hw⟩ := h
  funext i
  pointwise [Value.res_main_v144]
  simp only [Finset.univ_unique, Finset.sum_singleton]
  rw [← Finset.sum_add_distrib, ← Finset.sum_add_distrib]
  simp only [hl, Ideal.exp_coe]
  refine congrArg (· * _) (Finset.sum_congr rfl fun n _ => ?_)
  simp only [ha, hb, hl, hx, hy, hu, hv, hs, hw, ← EReal.coe_one, ← EReal.coe_neg, ← EReal.coe_mul, ← EReal.coe_add, ← EReal.coe_sub, Pole.coe_sum,
    Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
  rw [add_comm (_ * _) (_ * _)]
  refine Pole.congr_mul_add_add _ ?_ ?_ ?_
  · simp only [Pole.barRe, Pole.barIm]
    ring
  · simp only [Pole.barRe, Pole.barIm]
  · have := hn (ix3 (i 0) (i 1) n)
    simp only [Pole.step, Pole.Args.rowRe, Pole.Args.rowIm, Pole.lamRe, Pole.lamIm, Pole.expRe, Pole.expIm, Pole.quoRe, Pole.quoIm, Pole.facRe, Pole.facIm, Pole.barRe, Pole.barIm,
      Finset.univ_unique, Finset.sum_singleton, neg_mul, Finset.sum_neg_distrib, Finset.sum_add_distrib, Finset.sum_sub_distrib]
    field_simp
    ring

theorem run (ρ : Dev nD → PrngReg) (r : Dev nD → Pole.Args) (h : ∀ c, Holds m c (r c)) :
    θ_run defs (onTc (τ := τ) (main (F := Ideal))) ⟨m, fun _ => 0, ρ⟩ (fun p => ∀ c : Dev nD,
      p.2.mem ((c.tc : Thread nD τ).loc main_v142) = (r c).poleRe
      ∧ p.2.mem ((c.tc : Thread nD τ).loc main_v134) = (r c).poleIm
      ∧ p.2.mem ((c.tc : Thread nD τ).loc main_v144) = (r c).logDt
      ∧ p.2.mem ((c.tc : Thread nD τ).loc main_v76) = (r c).inRe
      ∧ p.2.mem ((c.tc : Thread nD τ).loc main_v68) = (r c).inIm
      ∧ p.2.mem ((c.tc : Thread nD τ).loc main_arg0) = m ((c.tc : Thread nD τ).loc main_arg0)
      ∧ p.2.mem ((c.tc : Thread nD τ).loc main_arg1) = m ((c.tc : Thread nD τ).loc main_arg1)
      ∧ p.2.mem ((c.tc : Thread nD τ).loc main_arg2) = m ((c.tc : Thread nD τ).loc main_arg2)
      ∧ p.2.mem ((c.tc : Thread nD τ).loc main_arg3) = m ((c.tc : Thread nD τ).loc main_arg3)
      ∧ p.2.mem ((c.tc : Thread nD τ).loc main_arg4) = m ((c.tc : Thread nD τ).loc main_arg4)
      ∧ p.2.mem ((c.tc : Thread nD τ).loc main_arg5) = m ((c.tc : Thread nD τ).loc main_arg5)
      ∧ p.2.mem ((c.tc : Thread nD τ).loc main_arg6) = m ((c.tc : Thread nD τ).loc main_arg6)
      ∧ p.2.mem ((c.tc : Thread nD τ).loc main_arg7) = m ((c.tc : Thread nD τ).loc main_arg7)
      ∧ p.2.mem ((c.tc : Thread nD τ).loc main_arg8) = m ((c.tc : Thread nD τ).loc main_arg8)) := by
  refine (θ_run defs _ _).mono (fun _ g c => ⟨(g c).1.trans (poleRe (h c)), (g c).2.1.trans (poleIm (h c)), (g c).2.2.1.trans (logDt (h c)),
    (g c).2.2.2.1.trans ?_, (g c).2.2.2.2.1.trans ?_, (g c).2.2.2.2.2⟩) (Value.run (F := Ideal) m ρ)
  all_goals
    obtain ⟨hn, ha, hb, hl, hx, hy, hu, hv, hs, hw⟩ := h c
    funext i
    pointwise
    simp only [ha, hb, hl, hx, hy, hu, hv, hs, hw, ← EReal.coe_one, ← EReal.coe_neg, ← EReal.coe_mul, ← EReal.coe_add, ← EReal.coe_sub, Pole.coe_sum,
      Ideal.exp_coe, Ideal.cos_coe, Ideal.sin_coe, neg_mul_neg, hn.div, hn.div_sq,
    Pole.add_mul_coe, Pole.coe_mul_add, Pole.mul_coe_coe, Pole.coe_add_add, Pole.add_add_coe, Pole.add_sub_coe, Pole.add_add_add]
    refine congrArg _ ?_
    simp only [Pole.Args.rowRe, Pole.Args.rowIm, Pole.lamRe, Pole.lamIm, Pole.expRe, Pole.expIm, Pole.quoRe, Pole.quoIm, Pole.facRe, Pole.facIm, Pole.barRe, Pole.barIm]
    ring

end Cert.DiscGradIdeal.Pass
-- ==== Proof.lean ====
/-
The claims about the five exchanges: every program's frame, the ideal programs, and that every device ends with its
blocks of the transposed tables of slots (the scatter) or with the stacks of the eight devices' arrays (the gathers), over
the reals and bit for bit. Then the sum of the small gradients, the updates, the matrix products, and the norms, the loss
and the merging of the branches with their gradients, and the discretisation's gradients, on one device: frames, the ideal programs with their two named constants, and the values over the reals.
-/
module

public import proofs.«01_k».proof.Defs
public import proofs.«01_k».proof.Proof.Blocks
public import proofs.«01_k».proof.Proof.Weights
public import proofs.«01_k».proof.Proof.Small
public import proofs.«01_k».proof.Proof.Mod
public import proofs.«01_k».proof.Proof.C
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.GatherWeights
public import proofs.«01_k».proof.Proof.Gen.GatherWeightsIdeal
public import proofs.«01_k».proof.Proof.Gen.GatherWeightsIdeal.Skeleton
public import proofs.«01_k».proof.Proof.Gen.GatherWeightsIdeal.Launch
public import proofs.«01_k».proof.Proof.Gen.GatherWeightsIdeal.Points
public import proofs.«01_k».proof.Proof.Gen.GatherWeightsIdeal.Frame
public import proofs.«01_k».proof.Proof.Gen.WeightsIdeal
public import proofs.«01_k».proof.Proof.Gen.WeightsIdeal.Run
public import proofs.«01_k».proof.Proof.Gen.Weights
public import proofs.«01_k».proof.Proof.Gen.GatherSmall
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmallIdeal.Frame
public import proofs.«01_k».proof.Proof.Gen.SmallIdeal
public import proofs.«01_k».proof.Proof.Gen.SmallIdeal.Run
public import proofs.«01_k».proof.Proof.Gen.Small
public import proofs.«01_k».proof.Proof.Gen.GatherMod
public import proofs.«01_k».proof.Proof.Gen.GatherModIdeal
public import proofs.«01_k».proof.Proof.Gen.GatherModIdeal.Skeleton
public import proofs.«01_k».proof.Proof.Gen.GatherModIdeal.Launch
public import proofs.«01_k».proof.Proof.Gen.GatherModIdeal.Points
public import proofs.«01_k».proof.Proof.Gen.GatherModIdeal.Frame
public import proofs.«01_k».proof.Proof.Gen.ModIdeal
public import proofs.«01_k».proof.Proof.Gen.ModIdeal.Run
public import proofs.«01_k».proof.Proof.Gen.Mod
public import proofs.«01_k».proof.Proof.Gen.GatherC
public import proofs.«01_k».proof.Proof.Gen.GatherCIdeal
public import proofs.«01_k».proof.Proof.Gen.GatherCIdeal.Skeleton
public import proofs.«01_k».proof.Proof.Gen.GatherCIdeal.Launch
public import proofs.«01_k».proof.Proof.Gen.GatherCIdeal.Points
public import proofs.«01_k».proof.Proof.Gen.GatherCIdeal.Frame
public import proofs.«01_k».proof.Proof.Gen.CIdeal
public import proofs.«01_k».proof.Proof.Gen.CIdeal.Run
public import proofs.«01_k».proof.Proof.Gen.C
public import proofs.«01_k».proof.Proof.SumSmall
public import proofs.«01_k».proof.Proof.UpdateIn
public import proofs.«01_k».proof.Proof.UpdateGlu
public import proofs.«01_k».proof.Proof.UpdateBranch
public import proofs.«01_k».proof.Proof.UpdateOut
public import proofs.«01_k».proof.Proof.UpdateAda
public import proofs.«01_k».proof.Proof.UpdatePack
public import proofs.«01_k».proof.Proof.Gen.SumSmall
public import proofs.«01_k».proof.Proof.Gen.SumSmall.Frame
public import proofs.«01_k».proof.Proof.Gen.SumSmallIdeal
public import proofs.«01_k».proof.Proof.Gen.TotalIdeal
public import proofs.«01_k».proof.Proof.Gen.AdamIn
public import proofs.«01_k».proof.Proof.Gen.AdamIn.Frame
public import proofs.«01_k».proof.Proof.Gen.AdamInIdeal
public import proofs.«01_k».proof.Proof.Gen.StepInIdeal
public import proofs.«01_k».proof.Proof.Gen.AdamGlu
public import proofs.«01_k».proof.Proof.Gen.AdamGlu.Frame
public import proofs.«01_k».proof.Proof.Gen.AdamGluIdeal
public import proofs.«01_k».proof.Proof.Gen.StepGluIdeal
public import proofs.«01_k».proof.Proof.Gen.AdamBranch
public import proofs.«01_k».proof.Proof.Gen.AdamBranch.Frame
public import proofs.«01_k».proof.Proof.Gen.AdamBranchIdeal
public import proofs.«01_k».proof.Proof.Gen.StepBranchIdeal
public import proofs.«01_k».proof.Proof.Gen.AdamOut
public import proofs.«01_k».proof.Proof.Gen.AdamOut.Frame
public import proofs.«01_k».proof.Proof.Gen.AdamOutIdeal
public import proofs.«01_k».proof.Proof.Gen.StepOutIdeal
public import proofs.«01_k».proof.Proof.Gen.AdamAda
public import proofs.«01_k».proof.Proof.Gen.AdamAda.Frame
public import proofs.«01_k».proof.Proof.Gen.AdamAdaIdeal
public import proofs.«01_k».proof.Proof.Gen.StepAdaIdeal
public import proofs.«01_k».proof.Proof.Gen.AdamPack
public import proofs.«01_k».proof.Proof.Gen.AdamPack.Frame
public import proofs.«01_k».proof.Proof.Gen.AdamPackIdeal
public import proofs.«01_k».proof.Proof.Gen.StepPackIdeal
public import Idealize.ShloMosaic.Lib.Quiescent
public import proofs.«01_k».proof.Proof.ProductForward
public import proofs.«01_k».proof.Proof.ProductWeight
public import proofs.«01_k».proof.Proof.Gen.MmAdaFwd
public import proofs.«01_k».proof.Proof.Gen.MmAdaFwd.Frame
public import proofs.«01_k».proof.Proof.Gen.MmAdaFwdIdeal
public import proofs.«01_k».proof.Proof.Gen.MmAdaFwdIdeal.Frame
public import proofs.«01_k».proof.Proof.Gen.TimesAdaFwdIdeal
public import proofs.«01_k».proof.Proof.Gen.TimesAdaFwdIdeal.Run
public import proofs.«01_k».proof.Proof.Gen.MmProjA
public import proofs.«01_k».proof.Proof.Gen.MmProjA.Frame
public import proofs.«01_k».proof.Proof.Gen.MmProjAIdeal
public import proofs.«01_k».proof.Proof.Gen.MmProjAIdeal.Frame
public import proofs.«01_k».proof.Proof.Gen.TimesProjAIdeal
public import proofs.«01_k».proof.Proof.Gen.TimesProjAIdeal.Run
public import proofs.«01_k».proof.Proof.Gen.MmProjS
public import proofs.«01_k».proof.Proof.Gen.MmProjS.Frame
public import proofs.«01_k».proof.Proof.Gen.MmProjSIdeal
public import proofs.«01_k».proof.Proof.Gen.MmProjSIdeal.Frame
public import proofs.«01_k».proof.Proof.Gen.TimesProjSIdeal
public import proofs.«01_k».proof.Proof.Gen.TimesProjSIdeal.Run
public import proofs.«01_k».proof.Proof.Gen.MmProjG
public import proofs.«01_k».proof.Proof.Gen.MmProjG.Frame
public import proofs.«01_k».proof.Proof.Gen.MmProjGIdeal
public import proofs.«01_k».proof.Proof.Gen.MmProjGIdeal.Frame
public import proofs.«01_k».proof.Proof.Gen.TimesProjGIdeal
public import proofs.«01_k».proof.Proof.Gen.TimesProjGIdeal.Run
public import proofs.«01_k».proof.Proof.Gen.MmDy
public import proofs.«01_k».proof.Proof.Gen.MmDy.Frame
public import proofs.«01_k».proof.Proof.Gen.MmDyIdeal
public import proofs.«01_k».proof.Proof.Gen.MmDyIdeal.Frame
public import proofs.«01_k».proof.Proof.Gen.TimesDyIdeal
public import proofs.«01_k».proof.Proof.Gen.TimesDyIdeal.Run
public import proofs.«01_k».proof.Proof.Gen.MmDwAda
public import proofs.«01_k».proof.Proof.Gen.MmDwAda.Frame
public import proofs.«01_k».proof.Proof.Gen.MmDwAdaIdeal
public import proofs.«01_k».proof.Proof.Gen.MmDwAdaIdeal.Frame
public import proofs.«01_k».proof.Proof.Gen.TimesDwAdaIdeal
public import proofs.«01_k».proof.Proof.Gen.TimesDwAdaIdeal.Run
public import proofs.«01_k».proof.Proof.Gen.MmDwOut
public import proofs.«01_k».proof.Proof.Gen.MmDwOut.Frame
public import proofs.«01_k».proof.Proof.Gen.MmDwOutIdeal
public import proofs.«01_k».proof.Proof.Gen.MmDwOutIdeal.Frame
public import proofs.«01_k».proof.Proof.Gen.TimesDwOutIdeal
public import proofs.«01_k».proof.Proof.Gen.TimesDwOutIdeal.Run
public import proofs.«01_k».proof.Proof.Gen.MmDwBranch
public import proofs.«01_k».proof.Proof.Gen.MmDwBranch.Frame
public import proofs.«01_k».proof.Proof.Gen.MmDwBranchIdeal
public import proofs.«01_k».proof.Proof.Gen.MmDwBranchIdeal.Frame
public import proofs.«01_k».proof.Proof.Gen.TimesDwBranchIdeal
public import proofs.«01_k».proof.Proof.Gen.TimesDwBranchIdeal.Run
public import proofs.«01_k».proof.Proof.Gen.MmDwA
public import proofs.«01_k».proof.Proof.Gen.MmDwA.Frame
public import proofs.«01_k».proof.Proof.Gen.MmDwAIdeal
public import proofs.«01_k».proof.Proof.Gen.MmDwAIdeal.Frame
public import proofs.«01_k».proof.Proof.Gen.TimesDwAIdeal
public import proofs.«01_k».proof.Proof.Gen.TimesDwAIdeal.Run
public import proofs.«01_k».proof.Proof.Gen.MmDwG
public import proofs.«01_k».proof.Proof.Gen.MmDwG.Frame
public import proofs.«01_k».proof.Proof.Gen.MmDwGIdeal
public import proofs.«01_k».proof.Proof.Gen.MmDwGIdeal.Frame
public import proofs.«01_k».proof.Proof.Gen.TimesDwGIdeal
public import proofs.«01_k».proof.Proof.Gen.TimesDwGIdeal.Run
public import proofs.«01_k».proof.Proof.PassNorm
public import proofs.«01_k».proof.Proof.PassLoss
public import proofs.«01_k».proof.Proof.PassMerge
public import proofs.«01_k».proof.Proof.PassMergeBwd
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormIdeal
public import proofs.«01_k».proof.Proof.Gen.NormIdeal.Run
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormGradIdeal
public import proofs.«01_k».proof.Proof.Gen.NormGradIdeal.Run
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.LossIdeal
public import proofs.«01_k».proof.Proof.Gen.LossIdeal.Run
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.InputGradIdeal
public import proofs.«01_k».proof.Proof.Gen.InputGradIdeal.Run
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeIdeal
public import proofs.«01_k».proof.Proof.Gen.MergeIdeal.Run
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.ResidualIdeal
public import proofs.«01_k».proof.Proof.Gen.ResidualIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeGradIdeal
public import proofs.«01_k».proof.Proof.Gen.MergeGradIdeal.Run
public import proofs.«01_k».proof.Proof.Discretise
public import proofs.«01_k».proof.Proof.Gen.DiscGrad
public import proofs.«01_k».proof.Proof.Gen.DiscGrad.Run
public import proofs.«01_k».proof.Proof.Gen.DiscGradIdeal
public import proofs.«01_k».proof.Proof.Gen.DiscGradIdeal.Run
public import proofs.«01_k».proof.Proof.Gen.ChainRuleIdeal
public import proofs.«01_k».proof.Proof.Gen.ChainRuleIdeal.Run
public import proofs.«01_k».proof.Proof.Gen.Pre_tame

@[expose] public section

noncomputable section

namespace Cert.Proof

open Idealize.ShloMosaic Idealize.SL.Sem

/-! ## The scatter of the gradients -/

theorem frame_Kernel : Cert.quiescent_Kernel := fun m ρ _ =>
  (θ_run Cert.KernelIdeal.defs _ _).mono (fun _ h => ⟨fun c => ⟨(h.1 c 0).1, (h.1 c 1).1, (h.1 c 2).1, (h.1 c 3).1, (h.1 c 4).1, (h.1 c 5).1⟩, funext h.2⟩) (Cert.Scatter.run_main (F := Bits) m ρ)

theorem frame_KernelIdeal : Cert.quiescent_KernelIdeal := fun m ρ _ =>
  (θ_run Cert.KernelIdeal.defs _ _).mono (fun _ h => ⟨fun c => ⟨(h.1 c 0).1, (h.1 c 1).1, (h.1 c 2).1, (h.1 c 3).1, (h.1 c 4).1, (h.1 c 5).1⟩, funext h.2⟩) (Cert.Scatter.run_main (F := Ideal) m ρ)

theorem frame_ReferenceIdeal : Cert.quiescent_ReferenceIdeal := fun m ρ _ =>
  (θ_run Cert.ReferenceIdeal.defs _ _).mono (fun r h => ⟨fun c => (h c).2.2.2.2.2.2, sem_eq_zero_of_no_sems (by decide) r.2⟩) (Cert.ReferenceIdeal.Value.run (F := Ideal) m ρ)

theorem frame_Reference : Cert.quiescent_Reference := fun m ρ _ =>
  (θ_run Cert.ReferenceIdeal.defs _ _).mono (fun r h => ⟨fun c => (h c).2.2.2.2.2.2, sem_eq_zero_of_no_sems (by decide) r.2⟩) (Cert.ReferenceIdeal.Value.run (F := Bits) m ρ)

theorem algebraic_scatter : Cert.algebraic_KernelIdeal_ReferenceIdeal := fun m g m' g' _ hag =>
  ⟨_, _, _, _, _, _, Cert.Scatter.run_blocks (F := Ideal) m g _ _ _ _ _ _ hag,
    (θ_run Cert.ReferenceIdeal.defs _ _).mono (fun _ h => h 0) (Cert.ReferenceIdeal.Value.run (F := Ideal) m' g')⟩

theorem bitexact_scatter : Cert.bitexact_Kernel_Reference := fun m g m' g' _ hag =>
  ⟨_, _, _, _, _, _, Cert.Scatter.run_blocks (F := Bits) m g _ _ _ _ _ _ hag,
    (θ_run Cert.ReferenceIdeal.defs _ _).mono (fun _ h => h 0) (Cert.ReferenceIdeal.Value.run (F := Bits) m' g')⟩

/-! ## The gather of the weights -/

theorem frame_GatherWeights : Cert.quiescent_GatherWeights := fun m ρ _ =>
  (θ_run Cert.GatherWeightsIdeal.defs _ _).mono (fun _ h => ⟨fun c => ⟨(h.1 c 0).1, (h.1 c 1).1, (h.1 c 2).1, (h.1 c 3).1, (h.1 c 4).1, (h.1 c 5).1⟩, funext h.2⟩) (Cert.GatherOfWeights.run_main (F := Bits) m ρ)

theorem frame_GatherWeightsIdeal : Cert.quiescent_GatherWeightsIdeal := fun m ρ _ =>
  (θ_run Cert.GatherWeightsIdeal.defs _ _).mono (fun _ h => ⟨fun c => ⟨(h.1 c 0).1, (h.1 c 1).1, (h.1 c 2).1, (h.1 c 3).1, (h.1 c 4).1, (h.1 c 5).1⟩, funext h.2⟩) (Cert.GatherOfWeights.run_main (F := Ideal) m ρ)

theorem frame_WeightsIdeal : Cert.quiescent_WeightsIdeal := fun m ρ _ =>
  (θ_run Cert.WeightsIdeal.defs _ _).mono (fun r h => ⟨fun c => (h c).2.2.2.2.2.2, sem_eq_zero_of_no_sems (by decide) r.2⟩) (Cert.WeightsIdeal.Value.run (F := Ideal) m ρ)

theorem frame_Weights : Cert.quiescent_Weights := fun m ρ _ =>
  (θ_run Cert.WeightsIdeal.defs _ _).mono (fun r h => ⟨fun c => (h c).2.2.2.2.2.2, sem_eq_zero_of_no_sems (by decide) r.2⟩) (Cert.WeightsIdeal.Value.run (F := Bits) m ρ)

theorem algebraic_weights : Cert.algebraic_GatherWeightsIdeal_WeightsIdeal := fun m g m' g' _ hag =>
  ⟨_, _, _, _, _, _, Cert.GatherOfWeights.run_blocks (F := Ideal) m g _ _ _ _ _ _ hag,
    (θ_run Cert.WeightsIdeal.defs _ _).mono (fun _ h => h 0) (Cert.WeightsIdeal.Value.run (F := Ideal) m' g')⟩

theorem bitexact_weights : Cert.bitexact_GatherWeights_Weights := fun m g m' g' _ hag =>
  ⟨_, _, _, _, _, _, Cert.GatherOfWeights.run_blocks (F := Bits) m g _ _ _ _ _ _ hag,
    (θ_run Cert.WeightsIdeal.defs _ _).mono (fun _ h => h 0) (Cert.WeightsIdeal.Value.run (F := Bits) m' g')⟩

/-! ## The gather of the packed small gradients -/

theorem frame_GatherSmall : Cert.quiescent_GatherSmall := fun m ρ _ =>
  (θ_run Cert.GatherSmallIdeal.defs _ _).mono (fun _ h => ⟨fun c => (h.1 c).1, funext h.2⟩) (Cert.GatherOfSmall.run_main (F := Bits) m ρ)

theorem frame_GatherSmallIdeal : Cert.quiescent_GatherSmallIdeal := fun m ρ _ =>
  (θ_run Cert.GatherSmallIdeal.defs _ _).mono (fun _ h => ⟨fun c => (h.1 c).1, funext h.2⟩) (Cert.GatherOfSmall.run_main (F := Ideal) m ρ)

theorem frame_SmallIdeal : Cert.quiescent_SmallIdeal := fun m ρ _ =>
  (θ_run Cert.SmallIdeal.defs _ _).mono (fun r h => ⟨fun c => (h c).2, sem_eq_zero_of_no_sems (by decide) r.2⟩) (Cert.SmallIdeal.Value.run (F := Ideal) m ρ)

theorem frame_Small : Cert.quiescent_Small := fun m ρ _ =>
  (θ_run Cert.SmallIdeal.defs _ _).mono (fun r h => ⟨fun c => (h c).2, sem_eq_zero_of_no_sems (by decide) r.2⟩) (Cert.SmallIdeal.Value.run (F := Bits) m ρ)

theorem algebraic_small : Cert.algebraic_GatherSmallIdeal_SmallIdeal := fun m g m' g' _ hag =>
  ⟨_, Cert.GatherOfSmall.run_blocks (F := Ideal) m g _ _ hag,
    (θ_run Cert.SmallIdeal.defs _ _).mono (fun _ h => h 0) (Cert.SmallIdeal.Value.run (F := Ideal) m' g')⟩

theorem bitexact_small : Cert.bitexact_GatherSmall_Small := fun m g m' g' _ hag =>
  ⟨_, Cert.GatherOfSmall.run_blocks (F := Bits) m g _ _ hag,
    (θ_run Cert.SmallIdeal.defs _ _).mono (fun _ h => h 0) (Cert.SmallIdeal.Value.run (F := Bits) m' g')⟩

/-! ## The gather of the modulation -/

theorem frame_GatherMod : Cert.quiescent_GatherMod := fun m ρ _ =>
  (θ_run Cert.GatherModIdeal.defs _ _).mono (fun _ h => ⟨fun c => (h.1 c).1, funext h.2⟩) (Cert.GatherOfMod.run_main (F := Bits) m ρ)

theorem frame_GatherModIdeal : Cert.quiescent_GatherModIdeal := fun m ρ _ =>
  (θ_run Cert.GatherModIdeal.defs _ _).mono (fun _ h => ⟨fun c => (h.1 c).1, funext h.2⟩) (Cert.GatherOfMod.run_main (F := Ideal) m ρ)

theorem frame_ModIdeal : Cert.quiescent_ModIdeal := fun m ρ _ =>
  (θ_run Cert.ModIdeal.defs _ _).mono (fun r h => ⟨fun c => (h c).2, sem_eq_zero_of_no_sems (by decide) r.2⟩) (Cert.ModIdeal.Value.run (F := Ideal) m ρ)

theorem frame_Mod : Cert.quiescent_Mod := fun m ρ _ =>
  (θ_run Cert.ModIdeal.defs _ _).mono (fun r h => ⟨fun c => (h c).2, sem_eq_zero_of_no_sems (by decide) r.2⟩) (Cert.ModIdeal.Value.run (F := Bits) m ρ)

theorem algebraic_mod : Cert.algebraic_GatherModIdeal_ModIdeal := fun m g m' g' _ hag =>
  ⟨_, Cert.GatherOfMod.run_blocks (F := Ideal) m g _ _ hag,
    (θ_run Cert.ModIdeal.defs _ _).mono (fun _ h => h 0) (Cert.ModIdeal.Value.run (F := Ideal) m' g')⟩

theorem bitexact_mod : Cert.bitexact_GatherMod_Mod := fun m g m' g' _ hag =>
  ⟨_, Cert.GatherOfMod.run_blocks (F := Bits) m g _ _ hag,
    (θ_run Cert.ModIdeal.defs _ _).mono (fun _ h => h 0) (Cert.ModIdeal.Value.run (F := Bits) m' g')⟩

/-! ## The gather of `c` -/

theorem frame_GatherC : Cert.quiescent_GatherC := fun m ρ _ =>
  (θ_run Cert.GatherCIdeal.defs _ _).mono (fun _ h => ⟨fun c => (h.1 c).1, funext h.2⟩) (Cert.GatherOfC.run_main (F := Bits) m ρ)

theorem frame_GatherCIdeal : Cert.quiescent_GatherCIdeal := fun m ρ _ =>
  (θ_run Cert.GatherCIdeal.defs _ _).mono (fun _ h => ⟨fun c => (h.1 c).1, funext h.2⟩) (Cert.GatherOfC.run_main (F := Ideal) m ρ)

theorem frame_CIdeal : Cert.quiescent_CIdeal := fun m ρ _ =>
  (θ_run Cert.CIdeal.defs _ _).mono (fun r h => ⟨fun c => (h c).2, sem_eq_zero_of_no_sems (by decide) r.2⟩) (Cert.CIdeal.Value.run (F := Ideal) m ρ)

theorem frame_C : Cert.quiescent_C := fun m ρ _ =>
  (θ_run Cert.CIdeal.defs _ _).mono (fun r h => ⟨fun c => (h c).2, sem_eq_zero_of_no_sems (by decide) r.2⟩) (Cert.CIdeal.Value.run (F := Bits) m ρ)

theorem algebraic_c : Cert.algebraic_GatherCIdeal_CIdeal := fun m g m' g' _ hag =>
  ⟨_, Cert.GatherOfC.run_blocks (F := Ideal) m g _ _ hag,
    (θ_run Cert.CIdeal.defs _ _).mono (fun _ h => h 0) (Cert.CIdeal.Value.run (F := Ideal) m' g')⟩

theorem bitexact_c : Cert.bitexact_GatherC_C := fun m g m' g' _ hag =>
  ⟨_, Cert.GatherOfC.run_blocks (F := Bits) m g _ _ hag,
    (θ_run Cert.CIdeal.defs _ _).mono (fun _ h => h 0) (Cert.CIdeal.Value.run (F := Bits) m' g')⟩

/-! ## The updates on one device

The kernel's run and the reference's end with the same functions of the arguments (Proof/AdamW.lean). -/

theorem algebraic_total : Cert.algebraic_SumSmallIdeal_TotalIdeal := fun m g m' g' _ hag =>
  ⟨_, Cert.SumSmallIdeal.Update.run m g, Cert.TotalIdeal.Update.run m' g' _ hag⟩

theorem frame_TotalIdeal : Cert.quiescent_TotalIdeal := fun m ρ _ =>
  (θ_run Cert.TotalIdeal.defs _ _).mono (fun r h => ⟨fun c => (h c).2, sem_eq_zero_of_no_sems (by decide) r.2⟩) (Cert.TotalIdeal.Value.run (F := Ideal) m ρ)

theorem frame_StepInIdeal : Cert.quiescent_StepInIdeal := fun m ρ _ =>
  (θ_run Cert.StepInIdeal.defs _ _).mono (fun r h => ⟨fun c => (h c).2.2.2.2, sem_eq_zero_of_no_sems (by decide) r.2⟩) (Cert.StepInIdeal.Value.run (F := Ideal) m ρ)

theorem algebraic_In : Cert.algebraic_AdamInIdeal_StepInIdeal := fun m g m' g' _ hag =>
  ⟨_, _, _, _, Cert.AdamInIdeal.Update.run m g, Cert.StepInIdeal.Update.run m' g' _ _ _ _ hag⟩

theorem frame_StepGluIdeal : Cert.quiescent_StepGluIdeal := fun m ρ _ =>
  (θ_run Cert.StepGluIdeal.defs _ _).mono (fun r h => ⟨fun c => (h c).2.2.2.2, sem_eq_zero_of_no_sems (by decide) r.2⟩) (Cert.StepGluIdeal.Value.run (F := Ideal) m ρ)

theorem algebraic_Glu : Cert.algebraic_AdamGluIdeal_StepGluIdeal := fun m g m' g' _ hag =>
  ⟨_, _, _, _, Cert.AdamGluIdeal.Update.run m g, Cert.StepGluIdeal.Update.run m' g' _ _ _ _ hag⟩

theorem frame_StepBranchIdeal : Cert.quiescent_StepBranchIdeal := fun m ρ _ =>
  (θ_run Cert.StepBranchIdeal.defs _ _).mono (fun r h => ⟨fun c => (h c).2.2.2.2, sem_eq_zero_of_no_sems (by decide) r.2⟩) (Cert.StepBranchIdeal.Value.run (F := Ideal) m ρ)

theorem algebraic_Branch : Cert.algebraic_AdamBranchIdeal_StepBranchIdeal := fun m g m' g' _ hag =>
  ⟨_, _, _, _, Cert.AdamBranchIdeal.Update.run m g, Cert.StepBranchIdeal.Update.run m' g' _ _ _ _ hag⟩

theorem frame_StepOutIdeal : Cert.quiescent_StepOutIdeal := fun m ρ _ =>
  (θ_run Cert.StepOutIdeal.defs _ _).mono (fun r h => ⟨fun c => (h c).2.2.2.2, sem_eq_zero_of_no_sems (by decide) r.2⟩) (Cert.StepOutIdeal.Value.run (F := Ideal) m ρ)

theorem algebraic_Out : Cert.algebraic_AdamOutIdeal_StepOutIdeal := fun m g m' g' _ hag =>
  ⟨_, _, _, _, Cert.AdamOutIdeal.Update.run m g, Cert.StepOutIdeal.Update.run m' g' _ _ _ _ hag⟩

theorem frame_StepAdaIdeal : Cert.quiescent_StepAdaIdeal := fun m ρ _ =>
  (θ_run Cert.StepAdaIdeal.defs _ _).mono (fun r h => ⟨fun c => (h c).2.2.2.2, sem_eq_zero_of_no_sems (by decide) r.2⟩) (Cert.StepAdaIdeal.Value.run (F := Ideal) m ρ)

theorem algebraic_Ada : Cert.algebraic_AdamAdaIdeal_StepAdaIdeal := fun m g m' g' _ hag =>
  ⟨_, _, _, _, Cert.AdamAdaIdeal.Update.run m g, Cert.StepAdaIdeal.Update.run m' g' _ _ _ _ hag⟩

theorem frame_StepPackIdeal : Cert.quiescent_StepPackIdeal := fun m ρ _ =>
  (θ_run Cert.StepPackIdeal.defs _ _).mono (fun r h => ⟨fun c => (h c).2.2.2.2, sem_eq_zero_of_no_sems (by decide) r.2⟩) (Cert.StepPackIdeal.Value.run (F := Ideal) m ρ)

theorem algebraic_Pack : Cert.algebraic_AdamPackIdeal_StepPackIdeal := fun m g m' g' _ hag =>
  ⟨_, _, _, _, Cert.AdamPackIdeal.Update.run m g, Cert.StepPackIdeal.Update.run m' g' _ _ _ _ hag⟩

theorem preserves_factors {κ : String → Option EReal} (h1 : κ "c1" = some ((8388608 / 5463681 : ℝ) : EReal))
    (h2 : κ "c2" = some ((268435456 / 2672307 : ℝ) : EReal)) :
    IdealRules.named_const.Statement κ "c1" .f32 0x3FC48605#32 ((8388608 / 5463681 : ℝ) : EReal)
    ∧ IdealRules.named_const.Statement κ "c2" .f32 0x42C8E6D3#32 ((268435456 / 2672307 : ℝ) : EReal) :=
  ⟨IdealRules.named_const.statement _ _ _ _ _ h1, IdealRules.named_const.statement _ _ _ _ _ h2⟩

/-! ## The matrix products on one device

The kernel's run and the reference's end with the same product of the arguments (Proof/Products.lean). -/

theorem frame_TimesAdaFwdIdeal : Cert.quiescent_TimesAdaFwdIdeal := fun m ρ _ =>
  (θ_run Cert.TimesAdaFwdIdeal.defs _ _).mono (fun r h => ⟨fun c => (h c).2, sem_eq_zero_of_no_sems (by decide) r.2⟩) (Cert.TimesAdaFwdIdeal.Value.run (F := Ideal) m ρ)

theorem algebraic_MmAdaFwd : Cert.algebraic_MmAdaFwdIdeal_TimesAdaFwdIdeal := fun m g m' g' _ hag =>
  ⟨_, Cert.MmAdaFwdIdeal.Product.run m g, Cert.TimesAdaFwdIdeal.Product.run m' g' _ _ hag⟩

theorem frame_TimesProjAIdeal : Cert.quiescent_TimesProjAIdeal := fun m ρ _ =>
  (θ_run Cert.TimesProjAIdeal.defs _ _).mono (fun r h => ⟨fun c => (h c).2, sem_eq_zero_of_no_sems (by decide) r.2⟩) (Cert.TimesProjAIdeal.Value.run (F := Ideal) m ρ)

theorem algebraic_MmProjA : Cert.algebraic_MmProjAIdeal_TimesProjAIdeal := fun m g m' g' _ hag =>
  ⟨_, Cert.MmProjAIdeal.Product.run m g, Cert.TimesProjAIdeal.Product.run m' g' _ _ hag⟩

theorem frame_TimesProjSIdeal : Cert.quiescent_TimesProjSIdeal := fun m ρ _ =>
  (θ_run Cert.TimesProjSIdeal.defs _ _).mono (fun r h => ⟨fun c => (h c).2, sem_eq_zero_of_no_sems (by decide) r.2⟩) (Cert.TimesProjSIdeal.Value.run (F := Ideal) m ρ)

theorem algebraic_MmProjS : Cert.algebraic_MmProjSIdeal_TimesProjSIdeal := fun m g m' g' _ hag =>
  ⟨_, Cert.MmProjSIdeal.Product.run m g, Cert.TimesProjSIdeal.Product.run m' g' _ _ hag⟩

theorem frame_TimesProjGIdeal : Cert.quiescent_TimesProjGIdeal := fun m ρ _ =>
  (θ_run Cert.TimesProjGIdeal.defs _ _).mono (fun r h => ⟨fun c => (h c).2, sem_eq_zero_of_no_sems (by decide) r.2⟩) (Cert.TimesProjGIdeal.Value.run (F := Ideal) m ρ)

theorem algebraic_MmProjG : Cert.algebraic_MmProjGIdeal_TimesProjGIdeal := fun m g m' g' _ hag =>
  ⟨_, Cert.MmProjGIdeal.Product.run m g, Cert.TimesProjGIdeal.Product.run m' g' _ _ hag⟩

theorem frame_TimesDyIdeal : Cert.quiescent_TimesDyIdeal := fun m ρ _ =>
  (θ_run Cert.TimesDyIdeal.defs _ _).mono (fun r h => ⟨fun c => (h c).2, sem_eq_zero_of_no_sems (by decide) r.2⟩) (Cert.TimesDyIdeal.Value.run (F := Ideal) m ρ)

theorem algebraic_MmDy : Cert.algebraic_MmDyIdeal_TimesDyIdeal := fun m g m' g' _ hag =>
  ⟨_, Cert.MmDyIdeal.Product.run m g, Cert.TimesDyIdeal.Product.run m' g' _ _ hag⟩

theorem frame_TimesDwAdaIdeal : Cert.quiescent_TimesDwAdaIdeal := fun m ρ _ =>
  (θ_run Cert.TimesDwAdaIdeal.defs _ _).mono (fun r h => ⟨fun c => (h c).2, sem_eq_zero_of_no_sems (by decide) r.2⟩) (Cert.TimesDwAdaIdeal.Value.run (F := Ideal) m ρ)

theorem algebraic_MmDwAda : Cert.algebraic_MmDwAdaIdeal_TimesDwAdaIdeal := fun m g m' g' _ hag =>
  ⟨_, Cert.MmDwAdaIdeal.Product.run m g, Cert.TimesDwAdaIdeal.Product.run m' g' _ _ hag⟩

theorem frame_TimesDwOutIdeal : Cert.quiescent_TimesDwOutIdeal := fun m ρ _ =>
  (θ_run Cert.TimesDwOutIdeal.defs _ _).mono (fun r h => ⟨fun c => (h c).2, sem_eq_zero_of_no_sems (by decide) r.2⟩) (Cert.TimesDwOutIdeal.Value.run (F := Ideal) m ρ)

theorem algebraic_MmDwOut : Cert.algebraic_MmDwOutIdeal_TimesDwOutIdeal := fun m g m' g' _ hag =>
  ⟨_, Cert.MmDwOutIdeal.Product.run m g, Cert.TimesDwOutIdeal.Product.run m' g' _ _ hag⟩

theorem frame_TimesDwBranchIdeal : Cert.quiescent_TimesDwBranchIdeal := fun m ρ _ =>
  (θ_run Cert.TimesDwBranchIdeal.defs _ _).mono (fun r h => ⟨fun c => (h c).2, sem_eq_zero_of_no_sems (by decide) r.2⟩) (Cert.TimesDwBranchIdeal.Value.run (F := Ideal) m ρ)

theorem algebraic_MmDwBranch : Cert.algebraic_MmDwBranchIdeal_TimesDwBranchIdeal := fun m g m' g' _ hag =>
  ⟨_, Cert.MmDwBranchIdeal.Product.run m g, Cert.TimesDwBranchIdeal.Product.run m' g' _ _ hag⟩

theorem frame_TimesDwAIdeal : Cert.quiescent_TimesDwAIdeal := fun m ρ _ =>
  (θ_run Cert.TimesDwAIdeal.defs _ _).mono (fun r h => ⟨fun c => (h c).2, sem_eq_zero_of_no_sems (by decide) r.2⟩) (Cert.TimesDwAIdeal.Value.run (F := Ideal) m ρ)

theorem algebraic_MmDwA : Cert.algebraic_MmDwAIdeal_TimesDwAIdeal := fun m g m' g' _ hag =>
  ⟨_, Cert.MmDwAIdeal.Product.run m g, Cert.TimesDwAIdeal.Product.run m' g' _ _ hag⟩

theorem frame_TimesDwGIdeal : Cert.quiescent_TimesDwGIdeal := fun m ρ _ =>
  (θ_run Cert.TimesDwGIdeal.defs _ _).mono (fun r h => ⟨fun c => (h c).2, sem_eq_zero_of_no_sems (by decide) r.2⟩) (Cert.TimesDwGIdeal.Value.run (F := Ideal) m ρ)

theorem algebraic_MmDwG : Cert.algebraic_MmDwGIdeal_TimesDwGIdeal := fun m g m' g' _ hag =>
  ⟨_, Cert.MmDwGIdeal.Product.run m g, Cert.TimesDwGIdeal.Product.run m' g' _ _ hag⟩

/-! ## The other calls of the passes on one device

The kernel's run and the reference's end with the same functions of the arguments (Proof/Passes.lean). -/

theorem frame_NormIdeal : Cert.quiescent_NormIdeal := fun m ρ _ =>
  (θ_run Cert.NormIdeal.defs _ _).mono (fun r h => ⟨fun c => (h c).2, sem_eq_zero_of_no_sems (by decide) r.2⟩) (Cert.NormIdeal.Value.run (F := Ideal) m ρ)

theorem algebraic_NormFwd : Cert.algebraic_NormFwdIdeal_NormIdeal := fun m g m' g' _ hag =>
  ⟨_, Cert.NormFwdIdeal.Pass.run m g, Cert.NormIdeal.Pass.run m' g' _ _ _ _ hag⟩

theorem frame_NormGradIdeal : Cert.quiescent_NormGradIdeal := fun m ρ _ =>
  (θ_run Cert.NormGradIdeal.defs _ _).mono (fun r h => ⟨fun c => (h c).2.2, sem_eq_zero_of_no_sems (by decide) r.2⟩) (Cert.NormGradIdeal.Value.run (F := Ideal) m ρ)

theorem algebraic_NormBwd : Cert.algebraic_NormBwdIdeal_NormGradIdeal := fun m g m' g' _ hag =>
  ⟨_, _, Cert.NormBwdIdeal.Pass.run m g, Cert.NormGradIdeal.Pass.run m' g' _ _ _ _ _ hag⟩

theorem frame_LossIdeal : Cert.quiescent_LossIdeal := fun m ρ _ =>
  (θ_run Cert.LossIdeal.defs _ _).mono (fun r h => ⟨fun c => (h c).2.2, sem_eq_zero_of_no_sems (by decide) r.2⟩) (Cert.LossIdeal.Value.run (F := Ideal) m ρ)

theorem algebraic_FinalLoss : Cert.algebraic_FinalLossIdeal_LossIdeal := fun m g m' g' _ hag =>
  ⟨_, _, Cert.FinalLossIdeal.Pass.run m g, Cert.LossIdeal.Pass.run m' g' _ _ _ hag⟩

theorem frame_InputGradIdeal : Cert.quiescent_InputGradIdeal := fun m ρ _ =>
  (θ_run Cert.InputGradIdeal.defs _ _).mono (fun r h => ⟨fun c => (h c).2, sem_eq_zero_of_no_sems (by decide) r.2⟩) (Cert.InputGradIdeal.Value.run (F := Ideal) m ρ)

theorem algebraic_Dh : Cert.algebraic_DhIdeal_InputGradIdeal := fun m g m' g' _ hag =>
  ⟨_, Cert.DhIdeal.Pass.run m g, Cert.InputGradIdeal.Pass.run m' g' _ _ _ _ _ _ _ _ hag⟩

theorem frame_MergeIdeal : Cert.quiescent_MergeIdeal := fun m ρ _ =>
  (θ_run Cert.MergeIdeal.defs _ _).mono (fun r h => ⟨fun c => (h c).2.2.2.2, sem_eq_zero_of_no_sems (by decide) r.2⟩) (Cert.MergeIdeal.Value.run (F := Ideal) m ρ)

theorem algebraic_MergeFwd : Cert.algebraic_MergeFwdIdeal_MergeIdeal := fun m g m' g' _ hag =>
  ⟨_, _, _, _, Cert.MergeFwdIdeal.Pass.run m g, Cert.MergeIdeal.Pass.run m' g' _ _ _ _ _ _ _ hag⟩

theorem frame_ResidualIdeal : Cert.quiescent_ResidualIdeal := fun m ρ _ =>
  (θ_run Cert.ResidualIdeal.defs _ _).mono (fun r h => ⟨fun c => (h c).2.2, sem_eq_zero_of_no_sems (by decide) r.2⟩) (Cert.ResidualIdeal.Value.run (F := Ideal) m ρ)

theorem algebraic_OutFwd : Cert.algebraic_OutFwdIdeal_ResidualIdeal := fun m g m' g' _ hag =>
  ⟨_, _, Cert.OutFwdIdeal.Pass.run m g, Cert.ResidualIdeal.Pass.run m' g' _ _ _ _ hag⟩

theorem frame_MergeGradIdeal : Cert.quiescent_MergeGradIdeal := fun m ρ _ =>
  (θ_run Cert.MergeGradIdeal.defs _ _).mono (fun r h => ⟨fun c => (h c).2.2.2.2.2.2, sem_eq_zero_of_no_sems (by decide) r.2⟩) (Cert.MergeGradIdeal.Value.run (F := Ideal) m ρ)

theorem algebraic_MergeBwd : Cert.algebraic_MergeBwdIdeal_MergeGradIdeal := fun m g m' g' _ hag =>
  ⟨_, _, _, _, _, _, Cert.MergeBwdIdeal.Pass.run m g, Cert.MergeGradIdeal.Pass.run m' g' _ _ _ _ _ _ _ _ hag⟩

/-! ## The discretisation's gradients

On finite arguments with no pole zero both programs end with the real gradients. -/

theorem frame_DiscGrad : Cert.quiescent_DiscGrad := fun m ρ _ =>
  (θ_run Cert.DiscGrad.defs _ _).mono (fun r h => ⟨fun c => (h c).2.2.2.2.2, sem_eq_zero_of_no_sems (by decide) r.2⟩) (Cert.DiscGrad.Value.run (F := Bits) m ρ)

theorem frame_DiscGradIdeal : Cert.quiescent_DiscGradIdeal := fun m ρ _ =>
  (θ_run Cert.DiscGradIdeal.defs _ _).mono (fun r h => ⟨fun c => (h c).2.2.2.2.2, sem_eq_zero_of_no_sems (by decide) r.2⟩) (Cert.DiscGradIdeal.Value.run (F := Ideal) m ρ)

theorem frame_ChainRuleIdeal : Cert.quiescent_ChainRuleIdeal := fun m ρ _ =>
  (θ_run Cert.ChainRuleIdeal.defs _ _).mono (fun r h => ⟨fun c => (h c).2.2.2.2.2, sem_eq_zero_of_no_sems (by decide) r.2⟩) (Cert.ChainRuleIdeal.Value.run (F := Ideal) m ρ)

theorem algebraic_DiscGrad : Cert.algebraic_DiscGradIdeal_ChainRuleIdeal_pre_tame := fun m g m' g' hp hag => by
  choose r hn ha hb hl hx hy hu hv hs hw using fun c => Pole.reals _ _ _ _ _ _ _ _ _ (hp c)
  refine ⟨_, _, _, _, _, Cert.DiscGradIdeal.Pass.run g r fun c => ⟨hn c, ha c, hb c, hl c, hx c, hy c, hu c, hv c, hs c, hw c⟩,
    Cert.ChainRuleIdeal.Pass.run g' r fun c => ?_⟩
  obtain ⟨h0, h1, h2, h3, h4, h5, h6, h7, h8⟩ := hag c
  exact ⟨hn c, h0.trans (ha c), h1.trans (hb c), h2.trans (hl c), h3.trans (hx c), h4.trans (hy c), h5.trans (hu c), h6.trans (hv c),
    h7.trans (hs c), h8.trans (hw c)⟩

theorem claim : Cert.Claim := ⟨Cert.Kernel.Gen.facts, Cert.KernelIdeal.Gen.facts, Cert.ReferenceIdeal.Gen.facts, Cert.Reference.Gen.facts, Cert.GatherWeights.Gen.facts,
  Cert.GatherWeightsIdeal.Gen.facts, Cert.WeightsIdeal.Gen.facts, Cert.Weights.Gen.facts, Cert.GatherSmall.Gen.facts, Cert.GatherSmallIdeal.Gen.facts,
  Cert.SmallIdeal.Gen.facts, Cert.Small.Gen.facts, Cert.GatherMod.Gen.facts, Cert.GatherModIdeal.Gen.facts, Cert.ModIdeal.Gen.facts,
  Cert.Mod.Gen.facts, Cert.GatherC.Gen.facts, Cert.GatherCIdeal.Gen.facts, Cert.CIdeal.Gen.facts, Cert.C.Gen.facts, Cert.SumSmall.Gen.facts, Cert.SumSmallIdeal.Gen.facts, Cert.TotalIdeal.Gen.facts, Cert.AdamIn.Gen.facts, Cert.AdamInIdeal.Gen.facts, Cert.StepInIdeal.Gen.facts, Cert.AdamGlu.Gen.facts, Cert.AdamGluIdeal.Gen.facts, Cert.StepGluIdeal.Gen.facts, Cert.AdamBranch.Gen.facts, Cert.AdamBranchIdeal.Gen.facts, Cert.StepBranchIdeal.Gen.facts, Cert.AdamOut.Gen.facts, Cert.AdamOutIdeal.Gen.facts, Cert.StepOutIdeal.Gen.facts, Cert.AdamAda.Gen.facts, Cert.AdamAdaIdeal.Gen.facts, Cert.StepAdaIdeal.Gen.facts, Cert.AdamPack.Gen.facts, Cert.AdamPackIdeal.Gen.facts, Cert.StepPackIdeal.Gen.facts,
  Cert.MmAdaFwd.Gen.facts, Cert.MmAdaFwdIdeal.Gen.facts, Cert.TimesAdaFwdIdeal.Gen.facts,
  Cert.MmProjA.Gen.facts, Cert.MmProjAIdeal.Gen.facts, Cert.TimesProjAIdeal.Gen.facts,
  Cert.MmProjS.Gen.facts, Cert.MmProjSIdeal.Gen.facts, Cert.TimesProjSIdeal.Gen.facts,
  Cert.MmProjG.Gen.facts, Cert.MmProjGIdeal.Gen.facts, Cert.TimesProjGIdeal.Gen.facts,
  Cert.MmDy.Gen.facts, Cert.MmDyIdeal.Gen.facts, Cert.TimesDyIdeal.Gen.facts,
  Cert.MmDwAda.Gen.facts, Cert.MmDwAdaIdeal.Gen.facts, Cert.TimesDwAdaIdeal.Gen.facts,
  Cert.MmDwOut.Gen.facts, Cert.MmDwOutIdeal.Gen.facts, Cert.TimesDwOutIdeal.Gen.facts,
  Cert.MmDwBranch.Gen.facts, Cert.MmDwBranchIdeal.Gen.facts, Cert.TimesDwBranchIdeal.Gen.facts,
  Cert.MmDwA.Gen.facts, Cert.MmDwAIdeal.Gen.facts, Cert.TimesDwAIdeal.Gen.facts,
  Cert.MmDwG.Gen.facts, Cert.MmDwGIdeal.Gen.facts, Cert.TimesDwGIdeal.Gen.facts,
  Cert.NormFwd.Gen.facts, Cert.NormFwdIdeal.Gen.facts, Cert.NormIdeal.Gen.facts,
  Cert.NormBwd.Gen.facts, Cert.NormBwdIdeal.Gen.facts, Cert.NormGradIdeal.Gen.facts,
  Cert.FinalLoss.Gen.facts, Cert.FinalLossIdeal.Gen.facts, Cert.LossIdeal.Gen.facts,
  Cert.Dh.Gen.facts, Cert.DhIdeal.Gen.facts, Cert.InputGradIdeal.Gen.facts,
  Cert.MergeFwd.Gen.facts, Cert.MergeFwdIdeal.Gen.facts, Cert.MergeIdeal.Gen.facts,
  Cert.OutFwd.Gen.facts, Cert.OutFwdIdeal.Gen.facts, Cert.ResidualIdeal.Gen.facts,
  Cert.MergeBwd.Gen.facts, Cert.MergeBwdIdeal.Gen.facts, Cert.MergeGradIdeal.Gen.facts,
  Cert.DiscGrad.Gen.facts, Cert.DiscGradIdeal.Gen.facts, Cert.ChainRuleIdeal.Gen.facts, Cert.Pre_tame.Gen.facts,
  frame_Kernel, frame_KernelIdeal, frame_ReferenceIdeal, frame_Reference, frame_GatherWeights, frame_GatherWeightsIdeal,
  frame_WeightsIdeal, frame_Weights, frame_GatherSmall, frame_GatherSmallIdeal, frame_SmallIdeal, frame_Small,
  frame_GatherMod, frame_GatherModIdeal, frame_ModIdeal, frame_Mod, frame_GatherC, frame_GatherCIdeal,
  frame_CIdeal, frame_C, fun m ρ _ => Cert.SumSmall.Gen.frame m ρ, fun m ρ _ => Cert.SumSmallIdeal.Gen.frame m ρ, frame_TotalIdeal, fun m ρ _ => Cert.AdamIn.Gen.frame m ρ, fun m ρ _ => Cert.AdamInIdeal.Gen.frame m ρ, frame_StepInIdeal, fun m ρ _ => Cert.AdamGlu.Gen.frame m ρ, fun m ρ _ => Cert.AdamGluIdeal.Gen.frame m ρ, frame_StepGluIdeal, fun m ρ _ => Cert.AdamBranch.Gen.frame m ρ, fun m ρ _ => Cert.AdamBranchIdeal.Gen.frame m ρ, frame_StepBranchIdeal, fun m ρ _ => Cert.AdamOut.Gen.frame m ρ, fun m ρ _ => Cert.AdamOutIdeal.Gen.frame m ρ, frame_StepOutIdeal, fun m ρ _ => Cert.AdamAda.Gen.frame m ρ, fun m ρ _ => Cert.AdamAdaIdeal.Gen.frame m ρ, frame_StepAdaIdeal, fun m ρ _ => Cert.AdamPack.Gen.frame m ρ, fun m ρ _ => Cert.AdamPackIdeal.Gen.frame m ρ, frame_StepPackIdeal,
  fun m ρ _ => Cert.MmAdaFwd.Gen.frame m ρ, fun m ρ _ => Cert.MmAdaFwdIdeal.Gen.frame m ρ, frame_TimesAdaFwdIdeal,
  fun m ρ _ => Cert.MmProjA.Gen.frame m ρ, fun m ρ _ => Cert.MmProjAIdeal.Gen.frame m ρ, frame_TimesProjAIdeal,
  fun m ρ _ => Cert.MmProjS.Gen.frame m ρ, fun m ρ _ => Cert.MmProjSIdeal.Gen.frame m ρ, frame_TimesProjSIdeal,
  fun m ρ _ => Cert.MmProjG.Gen.frame m ρ, fun m ρ _ => Cert.MmProjGIdeal.Gen.frame m ρ, frame_TimesProjGIdeal,
  fun m ρ _ => Cert.MmDy.Gen.frame m ρ, fun m ρ _ => Cert.MmDyIdeal.Gen.frame m ρ, frame_TimesDyIdeal,
  fun m ρ _ => Cert.MmDwAda.Gen.frame m ρ, fun m ρ _ => Cert.MmDwAdaIdeal.Gen.frame m ρ, frame_TimesDwAdaIdeal,
  fun m ρ _ => Cert.MmDwOut.Gen.frame m ρ, fun m ρ _ => Cert.MmDwOutIdeal.Gen.frame m ρ, frame_TimesDwOutIdeal,
  fun m ρ _ => Cert.MmDwBranch.Gen.frame m ρ, fun m ρ _ => Cert.MmDwBranchIdeal.Gen.frame m ρ, frame_TimesDwBranchIdeal,
  fun m ρ _ => Cert.MmDwA.Gen.frame m ρ, fun m ρ _ => Cert.MmDwAIdeal.Gen.frame m ρ, frame_TimesDwAIdeal,
  fun m ρ _ => Cert.MmDwG.Gen.frame m ρ, fun m ρ _ => Cert.MmDwGIdeal.Gen.frame m ρ, frame_TimesDwGIdeal,
  fun m ρ _ => Cert.NormFwd.Gen.frame m ρ, fun m ρ _ => Cert.NormFwdIdeal.Gen.frame m ρ, frame_NormIdeal,
  fun m ρ _ => Cert.NormBwd.Gen.frame m ρ, fun m ρ _ => Cert.NormBwdIdeal.Gen.frame m ρ, frame_NormGradIdeal,
  fun m ρ _ => Cert.FinalLoss.Gen.frame m ρ, fun m ρ _ => Cert.FinalLossIdeal.Gen.frame m ρ, frame_LossIdeal,
  fun m ρ _ => Cert.Dh.Gen.frame m ρ, fun m ρ _ => Cert.DhIdeal.Gen.frame m ρ, frame_InputGradIdeal,
  fun m ρ _ => Cert.MergeFwd.Gen.frame m ρ, fun m ρ _ => Cert.MergeFwdIdeal.Gen.frame m ρ, frame_MergeIdeal,
  fun m ρ _ => Cert.OutFwd.Gen.frame m ρ, fun m ρ _ => Cert.OutFwdIdeal.Gen.frame m ρ, frame_ResidualIdeal,
  fun m ρ _ => Cert.MergeBwd.Gen.frame m ρ, fun m ρ _ => Cert.MergeBwdIdeal.Gen.frame m ρ, frame_MergeGradIdeal,
  frame_DiscGrad, frame_DiscGradIdeal, fun m ρ _ => frame_DiscGradIdeal m ρ trivial,
  frame_ChainRuleIdeal, fun m ρ _ => frame_ChainRuleIdeal m ρ trivial,
  trivial, algebraic_scatter, bitexact_scatter, trivial, algebraic_weights, bitexact_weights,
  trivial, algebraic_small, bitexact_small, trivial, algebraic_mod, bitexact_mod,
  trivial, algebraic_c, bitexact_c, trivial, algebraic_total, preserves_factors rfl rfl, algebraic_In, preserves_factors rfl rfl, algebraic_Glu, preserves_factors rfl rfl, algebraic_Branch, preserves_factors rfl rfl, algebraic_Out, preserves_factors rfl rfl, algebraic_Ada, preserves_factors rfl rfl, algebraic_Pack,
  trivial, algebraic_MmAdaFwd, trivial, algebraic_MmProjA, trivial, algebraic_MmProjS,
  trivial, algebraic_MmProjG, trivial, algebraic_MmDy, trivial, algebraic_MmDwAda,
  trivial, algebraic_MmDwOut, trivial, algebraic_MmDwBranch, trivial, algebraic_MmDwA,
  trivial, algebraic_MmDwG, trivial, algebraic_NormFwd, trivial, algebraic_NormBwd,
  trivial, algebraic_FinalLoss, trivial, algebraic_Dh, trivial, algebraic_MergeFwd,
  trivial, algebraic_OutFwd, trivial, algebraic_MergeBwd, trivial, algebraic_DiscGrad⟩

end Cert.Proof

end
